-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weight_inputs_finite [hPre_weight_inputs_finite : Cert.Pre_weight_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_weight_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weight_inputs_finite [hPre_weight_inputs_finite : Cert.Pre_weight_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weight_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_weight_inputs_finite [hKernelIdeal : Cert.KernelIdeal.Facts] [hPre_weight_inputs_finite : Cert.Pre_weight_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weight_inputs_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_weight_inputs_finite [hReferenceIdeal : Cert.ReferenceIdeal.Facts] [hPre_weight_inputs_finite : Cert.Pre_weight_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weight_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_weight_inputs_finite [hKernelIdeal : Cert.KernelIdeal.Facts] [hReferenceIdeal : Cert.ReferenceIdeal.Facts] [hPre_weight_inputs_finite : Cert.Pre_weight_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weight_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v1015)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1015) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v531) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_weight_inputs_finite : Cert.Pre_weight_inputs_finite.Facts),
    quiescent_Kernel (hKernel := hKernel)
    ∧ quiescent_KernelIdeal (hKernelIdeal := hKernelIdeal)
    ∧ quiescent_KernelIdeal_pre_weight_inputs_finite (hKernelIdeal := hKernelIdeal) (hPre_weight_inputs_finite := hPre_weight_inputs_finite)
    ∧ quiescent_ReferenceIdeal (hReferenceIdeal := hReferenceIdeal)
    ∧ quiescent_ReferenceIdeal_pre_weight_inputs_finite (hReferenceIdeal := hReferenceIdeal) (hPre_weight_inputs_finite := hPre_weight_inputs_finite)
    ∧ preserves_Kernel_KernelIdeal
    ∧ algebraic_KernelIdeal_ReferenceIdeal_pre_weight_inputs_finite (hKernelIdeal := hKernelIdeal) (hReferenceIdeal := hReferenceIdeal) (hPre_weight_inputs_finite := hPre_weight_inputs_finite)
-- ==== Pre_weight_inputs_finite.lean ====
abbrev S100000x3 : Shape := ⟨2, ![100000, 3]⟩
abbrev S1x900x256 : Shape := ⟨3, ![1, 900, 256]⟩
abbrev S1x900x11 : Shape := ⟨3, ![1, 900, 11]⟩
abbrev S1x6x256x64x176 : Shape := ⟨5, ![1, 6, 256, 64, 176]⟩
abbrev S1x6x256x32x88 : Shape := ⟨5, ![1, 6, 256, 32, 88]⟩
abbrev S1x6x256x16x44 : Shape := ⟨5, ![1, 6, 256, 16, 44]⟩
abbrev S1x6x256x8x22 : Shape := ⟨5, ![1, 6, 256, 8, 22]⟩
abbrev S1x6x4x4 : Shape := ⟨4, ![1, 6, 4, 4]⟩
abbrev S1x6x2 : Shape := ⟨3, ![1, 6, 2]⟩
abbrev S256x18 : Shape := ⟨2, ![256, 18]⟩
abbrev S18 : Shape := ⟨1, ![18]⟩
abbrev S256x2496 : Shape := ⟨2, ![256, 2496]⟩
abbrev S2496 : Shape := ⟨1, ![2496]⟩
abbrev S256x256 : Shape := ⟨2, ![256, 256]⟩
abbrev S256 : Shape := ⟨1, ![256]⟩
abbrev S_ : Shape := ⟨0, ![]⟩

class Facts : Prop where
  bcast_S_S1x900x256 : S_.BroadcastsInDim S1x900x256 (![] : Fin 0 → Fin S1x900x256.rank)
  reducesTo_S1x900x256_S_d0_1_2 : S1x900x256.ReducesTo [0, 1, 2] S_
  h_S_ : 0 < S_.numel
  bcast_S_S256x2496 : S_.BroadcastsInDim S256x2496 (![] : Fin 0 → Fin S256x2496.rank)
  reducesTo_S256x2496_S_d0_1 : S256x2496.ReducesTo [0, 1] S_
  bcast_S_S2496 : S_.BroadcastsInDim S2496 (![] : Fin 0 → Fin S2496.rank)
  reducesTo_S2496_S_d0 : S2496.ReducesTo [0] S_

variable [Facts]

def fn_part1 {F : FTy → Type} [FloatOps F] (main_v13 : IVec S_ 1) (main_v16 : IVec S2496 1) : IVec S_ 1 :=
  let main_c_5 : IVec S_ 1 := constantI S_ 1 1#1
  let main_v17 : IVec S_ 1 := (fun x v => Host.reduce IntOp.andi x v reducesTo_S2496_S_d0 h_S_) main_v16 main_c_5
  let main_v18 : IVec S_ 1 := andi main_v13 main_v17
  main_v18

def fn {F : FTy → Type} [FloatOps F] (main_arg0 : FVec F S100000x3 .f32) (main_arg1 : FVec F S1x900x256 .f32) (main_arg2 : FVec F S1x900x11 .f32) (main_arg3 : FVec F S1x900x256 .f32) (main_arg4 : FVec F S1x6x256x64x176 .f32) (main_arg5 : FVec F S1x6x256x32x88 .f32) (main_arg6 : FVec F S1x6x256x16x44 .f32) (main_arg7 : FVec F S1x6x256x8x22 .f32) (main_arg8 : FVec F S1x6x4x4 .f32) (main_arg9 : FVec F S1x6x2 .f32) (main_arg10 : FVec F S256x18 .f32) (main_arg11 : FVec F S18 .f32) (main_arg12 : FVec F S256x2496 .f32) (main_arg13 : FVec F S2496 .f32) (main_arg14 : FVec F S256x256 .f32) (main_arg15 : FVec F S256 .f32) : IVec S_ 1 :=
  let main_v0 : FVec F S1x900x256 .f32 := Host.absf main_arg1
  let main_cst : FVec F S_ .f32 := constant S_ .f32 0x7F800000#32
  let main_v1 : FVec F S1x900x256 .f32 := broadcastInDim S1x900x256 ![] bcast_S_S1x900x256 main_cst
  let main_v2 : IVec S1x900x256 1 := cmpf .olt main_v0 main_v1
  let main_c : IVec S_ 1 := constantI S_ 1 1#1
  let main_v3 : IVec S_ 1 := (fun x v => Host.reduce IntOp.andi x v reducesTo_S1x900x256_S_d0_1_2 h_S_) main_v2 main_c
  let main_v4 : FVec F S1x900x256 .f32 := Host.absf main_arg3
  let main_cst_0 : FVec F S_ .f32 := constant S_ .f32 0x7F800000#32
  let main_v5 : FVec F S1x900x256 .f32 := broadcastInDim S1x900x256 ![] bcast_S_S1x900x256 main_cst_0
  let main_v6 : IVec S1x900x256 1 := cmpf .olt main_v4 main_v5
  let main_c_1 : IVec S_ 1 := constantI S_ 1 1#1
  let main_v7 : IVec S_ 1 := (fun x v => Host.reduce IntOp.andi x v reducesTo_S1x900x256_S_d0_1_2 h_S_) main_v6 main_c_1
  let main_v8 : IVec S_ 1 := andi main_v3 main_v7
  let main_v9 : FVec F S256x2496 .f32 := Host.absf main_arg12
  let main_cst_2 : FVec F S_ .f32 := constant S_ .f32 0x7F800000#32
  let main_v10 : FVec F S256x2496 .f32 := broadcastInDim S256x2496 ![] bcast_S_S256x2496 main_cst_2
  let main_v11 : IVec S256x2496 1 := cmpf .olt main_v9 main_v10
  let main_c_3 : IVec S_ 1 := constantI S_ 1 1#1
  let main_v12 : IVec S_ 1 := (fun x v => Host.reduce IntOp.andi x v reducesTo_S256x2496_S_d0_1 h_S_) main_v11 main_c_3
  let main_v13 : IVec S_ 1 := andi main_v8 main_v12
  let main_v14 : FVec F S2496 .f32 := Host.absf main_arg13
  let main_cst_4 : FVec F S_ .f32 := constant S_ .f32 0x7F800000#32
  let main_v15 : FVec F S2496 .f32 := broadcastInDim S2496 ![] bcast_S_S2496 main_cst_4
  let main_v16 : IVec S2496 1 := cmpf .olt main_v14 main_v15
  fn_part1 (F := F) main_v13 main_v16
-- ==== Kernel.lean ====
abbrev S100000x3 : Shape := ⟨2, ![100000, 3]⟩
abbrev S1x900x256 : Shape := ⟨3, ![1, 900, 256]⟩
abbrev S1x900x11 : Shape := ⟨3, ![1, 900, 11]⟩
abbrev S1x6x256x64x176 : Shape := ⟨5, ![1, 6, 256, 64, 176]⟩
abbrev S1x6x256x32x88 : Shape := ⟨5, ![1, 6, 256, 32, 88]⟩
abbrev S1x6x256x16x44 : Shape := ⟨5, ![1, 6, 256, 16, 44]⟩
abbrev S1x6x256x8x22 : Shape := ⟨5, ![1, 6, 256, 8, 22]⟩
abbrev S1x6x4x4 : Shape := ⟨4, ![1, 6, 4, 4]⟩
abbrev S1x6x2 : Shape := ⟨3, ![1, 6, 2]⟩
abbrev S256x18 : Shape := ⟨2, ![256, 18]⟩
abbrev S18 : Shape := ⟨1, ![18]⟩
abbrev S256x2496 : Shape := ⟨2, ![256, 2496]⟩
abbrev S2496 : Shape := ⟨1, ![2496]⟩
abbrev S256x256 : Shape := ⟨2, ![256, 256]⟩
abbrev S256 : Shape := ⟨1, ![256]⟩
abbrev S7x3 : Shape := ⟨2, ![7, 3]⟩
abbrev S1x1x7x3 : Shape := ⟨4, ![1, 1, 7, 3]⟩
abbrev S1x1x1x1x1x7x1x3 : Shape := ⟨8, ![1, 1, 1, 1, 1, 7, 1, 3]⟩
abbrev S1x1x900x1x1x7x1x3 : Shape := ⟨8, ![1, 1, 900, 1, 1, 7, 1, 3]⟩
abbrev S1x900x7x3 : Shape := ⟨4, ![1, 900, 7, 3]⟩
abbrev S1x900x18 : Shape := ⟨3, ![1, 900, 18]⟩
abbrev S1x1x18 : Shape := ⟨3, ![1, 1, 18]⟩
abbrev S1x900x6x3 : Shape := ⟨4, ![1, 900, 6, 3]⟩
abbrev S_ : Shape := ⟨0, ![]⟩
abbrev S1x900x13x3 : Shape := ⟨4, ![1, 900, 13, 3]⟩
abbrev S1x900x3 : Shape := ⟨3, ![1, 900, 3]⟩
abbrev S1x900x1x3 : Shape := ⟨4, ![1, 900, 1, 3]⟩
abbrev S1x900x4 : Shape := ⟨3, ![1, 900, 4]⟩
abbrev S1x900 : Shape := ⟨2, ![1, 900]⟩
abbrev S1x900x1 : Shape := ⟨3, ![1, 900, 1]⟩
abbrev S1x900x9 : Shape := ⟨3, ![1, 900, 9]⟩
abbrev S1x900x3x3 : Shape := ⟨4, ![1, 900, 3, 3]⟩
abbrev S1x900x1x3x3 : Shape := ⟨5, ![1, 900, 1, 3, 3]⟩
abbrev S1x900x13x3x1 : Shape := ⟨5, ![1, 900, 13, 3, 1]⟩
abbrev S900x3x3 : Shape := ⟨3, ![900, 3, 3]⟩
abbrev S900x13x3x1 : Shape := ⟨4, ![900, 13, 3, 1]⟩
abbrev S900x3x13x1 : Shape := ⟨4, ![900, 3, 13, 1]⟩
abbrev S1x900x2496 : Shape := ⟨3, ![1, 900, 2496]⟩
abbrev S1x1x2496 : Shape := ⟨3, ![1, 1, 2496]⟩
abbrev S1x900x312x8 : Shape := ⟨4, ![1, 900, 312, 8]⟩
abbrev S1x900x8 : Shape := ⟨3, ![1, 900, 8]⟩
abbrev S1x900x1x8 : Shape := ⟨4, ![1, 900, 1, 8]⟩
abbrev S1x900x6x4x13x8 : Shape := ⟨6, ![1, 900, 6, 4, 13, 8]⟩
abbrev S1x900x13x6x4x8 : Shape := ⟨6, ![1, 900, 13, 6, 4, 8]⟩
abbrev S1x11700x6x4x8 : Shape := ⟨5, ![1, 11700, 6, 4, 8]⟩
abbrev S1x900x13x1 : Shape := ⟨4, ![1, 900, 13, 1]⟩
abbrev S1x900x13x4 : Shape := ⟨4, ![1, 900, 13, 4]⟩
abbrev S1x6x1x1x4x4 : Shape := ⟨6, ![1, 6, 1, 1, 4, 4]⟩
abbrev S1x1x900x13x4x1 : Shape := ⟨6, ![1, 1, 900, 13, 4, 1]⟩
abbrev S6x4x4 : Shape := ⟨3, ![6, 4, 4]⟩
abbrev S900x13x4x1 : Shape := ⟨4, ![900, 13, 4, 1]⟩
abbrev S6x4x900x13x1 : Shape := ⟨5, ![6, 4, 900, 13, 1]⟩
abbrev S6x900x13x4x1 : Shape := ⟨5, ![6, 900, 13, 4, 1]⟩
abbrev S1x6x900x13x4x1 : Shape := ⟨6, ![1, 6, 900, 13, 4, 1]⟩
abbrev S1x6x900x13x4 : Shape := ⟨5, ![1, 6, 900, 13, 4]⟩
abbrev S1x6x900x13x2 : Shape := ⟨5, ![1, 6, 900, 13, 2]⟩
abbrev S1x6x900x13x1 : Shape := ⟨5, ![1, 6, 900, 13, 1]⟩
abbrev S1x6x1x1x2 : Shape := ⟨5, ![1, 6, 1, 1, 2]⟩
abbrev S1x900x13x6x2 : Shape := ⟨5, ![1, 900, 13, 6, 2]⟩
abbrev S1x11700x6x2 : Shape := ⟨4, ![1, 11700, 6, 2]⟩
abbrev S11700x6x2 : Shape := ⟨3, ![11700, 6, 2]⟩
abbrev S11700x6x4x8 : Shape := ⟨4, ![11700, 6, 4, 8]⟩
abbrev S6 : Shape := ⟨1, ![6]⟩
abbrev S1x6 : Shape := ⟨2, ![1, 6]⟩
abbrev S11700x6x1 : Shape := ⟨3, ![11700, 6, 1]⟩
abbrev S11700x6 : Shape := ⟨2, ![11700, 6]⟩
abbrev S11700x6x4 : Shape := ⟨3, ![11700, 6, 4]⟩
abbrev S1x1x4 : Shape := ⟨3, ![1, 1, 4]⟩
abbrev S11700x6x4x1 : Shape := ⟨4, ![11700, 6, 4, 1]⟩
abbrev S11700x6x1x8 : Shape := ⟨4, ![11700, 6, 1, 8]⟩
abbrev S11700x6x8 : Shape := ⟨3, ![11700, 6, 8]⟩
abbrev S11700x6x1x4x8 : Shape := ⟨5, ![11700, 6, 1, 4, 8]⟩
abbrev S11700x6x4x4x8 : Shape := ⟨5, ![11700, 6, 4, 4, 8]⟩
abbrev S11700x24 : Shape := ⟨2, ![11700, 24]⟩
abbrev S11700x24x32 : Shape := ⟨3, ![11700, 24, 32]⟩
abbrev S6x256x64x176 : Shape := ⟨4, ![6, 256, 64, 176]⟩
abbrev S6x64x176x256 : Shape := ⟨4, ![6, 64, 176, 256]⟩
abbrev S6x32x2x88x2x256 : Shape := ⟨6, ![6, 32, 2, 88, 2, 256]⟩
abbrev S6x32x88x2x2x256 : Shape := ⟨6, ![6, 32, 88, 2, 2, 256]⟩
abbrev S16896x1024 : Shape := ⟨2, ![16896, 1024]⟩
abbrev S6x64x174x256 : Shape := ⟨4, ![6, 64, 174, 256]⟩
abbrev S6x32x2x87x2x256 : Shape := ⟨6, ![6, 32, 2, 87, 2, 256]⟩
abbrev S6x32x87x2x2x256 : Shape := ⟨6, ![6, 32, 87, 2, 2, 256]⟩
abbrev S16704x1024 : Shape := ⟨2, ![16704, 1024]⟩
abbrev S6x62x176x256 : Shape := ⟨4, ![6, 62, 176, 256]⟩
abbrev S6x31x2x88x2x256 : Shape := ⟨6, ![6, 31, 2, 88, 2, 256]⟩
abbrev S6x31x88x2x2x256 : Shape := ⟨6, ![6, 31, 88, 2, 2, 256]⟩
abbrev S16368x1024 : Shape := ⟨2, ![16368, 1024]⟩
abbrev S6x62x174x256 : Shape := ⟨4, ![6, 62, 174, 256]⟩
abbrev S6x31x2x87x2x256 : Shape := ⟨6, ![6, 31, 2, 87, 2, 256]⟩
abbrev S6x31x87x2x2x256 : Shape := ⟨6, ![6, 31, 87, 2, 2, 256]⟩
abbrev S16182x1024 : Shape := ⟨2, ![16182, 1024]⟩
abbrev S6x256x32x88 : Shape := ⟨4, ![6, 256, 32, 88]⟩
abbrev S6x32x88x256 : Shape := ⟨4, ![6, 32, 88, 256]⟩
abbrev S6x16x2x44x2x256 : Shape := ⟨6, ![6, 16, 2, 44, 2, 256]⟩
abbrev S6x16x44x2x2x256 : Shape := ⟨6, ![6, 16, 44, 2, 2, 256]⟩
abbrev S4224x1024 : Shape := ⟨2, ![4224, 1024]⟩
abbrev S6x32x86x256 : Shape := ⟨4, ![6, 32, 86, 256]⟩
abbrev S6x16x2x43x2x256 : Shape := ⟨6, ![6, 16, 2, 43, 2, 256]⟩
abbrev S6x16x43x2x2x256 : Shape := ⟨6, ![6, 16, 43, 2, 2, 256]⟩
abbrev S4128x1024 : Shape := ⟨2, ![4128, 1024]⟩
abbrev S6x30x88x256 : Shape := ⟨4, ![6, 30, 88, 256]⟩
abbrev S6x15x2x44x2x256 : Shape := ⟨6, ![6, 15, 2, 44, 2, 256]⟩
abbrev S6x15x44x2x2x256 : Shape := ⟨6, ![6, 15, 44, 2, 2, 256]⟩
abbrev S3960x1024 : Shape := ⟨2, ![3960, 1024]⟩
abbrev S6x30x86x256 : Shape := ⟨4, ![6, 30, 86, 256]⟩
abbrev S6x15x2x43x2x256 : Shape := ⟨6, ![6, 15, 2, 43, 2, 256]⟩
abbrev S6x15x43x2x2x256 : Shape := ⟨6, ![6, 15, 43, 2, 2, 256]⟩
abbrev S3870x1024 : Shape := ⟨2, ![3870, 1024]⟩
abbrev S6x256x16x44 : Shape := ⟨4, ![6, 256, 16, 44]⟩
abbrev S6x16x44x256 : Shape := ⟨4, ![6, 16, 44, 256]⟩
abbrev S6x8x2x22x2x256 : Shape := ⟨6, ![6, 8, 2, 22, 2, 256]⟩
abbrev S6x8x22x2x2x256 : Shape := ⟨6, ![6, 8, 22, 2, 2, 256]⟩
abbrev S1056x1024 : Shape := ⟨2, ![1056, 1024]⟩
abbrev S6x16x42x256 : Shape := ⟨4, ![6, 16, 42, 256]⟩
abbrev S6x8x2x21x2x256 : Shape := ⟨6, ![6, 8, 2, 21, 2, 256]⟩
abbrev S6x8x21x2x2x256 : Shape := ⟨6, ![6, 8, 21, 2, 2, 256]⟩
abbrev S1008x1024 : Shape := ⟨2, ![1008, 1024]⟩
abbrev S6x14x44x256 : Shape := ⟨4, ![6, 14, 44, 256]⟩
abbrev S6x7x2x22x2x256 : Shape := ⟨6, ![6, 7, 2, 22, 2, 256]⟩
abbrev S6x7x22x2x2x256 : Shape := ⟨6, ![6, 7, 22, 2, 2, 256]⟩
abbrev S924x1024 : Shape := ⟨2, ![924, 1024]⟩
abbrev S6x14x42x256 : Shape := ⟨4, ![6, 14, 42, 256]⟩
abbrev S6x7x2x21x2x256 : Shape := ⟨6, ![6, 7, 2, 21, 2, 256]⟩
abbrev S6x7x21x2x2x256 : Shape := ⟨6, ![6, 7, 21, 2, 2, 256]⟩
abbrev S882x1024 : Shape := ⟨2, ![882, 1024]⟩
abbrev S6x256x8x22 : Shape := ⟨4, ![6, 256, 8, 22]⟩
abbrev S6x8x22x256 : Shape := ⟨4, ![6, 8, 22, 256]⟩
abbrev S6x4x2x11x2x256 : Shape := ⟨6, ![6, 4, 2, 11, 2, 256]⟩
abbrev S6x4x11x2x2x256 : Shape := ⟨6, ![6, 4, 11, 2, 2, 256]⟩
abbrev S264x1024 : Shape := ⟨2, ![264, 1024]⟩
abbrev S6x8x20x256 : Shape := ⟨4, ![6, 8, 20, 256]⟩
abbrev S6x4x2x10x2x256 : Shape := ⟨6, ![6, 4, 2, 10, 2, 256]⟩
abbrev S6x4x10x2x2x256 : Shape := ⟨6, ![6, 4, 10, 2, 2, 256]⟩
abbrev S240x1024 : Shape := ⟨2, ![240, 1024]⟩
abbrev S6x6x22x256 : Shape := ⟨4, ![6, 6, 22, 256]⟩
abbrev S6x3x2x11x2x256 : Shape := ⟨6, ![6, 3, 2, 11, 2, 256]⟩
abbrev S6x3x11x2x2x256 : Shape := ⟨6, ![6, 3, 11, 2, 2, 256]⟩
abbrev S198x1024 : Shape := ⟨2, ![198, 1024]⟩
abbrev S6x6x20x256 : Shape := ⟨4, ![6, 6, 20, 256]⟩
abbrev S6x3x2x10x2x256 : Shape := ⟨6, ![6, 3, 2, 10, 2, 256]⟩
abbrev S6x3x10x2x2x256 : Shape := ⟨6, ![6, 3, 10, 2, 2, 256]⟩
abbrev S180x1024 : Shape := ⟨2, ![180, 1024]⟩
abbrev S87084x1024 : Shape := ⟨2, ![87084, 1024]⟩
abbrev S11700x24x1 : Shape := ⟨3, ![11700, 24, 1]⟩
abbrev S4 : Shape := ⟨1, ![4]⟩
abbrev S11700x24x4 : Shape := ⟨3, ![11700, 24, 4]⟩
abbrev S11700x96 : Shape := ⟨2, ![11700, 96]⟩
abbrev S348336x2x128 : Shape := ⟨3, ![348336, 2, 128]⟩
abbrev S12064x96 : Shape := ⟨2, ![12064, 96]⟩
abbrev S1 : Shape := ⟨1, ![1]⟩
abbrev S12064x24x32 : Shape := ⟨3, ![12064, 24, 32]⟩
abbrev S1158144 : Shape := ⟨1, ![1158144]⟩
abbrev S9265152 : Shape := ⟨1, ![9265152]⟩
abbrev S237568 : Shape := ⟨1, ![237568]⟩
abbrev S1248 : Shape := ⟨1, ![1248]⟩
abbrev S10000 : Shape := ⟨1, ![10000]⟩
abbrev S96x2x128 : Shape := ⟨3, ![96, 2, 128]⟩
abbrev S9984 : Shape := ⟨1, ![9984]⟩
abbrev S16 : Shape := ⟨1, ![16]⟩
abbrev S96 : Shape := ⟨1, ![96]⟩
abbrev S1x1x16 : Shape := ⟨3, ![1, 1, 16]⟩
abbrev S928x256 : Shape := ⟨2, ![928, 256]⟩
abbrev S900x256 : Shape := ⟨2, ![900, 256]⟩
abbrev S1x256 : Shape := ⟨2, ![1, 256]⟩

abbrev nBuf : Table → Nat
  | .hbm => 1573
  | .local .scVector .vmem => 5
  | _ => 0

abbrev hbmTy0_0 (i : Nat) : BufTy := match i % 128 with
  | 0 => ⟨S100000x3, .f32⟩
  | 1 => ⟨S1x900x256, .f32⟩
  | 2 => ⟨S1x900x11, .f32⟩
  | 3 => ⟨S1x900x256, .f32⟩
  | 4 => ⟨S1x6x256x64x176, .f32⟩
  | 5 => ⟨S1x6x256x32x88, .f32⟩
  | 6 => ⟨S1x6x256x16x44, .f32⟩
  | 7 => ⟨S1x6x256x8x22, .f32⟩
  | 8 => ⟨S1x6x4x4, .f32⟩
  | 9 => ⟨S1x6x2, .f32⟩
  | 10 => ⟨S256x18, .f32⟩
  | 11 => ⟨S18, .f32⟩
  | 12 => ⟨S256x2496, .f32⟩
  | 13 => ⟨S2496, .f32⟩
  | 14 => ⟨S256x256, .f32⟩
  | 15 => ⟨S256, .f32⟩
  | 16 => ⟨S7x3, .f32⟩
  | 17 => ⟨S1x1x7x3, .f32⟩
  | 18 => ⟨S1x1x1x1x1x7x1x3, .f32⟩
  | 19 => ⟨S1x1x900x1x1x7x1x3, .f32⟩
  | 20 => ⟨S1x900x7x3, .f32⟩
  | 21 => ⟨S1x900x18, .f32⟩
  | 22 => ⟨S1x1x18, .f32⟩
  | 23 => ⟨S1x900x18, .f32⟩
  | 24 => ⟨S1x900x18, .f32⟩
  | 25 => ⟨S1x900x6x3, .f32⟩
  | 26 => ⟨S_, .f32⟩
  | 27 => ⟨S_, .f32⟩
  | 28 => ⟨S_, .f32⟩
  | 29 => ⟨S1x900x6x3, .f32⟩
  | 30 => ⟨S1x900x6x3, .f32⟩
  | 31 => ⟨S_, .f32⟩
  | 32 => ⟨S1x900x6x3, .f32⟩
  | 33 => ⟨S1x900x6x3, .f32⟩
  | 34 => ⟨S1x900x6x3, .f32⟩
  | 35 => ⟨S1x900x6x3, .f32⟩
  | 36 => ⟨S_, .f32⟩
  | 37 => ⟨S1x900x6x3, .f32⟩
  | 38 => ⟨S1x900x6x3, .f32⟩
  | 39 => ⟨S_, .f32⟩
  | 40 => ⟨S1x900x6x3, .f32⟩
  | 41 => ⟨S1x900x6x3, .f32⟩
  | 42 => ⟨S_, .f32⟩
  | 43 => ⟨S1x900x6x3, .f32⟩
  | 44 => ⟨S1x900x6x3, .f32⟩
  | 45 => ⟨S1x900x13x3, .f32⟩
  | 46 => ⟨S1x900x3, .f32⟩
  | 47 => ⟨S1x900x1x3, .f32⟩
  | 48 => ⟨S1x900x13x3, .f32⟩
  | 49 => ⟨S1x900x13x3, .f32⟩
  | 50 => ⟨S1x900x4, .f32⟩
  | 51 => ⟨S1x900x4, .f32⟩
  | 52 => ⟨S_, .f32⟩
  | 53 => ⟨S1x900, .f32⟩
  | 54 => ⟨S1x900x1, .f32⟩
  | 55 => ⟨S1x900x1, .f32⟩
  | 56 => ⟨S_, .f32⟩
  | 57 => ⟨S1x900x1, .f32⟩
  | 58 => ⟨S1x900x1, .f32⟩
  | 59 => ⟨S1x900x4, .f32⟩
  | 60 => ⟨S1x900x4, .f32⟩
  | 61 => ⟨S1x900x1, .f32⟩
  | 62 => ⟨S1x900, .f32⟩
  | 63 => ⟨S1x900x1, .f32⟩
  | 64 => ⟨S1x900, .f32⟩
  | 65 => ⟨S1x900x1, .f32⟩
  | 66 => ⟨S1x900, .f32⟩
  | 67 => ⟨S1x900x1, .f32⟩
  | 68 => ⟨S1x900, .f32⟩
  | 69 => ⟨S1x900, .f32⟩
  | 70 => ⟨S1x900, .f32⟩
  | 71 => ⟨S1x900, .f32⟩
  | 72 => ⟨S_, .f32⟩
  | 73 => ⟨S1x900, .f32⟩
  | 74 => ⟨S1x900, .f32⟩
  | 75 => ⟨S_, .f32⟩
  | 76 => ⟨S1x900, .f32⟩
  | 77 => ⟨S1x900, .f32⟩
  | 78 => ⟨S1x900, .f32⟩
  | 79 => ⟨S1x900, .f32⟩
  | 80 => ⟨S1x900, .f32⟩
  | 81 => ⟨S_, .f32⟩
  | 82 => ⟨S1x900, .f32⟩
  | 83 => ⟨S1x900, .f32⟩
  | 84 => ⟨S1x900, .f32⟩
  | 85 => ⟨S1x900, .f32⟩
  | 86 => ⟨S1x900, .f32⟩
  | 87 => ⟨S_, .f32⟩
  | 88 => ⟨S1x900, .f32⟩
  | 89 => ⟨S1x900, .f32⟩
  | 90 => ⟨S1x900, .f32⟩
  | 91 => ⟨S1x900, .f32⟩
  | 92 => ⟨S1x900, .f32⟩
  | 93 => ⟨S_, .f32⟩
  | 94 => ⟨S1x900, .f32⟩
  | 95 => ⟨S1x900, .f32⟩
  | 96 => ⟨S1x900, .f32⟩
  | 97 => ⟨S1x900, .f32⟩
  | 98 => ⟨S1x900, .f32⟩
  | 99 => ⟨S_, .f32⟩
  | 100 => ⟨S1x900, .f32⟩
  | 101 => ⟨S1x900, .f32⟩
  | 102 => ⟨S_, .f32⟩
  | 103 => ⟨S1x900, .f32⟩
  | 104 => ⟨S1x900, .f32⟩
  | 105 => ⟨S1x900, .f32⟩
  | 106 => ⟨S1x900, .f32⟩
  | 107 => ⟨S1x900, .f32⟩
  | 108 => ⟨S_, .f32⟩
  | 109 => ⟨S1x900, .f32⟩
  | 110 => ⟨S1x900, .f32⟩
  | 111 => ⟨S1x900, .f32⟩
  | 112 => ⟨S1x900, .f32⟩
  | 113 => ⟨S1x900, .f32⟩
  | 114 => ⟨S_, .f32⟩
  | 115 => ⟨S1x900, .f32⟩
  | 116 => ⟨S1x900, .f32⟩
  | 117 => ⟨S1x900, .f32⟩
  | 118 => ⟨S1x900, .f32⟩
  | 119 => ⟨S1x900, .f32⟩
  | 120 => ⟨S_, .f32⟩
  | 121 => ⟨S1x900, .f32⟩
  | 122 => ⟨S1x900, .f32⟩
  | 123 => ⟨S1x900, .f32⟩
  | 124 => ⟨S1x900, .f32⟩
  | 125 => ⟨S1x900, .f32⟩
  | 126 => ⟨S_, .f32⟩
  | 127 => ⟨S1x900, .f32⟩
  | _ => ⟨S100000x3, .f32⟩

abbrev hbmTy0_1 (i : Nat) : BufTy := match i % 128 with
  | 0 => ⟨S1x900, .f32⟩
  | 1 => ⟨S_, .f32⟩
  | 2 => ⟨S1x900, .f32⟩
  | 3 => ⟨S1x900, .f32⟩
  | 4 => ⟨S1x900x1, .f32⟩
  | 5 => ⟨S1x900x1, .f32⟩
  | 6 => ⟨S1x900x1, .f32⟩
  | 7 => ⟨S1x900x1, .f32⟩
  | 8 => ⟨S1x900x1, .f32⟩
  | 9 => ⟨S1x900x1, .f32⟩
  | 10 => ⟨S1x900x1, .f32⟩
  | 11 => ⟨S1x900x1, .f32⟩
  | 12 => ⟨S1x900x1, .f32⟩
  | 13 => ⟨S1x900x9, .f32⟩
  | 14 => ⟨S1x900x3x3, .f32⟩
  | 15 => ⟨S1x900x3x3, .f32⟩
  | 16 => ⟨S1x900x1x3x3, .f32⟩
  | 17 => ⟨S1x900x13x3x1, .f32⟩
  | 18 => ⟨S900x3x3, .f32⟩
  | 19 => ⟨S900x13x3x1, .f32⟩
  | 20 => ⟨S900x3x13x1, .f32⟩
  | 21 => ⟨S900x13x3x1, .f32⟩
  | 22 => ⟨S1x900x13x3x1, .f32⟩
  | 23 => ⟨S1x900x13x3, .f32⟩
  | 24 => ⟨S1x900x3, .f32⟩
  | 25 => ⟨S1x900x1x3, .f32⟩
  | 26 => ⟨S1x900x13x3, .f32⟩
  | 27 => ⟨S1x900x13x3, .f32⟩
  | 28 => ⟨S1x900x256, .f32⟩
  | 29 => ⟨S1x900x2496, .f32⟩
  | 30 => ⟨S1x1x2496, .f32⟩
  | 31 => ⟨S1x900x2496, .f32⟩
  | 32 => ⟨S1x900x2496, .f32⟩
  | 33 => ⟨S1x900x312x8, .f32⟩
  | 34 => ⟨S_, .f32⟩
  | 35 => ⟨S1x900x8, .f32⟩
  | 36 => ⟨S_, .f32⟩
  | 37 => ⟨S1x900x8, .f32⟩
  | 38 => ⟨S1x900x8, .f32⟩
  | 39 => ⟨S1x900x1x8, .f32⟩
  | 40 => ⟨S1x900x312x8, .f32⟩
  | 41 => ⟨S1x900x312x8, .f32⟩
  | 42 => ⟨S1x900x312x8, .f32⟩
  | 43 => ⟨S_, .f32⟩
  | 44 => ⟨S1x900x8, .f32⟩
  | 45 => ⟨S1x900x1x8, .f32⟩
  | 46 => ⟨S1x900x312x8, .f32⟩
  | 47 => ⟨S1x900x312x8, .f32⟩
  | 48 => ⟨S1x900x6x4x13x8, .f32⟩
  | 49 => ⟨S1x900x13x6x4x8, .f32⟩
  | 50 => ⟨S1x11700x6x4x8, .f32⟩
  | 51 => ⟨S1x900x13x1, .f32⟩
  | 52 => ⟨S_, .f32⟩
  | 53 => ⟨S1x900x13x1, .f32⟩
  | 54 => ⟨S1x900x13x4, .f32⟩
  | 55 => ⟨S1x6x1x1x4x4, .f32⟩
  | 56 => ⟨S1x1x900x13x4x1, .f32⟩
  | 57 => ⟨S6x4x4, .f32⟩
  | 58 => ⟨S900x13x4x1, .f32⟩
  | 59 => ⟨S6x4x900x13x1, .f32⟩
  | 60 => ⟨S6x900x13x4x1, .f32⟩
  | 61 => ⟨S1x6x900x13x4x1, .f32⟩
  | 62 => ⟨S1x6x900x13x4, .f32⟩
  | 63 => ⟨S1x6x900x13x2, .f32⟩
  | 64 => ⟨S1x6x900x13x1, .f32⟩
  | 65 => ⟨S_, .f32⟩
  | 66 => ⟨S1x6x900x13x1, .f32⟩
  | 67 => ⟨S1x6x900x13x1, .f32⟩
  | 68 => ⟨S1x6x900x13x2, .f32⟩
  | 69 => ⟨S1x6x900x13x2, .f32⟩
  | 70 => ⟨S1x6x1x1x2, .f32⟩
  | 71 => ⟨S1x6x900x13x2, .f32⟩
  | 72 => ⟨S1x6x900x13x2, .f32⟩
  | 73 => ⟨S_, .f32⟩
  | 74 => ⟨S_, .f32⟩
  | 75 => ⟨S_, .f32⟩
  | 76 => ⟨S1x6x900x13x2, .f32⟩
  | 77 => ⟨S1x6x900x13x2, .f32⟩
  | 78 => ⟨S_, .f32⟩
  | 79 => ⟨S1x6x900x13x2, .f32⟩
  | 80 => ⟨S1x6x900x13x2, .f32⟩
  | 81 => ⟨S1x900x13x6x2, .f32⟩
  | 82 => ⟨S1x11700x6x2, .f32⟩
  | 83 => ⟨S11700x6x2, .f32⟩
  | 84 => ⟨S11700x6x4x8, .f32⟩
  | 85 => ⟨S6, .i32⟩
  | 86 => ⟨S1x6, .i32⟩
  | 87 => ⟨S11700x6x1, .f32⟩
  | 88 => ⟨S11700x6, .f32⟩
  | 89 => ⟨S_, .f32⟩
  | 90 => ⟨S11700x6, .f32⟩
  | 91 => ⟨S11700x6, .f32⟩
  | 92 => ⟨S_, .f32⟩
  | 93 => ⟨S11700x6, .f32⟩
  | 94 => ⟨S11700x6, .f32⟩
  | 95 => ⟨S11700x6x1, .f32⟩
  | 96 => ⟨S11700x6, .f32⟩
  | 97 => ⟨S_, .f32⟩
  | 98 => ⟨S11700x6, .f32⟩
  | 99 => ⟨S11700x6, .f32⟩
  | 100 => ⟨S_, .f32⟩
  | 101 => ⟨S11700x6, .f32⟩
  | 102 => ⟨S11700x6, .f32⟩
  | 103 => ⟨S11700x6, .f32⟩
  | 104 => ⟨S11700x6, .f32⟩
  | 105 => ⟨S11700x6, .f32⟩
  | 106 => ⟨S11700x6, .f32⟩
  | 107 => ⟨S11700x6, .i32⟩
  | 108 => ⟨S11700x6, .i32⟩
  | 109 => ⟨S_, .i32⟩
  | 110 => ⟨S_, .i32⟩
  | 111 => ⟨S_, .i32⟩
  | 112 => ⟨S11700x6, .i32⟩
  | 113 => ⟨S11700x6, .i32⟩
  | 114 => ⟨S_, .i32⟩
  | 115 => ⟨S11700x6, .i32⟩
  | 116 => ⟨S11700x6, .i32⟩
  | 117 => ⟨S_, .i32⟩
  | 118 => ⟨S_, .i32⟩
  | 119 => ⟨S_, .i32⟩
  | 120 => ⟨S11700x6, .i32⟩
  | 121 => ⟨S11700x6, .i32⟩
  | 122 => ⟨S_, .i32⟩
  | 123 => ⟨S11700x6, .i32⟩
  | 124 => ⟨S11700x6, .i32⟩
  | 125 => ⟨S_, .i32⟩
  | 126 => ⟨S11700x6, .i32⟩
  | 127 => ⟨S11700x6, .i32⟩
  | _ => ⟨S100000x3, .f32⟩

abbrev hbmTy0_2 (i : Nat) : BufTy := match i % 128 with
  | 0 => ⟨S_, .i32⟩
  | 1 => ⟨S11700x6, .i32⟩
  | 2 => ⟨S11700x6, .i32⟩
  | 3 => ⟨S_, .i32⟩
  | 4 => ⟨S11700x6, .i32⟩
  | 5 => ⟨S11700x6, .i1⟩
  | 6 => ⟨S_, .i32⟩
  | 7 => ⟨S11700x6, .i32⟩
  | 8 => ⟨S11700x6, .i1⟩
  | 9 => ⟨S_, .i32⟩
  | 10 => ⟨S_, .i32⟩
  | 11 => ⟨S11700x6, .i32⟩
  | 12 => ⟨S11700x6, .i32⟩
  | 13 => ⟨S11700x6, .i32⟩
  | 14 => ⟨S_, .i32⟩
  | 15 => ⟨S11700x6, .i32⟩
  | 16 => ⟨S11700x6, .i1⟩
  | 17 => ⟨S_, .i32⟩
  | 18 => ⟨S_, .i32⟩
  | 19 => ⟨S11700x6, .i32⟩
  | 20 => ⟨S11700x6, .i32⟩
  | 21 => ⟨S11700x6, .i32⟩
  | 22 => ⟨S11700x6, .i32⟩
  | 23 => ⟨S_, .i32⟩
  | 24 => ⟨S11700x6, .i32⟩
  | 25 => ⟨S11700x6, .i1⟩
  | 26 => ⟨S_, .i32⟩
  | 27 => ⟨S_, .i32⟩
  | 28 => ⟨S11700x6, .i32⟩
  | 29 => ⟨S11700x6, .i32⟩
  | 30 => ⟨S11700x6, .i32⟩
  | 31 => ⟨S_, .i32⟩
  | 32 => ⟨S11700x6, .i32⟩
  | 33 => ⟨S11700x6, .i1⟩
  | 34 => ⟨S_, .i32⟩
  | 35 => ⟨S_, .i32⟩
  | 36 => ⟨S11700x6, .i32⟩
  | 37 => ⟨S11700x6, .i32⟩
  | 38 => ⟨S11700x6, .i32⟩
  | 39 => ⟨S11700x6, .i32⟩
  | 40 => ⟨S_, .i32⟩
  | 41 => ⟨S11700x6, .i32⟩
  | 42 => ⟨S11700x6, .i32⟩
  | 43 => ⟨S11700x6, .i32⟩
  | 44 => ⟨S11700x6, .i32⟩
  | 45 => ⟨S11700x6, .i32⟩
  | 46 => ⟨S_, .i32⟩
  | 47 => ⟨S11700x6, .i32⟩
  | 48 => ⟨S11700x6, .i32⟩
  | 49 => ⟨S11700x6, .i32⟩
  | 50 => ⟨S11700x6, .i32⟩
  | 51 => ⟨S11700x6, .i32⟩
  | 52 => ⟨S11700x6, .i32⟩
  | 53 => ⟨S11700x6, .i32⟩
  | 54 => ⟨S11700x6, .i32⟩
  | 55 => ⟨S11700x6, .i32⟩
  | 56 => ⟨S11700x6, .i32⟩
  | 57 => ⟨S_, .f32⟩
  | 58 => ⟨S11700x6x4, .f32⟩
  | 59 => ⟨S_, .f32⟩
  | 60 => ⟨S11700x6, .f32⟩
  | 61 => ⟨S11700x6, .f32⟩
  | 62 => ⟨S_, .f32⟩
  | 63 => ⟨S11700x6, .f32⟩
  | 64 => ⟨S11700x6, .f32⟩
  | 65 => ⟨S11700x6, .f32⟩
  | 66 => ⟨S_, .f32⟩
  | 67 => ⟨S11700x6, .f32⟩
  | 68 => ⟨S11700x6, .f32⟩
  | 69 => ⟨S11700x6, .f32⟩
  | 70 => ⟨S_, .f32⟩
  | 71 => ⟨S11700x6, .f32⟩
  | 72 => ⟨S11700x6, .f32⟩
  | 73 => ⟨S11700x6, .f32⟩
  | 74 => ⟨S11700x6, .f32⟩
  | 75 => ⟨S_, .i32⟩
  | 76 => ⟨S11700x6, .i32⟩
  | 77 => ⟨S11700x6, .i32⟩
  | 78 => ⟨S_, .i32⟩
  | 79 => ⟨S11700x6, .i32⟩
  | 80 => ⟨S11700x6, .i32⟩
  | 81 => ⟨S_, .i32⟩
  | 82 => ⟨S11700x6, .i32⟩
  | 83 => ⟨S11700x6, .i1⟩
  | 84 => ⟨S_, .i32⟩
  | 85 => ⟨S11700x6, .i32⟩
  | 86 => ⟨S11700x6, .i1⟩
  | 87 => ⟨S11700x6, .i1⟩
  | 88 => ⟨S_, .i32⟩
  | 89 => ⟨S11700x6, .i32⟩
  | 90 => ⟨S11700x6, .i1⟩
  | 91 => ⟨S11700x6, .i1⟩
  | 92 => ⟨S_, .i32⟩
  | 93 => ⟨S11700x6, .i32⟩
  | 94 => ⟨S11700x6, .i1⟩
  | 95 => ⟨S11700x6, .i1⟩
  | 96 => ⟨S11700x6, .f32⟩
  | 97 => ⟨S11700x6, .i32⟩
  | 98 => ⟨S_, .i32⟩
  | 99 => ⟨S11700x6, .i32⟩
  | 100 => ⟨S11700x6, .i32⟩
  | 101 => ⟨S11700x6, .i32⟩
  | 102 => ⟨S11700x6, .i32⟩
  | 103 => ⟨S_, .i32⟩
  | 104 => ⟨S_, .i32⟩
  | 105 => ⟨S_, .i32⟩
  | 106 => ⟨S11700x6, .i32⟩
  | 107 => ⟨S11700x6, .i32⟩
  | 108 => ⟨S_, .i32⟩
  | 109 => ⟨S11700x6, .i32⟩
  | 110 => ⟨S11700x6, .i32⟩
  | 111 => ⟨S11700x6x1, .i32⟩
  | 112 => ⟨S1x1x4, .i32⟩
  | 113 => ⟨S11700x6x4, .i32⟩
  | 114 => ⟨S11700x6x4, .i32⟩
  | 115 => ⟨S11700x6x4, .i1⟩
  | 116 => ⟨S11700x6x4, .f32⟩
  | 117 => ⟨S11700x6, .f32⟩
  | 118 => ⟨S11700x6x1, .f32⟩
  | 119 => ⟨S11700x6x4, .f32⟩
  | 120 => ⟨S11700x6x4, .f32⟩
  | 121 => ⟨S11700x6x4, .f32⟩
  | 122 => ⟨S_, .i32⟩
  | 123 => ⟨S11700x6, .i32⟩
  | 124 => ⟨S11700x6, .i32⟩
  | 125 => ⟨S_, .i32⟩
  | 126 => ⟨S11700x6, .i32⟩
  | 127 => ⟨S11700x6, .i32⟩
  | _ => ⟨S100000x3, .f32⟩

abbrev hbmTy0_3 (i : Nat) : BufTy := match i % 128 with
  | 0 => ⟨S_, .i32⟩
  | 1 => ⟨S11700x6, .i32⟩
  | 2 => ⟨S11700x6, .i1⟩
  | 3 => ⟨S_, .i32⟩
  | 4 => ⟨S11700x6, .i32⟩
  | 5 => ⟨S11700x6, .i1⟩
  | 6 => ⟨S11700x6, .i1⟩
  | 7 => ⟨S_, .i32⟩
  | 8 => ⟨S11700x6, .i32⟩
  | 9 => ⟨S11700x6, .i1⟩
  | 10 => ⟨S11700x6, .i1⟩
  | 11 => ⟨S_, .i32⟩
  | 12 => ⟨S11700x6, .i32⟩
  | 13 => ⟨S11700x6, .i1⟩
  | 14 => ⟨S11700x6, .i1⟩
  | 15 => ⟨S11700x6, .f32⟩
  | 16 => ⟨S11700x6, .i32⟩
  | 17 => ⟨S_, .i32⟩
  | 18 => ⟨S11700x6, .i32⟩
  | 19 => ⟨S11700x6, .i32⟩
  | 20 => ⟨S11700x6, .i32⟩
  | 21 => ⟨S11700x6, .i32⟩
  | 22 => ⟨S_, .i32⟩
  | 23 => ⟨S_, .i32⟩
  | 24 => ⟨S_, .i32⟩
  | 25 => ⟨S11700x6, .i32⟩
  | 26 => ⟨S11700x6, .i32⟩
  | 27 => ⟨S_, .i32⟩
  | 28 => ⟨S11700x6, .i32⟩
  | 29 => ⟨S11700x6, .i32⟩
  | 30 => ⟨S11700x6x1, .i32⟩
  | 31 => ⟨S1x1x4, .i32⟩
  | 32 => ⟨S11700x6x4, .i32⟩
  | 33 => ⟨S11700x6x4, .i32⟩
  | 34 => ⟨S11700x6x4, .i1⟩
  | 35 => ⟨S11700x6x4, .f32⟩
  | 36 => ⟨S11700x6, .f32⟩
  | 37 => ⟨S11700x6x1, .f32⟩
  | 38 => ⟨S11700x6x4, .f32⟩
  | 39 => ⟨S11700x6x4, .f32⟩
  | 40 => ⟨S11700x6x4, .f32⟩
  | 41 => ⟨S_, .i32⟩
  | 42 => ⟨S11700x6, .i32⟩
  | 43 => ⟨S11700x6, .i32⟩
  | 44 => ⟨S_, .i32⟩
  | 45 => ⟨S11700x6, .i32⟩
  | 46 => ⟨S11700x6, .i32⟩
  | 47 => ⟨S_, .i32⟩
  | 48 => ⟨S11700x6, .i32⟩
  | 49 => ⟨S11700x6, .i1⟩
  | 50 => ⟨S_, .i32⟩
  | 51 => ⟨S11700x6, .i32⟩
  | 52 => ⟨S11700x6, .i1⟩
  | 53 => ⟨S11700x6, .i1⟩
  | 54 => ⟨S_, .i32⟩
  | 55 => ⟨S11700x6, .i32⟩
  | 56 => ⟨S11700x6, .i1⟩
  | 57 => ⟨S11700x6, .i1⟩
  | 58 => ⟨S_, .i32⟩
  | 59 => ⟨S11700x6, .i32⟩
  | 60 => ⟨S11700x6, .i1⟩
  | 61 => ⟨S11700x6, .i1⟩
  | 62 => ⟨S11700x6, .f32⟩
  | 63 => ⟨S11700x6, .i32⟩
  | 64 => ⟨S_, .i32⟩
  | 65 => ⟨S11700x6, .i32⟩
  | 66 => ⟨S11700x6, .i32⟩
  | 67 => ⟨S11700x6, .i32⟩
  | 68 => ⟨S11700x6, .i32⟩
  | 69 => ⟨S_, .i32⟩
  | 70 => ⟨S_, .i32⟩
  | 71 => ⟨S_, .i32⟩
  | 72 => ⟨S11700x6, .i32⟩
  | 73 => ⟨S11700x6, .i32⟩
  | 74 => ⟨S_, .i32⟩
  | 75 => ⟨S11700x6, .i32⟩
  | 76 => ⟨S11700x6, .i32⟩
  | 77 => ⟨S11700x6x1, .i32⟩
  | 78 => ⟨S1x1x4, .i32⟩
  | 79 => ⟨S11700x6x4, .i32⟩
  | 80 => ⟨S11700x6x4, .i32⟩
  | 81 => ⟨S11700x6x4, .i1⟩
  | 82 => ⟨S11700x6x4, .f32⟩
  | 83 => ⟨S11700x6, .f32⟩
  | 84 => ⟨S11700x6x1, .f32⟩
  | 85 => ⟨S11700x6x4, .f32⟩
  | 86 => ⟨S11700x6x4, .f32⟩
  | 87 => ⟨S11700x6x4, .f32⟩
  | 88 => ⟨S_, .i32⟩
  | 89 => ⟨S11700x6, .i32⟩
  | 90 => ⟨S11700x6, .i32⟩
  | 91 => ⟨S_, .i32⟩
  | 92 => ⟨S11700x6, .i32⟩
  | 93 => ⟨S11700x6, .i32⟩
  | 94 => ⟨S_, .i32⟩
  | 95 => ⟨S11700x6, .i32⟩
  | 96 => ⟨S11700x6, .i1⟩
  | 97 => ⟨S_, .i32⟩
  | 98 => ⟨S11700x6, .i32⟩
  | 99 => ⟨S11700x6, .i1⟩
  | 100 => ⟨S11700x6, .i1⟩
  | 101 => ⟨S_, .i32⟩
  | 102 => ⟨S11700x6, .i32⟩
  | 103 => ⟨S11700x6, .i1⟩
  | 104 => ⟨S11700x6, .i1⟩
  | 105 => ⟨S_, .i32⟩
  | 106 => ⟨S11700x6, .i32⟩
  | 107 => ⟨S11700x6, .i1⟩
  | 108 => ⟨S11700x6, .i1⟩
  | 109 => ⟨S11700x6, .f32⟩
  | 110 => ⟨S11700x6, .i32⟩
  | 111 => ⟨S_, .i32⟩
  | 112 => ⟨S11700x6, .i32⟩
  | 113 => ⟨S11700x6, .i32⟩
  | 114 => ⟨S11700x6, .i32⟩
  | 115 => ⟨S11700x6, .i32⟩
  | 116 => ⟨S_, .i32⟩
  | 117 => ⟨S_, .i32⟩
  | 118 => ⟨S_, .i32⟩
  | 119 => ⟨S11700x6, .i32⟩
  | 120 => ⟨S11700x6, .i32⟩
  | 121 => ⟨S_, .i32⟩
  | 122 => ⟨S11700x6, .i32⟩
  | 123 => ⟨S11700x6, .i32⟩
  | 124 => ⟨S11700x6x1, .i32⟩
  | 125 => ⟨S1x1x4, .i32⟩
  | 126 => ⟨S11700x6x4, .i32⟩
  | 127 => ⟨S11700x6x4, .i32⟩
  | _ => ⟨S100000x3, .f32⟩

abbrev hbmTy0_4 (i : Nat) : BufTy := match i % 128 with
  | 0 => ⟨S11700x6x4, .i1⟩
  | 1 => ⟨S11700x6x4, .f32⟩
  | 2 => ⟨S11700x6, .f32⟩
  | 3 => ⟨S11700x6x1, .f32⟩
  | 4 => ⟨S11700x6x4, .f32⟩
  | 5 => ⟨S11700x6x4, .f32⟩
  | 6 => ⟨S11700x6x4, .f32⟩
  | 7 => ⟨S11700x6x4x1, .f32⟩
  | 8 => ⟨S11700x6x1x8, .f32⟩
  | 9 => ⟨S11700x6x8, .f32⟩
  | 10 => ⟨S11700x6x1x8, .f32⟩
  | 11 => ⟨S11700x6x4x8, .f32⟩
  | 12 => ⟨S11700x6x4x8, .f32⟩
  | 13 => ⟨S11700x6x4x8, .f32⟩
  | 14 => ⟨S11700x6x1, .f32⟩
  | 15 => ⟨S11700x6, .f32⟩
  | 16 => ⟨S_, .f32⟩
  | 17 => ⟨S11700x6, .f32⟩
  | 18 => ⟨S11700x6, .f32⟩
  | 19 => ⟨S_, .f32⟩
  | 20 => ⟨S11700x6, .f32⟩
  | 21 => ⟨S11700x6, .f32⟩
  | 22 => ⟨S11700x6x1, .f32⟩
  | 23 => ⟨S11700x6, .f32⟩
  | 24 => ⟨S_, .f32⟩
  | 25 => ⟨S11700x6, .f32⟩
  | 26 => ⟨S11700x6, .f32⟩
  | 27 => ⟨S_, .f32⟩
  | 28 => ⟨S11700x6, .f32⟩
  | 29 => ⟨S11700x6, .f32⟩
  | 30 => ⟨S11700x6, .f32⟩
  | 31 => ⟨S11700x6, .f32⟩
  | 32 => ⟨S11700x6, .f32⟩
  | 33 => ⟨S11700x6, .f32⟩
  | 34 => ⟨S11700x6, .i32⟩
  | 35 => ⟨S11700x6, .i32⟩
  | 36 => ⟨S_, .i32⟩
  | 37 => ⟨S_, .i32⟩
  | 38 => ⟨S_, .i32⟩
  | 39 => ⟨S11700x6, .i32⟩
  | 40 => ⟨S11700x6, .i32⟩
  | 41 => ⟨S_, .i32⟩
  | 42 => ⟨S11700x6, .i32⟩
  | 43 => ⟨S11700x6, .i32⟩
  | 44 => ⟨S_, .i32⟩
  | 45 => ⟨S_, .i32⟩
  | 46 => ⟨S_, .i32⟩
  | 47 => ⟨S11700x6, .i32⟩
  | 48 => ⟨S11700x6, .i32⟩
  | 49 => ⟨S_, .i32⟩
  | 50 => ⟨S11700x6, .i32⟩
  | 51 => ⟨S11700x6, .i32⟩
  | 52 => ⟨S_, .i32⟩
  | 53 => ⟨S11700x6, .i32⟩
  | 54 => ⟨S11700x6, .i32⟩
  | 55 => ⟨S_, .i32⟩
  | 56 => ⟨S11700x6, .i32⟩
  | 57 => ⟨S11700x6, .i32⟩
  | 58 => ⟨S_, .i32⟩
  | 59 => ⟨S11700x6, .i32⟩
  | 60 => ⟨S11700x6, .i1⟩
  | 61 => ⟨S_, .i32⟩
  | 62 => ⟨S11700x6, .i32⟩
  | 63 => ⟨S11700x6, .i1⟩
  | 64 => ⟨S_, .i32⟩
  | 65 => ⟨S_, .i32⟩
  | 66 => ⟨S11700x6, .i32⟩
  | 67 => ⟨S11700x6, .i32⟩
  | 68 => ⟨S11700x6, .i32⟩
  | 69 => ⟨S_, .i32⟩
  | 70 => ⟨S11700x6, .i32⟩
  | 71 => ⟨S11700x6, .i1⟩
  | 72 => ⟨S_, .i32⟩
  | 73 => ⟨S_, .i32⟩
  | 74 => ⟨S11700x6, .i32⟩
  | 75 => ⟨S11700x6, .i32⟩
  | 76 => ⟨S11700x6, .i32⟩
  | 77 => ⟨S11700x6, .i32⟩
  | 78 => ⟨S_, .i32⟩
  | 79 => ⟨S11700x6, .i32⟩
  | 80 => ⟨S11700x6, .i1⟩
  | 81 => ⟨S_, .i32⟩
  | 82 => ⟨S_, .i32⟩
  | 83 => ⟨S11700x6, .i32⟩
  | 84 => ⟨S11700x6, .i32⟩
  | 85 => ⟨S11700x6, .i32⟩
  | 86 => ⟨S_, .i32⟩
  | 87 => ⟨S11700x6, .i32⟩
  | 88 => ⟨S11700x6, .i1⟩
  | 89 => ⟨S_, .i32⟩
  | 90 => ⟨S_, .i32⟩
  | 91 => ⟨S11700x6, .i32⟩
  | 92 => ⟨S11700x6, .i32⟩
  | 93 => ⟨S11700x6, .i32⟩
  | 94 => ⟨S11700x6, .i32⟩
  | 95 => ⟨S_, .i32⟩
  | 96 => ⟨S11700x6, .i32⟩
  | 97 => ⟨S11700x6, .i32⟩
  | 98 => ⟨S11700x6, .i32⟩
  | 99 => ⟨S11700x6, .i32⟩
  | 100 => ⟨S11700x6, .i32⟩
  | 101 => ⟨S_, .i32⟩
  | 102 => ⟨S11700x6, .i32⟩
  | 103 => ⟨S11700x6, .i32⟩
  | 104 => ⟨S11700x6, .i32⟩
  | 105 => ⟨S11700x6, .i32⟩
  | 106 => ⟨S11700x6, .i32⟩
  | 107 => ⟨S11700x6, .i32⟩
  | 108 => ⟨S11700x6, .i32⟩
  | 109 => ⟨S11700x6, .i32⟩
  | 110 => ⟨S11700x6, .i32⟩
  | 111 => ⟨S11700x6, .i32⟩
  | 112 => ⟨S_, .f32⟩
  | 113 => ⟨S11700x6x4, .f32⟩
  | 114 => ⟨S_, .f32⟩
  | 115 => ⟨S11700x6, .f32⟩
  | 116 => ⟨S11700x6, .f32⟩
  | 117 => ⟨S_, .f32⟩
  | 118 => ⟨S11700x6, .f32⟩
  | 119 => ⟨S11700x6, .f32⟩
  | 120 => ⟨S11700x6, .f32⟩
  | 121 => ⟨S_, .f32⟩
  | 122 => ⟨S11700x6, .f32⟩
  | 123 => ⟨S11700x6, .f32⟩
  | 124 => ⟨S11700x6, .f32⟩
  | 125 => ⟨S_, .f32⟩
  | 126 => ⟨S11700x6, .f32⟩
  | 127 => ⟨S11700x6, .f32⟩
  | _ => ⟨S100000x3, .f32⟩

abbrev hbmTy0_5 (i : Nat) : BufTy := match i % 128 with
  | 0 => ⟨S11700x6, .f32⟩
  | 1 => ⟨S11700x6, .f32⟩
  | 2 => ⟨S_, .i32⟩
  | 3 => ⟨S11700x6, .i32⟩
  | 4 => ⟨S11700x6, .i32⟩
  | 5 => ⟨S_, .i32⟩
  | 6 => ⟨S11700x6, .i32⟩
  | 7 => ⟨S11700x6, .i32⟩
  | 8 => ⟨S_, .i32⟩
  | 9 => ⟨S11700x6, .i32⟩
  | 10 => ⟨S11700x6, .i1⟩
  | 11 => ⟨S_, .i32⟩
  | 12 => ⟨S11700x6, .i32⟩
  | 13 => ⟨S11700x6, .i1⟩
  | 14 => ⟨S11700x6, .i1⟩
  | 15 => ⟨S_, .i32⟩
  | 16 => ⟨S11700x6, .i32⟩
  | 17 => ⟨S11700x6, .i1⟩
  | 18 => ⟨S11700x6, .i1⟩
  | 19 => ⟨S_, .i32⟩
  | 20 => ⟨S11700x6, .i32⟩
  | 21 => ⟨S11700x6, .i1⟩
  | 22 => ⟨S11700x6, .i1⟩
  | 23 => ⟨S11700x6, .f32⟩
  | 24 => ⟨S11700x6, .i32⟩
  | 25 => ⟨S_, .i32⟩
  | 26 => ⟨S11700x6, .i32⟩
  | 27 => ⟨S11700x6, .i32⟩
  | 28 => ⟨S11700x6, .i32⟩
  | 29 => ⟨S11700x6, .i32⟩
  | 30 => ⟨S_, .i32⟩
  | 31 => ⟨S_, .i32⟩
  | 32 => ⟨S_, .i32⟩
  | 33 => ⟨S11700x6, .i32⟩
  | 34 => ⟨S11700x6, .i32⟩
  | 35 => ⟨S_, .i32⟩
  | 36 => ⟨S11700x6, .i32⟩
  | 37 => ⟨S11700x6, .i32⟩
  | 38 => ⟨S11700x6x1, .i32⟩
  | 39 => ⟨S1x1x4, .i32⟩
  | 40 => ⟨S11700x6x4, .i32⟩
  | 41 => ⟨S11700x6x4, .i32⟩
  | 42 => ⟨S11700x6x4, .i1⟩
  | 43 => ⟨S11700x6x4, .f32⟩
  | 44 => ⟨S11700x6, .f32⟩
  | 45 => ⟨S11700x6x1, .f32⟩
  | 46 => ⟨S11700x6x4, .f32⟩
  | 47 => ⟨S11700x6x4, .f32⟩
  | 48 => ⟨S11700x6x4, .f32⟩
  | 49 => ⟨S_, .i32⟩
  | 50 => ⟨S11700x6, .i32⟩
  | 51 => ⟨S11700x6, .i32⟩
  | 52 => ⟨S_, .i32⟩
  | 53 => ⟨S11700x6, .i32⟩
  | 54 => ⟨S11700x6, .i32⟩
  | 55 => ⟨S_, .i32⟩
  | 56 => ⟨S11700x6, .i32⟩
  | 57 => ⟨S11700x6, .i1⟩
  | 58 => ⟨S_, .i32⟩
  | 59 => ⟨S11700x6, .i32⟩
  | 60 => ⟨S11700x6, .i1⟩
  | 61 => ⟨S11700x6, .i1⟩
  | 62 => ⟨S_, .i32⟩
  | 63 => ⟨S11700x6, .i32⟩
  | 64 => ⟨S11700x6, .i1⟩
  | 65 => ⟨S11700x6, .i1⟩
  | 66 => ⟨S_, .i32⟩
  | 67 => ⟨S11700x6, .i32⟩
  | 68 => ⟨S11700x6, .i1⟩
  | 69 => ⟨S11700x6, .i1⟩
  | 70 => ⟨S11700x6, .f32⟩
  | 71 => ⟨S11700x6, .i32⟩
  | 72 => ⟨S_, .i32⟩
  | 73 => ⟨S11700x6, .i32⟩
  | 74 => ⟨S11700x6, .i32⟩
  | 75 => ⟨S11700x6, .i32⟩
  | 76 => ⟨S11700x6, .i32⟩
  | 77 => ⟨S_, .i32⟩
  | 78 => ⟨S_, .i32⟩
  | 79 => ⟨S_, .i32⟩
  | 80 => ⟨S11700x6, .i32⟩
  | 81 => ⟨S11700x6, .i32⟩
  | 82 => ⟨S_, .i32⟩
  | 83 => ⟨S11700x6, .i32⟩
  | 84 => ⟨S11700x6, .i32⟩
  | 85 => ⟨S11700x6x1, .i32⟩
  | 86 => ⟨S1x1x4, .i32⟩
  | 87 => ⟨S11700x6x4, .i32⟩
  | 88 => ⟨S11700x6x4, .i32⟩
  | 89 => ⟨S11700x6x4, .i1⟩
  | 90 => ⟨S11700x6x4, .f32⟩
  | 91 => ⟨S11700x6, .f32⟩
  | 92 => ⟨S11700x6x1, .f32⟩
  | 93 => ⟨S11700x6x4, .f32⟩
  | 94 => ⟨S11700x6x4, .f32⟩
  | 95 => ⟨S11700x6x4, .f32⟩
  | 96 => ⟨S_, .i32⟩
  | 97 => ⟨S11700x6, .i32⟩
  | 98 => ⟨S11700x6, .i32⟩
  | 99 => ⟨S_, .i32⟩
  | 100 => ⟨S11700x6, .i32⟩
  | 101 => ⟨S11700x6, .i32⟩
  | 102 => ⟨S_, .i32⟩
  | 103 => ⟨S11700x6, .i32⟩
  | 104 => ⟨S11700x6, .i1⟩
  | 105 => ⟨S_, .i32⟩
  | 106 => ⟨S11700x6, .i32⟩
  | 107 => ⟨S11700x6, .i1⟩
  | 108 => ⟨S11700x6, .i1⟩
  | 109 => ⟨S_, .i32⟩
  | 110 => ⟨S11700x6, .i32⟩
  | 111 => ⟨S11700x6, .i1⟩
  | 112 => ⟨S11700x6, .i1⟩
  | 113 => ⟨S_, .i32⟩
  | 114 => ⟨S11700x6, .i32⟩
  | 115 => ⟨S11700x6, .i1⟩
  | 116 => ⟨S11700x6, .i1⟩
  | 117 => ⟨S11700x6, .f32⟩
  | 118 => ⟨S11700x6, .i32⟩
  | 119 => ⟨S_, .i32⟩
  | 120 => ⟨S11700x6, .i32⟩
  | 121 => ⟨S11700x6, .i32⟩
  | 122 => ⟨S11700x6, .i32⟩
  | 123 => ⟨S11700x6, .i32⟩
  | 124 => ⟨S_, .i32⟩
  | 125 => ⟨S_, .i32⟩
  | 126 => ⟨S_, .i32⟩
  | 127 => ⟨S11700x6, .i32⟩
  | _ => ⟨S100000x3, .f32⟩

abbrev hbmTy0_6 (i : Nat) : BufTy := match i % 128 with
  | 0 => ⟨S11700x6, .i32⟩
  | 1 => ⟨S_, .i32⟩
  | 2 => ⟨S11700x6, .i32⟩
  | 3 => ⟨S11700x6, .i32⟩
  | 4 => ⟨S11700x6x1, .i32⟩
  | 5 => ⟨S1x1x4, .i32⟩
  | 6 => ⟨S11700x6x4, .i32⟩
  | 7 => ⟨S11700x6x4, .i32⟩
  | 8 => ⟨S11700x6x4, .i1⟩
  | 9 => ⟨S11700x6x4, .f32⟩
  | 10 => ⟨S11700x6, .f32⟩
  | 11 => ⟨S11700x6x1, .f32⟩
  | 12 => ⟨S11700x6x4, .f32⟩
  | 13 => ⟨S11700x6x4, .f32⟩
  | 14 => ⟨S11700x6x4, .f32⟩
  | 15 => ⟨S_, .i32⟩
  | 16 => ⟨S11700x6, .i32⟩
  | 17 => ⟨S11700x6, .i32⟩
  | 18 => ⟨S_, .i32⟩
  | 19 => ⟨S11700x6, .i32⟩
  | 20 => ⟨S11700x6, .i32⟩
  | 21 => ⟨S_, .i32⟩
  | 22 => ⟨S11700x6, .i32⟩
  | 23 => ⟨S11700x6, .i1⟩
  | 24 => ⟨S_, .i32⟩
  | 25 => ⟨S11700x6, .i32⟩
  | 26 => ⟨S11700x6, .i1⟩
  | 27 => ⟨S11700x6, .i1⟩
  | 28 => ⟨S_, .i32⟩
  | 29 => ⟨S11700x6, .i32⟩
  | 30 => ⟨S11700x6, .i1⟩
  | 31 => ⟨S11700x6, .i1⟩
  | 32 => ⟨S_, .i32⟩
  | 33 => ⟨S11700x6, .i32⟩
  | 34 => ⟨S11700x6, .i1⟩
  | 35 => ⟨S11700x6, .i1⟩
  | 36 => ⟨S11700x6, .f32⟩
  | 37 => ⟨S11700x6, .i32⟩
  | 38 => ⟨S_, .i32⟩
  | 39 => ⟨S11700x6, .i32⟩
  | 40 => ⟨S11700x6, .i32⟩
  | 41 => ⟨S11700x6, .i32⟩
  | 42 => ⟨S11700x6, .i32⟩
  | 43 => ⟨S_, .i32⟩
  | 44 => ⟨S_, .i32⟩
  | 45 => ⟨S_, .i32⟩
  | 46 => ⟨S11700x6, .i32⟩
  | 47 => ⟨S11700x6, .i32⟩
  | 48 => ⟨S_, .i32⟩
  | 49 => ⟨S11700x6, .i32⟩
  | 50 => ⟨S11700x6, .i32⟩
  | 51 => ⟨S11700x6x1, .i32⟩
  | 52 => ⟨S1x1x4, .i32⟩
  | 53 => ⟨S11700x6x4, .i32⟩
  | 54 => ⟨S11700x6x4, .i32⟩
  | 55 => ⟨S11700x6x4, .i1⟩
  | 56 => ⟨S11700x6x4, .f32⟩
  | 57 => ⟨S11700x6, .f32⟩
  | 58 => ⟨S11700x6x1, .f32⟩
  | 59 => ⟨S11700x6x4, .f32⟩
  | 60 => ⟨S11700x6x4, .f32⟩
  | 61 => ⟨S11700x6x4, .f32⟩
  | 62 => ⟨S11700x6x4x1, .f32⟩
  | 63 => ⟨S11700x6x1x8, .f32⟩
  | 64 => ⟨S11700x6x8, .f32⟩
  | 65 => ⟨S11700x6x1x8, .f32⟩
  | 66 => ⟨S11700x6x4x8, .f32⟩
  | 67 => ⟨S11700x6x4x8, .f32⟩
  | 68 => ⟨S11700x6x4x8, .f32⟩
  | 69 => ⟨S11700x6x1, .f32⟩
  | 70 => ⟨S11700x6, .f32⟩
  | 71 => ⟨S_, .f32⟩
  | 72 => ⟨S11700x6, .f32⟩
  | 73 => ⟨S11700x6, .f32⟩
  | 74 => ⟨S_, .f32⟩
  | 75 => ⟨S11700x6, .f32⟩
  | 76 => ⟨S11700x6, .f32⟩
  | 77 => ⟨S11700x6x1, .f32⟩
  | 78 => ⟨S11700x6, .f32⟩
  | 79 => ⟨S_, .f32⟩
  | 80 => ⟨S11700x6, .f32⟩
  | 81 => ⟨S11700x6, .f32⟩
  | 82 => ⟨S_, .f32⟩
  | 83 => ⟨S11700x6, .f32⟩
  | 84 => ⟨S11700x6, .f32⟩
  | 85 => ⟨S11700x6, .f32⟩
  | 86 => ⟨S11700x6, .f32⟩
  | 87 => ⟨S11700x6, .f32⟩
  | 88 => ⟨S11700x6, .f32⟩
  | 89 => ⟨S11700x6, .i32⟩
  | 90 => ⟨S11700x6, .i32⟩
  | 91 => ⟨S_, .i32⟩
  | 92 => ⟨S_, .i32⟩
  | 93 => ⟨S_, .i32⟩
  | 94 => ⟨S11700x6, .i32⟩
  | 95 => ⟨S11700x6, .i32⟩
  | 96 => ⟨S_, .i32⟩
  | 97 => ⟨S11700x6, .i32⟩
  | 98 => ⟨S11700x6, .i32⟩
  | 99 => ⟨S_, .i32⟩
  | 100 => ⟨S_, .i32⟩
  | 101 => ⟨S_, .i32⟩
  | 102 => ⟨S11700x6, .i32⟩
  | 103 => ⟨S11700x6, .i32⟩
  | 104 => ⟨S_, .i32⟩
  | 105 => ⟨S11700x6, .i32⟩
  | 106 => ⟨S11700x6, .i32⟩
  | 107 => ⟨S_, .i32⟩
  | 108 => ⟨S11700x6, .i32⟩
  | 109 => ⟨S11700x6, .i32⟩
  | 110 => ⟨S_, .i32⟩
  | 111 => ⟨S11700x6, .i32⟩
  | 112 => ⟨S11700x6, .i32⟩
  | 113 => ⟨S_, .i32⟩
  | 114 => ⟨S11700x6, .i32⟩
  | 115 => ⟨S11700x6, .i1⟩
  | 116 => ⟨S_, .i32⟩
  | 117 => ⟨S11700x6, .i32⟩
  | 118 => ⟨S11700x6, .i1⟩
  | 119 => ⟨S_, .i32⟩
  | 120 => ⟨S_, .i32⟩
  | 121 => ⟨S11700x6, .i32⟩
  | 122 => ⟨S11700x6, .i32⟩
  | 123 => ⟨S11700x6, .i32⟩
  | 124 => ⟨S_, .i32⟩
  | 125 => ⟨S11700x6, .i32⟩
  | 126 => ⟨S11700x6, .i1⟩
  | 127 => ⟨S_, .i32⟩
  | _ => ⟨S100000x3, .f32⟩

abbrev hbmTy0_7 (i : Nat) : BufTy := match i % 128 with
  | 0 => ⟨S_, .i32⟩
  | 1 => ⟨S11700x6, .i32⟩
  | 2 => ⟨S11700x6, .i32⟩
  | 3 => ⟨S11700x6, .i32⟩
  | 4 => ⟨S11700x6, .i32⟩
  | 5 => ⟨S_, .i32⟩
  | 6 => ⟨S11700x6, .i32⟩
  | 7 => ⟨S11700x6, .i1⟩
  | 8 => ⟨S_, .i32⟩
  | 9 => ⟨S_, .i32⟩
  | 10 => ⟨S11700x6, .i32⟩
  | 11 => ⟨S11700x6, .i32⟩
  | 12 => ⟨S11700x6, .i32⟩
  | 13 => ⟨S_, .i32⟩
  | 14 => ⟨S11700x6, .i32⟩
  | 15 => ⟨S11700x6, .i1⟩
  | 16 => ⟨S_, .i32⟩
  | 17 => ⟨S_, .i32⟩
  | 18 => ⟨S11700x6, .i32⟩
  | 19 => ⟨S11700x6, .i32⟩
  | 20 => ⟨S11700x6, .i32⟩
  | 21 => ⟨S11700x6, .i32⟩
  | 22 => ⟨S_, .i32⟩
  | 23 => ⟨S11700x6, .i32⟩
  | 24 => ⟨S11700x6, .i32⟩
  | 25 => ⟨S11700x6, .i32⟩
  | 26 => ⟨S11700x6, .i32⟩
  | 27 => ⟨S11700x6, .i32⟩
  | 28 => ⟨S_, .i32⟩
  | 29 => ⟨S11700x6, .i32⟩
  | 30 => ⟨S11700x6, .i32⟩
  | 31 => ⟨S11700x6, .i32⟩
  | 32 => ⟨S11700x6, .i32⟩
  | 33 => ⟨S11700x6, .i32⟩
  | 34 => ⟨S11700x6, .i32⟩
  | 35 => ⟨S11700x6, .i32⟩
  | 36 => ⟨S11700x6, .i32⟩
  | 37 => ⟨S11700x6, .i32⟩
  | 38 => ⟨S11700x6, .i32⟩
  | 39 => ⟨S_, .f32⟩
  | 40 => ⟨S11700x6x4, .f32⟩
  | 41 => ⟨S_, .f32⟩
  | 42 => ⟨S11700x6, .f32⟩
  | 43 => ⟨S11700x6, .f32⟩
  | 44 => ⟨S_, .f32⟩
  | 45 => ⟨S11700x6, .f32⟩
  | 46 => ⟨S11700x6, .f32⟩
  | 47 => ⟨S11700x6, .f32⟩
  | 48 => ⟨S_, .f32⟩
  | 49 => ⟨S11700x6, .f32⟩
  | 50 => ⟨S11700x6, .f32⟩
  | 51 => ⟨S11700x6, .f32⟩
  | 52 => ⟨S_, .f32⟩
  | 53 => ⟨S11700x6, .f32⟩
  | 54 => ⟨S11700x6, .f32⟩
  | 55 => ⟨S11700x6, .f32⟩
  | 56 => ⟨S11700x6, .f32⟩
  | 57 => ⟨S_, .i32⟩
  | 58 => ⟨S11700x6, .i32⟩
  | 59 => ⟨S11700x6, .i32⟩
  | 60 => ⟨S_, .i32⟩
  | 61 => ⟨S11700x6, .i32⟩
  | 62 => ⟨S11700x6, .i32⟩
  | 63 => ⟨S_, .i32⟩
  | 64 => ⟨S11700x6, .i32⟩
  | 65 => ⟨S11700x6, .i1⟩
  | 66 => ⟨S_, .i32⟩
  | 67 => ⟨S11700x6, .i32⟩
  | 68 => ⟨S11700x6, .i1⟩
  | 69 => ⟨S11700x6, .i1⟩
  | 70 => ⟨S_, .i32⟩
  | 71 => ⟨S11700x6, .i32⟩
  | 72 => ⟨S11700x6, .i1⟩
  | 73 => ⟨S11700x6, .i1⟩
  | 74 => ⟨S_, .i32⟩
  | 75 => ⟨S11700x6, .i32⟩
  | 76 => ⟨S11700x6, .i1⟩
  | 77 => ⟨S11700x6, .i1⟩
  | 78 => ⟨S11700x6, .f32⟩
  | 79 => ⟨S11700x6, .i32⟩
  | 80 => ⟨S_, .i32⟩
  | 81 => ⟨S11700x6, .i32⟩
  | 82 => ⟨S11700x6, .i32⟩
  | 83 => ⟨S11700x6, .i32⟩
  | 84 => ⟨S11700x6, .i32⟩
  | 85 => ⟨S_, .i32⟩
  | 86 => ⟨S_, .i32⟩
  | 87 => ⟨S_, .i32⟩
  | 88 => ⟨S11700x6, .i32⟩
  | 89 => ⟨S11700x6, .i32⟩
  | 90 => ⟨S_, .i32⟩
  | 91 => ⟨S11700x6, .i32⟩
  | 92 => ⟨S11700x6, .i32⟩
  | 93 => ⟨S11700x6x1, .i32⟩
  | 94 => ⟨S1x1x4, .i32⟩
  | 95 => ⟨S11700x6x4, .i32⟩
  | 96 => ⟨S11700x6x4, .i32⟩
  | 97 => ⟨S11700x6x4, .i1⟩
  | 98 => ⟨S11700x6x4, .f32⟩
  | 99 => ⟨S11700x6, .f32⟩
  | 100 => ⟨S11700x6x1, .f32⟩
  | 101 => ⟨S11700x6x4, .f32⟩
  | 102 => ⟨S11700x6x4, .f32⟩
  | 103 => ⟨S11700x6x4, .f32⟩
  | 104 => ⟨S_, .i32⟩
  | 105 => ⟨S11700x6, .i32⟩
  | 106 => ⟨S11700x6, .i32⟩
  | 107 => ⟨S_, .i32⟩
  | 108 => ⟨S11700x6, .i32⟩
  | 109 => ⟨S11700x6, .i32⟩
  | 110 => ⟨S_, .i32⟩
  | 111 => ⟨S11700x6, .i32⟩
  | 112 => ⟨S11700x6, .i1⟩
  | 113 => ⟨S_, .i32⟩
  | 114 => ⟨S11700x6, .i32⟩
  | 115 => ⟨S11700x6, .i1⟩
  | 116 => ⟨S11700x6, .i1⟩
  | 117 => ⟨S_, .i32⟩
  | 118 => ⟨S11700x6, .i32⟩
  | 119 => ⟨S11700x6, .i1⟩
  | 120 => ⟨S11700x6, .i1⟩
  | 121 => ⟨S_, .i32⟩
  | 122 => ⟨S11700x6, .i32⟩
  | 123 => ⟨S11700x6, .i1⟩
  | 124 => ⟨S11700x6, .i1⟩
  | 125 => ⟨S11700x6, .f32⟩
  | 126 => ⟨S11700x6, .i32⟩
  | 127 => ⟨S_, .i32⟩
  | _ => ⟨S100000x3, .f32⟩

abbrev hbmTy0_8 (i : Nat) : BufTy := match i % 128 with
  | 0 => ⟨S11700x6, .i32⟩
  | 1 => ⟨S11700x6, .i32⟩
  | 2 => ⟨S11700x6, .i32⟩
  | 3 => ⟨S11700x6, .i32⟩
  | 4 => ⟨S_, .i32⟩
  | 5 => ⟨S_, .i32⟩
  | 6 => ⟨S_, .i32⟩
  | 7 => ⟨S11700x6, .i32⟩
  | 8 => ⟨S11700x6, .i32⟩
  | 9 => ⟨S_, .i32⟩
  | 10 => ⟨S11700x6, .i32⟩
  | 11 => ⟨S11700x6, .i32⟩
  | 12 => ⟨S11700x6x1, .i32⟩
  | 13 => ⟨S1x1x4, .i32⟩
  | 14 => ⟨S11700x6x4, .i32⟩
  | 15 => ⟨S11700x6x4, .i32⟩
  | 16 => ⟨S11700x6x4, .i1⟩
  | 17 => ⟨S11700x6x4, .f32⟩
  | 18 => ⟨S11700x6, .f32⟩
  | 19 => ⟨S11700x6x1, .f32⟩
  | 20 => ⟨S11700x6x4, .f32⟩
  | 21 => ⟨S11700x6x4, .f32⟩
  | 22 => ⟨S11700x6x4, .f32⟩
  | 23 => ⟨S_, .i32⟩
  | 24 => ⟨S11700x6, .i32⟩
  | 25 => ⟨S11700x6, .i32⟩
  | 26 => ⟨S_, .i32⟩
  | 27 => ⟨S11700x6, .i32⟩
  | 28 => ⟨S11700x6, .i32⟩
  | 29 => ⟨S_, .i32⟩
  | 30 => ⟨S11700x6, .i32⟩
  | 31 => ⟨S11700x6, .i1⟩
  | 32 => ⟨S_, .i32⟩
  | 33 => ⟨S11700x6, .i32⟩
  | 34 => ⟨S11700x6, .i1⟩
  | 35 => ⟨S11700x6, .i1⟩
  | 36 => ⟨S_, .i32⟩
  | 37 => ⟨S11700x6, .i32⟩
  | 38 => ⟨S11700x6, .i1⟩
  | 39 => ⟨S11700x6, .i1⟩
  | 40 => ⟨S_, .i32⟩
  | 41 => ⟨S11700x6, .i32⟩
  | 42 => ⟨S11700x6, .i1⟩
  | 43 => ⟨S11700x6, .i1⟩
  | 44 => ⟨S11700x6, .f32⟩
  | 45 => ⟨S11700x6, .i32⟩
  | 46 => ⟨S_, .i32⟩
  | 47 => ⟨S11700x6, .i32⟩
  | 48 => ⟨S11700x6, .i32⟩
  | 49 => ⟨S11700x6, .i32⟩
  | 50 => ⟨S11700x6, .i32⟩
  | 51 => ⟨S_, .i32⟩
  | 52 => ⟨S_, .i32⟩
  | 53 => ⟨S_, .i32⟩
  | 54 => ⟨S11700x6, .i32⟩
  | 55 => ⟨S11700x6, .i32⟩
  | 56 => ⟨S_, .i32⟩
  | 57 => ⟨S11700x6, .i32⟩
  | 58 => ⟨S11700x6, .i32⟩
  | 59 => ⟨S11700x6x1, .i32⟩
  | 60 => ⟨S1x1x4, .i32⟩
  | 61 => ⟨S11700x6x4, .i32⟩
  | 62 => ⟨S11700x6x4, .i32⟩
  | 63 => ⟨S11700x6x4, .i1⟩
  | 64 => ⟨S11700x6x4, .f32⟩
  | 65 => ⟨S11700x6, .f32⟩
  | 66 => ⟨S11700x6x1, .f32⟩
  | 67 => ⟨S11700x6x4, .f32⟩
  | 68 => ⟨S11700x6x4, .f32⟩
  | 69 => ⟨S11700x6x4, .f32⟩
  | 70 => ⟨S_, .i32⟩
  | 71 => ⟨S11700x6, .i32⟩
  | 72 => ⟨S11700x6, .i32⟩
  | 73 => ⟨S_, .i32⟩
  | 74 => ⟨S11700x6, .i32⟩
  | 75 => ⟨S11700x6, .i32⟩
  | 76 => ⟨S_, .i32⟩
  | 77 => ⟨S11700x6, .i32⟩
  | 78 => ⟨S11700x6, .i1⟩
  | 79 => ⟨S_, .i32⟩
  | 80 => ⟨S11700x6, .i32⟩
  | 81 => ⟨S11700x6, .i1⟩
  | 82 => ⟨S11700x6, .i1⟩
  | 83 => ⟨S_, .i32⟩
  | 84 => ⟨S11700x6, .i32⟩
  | 85 => ⟨S11700x6, .i1⟩
  | 86 => ⟨S11700x6, .i1⟩
  | 87 => ⟨S_, .i32⟩
  | 88 => ⟨S11700x6, .i32⟩
  | 89 => ⟨S11700x6, .i1⟩
  | 90 => ⟨S11700x6, .i1⟩
  | 91 => ⟨S11700x6, .f32⟩
  | 92 => ⟨S11700x6, .i32⟩
  | 93 => ⟨S_, .i32⟩
  | 94 => ⟨S11700x6, .i32⟩
  | 95 => ⟨S11700x6, .i32⟩
  | 96 => ⟨S11700x6, .i32⟩
  | 97 => ⟨S11700x6, .i32⟩
  | 98 => ⟨S_, .i32⟩
  | 99 => ⟨S_, .i32⟩
  | 100 => ⟨S_, .i32⟩
  | 101 => ⟨S11700x6, .i32⟩
  | 102 => ⟨S11700x6, .i32⟩
  | 103 => ⟨S_, .i32⟩
  | 104 => ⟨S11700x6, .i32⟩
  | 105 => ⟨S11700x6, .i32⟩
  | 106 => ⟨S11700x6x1, .i32⟩
  | 107 => ⟨S1x1x4, .i32⟩
  | 108 => ⟨S11700x6x4, .i32⟩
  | 109 => ⟨S11700x6x4, .i32⟩
  | 110 => ⟨S11700x6x4, .i1⟩
  | 111 => ⟨S11700x6x4, .f32⟩
  | 112 => ⟨S11700x6, .f32⟩
  | 113 => ⟨S11700x6x1, .f32⟩
  | 114 => ⟨S11700x6x4, .f32⟩
  | 115 => ⟨S11700x6x4, .f32⟩
  | 116 => ⟨S11700x6x4, .f32⟩
  | 117 => ⟨S11700x6x4x1, .f32⟩
  | 118 => ⟨S11700x6x1x8, .f32⟩
  | 119 => ⟨S11700x6x8, .f32⟩
  | 120 => ⟨S11700x6x1x8, .f32⟩
  | 121 => ⟨S11700x6x4x8, .f32⟩
  | 122 => ⟨S11700x6x4x8, .f32⟩
  | 123 => ⟨S11700x6x4x8, .f32⟩
  | 124 => ⟨S11700x6x1, .f32⟩
  | 125 => ⟨S11700x6, .f32⟩
  | 126 => ⟨S_, .f32⟩
  | 127 => ⟨S11700x6, .f32⟩
  | _ => ⟨S100000x3, .f32⟩

abbrev hbmTy0_9 (i : Nat) : BufTy := match i % 128 with
  | 0 => ⟨S11700x6, .f32⟩
  | 1 => ⟨S_, .f32⟩
  | 2 => ⟨S11700x6, .f32⟩
  | 3 => ⟨S11700x6, .f32⟩
  | 4 => ⟨S11700x6x1, .f32⟩
  | 5 => ⟨S11700x6, .f32⟩
  | 6 => ⟨S_, .f32⟩
  | 7 => ⟨S11700x6, .f32⟩
  | 8 => ⟨S11700x6, .f32⟩
  | 9 => ⟨S_, .f32⟩
  | 10 => ⟨S11700x6, .f32⟩
  | 11 => ⟨S11700x6, .f32⟩
  | 12 => ⟨S11700x6, .f32⟩
  | 13 => ⟨S11700x6, .f32⟩
  | 14 => ⟨S11700x6, .f32⟩
  | 15 => ⟨S11700x6, .f32⟩
  | 16 => ⟨S11700x6, .i32⟩
  | 17 => ⟨S11700x6, .i32⟩
  | 18 => ⟨S_, .i32⟩
  | 19 => ⟨S_, .i32⟩
  | 20 => ⟨S_, .i32⟩
  | 21 => ⟨S11700x6, .i32⟩
  | 22 => ⟨S11700x6, .i32⟩
  | 23 => ⟨S_, .i32⟩
  | 24 => ⟨S11700x6, .i32⟩
  | 25 => ⟨S11700x6, .i32⟩
  | 26 => ⟨S_, .i32⟩
  | 27 => ⟨S_, .i32⟩
  | 28 => ⟨S_, .i32⟩
  | 29 => ⟨S11700x6, .i32⟩
  | 30 => ⟨S11700x6, .i32⟩
  | 31 => ⟨S_, .i32⟩
  | 32 => ⟨S11700x6, .i32⟩
  | 33 => ⟨S11700x6, .i32⟩
  | 34 => ⟨S_, .i32⟩
  | 35 => ⟨S11700x6, .i32⟩
  | 36 => ⟨S11700x6, .i32⟩
  | 37 => ⟨S_, .i32⟩
  | 38 => ⟨S11700x6, .i32⟩
  | 39 => ⟨S11700x6, .i32⟩
  | 40 => ⟨S_, .i32⟩
  | 41 => ⟨S11700x6, .i32⟩
  | 42 => ⟨S11700x6, .i1⟩
  | 43 => ⟨S_, .i32⟩
  | 44 => ⟨S11700x6, .i32⟩
  | 45 => ⟨S11700x6, .i1⟩
  | 46 => ⟨S_, .i32⟩
  | 47 => ⟨S_, .i32⟩
  | 48 => ⟨S11700x6, .i32⟩
  | 49 => ⟨S11700x6, .i32⟩
  | 50 => ⟨S11700x6, .i32⟩
  | 51 => ⟨S_, .i32⟩
  | 52 => ⟨S11700x6, .i32⟩
  | 53 => ⟨S11700x6, .i1⟩
  | 54 => ⟨S_, .i32⟩
  | 55 => ⟨S_, .i32⟩
  | 56 => ⟨S11700x6, .i32⟩
  | 57 => ⟨S11700x6, .i32⟩
  | 58 => ⟨S11700x6, .i32⟩
  | 59 => ⟨S11700x6, .i32⟩
  | 60 => ⟨S_, .i32⟩
  | 61 => ⟨S11700x6, .i32⟩
  | 62 => ⟨S11700x6, .i1⟩
  | 63 => ⟨S_, .i32⟩
  | 64 => ⟨S_, .i32⟩
  | 65 => ⟨S11700x6, .i32⟩
  | 66 => ⟨S11700x6, .i32⟩
  | 67 => ⟨S11700x6, .i32⟩
  | 68 => ⟨S_, .i32⟩
  | 69 => ⟨S11700x6, .i32⟩
  | 70 => ⟨S11700x6, .i1⟩
  | 71 => ⟨S_, .i32⟩
  | 72 => ⟨S_, .i32⟩
  | 73 => ⟨S11700x6, .i32⟩
  | 74 => ⟨S11700x6, .i32⟩
  | 75 => ⟨S11700x6, .i32⟩
  | 76 => ⟨S11700x6, .i32⟩
  | 77 => ⟨S_, .i32⟩
  | 78 => ⟨S11700x6, .i32⟩
  | 79 => ⟨S11700x6, .i32⟩
  | 80 => ⟨S11700x6, .i32⟩
  | 81 => ⟨S11700x6, .i32⟩
  | 82 => ⟨S11700x6, .i32⟩
  | 83 => ⟨S_, .i32⟩
  | 84 => ⟨S11700x6, .i32⟩
  | 85 => ⟨S11700x6, .i32⟩
  | 86 => ⟨S11700x6, .i32⟩
  | 87 => ⟨S11700x6, .i32⟩
  | 88 => ⟨S11700x6, .i32⟩
  | 89 => ⟨S11700x6, .i32⟩
  | 90 => ⟨S11700x6, .i32⟩
  | 91 => ⟨S11700x6, .i32⟩
  | 92 => ⟨S11700x6, .i32⟩
  | 93 => ⟨S11700x6, .i32⟩
  | 94 => ⟨S_, .f32⟩
  | 95 => ⟨S11700x6x4, .f32⟩
  | 96 => ⟨S_, .f32⟩
  | 97 => ⟨S11700x6, .f32⟩
  | 98 => ⟨S11700x6, .f32⟩
  | 99 => ⟨S_, .f32⟩
  | 100 => ⟨S11700x6, .f32⟩
  | 101 => ⟨S11700x6, .f32⟩
  | 102 => ⟨S11700x6, .f32⟩
  | 103 => ⟨S_, .f32⟩
  | 104 => ⟨S11700x6, .f32⟩
  | 105 => ⟨S11700x6, .f32⟩
  | 106 => ⟨S11700x6, .f32⟩
  | 107 => ⟨S_, .f32⟩
  | 108 => ⟨S11700x6, .f32⟩
  | 109 => ⟨S11700x6, .f32⟩
  | 110 => ⟨S11700x6, .f32⟩
  | 111 => ⟨S11700x6, .f32⟩
  | 112 => ⟨S_, .i32⟩
  | 113 => ⟨S11700x6, .i32⟩
  | 114 => ⟨S11700x6, .i32⟩
  | 115 => ⟨S_, .i32⟩
  | 116 => ⟨S11700x6, .i32⟩
  | 117 => ⟨S11700x6, .i32⟩
  | 118 => ⟨S_, .i32⟩
  | 119 => ⟨S11700x6, .i32⟩
  | 120 => ⟨S11700x6, .i1⟩
  | 121 => ⟨S_, .i32⟩
  | 122 => ⟨S11700x6, .i32⟩
  | 123 => ⟨S11700x6, .i1⟩
  | 124 => ⟨S11700x6, .i1⟩
  | 125 => ⟨S_, .i32⟩
  | 126 => ⟨S11700x6, .i32⟩
  | 127 => ⟨S11700x6, .i1⟩
  | _ => ⟨S100000x3, .f32⟩

abbrev hbmTy0_10 (i : Nat) : BufTy := match i % 128 with
  | 0 => ⟨S11700x6, .i1⟩
  | 1 => ⟨S_, .i32⟩
  | 2 => ⟨S11700x6, .i32⟩
  | 3 => ⟨S11700x6, .i1⟩
  | 4 => ⟨S11700x6, .i1⟩
  | 5 => ⟨S11700x6, .f32⟩
  | 6 => ⟨S11700x6, .i32⟩
  | 7 => ⟨S_, .i32⟩
  | 8 => ⟨S11700x6, .i32⟩
  | 9 => ⟨S11700x6, .i32⟩
  | 10 => ⟨S11700x6, .i32⟩
  | 11 => ⟨S11700x6, .i32⟩
  | 12 => ⟨S_, .i32⟩
  | 13 => ⟨S_, .i32⟩
  | 14 => ⟨S_, .i32⟩
  | 15 => ⟨S11700x6, .i32⟩
  | 16 => ⟨S11700x6, .i32⟩
  | 17 => ⟨S_, .i32⟩
  | 18 => ⟨S11700x6, .i32⟩
  | 19 => ⟨S11700x6, .i32⟩
  | 20 => ⟨S11700x6x1, .i32⟩
  | 21 => ⟨S1x1x4, .i32⟩
  | 22 => ⟨S11700x6x4, .i32⟩
  | 23 => ⟨S11700x6x4, .i32⟩
  | 24 => ⟨S11700x6x4, .i1⟩
  | 25 => ⟨S11700x6x4, .f32⟩
  | 26 => ⟨S11700x6, .f32⟩
  | 27 => ⟨S11700x6x1, .f32⟩
  | 28 => ⟨S11700x6x4, .f32⟩
  | 29 => ⟨S11700x6x4, .f32⟩
  | 30 => ⟨S11700x6x4, .f32⟩
  | 31 => ⟨S_, .i32⟩
  | 32 => ⟨S11700x6, .i32⟩
  | 33 => ⟨S11700x6, .i32⟩
  | 34 => ⟨S_, .i32⟩
  | 35 => ⟨S11700x6, .i32⟩
  | 36 => ⟨S11700x6, .i32⟩
  | 37 => ⟨S_, .i32⟩
  | 38 => ⟨S11700x6, .i32⟩
  | 39 => ⟨S11700x6, .i1⟩
  | 40 => ⟨S_, .i32⟩
  | 41 => ⟨S11700x6, .i32⟩
  | 42 => ⟨S11700x6, .i1⟩
  | 43 => ⟨S11700x6, .i1⟩
  | 44 => ⟨S_, .i32⟩
  | 45 => ⟨S11700x6, .i32⟩
  | 46 => ⟨S11700x6, .i1⟩
  | 47 => ⟨S11700x6, .i1⟩
  | 48 => ⟨S_, .i32⟩
  | 49 => ⟨S11700x6, .i32⟩
  | 50 => ⟨S11700x6, .i1⟩
  | 51 => ⟨S11700x6, .i1⟩
  | 52 => ⟨S11700x6, .f32⟩
  | 53 => ⟨S11700x6, .i32⟩
  | 54 => ⟨S_, .i32⟩
  | 55 => ⟨S11700x6, .i32⟩
  | 56 => ⟨S11700x6, .i32⟩
  | 57 => ⟨S11700x6, .i32⟩
  | 58 => ⟨S11700x6, .i32⟩
  | 59 => ⟨S_, .i32⟩
  | 60 => ⟨S_, .i32⟩
  | 61 => ⟨S_, .i32⟩
  | 62 => ⟨S11700x6, .i32⟩
  | 63 => ⟨S11700x6, .i32⟩
  | 64 => ⟨S_, .i32⟩
  | 65 => ⟨S11700x6, .i32⟩
  | 66 => ⟨S11700x6, .i32⟩
  | 67 => ⟨S11700x6x1, .i32⟩
  | 68 => ⟨S1x1x4, .i32⟩
  | 69 => ⟨S11700x6x4, .i32⟩
  | 70 => ⟨S11700x6x4, .i32⟩
  | 71 => ⟨S11700x6x4, .i1⟩
  | 72 => ⟨S11700x6x4, .f32⟩
  | 73 => ⟨S11700x6, .f32⟩
  | 74 => ⟨S11700x6x1, .f32⟩
  | 75 => ⟨S11700x6x4, .f32⟩
  | 76 => ⟨S11700x6x4, .f32⟩
  | 77 => ⟨S11700x6x4, .f32⟩
  | 78 => ⟨S_, .i32⟩
  | 79 => ⟨S11700x6, .i32⟩
  | 80 => ⟨S11700x6, .i32⟩
  | 81 => ⟨S_, .i32⟩
  | 82 => ⟨S11700x6, .i32⟩
  | 83 => ⟨S11700x6, .i32⟩
  | 84 => ⟨S_, .i32⟩
  | 85 => ⟨S11700x6, .i32⟩
  | 86 => ⟨S11700x6, .i1⟩
  | 87 => ⟨S_, .i32⟩
  | 88 => ⟨S11700x6, .i32⟩
  | 89 => ⟨S11700x6, .i1⟩
  | 90 => ⟨S11700x6, .i1⟩
  | 91 => ⟨S_, .i32⟩
  | 92 => ⟨S11700x6, .i32⟩
  | 93 => ⟨S11700x6, .i1⟩
  | 94 => ⟨S11700x6, .i1⟩
  | 95 => ⟨S_, .i32⟩
  | 96 => ⟨S11700x6, .i32⟩
  | 97 => ⟨S11700x6, .i1⟩
  | 98 => ⟨S11700x6, .i1⟩
  | 99 => ⟨S11700x6, .f32⟩
  | 100 => ⟨S11700x6, .i32⟩
  | 101 => ⟨S_, .i32⟩
  | 102 => ⟨S11700x6, .i32⟩
  | 103 => ⟨S11700x6, .i32⟩
  | 104 => ⟨S11700x6, .i32⟩
  | 105 => ⟨S11700x6, .i32⟩
  | 106 => ⟨S_, .i32⟩
  | 107 => ⟨S_, .i32⟩
  | 108 => ⟨S_, .i32⟩
  | 109 => ⟨S11700x6, .i32⟩
  | 110 => ⟨S11700x6, .i32⟩
  | 111 => ⟨S_, .i32⟩
  | 112 => ⟨S11700x6, .i32⟩
  | 113 => ⟨S11700x6, .i32⟩
  | 114 => ⟨S11700x6x1, .i32⟩
  | 115 => ⟨S1x1x4, .i32⟩
  | 116 => ⟨S11700x6x4, .i32⟩
  | 117 => ⟨S11700x6x4, .i32⟩
  | 118 => ⟨S11700x6x4, .i1⟩
  | 119 => ⟨S11700x6x4, .f32⟩
  | 120 => ⟨S11700x6, .f32⟩
  | 121 => ⟨S11700x6x1, .f32⟩
  | 122 => ⟨S11700x6x4, .f32⟩
  | 123 => ⟨S11700x6x4, .f32⟩
  | 124 => ⟨S11700x6x4, .f32⟩
  | 125 => ⟨S_, .i32⟩
  | 126 => ⟨S11700x6, .i32⟩
  | 127 => ⟨S11700x6, .i32⟩
  | _ => ⟨S100000x3, .f32⟩

abbrev hbmTy0_11 (i : Nat) : BufTy := match i % 128 with
  | 0 => ⟨S_, .i32⟩
  | 1 => ⟨S11700x6, .i32⟩
  | 2 => ⟨S11700x6, .i32⟩
  | 3 => ⟨S_, .i32⟩
  | 4 => ⟨S11700x6, .i32⟩
  | 5 => ⟨S11700x6, .i1⟩
  | 6 => ⟨S_, .i32⟩
  | 7 => ⟨S11700x6, .i32⟩
  | 8 => ⟨S11700x6, .i1⟩
  | 9 => ⟨S11700x6, .i1⟩
  | 10 => ⟨S_, .i32⟩
  | 11 => ⟨S11700x6, .i32⟩
  | 12 => ⟨S11700x6, .i1⟩
  | 13 => ⟨S11700x6, .i1⟩
  | 14 => ⟨S_, .i32⟩
  | 15 => ⟨S11700x6, .i32⟩
  | 16 => ⟨S11700x6, .i1⟩
  | 17 => ⟨S11700x6, .i1⟩
  | 18 => ⟨S11700x6, .f32⟩
  | 19 => ⟨S11700x6, .i32⟩
  | 20 => ⟨S_, .i32⟩
  | 21 => ⟨S11700x6, .i32⟩
  | 22 => ⟨S11700x6, .i32⟩
  | 23 => ⟨S11700x6, .i32⟩
  | 24 => ⟨S11700x6, .i32⟩
  | 25 => ⟨S_, .i32⟩
  | 26 => ⟨S_, .i32⟩
  | 27 => ⟨S_, .i32⟩
  | 28 => ⟨S11700x6, .i32⟩
  | 29 => ⟨S11700x6, .i32⟩
  | 30 => ⟨S_, .i32⟩
  | 31 => ⟨S11700x6, .i32⟩
  | 32 => ⟨S11700x6, .i32⟩
  | 33 => ⟨S11700x6x1, .i32⟩
  | 34 => ⟨S1x1x4, .i32⟩
  | 35 => ⟨S11700x6x4, .i32⟩
  | 36 => ⟨S11700x6x4, .i32⟩
  | 37 => ⟨S11700x6x4, .i1⟩
  | 38 => ⟨S11700x6x4, .f32⟩
  | 39 => ⟨S11700x6, .f32⟩
  | 40 => ⟨S11700x6x1, .f32⟩
  | 41 => ⟨S11700x6x4, .f32⟩
  | 42 => ⟨S11700x6x4, .f32⟩
  | 43 => ⟨S11700x6x4, .f32⟩
  | 44 => ⟨S11700x6x4x1, .f32⟩
  | 45 => ⟨S11700x6x1x8, .f32⟩
  | 46 => ⟨S11700x6x8, .f32⟩
  | 47 => ⟨S11700x6x1x8, .f32⟩
  | 48 => ⟨S11700x6x4x8, .f32⟩
  | 49 => ⟨S11700x6x4x8, .f32⟩
  | 50 => ⟨S11700x6x4x8, .f32⟩
  | 51 => ⟨S11700x6x1, .i32⟩
  | 52 => ⟨S11700x6x1, .i32⟩
  | 53 => ⟨S11700x6x1, .i32⟩
  | 54 => ⟨S11700x6x1, .i32⟩
  | 55 => ⟨S11700x6x4, .i32⟩
  | 56 => ⟨S11700x6x1x4x8, .f32⟩
  | 57 => ⟨S11700x6x1x4x8, .f32⟩
  | 58 => ⟨S11700x6x1x4x8, .f32⟩
  | 59 => ⟨S11700x6x1x4x8, .f32⟩
  | 60 => ⟨S11700x6x4x4x8, .f32⟩
  | 61 => ⟨S11700x24, .i32⟩
  | 62 => ⟨S11700x24x32, .f32⟩
  | 63 => ⟨S6x256x64x176, .f32⟩
  | 64 => ⟨S6x64x176x256, .f32⟩
  | 65 => ⟨S6x32x2x88x2x256, .f32⟩
  | 66 => ⟨S6x32x88x2x2x256, .f32⟩
  | 67 => ⟨S16896x1024, .f32⟩
  | 68 => ⟨S6x64x174x256, .f32⟩
  | 69 => ⟨S6x32x2x87x2x256, .f32⟩
  | 70 => ⟨S6x32x87x2x2x256, .f32⟩
  | 71 => ⟨S16704x1024, .f32⟩
  | 72 => ⟨S6x62x176x256, .f32⟩
  | 73 => ⟨S6x31x2x88x2x256, .f32⟩
  | 74 => ⟨S6x31x88x2x2x256, .f32⟩
  | 75 => ⟨S16368x1024, .f32⟩
  | 76 => ⟨S6x62x174x256, .f32⟩
  | 77 => ⟨S6x31x2x87x2x256, .f32⟩
  | 78 => ⟨S6x31x87x2x2x256, .f32⟩
  | 79 => ⟨S16182x1024, .f32⟩
  | 80 => ⟨S6x256x32x88, .f32⟩
  | 81 => ⟨S6x32x88x256, .f32⟩
  | 82 => ⟨S6x16x2x44x2x256, .f32⟩
  | 83 => ⟨S6x16x44x2x2x256, .f32⟩
  | 84 => ⟨S4224x1024, .f32⟩
  | 85 => ⟨S6x32x86x256, .f32⟩
  | 86 => ⟨S6x16x2x43x2x256, .f32⟩
  | 87 => ⟨S6x16x43x2x2x256, .f32⟩
  | 88 => ⟨S4128x1024, .f32⟩
  | 89 => ⟨S6x30x88x256, .f32⟩
  | 90 => ⟨S6x15x2x44x2x256, .f32⟩
  | 91 => ⟨S6x15x44x2x2x256, .f32⟩
  | 92 => ⟨S3960x1024, .f32⟩
  | 93 => ⟨S6x30x86x256, .f32⟩
  | 94 => ⟨S6x15x2x43x2x256, .f32⟩
  | 95 => ⟨S6x15x43x2x2x256, .f32⟩
  | 96 => ⟨S3870x1024, .f32⟩
  | 97 => ⟨S6x256x16x44, .f32⟩
  | 98 => ⟨S6x16x44x256, .f32⟩
  | 99 => ⟨S6x8x2x22x2x256, .f32⟩
  | 100 => ⟨S6x8x22x2x2x256, .f32⟩
  | 101 => ⟨S1056x1024, .f32⟩
  | 102 => ⟨S6x16x42x256, .f32⟩
  | 103 => ⟨S6x8x2x21x2x256, .f32⟩
  | 104 => ⟨S6x8x21x2x2x256, .f32⟩
  | 105 => ⟨S1008x1024, .f32⟩
  | 106 => ⟨S6x14x44x256, .f32⟩
  | 107 => ⟨S6x7x2x22x2x256, .f32⟩
  | 108 => ⟨S6x7x22x2x2x256, .f32⟩
  | 109 => ⟨S924x1024, .f32⟩
  | 110 => ⟨S6x14x42x256, .f32⟩
  | 111 => ⟨S6x7x2x21x2x256, .f32⟩
  | 112 => ⟨S6x7x21x2x2x256, .f32⟩
  | 113 => ⟨S882x1024, .f32⟩
  | 114 => ⟨S6x256x8x22, .f32⟩
  | 115 => ⟨S6x8x22x256, .f32⟩
  | 116 => ⟨S6x4x2x11x2x256, .f32⟩
  | 117 => ⟨S6x4x11x2x2x256, .f32⟩
  | 118 => ⟨S264x1024, .f32⟩
  | 119 => ⟨S6x8x20x256, .f32⟩
  | 120 => ⟨S6x4x2x10x2x256, .f32⟩
  | 121 => ⟨S6x4x10x2x2x256, .f32⟩
  | 122 => ⟨S240x1024, .f32⟩
  | 123 => ⟨S6x6x22x256, .f32⟩
  | 124 => ⟨S6x3x2x11x2x256, .f32⟩
  | 125 => ⟨S6x3x11x2x2x256, .f32⟩
  | 126 => ⟨S198x1024, .f32⟩
  | 127 => ⟨S6x6x20x256, .f32⟩
  | _ => ⟨S100000x3, .f32⟩

abbrev hbmTy0_12 (i : Nat) : BufTy := match i % 128 with
  | 0 => ⟨S6x3x2x10x2x256, .f32⟩
  | 1 => ⟨S6x3x10x2x2x256, .f32⟩
  | 2 => ⟨S180x1024, .f32⟩
  | 3 => ⟨S87084x1024, .f32⟩
  | 4 => ⟨S11700x24x1, .i32⟩
  | 5 => ⟨S_, .i32⟩
  | 6 => ⟨S11700x24x1, .i32⟩
  | 7 => ⟨S11700x24x1, .i32⟩
  | 8 => ⟨S4, .i32⟩
  | 9 => ⟨S1x1x4, .i32⟩
  | 10 => ⟨S11700x24x4, .i32⟩
  | 11 => ⟨S11700x24x4, .i32⟩
  | 12 => ⟨S11700x24x4, .i32⟩
  | 13 => ⟨S11700x96, .i32⟩
  | 14 => ⟨S348336x2x128, .f32⟩
  | 15 => ⟨S_, .i32⟩
  | 16 => ⟨S12064x96, .i32⟩
  | 17 => ⟨S_, .i32⟩
  | 18 => ⟨S1, .i32⟩
  | 19 => ⟨S12064x96, .i32⟩
  | 20 => ⟨S_, .f32⟩
  | 21 => ⟨S12064x24x32, .f32⟩
  | 22 => ⟨S_, .i32⟩
  | 23 => ⟨S1, .i32⟩
  | 24 => ⟨S12064x24x32, .f32⟩
  | 25 => ⟨S1158144, .i32⟩
  | 26 => ⟨S9265152, .f32⟩
  | 27 => ⟨S237568, .f32⟩
  | 28 => ⟨S928x256, .f32⟩
  | 29 => ⟨S900x256, .f32⟩
  | 30 => ⟨S900x256, .f32⟩
  | 31 => ⟨S1x256, .f32⟩
  | 32 => ⟨S900x256, .f32⟩
  | 33 => ⟨S900x256, .f32⟩
  | 34 => ⟨S900x256, .f32⟩
  | 35 => ⟨S900x256, .f32⟩
  | 36 => ⟨S1x900x256, .f32⟩
  | _ => ⟨S100000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | _ => ⟨S100000x3, .f32⟩

abbrev bufTy : (tb : Table) → Fin (nBuf tb) → BufTy
  | .hbm, ⟨i, _⟩ => hbmTy i
  | .local .scVector .vmem, ⟨0, _⟩ => ⟨S1248, .i32⟩
  | .local .scVector .vmem, ⟨1, _⟩ => ⟨S10000, .f32⟩
  | .local .scVector .vmem, ⟨2, _⟩ => ⟨S96x2x128, .f32⟩
  | .local .scVector .vmem, ⟨3, _⟩ => ⟨S96x2x128, .f32⟩
  | .local .scVector .vmem, ⟨4, _⟩ => ⟨S256, .f32⟩
  | _, _ => ⟨S100000x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_2 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_cst_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_call1_v0 : Ref sig .tc := ⟨.hbm, 51, rfl⟩
abbrev main_call1_cst : Ref sig .tc := ⟨.hbm, 52, rfl⟩
abbrev main_call1_v1 : Ref sig .tc := ⟨.hbm, 53, rfl⟩
abbrev main_call1_v2 : Ref sig .tc := ⟨.hbm, 54, rfl⟩
abbrev main_v24 : Ref sig .tc := ⟨.hbm, 55, rfl⟩
abbrev main_cst_5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_6 : Ref sig .tc := ⟨.hbm, 72, rfl⟩
abbrev main_v40 : Ref sig .tc := ⟨.hbm, 73, rfl⟩
abbrev main_v41 : Ref sig .tc := ⟨.hbm, 74, rfl⟩
abbrev main_cst_7 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_8 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_9 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_10 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_11 : Ref sig .tc := ⟨.hbm, 99, rfl⟩
abbrev main_v62 : Ref sig .tc := ⟨.hbm, 100, rfl⟩
abbrev main_v63 : Ref sig .tc := ⟨.hbm, 101, rfl⟩
abbrev main_cst_12 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_13 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_14 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_15 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_16 : Ref sig .tc := ⟨.hbm, 126, rfl⟩
abbrev main_v84 : Ref sig .tc := ⟨.hbm, 127, rfl⟩
abbrev main_v85 : Ref sig .tc := ⟨.hbm, 128, rfl⟩
abbrev main_cst_17 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_18 : Ref sig .tc := ⟨.hbm, 162, rfl⟩
abbrev main_v118 : Ref sig .tc := ⟨.hbm, 163, rfl⟩
abbrev main_cst_19 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_20 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_21 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_22 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_cst_23 : Ref sig .tc := ⟨.hbm, 201, rfl⟩
abbrev main_cst_24 : Ref sig .tc := ⟨.hbm, 202, rfl⟩
abbrev main_call2_v0 : Ref sig .tc := ⟨.hbm, 203, rfl⟩
abbrev main_call2_v1 : Ref sig .tc := ⟨.hbm, 204, rfl⟩
abbrev main_call2_v2 : Ref sig .tc := ⟨.hbm, 205, rfl⟩
abbrev main_call2_v3 : Ref sig .tc := ⟨.hbm, 206, rfl⟩
abbrev main_call2_v4 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_cst_25 : Ref sig .tc := ⟨.hbm, 217, rfl⟩
abbrev main_v161 : Ref sig .tc := ⟨.hbm, 218, rfl⟩
abbrev main_v162 : Ref sig .tc := ⟨.hbm, 219, rfl⟩
abbrev main_cst_26 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_cst_27 : Ref sig .tc := ⟨.hbm, 225, rfl⟩
abbrev main_v167 : Ref sig .tc := ⟨.hbm, 226, rfl⟩
abbrev main_v168 : Ref sig .tc := ⟨.hbm, 227, rfl⟩
abbrev main_cst_28 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_c : Ref sig .tc := ⟨.hbm, 237, rfl⟩
abbrev main_c_29 : Ref sig .tc := ⟨.hbm, 238, rfl⟩
abbrev main_call3_v0 : Ref sig .tc := ⟨.hbm, 239, rfl⟩
abbrev main_call3_v1 : Ref sig .tc := ⟨.hbm, 240, rfl⟩
abbrev main_call3_v2 : Ref sig .tc := ⟨.hbm, 241, rfl⟩
abbrev main_call3_v3 : Ref sig .tc := ⟨.hbm, 242, rfl⟩
abbrev main_call3_v4 : Ref sig .tc := ⟨.hbm, 243, rfl⟩
abbrev main_v177 : Ref sig .tc := ⟨.hbm, 244, rfl⟩
abbrev main_c_30 : Ref sig .tc := ⟨.hbm, 245, rfl⟩
abbrev main_c_31 : Ref sig .tc := ⟨.hbm, 246, rfl⟩
abbrev main_call4_v0 : Ref sig .tc := ⟨.hbm, 247, rfl⟩
abbrev main_call4_v1 : Ref sig .tc := ⟨.hbm, 248, rfl⟩
abbrev main_call4_v2 : Ref sig .tc := ⟨.hbm, 249, rfl⟩
abbrev main_call4_v3 : Ref sig .tc := ⟨.hbm, 250, rfl⟩
abbrev main_call4_v4 : Ref sig .tc := ⟨.hbm, 251, rfl⟩
abbrev main_v178 : Ref sig .tc := ⟨.hbm, 252, rfl⟩
abbrev main_c_32 : Ref sig .tc := ⟨.hbm, 253, rfl⟩
abbrev main_v179 : Ref sig .tc := ⟨.hbm, 254, rfl⟩
abbrev main_v180 : Ref sig .tc := ⟨.hbm, 255, rfl⟩
abbrev main_c_33 : Ref sig .tc := ⟨.hbm, 256, rfl⟩
abbrev main_v181 : Ref sig .tc := ⟨.hbm, 257, rfl⟩
abbrev main_v182 : Ref sig .tc := ⟨.hbm, 258, rfl⟩
abbrev main_c_34 : Ref sig .tc := ⟨.hbm, 259, rfl⟩
abbrev main_v183 : Ref sig .tc := ⟨.hbm, 260, rfl⟩
abbrev main_v184 : Ref sig .tc := ⟨.hbm, 261, rfl⟩
abbrev main_c_35 : Ref sig .tc := ⟨.hbm, 262, rfl⟩
abbrev main_v185 : Ref sig .tc := ⟨.hbm, 263, rfl⟩
abbrev main_v186 : Ref sig .tc := ⟨.hbm, 264, rfl⟩
abbrev main_c_36 : Ref sig .tc := ⟨.hbm, 265, rfl⟩
abbrev main_c_37 : Ref sig .tc := ⟨.hbm, 266, rfl⟩
abbrev main_call5_v0 : Ref sig .tc := ⟨.hbm, 267, rfl⟩
abbrev main_call5_v1 : Ref sig .tc := ⟨.hbm, 268, rfl⟩
abbrev main_v187 : Ref sig .tc := ⟨.hbm, 269, rfl⟩
abbrev main_c_38 : Ref sig .tc := ⟨.hbm, 270, rfl⟩
abbrev main_v188 : Ref sig .tc := ⟨.hbm, 271, rfl⟩
abbrev main_v189 : Ref sig .tc := ⟨.hbm, 272, rfl⟩
abbrev main_c_39 : Ref sig .tc := ⟨.hbm, 273, rfl⟩
abbrev main_c_40 : Ref sig .tc := ⟨.hbm, 274, rfl⟩
abbrev main_call6_v0 : Ref sig .tc := ⟨.hbm, 275, rfl⟩
abbrev main_call6_v1 : Ref sig .tc := ⟨.hbm, 276, rfl⟩
abbrev main_v190 : Ref sig .tc := ⟨.hbm, 277, rfl⟩
abbrev main_v191 : Ref sig .tc := ⟨.hbm, 278, rfl⟩
abbrev main_c_41 : Ref sig .tc := ⟨.hbm, 279, rfl⟩
abbrev main_v192 : Ref sig .tc := ⟨.hbm, 280, rfl⟩
abbrev main_v193 : Ref sig .tc := ⟨.hbm, 281, rfl⟩
abbrev main_c_42 : Ref sig .tc := ⟨.hbm, 282, rfl⟩
abbrev main_c_43 : Ref sig .tc := ⟨.hbm, 283, rfl⟩
abbrev main_call8_v0 : Ref sig .tc := ⟨.hbm, 284, rfl⟩
abbrev main_call8_v1 : Ref sig .tc := ⟨.hbm, 285, rfl⟩
abbrev main_v194 : Ref sig .tc := ⟨.hbm, 286, rfl⟩
abbrev main_c_44 : Ref sig .tc := ⟨.hbm, 287, rfl⟩
abbrev main_v195 : Ref sig .tc := ⟨.hbm, 288, rfl⟩
abbrev main_v196 : Ref sig .tc := ⟨.hbm, 289, rfl⟩
abbrev main_c_45 : Ref sig .tc := ⟨.hbm, 290, rfl⟩
abbrev main_c_46 : Ref sig .tc := ⟨.hbm, 291, rfl⟩
abbrev main_call9_v0 : Ref sig .tc := ⟨.hbm, 292, rfl⟩
abbrev main_call9_v1 : Ref sig .tc := ⟨.hbm, 293, rfl⟩
abbrev main_v197 : Ref sig .tc := ⟨.hbm, 294, rfl⟩
abbrev main_v198 : Ref sig .tc := ⟨.hbm, 295, rfl⟩
abbrev main_c_47 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_c_48 : Ref sig .tc := ⟨.hbm, 302, rfl⟩
abbrev main_v204 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_cst_49 : Ref sig .tc := ⟨.hbm, 313, rfl⟩
abbrev main_v214 : Ref sig .tc := ⟨.hbm, 314, rfl⟩
abbrev main_cst_50 : Ref sig .tc := ⟨.hbm, 315, rfl⟩
abbrev main_v215 : Ref sig .tc := ⟨.hbm, 316, rfl⟩
abbrev main_v216 : Ref sig .tc := ⟨.hbm, 317, rfl⟩
abbrev main_cst_51 : Ref sig .tc := ⟨.hbm, 318, rfl⟩
abbrev main_v217 : Ref sig .tc := ⟨.hbm, 319, rfl⟩
abbrev main_v218 : Ref sig .tc := ⟨.hbm, 320, rfl⟩
abbrev main_v219 : Ref sig .tc := ⟨.hbm, 321, rfl⟩
abbrev main_cst_52 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_cst_53 : Ref sig .tc := ⟨.hbm, 326, rfl⟩
abbrev main_v223 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_c_54 : Ref sig .tc := ⟨.hbm, 331, rfl⟩
abbrev main_v227 : Ref sig .tc := ⟨.hbm, 332, rfl⟩
abbrev main_v228 : Ref sig .tc := ⟨.hbm, 333, rfl⟩
abbrev main_c_55 : Ref sig .tc := ⟨.hbm, 334, rfl⟩
abbrev main_v229 : Ref sig .tc := ⟨.hbm, 335, rfl⟩
abbrev main_v230 : Ref sig .tc := ⟨.hbm, 336, rfl⟩
abbrev main_c_56 : Ref sig .tc := ⟨.hbm, 337, rfl⟩
abbrev main_v231 : Ref sig .tc := ⟨.hbm, 338, rfl⟩
abbrev main_v232 : Ref sig .tc := ⟨.hbm, 339, rfl⟩
abbrev main_c_57 : Ref sig .tc := ⟨.hbm, 340, rfl⟩
abbrev main_v233 : Ref sig .tc := ⟨.hbm, 341, rfl⟩
abbrev main_v234 : Ref sig .tc := ⟨.hbm, 342, rfl⟩
abbrev main_v235 : Ref sig .tc := ⟨.hbm, 343, rfl⟩
abbrev main_c_58 : Ref sig .tc := ⟨.hbm, 344, rfl⟩
abbrev main_v236 : Ref sig .tc := ⟨.hbm, 345, rfl⟩
abbrev main_v237 : Ref sig .tc := ⟨.hbm, 346, rfl⟩
abbrev main_v238 : Ref sig .tc := ⟨.hbm, 347, rfl⟩
abbrev main_c_59 : Ref sig .tc := ⟨.hbm, 348, rfl⟩
abbrev main_v239 : Ref sig .tc := ⟨.hbm, 349, rfl⟩
abbrev main_v240 : Ref sig .tc := ⟨.hbm, 350, rfl⟩
abbrev main_v241 : Ref sig .tc := ⟨.hbm, 351, rfl⟩
abbrev main_v242 : Ref sig .tc := ⟨.hbm, 352, rfl⟩
abbrev main_v243 : Ref sig .tc := ⟨.hbm, 353, rfl⟩
abbrev main_c_60 : Ref sig .tc := ⟨.hbm, 354, rfl⟩
abbrev main_v244 : Ref sig .tc := ⟨.hbm, 355, rfl⟩
abbrev main_v245 : Ref sig .tc := ⟨.hbm, 356, rfl⟩
abbrev main_v246 : Ref sig .tc := ⟨.hbm, 357, rfl⟩
abbrev main_v247 : Ref sig .tc := ⟨.hbm, 358, rfl⟩
abbrev main_c_61 : Ref sig .tc := ⟨.hbm, 359, rfl⟩
abbrev main_c_62 : Ref sig .tc := ⟨.hbm, 360, rfl⟩
abbrev main_call10_v0 : Ref sig .tc := ⟨.hbm, 361, rfl⟩
abbrev main_call10_v1 : Ref sig .tc := ⟨.hbm, 362, rfl⟩
abbrev main_call10_v2 : Ref sig .tc := ⟨.hbm, 363, rfl⟩
abbrev main_call10_v3 : Ref sig .tc := ⟨.hbm, 364, rfl⟩
abbrev main_call10_v4 : Ref sig .tc := ⟨.hbm, 365, rfl⟩
abbrev main_v248 : Ref sig .tc := ⟨.hbm, 366, rfl⟩
abbrev main_call11_v0 : Ref sig .tc := ⟨.hbm, 367, rfl⟩
abbrev main_call11_v1 : Ref sig .tc := ⟨.hbm, 368, rfl⟩
abbrev main_call11_v2 : Ref sig .tc := ⟨.hbm, 369, rfl⟩
abbrev main_call11_v3 : Ref sig .tc := ⟨.hbm, 370, rfl⟩
abbrev main_call11_v4 : Ref sig .tc := ⟨.hbm, 371, rfl⟩
abbrev main_v249 : Ref sig .tc := ⟨.hbm, 372, rfl⟩
abbrev main_v250 : Ref sig .tc := ⟨.hbm, 373, rfl⟩
abbrev main_v251 : Ref sig .tc := ⟨.hbm, 374, rfl⟩
abbrev main_v252 : Ref sig .tc := ⟨.hbm, 375, rfl⟩
abbrev main_v253 : Ref sig .tc := ⟨.hbm, 376, rfl⟩
abbrev main_v254 : Ref sig .tc := ⟨.hbm, 377, rfl⟩
abbrev main_c_63 : Ref sig .tc := ⟨.hbm, 378, rfl⟩
abbrev main_v255 : Ref sig .tc := ⟨.hbm, 379, rfl⟩
abbrev main_v256 : Ref sig .tc := ⟨.hbm, 380, rfl⟩
abbrev main_c_64 : Ref sig .tc := ⟨.hbm, 381, rfl⟩
abbrev main_v257 : Ref sig .tc := ⟨.hbm, 382, rfl⟩
abbrev main_v258 : Ref sig .tc := ⟨.hbm, 383, rfl⟩
abbrev main_c_65 : Ref sig .tc := ⟨.hbm, 384, rfl⟩
abbrev main_v259 : Ref sig .tc := ⟨.hbm, 385, rfl⟩
abbrev main_v260 : Ref sig .tc := ⟨.hbm, 386, rfl⟩
abbrev main_c_66 : Ref sig .tc := ⟨.hbm, 387, rfl⟩
abbrev main_v261 : Ref sig .tc := ⟨.hbm, 388, rfl⟩
abbrev main_v262 : Ref sig .tc := ⟨.hbm, 389, rfl⟩
abbrev main_v263 : Ref sig .tc := ⟨.hbm, 390, rfl⟩
abbrev main_c_67 : Ref sig .tc := ⟨.hbm, 391, rfl⟩
abbrev main_v264 : Ref sig .tc := ⟨.hbm, 392, rfl⟩
abbrev main_v265 : Ref sig .tc := ⟨.hbm, 393, rfl⟩
abbrev main_v266 : Ref sig .tc := ⟨.hbm, 394, rfl⟩
abbrev main_c_68 : Ref sig .tc := ⟨.hbm, 395, rfl⟩
abbrev main_v267 : Ref sig .tc := ⟨.hbm, 396, rfl⟩
abbrev main_v268 : Ref sig .tc := ⟨.hbm, 397, rfl⟩
abbrev main_v269 : Ref sig .tc := ⟨.hbm, 398, rfl⟩
abbrev main_v270 : Ref sig .tc := ⟨.hbm, 399, rfl⟩
abbrev main_v271 : Ref sig .tc := ⟨.hbm, 400, rfl⟩
abbrev main_c_69 : Ref sig .tc := ⟨.hbm, 401, rfl⟩
abbrev main_v272 : Ref sig .tc := ⟨.hbm, 402, rfl⟩
abbrev main_v273 : Ref sig .tc := ⟨.hbm, 403, rfl⟩
abbrev main_v274 : Ref sig .tc := ⟨.hbm, 404, rfl⟩
abbrev main_v275 : Ref sig .tc := ⟨.hbm, 405, rfl⟩
abbrev main_c_70 : Ref sig .tc := ⟨.hbm, 406, rfl⟩
abbrev main_c_71 : Ref sig .tc := ⟨.hbm, 407, rfl⟩
abbrev main_call12_v0 : Ref sig .tc := ⟨.hbm, 408, rfl⟩
abbrev main_call12_v1 : Ref sig .tc := ⟨.hbm, 409, rfl⟩
abbrev main_call12_v2 : Ref sig .tc := ⟨.hbm, 410, rfl⟩
abbrev main_call12_v3 : Ref sig .tc := ⟨.hbm, 411, rfl⟩
abbrev main_call12_v4 : Ref sig .tc := ⟨.hbm, 412, rfl⟩
abbrev main_v276 : Ref sig .tc := ⟨.hbm, 413, rfl⟩
abbrev main_call13_v0 : Ref sig .tc := ⟨.hbm, 414, rfl⟩
abbrev main_call13_v1 : Ref sig .tc := ⟨.hbm, 415, rfl⟩
abbrev main_call13_v2 : Ref sig .tc := ⟨.hbm, 416, rfl⟩
abbrev main_call13_v3 : Ref sig .tc := ⟨.hbm, 417, rfl⟩
abbrev main_call13_v4 : Ref sig .tc := ⟨.hbm, 418, rfl⟩
abbrev main_v277 : Ref sig .tc := ⟨.hbm, 419, rfl⟩
abbrev main_v278 : Ref sig .tc := ⟨.hbm, 420, rfl⟩
abbrev main_v279 : Ref sig .tc := ⟨.hbm, 421, rfl⟩
abbrev main_v280 : Ref sig .tc := ⟨.hbm, 422, rfl⟩
abbrev main_v281 : Ref sig .tc := ⟨.hbm, 423, rfl⟩
abbrev main_v282 : Ref sig .tc := ⟨.hbm, 424, rfl⟩
abbrev main_c_72 : Ref sig .tc := ⟨.hbm, 425, rfl⟩
abbrev main_v283 : Ref sig .tc := ⟨.hbm, 426, rfl⟩
abbrev main_v284 : Ref sig .tc := ⟨.hbm, 427, rfl⟩
abbrev main_c_73 : Ref sig .tc := ⟨.hbm, 428, rfl⟩
abbrev main_v285 : Ref sig .tc := ⟨.hbm, 429, rfl⟩
abbrev main_v286 : Ref sig .tc := ⟨.hbm, 430, rfl⟩
abbrev main_c_74 : Ref sig .tc := ⟨.hbm, 431, rfl⟩
abbrev main_v287 : Ref sig .tc := ⟨.hbm, 432, rfl⟩
abbrev main_v288 : Ref sig .tc := ⟨.hbm, 433, rfl⟩
abbrev main_c_75 : Ref sig .tc := ⟨.hbm, 434, rfl⟩
abbrev main_v289 : Ref sig .tc := ⟨.hbm, 435, rfl⟩
abbrev main_v290 : Ref sig .tc := ⟨.hbm, 436, rfl⟩
abbrev main_v291 : Ref sig .tc := ⟨.hbm, 437, rfl⟩
abbrev main_c_76 : Ref sig .tc := ⟨.hbm, 438, rfl⟩
abbrev main_v292 : Ref sig .tc := ⟨.hbm, 439, rfl⟩
abbrev main_v293 : Ref sig .tc := ⟨.hbm, 440, rfl⟩
abbrev main_v294 : Ref sig .tc := ⟨.hbm, 441, rfl⟩
abbrev main_c_77 : Ref sig .tc := ⟨.hbm, 442, rfl⟩
abbrev main_v295 : Ref sig .tc := ⟨.hbm, 443, rfl⟩
abbrev main_v296 : Ref sig .tc := ⟨.hbm, 444, rfl⟩
abbrev main_v297 : Ref sig .tc := ⟨.hbm, 445, rfl⟩
abbrev main_v298 : Ref sig .tc := ⟨.hbm, 446, rfl⟩
abbrev main_v299 : Ref sig .tc := ⟨.hbm, 447, rfl⟩
abbrev main_c_78 : Ref sig .tc := ⟨.hbm, 448, rfl⟩
abbrev main_v300 : Ref sig .tc := ⟨.hbm, 449, rfl⟩
abbrev main_v301 : Ref sig .tc := ⟨.hbm, 450, rfl⟩
abbrev main_v302 : Ref sig .tc := ⟨.hbm, 451, rfl⟩
abbrev main_v303 : Ref sig .tc := ⟨.hbm, 452, rfl⟩
abbrev main_c_79 : Ref sig .tc := ⟨.hbm, 453, rfl⟩
abbrev main_c_80 : Ref sig .tc := ⟨.hbm, 454, rfl⟩
abbrev main_call14_v0 : Ref sig .tc := ⟨.hbm, 455, rfl⟩
abbrev main_call14_v1 : Ref sig .tc := ⟨.hbm, 456, rfl⟩
abbrev main_call14_v2 : Ref sig .tc := ⟨.hbm, 457, rfl⟩
abbrev main_call14_v3 : Ref sig .tc := ⟨.hbm, 458, rfl⟩
abbrev main_call14_v4 : Ref sig .tc := ⟨.hbm, 459, rfl⟩
abbrev main_v304 : Ref sig .tc := ⟨.hbm, 460, rfl⟩
abbrev main_call15_v0 : Ref sig .tc := ⟨.hbm, 461, rfl⟩
abbrev main_call15_v1 : Ref sig .tc := ⟨.hbm, 462, rfl⟩
abbrev main_call15_v2 : Ref sig .tc := ⟨.hbm, 463, rfl⟩
abbrev main_call15_v3 : Ref sig .tc := ⟨.hbm, 464, rfl⟩
abbrev main_call15_v4 : Ref sig .tc := ⟨.hbm, 465, rfl⟩
abbrev main_v305 : Ref sig .tc := ⟨.hbm, 466, rfl⟩
abbrev main_v306 : Ref sig .tc := ⟨.hbm, 467, rfl⟩
abbrev main_v307 : Ref sig .tc := ⟨.hbm, 468, rfl⟩
abbrev main_v308 : Ref sig .tc := ⟨.hbm, 469, rfl⟩
abbrev main_v309 : Ref sig .tc := ⟨.hbm, 470, rfl⟩
abbrev main_v310 : Ref sig .tc := ⟨.hbm, 471, rfl⟩
abbrev main_c_81 : Ref sig .tc := ⟨.hbm, 472, rfl⟩
abbrev main_v311 : Ref sig .tc := ⟨.hbm, 473, rfl⟩
abbrev main_v312 : Ref sig .tc := ⟨.hbm, 474, rfl⟩
abbrev main_c_82 : Ref sig .tc := ⟨.hbm, 475, rfl⟩
abbrev main_v313 : Ref sig .tc := ⟨.hbm, 476, rfl⟩
abbrev main_v314 : Ref sig .tc := ⟨.hbm, 477, rfl⟩
abbrev main_c_83 : Ref sig .tc := ⟨.hbm, 478, rfl⟩
abbrev main_v315 : Ref sig .tc := ⟨.hbm, 479, rfl⟩
abbrev main_v316 : Ref sig .tc := ⟨.hbm, 480, rfl⟩
abbrev main_c_84 : Ref sig .tc := ⟨.hbm, 481, rfl⟩
abbrev main_v317 : Ref sig .tc := ⟨.hbm, 482, rfl⟩
abbrev main_v318 : Ref sig .tc := ⟨.hbm, 483, rfl⟩
abbrev main_v319 : Ref sig .tc := ⟨.hbm, 484, rfl⟩
abbrev main_c_85 : Ref sig .tc := ⟨.hbm, 485, rfl⟩
abbrev main_v320 : Ref sig .tc := ⟨.hbm, 486, rfl⟩
abbrev main_v321 : Ref sig .tc := ⟨.hbm, 487, rfl⟩
abbrev main_v322 : Ref sig .tc := ⟨.hbm, 488, rfl⟩
abbrev main_c_86 : Ref sig .tc := ⟨.hbm, 489, rfl⟩
abbrev main_v323 : Ref sig .tc := ⟨.hbm, 490, rfl⟩
abbrev main_v324 : Ref sig .tc := ⟨.hbm, 491, rfl⟩
abbrev main_v325 : Ref sig .tc := ⟨.hbm, 492, rfl⟩
abbrev main_v326 : Ref sig .tc := ⟨.hbm, 493, rfl⟩
abbrev main_v327 : Ref sig .tc := ⟨.hbm, 494, rfl⟩
abbrev main_c_87 : Ref sig .tc := ⟨.hbm, 495, rfl⟩
abbrev main_v328 : Ref sig .tc := ⟨.hbm, 496, rfl⟩
abbrev main_v329 : Ref sig .tc := ⟨.hbm, 497, rfl⟩
abbrev main_v330 : Ref sig .tc := ⟨.hbm, 498, rfl⟩
abbrev main_v331 : Ref sig .tc := ⟨.hbm, 499, rfl⟩
abbrev main_c_88 : Ref sig .tc := ⟨.hbm, 500, rfl⟩
abbrev main_c_89 : Ref sig .tc := ⟨.hbm, 501, rfl⟩
abbrev main_call16_v0 : Ref sig .tc := ⟨.hbm, 502, rfl⟩
abbrev main_call16_v1 : Ref sig .tc := ⟨.hbm, 503, rfl⟩
abbrev main_call16_v2 : Ref sig .tc := ⟨.hbm, 504, rfl⟩
abbrev main_call16_v3 : Ref sig .tc := ⟨.hbm, 505, rfl⟩
abbrev main_call16_v4 : Ref sig .tc := ⟨.hbm, 506, rfl⟩
abbrev main_v332 : Ref sig .tc := ⟨.hbm, 507, rfl⟩
abbrev main_call17_v0 : Ref sig .tc := ⟨.hbm, 508, rfl⟩
abbrev main_call17_v1 : Ref sig .tc := ⟨.hbm, 509, rfl⟩
abbrev main_call17_v2 : Ref sig .tc := ⟨.hbm, 510, rfl⟩
abbrev main_call17_v3 : Ref sig .tc := ⟨.hbm, 511, rfl⟩
abbrev main_call17_v4 : Ref sig .tc := ⟨.hbm, 512, rfl⟩
abbrev main_v333 : Ref sig .tc := ⟨.hbm, 513, rfl⟩
abbrev main_v334 : Ref sig .tc := ⟨.hbm, 514, rfl⟩
abbrev main_v335 : Ref sig .tc := ⟨.hbm, 515, rfl⟩
abbrev main_v336 : Ref sig .tc := ⟨.hbm, 516, rfl⟩
abbrev main_v337 : Ref sig .tc := ⟨.hbm, 517, rfl⟩
abbrev main_v338 : Ref sig .tc := ⟨.hbm, 518, rfl⟩
abbrev main_v339 : Ref sig .tc := ⟨.hbm, 519, rfl⟩
abbrev main_v340 : Ref sig .tc := ⟨.hbm, 520, rfl⟩
abbrev main_v341 : Ref sig .tc := ⟨.hbm, 521, rfl⟩
abbrev main_v342 : Ref sig .tc := ⟨.hbm, 522, rfl⟩
abbrev main_v343 : Ref sig .tc := ⟨.hbm, 523, rfl⟩
abbrev main_v344 : Ref sig .tc := ⟨.hbm, 524, rfl⟩
abbrev main_v345 : Ref sig .tc := ⟨.hbm, 525, rfl⟩
abbrev main_v346 : Ref sig .tc := ⟨.hbm, 526, rfl⟩
abbrev main_v347 : Ref sig .tc := ⟨.hbm, 527, rfl⟩
abbrev main_cst_90 : Ref sig .tc := ⟨.hbm, 528, rfl⟩
abbrev main_v348 : Ref sig .tc := ⟨.hbm, 529, rfl⟩
abbrev main_v349 : Ref sig .tc := ⟨.hbm, 530, rfl⟩
abbrev main_cst_91 : Ref sig .tc := ⟨.hbm, 531, rfl⟩
abbrev main_v350 : Ref sig .tc := ⟨.hbm, 532, rfl⟩
abbrev main_v351 : Ref sig .tc := ⟨.hbm, 533, rfl⟩
abbrev main_v352 : Ref sig .tc := ⟨.hbm, 534, rfl⟩
abbrev main_v353 : Ref sig .tc := ⟨.hbm, 535, rfl⟩
abbrev main_cst_92 : Ref sig .tc := ⟨.hbm, 536, rfl⟩
abbrev main_v354 : Ref sig .tc := ⟨.hbm, 537, rfl⟩
abbrev main_v355 : Ref sig .tc := ⟨.hbm, 538, rfl⟩
abbrev main_cst_93 : Ref sig .tc := ⟨.hbm, 539, rfl⟩
abbrev main_v356 : Ref sig .tc := ⟨.hbm, 540, rfl⟩
abbrev main_v357 : Ref sig .tc := ⟨.hbm, 541, rfl⟩
abbrev main_v358 : Ref sig .tc := ⟨.hbm, 542, rfl⟩
abbrev main_v359 : Ref sig .tc := ⟨.hbm, 543, rfl⟩
abbrev main_v360 : Ref sig .tc := ⟨.hbm, 544, rfl⟩
abbrev main_v361 : Ref sig .tc := ⟨.hbm, 545, rfl⟩
abbrev main_v362 : Ref sig .tc := ⟨.hbm, 546, rfl⟩
abbrev main_v363 : Ref sig .tc := ⟨.hbm, 547, rfl⟩
abbrev main_c_94 : Ref sig .tc := ⟨.hbm, 548, rfl⟩
abbrev main_c_95 : Ref sig .tc := ⟨.hbm, 549, rfl⟩
abbrev main_call18_v0 : Ref sig .tc := ⟨.hbm, 550, rfl⟩
abbrev main_call18_v1 : Ref sig .tc := ⟨.hbm, 551, rfl⟩
abbrev main_call18_v2 : Ref sig .tc := ⟨.hbm, 552, rfl⟩
abbrev main_call18_v3 : Ref sig .tc := ⟨.hbm, 553, rfl⟩
abbrev main_call18_v4 : Ref sig .tc := ⟨.hbm, 554, rfl⟩
abbrev main_v364 : Ref sig .tc := ⟨.hbm, 555, rfl⟩
abbrev main_c_96 : Ref sig .tc := ⟨.hbm, 556, rfl⟩
abbrev main_c_97 : Ref sig .tc := ⟨.hbm, 557, rfl⟩
abbrev main_call19_v0 : Ref sig .tc := ⟨.hbm, 558, rfl⟩
abbrev main_call19_v1 : Ref sig .tc := ⟨.hbm, 559, rfl⟩
abbrev main_call19_v2 : Ref sig .tc := ⟨.hbm, 560, rfl⟩
abbrev main_call19_v3 : Ref sig .tc := ⟨.hbm, 561, rfl⟩
abbrev main_call19_v4 : Ref sig .tc := ⟨.hbm, 562, rfl⟩
abbrev main_v365 : Ref sig .tc := ⟨.hbm, 563, rfl⟩
abbrev main_c_98 : Ref sig .tc := ⟨.hbm, 564, rfl⟩
abbrev main_v366 : Ref sig .tc := ⟨.hbm, 565, rfl⟩
abbrev main_v367 : Ref sig .tc := ⟨.hbm, 566, rfl⟩
abbrev main_c_99 : Ref sig .tc := ⟨.hbm, 567, rfl⟩
abbrev main_v368 : Ref sig .tc := ⟨.hbm, 568, rfl⟩
abbrev main_v369 : Ref sig .tc := ⟨.hbm, 569, rfl⟩
abbrev main_c_100 : Ref sig .tc := ⟨.hbm, 570, rfl⟩
abbrev main_v370 : Ref sig .tc := ⟨.hbm, 571, rfl⟩
abbrev main_v371 : Ref sig .tc := ⟨.hbm, 572, rfl⟩
abbrev main_c_101 : Ref sig .tc := ⟨.hbm, 573, rfl⟩
abbrev main_v372 : Ref sig .tc := ⟨.hbm, 574, rfl⟩
abbrev main_v373 : Ref sig .tc := ⟨.hbm, 575, rfl⟩
abbrev main_c_102 : Ref sig .tc := ⟨.hbm, 576, rfl⟩
abbrev main_c_103 : Ref sig .tc := ⟨.hbm, 577, rfl⟩
abbrev main_call20_v0 : Ref sig .tc := ⟨.hbm, 578, rfl⟩
abbrev main_call20_v1 : Ref sig .tc := ⟨.hbm, 579, rfl⟩
abbrev main_v374 : Ref sig .tc := ⟨.hbm, 580, rfl⟩
abbrev main_c_104 : Ref sig .tc := ⟨.hbm, 581, rfl⟩
abbrev main_v375 : Ref sig .tc := ⟨.hbm, 582, rfl⟩
abbrev main_v376 : Ref sig .tc := ⟨.hbm, 583, rfl⟩
abbrev main_c_105 : Ref sig .tc := ⟨.hbm, 584, rfl⟩
abbrev main_c_106 : Ref sig .tc := ⟨.hbm, 585, rfl⟩
abbrev main_call21_v0 : Ref sig .tc := ⟨.hbm, 586, rfl⟩
abbrev main_call21_v1 : Ref sig .tc := ⟨.hbm, 587, rfl⟩
abbrev main_v377 : Ref sig .tc := ⟨.hbm, 588, rfl⟩
abbrev main_v378 : Ref sig .tc := ⟨.hbm, 589, rfl⟩
abbrev main_c_107 : Ref sig .tc := ⟨.hbm, 590, rfl⟩
abbrev main_v379 : Ref sig .tc := ⟨.hbm, 591, rfl⟩
abbrev main_v380 : Ref sig .tc := ⟨.hbm, 592, rfl⟩
abbrev main_c_108 : Ref sig .tc := ⟨.hbm, 593, rfl⟩
abbrev main_c_109 : Ref sig .tc := ⟨.hbm, 594, rfl⟩
abbrev main_call23_v0 : Ref sig .tc := ⟨.hbm, 595, rfl⟩
abbrev main_call23_v1 : Ref sig .tc := ⟨.hbm, 596, rfl⟩
abbrev main_v381 : Ref sig .tc := ⟨.hbm, 597, rfl⟩
abbrev main_c_110 : Ref sig .tc := ⟨.hbm, 598, rfl⟩
abbrev main_v382 : Ref sig .tc := ⟨.hbm, 599, rfl⟩
abbrev main_v383 : Ref sig .tc := ⟨.hbm, 600, rfl⟩
abbrev main_c_111 : Ref sig .tc := ⟨.hbm, 601, rfl⟩
abbrev main_c_112 : Ref sig .tc := ⟨.hbm, 602, rfl⟩
abbrev main_call24_v0 : Ref sig .tc := ⟨.hbm, 603, rfl⟩
abbrev main_call24_v1 : Ref sig .tc := ⟨.hbm, 604, rfl⟩
abbrev main_v384 : Ref sig .tc := ⟨.hbm, 605, rfl⟩
abbrev main_v385 : Ref sig .tc := ⟨.hbm, 606, rfl⟩
abbrev main_c_113 : Ref sig .tc := ⟨.hbm, 607, rfl⟩
abbrev main_v386 : Ref sig .tc := ⟨.hbm, 608, rfl⟩
abbrev main_v387 : Ref sig .tc := ⟨.hbm, 609, rfl⟩
abbrev main_v388 : Ref sig .tc := ⟨.hbm, 610, rfl⟩
abbrev main_v389 : Ref sig .tc := ⟨.hbm, 611, rfl⟩
abbrev main_v390 : Ref sig .tc := ⟨.hbm, 612, rfl⟩
abbrev main_c_114 : Ref sig .tc := ⟨.hbm, 613, rfl⟩
abbrev main_v391 : Ref sig .tc := ⟨.hbm, 614, rfl⟩
abbrev main_v392 : Ref sig .tc := ⟨.hbm, 615, rfl⟩
abbrev main_v393 : Ref sig .tc := ⟨.hbm, 616, rfl⟩
abbrev main_v394 : Ref sig .tc := ⟨.hbm, 617, rfl⟩
abbrev main_v395 : Ref sig .tc := ⟨.hbm, 618, rfl⟩
abbrev main_v396 : Ref sig .tc := ⟨.hbm, 619, rfl⟩
abbrev main_v397 : Ref sig .tc := ⟨.hbm, 620, rfl⟩
abbrev main_v398 : Ref sig .tc := ⟨.hbm, 621, rfl⟩
abbrev main_v399 : Ref sig .tc := ⟨.hbm, 622, rfl⟩
abbrev main_v400 : Ref sig .tc := ⟨.hbm, 623, rfl⟩
abbrev main_cst_115 : Ref sig .tc := ⟨.hbm, 624, rfl⟩
abbrev main_v401 : Ref sig .tc := ⟨.hbm, 625, rfl⟩
abbrev main_cst_116 : Ref sig .tc := ⟨.hbm, 626, rfl⟩
abbrev main_v402 : Ref sig .tc := ⟨.hbm, 627, rfl⟩
abbrev main_v403 : Ref sig .tc := ⟨.hbm, 628, rfl⟩
abbrev main_cst_117 : Ref sig .tc := ⟨.hbm, 629, rfl⟩
abbrev main_v404 : Ref sig .tc := ⟨.hbm, 630, rfl⟩
abbrev main_v405 : Ref sig .tc := ⟨.hbm, 631, rfl⟩
abbrev main_v406 : Ref sig .tc := ⟨.hbm, 632, rfl⟩
abbrev main_cst_118 : Ref sig .tc := ⟨.hbm, 633, rfl⟩
abbrev main_v407 : Ref sig .tc := ⟨.hbm, 634, rfl⟩
abbrev main_v408 : Ref sig .tc := ⟨.hbm, 635, rfl⟩
abbrev main_v409 : Ref sig .tc := ⟨.hbm, 636, rfl⟩
abbrev main_cst_119 : Ref sig .tc := ⟨.hbm, 637, rfl⟩
abbrev main_v410 : Ref sig .tc := ⟨.hbm, 638, rfl⟩
abbrev main_v411 : Ref sig .tc := ⟨.hbm, 639, rfl⟩
abbrev main_v412 : Ref sig .tc := ⟨.hbm, 640, rfl⟩
abbrev main_v413 : Ref sig .tc := ⟨.hbm, 641, rfl⟩
abbrev main_c_120 : Ref sig .tc := ⟨.hbm, 642, rfl⟩
abbrev main_v414 : Ref sig .tc := ⟨.hbm, 643, rfl⟩
abbrev main_v415 : Ref sig .tc := ⟨.hbm, 644, rfl⟩
abbrev main_c_121 : Ref sig .tc := ⟨.hbm, 645, rfl⟩
abbrev main_v416 : Ref sig .tc := ⟨.hbm, 646, rfl⟩
abbrev main_v417 : Ref sig .tc := ⟨.hbm, 647, rfl⟩
abbrev main_c_122 : Ref sig .tc := ⟨.hbm, 648, rfl⟩
abbrev main_v418 : Ref sig .tc := ⟨.hbm, 649, rfl⟩
abbrev main_v419 : Ref sig .tc := ⟨.hbm, 650, rfl⟩
abbrev main_c_123 : Ref sig .tc := ⟨.hbm, 651, rfl⟩
abbrev main_v420 : Ref sig .tc := ⟨.hbm, 652, rfl⟩
abbrev main_v421 : Ref sig .tc := ⟨.hbm, 653, rfl⟩
abbrev main_v422 : Ref sig .tc := ⟨.hbm, 654, rfl⟩
abbrev main_c_124 : Ref sig .tc := ⟨.hbm, 655, rfl⟩
abbrev main_v423 : Ref sig .tc := ⟨.hbm, 656, rfl⟩
abbrev main_v424 : Ref sig .tc := ⟨.hbm, 657, rfl⟩
abbrev main_v425 : Ref sig .tc := ⟨.hbm, 658, rfl⟩
abbrev main_c_125 : Ref sig .tc := ⟨.hbm, 659, rfl⟩
abbrev main_v426 : Ref sig .tc := ⟨.hbm, 660, rfl⟩
abbrev main_v427 : Ref sig .tc := ⟨.hbm, 661, rfl⟩
abbrev main_v428 : Ref sig .tc := ⟨.hbm, 662, rfl⟩
abbrev main_v429 : Ref sig .tc := ⟨.hbm, 663, rfl⟩
abbrev main_v430 : Ref sig .tc := ⟨.hbm, 664, rfl⟩
abbrev main_c_126 : Ref sig .tc := ⟨.hbm, 665, rfl⟩
abbrev main_v431 : Ref sig .tc := ⟨.hbm, 666, rfl⟩
abbrev main_v432 : Ref sig .tc := ⟨.hbm, 667, rfl⟩
abbrev main_v433 : Ref sig .tc := ⟨.hbm, 668, rfl⟩
abbrev main_v434 : Ref sig .tc := ⟨.hbm, 669, rfl⟩
abbrev main_c_127 : Ref sig .tc := ⟨.hbm, 670, rfl⟩
abbrev main_c_128 : Ref sig .tc := ⟨.hbm, 671, rfl⟩
abbrev main_call25_v0 : Ref sig .tc := ⟨.hbm, 672, rfl⟩
abbrev main_call25_v1 : Ref sig .tc := ⟨.hbm, 673, rfl⟩
abbrev main_call25_v2 : Ref sig .tc := ⟨.hbm, 674, rfl⟩
abbrev main_call25_v3 : Ref sig .tc := ⟨.hbm, 675, rfl⟩
abbrev main_call25_v4 : Ref sig .tc := ⟨.hbm, 676, rfl⟩
abbrev main_v435 : Ref sig .tc := ⟨.hbm, 677, rfl⟩
abbrev main_call26_v0 : Ref sig .tc := ⟨.hbm, 678, rfl⟩
abbrev main_call26_v1 : Ref sig .tc := ⟨.hbm, 679, rfl⟩
abbrev main_call26_v2 : Ref sig .tc := ⟨.hbm, 680, rfl⟩
abbrev main_call26_v3 : Ref sig .tc := ⟨.hbm, 681, rfl⟩
abbrev main_call26_v4 : Ref sig .tc := ⟨.hbm, 682, rfl⟩
abbrev main_v436 : Ref sig .tc := ⟨.hbm, 683, rfl⟩
abbrev main_v437 : Ref sig .tc := ⟨.hbm, 684, rfl⟩
abbrev main_v438 : Ref sig .tc := ⟨.hbm, 685, rfl⟩
abbrev main_v439 : Ref sig .tc := ⟨.hbm, 686, rfl⟩
abbrev main_v440 : Ref sig .tc := ⟨.hbm, 687, rfl⟩
abbrev main_v441 : Ref sig .tc := ⟨.hbm, 688, rfl⟩
abbrev main_c_129 : Ref sig .tc := ⟨.hbm, 689, rfl⟩
abbrev main_v442 : Ref sig .tc := ⟨.hbm, 690, rfl⟩
abbrev main_v443 : Ref sig .tc := ⟨.hbm, 691, rfl⟩
abbrev main_c_130 : Ref sig .tc := ⟨.hbm, 692, rfl⟩
abbrev main_v444 : Ref sig .tc := ⟨.hbm, 693, rfl⟩
abbrev main_v445 : Ref sig .tc := ⟨.hbm, 694, rfl⟩
abbrev main_c_131 : Ref sig .tc := ⟨.hbm, 695, rfl⟩
abbrev main_v446 : Ref sig .tc := ⟨.hbm, 696, rfl⟩
abbrev main_v447 : Ref sig .tc := ⟨.hbm, 697, rfl⟩
abbrev main_c_132 : Ref sig .tc := ⟨.hbm, 698, rfl⟩
abbrev main_v448 : Ref sig .tc := ⟨.hbm, 699, rfl⟩
abbrev main_v449 : Ref sig .tc := ⟨.hbm, 700, rfl⟩
abbrev main_v450 : Ref sig .tc := ⟨.hbm, 701, rfl⟩
abbrev main_c_133 : Ref sig .tc := ⟨.hbm, 702, rfl⟩
abbrev main_v451 : Ref sig .tc := ⟨.hbm, 703, rfl⟩
abbrev main_v452 : Ref sig .tc := ⟨.hbm, 704, rfl⟩
abbrev main_v453 : Ref sig .tc := ⟨.hbm, 705, rfl⟩
abbrev main_c_134 : Ref sig .tc := ⟨.hbm, 706, rfl⟩
abbrev main_v454 : Ref sig .tc := ⟨.hbm, 707, rfl⟩
abbrev main_v455 : Ref sig .tc := ⟨.hbm, 708, rfl⟩
abbrev main_v456 : Ref sig .tc := ⟨.hbm, 709, rfl⟩
abbrev main_v457 : Ref sig .tc := ⟨.hbm, 710, rfl⟩
abbrev main_v458 : Ref sig .tc := ⟨.hbm, 711, rfl⟩
abbrev main_c_135 : Ref sig .tc := ⟨.hbm, 712, rfl⟩
abbrev main_v459 : Ref sig .tc := ⟨.hbm, 713, rfl⟩
abbrev main_v460 : Ref sig .tc := ⟨.hbm, 714, rfl⟩
abbrev main_v461 : Ref sig .tc := ⟨.hbm, 715, rfl⟩
abbrev main_v462 : Ref sig .tc := ⟨.hbm, 716, rfl⟩
abbrev main_c_136 : Ref sig .tc := ⟨.hbm, 717, rfl⟩
abbrev main_c_137 : Ref sig .tc := ⟨.hbm, 718, rfl⟩
abbrev main_call27_v0 : Ref sig .tc := ⟨.hbm, 719, rfl⟩
abbrev main_call27_v1 : Ref sig .tc := ⟨.hbm, 720, rfl⟩
abbrev main_call27_v2 : Ref sig .tc := ⟨.hbm, 721, rfl⟩
abbrev main_call27_v3 : Ref sig .tc := ⟨.hbm, 722, rfl⟩
abbrev main_call27_v4 : Ref sig .tc := ⟨.hbm, 723, rfl⟩
abbrev main_v463 : Ref sig .tc := ⟨.hbm, 724, rfl⟩
abbrev main_call28_v0 : Ref sig .tc := ⟨.hbm, 725, rfl⟩
abbrev main_call28_v1 : Ref sig .tc := ⟨.hbm, 726, rfl⟩
abbrev main_call28_v2 : Ref sig .tc := ⟨.hbm, 727, rfl⟩
abbrev main_call28_v3 : Ref sig .tc := ⟨.hbm, 728, rfl⟩
abbrev main_call28_v4 : Ref sig .tc := ⟨.hbm, 729, rfl⟩
abbrev main_v464 : Ref sig .tc := ⟨.hbm, 730, rfl⟩
abbrev main_v465 : Ref sig .tc := ⟨.hbm, 731, rfl⟩
abbrev main_v466 : Ref sig .tc := ⟨.hbm, 732, rfl⟩
abbrev main_v467 : Ref sig .tc := ⟨.hbm, 733, rfl⟩
abbrev main_v468 : Ref sig .tc := ⟨.hbm, 734, rfl⟩
abbrev main_v469 : Ref sig .tc := ⟨.hbm, 735, rfl⟩
abbrev main_c_138 : Ref sig .tc := ⟨.hbm, 736, rfl⟩
abbrev main_v470 : Ref sig .tc := ⟨.hbm, 737, rfl⟩
abbrev main_v471 : Ref sig .tc := ⟨.hbm, 738, rfl⟩
abbrev main_c_139 : Ref sig .tc := ⟨.hbm, 739, rfl⟩
abbrev main_v472 : Ref sig .tc := ⟨.hbm, 740, rfl⟩
abbrev main_v473 : Ref sig .tc := ⟨.hbm, 741, rfl⟩
abbrev main_c_140 : Ref sig .tc := ⟨.hbm, 742, rfl⟩
abbrev main_v474 : Ref sig .tc := ⟨.hbm, 743, rfl⟩
abbrev main_v475 : Ref sig .tc := ⟨.hbm, 744, rfl⟩
abbrev main_c_141 : Ref sig .tc := ⟨.hbm, 745, rfl⟩
abbrev main_v476 : Ref sig .tc := ⟨.hbm, 746, rfl⟩
abbrev main_v477 : Ref sig .tc := ⟨.hbm, 747, rfl⟩
abbrev main_v478 : Ref sig .tc := ⟨.hbm, 748, rfl⟩
abbrev main_c_142 : Ref sig .tc := ⟨.hbm, 749, rfl⟩
abbrev main_v479 : Ref sig .tc := ⟨.hbm, 750, rfl⟩
abbrev main_v480 : Ref sig .tc := ⟨.hbm, 751, rfl⟩
abbrev main_v481 : Ref sig .tc := ⟨.hbm, 752, rfl⟩
abbrev main_c_143 : Ref sig .tc := ⟨.hbm, 753, rfl⟩
abbrev main_v482 : Ref sig .tc := ⟨.hbm, 754, rfl⟩
abbrev main_v483 : Ref sig .tc := ⟨.hbm, 755, rfl⟩
abbrev main_v484 : Ref sig .tc := ⟨.hbm, 756, rfl⟩
abbrev main_v485 : Ref sig .tc := ⟨.hbm, 757, rfl⟩
abbrev main_v486 : Ref sig .tc := ⟨.hbm, 758, rfl⟩
abbrev main_c_144 : Ref sig .tc := ⟨.hbm, 759, rfl⟩
abbrev main_v487 : Ref sig .tc := ⟨.hbm, 760, rfl⟩
abbrev main_v488 : Ref sig .tc := ⟨.hbm, 761, rfl⟩
abbrev main_v489 : Ref sig .tc := ⟨.hbm, 762, rfl⟩
abbrev main_v490 : Ref sig .tc := ⟨.hbm, 763, rfl⟩
abbrev main_c_145 : Ref sig .tc := ⟨.hbm, 764, rfl⟩
abbrev main_c_146 : Ref sig .tc := ⟨.hbm, 765, rfl⟩
abbrev main_call29_v0 : Ref sig .tc := ⟨.hbm, 766, rfl⟩
abbrev main_call29_v1 : Ref sig .tc := ⟨.hbm, 767, rfl⟩
abbrev main_call29_v2 : Ref sig .tc := ⟨.hbm, 768, rfl⟩
abbrev main_call29_v3 : Ref sig .tc := ⟨.hbm, 769, rfl⟩
abbrev main_call29_v4 : Ref sig .tc := ⟨.hbm, 770, rfl⟩
abbrev main_v491 : Ref sig .tc := ⟨.hbm, 771, rfl⟩
abbrev main_call30_v0 : Ref sig .tc := ⟨.hbm, 772, rfl⟩
abbrev main_call30_v1 : Ref sig .tc := ⟨.hbm, 773, rfl⟩
abbrev main_call30_v2 : Ref sig .tc := ⟨.hbm, 774, rfl⟩
abbrev main_call30_v3 : Ref sig .tc := ⟨.hbm, 775, rfl⟩
abbrev main_call30_v4 : Ref sig .tc := ⟨.hbm, 776, rfl⟩
abbrev main_v492 : Ref sig .tc := ⟨.hbm, 777, rfl⟩
abbrev main_v493 : Ref sig .tc := ⟨.hbm, 778, rfl⟩
abbrev main_v494 : Ref sig .tc := ⟨.hbm, 779, rfl⟩
abbrev main_v495 : Ref sig .tc := ⟨.hbm, 780, rfl⟩
abbrev main_v496 : Ref sig .tc := ⟨.hbm, 781, rfl⟩
abbrev main_v497 : Ref sig .tc := ⟨.hbm, 782, rfl⟩
abbrev main_c_147 : Ref sig .tc := ⟨.hbm, 783, rfl⟩
abbrev main_v498 : Ref sig .tc := ⟨.hbm, 784, rfl⟩
abbrev main_v499 : Ref sig .tc := ⟨.hbm, 785, rfl⟩
abbrev main_c_148 : Ref sig .tc := ⟨.hbm, 786, rfl⟩
abbrev main_v500 : Ref sig .tc := ⟨.hbm, 787, rfl⟩
abbrev main_v501 : Ref sig .tc := ⟨.hbm, 788, rfl⟩
abbrev main_c_149 : Ref sig .tc := ⟨.hbm, 789, rfl⟩
abbrev main_v502 : Ref sig .tc := ⟨.hbm, 790, rfl⟩
abbrev main_v503 : Ref sig .tc := ⟨.hbm, 791, rfl⟩
abbrev main_c_150 : Ref sig .tc := ⟨.hbm, 792, rfl⟩
abbrev main_v504 : Ref sig .tc := ⟨.hbm, 793, rfl⟩
abbrev main_v505 : Ref sig .tc := ⟨.hbm, 794, rfl⟩
abbrev main_v506 : Ref sig .tc := ⟨.hbm, 795, rfl⟩
abbrev main_c_151 : Ref sig .tc := ⟨.hbm, 796, rfl⟩
abbrev main_v507 : Ref sig .tc := ⟨.hbm, 797, rfl⟩
abbrev main_v508 : Ref sig .tc := ⟨.hbm, 798, rfl⟩
abbrev main_v509 : Ref sig .tc := ⟨.hbm, 799, rfl⟩
abbrev main_c_152 : Ref sig .tc := ⟨.hbm, 800, rfl⟩
abbrev main_v510 : Ref sig .tc := ⟨.hbm, 801, rfl⟩
abbrev main_v511 : Ref sig .tc := ⟨.hbm, 802, rfl⟩
abbrev main_v512 : Ref sig .tc := ⟨.hbm, 803, rfl⟩
abbrev main_v513 : Ref sig .tc := ⟨.hbm, 804, rfl⟩
abbrev main_v514 : Ref sig .tc := ⟨.hbm, 805, rfl⟩
abbrev main_c_153 : Ref sig .tc := ⟨.hbm, 806, rfl⟩
abbrev main_v515 : Ref sig .tc := ⟨.hbm, 807, rfl⟩
abbrev main_v516 : Ref sig .tc := ⟨.hbm, 808, rfl⟩
abbrev main_v517 : Ref sig .tc := ⟨.hbm, 809, rfl⟩
abbrev main_v518 : Ref sig .tc := ⟨.hbm, 810, rfl⟩
abbrev main_c_154 : Ref sig .tc := ⟨.hbm, 811, rfl⟩
abbrev main_c_155 : Ref sig .tc := ⟨.hbm, 812, rfl⟩
abbrev main_call31_v0 : Ref sig .tc := ⟨.hbm, 813, rfl⟩
abbrev main_call31_v1 : Ref sig .tc := ⟨.hbm, 814, rfl⟩
abbrev main_call31_v2 : Ref sig .tc := ⟨.hbm, 815, rfl⟩
abbrev main_call31_v3 : Ref sig .tc := ⟨.hbm, 816, rfl⟩
abbrev main_call31_v4 : Ref sig .tc := ⟨.hbm, 817, rfl⟩
abbrev main_v519 : Ref sig .tc := ⟨.hbm, 818, rfl⟩
abbrev main_call32_v0 : Ref sig .tc := ⟨.hbm, 819, rfl⟩
abbrev main_call32_v1 : Ref sig .tc := ⟨.hbm, 820, rfl⟩
abbrev main_call32_v2 : Ref sig .tc := ⟨.hbm, 821, rfl⟩
abbrev main_call32_v3 : Ref sig .tc := ⟨.hbm, 822, rfl⟩
abbrev main_call32_v4 : Ref sig .tc := ⟨.hbm, 823, rfl⟩
abbrev main_v520 : Ref sig .tc := ⟨.hbm, 824, rfl⟩
abbrev main_v521 : Ref sig .tc := ⟨.hbm, 825, rfl⟩
abbrev main_v522 : Ref sig .tc := ⟨.hbm, 826, rfl⟩
abbrev main_v523 : Ref sig .tc := ⟨.hbm, 827, rfl⟩
abbrev main_v524 : Ref sig .tc := ⟨.hbm, 828, rfl⟩
abbrev main_v525 : Ref sig .tc := ⟨.hbm, 829, rfl⟩
abbrev main_v526 : Ref sig .tc := ⟨.hbm, 830, rfl⟩
abbrev main_v527 : Ref sig .tc := ⟨.hbm, 831, rfl⟩
abbrev main_v528 : Ref sig .tc := ⟨.hbm, 832, rfl⟩
abbrev main_v529 : Ref sig .tc := ⟨.hbm, 833, rfl⟩
abbrev main_v530 : Ref sig .tc := ⟨.hbm, 834, rfl⟩
abbrev main_v531 : Ref sig .tc := ⟨.hbm, 835, rfl⟩
abbrev main_v532 : Ref sig .tc := ⟨.hbm, 836, rfl⟩
abbrev main_v533 : Ref sig .tc := ⟨.hbm, 837, rfl⟩
abbrev main_v534 : Ref sig .tc := ⟨.hbm, 838, rfl⟩
abbrev main_cst_156 : Ref sig .tc := ⟨.hbm, 839, rfl⟩
abbrev main_v535 : Ref sig .tc := ⟨.hbm, 840, rfl⟩
abbrev main_v536 : Ref sig .tc := ⟨.hbm, 841, rfl⟩
abbrev main_cst_157 : Ref sig .tc := ⟨.hbm, 842, rfl⟩
abbrev main_v537 : Ref sig .tc := ⟨.hbm, 843, rfl⟩
abbrev main_v538 : Ref sig .tc := ⟨.hbm, 844, rfl⟩
abbrev main_v539 : Ref sig .tc := ⟨.hbm, 845, rfl⟩
abbrev main_v540 : Ref sig .tc := ⟨.hbm, 846, rfl⟩
abbrev main_cst_158 : Ref sig .tc := ⟨.hbm, 847, rfl⟩
abbrev main_v541 : Ref sig .tc := ⟨.hbm, 848, rfl⟩
abbrev main_v542 : Ref sig .tc := ⟨.hbm, 849, rfl⟩
abbrev main_cst_159 : Ref sig .tc := ⟨.hbm, 850, rfl⟩
abbrev main_v543 : Ref sig .tc := ⟨.hbm, 851, rfl⟩
abbrev main_v544 : Ref sig .tc := ⟨.hbm, 852, rfl⟩
abbrev main_v545 : Ref sig .tc := ⟨.hbm, 853, rfl⟩
abbrev main_v546 : Ref sig .tc := ⟨.hbm, 854, rfl⟩
abbrev main_v547 : Ref sig .tc := ⟨.hbm, 855, rfl⟩
abbrev main_v548 : Ref sig .tc := ⟨.hbm, 856, rfl⟩
abbrev main_v549 : Ref sig .tc := ⟨.hbm, 857, rfl⟩
abbrev main_v550 : Ref sig .tc := ⟨.hbm, 858, rfl⟩
abbrev main_c_160 : Ref sig .tc := ⟨.hbm, 859, rfl⟩
abbrev main_c_161 : Ref sig .tc := ⟨.hbm, 860, rfl⟩
abbrev main_call33_v0 : Ref sig .tc := ⟨.hbm, 861, rfl⟩
abbrev main_call33_v1 : Ref sig .tc := ⟨.hbm, 862, rfl⟩
abbrev main_call33_v2 : Ref sig .tc := ⟨.hbm, 863, rfl⟩
abbrev main_call33_v3 : Ref sig .tc := ⟨.hbm, 864, rfl⟩
abbrev main_call33_v4 : Ref sig .tc := ⟨.hbm, 865, rfl⟩
abbrev main_v551 : Ref sig .tc := ⟨.hbm, 866, rfl⟩
abbrev main_c_162 : Ref sig .tc := ⟨.hbm, 867, rfl⟩
abbrev main_c_163 : Ref sig .tc := ⟨.hbm, 868, rfl⟩
abbrev main_call34_v0 : Ref sig .tc := ⟨.hbm, 869, rfl⟩
abbrev main_call34_v1 : Ref sig .tc := ⟨.hbm, 870, rfl⟩
abbrev main_call34_v2 : Ref sig .tc := ⟨.hbm, 871, rfl⟩
abbrev main_call34_v3 : Ref sig .tc := ⟨.hbm, 872, rfl⟩
abbrev main_call34_v4 : Ref sig .tc := ⟨.hbm, 873, rfl⟩
abbrev main_v552 : Ref sig .tc := ⟨.hbm, 874, rfl⟩
abbrev main_c_164 : Ref sig .tc := ⟨.hbm, 875, rfl⟩
abbrev main_v553 : Ref sig .tc := ⟨.hbm, 876, rfl⟩
abbrev main_v554 : Ref sig .tc := ⟨.hbm, 877, rfl⟩
abbrev main_c_165 : Ref sig .tc := ⟨.hbm, 878, rfl⟩
abbrev main_v555 : Ref sig .tc := ⟨.hbm, 879, rfl⟩
abbrev main_v556 : Ref sig .tc := ⟨.hbm, 880, rfl⟩
abbrev main_c_166 : Ref sig .tc := ⟨.hbm, 881, rfl⟩
abbrev main_v557 : Ref sig .tc := ⟨.hbm, 882, rfl⟩
abbrev main_v558 : Ref sig .tc := ⟨.hbm, 883, rfl⟩
abbrev main_c_167 : Ref sig .tc := ⟨.hbm, 884, rfl⟩
abbrev main_v559 : Ref sig .tc := ⟨.hbm, 885, rfl⟩
abbrev main_v560 : Ref sig .tc := ⟨.hbm, 886, rfl⟩
abbrev main_c_168 : Ref sig .tc := ⟨.hbm, 887, rfl⟩
abbrev main_c_169 : Ref sig .tc := ⟨.hbm, 888, rfl⟩
abbrev main_call35_v0 : Ref sig .tc := ⟨.hbm, 889, rfl⟩
abbrev main_call35_v1 : Ref sig .tc := ⟨.hbm, 890, rfl⟩
abbrev main_v561 : Ref sig .tc := ⟨.hbm, 891, rfl⟩
abbrev main_c_170 : Ref sig .tc := ⟨.hbm, 892, rfl⟩
abbrev main_v562 : Ref sig .tc := ⟨.hbm, 893, rfl⟩
abbrev main_v563 : Ref sig .tc := ⟨.hbm, 894, rfl⟩
abbrev main_c_171 : Ref sig .tc := ⟨.hbm, 895, rfl⟩
abbrev main_c_172 : Ref sig .tc := ⟨.hbm, 896, rfl⟩
abbrev main_call36_v0 : Ref sig .tc := ⟨.hbm, 897, rfl⟩
abbrev main_call36_v1 : Ref sig .tc := ⟨.hbm, 898, rfl⟩
abbrev main_v564 : Ref sig .tc := ⟨.hbm, 899, rfl⟩
abbrev main_v565 : Ref sig .tc := ⟨.hbm, 900, rfl⟩
abbrev main_c_173 : Ref sig .tc := ⟨.hbm, 901, rfl⟩
abbrev main_v566 : Ref sig .tc := ⟨.hbm, 902, rfl⟩
abbrev main_v567 : Ref sig .tc := ⟨.hbm, 903, rfl⟩
abbrev main_c_174 : Ref sig .tc := ⟨.hbm, 904, rfl⟩
abbrev main_c_175 : Ref sig .tc := ⟨.hbm, 905, rfl⟩
abbrev main_call38_v0 : Ref sig .tc := ⟨.hbm, 906, rfl⟩
abbrev main_call38_v1 : Ref sig .tc := ⟨.hbm, 907, rfl⟩
abbrev main_v568 : Ref sig .tc := ⟨.hbm, 908, rfl⟩
abbrev main_c_176 : Ref sig .tc := ⟨.hbm, 909, rfl⟩
abbrev main_v569 : Ref sig .tc := ⟨.hbm, 910, rfl⟩
abbrev main_v570 : Ref sig .tc := ⟨.hbm, 911, rfl⟩
abbrev main_c_177 : Ref sig .tc := ⟨.hbm, 912, rfl⟩
abbrev main_c_178 : Ref sig .tc := ⟨.hbm, 913, rfl⟩
abbrev main_call39_v0 : Ref sig .tc := ⟨.hbm, 914, rfl⟩
abbrev main_call39_v1 : Ref sig .tc := ⟨.hbm, 915, rfl⟩
abbrev main_v571 : Ref sig .tc := ⟨.hbm, 916, rfl⟩
abbrev main_v572 : Ref sig .tc := ⟨.hbm, 917, rfl⟩
abbrev main_c_179 : Ref sig .tc := ⟨.hbm, 918, rfl⟩
abbrev main_v573 : Ref sig .tc := ⟨.hbm, 919, rfl⟩
abbrev main_v574 : Ref sig .tc := ⟨.hbm, 920, rfl⟩
abbrev main_v575 : Ref sig .tc := ⟨.hbm, 921, rfl⟩
abbrev main_v576 : Ref sig .tc := ⟨.hbm, 922, rfl⟩
abbrev main_v577 : Ref sig .tc := ⟨.hbm, 923, rfl⟩
abbrev main_c_180 : Ref sig .tc := ⟨.hbm, 924, rfl⟩
abbrev main_v578 : Ref sig .tc := ⟨.hbm, 925, rfl⟩
abbrev main_v579 : Ref sig .tc := ⟨.hbm, 926, rfl⟩
abbrev main_v580 : Ref sig .tc := ⟨.hbm, 927, rfl⟩
abbrev main_v581 : Ref sig .tc := ⟨.hbm, 928, rfl⟩
abbrev main_v582 : Ref sig .tc := ⟨.hbm, 929, rfl⟩
abbrev main_v583 : Ref sig .tc := ⟨.hbm, 930, rfl⟩
abbrev main_v584 : Ref sig .tc := ⟨.hbm, 931, rfl⟩
abbrev main_v585 : Ref sig .tc := ⟨.hbm, 932, rfl⟩
abbrev main_v586 : Ref sig .tc := ⟨.hbm, 933, rfl⟩
abbrev main_v587 : Ref sig .tc := ⟨.hbm, 934, rfl⟩
abbrev main_cst_181 : Ref sig .tc := ⟨.hbm, 935, rfl⟩
abbrev main_v588 : Ref sig .tc := ⟨.hbm, 936, rfl⟩
abbrev main_cst_182 : Ref sig .tc := ⟨.hbm, 937, rfl⟩
abbrev main_v589 : Ref sig .tc := ⟨.hbm, 938, rfl⟩
abbrev main_v590 : Ref sig .tc := ⟨.hbm, 939, rfl⟩
abbrev main_cst_183 : Ref sig .tc := ⟨.hbm, 940, rfl⟩
abbrev main_v591 : Ref sig .tc := ⟨.hbm, 941, rfl⟩
abbrev main_v592 : Ref sig .tc := ⟨.hbm, 942, rfl⟩
abbrev main_v593 : Ref sig .tc := ⟨.hbm, 943, rfl⟩
abbrev main_cst_184 : Ref sig .tc := ⟨.hbm, 944, rfl⟩
abbrev main_v594 : Ref sig .tc := ⟨.hbm, 945, rfl⟩
abbrev main_v595 : Ref sig .tc := ⟨.hbm, 946, rfl⟩
abbrev main_v596 : Ref sig .tc := ⟨.hbm, 947, rfl⟩
abbrev main_cst_185 : Ref sig .tc := ⟨.hbm, 948, rfl⟩
abbrev main_v597 : Ref sig .tc := ⟨.hbm, 949, rfl⟩
abbrev main_v598 : Ref sig .tc := ⟨.hbm, 950, rfl⟩
abbrev main_v599 : Ref sig .tc := ⟨.hbm, 951, rfl⟩
abbrev main_v600 : Ref sig .tc := ⟨.hbm, 952, rfl⟩
abbrev main_c_186 : Ref sig .tc := ⟨.hbm, 953, rfl⟩
abbrev main_v601 : Ref sig .tc := ⟨.hbm, 954, rfl⟩
abbrev main_v602 : Ref sig .tc := ⟨.hbm, 955, rfl⟩
abbrev main_c_187 : Ref sig .tc := ⟨.hbm, 956, rfl⟩
abbrev main_v603 : Ref sig .tc := ⟨.hbm, 957, rfl⟩
abbrev main_v604 : Ref sig .tc := ⟨.hbm, 958, rfl⟩
abbrev main_c_188 : Ref sig .tc := ⟨.hbm, 959, rfl⟩
abbrev main_v605 : Ref sig .tc := ⟨.hbm, 960, rfl⟩
abbrev main_v606 : Ref sig .tc := ⟨.hbm, 961, rfl⟩
abbrev main_c_189 : Ref sig .tc := ⟨.hbm, 962, rfl⟩
abbrev main_v607 : Ref sig .tc := ⟨.hbm, 963, rfl⟩
abbrev main_v608 : Ref sig .tc := ⟨.hbm, 964, rfl⟩
abbrev main_v609 : Ref sig .tc := ⟨.hbm, 965, rfl⟩
abbrev main_c_190 : Ref sig .tc := ⟨.hbm, 966, rfl⟩
abbrev main_v610 : Ref sig .tc := ⟨.hbm, 967, rfl⟩
abbrev main_v611 : Ref sig .tc := ⟨.hbm, 968, rfl⟩
abbrev main_v612 : Ref sig .tc := ⟨.hbm, 969, rfl⟩
abbrev main_c_191 : Ref sig .tc := ⟨.hbm, 970, rfl⟩
abbrev main_v613 : Ref sig .tc := ⟨.hbm, 971, rfl⟩
abbrev main_v614 : Ref sig .tc := ⟨.hbm, 972, rfl⟩
abbrev main_v615 : Ref sig .tc := ⟨.hbm, 973, rfl⟩
abbrev main_v616 : Ref sig .tc := ⟨.hbm, 974, rfl⟩
abbrev main_v617 : Ref sig .tc := ⟨.hbm, 975, rfl⟩
abbrev main_c_192 : Ref sig .tc := ⟨.hbm, 976, rfl⟩
abbrev main_v618 : Ref sig .tc := ⟨.hbm, 977, rfl⟩
abbrev main_v619 : Ref sig .tc := ⟨.hbm, 978, rfl⟩
abbrev main_v620 : Ref sig .tc := ⟨.hbm, 979, rfl⟩
abbrev main_v621 : Ref sig .tc := ⟨.hbm, 980, rfl⟩
abbrev main_c_193 : Ref sig .tc := ⟨.hbm, 981, rfl⟩
abbrev main_c_194 : Ref sig .tc := ⟨.hbm, 982, rfl⟩
abbrev main_call40_v0 : Ref sig .tc := ⟨.hbm, 983, rfl⟩
abbrev main_call40_v1 : Ref sig .tc := ⟨.hbm, 984, rfl⟩
abbrev main_call40_v2 : Ref sig .tc := ⟨.hbm, 985, rfl⟩
abbrev main_call40_v3 : Ref sig .tc := ⟨.hbm, 986, rfl⟩
abbrev main_call40_v4 : Ref sig .tc := ⟨.hbm, 987, rfl⟩
abbrev main_v622 : Ref sig .tc := ⟨.hbm, 988, rfl⟩
abbrev main_call41_v0 : Ref sig .tc := ⟨.hbm, 989, rfl⟩
abbrev main_call41_v1 : Ref sig .tc := ⟨.hbm, 990, rfl⟩
abbrev main_call41_v2 : Ref sig .tc := ⟨.hbm, 991, rfl⟩
abbrev main_call41_v3 : Ref sig .tc := ⟨.hbm, 992, rfl⟩
abbrev main_call41_v4 : Ref sig .tc := ⟨.hbm, 993, rfl⟩
abbrev main_v623 : Ref sig .tc := ⟨.hbm, 994, rfl⟩
abbrev main_v624 : Ref sig .tc := ⟨.hbm, 995, rfl⟩
abbrev main_v625 : Ref sig .tc := ⟨.hbm, 996, rfl⟩
abbrev main_v626 : Ref sig .tc := ⟨.hbm, 997, rfl⟩
abbrev main_v627 : Ref sig .tc := ⟨.hbm, 998, rfl⟩
abbrev main_v628 : Ref sig .tc := ⟨.hbm, 999, rfl⟩
abbrev main_c_195 : Ref sig .tc := ⟨.hbm, 1000, rfl⟩
abbrev main_v629 : Ref sig .tc := ⟨.hbm, 1001, rfl⟩
abbrev main_v630 : Ref sig .tc := ⟨.hbm, 1002, rfl⟩
abbrev main_c_196 : Ref sig .tc := ⟨.hbm, 1003, rfl⟩
abbrev main_v631 : Ref sig .tc := ⟨.hbm, 1004, rfl⟩
abbrev main_v632 : Ref sig .tc := ⟨.hbm, 1005, rfl⟩
abbrev main_c_197 : Ref sig .tc := ⟨.hbm, 1006, rfl⟩
abbrev main_v633 : Ref sig .tc := ⟨.hbm, 1007, rfl⟩
abbrev main_v634 : Ref sig .tc := ⟨.hbm, 1008, rfl⟩
abbrev main_c_198 : Ref sig .tc := ⟨.hbm, 1009, rfl⟩
abbrev main_v635 : Ref sig .tc := ⟨.hbm, 1010, rfl⟩
abbrev main_v636 : Ref sig .tc := ⟨.hbm, 1011, rfl⟩
abbrev main_v637 : Ref sig .tc := ⟨.hbm, 1012, rfl⟩
abbrev main_c_199 : Ref sig .tc := ⟨.hbm, 1013, rfl⟩
abbrev main_v638 : Ref sig .tc := ⟨.hbm, 1014, rfl⟩
abbrev main_v639 : Ref sig .tc := ⟨.hbm, 1015, rfl⟩
abbrev main_v640 : Ref sig .tc := ⟨.hbm, 1016, rfl⟩
abbrev main_c_200 : Ref sig .tc := ⟨.hbm, 1017, rfl⟩
abbrev main_v641 : Ref sig .tc := ⟨.hbm, 1018, rfl⟩
abbrev main_v642 : Ref sig .tc := ⟨.hbm, 1019, rfl⟩
abbrev main_v643 : Ref sig .tc := ⟨.hbm, 1020, rfl⟩
abbrev main_v644 : Ref sig .tc := ⟨.hbm, 1021, rfl⟩
abbrev main_v645 : Ref sig .tc := ⟨.hbm, 1022, rfl⟩
abbrev main_c_201 : Ref sig .tc := ⟨.hbm, 1023, rfl⟩
abbrev main_v646 : Ref sig .tc := ⟨.hbm, 1024, rfl⟩
abbrev main_v647 : Ref sig .tc := ⟨.hbm, 1025, rfl⟩
abbrev main_v648 : Ref sig .tc := ⟨.hbm, 1026, rfl⟩
abbrev main_v649 : Ref sig .tc := ⟨.hbm, 1027, rfl⟩
abbrev main_c_202 : Ref sig .tc := ⟨.hbm, 1028, rfl⟩
abbrev main_c_203 : Ref sig .tc := ⟨.hbm, 1029, rfl⟩
abbrev main_call42_v0 : Ref sig .tc := ⟨.hbm, 1030, rfl⟩
abbrev main_call42_v1 : Ref sig .tc := ⟨.hbm, 1031, rfl⟩
abbrev main_call42_v2 : Ref sig .tc := ⟨.hbm, 1032, rfl⟩
abbrev main_call42_v3 : Ref sig .tc := ⟨.hbm, 1033, rfl⟩
abbrev main_call42_v4 : Ref sig .tc := ⟨.hbm, 1034, rfl⟩
abbrev main_v650 : Ref sig .tc := ⟨.hbm, 1035, rfl⟩
abbrev main_call43_v0 : Ref sig .tc := ⟨.hbm, 1036, rfl⟩
abbrev main_call43_v1 : Ref sig .tc := ⟨.hbm, 1037, rfl⟩
abbrev main_call43_v2 : Ref sig .tc := ⟨.hbm, 1038, rfl⟩
abbrev main_call43_v3 : Ref sig .tc := ⟨.hbm, 1039, rfl⟩
abbrev main_call43_v4 : Ref sig .tc := ⟨.hbm, 1040, rfl⟩
abbrev main_v651 : Ref sig .tc := ⟨.hbm, 1041, rfl⟩
abbrev main_v652 : Ref sig .tc := ⟨.hbm, 1042, rfl⟩
abbrev main_v653 : Ref sig .tc := ⟨.hbm, 1043, rfl⟩
abbrev main_v654 : Ref sig .tc := ⟨.hbm, 1044, rfl⟩
abbrev main_v655 : Ref sig .tc := ⟨.hbm, 1045, rfl⟩
abbrev main_v656 : Ref sig .tc := ⟨.hbm, 1046, rfl⟩
abbrev main_c_204 : Ref sig .tc := ⟨.hbm, 1047, rfl⟩
abbrev main_v657 : Ref sig .tc := ⟨.hbm, 1048, rfl⟩
abbrev main_v658 : Ref sig .tc := ⟨.hbm, 1049, rfl⟩
abbrev main_c_205 : Ref sig .tc := ⟨.hbm, 1050, rfl⟩
abbrev main_v659 : Ref sig .tc := ⟨.hbm, 1051, rfl⟩
abbrev main_v660 : Ref sig .tc := ⟨.hbm, 1052, rfl⟩
abbrev main_c_206 : Ref sig .tc := ⟨.hbm, 1053, rfl⟩
abbrev main_v661 : Ref sig .tc := ⟨.hbm, 1054, rfl⟩
abbrev main_v662 : Ref sig .tc := ⟨.hbm, 1055, rfl⟩
abbrev main_c_207 : Ref sig .tc := ⟨.hbm, 1056, rfl⟩
abbrev main_v663 : Ref sig .tc := ⟨.hbm, 1057, rfl⟩
abbrev main_v664 : Ref sig .tc := ⟨.hbm, 1058, rfl⟩
abbrev main_v665 : Ref sig .tc := ⟨.hbm, 1059, rfl⟩
abbrev main_c_208 : Ref sig .tc := ⟨.hbm, 1060, rfl⟩
abbrev main_v666 : Ref sig .tc := ⟨.hbm, 1061, rfl⟩
abbrev main_v667 : Ref sig .tc := ⟨.hbm, 1062, rfl⟩
abbrev main_v668 : Ref sig .tc := ⟨.hbm, 1063, rfl⟩
abbrev main_c_209 : Ref sig .tc := ⟨.hbm, 1064, rfl⟩
abbrev main_v669 : Ref sig .tc := ⟨.hbm, 1065, rfl⟩
abbrev main_v670 : Ref sig .tc := ⟨.hbm, 1066, rfl⟩
abbrev main_v671 : Ref sig .tc := ⟨.hbm, 1067, rfl⟩
abbrev main_v672 : Ref sig .tc := ⟨.hbm, 1068, rfl⟩
abbrev main_v673 : Ref sig .tc := ⟨.hbm, 1069, rfl⟩
abbrev main_c_210 : Ref sig .tc := ⟨.hbm, 1070, rfl⟩
abbrev main_v674 : Ref sig .tc := ⟨.hbm, 1071, rfl⟩
abbrev main_v675 : Ref sig .tc := ⟨.hbm, 1072, rfl⟩
abbrev main_v676 : Ref sig .tc := ⟨.hbm, 1073, rfl⟩
abbrev main_v677 : Ref sig .tc := ⟨.hbm, 1074, rfl⟩
abbrev main_c_211 : Ref sig .tc := ⟨.hbm, 1075, rfl⟩
abbrev main_c_212 : Ref sig .tc := ⟨.hbm, 1076, rfl⟩
abbrev main_call44_v0 : Ref sig .tc := ⟨.hbm, 1077, rfl⟩
abbrev main_call44_v1 : Ref sig .tc := ⟨.hbm, 1078, rfl⟩
abbrev main_call44_v2 : Ref sig .tc := ⟨.hbm, 1079, rfl⟩
abbrev main_call44_v3 : Ref sig .tc := ⟨.hbm, 1080, rfl⟩
abbrev main_call44_v4 : Ref sig .tc := ⟨.hbm, 1081, rfl⟩
abbrev main_v678 : Ref sig .tc := ⟨.hbm, 1082, rfl⟩
abbrev main_call45_v0 : Ref sig .tc := ⟨.hbm, 1083, rfl⟩
abbrev main_call45_v1 : Ref sig .tc := ⟨.hbm, 1084, rfl⟩
abbrev main_call45_v2 : Ref sig .tc := ⟨.hbm, 1085, rfl⟩
abbrev main_call45_v3 : Ref sig .tc := ⟨.hbm, 1086, rfl⟩
abbrev main_call45_v4 : Ref sig .tc := ⟨.hbm, 1087, rfl⟩
abbrev main_v679 : Ref sig .tc := ⟨.hbm, 1088, rfl⟩
abbrev main_v680 : Ref sig .tc := ⟨.hbm, 1089, rfl⟩
abbrev main_v681 : Ref sig .tc := ⟨.hbm, 1090, rfl⟩
abbrev main_v682 : Ref sig .tc := ⟨.hbm, 1091, rfl⟩
abbrev main_v683 : Ref sig .tc := ⟨.hbm, 1092, rfl⟩
abbrev main_v684 : Ref sig .tc := ⟨.hbm, 1093, rfl⟩
abbrev main_c_213 : Ref sig .tc := ⟨.hbm, 1094, rfl⟩
abbrev main_v685 : Ref sig .tc := ⟨.hbm, 1095, rfl⟩
abbrev main_v686 : Ref sig .tc := ⟨.hbm, 1096, rfl⟩
abbrev main_c_214 : Ref sig .tc := ⟨.hbm, 1097, rfl⟩
abbrev main_v687 : Ref sig .tc := ⟨.hbm, 1098, rfl⟩
abbrev main_v688 : Ref sig .tc := ⟨.hbm, 1099, rfl⟩
abbrev main_c_215 : Ref sig .tc := ⟨.hbm, 1100, rfl⟩
abbrev main_v689 : Ref sig .tc := ⟨.hbm, 1101, rfl⟩
abbrev main_v690 : Ref sig .tc := ⟨.hbm, 1102, rfl⟩
abbrev main_c_216 : Ref sig .tc := ⟨.hbm, 1103, rfl⟩
abbrev main_v691 : Ref sig .tc := ⟨.hbm, 1104, rfl⟩
abbrev main_v692 : Ref sig .tc := ⟨.hbm, 1105, rfl⟩
abbrev main_v693 : Ref sig .tc := ⟨.hbm, 1106, rfl⟩
abbrev main_c_217 : Ref sig .tc := ⟨.hbm, 1107, rfl⟩
abbrev main_v694 : Ref sig .tc := ⟨.hbm, 1108, rfl⟩
abbrev main_v695 : Ref sig .tc := ⟨.hbm, 1109, rfl⟩
abbrev main_v696 : Ref sig .tc := ⟨.hbm, 1110, rfl⟩
abbrev main_c_218 : Ref sig .tc := ⟨.hbm, 1111, rfl⟩
abbrev main_v697 : Ref sig .tc := ⟨.hbm, 1112, rfl⟩
abbrev main_v698 : Ref sig .tc := ⟨.hbm, 1113, rfl⟩
abbrev main_v699 : Ref sig .tc := ⟨.hbm, 1114, rfl⟩
abbrev main_v700 : Ref sig .tc := ⟨.hbm, 1115, rfl⟩
abbrev main_v701 : Ref sig .tc := ⟨.hbm, 1116, rfl⟩
abbrev main_c_219 : Ref sig .tc := ⟨.hbm, 1117, rfl⟩
abbrev main_v702 : Ref sig .tc := ⟨.hbm, 1118, rfl⟩
abbrev main_v703 : Ref sig .tc := ⟨.hbm, 1119, rfl⟩
abbrev main_v704 : Ref sig .tc := ⟨.hbm, 1120, rfl⟩
abbrev main_v705 : Ref sig .tc := ⟨.hbm, 1121, rfl⟩
abbrev main_c_220 : Ref sig .tc := ⟨.hbm, 1122, rfl⟩
abbrev main_c_221 : Ref sig .tc := ⟨.hbm, 1123, rfl⟩
abbrev main_call46_v0 : Ref sig .tc := ⟨.hbm, 1124, rfl⟩
abbrev main_call46_v1 : Ref sig .tc := ⟨.hbm, 1125, rfl⟩
abbrev main_call46_v2 : Ref sig .tc := ⟨.hbm, 1126, rfl⟩
abbrev main_call46_v3 : Ref sig .tc := ⟨.hbm, 1127, rfl⟩
abbrev main_call46_v4 : Ref sig .tc := ⟨.hbm, 1128, rfl⟩
abbrev main_v706 : Ref sig .tc := ⟨.hbm, 1129, rfl⟩
abbrev main_call47_v0 : Ref sig .tc := ⟨.hbm, 1130, rfl⟩
abbrev main_call47_v1 : Ref sig .tc := ⟨.hbm, 1131, rfl⟩
abbrev main_call47_v2 : Ref sig .tc := ⟨.hbm, 1132, rfl⟩
abbrev main_call47_v3 : Ref sig .tc := ⟨.hbm, 1133, rfl⟩
abbrev main_call47_v4 : Ref sig .tc := ⟨.hbm, 1134, rfl⟩
abbrev main_v707 : Ref sig .tc := ⟨.hbm, 1135, rfl⟩
abbrev main_v708 : Ref sig .tc := ⟨.hbm, 1136, rfl⟩
abbrev main_v709 : Ref sig .tc := ⟨.hbm, 1137, rfl⟩
abbrev main_v710 : Ref sig .tc := ⟨.hbm, 1138, rfl⟩
abbrev main_v711 : Ref sig .tc := ⟨.hbm, 1139, rfl⟩
abbrev main_v712 : Ref sig .tc := ⟨.hbm, 1140, rfl⟩
abbrev main_v713 : Ref sig .tc := ⟨.hbm, 1141, rfl⟩
abbrev main_v714 : Ref sig .tc := ⟨.hbm, 1142, rfl⟩
abbrev main_v715 : Ref sig .tc := ⟨.hbm, 1143, rfl⟩
abbrev main_v716 : Ref sig .tc := ⟨.hbm, 1144, rfl⟩
abbrev main_v717 : Ref sig .tc := ⟨.hbm, 1145, rfl⟩
abbrev main_v718 : Ref sig .tc := ⟨.hbm, 1146, rfl⟩
abbrev main_v719 : Ref sig .tc := ⟨.hbm, 1147, rfl⟩
abbrev main_v720 : Ref sig .tc := ⟨.hbm, 1148, rfl⟩
abbrev main_v721 : Ref sig .tc := ⟨.hbm, 1149, rfl⟩
abbrev main_cst_222 : Ref sig .tc := ⟨.hbm, 1150, rfl⟩
abbrev main_v722 : Ref sig .tc := ⟨.hbm, 1151, rfl⟩
abbrev main_v723 : Ref sig .tc := ⟨.hbm, 1152, rfl⟩
abbrev main_cst_223 : Ref sig .tc := ⟨.hbm, 1153, rfl⟩
abbrev main_v724 : Ref sig .tc := ⟨.hbm, 1154, rfl⟩
abbrev main_v725 : Ref sig .tc := ⟨.hbm, 1155, rfl⟩
abbrev main_v726 : Ref sig .tc := ⟨.hbm, 1156, rfl⟩
abbrev main_v727 : Ref sig .tc := ⟨.hbm, 1157, rfl⟩
abbrev main_cst_224 : Ref sig .tc := ⟨.hbm, 1158, rfl⟩
abbrev main_v728 : Ref sig .tc := ⟨.hbm, 1159, rfl⟩
abbrev main_v729 : Ref sig .tc := ⟨.hbm, 1160, rfl⟩
abbrev main_cst_225 : Ref sig .tc := ⟨.hbm, 1161, rfl⟩
abbrev main_v730 : Ref sig .tc := ⟨.hbm, 1162, rfl⟩
abbrev main_v731 : Ref sig .tc := ⟨.hbm, 1163, rfl⟩
abbrev main_v732 : Ref sig .tc := ⟨.hbm, 1164, rfl⟩
abbrev main_v733 : Ref sig .tc := ⟨.hbm, 1165, rfl⟩
abbrev main_v734 : Ref sig .tc := ⟨.hbm, 1166, rfl⟩
abbrev main_v735 : Ref sig .tc := ⟨.hbm, 1167, rfl⟩
abbrev main_v736 : Ref sig .tc := ⟨.hbm, 1168, rfl⟩
abbrev main_v737 : Ref sig .tc := ⟨.hbm, 1169, rfl⟩
abbrev main_c_226 : Ref sig .tc := ⟨.hbm, 1170, rfl⟩
abbrev main_c_227 : Ref sig .tc := ⟨.hbm, 1171, rfl⟩
abbrev main_call48_v0 : Ref sig .tc := ⟨.hbm, 1172, rfl⟩
abbrev main_call48_v1 : Ref sig .tc := ⟨.hbm, 1173, rfl⟩
abbrev main_call48_v2 : Ref sig .tc := ⟨.hbm, 1174, rfl⟩
abbrev main_call48_v3 : Ref sig .tc := ⟨.hbm, 1175, rfl⟩
abbrev main_call48_v4 : Ref sig .tc := ⟨.hbm, 1176, rfl⟩
abbrev main_v738 : Ref sig .tc := ⟨.hbm, 1177, rfl⟩
abbrev main_c_228 : Ref sig .tc := ⟨.hbm, 1178, rfl⟩
abbrev main_c_229 : Ref sig .tc := ⟨.hbm, 1179, rfl⟩
abbrev main_call49_v0 : Ref sig .tc := ⟨.hbm, 1180, rfl⟩
abbrev main_call49_v1 : Ref sig .tc := ⟨.hbm, 1181, rfl⟩
abbrev main_call49_v2 : Ref sig .tc := ⟨.hbm, 1182, rfl⟩
abbrev main_call49_v3 : Ref sig .tc := ⟨.hbm, 1183, rfl⟩
abbrev main_call49_v4 : Ref sig .tc := ⟨.hbm, 1184, rfl⟩
abbrev main_v739 : Ref sig .tc := ⟨.hbm, 1185, rfl⟩
abbrev main_c_230 : Ref sig .tc := ⟨.hbm, 1186, rfl⟩
abbrev main_v740 : Ref sig .tc := ⟨.hbm, 1187, rfl⟩
abbrev main_v741 : Ref sig .tc := ⟨.hbm, 1188, rfl⟩
abbrev main_c_231 : Ref sig .tc := ⟨.hbm, 1189, rfl⟩
abbrev main_v742 : Ref sig .tc := ⟨.hbm, 1190, rfl⟩
abbrev main_v743 : Ref sig .tc := ⟨.hbm, 1191, rfl⟩
abbrev main_c_232 : Ref sig .tc := ⟨.hbm, 1192, rfl⟩
abbrev main_v744 : Ref sig .tc := ⟨.hbm, 1193, rfl⟩
abbrev main_v745 : Ref sig .tc := ⟨.hbm, 1194, rfl⟩
abbrev main_c_233 : Ref sig .tc := ⟨.hbm, 1195, rfl⟩
abbrev main_v746 : Ref sig .tc := ⟨.hbm, 1196, rfl⟩
abbrev main_v747 : Ref sig .tc := ⟨.hbm, 1197, rfl⟩
abbrev main_c_234 : Ref sig .tc := ⟨.hbm, 1198, rfl⟩
abbrev main_c_235 : Ref sig .tc := ⟨.hbm, 1199, rfl⟩
abbrev main_call50_v0 : Ref sig .tc := ⟨.hbm, 1200, rfl⟩
abbrev main_call50_v1 : Ref sig .tc := ⟨.hbm, 1201, rfl⟩
abbrev main_v748 : Ref sig .tc := ⟨.hbm, 1202, rfl⟩
abbrev main_c_236 : Ref sig .tc := ⟨.hbm, 1203, rfl⟩
abbrev main_v749 : Ref sig .tc := ⟨.hbm, 1204, rfl⟩
abbrev main_v750 : Ref sig .tc := ⟨.hbm, 1205, rfl⟩
abbrev main_c_237 : Ref sig .tc := ⟨.hbm, 1206, rfl⟩
abbrev main_c_238 : Ref sig .tc := ⟨.hbm, 1207, rfl⟩
abbrev main_call51_v0 : Ref sig .tc := ⟨.hbm, 1208, rfl⟩
abbrev main_call51_v1 : Ref sig .tc := ⟨.hbm, 1209, rfl⟩
abbrev main_v751 : Ref sig .tc := ⟨.hbm, 1210, rfl⟩
abbrev main_v752 : Ref sig .tc := ⟨.hbm, 1211, rfl⟩
abbrev main_c_239 : Ref sig .tc := ⟨.hbm, 1212, rfl⟩
abbrev main_v753 : Ref sig .tc := ⟨.hbm, 1213, rfl⟩
abbrev main_v754 : Ref sig .tc := ⟨.hbm, 1214, rfl⟩
abbrev main_c_240 : Ref sig .tc := ⟨.hbm, 1215, rfl⟩
abbrev main_c_241 : Ref sig .tc := ⟨.hbm, 1216, rfl⟩
abbrev main_call53_v0 : Ref sig .tc := ⟨.hbm, 1217, rfl⟩
abbrev main_call53_v1 : Ref sig .tc := ⟨.hbm, 1218, rfl⟩
abbrev main_v755 : Ref sig .tc := ⟨.hbm, 1219, rfl⟩
abbrev main_c_242 : Ref sig .tc := ⟨.hbm, 1220, rfl⟩
abbrev main_v756 : Ref sig .tc := ⟨.hbm, 1221, rfl⟩
abbrev main_v757 : Ref sig .tc := ⟨.hbm, 1222, rfl⟩
abbrev main_c_243 : Ref sig .tc := ⟨.hbm, 1223, rfl⟩
abbrev main_c_244 : Ref sig .tc := ⟨.hbm, 1224, rfl⟩
abbrev main_call54_v0 : Ref sig .tc := ⟨.hbm, 1225, rfl⟩
abbrev main_call54_v1 : Ref sig .tc := ⟨.hbm, 1226, rfl⟩
abbrev main_v758 : Ref sig .tc := ⟨.hbm, 1227, rfl⟩
abbrev main_v759 : Ref sig .tc := ⟨.hbm, 1228, rfl⟩
abbrev main_c_245 : Ref sig .tc := ⟨.hbm, 1229, rfl⟩
abbrev main_v760 : Ref sig .tc := ⟨.hbm, 1230, rfl⟩
abbrev main_v761 : Ref sig .tc := ⟨.hbm, 1231, rfl⟩
abbrev main_v762 : Ref sig .tc := ⟨.hbm, 1232, rfl⟩
abbrev main_v763 : Ref sig .tc := ⟨.hbm, 1233, rfl⟩
abbrev main_v764 : Ref sig .tc := ⟨.hbm, 1234, rfl⟩
abbrev main_c_246 : Ref sig .tc := ⟨.hbm, 1235, rfl⟩
abbrev main_v765 : Ref sig .tc := ⟨.hbm, 1236, rfl⟩
abbrev main_v766 : Ref sig .tc := ⟨.hbm, 1237, rfl⟩
abbrev main_v767 : Ref sig .tc := ⟨.hbm, 1238, rfl⟩
abbrev main_v768 : Ref sig .tc := ⟨.hbm, 1239, rfl⟩
abbrev main_v769 : Ref sig .tc := ⟨.hbm, 1240, rfl⟩
abbrev main_v770 : Ref sig .tc := ⟨.hbm, 1241, rfl⟩
abbrev main_v771 : Ref sig .tc := ⟨.hbm, 1242, rfl⟩
abbrev main_v772 : Ref sig .tc := ⟨.hbm, 1243, rfl⟩
abbrev main_v773 : Ref sig .tc := ⟨.hbm, 1244, rfl⟩
abbrev main_v774 : Ref sig .tc := ⟨.hbm, 1245, rfl⟩
abbrev main_cst_247 : Ref sig .tc := ⟨.hbm, 1246, rfl⟩
abbrev main_v775 : Ref sig .tc := ⟨.hbm, 1247, rfl⟩
abbrev main_cst_248 : Ref sig .tc := ⟨.hbm, 1248, rfl⟩
abbrev main_v776 : Ref sig .tc := ⟨.hbm, 1249, rfl⟩
abbrev main_v777 : Ref sig .tc := ⟨.hbm, 1250, rfl⟩
abbrev main_cst_249 : Ref sig .tc := ⟨.hbm, 1251, rfl⟩
abbrev main_v778 : Ref sig .tc := ⟨.hbm, 1252, rfl⟩
abbrev main_v779 : Ref sig .tc := ⟨.hbm, 1253, rfl⟩
abbrev main_v780 : Ref sig .tc := ⟨.hbm, 1254, rfl⟩
abbrev main_cst_250 : Ref sig .tc := ⟨.hbm, 1255, rfl⟩
abbrev main_v781 : Ref sig .tc := ⟨.hbm, 1256, rfl⟩
abbrev main_v782 : Ref sig .tc := ⟨.hbm, 1257, rfl⟩
abbrev main_v783 : Ref sig .tc := ⟨.hbm, 1258, rfl⟩
abbrev main_cst_251 : Ref sig .tc := ⟨.hbm, 1259, rfl⟩
abbrev main_v784 : Ref sig .tc := ⟨.hbm, 1260, rfl⟩
abbrev main_v785 : Ref sig .tc := ⟨.hbm, 1261, rfl⟩
abbrev main_v786 : Ref sig .tc := ⟨.hbm, 1262, rfl⟩
abbrev main_v787 : Ref sig .tc := ⟨.hbm, 1263, rfl⟩
abbrev main_c_252 : Ref sig .tc := ⟨.hbm, 1264, rfl⟩
abbrev main_v788 : Ref sig .tc := ⟨.hbm, 1265, rfl⟩
abbrev main_v789 : Ref sig .tc := ⟨.hbm, 1266, rfl⟩
abbrev main_c_253 : Ref sig .tc := ⟨.hbm, 1267, rfl⟩
abbrev main_v790 : Ref sig .tc := ⟨.hbm, 1268, rfl⟩
abbrev main_v791 : Ref sig .tc := ⟨.hbm, 1269, rfl⟩
abbrev main_c_254 : Ref sig .tc := ⟨.hbm, 1270, rfl⟩
abbrev main_v792 : Ref sig .tc := ⟨.hbm, 1271, rfl⟩
abbrev main_v793 : Ref sig .tc := ⟨.hbm, 1272, rfl⟩
abbrev main_c_255 : Ref sig .tc := ⟨.hbm, 1273, rfl⟩
abbrev main_v794 : Ref sig .tc := ⟨.hbm, 1274, rfl⟩
abbrev main_v795 : Ref sig .tc := ⟨.hbm, 1275, rfl⟩
abbrev main_v796 : Ref sig .tc := ⟨.hbm, 1276, rfl⟩
abbrev main_c_256 : Ref sig .tc := ⟨.hbm, 1277, rfl⟩
abbrev main_v797 : Ref sig .tc := ⟨.hbm, 1278, rfl⟩
abbrev main_v798 : Ref sig .tc := ⟨.hbm, 1279, rfl⟩
abbrev main_v799 : Ref sig .tc := ⟨.hbm, 1280, rfl⟩
abbrev main_c_257 : Ref sig .tc := ⟨.hbm, 1281, rfl⟩
abbrev main_v800 : Ref sig .tc := ⟨.hbm, 1282, rfl⟩
abbrev main_v801 : Ref sig .tc := ⟨.hbm, 1283, rfl⟩
abbrev main_v802 : Ref sig .tc := ⟨.hbm, 1284, rfl⟩
abbrev main_v803 : Ref sig .tc := ⟨.hbm, 1285, rfl⟩
abbrev main_v804 : Ref sig .tc := ⟨.hbm, 1286, rfl⟩
abbrev main_c_258 : Ref sig .tc := ⟨.hbm, 1287, rfl⟩
abbrev main_v805 : Ref sig .tc := ⟨.hbm, 1288, rfl⟩
abbrev main_v806 : Ref sig .tc := ⟨.hbm, 1289, rfl⟩
abbrev main_v807 : Ref sig .tc := ⟨.hbm, 1290, rfl⟩
abbrev main_v808 : Ref sig .tc := ⟨.hbm, 1291, rfl⟩
abbrev main_c_259 : Ref sig .tc := ⟨.hbm, 1292, rfl⟩
abbrev main_c_260 : Ref sig .tc := ⟨.hbm, 1293, rfl⟩
abbrev main_call55_v0 : Ref sig .tc := ⟨.hbm, 1294, rfl⟩
abbrev main_call55_v1 : Ref sig .tc := ⟨.hbm, 1295, rfl⟩
abbrev main_call55_v2 : Ref sig .tc := ⟨.hbm, 1296, rfl⟩
abbrev main_call55_v3 : Ref sig .tc := ⟨.hbm, 1297, rfl⟩
abbrev main_call55_v4 : Ref sig .tc := ⟨.hbm, 1298, rfl⟩
abbrev main_v809 : Ref sig .tc := ⟨.hbm, 1299, rfl⟩
abbrev main_call56_v0 : Ref sig .tc := ⟨.hbm, 1300, rfl⟩
abbrev main_call56_v1 : Ref sig .tc := ⟨.hbm, 1301, rfl⟩
abbrev main_call56_v2 : Ref sig .tc := ⟨.hbm, 1302, rfl⟩
abbrev main_call56_v3 : Ref sig .tc := ⟨.hbm, 1303, rfl⟩
abbrev main_call56_v4 : Ref sig .tc := ⟨.hbm, 1304, rfl⟩
abbrev main_v810 : Ref sig .tc := ⟨.hbm, 1305, rfl⟩
abbrev main_v811 : Ref sig .tc := ⟨.hbm, 1306, rfl⟩
abbrev main_v812 : Ref sig .tc := ⟨.hbm, 1307, rfl⟩
abbrev main_v813 : Ref sig .tc := ⟨.hbm, 1308, rfl⟩
abbrev main_v814 : Ref sig .tc := ⟨.hbm, 1309, rfl⟩
abbrev main_v815 : Ref sig .tc := ⟨.hbm, 1310, rfl⟩
abbrev main_c_261 : Ref sig .tc := ⟨.hbm, 1311, rfl⟩
abbrev main_v816 : Ref sig .tc := ⟨.hbm, 1312, rfl⟩
abbrev main_v817 : Ref sig .tc := ⟨.hbm, 1313, rfl⟩
abbrev main_c_262 : Ref sig .tc := ⟨.hbm, 1314, rfl⟩
abbrev main_v818 : Ref sig .tc := ⟨.hbm, 1315, rfl⟩
abbrev main_v819 : Ref sig .tc := ⟨.hbm, 1316, rfl⟩
abbrev main_c_263 : Ref sig .tc := ⟨.hbm, 1317, rfl⟩
abbrev main_v820 : Ref sig .tc := ⟨.hbm, 1318, rfl⟩
abbrev main_v821 : Ref sig .tc := ⟨.hbm, 1319, rfl⟩
abbrev main_c_264 : Ref sig .tc := ⟨.hbm, 1320, rfl⟩
abbrev main_v822 : Ref sig .tc := ⟨.hbm, 1321, rfl⟩
abbrev main_v823 : Ref sig .tc := ⟨.hbm, 1322, rfl⟩
abbrev main_v824 : Ref sig .tc := ⟨.hbm, 1323, rfl⟩
abbrev main_c_265 : Ref sig .tc := ⟨.hbm, 1324, rfl⟩
abbrev main_v825 : Ref sig .tc := ⟨.hbm, 1325, rfl⟩
abbrev main_v826 : Ref sig .tc := ⟨.hbm, 1326, rfl⟩
abbrev main_v827 : Ref sig .tc := ⟨.hbm, 1327, rfl⟩
abbrev main_c_266 : Ref sig .tc := ⟨.hbm, 1328, rfl⟩
abbrev main_v828 : Ref sig .tc := ⟨.hbm, 1329, rfl⟩
abbrev main_v829 : Ref sig .tc := ⟨.hbm, 1330, rfl⟩
abbrev main_v830 : Ref sig .tc := ⟨.hbm, 1331, rfl⟩
abbrev main_v831 : Ref sig .tc := ⟨.hbm, 1332, rfl⟩
abbrev main_v832 : Ref sig .tc := ⟨.hbm, 1333, rfl⟩
abbrev main_c_267 : Ref sig .tc := ⟨.hbm, 1334, rfl⟩
abbrev main_v833 : Ref sig .tc := ⟨.hbm, 1335, rfl⟩
abbrev main_v834 : Ref sig .tc := ⟨.hbm, 1336, rfl⟩
abbrev main_v835 : Ref sig .tc := ⟨.hbm, 1337, rfl⟩
abbrev main_v836 : Ref sig .tc := ⟨.hbm, 1338, rfl⟩
abbrev main_c_268 : Ref sig .tc := ⟨.hbm, 1339, rfl⟩
abbrev main_c_269 : Ref sig .tc := ⟨.hbm, 1340, rfl⟩
abbrev main_call57_v0 : Ref sig .tc := ⟨.hbm, 1341, rfl⟩
abbrev main_call57_v1 : Ref sig .tc := ⟨.hbm, 1342, rfl⟩
abbrev main_call57_v2 : Ref sig .tc := ⟨.hbm, 1343, rfl⟩
abbrev main_call57_v3 : Ref sig .tc := ⟨.hbm, 1344, rfl⟩
abbrev main_call57_v4 : Ref sig .tc := ⟨.hbm, 1345, rfl⟩
abbrev main_v837 : Ref sig .tc := ⟨.hbm, 1346, rfl⟩
abbrev main_call58_v0 : Ref sig .tc := ⟨.hbm, 1347, rfl⟩
abbrev main_call58_v1 : Ref sig .tc := ⟨.hbm, 1348, rfl⟩
abbrev main_call58_v2 : Ref sig .tc := ⟨.hbm, 1349, rfl⟩
abbrev main_call58_v3 : Ref sig .tc := ⟨.hbm, 1350, rfl⟩
abbrev main_call58_v4 : Ref sig .tc := ⟨.hbm, 1351, rfl⟩
abbrev main_v838 : Ref sig .tc := ⟨.hbm, 1352, rfl⟩
abbrev main_v839 : Ref sig .tc := ⟨.hbm, 1353, rfl⟩
abbrev main_v840 : Ref sig .tc := ⟨.hbm, 1354, rfl⟩
abbrev main_v841 : Ref sig .tc := ⟨.hbm, 1355, rfl⟩
abbrev main_v842 : Ref sig .tc := ⟨.hbm, 1356, rfl⟩
abbrev main_v843 : Ref sig .tc := ⟨.hbm, 1357, rfl⟩
abbrev main_c_270 : Ref sig .tc := ⟨.hbm, 1358, rfl⟩
abbrev main_v844 : Ref sig .tc := ⟨.hbm, 1359, rfl⟩
abbrev main_v845 : Ref sig .tc := ⟨.hbm, 1360, rfl⟩
abbrev main_c_271 : Ref sig .tc := ⟨.hbm, 1361, rfl⟩
abbrev main_v846 : Ref sig .tc := ⟨.hbm, 1362, rfl⟩
abbrev main_v847 : Ref sig .tc := ⟨.hbm, 1363, rfl⟩
abbrev main_c_272 : Ref sig .tc := ⟨.hbm, 1364, rfl⟩
abbrev main_v848 : Ref sig .tc := ⟨.hbm, 1365, rfl⟩
abbrev main_v849 : Ref sig .tc := ⟨.hbm, 1366, rfl⟩
abbrev main_c_273 : Ref sig .tc := ⟨.hbm, 1367, rfl⟩
abbrev main_v850 : Ref sig .tc := ⟨.hbm, 1368, rfl⟩
abbrev main_v851 : Ref sig .tc := ⟨.hbm, 1369, rfl⟩
abbrev main_v852 : Ref sig .tc := ⟨.hbm, 1370, rfl⟩
abbrev main_c_274 : Ref sig .tc := ⟨.hbm, 1371, rfl⟩
abbrev main_v853 : Ref sig .tc := ⟨.hbm, 1372, rfl⟩
abbrev main_v854 : Ref sig .tc := ⟨.hbm, 1373, rfl⟩
abbrev main_v855 : Ref sig .tc := ⟨.hbm, 1374, rfl⟩
abbrev main_c_275 : Ref sig .tc := ⟨.hbm, 1375, rfl⟩
abbrev main_v856 : Ref sig .tc := ⟨.hbm, 1376, rfl⟩
abbrev main_v857 : Ref sig .tc := ⟨.hbm, 1377, rfl⟩
abbrev main_v858 : Ref sig .tc := ⟨.hbm, 1378, rfl⟩
abbrev main_v859 : Ref sig .tc := ⟨.hbm, 1379, rfl⟩
abbrev main_v860 : Ref sig .tc := ⟨.hbm, 1380, rfl⟩
abbrev main_c_276 : Ref sig .tc := ⟨.hbm, 1381, rfl⟩
abbrev main_v861 : Ref sig .tc := ⟨.hbm, 1382, rfl⟩
abbrev main_v862 : Ref sig .tc := ⟨.hbm, 1383, rfl⟩
abbrev main_v863 : Ref sig .tc := ⟨.hbm, 1384, rfl⟩
abbrev main_v864 : Ref sig .tc := ⟨.hbm, 1385, rfl⟩
abbrev main_c_277 : Ref sig .tc := ⟨.hbm, 1386, rfl⟩
abbrev main_c_278 : Ref sig .tc := ⟨.hbm, 1387, rfl⟩
abbrev main_call59_v0 : Ref sig .tc := ⟨.hbm, 1388, rfl⟩
abbrev main_call59_v1 : Ref sig .tc := ⟨.hbm, 1389, rfl⟩
abbrev main_call59_v2 : Ref sig .tc := ⟨.hbm, 1390, rfl⟩
abbrev main_call59_v3 : Ref sig .tc := ⟨.hbm, 1391, rfl⟩
abbrev main_call59_v4 : Ref sig .tc := ⟨.hbm, 1392, rfl⟩
abbrev main_v865 : Ref sig .tc := ⟨.hbm, 1393, rfl⟩
abbrev main_call60_v0 : Ref sig .tc := ⟨.hbm, 1394, rfl⟩
abbrev main_call60_v1 : Ref sig .tc := ⟨.hbm, 1395, rfl⟩
abbrev main_call60_v2 : Ref sig .tc := ⟨.hbm, 1396, rfl⟩
abbrev main_call60_v3 : Ref sig .tc := ⟨.hbm, 1397, rfl⟩
abbrev main_call60_v4 : Ref sig .tc := ⟨.hbm, 1398, rfl⟩
abbrev main_v866 : Ref sig .tc := ⟨.hbm, 1399, rfl⟩
abbrev main_v867 : Ref sig .tc := ⟨.hbm, 1400, rfl⟩
abbrev main_v868 : Ref sig .tc := ⟨.hbm, 1401, rfl⟩
abbrev main_v869 : Ref sig .tc := ⟨.hbm, 1402, rfl⟩
abbrev main_v870 : Ref sig .tc := ⟨.hbm, 1403, rfl⟩
abbrev main_v871 : Ref sig .tc := ⟨.hbm, 1404, rfl⟩
abbrev main_c_279 : Ref sig .tc := ⟨.hbm, 1405, rfl⟩
abbrev main_v872 : Ref sig .tc := ⟨.hbm, 1406, rfl⟩
abbrev main_v873 : Ref sig .tc := ⟨.hbm, 1407, rfl⟩
abbrev main_c_280 : Ref sig .tc := ⟨.hbm, 1408, rfl⟩
abbrev main_v874 : Ref sig .tc := ⟨.hbm, 1409, rfl⟩
abbrev main_v875 : Ref sig .tc := ⟨.hbm, 1410, rfl⟩
abbrev main_c_281 : Ref sig .tc := ⟨.hbm, 1411, rfl⟩
abbrev main_v876 : Ref sig .tc := ⟨.hbm, 1412, rfl⟩
abbrev main_v877 : Ref sig .tc := ⟨.hbm, 1413, rfl⟩
abbrev main_c_282 : Ref sig .tc := ⟨.hbm, 1414, rfl⟩
abbrev main_v878 : Ref sig .tc := ⟨.hbm, 1415, rfl⟩
abbrev main_v879 : Ref sig .tc := ⟨.hbm, 1416, rfl⟩
abbrev main_v880 : Ref sig .tc := ⟨.hbm, 1417, rfl⟩
abbrev main_c_283 : Ref sig .tc := ⟨.hbm, 1418, rfl⟩
abbrev main_v881 : Ref sig .tc := ⟨.hbm, 1419, rfl⟩
abbrev main_v882 : Ref sig .tc := ⟨.hbm, 1420, rfl⟩
abbrev main_v883 : Ref sig .tc := ⟨.hbm, 1421, rfl⟩
abbrev main_c_284 : Ref sig .tc := ⟨.hbm, 1422, rfl⟩
abbrev main_v884 : Ref sig .tc := ⟨.hbm, 1423, rfl⟩
abbrev main_v885 : Ref sig .tc := ⟨.hbm, 1424, rfl⟩
abbrev main_v886 : Ref sig .tc := ⟨.hbm, 1425, rfl⟩
abbrev main_v887 : Ref sig .tc := ⟨.hbm, 1426, rfl⟩
abbrev main_v888 : Ref sig .tc := ⟨.hbm, 1427, rfl⟩
abbrev main_c_285 : Ref sig .tc := ⟨.hbm, 1428, rfl⟩
abbrev main_v889 : Ref sig .tc := ⟨.hbm, 1429, rfl⟩
abbrev main_v890 : Ref sig .tc := ⟨.hbm, 1430, rfl⟩
abbrev main_v891 : Ref sig .tc := ⟨.hbm, 1431, rfl⟩
abbrev main_v892 : Ref sig .tc := ⟨.hbm, 1432, rfl⟩
abbrev main_c_286 : Ref sig .tc := ⟨.hbm, 1433, rfl⟩
abbrev main_c_287 : Ref sig .tc := ⟨.hbm, 1434, rfl⟩
abbrev main_call61_v0 : Ref sig .tc := ⟨.hbm, 1435, rfl⟩
abbrev main_call61_v1 : Ref sig .tc := ⟨.hbm, 1436, rfl⟩
abbrev main_call61_v2 : Ref sig .tc := ⟨.hbm, 1437, rfl⟩
abbrev main_call61_v3 : Ref sig .tc := ⟨.hbm, 1438, rfl⟩
abbrev main_call61_v4 : Ref sig .tc := ⟨.hbm, 1439, rfl⟩
abbrev main_v893 : Ref sig .tc := ⟨.hbm, 1440, rfl⟩
abbrev main_call62_v0 : Ref sig .tc := ⟨.hbm, 1441, rfl⟩
abbrev main_call62_v1 : Ref sig .tc := ⟨.hbm, 1442, rfl⟩
abbrev main_call62_v2 : Ref sig .tc := ⟨.hbm, 1443, rfl⟩
abbrev main_call62_v3 : Ref sig .tc := ⟨.hbm, 1444, rfl⟩
abbrev main_call62_v4 : Ref sig .tc := ⟨.hbm, 1445, rfl⟩
abbrev main_v894 : Ref sig .tc := ⟨.hbm, 1446, rfl⟩
abbrev main_v895 : Ref sig .tc := ⟨.hbm, 1447, rfl⟩
abbrev main_v896 : Ref sig .tc := ⟨.hbm, 1448, rfl⟩
abbrev main_v897 : Ref sig .tc := ⟨.hbm, 1449, rfl⟩
abbrev main_v898 : Ref sig .tc := ⟨.hbm, 1450, rfl⟩
abbrev main_v899 : Ref sig .tc := ⟨.hbm, 1451, rfl⟩
abbrev main_v900 : Ref sig .tc := ⟨.hbm, 1452, rfl⟩
abbrev main_v901 : Ref sig .tc := ⟨.hbm, 1453, rfl⟩
abbrev main_v902 : Ref sig .tc := ⟨.hbm, 1454, rfl⟩
abbrev main_v903 : Ref sig .tc := ⟨.hbm, 1455, rfl⟩
abbrev main_v904 : Ref sig .tc := ⟨.hbm, 1456, rfl⟩
abbrev main_v905 : Ref sig .tc := ⟨.hbm, 1457, rfl⟩
abbrev main_v906 : Ref sig .tc := ⟨.hbm, 1458, rfl⟩
abbrev main_v907 : Ref sig .tc := ⟨.hbm, 1459, rfl⟩
abbrev main_v908 : Ref sig .tc := ⟨.hbm, 1460, rfl⟩
abbrev main_v909 : Ref sig .tc := ⟨.hbm, 1461, rfl⟩
abbrev main_v910 : Ref sig .tc := ⟨.hbm, 1462, rfl⟩
abbrev main_v911 : Ref sig .tc := ⟨.hbm, 1463, rfl⟩
abbrev main_v912 : Ref sig .tc := ⟨.hbm, 1464, rfl⟩
abbrev main_v913 : Ref sig .tc := ⟨.hbm, 1465, rfl⟩
abbrev main_v914 : Ref sig .tc := ⟨.hbm, 1466, rfl⟩
abbrev main_v915 : Ref sig .tc := ⟨.hbm, 1467, rfl⟩
abbrev main_v916 : Ref sig .tc := ⟨.hbm, 1468, rfl⟩
abbrev main_v917 : Ref sig .tc := ⟨.hbm, 1469, rfl⟩
abbrev main_v918 : Ref sig .tc := ⟨.hbm, 1470, rfl⟩
abbrev main_v919 : Ref sig .tc := ⟨.hbm, 1471, rfl⟩
abbrev main_v920 : Ref sig .tc := ⟨.hbm, 1472, rfl⟩
abbrev main_v921 : Ref sig .tc := ⟨.hbm, 1473, rfl⟩
abbrev main_v922 : Ref sig .tc := ⟨.hbm, 1474, rfl⟩
abbrev main_v923 : Ref sig .tc := ⟨.hbm, 1475, rfl⟩
abbrev main_v924 : Ref sig .tc := ⟨.hbm, 1476, rfl⟩
abbrev main_v925 : Ref sig .tc := ⟨.hbm, 1477, rfl⟩
abbrev main_v926 : Ref sig .tc := ⟨.hbm, 1478, rfl⟩
abbrev main_v927 : Ref sig .tc := ⟨.hbm, 1479, rfl⟩
abbrev main_v928 : Ref sig .tc := ⟨.hbm, 1480, rfl⟩
abbrev main_v929 : Ref sig .tc := ⟨.hbm, 1481, rfl⟩
abbrev main_v930 : Ref sig .tc := ⟨.hbm, 1482, rfl⟩
abbrev main_v931 : Ref sig .tc := ⟨.hbm, 1483, rfl⟩
abbrev main_v932 : Ref sig .tc := ⟨.hbm, 1484, rfl⟩
abbrev main_v933 : Ref sig .tc := ⟨.hbm, 1485, rfl⟩
abbrev main_v934 : Ref sig .tc := ⟨.hbm, 1486, rfl⟩
abbrev main_v935 : Ref sig .tc := ⟨.hbm, 1487, rfl⟩
abbrev main_v936 : Ref sig .tc := ⟨.hbm, 1488, rfl⟩
abbrev main_v937 : Ref sig .tc := ⟨.hbm, 1489, rfl⟩
abbrev main_v938 : Ref sig .tc := ⟨.hbm, 1490, rfl⟩
abbrev main_v939 : Ref sig .tc := ⟨.hbm, 1491, rfl⟩
abbrev main_v940 : Ref sig .tc := ⟨.hbm, 1492, rfl⟩
abbrev main_v941 : Ref sig .tc := ⟨.hbm, 1493, rfl⟩
abbrev main_v942 : Ref sig .tc := ⟨.hbm, 1494, rfl⟩
abbrev main_v943 : Ref sig .tc := ⟨.hbm, 1495, rfl⟩
abbrev main_v944 : Ref sig .tc := ⟨.hbm, 1496, rfl⟩
abbrev main_v945 : Ref sig .tc := ⟨.hbm, 1497, rfl⟩
abbrev main_v946 : Ref sig .tc := ⟨.hbm, 1498, rfl⟩
abbrev main_v947 : Ref sig .tc := ⟨.hbm, 1499, rfl⟩
abbrev main_v948 : Ref sig .tc := ⟨.hbm, 1500, rfl⟩
abbrev main_v949 : Ref sig .tc := ⟨.hbm, 1501, rfl⟩
abbrev main_v950 : Ref sig .tc := ⟨.hbm, 1502, rfl⟩
abbrev main_v951 : Ref sig .tc := ⟨.hbm, 1503, rfl⟩
abbrev main_v952 : Ref sig .tc := ⟨.hbm, 1504, rfl⟩
abbrev main_v953 : Ref sig .tc := ⟨.hbm, 1505, rfl⟩
abbrev main_v954 : Ref sig .tc := ⟨.hbm, 1506, rfl⟩
abbrev main_v955 : Ref sig .tc := ⟨.hbm, 1507, rfl⟩
abbrev main_v956 : Ref sig .tc := ⟨.hbm, 1508, rfl⟩
abbrev main_v957 : Ref sig .tc := ⟨.hbm, 1509, rfl⟩
abbrev main_v958 : Ref sig .tc := ⟨.hbm, 1510, rfl⟩
abbrev main_v959 : Ref sig .tc := ⟨.hbm, 1511, rfl⟩
abbrev main_v960 : Ref sig .tc := ⟨.hbm, 1512, rfl⟩
abbrev main_v961 : Ref sig .tc := ⟨.hbm, 1513, rfl⟩
abbrev main_v962 : Ref sig .tc := ⟨.hbm, 1514, rfl⟩
abbrev main_v963 : Ref sig .tc := ⟨.hbm, 1515, rfl⟩
abbrev main_v964 : Ref sig .tc := ⟨.hbm, 1516, rfl⟩
abbrev main_v965 : Ref sig .tc := ⟨.hbm, 1517, rfl⟩
abbrev main_v966 : Ref sig .tc := ⟨.hbm, 1518, rfl⟩
abbrev main_v967 : Ref sig .tc := ⟨.hbm, 1519, rfl⟩
abbrev main_v968 : Ref sig .tc := ⟨.hbm, 1520, rfl⟩
abbrev main_v969 : Ref sig .tc := ⟨.hbm, 1521, rfl⟩
abbrev main_v970 : Ref sig .tc := ⟨.hbm, 1522, rfl⟩
abbrev main_v971 : Ref sig .tc := ⟨.hbm, 1523, rfl⟩
abbrev main_v972 : Ref sig .tc := ⟨.hbm, 1524, rfl⟩
abbrev main_v973 : Ref sig .tc := ⟨.hbm, 1525, rfl⟩
abbrev main_v974 : Ref sig .tc := ⟨.hbm, 1526, rfl⟩
abbrev main_v975 : Ref sig .tc := ⟨.hbm, 1527, rfl⟩
abbrev main_v976 : Ref sig .tc := ⟨.hbm, 1528, rfl⟩
abbrev main_v977 : Ref sig .tc := ⟨.hbm, 1529, rfl⟩
abbrev main_v978 : Ref sig .tc := ⟨.hbm, 1530, rfl⟩
abbrev main_v979 : Ref sig .tc := ⟨.hbm, 1531, rfl⟩
abbrev main_v980 : Ref sig .tc := ⟨.hbm, 1532, rfl⟩
abbrev main_v981 : Ref sig .tc := ⟨.hbm, 1533, rfl⟩
abbrev main_v982 : Ref sig .tc := ⟨.hbm, 1534, rfl⟩
abbrev main_v983 : Ref sig .tc := ⟨.hbm, 1535, rfl⟩
abbrev main_v984 : Ref sig .tc := ⟨.hbm, 1536, rfl⟩
abbrev main_v985 : Ref sig .tc := ⟨.hbm, 1537, rfl⟩
abbrev main_v986 : Ref sig .tc := ⟨.hbm, 1538, rfl⟩
abbrev main_v987 : Ref sig .tc := ⟨.hbm, 1539, rfl⟩
abbrev main_v988 : Ref sig .tc := ⟨.hbm, 1540, rfl⟩
abbrev main_c_288 : Ref sig .tc := ⟨.hbm, 1541, rfl⟩
abbrev main_v989 : Ref sig .tc := ⟨.hbm, 1542, rfl⟩
abbrev main_v990 : Ref sig .tc := ⟨.hbm, 1543, rfl⟩
abbrev main_v991 : Ref sig .tc := ⟨.hbm, 1544, rfl⟩
abbrev main_v992 : Ref sig .tc := ⟨.hbm, 1545, rfl⟩
abbrev main_v993 : Ref sig .tc := ⟨.hbm, 1546, rfl⟩
abbrev main_v994 : Ref sig .tc := ⟨.hbm, 1547, rfl⟩
abbrev main_v995 : Ref sig .tc := ⟨.hbm, 1548, rfl⟩
abbrev main_v996 : Ref sig .tc := ⟨.hbm, 1549, rfl⟩
abbrev main_v997 : Ref sig .tc := ⟨.hbm, 1550, rfl⟩
abbrev main_c_289 : Ref sig .tc := ⟨.hbm, 1551, rfl⟩
abbrev main_v998 : Ref sig .tc := ⟨.hbm, 1552, rfl⟩
abbrev main_c_290 : Ref sig .tc := ⟨.hbm, 1553, rfl⟩
abbrev main_v999 : Ref sig .tc := ⟨.hbm, 1554, rfl⟩
abbrev main_v1000 : Ref sig .tc := ⟨.hbm, 1555, rfl⟩
abbrev main_cst_291 : Ref sig .tc := ⟨.hbm, 1556, rfl⟩
abbrev main_v1001 : Ref sig .tc := ⟨.hbm, 1557, rfl⟩
abbrev main_c_292 : Ref sig .tc := ⟨.hbm, 1558, rfl⟩
abbrev main_v1002 : Ref sig .tc := ⟨.hbm, 1559, rfl⟩
abbrev main_v1003 : Ref sig .tc := ⟨.hbm, 1560, rfl⟩
abbrev main_v1004 : Ref sig .tc := ⟨.hbm, 1561, rfl⟩
abbrev main_v1005 : Ref sig .tc := ⟨.hbm, 1562, rfl⟩
abbrev main_v1006 : Ref sig .tc := ⟨.hbm, 1563, rfl⟩
abbrev main_v1007 : Ref sig .tc := ⟨.hbm, 1564, rfl⟩
abbrev main_v1008 : Ref sig .tc := ⟨.hbm, 1565, rfl⟩
abbrev main_v1009 : Ref sig .tc := ⟨.hbm, 1566, rfl⟩
abbrev main_v1010 : Ref sig .tc := ⟨.hbm, 1567, rfl⟩
abbrev main_v1011 : Ref sig .tc := ⟨.hbm, 1568, rfl⟩
abbrev main_v1012 : Ref sig .tc := ⟨.hbm, 1569, rfl⟩
abbrev main_v1013 : Ref sig .tc := ⟨.hbm, 1570, rfl⟩
abbrev main_v1014 : Ref sig .tc := ⟨.hbm, 1571, rfl⟩
abbrev main_v1015 : Ref sig .tc := ⟨.hbm, 1572, rfl⟩
abbrev main_v1004_scv : Ref sig .scVector := ⟨.hbm, 1561, rfl⟩
abbrev main_v1005_scv : Ref sig .scVector := ⟨.hbm, 1562, rfl⟩
abbrev main_v997_scv : Ref sig .scVector := ⟨.hbm, 1550, rfl⟩
abbrev main_v1006_scv : Ref sig .scVector := ⟨.hbm, 1563, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c29_i32 : BitVec 32 := 29#32
  let v2 : BitVec 32 := Scalar.addi c0_i32_0 c29_i32
  let c1_i32 : BitVec 32 := 1#32
  ⟨c0_i32_0, v2, c1_i32⟩
def k0_cond1 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c29_i32_2 : BitVec 32 := 29#32
  let v3 : BitVec 32 := Scalar.muli v1 c29_i32_2
  let c0_i32_0 : BitVec 32 := 0#32
  let c1_i32 : BitVec 32 := 1#32
  let arg13 : BitVec 32 := Scf.iv c0_i32_0 c1_i32 k0_t1
  let v4 : BitVec 32 := Scalar.addi v3 arg13
  let c900_i32 : BitVec 32 := 900#32
  let v5 : BitVec 1 := Scalar.cmpi .slt v4 c900_i32
  let v6 : BitVec 32 := Scalar.extui v5
  let c0_i32_3 : BitVec 32 := 0#32
  let v7 : BitVec 1 := Scalar.cmpi .ne v6 c0_i32_3
  v7

def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c29_i32_2 : BitVec 32 := 29#32
  let v3 : BitVec 32 := Scalar.muli v1 c29_i32_2
  let c0_i32_0 : BitVec 32 := 0#32
  let c1_i32 : BitVec 32 := 1#32
  let arg13 : BitVec 32 := Scf.iv c0_i32_0 c1_i32 k0_t1
  let v4 : BitVec 32 := Scalar.addi v3 arg13
  let c1248_i32 : BitVec 32 := 1248#32
  let v8 : BitVec 32 := Scalar.muli v4 c1248_i32
  ![v8.toNat]
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c29_i32_2 : BitVec 32 := 29#32
  let v3 : BitVec 32 := Scalar.muli v1 c29_i32_2
  let c0_i32_0 : BitVec 32 := 0#32
  let c1_i32 : BitVec 32 := 1#32
  let arg13 : BitVec 32 := Scf.iv c0_i32_0 c1_i32 k0_t1
  let v4 : BitVec 32 := Scalar.addi v3 arg13
  let c9984_i32 : BitVec 32 := 9984#32
  let v9 : BitVec 32 := Scalar.muli v4 c9984_i32
  ![v9.toNat]
@[reducible] def k0_t2_loop : Scf.Loop 32 :=
  let c0_i32_30 : BitVec 32 := 0#32
  let c24_i32 : BitVec 32 := 24#32
  let v32 : BitVec 32 := Scalar.addi c0_i32_30 c24_i32
  let c1_i32_31 : BitVec 32 := 1#32
  ⟨c0_i32_30, v32, c1_i32_31⟩
def k0_off3 (k0_t2 : Fin k0_t2_loop.trips) : Fin 1 → Nat :=
  let c0_i32_164 : BitVec 32 := 0#32
  let c0_i32_163 : BitVec 32 := 0#32
  let c0_i32_30 : BitVec 32 := 0#32
  let c1_i32_31 : BitVec 32 := 1#32
  let arg14 : BitVec 32 := Scf.iv c0_i32_30 c1_i32_31 k0_t2
  let c1_i32_162 : BitVec 32 := 1#32
  let v153 : BitVec 32 := Scalar.muli arg14 c1_i32_162
  let v154 : BitVec 32 := Scalar.addi c0_i32_163 v153
  let c32_i32 : BitVec 32 := 32#32
  let v155 : BitVec 32 := Scalar.muli v154 c32_i32
  let v156 : BitVec 32 := Scalar.addi c0_i32_164 v155
  let v157 : Index := Scalar.indexCast v156
  ![v157.toNat]
def k0_off4 (k0_t2 : Fin k0_t2_loop.trips) : Fin 1 → Nat :=
  let c0_i32_166 : BitVec 32 := 0#32
  let c0_i32_163 : BitVec 32 := 0#32
  let c0_i32_30 : BitVec 32 := 0#32
  let c1_i32_31 : BitVec 32 := 1#32
  let arg14 : BitVec 32 := Scf.iv c0_i32_30 c1_i32_31 k0_t2
  let c1_i32_162 : BitVec 32 := 1#32
  let v153 : BitVec 32 := Scalar.muli arg14 c1_i32_162
  let v154 : BitVec 32 := Scalar.addi c0_i32_163 v153
  let c32_i32_165 : BitVec 32 := 32#32
  let v160 : BitVec 32 := Scalar.muli v154 c32_i32_165
  let v161 : BitVec 32 := Scalar.addi c0_i32_166 v160
  let c16_i32 : BitVec 32 := 16#32
  let v162 : BitVec 32 := Scalar.addi v161 c16_i32
  let v163 : Index := Scalar.indexCast v162
  ![v163.toNat]
def k0_off5 (k0_t2 : Fin k0_t2_loop.trips) (c0_i32_167 : BitVec 32) : Fin 3 → Nat :=
  let c0_i32_163 : BitVec 32 := 0#32
  let c0_i32_30 : BitVec 32 := 0#32
  let c1_i32_31 : BitVec 32 := 1#32
  let arg14 : BitVec 32 := Scf.iv c0_i32_30 c1_i32_31 k0_t2
  let c1_i32_162 : BitVec 32 := 1#32
  let v153 : BitVec 32 := Scalar.muli arg14 c1_i32_162
  let v154 : BitVec 32 := Scalar.addi c0_i32_163 v153
  let c4_i32 : BitVec 32 := 4#32
  let v169 : BitVec 32 := Scalar.muli v154 c4_i32
  let v170 : BitVec 32 := Scalar.addi v169 c0_i32_167
  let v171 : Index := Scalar.indexCast v170
  let c0_i32_168 : BitVec 32 := 0#32
  let v172 : Index := Scalar.indexCast c0_i32_168
  let c0_169 : Index := 0#32
  ![v171.toNat, 0, 0]
def k0_off6 (k0_t2 : Fin k0_t2_loop.trips) (c0_i32_171 : BitVec 32) : Fin 3 → Nat :=
  let c0_i32_163 : BitVec 32 := 0#32
  let c0_i32_30 : BitVec 32 := 0#32
  let c1_i32_31 : BitVec 32 := 1#32
  let arg14 : BitVec 32 := Scf.iv c0_i32_30 c1_i32_31 k0_t2
  let c1_i32_162 : BitVec 32 := 1#32
  let v153 : BitVec 32 := Scalar.muli arg14 c1_i32_162
  let v154 : BitVec 32 := Scalar.addi c0_i32_163 v153
  let c4_i32_170 : BitVec 32 := 4#32
  let v177 : BitVec 32 := Scalar.muli v154 c4_i32_170
  let v178 : BitVec 32 := Scalar.addi v177 c0_i32_171
  let v179 : Index := Scalar.indexCast v178
  let c0_i32_172 : BitVec 32 := 0#32
  let v180 : Index := Scalar.indexCast c0_i32_172
  let c16_173 : Index := 16#32
  ![v179.toNat, 0, 16]
def k0_off7 (k0_t2 : Fin k0_t2_loop.trips) (c0_i32_175 : BitVec 32) : Fin 3 → Nat :=
  let c0_i32_163 : BitVec 32 := 0#32
  let c0_i32_30 : BitVec 32 := 0#32
  let c1_i32_31 : BitVec 32 := 1#32
  let arg14 : BitVec 32 := Scf.iv c0_i32_30 c1_i32_31 k0_t2
  let c1_i32_162 : BitVec 32 := 1#32
  let v153 : BitVec 32 := Scalar.muli arg14 c1_i32_162
  let v154 : BitVec 32 := Scalar.addi c0_i32_163 v153
  let c4_i32_174 : BitVec 32 := 4#32
  let v188 : BitVec 32 := Scalar.muli v154 c4_i32_174
  let v189 : BitVec 32 := Scalar.addi v188 c0_i32_175
  let v190 : Index := Scalar.indexCast v189
  let c0_i32_176 : BitVec 32 := 0#32
  let v191 : Index := Scalar.indexCast c0_i32_176
  let c32_177 : Index := 32#32
  ![v190.toNat, 0, 32]
def k0_off8 (k0_t2 : Fin k0_t2_loop.trips) (c0_i32_179 : BitVec 32) : Fin 3 → Nat :=
  let c0_i32_163 : BitVec 32 := 0#32
  let c0_i32_30 : BitVec 32 := 0#32
  let c1_i32_31 : BitVec 32 := 1#32
  let arg14 : BitVec 32 := Scf.iv c0_i32_30 c1_i32_31 k0_t2
  let c1_i32_162 : BitVec 32 := 1#32
  let v153 : BitVec 32 := Scalar.muli arg14 c1_i32_162
  let v154 : BitVec 32 := Scalar.addi c0_i32_163 v153
  let c4_i32_178 : BitVec 32 := 4#32
  let v196 : BitVec 32 := Scalar.muli v154 c4_i32_178
  let v197 : BitVec 32 := Scalar.addi v196 c0_i32_179
  let v198 : Index := Scalar.indexCast v197
  let c0_i32_180 : BitVec 32 := 0#32
  let v199 : Index := Scalar.indexCast c0_i32_180
  let c48_181 : Index := 48#32
  ![v198.toNat, 0, 48]
def k0_off9 (k0_t2 : Fin k0_t2_loop.trips) (c0_i32_183 : BitVec 32) : Fin 3 → Nat :=
  let c0_i32_163 : BitVec 32 := 0#32
  let c0_i32_30 : BitVec 32 := 0#32
  let c1_i32_31 : BitVec 32 := 1#32
  let arg14 : BitVec 32 := Scf.iv c0_i32_30 c1_i32_31 k0_t2
  let c1_i32_162 : BitVec 32 := 1#32
  let v153 : BitVec 32 := Scalar.muli arg14 c1_i32_162
  let v154 : BitVec 32 := Scalar.addi c0_i32_163 v153
  let c4_i32_182 : BitVec 32 := 4#32
  let v207 : BitVec 32 := Scalar.muli v154 c4_i32_182
  let v208 : BitVec 32 := Scalar.addi v207 c0_i32_183
  let v209 : Index := Scalar.indexCast v208
  let c0_i32_184 : BitVec 32 := 0#32
  let v210 : Index := Scalar.indexCast c0_i32_184
  let c64_185 : Index := 64#32
  ![v209.toNat, 0, 64]
def k0_off10 (k0_t2 : Fin k0_t2_loop.trips) (c0_i32_187 : BitVec 32) : Fin 3 → Nat :=
  let c0_i32_163 : BitVec 32 := 0#32
  let c0_i32_30 : BitVec 32 := 0#32
  let c1_i32_31 : BitVec 32 := 1#32
  let arg14 : BitVec 32 := Scf.iv c0_i32_30 c1_i32_31 k0_t2
  let c1_i32_162 : BitVec 32 := 1#32
  let v153 : BitVec 32 := Scalar.muli arg14 c1_i32_162
  let v154 : BitVec 32 := Scalar.addi c0_i32_163 v153
  let c4_i32_186 : BitVec 32 := 4#32
  let v215 : BitVec 32 := Scalar.muli v154 c4_i32_186
  let v216 : BitVec 32 := Scalar.addi v215 c0_i32_187
  let v217 : Index := Scalar.indexCast v216
  let c0_i32_188 : BitVec 32 := 0#32
  let v218 : Index := Scalar.indexCast c0_i32_188
  let c80_189 : Index := 80#32
  ![v217.toNat, 0, 80]
def k0_off11 (k0_t2 : Fin k0_t2_loop.trips) (c0_i32_191 : BitVec 32) : Fin 3 → Nat :=
  let c0_i32_163 : BitVec 32 := 0#32
  let c0_i32_30 : BitVec 32 := 0#32
  let c1_i32_31 : BitVec 32 := 1#32
  let arg14 : BitVec 32 := Scf.iv c0_i32_30 c1_i32_31 k0_t2
  let c1_i32_162 : BitVec 32 := 1#32
  let v153 : BitVec 32 := Scalar.muli arg14 c1_i32_162
  let v154 : BitVec 32 := Scalar.addi c0_i32_163 v153
  let c4_i32_190 : BitVec 32 := 4#32
  let v226 : BitVec 32 := Scalar.muli v154 c4_i32_190
  let v227 : BitVec 32 := Scalar.addi v226 c0_i32_191
  let v228 : Index := Scalar.indexCast v227
  let c0_i32_192 : BitVec 32 := 0#32
  let v229 : Index := Scalar.indexCast c0_i32_192
  let c96_193 : Index := 96#32
  ![v228.toNat, 0, 96]
def k0_off12 (k0_t2 : Fin k0_t2_loop.trips) (c0_i32_195 : BitVec 32) : Fin 3 → Nat :=
  let c0_i32_163 : BitVec 32 := 0#32
  let c0_i32_30 : BitVec 32 := 0#32
  let c1_i32_31 : BitVec 32 := 1#32
  let arg14 : BitVec 32 := Scf.iv c0_i32_30 c1_i32_31 k0_t2
  let c1_i32_162 : BitVec 32 := 1#32
  let v153 : BitVec 32 := Scalar.muli arg14 c1_i32_162
  let v154 : BitVec 32 := Scalar.addi c0_i32_163 v153
  let c4_i32_194 : BitVec 32 := 4#32
  let v234 : BitVec 32 := Scalar.muli v154 c4_i32_194
  let v235 : BitVec 32 := Scalar.addi v234 c0_i32_195
  let v236 : Index := Scalar.indexCast v235
  let c0_i32_196 : BitVec 32 := 0#32
  let v237 : Index := Scalar.indexCast c0_i32_196
  let c112_197 : Index := 112#32
  ![v236.toNat, 0, 112]
def k0_off13 (k0_t2 : Fin k0_t2_loop.trips) (c0_i32_199 : BitVec 32) : Fin 3 → Nat :=
  let c0_i32_163 : BitVec 32 := 0#32
  let c0_i32_30 : BitVec 32 := 0#32
  let c1_i32_31 : BitVec 32 := 1#32
  let arg14 : BitVec 32 := Scf.iv c0_i32_30 c1_i32_31 k0_t2
  let c1_i32_162 : BitVec 32 := 1#32
  let v153 : BitVec 32 := Scalar.muli arg14 c1_i32_162
  let v154 : BitVec 32 := Scalar.addi c0_i32_163 v153
  let c4_i32_198 : BitVec 32 := 4#32
  let v245 : BitVec 32 := Scalar.muli v154 c4_i32_198
  let v246 : BitVec 32 := Scalar.addi v245 c0_i32_199
  let v247 : Index := Scalar.indexCast v246
  let c1_i32_200 : BitVec 32 := 1#32
  let v248 : Index := Scalar.indexCast c1_i32_200
  let c0_201 : Index := 0#32
  ![v247.toNat, 1, 0]
def k0_off14 (k0_t2 : Fin k0_t2_loop.trips) (c0_i32_203 : BitVec 32) : Fin 3 → Nat :=
  let c0_i32_163 : BitVec 32 := 0#32
  let c0_i32_30 : BitVec 32 := 0#32
  let c1_i32_31 : BitVec 32 := 1#32
  let arg14 : BitVec 32 := Scf.iv c0_i32_30 c1_i32_31 k0_t2
  let c1_i32_162 : BitVec 32 := 1#32
  let v153 : BitVec 32 := Scalar.muli arg14 c1_i32_162
  let v154 : BitVec 32 := Scalar.addi c0_i32_163 v153
  let c4_i32_202 : BitVec 32 := 4#32
  let v253 : BitVec 32 := Scalar.muli v154 c4_i32_202
  let v254 : BitVec 32 := Scalar.addi v253 c0_i32_203
  let v255 : Index := Scalar.indexCast v254
  let c1_i32_204 : BitVec 32 := 1#32
  let v256 : Index := Scalar.indexCast c1_i32_204
  let c16_205 : Index := 16#32
  ![v255.toNat, 1, 16]
def k0_off15 (k0_t2 : Fin k0_t2_loop.trips) (c0_i32_207 : BitVec 32) : Fin 3 → Nat :=
  let c0_i32_163 : BitVec 32 := 0#32
  let c0_i32_30 : BitVec 32 := 0#32
  let c1_i32_31 : BitVec 32 := 1#32
  let arg14 : BitVec 32 := Scf.iv c0_i32_30 c1_i32_31 k0_t2
  let c1_i32_162 : BitVec 32 := 1#32
  let v153 : BitVec 32 := Scalar.muli arg14 c1_i32_162
  let v154 : BitVec 32 := Scalar.addi c0_i32_163 v153
  let c4_i32_206 : BitVec 32 := 4#32
  let v264 : BitVec 32 := Scalar.muli v154 c4_i32_206
  let v265 : BitVec 32 := Scalar.addi v264 c0_i32_207
  let v266 : Index := Scalar.indexCast v265
  let c1_i32_208 : BitVec 32 := 1#32
  let v267 : Index := Scalar.indexCast c1_i32_208
  let c32_209 : Index := 32#32
  ![v266.toNat, 1, 32]
def k0_off16 (k0_t2 : Fin k0_t2_loop.trips) (c0_i32_211 : BitVec 32) : Fin 3 → Nat :=
  let c0_i32_163 : BitVec 32 := 0#32
  let c0_i32_30 : BitVec 32 := 0#32
  let c1_i32_31 : BitVec 32 := 1#32
  let arg14 : BitVec 32 := Scf.iv c0_i32_30 c1_i32_31 k0_t2
  let c1_i32_162 : BitVec 32 := 1#32
  let v153 : BitVec 32 := Scalar.muli arg14 c1_i32_162
  let v154 : BitVec 32 := Scalar.addi c0_i32_163 v153
  let c4_i32_210 : BitVec 32 := 4#32
  let v272 : BitVec 32 := Scalar.muli v154 c4_i32_210
  let v273 : BitVec 32 := Scalar.addi v272 c0_i32_211
  let v274 : Index := Scalar.indexCast v273
  let c1_i32_212 : BitVec 32 := 1#32
  let v275 : Index := Scalar.indexCast c1_i32_212
  let c48_213 : Index := 48#32
  ![v274.toNat, 1, 48]
def k0_off17 (k0_t2 : Fin k0_t2_loop.trips) (c0_i32_215 : BitVec 32) : Fin 3 → Nat :=
  let c0_i32_163 : BitVec 32 := 0#32
  let c0_i32_30 : BitVec 32 := 0#32
  let c1_i32_31 : BitVec 32 := 1#32
  let arg14 : BitVec 32 := Scf.iv c0_i32_30 c1_i32_31 k0_t2
  let c1_i32_162 : BitVec 32 := 1#32
  let v153 : BitVec 32 := Scalar.muli arg14 c1_i32_162
  let v154 : BitVec 32 := Scalar.addi c0_i32_163 v153
  let c4_i32_214 : BitVec 32 := 4#32
  let v283 : BitVec 32 := Scalar.muli v154 c4_i32_214
  let v284 : BitVec 32 := Scalar.addi v283 c0_i32_215
  let v285 : Index := Scalar.indexCast v284
  let c1_i32_216 : BitVec 32 := 1#32
  let v286 : Index := Scalar.indexCast c1_i32_216
  let c64_217 : Index := 64#32
  ![v285.toNat, 1, 64]
def k0_off18 (k0_t2 : Fin k0_t2_loop.trips) (c0_i32_219 : BitVec 32) : Fin 3 → Nat :=
  let c0_i32_163 : BitVec 32 := 0#32
  let c0_i32_30 : BitVec 32 := 0#32
  let c1_i32_31 : BitVec 32 := 1#32
  let arg14 : BitVec 32 := Scf.iv c0_i32_30 c1_i32_31 k0_t2
  let c1_i32_162 : BitVec 32 := 1#32
  let v153 : BitVec 32 := Scalar.muli arg14 c1_i32_162
  let v154 : BitVec 32 := Scalar.addi c0_i32_163 v153
  let c4_i32_218 : BitVec 32 := 4#32
  let v291 : BitVec 32 := Scalar.muli v154 c4_i32_218
  let v292 : BitVec 32 := Scalar.addi v291 c0_i32_219
  let v293 : Index := Scalar.indexCast v292
  let c1_i32_220 : BitVec 32 := 1#32
  let v294 : Index := Scalar.indexCast c1_i32_220
  let c80_221 : Index := 80#32
  ![v293.toNat, 1, 80]
def k0_off19 (k0_t2 : Fin k0_t2_loop.trips) (c0_i32_223 : BitVec 32) : Fin 3 → Nat :=
  let c0_i32_163 : BitVec 32 := 0#32
  let c0_i32_30 : BitVec 32 := 0#32
  let c1_i32_31 : BitVec 32 := 1#32
  let arg14 : BitVec 32 := Scf.iv c0_i32_30 c1_i32_31 k0_t2
  let c1_i32_162 : BitVec 32 := 1#32
  let v153 : BitVec 32 := Scalar.muli arg14 c1_i32_162
  let v154 : BitVec 32 := Scalar.addi c0_i32_163 v153
  let c4_i32_222 : BitVec 32 := 4#32
  let v302 : BitVec 32 := Scalar.muli v154 c4_i32_222
  let v303 : BitVec 32 := Scalar.addi v302 c0_i32_223
  let v304 : Index := Scalar.indexCast v303
  let c1_i32_224 : BitVec 32 := 1#32
  let v305 : Index := Scalar.indexCast c1_i32_224
  let c96_225 : Index := 96#32
  ![v304.toNat, 1, 96]
def k0_off20 (k0_t2 : Fin k0_t2_loop.trips) (c0_i32_227 : BitVec 32) : Fin 3 → Nat :=
  let c0_i32_163 : BitVec 32 := 0#32
  let c0_i32_30 : BitVec 32 := 0#32
  let c1_i32_31 : BitVec 32 := 1#32
  let arg14 : BitVec 32 := Scf.iv c0_i32_30 c1_i32_31 k0_t2
  let c1_i32_162 : BitVec 32 := 1#32
  let v153 : BitVec 32 := Scalar.muli arg14 c1_i32_162
  let v154 : BitVec 32 := Scalar.addi c0_i32_163 v153
  let c4_i32_226 : BitVec 32 := 4#32
  let v310 : BitVec 32 := Scalar.muli v154 c4_i32_226
  let v311 : BitVec 32 := Scalar.addi v310 c0_i32_227
  let v312 : Index := Scalar.indexCast v311
  let c1_i32_228 : BitVec 32 := 1#32
  let v313 : Index := Scalar.indexCast c1_i32_228
  let c112_229 : Index := 112#32
  ![v312.toNat, 1, 112]
@[reducible] def k0_t3_loop : Scf.Loop 32 :=
  let c0_i32_40 : BitVec 32 := 0#32
  let c24_i32_41 : BitVec 32 := 24#32
  let v38 : BitVec 32 := Scalar.addi c0_i32_40 c24_i32_41
  let c1_i32_42 : BitVec 32 := 1#32
  ⟨c0_i32_40, v38, c1_i32_42⟩
def k0_off21 (k0_t3 : Fin k0_t3_loop.trips) : Fin 1 → Nat :=
  let c768_i32_164 : BitVec 32 := 768#32
  let c0_i32_163 : BitVec 32 := 0#32
  let c0_i32_40 : BitVec 32 := 0#32
  let c1_i32_42 : BitVec 32 := 1#32
  let arg14 : BitVec 32 := Scf.iv c0_i32_40 c1_i32_42 k0_t3
  let c1_i32_162 : BitVec 32 := 1#32
  let v153 : BitVec 32 := Scalar.muli arg14 c1_i32_162
  let v154 : BitVec 32 := Scalar.addi c0_i32_163 v153
  let c32_i32 : BitVec 32 := 32#32
  let v155 : BitVec 32 := Scalar.muli v154 c32_i32
  let v156 : BitVec 32 := Scalar.addi c768_i32_164 v155
  let v157 : Index := Scalar.indexCast v156
  ![v157.toNat]
def k0_off22 (k0_t3 : Fin k0_t3_loop.trips) : Fin 1 → Nat :=
  let c768_i32_166 : BitVec 32 := 768#32
  let c0_i32_163 : BitVec 32 := 0#32
  let c0_i32_40 : BitVec 32 := 0#32
  let c1_i32_42 : BitVec 32 := 1#32
  let arg14 : BitVec 32 := Scf.iv c0_i32_40 c1_i32_42 k0_t3
  let c1_i32_162 : BitVec 32 := 1#32
  let v153 : BitVec 32 := Scalar.muli arg14 c1_i32_162
  let v154 : BitVec 32 := Scalar.addi c0_i32_163 v153
  let c32_i32_165 : BitVec 32 := 32#32
  let v160 : BitVec 32 := Scalar.muli v154 c32_i32_165
  let v161 : BitVec 32 := Scalar.addi c768_i32_166 v160
  let c16_i32 : BitVec 32 := 16#32
  let v162 : BitVec 32 := Scalar.addi v161 c16_i32
  let v163 : Index := Scalar.indexCast v162
  ![v163.toNat]
def k0_off23 (k0_t3 : Fin k0_t3_loop.trips) (c0_i32_167 : BitVec 32) : Fin 3 → Nat :=
  let c0_i32_163 : BitVec 32 := 0#32
  let c0_i32_40 : BitVec 32 := 0#32
  let c1_i32_42 : BitVec 32 := 1#32
  let arg14 : BitVec 32 := Scf.iv c0_i32_40 c1_i32_42 k0_t3
  let c1_i32_162 : BitVec 32 := 1#32
  let v153 : BitVec 32 := Scalar.muli arg14 c1_i32_162
  let v154 : BitVec 32 := Scalar.addi c0_i32_163 v153
  let c4_i32 : BitVec 32 := 4#32
  let v169 : BitVec 32 := Scalar.muli v154 c4_i32
  let v170 : BitVec 32 := Scalar.addi v169 c0_i32_167
  let v171 : Index := Scalar.indexCast v170
  let c0_i32_168 : BitVec 32 := 0#32
  let v172 : Index := Scalar.indexCast c0_i32_168
  let c0_169 : Index := 0#32
  ![v171.toNat, 0, 0]
def k0_off24 (k0_t3 : Fin k0_t3_loop.trips) (c0_i32_171 : BitVec 32) : Fin 3 → Nat :=
  let c0_i32_163 : BitVec 32 := 0#32
  let c0_i32_40 : BitVec 32 := 0#32
  let c1_i32_42 : BitVec 32 := 1#32
  let arg14 : BitVec 32 := Scf.iv c0_i32_40 c1_i32_42 k0_t3
  let c1_i32_162 : BitVec 32 := 1#32
  let v153 : BitVec 32 := Scalar.muli arg14 c1_i32_162
  let v154 : BitVec 32 := Scalar.addi c0_i32_163 v153
  let c4_i32_170 : BitVec 32 := 4#32
  let v177 : BitVec 32 := Scalar.muli v154 c4_i32_170
  let v178 : BitVec 32 := Scalar.addi v177 c0_i32_171
  let v179 : Index := Scalar.indexCast v178
  let c0_i32_172 : BitVec 32 := 0#32
  let v180 : Index := Scalar.indexCast c0_i32_172
  let c16_173 : Index := 16#32
  ![v179.toNat, 0, 16]
def k0_off25 (k0_t3 : Fin k0_t3_loop.trips) (c0_i32_175 : BitVec 32) : Fin 3 → Nat :=
  let c0_i32_163 : BitVec 32 := 0#32
  let c0_i32_40 : BitVec 32 := 0#32
  let c1_i32_42 : BitVec 32 := 1#32
  let arg14 : BitVec 32 := Scf.iv c0_i32_40 c1_i32_42 k0_t3
  let c1_i32_162 : BitVec 32 := 1#32
  let v153 : BitVec 32 := Scalar.muli arg14 c1_i32_162
  let v154 : BitVec 32 := Scalar.addi c0_i32_163 v153
  let c4_i32_174 : BitVec 32 := 4#32
  let v188 : BitVec 32 := Scalar.muli v154 c4_i32_174
  let v189 : BitVec 32 := Scalar.addi v188 c0_i32_175
  let v190 : Index := Scalar.indexCast v189
  let c0_i32_176 : BitVec 32 := 0#32
  let v191 : Index := Scalar.indexCast c0_i32_176
  let c32_177 : Index := 32#32
  ![v190.toNat, 0, 32]
def k0_off26 (k0_t3 : Fin k0_t3_loop.trips) (c0_i32_179 : BitVec 32) : Fin 3 → Nat :=
  let c0_i32_163 : BitVec 32 := 0#32
  let c0_i32_40 : BitVec 32 := 0#32
  let c1_i32_42 : BitVec 32 := 1#32
  let arg14 : BitVec 32 := Scf.iv c0_i32_40 c1_i32_42 k0_t3
  let c1_i32_162 : BitVec 32 := 1#32
  let v153 : BitVec 32 := Scalar.muli arg14 c1_i32_162
  let v154 : BitVec 32 := Scalar.addi c0_i32_163 v153
  let c4_i32_178 : BitVec 32 := 4#32
  let v196 : BitVec 32 := Scalar.muli v154 c4_i32_178
  let v197 : BitVec 32 := Scalar.addi v196 c0_i32_179
  let v198 : Index := Scalar.indexCast v197
  let c0_i32_180 : BitVec 32 := 0#32
  let v199 : Index := Scalar.indexCast c0_i32_180
  let c48_181 : Index := 48#32
  ![v198.toNat, 0, 48]
def k0_off27 (k0_t3 : Fin k0_t3_loop.trips) (c0_i32_183 : BitVec 32) : Fin 3 → Nat :=
  let c0_i32_163 : BitVec 32 := 0#32
  let c0_i32_40 : BitVec 32 := 0#32
  let c1_i32_42 : BitVec 32 := 1#32
  let arg14 : BitVec 32 := Scf.iv c0_i32_40 c1_i32_42 k0_t3
  let c1_i32_162 : BitVec 32 := 1#32
  let v153 : BitVec 32 := Scalar.muli arg14 c1_i32_162
  let v154 : BitVec 32 := Scalar.addi c0_i32_163 v153
  let c4_i32_182 : BitVec 32 := 4#32
  let v207 : BitVec 32 := Scalar.muli v154 c4_i32_182
  let v208 : BitVec 32 := Scalar.addi v207 c0_i32_183
  let v209 : Index := Scalar.indexCast v208
  let c0_i32_184 : BitVec 32 := 0#32
  let v210 : Index := Scalar.indexCast c0_i32_184
  let c64_185 : Index := 64#32
  ![v209.toNat, 0, 64]
def k0_off28 (k0_t3 : Fin k0_t3_loop.trips) (c0_i32_187 : BitVec 32) : Fin 3 → Nat :=
  let c0_i32_163 : BitVec 32 := 0#32
  let c0_i32_40 : BitVec 32 := 0#32
  let c1_i32_42 : BitVec 32 := 1#32
  let arg14 : BitVec 32 := Scf.iv c0_i32_40 c1_i32_42 k0_t3
  let c1_i32_162 : BitVec 32 := 1#32
  let v153 : BitVec 32 := Scalar.muli arg14 c1_i32_162
  let v154 : BitVec 32 := Scalar.addi c0_i32_163 v153
  let c4_i32_186 : BitVec 32 := 4#32
  let v215 : BitVec 32 := Scalar.muli v154 c4_i32_186
  let v216 : BitVec 32 := Scalar.addi v215 c0_i32_187
  let v217 : Index := Scalar.indexCast v216
  let c0_i32_188 : BitVec 32 := 0#32
  let v218 : Index := Scalar.indexCast c0_i32_188
  let c80_189 : Index := 80#32
  ![v217.toNat, 0, 80]
def k0_off29 (k0_t3 : Fin k0_t3_loop.trips) (c0_i32_191 : BitVec 32) : Fin 3 → Nat :=
  let c0_i32_163 : BitVec 32 := 0#32
  let c0_i32_40 : BitVec 32 := 0#32
  let c1_i32_42 : BitVec 32 := 1#32
  let arg14 : BitVec 32 := Scf.iv c0_i32_40 c1_i32_42 k0_t3
  let c1_i32_162 : BitVec 32 := 1#32
  let v153 : BitVec 32 := Scalar.muli arg14 c1_i32_162
  let v154 : BitVec 32 := Scalar.addi c0_i32_163 v153
  let c4_i32_190 : BitVec 32 := 4#32
  let v226 : BitVec 32 := Scalar.muli v154 c4_i32_190
  let v227 : BitVec 32 := Scalar.addi v226 c0_i32_191
  let v228 : Index := Scalar.indexCast v227
  let c0_i32_192 : BitVec 32 := 0#32
  let v229 : Index := Scalar.indexCast c0_i32_192
  let c96_193 : Index := 96#32
  ![v228.toNat, 0, 96]
def k0_off30 (k0_t3 : Fin k0_t3_loop.trips) (c0_i32_195 : BitVec 32) : Fin 3 → Nat :=
  let c0_i32_163 : BitVec 32 := 0#32
  let c0_i32_40 : BitVec 32 := 0#32
  let c1_i32_42 : BitVec 32 := 1#32
  let arg14 : BitVec 32 := Scf.iv c0_i32_40 c1_i32_42 k0_t3
  let c1_i32_162 : BitVec 32 := 1#32
  let v153 : BitVec 32 := Scalar.muli arg14 c1_i32_162
  let v154 : BitVec 32 := Scalar.addi c0_i32_163 v153
  let c4_i32_194 : BitVec 32 := 4#32
  let v234 : BitVec 32 := Scalar.muli v154 c4_i32_194
  let v235 : BitVec 32 := Scalar.addi v234 c0_i32_195
  let v236 : Index := Scalar.indexCast v235
  let c0_i32_196 : BitVec 32 := 0#32
  let v237 : Index := Scalar.indexCast c0_i32_196
  let c112_197 : Index := 112#32
  ![v236.toNat, 0, 112]
def k0_off31 (k0_t3 : Fin k0_t3_loop.trips) (c0_i32_199 : BitVec 32) : Fin 3 → Nat :=
  let c0_i32_163 : BitVec 32 := 0#32
  let c0_i32_40 : BitVec 32 := 0#32
  let c1_i32_42 : BitVec 32 := 1#32
  let arg14 : BitVec 32 := Scf.iv c0_i32_40 c1_i32_42 k0_t3
  let c1_i32_162 : BitVec 32 := 1#32
  let v153 : BitVec 32 := Scalar.muli arg14 c1_i32_162
  let v154 : BitVec 32 := Scalar.addi c0_i32_163 v153
  let c4_i32_198 : BitVec 32 := 4#32
  let v245 : BitVec 32 := Scalar.muli v154 c4_i32_198
  let v246 : BitVec 32 := Scalar.addi v245 c0_i32_199
  let v247 : Index := Scalar.indexCast v246
  let c1_i32_200 : BitVec 32 := 1#32
  let v248 : Index := Scalar.indexCast c1_i32_200
  let c0_201 : Index := 0#32
  ![v247.toNat, 1, 0]
def k0_off32 (k0_t3 : Fin k0_t3_loop.trips) (c0_i32_203 : BitVec 32) : Fin 3 → Nat :=
  let c0_i32_163 : BitVec 32 := 0#32
  let c0_i32_40 : BitVec 32 := 0#32
  let c1_i32_42 : BitVec 32 := 1#32
  let arg14 : BitVec 32 := Scf.iv c0_i32_40 c1_i32_42 k0_t3
  let c1_i32_162 : BitVec 32 := 1#32
  let v153 : BitVec 32 := Scalar.muli arg14 c1_i32_162
  let v154 : BitVec 32 := Scalar.addi c0_i32_163 v153
  let c4_i32_202 : BitVec 32 := 4#32
  let v253 : BitVec 32 := Scalar.muli v154 c4_i32_202
  let v254 : BitVec 32 := Scalar.addi v253 c0_i32_203
  let v255 : Index := Scalar.indexCast v254
  let c1_i32_204 : BitVec 32 := 1#32
  let v256 : Index := Scalar.indexCast c1_i32_204
  let c16_205 : Index := 16#32
  ![v255.toNat, 1, 16]
def k0_off33 (k0_t3 : Fin k0_t3_loop.trips) (c0_i32_207 : BitVec 32) : Fin 3 → Nat :=
  let c0_i32_163 : BitVec 32 := 0#32
  let c0_i32_40 : BitVec 32 := 0#32
  let c1_i32_42 : BitVec 32 := 1#32
  let arg14 : BitVec 32 := Scf.iv c0_i32_40 c1_i32_42 k0_t3
  let c1_i32_162 : BitVec 32 := 1#32
  let v153 : BitVec 32 := Scalar.muli arg14 c1_i32_162
  let v154 : BitVec 32 := Scalar.addi c0_i32_163 v153
  let c4_i32_206 : BitVec 32 := 4#32
  let v264 : BitVec 32 := Scalar.muli v154 c4_i32_206
  let v265 : BitVec 32 := Scalar.addi v264 c0_i32_207
  let v266 : Index := Scalar.indexCast v265
  let c1_i32_208 : BitVec 32 := 1#32
  let v267 : Index := Scalar.indexCast c1_i32_208
  let c32_209 : Index := 32#32
  ![v266.toNat, 1, 32]
def k0_off34 (k0_t3 : Fin k0_t3_loop.trips) (c0_i32_211 : BitVec 32) : Fin 3 → Nat :=
  let c0_i32_163 : BitVec 32 := 0#32
  let c0_i32_40 : BitVec 32 := 0#32
  let c1_i32_42 : BitVec 32 := 1#32
  let arg14 : BitVec 32 := Scf.iv c0_i32_40 c1_i32_42 k0_t3
  let c1_i32_162 : BitVec 32 := 1#32
  let v153 : BitVec 32 := Scalar.muli arg14 c1_i32_162
  let v154 : BitVec 32 := Scalar.addi c0_i32_163 v153
  let c4_i32_210 : BitVec 32 := 4#32
  let v272 : BitVec 32 := Scalar.muli v154 c4_i32_210
  let v273 : BitVec 32 := Scalar.addi v272 c0_i32_211
  let v274 : Index := Scalar.indexCast v273
  let c1_i32_212 : BitVec 32 := 1#32
  let v275 : Index := Scalar.indexCast c1_i32_212
  let c48_213 : Index := 48#32
  ![v274.toNat, 1, 48]
def k0_off35 (k0_t3 : Fin k0_t3_loop.trips) (c0_i32_215 : BitVec 32) : Fin 3 → Nat :=
  let c0_i32_163 : BitVec 32 := 0#32
  let c0_i32_40 : BitVec 32 := 0#32
  let c1_i32_42 : BitVec 32 := 1#32
  let arg14 : BitVec 32 := Scf.iv c0_i32_40 c1_i32_42 k0_t3
  let c1_i32_162 : BitVec 32 := 1#32
  let v153 : BitVec 32 := Scalar.muli arg14 c1_i32_162
  let v154 : BitVec 32 := Scalar.addi c0_i32_163 v153
  let c4_i32_214 : BitVec 32 := 4#32
  let v283 : BitVec 32 := Scalar.muli v154 c4_i32_214
  let v284 : BitVec 32 := Scalar.addi v283 c0_i32_215
  let v285 : Index := Scalar.indexCast v284
  let c1_i32_216 : BitVec 32 := 1#32
  let v286 : Index := Scalar.indexCast c1_i32_216
  let c64_217 : Index := 64#32
  ![v285.toNat, 1, 64]
def k0_off36 (k0_t3 : Fin k0_t3_loop.trips) (c0_i32_219 : BitVec 32) : Fin 3 → Nat :=
  let c0_i32_163 : BitVec 32 := 0#32
  let c0_i32_40 : BitVec 32 := 0#32
  let c1_i32_42 : BitVec 32 := 1#32
  let arg14 : BitVec 32 := Scf.iv c0_i32_40 c1_i32_42 k0_t3
  let c1_i32_162 : BitVec 32 := 1#32
  let v153 : BitVec 32 := Scalar.muli arg14 c1_i32_162
  let v154 : BitVec 32 := Scalar.addi c0_i32_163 v153
  let c4_i32_218 : BitVec 32 := 4#32
  let v291 : BitVec 32 := Scalar.muli v154 c4_i32_218
  let v292 : BitVec 32 := Scalar.addi v291 c0_i32_219
  let v293 : Index := Scalar.indexCast v292
  let c1_i32_220 : BitVec 32 := 1#32
  let v294 : Index := Scalar.indexCast c1_i32_220
  let c80_221 : Index := 80#32
  ![v293.toNat, 1, 80]
def k0_off37 (k0_t3 : Fin k0_t3_loop.trips) (c0_i32_223 : BitVec 32) : Fin 3 → Nat :=
  let c0_i32_163 : BitVec 32 := 0#32
  let c0_i32_40 : BitVec 32 := 0#32
  let c1_i32_42 : BitVec 32 := 1#32
  let arg14 : BitVec 32 := Scf.iv c0_i32_40 c1_i32_42 k0_t3
  let c1_i32_162 : BitVec 32 := 1#32
  let v153 : BitVec 32 := Scalar.muli arg14 c1_i32_162
  let v154 : BitVec 32 := Scalar.addi c0_i32_163 v153
  let c4_i32_222 : BitVec 32 := 4#32
  let v302 : BitVec 32 := Scalar.muli v154 c4_i32_222
  let v303 : BitVec 32 := Scalar.addi v302 c0_i32_223
  let v304 : Index := Scalar.indexCast v303
  let c1_i32_224 : BitVec 32 := 1#32
  let v305 : Index := Scalar.indexCast c1_i32_224
  let c96_225 : Index := 96#32
  ![v304.toNat, 1, 96]
def k0_off38 (k0_t3 : Fin k0_t3_loop.trips) (c0_i32_227 : BitVec 32) : Fin 3 → Nat :=
  let c0_i32_163 : BitVec 32 := 0#32
  let c0_i32_40 : BitVec 32 := 0#32
  let c1_i32_42 : BitVec 32 := 1#32
  let arg14 : BitVec 32 := Scf.iv c0_i32_40 c1_i32_42 k0_t3
  let c1_i32_162 : BitVec 32 := 1#32
  let v153 : BitVec 32 := Scalar.muli arg14 c1_i32_162
  let v154 : BitVec 32 := Scalar.addi c0_i32_163 v153
  let c4_i32_226 : BitVec 32 := 4#32
  let v310 : BitVec 32 := Scalar.muli v154 c4_i32_226
  let v311 : BitVec 32 := Scalar.addi v310 c0_i32_227
  let v312 : Index := Scalar.indexCast v311
  let c1_i32_228 : BitVec 32 := 1#32
  let v313 : Index := Scalar.indexCast c1_i32_228
  let c112_229 : Index := 112#32
  ![v312.toNat, 1, 112]
@[reducible] def k0_t4_loop : Scf.Loop 32 :=
  let c0_i32_51 : BitVec 32 := 0#32
  let c24_i32_52 : BitVec 32 := 24#32
  let v44 : BitVec 32 := Scalar.addi c0_i32_51 c24_i32_52
  let c1_i32_53 : BitVec 32 := 1#32
  ⟨c0_i32_51, v44, c1_i32_53⟩
def k0_off39 (k0_t4 : Fin k0_t4_loop.trips) : Fin 1 → Nat :=
  let c1536_i32 : BitVec 32 := 1536#32
  let c0_i32_163 : BitVec 32 := 0#32
  let c0_i32_51 : BitVec 32 := 0#32
  let c1_i32_53 : BitVec 32 := 1#32
  let arg14 : BitVec 32 := Scf.iv c0_i32_51 c1_i32_53 k0_t4
  let c1_i32_162 : BitVec 32 := 1#32
  let v153 : BitVec 32 := Scalar.muli arg14 c1_i32_162
  let v154 : BitVec 32 := Scalar.addi c0_i32_163 v153
  let c32_i32 : BitVec 32 := 32#32
  let v155 : BitVec 32 := Scalar.muli v154 c32_i32
  let v156 : BitVec 32 := Scalar.addi c1536_i32 v155
  let v157 : Index := Scalar.indexCast v156
  ![v157.toNat]
def k0_off40 (k0_t4 : Fin k0_t4_loop.trips) : Fin 1 → Nat :=
  let c1536_i32_165 : BitVec 32 := 1536#32
  let c0_i32_163 : BitVec 32 := 0#32
  let c0_i32_51 : BitVec 32 := 0#32
  let c1_i32_53 : BitVec 32 := 1#32
  let arg14 : BitVec 32 := Scf.iv c0_i32_51 c1_i32_53 k0_t4
  let c1_i32_162 : BitVec 32 := 1#32
  let v153 : BitVec 32 := Scalar.muli arg14 c1_i32_162
  let v154 : BitVec 32 := Scalar.addi c0_i32_163 v153
  let c32_i32_164 : BitVec 32 := 32#32
  let v160 : BitVec 32 := Scalar.muli v154 c32_i32_164
  let v161 : BitVec 32 := Scalar.addi c1536_i32_165 v160
  let c16_i32 : BitVec 32 := 16#32
  let v162 : BitVec 32 := Scalar.addi v161 c16_i32
  let v163 : Index := Scalar.indexCast v162
  ![v163.toNat]
def k0_off41 (k0_t4 : Fin k0_t4_loop.trips) (c0_i32_166 : BitVec 32) : Fin 3 → Nat :=
  let c0_i32_163 : BitVec 32 := 0#32
  let c0_i32_51 : BitVec 32 := 0#32
  let c1_i32_53 : BitVec 32 := 1#32
  let arg14 : BitVec 32 := Scf.iv c0_i32_51 c1_i32_53 k0_t4
  let c1_i32_162 : BitVec 32 := 1#32
  let v153 : BitVec 32 := Scalar.muli arg14 c1_i32_162
  let v154 : BitVec 32 := Scalar.addi c0_i32_163 v153
  let c4_i32 : BitVec 32 := 4#32
  let v169 : BitVec 32 := Scalar.muli v154 c4_i32
  let v170 : BitVec 32 := Scalar.addi v169 c0_i32_166
  let v171 : Index := Scalar.indexCast v170
  let c0_i32_167 : BitVec 32 := 0#32
  let v172 : Index := Scalar.indexCast c0_i32_167
  let c0_168 : Index := 0#32
  ![v171.toNat, 0, 0]
def k0_off42 (k0_t4 : Fin k0_t4_loop.trips) (c0_i32_170 : BitVec 32) : Fin 3 → Nat :=
  let c0_i32_163 : BitVec 32 := 0#32
  let c0_i32_51 : BitVec 32 := 0#32
  let c1_i32_53 : BitVec 32 := 1#32
  let arg14 : BitVec 32 := Scf.iv c0_i32_51 c1_i32_53 k0_t4
  let c1_i32_162 : BitVec 32 := 1#32
  let v153 : BitVec 32 := Scalar.muli arg14 c1_i32_162
  let v154 : BitVec 32 := Scalar.addi c0_i32_163 v153
  let c4_i32_169 : BitVec 32 := 4#32
  let v177 : BitVec 32 := Scalar.muli v154 c4_i32_169
  let v178 : BitVec 32 := Scalar.addi v177 c0_i32_170
  let v179 : Index := Scalar.indexCast v178
  let c0_i32_171 : BitVec 32 := 0#32
  let v180 : Index := Scalar.indexCast c0_i32_171
  let c16_172 : Index := 16#32
  ![v179.toNat, 0, 16]
def k0_off43 (k0_t4 : Fin k0_t4_loop.trips) (c0_i32_174 : BitVec 32) : Fin 3 → Nat :=
  let c0_i32_163 : BitVec 32 := 0#32
  let c0_i32_51 : BitVec 32 := 0#32
  let c1_i32_53 : BitVec 32 := 1#32
  let arg14 : BitVec 32 := Scf.iv c0_i32_51 c1_i32_53 k0_t4
  let c1_i32_162 : BitVec 32 := 1#32
  let v153 : BitVec 32 := Scalar.muli arg14 c1_i32_162
  let v154 : BitVec 32 := Scalar.addi c0_i32_163 v153
  let c4_i32_173 : BitVec 32 := 4#32
  let v188 : BitVec 32 := Scalar.muli v154 c4_i32_173
  let v189 : BitVec 32 := Scalar.addi v188 c0_i32_174
  let v190 : Index := Scalar.indexCast v189
  let c0_i32_175 : BitVec 32 := 0#32
  let v191 : Index := Scalar.indexCast c0_i32_175
  let c32_176 : Index := 32#32
  ![v190.toNat, 0, 32]
def k0_off44 (k0_t4 : Fin k0_t4_loop.trips) (c0_i32_178 : BitVec 32) : Fin 3 → Nat :=
  let c0_i32_163 : BitVec 32 := 0#32
  let c0_i32_51 : BitVec 32 := 0#32
  let c1_i32_53 : BitVec 32 := 1#32
  let arg14 : BitVec 32 := Scf.iv c0_i32_51 c1_i32_53 k0_t4
  let c1_i32_162 : BitVec 32 := 1#32
  let v153 : BitVec 32 := Scalar.muli arg14 c1_i32_162
  let v154 : BitVec 32 := Scalar.addi c0_i32_163 v153
  let c4_i32_177 : BitVec 32 := 4#32
  let v196 : BitVec 32 := Scalar.muli v154 c4_i32_177
  let v197 : BitVec 32 := Scalar.addi v196 c0_i32_178
  let v198 : Index := Scalar.indexCast v197
  let c0_i32_179 : BitVec 32 := 0#32
  let v199 : Index := Scalar.indexCast c0_i32_179
  let c48_180 : Index := 48#32
  ![v198.toNat, 0, 48]
def k0_off45 (k0_t4 : Fin k0_t4_loop.trips) (c0_i32_182 : BitVec 32) : Fin 3 → Nat :=
  let c0_i32_163 : BitVec 32 := 0#32
  let c0_i32_51 : BitVec 32 := 0#32
  let c1_i32_53 : BitVec 32 := 1#32
  let arg14 : BitVec 32 := Scf.iv c0_i32_51 c1_i32_53 k0_t4
  let c1_i32_162 : BitVec 32 := 1#32
  let v153 : BitVec 32 := Scalar.muli arg14 c1_i32_162
  let v154 : BitVec 32 := Scalar.addi c0_i32_163 v153
  let c4_i32_181 : BitVec 32 := 4#32
  let v207 : BitVec 32 := Scalar.muli v154 c4_i32_181
  let v208 : BitVec 32 := Scalar.addi v207 c0_i32_182
  let v209 : Index := Scalar.indexCast v208
  let c0_i32_183 : BitVec 32 := 0#32
  let v210 : Index := Scalar.indexCast c0_i32_183
  let c64_184 : Index := 64#32
  ![v209.toNat, 0, 64]
def k0_off46 (k0_t4 : Fin k0_t4_loop.trips) (c0_i32_186 : BitVec 32) : Fin 3 → Nat :=
  let c0_i32_163 : BitVec 32 := 0#32
  let c0_i32_51 : BitVec 32 := 0#32
  let c1_i32_53 : BitVec 32 := 1#32
  let arg14 : BitVec 32 := Scf.iv c0_i32_51 c1_i32_53 k0_t4
  let c1_i32_162 : BitVec 32 := 1#32
  let v153 : BitVec 32 := Scalar.muli arg14 c1_i32_162
  let v154 : BitVec 32 := Scalar.addi c0_i32_163 v153
  let c4_i32_185 : BitVec 32 := 4#32
  let v215 : BitVec 32 := Scalar.muli v154 c4_i32_185
  let v216 : BitVec 32 := Scalar.addi v215 c0_i32_186
  let v217 : Index := Scalar.indexCast v216
  let c0_i32_187 : BitVec 32 := 0#32
  let v218 : Index := Scalar.indexCast c0_i32_187
  let c80_188 : Index := 80#32
  ![v217.toNat, 0, 80]
def k0_off47 (k0_t4 : Fin k0_t4_loop.trips) (c0_i32_190 : BitVec 32) : Fin 3 → Nat :=
  let c0_i32_163 : BitVec 32 := 0#32
  let c0_i32_51 : BitVec 32 := 0#32
  let c1_i32_53 : BitVec 32 := 1#32
  let arg14 : BitVec 32 := Scf.iv c0_i32_51 c1_i32_53 k0_t4
  let c1_i32_162 : BitVec 32 := 1#32
  let v153 : BitVec 32 := Scalar.muli arg14 c1_i32_162
  let v154 : BitVec 32 := Scalar.addi c0_i32_163 v153
  let c4_i32_189 : BitVec 32 := 4#32
  let v226 : BitVec 32 := Scalar.muli v154 c4_i32_189
  let v227 : BitVec 32 := Scalar.addi v226 c0_i32_190
  let v228 : Index := Scalar.indexCast v227
  let c0_i32_191 : BitVec 32 := 0#32
  let v229 : Index := Scalar.indexCast c0_i32_191
  let c96_192 : Index := 96#32
  ![v228.toNat, 0, 96]
def k0_off48 (k0_t4 : Fin k0_t4_loop.trips) (c0_i32_194 : BitVec 32) : Fin 3 → Nat :=
  let c0_i32_163 : BitVec 32 := 0#32
  let c0_i32_51 : BitVec 32 := 0#32
  let c1_i32_53 : BitVec 32 := 1#32
  let arg14 : BitVec 32 := Scf.iv c0_i32_51 c1_i32_53 k0_t4
  let c1_i32_162 : BitVec 32 := 1#32
  let v153 : BitVec 32 := Scalar.muli arg14 c1_i32_162
  let v154 : BitVec 32 := Scalar.addi c0_i32_163 v153
  let c4_i32_193 : BitVec 32 := 4#32
  let v234 : BitVec 32 := Scalar.muli v154 c4_i32_193
  let v235 : BitVec 32 := Scalar.addi v234 c0_i32_194
  let v236 : Index := Scalar.indexCast v235
  let c0_i32_195 : BitVec 32 := 0#32
  let v237 : Index := Scalar.indexCast c0_i32_195
  let c112_196 : Index := 112#32
  ![v236.toNat, 0, 112]
def k0_off49 (k0_t4 : Fin k0_t4_loop.trips) (c0_i32_198 : BitVec 32) : Fin 3 → Nat :=
  let c0_i32_163 : BitVec 32 := 0#32
  let c0_i32_51 : BitVec 32 := 0#32
  let c1_i32_53 : BitVec 32 := 1#32
  let arg14 : BitVec 32 := Scf.iv c0_i32_51 c1_i32_53 k0_t4
  let c1_i32_162 : BitVec 32 := 1#32
  let v153 : BitVec 32 := Scalar.muli arg14 c1_i32_162
  let v154 : BitVec 32 := Scalar.addi c0_i32_163 v153
  let c4_i32_197 : BitVec 32 := 4#32
  let v245 : BitVec 32 := Scalar.muli v154 c4_i32_197
  let v246 : BitVec 32 := Scalar.addi v245 c0_i32_198
  let v247 : Index := Scalar.indexCast v246
  let c1_i32_199 : BitVec 32 := 1#32
  let v248 : Index := Scalar.indexCast c1_i32_199
  let c0_200 : Index := 0#32
  ![v247.toNat, 1, 0]
def k0_off50 (k0_t4 : Fin k0_t4_loop.trips) (c0_i32_202 : BitVec 32) : Fin 3 → Nat :=
  let c0_i32_163 : BitVec 32 := 0#32
  let c0_i32_51 : BitVec 32 := 0#32
  let c1_i32_53 : BitVec 32 := 1#32
  let arg14 : BitVec 32 := Scf.iv c0_i32_51 c1_i32_53 k0_t4
  let c1_i32_162 : BitVec 32 := 1#32
  let v153 : BitVec 32 := Scalar.muli arg14 c1_i32_162
  let v154 : BitVec 32 := Scalar.addi c0_i32_163 v153
  let c4_i32_201 : BitVec 32 := 4#32
  let v253 : BitVec 32 := Scalar.muli v154 c4_i32_201
  let v254 : BitVec 32 := Scalar.addi v253 c0_i32_202
  let v255 : Index := Scalar.indexCast v254
  let c1_i32_203 : BitVec 32 := 1#32
  let v256 : Index := Scalar.indexCast c1_i32_203
  let c16_204 : Index := 16#32
  ![v255.toNat, 1, 16]
def k0_off51 (k0_t4 : Fin k0_t4_loop.trips) (c0_i32_206 : BitVec 32) : Fin 3 → Nat :=
  let c0_i32_163 : BitVec 32 := 0#32
  let c0_i32_51 : BitVec 32 := 0#32
  let c1_i32_53 : BitVec 32 := 1#32
  let arg14 : BitVec 32 := Scf.iv c0_i32_51 c1_i32_53 k0_t4
  let c1_i32_162 : BitVec 32 := 1#32
  let v153 : BitVec 32 := Scalar.muli arg14 c1_i32_162
  let v154 : BitVec 32 := Scalar.addi c0_i32_163 v153
  let c4_i32_205 : BitVec 32 := 4#32
  let v264 : BitVec 32 := Scalar.muli v154 c4_i32_205
  let v265 : BitVec 32 := Scalar.addi v264 c0_i32_206
  let v266 : Index := Scalar.indexCast v265
  let c1_i32_207 : BitVec 32 := 1#32
  let v267 : Index := Scalar.indexCast c1_i32_207
  let c32_208 : Index := 32#32
  ![v266.toNat, 1, 32]
def k0_off52 (k0_t4 : Fin k0_t4_loop.trips) (c0_i32_210 : BitVec 32) : Fin 3 → Nat :=
  let c0_i32_163 : BitVec 32 := 0#32
  let c0_i32_51 : BitVec 32 := 0#32
  let c1_i32_53 : BitVec 32 := 1#32
  let arg14 : BitVec 32 := Scf.iv c0_i32_51 c1_i32_53 k0_t4
  let c1_i32_162 : BitVec 32 := 1#32
  let v153 : BitVec 32 := Scalar.muli arg14 c1_i32_162
  let v154 : BitVec 32 := Scalar.addi c0_i32_163 v153
  let c4_i32_209 : BitVec 32 := 4#32
  let v272 : BitVec 32 := Scalar.muli v154 c4_i32_209
  let v273 : BitVec 32 := Scalar.addi v272 c0_i32_210
  let v274 : Index := Scalar.indexCast v273
  let c1_i32_211 : BitVec 32 := 1#32
  let v275 : Index := Scalar.indexCast c1_i32_211
  let c48_212 : Index := 48#32
  ![v274.toNat, 1, 48]
def k0_off53 (k0_t4 : Fin k0_t4_loop.trips) (c0_i32_214 : BitVec 32) : Fin 3 → Nat :=
  let c0_i32_163 : BitVec 32 := 0#32
  let c0_i32_51 : BitVec 32 := 0#32
  let c1_i32_53 : BitVec 32 := 1#32
  let arg14 : BitVec 32 := Scf.iv c0_i32_51 c1_i32_53 k0_t4
  let c1_i32_162 : BitVec 32 := 1#32
  let v153 : BitVec 32 := Scalar.muli arg14 c1_i32_162
  let v154 : BitVec 32 := Scalar.addi c0_i32_163 v153
  let c4_i32_213 : BitVec 32 := 4#32
  let v283 : BitVec 32 := Scalar.muli v154 c4_i32_213
  let v284 : BitVec 32 := Scalar.addi v283 c0_i32_214
  let v285 : Index := Scalar.indexCast v284
  let c1_i32_215 : BitVec 32 := 1#32
  let v286 : Index := Scalar.indexCast c1_i32_215
  let c64_216 : Index := 64#32
  ![v285.toNat, 1, 64]
def k0_off54 (k0_t4 : Fin k0_t4_loop.trips) (c0_i32_218 : BitVec 32) : Fin 3 → Nat :=
  let c0_i32_163 : BitVec 32 := 0#32
  let c0_i32_51 : BitVec 32 := 0#32
  let c1_i32_53 : BitVec 32 := 1#32
  let arg14 : BitVec 32 := Scf.iv c0_i32_51 c1_i32_53 k0_t4
  let c1_i32_162 : BitVec 32 := 1#32
  let v153 : BitVec 32 := Scalar.muli arg14 c1_i32_162
  let v154 : BitVec 32 := Scalar.addi c0_i32_163 v153
  let c4_i32_217 : BitVec 32 := 4#32
  let v291 : BitVec 32 := Scalar.muli v154 c4_i32_217
  let v292 : BitVec 32 := Scalar.addi v291 c0_i32_218
  let v293 : Index := Scalar.indexCast v292
  let c1_i32_219 : BitVec 32 := 1#32
  let v294 : Index := Scalar.indexCast c1_i32_219
  let c80_220 : Index := 80#32
  ![v293.toNat, 1, 80]
def k0_off55 (k0_t4 : Fin k0_t4_loop.trips) (c0_i32_222 : BitVec 32) : Fin 3 → Nat :=
  let c0_i32_163 : BitVec 32 := 0#32
  let c0_i32_51 : BitVec 32 := 0#32
  let c1_i32_53 : BitVec 32 := 1#32
  let arg14 : BitVec 32 := Scf.iv c0_i32_51 c1_i32_53 k0_t4
  let c1_i32_162 : BitVec 32 := 1#32
  let v153 : BitVec 32 := Scalar.muli arg14 c1_i32_162
  let v154 : BitVec 32 := Scalar.addi c0_i32_163 v153
  let c4_i32_221 : BitVec 32 := 4#32
  let v302 : BitVec 32 := Scalar.muli v154 c4_i32_221
  let v303 : BitVec 32 := Scalar.addi v302 c0_i32_222
  let v304 : Index := Scalar.indexCast v303
  let c1_i32_223 : BitVec 32 := 1#32
  let v305 : Index := Scalar.indexCast c1_i32_223
  let c96_224 : Index := 96#32
  ![v304.toNat, 1, 96]
def k0_off56 (k0_t4 : Fin k0_t4_loop.trips) (c0_i32_226 : BitVec 32) : Fin 3 → Nat :=
  let c0_i32_163 : BitVec 32 := 0#32
  let c0_i32_51 : BitVec 32 := 0#32
  let c1_i32_53 : BitVec 32 := 1#32
  let arg14 : BitVec 32 := Scf.iv c0_i32_51 c1_i32_53 k0_t4
  let c1_i32_162 : BitVec 32 := 1#32
  let v153 : BitVec 32 := Scalar.muli arg14 c1_i32_162
  let v154 : BitVec 32 := Scalar.addi c0_i32_163 v153
  let c4_i32_225 : BitVec 32 := 4#32
  let v310 : BitVec 32 := Scalar.muli v154 c4_i32_225
  let v311 : BitVec 32 := Scalar.addi v310 c0_i32_226
  let v312 : Index := Scalar.indexCast v311
  let c1_i32_227 : BitVec 32 := 1#32
  let v313 : Index := Scalar.indexCast c1_i32_227
  let c112_228 : Index := 112#32
  ![v312.toNat, 1, 112]
@[reducible] def k0_t5_loop : Scf.Loop 32 :=
  let c0_i32_62 : BitVec 32 := 0#32
  let c24_i32_63 : BitVec 32 := 24#32
  let v50 : BitVec 32 := Scalar.addi c0_i32_62 c24_i32_63
  let c1_i32_64 : BitVec 32 := 1#32
  ⟨c0_i32_62, v50, c1_i32_64⟩
def k0_off57 (k0_t5 : Fin k0_t5_loop.trips) : Fin 1 → Nat :=
  let c2304_i32 : BitVec 32 := 2304#32
  let c0_i32_163 : BitVec 32 := 0#32
  let c0_i32_62 : BitVec 32 := 0#32
  let c1_i32_64 : BitVec 32 := 1#32
  let arg14 : BitVec 32 := Scf.iv c0_i32_62 c1_i32_64 k0_t5
  let c1_i32_162 : BitVec 32 := 1#32
  let v153 : BitVec 32 := Scalar.muli arg14 c1_i32_162
  let v154 : BitVec 32 := Scalar.addi c0_i32_163 v153
  let c32_i32 : BitVec 32 := 32#32
  let v155 : BitVec 32 := Scalar.muli v154 c32_i32
  let v156 : BitVec 32 := Scalar.addi c2304_i32 v155
  let v157 : Index := Scalar.indexCast v156
  ![v157.toNat]
def k0_off58 (k0_t5 : Fin k0_t5_loop.trips) : Fin 1 → Nat :=
  let c2304_i32_165 : BitVec 32 := 2304#32
  let c0_i32_163 : BitVec 32 := 0#32
  let c0_i32_62 : BitVec 32 := 0#32
  let c1_i32_64 : BitVec 32 := 1#32
  let arg14 : BitVec 32 := Scf.iv c0_i32_62 c1_i32_64 k0_t5
  let c1_i32_162 : BitVec 32 := 1#32
  let v153 : BitVec 32 := Scalar.muli arg14 c1_i32_162
  let v154 : BitVec 32 := Scalar.addi c0_i32_163 v153
  let c32_i32_164 : BitVec 32 := 32#32
  let v160 : BitVec 32 := Scalar.muli v154 c32_i32_164
  let v161 : BitVec 32 := Scalar.addi c2304_i32_165 v160
  let c16_i32 : BitVec 32 := 16#32
  let v162 : BitVec 32 := Scalar.addi v161 c16_i32
  let v163 : Index := Scalar.indexCast v162
  ![v163.toNat]
def k0_off59 (k0_t5 : Fin k0_t5_loop.trips) (c0_i32_166 : BitVec 32) : Fin 3 → Nat :=
  let c0_i32_163 : BitVec 32 := 0#32
  let c0_i32_62 : BitVec 32 := 0#32
  let c1_i32_64 : BitVec 32 := 1#32
  let arg14 : BitVec 32 := Scf.iv c0_i32_62 c1_i32_64 k0_t5
  let c1_i32_162 : BitVec 32 := 1#32
  let v153 : BitVec 32 := Scalar.muli arg14 c1_i32_162
  let v154 : BitVec 32 := Scalar.addi c0_i32_163 v153
  let c4_i32 : BitVec 32 := 4#32
  let v169 : BitVec 32 := Scalar.muli v154 c4_i32
  let v170 : BitVec 32 := Scalar.addi v169 c0_i32_166
  let v171 : Index := Scalar.indexCast v170
  let c0_i32_167 : BitVec 32 := 0#32
  let v172 : Index := Scalar.indexCast c0_i32_167
  let c0_168 : Index := 0#32
  ![v171.toNat, 0, 0]
def k0_off60 (k0_t5 : Fin k0_t5_loop.trips) (c0_i32_170 : BitVec 32) : Fin 3 → Nat :=
  let c0_i32_163 : BitVec 32 := 0#32
  let c0_i32_62 : BitVec 32 := 0#32
  let c1_i32_64 : BitVec 32 := 1#32
  let arg14 : BitVec 32 := Scf.iv c0_i32_62 c1_i32_64 k0_t5
  let c1_i32_162 : BitVec 32 := 1#32
  let v153 : BitVec 32 := Scalar.muli arg14 c1_i32_162
  let v154 : BitVec 32 := Scalar.addi c0_i32_163 v153
  let c4_i32_169 : BitVec 32 := 4#32
  let v177 : BitVec 32 := Scalar.muli v154 c4_i32_169
  let v178 : BitVec 32 := Scalar.addi v177 c0_i32_170
  let v179 : Index := Scalar.indexCast v178
  let c0_i32_171 : BitVec 32 := 0#32
  let v180 : Index := Scalar.indexCast c0_i32_171
  let c16_172 : Index := 16#32
  ![v179.toNat, 0, 16]
def k0_off61 (k0_t5 : Fin k0_t5_loop.trips) (c0_i32_174 : BitVec 32) : Fin 3 → Nat :=
  let c0_i32_163 : BitVec 32 := 0#32
  let c0_i32_62 : BitVec 32 := 0#32
  let c1_i32_64 : BitVec 32 := 1#32
  let arg14 : BitVec 32 := Scf.iv c0_i32_62 c1_i32_64 k0_t5
  let c1_i32_162 : BitVec 32 := 1#32
  let v153 : BitVec 32 := Scalar.muli arg14 c1_i32_162
  let v154 : BitVec 32 := Scalar.addi c0_i32_163 v153
  let c4_i32_173 : BitVec 32 := 4#32
  let v188 : BitVec 32 := Scalar.muli v154 c4_i32_173
  let v189 : BitVec 32 := Scalar.addi v188 c0_i32_174
  let v190 : Index := Scalar.indexCast v189
  let c0_i32_175 : BitVec 32 := 0#32
  let v191 : Index := Scalar.indexCast c0_i32_175
  let c32_176 : Index := 32#32
  ![v190.toNat, 0, 32]
def k0_off62 (k0_t5 : Fin k0_t5_loop.trips) (c0_i32_178 : BitVec 32) : Fin 3 → Nat :=
  let c0_i32_163 : BitVec 32 := 0#32
  let c0_i32_62 : BitVec 32 := 0#32
  let c1_i32_64 : BitVec 32 := 1#32
  let arg14 : BitVec 32 := Scf.iv c0_i32_62 c1_i32_64 k0_t5
  let c1_i32_162 : BitVec 32 := 1#32
  let v153 : BitVec 32 := Scalar.muli arg14 c1_i32_162
  let v154 : BitVec 32 := Scalar.addi c0_i32_163 v153
  let c4_i32_177 : BitVec 32 := 4#32
  let v196 : BitVec 32 := Scalar.muli v154 c4_i32_177
  let v197 : BitVec 32 := Scalar.addi v196 c0_i32_178
  let v198 : Index := Scalar.indexCast v197
  let c0_i32_179 : BitVec 32 := 0#32
  let v199 : Index := Scalar.indexCast c0_i32_179
  let c48_180 : Index := 48#32
  ![v198.toNat, 0, 48]
def k0_off63 (k0_t5 : Fin k0_t5_loop.trips) (c0_i32_182 : BitVec 32) : Fin 3 → Nat :=
  let c0_i32_163 : BitVec 32 := 0#32
  let c0_i32_62 : BitVec 32 := 0#32
  let c1_i32_64 : BitVec 32 := 1#32
  let arg14 : BitVec 32 := Scf.iv c0_i32_62 c1_i32_64 k0_t5
  let c1_i32_162 : BitVec 32 := 1#32
  let v153 : BitVec 32 := Scalar.muli arg14 c1_i32_162
  let v154 : BitVec 32 := Scalar.addi c0_i32_163 v153
  let c4_i32_181 : BitVec 32 := 4#32
  let v207 : BitVec 32 := Scalar.muli v154 c4_i32_181
  let v208 : BitVec 32 := Scalar.addi v207 c0_i32_182
  let v209 : Index := Scalar.indexCast v208
  let c0_i32_183 : BitVec 32 := 0#32
  let v210 : Index := Scalar.indexCast c0_i32_183
  let c64_184 : Index := 64#32
  ![v209.toNat, 0, 64]
def k0_off64 (k0_t5 : Fin k0_t5_loop.trips) (c0_i32_186 : BitVec 32) : Fin 3 → Nat :=
  let c0_i32_163 : BitVec 32 := 0#32
  let c0_i32_62 : BitVec 32 := 0#32
  let c1_i32_64 : BitVec 32 := 1#32
  let arg14 : BitVec 32 := Scf.iv c0_i32_62 c1_i32_64 k0_t5
  let c1_i32_162 : BitVec 32 := 1#32
  let v153 : BitVec 32 := Scalar.muli arg14 c1_i32_162
  let v154 : BitVec 32 := Scalar.addi c0_i32_163 v153
  let c4_i32_185 : BitVec 32 := 4#32
  let v215 : BitVec 32 := Scalar.muli v154 c4_i32_185
  let v216 : BitVec 32 := Scalar.addi v215 c0_i32_186
  let v217 : Index := Scalar.indexCast v216
  let c0_i32_187 : BitVec 32 := 0#32
  let v218 : Index := Scalar.indexCast c0_i32_187
  let c80_188 : Index := 80#32
  ![v217.toNat, 0, 80]
def k0_off65 (k0_t5 : Fin k0_t5_loop.trips) (c0_i32_190 : BitVec 32) : Fin 3 → Nat :=
  let c0_i32_163 : BitVec 32 := 0#32
  let c0_i32_62 : BitVec 32 := 0#32
  let c1_i32_64 : BitVec 32 := 1#32
  let arg14 : BitVec 32 := Scf.iv c0_i32_62 c1_i32_64 k0_t5
  let c1_i32_162 : BitVec 32 := 1#32
  let v153 : BitVec 32 := Scalar.muli arg14 c1_i32_162
  let v154 : BitVec 32 := Scalar.addi c0_i32_163 v153
  let c4_i32_189 : BitVec 32 := 4#32
  let v226 : BitVec 32 := Scalar.muli v154 c4_i32_189
  let v227 : BitVec 32 := Scalar.addi v226 c0_i32_190
  let v228 : Index := Scalar.indexCast v227
  let c0_i32_191 : BitVec 32 := 0#32
  let v229 : Index := Scalar.indexCast c0_i32_191
  let c96_192 : Index := 96#32
  ![v228.toNat, 0, 96]
def k0_off66 (k0_t5 : Fin k0_t5_loop.trips) (c0_i32_194 : BitVec 32) : Fin 3 → Nat :=
  let c0_i32_163 : BitVec 32 := 0#32
  let c0_i32_62 : BitVec 32 := 0#32
  let c1_i32_64 : BitVec 32 := 1#32
  let arg14 : BitVec 32 := Scf.iv c0_i32_62 c1_i32_64 k0_t5
  let c1_i32_162 : BitVec 32 := 1#32
  let v153 : BitVec 32 := Scalar.muli arg14 c1_i32_162
  let v154 : BitVec 32 := Scalar.addi c0_i32_163 v153
  let c4_i32_193 : BitVec 32 := 4#32
  let v234 : BitVec 32 := Scalar.muli v154 c4_i32_193
  let v235 : BitVec 32 := Scalar.addi v234 c0_i32_194
  let v236 : Index := Scalar.indexCast v235
  let c0_i32_195 : BitVec 32 := 0#32
  let v237 : Index := Scalar.indexCast c0_i32_195
  let c112_196 : Index := 112#32
  ![v236.toNat, 0, 112]
def k0_off67 (k0_t5 : Fin k0_t5_loop.trips) (c0_i32_198 : BitVec 32) : Fin 3 → Nat :=
  let c0_i32_163 : BitVec 32 := 0#32
  let c0_i32_62 : BitVec 32 := 0#32
  let c1_i32_64 : BitVec 32 := 1#32
  let arg14 : BitVec 32 := Scf.iv c0_i32_62 c1_i32_64 k0_t5
  let c1_i32_162 : BitVec 32 := 1#32
  let v153 : BitVec 32 := Scalar.muli arg14 c1_i32_162
  let v154 : BitVec 32 := Scalar.addi c0_i32_163 v153
  let c4_i32_197 : BitVec 32 := 4#32
  let v245 : BitVec 32 := Scalar.muli v154 c4_i32_197
  let v246 : BitVec 32 := Scalar.addi v245 c0_i32_198
  let v247 : Index := Scalar.indexCast v246
  let c1_i32_199 : BitVec 32 := 1#32
  let v248 : Index := Scalar.indexCast c1_i32_199
  let c0_200 : Index := 0#32
  ![v247.toNat, 1, 0]
def k0_off68 (k0_t5 : Fin k0_t5_loop.trips) (c0_i32_202 : BitVec 32) : Fin 3 → Nat :=
  let c0_i32_163 : BitVec 32 := 0#32
  let c0_i32_62 : BitVec 32 := 0#32
  let c1_i32_64 : BitVec 32 := 1#32
  let arg14 : BitVec 32 := Scf.iv c0_i32_62 c1_i32_64 k0_t5
  let c1_i32_162 : BitVec 32 := 1#32
  let v153 : BitVec 32 := Scalar.muli arg14 c1_i32_162
  let v154 : BitVec 32 := Scalar.addi c0_i32_163 v153
  let c4_i32_201 : BitVec 32 := 4#32
  let v253 : BitVec 32 := Scalar.muli v154 c4_i32_201
  let v254 : BitVec 32 := Scalar.addi v253 c0_i32_202
  let v255 : Index := Scalar.indexCast v254
  let c1_i32_203 : BitVec 32 := 1#32
  let v256 : Index := Scalar.indexCast c1_i32_203
  let c16_204 : Index := 16#32
  ![v255.toNat, 1, 16]
def k0_off69 (k0_t5 : Fin k0_t5_loop.trips) (c0_i32_206 : BitVec 32) : Fin 3 → Nat :=
  let c0_i32_163 : BitVec 32 := 0#32
  let c0_i32_62 : BitVec 32 := 0#32
  let c1_i32_64 : BitVec 32 := 1#32
  let arg14 : BitVec 32 := Scf.iv c0_i32_62 c1_i32_64 k0_t5
  let c1_i32_162 : BitVec 32 := 1#32
  let v153 : BitVec 32 := Scalar.muli arg14 c1_i32_162
  let v154 : BitVec 32 := Scalar.addi c0_i32_163 v153
  let c4_i32_205 : BitVec 32 := 4#32
  let v264 : BitVec 32 := Scalar.muli v154 c4_i32_205
  let v265 : BitVec 32 := Scalar.addi v264 c0_i32_206
  let v266 : Index := Scalar.indexCast v265
  let c1_i32_207 : BitVec 32 := 1#32
  let v267 : Index := Scalar.indexCast c1_i32_207
  let c32_208 : Index := 32#32
  ![v266.toNat, 1, 32]
def k0_off70 (k0_t5 : Fin k0_t5_loop.trips) (c0_i32_210 : BitVec 32) : Fin 3 → Nat :=
  let c0_i32_163 : BitVec 32 := 0#32
  let c0_i32_62 : BitVec 32 := 0#32
  let c1_i32_64 : BitVec 32 := 1#32
  let arg14 : BitVec 32 := Scf.iv c0_i32_62 c1_i32_64 k0_t5
  let c1_i32_162 : BitVec 32 := 1#32
  let v153 : BitVec 32 := Scalar.muli arg14 c1_i32_162
  let v154 : BitVec 32 := Scalar.addi c0_i32_163 v153
  let c4_i32_209 : BitVec 32 := 4#32
  let v272 : BitVec 32 := Scalar.muli v154 c4_i32_209
  let v273 : BitVec 32 := Scalar.addi v272 c0_i32_210
  let v274 : Index := Scalar.indexCast v273
  let c1_i32_211 : BitVec 32 := 1#32
  let v275 : Index := Scalar.indexCast c1_i32_211
  let c48_212 : Index := 48#32
  ![v274.toNat, 1, 48]
def k0_off71 (k0_t5 : Fin k0_t5_loop.trips) (c0_i32_214 : BitVec 32) : Fin 3 → Nat :=
  let c0_i32_163 : BitVec 32 := 0#32
  let c0_i32_62 : BitVec 32 := 0#32
  let c1_i32_64 : BitVec 32 := 1#32
  let arg14 : BitVec 32 := Scf.iv c0_i32_62 c1_i32_64 k0_t5
  let c1_i32_162 : BitVec 32 := 1#32
  let v153 : BitVec 32 := Scalar.muli arg14 c1_i32_162
  let v154 : BitVec 32 := Scalar.addi c0_i32_163 v153
  let c4_i32_213 : BitVec 32 := 4#32
  let v283 : BitVec 32 := Scalar.muli v154 c4_i32_213
  let v284 : BitVec 32 := Scalar.addi v283 c0_i32_214
  let v285 : Index := Scalar.indexCast v284
  let c1_i32_215 : BitVec 32 := 1#32
  let v286 : Index := Scalar.indexCast c1_i32_215
  let c64_216 : Index := 64#32
  ![v285.toNat, 1, 64]
def k0_off72 (k0_t5 : Fin k0_t5_loop.trips) (c0_i32_218 : BitVec 32) : Fin 3 → Nat :=
  let c0_i32_163 : BitVec 32 := 0#32
  let c0_i32_62 : BitVec 32 := 0#32
  let c1_i32_64 : BitVec 32 := 1#32
  let arg14 : BitVec 32 := Scf.iv c0_i32_62 c1_i32_64 k0_t5
  let c1_i32_162 : BitVec 32 := 1#32
  let v153 : BitVec 32 := Scalar.muli arg14 c1_i32_162
  let v154 : BitVec 32 := Scalar.addi c0_i32_163 v153
  let c4_i32_217 : BitVec 32 := 4#32
  let v291 : BitVec 32 := Scalar.muli v154 c4_i32_217
  let v292 : BitVec 32 := Scalar.addi v291 c0_i32_218
  let v293 : Index := Scalar.indexCast v292
  let c1_i32_219 : BitVec 32 := 1#32
  let v294 : Index := Scalar.indexCast c1_i32_219
  let c80_220 : Index := 80#32
  ![v293.toNat, 1, 80]
def k0_off73 (k0_t5 : Fin k0_t5_loop.trips) (c0_i32_222 : BitVec 32) : Fin 3 → Nat :=
  let c0_i32_163 : BitVec 32 := 0#32
  let c0_i32_62 : BitVec 32 := 0#32
  let c1_i32_64 : BitVec 32 := 1#32
  let arg14 : BitVec 32 := Scf.iv c0_i32_62 c1_i32_64 k0_t5
  let c1_i32_162 : BitVec 32 := 1#32
  let v153 : BitVec 32 := Scalar.muli arg14 c1_i32_162
  let v154 : BitVec 32 := Scalar.addi c0_i32_163 v153
  let c4_i32_221 : BitVec 32 := 4#32
  let v302 : BitVec 32 := Scalar.muli v154 c4_i32_221
  let v303 : BitVec 32 := Scalar.addi v302 c0_i32_222
  let v304 : Index := Scalar.indexCast v303
  let c1_i32_223 : BitVec 32 := 1#32
  let v305 : Index := Scalar.indexCast c1_i32_223
  let c96_224 : Index := 96#32
  ![v304.toNat, 1, 96]
def k0_off74 (k0_t5 : Fin k0_t5_loop.trips) (c0_i32_226 : BitVec 32) : Fin 3 → Nat :=
  let c0_i32_163 : BitVec 32 := 0#32
  let c0_i32_62 : BitVec 32 := 0#32
  let c1_i32_64 : BitVec 32 := 1#32
  let arg14 : BitVec 32 := Scf.iv c0_i32_62 c1_i32_64 k0_t5
  let c1_i32_162 : BitVec 32 := 1#32
  let v153 : BitVec 32 := Scalar.muli arg14 c1_i32_162
  let v154 : BitVec 32 := Scalar.addi c0_i32_163 v153
  let c4_i32_225 : BitVec 32 := 4#32
  let v310 : BitVec 32 := Scalar.muli v154 c4_i32_225
  let v311 : BitVec 32 := Scalar.addi v310 c0_i32_226
  let v312 : Index := Scalar.indexCast v311
  let c1_i32_227 : BitVec 32 := 1#32
  let v313 : Index := Scalar.indexCast c1_i32_227
  let c112_228 : Index := 112#32
  ![v312.toNat, 1, 112]
@[reducible] def k0_t6_loop : Scf.Loop 32 :=
  let c0_i32_73 : BitVec 32 := 0#32
  let c24_i32_74 : BitVec 32 := 24#32
  let v56 : BitVec 32 := Scalar.addi c0_i32_73 c24_i32_74
  let c1_i32_75 : BitVec 32 := 1#32
  ⟨c0_i32_73, v56, c1_i32_75⟩
def k0_off75 (k0_t6 : Fin k0_t6_loop.trips) : Fin 1 → Nat :=
  let c3072_i32 : BitVec 32 := 3072#32
  let c0_i32_163 : BitVec 32 := 0#32
  let c0_i32_73 : BitVec 32 := 0#32
  let c1_i32_75 : BitVec 32 := 1#32
  let arg14 : BitVec 32 := Scf.iv c0_i32_73 c1_i32_75 k0_t6
  let c1_i32_162 : BitVec 32 := 1#32
  let v153 : BitVec 32 := Scalar.muli arg14 c1_i32_162
  let v154 : BitVec 32 := Scalar.addi c0_i32_163 v153
  let c32_i32 : BitVec 32 := 32#32
  let v155 : BitVec 32 := Scalar.muli v154 c32_i32
  let v156 : BitVec 32 := Scalar.addi c3072_i32 v155
  let v157 : Index := Scalar.indexCast v156
  ![v157.toNat]
def k0_off76 (k0_t6 : Fin k0_t6_loop.trips) : Fin 1 → Nat :=
  let c3072_i32_165 : BitVec 32 := 3072#32
  let c0_i32_163 : BitVec 32 := 0#32
  let c0_i32_73 : BitVec 32 := 0#32
  let c1_i32_75 : BitVec 32 := 1#32
  let arg14 : BitVec 32 := Scf.iv c0_i32_73 c1_i32_75 k0_t6
  let c1_i32_162 : BitVec 32 := 1#32
  let v153 : BitVec 32 := Scalar.muli arg14 c1_i32_162
  let v154 : BitVec 32 := Scalar.addi c0_i32_163 v153
  let c32_i32_164 : BitVec 32 := 32#32
  let v160 : BitVec 32 := Scalar.muli v154 c32_i32_164
  let v161 : BitVec 32 := Scalar.addi c3072_i32_165 v160
  let c16_i32 : BitVec 32 := 16#32
  let v162 : BitVec 32 := Scalar.addi v161 c16_i32
  let v163 : Index := Scalar.indexCast v162
  ![v163.toNat]
def k0_off77 (k0_t6 : Fin k0_t6_loop.trips) (c0_i32_166 : BitVec 32) : Fin 3 → Nat :=
  let c0_i32_163 : BitVec 32 := 0#32
  let c0_i32_73 : BitVec 32 := 0#32
  let c1_i32_75 : BitVec 32 := 1#32
  let arg14 : BitVec 32 := Scf.iv c0_i32_73 c1_i32_75 k0_t6
  let c1_i32_162 : BitVec 32 := 1#32
  let v153 : BitVec 32 := Scalar.muli arg14 c1_i32_162
  let v154 : BitVec 32 := Scalar.addi c0_i32_163 v153
  let c4_i32 : BitVec 32 := 4#32
  let v169 : BitVec 32 := Scalar.muli v154 c4_i32
  let v170 : BitVec 32 := Scalar.addi v169 c0_i32_166
  let v171 : Index := Scalar.indexCast v170
  let c0_i32_167 : BitVec 32 := 0#32
  let v172 : Index := Scalar.indexCast c0_i32_167
  let c0_168 : Index := 0#32
  ![v171.toNat, 0, 0]
def k0_off78 (k0_t6 : Fin k0_t6_loop.trips) (c0_i32_170 : BitVec 32) : Fin 3 → Nat :=
  let c0_i32_163 : BitVec 32 := 0#32
  let c0_i32_73 : BitVec 32 := 0#32
  let c1_i32_75 : BitVec 32 := 1#32
  let arg14 : BitVec 32 := Scf.iv c0_i32_73 c1_i32_75 k0_t6
  let c1_i32_162 : BitVec 32 := 1#32
  let v153 : BitVec 32 := Scalar.muli arg14 c1_i32_162
  let v154 : BitVec 32 := Scalar.addi c0_i32_163 v153
  let c4_i32_169 : BitVec 32 := 4#32
  let v177 : BitVec 32 := Scalar.muli v154 c4_i32_169
  let v178 : BitVec 32 := Scalar.addi v177 c0_i32_170
  let v179 : Index := Scalar.indexCast v178
  let c0_i32_171 : BitVec 32 := 0#32
  let v180 : Index := Scalar.indexCast c0_i32_171
  let c16_172 : Index := 16#32
  ![v179.toNat, 0, 16]
def k0_off79 (k0_t6 : Fin k0_t6_loop.trips) (c0_i32_174 : BitVec 32) : Fin 3 → Nat :=
  let c0_i32_163 : BitVec 32 := 0#32
  let c0_i32_73 : BitVec 32 := 0#32
  let c1_i32_75 : BitVec 32 := 1#32
  let arg14 : BitVec 32 := Scf.iv c0_i32_73 c1_i32_75 k0_t6
  let c1_i32_162 : BitVec 32 := 1#32
  let v153 : BitVec 32 := Scalar.muli arg14 c1_i32_162
  let v154 : BitVec 32 := Scalar.addi c0_i32_163 v153
  let c4_i32_173 : BitVec 32 := 4#32
  let v188 : BitVec 32 := Scalar.muli v154 c4_i32_173
  let v189 : BitVec 32 := Scalar.addi v188 c0_i32_174
  let v190 : Index := Scalar.indexCast v189
  let c0_i32_175 : BitVec 32 := 0#32
  let v191 : Index := Scalar.indexCast c0_i32_175
  let c32_176 : Index := 32#32
  ![v190.toNat, 0, 32]
def k0_off80 (k0_t6 : Fin k0_t6_loop.trips) (c0_i32_178 : BitVec 32) : Fin 3 → Nat :=
  let c0_i32_163 : BitVec 32 := 0#32
  let c0_i32_73 : BitVec 32 := 0#32
  let c1_i32_75 : BitVec 32 := 1#32
  let arg14 : BitVec 32 := Scf.iv c0_i32_73 c1_i32_75 k0_t6
  let c1_i32_162 : BitVec 32 := 1#32
  let v153 : BitVec 32 := Scalar.muli arg14 c1_i32_162
  let v154 : BitVec 32 := Scalar.addi c0_i32_163 v153
  let c4_i32_177 : BitVec 32 := 4#32
  let v196 : BitVec 32 := Scalar.muli v154 c4_i32_177
  let v197 : BitVec 32 := Scalar.addi v196 c0_i32_178
  let v198 : Index := Scalar.indexCast v197
  let c0_i32_179 : BitVec 32 := 0#32
  let v199 : Index := Scalar.indexCast c0_i32_179
  let c48_180 : Index := 48#32
  ![v198.toNat, 0, 48]
def k0_off81 (k0_t6 : Fin k0_t6_loop.trips) (c0_i32_182 : BitVec 32) : Fin 3 → Nat :=
  let c0_i32_163 : BitVec 32 := 0#32
  let c0_i32_73 : BitVec 32 := 0#32
  let c1_i32_75 : BitVec 32 := 1#32
  let arg14 : BitVec 32 := Scf.iv c0_i32_73 c1_i32_75 k0_t6
  let c1_i32_162 : BitVec 32 := 1#32
  let v153 : BitVec 32 := Scalar.muli arg14 c1_i32_162
  let v154 : BitVec 32 := Scalar.addi c0_i32_163 v153
  let c4_i32_181 : BitVec 32 := 4#32
  let v207 : BitVec 32 := Scalar.muli v154 c4_i32_181
  let v208 : BitVec 32 := Scalar.addi v207 c0_i32_182
  let v209 : Index := Scalar.indexCast v208
  let c0_i32_183 : BitVec 32 := 0#32
  let v210 : Index := Scalar.indexCast c0_i32_183
  let c64_184 : Index := 64#32
  ![v209.toNat, 0, 64]
def k0_off82 (k0_t6 : Fin k0_t6_loop.trips) (c0_i32_186 : BitVec 32) : Fin 3 → Nat :=
  let c0_i32_163 : BitVec 32 := 0#32
  let c0_i32_73 : BitVec 32 := 0#32
  let c1_i32_75 : BitVec 32 := 1#32
  let arg14 : BitVec 32 := Scf.iv c0_i32_73 c1_i32_75 k0_t6
  let c1_i32_162 : BitVec 32 := 1#32
  let v153 : BitVec 32 := Scalar.muli arg14 c1_i32_162
  let v154 : BitVec 32 := Scalar.addi c0_i32_163 v153
  let c4_i32_185 : BitVec 32 := 4#32
  let v215 : BitVec 32 := Scalar.muli v154 c4_i32_185
  let v216 : BitVec 32 := Scalar.addi v215 c0_i32_186
  let v217 : Index := Scalar.indexCast v216
  let c0_i32_187 : BitVec 32 := 0#32
  let v218 : Index := Scalar.indexCast c0_i32_187
  let c80_188 : Index := 80#32
  ![v217.toNat, 0, 80]
def k0_off83 (k0_t6 : Fin k0_t6_loop.trips) (c0_i32_190 : BitVec 32) : Fin 3 → Nat :=
  let c0_i32_163 : BitVec 32 := 0#32
  let c0_i32_73 : BitVec 32 := 0#32
  let c1_i32_75 : BitVec 32 := 1#32
  let arg14 : BitVec 32 := Scf.iv c0_i32_73 c1_i32_75 k0_t6
  let c1_i32_162 : BitVec 32 := 1#32
  let v153 : BitVec 32 := Scalar.muli arg14 c1_i32_162
  let v154 : BitVec 32 := Scalar.addi c0_i32_163 v153
  let c4_i32_189 : BitVec 32 := 4#32
  let v226 : BitVec 32 := Scalar.muli v154 c4_i32_189
  let v227 : BitVec 32 := Scalar.addi v226 c0_i32_190
  let v228 : Index := Scalar.indexCast v227
  let c0_i32_191 : BitVec 32 := 0#32
  let v229 : Index := Scalar.indexCast c0_i32_191
  let c96_192 : Index := 96#32
  ![v228.toNat, 0, 96]
def k0_off84 (k0_t6 : Fin k0_t6_loop.trips) (c0_i32_194 : BitVec 32) : Fin 3 → Nat :=
  let c0_i32_163 : BitVec 32 := 0#32
  let c0_i32_73 : BitVec 32 := 0#32
  let c1_i32_75 : BitVec 32 := 1#32
  let arg14 : BitVec 32 := Scf.iv c0_i32_73 c1_i32_75 k0_t6
  let c1_i32_162 : BitVec 32 := 1#32
  let v153 : BitVec 32 := Scalar.muli arg14 c1_i32_162
  let v154 : BitVec 32 := Scalar.addi c0_i32_163 v153
  let c4_i32_193 : BitVec 32 := 4#32
  let v234 : BitVec 32 := Scalar.muli v154 c4_i32_193
  let v235 : BitVec 32 := Scalar.addi v234 c0_i32_194
  let v236 : Index := Scalar.indexCast v235
  let c0_i32_195 : BitVec 32 := 0#32
  let v237 : Index := Scalar.indexCast c0_i32_195
  let c112_196 : Index := 112#32
  ![v236.toNat, 0, 112]
def k0_off85 (k0_t6 : Fin k0_t6_loop.trips) (c0_i32_198 : BitVec 32) : Fin 3 → Nat :=
  let c0_i32_163 : BitVec 32 := 0#32
  let c0_i32_73 : BitVec 32 := 0#32
  let c1_i32_75 : BitVec 32 := 1#32
  let arg14 : BitVec 32 := Scf.iv c0_i32_73 c1_i32_75 k0_t6
  let c1_i32_162 : BitVec 32 := 1#32
  let v153 : BitVec 32 := Scalar.muli arg14 c1_i32_162
  let v154 : BitVec 32 := Scalar.addi c0_i32_163 v153
  let c4_i32_197 : BitVec 32 := 4#32
  let v245 : BitVec 32 := Scalar.muli v154 c4_i32_197
  let v246 : BitVec 32 := Scalar.addi v245 c0_i32_198
  let v247 : Index := Scalar.indexCast v246
  let c1_i32_199 : BitVec 32 := 1#32
  let v248 : Index := Scalar.indexCast c1_i32_199
  let c0_200 : Index := 0#32
  ![v247.toNat, 1, 0]
def k0_off86 (k0_t6 : Fin k0_t6_loop.trips) (c0_i32_202 : BitVec 32) : Fin 3 → Nat :=
  let c0_i32_163 : BitVec 32 := 0#32
  let c0_i32_73 : BitVec 32 := 0#32
  let c1_i32_75 : BitVec 32 := 1#32
  let arg14 : BitVec 32 := Scf.iv c0_i32_73 c1_i32_75 k0_t6
  let c1_i32_162 : BitVec 32 := 1#32
  let v153 : BitVec 32 := Scalar.muli arg14 c1_i32_162
  let v154 : BitVec 32 := Scalar.addi c0_i32_163 v153
  let c4_i32_201 : BitVec 32 := 4#32
  let v253 : BitVec 32 := Scalar.muli v154 c4_i32_201
  let v254 : BitVec 32 := Scalar.addi v253 c0_i32_202
  let v255 : Index := Scalar.indexCast v254
  let c1_i32_203 : BitVec 32 := 1#32
  let v256 : Index := Scalar.indexCast c1_i32_203
  let c16_204 : Index := 16#32
  ![v255.toNat, 1, 16]
def k0_off87 (k0_t6 : Fin k0_t6_loop.trips) (c0_i32_206 : BitVec 32) : Fin 3 → Nat :=
  let c0_i32_163 : BitVec 32 := 0#32
  let c0_i32_73 : BitVec 32 := 0#32
  let c1_i32_75 : BitVec 32 := 1#32
  let arg14 : BitVec 32 := Scf.iv c0_i32_73 c1_i32_75 k0_t6
  let c1_i32_162 : BitVec 32 := 1#32
  let v153 : BitVec 32 := Scalar.muli arg14 c1_i32_162
  let v154 : BitVec 32 := Scalar.addi c0_i32_163 v153
  let c4_i32_205 : BitVec 32 := 4#32
  let v264 : BitVec 32 := Scalar.muli v154 c4_i32_205
  let v265 : BitVec 32 := Scalar.addi v264 c0_i32_206
  let v266 : Index := Scalar.indexCast v265
  let c1_i32_207 : BitVec 32 := 1#32
  let v267 : Index := Scalar.indexCast c1_i32_207
  let c32_208 : Index := 32#32
  ![v266.toNat, 1, 32]
def k0_off88 (k0_t6 : Fin k0_t6_loop.trips) (c0_i32_210 : BitVec 32) : Fin 3 → Nat :=
  let c0_i32_163 : BitVec 32 := 0#32
  let c0_i32_73 : BitVec 32 := 0#32
  let c1_i32_75 : BitVec 32 := 1#32
  let arg14 : BitVec 32 := Scf.iv c0_i32_73 c1_i32_75 k0_t6
  let c1_i32_162 : BitVec 32 := 1#32
  let v153 : BitVec 32 := Scalar.muli arg14 c1_i32_162
  let v154 : BitVec 32 := Scalar.addi c0_i32_163 v153
  let c4_i32_209 : BitVec 32 := 4#32
  let v272 : BitVec 32 := Scalar.muli v154 c4_i32_209
  let v273 : BitVec 32 := Scalar.addi v272 c0_i32_210
  let v274 : Index := Scalar.indexCast v273
  let c1_i32_211 : BitVec 32 := 1#32
  let v275 : Index := Scalar.indexCast c1_i32_211
  let c48_212 : Index := 48#32
  ![v274.toNat, 1, 48]
def k0_off89 (k0_t6 : Fin k0_t6_loop.trips) (c0_i32_214 : BitVec 32) : Fin 3 → Nat :=
  let c0_i32_163 : BitVec 32 := 0#32
  let c0_i32_73 : BitVec 32 := 0#32
  let c1_i32_75 : BitVec 32 := 1#32
  let arg14 : BitVec 32 := Scf.iv c0_i32_73 c1_i32_75 k0_t6
  let c1_i32_162 : BitVec 32 := 1#32
  let v153 : BitVec 32 := Scalar.muli arg14 c1_i32_162
  let v154 : BitVec 32 := Scalar.addi c0_i32_163 v153
  let c4_i32_213 : BitVec 32 := 4#32
  let v283 : BitVec 32 := Scalar.muli v154 c4_i32_213
  let v284 : BitVec 32 := Scalar.addi v283 c0_i32_214
  let v285 : Index := Scalar.indexCast v284
  let c1_i32_215 : BitVec 32 := 1#32
  let v286 : Index := Scalar.indexCast c1_i32_215
  let c64_216 : Index := 64#32
  ![v285.toNat, 1, 64]
def k0_off90 (k0_t6 : Fin k0_t6_loop.trips) (c0_i32_218 : BitVec 32) : Fin 3 → Nat :=
  let c0_i32_163 : BitVec 32 := 0#32
  let c0_i32_73 : BitVec 32 := 0#32
  let c1_i32_75 : BitVec 32 := 1#32
  let arg14 : BitVec 32 := Scf.iv c0_i32_73 c1_i32_75 k0_t6
  let c1_i32_162 : BitVec 32 := 1#32
  let v153 : BitVec 32 := Scalar.muli arg14 c1_i32_162
  let v154 : BitVec 32 := Scalar.addi c0_i32_163 v153
  let c4_i32_217 : BitVec 32 := 4#32
  let v291 : BitVec 32 := Scalar.muli v154 c4_i32_217
  let v292 : BitVec 32 := Scalar.addi v291 c0_i32_218
  let v293 : Index := Scalar.indexCast v292
  let c1_i32_219 : BitVec 32 := 1#32
  let v294 : Index := Scalar.indexCast c1_i32_219
  let c80_220 : Index := 80#32
  ![v293.toNat, 1, 80]
def k0_off91 (k0_t6 : Fin k0_t6_loop.trips) (c0_i32_222 : BitVec 32) : Fin 3 → Nat :=
  let c0_i32_163 : BitVec 32 := 0#32
  let c0_i32_73 : BitVec 32 := 0#32
  let c1_i32_75 : BitVec 32 := 1#32
  let arg14 : BitVec 32 := Scf.iv c0_i32_73 c1_i32_75 k0_t6
  let c1_i32_162 : BitVec 32 := 1#32
  let v153 : BitVec 32 := Scalar.muli arg14 c1_i32_162
  let v154 : BitVec 32 := Scalar.addi c0_i32_163 v153
  let c4_i32_221 : BitVec 32 := 4#32
  let v302 : BitVec 32 := Scalar.muli v154 c4_i32_221
  let v303 : BitVec 32 := Scalar.addi v302 c0_i32_222
  let v304 : Index := Scalar.indexCast v303
  let c1_i32_223 : BitVec 32 := 1#32
  let v305 : Index := Scalar.indexCast c1_i32_223
  let c96_224 : Index := 96#32
  ![v304.toNat, 1, 96]
def k0_off92 (k0_t6 : Fin k0_t6_loop.trips) (c0_i32_226 : BitVec 32) : Fin 3 → Nat :=
  let c0_i32_163 : BitVec 32 := 0#32
  let c0_i32_73 : BitVec 32 := 0#32
  let c1_i32_75 : BitVec 32 := 1#32
  let arg14 : BitVec 32 := Scf.iv c0_i32_73 c1_i32_75 k0_t6
  let c1_i32_162 : BitVec 32 := 1#32
  let v153 : BitVec 32 := Scalar.muli arg14 c1_i32_162
  let v154 : BitVec 32 := Scalar.addi c0_i32_163 v153
  let c4_i32_225 : BitVec 32 := 4#32
  let v310 : BitVec 32 := Scalar.muli v154 c4_i32_225
  let v311 : BitVec 32 := Scalar.addi v310 c0_i32_226
  let v312 : Index := Scalar.indexCast v311
  let c1_i32_227 : BitVec 32 := 1#32
  let v313 : Index := Scalar.indexCast c1_i32_227
  let c112_228 : Index := 112#32
  ![v312.toNat, 1, 112]
@[reducible] def k0_t7_loop : Scf.Loop 32 :=
  let c0_i32_84 : BitVec 32 := 0#32
  let c24_i32_85 : BitVec 32 := 24#32
  let v62 : BitVec 32 := Scalar.addi c0_i32_84 c24_i32_85
  let c1_i32_86 : BitVec 32 := 1#32
  ⟨c0_i32_84, v62, c1_i32_86⟩
def k0_off93 (k0_t7 : Fin k0_t7_loop.trips) : Fin 1 → Nat :=
  let c3840_i32 : BitVec 32 := 3840#32
  let c0_i32_163 : BitVec 32 := 0#32
  let c0_i32_84 : BitVec 32 := 0#32
  let c1_i32_86 : BitVec 32 := 1#32
  let arg14 : BitVec 32 := Scf.iv c0_i32_84 c1_i32_86 k0_t7
  let c1_i32_162 : BitVec 32 := 1#32
  let v153 : BitVec 32 := Scalar.muli arg14 c1_i32_162
  let v154 : BitVec 32 := Scalar.addi c0_i32_163 v153
  let c32_i32 : BitVec 32 := 32#32
  let v155 : BitVec 32 := Scalar.muli v154 c32_i32
  let v156 : BitVec 32 := Scalar.addi c3840_i32 v155
  let v157 : Index := Scalar.indexCast v156
  ![v157.toNat]
def k0_off94 (k0_t7 : Fin k0_t7_loop.trips) : Fin 1 → Nat :=
  let c3840_i32_165 : BitVec 32 := 3840#32
  let c0_i32_163 : BitVec 32 := 0#32
  let c0_i32_84 : BitVec 32 := 0#32
  let c1_i32_86 : BitVec 32 := 1#32
  let arg14 : BitVec 32 := Scf.iv c0_i32_84 c1_i32_86 k0_t7
  let c1_i32_162 : BitVec 32 := 1#32
  let v153 : BitVec 32 := Scalar.muli arg14 c1_i32_162
  let v154 : BitVec 32 := Scalar.addi c0_i32_163 v153
  let c32_i32_164 : BitVec 32 := 32#32
  let v160 : BitVec 32 := Scalar.muli v154 c32_i32_164
  let v161 : BitVec 32 := Scalar.addi c3840_i32_165 v160
  let c16_i32 : BitVec 32 := 16#32
  let v162 : BitVec 32 := Scalar.addi v161 c16_i32
  let v163 : Index := Scalar.indexCast v162
  ![v163.toNat]
def k0_off95 (k0_t7 : Fin k0_t7_loop.trips) (c0_i32_166 : BitVec 32) : Fin 3 → Nat :=
  let c0_i32_163 : BitVec 32 := 0#32
  let c0_i32_84 : BitVec 32 := 0#32
  let c1_i32_86 : BitVec 32 := 1#32
  let arg14 : BitVec 32 := Scf.iv c0_i32_84 c1_i32_86 k0_t7
  let c1_i32_162 : BitVec 32 := 1#32
  let v153 : BitVec 32 := Scalar.muli arg14 c1_i32_162
  let v154 : BitVec 32 := Scalar.addi c0_i32_163 v153
  let c4_i32 : BitVec 32 := 4#32
  let v169 : BitVec 32 := Scalar.muli v154 c4_i32
  let v170 : BitVec 32 := Scalar.addi v169 c0_i32_166
  let v171 : Index := Scalar.indexCast v170
  let c0_i32_167 : BitVec 32 := 0#32
  let v172 : Index := Scalar.indexCast c0_i32_167
  let c0_168 : Index := 0#32
  ![v171.toNat, 0, 0]
def k0_off96 (k0_t7 : Fin k0_t7_loop.trips) (c0_i32_170 : BitVec 32) : Fin 3 → Nat :=
  let c0_i32_163 : BitVec 32 := 0#32
  let c0_i32_84 : BitVec 32 := 0#32
  let c1_i32_86 : BitVec 32 := 1#32
  let arg14 : BitVec 32 := Scf.iv c0_i32_84 c1_i32_86 k0_t7
  let c1_i32_162 : BitVec 32 := 1#32
  let v153 : BitVec 32 := Scalar.muli arg14 c1_i32_162
  let v154 : BitVec 32 := Scalar.addi c0_i32_163 v153
  let c4_i32_169 : BitVec 32 := 4#32
  let v177 : BitVec 32 := Scalar.muli v154 c4_i32_169
  let v178 : BitVec 32 := Scalar.addi v177 c0_i32_170
  let v179 : Index := Scalar.indexCast v178
  let c0_i32_171 : BitVec 32 := 0#32
  let v180 : Index := Scalar.indexCast c0_i32_171
  let c16_172 : Index := 16#32
  ![v179.toNat, 0, 16]
def k0_off97 (k0_t7 : Fin k0_t7_loop.trips) (c0_i32_174 : BitVec 32) : Fin 3 → Nat :=
  let c0_i32_163 : BitVec 32 := 0#32
  let c0_i32_84 : BitVec 32 := 0#32
  let c1_i32_86 : BitVec 32 := 1#32
  let arg14 : BitVec 32 := Scf.iv c0_i32_84 c1_i32_86 k0_t7
  let c1_i32_162 : BitVec 32 := 1#32
  let v153 : BitVec 32 := Scalar.muli arg14 c1_i32_162
  let v154 : BitVec 32 := Scalar.addi c0_i32_163 v153
  let c4_i32_173 : BitVec 32 := 4#32
  let v188 : BitVec 32 := Scalar.muli v154 c4_i32_173
  let v189 : BitVec 32 := Scalar.addi v188 c0_i32_174
  let v190 : Index := Scalar.indexCast v189
  let c0_i32_175 : BitVec 32 := 0#32
  let v191 : Index := Scalar.indexCast c0_i32_175
  let c32_176 : Index := 32#32
  ![v190.toNat, 0, 32]
def k0_off98 (k0_t7 : Fin k0_t7_loop.trips) (c0_i32_178 : BitVec 32) : Fin 3 → Nat :=
  let c0_i32_163 : BitVec 32 := 0#32
  let c0_i32_84 : BitVec 32 := 0#32
  let c1_i32_86 : BitVec 32 := 1#32
  let arg14 : BitVec 32 := Scf.iv c0_i32_84 c1_i32_86 k0_t7
  let c1_i32_162 : BitVec 32 := 1#32
  let v153 : BitVec 32 := Scalar.muli arg14 c1_i32_162
  let v154 : BitVec 32 := Scalar.addi c0_i32_163 v153
  let c4_i32_177 : BitVec 32 := 4#32
  let v196 : BitVec 32 := Scalar.muli v154 c4_i32_177
  let v197 : BitVec 32 := Scalar.addi v196 c0_i32_178
  let v198 : Index := Scalar.indexCast v197
  let c0_i32_179 : BitVec 32 := 0#32
  let v199 : Index := Scalar.indexCast c0_i32_179
  let c48_180 : Index := 48#32
  ![v198.toNat, 0, 48]
def k0_off99 (k0_t7 : Fin k0_t7_loop.trips) (c0_i32_182 : BitVec 32) : Fin 3 → Nat :=
  let c0_i32_163 : BitVec 32 := 0#32
  let c0_i32_84 : BitVec 32 := 0#32
  let c1_i32_86 : BitVec 32 := 1#32
  let arg14 : BitVec 32 := Scf.iv c0_i32_84 c1_i32_86 k0_t7
  let c1_i32_162 : BitVec 32 := 1#32
  let v153 : BitVec 32 := Scalar.muli arg14 c1_i32_162
  let v154 : BitVec 32 := Scalar.addi c0_i32_163 v153
  let c4_i32_181 : BitVec 32 := 4#32
  let v207 : BitVec 32 := Scalar.muli v154 c4_i32_181
  let v208 : BitVec 32 := Scalar.addi v207 c0_i32_182
  let v209 : Index := Scalar.indexCast v208
  let c0_i32_183 : BitVec 32 := 0#32
  let v210 : Index := Scalar.indexCast c0_i32_183
  let c64_184 : Index := 64#32
  ![v209.toNat, 0, 64]
def k0_off100 (k0_t7 : Fin k0_t7_loop.trips) (c0_i32_186 : BitVec 32) : Fin 3 → Nat :=
  let c0_i32_163 : BitVec 32 := 0#32
  let c0_i32_84 : BitVec 32 := 0#32
  let c1_i32_86 : BitVec 32 := 1#32
  let arg14 : BitVec 32 := Scf.iv c0_i32_84 c1_i32_86 k0_t7
  let c1_i32_162 : BitVec 32 := 1#32
  let v153 : BitVec 32 := Scalar.muli arg14 c1_i32_162
  let v154 : BitVec 32 := Scalar.addi c0_i32_163 v153
  let c4_i32_185 : BitVec 32 := 4#32
  let v215 : BitVec 32 := Scalar.muli v154 c4_i32_185
  let v216 : BitVec 32 := Scalar.addi v215 c0_i32_186
  let v217 : Index := Scalar.indexCast v216
  let c0_i32_187 : BitVec 32 := 0#32
  let v218 : Index := Scalar.indexCast c0_i32_187
  let c80_188 : Index := 80#32
  ![v217.toNat, 0, 80]
def k0_off101 (k0_t7 : Fin k0_t7_loop.trips) (c0_i32_190 : BitVec 32) : Fin 3 → Nat :=
  let c0_i32_163 : BitVec 32 := 0#32
  let c0_i32_84 : BitVec 32 := 0#32
  let c1_i32_86 : BitVec 32 := 1#32
  let arg14 : BitVec 32 := Scf.iv c0_i32_84 c1_i32_86 k0_t7
  let c1_i32_162 : BitVec 32 := 1#32
  let v153 : BitVec 32 := Scalar.muli arg14 c1_i32_162
  let v154 : BitVec 32 := Scalar.addi c0_i32_163 v153
  let c4_i32_189 : BitVec 32 := 4#32
  let v226 : BitVec 32 := Scalar.muli v154 c4_i32_189
  let v227 : BitVec 32 := Scalar.addi v226 c0_i32_190
  let v228 : Index := Scalar.indexCast v227
  let c0_i32_191 : BitVec 32 := 0#32
  let v229 : Index := Scalar.indexCast c0_i32_191
  let c96_192 : Index := 96#32
  ![v228.toNat, 0, 96]
def k0_off102 (k0_t7 : Fin k0_t7_loop.trips) (c0_i32_194 : BitVec 32) : Fin 3 → Nat :=
  let c0_i32_163 : BitVec 32 := 0#32
  let c0_i32_84 : BitVec 32 := 0#32
  let c1_i32_86 : BitVec 32 := 1#32
  let arg14 : BitVec 32 := Scf.iv c0_i32_84 c1_i32_86 k0_t7
  let c1_i32_162 : BitVec 32 := 1#32
  let v153 : BitVec 32 := Scalar.muli arg14 c1_i32_162
  let v154 : BitVec 32 := Scalar.addi c0_i32_163 v153
  let c4_i32_193 : BitVec 32 := 4#32
  let v234 : BitVec 32 := Scalar.muli v154 c4_i32_193
  let v235 : BitVec 32 := Scalar.addi v234 c0_i32_194
  let v236 : Index := Scalar.indexCast v235
  let c0_i32_195 : BitVec 32 := 0#32
  let v237 : Index := Scalar.indexCast c0_i32_195
  let c112_196 : Index := 112#32
  ![v236.toNat, 0, 112]
def k0_off103 (k0_t7 : Fin k0_t7_loop.trips) (c0_i32_198 : BitVec 32) : Fin 3 → Nat :=
  let c0_i32_163 : BitVec 32 := 0#32
  let c0_i32_84 : BitVec 32 := 0#32
  let c1_i32_86 : BitVec 32 := 1#32
  let arg14 : BitVec 32 := Scf.iv c0_i32_84 c1_i32_86 k0_t7
  let c1_i32_162 : BitVec 32 := 1#32
  let v153 : BitVec 32 := Scalar.muli arg14 c1_i32_162
  let v154 : BitVec 32 := Scalar.addi c0_i32_163 v153
  let c4_i32_197 : BitVec 32 := 4#32
  let v245 : BitVec 32 := Scalar.muli v154 c4_i32_197
  let v246 : BitVec 32 := Scalar.addi v245 c0_i32_198
  let v247 : Index := Scalar.indexCast v246
  let c1_i32_199 : BitVec 32 := 1#32
  let v248 : Index := Scalar.indexCast c1_i32_199
  let c0_200 : Index := 0#32
  ![v247.toNat, 1, 0]
def k0_off104 (k0_t7 : Fin k0_t7_loop.trips) (c0_i32_202 : BitVec 32) : Fin 3 → Nat :=
  let c0_i32_163 : BitVec 32 := 0#32
  let c0_i32_84 : BitVec 32 := 0#32
  let c1_i32_86 : BitVec 32 := 1#32
  let arg14 : BitVec 32 := Scf.iv c0_i32_84 c1_i32_86 k0_t7
  let c1_i32_162 : BitVec 32 := 1#32
  let v153 : BitVec 32 := Scalar.muli arg14 c1_i32_162
  let v154 : BitVec 32 := Scalar.addi c0_i32_163 v153
  let c4_i32_201 : BitVec 32 := 4#32
  let v253 : BitVec 32 := Scalar.muli v154 c4_i32_201
  let v254 : BitVec 32 := Scalar.addi v253 c0_i32_202
  let v255 : Index := Scalar.indexCast v254
  let c1_i32_203 : BitVec 32 := 1#32
  let v256 : Index := Scalar.indexCast c1_i32_203
  let c16_204 : Index := 16#32
  ![v255.toNat, 1, 16]
def k0_off105 (k0_t7 : Fin k0_t7_loop.trips) (c0_i32_206 : BitVec 32) : Fin 3 → Nat :=
  let c0_i32_163 : BitVec 32 := 0#32
  let c0_i32_84 : BitVec 32 := 0#32
  let c1_i32_86 : BitVec 32 := 1#32
  let arg14 : BitVec 32 := Scf.iv c0_i32_84 c1_i32_86 k0_t7
  let c1_i32_162 : BitVec 32 := 1#32
  let v153 : BitVec 32 := Scalar.muli arg14 c1_i32_162
  let v154 : BitVec 32 := Scalar.addi c0_i32_163 v153
  let c4_i32_205 : BitVec 32 := 4#32
  let v264 : BitVec 32 := Scalar.muli v154 c4_i32_205
  let v265 : BitVec 32 := Scalar.addi v264 c0_i32_206
  let v266 : Index := Scalar.indexCast v265
  let c1_i32_207 : BitVec 32 := 1#32
  let v267 : Index := Scalar.indexCast c1_i32_207
  let c32_208 : Index := 32#32
  ![v266.toNat, 1, 32]
def k0_off106 (k0_t7 : Fin k0_t7_loop.trips) (c0_i32_210 : BitVec 32) : Fin 3 → Nat :=
  let c0_i32_163 : BitVec 32 := 0#32
  let c0_i32_84 : BitVec 32 := 0#32
  let c1_i32_86 : BitVec 32 := 1#32
  let arg14 : BitVec 32 := Scf.iv c0_i32_84 c1_i32_86 k0_t7
  let c1_i32_162 : BitVec 32 := 1#32
  let v153 : BitVec 32 := Scalar.muli arg14 c1_i32_162
  let v154 : BitVec 32 := Scalar.addi c0_i32_163 v153
  let c4_i32_209 : BitVec 32 := 4#32
  let v272 : BitVec 32 := Scalar.muli v154 c4_i32_209
  let v273 : BitVec 32 := Scalar.addi v272 c0_i32_210
  let v274 : Index := Scalar.indexCast v273
  let c1_i32_211 : BitVec 32 := 1#32
  let v275 : Index := Scalar.indexCast c1_i32_211
  let c48_212 : Index := 48#32
  ![v274.toNat, 1, 48]
def k0_off107 (k0_t7 : Fin k0_t7_loop.trips) (c0_i32_214 : BitVec 32) : Fin 3 → Nat :=
  let c0_i32_163 : BitVec 32 := 0#32
  let c0_i32_84 : BitVec 32 := 0#32
  let c1_i32_86 : BitVec 32 := 1#32
  let arg14 : BitVec 32 := Scf.iv c0_i32_84 c1_i32_86 k0_t7
  let c1_i32_162 : BitVec 32 := 1#32
  let v153 : BitVec 32 := Scalar.muli arg14 c1_i32_162
  let v154 : BitVec 32 := Scalar.addi c0_i32_163 v153
  let c4_i32_213 : BitVec 32 := 4#32
  let v283 : BitVec 32 := Scalar.muli v154 c4_i32_213
  let v284 : BitVec 32 := Scalar.addi v283 c0_i32_214
  let v285 : Index := Scalar.indexCast v284
  let c1_i32_215 : BitVec 32 := 1#32
  let v286 : Index := Scalar.indexCast c1_i32_215
  let c64_216 : Index := 64#32
  ![v285.toNat, 1, 64]
def k0_off108 (k0_t7 : Fin k0_t7_loop.trips) (c0_i32_218 : BitVec 32) : Fin 3 → Nat :=
  let c0_i32_163 : BitVec 32 := 0#32
  let c0_i32_84 : BitVec 32 := 0#32
  let c1_i32_86 : BitVec 32 := 1#32
  let arg14 : BitVec 32 := Scf.iv c0_i32_84 c1_i32_86 k0_t7
  let c1_i32_162 : BitVec 32 := 1#32
  let v153 : BitVec 32 := Scalar.muli arg14 c1_i32_162
  let v154 : BitVec 32 := Scalar.addi c0_i32_163 v153
  let c4_i32_217 : BitVec 32 := 4#32
  let v291 : BitVec 32 := Scalar.muli v154 c4_i32_217
  let v292 : BitVec 32 := Scalar.addi v291 c0_i32_218
  let v293 : Index := Scalar.indexCast v292
  let c1_i32_219 : BitVec 32 := 1#32
  let v294 : Index := Scalar.indexCast c1_i32_219
  let c80_220 : Index := 80#32
  ![v293.toNat, 1, 80]
def k0_off109 (k0_t7 : Fin k0_t7_loop.trips) (c0_i32_222 : BitVec 32) : Fin 3 → Nat :=
  let c0_i32_163 : BitVec 32 := 0#32
  let c0_i32_84 : BitVec 32 := 0#32
  let c1_i32_86 : BitVec 32 := 1#32
  let arg14 : BitVec 32 := Scf.iv c0_i32_84 c1_i32_86 k0_t7
  let c1_i32_162 : BitVec 32 := 1#32
  let v153 : BitVec 32 := Scalar.muli arg14 c1_i32_162
  let v154 : BitVec 32 := Scalar.addi c0_i32_163 v153
  let c4_i32_221 : BitVec 32 := 4#32
  let v302 : BitVec 32 := Scalar.muli v154 c4_i32_221
  let v303 : BitVec 32 := Scalar.addi v302 c0_i32_222
  let v304 : Index := Scalar.indexCast v303
  let c1_i32_223 : BitVec 32 := 1#32
  let v305 : Index := Scalar.indexCast c1_i32_223
  let c96_224 : Index := 96#32
  ![v304.toNat, 1, 96]
def k0_off110 (k0_t7 : Fin k0_t7_loop.trips) (c0_i32_226 : BitVec 32) : Fin 3 → Nat :=
  let c0_i32_163 : BitVec 32 := 0#32
  let c0_i32_84 : BitVec 32 := 0#32
  let c1_i32_86 : BitVec 32 := 1#32
  let arg14 : BitVec 32 := Scf.iv c0_i32_84 c1_i32_86 k0_t7
  let c1_i32_162 : BitVec 32 := 1#32
  let v153 : BitVec 32 := Scalar.muli arg14 c1_i32_162
  let v154 : BitVec 32 := Scalar.addi c0_i32_163 v153
  let c4_i32_225 : BitVec 32 := 4#32
  let v310 : BitVec 32 := Scalar.muli v154 c4_i32_225
  let v311 : BitVec 32 := Scalar.addi v310 c0_i32_226
  let v312 : Index := Scalar.indexCast v311
  let c1_i32_227 : BitVec 32 := 1#32
  let v313 : Index := Scalar.indexCast c1_i32_227
  let c112_228 : Index := 112#32
  ![v312.toNat, 1, 112]
@[reducible] def k0_t8_loop : Scf.Loop 32 :=
  let c0_i32_95 : BitVec 32 := 0#32
  let c24_i32_96 : BitVec 32 := 24#32
  let v68 : BitVec 32 := Scalar.addi c0_i32_95 c24_i32_96
  let c1_i32_97 : BitVec 32 := 1#32
  ⟨c0_i32_95, v68, c1_i32_97⟩
def k0_off111 (k0_t8 : Fin k0_t8_loop.trips) : Fin 1 → Nat :=
  let c4608_i32 : BitVec 32 := 4608#32
  let c0_i32_163 : BitVec 32 := 0#32
  let c0_i32_95 : BitVec 32 := 0#32
  let c1_i32_97 : BitVec 32 := 1#32
  let arg14 : BitVec 32 := Scf.iv c0_i32_95 c1_i32_97 k0_t8
  let c1_i32_162 : BitVec 32 := 1#32
  let v153 : BitVec 32 := Scalar.muli arg14 c1_i32_162
  let v154 : BitVec 32 := Scalar.addi c0_i32_163 v153
  let c32_i32 : BitVec 32 := 32#32
  let v155 : BitVec 32 := Scalar.muli v154 c32_i32
  let v156 : BitVec 32 := Scalar.addi c4608_i32 v155
  let v157 : Index := Scalar.indexCast v156
  ![v157.toNat]
def k0_off112 (k0_t8 : Fin k0_t8_loop.trips) : Fin 1 → Nat :=
  let c4608_i32_165 : BitVec 32 := 4608#32
  let c0_i32_163 : BitVec 32 := 0#32
  let c0_i32_95 : BitVec 32 := 0#32
  let c1_i32_97 : BitVec 32 := 1#32
  let arg14 : BitVec 32 := Scf.iv c0_i32_95 c1_i32_97 k0_t8
  let c1_i32_162 : BitVec 32 := 1#32
  let v153 : BitVec 32 := Scalar.muli arg14 c1_i32_162
  let v154 : BitVec 32 := Scalar.addi c0_i32_163 v153
  let c32_i32_164 : BitVec 32 := 32#32
  let v160 : BitVec 32 := Scalar.muli v154 c32_i32_164
  let v161 : BitVec 32 := Scalar.addi c4608_i32_165 v160
  let c16_i32 : BitVec 32 := 16#32
  let v162 : BitVec 32 := Scalar.addi v161 c16_i32
  let v163 : Index := Scalar.indexCast v162
  ![v163.toNat]
def k0_off113 (k0_t8 : Fin k0_t8_loop.trips) (c0_i32_166 : BitVec 32) : Fin 3 → Nat :=
  let c0_i32_163 : BitVec 32 := 0#32
  let c0_i32_95 : BitVec 32 := 0#32
  let c1_i32_97 : BitVec 32 := 1#32
  let arg14 : BitVec 32 := Scf.iv c0_i32_95 c1_i32_97 k0_t8
  let c1_i32_162 : BitVec 32 := 1#32
  let v153 : BitVec 32 := Scalar.muli arg14 c1_i32_162
  let v154 : BitVec 32 := Scalar.addi c0_i32_163 v153
  let c4_i32 : BitVec 32 := 4#32
  let v169 : BitVec 32 := Scalar.muli v154 c4_i32
  let v170 : BitVec 32 := Scalar.addi v169 c0_i32_166
  let v171 : Index := Scalar.indexCast v170
  let c0_i32_167 : BitVec 32 := 0#32
  let v172 : Index := Scalar.indexCast c0_i32_167
  let c0_168 : Index := 0#32
  ![v171.toNat, 0, 0]
def k0_off114 (k0_t8 : Fin k0_t8_loop.trips) (c0_i32_170 : BitVec 32) : Fin 3 → Nat :=
  let c0_i32_163 : BitVec 32 := 0#32
  let c0_i32_95 : BitVec 32 := 0#32
  let c1_i32_97 : BitVec 32 := 1#32
  let arg14 : BitVec 32 := Scf.iv c0_i32_95 c1_i32_97 k0_t8
  let c1_i32_162 : BitVec 32 := 1#32
  let v153 : BitVec 32 := Scalar.muli arg14 c1_i32_162
  let v154 : BitVec 32 := Scalar.addi c0_i32_163 v153
  let c4_i32_169 : BitVec 32 := 4#32
  let v177 : BitVec 32 := Scalar.muli v154 c4_i32_169
  let v178 : BitVec 32 := Scalar.addi v177 c0_i32_170
  let v179 : Index := Scalar.indexCast v178
  let c0_i32_171 : BitVec 32 := 0#32
  let v180 : Index := Scalar.indexCast c0_i32_171
  let c16_172 : Index := 16#32
  ![v179.toNat, 0, 16]
def k0_off115 (k0_t8 : Fin k0_t8_loop.trips) (c0_i32_174 : BitVec 32) : Fin 3 → Nat :=
  let c0_i32_163 : BitVec 32 := 0#32
  let c0_i32_95 : BitVec 32 := 0#32
  let c1_i32_97 : BitVec 32 := 1#32
  let arg14 : BitVec 32 := Scf.iv c0_i32_95 c1_i32_97 k0_t8
  let c1_i32_162 : BitVec 32 := 1#32
  let v153 : BitVec 32 := Scalar.muli arg14 c1_i32_162
  let v154 : BitVec 32 := Scalar.addi c0_i32_163 v153
  let c4_i32_173 : BitVec 32 := 4#32
  let v188 : BitVec 32 := Scalar.muli v154 c4_i32_173
  let v189 : BitVec 32 := Scalar.addi v188 c0_i32_174
  let v190 : Index := Scalar.indexCast v189
  let c0_i32_175 : BitVec 32 := 0#32
  let v191 : Index := Scalar.indexCast c0_i32_175
  let c32_176 : Index := 32#32
  ![v190.toNat, 0, 32]
def k0_off116 (k0_t8 : Fin k0_t8_loop.trips) (c0_i32_178 : BitVec 32) : Fin 3 → Nat :=
  let c0_i32_163 : BitVec 32 := 0#32
  let c0_i32_95 : BitVec 32 := 0#32
  let c1_i32_97 : BitVec 32 := 1#32
  let arg14 : BitVec 32 := Scf.iv c0_i32_95 c1_i32_97 k0_t8
  let c1_i32_162 : BitVec 32 := 1#32
  let v153 : BitVec 32 := Scalar.muli arg14 c1_i32_162
  let v154 : BitVec 32 := Scalar.addi c0_i32_163 v153
  let c4_i32_177 : BitVec 32 := 4#32
  let v196 : BitVec 32 := Scalar.muli v154 c4_i32_177
  let v197 : BitVec 32 := Scalar.addi v196 c0_i32_178
  let v198 : Index := Scalar.indexCast v197
  let c0_i32_179 : BitVec 32 := 0#32
  let v199 : Index := Scalar.indexCast c0_i32_179
  let c48_180 : Index := 48#32
  ![v198.toNat, 0, 48]
def k0_off117 (k0_t8 : Fin k0_t8_loop.trips) (c0_i32_182 : BitVec 32) : Fin 3 → Nat :=
  let c0_i32_163 : BitVec 32 := 0#32
  let c0_i32_95 : BitVec 32 := 0#32
  let c1_i32_97 : BitVec 32 := 1#32
  let arg14 : BitVec 32 := Scf.iv c0_i32_95 c1_i32_97 k0_t8
  let c1_i32_162 : BitVec 32 := 1#32
  let v153 : BitVec 32 := Scalar.muli arg14 c1_i32_162
  let v154 : BitVec 32 := Scalar.addi c0_i32_163 v153
  let c4_i32_181 : BitVec 32 := 4#32
  let v207 : BitVec 32 := Scalar.muli v154 c4_i32_181
  let v208 : BitVec 32 := Scalar.addi v207 c0_i32_182
  let v209 : Index := Scalar.indexCast v208
  let c0_i32_183 : BitVec 32 := 0#32
  let v210 : Index := Scalar.indexCast c0_i32_183
  let c64_184 : Index := 64#32
  ![v209.toNat, 0, 64]
def k0_off118 (k0_t8 : Fin k0_t8_loop.trips) (c0_i32_186 : BitVec 32) : Fin 3 → Nat :=
  let c0_i32_163 : BitVec 32 := 0#32
  let c0_i32_95 : BitVec 32 := 0#32
  let c1_i32_97 : BitVec 32 := 1#32
  let arg14 : BitVec 32 := Scf.iv c0_i32_95 c1_i32_97 k0_t8
  let c1_i32_162 : BitVec 32 := 1#32
  let v153 : BitVec 32 := Scalar.muli arg14 c1_i32_162
  let v154 : BitVec 32 := Scalar.addi c0_i32_163 v153
  let c4_i32_185 : BitVec 32 := 4#32
  let v215 : BitVec 32 := Scalar.muli v154 c4_i32_185
  let v216 : BitVec 32 := Scalar.addi v215 c0_i32_186
  let v217 : Index := Scalar.indexCast v216
  let c0_i32_187 : BitVec 32 := 0#32
  let v218 : Index := Scalar.indexCast c0_i32_187
  let c80_188 : Index := 80#32
  ![v217.toNat, 0, 80]
def k0_off119 (k0_t8 : Fin k0_t8_loop.trips) (c0_i32_190 : BitVec 32) : Fin 3 → Nat :=
  let c0_i32_163 : BitVec 32 := 0#32
  let c0_i32_95 : BitVec 32 := 0#32
  let c1_i32_97 : BitVec 32 := 1#32
  let arg14 : BitVec 32 := Scf.iv c0_i32_95 c1_i32_97 k0_t8
  let c1_i32_162 : BitVec 32 := 1#32
  let v153 : BitVec 32 := Scalar.muli arg14 c1_i32_162
  let v154 : BitVec 32 := Scalar.addi c0_i32_163 v153
  let c4_i32_189 : BitVec 32 := 4#32
  let v226 : BitVec 32 := Scalar.muli v154 c4_i32_189
  let v227 : BitVec 32 := Scalar.addi v226 c0_i32_190
  let v228 : Index := Scalar.indexCast v227
  let c0_i32_191 : BitVec 32 := 0#32
  let v229 : Index := Scalar.indexCast c0_i32_191
  let c96_192 : Index := 96#32
  ![v228.toNat, 0, 96]
def k0_off120 (k0_t8 : Fin k0_t8_loop.trips) (c0_i32_194 : BitVec 32) : Fin 3 → Nat :=
  let c0_i32_163 : BitVec 32 := 0#32
  let c0_i32_95 : BitVec 32 := 0#32
  let c1_i32_97 : BitVec 32 := 1#32
  let arg14 : BitVec 32 := Scf.iv c0_i32_95 c1_i32_97 k0_t8
  let c1_i32_162 : BitVec 32 := 1#32
  let v153 : BitVec 32 := Scalar.muli arg14 c1_i32_162
  let v154 : BitVec 32 := Scalar.addi c0_i32_163 v153
  let c4_i32_193 : BitVec 32 := 4#32
  let v234 : BitVec 32 := Scalar.muli v154 c4_i32_193
  let v235 : BitVec 32 := Scalar.addi v234 c0_i32_194
  let v236 : Index := Scalar.indexCast v235
  let c0_i32_195 : BitVec 32 := 0#32
  let v237 : Index := Scalar.indexCast c0_i32_195
  let c112_196 : Index := 112#32
  ![v236.toNat, 0, 112]
def k0_off121 (k0_t8 : Fin k0_t8_loop.trips) (c0_i32_198 : BitVec 32) : Fin 3 → Nat :=
  let c0_i32_163 : BitVec 32 := 0#32
  let c0_i32_95 : BitVec 32 := 0#32
  let c1_i32_97 : BitVec 32 := 1#32
  let arg14 : BitVec 32 := Scf.iv c0_i32_95 c1_i32_97 k0_t8
  let c1_i32_162 : BitVec 32 := 1#32
  let v153 : BitVec 32 := Scalar.muli arg14 c1_i32_162
  let v154 : BitVec 32 := Scalar.addi c0_i32_163 v153
  let c4_i32_197 : BitVec 32 := 4#32
  let v245 : BitVec 32 := Scalar.muli v154 c4_i32_197
  let v246 : BitVec 32 := Scalar.addi v245 c0_i32_198
  let v247 : Index := Scalar.indexCast v246
  let c1_i32_199 : BitVec 32 := 1#32
  let v248 : Index := Scalar.indexCast c1_i32_199
  let c0_200 : Index := 0#32
  ![v247.toNat, 1, 0]
def k0_off122 (k0_t8 : Fin k0_t8_loop.trips) (c0_i32_202 : BitVec 32) : Fin 3 → Nat :=
  let c0_i32_163 : BitVec 32 := 0#32
  let c0_i32_95 : BitVec 32 := 0#32
  let c1_i32_97 : BitVec 32 := 1#32
  let arg14 : BitVec 32 := Scf.iv c0_i32_95 c1_i32_97 k0_t8
  let c1_i32_162 : BitVec 32 := 1#32
  let v153 : BitVec 32 := Scalar.muli arg14 c1_i32_162
  let v154 : BitVec 32 := Scalar.addi c0_i32_163 v153
  let c4_i32_201 : BitVec 32 := 4#32
  let v253 : BitVec 32 := Scalar.muli v154 c4_i32_201
  let v254 : BitVec 32 := Scalar.addi v253 c0_i32_202
  let v255 : Index := Scalar.indexCast v254
  let c1_i32_203 : BitVec 32 := 1#32
  let v256 : Index := Scalar.indexCast c1_i32_203
  let c16_204 : Index := 16#32
  ![v255.toNat, 1, 16]
def k0_off123 (k0_t8 : Fin k0_t8_loop.trips) (c0_i32_206 : BitVec 32) : Fin 3 → Nat :=
  let c0_i32_163 : BitVec 32 := 0#32
  let c0_i32_95 : BitVec 32 := 0#32
  let c1_i32_97 : BitVec 32 := 1#32
  let arg14 : BitVec 32 := Scf.iv c0_i32_95 c1_i32_97 k0_t8
  let c1_i32_162 : BitVec 32 := 1#32
  let v153 : BitVec 32 := Scalar.muli arg14 c1_i32_162
  let v154 : BitVec 32 := Scalar.addi c0_i32_163 v153
  let c4_i32_205 : BitVec 32 := 4#32
  let v264 : BitVec 32 := Scalar.muli v154 c4_i32_205
  let v265 : BitVec 32 := Scalar.addi v264 c0_i32_206
  let v266 : Index := Scalar.indexCast v265
  let c1_i32_207 : BitVec 32 := 1#32
  let v267 : Index := Scalar.indexCast c1_i32_207
  let c32_208 : Index := 32#32
  ![v266.toNat, 1, 32]
def k0_off124 (k0_t8 : Fin k0_t8_loop.trips) (c0_i32_210 : BitVec 32) : Fin 3 → Nat :=
  let c0_i32_163 : BitVec 32 := 0#32
  let c0_i32_95 : BitVec 32 := 0#32
  let c1_i32_97 : BitVec 32 := 1#32
  let arg14 : BitVec 32 := Scf.iv c0_i32_95 c1_i32_97 k0_t8
  let c1_i32_162 : BitVec 32 := 1#32
  let v153 : BitVec 32 := Scalar.muli arg14 c1_i32_162
  let v154 : BitVec 32 := Scalar.addi c0_i32_163 v153
  let c4_i32_209 : BitVec 32 := 4#32
  let v272 : BitVec 32 := Scalar.muli v154 c4_i32_209
  let v273 : BitVec 32 := Scalar.addi v272 c0_i32_210
  let v274 : Index := Scalar.indexCast v273
  let c1_i32_211 : BitVec 32 := 1#32
  let v275 : Index := Scalar.indexCast c1_i32_211
  let c48_212 : Index := 48#32
  ![v274.toNat, 1, 48]
def k0_off125 (k0_t8 : Fin k0_t8_loop.trips) (c0_i32_214 : BitVec 32) : Fin 3 → Nat :=
  let c0_i32_163 : BitVec 32 := 0#32
  let c0_i32_95 : BitVec 32 := 0#32
  let c1_i32_97 : BitVec 32 := 1#32
  let arg14 : BitVec 32 := Scf.iv c0_i32_95 c1_i32_97 k0_t8
  let c1_i32_162 : BitVec 32 := 1#32
  let v153 : BitVec 32 := Scalar.muli arg14 c1_i32_162
  let v154 : BitVec 32 := Scalar.addi c0_i32_163 v153
  let c4_i32_213 : BitVec 32 := 4#32
  let v283 : BitVec 32 := Scalar.muli v154 c4_i32_213
  let v284 : BitVec 32 := Scalar.addi v283 c0_i32_214
  let v285 : Index := Scalar.indexCast v284
  let c1_i32_215 : BitVec 32 := 1#32
  let v286 : Index := Scalar.indexCast c1_i32_215
  let c64_216 : Index := 64#32
  ![v285.toNat, 1, 64]
def k0_off126 (k0_t8 : Fin k0_t8_loop.trips) (c0_i32_218 : BitVec 32) : Fin 3 → Nat :=
  let c0_i32_163 : BitVec 32 := 0#32
  let c0_i32_95 : BitVec 32 := 0#32
  let c1_i32_97 : BitVec 32 := 1#32
  let arg14 : BitVec 32 := Scf.iv c0_i32_95 c1_i32_97 k0_t8
  let c1_i32_162 : BitVec 32 := 1#32
  let v153 : BitVec 32 := Scalar.muli arg14 c1_i32_162
  let v154 : BitVec 32 := Scalar.addi c0_i32_163 v153
  let c4_i32_217 : BitVec 32 := 4#32
  let v291 : BitVec 32 := Scalar.muli v154 c4_i32_217
  let v292 : BitVec 32 := Scalar.addi v291 c0_i32_218
  let v293 : Index := Scalar.indexCast v292
  let c1_i32_219 : BitVec 32 := 1#32
  let v294 : Index := Scalar.indexCast c1_i32_219
  let c80_220 : Index := 80#32
  ![v293.toNat, 1, 80]
def k0_off127 (k0_t8 : Fin k0_t8_loop.trips) (c0_i32_222 : BitVec 32) : Fin 3 → Nat :=
  let c0_i32_163 : BitVec 32 := 0#32
  let c0_i32_95 : BitVec 32 := 0#32
  let c1_i32_97 : BitVec 32 := 1#32
  let arg14 : BitVec 32 := Scf.iv c0_i32_95 c1_i32_97 k0_t8
  let c1_i32_162 : BitVec 32 := 1#32
  let v153 : BitVec 32 := Scalar.muli arg14 c1_i32_162
  let v154 : BitVec 32 := Scalar.addi c0_i32_163 v153
  let c4_i32_221 : BitVec 32 := 4#32
  let v302 : BitVec 32 := Scalar.muli v154 c4_i32_221
  let v303 : BitVec 32 := Scalar.addi v302 c0_i32_222
  let v304 : Index := Scalar.indexCast v303
  let c1_i32_223 : BitVec 32 := 1#32
  let v305 : Index := Scalar.indexCast c1_i32_223
  let c96_224 : Index := 96#32
  ![v304.toNat, 1, 96]
def k0_off128 (k0_t8 : Fin k0_t8_loop.trips) (c0_i32_226 : BitVec 32) : Fin 3 → Nat :=
  let c0_i32_163 : BitVec 32 := 0#32
  let c0_i32_95 : BitVec 32 := 0#32
  let c1_i32_97 : BitVec 32 := 1#32
  let arg14 : BitVec 32 := Scf.iv c0_i32_95 c1_i32_97 k0_t8
  let c1_i32_162 : BitVec 32 := 1#32
  let v153 : BitVec 32 := Scalar.muli arg14 c1_i32_162
  let v154 : BitVec 32 := Scalar.addi c0_i32_163 v153
  let c4_i32_225 : BitVec 32 := 4#32
  let v310 : BitVec 32 := Scalar.muli v154 c4_i32_225
  let v311 : BitVec 32 := Scalar.addi v310 c0_i32_226
  let v312 : Index := Scalar.indexCast v311
  let c1_i32_227 : BitVec 32 := 1#32
  let v313 : Index := Scalar.indexCast c1_i32_227
  let c112_228 : Index := 112#32
  ![v312.toNat, 1, 112]
@[reducible] def k0_t9_loop : Scf.Loop 32 :=
  let c0_i32_106 : BitVec 32 := 0#32
  let c24_i32_107 : BitVec 32 := 24#32
  let v74 : BitVec 32 := Scalar.addi c0_i32_106 c24_i32_107
  let c1_i32_108 : BitVec 32 := 1#32
  ⟨c0_i32_106, v74, c1_i32_108⟩
def k0_off129 (k0_t9 : Fin k0_t9_loop.trips) : Fin 1 → Nat :=
  let c5376_i32 : BitVec 32 := 5376#32
  let c0_i32_163 : BitVec 32 := 0#32
  let c0_i32_106 : BitVec 32 := 0#32
  let c1_i32_108 : BitVec 32 := 1#32
  let arg14 : BitVec 32 := Scf.iv c0_i32_106 c1_i32_108 k0_t9
  let c1_i32_162 : BitVec 32 := 1#32
  let v153 : BitVec 32 := Scalar.muli arg14 c1_i32_162
  let v154 : BitVec 32 := Scalar.addi c0_i32_163 v153
  let c32_i32 : BitVec 32 := 32#32
  let v155 : BitVec 32 := Scalar.muli v154 c32_i32
  let v156 : BitVec 32 := Scalar.addi c5376_i32 v155
  let v157 : Index := Scalar.indexCast v156
  ![v157.toNat]
def k0_off130 (k0_t9 : Fin k0_t9_loop.trips) : Fin 1 → Nat :=
  let c5376_i32_165 : BitVec 32 := 5376#32
  let c0_i32_163 : BitVec 32 := 0#32
  let c0_i32_106 : BitVec 32 := 0#32
  let c1_i32_108 : BitVec 32 := 1#32
  let arg14 : BitVec 32 := Scf.iv c0_i32_106 c1_i32_108 k0_t9
  let c1_i32_162 : BitVec 32 := 1#32
  let v153 : BitVec 32 := Scalar.muli arg14 c1_i32_162
  let v154 : BitVec 32 := Scalar.addi c0_i32_163 v153
  let c32_i32_164 : BitVec 32 := 32#32
  let v160 : BitVec 32 := Scalar.muli v154 c32_i32_164
  let v161 : BitVec 32 := Scalar.addi c5376_i32_165 v160
  let c16_i32 : BitVec 32 := 16#32
  let v162 : BitVec 32 := Scalar.addi v161 c16_i32
  let v163 : Index := Scalar.indexCast v162
  ![v163.toNat]
def k0_off131 (k0_t9 : Fin k0_t9_loop.trips) (c0_i32_166 : BitVec 32) : Fin 3 → Nat :=
  let c0_i32_163 : BitVec 32 := 0#32
  let c0_i32_106 : BitVec 32 := 0#32
  let c1_i32_108 : BitVec 32 := 1#32
  let arg14 : BitVec 32 := Scf.iv c0_i32_106 c1_i32_108 k0_t9
  let c1_i32_162 : BitVec 32 := 1#32
  let v153 : BitVec 32 := Scalar.muli arg14 c1_i32_162
  let v154 : BitVec 32 := Scalar.addi c0_i32_163 v153
  let c4_i32 : BitVec 32 := 4#32
  let v169 : BitVec 32 := Scalar.muli v154 c4_i32
  let v170 : BitVec 32 := Scalar.addi v169 c0_i32_166
  let v171 : Index := Scalar.indexCast v170
  let c0_i32_167 : BitVec 32 := 0#32
  let v172 : Index := Scalar.indexCast c0_i32_167
  let c0_168 : Index := 0#32
  ![v171.toNat, 0, 0]
def k0_off132 (k0_t9 : Fin k0_t9_loop.trips) (c0_i32_170 : BitVec 32) : Fin 3 → Nat :=
  let c0_i32_163 : BitVec 32 := 0#32
  let c0_i32_106 : BitVec 32 := 0#32
  let c1_i32_108 : BitVec 32 := 1#32
  let arg14 : BitVec 32 := Scf.iv c0_i32_106 c1_i32_108 k0_t9
  let c1_i32_162 : BitVec 32 := 1#32
  let v153 : BitVec 32 := Scalar.muli arg14 c1_i32_162
  let v154 : BitVec 32 := Scalar.addi c0_i32_163 v153
  let c4_i32_169 : BitVec 32 := 4#32
  let v177 : BitVec 32 := Scalar.muli v154 c4_i32_169
  let v178 : BitVec 32 := Scalar.addi v177 c0_i32_170
  let v179 : Index := Scalar.indexCast v178
  let c0_i32_171 : BitVec 32 := 0#32
  let v180 : Index := Scalar.indexCast c0_i32_171
  let c16_172 : Index := 16#32
  ![v179.toNat, 0, 16]
def k0_off133 (k0_t9 : Fin k0_t9_loop.trips) (c0_i32_174 : BitVec 32) : Fin 3 → Nat :=
  let c0_i32_163 : BitVec 32 := 0#32
  let c0_i32_106 : BitVec 32 := 0#32
  let c1_i32_108 : BitVec 32 := 1#32
  let arg14 : BitVec 32 := Scf.iv c0_i32_106 c1_i32_108 k0_t9
  let c1_i32_162 : BitVec 32 := 1#32
  let v153 : BitVec 32 := Scalar.muli arg14 c1_i32_162
  let v154 : BitVec 32 := Scalar.addi c0_i32_163 v153
  let c4_i32_173 : BitVec 32 := 4#32
  let v188 : BitVec 32 := Scalar.muli v154 c4_i32_173
  let v189 : BitVec 32 := Scalar.addi v188 c0_i32_174
  let v190 : Index := Scalar.indexCast v189
  let c0_i32_175 : BitVec 32 := 0#32
  let v191 : Index := Scalar.indexCast c0_i32_175
  let c32_176 : Index := 32#32
  ![v190.toNat, 0, 32]
def k0_off134 (k0_t9 : Fin k0_t9_loop.trips) (c0_i32_178 : BitVec 32) : Fin 3 → Nat :=
  let c0_i32_163 : BitVec 32 := 0#32
  let c0_i32_106 : BitVec 32 := 0#32
  let c1_i32_108 : BitVec 32 := 1#32
  let arg14 : BitVec 32 := Scf.iv c0_i32_106 c1_i32_108 k0_t9
  let c1_i32_162 : BitVec 32 := 1#32
  let v153 : BitVec 32 := Scalar.muli arg14 c1_i32_162
  let v154 : BitVec 32 := Scalar.addi c0_i32_163 v153
  let c4_i32_177 : BitVec 32 := 4#32
  let v196 : BitVec 32 := Scalar.muli v154 c4_i32_177
  let v197 : BitVec 32 := Scalar.addi v196 c0_i32_178
  let v198 : Index := Scalar.indexCast v197
  let c0_i32_179 : BitVec 32 := 0#32
  let v199 : Index := Scalar.indexCast c0_i32_179
  let c48_180 : Index := 48#32
  ![v198.toNat, 0, 48]
def k0_off135 (k0_t9 : Fin k0_t9_loop.trips) (c0_i32_182 : BitVec 32) : Fin 3 → Nat :=
  let c0_i32_163 : BitVec 32 := 0#32
  let c0_i32_106 : BitVec 32 := 0#32
  let c1_i32_108 : BitVec 32 := 1#32
  let arg14 : BitVec 32 := Scf.iv c0_i32_106 c1_i32_108 k0_t9
  let c1_i32_162 : BitVec 32 := 1#32
  let v153 : BitVec 32 := Scalar.muli arg14 c1_i32_162
  let v154 : BitVec 32 := Scalar.addi c0_i32_163 v153
  let c4_i32_181 : BitVec 32 := 4#32
  let v207 : BitVec 32 := Scalar.muli v154 c4_i32_181
  let v208 : BitVec 32 := Scalar.addi v207 c0_i32_182
  let v209 : Index := Scalar.indexCast v208
  let c0_i32_183 : BitVec 32 := 0#32
  let v210 : Index := Scalar.indexCast c0_i32_183
  let c64_184 : Index := 64#32
  ![v209.toNat, 0, 64]
def k0_off136 (k0_t9 : Fin k0_t9_loop.trips) (c0_i32_186 : BitVec 32) : Fin 3 → Nat :=
  let c0_i32_163 : BitVec 32 := 0#32
  let c0_i32_106 : BitVec 32 := 0#32
  let c1_i32_108 : BitVec 32 := 1#32
  let arg14 : BitVec 32 := Scf.iv c0_i32_106 c1_i32_108 k0_t9
  let c1_i32_162 : BitVec 32 := 1#32
  let v153 : BitVec 32 := Scalar.muli arg14 c1_i32_162
  let v154 : BitVec 32 := Scalar.addi c0_i32_163 v153
  let c4_i32_185 : BitVec 32 := 4#32
  let v215 : BitVec 32 := Scalar.muli v154 c4_i32_185
  let v216 : BitVec 32 := Scalar.addi v215 c0_i32_186
  let v217 : Index := Scalar.indexCast v216
  let c0_i32_187 : BitVec 32 := 0#32
  let v218 : Index := Scalar.indexCast c0_i32_187
  let c80_188 : Index := 80#32
  ![v217.toNat, 0, 80]
def k0_off137 (k0_t9 : Fin k0_t9_loop.trips) (c0_i32_190 : BitVec 32) : Fin 3 → Nat :=
  let c0_i32_163 : BitVec 32 := 0#32
  let c0_i32_106 : BitVec 32 := 0#32
  let c1_i32_108 : BitVec 32 := 1#32
  let arg14 : BitVec 32 := Scf.iv c0_i32_106 c1_i32_108 k0_t9
  let c1_i32_162 : BitVec 32 := 1#32
  let v153 : BitVec 32 := Scalar.muli arg14 c1_i32_162
  let v154 : BitVec 32 := Scalar.addi c0_i32_163 v153
  let c4_i32_189 : BitVec 32 := 4#32
  let v226 : BitVec 32 := Scalar.muli v154 c4_i32_189
  let v227 : BitVec 32 := Scalar.addi v226 c0_i32_190
  let v228 : Index := Scalar.indexCast v227
  let c0_i32_191 : BitVec 32 := 0#32
  let v229 : Index := Scalar.indexCast c0_i32_191
  let c96_192 : Index := 96#32
  ![v228.toNat, 0, 96]
def k0_off138 (k0_t9 : Fin k0_t9_loop.trips) (c0_i32_194 : BitVec 32) : Fin 3 → Nat :=
  let c0_i32_163 : BitVec 32 := 0#32
  let c0_i32_106 : BitVec 32 := 0#32
  let c1_i32_108 : BitVec 32 := 1#32
  let arg14 : BitVec 32 := Scf.iv c0_i32_106 c1_i32_108 k0_t9
  let c1_i32_162 : BitVec 32 := 1#32
  let v153 : BitVec 32 := Scalar.muli arg14 c1_i32_162
  let v154 : BitVec 32 := Scalar.addi c0_i32_163 v153
  let c4_i32_193 : BitVec 32 := 4#32
  let v234 : BitVec 32 := Scalar.muli v154 c4_i32_193
  let v235 : BitVec 32 := Scalar.addi v234 c0_i32_194
  let v236 : Index := Scalar.indexCast v235
  let c0_i32_195 : BitVec 32 := 0#32
  let v237 : Index := Scalar.indexCast c0_i32_195
  let c112_196 : Index := 112#32
  ![v236.toNat, 0, 112]
def k0_off139 (k0_t9 : Fin k0_t9_loop.trips) (c0_i32_198 : BitVec 32) : Fin 3 → Nat :=
  let c0_i32_163 : BitVec 32 := 0#32
  let c0_i32_106 : BitVec 32 := 0#32
  let c1_i32_108 : BitVec 32 := 1#32
  let arg14 : BitVec 32 := Scf.iv c0_i32_106 c1_i32_108 k0_t9
  let c1_i32_162 : BitVec 32 := 1#32
  let v153 : BitVec 32 := Scalar.muli arg14 c1_i32_162
  let v154 : BitVec 32 := Scalar.addi c0_i32_163 v153
  let c4_i32_197 : BitVec 32 := 4#32
  let v245 : BitVec 32 := Scalar.muli v154 c4_i32_197
  let v246 : BitVec 32 := Scalar.addi v245 c0_i32_198
  let v247 : Index := Scalar.indexCast v246
  let c1_i32_199 : BitVec 32 := 1#32
  let v248 : Index := Scalar.indexCast c1_i32_199
  let c0_200 : Index := 0#32
  ![v247.toNat, 1, 0]
def k0_off140 (k0_t9 : Fin k0_t9_loop.trips) (c0_i32_202 : BitVec 32) : Fin 3 → Nat :=
  let c0_i32_163 : BitVec 32 := 0#32
  let c0_i32_106 : BitVec 32 := 0#32
  let c1_i32_108 : BitVec 32 := 1#32
  let arg14 : BitVec 32 := Scf.iv c0_i32_106 c1_i32_108 k0_t9
  let c1_i32_162 : BitVec 32 := 1#32
  let v153 : BitVec 32 := Scalar.muli arg14 c1_i32_162
  let v154 : BitVec 32 := Scalar.addi c0_i32_163 v153
  let c4_i32_201 : BitVec 32 := 4#32
  let v253 : BitVec 32 := Scalar.muli v154 c4_i32_201
  let v254 : BitVec 32 := Scalar.addi v253 c0_i32_202
  let v255 : Index := Scalar.indexCast v254
  let c1_i32_203 : BitVec 32 := 1#32
  let v256 : Index := Scalar.indexCast c1_i32_203
  let c16_204 : Index := 16#32
  ![v255.toNat, 1, 16]
def k0_off141 (k0_t9 : Fin k0_t9_loop.trips) (c0_i32_206 : BitVec 32) : Fin 3 → Nat :=
  let c0_i32_163 : BitVec 32 := 0#32
  let c0_i32_106 : BitVec 32 := 0#32
  let c1_i32_108 : BitVec 32 := 1#32
  let arg14 : BitVec 32 := Scf.iv c0_i32_106 c1_i32_108 k0_t9
  let c1_i32_162 : BitVec 32 := 1#32
  let v153 : BitVec 32 := Scalar.muli arg14 c1_i32_162
  let v154 : BitVec 32 := Scalar.addi c0_i32_163 v153
  let c4_i32_205 : BitVec 32 := 4#32
  let v264 : BitVec 32 := Scalar.muli v154 c4_i32_205
  let v265 : BitVec 32 := Scalar.addi v264 c0_i32_206
  let v266 : Index := Scalar.indexCast v265
  let c1_i32_207 : BitVec 32 := 1#32
  let v267 : Index := Scalar.indexCast c1_i32_207
  let c32_208 : Index := 32#32
  ![v266.toNat, 1, 32]
def k0_off142 (k0_t9 : Fin k0_t9_loop.trips) (c0_i32_210 : BitVec 32) : Fin 3 → Nat :=
  let c0_i32_163 : BitVec 32 := 0#32
  let c0_i32_106 : BitVec 32 := 0#32
  let c1_i32_108 : BitVec 32 := 1#32
  let arg14 : BitVec 32 := Scf.iv c0_i32_106 c1_i32_108 k0_t9
  let c1_i32_162 : BitVec 32 := 1#32
  let v153 : BitVec 32 := Scalar.muli arg14 c1_i32_162
  let v154 : BitVec 32 := Scalar.addi c0_i32_163 v153
  let c4_i32_209 : BitVec 32 := 4#32
  let v272 : BitVec 32 := Scalar.muli v154 c4_i32_209
  let v273 : BitVec 32 := Scalar.addi v272 c0_i32_210
  let v274 : Index := Scalar.indexCast v273
  let c1_i32_211 : BitVec 32 := 1#32
  let v275 : Index := Scalar.indexCast c1_i32_211
  let c48_212 : Index := 48#32
  ![v274.toNat, 1, 48]
def k0_off143 (k0_t9 : Fin k0_t9_loop.trips) (c0_i32_214 : BitVec 32) : Fin 3 → Nat :=
  let c0_i32_163 : BitVec 32 := 0#32
  let c0_i32_106 : BitVec 32 := 0#32
  let c1_i32_108 : BitVec 32 := 1#32
  let arg14 : BitVec 32 := Scf.iv c0_i32_106 c1_i32_108 k0_t9
  let c1_i32_162 : BitVec 32 := 1#32
  let v153 : BitVec 32 := Scalar.muli arg14 c1_i32_162
  let v154 : BitVec 32 := Scalar.addi c0_i32_163 v153
  let c4_i32_213 : BitVec 32 := 4#32
  let v283 : BitVec 32 := Scalar.muli v154 c4_i32_213
  let v284 : BitVec 32 := Scalar.addi v283 c0_i32_214
  let v285 : Index := Scalar.indexCast v284
  let c1_i32_215 : BitVec 32 := 1#32
  let v286 : Index := Scalar.indexCast c1_i32_215
  let c64_216 : Index := 64#32
  ![v285.toNat, 1, 64]
def k0_off144 (k0_t9 : Fin k0_t9_loop.trips) (c0_i32_218 : BitVec 32) : Fin 3 → Nat :=
  let c0_i32_163 : BitVec 32 := 0#32
  let c0_i32_106 : BitVec 32 := 0#32
  let c1_i32_108 : BitVec 32 := 1#32
  let arg14 : BitVec 32 := Scf.iv c0_i32_106 c1_i32_108 k0_t9
  let c1_i32_162 : BitVec 32 := 1#32
  let v153 : BitVec 32 := Scalar.muli arg14 c1_i32_162
  let v154 : BitVec 32 := Scalar.addi c0_i32_163 v153
  let c4_i32_217 : BitVec 32 := 4#32
  let v291 : BitVec 32 := Scalar.muli v154 c4_i32_217
  let v292 : BitVec 32 := Scalar.addi v291 c0_i32_218
  let v293 : Index := Scalar.indexCast v292
  let c1_i32_219 : BitVec 32 := 1#32
  let v294 : Index := Scalar.indexCast c1_i32_219
  let c80_220 : Index := 80#32
  ![v293.toNat, 1, 80]
def k0_off145 (k0_t9 : Fin k0_t9_loop.trips) (c0_i32_222 : BitVec 32) : Fin 3 → Nat :=
  let c0_i32_163 : BitVec 32 := 0#32
  let c0_i32_106 : BitVec 32 := 0#32
  let c1_i32_108 : BitVec 32 := 1#32
  let arg14 : BitVec 32 := Scf.iv c0_i32_106 c1_i32_108 k0_t9
  let c1_i32_162 : BitVec 32 := 1#32
  let v153 : BitVec 32 := Scalar.muli arg14 c1_i32_162
  let v154 : BitVec 32 := Scalar.addi c0_i32_163 v153
  let c4_i32_221 : BitVec 32 := 4#32
  let v302 : BitVec 32 := Scalar.muli v154 c4_i32_221
  let v303 : BitVec 32 := Scalar.addi v302 c0_i32_222
  let v304 : Index := Scalar.indexCast v303
  let c1_i32_223 : BitVec 32 := 1#32
  let v305 : Index := Scalar.indexCast c1_i32_223
  let c96_224 : Index := 96#32
  ![v304.toNat, 1, 96]
def k0_off146 (k0_t9 : Fin k0_t9_loop.trips) (c0_i32_226 : BitVec 32) : Fin 3 → Nat :=
  let c0_i32_163 : BitVec 32 := 0#32
  let c0_i32_106 : BitVec 32 := 0#32
  let c1_i32_108 : BitVec 32 := 1#32
  let arg14 : BitVec 32 := Scf.iv c0_i32_106 c1_i32_108 k0_t9
  let c1_i32_162 : BitVec 32 := 1#32
  let v153 : BitVec 32 := Scalar.muli arg14 c1_i32_162
  let v154 : BitVec 32 := Scalar.addi c0_i32_163 v153
  let c4_i32_225 : BitVec 32 := 4#32
  let v310 : BitVec 32 := Scalar.muli v154 c4_i32_225
  let v311 : BitVec 32 := Scalar.addi v310 c0_i32_226
  let v312 : Index := Scalar.indexCast v311
  let c1_i32_227 : BitVec 32 := 1#32
  let v313 : Index := Scalar.indexCast c1_i32_227
  let c112_228 : Index := 112#32
  ![v312.toNat, 1, 112]
@[reducible] def k0_t10_loop : Scf.Loop 32 :=
  let c0_i32_117 : BitVec 32 := 0#32
  let c24_i32_118 : BitVec 32 := 24#32
  let v80 : BitVec 32 := Scalar.addi c0_i32_117 c24_i32_118
  let c1_i32_119 : BitVec 32 := 1#32
  ⟨c0_i32_117, v80, c1_i32_119⟩
def k0_off147 (k0_t10 : Fin k0_t10_loop.trips) : Fin 1 → Nat :=
  let c6144_i32 : BitVec 32 := 6144#32
  let c0_i32_163 : BitVec 32 := 0#32
  let c0_i32_117 : BitVec 32 := 0#32
  let c1_i32_119 : BitVec 32 := 1#32
  let arg14 : BitVec 32 := Scf.iv c0_i32_117 c1_i32_119 k0_t10
  let c1_i32_162 : BitVec 32 := 1#32
  let v153 : BitVec 32 := Scalar.muli arg14 c1_i32_162
  let v154 : BitVec 32 := Scalar.addi c0_i32_163 v153
  let c32_i32 : BitVec 32 := 32#32
  let v155 : BitVec 32 := Scalar.muli v154 c32_i32
  let v156 : BitVec 32 := Scalar.addi c6144_i32 v155
  let v157 : Index := Scalar.indexCast v156
  ![v157.toNat]
def k0_off148 (k0_t10 : Fin k0_t10_loop.trips) : Fin 1 → Nat :=
  let c6144_i32_165 : BitVec 32 := 6144#32
  let c0_i32_163 : BitVec 32 := 0#32
  let c0_i32_117 : BitVec 32 := 0#32
  let c1_i32_119 : BitVec 32 := 1#32
  let arg14 : BitVec 32 := Scf.iv c0_i32_117 c1_i32_119 k0_t10
  let c1_i32_162 : BitVec 32 := 1#32
  let v153 : BitVec 32 := Scalar.muli arg14 c1_i32_162
  let v154 : BitVec 32 := Scalar.addi c0_i32_163 v153
  let c32_i32_164 : BitVec 32 := 32#32
  let v160 : BitVec 32 := Scalar.muli v154 c32_i32_164
  let v161 : BitVec 32 := Scalar.addi c6144_i32_165 v160
  let c16_i32 : BitVec 32 := 16#32
  let v162 : BitVec 32 := Scalar.addi v161 c16_i32
  let v163 : Index := Scalar.indexCast v162
  ![v163.toNat]
def k0_off149 (k0_t10 : Fin k0_t10_loop.trips) (c0_i32_166 : BitVec 32) : Fin 3 → Nat :=
  let c0_i32_163 : BitVec 32 := 0#32
  let c0_i32_117 : BitVec 32 := 0#32
  let c1_i32_119 : BitVec 32 := 1#32
  let arg14 : BitVec 32 := Scf.iv c0_i32_117 c1_i32_119 k0_t10
  let c1_i32_162 : BitVec 32 := 1#32
  let v153 : BitVec 32 := Scalar.muli arg14 c1_i32_162
  let v154 : BitVec 32 := Scalar.addi c0_i32_163 v153
  let c4_i32 : BitVec 32 := 4#32
  let v169 : BitVec 32 := Scalar.muli v154 c4_i32
  let v170 : BitVec 32 := Scalar.addi v169 c0_i32_166
  let v171 : Index := Scalar.indexCast v170
  let c0_i32_167 : BitVec 32 := 0#32
  let v172 : Index := Scalar.indexCast c0_i32_167
  let c0_168 : Index := 0#32
  ![v171.toNat, 0, 0]
def k0_off150 (k0_t10 : Fin k0_t10_loop.trips) (c0_i32_170 : BitVec 32) : Fin 3 → Nat :=
  let c0_i32_163 : BitVec 32 := 0#32
  let c0_i32_117 : BitVec 32 := 0#32
  let c1_i32_119 : BitVec 32 := 1#32
  let arg14 : BitVec 32 := Scf.iv c0_i32_117 c1_i32_119 k0_t10
  let c1_i32_162 : BitVec 32 := 1#32
  let v153 : BitVec 32 := Scalar.muli arg14 c1_i32_162
  let v154 : BitVec 32 := Scalar.addi c0_i32_163 v153
  let c4_i32_169 : BitVec 32 := 4#32
  let v177 : BitVec 32 := Scalar.muli v154 c4_i32_169
  let v178 : BitVec 32 := Scalar.addi v177 c0_i32_170
  let v179 : Index := Scalar.indexCast v178
  let c0_i32_171 : BitVec 32 := 0#32
  let v180 : Index := Scalar.indexCast c0_i32_171
  let c16_172 : Index := 16#32
  ![v179.toNat, 0, 16]
def k0_off151 (k0_t10 : Fin k0_t10_loop.trips) (c0_i32_174 : BitVec 32) : Fin 3 → Nat :=
  let c0_i32_163 : BitVec 32 := 0#32
  let c0_i32_117 : BitVec 32 := 0#32
  let c1_i32_119 : BitVec 32 := 1#32
  let arg14 : BitVec 32 := Scf.iv c0_i32_117 c1_i32_119 k0_t10
  let c1_i32_162 : BitVec 32 := 1#32
  let v153 : BitVec 32 := Scalar.muli arg14 c1_i32_162
  let v154 : BitVec 32 := Scalar.addi c0_i32_163 v153
  let c4_i32_173 : BitVec 32 := 4#32
  let v188 : BitVec 32 := Scalar.muli v154 c4_i32_173
  let v189 : BitVec 32 := Scalar.addi v188 c0_i32_174
  let v190 : Index := Scalar.indexCast v189
  let c0_i32_175 : BitVec 32 := 0#32
  let v191 : Index := Scalar.indexCast c0_i32_175
  let c32_176 : Index := 32#32
  ![v190.toNat, 0, 32]
def k0_off152 (k0_t10 : Fin k0_t10_loop.trips) (c0_i32_178 : BitVec 32) : Fin 3 → Nat :=
  let c0_i32_163 : BitVec 32 := 0#32
  let c0_i32_117 : BitVec 32 := 0#32
  let c1_i32_119 : BitVec 32 := 1#32
  let arg14 : BitVec 32 := Scf.iv c0_i32_117 c1_i32_119 k0_t10
  let c1_i32_162 : BitVec 32 := 1#32
  let v153 : BitVec 32 := Scalar.muli arg14 c1_i32_162
  let v154 : BitVec 32 := Scalar.addi c0_i32_163 v153
  let c4_i32_177 : BitVec 32 := 4#32
  let v196 : BitVec 32 := Scalar.muli v154 c4_i32_177
  let v197 : BitVec 32 := Scalar.addi v196 c0_i32_178
  let v198 : Index := Scalar.indexCast v197
  let c0_i32_179 : BitVec 32 := 0#32
  let v199 : Index := Scalar.indexCast c0_i32_179
  let c48_180 : Index := 48#32
  ![v198.toNat, 0, 48]
def k0_off153 (k0_t10 : Fin k0_t10_loop.trips) (c0_i32_182 : BitVec 32) : Fin 3 → Nat :=
  let c0_i32_163 : BitVec 32 := 0#32
  let c0_i32_117 : BitVec 32 := 0#32
  let c1_i32_119 : BitVec 32 := 1#32
  let arg14 : BitVec 32 := Scf.iv c0_i32_117 c1_i32_119 k0_t10
  let c1_i32_162 : BitVec 32 := 1#32
  let v153 : BitVec 32 := Scalar.muli arg14 c1_i32_162
  let v154 : BitVec 32 := Scalar.addi c0_i32_163 v153
  let c4_i32_181 : BitVec 32 := 4#32
  let v207 : BitVec 32 := Scalar.muli v154 c4_i32_181
  let v208 : BitVec 32 := Scalar.addi v207 c0_i32_182
  let v209 : Index := Scalar.indexCast v208
  let c0_i32_183 : BitVec 32 := 0#32
  let v210 : Index := Scalar.indexCast c0_i32_183
  let c64_184 : Index := 64#32
  ![v209.toNat, 0, 64]
def k0_off154 (k0_t10 : Fin k0_t10_loop.trips) (c0_i32_186 : BitVec 32) : Fin 3 → Nat :=
  let c0_i32_163 : BitVec 32 := 0#32
  let c0_i32_117 : BitVec 32 := 0#32
  let c1_i32_119 : BitVec 32 := 1#32
  let arg14 : BitVec 32 := Scf.iv c0_i32_117 c1_i32_119 k0_t10
  let c1_i32_162 : BitVec 32 := 1#32
  let v153 : BitVec 32 := Scalar.muli arg14 c1_i32_162
  let v154 : BitVec 32 := Scalar.addi c0_i32_163 v153
  let c4_i32_185 : BitVec 32 := 4#32
  let v215 : BitVec 32 := Scalar.muli v154 c4_i32_185
  let v216 : BitVec 32 := Scalar.addi v215 c0_i32_186
  let v217 : Index := Scalar.indexCast v216
  let c0_i32_187 : BitVec 32 := 0#32
  let v218 : Index := Scalar.indexCast c0_i32_187
  let c80_188 : Index := 80#32
  ![v217.toNat, 0, 80]
def k0_off155 (k0_t10 : Fin k0_t10_loop.trips) (c0_i32_190 : BitVec 32) : Fin 3 → Nat :=
  let c0_i32_163 : BitVec 32 := 0#32
  let c0_i32_117 : BitVec 32 := 0#32
  let c1_i32_119 : BitVec 32 := 1#32
  let arg14 : BitVec 32 := Scf.iv c0_i32_117 c1_i32_119 k0_t10
  let c1_i32_162 : BitVec 32 := 1#32
  let v153 : BitVec 32 := Scalar.muli arg14 c1_i32_162
  let v154 : BitVec 32 := Scalar.addi c0_i32_163 v153
  let c4_i32_189 : BitVec 32 := 4#32
  let v226 : BitVec 32 := Scalar.muli v154 c4_i32_189
  let v227 : BitVec 32 := Scalar.addi v226 c0_i32_190
  let v228 : Index := Scalar.indexCast v227
  let c0_i32_191 : BitVec 32 := 0#32
  let v229 : Index := Scalar.indexCast c0_i32_191
  let c96_192 : Index := 96#32
  ![v228.toNat, 0, 96]
def k0_off156 (k0_t10 : Fin k0_t10_loop.trips) (c0_i32_194 : BitVec 32) : Fin 3 → Nat :=
  let c0_i32_163 : BitVec 32 := 0#32
  let c0_i32_117 : BitVec 32 := 0#32
  let c1_i32_119 : BitVec 32 := 1#32
  let arg14 : BitVec 32 := Scf.iv c0_i32_117 c1_i32_119 k0_t10
  let c1_i32_162 : BitVec 32 := 1#32
  let v153 : BitVec 32 := Scalar.muli arg14 c1_i32_162
  let v154 : BitVec 32 := Scalar.addi c0_i32_163 v153
  let c4_i32_193 : BitVec 32 := 4#32
  let v234 : BitVec 32 := Scalar.muli v154 c4_i32_193
  let v235 : BitVec 32 := Scalar.addi v234 c0_i32_194
  let v236 : Index := Scalar.indexCast v235
  let c0_i32_195 : BitVec 32 := 0#32
  let v237 : Index := Scalar.indexCast c0_i32_195
  let c112_196 : Index := 112#32
  ![v236.toNat, 0, 112]
def k0_off157 (k0_t10 : Fin k0_t10_loop.trips) (c0_i32_198 : BitVec 32) : Fin 3 → Nat :=
  let c0_i32_163 : BitVec 32 := 0#32
  let c0_i32_117 : BitVec 32 := 0#32
  let c1_i32_119 : BitVec 32 := 1#32
  let arg14 : BitVec 32 := Scf.iv c0_i32_117 c1_i32_119 k0_t10
  let c1_i32_162 : BitVec 32 := 1#32
  let v153 : BitVec 32 := Scalar.muli arg14 c1_i32_162
  let v154 : BitVec 32 := Scalar.addi c0_i32_163 v153
  let c4_i32_197 : BitVec 32 := 4#32
  let v245 : BitVec 32 := Scalar.muli v154 c4_i32_197
  let v246 : BitVec 32 := Scalar.addi v245 c0_i32_198
  let v247 : Index := Scalar.indexCast v246
  let c1_i32_199 : BitVec 32 := 1#32
  let v248 : Index := Scalar.indexCast c1_i32_199
  let c0_200 : Index := 0#32
  ![v247.toNat, 1, 0]
def k0_off158 (k0_t10 : Fin k0_t10_loop.trips) (c0_i32_202 : BitVec 32) : Fin 3 → Nat :=
  let c0_i32_163 : BitVec 32 := 0#32
  let c0_i32_117 : BitVec 32 := 0#32
  let c1_i32_119 : BitVec 32 := 1#32
  let arg14 : BitVec 32 := Scf.iv c0_i32_117 c1_i32_119 k0_t10
  let c1_i32_162 : BitVec 32 := 1#32
  let v153 : BitVec 32 := Scalar.muli arg14 c1_i32_162
  let v154 : BitVec 32 := Scalar.addi c0_i32_163 v153
  let c4_i32_201 : BitVec 32 := 4#32
  let v253 : BitVec 32 := Scalar.muli v154 c4_i32_201
  let v254 : BitVec 32 := Scalar.addi v253 c0_i32_202
  let v255 : Index := Scalar.indexCast v254
  let c1_i32_203 : BitVec 32 := 1#32
  let v256 : Index := Scalar.indexCast c1_i32_203
  let c16_204 : Index := 16#32
  ![v255.toNat, 1, 16]
def k0_off159 (k0_t10 : Fin k0_t10_loop.trips) (c0_i32_206 : BitVec 32) : Fin 3 → Nat :=
  let c0_i32_163 : BitVec 32 := 0#32
  let c0_i32_117 : BitVec 32 := 0#32
  let c1_i32_119 : BitVec 32 := 1#32
  let arg14 : BitVec 32 := Scf.iv c0_i32_117 c1_i32_119 k0_t10
  let c1_i32_162 : BitVec 32 := 1#32
  let v153 : BitVec 32 := Scalar.muli arg14 c1_i32_162
  let v154 : BitVec 32 := Scalar.addi c0_i32_163 v153
  let c4_i32_205 : BitVec 32 := 4#32
  let v264 : BitVec 32 := Scalar.muli v154 c4_i32_205
  let v265 : BitVec 32 := Scalar.addi v264 c0_i32_206
  let v266 : Index := Scalar.indexCast v265
  let c1_i32_207 : BitVec 32 := 1#32
  let v267 : Index := Scalar.indexCast c1_i32_207
  let c32_208 : Index := 32#32
  ![v266.toNat, 1, 32]
def k0_off160 (k0_t10 : Fin k0_t10_loop.trips) (c0_i32_210 : BitVec 32) : Fin 3 → Nat :=
  let c0_i32_163 : BitVec 32 := 0#32
  let c0_i32_117 : BitVec 32 := 0#32
  let c1_i32_119 : BitVec 32 := 1#32
  let arg14 : BitVec 32 := Scf.iv c0_i32_117 c1_i32_119 k0_t10
  let c1_i32_162 : BitVec 32 := 1#32
  let v153 : BitVec 32 := Scalar.muli arg14 c1_i32_162
  let v154 : BitVec 32 := Scalar.addi c0_i32_163 v153
  let c4_i32_209 : BitVec 32 := 4#32
  let v272 : BitVec 32 := Scalar.muli v154 c4_i32_209
  let v273 : BitVec 32 := Scalar.addi v272 c0_i32_210
  let v274 : Index := Scalar.indexCast v273
  let c1_i32_211 : BitVec 32 := 1#32
  let v275 : Index := Scalar.indexCast c1_i32_211
  let c48_212 : Index := 48#32
  ![v274.toNat, 1, 48]
def k0_off161 (k0_t10 : Fin k0_t10_loop.trips) (c0_i32_214 : BitVec 32) : Fin 3 → Nat :=
  let c0_i32_163 : BitVec 32 := 0#32
  let c0_i32_117 : BitVec 32 := 0#32
  let c1_i32_119 : BitVec 32 := 1#32
  let arg14 : BitVec 32 := Scf.iv c0_i32_117 c1_i32_119 k0_t10
  let c1_i32_162 : BitVec 32 := 1#32
  let v153 : BitVec 32 := Scalar.muli arg14 c1_i32_162
  let v154 : BitVec 32 := Scalar.addi c0_i32_163 v153
  let c4_i32_213 : BitVec 32 := 4#32
  let v283 : BitVec 32 := Scalar.muli v154 c4_i32_213
  let v284 : BitVec 32 := Scalar.addi v283 c0_i32_214
  let v285 : Index := Scalar.indexCast v284
  let c1_i32_215 : BitVec 32 := 1#32
  let v286 : Index := Scalar.indexCast c1_i32_215
  let c64_216 : Index := 64#32
  ![v285.toNat, 1, 64]
def k0_off162 (k0_t10 : Fin k0_t10_loop.trips) (c0_i32_218 : BitVec 32) : Fin 3 → Nat :=
  let c0_i32_163 : BitVec 32 := 0#32
  let c0_i32_117 : BitVec 32 := 0#32
  let c1_i32_119 : BitVec 32 := 1#32
  let arg14 : BitVec 32 := Scf.iv c0_i32_117 c1_i32_119 k0_t10
  let c1_i32_162 : BitVec 32 := 1#32
  let v153 : BitVec 32 := Scalar.muli arg14 c1_i32_162
  let v154 : BitVec 32 := Scalar.addi c0_i32_163 v153
  let c4_i32_217 : BitVec 32 := 4#32
  let v291 : BitVec 32 := Scalar.muli v154 c4_i32_217
  let v292 : BitVec 32 := Scalar.addi v291 c0_i32_218
  let v293 : Index := Scalar.indexCast v292
  let c1_i32_219 : BitVec 32 := 1#32
  let v294 : Index := Scalar.indexCast c1_i32_219
  let c80_220 : Index := 80#32
  ![v293.toNat, 1, 80]
def k0_off163 (k0_t10 : Fin k0_t10_loop.trips) (c0_i32_222 : BitVec 32) : Fin 3 → Nat :=
  let c0_i32_163 : BitVec 32 := 0#32
  let c0_i32_117 : BitVec 32 := 0#32
  let c1_i32_119 : BitVec 32 := 1#32
  let arg14 : BitVec 32 := Scf.iv c0_i32_117 c1_i32_119 k0_t10
  let c1_i32_162 : BitVec 32 := 1#32
  let v153 : BitVec 32 := Scalar.muli arg14 c1_i32_162
  let v154 : BitVec 32 := Scalar.addi c0_i32_163 v153
  let c4_i32_221 : BitVec 32 := 4#32
  let v302 : BitVec 32 := Scalar.muli v154 c4_i32_221
  let v303 : BitVec 32 := Scalar.addi v302 c0_i32_222
  let v304 : Index := Scalar.indexCast v303
  let c1_i32_223 : BitVec 32 := 1#32
  let v305 : Index := Scalar.indexCast c1_i32_223
  let c96_224 : Index := 96#32
  ![v304.toNat, 1, 96]
def k0_off164 (k0_t10 : Fin k0_t10_loop.trips) (c0_i32_226 : BitVec 32) : Fin 3 → Nat :=
  let c0_i32_163 : BitVec 32 := 0#32
  let c0_i32_117 : BitVec 32 := 0#32
  let c1_i32_119 : BitVec 32 := 1#32
  let arg14 : BitVec 32 := Scf.iv c0_i32_117 c1_i32_119 k0_t10
  let c1_i32_162 : BitVec 32 := 1#32
  let v153 : BitVec 32 := Scalar.muli arg14 c1_i32_162
  let v154 : BitVec 32 := Scalar.addi c0_i32_163 v153
  let c4_i32_225 : BitVec 32 := 4#32
  let v310 : BitVec 32 := Scalar.muli v154 c4_i32_225
  let v311 : BitVec 32 := Scalar.addi v310 c0_i32_226
  let v312 : Index := Scalar.indexCast v311
  let c1_i32_227 : BitVec 32 := 1#32
  let v313 : Index := Scalar.indexCast c1_i32_227
  let c112_228 : Index := 112#32
  ![v312.toNat, 1, 112]
@[reducible] def k0_t11_loop : Scf.Loop 32 :=
  let c0_i32_128 : BitVec 32 := 0#32
  let c24_i32_129 : BitVec 32 := 24#32
  let v86 : BitVec 32 := Scalar.addi c0_i32_128 c24_i32_129
  let c1_i32_130 : BitVec 32 := 1#32
  ⟨c0_i32_128, v86, c1_i32_130⟩
def k0_off165 (k0_t11 : Fin k0_t11_loop.trips) : Fin 1 → Nat :=
  let c6912_i32 : BitVec 32 := 6912#32
  let c0_i32_163 : BitVec 32 := 0#32
  let c0_i32_128 : BitVec 32 := 0#32
  let c1_i32_130 : BitVec 32 := 1#32
  let arg14 : BitVec 32 := Scf.iv c0_i32_128 c1_i32_130 k0_t11
  let c1_i32_162 : BitVec 32 := 1#32
  let v153 : BitVec 32 := Scalar.muli arg14 c1_i32_162
  let v154 : BitVec 32 := Scalar.addi c0_i32_163 v153
  let c32_i32 : BitVec 32 := 32#32
  let v155 : BitVec 32 := Scalar.muli v154 c32_i32
  let v156 : BitVec 32 := Scalar.addi c6912_i32 v155
  let v157 : Index := Scalar.indexCast v156
  ![v157.toNat]
def k0_off166 (k0_t11 : Fin k0_t11_loop.trips) : Fin 1 → Nat :=
  let c6912_i32_165 : BitVec 32 := 6912#32
  let c0_i32_163 : BitVec 32 := 0#32
  let c0_i32_128 : BitVec 32 := 0#32
  let c1_i32_130 : BitVec 32 := 1#32
  let arg14 : BitVec 32 := Scf.iv c0_i32_128 c1_i32_130 k0_t11
  let c1_i32_162 : BitVec 32 := 1#32
  let v153 : BitVec 32 := Scalar.muli arg14 c1_i32_162
  let v154 : BitVec 32 := Scalar.addi c0_i32_163 v153
  let c32_i32_164 : BitVec 32 := 32#32
  let v160 : BitVec 32 := Scalar.muli v154 c32_i32_164
  let v161 : BitVec 32 := Scalar.addi c6912_i32_165 v160
  let c16_i32 : BitVec 32 := 16#32
  let v162 : BitVec 32 := Scalar.addi v161 c16_i32
  let v163 : Index := Scalar.indexCast v162
  ![v163.toNat]
def k0_off167 (k0_t11 : Fin k0_t11_loop.trips) (c0_i32_166 : BitVec 32) : Fin 3 → Nat :=
  let c0_i32_163 : BitVec 32 := 0#32
  let c0_i32_128 : BitVec 32 := 0#32
  let c1_i32_130 : BitVec 32 := 1#32
  let arg14 : BitVec 32 := Scf.iv c0_i32_128 c1_i32_130 k0_t11
  let c1_i32_162 : BitVec 32 := 1#32
  let v153 : BitVec 32 := Scalar.muli arg14 c1_i32_162
  let v154 : BitVec 32 := Scalar.addi c0_i32_163 v153
  let c4_i32 : BitVec 32 := 4#32
  let v169 : BitVec 32 := Scalar.muli v154 c4_i32
  let v170 : BitVec 32 := Scalar.addi v169 c0_i32_166
  let v171 : Index := Scalar.indexCast v170
  let c0_i32_167 : BitVec 32 := 0#32
  let v172 : Index := Scalar.indexCast c0_i32_167
  let c0_168 : Index := 0#32
  ![v171.toNat, 0, 0]
def k0_off168 (k0_t11 : Fin k0_t11_loop.trips) (c0_i32_170 : BitVec 32) : Fin 3 → Nat :=
  let c0_i32_163 : BitVec 32 := 0#32
  let c0_i32_128 : BitVec 32 := 0#32
  let c1_i32_130 : BitVec 32 := 1#32
  let arg14 : BitVec 32 := Scf.iv c0_i32_128 c1_i32_130 k0_t11
  let c1_i32_162 : BitVec 32 := 1#32
  let v153 : BitVec 32 := Scalar.muli arg14 c1_i32_162
  let v154 : BitVec 32 := Scalar.addi c0_i32_163 v153
  let c4_i32_169 : BitVec 32 := 4#32
  let v177 : BitVec 32 := Scalar.muli v154 c4_i32_169
  let v178 : BitVec 32 := Scalar.addi v177 c0_i32_170
  let v179 : Index := Scalar.indexCast v178
  let c0_i32_171 : BitVec 32 := 0#32
  let v180 : Index := Scalar.indexCast c0_i32_171
  let c16_172 : Index := 16#32
  ![v179.toNat, 0, 16]
def k0_off169 (k0_t11 : Fin k0_t11_loop.trips) (c0_i32_174 : BitVec 32) : Fin 3 → Nat :=
  let c0_i32_163 : BitVec 32 := 0#32
  let c0_i32_128 : BitVec 32 := 0#32
  let c1_i32_130 : BitVec 32 := 1#32
  let arg14 : BitVec 32 := Scf.iv c0_i32_128 c1_i32_130 k0_t11
  let c1_i32_162 : BitVec 32 := 1#32
  let v153 : BitVec 32 := Scalar.muli arg14 c1_i32_162
  let v154 : BitVec 32 := Scalar.addi c0_i32_163 v153
  let c4_i32_173 : BitVec 32 := 4#32
  let v188 : BitVec 32 := Scalar.muli v154 c4_i32_173
  let v189 : BitVec 32 := Scalar.addi v188 c0_i32_174
  let v190 : Index := Scalar.indexCast v189
  let c0_i32_175 : BitVec 32 := 0#32
  let v191 : Index := Scalar.indexCast c0_i32_175
  let c32_176 : Index := 32#32
  ![v190.toNat, 0, 32]
def k0_off170 (k0_t11 : Fin k0_t11_loop.trips) (c0_i32_178 : BitVec 32) : Fin 3 → Nat :=
  let c0_i32_163 : BitVec 32 := 0#32
  let c0_i32_128 : BitVec 32 := 0#32
  let c1_i32_130 : BitVec 32 := 1#32
  let arg14 : BitVec 32 := Scf.iv c0_i32_128 c1_i32_130 k0_t11
  let c1_i32_162 : BitVec 32 := 1#32
  let v153 : BitVec 32 := Scalar.muli arg14 c1_i32_162
  let v154 : BitVec 32 := Scalar.addi c0_i32_163 v153
  let c4_i32_177 : BitVec 32 := 4#32
  let v196 : BitVec 32 := Scalar.muli v154 c4_i32_177
  let v197 : BitVec 32 := Scalar.addi v196 c0_i32_178
  let v198 : Index := Scalar.indexCast v197
  let c0_i32_179 : BitVec 32 := 0#32
  let v199 : Index := Scalar.indexCast c0_i32_179
  let c48_180 : Index := 48#32
  ![v198.toNat, 0, 48]
def k0_off171 (k0_t11 : Fin k0_t11_loop.trips) (c0_i32_182 : BitVec 32) : Fin 3 → Nat :=
  let c0_i32_163 : BitVec 32 := 0#32
  let c0_i32_128 : BitVec 32 := 0#32
  let c1_i32_130 : BitVec 32 := 1#32
  let arg14 : BitVec 32 := Scf.iv c0_i32_128 c1_i32_130 k0_t11
  let c1_i32_162 : BitVec 32 := 1#32
  let v153 : BitVec 32 := Scalar.muli arg14 c1_i32_162
  let v154 : BitVec 32 := Scalar.addi c0_i32_163 v153
  let c4_i32_181 : BitVec 32 := 4#32
  let v207 : BitVec 32 := Scalar.muli v154 c4_i32_181
  let v208 : BitVec 32 := Scalar.addi v207 c0_i32_182
  let v209 : Index := Scalar.indexCast v208
  let c0_i32_183 : BitVec 32 := 0#32
  let v210 : Index := Scalar.indexCast c0_i32_183
  let c64_184 : Index := 64#32
  ![v209.toNat, 0, 64]
def k0_off172 (k0_t11 : Fin k0_t11_loop.trips) (c0_i32_186 : BitVec 32) : Fin 3 → Nat :=
  let c0_i32_163 : BitVec 32 := 0#32
  let c0_i32_128 : BitVec 32 := 0#32
  let c1_i32_130 : BitVec 32 := 1#32
  let arg14 : BitVec 32 := Scf.iv c0_i32_128 c1_i32_130 k0_t11
  let c1_i32_162 : BitVec 32 := 1#32
  let v153 : BitVec 32 := Scalar.muli arg14 c1_i32_162
  let v154 : BitVec 32 := Scalar.addi c0_i32_163 v153
  let c4_i32_185 : BitVec 32 := 4#32
  let v215 : BitVec 32 := Scalar.muli v154 c4_i32_185
  let v216 : BitVec 32 := Scalar.addi v215 c0_i32_186
  let v217 : Index := Scalar.indexCast v216
  let c0_i32_187 : BitVec 32 := 0#32
  let v218 : Index := Scalar.indexCast c0_i32_187
  let c80_188 : Index := 80#32
  ![v217.toNat, 0, 80]
def k0_off173 (k0_t11 : Fin k0_t11_loop.trips) (c0_i32_190 : BitVec 32) : Fin 3 → Nat :=
  let c0_i32_163 : BitVec 32 := 0#32
  let c0_i32_128 : BitVec 32 := 0#32
  let c1_i32_130 : BitVec 32 := 1#32
  let arg14 : BitVec 32 := Scf.iv c0_i32_128 c1_i32_130 k0_t11
  let c1_i32_162 : BitVec 32 := 1#32
  let v153 : BitVec 32 := Scalar.muli arg14 c1_i32_162
  let v154 : BitVec 32 := Scalar.addi c0_i32_163 v153
  let c4_i32_189 : BitVec 32 := 4#32
  let v226 : BitVec 32 := Scalar.muli v154 c4_i32_189
  let v227 : BitVec 32 := Scalar.addi v226 c0_i32_190
  let v228 : Index := Scalar.indexCast v227
  let c0_i32_191 : BitVec 32 := 0#32
  let v229 : Index := Scalar.indexCast c0_i32_191
  let c96_192 : Index := 96#32
  ![v228.toNat, 0, 96]
def k0_off174 (k0_t11 : Fin k0_t11_loop.trips) (c0_i32_194 : BitVec 32) : Fin 3 → Nat :=
  let c0_i32_163 : BitVec 32 := 0#32
  let c0_i32_128 : BitVec 32 := 0#32
  let c1_i32_130 : BitVec 32 := 1#32
  let arg14 : BitVec 32 := Scf.iv c0_i32_128 c1_i32_130 k0_t11
  let c1_i32_162 : BitVec 32 := 1#32
  let v153 : BitVec 32 := Scalar.muli arg14 c1_i32_162
  let v154 : BitVec 32 := Scalar.addi c0_i32_163 v153
  let c4_i32_193 : BitVec 32 := 4#32
  let v234 : BitVec 32 := Scalar.muli v154 c4_i32_193
  let v235 : BitVec 32 := Scalar.addi v234 c0_i32_194
  let v236 : Index := Scalar.indexCast v235
  let c0_i32_195 : BitVec 32 := 0#32
  let v237 : Index := Scalar.indexCast c0_i32_195
  let c112_196 : Index := 112#32
  ![v236.toNat, 0, 112]
def k0_off175 (k0_t11 : Fin k0_t11_loop.trips) (c0_i32_198 : BitVec 32) : Fin 3 → Nat :=
  let c0_i32_163 : BitVec 32 := 0#32
  let c0_i32_128 : BitVec 32 := 0#32
  let c1_i32_130 : BitVec 32 := 1#32
  let arg14 : BitVec 32 := Scf.iv c0_i32_128 c1_i32_130 k0_t11
  let c1_i32_162 : BitVec 32 := 1#32
  let v153 : BitVec 32 := Scalar.muli arg14 c1_i32_162
  let v154 : BitVec 32 := Scalar.addi c0_i32_163 v153
  let c4_i32_197 : BitVec 32 := 4#32
  let v245 : BitVec 32 := Scalar.muli v154 c4_i32_197
  let v246 : BitVec 32 := Scalar.addi v245 c0_i32_198
  let v247 : Index := Scalar.indexCast v246
  let c1_i32_199 : BitVec 32 := 1#32
  let v248 : Index := Scalar.indexCast c1_i32_199
  let c0_200 : Index := 0#32
  ![v247.toNat, 1, 0]
def k0_off176 (k0_t11 : Fin k0_t11_loop.trips) (c0_i32_202 : BitVec 32) : Fin 3 → Nat :=
  let c0_i32_163 : BitVec 32 := 0#32
  let c0_i32_128 : BitVec 32 := 0#32
  let c1_i32_130 : BitVec 32 := 1#32
  let arg14 : BitVec 32 := Scf.iv c0_i32_128 c1_i32_130 k0_t11
  let c1_i32_162 : BitVec 32 := 1#32
  let v153 : BitVec 32 := Scalar.muli arg14 c1_i32_162
  let v154 : BitVec 32 := Scalar.addi c0_i32_163 v153
  let c4_i32_201 : BitVec 32 := 4#32
  let v253 : BitVec 32 := Scalar.muli v154 c4_i32_201
  let v254 : BitVec 32 := Scalar.addi v253 c0_i32_202
  let v255 : Index := Scalar.indexCast v254
  let c1_i32_203 : BitVec 32 := 1#32
  let v256 : Index := Scalar.indexCast c1_i32_203
  let c16_204 : Index := 16#32
  ![v255.toNat, 1, 16]
def k0_off177 (k0_t11 : Fin k0_t11_loop.trips) (c0_i32_206 : BitVec 32) : Fin 3 → Nat :=
  let c0_i32_163 : BitVec 32 := 0#32
  let c0_i32_128 : BitVec 32 := 0#32
  let c1_i32_130 : BitVec 32 := 1#32
  let arg14 : BitVec 32 := Scf.iv c0_i32_128 c1_i32_130 k0_t11
  let c1_i32_162 : BitVec 32 := 1#32
  let v153 : BitVec 32 := Scalar.muli arg14 c1_i32_162
  let v154 : BitVec 32 := Scalar.addi c0_i32_163 v153
  let c4_i32_205 : BitVec 32 := 4#32
  let v264 : BitVec 32 := Scalar.muli v154 c4_i32_205
  let v265 : BitVec 32 := Scalar.addi v264 c0_i32_206
  let v266 : Index := Scalar.indexCast v265
  let c1_i32_207 : BitVec 32 := 1#32
  let v267 : Index := Scalar.indexCast c1_i32_207
  let c32_208 : Index := 32#32
  ![v266.toNat, 1, 32]
def k0_off178 (k0_t11 : Fin k0_t11_loop.trips) (c0_i32_210 : BitVec 32) : Fin 3 → Nat :=
  let c0_i32_163 : BitVec 32 := 0#32
  let c0_i32_128 : BitVec 32 := 0#32
  let c1_i32_130 : BitVec 32 := 1#32
  let arg14 : BitVec 32 := Scf.iv c0_i32_128 c1_i32_130 k0_t11
  let c1_i32_162 : BitVec 32 := 1#32
  let v153 : BitVec 32 := Scalar.muli arg14 c1_i32_162
  let v154 : BitVec 32 := Scalar.addi c0_i32_163 v153
  let c4_i32_209 : BitVec 32 := 4#32
  let v272 : BitVec 32 := Scalar.muli v154 c4_i32_209
  let v273 : BitVec 32 := Scalar.addi v272 c0_i32_210
  let v274 : Index := Scalar.indexCast v273
  let c1_i32_211 : BitVec 32 := 1#32
  let v275 : Index := Scalar.indexCast c1_i32_211
  let c48_212 : Index := 48#32
  ![v274.toNat, 1, 48]
def k0_off179 (k0_t11 : Fin k0_t11_loop.trips) (c0_i32_214 : BitVec 32) : Fin 3 → Nat :=
  let c0_i32_163 : BitVec 32 := 0#32
  let c0_i32_128 : BitVec 32 := 0#32
  let c1_i32_130 : BitVec 32 := 1#32
  let arg14 : BitVec 32 := Scf.iv c0_i32_128 c1_i32_130 k0_t11
  let c1_i32_162 : BitVec 32 := 1#32
  let v153 : BitVec 32 := Scalar.muli arg14 c1_i32_162
  let v154 : BitVec 32 := Scalar.addi c0_i32_163 v153
  let c4_i32_213 : BitVec 32 := 4#32
  let v283 : BitVec 32 := Scalar.muli v154 c4_i32_213
  let v284 : BitVec 32 := Scalar.addi v283 c0_i32_214
  let v285 : Index := Scalar.indexCast v284
  let c1_i32_215 : BitVec 32 := 1#32
  let v286 : Index := Scalar.indexCast c1_i32_215
  let c64_216 : Index := 64#32
  ![v285.toNat, 1, 64]
def k0_off180 (k0_t11 : Fin k0_t11_loop.trips) (c0_i32_218 : BitVec 32) : Fin 3 → Nat :=
  let c0_i32_163 : BitVec 32 := 0#32
  let c0_i32_128 : BitVec 32 := 0#32
  let c1_i32_130 : BitVec 32 := 1#32
  let arg14 : BitVec 32 := Scf.iv c0_i32_128 c1_i32_130 k0_t11
  let c1_i32_162 : BitVec 32 := 1#32
  let v153 : BitVec 32 := Scalar.muli arg14 c1_i32_162
  let v154 : BitVec 32 := Scalar.addi c0_i32_163 v153
  let c4_i32_217 : BitVec 32 := 4#32
  let v291 : BitVec 32 := Scalar.muli v154 c4_i32_217
  let v292 : BitVec 32 := Scalar.addi v291 c0_i32_218
  let v293 : Index := Scalar.indexCast v292
  let c1_i32_219 : BitVec 32 := 1#32
  let v294 : Index := Scalar.indexCast c1_i32_219
  let c80_220 : Index := 80#32
  ![v293.toNat, 1, 80]
def k0_off181 (k0_t11 : Fin k0_t11_loop.trips) (c0_i32_222 : BitVec 32) : Fin 3 → Nat :=
  let c0_i32_163 : BitVec 32 := 0#32
  let c0_i32_128 : BitVec 32 := 0#32
  let c1_i32_130 : BitVec 32 := 1#32
  let arg14 : BitVec 32 := Scf.iv c0_i32_128 c1_i32_130 k0_t11
  let c1_i32_162 : BitVec 32 := 1#32
  let v153 : BitVec 32 := Scalar.muli arg14 c1_i32_162
  let v154 : BitVec 32 := Scalar.addi c0_i32_163 v153
  let c4_i32_221 : BitVec 32 := 4#32
  let v302 : BitVec 32 := Scalar.muli v154 c4_i32_221
  let v303 : BitVec 32 := Scalar.addi v302 c0_i32_222
  let v304 : Index := Scalar.indexCast v303
  let c1_i32_223 : BitVec 32 := 1#32
  let v305 : Index := Scalar.indexCast c1_i32_223
  let c96_224 : Index := 96#32
  ![v304.toNat, 1, 96]
def k0_off182 (k0_t11 : Fin k0_t11_loop.trips) (c0_i32_226 : BitVec 32) : Fin 3 → Nat :=
  let c0_i32_163 : BitVec 32 := 0#32
  let c0_i32_128 : BitVec 32 := 0#32
  let c1_i32_130 : BitVec 32 := 1#32
  let arg14 : BitVec 32 := Scf.iv c0_i32_128 c1_i32_130 k0_t11
  let c1_i32_162 : BitVec 32 := 1#32
  let v153 : BitVec 32 := Scalar.muli arg14 c1_i32_162
  let v154 : BitVec 32 := Scalar.addi c0_i32_163 v153
  let c4_i32_225 : BitVec 32 := 4#32
  let v310 : BitVec 32 := Scalar.muli v154 c4_i32_225
  let v311 : BitVec 32 := Scalar.addi v310 c0_i32_226
  let v312 : Index := Scalar.indexCast v311
  let c1_i32_227 : BitVec 32 := 1#32
  let v313 : Index := Scalar.indexCast c1_i32_227
  let c112_228 : Index := 112#32
  ![v312.toNat, 1, 112]
@[reducible] def k0_t12_loop : Scf.Loop 32 :=
  let c0_i32_139 : BitVec 32 := 0#32
  let c24_i32_140 : BitVec 32 := 24#32
  let v92 : BitVec 32 := Scalar.addi c0_i32_139 c24_i32_140
  let c1_i32_141 : BitVec 32 := 1#32
  ⟨c0_i32_139, v92, c1_i32_141⟩
def k0_off183 (k0_t12 : Fin k0_t12_loop.trips) : Fin 1 → Nat :=
  let c7680_i32 : BitVec 32 := 7680#32
  let c0_i32_163 : BitVec 32 := 0#32
  let c0_i32_139 : BitVec 32 := 0#32
  let c1_i32_141 : BitVec 32 := 1#32
  let arg14 : BitVec 32 := Scf.iv c0_i32_139 c1_i32_141 k0_t12
  let c1_i32_162 : BitVec 32 := 1#32
  let v153 : BitVec 32 := Scalar.muli arg14 c1_i32_162
  let v154 : BitVec 32 := Scalar.addi c0_i32_163 v153
  let c32_i32 : BitVec 32 := 32#32
  let v155 : BitVec 32 := Scalar.muli v154 c32_i32
  let v156 : BitVec 32 := Scalar.addi c7680_i32 v155
  let v157 : Index := Scalar.indexCast v156
  ![v157.toNat]
def k0_off184 (k0_t12 : Fin k0_t12_loop.trips) : Fin 1 → Nat :=
  let c7680_i32_165 : BitVec 32 := 7680#32
  let c0_i32_163 : BitVec 32 := 0#32
  let c0_i32_139 : BitVec 32 := 0#32
  let c1_i32_141 : BitVec 32 := 1#32
  let arg14 : BitVec 32 := Scf.iv c0_i32_139 c1_i32_141 k0_t12
  let c1_i32_162 : BitVec 32 := 1#32
  let v153 : BitVec 32 := Scalar.muli arg14 c1_i32_162
  let v154 : BitVec 32 := Scalar.addi c0_i32_163 v153
  let c32_i32_164 : BitVec 32 := 32#32
  let v160 : BitVec 32 := Scalar.muli v154 c32_i32_164
  let v161 : BitVec 32 := Scalar.addi c7680_i32_165 v160
  let c16_i32 : BitVec 32 := 16#32
  let v162 : BitVec 32 := Scalar.addi v161 c16_i32
  let v163 : Index := Scalar.indexCast v162
  ![v163.toNat]
def k0_off185 (k0_t12 : Fin k0_t12_loop.trips) (c0_i32_166 : BitVec 32) : Fin 3 → Nat :=
  let c0_i32_163 : BitVec 32 := 0#32
  let c0_i32_139 : BitVec 32 := 0#32
  let c1_i32_141 : BitVec 32 := 1#32
  let arg14 : BitVec 32 := Scf.iv c0_i32_139 c1_i32_141 k0_t12
  let c1_i32_162 : BitVec 32 := 1#32
  let v153 : BitVec 32 := Scalar.muli arg14 c1_i32_162
  let v154 : BitVec 32 := Scalar.addi c0_i32_163 v153
  let c4_i32 : BitVec 32 := 4#32
  let v169 : BitVec 32 := Scalar.muli v154 c4_i32
  let v170 : BitVec 32 := Scalar.addi v169 c0_i32_166
  let v171 : Index := Scalar.indexCast v170
  let c0_i32_167 : BitVec 32 := 0#32
  let v172 : Index := Scalar.indexCast c0_i32_167
  let c0_168 : Index := 0#32
  ![v171.toNat, 0, 0]
def k0_off186 (k0_t12 : Fin k0_t12_loop.trips) (c0_i32_170 : BitVec 32) : Fin 3 → Nat :=
  let c0_i32_163 : BitVec 32 := 0#32
  let c0_i32_139 : BitVec 32 := 0#32
  let c1_i32_141 : BitVec 32 := 1#32
  let arg14 : BitVec 32 := Scf.iv c0_i32_139 c1_i32_141 k0_t12
  let c1_i32_162 : BitVec 32 := 1#32
  let v153 : BitVec 32 := Scalar.muli arg14 c1_i32_162
  let v154 : BitVec 32 := Scalar.addi c0_i32_163 v153
  let c4_i32_169 : BitVec 32 := 4#32
  let v177 : BitVec 32 := Scalar.muli v154 c4_i32_169
  let v178 : BitVec 32 := Scalar.addi v177 c0_i32_170
  let v179 : Index := Scalar.indexCast v178
  let c0_i32_171 : BitVec 32 := 0#32
  let v180 : Index := Scalar.indexCast c0_i32_171
  let c16_172 : Index := 16#32
  ![v179.toNat, 0, 16]
def k0_off187 (k0_t12 : Fin k0_t12_loop.trips) (c0_i32_174 : BitVec 32) : Fin 3 → Nat :=
  let c0_i32_163 : BitVec 32 := 0#32
  let c0_i32_139 : BitVec 32 := 0#32
  let c1_i32_141 : BitVec 32 := 1#32
  let arg14 : BitVec 32 := Scf.iv c0_i32_139 c1_i32_141 k0_t12
  let c1_i32_162 : BitVec 32 := 1#32
  let v153 : BitVec 32 := Scalar.muli arg14 c1_i32_162
  let v154 : BitVec 32 := Scalar.addi c0_i32_163 v153
  let c4_i32_173 : BitVec 32 := 4#32
  let v188 : BitVec 32 := Scalar.muli v154 c4_i32_173
  let v189 : BitVec 32 := Scalar.addi v188 c0_i32_174
  let v190 : Index := Scalar.indexCast v189
  let c0_i32_175 : BitVec 32 := 0#32
  let v191 : Index := Scalar.indexCast c0_i32_175
  let c32_176 : Index := 32#32
  ![v190.toNat, 0, 32]
def k0_off188 (k0_t12 : Fin k0_t12_loop.trips) (c0_i32_178 : BitVec 32) : Fin 3 → Nat :=
  let c0_i32_163 : BitVec 32 := 0#32
  let c0_i32_139 : BitVec 32 := 0#32
  let c1_i32_141 : BitVec 32 := 1#32
  let arg14 : BitVec 32 := Scf.iv c0_i32_139 c1_i32_141 k0_t12
  let c1_i32_162 : BitVec 32 := 1#32
  let v153 : BitVec 32 := Scalar.muli arg14 c1_i32_162
  let v154 : BitVec 32 := Scalar.addi c0_i32_163 v153
  let c4_i32_177 : BitVec 32 := 4#32
  let v196 : BitVec 32 := Scalar.muli v154 c4_i32_177
  let v197 : BitVec 32 := Scalar.addi v196 c0_i32_178
  let v198 : Index := Scalar.indexCast v197
  let c0_i32_179 : BitVec 32 := 0#32
  let v199 : Index := Scalar.indexCast c0_i32_179
  let c48_180 : Index := 48#32
  ![v198.toNat, 0, 48]
def k0_off189 (k0_t12 : Fin k0_t12_loop.trips) (c0_i32_182 : BitVec 32) : Fin 3 → Nat :=
  let c0_i32_163 : BitVec 32 := 0#32
  let c0_i32_139 : BitVec 32 := 0#32
  let c1_i32_141 : BitVec 32 := 1#32
  let arg14 : BitVec 32 := Scf.iv c0_i32_139 c1_i32_141 k0_t12
  let c1_i32_162 : BitVec 32 := 1#32
  let v153 : BitVec 32 := Scalar.muli arg14 c1_i32_162
  let v154 : BitVec 32 := Scalar.addi c0_i32_163 v153
  let c4_i32_181 : BitVec 32 := 4#32
  let v207 : BitVec 32 := Scalar.muli v154 c4_i32_181
  let v208 : BitVec 32 := Scalar.addi v207 c0_i32_182
  let v209 : Index := Scalar.indexCast v208
  let c0_i32_183 : BitVec 32 := 0#32
  let v210 : Index := Scalar.indexCast c0_i32_183
  let c64_184 : Index := 64#32
  ![v209.toNat, 0, 64]
def k0_off190 (k0_t12 : Fin k0_t12_loop.trips) (c0_i32_186 : BitVec 32) : Fin 3 → Nat :=
  let c0_i32_163 : BitVec 32 := 0#32
  let c0_i32_139 : BitVec 32 := 0#32
  let c1_i32_141 : BitVec 32 := 1#32
  let arg14 : BitVec 32 := Scf.iv c0_i32_139 c1_i32_141 k0_t12
  let c1_i32_162 : BitVec 32 := 1#32
  let v153 : BitVec 32 := Scalar.muli arg14 c1_i32_162
  let v154 : BitVec 32 := Scalar.addi c0_i32_163 v153
  let c4_i32_185 : BitVec 32 := 4#32
  let v215 : BitVec 32 := Scalar.muli v154 c4_i32_185
  let v216 : BitVec 32 := Scalar.addi v215 c0_i32_186
  let v217 : Index := Scalar.indexCast v216
  let c0_i32_187 : BitVec 32 := 0#32
  let v218 : Index := Scalar.indexCast c0_i32_187
  let c80_188 : Index := 80#32
  ![v217.toNat, 0, 80]
def k0_off191 (k0_t12 : Fin k0_t12_loop.trips) (c0_i32_190 : BitVec 32) : Fin 3 → Nat :=
  let c0_i32_163 : BitVec 32 := 0#32
  let c0_i32_139 : BitVec 32 := 0#32
  let c1_i32_141 : BitVec 32 := 1#32
  let arg14 : BitVec 32 := Scf.iv c0_i32_139 c1_i32_141 k0_t12
  let c1_i32_162 : BitVec 32 := 1#32
  let v153 : BitVec 32 := Scalar.muli arg14 c1_i32_162
  let v154 : BitVec 32 := Scalar.addi c0_i32_163 v153
  let c4_i32_189 : BitVec 32 := 4#32
  let v226 : BitVec 32 := Scalar.muli v154 c4_i32_189
  let v227 : BitVec 32 := Scalar.addi v226 c0_i32_190
  let v228 : Index := Scalar.indexCast v227
  let c0_i32_191 : BitVec 32 := 0#32
  let v229 : Index := Scalar.indexCast c0_i32_191
  let c96_192 : Index := 96#32
  ![v228.toNat, 0, 96]
def k0_off192 (k0_t12 : Fin k0_t12_loop.trips) (c0_i32_194 : BitVec 32) : Fin 3 → Nat :=
  let c0_i32_163 : BitVec 32 := 0#32
  let c0_i32_139 : BitVec 32 := 0#32
  let c1_i32_141 : BitVec 32 := 1#32
  let arg14 : BitVec 32 := Scf.iv c0_i32_139 c1_i32_141 k0_t12
  let c1_i32_162 : BitVec 32 := 1#32
  let v153 : BitVec 32 := Scalar.muli arg14 c1_i32_162
  let v154 : BitVec 32 := Scalar.addi c0_i32_163 v153
  let c4_i32_193 : BitVec 32 := 4#32
  let v234 : BitVec 32 := Scalar.muli v154 c4_i32_193
  let v235 : BitVec 32 := Scalar.addi v234 c0_i32_194
  let v236 : Index := Scalar.indexCast v235
  let c0_i32_195 : BitVec 32 := 0#32
  let v237 : Index := Scalar.indexCast c0_i32_195
  let c112_196 : Index := 112#32
  ![v236.toNat, 0, 112]
def k0_off193 (k0_t12 : Fin k0_t12_loop.trips) (c0_i32_198 : BitVec 32) : Fin 3 → Nat :=
  let c0_i32_163 : BitVec 32 := 0#32
  let c0_i32_139 : BitVec 32 := 0#32
  let c1_i32_141 : BitVec 32 := 1#32
  let arg14 : BitVec 32 := Scf.iv c0_i32_139 c1_i32_141 k0_t12
  let c1_i32_162 : BitVec 32 := 1#32
  let v153 : BitVec 32 := Scalar.muli arg14 c1_i32_162
  let v154 : BitVec 32 := Scalar.addi c0_i32_163 v153
  let c4_i32_197 : BitVec 32 := 4#32
  let v245 : BitVec 32 := Scalar.muli v154 c4_i32_197
  let v246 : BitVec 32 := Scalar.addi v245 c0_i32_198
  let v247 : Index := Scalar.indexCast v246
  let c1_i32_199 : BitVec 32 := 1#32
  let v248 : Index := Scalar.indexCast c1_i32_199
  let c0_200 : Index := 0#32
  ![v247.toNat, 1, 0]
def k0_off194 (k0_t12 : Fin k0_t12_loop.trips) (c0_i32_202 : BitVec 32) : Fin 3 → Nat :=
  let c0_i32_163 : BitVec 32 := 0#32
  let c0_i32_139 : BitVec 32 := 0#32
  let c1_i32_141 : BitVec 32 := 1#32
  let arg14 : BitVec 32 := Scf.iv c0_i32_139 c1_i32_141 k0_t12
  let c1_i32_162 : BitVec 32 := 1#32
  let v153 : BitVec 32 := Scalar.muli arg14 c1_i32_162
  let v154 : BitVec 32 := Scalar.addi c0_i32_163 v153
  let c4_i32_201 : BitVec 32 := 4#32
  let v253 : BitVec 32 := Scalar.muli v154 c4_i32_201
  let v254 : BitVec 32 := Scalar.addi v253 c0_i32_202
  let v255 : Index := Scalar.indexCast v254
  let c1_i32_203 : BitVec 32 := 1#32
  let v256 : Index := Scalar.indexCast c1_i32_203
  let c16_204 : Index := 16#32
  ![v255.toNat, 1, 16]
def k0_off195 (k0_t12 : Fin k0_t12_loop.trips) (c0_i32_206 : BitVec 32) : Fin 3 → Nat :=
  let c0_i32_163 : BitVec 32 := 0#32
  let c0_i32_139 : BitVec 32 := 0#32
  let c1_i32_141 : BitVec 32 := 1#32
  let arg14 : BitVec 32 := Scf.iv c0_i32_139 c1_i32_141 k0_t12
  let c1_i32_162 : BitVec 32 := 1#32
  let v153 : BitVec 32 := Scalar.muli arg14 c1_i32_162
  let v154 : BitVec 32 := Scalar.addi c0_i32_163 v153
  let c4_i32_205 : BitVec 32 := 4#32
  let v264 : BitVec 32 := Scalar.muli v154 c4_i32_205
  let v265 : BitVec 32 := Scalar.addi v264 c0_i32_206
  let v266 : Index := Scalar.indexCast v265
  let c1_i32_207 : BitVec 32 := 1#32
  let v267 : Index := Scalar.indexCast c1_i32_207
  let c32_208 : Index := 32#32
  ![v266.toNat, 1, 32]
def k0_off196 (k0_t12 : Fin k0_t12_loop.trips) (c0_i32_210 : BitVec 32) : Fin 3 → Nat :=
  let c0_i32_163 : BitVec 32 := 0#32
  let c0_i32_139 : BitVec 32 := 0#32
  let c1_i32_141 : BitVec 32 := 1#32
  let arg14 : BitVec 32 := Scf.iv c0_i32_139 c1_i32_141 k0_t12
  let c1_i32_162 : BitVec 32 := 1#32
  let v153 : BitVec 32 := Scalar.muli arg14 c1_i32_162
  let v154 : BitVec 32 := Scalar.addi c0_i32_163 v153
  let c4_i32_209 : BitVec 32 := 4#32
  let v272 : BitVec 32 := Scalar.muli v154 c4_i32_209
  let v273 : BitVec 32 := Scalar.addi v272 c0_i32_210
  let v274 : Index := Scalar.indexCast v273
  let c1_i32_211 : BitVec 32 := 1#32
  let v275 : Index := Scalar.indexCast c1_i32_211
  let c48_212 : Index := 48#32
  ![v274.toNat, 1, 48]
def k0_off197 (k0_t12 : Fin k0_t12_loop.trips) (c0_i32_214 : BitVec 32) : Fin 3 → Nat :=
  let c0_i32_163 : BitVec 32 := 0#32
  let c0_i32_139 : BitVec 32 := 0#32
  let c1_i32_141 : BitVec 32 := 1#32
  let arg14 : BitVec 32 := Scf.iv c0_i32_139 c1_i32_141 k0_t12
  let c1_i32_162 : BitVec 32 := 1#32
  let v153 : BitVec 32 := Scalar.muli arg14 c1_i32_162
  let v154 : BitVec 32 := Scalar.addi c0_i32_163 v153
  let c4_i32_213 : BitVec 32 := 4#32
  let v283 : BitVec 32 := Scalar.muli v154 c4_i32_213
  let v284 : BitVec 32 := Scalar.addi v283 c0_i32_214
  let v285 : Index := Scalar.indexCast v284
  let c1_i32_215 : BitVec 32 := 1#32
  let v286 : Index := Scalar.indexCast c1_i32_215
  let c64_216 : Index := 64#32
  ![v285.toNat, 1, 64]
def k0_off198 (k0_t12 : Fin k0_t12_loop.trips) (c0_i32_218 : BitVec 32) : Fin 3 → Nat :=
  let c0_i32_163 : BitVec 32 := 0#32
  let c0_i32_139 : BitVec 32 := 0#32
  let c1_i32_141 : BitVec 32 := 1#32
  let arg14 : BitVec 32 := Scf.iv c0_i32_139 c1_i32_141 k0_t12
  let c1_i32_162 : BitVec 32 := 1#32
  let v153 : BitVec 32 := Scalar.muli arg14 c1_i32_162
  let v154 : BitVec 32 := Scalar.addi c0_i32_163 v153
  let c4_i32_217 : BitVec 32 := 4#32
  let v291 : BitVec 32 := Scalar.muli v154 c4_i32_217
  let v292 : BitVec 32 := Scalar.addi v291 c0_i32_218
  let v293 : Index := Scalar.indexCast v292
  let c1_i32_219 : BitVec 32 := 1#32
  let v294 : Index := Scalar.indexCast c1_i32_219
  let c80_220 : Index := 80#32
  ![v293.toNat, 1, 80]
def k0_off199 (k0_t12 : Fin k0_t12_loop.trips) (c0_i32_222 : BitVec 32) : Fin 3 → Nat :=
  let c0_i32_163 : BitVec 32 := 0#32
  let c0_i32_139 : BitVec 32 := 0#32
  let c1_i32_141 : BitVec 32 := 1#32
  let arg14 : BitVec 32 := Scf.iv c0_i32_139 c1_i32_141 k0_t12
  let c1_i32_162 : BitVec 32 := 1#32
  let v153 : BitVec 32 := Scalar.muli arg14 c1_i32_162
  let v154 : BitVec 32 := Scalar.addi c0_i32_163 v153
  let c4_i32_221 : BitVec 32 := 4#32
  let v302 : BitVec 32 := Scalar.muli v154 c4_i32_221
  let v303 : BitVec 32 := Scalar.addi v302 c0_i32_222
  let v304 : Index := Scalar.indexCast v303
  let c1_i32_223 : BitVec 32 := 1#32
  let v305 : Index := Scalar.indexCast c1_i32_223
  let c96_224 : Index := 96#32
  ![v304.toNat, 1, 96]
def k0_off200 (k0_t12 : Fin k0_t12_loop.trips) (c0_i32_226 : BitVec 32) : Fin 3 → Nat :=
  let c0_i32_163 : BitVec 32 := 0#32
  let c0_i32_139 : BitVec 32 := 0#32
  let c1_i32_141 : BitVec 32 := 1#32
  let arg14 : BitVec 32 := Scf.iv c0_i32_139 c1_i32_141 k0_t12
  let c1_i32_162 : BitVec 32 := 1#32
  let v153 : BitVec 32 := Scalar.muli arg14 c1_i32_162
  let v154 : BitVec 32 := Scalar.addi c0_i32_163 v153
  let c4_i32_225 : BitVec 32 := 4#32
  let v310 : BitVec 32 := Scalar.muli v154 c4_i32_225
  let v311 : BitVec 32 := Scalar.addi v310 c0_i32_226
  let v312 : Index := Scalar.indexCast v311
  let c1_i32_227 : BitVec 32 := 1#32
  let v313 : Index := Scalar.indexCast c1_i32_227
  let c112_228 : Index := 112#32
  ![v312.toNat, 1, 112]
@[reducible] def k0_t13_loop : Scf.Loop 32 :=
  let c0_i32_150 : BitVec 32 := 0#32
  let c24_i32_151 : BitVec 32 := 24#32
  let v98 : BitVec 32 := Scalar.addi c0_i32_150 c24_i32_151
  let c1_i32_152 : BitVec 32 := 1#32
  ⟨c0_i32_150, v98, c1_i32_152⟩
def k0_off201 (k0_t13 : Fin k0_t13_loop.trips) : Fin 1 → Nat :=
  let c8448_i32 : BitVec 32 := 8448#32
  let c0_i32_163 : BitVec 32 := 0#32
  let c0_i32_150 : BitVec 32 := 0#32
  let c1_i32_152 : BitVec 32 := 1#32
  let arg14 : BitVec 32 := Scf.iv c0_i32_150 c1_i32_152 k0_t13
  let c1_i32_162 : BitVec 32 := 1#32
  let v153 : BitVec 32 := Scalar.muli arg14 c1_i32_162
  let v154 : BitVec 32 := Scalar.addi c0_i32_163 v153
  let c32_i32 : BitVec 32 := 32#32
  let v155 : BitVec 32 := Scalar.muli v154 c32_i32
  let v156 : BitVec 32 := Scalar.addi c8448_i32 v155
  let v157 : Index := Scalar.indexCast v156
  ![v157.toNat]
def k0_off202 (k0_t13 : Fin k0_t13_loop.trips) : Fin 1 → Nat :=
  let c8448_i32_165 : BitVec 32 := 8448#32
  let c0_i32_163 : BitVec 32 := 0#32
  let c0_i32_150 : BitVec 32 := 0#32
  let c1_i32_152 : BitVec 32 := 1#32
  let arg14 : BitVec 32 := Scf.iv c0_i32_150 c1_i32_152 k0_t13
  let c1_i32_162 : BitVec 32 := 1#32
  let v153 : BitVec 32 := Scalar.muli arg14 c1_i32_162
  let v154 : BitVec 32 := Scalar.addi c0_i32_163 v153
  let c32_i32_164 : BitVec 32 := 32#32
  let v160 : BitVec 32 := Scalar.muli v154 c32_i32_164
  let v161 : BitVec 32 := Scalar.addi c8448_i32_165 v160
  let c16_i32 : BitVec 32 := 16#32
  let v162 : BitVec 32 := Scalar.addi v161 c16_i32
  let v163 : Index := Scalar.indexCast v162
  ![v163.toNat]
def k0_off203 (k0_t13 : Fin k0_t13_loop.trips) (c0_i32_166 : BitVec 32) : Fin 3 → Nat :=
  let c0_i32_163 : BitVec 32 := 0#32
  let c0_i32_150 : BitVec 32 := 0#32
  let c1_i32_152 : BitVec 32 := 1#32
  let arg14 : BitVec 32 := Scf.iv c0_i32_150 c1_i32_152 k0_t13
  let c1_i32_162 : BitVec 32 := 1#32
  let v153 : BitVec 32 := Scalar.muli arg14 c1_i32_162
  let v154 : BitVec 32 := Scalar.addi c0_i32_163 v153
  let c4_i32 : BitVec 32 := 4#32
  let v169 : BitVec 32 := Scalar.muli v154 c4_i32
  let v170 : BitVec 32 := Scalar.addi v169 c0_i32_166
  let v171 : Index := Scalar.indexCast v170
  let c0_i32_167 : BitVec 32 := 0#32
  let v172 : Index := Scalar.indexCast c0_i32_167
  let c0_168 : Index := 0#32
  ![v171.toNat, 0, 0]
def k0_off204 (k0_t13 : Fin k0_t13_loop.trips) (c0_i32_170 : BitVec 32) : Fin 3 → Nat :=
  let c0_i32_163 : BitVec 32 := 0#32
  let c0_i32_150 : BitVec 32 := 0#32
  let c1_i32_152 : BitVec 32 := 1#32
  let arg14 : BitVec 32 := Scf.iv c0_i32_150 c1_i32_152 k0_t13
  let c1_i32_162 : BitVec 32 := 1#32
  let v153 : BitVec 32 := Scalar.muli arg14 c1_i32_162
  let v154 : BitVec 32 := Scalar.addi c0_i32_163 v153
  let c4_i32_169 : BitVec 32 := 4#32
  let v177 : BitVec 32 := Scalar.muli v154 c4_i32_169
  let v178 : BitVec 32 := Scalar.addi v177 c0_i32_170
  let v179 : Index := Scalar.indexCast v178
  let c0_i32_171 : BitVec 32 := 0#32
  let v180 : Index := Scalar.indexCast c0_i32_171
  let c16_172 : Index := 16#32
  ![v179.toNat, 0, 16]
def k0_off205 (k0_t13 : Fin k0_t13_loop.trips) (c0_i32_174 : BitVec 32) : Fin 3 → Nat :=
  let c0_i32_163 : BitVec 32 := 0#32
  let c0_i32_150 : BitVec 32 := 0#32
  let c1_i32_152 : BitVec 32 := 1#32
  let arg14 : BitVec 32 := Scf.iv c0_i32_150 c1_i32_152 k0_t13
  let c1_i32_162 : BitVec 32 := 1#32
  let v153 : BitVec 32 := Scalar.muli arg14 c1_i32_162
  let v154 : BitVec 32 := Scalar.addi c0_i32_163 v153
  let c4_i32_173 : BitVec 32 := 4#32
  let v188 : BitVec 32 := Scalar.muli v154 c4_i32_173
  let v189 : BitVec 32 := Scalar.addi v188 c0_i32_174
  let v190 : Index := Scalar.indexCast v189
  let c0_i32_175 : BitVec 32 := 0#32
  let v191 : Index := Scalar.indexCast c0_i32_175
  let c32_176 : Index := 32#32
  ![v190.toNat, 0, 32]
def k0_off206 (k0_t13 : Fin k0_t13_loop.trips) (c0_i32_178 : BitVec 32) : Fin 3 → Nat :=
  let c0_i32_163 : BitVec 32 := 0#32
  let c0_i32_150 : BitVec 32 := 0#32
  let c1_i32_152 : BitVec 32 := 1#32
  let arg14 : BitVec 32 := Scf.iv c0_i32_150 c1_i32_152 k0_t13
  let c1_i32_162 : BitVec 32 := 1#32
  let v153 : BitVec 32 := Scalar.muli arg14 c1_i32_162
  let v154 : BitVec 32 := Scalar.addi c0_i32_163 v153
  let c4_i32_177 : BitVec 32 := 4#32
  let v196 : BitVec 32 := Scalar.muli v154 c4_i32_177
  let v197 : BitVec 32 := Scalar.addi v196 c0_i32_178
  let v198 : Index := Scalar.indexCast v197
  let c0_i32_179 : BitVec 32 := 0#32
  let v199 : Index := Scalar.indexCast c0_i32_179
  let c48_180 : Index := 48#32
  ![v198.toNat, 0, 48]
def k0_off207 (k0_t13 : Fin k0_t13_loop.trips) (c0_i32_182 : BitVec 32) : Fin 3 → Nat :=
  let c0_i32_163 : BitVec 32 := 0#32
  let c0_i32_150 : BitVec 32 := 0#32
  let c1_i32_152 : BitVec 32 := 1#32
  let arg14 : BitVec 32 := Scf.iv c0_i32_150 c1_i32_152 k0_t13
  let c1_i32_162 : BitVec 32 := 1#32
  let v153 : BitVec 32 := Scalar.muli arg14 c1_i32_162
  let v154 : BitVec 32 := Scalar.addi c0_i32_163 v153
  let c4_i32_181 : BitVec 32 := 4#32
  let v207 : BitVec 32 := Scalar.muli v154 c4_i32_181
  let v208 : BitVec 32 := Scalar.addi v207 c0_i32_182
  let v209 : Index := Scalar.indexCast v208
  let c0_i32_183 : BitVec 32 := 0#32
  let v210 : Index := Scalar.indexCast c0_i32_183
  let c64_184 : Index := 64#32
  ![v209.toNat, 0, 64]
def k0_off208 (k0_t13 : Fin k0_t13_loop.trips) (c0_i32_186 : BitVec 32) : Fin 3 → Nat :=
  let c0_i32_163 : BitVec 32 := 0#32
  let c0_i32_150 : BitVec 32 := 0#32
  let c1_i32_152 : BitVec 32 := 1#32
  let arg14 : BitVec 32 := Scf.iv c0_i32_150 c1_i32_152 k0_t13
  let c1_i32_162 : BitVec 32 := 1#32
  let v153 : BitVec 32 := Scalar.muli arg14 c1_i32_162
  let v154 : BitVec 32 := Scalar.addi c0_i32_163 v153
  let c4_i32_185 : BitVec 32 := 4#32
  let v215 : BitVec 32 := Scalar.muli v154 c4_i32_185
  let v216 : BitVec 32 := Scalar.addi v215 c0_i32_186
  let v217 : Index := Scalar.indexCast v216
  let c0_i32_187 : BitVec 32 := 0#32
  let v218 : Index := Scalar.indexCast c0_i32_187
  let c80_188 : Index := 80#32
  ![v217.toNat, 0, 80]
def k0_off209 (k0_t13 : Fin k0_t13_loop.trips) (c0_i32_190 : BitVec 32) : Fin 3 → Nat :=
  let c0_i32_163 : BitVec 32 := 0#32
  let c0_i32_150 : BitVec 32 := 0#32
  let c1_i32_152 : BitVec 32 := 1#32
  let arg14 : BitVec 32 := Scf.iv c0_i32_150 c1_i32_152 k0_t13
  let c1_i32_162 : BitVec 32 := 1#32
  let v153 : BitVec 32 := Scalar.muli arg14 c1_i32_162
  let v154 : BitVec 32 := Scalar.addi c0_i32_163 v153
  let c4_i32_189 : BitVec 32 := 4#32
  let v226 : BitVec 32 := Scalar.muli v154 c4_i32_189
  let v227 : BitVec 32 := Scalar.addi v226 c0_i32_190
  let v228 : Index := Scalar.indexCast v227
  let c0_i32_191 : BitVec 32 := 0#32
  let v229 : Index := Scalar.indexCast c0_i32_191
  let c96_192 : Index := 96#32
  ![v228.toNat, 0, 96]
def k0_off210 (k0_t13 : Fin k0_t13_loop.trips) (c0_i32_194 : BitVec 32) : Fin 3 → Nat :=
  let c0_i32_163 : BitVec 32 := 0#32
  let c0_i32_150 : BitVec 32 := 0#32
  let c1_i32_152 : BitVec 32 := 1#32
  let arg14 : BitVec 32 := Scf.iv c0_i32_150 c1_i32_152 k0_t13
  let c1_i32_162 : BitVec 32 := 1#32
  let v153 : BitVec 32 := Scalar.muli arg14 c1_i32_162
  let v154 : BitVec 32 := Scalar.addi c0_i32_163 v153
  let c4_i32_193 : BitVec 32 := 4#32
  let v234 : BitVec 32 := Scalar.muli v154 c4_i32_193
  let v235 : BitVec 32 := Scalar.addi v234 c0_i32_194
  let v236 : Index := Scalar.indexCast v235
  let c0_i32_195 : BitVec 32 := 0#32
  let v237 : Index := Scalar.indexCast c0_i32_195
  let c112_196 : Index := 112#32
  ![v236.toNat, 0, 112]
def k0_off211 (k0_t13 : Fin k0_t13_loop.trips) (c0_i32_198 : BitVec 32) : Fin 3 → Nat :=
  let c0_i32_163 : BitVec 32 := 0#32
  let c0_i32_150 : BitVec 32 := 0#32
  let c1_i32_152 : BitVec 32 := 1#32
  let arg14 : BitVec 32 := Scf.iv c0_i32_150 c1_i32_152 k0_t13
  let c1_i32_162 : BitVec 32 := 1#32
  let v153 : BitVec 32 := Scalar.muli arg14 c1_i32_162
  let v154 : BitVec 32 := Scalar.addi c0_i32_163 v153
  let c4_i32_197 : BitVec 32 := 4#32
  let v245 : BitVec 32 := Scalar.muli v154 c4_i32_197
  let v246 : BitVec 32 := Scalar.addi v245 c0_i32_198
  let v247 : Index := Scalar.indexCast v246
  let c1_i32_199 : BitVec 32 := 1#32
  let v248 : Index := Scalar.indexCast c1_i32_199
  let c0_200 : Index := 0#32
  ![v247.toNat, 1, 0]
def k0_off212 (k0_t13 : Fin k0_t13_loop.trips) (c0_i32_202 : BitVec 32) : Fin 3 → Nat :=
  let c0_i32_163 : BitVec 32 := 0#32
  let c0_i32_150 : BitVec 32 := 0#32
  let c1_i32_152 : BitVec 32 := 1#32
  let arg14 : BitVec 32 := Scf.iv c0_i32_150 c1_i32_152 k0_t13
  let c1_i32_162 : BitVec 32 := 1#32
  let v153 : BitVec 32 := Scalar.muli arg14 c1_i32_162
  let v154 : BitVec 32 := Scalar.addi c0_i32_163 v153
  let c4_i32_201 : BitVec 32 := 4#32
  let v253 : BitVec 32 := Scalar.muli v154 c4_i32_201
  let v254 : BitVec 32 := Scalar.addi v253 c0_i32_202
  let v255 : Index := Scalar.indexCast v254
  let c1_i32_203 : BitVec 32 := 1#32
  let v256 : Index := Scalar.indexCast c1_i32_203
  let c16_204 : Index := 16#32
  ![v255.toNat, 1, 16]
def k0_off213 (k0_t13 : Fin k0_t13_loop.trips) (c0_i32_206 : BitVec 32) : Fin 3 → Nat :=
  let c0_i32_163 : BitVec 32 := 0#32
  let c0_i32_150 : BitVec 32 := 0#32
  let c1_i32_152 : BitVec 32 := 1#32
  let arg14 : BitVec 32 := Scf.iv c0_i32_150 c1_i32_152 k0_t13
  let c1_i32_162 : BitVec 32 := 1#32
  let v153 : BitVec 32 := Scalar.muli arg14 c1_i32_162
  let v154 : BitVec 32 := Scalar.addi c0_i32_163 v153
  let c4_i32_205 : BitVec 32 := 4#32
  let v264 : BitVec 32 := Scalar.muli v154 c4_i32_205
  let v265 : BitVec 32 := Scalar.addi v264 c0_i32_206
  let v266 : Index := Scalar.indexCast v265
  let c1_i32_207 : BitVec 32 := 1#32
  let v267 : Index := Scalar.indexCast c1_i32_207
  let c32_208 : Index := 32#32
  ![v266.toNat, 1, 32]
def k0_off214 (k0_t13 : Fin k0_t13_loop.trips) (c0_i32_210 : BitVec 32) : Fin 3 → Nat :=
  let c0_i32_163 : BitVec 32 := 0#32
  let c0_i32_150 : BitVec 32 := 0#32
  let c1_i32_152 : BitVec 32 := 1#32
  let arg14 : BitVec 32 := Scf.iv c0_i32_150 c1_i32_152 k0_t13
  let c1_i32_162 : BitVec 32 := 1#32
  let v153 : BitVec 32 := Scalar.muli arg14 c1_i32_162
  let v154 : BitVec 32 := Scalar.addi c0_i32_163 v153
  let c4_i32_209 : BitVec 32 := 4#32
  let v272 : BitVec 32 := Scalar.muli v154 c4_i32_209
  let v273 : BitVec 32 := Scalar.addi v272 c0_i32_210
  let v274 : Index := Scalar.indexCast v273
  let c1_i32_211 : BitVec 32 := 1#32
  let v275 : Index := Scalar.indexCast c1_i32_211
  let c48_212 : Index := 48#32
  ![v274.toNat, 1, 48]
def k0_off215 (k0_t13 : Fin k0_t13_loop.trips) (c0_i32_214 : BitVec 32) : Fin 3 → Nat :=
  let c0_i32_163 : BitVec 32 := 0#32
  let c0_i32_150 : BitVec 32 := 0#32
  let c1_i32_152 : BitVec 32 := 1#32
  let arg14 : BitVec 32 := Scf.iv c0_i32_150 c1_i32_152 k0_t13
  let c1_i32_162 : BitVec 32 := 1#32
  let v153 : BitVec 32 := Scalar.muli arg14 c1_i32_162
  let v154 : BitVec 32 := Scalar.addi c0_i32_163 v153
  let c4_i32_213 : BitVec 32 := 4#32
  let v283 : BitVec 32 := Scalar.muli v154 c4_i32_213
  let v284 : BitVec 32 := Scalar.addi v283 c0_i32_214
  let v285 : Index := Scalar.indexCast v284
  let c1_i32_215 : BitVec 32 := 1#32
  let v286 : Index := Scalar.indexCast c1_i32_215
  let c64_216 : Index := 64#32
  ![v285.toNat, 1, 64]
def k0_off216 (k0_t13 : Fin k0_t13_loop.trips) (c0_i32_218 : BitVec 32) : Fin 3 → Nat :=
  let c0_i32_163 : BitVec 32 := 0#32
  let c0_i32_150 : BitVec 32 := 0#32
  let c1_i32_152 : BitVec 32 := 1#32
  let arg14 : BitVec 32 := Scf.iv c0_i32_150 c1_i32_152 k0_t13
  let c1_i32_162 : BitVec 32 := 1#32
  let v153 : BitVec 32 := Scalar.muli arg14 c1_i32_162
  let v154 : BitVec 32 := Scalar.addi c0_i32_163 v153
  let c4_i32_217 : BitVec 32 := 4#32
  let v291 : BitVec 32 := Scalar.muli v154 c4_i32_217
  let v292 : BitVec 32 := Scalar.addi v291 c0_i32_218
  let v293 : Index := Scalar.indexCast v292
  let c1_i32_219 : BitVec 32 := 1#32
  let v294 : Index := Scalar.indexCast c1_i32_219
  let c80_220 : Index := 80#32
  ![v293.toNat, 1, 80]
def k0_off217 (k0_t13 : Fin k0_t13_loop.trips) (c0_i32_222 : BitVec 32) : Fin 3 → Nat :=
  let c0_i32_163 : BitVec 32 := 0#32
  let c0_i32_150 : BitVec 32 := 0#32
  let c1_i32_152 : BitVec 32 := 1#32
  let arg14 : BitVec 32 := Scf.iv c0_i32_150 c1_i32_152 k0_t13
  let c1_i32_162 : BitVec 32 := 1#32
  let v153 : BitVec 32 := Scalar.muli arg14 c1_i32_162
  let v154 : BitVec 32 := Scalar.addi c0_i32_163 v153
  let c4_i32_221 : BitVec 32 := 4#32
  let v302 : BitVec 32 := Scalar.muli v154 c4_i32_221
  let v303 : BitVec 32 := Scalar.addi v302 c0_i32_222
  let v304 : Index := Scalar.indexCast v303
  let c1_i32_223 : BitVec 32 := 1#32
  let v305 : Index := Scalar.indexCast c1_i32_223
  let c96_224 : Index := 96#32
  ![v304.toNat, 1, 96]
def k0_off218 (k0_t13 : Fin k0_t13_loop.trips) (c0_i32_226 : BitVec 32) : Fin 3 → Nat :=
  let c0_i32_163 : BitVec 32 := 0#32
  let c0_i32_150 : BitVec 32 := 0#32
  let c1_i32_152 : BitVec 32 := 1#32
  let arg14 : BitVec 32 := Scf.iv c0_i32_150 c1_i32_152 k0_t13
  let c1_i32_162 : BitVec 32 := 1#32
  let v153 : BitVec 32 := Scalar.muli arg14 c1_i32_162
  let v154 : BitVec 32 := Scalar.addi c0_i32_163 v153
  let c4_i32_225 : BitVec 32 := 4#32
  let v310 : BitVec 32 := Scalar.muli v154 c4_i32_225
  let v311 : BitVec 32 := Scalar.addi v310 c0_i32_226
  let v312 : Index := Scalar.indexCast v311
  let c1_i32_227 : BitVec 32 := 1#32
  let v313 : Index := Scalar.indexCast c1_i32_227
  let c112_228 : Index := 112#32
  ![v312.toNat, 1, 112]
@[reducible] def k0_t14_loop : Scf.Loop 32 :=
  let c0_i32_158 : BitVec 32 := 0#32
  let c24_i32_159 : BitVec 32 := 24#32
  let v102 : BitVec 32 := Scalar.addi c0_i32_158 c24_i32_159
  let c1_i32_160 : BitVec 32 := 1#32
  ⟨c0_i32_158, v102, c1_i32_160⟩
def k0_off219 (k0_t14 : Fin k0_t14_loop.trips) : Fin 1 → Nat :=
  let c9216_i32 : BitVec 32 := 9216#32
  let c0_i32_163 : BitVec 32 := 0#32
  let c0_i32_158 : BitVec 32 := 0#32
  let c1_i32_160 : BitVec 32 := 1#32
  let arg14 : BitVec 32 := Scf.iv c0_i32_158 c1_i32_160 k0_t14
  let c1_i32_162 : BitVec 32 := 1#32
  let v153 : BitVec 32 := Scalar.muli arg14 c1_i32_162
  let v154 : BitVec 32 := Scalar.addi c0_i32_163 v153
  let c32_i32 : BitVec 32 := 32#32
  let v155 : BitVec 32 := Scalar.muli v154 c32_i32
  let v156 : BitVec 32 := Scalar.addi c9216_i32 v155
  let v157 : Index := Scalar.indexCast v156
  ![v157.toNat]
def k0_off220 (k0_t14 : Fin k0_t14_loop.trips) : Fin 1 → Nat :=
  let c9216_i32_165 : BitVec 32 := 9216#32
  let c0_i32_163 : BitVec 32 := 0#32
  let c0_i32_158 : BitVec 32 := 0#32
  let c1_i32_160 : BitVec 32 := 1#32
  let arg14 : BitVec 32 := Scf.iv c0_i32_158 c1_i32_160 k0_t14
  let c1_i32_162 : BitVec 32 := 1#32
  let v153 : BitVec 32 := Scalar.muli arg14 c1_i32_162
  let v154 : BitVec 32 := Scalar.addi c0_i32_163 v153
  let c32_i32_164 : BitVec 32 := 32#32
  let v160 : BitVec 32 := Scalar.muli v154 c32_i32_164
  let v161 : BitVec 32 := Scalar.addi c9216_i32_165 v160
  let c16_i32 : BitVec 32 := 16#32
  let v162 : BitVec 32 := Scalar.addi v161 c16_i32
  let v163 : Index := Scalar.indexCast v162
  ![v163.toNat]
def k0_off221 (k0_t14 : Fin k0_t14_loop.trips) (c0_i32_166 : BitVec 32) : Fin 3 → Nat :=
  let c0_i32_163 : BitVec 32 := 0#32
  let c0_i32_158 : BitVec 32 := 0#32
  let c1_i32_160 : BitVec 32 := 1#32
  let arg14 : BitVec 32 := Scf.iv c0_i32_158 c1_i32_160 k0_t14
  let c1_i32_162 : BitVec 32 := 1#32
  let v153 : BitVec 32 := Scalar.muli arg14 c1_i32_162
  let v154 : BitVec 32 := Scalar.addi c0_i32_163 v153
  let c4_i32 : BitVec 32 := 4#32
  let v169 : BitVec 32 := Scalar.muli v154 c4_i32
  let v170 : BitVec 32 := Scalar.addi v169 c0_i32_166
  let v171 : Index := Scalar.indexCast v170
  let c0_i32_167 : BitVec 32 := 0#32
  let v172 : Index := Scalar.indexCast c0_i32_167
  let c0_168 : Index := 0#32
  ![v171.toNat, 0, 0]
def k0_off222 (k0_t14 : Fin k0_t14_loop.trips) (c0_i32_170 : BitVec 32) : Fin 3 → Nat :=
  let c0_i32_163 : BitVec 32 := 0#32
  let c0_i32_158 : BitVec 32 := 0#32
  let c1_i32_160 : BitVec 32 := 1#32
  let arg14 : BitVec 32 := Scf.iv c0_i32_158 c1_i32_160 k0_t14
  let c1_i32_162 : BitVec 32 := 1#32
  let v153 : BitVec 32 := Scalar.muli arg14 c1_i32_162
  let v154 : BitVec 32 := Scalar.addi c0_i32_163 v153
  let c4_i32_169 : BitVec 32 := 4#32
  let v177 : BitVec 32 := Scalar.muli v154 c4_i32_169
  let v178 : BitVec 32 := Scalar.addi v177 c0_i32_170
  let v179 : Index := Scalar.indexCast v178
  let c0_i32_171 : BitVec 32 := 0#32
  let v180 : Index := Scalar.indexCast c0_i32_171
  let c16_172 : Index := 16#32
  ![v179.toNat, 0, 16]
def k0_off223 (k0_t14 : Fin k0_t14_loop.trips) (c0_i32_174 : BitVec 32) : Fin 3 → Nat :=
  let c0_i32_163 : BitVec 32 := 0#32
  let c0_i32_158 : BitVec 32 := 0#32
  let c1_i32_160 : BitVec 32 := 1#32
  let arg14 : BitVec 32 := Scf.iv c0_i32_158 c1_i32_160 k0_t14
  let c1_i32_162 : BitVec 32 := 1#32
  let v153 : BitVec 32 := Scalar.muli arg14 c1_i32_162
  let v154 : BitVec 32 := Scalar.addi c0_i32_163 v153
  let c4_i32_173 : BitVec 32 := 4#32
  let v188 : BitVec 32 := Scalar.muli v154 c4_i32_173
  let v189 : BitVec 32 := Scalar.addi v188 c0_i32_174
  let v190 : Index := Scalar.indexCast v189
  let c0_i32_175 : BitVec 32 := 0#32
  let v191 : Index := Scalar.indexCast c0_i32_175
  let c32_176 : Index := 32#32
  ![v190.toNat, 0, 32]
def k0_off224 (k0_t14 : Fin k0_t14_loop.trips) (c0_i32_178 : BitVec 32) : Fin 3 → Nat :=
  let c0_i32_163 : BitVec 32 := 0#32
  let c0_i32_158 : BitVec 32 := 0#32
  let c1_i32_160 : BitVec 32 := 1#32
  let arg14 : BitVec 32 := Scf.iv c0_i32_158 c1_i32_160 k0_t14
  let c1_i32_162 : BitVec 32 := 1#32
  let v153 : BitVec 32 := Scalar.muli arg14 c1_i32_162
  let v154 : BitVec 32 := Scalar.addi c0_i32_163 v153
  let c4_i32_177 : BitVec 32 := 4#32
  let v196 : BitVec 32 := Scalar.muli v154 c4_i32_177
  let v197 : BitVec 32 := Scalar.addi v196 c0_i32_178
  let v198 : Index := Scalar.indexCast v197
  let c0_i32_179 : BitVec 32 := 0#32
  let v199 : Index := Scalar.indexCast c0_i32_179
  let c48_180 : Index := 48#32
  ![v198.toNat, 0, 48]
def k0_off225 (k0_t14 : Fin k0_t14_loop.trips) (c0_i32_182 : BitVec 32) : Fin 3 → Nat :=
  let c0_i32_163 : BitVec 32 := 0#32
  let c0_i32_158 : BitVec 32 := 0#32
  let c1_i32_160 : BitVec 32 := 1#32
  let arg14 : BitVec 32 := Scf.iv c0_i32_158 c1_i32_160 k0_t14
  let c1_i32_162 : BitVec 32 := 1#32
  let v153 : BitVec 32 := Scalar.muli arg14 c1_i32_162
  let v154 : BitVec 32 := Scalar.addi c0_i32_163 v153
  let c4_i32_181 : BitVec 32 := 4#32
  let v207 : BitVec 32 := Scalar.muli v154 c4_i32_181
  let v208 : BitVec 32 := Scalar.addi v207 c0_i32_182
  let v209 : Index := Scalar.indexCast v208
  let c0_i32_183 : BitVec 32 := 0#32
  let v210 : Index := Scalar.indexCast c0_i32_183
  let c64_184 : Index := 64#32
  ![v209.toNat, 0, 64]
def k0_off226 (k0_t14 : Fin k0_t14_loop.trips) (c0_i32_186 : BitVec 32) : Fin 3 → Nat :=
  let c0_i32_163 : BitVec 32 := 0#32
  let c0_i32_158 : BitVec 32 := 0#32
  let c1_i32_160 : BitVec 32 := 1#32
  let arg14 : BitVec 32 := Scf.iv c0_i32_158 c1_i32_160 k0_t14
  let c1_i32_162 : BitVec 32 := 1#32
  let v153 : BitVec 32 := Scalar.muli arg14 c1_i32_162
  let v154 : BitVec 32 := Scalar.addi c0_i32_163 v153
  let c4_i32_185 : BitVec 32 := 4#32
  let v215 : BitVec 32 := Scalar.muli v154 c4_i32_185
  let v216 : BitVec 32 := Scalar.addi v215 c0_i32_186
  let v217 : Index := Scalar.indexCast v216
  let c0_i32_187 : BitVec 32 := 0#32
  let v218 : Index := Scalar.indexCast c0_i32_187
  let c80_188 : Index := 80#32
  ![v217.toNat, 0, 80]
def k0_off227 (k0_t14 : Fin k0_t14_loop.trips) (c0_i32_190 : BitVec 32) : Fin 3 → Nat :=
  let c0_i32_163 : BitVec 32 := 0#32
  let c0_i32_158 : BitVec 32 := 0#32
  let c1_i32_160 : BitVec 32 := 1#32
  let arg14 : BitVec 32 := Scf.iv c0_i32_158 c1_i32_160 k0_t14
  let c1_i32_162 : BitVec 32 := 1#32
  let v153 : BitVec 32 := Scalar.muli arg14 c1_i32_162
  let v154 : BitVec 32 := Scalar.addi c0_i32_163 v153
  let c4_i32_189 : BitVec 32 := 4#32
  let v226 : BitVec 32 := Scalar.muli v154 c4_i32_189
  let v227 : BitVec 32 := Scalar.addi v226 c0_i32_190
  let v228 : Index := Scalar.indexCast v227
  let c0_i32_191 : BitVec 32 := 0#32
  let v229 : Index := Scalar.indexCast c0_i32_191
  let c96_192 : Index := 96#32
  ![v228.toNat, 0, 96]
def k0_off228 (k0_t14 : Fin k0_t14_loop.trips) (c0_i32_194 : BitVec 32) : Fin 3 → Nat :=
  let c0_i32_163 : BitVec 32 := 0#32
  let c0_i32_158 : BitVec 32 := 0#32
  let c1_i32_160 : BitVec 32 := 1#32
  let arg14 : BitVec 32 := Scf.iv c0_i32_158 c1_i32_160 k0_t14
  let c1_i32_162 : BitVec 32 := 1#32
  let v153 : BitVec 32 := Scalar.muli arg14 c1_i32_162
  let v154 : BitVec 32 := Scalar.addi c0_i32_163 v153
  let c4_i32_193 : BitVec 32 := 4#32
  let v234 : BitVec 32 := Scalar.muli v154 c4_i32_193
  let v235 : BitVec 32 := Scalar.addi v234 c0_i32_194
  let v236 : Index := Scalar.indexCast v235
  let c0_i32_195 : BitVec 32 := 0#32
  let v237 : Index := Scalar.indexCast c0_i32_195
  let c112_196 : Index := 112#32
  ![v236.toNat, 0, 112]
def k0_off229 (k0_t14 : Fin k0_t14_loop.trips) (c0_i32_198 : BitVec 32) : Fin 3 → Nat :=
  let c0_i32_163 : BitVec 32 := 0#32
  let c0_i32_158 : BitVec 32 := 0#32
  let c1_i32_160 : BitVec 32 := 1#32
  let arg14 : BitVec 32 := Scf.iv c0_i32_158 c1_i32_160 k0_t14
  let c1_i32_162 : BitVec 32 := 1#32
  let v153 : BitVec 32 := Scalar.muli arg14 c1_i32_162
  let v154 : BitVec 32 := Scalar.addi c0_i32_163 v153
  let c4_i32_197 : BitVec 32 := 4#32
  let v245 : BitVec 32 := Scalar.muli v154 c4_i32_197
  let v246 : BitVec 32 := Scalar.addi v245 c0_i32_198
  let v247 : Index := Scalar.indexCast v246
  let c1_i32_199 : BitVec 32 := 1#32
  let v248 : Index := Scalar.indexCast c1_i32_199
  let c0_200 : Index := 0#32
  ![v247.toNat, 1, 0]
def k0_off230 (k0_t14 : Fin k0_t14_loop.trips) (c0_i32_202 : BitVec 32) : Fin 3 → Nat :=
  let c0_i32_163 : BitVec 32 := 0#32
  let c0_i32_158 : BitVec 32 := 0#32
  let c1_i32_160 : BitVec 32 := 1#32
  let arg14 : BitVec 32 := Scf.iv c0_i32_158 c1_i32_160 k0_t14
  let c1_i32_162 : BitVec 32 := 1#32
  let v153 : BitVec 32 := Scalar.muli arg14 c1_i32_162
  let v154 : BitVec 32 := Scalar.addi c0_i32_163 v153
  let c4_i32_201 : BitVec 32 := 4#32
  let v253 : BitVec 32 := Scalar.muli v154 c4_i32_201
  let v254 : BitVec 32 := Scalar.addi v253 c0_i32_202
  let v255 : Index := Scalar.indexCast v254
  let c1_i32_203 : BitVec 32 := 1#32
  let v256 : Index := Scalar.indexCast c1_i32_203
  let c16_204 : Index := 16#32
  ![v255.toNat, 1, 16]
def k0_off231 (k0_t14 : Fin k0_t14_loop.trips) (c0_i32_206 : BitVec 32) : Fin 3 → Nat :=
  let c0_i32_163 : BitVec 32 := 0#32
  let c0_i32_158 : BitVec 32 := 0#32
  let c1_i32_160 : BitVec 32 := 1#32
  let arg14 : BitVec 32 := Scf.iv c0_i32_158 c1_i32_160 k0_t14
  let c1_i32_162 : BitVec 32 := 1#32
  let v153 : BitVec 32 := Scalar.muli arg14 c1_i32_162
  let v154 : BitVec 32 := Scalar.addi c0_i32_163 v153
  let c4_i32_205 : BitVec 32 := 4#32
  let v264 : BitVec 32 := Scalar.muli v154 c4_i32_205
  let v265 : BitVec 32 := Scalar.addi v264 c0_i32_206
  let v266 : Index := Scalar.indexCast v265
  let c1_i32_207 : BitVec 32 := 1#32
  let v267 : Index := Scalar.indexCast c1_i32_207
  let c32_208 : Index := 32#32
  ![v266.toNat, 1, 32]
def k0_off232 (k0_t14 : Fin k0_t14_loop.trips) (c0_i32_210 : BitVec 32) : Fin 3 → Nat :=
  let c0_i32_163 : BitVec 32 := 0#32
  let c0_i32_158 : BitVec 32 := 0#32
  let c1_i32_160 : BitVec 32 := 1#32
  let arg14 : BitVec 32 := Scf.iv c0_i32_158 c1_i32_160 k0_t14
  let c1_i32_162 : BitVec 32 := 1#32
  let v153 : BitVec 32 := Scalar.muli arg14 c1_i32_162
  let v154 : BitVec 32 := Scalar.addi c0_i32_163 v153
  let c4_i32_209 : BitVec 32 := 4#32
  let v272 : BitVec 32 := Scalar.muli v154 c4_i32_209
  let v273 : BitVec 32 := Scalar.addi v272 c0_i32_210
  let v274 : Index := Scalar.indexCast v273
  let c1_i32_211 : BitVec 32 := 1#32
  let v275 : Index := Scalar.indexCast c1_i32_211
  let c48_212 : Index := 48#32
  ![v274.toNat, 1, 48]
def k0_off233 (k0_t14 : Fin k0_t14_loop.trips) (c0_i32_214 : BitVec 32) : Fin 3 → Nat :=
  let c0_i32_163 : BitVec 32 := 0#32
  let c0_i32_158 : BitVec 32 := 0#32
  let c1_i32_160 : BitVec 32 := 1#32
  let arg14 : BitVec 32 := Scf.iv c0_i32_158 c1_i32_160 k0_t14
  let c1_i32_162 : BitVec 32 := 1#32
  let v153 : BitVec 32 := Scalar.muli arg14 c1_i32_162
  let v154 : BitVec 32 := Scalar.addi c0_i32_163 v153
  let c4_i32_213 : BitVec 32 := 4#32
  let v283 : BitVec 32 := Scalar.muli v154 c4_i32_213
  let v284 : BitVec 32 := Scalar.addi v283 c0_i32_214
  let v285 : Index := Scalar.indexCast v284
  let c1_i32_215 : BitVec 32 := 1#32
  let v286 : Index := Scalar.indexCast c1_i32_215
  let c64_216 : Index := 64#32
  ![v285.toNat, 1, 64]
def k0_off234 (k0_t14 : Fin k0_t14_loop.trips) (c0_i32_218 : BitVec 32) : Fin 3 → Nat :=
  let c0_i32_163 : BitVec 32 := 0#32
  let c0_i32_158 : BitVec 32 := 0#32
  let c1_i32_160 : BitVec 32 := 1#32
  let arg14 : BitVec 32 := Scf.iv c0_i32_158 c1_i32_160 k0_t14
  let c1_i32_162 : BitVec 32 := 1#32
  let v153 : BitVec 32 := Scalar.muli arg14 c1_i32_162
  let v154 : BitVec 32 := Scalar.addi c0_i32_163 v153
  let c4_i32_217 : BitVec 32 := 4#32
  let v291 : BitVec 32 := Scalar.muli v154 c4_i32_217
  let v292 : BitVec 32 := Scalar.addi v291 c0_i32_218
  let v293 : Index := Scalar.indexCast v292
  let c1_i32_219 : BitVec 32 := 1#32
  let v294 : Index := Scalar.indexCast c1_i32_219
  let c80_220 : Index := 80#32
  ![v293.toNat, 1, 80]
def k0_off235 (k0_t14 : Fin k0_t14_loop.trips) (c0_i32_222 : BitVec 32) : Fin 3 → Nat :=
  let c0_i32_163 : BitVec 32 := 0#32
  let c0_i32_158 : BitVec 32 := 0#32
  let c1_i32_160 : BitVec 32 := 1#32
  let arg14 : BitVec 32 := Scf.iv c0_i32_158 c1_i32_160 k0_t14
  let c1_i32_162 : BitVec 32 := 1#32
  let v153 : BitVec 32 := Scalar.muli arg14 c1_i32_162
  let v154 : BitVec 32 := Scalar.addi c0_i32_163 v153
  let c4_i32_221 : BitVec 32 := 4#32
  let v302 : BitVec 32 := Scalar.muli v154 c4_i32_221
  let v303 : BitVec 32 := Scalar.addi v302 c0_i32_222
  let v304 : Index := Scalar.indexCast v303
  let c1_i32_223 : BitVec 32 := 1#32
  let v305 : Index := Scalar.indexCast c1_i32_223
  let c96_224 : Index := 96#32
  ![v304.toNat, 1, 96]
def k0_off236 (k0_t14 : Fin k0_t14_loop.trips) (c0_i32_226 : BitVec 32) : Fin 3 → Nat :=
  let c0_i32_163 : BitVec 32 := 0#32
  let c0_i32_158 : BitVec 32 := 0#32
  let c1_i32_160 : BitVec 32 := 1#32
  let arg14 : BitVec 32 := Scf.iv c0_i32_158 c1_i32_160 k0_t14
  let c1_i32_162 : BitVec 32 := 1#32
  let v153 : BitVec 32 := Scalar.muli arg14 c1_i32_162
  let v154 : BitVec 32 := Scalar.addi c0_i32_163 v153
  let c4_i32_225 : BitVec 32 := 4#32
  let v310 : BitVec 32 := Scalar.muli v154 c4_i32_225
  let v311 : BitVec 32 := Scalar.addi v310 c0_i32_226
  let v312 : Index := Scalar.indexCast v311
  let c1_i32_227 : BitVec 32 := 1#32
  let v313 : Index := Scalar.indexCast c1_i32_227
  let c112_228 : Index := 112#32
  ![v312.toNat, 1, 112]
def k0_off237 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c29_i32_2 : BitVec 32 := 29#32
  let v3 : BitVec 32 := Scalar.muli v1 c29_i32_2
  let c0_i32_0 : BitVec 32 := 0#32
  let c1_i32 : BitVec 32 := 1#32
  let arg13 : BitVec 32 := Scf.iv c0_i32_0 c1_i32 k0_t1
  let v4 : BitVec 32 := Scalar.addi v3 arg13
  let c256_i32 : BitVec 32 := 256#32
  let v152 : BitVec 32 := Scalar.muli v4 c256_i32
  ![v152.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x3 : Shape := ⟨2, ![100000, 3]⟩
abbrev S1x900x256 : Shape := ⟨3, ![1, 900, 256]⟩
abbrev S1x900x11 : Shape := ⟨3, ![1, 900, 11]⟩
abbrev S1x6x256x64x176 : Shape := ⟨5, ![1, 6, 256, 64, 176]⟩
abbrev S1x6x256x32x88 : Shape := ⟨5, ![1, 6, 256, 32, 88]⟩
abbrev S1x6x256x16x44 : Shape := ⟨5, ![1, 6, 256, 16, 44]⟩
abbrev S1x6x256x8x22 : Shape := ⟨5, ![1, 6, 256, 8, 22]⟩
abbrev S1x6x4x4 : Shape := ⟨4, ![1, 6, 4, 4]⟩
abbrev S1x6x2 : Shape := ⟨3, ![1, 6, 2]⟩
abbrev S256x18 : Shape := ⟨2, ![256, 18]⟩
abbrev S18 : Shape := ⟨1, ![18]⟩
abbrev S256x2496 : Shape := ⟨2, ![256, 2496]⟩
abbrev S2496 : Shape := ⟨1, ![2496]⟩
abbrev S256x256 : Shape := ⟨2, ![256, 256]⟩
abbrev S256 : Shape := ⟨1, ![256]⟩
abbrev S7x3 : Shape := ⟨2, ![7, 3]⟩
abbrev S1x1x7x3 : Shape := ⟨4, ![1, 1, 7, 3]⟩
abbrev S1x1x1x1x1x7x1x3 : Shape := ⟨8, ![1, 1, 1, 1, 1, 7, 1, 3]⟩
abbrev S1x1x900x1x1x7x1x3 : Shape := ⟨8, ![1, 1, 900, 1, 1, 7, 1, 3]⟩
abbrev S1x900x7x3 : Shape := ⟨4, ![1, 900, 7, 3]⟩
abbrev S1x900x18 : Shape := ⟨3, ![1, 900, 18]⟩
abbrev S1x1x18 : Shape := ⟨3, ![1, 1, 18]⟩
abbrev S1x900x6x3 : Shape := ⟨4, ![1, 900, 6, 3]⟩
abbrev S_ : Shape := ⟨0, ![]⟩
abbrev S1x900x13x3 : Shape := ⟨4, ![1, 900, 13, 3]⟩
abbrev S1x900x3 : Shape := ⟨3, ![1, 900, 3]⟩
abbrev S1x900x1x3 : Shape := ⟨4, ![1, 900, 1, 3]⟩
abbrev S1x900x4 : Shape := ⟨3, ![1, 900, 4]⟩
abbrev S1x900 : Shape := ⟨2, ![1, 900]⟩
abbrev S1x900x1 : Shape := ⟨3, ![1, 900, 1]⟩
abbrev S1x900x9 : Shape := ⟨3, ![1, 900, 9]⟩
abbrev S1x900x3x3 : Shape := ⟨4, ![1, 900, 3, 3]⟩
abbrev S1x900x1x3x3 : Shape := ⟨5, ![1, 900, 1, 3, 3]⟩
abbrev S1x900x13x3x1 : Shape := ⟨5, ![1, 900, 13, 3, 1]⟩
abbrev S900x3x3 : Shape := ⟨3, ![900, 3, 3]⟩
abbrev S900x13x3x1 : Shape := ⟨4, ![900, 13, 3, 1]⟩
abbrev S900x3x13x1 : Shape := ⟨4, ![900, 3, 13, 1]⟩
abbrev S1x900x2496 : Shape := ⟨3, ![1, 900, 2496]⟩
abbrev S1x1x2496 : Shape := ⟨3, ![1, 1, 2496]⟩
abbrev S1x900x312x8 : Shape := ⟨4, ![1, 900, 312, 8]⟩
abbrev S1x900x8 : Shape := ⟨3, ![1, 900, 8]⟩
abbrev S1x900x1x8 : Shape := ⟨4, ![1, 900, 1, 8]⟩
abbrev S1x900x6x4x13x8 : Shape := ⟨6, ![1, 900, 6, 4, 13, 8]⟩
abbrev S1x900x13x6x4x8 : Shape := ⟨6, ![1, 900, 13, 6, 4, 8]⟩
abbrev S11700x6x4x8 : Shape := ⟨4, ![11700, 6, 4, 8]⟩
abbrev S1x900x13x1 : Shape := ⟨4, ![1, 900, 13, 1]⟩
abbrev S1x900x13x4 : Shape := ⟨4, ![1, 900, 13, 4]⟩
abbrev S1x6x1x1x4x4 : Shape := ⟨6, ![1, 6, 1, 1, 4, 4]⟩
abbrev S1x1x900x13x4x1 : Shape := ⟨6, ![1, 1, 900, 13, 4, 1]⟩
abbrev S6x4x4 : Shape := ⟨3, ![6, 4, 4]⟩
abbrev S900x13x4x1 : Shape := ⟨4, ![900, 13, 4, 1]⟩
abbrev S6x4x900x13x1 : Shape := ⟨5, ![6, 4, 900, 13, 1]⟩
abbrev S6x900x13x4x1 : Shape := ⟨5, ![6, 900, 13, 4, 1]⟩
abbrev S1x6x900x13x4x1 : Shape := ⟨6, ![1, 6, 900, 13, 4, 1]⟩
abbrev S1x6x900x13x4 : Shape := ⟨5, ![1, 6, 900, 13, 4]⟩
abbrev S1x6x900x13x2 : Shape := ⟨5, ![1, 6, 900, 13, 2]⟩
abbrev S1x6x900x13x1 : Shape := ⟨5, ![1, 6, 900, 13, 1]⟩
abbrev S1x6x1x1x2 : Shape := ⟨5, ![1, 6, 1, 1, 2]⟩
abbrev S1x900x13x6x2 : Shape := ⟨5, ![1, 900, 13, 6, 2]⟩
abbrev S11700x6x2 : Shape := ⟨3, ![11700, 6, 2]⟩
abbrev S6x256x64x176 : Shape := ⟨4, ![6, 256, 64, 176]⟩
abbrev S6x256x32x88 : Shape := ⟨4, ![6, 256, 32, 88]⟩
abbrev S6x256x16x44 : Shape := ⟨4, ![6, 256, 16, 44]⟩
abbrev S6x256x8x22 : Shape := ⟨4, ![6, 256, 8, 22]⟩
abbrev S6x64x176x256 : Shape := ⟨4, ![6, 64, 176, 256]⟩
abbrev S67584x256 : Shape := ⟨2, ![67584, 256]⟩
abbrev S11700x6x1 : Shape := ⟨3, ![11700, 6, 1]⟩
abbrev S11700x6 : Shape := ⟨2, ![11700, 6]⟩
abbrev S11700x6x4 : Shape := ⟨3, ![11700, 6, 4]⟩
abbrev S6 : Shape := ⟨1, ![6]⟩
abbrev S1x6x1 : Shape := ⟨3, ![1, 6, 1]⟩
abbrev S11700x6x4x1 : Shape := ⟨4, ![11700, 6, 4, 1]⟩
abbrev S11700x6x4x256 : Shape := ⟨4, ![11700, 6, 4, 256]⟩
abbrev S11700x6x256 : Shape := ⟨3, ![11700, 6, 256]⟩
abbrev S11700x6x1x8 : Shape := ⟨4, ![11700, 6, 1, 8]⟩
abbrev S11700x6x8 : Shape := ⟨3, ![11700, 6, 8]⟩
abbrev S11700x6x8x32 : Shape := ⟨4, ![11700, 6, 8, 32]⟩
abbrev S11700x256 : Shape := ⟨2, ![11700, 256]⟩
abbrev S6x32x88x256 : Shape := ⟨4, ![6, 32, 88, 256]⟩
abbrev S16896x256 : Shape := ⟨2, ![16896, 256]⟩
abbrev S6x16x44x256 : Shape := ⟨4, ![6, 16, 44, 256]⟩
abbrev S4224x256 : Shape := ⟨2, ![4224, 256]⟩
abbrev S6x8x22x256 : Shape := ⟨4, ![6, 8, 22, 256]⟩
abbrev S1056x256 : Shape := ⟨2, ![1056, 256]⟩
abbrev S900x13x256 : Shape := ⟨3, ![900, 13, 256]⟩
abbrev S900x256 : Shape := ⟨2, ![900, 256]⟩
abbrev S1x256 : Shape := ⟨2, ![1, 256]⟩

abbrev nBuf : Space → Nat
  | .hbm => 730
  | .vmem => 0
  | .smem => 0
  | _ => 0

abbrev hbmTy0_0 (i : Nat) : BufTy := match i % 128 with
  | 0 => ⟨S100000x3, .f32⟩
  | 1 => ⟨S1x900x256, .f32⟩
  | 2 => ⟨S1x900x11, .f32⟩
  | 3 => ⟨S1x900x256, .f32⟩
  | 4 => ⟨S1x6x256x64x176, .f32⟩
  | 5 => ⟨S1x6x256x32x88, .f32⟩
  | 6 => ⟨S1x6x256x16x44, .f32⟩
  | 7 => ⟨S1x6x256x8x22, .f32⟩
  | 8 => ⟨S1x6x4x4, .f32⟩
  | 9 => ⟨S1x6x2, .f32⟩
  | 10 => ⟨S256x18, .f32⟩
  | 11 => ⟨S18, .f32⟩
  | 12 => ⟨S256x2496, .f32⟩
  | 13 => ⟨S2496, .f32⟩
  | 14 => ⟨S256x256, .f32⟩
  | 15 => ⟨S256, .f32⟩
  | 16 => ⟨S7x3, .f32⟩
  | 17 => ⟨S1x1x7x3, .f32⟩
  | 18 => ⟨S1x1x1x1x1x7x1x3, .f32⟩
  | 19 => ⟨S1x1x900x1x1x7x1x3, .f32⟩
  | 20 => ⟨S1x900x7x3, .f32⟩
  | 21 => ⟨S1x900x18, .f32⟩
  | 22 => ⟨S1x1x18, .f32⟩
  | 23 => ⟨S1x900x18, .f32⟩
  | 24 => ⟨S1x900x18, .f32⟩
  | 25 => ⟨S1x900x6x3, .f32⟩
  | 26 => ⟨S_, .f32⟩
  | 27 => ⟨S_, .f32⟩
  | 28 => ⟨S_, .f32⟩
  | 29 => ⟨S1x900x6x3, .f32⟩
  | 30 => ⟨S1x900x6x3, .f32⟩
  | 31 => ⟨S_, .f32⟩
  | 32 => ⟨S1x900x6x3, .f32⟩
  | 33 => ⟨S1x900x6x3, .f32⟩
  | 34 => ⟨S1x900x6x3, .f32⟩
  | 35 => ⟨S1x900x6x3, .f32⟩
  | 36 => ⟨S_, .f32⟩
  | 37 => ⟨S1x900x6x3, .f32⟩
  | 38 => ⟨S1x900x6x3, .f32⟩
  | 39 => ⟨S_, .f32⟩
  | 40 => ⟨S1x900x6x3, .f32⟩
  | 41 => ⟨S1x900x6x3, .f32⟩
  | 42 => ⟨S_, .f32⟩
  | 43 => ⟨S1x900x6x3, .f32⟩
  | 44 => ⟨S1x900x6x3, .f32⟩
  | 45 => ⟨S1x900x13x3, .f32⟩
  | 46 => ⟨S1x900x3, .f32⟩
  | 47 => ⟨S1x900x1x3, .f32⟩
  | 48 => ⟨S1x900x13x3, .f32⟩
  | 49 => ⟨S1x900x13x3, .f32⟩
  | 50 => ⟨S1x900x4, .f32⟩
  | 51 => ⟨S1x900x4, .f32⟩
  | 52 => ⟨S_, .f32⟩
  | 53 => ⟨S1x900, .f32⟩
  | 54 => ⟨S1x900x1, .f32⟩
  | 55 => ⟨S1x900x1, .f32⟩
  | 56 => ⟨S_, .f32⟩
  | 57 => ⟨S1x900x1, .f32⟩
  | 58 => ⟨S1x900x1, .f32⟩
  | 59 => ⟨S1x900x4, .f32⟩
  | 60 => ⟨S1x900x4, .f32⟩
  | 61 => ⟨S1x900x1, .f32⟩
  | 62 => ⟨S1x900, .f32⟩
  | 63 => ⟨S1x900x1, .f32⟩
  | 64 => ⟨S1x900, .f32⟩
  | 65 => ⟨S1x900x1, .f32⟩
  | 66 => ⟨S1x900, .f32⟩
  | 67 => ⟨S1x900x1, .f32⟩
  | 68 => ⟨S1x900, .f32⟩
  | 69 => ⟨S1x900, .f32⟩
  | 70 => ⟨S1x900, .f32⟩
  | 71 => ⟨S1x900, .f32⟩
  | 72 => ⟨S_, .f32⟩
  | 73 => ⟨S1x900, .f32⟩
  | 74 => ⟨S1x900, .f32⟩
  | 75 => ⟨S_, .f32⟩
  | 76 => ⟨S1x900, .f32⟩
  | 77 => ⟨S1x900, .f32⟩
  | 78 => ⟨S1x900, .f32⟩
  | 79 => ⟨S1x900, .f32⟩
  | 80 => ⟨S1x900, .f32⟩
  | 81 => ⟨S_, .f32⟩
  | 82 => ⟨S1x900, .f32⟩
  | 83 => ⟨S1x900, .f32⟩
  | 84 => ⟨S1x900, .f32⟩
  | 85 => ⟨S1x900, .f32⟩
  | 86 => ⟨S1x900, .f32⟩
  | 87 => ⟨S_, .f32⟩
  | 88 => ⟨S1x900, .f32⟩
  | 89 => ⟨S1x900, .f32⟩
  | 90 => ⟨S1x900, .f32⟩
  | 91 => ⟨S1x900, .f32⟩
  | 92 => ⟨S1x900, .f32⟩
  | 93 => ⟨S_, .f32⟩
  | 94 => ⟨S1x900, .f32⟩
  | 95 => ⟨S1x900, .f32⟩
  | 96 => ⟨S1x900, .f32⟩
  | 97 => ⟨S1x900, .f32⟩
  | 98 => ⟨S1x900, .f32⟩
  | 99 => ⟨S_, .f32⟩
  | 100 => ⟨S1x900, .f32⟩
  | 101 => ⟨S1x900, .f32⟩
  | 102 => ⟨S_, .f32⟩
  | 103 => ⟨S1x900, .f32⟩
  | 104 => ⟨S1x900, .f32⟩
  | 105 => ⟨S1x900, .f32⟩
  | 106 => ⟨S1x900, .f32⟩
  | 107 => ⟨S1x900, .f32⟩
  | 108 => ⟨S_, .f32⟩
  | 109 => ⟨S1x900, .f32⟩
  | 110 => ⟨S1x900, .f32⟩
  | 111 => ⟨S1x900, .f32⟩
  | 112 => ⟨S1x900, .f32⟩
  | 113 => ⟨S1x900, .f32⟩
  | 114 => ⟨S_, .f32⟩
  | 115 => ⟨S1x900, .f32⟩
  | 116 => ⟨S1x900, .f32⟩
  | 117 => ⟨S1x900, .f32⟩
  | 118 => ⟨S1x900, .f32⟩
  | 119 => ⟨S1x900, .f32⟩
  | 120 => ⟨S_, .f32⟩
  | 121 => ⟨S1x900, .f32⟩
  | 122 => ⟨S1x900, .f32⟩
  | 123 => ⟨S1x900, .f32⟩
  | 124 => ⟨S1x900, .f32⟩
  | 125 => ⟨S1x900, .f32⟩
  | 126 => ⟨S_, .f32⟩
  | 127 => ⟨S1x900, .f32⟩
  | _ => ⟨S100000x3, .f32⟩

abbrev hbmTy0_1 (i : Nat) : BufTy := match i % 128 with
  | 0 => ⟨S1x900, .f32⟩
  | 1 => ⟨S_, .f32⟩
  | 2 => ⟨S1x900, .f32⟩
  | 3 => ⟨S1x900, .f32⟩
  | 4 => ⟨S1x900x1, .f32⟩
  | 5 => ⟨S1x900x1, .f32⟩
  | 6 => ⟨S1x900x1, .f32⟩
  | 7 => ⟨S1x900x1, .f32⟩
  | 8 => ⟨S1x900x1, .f32⟩
  | 9 => ⟨S1x900x1, .f32⟩
  | 10 => ⟨S1x900x1, .f32⟩
  | 11 => ⟨S1x900x1, .f32⟩
  | 12 => ⟨S1x900x1, .f32⟩
  | 13 => ⟨S1x900x9, .f32⟩
  | 14 => ⟨S1x900x3x3, .f32⟩
  | 15 => ⟨S1x900x3x3, .f32⟩
  | 16 => ⟨S1x900x1x3x3, .f32⟩
  | 17 => ⟨S1x900x13x3x1, .f32⟩
  | 18 => ⟨S900x3x3, .f32⟩
  | 19 => ⟨S900x13x3x1, .f32⟩
  | 20 => ⟨S900x3x13x1, .f32⟩
  | 21 => ⟨S900x13x3x1, .f32⟩
  | 22 => ⟨S1x900x13x3x1, .f32⟩
  | 23 => ⟨S1x900x13x3, .f32⟩
  | 24 => ⟨S1x900x3, .f32⟩
  | 25 => ⟨S1x900x1x3, .f32⟩
  | 26 => ⟨S1x900x13x3, .f32⟩
  | 27 => ⟨S1x900x13x3, .f32⟩
  | 28 => ⟨S1x900x256, .f32⟩
  | 29 => ⟨S1x900x2496, .f32⟩
  | 30 => ⟨S1x1x2496, .f32⟩
  | 31 => ⟨S1x900x2496, .f32⟩
  | 32 => ⟨S1x900x2496, .f32⟩
  | 33 => ⟨S1x900x312x8, .f32⟩
  | 34 => ⟨S_, .f32⟩
  | 35 => ⟨S1x900x8, .f32⟩
  | 36 => ⟨S_, .f32⟩
  | 37 => ⟨S1x900x8, .f32⟩
  | 38 => ⟨S1x900x8, .f32⟩
  | 39 => ⟨S1x900x1x8, .f32⟩
  | 40 => ⟨S1x900x312x8, .f32⟩
  | 41 => ⟨S1x900x312x8, .f32⟩
  | 42 => ⟨S1x900x312x8, .f32⟩
  | 43 => ⟨S_, .f32⟩
  | 44 => ⟨S1x900x8, .f32⟩
  | 45 => ⟨S1x900x1x8, .f32⟩
  | 46 => ⟨S1x900x312x8, .f32⟩
  | 47 => ⟨S1x900x312x8, .f32⟩
  | 48 => ⟨S1x900x6x4x13x8, .f32⟩
  | 49 => ⟨S1x900x13x6x4x8, .f32⟩
  | 50 => ⟨S11700x6x4x8, .f32⟩
  | 51 => ⟨S1x900x13x1, .f32⟩
  | 52 => ⟨S_, .f32⟩
  | 53 => ⟨S1x900x13x1, .f32⟩
  | 54 => ⟨S1x900x13x4, .f32⟩
  | 55 => ⟨S1x6x1x1x4x4, .f32⟩
  | 56 => ⟨S1x1x900x13x4x1, .f32⟩
  | 57 => ⟨S6x4x4, .f32⟩
  | 58 => ⟨S900x13x4x1, .f32⟩
  | 59 => ⟨S6x4x900x13x1, .f32⟩
  | 60 => ⟨S6x900x13x4x1, .f32⟩
  | 61 => ⟨S1x6x900x13x4x1, .f32⟩
  | 62 => ⟨S1x6x900x13x4, .f32⟩
  | 63 => ⟨S1x6x900x13x2, .f32⟩
  | 64 => ⟨S1x6x900x13x1, .f32⟩
  | 65 => ⟨S_, .f32⟩
  | 66 => ⟨S1x6x900x13x1, .f32⟩
  | 67 => ⟨S1x6x900x13x1, .f32⟩
  | 68 => ⟨S1x6x900x13x2, .f32⟩
  | 69 => ⟨S1x6x900x13x2, .f32⟩
  | 70 => ⟨S1x6x1x1x2, .f32⟩
  | 71 => ⟨S1x6x900x13x2, .f32⟩
  | 72 => ⟨S1x6x900x13x2, .f32⟩
  | 73 => ⟨S_, .f32⟩
  | 74 => ⟨S_, .f32⟩
  | 75 => ⟨S_, .f32⟩
  | 76 => ⟨S1x6x900x13x2, .f32⟩
  | 77 => ⟨S1x6x900x13x2, .f32⟩
  | 78 => ⟨S_, .f32⟩
  | 79 => ⟨S1x6x900x13x2, .f32⟩
  | 80 => ⟨S1x6x900x13x2, .f32⟩
  | 81 => ⟨S1x900x13x6x2, .f32⟩
  | 82 => ⟨S11700x6x2, .f32⟩
  | 83 => ⟨S6x256x64x176, .f32⟩
  | 84 => ⟨S6x256x32x88, .f32⟩
  | 85 => ⟨S6x256x16x44, .f32⟩
  | 86 => ⟨S6x256x8x22, .f32⟩
  | 87 => ⟨S6x64x176x256, .f32⟩
  | 88 => ⟨S67584x256, .f32⟩
  | 89 => ⟨S11700x6x1, .f32⟩
  | 90 => ⟨S11700x6, .f32⟩
  | 91 => ⟨S_, .f32⟩
  | 92 => ⟨S11700x6, .f32⟩
  | 93 => ⟨S11700x6, .f32⟩
  | 94 => ⟨S_, .f32⟩
  | 95 => ⟨S11700x6, .f32⟩
  | 96 => ⟨S11700x6, .f32⟩
  | 97 => ⟨S11700x6x1, .f32⟩
  | 98 => ⟨S11700x6, .f32⟩
  | 99 => ⟨S_, .f32⟩
  | 100 => ⟨S11700x6, .f32⟩
  | 101 => ⟨S11700x6, .f32⟩
  | 102 => ⟨S_, .f32⟩
  | 103 => ⟨S11700x6, .f32⟩
  | 104 => ⟨S11700x6, .f32⟩
  | 105 => ⟨S11700x6, .f32⟩
  | 106 => ⟨S11700x6, .f32⟩
  | 107 => ⟨S11700x6, .f32⟩
  | 108 => ⟨S11700x6, .f32⟩
  | 109 => ⟨S11700x6, .i32⟩
  | 110 => ⟨S11700x6, .i32⟩
  | 111 => ⟨S_, .i32⟩
  | 112 => ⟨S11700x6, .i32⟩
  | 113 => ⟨S11700x6, .i32⟩
  | 114 => ⟨S_, .i32⟩
  | 115 => ⟨S11700x6, .i32⟩
  | 116 => ⟨S11700x6, .i32⟩
  | 117 => ⟨S11700x6x1, .i32⟩
  | 118 => ⟨S11700x6x1, .i32⟩
  | 119 => ⟨S11700x6x1, .i32⟩
  | 120 => ⟨S11700x6x1, .i32⟩
  | 121 => ⟨S11700x6x4, .i32⟩
  | 122 => ⟨S_, .i32⟩
  | 123 => ⟨S11700x6, .i32⟩
  | 124 => ⟨S11700x6, .i32⟩
  | 125 => ⟨S_, .i32⟩
  | 126 => ⟨S11700x6, .i32⟩
  | 127 => ⟨S11700x6, .i32⟩
  | _ => ⟨S100000x3, .f32⟩

abbrev hbmTy0_2 (i : Nat) : BufTy := match i % 128 with
  | 0 => ⟨S11700x6x1, .i32⟩
  | 1 => ⟨S11700x6x1, .i32⟩
  | 2 => ⟨S11700x6x1, .i32⟩
  | 3 => ⟨S11700x6x1, .i32⟩
  | 4 => ⟨S11700x6x4, .i32⟩
  | 5 => ⟨S_, .f32⟩
  | 6 => ⟨S11700x6, .f32⟩
  | 7 => ⟨S11700x6, .f32⟩
  | 8 => ⟨S_, .f32⟩
  | 9 => ⟨S11700x6, .f32⟩
  | 10 => ⟨S11700x6, .f32⟩
  | 11 => ⟨S11700x6, .f32⟩
  | 12 => ⟨S_, .f32⟩
  | 13 => ⟨S11700x6, .f32⟩
  | 14 => ⟨S11700x6, .f32⟩
  | 15 => ⟨S11700x6, .f32⟩
  | 16 => ⟨S_, .f32⟩
  | 17 => ⟨S11700x6, .f32⟩
  | 18 => ⟨S11700x6, .f32⟩
  | 19 => ⟨S11700x6, .f32⟩
  | 20 => ⟨S11700x6, .f32⟩
  | 21 => ⟨S11700x6x1, .f32⟩
  | 22 => ⟨S11700x6x1, .f32⟩
  | 23 => ⟨S11700x6x1, .f32⟩
  | 24 => ⟨S11700x6x1, .f32⟩
  | 25 => ⟨S11700x6x4, .f32⟩
  | 26 => ⟨S_, .i32⟩
  | 27 => ⟨S11700x6x4, .i32⟩
  | 28 => ⟨S11700x6x4, .i1⟩
  | 29 => ⟨S_, .i32⟩
  | 30 => ⟨S11700x6x4, .i32⟩
  | 31 => ⟨S11700x6x4, .i1⟩
  | 32 => ⟨S11700x6x4, .i1⟩
  | 33 => ⟨S_, .i32⟩
  | 34 => ⟨S11700x6x4, .i32⟩
  | 35 => ⟨S11700x6x4, .i1⟩
  | 36 => ⟨S11700x6x4, .i1⟩
  | 37 => ⟨S_, .i32⟩
  | 38 => ⟨S11700x6x4, .i32⟩
  | 39 => ⟨S11700x6x4, .i1⟩
  | 40 => ⟨S11700x6x4, .i1⟩
  | 41 => ⟨S11700x6x4, .f32⟩
  | 42 => ⟨S6, .i32⟩
  | 43 => ⟨S1x6x1, .i32⟩
  | 44 => ⟨S_, .i32⟩
  | 45 => ⟨S1x6x1, .i32⟩
  | 46 => ⟨S1x6x1, .i32⟩
  | 47 => ⟨S_, .i32⟩
  | 48 => ⟨S_, .i32⟩
  | 49 => ⟨S_, .i32⟩
  | 50 => ⟨S11700x6x4, .i32⟩
  | 51 => ⟨S11700x6x4, .i32⟩
  | 52 => ⟨S_, .i32⟩
  | 53 => ⟨S11700x6x4, .i32⟩
  | 54 => ⟨S11700x6x4, .i32⟩
  | 55 => ⟨S11700x6x4, .i32⟩
  | 56 => ⟨S11700x6x4, .i32⟩
  | 57 => ⟨S_, .i32⟩
  | 58 => ⟨S11700x6x4, .i32⟩
  | 59 => ⟨S11700x6x4, .i32⟩
  | 60 => ⟨S_, .i32⟩
  | 61 => ⟨S_, .i32⟩
  | 62 => ⟨S_, .i32⟩
  | 63 => ⟨S11700x6x4, .i32⟩
  | 64 => ⟨S11700x6x4, .i32⟩
  | 65 => ⟨S_, .i32⟩
  | 66 => ⟨S11700x6x4, .i32⟩
  | 67 => ⟨S11700x6x4, .i32⟩
  | 68 => ⟨S11700x6x4, .i32⟩
  | 69 => ⟨S11700x6x4x1, .i32⟩
  | 70 => ⟨S11700x6x4x256, .f32⟩
  | 71 => ⟨S11700x6x4, .f32⟩
  | 72 => ⟨S11700x6x4x1, .f32⟩
  | 73 => ⟨S11700x6x4x256, .f32⟩
  | 74 => ⟨S11700x6x4x256, .f32⟩
  | 75 => ⟨S_, .f32⟩
  | 76 => ⟨S11700x6x256, .f32⟩
  | 77 => ⟨S11700x6x1x8, .f32⟩
  | 78 => ⟨S11700x6x8, .f32⟩
  | 79 => ⟨S11700x6x8x32, .f32⟩
  | 80 => ⟨S11700x6x256, .f32⟩
  | 81 => ⟨S11700x6x256, .f32⟩
  | 82 => ⟨S_, .f32⟩
  | 83 => ⟨S11700x256, .f32⟩
  | 84 => ⟨S_, .f32⟩
  | 85 => ⟨S11700x256, .f32⟩
  | 86 => ⟨S11700x256, .f32⟩
  | 87 => ⟨S6x32x88x256, .f32⟩
  | 88 => ⟨S16896x256, .f32⟩
  | 89 => ⟨S11700x6x1, .f32⟩
  | 90 => ⟨S11700x6, .f32⟩
  | 91 => ⟨S_, .f32⟩
  | 92 => ⟨S11700x6, .f32⟩
  | 93 => ⟨S11700x6, .f32⟩
  | 94 => ⟨S_, .f32⟩
  | 95 => ⟨S11700x6, .f32⟩
  | 96 => ⟨S11700x6, .f32⟩
  | 97 => ⟨S11700x6x1, .f32⟩
  | 98 => ⟨S11700x6, .f32⟩
  | 99 => ⟨S_, .f32⟩
  | 100 => ⟨S11700x6, .f32⟩
  | 101 => ⟨S11700x6, .f32⟩
  | 102 => ⟨S_, .f32⟩
  | 103 => ⟨S11700x6, .f32⟩
  | 104 => ⟨S11700x6, .f32⟩
  | 105 => ⟨S11700x6, .f32⟩
  | 106 => ⟨S11700x6, .f32⟩
  | 107 => ⟨S11700x6, .f32⟩
  | 108 => ⟨S11700x6, .f32⟩
  | 109 => ⟨S11700x6, .i32⟩
  | 110 => ⟨S11700x6, .i32⟩
  | 111 => ⟨S_, .i32⟩
  | 112 => ⟨S11700x6, .i32⟩
  | 113 => ⟨S11700x6, .i32⟩
  | 114 => ⟨S_, .i32⟩
  | 115 => ⟨S11700x6, .i32⟩
  | 116 => ⟨S11700x6, .i32⟩
  | 117 => ⟨S11700x6x1, .i32⟩
  | 118 => ⟨S11700x6x1, .i32⟩
  | 119 => ⟨S11700x6x1, .i32⟩
  | 120 => ⟨S11700x6x1, .i32⟩
  | 121 => ⟨S11700x6x4, .i32⟩
  | 122 => ⟨S_, .i32⟩
  | 123 => ⟨S11700x6, .i32⟩
  | 124 => ⟨S11700x6, .i32⟩
  | 125 => ⟨S_, .i32⟩
  | 126 => ⟨S11700x6, .i32⟩
  | 127 => ⟨S11700x6, .i32⟩
  | _ => ⟨S100000x3, .f32⟩

abbrev hbmTy0_3 (i : Nat) : BufTy := match i % 128 with
  | 0 => ⟨S11700x6x1, .i32⟩
  | 1 => ⟨S11700x6x1, .i32⟩
  | 2 => ⟨S11700x6x1, .i32⟩
  | 3 => ⟨S11700x6x1, .i32⟩
  | 4 => ⟨S11700x6x4, .i32⟩
  | 5 => ⟨S_, .f32⟩
  | 6 => ⟨S11700x6, .f32⟩
  | 7 => ⟨S11700x6, .f32⟩
  | 8 => ⟨S_, .f32⟩
  | 9 => ⟨S11700x6, .f32⟩
  | 10 => ⟨S11700x6, .f32⟩
  | 11 => ⟨S11700x6, .f32⟩
  | 12 => ⟨S_, .f32⟩
  | 13 => ⟨S11700x6, .f32⟩
  | 14 => ⟨S11700x6, .f32⟩
  | 15 => ⟨S11700x6, .f32⟩
  | 16 => ⟨S_, .f32⟩
  | 17 => ⟨S11700x6, .f32⟩
  | 18 => ⟨S11700x6, .f32⟩
  | 19 => ⟨S11700x6, .f32⟩
  | 20 => ⟨S11700x6, .f32⟩
  | 21 => ⟨S11700x6x1, .f32⟩
  | 22 => ⟨S11700x6x1, .f32⟩
  | 23 => ⟨S11700x6x1, .f32⟩
  | 24 => ⟨S11700x6x1, .f32⟩
  | 25 => ⟨S11700x6x4, .f32⟩
  | 26 => ⟨S_, .i32⟩
  | 27 => ⟨S11700x6x4, .i32⟩
  | 28 => ⟨S11700x6x4, .i1⟩
  | 29 => ⟨S_, .i32⟩
  | 30 => ⟨S11700x6x4, .i32⟩
  | 31 => ⟨S11700x6x4, .i1⟩
  | 32 => ⟨S11700x6x4, .i1⟩
  | 33 => ⟨S_, .i32⟩
  | 34 => ⟨S11700x6x4, .i32⟩
  | 35 => ⟨S11700x6x4, .i1⟩
  | 36 => ⟨S11700x6x4, .i1⟩
  | 37 => ⟨S_, .i32⟩
  | 38 => ⟨S11700x6x4, .i32⟩
  | 39 => ⟨S11700x6x4, .i1⟩
  | 40 => ⟨S11700x6x4, .i1⟩
  | 41 => ⟨S11700x6x4, .f32⟩
  | 42 => ⟨S6, .i32⟩
  | 43 => ⟨S1x6x1, .i32⟩
  | 44 => ⟨S_, .i32⟩
  | 45 => ⟨S1x6x1, .i32⟩
  | 46 => ⟨S1x6x1, .i32⟩
  | 47 => ⟨S_, .i32⟩
  | 48 => ⟨S_, .i32⟩
  | 49 => ⟨S_, .i32⟩
  | 50 => ⟨S11700x6x4, .i32⟩
  | 51 => ⟨S11700x6x4, .i32⟩
  | 52 => ⟨S_, .i32⟩
  | 53 => ⟨S11700x6x4, .i32⟩
  | 54 => ⟨S11700x6x4, .i32⟩
  | 55 => ⟨S11700x6x4, .i32⟩
  | 56 => ⟨S11700x6x4, .i32⟩
  | 57 => ⟨S_, .i32⟩
  | 58 => ⟨S11700x6x4, .i32⟩
  | 59 => ⟨S11700x6x4, .i32⟩
  | 60 => ⟨S_, .i32⟩
  | 61 => ⟨S_, .i32⟩
  | 62 => ⟨S_, .i32⟩
  | 63 => ⟨S11700x6x4, .i32⟩
  | 64 => ⟨S11700x6x4, .i32⟩
  | 65 => ⟨S_, .i32⟩
  | 66 => ⟨S11700x6x4, .i32⟩
  | 67 => ⟨S11700x6x4, .i32⟩
  | 68 => ⟨S11700x6x4, .i32⟩
  | 69 => ⟨S11700x6x4x1, .i32⟩
  | 70 => ⟨S11700x6x4x256, .f32⟩
  | 71 => ⟨S11700x6x4, .f32⟩
  | 72 => ⟨S11700x6x4x1, .f32⟩
  | 73 => ⟨S11700x6x4x256, .f32⟩
  | 74 => ⟨S11700x6x4x256, .f32⟩
  | 75 => ⟨S_, .f32⟩
  | 76 => ⟨S11700x6x256, .f32⟩
  | 77 => ⟨S11700x6x1x8, .f32⟩
  | 78 => ⟨S11700x6x8, .f32⟩
  | 79 => ⟨S11700x6x8x32, .f32⟩
  | 80 => ⟨S11700x6x256, .f32⟩
  | 81 => ⟨S11700x6x256, .f32⟩
  | 82 => ⟨S_, .f32⟩
  | 83 => ⟨S11700x256, .f32⟩
  | 84 => ⟨S11700x256, .f32⟩
  | 85 => ⟨S6x16x44x256, .f32⟩
  | 86 => ⟨S4224x256, .f32⟩
  | 87 => ⟨S11700x6x1, .f32⟩
  | 88 => ⟨S11700x6, .f32⟩
  | 89 => ⟨S_, .f32⟩
  | 90 => ⟨S11700x6, .f32⟩
  | 91 => ⟨S11700x6, .f32⟩
  | 92 => ⟨S_, .f32⟩
  | 93 => ⟨S11700x6, .f32⟩
  | 94 => ⟨S11700x6, .f32⟩
  | 95 => ⟨S11700x6x1, .f32⟩
  | 96 => ⟨S11700x6, .f32⟩
  | 97 => ⟨S_, .f32⟩
  | 98 => ⟨S11700x6, .f32⟩
  | 99 => ⟨S11700x6, .f32⟩
  | 100 => ⟨S_, .f32⟩
  | 101 => ⟨S11700x6, .f32⟩
  | 102 => ⟨S11700x6, .f32⟩
  | 103 => ⟨S11700x6, .f32⟩
  | 104 => ⟨S11700x6, .f32⟩
  | 105 => ⟨S11700x6, .f32⟩
  | 106 => ⟨S11700x6, .f32⟩
  | 107 => ⟨S11700x6, .i32⟩
  | 108 => ⟨S11700x6, .i32⟩
  | 109 => ⟨S_, .i32⟩
  | 110 => ⟨S11700x6, .i32⟩
  | 111 => ⟨S11700x6, .i32⟩
  | 112 => ⟨S_, .i32⟩
  | 113 => ⟨S11700x6, .i32⟩
  | 114 => ⟨S11700x6, .i32⟩
  | 115 => ⟨S11700x6x1, .i32⟩
  | 116 => ⟨S11700x6x1, .i32⟩
  | 117 => ⟨S11700x6x1, .i32⟩
  | 118 => ⟨S11700x6x1, .i32⟩
  | 119 => ⟨S11700x6x4, .i32⟩
  | 120 => ⟨S_, .i32⟩
  | 121 => ⟨S11700x6, .i32⟩
  | 122 => ⟨S11700x6, .i32⟩
  | 123 => ⟨S_, .i32⟩
  | 124 => ⟨S11700x6, .i32⟩
  | 125 => ⟨S11700x6, .i32⟩
  | 126 => ⟨S11700x6x1, .i32⟩
  | 127 => ⟨S11700x6x1, .i32⟩
  | _ => ⟨S100000x3, .f32⟩

abbrev hbmTy0_4 (i : Nat) : BufTy := match i % 128 with
  | 0 => ⟨S11700x6x1, .i32⟩
  | 1 => ⟨S11700x6x1, .i32⟩
  | 2 => ⟨S11700x6x4, .i32⟩
  | 3 => ⟨S_, .f32⟩
  | 4 => ⟨S11700x6, .f32⟩
  | 5 => ⟨S11700x6, .f32⟩
  | 6 => ⟨S_, .f32⟩
  | 7 => ⟨S11700x6, .f32⟩
  | 8 => ⟨S11700x6, .f32⟩
  | 9 => ⟨S11700x6, .f32⟩
  | 10 => ⟨S_, .f32⟩
  | 11 => ⟨S11700x6, .f32⟩
  | 12 => ⟨S11700x6, .f32⟩
  | 13 => ⟨S11700x6, .f32⟩
  | 14 => ⟨S_, .f32⟩
  | 15 => ⟨S11700x6, .f32⟩
  | 16 => ⟨S11700x6, .f32⟩
  | 17 => ⟨S11700x6, .f32⟩
  | 18 => ⟨S11700x6, .f32⟩
  | 19 => ⟨S11700x6x1, .f32⟩
  | 20 => ⟨S11700x6x1, .f32⟩
  | 21 => ⟨S11700x6x1, .f32⟩
  | 22 => ⟨S11700x6x1, .f32⟩
  | 23 => ⟨S11700x6x4, .f32⟩
  | 24 => ⟨S_, .i32⟩
  | 25 => ⟨S11700x6x4, .i32⟩
  | 26 => ⟨S11700x6x4, .i1⟩
  | 27 => ⟨S_, .i32⟩
  | 28 => ⟨S11700x6x4, .i32⟩
  | 29 => ⟨S11700x6x4, .i1⟩
  | 30 => ⟨S11700x6x4, .i1⟩
  | 31 => ⟨S_, .i32⟩
  | 32 => ⟨S11700x6x4, .i32⟩
  | 33 => ⟨S11700x6x4, .i1⟩
  | 34 => ⟨S11700x6x4, .i1⟩
  | 35 => ⟨S_, .i32⟩
  | 36 => ⟨S11700x6x4, .i32⟩
  | 37 => ⟨S11700x6x4, .i1⟩
  | 38 => ⟨S11700x6x4, .i1⟩
  | 39 => ⟨S11700x6x4, .f32⟩
  | 40 => ⟨S6, .i32⟩
  | 41 => ⟨S1x6x1, .i32⟩
  | 42 => ⟨S_, .i32⟩
  | 43 => ⟨S1x6x1, .i32⟩
  | 44 => ⟨S1x6x1, .i32⟩
  | 45 => ⟨S_, .i32⟩
  | 46 => ⟨S_, .i32⟩
  | 47 => ⟨S_, .i32⟩
  | 48 => ⟨S11700x6x4, .i32⟩
  | 49 => ⟨S11700x6x4, .i32⟩
  | 50 => ⟨S_, .i32⟩
  | 51 => ⟨S11700x6x4, .i32⟩
  | 52 => ⟨S11700x6x4, .i32⟩
  | 53 => ⟨S11700x6x4, .i32⟩
  | 54 => ⟨S11700x6x4, .i32⟩
  | 55 => ⟨S_, .i32⟩
  | 56 => ⟨S11700x6x4, .i32⟩
  | 57 => ⟨S11700x6x4, .i32⟩
  | 58 => ⟨S_, .i32⟩
  | 59 => ⟨S_, .i32⟩
  | 60 => ⟨S_, .i32⟩
  | 61 => ⟨S11700x6x4, .i32⟩
  | 62 => ⟨S11700x6x4, .i32⟩
  | 63 => ⟨S_, .i32⟩
  | 64 => ⟨S11700x6x4, .i32⟩
  | 65 => ⟨S11700x6x4, .i32⟩
  | 66 => ⟨S11700x6x4, .i32⟩
  | 67 => ⟨S11700x6x4x1, .i32⟩
  | 68 => ⟨S11700x6x4x256, .f32⟩
  | 69 => ⟨S11700x6x4, .f32⟩
  | 70 => ⟨S11700x6x4x1, .f32⟩
  | 71 => ⟨S11700x6x4x256, .f32⟩
  | 72 => ⟨S11700x6x4x256, .f32⟩
  | 73 => ⟨S_, .f32⟩
  | 74 => ⟨S11700x6x256, .f32⟩
  | 75 => ⟨S11700x6x1x8, .f32⟩
  | 76 => ⟨S11700x6x8, .f32⟩
  | 77 => ⟨S11700x6x8x32, .f32⟩
  | 78 => ⟨S11700x6x256, .f32⟩
  | 79 => ⟨S11700x6x256, .f32⟩
  | 80 => ⟨S_, .f32⟩
  | 81 => ⟨S11700x256, .f32⟩
  | 82 => ⟨S11700x256, .f32⟩
  | 83 => ⟨S6x8x22x256, .f32⟩
  | 84 => ⟨S1056x256, .f32⟩
  | 85 => ⟨S11700x6x1, .f32⟩
  | 86 => ⟨S11700x6, .f32⟩
  | 87 => ⟨S_, .f32⟩
  | 88 => ⟨S11700x6, .f32⟩
  | 89 => ⟨S11700x6, .f32⟩
  | 90 => ⟨S_, .f32⟩
  | 91 => ⟨S11700x6, .f32⟩
  | 92 => ⟨S11700x6, .f32⟩
  | 93 => ⟨S11700x6x1, .f32⟩
  | 94 => ⟨S11700x6, .f32⟩
  | 95 => ⟨S_, .f32⟩
  | 96 => ⟨S11700x6, .f32⟩
  | 97 => ⟨S11700x6, .f32⟩
  | 98 => ⟨S_, .f32⟩
  | 99 => ⟨S11700x6, .f32⟩
  | 100 => ⟨S11700x6, .f32⟩
  | 101 => ⟨S11700x6, .f32⟩
  | 102 => ⟨S11700x6, .f32⟩
  | 103 => ⟨S11700x6, .f32⟩
  | 104 => ⟨S11700x6, .f32⟩
  | 105 => ⟨S11700x6, .i32⟩
  | 106 => ⟨S11700x6, .i32⟩
  | 107 => ⟨S_, .i32⟩
  | 108 => ⟨S11700x6, .i32⟩
  | 109 => ⟨S11700x6, .i32⟩
  | 110 => ⟨S_, .i32⟩
  | 111 => ⟨S11700x6, .i32⟩
  | 112 => ⟨S11700x6, .i32⟩
  | 113 => ⟨S11700x6x1, .i32⟩
  | 114 => ⟨S11700x6x1, .i32⟩
  | 115 => ⟨S11700x6x1, .i32⟩
  | 116 => ⟨S11700x6x1, .i32⟩
  | 117 => ⟨S11700x6x4, .i32⟩
  | 118 => ⟨S_, .i32⟩
  | 119 => ⟨S11700x6, .i32⟩
  | 120 => ⟨S11700x6, .i32⟩
  | 121 => ⟨S_, .i32⟩
  | 122 => ⟨S11700x6, .i32⟩
  | 123 => ⟨S11700x6, .i32⟩
  | 124 => ⟨S11700x6x1, .i32⟩
  | 125 => ⟨S11700x6x1, .i32⟩
  | 126 => ⟨S11700x6x1, .i32⟩
  | 127 => ⟨S11700x6x1, .i32⟩
  | _ => ⟨S100000x3, .f32⟩

abbrev hbmTy0_5 (i : Nat) : BufTy := match i % 128 with
  | 0 => ⟨S11700x6x4, .i32⟩
  | 1 => ⟨S_, .f32⟩
  | 2 => ⟨S11700x6, .f32⟩
  | 3 => ⟨S11700x6, .f32⟩
  | 4 => ⟨S_, .f32⟩
  | 5 => ⟨S11700x6, .f32⟩
  | 6 => ⟨S11700x6, .f32⟩
  | 7 => ⟨S11700x6, .f32⟩
  | 8 => ⟨S_, .f32⟩
  | 9 => ⟨S11700x6, .f32⟩
  | 10 => ⟨S11700x6, .f32⟩
  | 11 => ⟨S11700x6, .f32⟩
  | 12 => ⟨S_, .f32⟩
  | 13 => ⟨S11700x6, .f32⟩
  | 14 => ⟨S11700x6, .f32⟩
  | 15 => ⟨S11700x6, .f32⟩
  | 16 => ⟨S11700x6, .f32⟩
  | 17 => ⟨S11700x6x1, .f32⟩
  | 18 => ⟨S11700x6x1, .f32⟩
  | 19 => ⟨S11700x6x1, .f32⟩
  | 20 => ⟨S11700x6x1, .f32⟩
  | 21 => ⟨S11700x6x4, .f32⟩
  | 22 => ⟨S_, .i32⟩
  | 23 => ⟨S11700x6x4, .i32⟩
  | 24 => ⟨S11700x6x4, .i1⟩
  | 25 => ⟨S_, .i32⟩
  | 26 => ⟨S11700x6x4, .i32⟩
  | 27 => ⟨S11700x6x4, .i1⟩
  | 28 => ⟨S11700x6x4, .i1⟩
  | 29 => ⟨S_, .i32⟩
  | 30 => ⟨S11700x6x4, .i32⟩
  | 31 => ⟨S11700x6x4, .i1⟩
  | 32 => ⟨S11700x6x4, .i1⟩
  | 33 => ⟨S_, .i32⟩
  | 34 => ⟨S11700x6x4, .i32⟩
  | 35 => ⟨S11700x6x4, .i1⟩
  | 36 => ⟨S11700x6x4, .i1⟩
  | 37 => ⟨S11700x6x4, .f32⟩
  | 38 => ⟨S6, .i32⟩
  | 39 => ⟨S1x6x1, .i32⟩
  | 40 => ⟨S_, .i32⟩
  | 41 => ⟨S1x6x1, .i32⟩
  | 42 => ⟨S1x6x1, .i32⟩
  | 43 => ⟨S_, .i32⟩
  | 44 => ⟨S_, .i32⟩
  | 45 => ⟨S_, .i32⟩
  | 46 => ⟨S11700x6x4, .i32⟩
  | 47 => ⟨S11700x6x4, .i32⟩
  | 48 => ⟨S_, .i32⟩
  | 49 => ⟨S11700x6x4, .i32⟩
  | 50 => ⟨S11700x6x4, .i32⟩
  | 51 => ⟨S11700x6x4, .i32⟩
  | 52 => ⟨S11700x6x4, .i32⟩
  | 53 => ⟨S_, .i32⟩
  | 54 => ⟨S11700x6x4, .i32⟩
  | 55 => ⟨S11700x6x4, .i32⟩
  | 56 => ⟨S_, .i32⟩
  | 57 => ⟨S_, .i32⟩
  | 58 => ⟨S_, .i32⟩
  | 59 => ⟨S11700x6x4, .i32⟩
  | 60 => ⟨S11700x6x4, .i32⟩
  | 61 => ⟨S_, .i32⟩
  | 62 => ⟨S11700x6x4, .i32⟩
  | 63 => ⟨S11700x6x4, .i32⟩
  | 64 => ⟨S11700x6x4, .i32⟩
  | 65 => ⟨S11700x6x4x1, .i32⟩
  | 66 => ⟨S11700x6x4x256, .f32⟩
  | 67 => ⟨S11700x6x4, .f32⟩
  | 68 => ⟨S11700x6x4x1, .f32⟩
  | 69 => ⟨S11700x6x4x256, .f32⟩
  | 70 => ⟨S11700x6x4x256, .f32⟩
  | 71 => ⟨S_, .f32⟩
  | 72 => ⟨S11700x6x256, .f32⟩
  | 73 => ⟨S11700x6x1x8, .f32⟩
  | 74 => ⟨S11700x6x8, .f32⟩
  | 75 => ⟨S11700x6x8x32, .f32⟩
  | 76 => ⟨S11700x6x256, .f32⟩
  | 77 => ⟨S11700x6x256, .f32⟩
  | 78 => ⟨S_, .f32⟩
  | 79 => ⟨S11700x256, .f32⟩
  | 80 => ⟨S11700x256, .f32⟩
  | 81 => ⟨S900x13x256, .f32⟩
  | 82 => ⟨S_, .f32⟩
  | 83 => ⟨S900x256, .f32⟩
  | 84 => ⟨S900x256, .f32⟩
  | 85 => ⟨S1x256, .f32⟩
  | 86 => ⟨S900x256, .f32⟩
  | 87 => ⟨S900x256, .f32⟩
  | 88 => ⟨S1x900x256, .f32⟩
  | 89 => ⟨S1x900x256, .f32⟩
  | _ => ⟨S100000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_2 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_cst_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_call1_v0 : Ref sig .tc := ⟨.hbm, 51, rfl⟩
abbrev main_call1_cst : Ref sig .tc := ⟨.hbm, 52, rfl⟩
abbrev main_call1_v1 : Ref sig .tc := ⟨.hbm, 53, rfl⟩
abbrev main_call1_v2 : Ref sig .tc := ⟨.hbm, 54, rfl⟩
abbrev main_v24 : Ref sig .tc := ⟨.hbm, 55, rfl⟩
abbrev main_cst_5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_6 : Ref sig .tc := ⟨.hbm, 72, rfl⟩
abbrev main_v40 : Ref sig .tc := ⟨.hbm, 73, rfl⟩
abbrev main_v41 : Ref sig .tc := ⟨.hbm, 74, rfl⟩
abbrev main_cst_7 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_8 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_9 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_10 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_11 : Ref sig .tc := ⟨.hbm, 99, rfl⟩
abbrev main_v62 : Ref sig .tc := ⟨.hbm, 100, rfl⟩
abbrev main_v63 : Ref sig .tc := ⟨.hbm, 101, rfl⟩
abbrev main_cst_12 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_13 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_14 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_15 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_16 : Ref sig .tc := ⟨.hbm, 126, rfl⟩
abbrev main_v84 : Ref sig .tc := ⟨.hbm, 127, rfl⟩
abbrev main_v85 : Ref sig .tc := ⟨.hbm, 128, rfl⟩
abbrev main_cst_17 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_18 : Ref sig .tc := ⟨.hbm, 162, rfl⟩
abbrev main_v118 : Ref sig .tc := ⟨.hbm, 163, rfl⟩
abbrev main_cst_19 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_20 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_21 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_22 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_cst_23 : Ref sig .tc := ⟨.hbm, 201, rfl⟩
abbrev main_cst_24 : Ref sig .tc := ⟨.hbm, 202, rfl⟩
abbrev main_call2_v0 : Ref sig .tc := ⟨.hbm, 203, rfl⟩
abbrev main_call2_v1 : Ref sig .tc := ⟨.hbm, 204, rfl⟩
abbrev main_call2_v2 : Ref sig .tc := ⟨.hbm, 205, rfl⟩
abbrev main_call2_v3 : Ref sig .tc := ⟨.hbm, 206, rfl⟩
abbrev main_call2_v4 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_cst_25 : Ref sig .tc := ⟨.hbm, 219, rfl⟩
abbrev main_v163 : Ref sig .tc := ⟨.hbm, 220, rfl⟩
abbrev main_v164 : Ref sig .tc := ⟨.hbm, 221, rfl⟩
abbrev main_cst_26 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_cst_27 : Ref sig .tc := ⟨.hbm, 227, rfl⟩
abbrev main_v169 : Ref sig .tc := ⟨.hbm, 228, rfl⟩
abbrev main_v170 : Ref sig .tc := ⟨.hbm, 229, rfl⟩
abbrev main_cst_28 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_c : Ref sig .tc := ⟨.hbm, 239, rfl⟩
abbrev main_v179 : Ref sig .tc := ⟨.hbm, 240, rfl⟩
abbrev main_v180 : Ref sig .tc := ⟨.hbm, 241, rfl⟩
abbrev main_c_29 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_c_30 : Ref sig .tc := ⟨.hbm, 250, rfl⟩
abbrev main_v188 : Ref sig .tc := ⟨.hbm, 251, rfl⟩
abbrev main_v189 : Ref sig .tc := ⟨.hbm, 252, rfl⟩
abbrev main_c_31 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_cst_32 : Ref sig .tc := ⟨.hbm, 261, rfl⟩
abbrev main_v197 : Ref sig .tc := ⟨.hbm, 262, rfl⟩
abbrev main_v198 : Ref sig .tc := ⟨.hbm, 263, rfl⟩
abbrev main_cst_33 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_cst_34 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_cst_35 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_c_36 : Ref sig .tc := ⟨.hbm, 282, rfl⟩
abbrev main_v214 : Ref sig .tc := ⟨.hbm, 283, rfl⟩
abbrev main_v215 : Ref sig .tc := ⟨.hbm, 284, rfl⟩
abbrev main_c_37 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_c_38 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_c_39 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_c_40 : Ref sig .tc := ⟨.hbm, 300, rfl⟩
abbrev main_v228 : Ref sig .tc := ⟨.hbm, 301, rfl⟩
abbrev main_v229 : Ref sig .tc := ⟨.hbm, 302, rfl⟩
abbrev main_c_41 : Ref sig .tc := ⟨.hbm, 303, rfl⟩
abbrev main_c_42 : Ref sig .tc := ⟨.hbm, 304, rfl⟩
abbrev main_call3_v0 : Ref sig .tc := ⟨.hbm, 305, rfl⟩
abbrev main_call3_v1 : Ref sig .tc := ⟨.hbm, 306, rfl⟩
abbrev main_call3_v2 : Ref sig .tc := ⟨.hbm, 307, rfl⟩
abbrev main_call3_v3 : Ref sig .tc := ⟨.hbm, 308, rfl⟩
abbrev main_call3_v4 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_c_43 : Ref sig .tc := ⟨.hbm, 313, rfl⟩
abbrev main_v233 : Ref sig .tc := ⟨.hbm, 314, rfl⟩
abbrev main_v234 : Ref sig .tc := ⟨.hbm, 315, rfl⟩
abbrev main_c_44 : Ref sig .tc := ⟨.hbm, 316, rfl⟩
abbrev main_c_45 : Ref sig .tc := ⟨.hbm, 317, rfl⟩
abbrev main_call4_v0 : Ref sig .tc := ⟨.hbm, 318, rfl⟩
abbrev main_call4_v1 : Ref sig .tc := ⟨.hbm, 319, rfl⟩
abbrev main_call4_v2 : Ref sig .tc := ⟨.hbm, 320, rfl⟩
abbrev main_call4_v3 : Ref sig .tc := ⟨.hbm, 321, rfl⟩
abbrev main_call4_v4 : Ref sig .tc := ⟨.hbm, 322, rfl⟩
abbrev main_v235 : Ref sig .tc := ⟨.hbm, 323, rfl⟩
abbrev main_v236 : Ref sig .tc := ⟨.hbm, 324, rfl⟩
abbrev main_call5_v0 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_v241 : Ref sig .tc := ⟨.hbm, 330, rfl⟩
abbrev main_cst_46 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩
abbrev main_cst_47 : Ref sig .tc := ⟨.hbm, 338, rfl⟩
abbrev main_v248 : Ref sig .tc := ⟨.hbm, 339, rfl⟩
abbrev main_cst_48 : Ref sig .tc := ⟨.hbm, 340, rfl⟩
abbrev main_v249 : Ref sig .tc := ⟨.hbm, 341, rfl⟩
abbrev main_v250 : Ref sig .tc := ⟨.hbm, 342, rfl⟩
abbrev main_v251 : Ref sig .tc := ⟨.hbm, 343, rfl⟩
abbrev main_v252 : Ref sig .tc := ⟨.hbm, 344, rfl⟩
abbrev main_v253 : Ref sig .tc := ⟨.hbm, 345, rfl⟩
abbrev main_v254 : Ref sig .tc := ⟨.hbm, 346, rfl⟩
abbrev main_cst_49 : Ref sig .tc := ⟨.hbm, 347, rfl⟩
abbrev main_v255 : Ref sig .tc := ⟨.hbm, 348, rfl⟩
abbrev main_v256 : Ref sig .tc := ⟨.hbm, 349, rfl⟩
abbrev main_cst_50 : Ref sig .tc := ⟨.hbm, 350, rfl⟩
abbrev main_v257 : Ref sig .tc := ⟨.hbm, 351, rfl⟩
abbrev main_v258 : Ref sig .tc := ⟨.hbm, 352, rfl⟩
abbrev main_v259 : Ref sig .tc := ⟨.hbm, 353, rfl⟩
abbrev main_v260 : Ref sig .tc := ⟨.hbm, 354, rfl⟩
abbrev main_cst_51 : Ref sig .tc := ⟨.hbm, 355, rfl⟩
abbrev main_v261 : Ref sig .tc := ⟨.hbm, 356, rfl⟩
abbrev main_v262 : Ref sig .tc := ⟨.hbm, 357, rfl⟩
abbrev main_cst_52 : Ref sig .tc := ⟨.hbm, 358, rfl⟩
abbrev main_v263 : Ref sig .tc := ⟨.hbm, 359, rfl⟩
abbrev main_v264 : Ref sig .tc := ⟨.hbm, 360, rfl⟩
abbrev main_v265 : Ref sig .tc := ⟨.hbm, 361, rfl⟩
abbrev main_v266 : Ref sig .tc := ⟨.hbm, 362, rfl⟩
abbrev main_v267 : Ref sig .tc := ⟨.hbm, 363, rfl⟩
abbrev main_v268 : Ref sig .tc := ⟨.hbm, 364, rfl⟩
abbrev main_v269 : Ref sig .tc := ⟨.hbm, 365, rfl⟩
abbrev main_v270 : Ref sig .tc := ⟨.hbm, 366, rfl⟩
abbrev main_c_53 : Ref sig .tc := ⟨.hbm, 367, rfl⟩
abbrev main_v271 : Ref sig .tc := ⟨.hbm, 368, rfl⟩
abbrev main_v272 : Ref sig .tc := ⟨.hbm, 369, rfl⟩
abbrev main_c_54 : Ref sig .tc := ⟨.hbm, 370, rfl⟩
abbrev main_v273 : Ref sig .tc := ⟨.hbm, 371, rfl⟩
abbrev main_v274 : Ref sig .tc := ⟨.hbm, 372, rfl⟩
abbrev main_v275 : Ref sig .tc := ⟨.hbm, 373, rfl⟩
abbrev main_v276 : Ref sig .tc := ⟨.hbm, 374, rfl⟩
abbrev main_v277 : Ref sig .tc := ⟨.hbm, 375, rfl⟩
abbrev main_v278 : Ref sig .tc := ⟨.hbm, 376, rfl⟩
abbrev main_v279 : Ref sig .tc := ⟨.hbm, 377, rfl⟩
abbrev main_c_55 : Ref sig .tc := ⟨.hbm, 378, rfl⟩
abbrev main_v280 : Ref sig .tc := ⟨.hbm, 379, rfl⟩
abbrev main_v281 : Ref sig .tc := ⟨.hbm, 380, rfl⟩
abbrev main_c_56 : Ref sig .tc := ⟨.hbm, 381, rfl⟩
abbrev main_v282 : Ref sig .tc := ⟨.hbm, 382, rfl⟩
abbrev main_v283 : Ref sig .tc := ⟨.hbm, 383, rfl⟩
abbrev main_v284 : Ref sig .tc := ⟨.hbm, 384, rfl⟩
abbrev main_v285 : Ref sig .tc := ⟨.hbm, 385, rfl⟩
abbrev main_v286 : Ref sig .tc := ⟨.hbm, 386, rfl⟩
abbrev main_v287 : Ref sig .tc := ⟨.hbm, 387, rfl⟩
abbrev main_v288 : Ref sig .tc := ⟨.hbm, 388, rfl⟩
abbrev main_cst_57 : Ref sig .tc := ⟨.hbm, 389, rfl⟩
abbrev main_v289 : Ref sig .tc := ⟨.hbm, 390, rfl⟩
abbrev main_v290 : Ref sig .tc := ⟨.hbm, 391, rfl⟩
abbrev main_cst_58 : Ref sig .tc := ⟨.hbm, 392, rfl⟩
abbrev main_v291 : Ref sig .tc := ⟨.hbm, 393, rfl⟩
abbrev main_v292 : Ref sig .tc := ⟨.hbm, 394, rfl⟩
abbrev main_v293 : Ref sig .tc := ⟨.hbm, 395, rfl⟩
abbrev main_cst_59 : Ref sig .tc := ⟨.hbm, 396, rfl⟩
abbrev main_v294 : Ref sig .tc := ⟨.hbm, 397, rfl⟩
abbrev main_v295 : Ref sig .tc := ⟨.hbm, 398, rfl⟩
abbrev main_v296 : Ref sig .tc := ⟨.hbm, 399, rfl⟩
abbrev main_cst_60 : Ref sig .tc := ⟨.hbm, 400, rfl⟩
abbrev main_v297 : Ref sig .tc := ⟨.hbm, 401, rfl⟩
abbrev main_v298 : Ref sig .tc := ⟨.hbm, 402, rfl⟩
abbrev main_v299 : Ref sig .tc := ⟨.hbm, 403, rfl⟩
abbrev main_v300 : Ref sig .tc := ⟨.hbm, 404, rfl⟩
abbrev main_v301 : Ref sig .tc := ⟨.hbm, 405, rfl⟩
abbrev main_v302 : Ref sig .tc := ⟨.hbm, 406, rfl⟩
abbrev main_v303 : Ref sig .tc := ⟨.hbm, 407, rfl⟩
abbrev main_v304 : Ref sig .tc := ⟨.hbm, 408, rfl⟩
abbrev main_v305 : Ref sig .tc := ⟨.hbm, 409, rfl⟩
abbrev main_c_61 : Ref sig .tc := ⟨.hbm, 410, rfl⟩
abbrev main_v306 : Ref sig .tc := ⟨.hbm, 411, rfl⟩
abbrev main_v307 : Ref sig .tc := ⟨.hbm, 412, rfl⟩
abbrev main_c_62 : Ref sig .tc := ⟨.hbm, 413, rfl⟩
abbrev main_v308 : Ref sig .tc := ⟨.hbm, 414, rfl⟩
abbrev main_v309 : Ref sig .tc := ⟨.hbm, 415, rfl⟩
abbrev main_v310 : Ref sig .tc := ⟨.hbm, 416, rfl⟩
abbrev main_c_63 : Ref sig .tc := ⟨.hbm, 417, rfl⟩
abbrev main_v311 : Ref sig .tc := ⟨.hbm, 418, rfl⟩
abbrev main_v312 : Ref sig .tc := ⟨.hbm, 419, rfl⟩
abbrev main_v313 : Ref sig .tc := ⟨.hbm, 420, rfl⟩
abbrev main_c_64 : Ref sig .tc := ⟨.hbm, 421, rfl⟩
abbrev main_v314 : Ref sig .tc := ⟨.hbm, 422, rfl⟩
abbrev main_v315 : Ref sig .tc := ⟨.hbm, 423, rfl⟩
abbrev main_v316 : Ref sig .tc := ⟨.hbm, 424, rfl⟩
abbrev main_v317 : Ref sig .tc := ⟨.hbm, 425, rfl⟩
abbrev main_v318 : Ref sig .tc := ⟨.hbm, 426, rfl⟩
abbrev main_v319 : Ref sig .tc := ⟨.hbm, 427, rfl⟩
abbrev main_c_65 : Ref sig .tc := ⟨.hbm, 428, rfl⟩
abbrev main_v320 : Ref sig .tc := ⟨.hbm, 429, rfl⟩
abbrev main_v321 : Ref sig .tc := ⟨.hbm, 430, rfl⟩
abbrev main_c_66 : Ref sig .tc := ⟨.hbm, 431, rfl⟩
abbrev main_c_67 : Ref sig .tc := ⟨.hbm, 432, rfl⟩
abbrev main_call6_v0 : Ref sig .tc := ⟨.hbm, 433, rfl⟩
abbrev main_call6_v1 : Ref sig .tc := ⟨.hbm, 434, rfl⟩
abbrev main_call6_v2 : Ref sig .tc := ⟨.hbm, 435, rfl⟩
abbrev main_call6_v3 : Ref sig .tc := ⟨.hbm, 436, rfl⟩
abbrev main_call6_v4 : Ref sig .tc := ⟨.hbm, 437, rfl⟩
abbrev main_v322 : Ref sig .tc := ⟨.hbm, 438, rfl⟩
abbrev main_v323 : Ref sig .tc := ⟨.hbm, 439, rfl⟩
abbrev main_v324 : Ref sig .tc := ⟨.hbm, 440, rfl⟩
abbrev main_c_68 : Ref sig .tc := ⟨.hbm, 441, rfl⟩
abbrev main_v325 : Ref sig .tc := ⟨.hbm, 442, rfl⟩
abbrev main_v326 : Ref sig .tc := ⟨.hbm, 443, rfl⟩
abbrev main_c_69 : Ref sig .tc := ⟨.hbm, 444, rfl⟩
abbrev main_c_70 : Ref sig .tc := ⟨.hbm, 445, rfl⟩
abbrev main_call7_v0 : Ref sig .tc := ⟨.hbm, 446, rfl⟩
abbrev main_call7_v1 : Ref sig .tc := ⟨.hbm, 447, rfl⟩
abbrev main_call7_v2 : Ref sig .tc := ⟨.hbm, 448, rfl⟩
abbrev main_call7_v3 : Ref sig .tc := ⟨.hbm, 449, rfl⟩
abbrev main_call7_v4 : Ref sig .tc := ⟨.hbm, 450, rfl⟩
abbrev main_v327 : Ref sig .tc := ⟨.hbm, 451, rfl⟩
abbrev main_v328 : Ref sig .tc := ⟨.hbm, 452, rfl⟩
abbrev main_call8_v0 : Ref sig .tc := ⟨.hbm, 453, rfl⟩
abbrev main_v329 : Ref sig .tc := ⟨.hbm, 454, rfl⟩
abbrev main_v330 : Ref sig .tc := ⟨.hbm, 455, rfl⟩
abbrev main_v331 : Ref sig .tc := ⟨.hbm, 456, rfl⟩
abbrev main_v332 : Ref sig .tc := ⟨.hbm, 457, rfl⟩
abbrev main_v333 : Ref sig .tc := ⟨.hbm, 458, rfl⟩
abbrev main_cst_71 : Ref sig .tc := ⟨.hbm, 459, rfl⟩
abbrev main_v334 : Ref sig .tc := ⟨.hbm, 460, rfl⟩
abbrev main_v335 : Ref sig .tc := ⟨.hbm, 461, rfl⟩
abbrev main_v336 : Ref sig .tc := ⟨.hbm, 462, rfl⟩
abbrev main_v337 : Ref sig .tc := ⟨.hbm, 463, rfl⟩
abbrev main_v338 : Ref sig .tc := ⟨.hbm, 464, rfl⟩
abbrev main_v339 : Ref sig .tc := ⟨.hbm, 465, rfl⟩
abbrev main_cst_72 : Ref sig .tc := ⟨.hbm, 466, rfl⟩
abbrev main_v340 : Ref sig .tc := ⟨.hbm, 467, rfl⟩
abbrev main_v341 : Ref sig .tc := ⟨.hbm, 468, rfl⟩
abbrev main_v342 : Ref sig .tc := ⟨.hbm, 469, rfl⟩
abbrev main_v343 : Ref sig .tc := ⟨.hbm, 470, rfl⟩
abbrev main_v344 : Ref sig .tc := ⟨.hbm, 471, rfl⟩
abbrev main_v345 : Ref sig .tc := ⟨.hbm, 472, rfl⟩
abbrev main_cst_73 : Ref sig .tc := ⟨.hbm, 473, rfl⟩
abbrev main_v346 : Ref sig .tc := ⟨.hbm, 474, rfl⟩
abbrev main_v347 : Ref sig .tc := ⟨.hbm, 475, rfl⟩
abbrev main_cst_74 : Ref sig .tc := ⟨.hbm, 476, rfl⟩
abbrev main_v348 : Ref sig .tc := ⟨.hbm, 477, rfl⟩
abbrev main_v349 : Ref sig .tc := ⟨.hbm, 478, rfl⟩
abbrev main_v350 : Ref sig .tc := ⟨.hbm, 479, rfl⟩
abbrev main_v351 : Ref sig .tc := ⟨.hbm, 480, rfl⟩
abbrev main_cst_75 : Ref sig .tc := ⟨.hbm, 481, rfl⟩
abbrev main_v352 : Ref sig .tc := ⟨.hbm, 482, rfl⟩
abbrev main_v353 : Ref sig .tc := ⟨.hbm, 483, rfl⟩
abbrev main_cst_76 : Ref sig .tc := ⟨.hbm, 484, rfl⟩
abbrev main_v354 : Ref sig .tc := ⟨.hbm, 485, rfl⟩
abbrev main_v355 : Ref sig .tc := ⟨.hbm, 486, rfl⟩
abbrev main_v356 : Ref sig .tc := ⟨.hbm, 487, rfl⟩
abbrev main_v357 : Ref sig .tc := ⟨.hbm, 488, rfl⟩
abbrev main_v358 : Ref sig .tc := ⟨.hbm, 489, rfl⟩
abbrev main_v359 : Ref sig .tc := ⟨.hbm, 490, rfl⟩
abbrev main_v360 : Ref sig .tc := ⟨.hbm, 491, rfl⟩
abbrev main_v361 : Ref sig .tc := ⟨.hbm, 492, rfl⟩
abbrev main_c_77 : Ref sig .tc := ⟨.hbm, 493, rfl⟩
abbrev main_v362 : Ref sig .tc := ⟨.hbm, 494, rfl⟩
abbrev main_v363 : Ref sig .tc := ⟨.hbm, 495, rfl⟩
abbrev main_c_78 : Ref sig .tc := ⟨.hbm, 496, rfl⟩
abbrev main_v364 : Ref sig .tc := ⟨.hbm, 497, rfl⟩
abbrev main_v365 : Ref sig .tc := ⟨.hbm, 498, rfl⟩
abbrev main_v366 : Ref sig .tc := ⟨.hbm, 499, rfl⟩
abbrev main_v367 : Ref sig .tc := ⟨.hbm, 500, rfl⟩
abbrev main_v368 : Ref sig .tc := ⟨.hbm, 501, rfl⟩
abbrev main_v369 : Ref sig .tc := ⟨.hbm, 502, rfl⟩
abbrev main_v370 : Ref sig .tc := ⟨.hbm, 503, rfl⟩
abbrev main_c_79 : Ref sig .tc := ⟨.hbm, 504, rfl⟩
abbrev main_v371 : Ref sig .tc := ⟨.hbm, 505, rfl⟩
abbrev main_v372 : Ref sig .tc := ⟨.hbm, 506, rfl⟩
abbrev main_c_80 : Ref sig .tc := ⟨.hbm, 507, rfl⟩
abbrev main_v373 : Ref sig .tc := ⟨.hbm, 508, rfl⟩
abbrev main_v374 : Ref sig .tc := ⟨.hbm, 509, rfl⟩
abbrev main_v375 : Ref sig .tc := ⟨.hbm, 510, rfl⟩
abbrev main_v376 : Ref sig .tc := ⟨.hbm, 511, rfl⟩
abbrev main_v377 : Ref sig .tc := ⟨.hbm, 512, rfl⟩
abbrev main_v378 : Ref sig .tc := ⟨.hbm, 513, rfl⟩
abbrev main_v379 : Ref sig .tc := ⟨.hbm, 514, rfl⟩
abbrev main_cst_81 : Ref sig .tc := ⟨.hbm, 515, rfl⟩
abbrev main_v380 : Ref sig .tc := ⟨.hbm, 516, rfl⟩
abbrev main_v381 : Ref sig .tc := ⟨.hbm, 517, rfl⟩
abbrev main_cst_82 : Ref sig .tc := ⟨.hbm, 518, rfl⟩
abbrev main_v382 : Ref sig .tc := ⟨.hbm, 519, rfl⟩
abbrev main_v383 : Ref sig .tc := ⟨.hbm, 520, rfl⟩
abbrev main_v384 : Ref sig .tc := ⟨.hbm, 521, rfl⟩
abbrev main_cst_83 : Ref sig .tc := ⟨.hbm, 522, rfl⟩
abbrev main_v385 : Ref sig .tc := ⟨.hbm, 523, rfl⟩
abbrev main_v386 : Ref sig .tc := ⟨.hbm, 524, rfl⟩
abbrev main_v387 : Ref sig .tc := ⟨.hbm, 525, rfl⟩
abbrev main_cst_84 : Ref sig .tc := ⟨.hbm, 526, rfl⟩
abbrev main_v388 : Ref sig .tc := ⟨.hbm, 527, rfl⟩
abbrev main_v389 : Ref sig .tc := ⟨.hbm, 528, rfl⟩
abbrev main_v390 : Ref sig .tc := ⟨.hbm, 529, rfl⟩
abbrev main_v391 : Ref sig .tc := ⟨.hbm, 530, rfl⟩
abbrev main_v392 : Ref sig .tc := ⟨.hbm, 531, rfl⟩
abbrev main_v393 : Ref sig .tc := ⟨.hbm, 532, rfl⟩
abbrev main_v394 : Ref sig .tc := ⟨.hbm, 533, rfl⟩
abbrev main_v395 : Ref sig .tc := ⟨.hbm, 534, rfl⟩
abbrev main_v396 : Ref sig .tc := ⟨.hbm, 535, rfl⟩
abbrev main_c_85 : Ref sig .tc := ⟨.hbm, 536, rfl⟩
abbrev main_v397 : Ref sig .tc := ⟨.hbm, 537, rfl⟩
abbrev main_v398 : Ref sig .tc := ⟨.hbm, 538, rfl⟩
abbrev main_c_86 : Ref sig .tc := ⟨.hbm, 539, rfl⟩
abbrev main_v399 : Ref sig .tc := ⟨.hbm, 540, rfl⟩
abbrev main_v400 : Ref sig .tc := ⟨.hbm, 541, rfl⟩
abbrev main_v401 : Ref sig .tc := ⟨.hbm, 542, rfl⟩
abbrev main_c_87 : Ref sig .tc := ⟨.hbm, 543, rfl⟩
abbrev main_v402 : Ref sig .tc := ⟨.hbm, 544, rfl⟩
abbrev main_v403 : Ref sig .tc := ⟨.hbm, 545, rfl⟩
abbrev main_v404 : Ref sig .tc := ⟨.hbm, 546, rfl⟩
abbrev main_c_88 : Ref sig .tc := ⟨.hbm, 547, rfl⟩
abbrev main_v405 : Ref sig .tc := ⟨.hbm, 548, rfl⟩
abbrev main_v406 : Ref sig .tc := ⟨.hbm, 549, rfl⟩
abbrev main_v407 : Ref sig .tc := ⟨.hbm, 550, rfl⟩
abbrev main_v408 : Ref sig .tc := ⟨.hbm, 551, rfl⟩
abbrev main_v409 : Ref sig .tc := ⟨.hbm, 552, rfl⟩
abbrev main_v410 : Ref sig .tc := ⟨.hbm, 553, rfl⟩
abbrev main_c_89 : Ref sig .tc := ⟨.hbm, 554, rfl⟩
abbrev main_v411 : Ref sig .tc := ⟨.hbm, 555, rfl⟩
abbrev main_v412 : Ref sig .tc := ⟨.hbm, 556, rfl⟩
abbrev main_c_90 : Ref sig .tc := ⟨.hbm, 557, rfl⟩
abbrev main_c_91 : Ref sig .tc := ⟨.hbm, 558, rfl⟩
abbrev main_call9_v0 : Ref sig .tc := ⟨.hbm, 559, rfl⟩
abbrev main_call9_v1 : Ref sig .tc := ⟨.hbm, 560, rfl⟩
abbrev main_call9_v2 : Ref sig .tc := ⟨.hbm, 561, rfl⟩
abbrev main_call9_v3 : Ref sig .tc := ⟨.hbm, 562, rfl⟩
abbrev main_call9_v4 : Ref sig .tc := ⟨.hbm, 563, rfl⟩
abbrev main_v413 : Ref sig .tc := ⟨.hbm, 564, rfl⟩
abbrev main_v414 : Ref sig .tc := ⟨.hbm, 565, rfl⟩
abbrev main_v415 : Ref sig .tc := ⟨.hbm, 566, rfl⟩
abbrev main_c_92 : Ref sig .tc := ⟨.hbm, 567, rfl⟩
abbrev main_v416 : Ref sig .tc := ⟨.hbm, 568, rfl⟩
abbrev main_v417 : Ref sig .tc := ⟨.hbm, 569, rfl⟩
abbrev main_c_93 : Ref sig .tc := ⟨.hbm, 570, rfl⟩
abbrev main_c_94 : Ref sig .tc := ⟨.hbm, 571, rfl⟩
abbrev main_call10_v0 : Ref sig .tc := ⟨.hbm, 572, rfl⟩
abbrev main_call10_v1 : Ref sig .tc := ⟨.hbm, 573, rfl⟩
abbrev main_call10_v2 : Ref sig .tc := ⟨.hbm, 574, rfl⟩
abbrev main_call10_v3 : Ref sig .tc := ⟨.hbm, 575, rfl⟩
abbrev main_call10_v4 : Ref sig .tc := ⟨.hbm, 576, rfl⟩
abbrev main_v418 : Ref sig .tc := ⟨.hbm, 577, rfl⟩
abbrev main_v419 : Ref sig .tc := ⟨.hbm, 578, rfl⟩
abbrev main_call11_v0 : Ref sig .tc := ⟨.hbm, 579, rfl⟩
abbrev main_v420 : Ref sig .tc := ⟨.hbm, 580, rfl⟩
abbrev main_v421 : Ref sig .tc := ⟨.hbm, 581, rfl⟩
abbrev main_v422 : Ref sig .tc := ⟨.hbm, 582, rfl⟩
abbrev main_v423 : Ref sig .tc := ⟨.hbm, 583, rfl⟩
abbrev main_v424 : Ref sig .tc := ⟨.hbm, 584, rfl⟩
abbrev main_cst_95 : Ref sig .tc := ⟨.hbm, 585, rfl⟩
abbrev main_v425 : Ref sig .tc := ⟨.hbm, 586, rfl⟩
abbrev main_v426 : Ref sig .tc := ⟨.hbm, 587, rfl⟩
abbrev main_v427 : Ref sig .tc := ⟨.hbm, 588, rfl⟩
abbrev main_v428 : Ref sig .tc := ⟨.hbm, 589, rfl⟩
abbrev main_v429 : Ref sig .tc := ⟨.hbm, 590, rfl⟩
abbrev main_v430 : Ref sig .tc := ⟨.hbm, 591, rfl⟩
abbrev main_cst_96 : Ref sig .tc := ⟨.hbm, 592, rfl⟩
abbrev main_v431 : Ref sig .tc := ⟨.hbm, 593, rfl⟩
abbrev main_v432 : Ref sig .tc := ⟨.hbm, 594, rfl⟩
abbrev main_v433 : Ref sig .tc := ⟨.hbm, 595, rfl⟩
abbrev main_v434 : Ref sig .tc := ⟨.hbm, 596, rfl⟩
abbrev main_v435 : Ref sig .tc := ⟨.hbm, 597, rfl⟩
abbrev main_v436 : Ref sig .tc := ⟨.hbm, 598, rfl⟩
abbrev main_cst_97 : Ref sig .tc := ⟨.hbm, 599, rfl⟩
abbrev main_v437 : Ref sig .tc := ⟨.hbm, 600, rfl⟩
abbrev main_v438 : Ref sig .tc := ⟨.hbm, 601, rfl⟩
abbrev main_cst_98 : Ref sig .tc := ⟨.hbm, 602, rfl⟩
abbrev main_v439 : Ref sig .tc := ⟨.hbm, 603, rfl⟩
abbrev main_v440 : Ref sig .tc := ⟨.hbm, 604, rfl⟩
abbrev main_v441 : Ref sig .tc := ⟨.hbm, 605, rfl⟩
abbrev main_v442 : Ref sig .tc := ⟨.hbm, 606, rfl⟩
abbrev main_cst_99 : Ref sig .tc := ⟨.hbm, 607, rfl⟩
abbrev main_v443 : Ref sig .tc := ⟨.hbm, 608, rfl⟩
abbrev main_v444 : Ref sig .tc := ⟨.hbm, 609, rfl⟩
abbrev main_cst_100 : Ref sig .tc := ⟨.hbm, 610, rfl⟩
abbrev main_v445 : Ref sig .tc := ⟨.hbm, 611, rfl⟩
abbrev main_v446 : Ref sig .tc := ⟨.hbm, 612, rfl⟩
abbrev main_v447 : Ref sig .tc := ⟨.hbm, 613, rfl⟩
abbrev main_v448 : Ref sig .tc := ⟨.hbm, 614, rfl⟩
abbrev main_v449 : Ref sig .tc := ⟨.hbm, 615, rfl⟩
abbrev main_v450 : Ref sig .tc := ⟨.hbm, 616, rfl⟩
abbrev main_v451 : Ref sig .tc := ⟨.hbm, 617, rfl⟩
abbrev main_v452 : Ref sig .tc := ⟨.hbm, 618, rfl⟩
abbrev main_c_101 : Ref sig .tc := ⟨.hbm, 619, rfl⟩
abbrev main_v453 : Ref sig .tc := ⟨.hbm, 620, rfl⟩
abbrev main_v454 : Ref sig .tc := ⟨.hbm, 621, rfl⟩
abbrev main_c_102 : Ref sig .tc := ⟨.hbm, 622, rfl⟩
abbrev main_v455 : Ref sig .tc := ⟨.hbm, 623, rfl⟩
abbrev main_v456 : Ref sig .tc := ⟨.hbm, 624, rfl⟩
abbrev main_v457 : Ref sig .tc := ⟨.hbm, 625, rfl⟩
abbrev main_v458 : Ref sig .tc := ⟨.hbm, 626, rfl⟩
abbrev main_v459 : Ref sig .tc := ⟨.hbm, 627, rfl⟩
abbrev main_v460 : Ref sig .tc := ⟨.hbm, 628, rfl⟩
abbrev main_v461 : Ref sig .tc := ⟨.hbm, 629, rfl⟩
abbrev main_c_103 : Ref sig .tc := ⟨.hbm, 630, rfl⟩
abbrev main_v462 : Ref sig .tc := ⟨.hbm, 631, rfl⟩
abbrev main_v463 : Ref sig .tc := ⟨.hbm, 632, rfl⟩
abbrev main_c_104 : Ref sig .tc := ⟨.hbm, 633, rfl⟩
abbrev main_v464 : Ref sig .tc := ⟨.hbm, 634, rfl⟩
abbrev main_v465 : Ref sig .tc := ⟨.hbm, 635, rfl⟩
abbrev main_v466 : Ref sig .tc := ⟨.hbm, 636, rfl⟩
abbrev main_v467 : Ref sig .tc := ⟨.hbm, 637, rfl⟩
abbrev main_v468 : Ref sig .tc := ⟨.hbm, 638, rfl⟩
abbrev main_v469 : Ref sig .tc := ⟨.hbm, 639, rfl⟩
abbrev main_v470 : Ref sig .tc := ⟨.hbm, 640, rfl⟩
abbrev main_cst_105 : Ref sig .tc := ⟨.hbm, 641, rfl⟩
abbrev main_v471 : Ref sig .tc := ⟨.hbm, 642, rfl⟩
abbrev main_v472 : Ref sig .tc := ⟨.hbm, 643, rfl⟩
abbrev main_cst_106 : Ref sig .tc := ⟨.hbm, 644, rfl⟩
abbrev main_v473 : Ref sig .tc := ⟨.hbm, 645, rfl⟩
abbrev main_v474 : Ref sig .tc := ⟨.hbm, 646, rfl⟩
abbrev main_v475 : Ref sig .tc := ⟨.hbm, 647, rfl⟩
abbrev main_cst_107 : Ref sig .tc := ⟨.hbm, 648, rfl⟩
abbrev main_v476 : Ref sig .tc := ⟨.hbm, 649, rfl⟩
abbrev main_v477 : Ref sig .tc := ⟨.hbm, 650, rfl⟩
abbrev main_v478 : Ref sig .tc := ⟨.hbm, 651, rfl⟩
abbrev main_cst_108 : Ref sig .tc := ⟨.hbm, 652, rfl⟩
abbrev main_v479 : Ref sig .tc := ⟨.hbm, 653, rfl⟩
abbrev main_v480 : Ref sig .tc := ⟨.hbm, 654, rfl⟩
abbrev main_v481 : Ref sig .tc := ⟨.hbm, 655, rfl⟩
abbrev main_v482 : Ref sig .tc := ⟨.hbm, 656, rfl⟩
abbrev main_v483 : Ref sig .tc := ⟨.hbm, 657, rfl⟩
abbrev main_v484 : Ref sig .tc := ⟨.hbm, 658, rfl⟩
abbrev main_v485 : Ref sig .tc := ⟨.hbm, 659, rfl⟩
abbrev main_v486 : Ref sig .tc := ⟨.hbm, 660, rfl⟩
abbrev main_v487 : Ref sig .tc := ⟨.hbm, 661, rfl⟩
abbrev main_c_109 : Ref sig .tc := ⟨.hbm, 662, rfl⟩
abbrev main_v488 : Ref sig .tc := ⟨.hbm, 663, rfl⟩
abbrev main_v489 : Ref sig .tc := ⟨.hbm, 664, rfl⟩
abbrev main_c_110 : Ref sig .tc := ⟨.hbm, 665, rfl⟩
abbrev main_v490 : Ref sig .tc := ⟨.hbm, 666, rfl⟩
abbrev main_v491 : Ref sig .tc := ⟨.hbm, 667, rfl⟩
abbrev main_v492 : Ref sig .tc := ⟨.hbm, 668, rfl⟩
abbrev main_c_111 : Ref sig .tc := ⟨.hbm, 669, rfl⟩
abbrev main_v493 : Ref sig .tc := ⟨.hbm, 670, rfl⟩
abbrev main_v494 : Ref sig .tc := ⟨.hbm, 671, rfl⟩
abbrev main_v495 : Ref sig .tc := ⟨.hbm, 672, rfl⟩
abbrev main_c_112 : Ref sig .tc := ⟨.hbm, 673, rfl⟩
abbrev main_v496 : Ref sig .tc := ⟨.hbm, 674, rfl⟩
abbrev main_v497 : Ref sig .tc := ⟨.hbm, 675, rfl⟩
abbrev main_v498 : Ref sig .tc := ⟨.hbm, 676, rfl⟩
abbrev main_v499 : Ref sig .tc := ⟨.hbm, 677, rfl⟩
abbrev main_v500 : Ref sig .tc := ⟨.hbm, 678, rfl⟩
abbrev main_v501 : Ref sig .tc := ⟨.hbm, 679, rfl⟩
abbrev main_c_113 : Ref sig .tc := ⟨.hbm, 680, rfl⟩
abbrev main_v502 : Ref sig .tc := ⟨.hbm, 681, rfl⟩
abbrev main_v503 : Ref sig .tc := ⟨.hbm, 682, rfl⟩
abbrev main_c_114 : Ref sig .tc := ⟨.hbm, 683, rfl⟩
abbrev main_c_115 : Ref sig .tc := ⟨.hbm, 684, rfl⟩
abbrev main_call12_v0 : Ref sig .tc := ⟨.hbm, 685, rfl⟩
abbrev main_call12_v1 : Ref sig .tc := ⟨.hbm, 686, rfl⟩
abbrev main_call12_v2 : Ref sig .tc := ⟨.hbm, 687, rfl⟩
abbrev main_call12_v3 : Ref sig .tc := ⟨.hbm, 688, rfl⟩
abbrev main_call12_v4 : Ref sig .tc := ⟨.hbm, 689, rfl⟩
abbrev main_v504 : Ref sig .tc := ⟨.hbm, 690, rfl⟩
abbrev main_v505 : Ref sig .tc := ⟨.hbm, 691, rfl⟩
abbrev main_v506 : Ref sig .tc := ⟨.hbm, 692, rfl⟩
abbrev main_c_116 : Ref sig .tc := ⟨.hbm, 693, rfl⟩
abbrev main_v507 : Ref sig .tc := ⟨.hbm, 694, rfl⟩
abbrev main_v508 : Ref sig .tc := ⟨.hbm, 695, rfl⟩
abbrev main_c_117 : Ref sig .tc := ⟨.hbm, 696, rfl⟩
abbrev main_c_118 : Ref sig .tc := ⟨.hbm, 697, rfl⟩
abbrev main_call13_v0 : Ref sig .tc := ⟨.hbm, 698, rfl⟩
abbrev main_call13_v1 : Ref sig .tc := ⟨.hbm, 699, rfl⟩
abbrev main_call13_v2 : Ref sig .tc := ⟨.hbm, 700, rfl⟩
abbrev main_call13_v3 : Ref sig .tc := ⟨.hbm, 701, rfl⟩
abbrev main_call13_v4 : Ref sig .tc := ⟨.hbm, 702, rfl⟩
abbrev main_v509 : Ref sig .tc := ⟨.hbm, 703, rfl⟩
abbrev main_v510 : Ref sig .tc := ⟨.hbm, 704, rfl⟩
abbrev main_call14_v0 : Ref sig .tc := ⟨.hbm, 705, rfl⟩
abbrev main_v511 : Ref sig .tc := ⟨.hbm, 706, rfl⟩
abbrev main_v512 : Ref sig .tc := ⟨.hbm, 707, rfl⟩
abbrev main_v513 : Ref sig .tc := ⟨.hbm, 708, rfl⟩
abbrev main_v514 : Ref sig .tc := ⟨.hbm, 709, rfl⟩
abbrev main_v515 : Ref sig .tc := ⟨.hbm, 710, rfl⟩
abbrev main_cst_119 : Ref sig .tc := ⟨.hbm, 711, rfl⟩
abbrev main_v516 : Ref sig .tc := ⟨.hbm, 712, rfl⟩
abbrev main_v517 : Ref sig .tc := ⟨.hbm, 713, rfl⟩
abbrev main_v518 : Ref sig .tc := ⟨.hbm, 714, rfl⟩
abbrev main_v519 : Ref sig .tc := ⟨.hbm, 715, rfl⟩
abbrev main_v520 : Ref sig .tc := ⟨.hbm, 716, rfl⟩
abbrev main_v521 : Ref sig .tc := ⟨.hbm, 717, rfl⟩
abbrev main_cst_120 : Ref sig .tc := ⟨.hbm, 718, rfl⟩
abbrev main_v522 : Ref sig .tc := ⟨.hbm, 719, rfl⟩
abbrev main_v523 : Ref sig .tc := ⟨.hbm, 720, rfl⟩
abbrev main_v524 : Ref sig .tc := ⟨.hbm, 721, rfl⟩
abbrev main_cst_121 : Ref sig .tc := ⟨.hbm, 722, rfl⟩
abbrev main_v525 : Ref sig .tc := ⟨.hbm, 723, rfl⟩
abbrev main_v526 : Ref sig .tc := ⟨.hbm, 724, rfl⟩
abbrev main_v527 : Ref sig .tc := ⟨.hbm, 725, rfl⟩
abbrev main_v528 : Ref sig .tc := ⟨.hbm, 726, rfl⟩
abbrev main_v529 : Ref sig .tc := ⟨.hbm, 727, rfl⟩
abbrev main_v530 : Ref sig .tc := ⟨.hbm, 728, rfl⟩
abbrev main_v531 : Ref sig .tc := ⟨.hbm, 729, rfl⟩

abbrev nD : Nat := 1
abbrev τ : Topo := Topo.v7x

variable {F : FTy → Type} [FloatOps F]
-- ==== Proof.SameText.lean ====
/-
  The kernel at the machine's floats is the ideal kernel's text, part by part.
-/
module

public import proofs.«01_k».proof.Defs
public import proofs.«01_k».proof.Proof.Gen.Kernel
public import proofs.«01_k».proof.Proof.Gen.KernelIdeal

@[expose] public section

set_option maxHeartbeats 4000000

noncomputable section

namespace Cert.Proof

open Cert.KernelIdeal Cert.KernelIdeal.Gen
open Idealize.ShloMosaic Idealize.SL.Sem

/-! The parts of the two texts are equal. -/

theorem part0_same (d) : Cert.Kernel.main_part0 (F := Bits) d = Cert.KernelIdeal.main_part0 (F := Bits) d := by unfold Cert.Kernel.main_part0 Cert.KernelIdeal.main_part0; rfl
theorem part1_same (d) : Cert.Kernel.main_part1 (F := Bits) d = Cert.KernelIdeal.main_part1 (F := Bits) d := by unfold Cert.Kernel.main_part1 Cert.KernelIdeal.main_part1; rfl
theorem part2_same (d) : Cert.Kernel.main_part2 (F := Bits) d = Cert.KernelIdeal.main_part2 (F := Bits) d := by unfold Cert.Kernel.main_part2 Cert.KernelIdeal.main_part2; rfl
theorem part3_same (d) : Cert.Kernel.main_part3 (F := Bits) d = Cert.KernelIdeal.main_part3 (F := Bits) d := by unfold Cert.Kernel.main_part3 Cert.KernelIdeal.main_part3; rfl
theorem part4_same (d) : Cert.Kernel.main_part4 (F := Bits) d = Cert.KernelIdeal.main_part4 (F := Bits) d := by unfold Cert.Kernel.main_part4 Cert.KernelIdeal.main_part4; rfl
theorem part5_same (d) : Cert.Kernel.main_part5 (F := Bits) d = Cert.KernelIdeal.main_part5 (F := Bits) d := by unfold Cert.Kernel.main_part5 Cert.KernelIdeal.main_part5; rfl
theorem part6_same (d) : Cert.Kernel.main_part6 (F := Bits) d = Cert.KernelIdeal.main_part6 (F := Bits) d := by unfold Cert.Kernel.main_part6 Cert.KernelIdeal.main_part6; rfl
theorem part7_same (d) : Cert.Kernel.main_part7 (F := Bits) d = Cert.KernelIdeal.main_part7 (F := Bits) d := by unfold Cert.Kernel.main_part7 Cert.KernelIdeal.main_part7; rfl
theorem part8_same (d) : Cert.Kernel.main_part8 (F := Bits) d = Cert.KernelIdeal.main_part8 (F := Bits) d := by unfold Cert.Kernel.main_part8 Cert.KernelIdeal.main_part8; rfl
theorem part9_same (d) : Cert.Kernel.main_part9 (F := Bits) d = Cert.KernelIdeal.main_part9 (F := Bits) d := by unfold Cert.Kernel.main_part9 Cert.KernelIdeal.main_part9; rfl
theorem part10_same (d) : Cert.Kernel.main_part10 (F := Bits) d = Cert.KernelIdeal.main_part10 (F := Bits) d := by unfold Cert.Kernel.main_part10 Cert.KernelIdeal.main_part10; rfl
theorem part11_same (d) : Cert.Kernel.main_part11 (F := Bits) d = Cert.KernelIdeal.main_part11 (F := Bits) d := by unfold Cert.Kernel.main_part11 Cert.KernelIdeal.main_part11; rfl
theorem part12_same (d) : Cert.Kernel.main_part12 (F := Bits) d = Cert.KernelIdeal.main_part12 (F := Bits) d := by unfold Cert.Kernel.main_part12 Cert.KernelIdeal.main_part12; rfl
theorem part13_same (d) : Cert.Kernel.main_part13 (F := Bits) d = Cert.KernelIdeal.main_part13 (F := Bits) d := by unfold Cert.Kernel.main_part13 Cert.KernelIdeal.main_part13; rfl
theorem part14_same (d) : Cert.Kernel.main_part14 (F := Bits) d = Cert.KernelIdeal.main_part14 (F := Bits) d := by unfold Cert.Kernel.main_part14 Cert.KernelIdeal.main_part14; rfl
theorem part15_same (d) : Cert.Kernel.main_part15 (F := Bits) d = Cert.KernelIdeal.main_part15 (F := Bits) d := by unfold Cert.Kernel.main_part15 Cert.KernelIdeal.main_part15; rfl
theorem part16_same (d) : Cert.Kernel.main_part16 (F := Bits) d = Cert.KernelIdeal.main_part16 (F := Bits) d := by unfold Cert.Kernel.main_part16 Cert.KernelIdeal.main_part16; rfl
theorem part17_same (d) : Cert.Kernel.main_part17 (F := Bits) d = Cert.KernelIdeal.main_part17 (F := Bits) d := by unfold Cert.Kernel.main_part17 Cert.KernelIdeal.main_part17; rfl
theorem part18_same (d) : Cert.Kernel.main_part18 (F := Bits) d = Cert.KernelIdeal.main_part18 (F := Bits) d := by unfold Cert.Kernel.main_part18 Cert.KernelIdeal.main_part18; rfl
theorem part19_same (d) : Cert.Kernel.main_part19 (F := Bits) d = Cert.KernelIdeal.main_part19 (F := Bits) d := by unfold Cert.Kernel.main_part19 Cert.KernelIdeal.main_part19; rfl
theorem part20_same (d) : Cert.Kernel.main_part20 (F := Bits) d = Cert.KernelIdeal.main_part20 (F := Bits) d := by unfold Cert.Kernel.main_part20 Cert.KernelIdeal.main_part20; rfl
theorem part21_same (d) : Cert.Kernel.main_part21 (F := Bits) d = Cert.KernelIdeal.main_part21 (F := Bits) d := by unfold Cert.Kernel.main_part21 Cert.KernelIdeal.main_part21; rfl

end Cert.Proof

end
-- ==== Proof.KFrame.lean ====
/-
  The kernel's frame: it is the ideal kernel's text, at the machine's floats.
-/
module

public import proofs.«01_k».proof.Defs
public import proofs.«01_k».proof.Proof.SameText
public import proofs.«01_k».proof.Proof.Gen.Kernel
public import proofs.«01_k».proof.Proof.Gen.KernelIdeal

@[expose] public section

set_option maxHeartbeats 4000000

noncomputable section

namespace Cert.Proof

open Cert.KernelIdeal Cert.KernelIdeal.Gen
open Idealize.ShloMosaic Idealize.SL.Sem

/-- The two texts are equal, -/
theorem main_same : Cert.Kernel.main (F := Bits) = Cert.KernelIdeal.main (F := Bits) := by
  funext d
  unfold Cert.Kernel.main Cert.KernelIdeal.main
  rw [part0_same, part1_same, part2_same, part3_same, part4_same, part5_same, part6_same, part7_same,
    part8_same, part9_same, part10_same, part11_same, part12_same, part13_same, part14_same, part15_same,
    part16_same, part17_same, part18_same, part19_same, part20_same, part21_same]

/-- and what the threads run. -/
theorem threads_same : Cert.Kernel.threads (F := Bits) = Cert.KernelIdeal.threads (F := Bits) := by
  unfold Cert.Kernel.threads Cert.KernelIdeal.threads
  rw [main_same]
  rfl

/-- The ideal kernel's run at the machine's floats is the kernel's. -/
theorem frame_of_run
    (h : ∀ (m : (ℓ : Loc nD τ sig) → Buf (Elt Bits) ℓ) (ρ : Dev nD → PrngReg),
      θ_run (Cert.KernelIdeal.defs (F := Bits)) (Cert.KernelIdeal.threads (F := Bits)) ⟨m, fun _ => 0, ρ⟩ fun r =>
        (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15))
        ∧ r.2.sem = fun _ => 0) : Cert.quiescent_Kernel := by
  intro m ρ _
  rw [threads_same]
  exact h m ρ

end Cert.Proof

end
-- ==== Proof.Trip.lean ====
/-
  One trip of the kernel's inner loops, written once. The printed kernel holds thirteen copies of the
  loop over a point's blocks, one per point; each copy's trip loads two vectors of weights and the
  sixty-four vectors of one block's four rows. Here that trip is a program of its own, over the buffer
  it reads and the offsets of its weights, and every printed copy is equal to it.
-/
module

public import proofs.«01_k».proof.Proof.Gen.KernelIdeal
public import proofs.«01_k».proof.Proof.Gen.KernelIdeal.Skeleton

@[expose] public section

noncomputable section

namespace Cert.Proof.Agg

open Cert.KernelIdeal Cert.KernelIdeal.Gen
open Idealize.ShloMosaic Idealize.SL.Sem

variable {F : FTy → Type} [FloatOps F]

/-- A register of sixteen floats. -/
abbrev V16 (F : FTy → Type) [FloatOps F] : Type := FVec F S16 .f32

/-- The sixteen running sums of one point's loop, as the printed loop carries them. -/
abbrev Acc (F : FTy → Type) [FloatOps F] : Type := V16 F × V16 F × V16 F × V16 F × V16 F × V16 F × V16 F × V16 F × V16 F × V16 F × V16 F × V16 F × V16 F × V16 F × V16 F × V16 F

/-- Sixteen registers given by a function, as the tuple the loop carries. -/
def pack (f : Fin 16 → V16 F) : Acc F := (f 0, f 1, f 2, f 3, f 4, f 5, f 6, f 7, f 8, f 9, f 10, f 11, f 12, f 13, f 14, f 15)

/-- A program of the tile at launch coordinate `L`. -/
abbrev TileProg (F : FTy → Type) [FloatOps F] (L : grid0.Coords) (α : Type) : Type 1 :=
  Prog (TpuEff nD τ sig (Elt F) Λ₀ (.scVector ((L 0).castLE hcore0) ((L 1).castLE hsub0))) α

/-- Where register `v` of row `s` of block `t` starts in the buffer of gathered rows. -/
def rowOff (t : Fin k0_t2_loop.trips) (s : Fin 4) (v : Fin 16) : Fin 3 → Nat :=
  ![k0_off5 t (BitVec.ofNat 32 s.val) 0, v.val / 8, v.val % 8 * 16]

theorem rowOff_eq (t : Fin k0_t2_loop.trips) (s : Fin 4) (v : Fin 16) :
    rowOff t s v = ![4 * t.val + s.val, v.val / 8, v.val % 8 * 16] := by
  unfold rowOff; rw [k0_off5_eq]; rfl

theorem rowOff_inb (t : Fin k0_t2_loop.trips) (s : Fin 4) (v : Fin 16) :
    ∀ a, rowOff t s v a + S1x1x16.size a ≤ S96x2x128.size a := by
  rw [rowOff_eq]
  have ht : t.val < 24 := t.isLt
  have hs := s.isLt
  have hv := v.isLt
  intro a
  match a with
  | 0 => show 4 * t.val + s.val + 1 ≤ 96; omega
  | 1 => show v.val / 8 + 1 ≤ 2; omega
  | 2 => show v.val % 8 * 16 + 16 ≤ 128; omega

/-- The load of register `v` of row `s` of block `t`. -/
def rowP (L : grid0.Coords) (buf : Memref sig .scVector .vmem S96x2x128 .f32) (t : Fin k0_t2_loop.trips) (s : Fin 4)
    (v : Fin 16) : TileProg F L (Vec F S1x1x16 .f32) :=
  Prog.lift (.load buf (Rect.unit (s := S96x2x128) (rowOff t s v) S1x1x16.size (rowOff_inb t s v)).toLoadRect
    (View.loadsAt_vmem h_S1x1x16))

theorem slices_lane (s : Fin 4) (g : Fin 8) : S16.Slices ![s.val % 2 * 8 + g.val] S1 := by
  revert s g; decide

/-- The weight of group `g` in slot `s`, in every lane: its own lane of the register `w`, repeated. -/
def lane (w : V16 F) (s : Fin 4) (g : Fin 8) : V16 F :=
  broadcast S16 (extractAt ![0] (extractStridedSlice S1 ![s.val % 2 * 8 + g.val] w (slices_lane s g)) inpos_S1_p0)

/-- A running sum plus a row's register times a weight. -/
def mac (a : V16 F) (x : Vec F S1x1x16 .f32) (b : V16 F) : V16 F :=
  addf a (mulf (shapeCast S16 x shapeCasts_S1x1x16_S16) b)

/-- The sixteen registers of one row, each times its group's weight, added to the running sums. -/
def blkP (L : grid0.Coords) (buf : Memref sig .scVector .vmem S96x2x128 .f32) (t : Fin k0_t2_loop.trips) (s : Fin 4)
    (w : V16 F) (a : Acc F) : TileProg F L (Acc F) := do
  let x0 ← rowP L buf t s 0
  let x1 ← rowP L buf t s 1
  let x2 ← rowP L buf t s 2
  let x3 ← rowP L buf t s 3
  let x4 ← rowP L buf t s 4
  let x5 ← rowP L buf t s 5
  let x6 ← rowP L buf t s 6
  let x7 ← rowP L buf t s 7
  let x8 ← rowP L buf t s 8
  let x9 ← rowP L buf t s 9
  let x10 ← rowP L buf t s 10
  let x11 ← rowP L buf t s 11
  let x12 ← rowP L buf t s 12
  let x13 ← rowP L buf t s 13
  let x14 ← rowP L buf t s 14
  let x15 ← rowP L buf t s 15
  pure (mac a.1 x0 (lane w s 0),
    mac a.2.1 x1 (lane w s 0),
    mac a.2.2.1 x2 (lane w s 1),
    mac a.2.2.2.1 x3 (lane w s 1),
    mac a.2.2.2.2.1 x4 (lane w s 2),
    mac a.2.2.2.2.2.1 x5 (lane w s 2),
    mac a.2.2.2.2.2.2.1 x6 (lane w s 3),
    mac a.2.2.2.2.2.2.2.1 x7 (lane w s 3),
    mac a.2.2.2.2.2.2.2.2.1 x8 (lane w s 4),
    mac a.2.2.2.2.2.2.2.2.2.1 x9 (lane w s 4),
    mac a.2.2.2.2.2.2.2.2.2.2.1 x10 (lane w s 5),
    mac a.2.2.2.2.2.2.2.2.2.2.2.1 x11 (lane w s 5),
    mac a.2.2.2.2.2.2.2.2.2.2.2.2.1 x12 (lane w s 6),
    mac a.2.2.2.2.2.2.2.2.2.2.2.2.2.1 x13 (lane w s 6),
    mac a.2.2.2.2.2.2.2.2.2.2.2.2.2.2.1 x14 (lane w s 7),
    mac a.2.2.2.2.2.2.2.2.2.2.2.2.2.2.2 x15 (lane w s 7))

/-- One trip: two registers of weights, then the four rows of block `t`. -/
def tripP (L : grid0.Coords) (wb : Memref sig .scVector .vmem S10000 .f32) (buf : Memref sig .scVector .vmem S96x2x128 .f32)
    (o₀ o₁ : Fin 1 → Nat) (h₀ : ∀ a, o₀ a + S16.size a ≤ S10000.size a) (h₁ : ∀ a, o₁ a + S16.size a ≤ S10000.size a)
    (t : Fin k0_t2_loop.trips) (a : Acc F) : TileProg F L (Acc F) := do
  let w₀ : Vec F S16 .f32 ← Prog.lift (.load wb (Rect.unit (s := S10000) o₀ S16.size h₀).toLoadRect (View.loadsAt_vmem h_S16))
  let w₁ : Vec F S16 .f32 ← Prog.lift (.load wb (Rect.unit (s := S10000) o₁ S16.size h₁).toLoadRect (View.loadsAt_vmem h_S16))
  let a ← blkP L buf t 0 (shapeCast S16 w₀ shapeCasts_S16_S16) a
  let a ← blkP L buf t 1 (shapeCast S16 w₀ shapeCasts_S16_S16) a
  let a ← blkP L buf t 2 (shapeCast S16 w₁ shapeCasts_S16_S16) a
  blkP L buf t 3 (shapeCast S16 w₁ shapeCasts_S16_S16) a

/-- The word a trip counts blocks with. -/
def tripWord (t : Fin k0_t2_loop.trips) : BitVec 32 :=
  Scalar.addi 0#32 (Scalar.muli (Scf.iv 0#32 1#32 t) 1#32)

/-- Where the first register of block `t`'s weights starts, for the point whose weights start at `b`. -/
def wOff₀ (b : BitVec 32) (t : Fin k0_t2_loop.trips) : Fin 1 → Nat :=
  ![(Scalar.indexCast (Scalar.addi b (Scalar.muli (tripWord t) 32#32))).toNat]

/-- Where the second register of block `t`'s weights starts, for the point whose weights start at `b`. -/
def wOff₁ (b : BitVec 32) (t : Fin k0_t2_loop.trips) : Fin 1 → Nat :=
  ![(Scalar.indexCast (Scalar.addi (Scalar.addi b (Scalar.muli (tripWord t) 32#32)) 16#32)).toNat]

theorem wOff₀_eq : ∀ (k : Fin 13) (t : Fin k0_t2_loop.trips),
    wOff₀ (BitVec.ofNat 32 (768 * k.val)) t = ![768 * k.val + 32 * t.val] := by decide +kernel

theorem wOff₁_eq : ∀ (k : Fin 13) (t : Fin k0_t2_loop.trips),
    wOff₁ (BitVec.ofNat 32 (768 * k.val)) t = ![768 * k.val + 32 * t.val + 16] := by decide +kernel

theorem wOff₀_inb (k : Fin 13) (t : Fin k0_t2_loop.trips) :
    ∀ a, wOff₀ (BitVec.ofNat 32 (768 * k.val)) t a + S16.size a ≤ S10000.size a := by
  have ht : t.val < 24 := t.isLt
  have hk := k.isLt
  rw [wOff₀_eq]; intro a
  match a with
  | 0 => show 768 * k.val + 32 * t.val + 16 ≤ 10000; omega

theorem wOff₁_inb (k : Fin 13) (t : Fin k0_t2_loop.trips) :
    ∀ a, wOff₁ (BitVec.ofNat 32 (768 * k.val)) t a + S16.size a ≤ S10000.size a := by
  have ht : t.val < 24 := t.isLt
  have hk := k.isLt
  rw [wOff₁_eq]; intro a
  match a with
  | 0 => show 768 * k.val + 32 * t.val + 16 + 16 ≤ 10000; omega

/-- The trip of point `k`: its weights start `768 k` words into the weights' buffer. -/
def tripK (L : grid0.Coords) (wb : Memref sig .scVector .vmem S10000 .f32) (buf : Memref sig .scVector .vmem S96x2x128 .f32)
    (k : Fin 13) (t : Fin k0_t2_loop.trips) (a : Acc F) : TileProg F L (Acc F) :=
  tripP L wb buf (wOff₀ (BitVec.ofNat 32 (768 * k.val)) t) (wOff₁ (BitVec.ofNat 32 (768 * k.val)) t)
    (wOff₀_inb k t) (wOff₁_inb k t) t a

end Cert.Proof.Agg

end
-- ==== Proof.Anchor.lean ====
/-
  The kernel's work on one anchor, written once: the copies of the anchor's row numbers and weights, the
  thirteen gathers — each point's started before the one before it is summed —, the thirteen loops, the
  sixteen stores and the copy out. The printed trip of the outer loop is this program, by unfolding.
-/
module

public import proofs.«01_k».proof.Proof.Trip

@[expose] public section

noncomputable section

namespace Cert.Proof.Agg

open Cert.KernelIdeal Cert.KernelIdeal.Gen
open Idealize.ShloMosaic Idealize.SL.Sem

variable {F : FTy → Type} [FloatOps F]

/-- The table as the gathers address it. -/
abbrev tblSlice (tb : Memref sig .scVector .hbm S348336x2x128 .f32) : Memref sig .scVector .hbm S348336x2x128 .f32 :=
  tb.slice (Rect.unit (s := S348336x2x128) ![0, 0, 0] S348336x2x128.size inb_S348336x2x128_S348336x2x128_0_0_0) (fun _ => rfl)

theorem list_inb (k : Fin 13) : ∀ a, (![96 * k.val] : Fin 1 → Nat) a + S96.size a ≤ S1248.size a := by
  have hk := k.isLt
  intro a
  match a with
  | 0 => show 96 * k.val + 96 ≤ 1248; omega

/-- Point `k`'s ninety-six row numbers. -/
abbrev listSlice (ib : Memref sig .scVector .vmem S1248 .i32) (k : Fin 13) : Memref sig .scVector .vmem S96 .i32 :=
  ib.slice (Rect.unit (s := S1248) ![96 * k.val] S96.size (list_inb k)) (fun _ => rfl)

/-- Start the gather of point `k`'s rows. -/
def fireP (L : grid0.Coords) (tb : Memref sig .scVector .hbm S348336x2x128 .f32) (ib : Memref sig .scVector .vmem S1248 .i32)
    (buf : Memref sig .scVector .vmem S96x2x128 .f32) (sm : DmaSems sig S_) (k : Fin 13) : TileProg F L PUnit :=
  SparseCore.enqueueIndirectGather rfl (tblSlice tb) buf gathers_S348336x2x128_S96x2x128 (listSlice ib k) rfl sm.sem
    (View.wordExact_bits rfl) rfl (Or.inl rfl)

/-- Wait for a gather into `buf`. -/
def waitP (L : grid0.Coords) (tb : Memref sig .scVector .hbm S348336x2x128 .f32)
    (buf : Memref sig .scVector .vmem S96x2x128 .f32) (hbuf : buf.IsWhole) (sm : DmaSems sig S_) : TileProg F L PUnit :=
  SparseCore.waitIndirectGather sm.sem (tblSlice tb) buf (View.wordExact_bits rfl) hbuf.wordExact

theorem loop_ok : k0_t2_loop.OK := by decide

/-- Sum point `k`'s twenty-four blocks. -/
def loopP (L : grid0.Coords) (wb : Memref sig .scVector .vmem S10000 .f32) (buf : Memref sig .scVector .vmem S96x2x128 .f32)
    (k : Fin 13) (a : Acc F) : TileProg F L (Acc F) :=
  Scf.Loop.for k0_t2_loop loop_ok a (fun t a => tripK L wb buf k t a)

/-- Point `k` with point `k + 1`'s gather started first. -/
def stageP (L : grid0.Coords) (tb : Memref sig .scVector .hbm S348336x2x128 .f32) (ib : Memref sig .scVector .vmem S1248 .i32)
    (wb : Memref sig .scVector .vmem S10000 .f32)
    (buf : Memref sig .scVector .vmem S96x2x128 .f32) (hbuf : buf.IsWhole) (sm : DmaSems sig S_)
    (buf' : Memref sig .scVector .vmem S96x2x128 .f32) (sm' : DmaSems sig S_) (k : Fin 12) (a : Acc F) : TileProg F L (Acc F) := do
  fireP L tb ib buf' sm' k.succ
  waitP L tb buf hbuf sm
  loopP L wb buf k.castSucc a

/-- The zero every running sum starts from. -/
def zero16 : V16 F := broadcast S16 (Scalar.ofBits .f32 0x00000000#32)

theorem out_inb (v : Fin 16) : ∀ a, (![16 * v.val] : Fin 1 → Nat) a + S16.size a ≤ S256.size a := by
  have hv := v.isLt
  intro a
  match a with
  | 0 => show 16 * v.val + 16 ≤ 256; omega

/-- Store register `v` of the sums (after the load the store of a register comes with). -/
def storeP (L : grid0.Coords) (ob : Memref sig .scVector .vmem S256 .f32) (v : Fin 16) (x : V16 F) : TileProg F L PUnit := do
  let _ ← Prog.lift (.load ob (Rect.unit (s := S256) ![16 * v.val] S16.size (out_inb v)).toLoadRect (View.loadsAt_vmem h_S16))
  Prog.lift (.store ob (Rect.unit (s := S256) ![16 * v.val] S16.size (out_inb v)) (shapeCast S16 x shapeCasts_S16_S16)
    Finset.univ (View.stores_vmem_bits_univ h_S16 rfl) (.inl rfl))

/-- The anchor's row numbers, weights and result in the arrays. -/
abbrev idxSlice (L : grid0.Coords) (ti : Fin k0_t1_loop.trips) (h : k0_cond1 L ti = 1#1)
    (ia : Memref sig .scVector .hbm S1158144 .i32) : Memref sig .scVector .hbm S1248 .i32 :=
  ia.slice (Rect.unit (s := S1158144) (k0_off1 L ti) S1248.size (k0_off1_inb L ti h)) (fun _ => rfl)
abbrev wSlice (L : grid0.Coords) (ti : Fin k0_t1_loop.trips) (h : k0_cond1 L ti = 1#1)
    (wa : Memref sig .scVector .hbm S9265152 .f32) : Memref sig .scVector .hbm S9984 .f32 :=
  wa.slice (Rect.unit (s := S9265152) (k0_off2 L ti) S9984.size (k0_off2_inb L ti h)) (fun _ => rfl)
abbrev outSlice (L : grid0.Coords) (ti : Fin k0_t1_loop.trips) (h : k0_cond1 L ti = 1#1)
    (oa : Memref sig .scVector .hbm S237568 .f32) : Memref sig .scVector .hbm S256 .f32 :=
  oa.slice (Rect.unit (s := S237568) (k0_off237 L ti) S256.size (k0_off237_inb L ti h)) (fun _ => rfl)
/-- The part of the weights' buffer the copy fills. -/
abbrev wbSlice (wb : Memref sig .scVector .vmem S10000 .f32) : Memref sig .scVector .vmem S9984 .f32 :=
  wb.slice (Rect.unit (s := S10000) ![0] S9984.size inb_S10000_S9984_0) (fun _ => rfl)

/-- What the printed kernel is called with: the four arrays, the tile's buffers and its semaphores. -/
structure TileArgs where
  (ia : Memref sig .scVector .hbm S1158144 .i32) (hia : ia.IsWhole)
  (wa : Memref sig .scVector .hbm S9265152 .f32) (hwa : wa.IsWhole)
  (ta : Memref sig .scVector .hbm S348336x2x128 .f32) (hta : ta.IsWhole)
  (oa : Memref sig .scVector .hbm S237568 .f32) (hoa : oa.IsWhole)
  (ib : Memref sig .scVector .vmem S1248 .i32) (hib : ib.IsWhole)
  (wb : Memref sig .scVector .vmem S10000 .f32) (hwb : wb.IsWhole)
  (b₀ : Memref sig .scVector .vmem S96x2x128 .f32) (hb₀ : b₀.IsWhole)
  (b₁ : Memref sig .scVector .vmem S96x2x128 .f32) (hb₁ : b₁.IsWhole)
  (ob : Memref sig .scVector .vmem S256 .f32) (hob : ob.IsWhole)
  (s₀ : DmaSems sig S_) (s₁ : DmaSems sig S_) (ri : DmaSems sig S_) (rw : DmaSems sig S_) (ro : DmaSems sig S_)

/-- The copies of the anchor's row numbers and weights into the tile's memory. -/
def copiesP (A : TileArgs) (L : grid0.Coords) (ti : Fin k0_t1_loop.trips) (h : k0_cond1 L ti = 1#1) : TileProg F L PUnit := do
  Prog.lift (.enqueueDma (idxSlice L ti h A.ia) (.here A.ib) (.dma A.ri.sem) (View.wordExact_bits rfl) A.hib.wordExact ⟨Or.inl rfl, trivial⟩)
  Prog.lift (.waitDma2 A.ri.sem (idxSlice L ti h A.ia) A.ib (View.wordExact_bits rfl) A.hib.wordExact)
  Prog.lift (.enqueueDma (wSlice L ti h A.wa) (.here (wbSlice A.wb)) (.dma A.rw.sem) (View.wordExact_bits rfl) (View.wordExact_bits rfl) ⟨Or.inl rfl, trivial⟩)
  Prog.lift (.waitDma2 A.rw.sem (wSlice L ti h A.wa) (wbSlice A.wb) (View.wordExact_bits rfl) (View.wordExact_bits rfl))

/-- Point `k`, even: gathered into the first buffer while the second takes the next point's rows. -/
def evenP (A : TileArgs) (L : grid0.Coords) (k : Fin 12) (a : Acc F) : TileProg F L (Acc F) :=
  stageP L A.ta A.ib A.wb A.b₀ A.hb₀ A.s₀ A.b₁ A.s₁ k a

/-- Point `k`, odd: the buffers' turns exchanged. -/
def oddP (A : TileArgs) (L : grid0.Coords) (k : Fin 12) (a : Acc F) : TileProg F L (Acc F) :=
  stageP L A.ta A.ib A.wb A.b₁ A.hb₁ A.s₁ A.b₀ A.s₀ k a

/-- The thirteen points of the anchor, two buffers in turn. -/
def pointsP (A : TileArgs) (L : grid0.Coords) : TileProg F L (Acc F) := do
  fireP L A.ta A.ib A.b₀ A.s₀ 0
  let a ← evenP A L 0 (pack fun _ => zero16)
  let a ← oddP A L 1 a
  let a ← evenP A L 2 a
  let a ← oddP A L 3 a
  let a ← evenP A L 4 a
  let a ← oddP A L 5 a
  let a ← evenP A L 6 a
  let a ← oddP A L 7 a
  let a ← evenP A L 8 a
  let a ← oddP A L 9 a
  let a ← evenP A L 10 a
  let a ← oddP A L 11 a
  waitP L A.ta A.b₀ A.hb₀ A.s₀
  loopP L A.wb A.b₀ 12 a

/-- The sixteen sums stored in turn. -/
def storesP (A : TileArgs) (L : grid0.Coords) (a : Acc F) : TileProg F L PUnit := do
  storeP L A.ob 0 (a.1)
  storeP L A.ob 1 (a.2.1)
  storeP L A.ob 2 (a.2.2.1)
  storeP L A.ob 3 (a.2.2.2.1)
  storeP L A.ob 4 (a.2.2.2.2.1)
  storeP L A.ob 5 (a.2.2.2.2.2.1)
  storeP L A.ob 6 (a.2.2.2.2.2.2.1)
  storeP L A.ob 7 (a.2.2.2.2.2.2.2.1)
  storeP L A.ob 8 (a.2.2.2.2.2.2.2.2.1)
  storeP L A.ob 9 (a.2.2.2.2.2.2.2.2.2.1)
  storeP L A.ob 10 (a.2.2.2.2.2.2.2.2.2.2.1)
  storeP L A.ob 11 (a.2.2.2.2.2.2.2.2.2.2.2.1)
  storeP L A.ob 12 (a.2.2.2.2.2.2.2.2.2.2.2.2.1)
  storeP L A.ob 13 (a.2.2.2.2.2.2.2.2.2.2.2.2.2.1)
  storeP L A.ob 14 (a.2.2.2.2.2.2.2.2.2.2.2.2.2.2.1)
  storeP L A.ob 15 (a.2.2.2.2.2.2.2.2.2.2.2.2.2.2.2)

/-- The result copied out to the anchor's part of the array. -/
def outP (A : TileArgs) (L : grid0.Coords) (ti : Fin k0_t1_loop.trips) (h : k0_cond1 L ti = 1#1) : TileProg F L PUnit := do
  Prog.lift (.enqueueDma A.ob (.here (outSlice L ti h A.oa)) (.dma A.ro.sem) A.hob.wordExact (View.wordExact_bits rfl) ⟨Or.inl rfl, trivial⟩)
  Prog.lift (.waitDma2 A.ro.sem A.ob (outSlice L ti h A.oa) A.hob.wordExact (View.wordExact_bits rfl))

/-- One anchor. -/
def anchorP (A : TileArgs) (L : grid0.Coords) (ti : Fin k0_t1_loop.trips) (h : k0_cond1 L ti = 1#1) : TileProg F L PUnit := do
  copiesP A L ti h
  let a ← pointsP A L
  storesP A L a
  outP A L ti h

set_option maxRecDepth 65536 in
/-- The printed trip of the outer loop is `anchorP` where the anchor exists, and nothing where it does not. -/
theorem outer_eq (A : TileArgs) (L : grid0.Coords) (v1 : BitVec 32) (ti : Fin k0_t1_loop.trips) (u : Unit) :
    k0_t1_body (F := F) L A.ia A.hia A.wa A.hwa A.ta A.hta A.oa A.hoa A.ib A.hib A.wb A.hwb A.b₀ A.hb₀ A.b₁ A.hb₁ A.ob A.hob
        A.s₀ A.s₁ A.ri A.rw A.ro v1 ti u
      = ((if h : k0_cond1 L ti = 1#1 then anchorP A L ti h else pure ⟨⟩) >>= fun _ => pure ⟨⟩) := by
  unfold k0_t1_body
  by_cases h : k0_cond1 L ti = 1#1
  · rw [dif_pos h]; simp only [dif_pos h]
    simp only [anchorP, pointsP, storesP, evenP, oddP, stageP, loopP, k0_part183_eq_skeleton, k0_part183_skel, k0_part184_eq_skeleton, k0_part184_skel, k0_part185_eq_skeleton, k0_part185_skel, k0_part186_eq_skeleton, k0_part186_skel, k0_part187_eq_skeleton, k0_part187_skel, k0_part188_eq_skeleton, k0_part188_skel, bind_assoc, pure_bind]
    rfl
  · rw [dif_neg h]; simp only [dif_neg h]; rfl

end Cert.Proof.Agg

end
-- ==== Proof.Setup.lean ====
/-
  The SparseCore launch as the proof sees it: the program's table of calls, the resource algebra of its
  hand-overs and copies, and the thread a launch coordinate names.
-/
module

public import proofs.«01_k».proof.Proof.Anchor
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Agg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the whole program: the launch adds no pipelined call. -/
abbrev ΛP : Labels := Pipeline.Sig Λ₀ (Fin 0) fun p => (pcfgs (F := F) p).Adm
/-- The program's one SparseCore call. -/
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl

set_option maxRecDepth 100000 in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- Hand-overs between the threads, and the counters of the tiles' own copies. -/
abbrev UH : Type := URounds (GSem nD τ sig) ℕ
abbrev UU : Type := UH × Counters

/-- The model the assertions are read in. -/
abbrev MM (F : FTy → Type) : Type := MT nD τ sig (HIx 1) (Elt F) ℕ UU ℕ

abbrev EH : Emb UH (MM F) := embL

/-- The SparseCore and the tile a launch coordinate names. -/
abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

end Cert.Proof.Agg

end
-- ==== Proof.KOps0.lean ====
/-
  The kernel's host operations, in order, part 1 of 3, as the program prints them.
-/
module

public import proofs.«01_k».proof.Proof.Setup

@[expose] public section

noncomputable section

namespace Cert.Proof.Agg

open Cert.KernelIdeal Cert.KernelIdeal.Gen
open Idealize.ShloMosaic
open Idealize.ShloMosaic.StableHlo

variable {F : FTy → Type} [FloatOps F]

/-- The contents of an array. -/
abbrev Arr (F : FTy → Type) (S : Shape) (e : EltTy) : Type := (⟨S, e⟩ : BufTy).Contents (Elt F)

def k00 : List (HloOp τ sig (Elt F)) := [
  nullary main_cst (fun i => FloatOps.ofBits .f32 (lit0 (S7x3.rowMajor i))),
  unary main_cst main_v0 (broadcastInDim S1x1x7x3 ![2, 3] bcast_S7x3_S1x1x7x3_2_3 : Arr F S7x3 .f32 → Arr F S1x1x7x3 .f32),
  reshape main_v0 main_v1 (rfl : (.f32 : EltTy) = .f32) shapeCasts_S1x1x7x3_S1x1x1x1x1x7x1x3,
  unary main_v1 main_v2 (broadcastInDim S1x1x900x1x1x7x1x3 ![0, 1, 2, 3, 4, 5, 6, 7] bcast_S1x1x1x1x1x7x1x3_S1x1x900x1x1x7x1x3_0_1_2_3_4_5_6_7 : Arr F S1x1x1x1x1x7x1x3 .f32 → Arr F S1x1x900x1x1x7x1x3 .f32),
  reshape main_v2 main_v3 (rfl : (.f32 : EltTy) = .f32) shapeCasts_S1x1x900x1x1x7x1x3_S1x900x7x3,
  binary main_arg1 main_arg10 main_v4 ((fun l r => Host.dotGeneral dot_S1x900x256_S256x18_S1x900x18_2_0_01_1_n_n none l r) : Arr F S1x900x256 .f32 → Arr F S256x18 .f32 → Arr F S1x900x18 .f32),
  unary main_arg11 main_v5 (broadcastInDim S1x1x18 ![2] bcast_S18_S1x1x18_2 : Arr F S18 .f32 → Arr F S1x1x18 .f32),
  unary main_v5 main_v6 (broadcastInDim S1x900x18 ![0, 1, 2] bcast_S1x1x18_S1x900x18_0_1_2 : Arr F S1x1x18 .f32 → Arr F S1x900x18 .f32),
  binary main_v4 main_v6 main_v7 (addf : Arr F S1x900x18 .f32 → Arr F S1x900x18 .f32 → Arr F S1x900x18 .f32),
  reshape main_v7 main_v8 (rfl : (.f32 : EltTy) = .f32) shapeCasts_S1x900x18_S1x900x6x3,
  nullary main_cst_0 (constant S_ .f32 0xC1135C29#32),
  nullary main_cst_1 (constant S_ .f32 0x41135C29#32),
  TRef.unary (.of (T := ⟨S_, .f32⟩) main_cst_0) (.of (T := ⟨S_, .f32⟩) main_call0_v0) id,
  TRef.unary (.of (T := ⟨S_, .f32⟩) main_call0_v0) (.of (T := ⟨S1x900x6x3, .f32⟩) main_call0_v1) (broadcastInDim S1x900x6x3 ![] bcast_S_S1x900x6x3),
  TRef.binary (.of (T := ⟨S1x900x6x3, .f32⟩) main_call0_v1) (.of (T := ⟨S1x900x6x3, .f32⟩) main_v8) (.of (T := ⟨S1x900x6x3, .f32⟩) main_call0_v2) maximumf,
  TRef.unary (.of (T := ⟨S_, .f32⟩) main_cst_1) (.of (T := ⟨S_, .f32⟩) main_call0_v3) id,
  TRef.unary (.of (T := ⟨S_, .f32⟩) main_call0_v3) (.of (T := ⟨S1x900x6x3, .f32⟩) main_call0_v4) (broadcastInDim S1x900x6x3 ![] bcast_S_S1x900x6x3),
  TRef.binary (.of (T := ⟨S1x900x6x3, .f32⟩) main_call0_v4) (.of (T := ⟨S1x900x6x3, .f32⟩) main_call0_v2) (.of (T := ⟨S1x900x6x3, .f32⟩) main_v9) minimumf,
  unary main_v9 main_v10 (Host.negf : Arr F S1x900x6x3 .f32 → Arr F S1x900x6x3 .f32),
  unary main_v10 main_v11 (Host.exp : Arr F S1x900x6x3 .f32 → Arr F S1x900x6x3 .f32),
  nullary main_cst_2 (constant S_ .f32 0x3F800000#32),
  unary main_cst_2 main_v12 (broadcastInDim S1x900x6x3 ![] bcast_S_S1x900x6x3 : Arr F S_ .f32 → Arr F S1x900x6x3 .f32),
  binary main_v12 main_v11 main_v13 (addf : Arr F S1x900x6x3 .f32 → Arr F S1x900x6x3 .f32 → Arr F S1x900x6x3 .f32),
  nullary main_cst_3 (constant S_ .f32 0x3F800000#32),
  unary main_cst_3 main_v14 (broadcastInDim S1x900x6x3 ![] bcast_S_S1x900x6x3 : Arr F S_ .f32 → Arr F S1x900x6x3 .f32),
  binary main_v14 main_v13 main_v15 (Host.divf : Arr F S1x900x6x3 .f32 → Arr F S1x900x6x3 .f32 → Arr F S1x900x6x3 .f32),
  nullary main_cst_4 (constant S_ .f32 0x3F000000#32),
  unary main_cst_4 main_v16 (broadcastInDim S1x900x6x3 ![] bcast_S_S1x900x6x3 : Arr F S_ .f32 → Arr F S1x900x6x3 .f32),
  binary main_v15 main_v16 main_v17 (subf : Arr F S1x900x6x3 .f32 → Arr F S1x900x6x3 .f32 → Arr F S1x900x6x3 .f32),
  binary main_v3 main_v17 main_v18 ((fun a b => concatenate S1x900x13x3 2 [⟨S1x900x7x3, a⟩, ⟨S1x900x6x3, b⟩] concatenates_S1x900x7x3_S1x900x6x3_S1x900x13x3_d2) : Arr F S1x900x7x3 .f32 → Arr F S1x900x6x3 .f32 → Arr F S1x900x13x3 .f32),
  unary main_arg2 main_v19 ((extractStridedSlice S1x900x3 ![0, 0, 3] · slices_S1x900x11_S1x900x3_0_0_3) : Arr F S1x900x11 .f32 → Arr F S1x900x3 .f32),
  unary main_v19 main_v20 (broadcastInDim S1x900x1x3 ![0, 1, 3] bcast_S1x900x3_S1x900x1x3_0_1_3 : Arr F S1x900x3 .f32 → Arr F S1x900x1x3 .f32),
  unary main_v20 main_v21 (broadcastInDim S1x900x13x3 ![0, 1, 2, 3] bcast_S1x900x1x3_S1x900x13x3_0_1_2_3 : Arr F S1x900x1x3 .f32 → Arr F S1x900x13x3 .f32),
  binary main_v18 main_v21 main_v22 (mulf : Arr F S1x900x13x3 .f32 → Arr F S1x900x13x3 .f32 → Arr F S1x900x13x3 .f32),
  unary main_arg2 main_v23 ((extractStridedSlice S1x900x4 ![0, 0, 6] · slices_S1x900x11_S1x900x4_0_0_6) : Arr F S1x900x11 .f32 → Arr F S1x900x4 .f32),
  TRef.binary (.of (T := ⟨S1x900x4, .f32⟩) main_v23) (.of (T := ⟨S1x900x4, .f32⟩) main_v23) (.of (T := ⟨S1x900x4, .f32⟩) main_call1_v0) mulf,
  TRef.nullary (.of (T := ⟨S_, .f32⟩) main_call1_cst) (constant S_ .f32 0x00000000#32),
  TRef.binary (.of (T := ⟨S1x900x4, .f32⟩) main_call1_v0) (.of (T := ⟨S_, .f32⟩) main_call1_cst) (.of (T := ⟨S1x900, .f32⟩) main_call1_v1) (fun x v => Host.reduceAdd x v reducesTo_S1x900x4_S1x900_d2 h_S_),
  TRef.unary (.of (T := ⟨S1x900, .f32⟩) main_call1_v1) (.of (T := ⟨S1x900x1, .f32⟩) main_call1_v2) (broadcastInDim S1x900x1 ![0, 1] bcast_S1x900_S1x900x1_0_1),
  TRef.unary (.of (T := ⟨S1x900x1, .f32⟩) main_call1_v2) (.of (T := ⟨S1x900x1, .f32⟩) main_v24) Host.sqrt,
  nullary main_cst_5 (constant S_ .f32 0x322BCC77#32),
  unary main_cst_5 main_v25 (broadcastInDim S1x900x1 ![] bcast_S_S1x900x1 : Arr F S_ .f32 → Arr F S1x900x1 .f32),
  binary main_v24 main_v25 main_v26 (maximumf : Arr F S1x900x1 .f32 → Arr F S1x900x1 .f32 → Arr F S1x900x1 .f32),
  unary main_v26 main_v27 (broadcastInDim S1x900x4 ![0, 1, 2] bcast_S1x900x1_S1x900x4_0_1_2 : Arr F S1x900x1 .f32 → Arr F S1x900x4 .f32),
  binary main_v23 main_v27 main_v28 (Host.divf : Arr F S1x900x4 .f32 → Arr F S1x900x4 .f32 → Arr F S1x900x4 .f32),
  unary main_v28 main_v29 ((extractStridedSlice S1x900x1 ![0, 0, 0] · slices_S1x900x4_S1x900x1_0_0_0) : Arr F S1x900x4 .f32 → Arr F S1x900x1 .f32),
  reshape main_v29 main_v30 (rfl : (.f32 : EltTy) = .f32) shapeCasts_S1x900x1_S1x900,
  unary main_v28 main_v31 ((extractStridedSlice S1x900x1 ![0, 0, 1] · slices_S1x900x4_S1x900x1_0_0_1) : Arr F S1x900x4 .f32 → Arr F S1x900x1 .f32),
  reshape main_v31 main_v32 (rfl : (.f32 : EltTy) = .f32) shapeCasts_S1x900x1_S1x900,
  unary main_v28 main_v33 ((extractStridedSlice S1x900x1 ![0, 0, 2] · slices_S1x900x4_S1x900x1_0_0_2) : Arr F S1x900x4 .f32 → Arr F S1x900x1 .f32),
  reshape main_v33 main_v34 (rfl : (.f32 : EltTy) = .f32) shapeCasts_S1x900x1_S1x900,
  unary main_v28 main_v35 ((extractStridedSlice S1x900x1 ![0, 0, 3] · slices_S1x900x4_S1x900x1_0_0_3) : Arr F S1x900x4 .f32 → Arr F S1x900x1 .f32),
  reshape main_v35 main_v36 (rfl : (.f32 : EltTy) = .f32) shapeCasts_S1x900x1_S1x900,
  binary main_v34 main_v34 main_v37 (mulf : Arr F S1x900 .f32 → Arr F S1x900 .f32 → Arr F S1x900 .f32),
  binary main_v36 main_v36 main_v38 (mulf : Arr F S1x900 .f32 → Arr F S1x900 .f32 → Arr F S1x900 .f32),
  binary main_v37 main_v38 main_v39 (addf : Arr F S1x900 .f32 → Arr F S1x900 .f32 → Arr F S1x900 .f32),
  nullary main_cst_6 (constant S_ .f32 0x40000000#32),
  unary main_cst_6 main_v40 (broadcastInDim S1x900 ![] bcast_S_S1x900 : Arr F S_ .f32 → Arr F S1x900 .f32),
  binary main_v40 main_v39 main_v41 (mulf : Arr F S1x900 .f32 → Arr F S1x900 .f32 → Arr F S1x900 .f32),
  nullary main_cst_7 (constant S_ .f32 0x3F800000#32),
  unary main_cst_7 main_v42 (broadcastInDim S1x900 ![] bcast_S_S1x900 : Arr F S_ .f32 → Arr F S1x900 .f32),
  binary main_v42 main_v41 main_v43 (subf : Arr F S1x900 .f32 → Arr F S1x900 .f32 → Arr F S1x900 .f32),
  binary main_v32 main_v34 main_v44 (mulf : Arr F S1x900 .f32 → Arr F S1x900 .f32 → Arr F S1x900 .f32),
  binary main_v30 main_v36 main_v45 (mulf : Arr F S1x900 .f32 → Arr F S1x900 .f32 → Arr F S1x900 .f32),
  binary main_v44 main_v45 main_v46 (subf : Arr F S1x900 .f32 → Arr F S1x900 .f32 → Arr F S1x900 .f32),
  nullary main_cst_8 (constant S_ .f32 0x40000000#32),
  unary main_cst_8 main_v47 (broadcastInDim S1x900 ![] bcast_S_S1x900 : Arr F S_ .f32 → Arr F S1x900 .f32),
  binary main_v47 main_v46 main_v48 (mulf : Arr F S1x900 .f32 → Arr F S1x900 .f32 → Arr F S1x900 .f32),
  binary main_v32 main_v36 main_v49 (mulf : Arr F S1x900 .f32 → Arr F S1x900 .f32 → Arr F S1x900 .f32)]

def k01 : List (HloOp τ sig (Elt F)) := [
  binary main_v30 main_v34 main_v50 (mulf : Arr F S1x900 .f32 → Arr F S1x900 .f32 → Arr F S1x900 .f32),
  binary main_v49 main_v50 main_v51 (addf : Arr F S1x900 .f32 → Arr F S1x900 .f32 → Arr F S1x900 .f32),
  nullary main_cst_9 (constant S_ .f32 0x40000000#32),
  unary main_cst_9 main_v52 (broadcastInDim S1x900 ![] bcast_S_S1x900 : Arr F S_ .f32 → Arr F S1x900 .f32),
  binary main_v52 main_v51 main_v53 (mulf : Arr F S1x900 .f32 → Arr F S1x900 .f32 → Arr F S1x900 .f32),
  binary main_v32 main_v34 main_v54 (mulf : Arr F S1x900 .f32 → Arr F S1x900 .f32 → Arr F S1x900 .f32),
  binary main_v30 main_v36 main_v55 (mulf : Arr F S1x900 .f32 → Arr F S1x900 .f32 → Arr F S1x900 .f32),
  binary main_v54 main_v55 main_v56 (addf : Arr F S1x900 .f32 → Arr F S1x900 .f32 → Arr F S1x900 .f32),
  nullary main_cst_10 (constant S_ .f32 0x40000000#32),
  unary main_cst_10 main_v57 (broadcastInDim S1x900 ![] bcast_S_S1x900 : Arr F S_ .f32 → Arr F S1x900 .f32),
  binary main_v57 main_v56 main_v58 (mulf : Arr F S1x900 .f32 → Arr F S1x900 .f32 → Arr F S1x900 .f32),
  binary main_v32 main_v32 main_v59 (mulf : Arr F S1x900 .f32 → Arr F S1x900 .f32 → Arr F S1x900 .f32),
  binary main_v36 main_v36 main_v60 (mulf : Arr F S1x900 .f32 → Arr F S1x900 .f32 → Arr F S1x900 .f32),
  binary main_v59 main_v60 main_v61 (addf : Arr F S1x900 .f32 → Arr F S1x900 .f32 → Arr F S1x900 .f32),
  nullary main_cst_11 (constant S_ .f32 0x40000000#32),
  unary main_cst_11 main_v62 (broadcastInDim S1x900 ![] bcast_S_S1x900 : Arr F S_ .f32 → Arr F S1x900 .f32),
  binary main_v62 main_v61 main_v63 (mulf : Arr F S1x900 .f32 → Arr F S1x900 .f32 → Arr F S1x900 .f32),
  nullary main_cst_12 (constant S_ .f32 0x3F800000#32),
  unary main_cst_12 main_v64 (broadcastInDim S1x900 ![] bcast_S_S1x900 : Arr F S_ .f32 → Arr F S1x900 .f32),
  binary main_v64 main_v63 main_v65 (subf : Arr F S1x900 .f32 → Arr F S1x900 .f32 → Arr F S1x900 .f32),
  binary main_v34 main_v36 main_v66 (mulf : Arr F S1x900 .f32 → Arr F S1x900 .f32 → Arr F S1x900 .f32),
  binary main_v30 main_v32 main_v67 (mulf : Arr F S1x900 .f32 → Arr F S1x900 .f32 → Arr F S1x900 .f32),
  binary main_v66 main_v67 main_v68 (subf : Arr F S1x900 .f32 → Arr F S1x900 .f32 → Arr F S1x900 .f32),
  nullary main_cst_13 (constant S_ .f32 0x40000000#32),
  unary main_cst_13 main_v69 (broadcastInDim S1x900 ![] bcast_S_S1x900 : Arr F S_ .f32 → Arr F S1x900 .f32),
  binary main_v69 main_v68 main_v70 (mulf : Arr F S1x900 .f32 → Arr F S1x900 .f32 → Arr F S1x900 .f32),
  binary main_v32 main_v36 main_v71 (mulf : Arr F S1x900 .f32 → Arr F S1x900 .f32 → Arr F S1x900 .f32),
  binary main_v30 main_v34 main_v72 (mulf : Arr F S1x900 .f32 → Arr F S1x900 .f32 → Arr F S1x900 .f32),
  binary main_v71 main_v72 main_v73 (subf : Arr F S1x900 .f32 → Arr F S1x900 .f32 → Arr F S1x900 .f32),
  nullary main_cst_14 (constant S_ .f32 0x40000000#32),
  unary main_cst_14 main_v74 (broadcastInDim S1x900 ![] bcast_S_S1x900 : Arr F S_ .f32 → Arr F S1x900 .f32),
  binary main_v74 main_v73 main_v75 (mulf : Arr F S1x900 .f32 → Arr F S1x900 .f32 → Arr F S1x900 .f32),
  binary main_v34 main_v36 main_v76 (mulf : Arr F S1x900 .f32 → Arr F S1x900 .f32 → Arr F S1x900 .f32),
  binary main_v30 main_v32 main_v77 (mulf : Arr F S1x900 .f32 → Arr F S1x900 .f32 → Arr F S1x900 .f32),
  binary main_v76 main_v77 main_v78 (addf : Arr F S1x900 .f32 → Arr F S1x900 .f32 → Arr F S1x900 .f32),
  nullary main_cst_15 (constant S_ .f32 0x40000000#32),
  unary main_cst_15 main_v79 (broadcastInDim S1x900 ![] bcast_S_S1x900 : Arr F S_ .f32 → Arr F S1x900 .f32),
  binary main_v79 main_v78 main_v80 (mulf : Arr F S1x900 .f32 → Arr F S1x900 .f32 → Arr F S1x900 .f32),
  binary main_v32 main_v32 main_v81 (mulf : Arr F S1x900 .f32 → Arr F S1x900 .f32 → Arr F S1x900 .f32),
  binary main_v34 main_v34 main_v82 (mulf : Arr F S1x900 .f32 → Arr F S1x900 .f32 → Arr F S1x900 .f32),
  binary main_v81 main_v82 main_v83 (addf : Arr F S1x900 .f32 → Arr F S1x900 .f32 → Arr F S1x900 .f32),
  nullary main_cst_16 (constant S_ .f32 0x40000000#32),
  unary main_cst_16 main_v84 (broadcastInDim S1x900 ![] bcast_S_S1x900 : Arr F S_ .f32 → Arr F S1x900 .f32),
  binary main_v84 main_v83 main_v85 (mulf : Arr F S1x900 .f32 → Arr F S1x900 .f32 → Arr F S1x900 .f32),
  nullary main_cst_17 (constant S_ .f32 0x3F800000#32),
  unary main_cst_17 main_v86 (broadcastInDim S1x900 ![] bcast_S_S1x900 : Arr F S_ .f32 → Arr F S1x900 .f32),
  binary main_v86 main_v85 main_v87 (subf : Arr F S1x900 .f32 → Arr F S1x900 .f32 → Arr F S1x900 .f32),
  unary main_v43 main_v88 (broadcastInDim S1x900x1 ![0, 1] bcast_S1x900_S1x900x1_0_1 : Arr F S1x900 .f32 → Arr F S1x900x1 .f32),
  unary main_v48 main_v89 (broadcastInDim S1x900x1 ![0, 1] bcast_S1x900_S1x900x1_0_1 : Arr F S1x900 .f32 → Arr F S1x900x1 .f32),
  unary main_v53 main_v90 (broadcastInDim S1x900x1 ![0, 1] bcast_S1x900_S1x900x1_0_1 : Arr F S1x900 .f32 → Arr F S1x900x1 .f32),
  unary main_v58 main_v91 (broadcastInDim S1x900x1 ![0, 1] bcast_S1x900_S1x900x1_0_1 : Arr F S1x900 .f32 → Arr F S1x900x1 .f32),
  unary main_v65 main_v92 (broadcastInDim S1x900x1 ![0, 1] bcast_S1x900_S1x900x1_0_1 : Arr F S1x900 .f32 → Arr F S1x900x1 .f32),
  unary main_v70 main_v93 (broadcastInDim S1x900x1 ![0, 1] bcast_S1x900_S1x900x1_0_1 : Arr F S1x900 .f32 → Arr F S1x900x1 .f32),
  unary main_v75 main_v94 (broadcastInDim S1x900x1 ![0, 1] bcast_S1x900_S1x900x1_0_1 : Arr F S1x900 .f32 → Arr F S1x900x1 .f32),
  unary main_v80 main_v95 (broadcastInDim S1x900x1 ![0, 1] bcast_S1x900_S1x900x1_0_1 : Arr F S1x900 .f32 → Arr F S1x900x1 .f32),
  unary main_v87 main_v96 (broadcastInDim S1x900x1 ![0, 1] bcast_S1x900_S1x900x1_0_1 : Arr F S1x900 .f32 → Arr F S1x900x1 .f32),
  nary ![main_v88, main_v89, main_v90, main_v91, main_v92, main_v93, main_v94, main_v95, main_v96] main_v97 (fun u => (concatenate S1x900x9 2 [⟨S1x900x1, (u 0 : Arr F S1x900x1 .f32)⟩, ⟨S1x900x1, (u 1 : Arr F S1x900x1 .f32)⟩, ⟨S1x900x1, (u 2 : Arr F S1x900x1 .f32)⟩, ⟨S1x900x1, (u 3 : Arr F S1x900x1 .f32)⟩, ⟨S1x900x1, (u 4 : Arr F S1x900x1 .f32)⟩, ⟨S1x900x1, (u 5 : Arr F S1x900x1 .f32)⟩, ⟨S1x900x1, (u 6 : Arr F S1x900x1 .f32)⟩, ⟨S1x900x1, (u 7 : Arr F S1x900x1 .f32)⟩, ⟨S1x900x1, (u 8 : Arr F S1x900x1 .f32)⟩] concatenates_S1x900x1_S1x900x1_S1x900x1_S1x900x1_S1x900x1_S1x900x1_S1x900x1_S1x900x1_S1x900x1_S1x900x9_d2 : Arr F S1x900x9 .f32)),
  reshape main_v97 main_v98 (rfl : (.f32 : EltTy) = .f32) shapeCasts_S1x900x9_S1x900x3x3,
  unary main_v98 main_v99 ((transpose S1x900x3x3 [0, 1, 3, 2] · transposes_S1x900x3x3_S1x900x3x3_0_1_3_2) : Arr F S1x900x3x3 .f32 → Arr F S1x900x3x3 .f32),
  unary main_v99 main_v100 (broadcastInDim S1x900x1x3x3 ![0, 1, 3, 4] bcast_S1x900x3x3_S1x900x1x3x3_0_1_3_4 : Arr F S1x900x3x3 .f32 → Arr F S1x900x1x3x3 .f32)]

def k02 : List (HloOp τ sig (Elt F)) := [
  unary main_v22 main_v101 (broadcastInDim S1x900x13x3x1 ![0, 1, 2, 3] bcast_S1x900x13x3_S1x900x13x3x1_0_1_2_3 : Arr F S1x900x13x3 .f32 → Arr F S1x900x13x3x1 .f32),
  reshape main_v100 main_v102 (rfl : (.f32 : EltTy) = .f32) shapeCasts_S1x900x1x3x3_S900x3x3,
  reshape main_v101 main_v103 (rfl : (.f32 : EltTy) = .f32) shapeCasts_S1x900x13x3x1_S900x13x3x1,
  binary main_v102 main_v103 main_v104 ((fun l r => Host.dotGeneral dot_S900x3x3_S900x13x3x1_S900x3x13x1_2_2_1_13_0_0 none l r) : Arr F S900x3x3 .f32 → Arr F S900x13x3x1 .f32 → Arr F S900x3x13x1 .f32),
  unary main_v104 main_v105 ((transpose S900x13x3x1 [0, 2, 1, 3] · transposes_S900x3x13x1_S900x13x3x1_0_2_1_3) : Arr F S900x3x13x1 .f32 → Arr F S900x13x3x1 .f32),
  unary main_v105 main_v106 (broadcastInDim S1x900x13x3x1 ![1, 2, 3, 4] bcast_S900x13x3x1_S1x900x13x3x1_1_2_3_4 : Arr F S900x13x3x1 .f32 → Arr F S1x900x13x3x1 .f32),
  reshape main_v106 main_v107 (rfl : (.f32 : EltTy) = .f32) shapeCasts_S1x900x13x3x1_S1x900x13x3,
  unary main_arg2 main_v108 ((extractStridedSlice S1x900x3 ![0, 0, 0] · slices_S1x900x11_S1x900x3_0_0_0) : Arr F S1x900x11 .f32 → Arr F S1x900x3 .f32),
  unary main_v108 main_v109 (broadcastInDim S1x900x1x3 ![0, 1, 3] bcast_S1x900x3_S1x900x1x3_0_1_3 : Arr F S1x900x3 .f32 → Arr F S1x900x1x3 .f32),
  unary main_v109 main_v110 (broadcastInDim S1x900x13x3 ![0, 1, 2, 3] bcast_S1x900x1x3_S1x900x13x3_0_1_2_3 : Arr F S1x900x1x3 .f32 → Arr F S1x900x13x3 .f32),
  binary main_v107 main_v110 main_v111 (addf : Arr F S1x900x13x3 .f32 → Arr F S1x900x13x3 .f32 → Arr F S1x900x13x3 .f32),
  binary main_arg1 main_arg3 main_v112 (addf : Arr F S1x900x256 .f32 → Arr F S1x900x256 .f32 → Arr F S1x900x256 .f32),
  binary main_v112 main_arg12 main_v113 ((fun l r => Host.dotGeneral dot_S1x900x256_S256x2496_S1x900x2496_2_0_01_1_n_n none l r) : Arr F S1x900x256 .f32 → Arr F S256x2496 .f32 → Arr F S1x900x2496 .f32),
  unary main_arg13 main_v114 (broadcastInDim S1x1x2496 ![2] bcast_S2496_S1x1x2496_2 : Arr F S2496 .f32 → Arr F S1x1x2496 .f32),
  unary main_v114 main_v115 (broadcastInDim S1x900x2496 ![0, 1, 2] bcast_S1x1x2496_S1x900x2496_0_1_2 : Arr F S1x1x2496 .f32 → Arr F S1x900x2496 .f32),
  binary main_v113 main_v115 main_v116 (addf : Arr F S1x900x2496 .f32 → Arr F S1x900x2496 .f32 → Arr F S1x900x2496 .f32),
  reshape main_v116 main_v117 (rfl : (.f32 : EltTy) = .f32) shapeCasts_S1x900x2496_S1x900x312x8,
  nullary main_cst_18 (constant S_ .f32 0xFF800000#32),
  binary main_v117 main_cst_18 main_v118 ((fun x v => Host.reduce FloatOps.maximumf x v reducesTo_S1x900x312x8_S1x900x8_d2 h_S_) : Arr F S1x900x312x8 .f32 → Arr F S_ .f32 → Arr F S1x900x8 .f32),
  nullary main_cst_19 (constant S_ .f32 0xFF800000#32),
  unary main_cst_19 main_v119 (broadcastInDim S1x900x8 ![] bcast_S_S1x900x8 : Arr F S_ .f32 → Arr F S1x900x8 .f32),
  binary main_v119 main_v118 main_v120 (maximumf : Arr F S1x900x8 .f32 → Arr F S1x900x8 .f32 → Arr F S1x900x8 .f32),
  unary main_v120 main_v121 (broadcastInDim S1x900x1x8 ![0, 1, 3] bcast_S1x900x8_S1x900x1x8_0_1_3 : Arr F S1x900x8 .f32 → Arr F S1x900x1x8 .f32),
  unary main_v121 main_v122 (broadcastInDim S1x900x312x8 ![0, 1, 2, 3] bcast_S1x900x1x8_S1x900x312x8_0_1_2_3 : Arr F S1x900x1x8 .f32 → Arr F S1x900x312x8 .f32),
  binary main_v117 main_v122 main_v123 (subf : Arr F S1x900x312x8 .f32 → Arr F S1x900x312x8 .f32 → Arr F S1x900x312x8 .f32),
  unary main_v123 main_v124 (Host.exp : Arr F S1x900x312x8 .f32 → Arr F S1x900x312x8 .f32),
  nullary main_cst_20 (constant S_ .f32 0x00000000#32),
  binary main_v124 main_cst_20 main_v125 ((fun x v => Host.reduceAdd x v reducesTo_S1x900x312x8_S1x900x8_d2 h_S_) : Arr F S1x900x312x8 .f32 → Arr F S_ .f32 → Arr F S1x900x8 .f32),
  unary main_v125 main_v126 (broadcastInDim S1x900x1x8 ![0, 1, 3] bcast_S1x900x8_S1x900x1x8_0_1_3 : Arr F S1x900x8 .f32 → Arr F S1x900x1x8 .f32),
  unary main_v126 main_v127 (broadcastInDim S1x900x312x8 ![0, 1, 2, 3] bcast_S1x900x1x8_S1x900x312x8_0_1_2_3 : Arr F S1x900x1x8 .f32 → Arr F S1x900x312x8 .f32),
  binary main_v124 main_v127 main_v128 (Host.divf : Arr F S1x900x312x8 .f32 → Arr F S1x900x312x8 .f32 → Arr F S1x900x312x8 .f32),
  reshape main_v128 main_v129 (rfl : (.f32 : EltTy) = .f32) shapeCasts_S1x900x312x8_S1x900x6x4x13x8,
  unary main_v129 main_v130 ((transpose S1x900x13x6x4x8 [0, 1, 4, 2, 3, 5] · transposes_S1x900x6x4x13x8_S1x900x13x6x4x8_0_1_4_2_3_5) : Arr F S1x900x6x4x13x8 .f32 → Arr F S1x900x13x6x4x8 .f32),
  reshape main_v130 main_v131 (rfl : (.f32 : EltTy) = .f32) shapeCasts_S1x900x13x6x4x8_S1x11700x6x4x8,
  unary main_v111 main_v132 ((extractStridedSlice S1x900x13x1 ![0, 0, 0, 0] · slices_S1x900x13x3_S1x900x13x1_0_0_0_0) : Arr F S1x900x13x3 .f32 → Arr F S1x900x13x1 .f32),
  nullary main_cst_21 (constant S_ .f32 0x3F800000#32),
  unary main_cst_21 main_v133 (broadcastInDim S1x900x13x1 ![] bcast_S_S1x900x13x1 : Arr F S_ .f32 → Arr F S1x900x13x1 .f32),
  binary main_v111 main_v133 main_v134 ((fun a b => concatenate S1x900x13x4 3 [⟨S1x900x13x3, a⟩, ⟨S1x900x13x1, b⟩] concatenates_S1x900x13x3_S1x900x13x1_S1x900x13x4_d3) : Arr F S1x900x13x3 .f32 → Arr F S1x900x13x1 .f32 → Arr F S1x900x13x4 .f32),
  unary main_arg8 main_v135 (broadcastInDim S1x6x1x1x4x4 ![0, 1, 4, 5] bcast_S1x6x4x4_S1x6x1x1x4x4_0_1_4_5 : Arr F S1x6x4x4 .f32 → Arr F S1x6x1x1x4x4 .f32),
  unary main_v134 main_v136 (broadcastInDim S1x1x900x13x4x1 ![0, 2, 3, 4] bcast_S1x900x13x4_S1x1x900x13x4x1_0_2_3_4 : Arr F S1x900x13x4 .f32 → Arr F S1x1x900x13x4x1 .f32),
  reshape main_v135 main_v137 (rfl : (.f32 : EltTy) = .f32) shapeCasts_S1x6x1x1x4x4_S6x4x4,
  reshape main_v136 main_v138 (rfl : (.f32 : EltTy) = .f32) shapeCasts_S1x1x900x13x4x1_S900x13x4x1,
  binary main_v137 main_v138 main_v139 ((fun l r => Host.dotGeneral dot_S6x4x4_S900x13x4x1_S6x4x900x13x1_2_2_01_013_n_n none l r) : Arr F S6x4x4 .f32 → Arr F S900x13x4x1 .f32 → Arr F S6x4x900x13x1 .f32),
  unary main_v139 main_v140 ((transpose S6x900x13x4x1 [0, 2, 3, 1, 4] · transposes_S6x4x900x13x1_S6x900x13x4x1_0_2_3_1_4) : Arr F S6x4x900x13x1 .f32 → Arr F S6x900x13x4x1 .f32),
  unary main_v140 main_v141 (broadcastInDim S1x6x900x13x4x1 ![1, 2, 3, 4, 5] bcast_S6x900x13x4x1_S1x6x900x13x4x1_1_2_3_4_5 : Arr F S6x900x13x4x1 .f32 → Arr F S1x6x900x13x4x1 .f32),
  reshape main_v141 main_v142 (rfl : (.f32 : EltTy) = .f32) shapeCasts_S1x6x900x13x4x1_S1x6x900x13x4,
  unary main_v142 main_v143 ((extractStridedSlice S1x6x900x13x2 ![0, 0, 0, 0, 0] · slices_S1x6x900x13x4_S1x6x900x13x2_0_0_0_0_0) : Arr F S1x6x900x13x4 .f32 → Arr F S1x6x900x13x2 .f32),
  unary main_v142 main_v144 ((extractStridedSlice S1x6x900x13x1 ![0, 0, 0, 0, 2] · slices_S1x6x900x13x4_S1x6x900x13x1_0_0_0_0_2) : Arr F S1x6x900x13x4 .f32 → Arr F S1x6x900x13x1 .f32),
  nullary main_cst_22 (constant S_ .f32 0x3727C5AC#32),
  unary main_cst_22 main_v145 (broadcastInDim S1x6x900x13x1 ![] bcast_S_S1x6x900x13x1 : Arr F S_ .f32 → Arr F S1x6x900x13x1 .f32),
  binary main_v144 main_v145 main_v146 (maximumf : Arr F S1x6x900x13x1 .f32 → Arr F S1x6x900x13x1 .f32 → Arr F S1x6x900x13x1 .f32),
  unary main_v146 main_v147 (broadcastInDim S1x6x900x13x2 ![0, 1, 2, 3, 4] bcast_S1x6x900x13x1_S1x6x900x13x2_0_1_2_3_4 : Arr F S1x6x900x13x1 .f32 → Arr F S1x6x900x13x2 .f32),
  binary main_v143 main_v147 main_v148 (Host.divf : Arr F S1x6x900x13x2 .f32 → Arr F S1x6x900x13x2 .f32 → Arr F S1x6x900x13x2 .f32),
  unary main_arg9 main_v149 (broadcastInDim S1x6x1x1x2 ![0, 1, 4] bcast_S1x6x2_S1x6x1x1x2_0_1_4 : Arr F S1x6x2 .f32 → Arr F S1x6x1x1x2 .f32),
  unary main_v149 main_v150 (broadcastInDim S1x6x900x13x2 ![0, 1, 2, 3, 4] bcast_S1x6x1x1x2_S1x6x900x13x2_0_1_2_3_4 : Arr F S1x6x1x1x2 .f32 → Arr F S1x6x900x13x2 .f32),
  binary main_v148 main_v150 main_v151 (Host.divf : Arr F S1x6x900x13x2 .f32 → Arr F S1x6x900x13x2 .f32 → Arr F S1x6x900x13x2 .f32),
  nullary main_cst_23 (constant S_ .f32 0x00000000#32),
  nullary main_cst_24 (constant S_ .f32 0x3F7FF972#32),
  TRef.unary (.of (T := ⟨S_, .f32⟩) main_cst_23) (.of (T := ⟨S_, .f32⟩) main_call2_v0) id,
  TRef.unary (.of (T := ⟨S_, .f32⟩) main_call2_v0) (.of (T := ⟨S1x6x900x13x2, .f32⟩) main_call2_v1) (broadcastInDim S1x6x900x13x2 ![] bcast_S_S1x6x900x13x2),
  TRef.binary (.of (T := ⟨S1x6x900x13x2, .f32⟩) main_call2_v1) (.of (T := ⟨S1x6x900x13x2, .f32⟩) main_v151) (.of (T := ⟨S1x6x900x13x2, .f32⟩) main_call2_v2) maximumf,
  TRef.unary (.of (T := ⟨S_, .f32⟩) main_cst_24) (.of (T := ⟨S_, .f32⟩) main_call2_v3) id,
  TRef.unary (.of (T := ⟨S_, .f32⟩) main_call2_v3) (.of (T := ⟨S1x6x900x13x2, .f32⟩) main_call2_v4) (broadcastInDim S1x6x900x13x2 ![] bcast_S_S1x6x900x13x2),
  TRef.binary (.of (T := ⟨S1x6x900x13x2, .f32⟩) main_call2_v4) (.of (T := ⟨S1x6x900x13x2, .f32⟩) main_call2_v2) (.of (T := ⟨S1x6x900x13x2, .f32⟩) main_v152) minimumf,
  unary main_v152 main_v153 ((transpose S1x900x13x6x2 [0, 2, 3, 1, 4] · transposes_S1x6x900x13x2_S1x900x13x6x2_0_2_3_1_4) : Arr F S1x6x900x13x2 .f32 → Arr F S1x900x13x6x2 .f32)]

def k03 : List (HloOp τ sig (Elt F)) := [
  reshape main_v153 main_v154 (rfl : (.f32 : EltTy) = .f32) shapeCasts_S1x900x13x6x2_S1x11700x6x2,
  reshape main_v154 main_v155 (rfl : (.f32 : EltTy) = .f32) shapeCasts_S1x11700x6x2_S11700x6x2,
  reshape main_v131 main_v156 (rfl : (.f32 : EltTy) = .f32) shapeCasts_S1x11700x6x4x8_S11700x6x4x8,
  nullary main_v157 (iotaInDim S6 32 0),
  unary main_v157 main_v158 (broadcastInDim S1x6 ![1] bcast_S6_S1x6_1 : Arr F S6 .i32 → Arr F S1x6 .i32)]

def k04 : List (HloOp τ sig (Elt F)) := [
  unary main_v155 main_v159 ((extractStridedSlice S11700x6x1 ![0, 0, 0] · slices_S11700x6x2_S11700x6x1_0_0_0) : Arr F S11700x6x2 .f32 → Arr F S11700x6x1 .f32),
  reshape main_v159 main_v160 (rfl : (.f32 : EltTy) = .f32) shapeCasts_S11700x6x1_S11700x6,
  nullary main_cst_25 (constant S_ .f32 0x43300000#32),
  unary main_cst_25 main_v161 (broadcastInDim S11700x6 ![] bcast_S_S11700x6 : Arr F S_ .f32 → Arr F S11700x6 .f32),
  binary main_v160 main_v161 main_v162 (mulf : Arr F S11700x6 .f32 → Arr F S11700x6 .f32 → Arr F S11700x6 .f32),
  nullary main_cst_26 (constant S_ .f32 0x3F000000#32),
  unary main_cst_26 main_v163 (broadcastInDim S11700x6 ![] bcast_S_S11700x6 : Arr F S_ .f32 → Arr F S11700x6 .f32),
  binary main_v162 main_v163 main_v164 (subf : Arr F S11700x6 .f32 → Arr F S11700x6 .f32 → Arr F S11700x6 .f32),
  unary main_v155 main_v165 ((extractStridedSlice S11700x6x1 ![0, 0, 1] · slices_S11700x6x2_S11700x6x1_0_0_1) : Arr F S11700x6x2 .f32 → Arr F S11700x6x1 .f32),
  reshape main_v165 main_v166 (rfl : (.f32 : EltTy) = .f32) shapeCasts_S11700x6x1_S11700x6,
  nullary main_cst_27 (constant S_ .f32 0x42800000#32),
  unary main_cst_27 main_v167 (broadcastInDim S11700x6 ![] bcast_S_S11700x6 : Arr F S_ .f32 → Arr F S11700x6 .f32),
  binary main_v166 main_v167 main_v168 (mulf : Arr F S11700x6 .f32 → Arr F S11700x6 .f32 → Arr F S11700x6 .f32),
  nullary main_cst_28 (constant S_ .f32 0x3F000000#32),
  unary main_cst_28 main_v169 (broadcastInDim S11700x6 ![] bcast_S_S11700x6 : Arr F S_ .f32 → Arr F S11700x6 .f32),
  binary main_v168 main_v169 main_v170 (subf : Arr F S11700x6 .f32 → Arr F S11700x6 .f32 → Arr F S11700x6 .f32),
  unary main_v164 main_v171 (Host.floor : Arr F S11700x6 .f32 → Arr F S11700x6 .f32),
  unary main_v170 main_v172 (Host.floor : Arr F S11700x6 .f32 → Arr F S11700x6 .f32),
  binary main_v164 main_v171 main_v173 (subf : Arr F S11700x6 .f32 → Arr F S11700x6 .f32 → Arr F S11700x6 .f32),
  binary main_v170 main_v172 main_v174 (subf : Arr F S11700x6 .f32 → Arr F S11700x6 .f32 → Arr F S11700x6 .f32),
  unary main_v171 main_v175 (fptosi 32 : Arr F S11700x6 .f32 → Arr F S11700x6 .i32),
  unary main_v172 main_v176 (fptosi 32 : Arr F S11700x6 .f32 → Arr F S11700x6 .i32),
  nullary main_c (constantI S_ 32 0#32),
  nullary main_c_29 (constantI S_ 32 174#32),
  TRef.unary (.of (T := ⟨S_, .i32⟩) main_c) (.of (T := ⟨S_, .i32⟩) main_call3_v0) id,
  TRef.unary (.of (T := ⟨S_, .i32⟩) main_call3_v0) (.of (T := ⟨S11700x6, .i32⟩) main_call3_v1) (broadcastInDim S11700x6 ![] bcast_S_S11700x6),
  TRef.binary (.of (T := ⟨S11700x6, .i32⟩) main_call3_v1) (.of (T := ⟨S11700x6, .i32⟩) main_v175) (.of (T := ⟨S11700x6, .i32⟩) main_call3_v2) maxsi,
  TRef.unary (.of (T := ⟨S_, .i32⟩) main_c_29) (.of (T := ⟨S_, .i32⟩) main_call3_v3) id,
  TRef.unary (.of (T := ⟨S_, .i32⟩) main_call3_v3) (.of (T := ⟨S11700x6, .i32⟩) main_call3_v4) (broadcastInDim S11700x6 ![] bcast_S_S11700x6),
  TRef.binary (.of (T := ⟨S11700x6, .i32⟩) main_call3_v4) (.of (T := ⟨S11700x6, .i32⟩) main_call3_v2) (.of (T := ⟨S11700x6, .i32⟩) main_v177) minsi,
  nullary main_c_30 (constantI S_ 32 0#32),
  nullary main_c_31 (constantI S_ 32 62#32),
  TRef.unary (.of (T := ⟨S_, .i32⟩) main_c_30) (.of (T := ⟨S_, .i32⟩) main_call4_v0) id,
  TRef.unary (.of (T := ⟨S_, .i32⟩) main_call4_v0) (.of (T := ⟨S11700x6, .i32⟩) main_call4_v1) (broadcastInDim S11700x6 ![] bcast_S_S11700x6),
  TRef.binary (.of (T := ⟨S11700x6, .i32⟩) main_call4_v1) (.of (T := ⟨S11700x6, .i32⟩) main_v176) (.of (T := ⟨S11700x6, .i32⟩) main_call4_v2) maxsi,
  TRef.unary (.of (T := ⟨S_, .i32⟩) main_c_31) (.of (T := ⟨S_, .i32⟩) main_call4_v3) id,
  TRef.unary (.of (T := ⟨S_, .i32⟩) main_call4_v3) (.of (T := ⟨S11700x6, .i32⟩) main_call4_v4) (broadcastInDim S11700x6 ![] bcast_S_S11700x6),
  TRef.binary (.of (T := ⟨S11700x6, .i32⟩) main_call4_v4) (.of (T := ⟨S11700x6, .i32⟩) main_call4_v2) (.of (T := ⟨S11700x6, .i32⟩) main_v178) minsi,
  nullary main_c_32 (constantI S_ 32 1#32),
  unary main_c_32 main_v179 (broadcastInDim S11700x6 ![] bcast_S_S11700x6 : Arr F S_ .i32 → Arr F S11700x6 .i32),
  binary main_v178 main_v179 main_v180 (andi : Arr F S11700x6 .i32 → Arr F S11700x6 .i32 → Arr F S11700x6 .i32),
  nullary main_c_33 (constantI S_ 32 1#32),
  unary main_c_33 main_v181 (broadcastInDim S11700x6 ![] bcast_S_S11700x6 : Arr F S_ .i32 → Arr F S11700x6 .i32),
  binary main_v177 main_v181 main_v182 (andi : Arr F S11700x6 .i32 → Arr F S11700x6 .i32 → Arr F S11700x6 .i32),
  nullary main_c_34 (constantI S_ 32 0#32),
  unary main_c_34 main_v183 (broadcastInDim S11700x6 ![] bcast_S_S11700x6 : Arr F S_ .i32 → Arr F S11700x6 .i32),
  binary main_v180 main_v183 main_v184 (cmpi .eq : Arr F S11700x6 .i32 → Arr F S11700x6 .i32 → Arr F S11700x6 .i1),
  nullary main_c_35 (constantI S_ 32 0#32),
  unary main_c_35 main_v185 (broadcastInDim S11700x6 ![] bcast_S_S11700x6 : Arr F S_ .i32 → Arr F S11700x6 .i32),
  binary main_v182 main_v185 main_v186 (cmpi .eq : Arr F S11700x6 .i32 → Arr F S11700x6 .i32 → Arr F S11700x6 .i1),
  nullary main_c_36 (constantI S_ 32 0#32),
  nullary main_c_37 (constantI S_ 32 16896#32),
  TRef.unary (.of (T := ⟨S_, .i32⟩) main_c_36) (.of (T := ⟨S11700x6, .i32⟩) main_call5_v0) (broadcastInDim S11700x6 ![] bcast_S_S11700x6),
  TRef.unary (.of (T := ⟨S_, .i32⟩) main_c_37) (.of (T := ⟨S11700x6, .i32⟩) main_call5_v1) (broadcastInDim S11700x6 ![] bcast_S_S11700x6),
  TRef.ternary (.of (T := ⟨S11700x6, .i1⟩) main_v186) (.of (T := ⟨S11700x6, .i32⟩) main_call5_v0) (.of (T := ⟨S11700x6, .i32⟩) main_call5_v1) (.of (T := ⟨S11700x6, .i32⟩) main_v187) select,
  nullary main_c_38 (constantI S_ 32 0#32),
  unary main_c_38 main_v188 (broadcastInDim S11700x6 ![] bcast_S_S11700x6 : Arr F S_ .i32 → Arr F S11700x6 .i32),
  binary main_v182 main_v188 main_v189 (cmpi .eq : Arr F S11700x6 .i32 → Arr F S11700x6 .i32 → Arr F S11700x6 .i1),
  nullary main_c_39 (constantI S_ 32 33600#32),
  nullary main_c_40 (constantI S_ 32 49968#32),
  TRef.unary (.of (T := ⟨S_, .i32⟩) main_c_39) (.of (T := ⟨S11700x6, .i32⟩) main_call6_v0) (broadcastInDim S11700x6 ![] bcast_S_S11700x6),
  TRef.unary (.of (T := ⟨S_, .i32⟩) main_c_40) (.of (T := ⟨S11700x6, .i32⟩) main_call6_v1) (broadcastInDim S11700x6 ![] bcast_S_S11700x6),
  TRef.ternary (.of (T := ⟨S11700x6, .i1⟩) main_v189) (.of (T := ⟨S11700x6, .i32⟩) main_call6_v0) (.of (T := ⟨S11700x6, .i32⟩) main_call6_v1) (.of (T := ⟨S11700x6, .i32⟩) main_v190) select,
  TRef.ternary (.of (T := ⟨S11700x6, .i1⟩) main_v184) (.of (T := ⟨S11700x6, .i32⟩) main_v187) (.of (T := ⟨S11700x6, .i32⟩) main_v190) (.of (T := ⟨S11700x6, .i32⟩) main_v191) select,
  nullary main_c_41 (constantI S_ 32 0#32),
  unary main_c_41 main_v192 (broadcastInDim S11700x6 ![] bcast_S_S11700x6 : Arr F S_ .i32 → Arr F S11700x6 .i32),
  binary main_v180 main_v192 main_v193 (cmpi .eq : Arr F S11700x6 .i32 → Arr F S11700x6 .i32 → Arr F S11700x6 .i1),
  nullary main_c_42 (constantI S_ 32 32#32),
  nullary main_c_43 (constantI S_ 32 31#32)]

def k05 : List (HloOp τ sig (Elt F)) := [
  TRef.unary (.of (T := ⟨S_, .i32⟩) main_c_42) (.of (T := ⟨S11700x6, .i32⟩) main_call8_v0) (broadcastInDim S11700x6 ![] bcast_S_S11700x6),
  TRef.unary (.of (T := ⟨S_, .i32⟩) main_c_43) (.of (T := ⟨S11700x6, .i32⟩) main_call8_v1) (broadcastInDim S11700x6 ![] bcast_S_S11700x6),
  TRef.ternary (.of (T := ⟨S11700x6, .i1⟩) main_v193) (.of (T := ⟨S11700x6, .i32⟩) main_call8_v0) (.of (T := ⟨S11700x6, .i32⟩) main_call8_v1) (.of (T := ⟨S11700x6, .i32⟩) main_v194) select,
  nullary main_c_44 (constantI S_ 32 0#32),
  unary main_c_44 main_v195 (broadcastInDim S11700x6 ![] bcast_S_S11700x6 : Arr F S_ .i32 → Arr F S11700x6 .i32),
  binary main_v182 main_v195 main_v196 (cmpi .eq : Arr F S11700x6 .i32 → Arr F S11700x6 .i32 → Arr F S11700x6 .i1),
  nullary main_c_45 (constantI S_ 32 88#32),
  nullary main_c_46 (constantI S_ 32 87#32),
  TRef.unary (.of (T := ⟨S_, .i32⟩) main_c_45) (.of (T := ⟨S11700x6, .i32⟩) main_call9_v0) (broadcastInDim S11700x6 ![] bcast_S_S11700x6),
  TRef.unary (.of (T := ⟨S_, .i32⟩) main_c_46) (.of (T := ⟨S11700x6, .i32⟩) main_call9_v1) (broadcastInDim S11700x6 ![] bcast_S_S11700x6),
  TRef.ternary (.of (T := ⟨S11700x6, .i1⟩) main_v196) (.of (T := ⟨S11700x6, .i32⟩) main_call9_v0) (.of (T := ⟨S11700x6, .i32⟩) main_call9_v1) (.of (T := ⟨S11700x6, .i32⟩) main_v197) select,
  binary main_v178 main_v180 main_v198 (subi : Arr F S11700x6 .i32 → Arr F S11700x6 .i32 → Arr F S11700x6 .i32),
  nullary main_c_47 (constantI S_ 32 1#32),
  unary main_c_47 main_v199 (broadcastInDim S11700x6 ![] bcast_S_S11700x6 : Arr F S_ .i32 → Arr F S11700x6 .i32),
  binary main_v198 main_v199 main_v200 (Host.shrsi : Arr F S11700x6 .i32 → Arr F S11700x6 .i32 → Arr F S11700x6 .i32),
  unary main_v197 main_v201 (id : Arr F S11700x6 .i32 → Arr F S11700x6 .i32),
  binary main_v200 main_v201 main_v202 (muli : Arr F S11700x6 .i32 → Arr F S11700x6 .i32 → Arr F S11700x6 .i32),
  binary main_v177 main_v182 main_v203 (subi : Arr F S11700x6 .i32 → Arr F S11700x6 .i32 → Arr F S11700x6 .i32),
  nullary main_c_48 (constantI S_ 32 1#32),
  unary main_c_48 main_v204 (broadcastInDim S11700x6 ![] bcast_S_S11700x6 : Arr F S_ .i32 → Arr F S11700x6 .i32),
  binary main_v203 main_v204 main_v205 (Host.shrsi : Arr F S11700x6 .i32 → Arr F S11700x6 .i32 → Arr F S11700x6 .i32),
  binary main_v202 main_v205 main_v206 (addi : Arr F S11700x6 .i32 → Arr F S11700x6 .i32 → Arr F S11700x6 .i32),
  binary main_v194 main_v197 main_v207 (muli : Arr F S11700x6 .i32 → Arr F S11700x6 .i32 → Arr F S11700x6 .i32),
  unary main_v207 main_v208 (id : Arr F S11700x6 .i32 → Arr F S11700x6 .i32),
  unary main_v158 main_v209 (broadcastInDim S11700x6 ![0, 1] bcast_S1x6_S11700x6_0_1 : Arr F S1x6 .i32 → Arr F S11700x6 .i32),
  binary main_v209 main_v208 main_v210 (muli : Arr F S11700x6 .i32 → Arr F S11700x6 .i32 → Arr F S11700x6 .i32),
  unary main_v191 main_v211 (id : Arr F S11700x6 .i32 → Arr F S11700x6 .i32),
  binary main_v211 main_v210 main_v212 (addi : Arr F S11700x6 .i32 → Arr F S11700x6 .i32 → Arr F S11700x6 .i32),
  binary main_v212 main_v206 main_v213 (addi : Arr F S11700x6 .i32 → Arr F S11700x6 .i32 → Arr F S11700x6 .i32)]

def k06 : List (HloOp τ sig (Elt F)) := [
  nullary main_cst_49 (constant S_ .f32 0x00000000#32),
  unary main_cst_49 main_v214 (broadcastInDim S11700x6x4 ![] bcast_S_S11700x6x4 : Arr F S_ .f32 → Arr F S11700x6x4 .f32),
  nullary main_cst_50 (constant S_ .f32 0x3F800000#32),
  unary main_cst_50 main_v215 (broadcastInDim S11700x6 ![] bcast_S_S11700x6 : Arr F S_ .f32 → Arr F S11700x6 .f32),
  binary main_v215 main_v174 main_v216 (subf : Arr F S11700x6 .f32 → Arr F S11700x6 .f32 → Arr F S11700x6 .f32),
  nullary main_cst_51 (constant S_ .f32 0x3F800000#32),
  unary main_cst_51 main_v217 (broadcastInDim S11700x6 ![] bcast_S_S11700x6 : Arr F S_ .f32 → Arr F S11700x6 .f32),
  binary main_v217 main_v173 main_v218 (subf : Arr F S11700x6 .f32 → Arr F S11700x6 .f32 → Arr F S11700x6 .f32),
  binary main_v216 main_v218 main_v219 (mulf : Arr F S11700x6 .f32 → Arr F S11700x6 .f32 → Arr F S11700x6 .f32),
  nullary main_cst_52 (constant S_ .f32 0x3F800000#32),
  unary main_cst_52 main_v220 (broadcastInDim S11700x6 ![] bcast_S_S11700x6 : Arr F S_ .f32 → Arr F S11700x6 .f32),
  binary main_v220 main_v174 main_v221 (subf : Arr F S11700x6 .f32 → Arr F S11700x6 .f32 → Arr F S11700x6 .f32),
  binary main_v221 main_v173 main_v222 (mulf : Arr F S11700x6 .f32 → Arr F S11700x6 .f32 → Arr F S11700x6 .f32),
  nullary main_cst_53 (constant S_ .f32 0x3F800000#32),
  unary main_cst_53 main_v223 (broadcastInDim S11700x6 ![] bcast_S_S11700x6 : Arr F S_ .f32 → Arr F S11700x6 .f32),
  binary main_v223 main_v173 main_v224 (subf : Arr F S11700x6 .f32 → Arr F S11700x6 .f32 → Arr F S11700x6 .f32),
  binary main_v174 main_v224 main_v225 (mulf : Arr F S11700x6 .f32 → Arr F S11700x6 .f32 → Arr F S11700x6 .f32),
  binary main_v174 main_v173 main_v226 (mulf : Arr F S11700x6 .f32 → Arr F S11700x6 .f32 → Arr F S11700x6 .f32),
  nullary main_c_54 (constantI S_ 32 0#32),
  unary main_c_54 main_v227 (broadcastInDim S11700x6 ![] bcast_S_S11700x6 : Arr F S_ .i32 → Arr F S11700x6 .i32),
  binary main_v176 main_v227 main_v228 (addi : Arr F S11700x6 .i32 → Arr F S11700x6 .i32 → Arr F S11700x6 .i32),
  nullary main_c_55 (constantI S_ 32 0#32),
  unary main_c_55 main_v229 (broadcastInDim S11700x6 ![] bcast_S_S11700x6 : Arr F S_ .i32 → Arr F S11700x6 .i32),
  binary main_v175 main_v229 main_v230 (addi : Arr F S11700x6 .i32 → Arr F S11700x6 .i32 → Arr F S11700x6 .i32),
  nullary main_c_56 (constantI S_ 32 0#32),
  unary main_c_56 main_v231 (broadcastInDim S11700x6 ![] bcast_S_S11700x6 : Arr F S_ .i32 → Arr F S11700x6 .i32),
  binary main_v230 main_v231 main_v232 (cmpi .sge : Arr F S11700x6 .i32 → Arr F S11700x6 .i32 → Arr F S11700x6 .i1),
  nullary main_c_57 (constantI S_ 32 176#32),
  unary main_c_57 main_v233 (broadcastInDim S11700x6 ![] bcast_S_S11700x6 : Arr F S_ .i32 → Arr F S11700x6 .i32),
  binary main_v230 main_v233 main_v234 (cmpi .slt : Arr F S11700x6 .i32 → Arr F S11700x6 .i32 → Arr F S11700x6 .i1),
  binary main_v232 main_v234 main_v235 (andi : Arr F S11700x6 .i1 → Arr F S11700x6 .i1 → Arr F S11700x6 .i1),
  nullary main_c_58 (constantI S_ 32 0#32),
  unary main_c_58 main_v236 (broadcastInDim S11700x6 ![] bcast_S_S11700x6 : Arr F S_ .i32 → Arr F S11700x6 .i32),
  binary main_v228 main_v236 main_v237 (cmpi .sge : Arr F S11700x6 .i32 → Arr F S11700x6 .i32 → Arr F S11700x6 .i1),
  binary main_v235 main_v237 main_v238 (andi : Arr F S11700x6 .i1 → Arr F S11700x6 .i1 → Arr F S11700x6 .i1)]

def k07 : List (HloOp τ sig (Elt F)) := [
  nullary main_c_59 (constantI S_ 32 64#32),
  unary main_c_59 main_v239 (broadcastInDim S11700x6 ![] bcast_S_S11700x6 : Arr F S_ .i32 → Arr F S11700x6 .i32),
  binary main_v228 main_v239 main_v240 (cmpi .slt : Arr F S11700x6 .i32 → Arr F S11700x6 .i32 → Arr F S11700x6 .i1),
  binary main_v238 main_v240 main_v241 (andi : Arr F S11700x6 .i1 → Arr F S11700x6 .i1 → Arr F S11700x6 .i1),
  unary main_v241 main_v242 (uitofp .f32 : Arr F S11700x6 .i1 → Arr F S11700x6 .f32),
  binary main_v228 main_v178 main_v243 (subi : Arr F S11700x6 .i32 → Arr F S11700x6 .i32 → Arr F S11700x6 .i32),
  nullary main_c_60 (constantI S_ 32 2#32),
  unary main_c_60 main_v244 (broadcastInDim S11700x6 ![] bcast_S_S11700x6 : Arr F S_ .i32 → Arr F S11700x6 .i32),
  binary main_v243 main_v244 main_v245 (muli : Arr F S11700x6 .i32 → Arr F S11700x6 .i32 → Arr F S11700x6 .i32),
  binary main_v230 main_v177 main_v246 (subi : Arr F S11700x6 .i32 → Arr F S11700x6 .i32 → Arr F S11700x6 .i32),
  binary main_v245 main_v246 main_v247 (addi : Arr F S11700x6 .i32 → Arr F S11700x6 .i32 → Arr F S11700x6 .i32),
  nullary main_c_61 (constantI S_ 32 0#32),
  nullary main_c_62 (constantI S_ 32 3#32),
  TRef.unary (.of (T := ⟨S_, .i32⟩) main_c_61) (.of (T := ⟨S_, .i32⟩) main_call10_v0) id,
  TRef.unary (.of (T := ⟨S_, .i32⟩) main_call10_v0) (.of (T := ⟨S11700x6, .i32⟩) main_call10_v1) (broadcastInDim S11700x6 ![] bcast_S_S11700x6),
  TRef.binary (.of (T := ⟨S11700x6, .i32⟩) main_call10_v1) (.of (T := ⟨S11700x6, .i32⟩) main_v247) (.of (T := ⟨S11700x6, .i32⟩) main_call10_v2) maxsi,
  TRef.unary (.of (T := ⟨S_, .i32⟩) main_c_62) (.of (T := ⟨S_, .i32⟩) main_call10_v3) id,
  TRef.unary (.of (T := ⟨S_, .i32⟩) main_call10_v3) (.of (T := ⟨S11700x6, .i32⟩) main_call10_v4) (broadcastInDim S11700x6 ![] bcast_S_S11700x6),
  TRef.binary (.of (T := ⟨S11700x6, .i32⟩) main_call10_v4) (.of (T := ⟨S11700x6, .i32⟩) main_call10_v2) (.of (T := ⟨S11700x6, .i32⟩) main_v248) minsi,
  TRef.unary (.of (T := ⟨S11700x6, .i32⟩) main_v248) (.of (T := ⟨S11700x6x1, .i32⟩) main_call11_v0) (broadcastInDim S11700x6x1 ![0, 1] bcast_S11700x6_S11700x6x1_0_1),
  TRef.nullary (.of (T := ⟨S1x1x4, .i32⟩) main_call11_v1) (iotaInDim S1x1x4 32 2),
  TRef.unary (.of (T := ⟨S11700x6x1, .i32⟩) main_call11_v0) (.of (T := ⟨S11700x6x4, .i32⟩) main_call11_v2) (broadcastInDim S11700x6x4 ![0, 1, 2] bcast_S11700x6x1_S11700x6x4_0_1_2),
  TRef.unary (.of (T := ⟨S1x1x4, .i32⟩) main_call11_v1) (.of (T := ⟨S11700x6x4, .i32⟩) main_call11_v3) (broadcastInDim S11700x6x4 ![0, 1, 2] bcast_S1x1x4_S11700x6x4_0_1_2),
  TRef.binary (.of (T := ⟨S11700x6x4, .i32⟩) main_call11_v2) (.of (T := ⟨S11700x6x4, .i32⟩) main_call11_v3) (.of (T := ⟨S11700x6x4, .i1⟩) main_call11_v4) (cmpi .eq),
  TRef.unary (.of (T := ⟨S11700x6x4, .i1⟩) main_call11_v4) (.of (T := ⟨S11700x6x4, .f32⟩) main_v249) (uitofp .f32),
  binary main_v219 main_v242 main_v250 (mulf : Arr F S11700x6 .f32 → Arr F S11700x6 .f32 → Arr F S11700x6 .f32),
  unary main_v250 main_v251 (broadcastInDim S11700x6x1 ![0, 1] bcast_S11700x6_S11700x6x1_0_1 : Arr F S11700x6 .f32 → Arr F S11700x6x1 .f32),
  unary main_v251 main_v252 (broadcastInDim S11700x6x4 ![0, 1, 2] bcast_S11700x6x1_S11700x6x4_0_1_2 : Arr F S11700x6x1 .f32 → Arr F S11700x6x4 .f32),
  binary main_v249 main_v252 main_v253 (mulf : Arr F S11700x6x4 .f32 → Arr F S11700x6x4 .f32 → Arr F S11700x6x4 .f32),
  binary main_v214 main_v253 main_v254 (addf : Arr F S11700x6x4 .f32 → Arr F S11700x6x4 .f32 → Arr F S11700x6x4 .f32),
  nullary main_c_63 (constantI S_ 32 0#32),
  unary main_c_63 main_v255 (broadcastInDim S11700x6 ![] bcast_S_S11700x6 : Arr F S_ .i32 → Arr F S11700x6 .i32),
  binary main_v176 main_v255 main_v256 (addi : Arr F S11700x6 .i32 → Arr F S11700x6 .i32 → Arr F S11700x6 .i32),
  nullary main_c_64 (constantI S_ 32 1#32),
  unary main_c_64 main_v257 (broadcastInDim S11700x6 ![] bcast_S_S11700x6 : Arr F S_ .i32 → Arr F S11700x6 .i32),
  binary main_v175 main_v257 main_v258 (addi : Arr F S11700x6 .i32 → Arr F S11700x6 .i32 → Arr F S11700x6 .i32),
  nullary main_c_65 (constantI S_ 32 0#32),
  unary main_c_65 main_v259 (broadcastInDim S11700x6 ![] bcast_S_S11700x6 : Arr F S_ .i32 → Arr F S11700x6 .i32),
  binary main_v258 main_v259 main_v260 (cmpi .sge : Arr F S11700x6 .i32 → Arr F S11700x6 .i32 → Arr F S11700x6 .i1),
  nullary main_c_66 (constantI S_ 32 176#32),
  unary main_c_66 main_v261 (broadcastInDim S11700x6 ![] bcast_S_S11700x6 : Arr F S_ .i32 → Arr F S11700x6 .i32),
  binary main_v258 main_v261 main_v262 (cmpi .slt : Arr F S11700x6 .i32 → Arr F S11700x6 .i32 → Arr F S11700x6 .i1),
  binary main_v260 main_v262 main_v263 (andi : Arr F S11700x6 .i1 → Arr F S11700x6 .i1 → Arr F S11700x6 .i1),
  nullary main_c_67 (constantI S_ 32 0#32),
  unary main_c_67 main_v264 (broadcastInDim S11700x6 ![] bcast_S_S11700x6 : Arr F S_ .i32 → Arr F S11700x6 .i32),
  binary main_v256 main_v264 main_v265 (cmpi .sge : Arr F S11700x6 .i32 → Arr F S11700x6 .i32 → Arr F S11700x6 .i1),
  binary main_v263 main_v265 main_v266 (andi : Arr F S11700x6 .i1 → Arr F S11700x6 .i1 → Arr F S11700x6 .i1),
  nullary main_c_68 (constantI S_ 32 64#32),
  unary main_c_68 main_v267 (broadcastInDim S11700x6 ![] bcast_S_S11700x6 : Arr F S_ .i32 → Arr F S11700x6 .i32),
  binary main_v256 main_v267 main_v268 (cmpi .slt : Arr F S11700x6 .i32 → Arr F S11700x6 .i32 → Arr F S11700x6 .i1),
  binary main_v266 main_v268 main_v269 (andi : Arr F S11700x6 .i1 → Arr F S11700x6 .i1 → Arr F S11700x6 .i1),
  unary main_v269 main_v270 (uitofp .f32 : Arr F S11700x6 .i1 → Arr F S11700x6 .f32),
  binary main_v256 main_v178 main_v271 (subi : Arr F S11700x6 .i32 → Arr F S11700x6 .i32 → Arr F S11700x6 .i32),
  nullary main_c_69 (constantI S_ 32 2#32),
  unary main_c_69 main_v272 (broadcastInDim S11700x6 ![] bcast_S_S11700x6 : Arr F S_ .i32 → Arr F S11700x6 .i32),
  binary main_v271 main_v272 main_v273 (muli : Arr F S11700x6 .i32 → Arr F S11700x6 .i32 → Arr F S11700x6 .i32),
  binary main_v258 main_v177 main_v274 (subi : Arr F S11700x6 .i32 → Arr F S11700x6 .i32 → Arr F S11700x6 .i32),
  binary main_v273 main_v274 main_v275 (addi : Arr F S11700x6 .i32 → Arr F S11700x6 .i32 → Arr F S11700x6 .i32),
  nullary main_c_70 (constantI S_ 32 0#32),
  nullary main_c_71 (constantI S_ 32 3#32),
  TRef.unary (.of (T := ⟨S_, .i32⟩) main_c_70) (.of (T := ⟨S_, .i32⟩) main_call12_v0) id,
  TRef.unary (.of (T := ⟨S_, .i32⟩) main_call12_v0) (.of (T := ⟨S11700x6, .i32⟩) main_call12_v1) (broadcastInDim S11700x6 ![] bcast_S_S11700x6),
  TRef.binary (.of (T := ⟨S11700x6, .i32⟩) main_call12_v1) (.of (T := ⟨S11700x6, .i32⟩) main_v275) (.of (T := ⟨S11700x6, .i32⟩) main_call12_v2) maxsi,
  TRef.unary (.of (T := ⟨S_, .i32⟩) main_c_71) (.of (T := ⟨S_, .i32⟩) main_call12_v3) id,
  TRef.unary (.of (T := ⟨S_, .i32⟩) main_call12_v3) (.of (T := ⟨S11700x6, .i32⟩) main_call12_v4) (broadcastInDim S11700x6 ![] bcast_S_S11700x6),
  TRef.binary (.of (T := ⟨S11700x6, .i32⟩) main_call12_v4) (.of (T := ⟨S11700x6, .i32⟩) main_call12_v2) (.of (T := ⟨S11700x6, .i32⟩) main_v276) minsi,
  TRef.unary (.of (T := ⟨S11700x6, .i32⟩) main_v276) (.of (T := ⟨S11700x6x1, .i32⟩) main_call13_v0) (broadcastInDim S11700x6x1 ![0, 1] bcast_S11700x6_S11700x6x1_0_1),
  TRef.nullary (.of (T := ⟨S1x1x4, .i32⟩) main_call13_v1) (iotaInDim S1x1x4 32 2),
  TRef.unary (.of (T := ⟨S11700x6x1, .i32⟩) main_call13_v0) (.of (T := ⟨S11700x6x4, .i32⟩) main_call13_v2) (broadcastInDim S11700x6x4 ![0, 1, 2] bcast_S11700x6x1_S11700x6x4_0_1_2),
  TRef.unary (.of (T := ⟨S1x1x4, .i32⟩) main_call13_v1) (.of (T := ⟨S11700x6x4, .i32⟩) main_call13_v3) (broadcastInDim S11700x6x4 ![0, 1, 2] bcast_S1x1x4_S11700x6x4_0_1_2),
  TRef.binary (.of (T := ⟨S11700x6x4, .i32⟩) main_call13_v2) (.of (T := ⟨S11700x6x4, .i32⟩) main_call13_v3) (.of (T := ⟨S11700x6x4, .i1⟩) main_call13_v4) (cmpi .eq),
  TRef.unary (.of (T := ⟨S11700x6x4, .i1⟩) main_call13_v4) (.of (T := ⟨S11700x6x4, .f32⟩) main_v277) (uitofp .f32),
  binary main_v222 main_v270 main_v278 (mulf : Arr F S11700x6 .f32 → Arr F S11700x6 .f32 → Arr F S11700x6 .f32),
  unary main_v278 main_v279 (broadcastInDim S11700x6x1 ![0, 1] bcast_S11700x6_S11700x6x1_0_1 : Arr F S11700x6 .f32 → Arr F S11700x6x1 .f32),
  unary main_v279 main_v280 (broadcastInDim S11700x6x4 ![0, 1, 2] bcast_S11700x6x1_S11700x6x4_0_1_2 : Arr F S11700x6x1 .f32 → Arr F S11700x6x4 .f32),
  binary main_v277 main_v280 main_v281 (mulf : Arr F S11700x6x4 .f32 → Arr F S11700x6x4 .f32 → Arr F S11700x6x4 .f32),
  binary main_v254 main_v281 main_v282 (addf : Arr F S11700x6x4 .f32 → Arr F S11700x6x4 .f32 → Arr F S11700x6x4 .f32),
  nullary main_c_72 (constantI S_ 32 1#32),
  unary main_c_72 main_v283 (broadcastInDim S11700x6 ![] bcast_S_S11700x6 : Arr F S_ .i32 → Arr F S11700x6 .i32),
  binary main_v176 main_v283 main_v284 (addi : Arr F S11700x6 .i32 → Arr F S11700x6 .i32 → Arr F S11700x6 .i32)]

def k08 : List (HloOp τ sig (Elt F)) := [
  nullary main_c_73 (constantI S_ 32 0#32),
  unary main_c_73 main_v285 (broadcastInDim S11700x6 ![] bcast_S_S11700x6 : Arr F S_ .i32 → Arr F S11700x6 .i32),
  binary main_v175 main_v285 main_v286 (addi : Arr F S11700x6 .i32 → Arr F S11700x6 .i32 → Arr F S11700x6 .i32),
  nullary main_c_74 (constantI S_ 32 0#32),
  unary main_c_74 main_v287 (broadcastInDim S11700x6 ![] bcast_S_S11700x6 : Arr F S_ .i32 → Arr F S11700x6 .i32),
  binary main_v286 main_v287 main_v288 (cmpi .sge : Arr F S11700x6 .i32 → Arr F S11700x6 .i32 → Arr F S11700x6 .i1),
  nullary main_c_75 (constantI S_ 32 176#32),
  unary main_c_75 main_v289 (broadcastInDim S11700x6 ![] bcast_S_S11700x6 : Arr F S_ .i32 → Arr F S11700x6 .i32),
  binary main_v286 main_v289 main_v290 (cmpi .slt : Arr F S11700x6 .i32 → Arr F S11700x6 .i32 → Arr F S11700x6 .i1),
  binary main_v288 main_v290 main_v291 (andi : Arr F S11700x6 .i1 → Arr F S11700x6 .i1 → Arr F S11700x6 .i1),
  nullary main_c_76 (constantI S_ 32 0#32),
  unary main_c_76 main_v292 (broadcastInDim S11700x6 ![] bcast_S_S11700x6 : Arr F S_ .i32 → Arr F S11700x6 .i32),
  binary main_v284 main_v292 main_v293 (cmpi .sge : Arr F S11700x6 .i32 → Arr F S11700x6 .i32 → Arr F S11700x6 .i1),
  binary main_v291 main_v293 main_v294 (andi : Arr F S11700x6 .i1 → Arr F S11700x6 .i1 → Arr F S11700x6 .i1),
  nullary main_c_77 (constantI S_ 32 64#32),
  unary main_c_77 main_v295 (broadcastInDim S11700x6 ![] bcast_S_S11700x6 : Arr F S_ .i32 → Arr F S11700x6 .i32),
  binary main_v284 main_v295 main_v296 (cmpi .slt : Arr F S11700x6 .i32 → Arr F S11700x6 .i32 → Arr F S11700x6 .i1),
  binary main_v294 main_v296 main_v297 (andi : Arr F S11700x6 .i1 → Arr F S11700x6 .i1 → Arr F S11700x6 .i1),
  unary main_v297 main_v298 (uitofp .f32 : Arr F S11700x6 .i1 → Arr F S11700x6 .f32),
  binary main_v284 main_v178 main_v299 (subi : Arr F S11700x6 .i32 → Arr F S11700x6 .i32 → Arr F S11700x6 .i32),
  nullary main_c_78 (constantI S_ 32 2#32),
  unary main_c_78 main_v300 (broadcastInDim S11700x6 ![] bcast_S_S11700x6 : Arr F S_ .i32 → Arr F S11700x6 .i32),
  binary main_v299 main_v300 main_v301 (muli : Arr F S11700x6 .i32 → Arr F S11700x6 .i32 → Arr F S11700x6 .i32),
  binary main_v286 main_v177 main_v302 (subi : Arr F S11700x6 .i32 → Arr F S11700x6 .i32 → Arr F S11700x6 .i32),
  binary main_v301 main_v302 main_v303 (addi : Arr F S11700x6 .i32 → Arr F S11700x6 .i32 → Arr F S11700x6 .i32),
  nullary main_c_79 (constantI S_ 32 0#32),
  nullary main_c_80 (constantI S_ 32 3#32),
  TRef.unary (.of (T := ⟨S_, .i32⟩) main_c_79) (.of (T := ⟨S_, .i32⟩) main_call14_v0) id,
  TRef.unary (.of (T := ⟨S_, .i32⟩) main_call14_v0) (.of (T := ⟨S11700x6, .i32⟩) main_call14_v1) (broadcastInDim S11700x6 ![] bcast_S_S11700x6),
  TRef.binary (.of (T := ⟨S11700x6, .i32⟩) main_call14_v1) (.of (T := ⟨S11700x6, .i32⟩) main_v303) (.of (T := ⟨S11700x6, .i32⟩) main_call14_v2) maxsi,
  TRef.unary (.of (T := ⟨S_, .i32⟩) main_c_80) (.of (T := ⟨S_, .i32⟩) main_call14_v3) id,
  TRef.unary (.of (T := ⟨S_, .i32⟩) main_call14_v3) (.of (T := ⟨S11700x6, .i32⟩) main_call14_v4) (broadcastInDim S11700x6 ![] bcast_S_S11700x6),
  TRef.binary (.of (T := ⟨S11700x6, .i32⟩) main_call14_v4) (.of (T := ⟨S11700x6, .i32⟩) main_call14_v2) (.of (T := ⟨S11700x6, .i32⟩) main_v304) minsi,
  TRef.unary (.of (T := ⟨S11700x6, .i32⟩) main_v304) (.of (T := ⟨S11700x6x1, .i32⟩) main_call15_v0) (broadcastInDim S11700x6x1 ![0, 1] bcast_S11700x6_S11700x6x1_0_1),
  TRef.nullary (.of (T := ⟨S1x1x4, .i32⟩) main_call15_v1) (iotaInDim S1x1x4 32 2),
  TRef.unary (.of (T := ⟨S11700x6x1, .i32⟩) main_call15_v0) (.of (T := ⟨S11700x6x4, .i32⟩) main_call15_v2) (broadcastInDim S11700x6x4 ![0, 1, 2] bcast_S11700x6x1_S11700x6x4_0_1_2),
  TRef.unary (.of (T := ⟨S1x1x4, .i32⟩) main_call15_v1) (.of (T := ⟨S11700x6x4, .i32⟩) main_call15_v3) (broadcastInDim S11700x6x4 ![0, 1, 2] bcast_S1x1x4_S11700x6x4_0_1_2),
  TRef.binary (.of (T := ⟨S11700x6x4, .i32⟩) main_call15_v2) (.of (T := ⟨S11700x6x4, .i32⟩) main_call15_v3) (.of (T := ⟨S11700x6x4, .i1⟩) main_call15_v4) (cmpi .eq),
  TRef.unary (.of (T := ⟨S11700x6x4, .i1⟩) main_call15_v4) (.of (T := ⟨S11700x6x4, .f32⟩) main_v305) (uitofp .f32),
  binary main_v225 main_v298 main_v306 (mulf : Arr F S11700x6 .f32 → Arr F S11700x6 .f32 → Arr F S11700x6 .f32),
  unary main_v306 main_v307 (broadcastInDim S11700x6x1 ![0, 1] bcast_S11700x6_S11700x6x1_0_1 : Arr F S11700x6 .f32 → Arr F S11700x6x1 .f32),
  unary main_v307 main_v308 (broadcastInDim S11700x6x4 ![0, 1, 2] bcast_S11700x6x1_S11700x6x4_0_1_2 : Arr F S11700x6x1 .f32 → Arr F S11700x6x4 .f32),
  binary main_v305 main_v308 main_v309 (mulf : Arr F S11700x6x4 .f32 → Arr F S11700x6x4 .f32 → Arr F S11700x6x4 .f32),
  binary main_v282 main_v309 main_v310 (addf : Arr F S11700x6x4 .f32 → Arr F S11700x6x4 .f32 → Arr F S11700x6x4 .f32),
  nullary main_c_81 (constantI S_ 32 1#32),
  unary main_c_81 main_v311 (broadcastInDim S11700x6 ![] bcast_S_S11700x6 : Arr F S_ .i32 → Arr F S11700x6 .i32),
  binary main_v176 main_v311 main_v312 (addi : Arr F S11700x6 .i32 → Arr F S11700x6 .i32 → Arr F S11700x6 .i32),
  nullary main_c_82 (constantI S_ 32 1#32),
  unary main_c_82 main_v313 (broadcastInDim S11700x6 ![] bcast_S_S11700x6 : Arr F S_ .i32 → Arr F S11700x6 .i32),
  binary main_v175 main_v313 main_v314 (addi : Arr F S11700x6 .i32 → Arr F S11700x6 .i32 → Arr F S11700x6 .i32),
  nullary main_c_83 (constantI S_ 32 0#32),
  unary main_c_83 main_v315 (broadcastInDim S11700x6 ![] bcast_S_S11700x6 : Arr F S_ .i32 → Arr F S11700x6 .i32),
  binary main_v314 main_v315 main_v316 (cmpi .sge : Arr F S11700x6 .i32 → Arr F S11700x6 .i32 → Arr F S11700x6 .i1),
  nullary main_c_84 (constantI S_ 32 176#32),
  unary main_c_84 main_v317 (broadcastInDim S11700x6 ![] bcast_S_S11700x6 : Arr F S_ .i32 → Arr F S11700x6 .i32),
  binary main_v314 main_v317 main_v318 (cmpi .slt : Arr F S11700x6 .i32 → Arr F S11700x6 .i32 → Arr F S11700x6 .i1),
  binary main_v316 main_v318 main_v319 (andi : Arr F S11700x6 .i1 → Arr F S11700x6 .i1 → Arr F S11700x6 .i1),
  nullary main_c_85 (constantI S_ 32 0#32),
  unary main_c_85 main_v320 (broadcastInDim S11700x6 ![] bcast_S_S11700x6 : Arr F S_ .i32 → Arr F S11700x6 .i32),
  binary main_v312 main_v320 main_v321 (cmpi .sge : Arr F S11700x6 .i32 → Arr F S11700x6 .i32 → Arr F S11700x6 .i1),
  binary main_v319 main_v321 main_v322 (andi : Arr F S11700x6 .i1 → Arr F S11700x6 .i1 → Arr F S11700x6 .i1),
  nullary main_c_86 (constantI S_ 32 64#32),
  unary main_c_86 main_v323 (broadcastInDim S11700x6 ![] bcast_S_S11700x6 : Arr F S_ .i32 → Arr F S11700x6 .i32),
  binary main_v312 main_v323 main_v324 (cmpi .slt : Arr F S11700x6 .i32 → Arr F S11700x6 .i32 → Arr F S11700x6 .i1),
  binary main_v322 main_v324 main_v325 (andi : Arr F S11700x6 .i1 → Arr F S11700x6 .i1 → Arr F S11700x6 .i1),
  unary main_v325 main_v326 (uitofp .f32 : Arr F S11700x6 .i1 → Arr F S11700x6 .f32),
  binary main_v312 main_v178 main_v327 (subi : Arr F S11700x6 .i32 → Arr F S11700x6 .i32 → Arr F S11700x6 .i32),
  nullary main_c_87 (constantI S_ 32 2#32),
  unary main_c_87 main_v328 (broadcastInDim S11700x6 ![] bcast_S_S11700x6 : Arr F S_ .i32 → Arr F S11700x6 .i32),
  binary main_v327 main_v328 main_v329 (muli : Arr F S11700x6 .i32 → Arr F S11700x6 .i32 → Arr F S11700x6 .i32)]

def k09 : List (HloOp τ sig (Elt F)) := [
  binary main_v314 main_v177 main_v330 (subi : Arr F S11700x6 .i32 → Arr F S11700x6 .i32 → Arr F S11700x6 .i32),
  binary main_v329 main_v330 main_v331 (addi : Arr F S11700x6 .i32 → Arr F S11700x6 .i32 → Arr F S11700x6 .i32),
  nullary main_c_88 (constantI S_ 32 0#32),
  nullary main_c_89 (constantI S_ 32 3#32),
  TRef.unary (.of (T := ⟨S_, .i32⟩) main_c_88) (.of (T := ⟨S_, .i32⟩) main_call16_v0) id,
  TRef.unary (.of (T := ⟨S_, .i32⟩) main_call16_v0) (.of (T := ⟨S11700x6, .i32⟩) main_call16_v1) (broadcastInDim S11700x6 ![] bcast_S_S11700x6),
  TRef.binary (.of (T := ⟨S11700x6, .i32⟩) main_call16_v1) (.of (T := ⟨S11700x6, .i32⟩) main_v331) (.of (T := ⟨S11700x6, .i32⟩) main_call16_v2) maxsi,
  TRef.unary (.of (T := ⟨S_, .i32⟩) main_c_89) (.of (T := ⟨S_, .i32⟩) main_call16_v3) id,
  TRef.unary (.of (T := ⟨S_, .i32⟩) main_call16_v3) (.of (T := ⟨S11700x6, .i32⟩) main_call16_v4) (broadcastInDim S11700x6 ![] bcast_S_S11700x6),
  TRef.binary (.of (T := ⟨S11700x6, .i32⟩) main_call16_v4) (.of (T := ⟨S11700x6, .i32⟩) main_call16_v2) (.of (T := ⟨S11700x6, .i32⟩) main_v332) minsi,
  TRef.unary (.of (T := ⟨S11700x6, .i32⟩) main_v332) (.of (T := ⟨S11700x6x1, .i32⟩) main_call17_v0) (broadcastInDim S11700x6x1 ![0, 1] bcast_S11700x6_S11700x6x1_0_1),
  TRef.nullary (.of (T := ⟨S1x1x4, .i32⟩) main_call17_v1) (iotaInDim S1x1x4 32 2),
  TRef.unary (.of (T := ⟨S11700x6x1, .i32⟩) main_call17_v0) (.of (T := ⟨S11700x6x4, .i32⟩) main_call17_v2) (broadcastInDim S11700x6x4 ![0, 1, 2] bcast_S11700x6x1_S11700x6x4_0_1_2),
  TRef.unary (.of (T := ⟨S1x1x4, .i32⟩) main_call17_v1) (.of (T := ⟨S11700x6x4, .i32⟩) main_call17_v3) (broadcastInDim S11700x6x4 ![0, 1, 2] bcast_S1x1x4_S11700x6x4_0_1_2),
  TRef.binary (.of (T := ⟨S11700x6x4, .i32⟩) main_call17_v2) (.of (T := ⟨S11700x6x4, .i32⟩) main_call17_v3) (.of (T := ⟨S11700x6x4, .i1⟩) main_call17_v4) (cmpi .eq),
  TRef.unary (.of (T := ⟨S11700x6x4, .i1⟩) main_call17_v4) (.of (T := ⟨S11700x6x4, .f32⟩) main_v333) (uitofp .f32),
  binary main_v226 main_v326 main_v334 (mulf : Arr F S11700x6 .f32 → Arr F S11700x6 .f32 → Arr F S11700x6 .f32),
  unary main_v334 main_v335 (broadcastInDim S11700x6x1 ![0, 1] bcast_S11700x6_S11700x6x1_0_1 : Arr F S11700x6 .f32 → Arr F S11700x6x1 .f32),
  unary main_v335 main_v336 (broadcastInDim S11700x6x4 ![0, 1, 2] bcast_S11700x6x1_S11700x6x4_0_1_2 : Arr F S11700x6x1 .f32 → Arr F S11700x6x4 .f32),
  binary main_v333 main_v336 main_v337 (mulf : Arr F S11700x6x4 .f32 → Arr F S11700x6x4 .f32 → Arr F S11700x6x4 .f32),
  binary main_v310 main_v337 main_v338 (addf : Arr F S11700x6x4 .f32 → Arr F S11700x6x4 .f32 → Arr F S11700x6x4 .f32),
  unary main_v338 main_v339 (broadcastInDim S11700x6x4x1 ![0, 1, 2] bcast_S11700x6x4_S11700x6x4x1_0_1_2 : Arr F S11700x6x4 .f32 → Arr F S11700x6x4x1 .f32),
  unary main_v156 main_v340 ((extractStridedSlice S11700x6x1x8 ![0, 0, 0, 0] · slices_S11700x6x4x8_S11700x6x1x8_0_0_0_0) : Arr F S11700x6x4x8 .f32 → Arr F S11700x6x1x8 .f32),
  reshape main_v340 main_v341 (rfl : (.f32 : EltTy) = .f32) shapeCasts_S11700x6x1x8_S11700x6x8,
  unary main_v341 main_v342 (broadcastInDim S11700x6x1x8 ![0, 1, 3] bcast_S11700x6x8_S11700x6x1x8_0_1_3 : Arr F S11700x6x8 .f32 → Arr F S11700x6x1x8 .f32),
  unary main_v339 main_v343 (broadcastInDim S11700x6x4x8 ![0, 1, 2, 3] bcast_S11700x6x4x1_S11700x6x4x8_0_1_2_3 : Arr F S11700x6x4x1 .f32 → Arr F S11700x6x4x8 .f32),
  unary main_v342 main_v344 (broadcastInDim S11700x6x4x8 ![0, 1, 2, 3] bcast_S11700x6x1x8_S11700x6x4x8_0_1_2_3 : Arr F S11700x6x1x8 .f32 → Arr F S11700x6x4x8 .f32),
  binary main_v343 main_v344 main_v345 (mulf : Arr F S11700x6x4x8 .f32 → Arr F S11700x6x4x8 .f32 → Arr F S11700x6x4x8 .f32)]

end Cert.Proof.Agg

end
-- ==== Proof.KOps1.lean ====
/-
  The kernel's host operations, in order, part 2 of 3, as the program prints them.
-/
module

public import proofs.«01_k».proof.Proof.KOps0

@[expose] public section

noncomputable section

namespace Cert.Proof.Agg

open Cert.KernelIdeal Cert.KernelIdeal.Gen
open Idealize.ShloMosaic
open Idealize.ShloMosaic.StableHlo

variable {F : FTy → Type} [FloatOps F]

def k10 : List (HloOp τ sig (Elt F)) := [
  unary main_v155 main_v346 ((extractStridedSlice S11700x6x1 ![0, 0, 0] · slices_S11700x6x2_S11700x6x1_0_0_0) : Arr F S11700x6x2 .f32 → Arr F S11700x6x1 .f32),
  reshape main_v346 main_v347 (rfl : (.f32 : EltTy) = .f32) shapeCasts_S11700x6x1_S11700x6,
  nullary main_cst_90 (constant S_ .f32 0x42B00000#32),
  unary main_cst_90 main_v348 (broadcastInDim S11700x6 ![] bcast_S_S11700x6 : Arr F S_ .f32 → Arr F S11700x6 .f32),
  binary main_v347 main_v348 main_v349 (mulf : Arr F S11700x6 .f32 → Arr F S11700x6 .f32 → Arr F S11700x6 .f32),
  nullary main_cst_91 (constant S_ .f32 0x3F000000#32),
  unary main_cst_91 main_v350 (broadcastInDim S11700x6 ![] bcast_S_S11700x6 : Arr F S_ .f32 → Arr F S11700x6 .f32),
  binary main_v349 main_v350 main_v351 (subf : Arr F S11700x6 .f32 → Arr F S11700x6 .f32 → Arr F S11700x6 .f32),
  unary main_v155 main_v352 ((extractStridedSlice S11700x6x1 ![0, 0, 1] · slices_S11700x6x2_S11700x6x1_0_0_1) : Arr F S11700x6x2 .f32 → Arr F S11700x6x1 .f32),
  reshape main_v352 main_v353 (rfl : (.f32 : EltTy) = .f32) shapeCasts_S11700x6x1_S11700x6,
  nullary main_cst_92 (constant S_ .f32 0x42000000#32),
  unary main_cst_92 main_v354 (broadcastInDim S11700x6 ![] bcast_S_S11700x6 : Arr F S_ .f32 → Arr F S11700x6 .f32),
  binary main_v353 main_v354 main_v355 (mulf : Arr F S11700x6 .f32 → Arr F S11700x6 .f32 → Arr F S11700x6 .f32),
  nullary main_cst_93 (constant S_ .f32 0x3F000000#32),
  unary main_cst_93 main_v356 (broadcastInDim S11700x6 ![] bcast_S_S11700x6 : Arr F S_ .f32 → Arr F S11700x6 .f32),
  binary main_v355 main_v356 main_v357 (subf : Arr F S11700x6 .f32 → Arr F S11700x6 .f32 → Arr F S11700x6 .f32),
  unary main_v351 main_v358 (Host.floor : Arr F S11700x6 .f32 → Arr F S11700x6 .f32),
  unary main_v357 main_v359 (Host.floor : Arr F S11700x6 .f32 → Arr F S11700x6 .f32),
  binary main_v351 main_v358 main_v360 (subf : Arr F S11700x6 .f32 → Arr F S11700x6 .f32 → Arr F S11700x6 .f32),
  binary main_v357 main_v359 main_v361 (subf : Arr F S11700x6 .f32 → Arr F S11700x6 .f32 → Arr F S11700x6 .f32),
  unary main_v358 main_v362 (fptosi 32 : Arr F S11700x6 .f32 → Arr F S11700x6 .i32),
  unary main_v359 main_v363 (fptosi 32 : Arr F S11700x6 .f32 → Arr F S11700x6 .i32),
  nullary main_c_94 (constantI S_ 32 0#32),
  nullary main_c_95 (constantI S_ 32 86#32),
  TRef.unary (.of (T := ⟨S_, .i32⟩) main_c_94) (.of (T := ⟨S_, .i32⟩) main_call18_v0) id,
  TRef.unary (.of (T := ⟨S_, .i32⟩) main_call18_v0) (.of (T := ⟨S11700x6, .i32⟩) main_call18_v1) (broadcastInDim S11700x6 ![] bcast_S_S11700x6),
  TRef.binary (.of (T := ⟨S11700x6, .i32⟩) main_call18_v1) (.of (T := ⟨S11700x6, .i32⟩) main_v362) (.of (T := ⟨S11700x6, .i32⟩) main_call18_v2) maxsi,
  TRef.unary (.of (T := ⟨S_, .i32⟩) main_c_95) (.of (T := ⟨S_, .i32⟩) main_call18_v3) id,
  TRef.unary (.of (T := ⟨S_, .i32⟩) main_call18_v3) (.of (T := ⟨S11700x6, .i32⟩) main_call18_v4) (broadcastInDim S11700x6 ![] bcast_S_S11700x6),
  TRef.binary (.of (T := ⟨S11700x6, .i32⟩) main_call18_v4) (.of (T := ⟨S11700x6, .i32⟩) main_call18_v2) (.of (T := ⟨S11700x6, .i32⟩) main_v364) minsi,
  nullary main_c_96 (constantI S_ 32 0#32),
  nullary main_c_97 (constantI S_ 32 30#32),
  TRef.unary (.of (T := ⟨S_, .i32⟩) main_c_96) (.of (T := ⟨S_, .i32⟩) main_call19_v0) id,
  TRef.unary (.of (T := ⟨S_, .i32⟩) main_call19_v0) (.of (T := ⟨S11700x6, .i32⟩) main_call19_v1) (broadcastInDim S11700x6 ![] bcast_S_S11700x6),
  TRef.binary (.of (T := ⟨S11700x6, .i32⟩) main_call19_v1) (.of (T := ⟨S11700x6, .i32⟩) main_v363) (.of (T := ⟨S11700x6, .i32⟩) main_call19_v2) maxsi,
  TRef.unary (.of (T := ⟨S_, .i32⟩) main_c_97) (.of (T := ⟨S_, .i32⟩) main_call19_v3) id,
  TRef.unary (.of (T := ⟨S_, .i32⟩) main_call19_v3) (.of (T := ⟨S11700x6, .i32⟩) main_call19_v4) (broadcastInDim S11700x6 ![] bcast_S_S11700x6),
  TRef.binary (.of (T := ⟨S11700x6, .i32⟩) main_call19_v4) (.of (T := ⟨S11700x6, .i32⟩) main_call19_v2) (.of (T := ⟨S11700x6, .i32⟩) main_v365) minsi,
  nullary main_c_98 (constantI S_ 32 1#32),
  unary main_c_98 main_v366 (broadcastInDim S11700x6 ![] bcast_S_S11700x6 : Arr F S_ .i32 → Arr F S11700x6 .i32),
  binary main_v365 main_v366 main_v367 (andi : Arr F S11700x6 .i32 → Arr F S11700x6 .i32 → Arr F S11700x6 .i32),
  nullary main_c_99 (constantI S_ 32 1#32),
  unary main_c_99 main_v368 (broadcastInDim S11700x6 ![] bcast_S_S11700x6 : Arr F S_ .i32 → Arr F S11700x6 .i32),
  binary main_v364 main_v368 main_v369 (andi : Arr F S11700x6 .i32 → Arr F S11700x6 .i32 → Arr F S11700x6 .i32),
  nullary main_c_100 (constantI S_ 32 0#32),
  unary main_c_100 main_v370 (broadcastInDim S11700x6 ![] bcast_S_S11700x6 : Arr F S_ .i32 → Arr F S11700x6 .i32),
  binary main_v367 main_v370 main_v371 (cmpi .eq : Arr F S11700x6 .i32 → Arr F S11700x6 .i32 → Arr F S11700x6 .i1),
  nullary main_c_101 (constantI S_ 32 0#32),
  unary main_c_101 main_v372 (broadcastInDim S11700x6 ![] bcast_S_S11700x6 : Arr F S_ .i32 → Arr F S11700x6 .i32),
  binary main_v369 main_v372 main_v373 (cmpi .eq : Arr F S11700x6 .i32 → Arr F S11700x6 .i32 → Arr F S11700x6 .i1),
  nullary main_c_102 (constantI S_ 32 66150#32),
  nullary main_c_103 (constantI S_ 32 70374#32)]

def k11 : List (HloOp τ sig (Elt F)) := [
  TRef.unary (.of (T := ⟨S_, .i32⟩) main_c_102) (.of (T := ⟨S11700x6, .i32⟩) main_call20_v0) (broadcastInDim S11700x6 ![] bcast_S_S11700x6),
  TRef.unary (.of (T := ⟨S_, .i32⟩) main_c_103) (.of (T := ⟨S11700x6, .i32⟩) main_call20_v1) (broadcastInDim S11700x6 ![] bcast_S_S11700x6),
  TRef.ternary (.of (T := ⟨S11700x6, .i1⟩) main_v373) (.of (T := ⟨S11700x6, .i32⟩) main_call20_v0) (.of (T := ⟨S11700x6, .i32⟩) main_call20_v1) (.of (T := ⟨S11700x6, .i32⟩) main_v374) select,
  nullary main_c_104 (constantI S_ 32 0#32),
  unary main_c_104 main_v375 (broadcastInDim S11700x6 ![] bcast_S_S11700x6 : Arr F S_ .i32 → Arr F S11700x6 .i32),
  binary main_v369 main_v375 main_v376 (cmpi .eq : Arr F S11700x6 .i32 → Arr F S11700x6 .i32 → Arr F S11700x6 .i1),
  nullary main_c_105 (constantI S_ 32 74502#32),
  nullary main_c_106 (constantI S_ 32 78462#32),
  TRef.unary (.of (T := ⟨S_, .i32⟩) main_c_105) (.of (T := ⟨S11700x6, .i32⟩) main_call21_v0) (broadcastInDim S11700x6 ![] bcast_S_S11700x6),
  TRef.unary (.of (T := ⟨S_, .i32⟩) main_c_106) (.of (T := ⟨S11700x6, .i32⟩) main_call21_v1) (broadcastInDim S11700x6 ![] bcast_S_S11700x6),
  TRef.ternary (.of (T := ⟨S11700x6, .i1⟩) main_v376) (.of (T := ⟨S11700x6, .i32⟩) main_call21_v0) (.of (T := ⟨S11700x6, .i32⟩) main_call21_v1) (.of (T := ⟨S11700x6, .i32⟩) main_v377) select,
  TRef.ternary (.of (T := ⟨S11700x6, .i1⟩) main_v371) (.of (T := ⟨S11700x6, .i32⟩) main_v374) (.of (T := ⟨S11700x6, .i32⟩) main_v377) (.of (T := ⟨S11700x6, .i32⟩) main_v378) select,
  nullary main_c_107 (constantI S_ 32 0#32),
  unary main_c_107 main_v379 (broadcastInDim S11700x6 ![] bcast_S_S11700x6 : Arr F S_ .i32 → Arr F S11700x6 .i32),
  binary main_v367 main_v379 main_v380 (cmpi .eq : Arr F S11700x6 .i32 → Arr F S11700x6 .i32 → Arr F S11700x6 .i1),
  nullary main_c_108 (constantI S_ 32 16#32),
  nullary main_c_109 (constantI S_ 32 15#32),
  TRef.unary (.of (T := ⟨S_, .i32⟩) main_c_108) (.of (T := ⟨S11700x6, .i32⟩) main_call23_v0) (broadcastInDim S11700x6 ![] bcast_S_S11700x6),
  TRef.unary (.of (T := ⟨S_, .i32⟩) main_c_109) (.of (T := ⟨S11700x6, .i32⟩) main_call23_v1) (broadcastInDim S11700x6 ![] bcast_S_S11700x6),
  TRef.ternary (.of (T := ⟨S11700x6, .i1⟩) main_v380) (.of (T := ⟨S11700x6, .i32⟩) main_call23_v0) (.of (T := ⟨S11700x6, .i32⟩) main_call23_v1) (.of (T := ⟨S11700x6, .i32⟩) main_v381) select,
  nullary main_c_110 (constantI S_ 32 0#32),
  unary main_c_110 main_v382 (broadcastInDim S11700x6 ![] bcast_S_S11700x6 : Arr F S_ .i32 → Arr F S11700x6 .i32),
  binary main_v369 main_v382 main_v383 (cmpi .eq : Arr F S11700x6 .i32 → Arr F S11700x6 .i32 → Arr F S11700x6 .i1),
  nullary main_c_111 (constantI S_ 32 44#32),
  nullary main_c_112 (constantI S_ 32 43#32),
  TRef.unary (.of (T := ⟨S_, .i32⟩) main_c_111) (.of (T := ⟨S11700x6, .i32⟩) main_call24_v0) (broadcastInDim S11700x6 ![] bcast_S_S11700x6),
  TRef.unary (.of (T := ⟨S_, .i32⟩) main_c_112) (.of (T := ⟨S11700x6, .i32⟩) main_call24_v1) (broadcastInDim S11700x6 ![] bcast_S_S11700x6),
  TRef.ternary (.of (T := ⟨S11700x6, .i1⟩) main_v383) (.of (T := ⟨S11700x6, .i32⟩) main_call24_v0) (.of (T := ⟨S11700x6, .i32⟩) main_call24_v1) (.of (T := ⟨S11700x6, .i32⟩) main_v384) select,
  binary main_v365 main_v367 main_v385 (subi : Arr F S11700x6 .i32 → Arr F S11700x6 .i32 → Arr F S11700x6 .i32),
  nullary main_c_113 (constantI S_ 32 1#32),
  unary main_c_113 main_v386 (broadcastInDim S11700x6 ![] bcast_S_S11700x6 : Arr F S_ .i32 → Arr F S11700x6 .i32),
  binary main_v385 main_v386 main_v387 (Host.shrsi : Arr F S11700x6 .i32 → Arr F S11700x6 .i32 → Arr F S11700x6 .i32),
  unary main_v384 main_v388 (id : Arr F S11700x6 .i32 → Arr F S11700x6 .i32),
  binary main_v387 main_v388 main_v389 (muli : Arr F S11700x6 .i32 → Arr F S11700x6 .i32 → Arr F S11700x6 .i32),
  binary main_v364 main_v369 main_v390 (subi : Arr F S11700x6 .i32 → Arr F S11700x6 .i32 → Arr F S11700x6 .i32),
  nullary main_c_114 (constantI S_ 32 1#32),
  unary main_c_114 main_v391 (broadcastInDim S11700x6 ![] bcast_S_S11700x6 : Arr F S_ .i32 → Arr F S11700x6 .i32),
  binary main_v390 main_v391 main_v392 (Host.shrsi : Arr F S11700x6 .i32 → Arr F S11700x6 .i32 → Arr F S11700x6 .i32),
  binary main_v389 main_v392 main_v393 (addi : Arr F S11700x6 .i32 → Arr F S11700x6 .i32 → Arr F S11700x6 .i32),
  binary main_v381 main_v384 main_v394 (muli : Arr F S11700x6 .i32 → Arr F S11700x6 .i32 → Arr F S11700x6 .i32),
  unary main_v394 main_v395 (id : Arr F S11700x6 .i32 → Arr F S11700x6 .i32),
  unary main_v158 main_v396 (broadcastInDim S11700x6 ![0, 1] bcast_S1x6_S11700x6_0_1 : Arr F S1x6 .i32 → Arr F S11700x6 .i32),
  binary main_v396 main_v395 main_v397 (muli : Arr F S11700x6 .i32 → Arr F S11700x6 .i32 → Arr F S11700x6 .i32),
  unary main_v378 main_v398 (id : Arr F S11700x6 .i32 → Arr F S11700x6 .i32),
  binary main_v398 main_v397 main_v399 (addi : Arr F S11700x6 .i32 → Arr F S11700x6 .i32 → Arr F S11700x6 .i32),
  binary main_v399 main_v393 main_v400 (addi : Arr F S11700x6 .i32 → Arr F S11700x6 .i32 → Arr F S11700x6 .i32)]

def k12 : List (HloOp τ sig (Elt F)) := [
  nullary main_cst_115 (constant S_ .f32 0x00000000#32),
  unary main_cst_115 main_v401 (broadcastInDim S11700x6x4 ![] bcast_S_S11700x6x4 : Arr F S_ .f32 → Arr F S11700x6x4 .f32),
  nullary main_cst_116 (constant S_ .f32 0x3F800000#32),
  unary main_cst_116 main_v402 (broadcastInDim S11700x6 ![] bcast_S_S11700x6 : Arr F S_ .f32 → Arr F S11700x6 .f32),
  binary main_v402 main_v361 main_v403 (subf : Arr F S11700x6 .f32 → Arr F S11700x6 .f32 → Arr F S11700x6 .f32),
  nullary main_cst_117 (constant S_ .f32 0x3F800000#32),
  unary main_cst_117 main_v404 (broadcastInDim S11700x6 ![] bcast_S_S11700x6 : Arr F S_ .f32 → Arr F S11700x6 .f32),
  binary main_v404 main_v360 main_v405 (subf : Arr F S11700x6 .f32 → Arr F S11700x6 .f32 → Arr F S11700x6 .f32),
  binary main_v403 main_v405 main_v406 (mulf : Arr F S11700x6 .f32 → Arr F S11700x6 .f32 → Arr F S11700x6 .f32),
  nullary main_cst_118 (constant S_ .f32 0x3F800000#32),
  unary main_cst_118 main_v407 (broadcastInDim S11700x6 ![] bcast_S_S11700x6 : Arr F S_ .f32 → Arr F S11700x6 .f32),
  binary main_v407 main_v361 main_v408 (subf : Arr F S11700x6 .f32 → Arr F S11700x6 .f32 → Arr F S11700x6 .f32),
  binary main_v408 main_v360 main_v409 (mulf : Arr F S11700x6 .f32 → Arr F S11700x6 .f32 → Arr F S11700x6 .f32),
  nullary main_cst_119 (constant S_ .f32 0x3F800000#32),
  unary main_cst_119 main_v410 (broadcastInDim S11700x6 ![] bcast_S_S11700x6 : Arr F S_ .f32 → Arr F S11700x6 .f32),
  binary main_v410 main_v360 main_v411 (subf : Arr F S11700x6 .f32 → Arr F S11700x6 .f32 → Arr F S11700x6 .f32),
  binary main_v361 main_v411 main_v412 (mulf : Arr F S11700x6 .f32 → Arr F S11700x6 .f32 → Arr F S11700x6 .f32),
  binary main_v361 main_v360 main_v413 (mulf : Arr F S11700x6 .f32 → Arr F S11700x6 .f32 → Arr F S11700x6 .f32),
  nullary main_c_120 (constantI S_ 32 0#32),
  unary main_c_120 main_v414 (broadcastInDim S11700x6 ![] bcast_S_S11700x6 : Arr F S_ .i32 → Arr F S11700x6 .i32),
  binary main_v363 main_v414 main_v415 (addi : Arr F S11700x6 .i32 → Arr F S11700x6 .i32 → Arr F S11700x6 .i32),
  nullary main_c_121 (constantI S_ 32 0#32)]

def k13 : List (HloOp τ sig (Elt F)) := [
  unary main_c_121 main_v416 (broadcastInDim S11700x6 ![] bcast_S_S11700x6 : Arr F S_ .i32 → Arr F S11700x6 .i32),
  binary main_v362 main_v416 main_v417 (addi : Arr F S11700x6 .i32 → Arr F S11700x6 .i32 → Arr F S11700x6 .i32),
  nullary main_c_122 (constantI S_ 32 0#32),
  unary main_c_122 main_v418 (broadcastInDim S11700x6 ![] bcast_S_S11700x6 : Arr F S_ .i32 → Arr F S11700x6 .i32),
  binary main_v417 main_v418 main_v419 (cmpi .sge : Arr F S11700x6 .i32 → Arr F S11700x6 .i32 → Arr F S11700x6 .i1),
  nullary main_c_123 (constantI S_ 32 88#32),
  unary main_c_123 main_v420 (broadcastInDim S11700x6 ![] bcast_S_S11700x6 : Arr F S_ .i32 → Arr F S11700x6 .i32),
  binary main_v417 main_v420 main_v421 (cmpi .slt : Arr F S11700x6 .i32 → Arr F S11700x6 .i32 → Arr F S11700x6 .i1),
  binary main_v419 main_v421 main_v422 (andi : Arr F S11700x6 .i1 → Arr F S11700x6 .i1 → Arr F S11700x6 .i1),
  nullary main_c_124 (constantI S_ 32 0#32),
  unary main_c_124 main_v423 (broadcastInDim S11700x6 ![] bcast_S_S11700x6 : Arr F S_ .i32 → Arr F S11700x6 .i32),
  binary main_v415 main_v423 main_v424 (cmpi .sge : Arr F S11700x6 .i32 → Arr F S11700x6 .i32 → Arr F S11700x6 .i1),
  binary main_v422 main_v424 main_v425 (andi : Arr F S11700x6 .i1 → Arr F S11700x6 .i1 → Arr F S11700x6 .i1),
  nullary main_c_125 (constantI S_ 32 32#32),
  unary main_c_125 main_v426 (broadcastInDim S11700x6 ![] bcast_S_S11700x6 : Arr F S_ .i32 → Arr F S11700x6 .i32),
  binary main_v415 main_v426 main_v427 (cmpi .slt : Arr F S11700x6 .i32 → Arr F S11700x6 .i32 → Arr F S11700x6 .i1),
  binary main_v425 main_v427 main_v428 (andi : Arr F S11700x6 .i1 → Arr F S11700x6 .i1 → Arr F S11700x6 .i1),
  unary main_v428 main_v429 (uitofp .f32 : Arr F S11700x6 .i1 → Arr F S11700x6 .f32),
  binary main_v415 main_v365 main_v430 (subi : Arr F S11700x6 .i32 → Arr F S11700x6 .i32 → Arr F S11700x6 .i32),
  nullary main_c_126 (constantI S_ 32 2#32),
  unary main_c_126 main_v431 (broadcastInDim S11700x6 ![] bcast_S_S11700x6 : Arr F S_ .i32 → Arr F S11700x6 .i32),
  binary main_v430 main_v431 main_v432 (muli : Arr F S11700x6 .i32 → Arr F S11700x6 .i32 → Arr F S11700x6 .i32),
  binary main_v417 main_v364 main_v433 (subi : Arr F S11700x6 .i32 → Arr F S11700x6 .i32 → Arr F S11700x6 .i32),
  binary main_v432 main_v433 main_v434 (addi : Arr F S11700x6 .i32 → Arr F S11700x6 .i32 → Arr F S11700x6 .i32),
  nullary main_c_127 (constantI S_ 32 0#32),
  nullary main_c_128 (constantI S_ 32 3#32),
  TRef.unary (.of (T := ⟨S_, .i32⟩) main_c_127) (.of (T := ⟨S_, .i32⟩) main_call25_v0) id,
  TRef.unary (.of (T := ⟨S_, .i32⟩) main_call25_v0) (.of (T := ⟨S11700x6, .i32⟩) main_call25_v1) (broadcastInDim S11700x6 ![] bcast_S_S11700x6),
  TRef.binary (.of (T := ⟨S11700x6, .i32⟩) main_call25_v1) (.of (T := ⟨S11700x6, .i32⟩) main_v434) (.of (T := ⟨S11700x6, .i32⟩) main_call25_v2) maxsi,
  TRef.unary (.of (T := ⟨S_, .i32⟩) main_c_128) (.of (T := ⟨S_, .i32⟩) main_call25_v3) id,
  TRef.unary (.of (T := ⟨S_, .i32⟩) main_call25_v3) (.of (T := ⟨S11700x6, .i32⟩) main_call25_v4) (broadcastInDim S11700x6 ![] bcast_S_S11700x6),
  TRef.binary (.of (T := ⟨S11700x6, .i32⟩) main_call25_v4) (.of (T := ⟨S11700x6, .i32⟩) main_call25_v2) (.of (T := ⟨S11700x6, .i32⟩) main_v435) minsi,
  TRef.unary (.of (T := ⟨S11700x6, .i32⟩) main_v435) (.of (T := ⟨S11700x6x1, .i32⟩) main_call26_v0) (broadcastInDim S11700x6x1 ![0, 1] bcast_S11700x6_S11700x6x1_0_1),
  TRef.nullary (.of (T := ⟨S1x1x4, .i32⟩) main_call26_v1) (iotaInDim S1x1x4 32 2),
  TRef.unary (.of (T := ⟨S11700x6x1, .i32⟩) main_call26_v0) (.of (T := ⟨S11700x6x4, .i32⟩) main_call26_v2) (broadcastInDim S11700x6x4 ![0, 1, 2] bcast_S11700x6x1_S11700x6x4_0_1_2),
  TRef.unary (.of (T := ⟨S1x1x4, .i32⟩) main_call26_v1) (.of (T := ⟨S11700x6x4, .i32⟩) main_call26_v3) (broadcastInDim S11700x6x4 ![0, 1, 2] bcast_S1x1x4_S11700x6x4_0_1_2),
  TRef.binary (.of (T := ⟨S11700x6x4, .i32⟩) main_call26_v2) (.of (T := ⟨S11700x6x4, .i32⟩) main_call26_v3) (.of (T := ⟨S11700x6x4, .i1⟩) main_call26_v4) (cmpi .eq),
  TRef.unary (.of (T := ⟨S11700x6x4, .i1⟩) main_call26_v4) (.of (T := ⟨S11700x6x4, .f32⟩) main_v436) (uitofp .f32),
  binary main_v406 main_v429 main_v437 (mulf : Arr F S11700x6 .f32 → Arr F S11700x6 .f32 → Arr F S11700x6 .f32),
  unary main_v437 main_v438 (broadcastInDim S11700x6x1 ![0, 1] bcast_S11700x6_S11700x6x1_0_1 : Arr F S11700x6 .f32 → Arr F S11700x6x1 .f32),
  unary main_v438 main_v439 (broadcastInDim S11700x6x4 ![0, 1, 2] bcast_S11700x6x1_S11700x6x4_0_1_2 : Arr F S11700x6x1 .f32 → Arr F S11700x6x4 .f32),
  binary main_v436 main_v439 main_v440 (mulf : Arr F S11700x6x4 .f32 → Arr F S11700x6x4 .f32 → Arr F S11700x6x4 .f32),
  binary main_v401 main_v440 main_v441 (addf : Arr F S11700x6x4 .f32 → Arr F S11700x6x4 .f32 → Arr F S11700x6x4 .f32),
  nullary main_c_129 (constantI S_ 32 0#32),
  unary main_c_129 main_v442 (broadcastInDim S11700x6 ![] bcast_S_S11700x6 : Arr F S_ .i32 → Arr F S11700x6 .i32),
  binary main_v363 main_v442 main_v443 (addi : Arr F S11700x6 .i32 → Arr F S11700x6 .i32 → Arr F S11700x6 .i32),
  nullary main_c_130 (constantI S_ 32 1#32),
  unary main_c_130 main_v444 (broadcastInDim S11700x6 ![] bcast_S_S11700x6 : Arr F S_ .i32 → Arr F S11700x6 .i32),
  binary main_v362 main_v444 main_v445 (addi : Arr F S11700x6 .i32 → Arr F S11700x6 .i32 → Arr F S11700x6 .i32),
  nullary main_c_131 (constantI S_ 32 0#32),
  unary main_c_131 main_v446 (broadcastInDim S11700x6 ![] bcast_S_S11700x6 : Arr F S_ .i32 → Arr F S11700x6 .i32),
  binary main_v445 main_v446 main_v447 (cmpi .sge : Arr F S11700x6 .i32 → Arr F S11700x6 .i32 → Arr F S11700x6 .i1),
  nullary main_c_132 (constantI S_ 32 88#32),
  unary main_c_132 main_v448 (broadcastInDim S11700x6 ![] bcast_S_S11700x6 : Arr F S_ .i32 → Arr F S11700x6 .i32),
  binary main_v445 main_v448 main_v449 (cmpi .slt : Arr F S11700x6 .i32 → Arr F S11700x6 .i32 → Arr F S11700x6 .i1),
  binary main_v447 main_v449 main_v450 (andi : Arr F S11700x6 .i1 → Arr F S11700x6 .i1 → Arr F S11700x6 .i1),
  nullary main_c_133 (constantI S_ 32 0#32),
  unary main_c_133 main_v451 (broadcastInDim S11700x6 ![] bcast_S_S11700x6 : Arr F S_ .i32 → Arr F S11700x6 .i32),
  binary main_v443 main_v451 main_v452 (cmpi .sge : Arr F S11700x6 .i32 → Arr F S11700x6 .i32 → Arr F S11700x6 .i1),
  binary main_v450 main_v452 main_v453 (andi : Arr F S11700x6 .i1 → Arr F S11700x6 .i1 → Arr F S11700x6 .i1),
  nullary main_c_134 (constantI S_ 32 32#32),
  unary main_c_134 main_v454 (broadcastInDim S11700x6 ![] bcast_S_S11700x6 : Arr F S_ .i32 → Arr F S11700x6 .i32),
  binary main_v443 main_v454 main_v455 (cmpi .slt : Arr F S11700x6 .i32 → Arr F S11700x6 .i32 → Arr F S11700x6 .i1),
  binary main_v453 main_v455 main_v456 (andi : Arr F S11700x6 .i1 → Arr F S11700x6 .i1 → Arr F S11700x6 .i1),
  unary main_v456 main_v457 (uitofp .f32 : Arr F S11700x6 .i1 → Arr F S11700x6 .f32),
  binary main_v443 main_v365 main_v458 (subi : Arr F S11700x6 .i32 → Arr F S11700x6 .i32 → Arr F S11700x6 .i32),
  nullary main_c_135 (constantI S_ 32 2#32),
  unary main_c_135 main_v459 (broadcastInDim S11700x6 ![] bcast_S_S11700x6 : Arr F S_ .i32 → Arr F S11700x6 .i32),
  binary main_v458 main_v459 main_v460 (muli : Arr F S11700x6 .i32 → Arr F S11700x6 .i32 → Arr F S11700x6 .i32),
  binary main_v445 main_v364 main_v461 (subi : Arr F S11700x6 .i32 → Arr F S11700x6 .i32 → Arr F S11700x6 .i32)]

def k14 : List (HloOp τ sig (Elt F)) := [
  binary main_v460 main_v461 main_v462 (addi : Arr F S11700x6 .i32 → Arr F S11700x6 .i32 → Arr F S11700x6 .i32),
  nullary main_c_136 (constantI S_ 32 0#32),
  nullary main_c_137 (constantI S_ 32 3#32),
  TRef.unary (.of (T := ⟨S_, .i32⟩) main_c_136) (.of (T := ⟨S_, .i32⟩) main_call27_v0) id,
  TRef.unary (.of (T := ⟨S_, .i32⟩) main_call27_v0) (.of (T := ⟨S11700x6, .i32⟩) main_call27_v1) (broadcastInDim S11700x6 ![] bcast_S_S11700x6),
  TRef.binary (.of (T := ⟨S11700x6, .i32⟩) main_call27_v1) (.of (T := ⟨S11700x6, .i32⟩) main_v462) (.of (T := ⟨S11700x6, .i32⟩) main_call27_v2) maxsi,
  TRef.unary (.of (T := ⟨S_, .i32⟩) main_c_137) (.of (T := ⟨S_, .i32⟩) main_call27_v3) id,
  TRef.unary (.of (T := ⟨S_, .i32⟩) main_call27_v3) (.of (T := ⟨S11700x6, .i32⟩) main_call27_v4) (broadcastInDim S11700x6 ![] bcast_S_S11700x6),
  TRef.binary (.of (T := ⟨S11700x6, .i32⟩) main_call27_v4) (.of (T := ⟨S11700x6, .i32⟩) main_call27_v2) (.of (T := ⟨S11700x6, .i32⟩) main_v463) minsi,
  TRef.unary (.of (T := ⟨S11700x6, .i32⟩) main_v463) (.of (T := ⟨S11700x6x1, .i32⟩) main_call28_v0) (broadcastInDim S11700x6x1 ![0, 1] bcast_S11700x6_S11700x6x1_0_1),
  TRef.nullary (.of (T := ⟨S1x1x4, .i32⟩) main_call28_v1) (iotaInDim S1x1x4 32 2),
  TRef.unary (.of (T := ⟨S11700x6x1, .i32⟩) main_call28_v0) (.of (T := ⟨S11700x6x4, .i32⟩) main_call28_v2) (broadcastInDim S11700x6x4 ![0, 1, 2] bcast_S11700x6x1_S11700x6x4_0_1_2),
  TRef.unary (.of (T := ⟨S1x1x4, .i32⟩) main_call28_v1) (.of (T := ⟨S11700x6x4, .i32⟩) main_call28_v3) (broadcastInDim S11700x6x4 ![0, 1, 2] bcast_S1x1x4_S11700x6x4_0_1_2),
  TRef.binary (.of (T := ⟨S11700x6x4, .i32⟩) main_call28_v2) (.of (T := ⟨S11700x6x4, .i32⟩) main_call28_v3) (.of (T := ⟨S11700x6x4, .i1⟩) main_call28_v4) (cmpi .eq),
  TRef.unary (.of (T := ⟨S11700x6x4, .i1⟩) main_call28_v4) (.of (T := ⟨S11700x6x4, .f32⟩) main_v464) (uitofp .f32),
  binary main_v409 main_v457 main_v465 (mulf : Arr F S11700x6 .f32 → Arr F S11700x6 .f32 → Arr F S11700x6 .f32),
  unary main_v465 main_v466 (broadcastInDim S11700x6x1 ![0, 1] bcast_S11700x6_S11700x6x1_0_1 : Arr F S11700x6 .f32 → Arr F S11700x6x1 .f32),
  unary main_v466 main_v467 (broadcastInDim S11700x6x4 ![0, 1, 2] bcast_S11700x6x1_S11700x6x4_0_1_2 : Arr F S11700x6x1 .f32 → Arr F S11700x6x4 .f32),
  binary main_v464 main_v467 main_v468 (mulf : Arr F S11700x6x4 .f32 → Arr F S11700x6x4 .f32 → Arr F S11700x6x4 .f32),
  binary main_v441 main_v468 main_v469 (addf : Arr F S11700x6x4 .f32 → Arr F S11700x6x4 .f32 → Arr F S11700x6x4 .f32),
  nullary main_c_138 (constantI S_ 32 1#32),
  unary main_c_138 main_v470 (broadcastInDim S11700x6 ![] bcast_S_S11700x6 : Arr F S_ .i32 → Arr F S11700x6 .i32),
  binary main_v363 main_v470 main_v471 (addi : Arr F S11700x6 .i32 → Arr F S11700x6 .i32 → Arr F S11700x6 .i32),
  nullary main_c_139 (constantI S_ 32 0#32),
  unary main_c_139 main_v472 (broadcastInDim S11700x6 ![] bcast_S_S11700x6 : Arr F S_ .i32 → Arr F S11700x6 .i32),
  binary main_v362 main_v472 main_v473 (addi : Arr F S11700x6 .i32 → Arr F S11700x6 .i32 → Arr F S11700x6 .i32),
  nullary main_c_140 (constantI S_ 32 0#32),
  unary main_c_140 main_v474 (broadcastInDim S11700x6 ![] bcast_S_S11700x6 : Arr F S_ .i32 → Arr F S11700x6 .i32),
  binary main_v473 main_v474 main_v475 (cmpi .sge : Arr F S11700x6 .i32 → Arr F S11700x6 .i32 → Arr F S11700x6 .i1),
  nullary main_c_141 (constantI S_ 32 88#32),
  unary main_c_141 main_v476 (broadcastInDim S11700x6 ![] bcast_S_S11700x6 : Arr F S_ .i32 → Arr F S11700x6 .i32),
  binary main_v473 main_v476 main_v477 (cmpi .slt : Arr F S11700x6 .i32 → Arr F S11700x6 .i32 → Arr F S11700x6 .i1),
  binary main_v475 main_v477 main_v478 (andi : Arr F S11700x6 .i1 → Arr F S11700x6 .i1 → Arr F S11700x6 .i1),
  nullary main_c_142 (constantI S_ 32 0#32),
  unary main_c_142 main_v479 (broadcastInDim S11700x6 ![] bcast_S_S11700x6 : Arr F S_ .i32 → Arr F S11700x6 .i32),
  binary main_v471 main_v479 main_v480 (cmpi .sge : Arr F S11700x6 .i32 → Arr F S11700x6 .i32 → Arr F S11700x6 .i1),
  binary main_v478 main_v480 main_v481 (andi : Arr F S11700x6 .i1 → Arr F S11700x6 .i1 → Arr F S11700x6 .i1),
  nullary main_c_143 (constantI S_ 32 32#32),
  unary main_c_143 main_v482 (broadcastInDim S11700x6 ![] bcast_S_S11700x6 : Arr F S_ .i32 → Arr F S11700x6 .i32),
  binary main_v471 main_v482 main_v483 (cmpi .slt : Arr F S11700x6 .i32 → Arr F S11700x6 .i32 → Arr F S11700x6 .i1),
  binary main_v481 main_v483 main_v484 (andi : Arr F S11700x6 .i1 → Arr F S11700x6 .i1 → Arr F S11700x6 .i1),
  unary main_v484 main_v485 (uitofp .f32 : Arr F S11700x6 .i1 → Arr F S11700x6 .f32),
  binary main_v471 main_v365 main_v486 (subi : Arr F S11700x6 .i32 → Arr F S11700x6 .i32 → Arr F S11700x6 .i32),
  nullary main_c_144 (constantI S_ 32 2#32),
  unary main_c_144 main_v487 (broadcastInDim S11700x6 ![] bcast_S_S11700x6 : Arr F S_ .i32 → Arr F S11700x6 .i32),
  binary main_v486 main_v487 main_v488 (muli : Arr F S11700x6 .i32 → Arr F S11700x6 .i32 → Arr F S11700x6 .i32),
  binary main_v473 main_v364 main_v489 (subi : Arr F S11700x6 .i32 → Arr F S11700x6 .i32 → Arr F S11700x6 .i32),
  binary main_v488 main_v489 main_v490 (addi : Arr F S11700x6 .i32 → Arr F S11700x6 .i32 → Arr F S11700x6 .i32),
  nullary main_c_145 (constantI S_ 32 0#32),
  nullary main_c_146 (constantI S_ 32 3#32),
  TRef.unary (.of (T := ⟨S_, .i32⟩) main_c_145) (.of (T := ⟨S_, .i32⟩) main_call29_v0) id,
  TRef.unary (.of (T := ⟨S_, .i32⟩) main_call29_v0) (.of (T := ⟨S11700x6, .i32⟩) main_call29_v1) (broadcastInDim S11700x6 ![] bcast_S_S11700x6),
  TRef.binary (.of (T := ⟨S11700x6, .i32⟩) main_call29_v1) (.of (T := ⟨S11700x6, .i32⟩) main_v490) (.of (T := ⟨S11700x6, .i32⟩) main_call29_v2) maxsi,
  TRef.unary (.of (T := ⟨S_, .i32⟩) main_c_146) (.of (T := ⟨S_, .i32⟩) main_call29_v3) id,
  TRef.unary (.of (T := ⟨S_, .i32⟩) main_call29_v3) (.of (T := ⟨S11700x6, .i32⟩) main_call29_v4) (broadcastInDim S11700x6 ![] bcast_S_S11700x6),
  TRef.binary (.of (T := ⟨S11700x6, .i32⟩) main_call29_v4) (.of (T := ⟨S11700x6, .i32⟩) main_call29_v2) (.of (T := ⟨S11700x6, .i32⟩) main_v491) minsi,
  TRef.unary (.of (T := ⟨S11700x6, .i32⟩) main_v491) (.of (T := ⟨S11700x6x1, .i32⟩) main_call30_v0) (broadcastInDim S11700x6x1 ![0, 1] bcast_S11700x6_S11700x6x1_0_1),
  TRef.nullary (.of (T := ⟨S1x1x4, .i32⟩) main_call30_v1) (iotaInDim S1x1x4 32 2),
  TRef.unary (.of (T := ⟨S11700x6x1, .i32⟩) main_call30_v0) (.of (T := ⟨S11700x6x4, .i32⟩) main_call30_v2) (broadcastInDim S11700x6x4 ![0, 1, 2] bcast_S11700x6x1_S11700x6x4_0_1_2),
  TRef.unary (.of (T := ⟨S1x1x4, .i32⟩) main_call30_v1) (.of (T := ⟨S11700x6x4, .i32⟩) main_call30_v3) (broadcastInDim S11700x6x4 ![0, 1, 2] bcast_S1x1x4_S11700x6x4_0_1_2),
  TRef.binary (.of (T := ⟨S11700x6x4, .i32⟩) main_call30_v2) (.of (T := ⟨S11700x6x4, .i32⟩) main_call30_v3) (.of (T := ⟨S11700x6x4, .i1⟩) main_call30_v4) (cmpi .eq),
  TRef.unary (.of (T := ⟨S11700x6x4, .i1⟩) main_call30_v4) (.of (T := ⟨S11700x6x4, .f32⟩) main_v492) (uitofp .f32),
  binary main_v412 main_v485 main_v493 (mulf : Arr F S11700x6 .f32 → Arr F S11700x6 .f32 → Arr F S11700x6 .f32),
  unary main_v493 main_v494 (broadcastInDim S11700x6x1 ![0, 1] bcast_S11700x6_S11700x6x1_0_1 : Arr F S11700x6 .f32 → Arr F S11700x6x1 .f32),
  unary main_v494 main_v495 (broadcastInDim S11700x6x4 ![0, 1, 2] bcast_S11700x6x1_S11700x6x4_0_1_2 : Arr F S11700x6x1 .f32 → Arr F S11700x6x4 .f32),
  binary main_v492 main_v495 main_v496 (mulf : Arr F S11700x6x4 .f32 → Arr F S11700x6x4 .f32 → Arr F S11700x6x4 .f32),
  binary main_v469 main_v496 main_v497 (addf : Arr F S11700x6x4 .f32 → Arr F S11700x6x4 .f32 → Arr F S11700x6x4 .f32),
  nullary main_c_147 (constantI S_ 32 1#32),
  unary main_c_147 main_v498 (broadcastInDim S11700x6 ![] bcast_S_S11700x6 : Arr F S_ .i32 → Arr F S11700x6 .i32),
  binary main_v363 main_v498 main_v499 (addi : Arr F S11700x6 .i32 → Arr F S11700x6 .i32 → Arr F S11700x6 .i32),
  nullary main_c_148 (constantI S_ 32 1#32),
  unary main_c_148 main_v500 (broadcastInDim S11700x6 ![] bcast_S_S11700x6 : Arr F S_ .i32 → Arr F S11700x6 .i32),
  binary main_v362 main_v500 main_v501 (addi : Arr F S11700x6 .i32 → Arr F S11700x6 .i32 → Arr F S11700x6 .i32),
  nullary main_c_149 (constantI S_ 32 0#32),
  unary main_c_149 main_v502 (broadcastInDim S11700x6 ![] bcast_S_S11700x6 : Arr F S_ .i32 → Arr F S11700x6 .i32),
  binary main_v501 main_v502 main_v503 (cmpi .sge : Arr F S11700x6 .i32 → Arr F S11700x6 .i32 → Arr F S11700x6 .i1),
  nullary main_c_150 (constantI S_ 32 88#32),
  unary main_c_150 main_v504 (broadcastInDim S11700x6 ![] bcast_S_S11700x6 : Arr F S_ .i32 → Arr F S11700x6 .i32),
  binary main_v501 main_v504 main_v505 (cmpi .slt : Arr F S11700x6 .i32 → Arr F S11700x6 .i32 → Arr F S11700x6 .i1),
  binary main_v503 main_v505 main_v506 (andi : Arr F S11700x6 .i1 → Arr F S11700x6 .i1 → Arr F S11700x6 .i1)]

def k15 : List (HloOp τ sig (Elt F)) := [
  nullary main_c_151 (constantI S_ 32 0#32),
  unary main_c_151 main_v507 (broadcastInDim S11700x6 ![] bcast_S_S11700x6 : Arr F S_ .i32 → Arr F S11700x6 .i32),
  binary main_v499 main_v507 main_v508 (cmpi .sge : Arr F S11700x6 .i32 → Arr F S11700x6 .i32 → Arr F S11700x6 .i1),
  binary main_v506 main_v508 main_v509 (andi : Arr F S11700x6 .i1 → Arr F S11700x6 .i1 → Arr F S11700x6 .i1),
  nullary main_c_152 (constantI S_ 32 32#32),
  unary main_c_152 main_v510 (broadcastInDim S11700x6 ![] bcast_S_S11700x6 : Arr F S_ .i32 → Arr F S11700x6 .i32),
  binary main_v499 main_v510 main_v511 (cmpi .slt : Arr F S11700x6 .i32 → Arr F S11700x6 .i32 → Arr F S11700x6 .i1),
  binary main_v509 main_v511 main_v512 (andi : Arr F S11700x6 .i1 → Arr F S11700x6 .i1 → Arr F S11700x6 .i1),
  unary main_v512 main_v513 (uitofp .f32 : Arr F S11700x6 .i1 → Arr F S11700x6 .f32),
  binary main_v499 main_v365 main_v514 (subi : Arr F S11700x6 .i32 → Arr F S11700x6 .i32 → Arr F S11700x6 .i32),
  nullary main_c_153 (constantI S_ 32 2#32),
  unary main_c_153 main_v515 (broadcastInDim S11700x6 ![] bcast_S_S11700x6 : Arr F S_ .i32 → Arr F S11700x6 .i32),
  binary main_v514 main_v515 main_v516 (muli : Arr F S11700x6 .i32 → Arr F S11700x6 .i32 → Arr F S11700x6 .i32),
  binary main_v501 main_v364 main_v517 (subi : Arr F S11700x6 .i32 → Arr F S11700x6 .i32 → Arr F S11700x6 .i32),
  binary main_v516 main_v517 main_v518 (addi : Arr F S11700x6 .i32 → Arr F S11700x6 .i32 → Arr F S11700x6 .i32),
  nullary main_c_154 (constantI S_ 32 0#32),
  nullary main_c_155 (constantI S_ 32 3#32),
  TRef.unary (.of (T := ⟨S_, .i32⟩) main_c_154) (.of (T := ⟨S_, .i32⟩) main_call31_v0) id,
  TRef.unary (.of (T := ⟨S_, .i32⟩) main_call31_v0) (.of (T := ⟨S11700x6, .i32⟩) main_call31_v1) (broadcastInDim S11700x6 ![] bcast_S_S11700x6),
  TRef.binary (.of (T := ⟨S11700x6, .i32⟩) main_call31_v1) (.of (T := ⟨S11700x6, .i32⟩) main_v518) (.of (T := ⟨S11700x6, .i32⟩) main_call31_v2) maxsi,
  TRef.unary (.of (T := ⟨S_, .i32⟩) main_c_155) (.of (T := ⟨S_, .i32⟩) main_call31_v3) id,
  TRef.unary (.of (T := ⟨S_, .i32⟩) main_call31_v3) (.of (T := ⟨S11700x6, .i32⟩) main_call31_v4) (broadcastInDim S11700x6 ![] bcast_S_S11700x6),
  TRef.binary (.of (T := ⟨S11700x6, .i32⟩) main_call31_v4) (.of (T := ⟨S11700x6, .i32⟩) main_call31_v2) (.of (T := ⟨S11700x6, .i32⟩) main_v519) minsi,
  TRef.unary (.of (T := ⟨S11700x6, .i32⟩) main_v519) (.of (T := ⟨S11700x6x1, .i32⟩) main_call32_v0) (broadcastInDim S11700x6x1 ![0, 1] bcast_S11700x6_S11700x6x1_0_1),
  TRef.nullary (.of (T := ⟨S1x1x4, .i32⟩) main_call32_v1) (iotaInDim S1x1x4 32 2),
  TRef.unary (.of (T := ⟨S11700x6x1, .i32⟩) main_call32_v0) (.of (T := ⟨S11700x6x4, .i32⟩) main_call32_v2) (broadcastInDim S11700x6x4 ![0, 1, 2] bcast_S11700x6x1_S11700x6x4_0_1_2),
  TRef.unary (.of (T := ⟨S1x1x4, .i32⟩) main_call32_v1) (.of (T := ⟨S11700x6x4, .i32⟩) main_call32_v3) (broadcastInDim S11700x6x4 ![0, 1, 2] bcast_S1x1x4_S11700x6x4_0_1_2),
  TRef.binary (.of (T := ⟨S11700x6x4, .i32⟩) main_call32_v2) (.of (T := ⟨S11700x6x4, .i32⟩) main_call32_v3) (.of (T := ⟨S11700x6x4, .i1⟩) main_call32_v4) (cmpi .eq),
  TRef.unary (.of (T := ⟨S11700x6x4, .i1⟩) main_call32_v4) (.of (T := ⟨S11700x6x4, .f32⟩) main_v520) (uitofp .f32),
  binary main_v413 main_v513 main_v521 (mulf : Arr F S11700x6 .f32 → Arr F S11700x6 .f32 → Arr F S11700x6 .f32),
  unary main_v521 main_v522 (broadcastInDim S11700x6x1 ![0, 1] bcast_S11700x6_S11700x6x1_0_1 : Arr F S11700x6 .f32 → Arr F S11700x6x1 .f32),
  unary main_v522 main_v523 (broadcastInDim S11700x6x4 ![0, 1, 2] bcast_S11700x6x1_S11700x6x4_0_1_2 : Arr F S11700x6x1 .f32 → Arr F S11700x6x4 .f32),
  binary main_v520 main_v523 main_v524 (mulf : Arr F S11700x6x4 .f32 → Arr F S11700x6x4 .f32 → Arr F S11700x6x4 .f32),
  binary main_v497 main_v524 main_v525 (addf : Arr F S11700x6x4 .f32 → Arr F S11700x6x4 .f32 → Arr F S11700x6x4 .f32),
  unary main_v525 main_v526 (broadcastInDim S11700x6x4x1 ![0, 1, 2] bcast_S11700x6x4_S11700x6x4x1_0_1_2 : Arr F S11700x6x4 .f32 → Arr F S11700x6x4x1 .f32),
  unary main_v156 main_v527 ((extractStridedSlice S11700x6x1x8 ![0, 0, 1, 0] · slices_S11700x6x4x8_S11700x6x1x8_0_0_1_0) : Arr F S11700x6x4x8 .f32 → Arr F S11700x6x1x8 .f32),
  reshape main_v527 main_v528 (rfl : (.f32 : EltTy) = .f32) shapeCasts_S11700x6x1x8_S11700x6x8,
  unary main_v528 main_v529 (broadcastInDim S11700x6x1x8 ![0, 1, 3] bcast_S11700x6x8_S11700x6x1x8_0_1_3 : Arr F S11700x6x8 .f32 → Arr F S11700x6x1x8 .f32),
  unary main_v526 main_v530 (broadcastInDim S11700x6x4x8 ![0, 1, 2, 3] bcast_S11700x6x4x1_S11700x6x4x8_0_1_2_3 : Arr F S11700x6x4x1 .f32 → Arr F S11700x6x4x8 .f32),
  unary main_v529 main_v531 (broadcastInDim S11700x6x4x8 ![0, 1, 2, 3] bcast_S11700x6x1x8_S11700x6x4x8_0_1_2_3 : Arr F S11700x6x1x8 .f32 → Arr F S11700x6x4x8 .f32),
  binary main_v530 main_v531 main_v532 (mulf : Arr F S11700x6x4x8 .f32 → Arr F S11700x6x4x8 .f32 → Arr F S11700x6x4x8 .f32)]

def k16 : List (HloOp τ sig (Elt F)) := [
  unary main_v155 main_v533 ((extractStridedSlice S11700x6x1 ![0, 0, 0] · slices_S11700x6x2_S11700x6x1_0_0_0) : Arr F S11700x6x2 .f32 → Arr F S11700x6x1 .f32),
  reshape main_v533 main_v534 (rfl : (.f32 : EltTy) = .f32) shapeCasts_S11700x6x1_S11700x6,
  nullary main_cst_156 (constant S_ .f32 0x42300000#32),
  unary main_cst_156 main_v535 (broadcastInDim S11700x6 ![] bcast_S_S11700x6 : Arr F S_ .f32 → Arr F S11700x6 .f32),
  binary main_v534 main_v535 main_v536 (mulf : Arr F S11700x6 .f32 → Arr F S11700x6 .f32 → Arr F S11700x6 .f32),
  nullary main_cst_157 (constant S_ .f32 0x3F000000#32),
  unary main_cst_157 main_v537 (broadcastInDim S11700x6 ![] bcast_S_S11700x6 : Arr F S_ .f32 → Arr F S11700x6 .f32),
  binary main_v536 main_v537 main_v538 (subf : Arr F S11700x6 .f32 → Arr F S11700x6 .f32 → Arr F S11700x6 .f32),
  unary main_v155 main_v539 ((extractStridedSlice S11700x6x1 ![0, 0, 1] · slices_S11700x6x2_S11700x6x1_0_0_1) : Arr F S11700x6x2 .f32 → Arr F S11700x6x1 .f32),
  reshape main_v539 main_v540 (rfl : (.f32 : EltTy) = .f32) shapeCasts_S11700x6x1_S11700x6,
  nullary main_cst_158 (constant S_ .f32 0x41800000#32),
  unary main_cst_158 main_v541 (broadcastInDim S11700x6 ![] bcast_S_S11700x6 : Arr F S_ .f32 → Arr F S11700x6 .f32),
  binary main_v540 main_v541 main_v542 (mulf : Arr F S11700x6 .f32 → Arr F S11700x6 .f32 → Arr F S11700x6 .f32),
  nullary main_cst_159 (constant S_ .f32 0x3F000000#32),
  unary main_cst_159 main_v543 (broadcastInDim S11700x6 ![] bcast_S_S11700x6 : Arr F S_ .f32 → Arr F S11700x6 .f32),
  binary main_v542 main_v543 main_v544 (subf : Arr F S11700x6 .f32 → Arr F S11700x6 .f32 → Arr F S11700x6 .f32),
  unary main_v538 main_v545 (Host.floor : Arr F S11700x6 .f32 → Arr F S11700x6 .f32),
  unary main_v544 main_v546 (Host.floor : Arr F S11700x6 .f32 → Arr F S11700x6 .f32),
  binary main_v538 main_v545 main_v547 (subf : Arr F S11700x6 .f32 → Arr F S11700x6 .f32 → Arr F S11700x6 .f32),
  binary main_v544 main_v546 main_v548 (subf : Arr F S11700x6 .f32 → Arr F S11700x6 .f32 → Arr F S11700x6 .f32),
  unary main_v545 main_v549 (fptosi 32 : Arr F S11700x6 .f32 → Arr F S11700x6 .i32),
  unary main_v546 main_v550 (fptosi 32 : Arr F S11700x6 .f32 → Arr F S11700x6 .i32),
  nullary main_c_160 (constantI S_ 32 0#32),
  nullary main_c_161 (constantI S_ 32 42#32),
  TRef.unary (.of (T := ⟨S_, .i32⟩) main_c_160) (.of (T := ⟨S_, .i32⟩) main_call33_v0) id,
  TRef.unary (.of (T := ⟨S_, .i32⟩) main_call33_v0) (.of (T := ⟨S11700x6, .i32⟩) main_call33_v1) (broadcastInDim S11700x6 ![] bcast_S_S11700x6),
  TRef.binary (.of (T := ⟨S11700x6, .i32⟩) main_call33_v1) (.of (T := ⟨S11700x6, .i32⟩) main_v549) (.of (T := ⟨S11700x6, .i32⟩) main_call33_v2) maxsi,
  TRef.unary (.of (T := ⟨S_, .i32⟩) main_c_161) (.of (T := ⟨S_, .i32⟩) main_call33_v3) id,
  TRef.unary (.of (T := ⟨S_, .i32⟩) main_call33_v3) (.of (T := ⟨S11700x6, .i32⟩) main_call33_v4) (broadcastInDim S11700x6 ![] bcast_S_S11700x6),
  TRef.binary (.of (T := ⟨S11700x6, .i32⟩) main_call33_v4) (.of (T := ⟨S11700x6, .i32⟩) main_call33_v2) (.of (T := ⟨S11700x6, .i32⟩) main_v551) minsi,
  nullary main_c_162 (constantI S_ 32 0#32),
  nullary main_c_163 (constantI S_ 32 14#32),
  TRef.unary (.of (T := ⟨S_, .i32⟩) main_c_162) (.of (T := ⟨S_, .i32⟩) main_call34_v0) id,
  TRef.unary (.of (T := ⟨S_, .i32⟩) main_call34_v0) (.of (T := ⟨S11700x6, .i32⟩) main_call34_v1) (broadcastInDim S11700x6 ![] bcast_S_S11700x6),
  TRef.binary (.of (T := ⟨S11700x6, .i32⟩) main_call34_v1) (.of (T := ⟨S11700x6, .i32⟩) main_v550) (.of (T := ⟨S11700x6, .i32⟩) main_call34_v2) maxsi,
  TRef.unary (.of (T := ⟨S_, .i32⟩) main_c_163) (.of (T := ⟨S_, .i32⟩) main_call34_v3) id,
  TRef.unary (.of (T := ⟨S_, .i32⟩) main_call34_v3) (.of (T := ⟨S11700x6, .i32⟩) main_call34_v4) (broadcastInDim S11700x6 ![] bcast_S_S11700x6),
  TRef.binary (.of (T := ⟨S11700x6, .i32⟩) main_call34_v4) (.of (T := ⟨S11700x6, .i32⟩) main_call34_v2) (.of (T := ⟨S11700x6, .i32⟩) main_v552) minsi,
  nullary main_c_164 (constantI S_ 32 1#32)]

def k17 : List (HloOp τ sig (Elt F)) := [
  unary main_c_164 main_v553 (broadcastInDim S11700x6 ![] bcast_S_S11700x6 : Arr F S_ .i32 → Arr F S11700x6 .i32),
  binary main_v552 main_v553 main_v554 (andi : Arr F S11700x6 .i32 → Arr F S11700x6 .i32 → Arr F S11700x6 .i32),
  nullary main_c_165 (constantI S_ 32 1#32),
  unary main_c_165 main_v555 (broadcastInDim S11700x6 ![] bcast_S_S11700x6 : Arr F S_ .i32 → Arr F S11700x6 .i32),
  binary main_v551 main_v555 main_v556 (andi : Arr F S11700x6 .i32 → Arr F S11700x6 .i32 → Arr F S11700x6 .i32),
  nullary main_c_166 (constantI S_ 32 0#32),
  unary main_c_166 main_v557 (broadcastInDim S11700x6 ![] bcast_S_S11700x6 : Arr F S_ .i32 → Arr F S11700x6 .i32),
  binary main_v554 main_v557 main_v558 (cmpi .eq : Arr F S11700x6 .i32 → Arr F S11700x6 .i32 → Arr F S11700x6 .i1),
  nullary main_c_167 (constantI S_ 32 0#32),
  unary main_c_167 main_v559 (broadcastInDim S11700x6 ![] bcast_S_S11700x6 : Arr F S_ .i32 → Arr F S11700x6 .i32),
  binary main_v556 main_v559 main_v560 (cmpi .eq : Arr F S11700x6 .i32 → Arr F S11700x6 .i32 → Arr F S11700x6 .i1),
  nullary main_c_168 (constantI S_ 32 82332#32),
  nullary main_c_169 (constantI S_ 32 83388#32),
  TRef.unary (.of (T := ⟨S_, .i32⟩) main_c_168) (.of (T := ⟨S11700x6, .i32⟩) main_call35_v0) (broadcastInDim S11700x6 ![] bcast_S_S11700x6),
  TRef.unary (.of (T := ⟨S_, .i32⟩) main_c_169) (.of (T := ⟨S11700x6, .i32⟩) main_call35_v1) (broadcastInDim S11700x6 ![] bcast_S_S11700x6),
  TRef.ternary (.of (T := ⟨S11700x6, .i1⟩) main_v560) (.of (T := ⟨S11700x6, .i32⟩) main_call35_v0) (.of (T := ⟨S11700x6, .i32⟩) main_call35_v1) (.of (T := ⟨S11700x6, .i32⟩) main_v561) select,
  nullary main_c_170 (constantI S_ 32 0#32),
  unary main_c_170 main_v562 (broadcastInDim S11700x6 ![] bcast_S_S11700x6 : Arr F S_ .i32 → Arr F S11700x6 .i32),
  binary main_v556 main_v562 main_v563 (cmpi .eq : Arr F S11700x6 .i32 → Arr F S11700x6 .i32 → Arr F S11700x6 .i1),
  nullary main_c_171 (constantI S_ 32 84396#32),
  nullary main_c_172 (constantI S_ 32 85320#32),
  TRef.unary (.of (T := ⟨S_, .i32⟩) main_c_171) (.of (T := ⟨S11700x6, .i32⟩) main_call36_v0) (broadcastInDim S11700x6 ![] bcast_S_S11700x6),
  TRef.unary (.of (T := ⟨S_, .i32⟩) main_c_172) (.of (T := ⟨S11700x6, .i32⟩) main_call36_v1) (broadcastInDim S11700x6 ![] bcast_S_S11700x6),
  TRef.ternary (.of (T := ⟨S11700x6, .i1⟩) main_v563) (.of (T := ⟨S11700x6, .i32⟩) main_call36_v0) (.of (T := ⟨S11700x6, .i32⟩) main_call36_v1) (.of (T := ⟨S11700x6, .i32⟩) main_v564) select,
  TRef.ternary (.of (T := ⟨S11700x6, .i1⟩) main_v558) (.of (T := ⟨S11700x6, .i32⟩) main_v561) (.of (T := ⟨S11700x6, .i32⟩) main_v564) (.of (T := ⟨S11700x6, .i32⟩) main_v565) select,
  nullary main_c_173 (constantI S_ 32 0#32),
  unary main_c_173 main_v566 (broadcastInDim S11700x6 ![] bcast_S_S11700x6 : Arr F S_ .i32 → Arr F S11700x6 .i32),
  binary main_v554 main_v566 main_v567 (cmpi .eq : Arr F S11700x6 .i32 → Arr F S11700x6 .i32 → Arr F S11700x6 .i1),
  nullary main_c_174 (constantI S_ 32 8#32),
  nullary main_c_175 (constantI S_ 32 7#32),
  TRef.unary (.of (T := ⟨S_, .i32⟩) main_c_174) (.of (T := ⟨S11700x6, .i32⟩) main_call38_v0) (broadcastInDim S11700x6 ![] bcast_S_S11700x6),
  TRef.unary (.of (T := ⟨S_, .i32⟩) main_c_175) (.of (T := ⟨S11700x6, .i32⟩) main_call38_v1) (broadcastInDim S11700x6 ![] bcast_S_S11700x6),
  TRef.ternary (.of (T := ⟨S11700x6, .i1⟩) main_v567) (.of (T := ⟨S11700x6, .i32⟩) main_call38_v0) (.of (T := ⟨S11700x6, .i32⟩) main_call38_v1) (.of (T := ⟨S11700x6, .i32⟩) main_v568) select,
  nullary main_c_176 (constantI S_ 32 0#32),
  unary main_c_176 main_v569 (broadcastInDim S11700x6 ![] bcast_S_S11700x6 : Arr F S_ .i32 → Arr F S11700x6 .i32),
  binary main_v556 main_v569 main_v570 (cmpi .eq : Arr F S11700x6 .i32 → Arr F S11700x6 .i32 → Arr F S11700x6 .i1),
  nullary main_c_177 (constantI S_ 32 22#32),
  nullary main_c_178 (constantI S_ 32 21#32),
  TRef.unary (.of (T := ⟨S_, .i32⟩) main_c_177) (.of (T := ⟨S11700x6, .i32⟩) main_call39_v0) (broadcastInDim S11700x6 ![] bcast_S_S11700x6),
  TRef.unary (.of (T := ⟨S_, .i32⟩) main_c_178) (.of (T := ⟨S11700x6, .i32⟩) main_call39_v1) (broadcastInDim S11700x6 ![] bcast_S_S11700x6),
  TRef.ternary (.of (T := ⟨S11700x6, .i1⟩) main_v570) (.of (T := ⟨S11700x6, .i32⟩) main_call39_v0) (.of (T := ⟨S11700x6, .i32⟩) main_call39_v1) (.of (T := ⟨S11700x6, .i32⟩) main_v571) select,
  binary main_v552 main_v554 main_v572 (subi : Arr F S11700x6 .i32 → Arr F S11700x6 .i32 → Arr F S11700x6 .i32),
  nullary main_c_179 (constantI S_ 32 1#32),
  unary main_c_179 main_v573 (broadcastInDim S11700x6 ![] bcast_S_S11700x6 : Arr F S_ .i32 → Arr F S11700x6 .i32),
  binary main_v572 main_v573 main_v574 (Host.shrsi : Arr F S11700x6 .i32 → Arr F S11700x6 .i32 → Arr F S11700x6 .i32),
  unary main_v571 main_v575 (id : Arr F S11700x6 .i32 → Arr F S11700x6 .i32),
  binary main_v574 main_v575 main_v576 (muli : Arr F S11700x6 .i32 → Arr F S11700x6 .i32 → Arr F S11700x6 .i32),
  binary main_v551 main_v556 main_v577 (subi : Arr F S11700x6 .i32 → Arr F S11700x6 .i32 → Arr F S11700x6 .i32),
  nullary main_c_180 (constantI S_ 32 1#32),
  unary main_c_180 main_v578 (broadcastInDim S11700x6 ![] bcast_S_S11700x6 : Arr F S_ .i32 → Arr F S11700x6 .i32),
  binary main_v577 main_v578 main_v579 (Host.shrsi : Arr F S11700x6 .i32 → Arr F S11700x6 .i32 → Arr F S11700x6 .i32),
  binary main_v576 main_v579 main_v580 (addi : Arr F S11700x6 .i32 → Arr F S11700x6 .i32 → Arr F S11700x6 .i32),
  binary main_v568 main_v571 main_v581 (muli : Arr F S11700x6 .i32 → Arr F S11700x6 .i32 → Arr F S11700x6 .i32),
  unary main_v581 main_v582 (id : Arr F S11700x6 .i32 → Arr F S11700x6 .i32),
  unary main_v158 main_v583 (broadcastInDim S11700x6 ![0, 1] bcast_S1x6_S11700x6_0_1 : Arr F S1x6 .i32 → Arr F S11700x6 .i32),
  binary main_v583 main_v582 main_v584 (muli : Arr F S11700x6 .i32 → Arr F S11700x6 .i32 → Arr F S11700x6 .i32),
  unary main_v565 main_v585 (id : Arr F S11700x6 .i32 → Arr F S11700x6 .i32),
  binary main_v585 main_v584 main_v586 (addi : Arr F S11700x6 .i32 → Arr F S11700x6 .i32 → Arr F S11700x6 .i32),
  binary main_v586 main_v580 main_v587 (addi : Arr F S11700x6 .i32 → Arr F S11700x6 .i32 → Arr F S11700x6 .i32)]

def k18 : List (HloOp τ sig (Elt F)) := [
  nullary main_cst_181 (constant S_ .f32 0x00000000#32),
  unary main_cst_181 main_v588 (broadcastInDim S11700x6x4 ![] bcast_S_S11700x6x4 : Arr F S_ .f32 → Arr F S11700x6x4 .f32),
  nullary main_cst_182 (constant S_ .f32 0x3F800000#32),
  unary main_cst_182 main_v589 (broadcastInDim S11700x6 ![] bcast_S_S11700x6 : Arr F S_ .f32 → Arr F S11700x6 .f32),
  binary main_v589 main_v548 main_v590 (subf : Arr F S11700x6 .f32 → Arr F S11700x6 .f32 → Arr F S11700x6 .f32),
  nullary main_cst_183 (constant S_ .f32 0x3F800000#32),
  unary main_cst_183 main_v591 (broadcastInDim S11700x6 ![] bcast_S_S11700x6 : Arr F S_ .f32 → Arr F S11700x6 .f32),
  binary main_v591 main_v547 main_v592 (subf : Arr F S11700x6 .f32 → Arr F S11700x6 .f32 → Arr F S11700x6 .f32),
  binary main_v590 main_v592 main_v593 (mulf : Arr F S11700x6 .f32 → Arr F S11700x6 .f32 → Arr F S11700x6 .f32)]

def k19 : List (HloOp τ sig (Elt F)) := [
  nullary main_cst_184 (constant S_ .f32 0x3F800000#32),
  unary main_cst_184 main_v594 (broadcastInDim S11700x6 ![] bcast_S_S11700x6 : Arr F S_ .f32 → Arr F S11700x6 .f32),
  binary main_v594 main_v548 main_v595 (subf : Arr F S11700x6 .f32 → Arr F S11700x6 .f32 → Arr F S11700x6 .f32),
  binary main_v595 main_v547 main_v596 (mulf : Arr F S11700x6 .f32 → Arr F S11700x6 .f32 → Arr F S11700x6 .f32),
  nullary main_cst_185 (constant S_ .f32 0x3F800000#32),
  unary main_cst_185 main_v597 (broadcastInDim S11700x6 ![] bcast_S_S11700x6 : Arr F S_ .f32 → Arr F S11700x6 .f32),
  binary main_v597 main_v547 main_v598 (subf : Arr F S11700x6 .f32 → Arr F S11700x6 .f32 → Arr F S11700x6 .f32),
  binary main_v548 main_v598 main_v599 (mulf : Arr F S11700x6 .f32 → Arr F S11700x6 .f32 → Arr F S11700x6 .f32),
  binary main_v548 main_v547 main_v600 (mulf : Arr F S11700x6 .f32 → Arr F S11700x6 .f32 → Arr F S11700x6 .f32),
  nullary main_c_186 (constantI S_ 32 0#32),
  unary main_c_186 main_v601 (broadcastInDim S11700x6 ![] bcast_S_S11700x6 : Arr F S_ .i32 → Arr F S11700x6 .i32),
  binary main_v550 main_v601 main_v602 (addi : Arr F S11700x6 .i32 → Arr F S11700x6 .i32 → Arr F S11700x6 .i32),
  nullary main_c_187 (constantI S_ 32 0#32),
  unary main_c_187 main_v603 (broadcastInDim S11700x6 ![] bcast_S_S11700x6 : Arr F S_ .i32 → Arr F S11700x6 .i32),
  binary main_v549 main_v603 main_v604 (addi : Arr F S11700x6 .i32 → Arr F S11700x6 .i32 → Arr F S11700x6 .i32),
  nullary main_c_188 (constantI S_ 32 0#32),
  unary main_c_188 main_v605 (broadcastInDim S11700x6 ![] bcast_S_S11700x6 : Arr F S_ .i32 → Arr F S11700x6 .i32),
  binary main_v604 main_v605 main_v606 (cmpi .sge : Arr F S11700x6 .i32 → Arr F S11700x6 .i32 → Arr F S11700x6 .i1),
  nullary main_c_189 (constantI S_ 32 44#32),
  unary main_c_189 main_v607 (broadcastInDim S11700x6 ![] bcast_S_S11700x6 : Arr F S_ .i32 → Arr F S11700x6 .i32),
  binary main_v604 main_v607 main_v608 (cmpi .slt : Arr F S11700x6 .i32 → Arr F S11700x6 .i32 → Arr F S11700x6 .i1),
  binary main_v606 main_v608 main_v609 (andi : Arr F S11700x6 .i1 → Arr F S11700x6 .i1 → Arr F S11700x6 .i1),
  nullary main_c_190 (constantI S_ 32 0#32),
  unary main_c_190 main_v610 (broadcastInDim S11700x6 ![] bcast_S_S11700x6 : Arr F S_ .i32 → Arr F S11700x6 .i32),
  binary main_v602 main_v610 main_v611 (cmpi .sge : Arr F S11700x6 .i32 → Arr F S11700x6 .i32 → Arr F S11700x6 .i1),
  binary main_v609 main_v611 main_v612 (andi : Arr F S11700x6 .i1 → Arr F S11700x6 .i1 → Arr F S11700x6 .i1),
  nullary main_c_191 (constantI S_ 32 16#32),
  unary main_c_191 main_v613 (broadcastInDim S11700x6 ![] bcast_S_S11700x6 : Arr F S_ .i32 → Arr F S11700x6 .i32),
  binary main_v602 main_v613 main_v614 (cmpi .slt : Arr F S11700x6 .i32 → Arr F S11700x6 .i32 → Arr F S11700x6 .i1),
  binary main_v612 main_v614 main_v615 (andi : Arr F S11700x6 .i1 → Arr F S11700x6 .i1 → Arr F S11700x6 .i1),
  unary main_v615 main_v616 (uitofp .f32 : Arr F S11700x6 .i1 → Arr F S11700x6 .f32),
  binary main_v602 main_v552 main_v617 (subi : Arr F S11700x6 .i32 → Arr F S11700x6 .i32 → Arr F S11700x6 .i32),
  nullary main_c_192 (constantI S_ 32 2#32),
  unary main_c_192 main_v618 (broadcastInDim S11700x6 ![] bcast_S_S11700x6 : Arr F S_ .i32 → Arr F S11700x6 .i32),
  binary main_v617 main_v618 main_v619 (muli : Arr F S11700x6 .i32 → Arr F S11700x6 .i32 → Arr F S11700x6 .i32),
  binary main_v604 main_v551 main_v620 (subi : Arr F S11700x6 .i32 → Arr F S11700x6 .i32 → Arr F S11700x6 .i32),
  binary main_v619 main_v620 main_v621 (addi : Arr F S11700x6 .i32 → Arr F S11700x6 .i32 → Arr F S11700x6 .i32),
  nullary main_c_193 (constantI S_ 32 0#32),
  nullary main_c_194 (constantI S_ 32 3#32),
  TRef.unary (.of (T := ⟨S_, .i32⟩) main_c_193) (.of (T := ⟨S_, .i32⟩) main_call40_v0) id,
  TRef.unary (.of (T := ⟨S_, .i32⟩) main_call40_v0) (.of (T := ⟨S11700x6, .i32⟩) main_call40_v1) (broadcastInDim S11700x6 ![] bcast_S_S11700x6),
  TRef.binary (.of (T := ⟨S11700x6, .i32⟩) main_call40_v1) (.of (T := ⟨S11700x6, .i32⟩) main_v621) (.of (T := ⟨S11700x6, .i32⟩) main_call40_v2) maxsi,
  TRef.unary (.of (T := ⟨S_, .i32⟩) main_c_194) (.of (T := ⟨S_, .i32⟩) main_call40_v3) id,
  TRef.unary (.of (T := ⟨S_, .i32⟩) main_call40_v3) (.of (T := ⟨S11700x6, .i32⟩) main_call40_v4) (broadcastInDim S11700x6 ![] bcast_S_S11700x6),
  TRef.binary (.of (T := ⟨S11700x6, .i32⟩) main_call40_v4) (.of (T := ⟨S11700x6, .i32⟩) main_call40_v2) (.of (T := ⟨S11700x6, .i32⟩) main_v622) minsi,
  TRef.unary (.of (T := ⟨S11700x6, .i32⟩) main_v622) (.of (T := ⟨S11700x6x1, .i32⟩) main_call41_v0) (broadcastInDim S11700x6x1 ![0, 1] bcast_S11700x6_S11700x6x1_0_1),
  TRef.nullary (.of (T := ⟨S1x1x4, .i32⟩) main_call41_v1) (iotaInDim S1x1x4 32 2),
  TRef.unary (.of (T := ⟨S11700x6x1, .i32⟩) main_call41_v0) (.of (T := ⟨S11700x6x4, .i32⟩) main_call41_v2) (broadcastInDim S11700x6x4 ![0, 1, 2] bcast_S11700x6x1_S11700x6x4_0_1_2),
  TRef.unary (.of (T := ⟨S1x1x4, .i32⟩) main_call41_v1) (.of (T := ⟨S11700x6x4, .i32⟩) main_call41_v3) (broadcastInDim S11700x6x4 ![0, 1, 2] bcast_S1x1x4_S11700x6x4_0_1_2),
  TRef.binary (.of (T := ⟨S11700x6x4, .i32⟩) main_call41_v2) (.of (T := ⟨S11700x6x4, .i32⟩) main_call41_v3) (.of (T := ⟨S11700x6x4, .i1⟩) main_call41_v4) (cmpi .eq),
  TRef.unary (.of (T := ⟨S11700x6x4, .i1⟩) main_call41_v4) (.of (T := ⟨S11700x6x4, .f32⟩) main_v623) (uitofp .f32),
  binary main_v593 main_v616 main_v624 (mulf : Arr F S11700x6 .f32 → Arr F S11700x6 .f32 → Arr F S11700x6 .f32),
  unary main_v624 main_v625 (broadcastInDim S11700x6x1 ![0, 1] bcast_S11700x6_S11700x6x1_0_1 : Arr F S11700x6 .f32 → Arr F S11700x6x1 .f32),
  unary main_v625 main_v626 (broadcastInDim S11700x6x4 ![0, 1, 2] bcast_S11700x6x1_S11700x6x4_0_1_2 : Arr F S11700x6x1 .f32 → Arr F S11700x6x4 .f32),
  binary main_v623 main_v626 main_v627 (mulf : Arr F S11700x6x4 .f32 → Arr F S11700x6x4 .f32 → Arr F S11700x6x4 .f32),
  binary main_v588 main_v627 main_v628 (addf : Arr F S11700x6x4 .f32 → Arr F S11700x6x4 .f32 → Arr F S11700x6x4 .f32),
  nullary main_c_195 (constantI S_ 32 0#32),
  unary main_c_195 main_v629 (broadcastInDim S11700x6 ![] bcast_S_S11700x6 : Arr F S_ .i32 → Arr F S11700x6 .i32),
  binary main_v550 main_v629 main_v630 (addi : Arr F S11700x6 .i32 → Arr F S11700x6 .i32 → Arr F S11700x6 .i32),
  nullary main_c_196 (constantI S_ 32 1#32),
  unary main_c_196 main_v631 (broadcastInDim S11700x6 ![] bcast_S_S11700x6 : Arr F S_ .i32 → Arr F S11700x6 .i32),
  binary main_v549 main_v631 main_v632 (addi : Arr F S11700x6 .i32 → Arr F S11700x6 .i32 → Arr F S11700x6 .i32),
  nullary main_c_197 (constantI S_ 32 0#32),
  unary main_c_197 main_v633 (broadcastInDim S11700x6 ![] bcast_S_S11700x6 : Arr F S_ .i32 → Arr F S11700x6 .i32),
  binary main_v632 main_v633 main_v634 (cmpi .sge : Arr F S11700x6 .i32 → Arr F S11700x6 .i32 → Arr F S11700x6 .i1),
  nullary main_c_198 (constantI S_ 32 44#32),
  unary main_c_198 main_v635 (broadcastInDim S11700x6 ![] bcast_S_S11700x6 : Arr F S_ .i32 → Arr F S11700x6 .i32),
  binary main_v632 main_v635 main_v636 (cmpi .slt : Arr F S11700x6 .i32 → Arr F S11700x6 .i32 → Arr F S11700x6 .i1),
  binary main_v634 main_v636 main_v637 (andi : Arr F S11700x6 .i1 → Arr F S11700x6 .i1 → Arr F S11700x6 .i1),
  nullary main_c_199 (constantI S_ 32 0#32)]

def k20 : List (HloOp τ sig (Elt F)) := [
  unary main_c_199 main_v638 (broadcastInDim S11700x6 ![] bcast_S_S11700x6 : Arr F S_ .i32 → Arr F S11700x6 .i32),
  binary main_v630 main_v638 main_v639 (cmpi .sge : Arr F S11700x6 .i32 → Arr F S11700x6 .i32 → Arr F S11700x6 .i1),
  binary main_v637 main_v639 main_v640 (andi : Arr F S11700x6 .i1 → Arr F S11700x6 .i1 → Arr F S11700x6 .i1),
  nullary main_c_200 (constantI S_ 32 16#32),
  unary main_c_200 main_v641 (broadcastInDim S11700x6 ![] bcast_S_S11700x6 : Arr F S_ .i32 → Arr F S11700x6 .i32),
  binary main_v630 main_v641 main_v642 (cmpi .slt : Arr F S11700x6 .i32 → Arr F S11700x6 .i32 → Arr F S11700x6 .i1),
  binary main_v640 main_v642 main_v643 (andi : Arr F S11700x6 .i1 → Arr F S11700x6 .i1 → Arr F S11700x6 .i1),
  unary main_v643 main_v644 (uitofp .f32 : Arr F S11700x6 .i1 → Arr F S11700x6 .f32),
  binary main_v630 main_v552 main_v645 (subi : Arr F S11700x6 .i32 → Arr F S11700x6 .i32 → Arr F S11700x6 .i32),
  nullary main_c_201 (constantI S_ 32 2#32),
  unary main_c_201 main_v646 (broadcastInDim S11700x6 ![] bcast_S_S11700x6 : Arr F S_ .i32 → Arr F S11700x6 .i32),
  binary main_v645 main_v646 main_v647 (muli : Arr F S11700x6 .i32 → Arr F S11700x6 .i32 → Arr F S11700x6 .i32),
  binary main_v632 main_v551 main_v648 (subi : Arr F S11700x6 .i32 → Arr F S11700x6 .i32 → Arr F S11700x6 .i32),
  binary main_v647 main_v648 main_v649 (addi : Arr F S11700x6 .i32 → Arr F S11700x6 .i32 → Arr F S11700x6 .i32),
  nullary main_c_202 (constantI S_ 32 0#32),
  nullary main_c_203 (constantI S_ 32 3#32),
  TRef.unary (.of (T := ⟨S_, .i32⟩) main_c_202) (.of (T := ⟨S_, .i32⟩) main_call42_v0) id,
  TRef.unary (.of (T := ⟨S_, .i32⟩) main_call42_v0) (.of (T := ⟨S11700x6, .i32⟩) main_call42_v1) (broadcastInDim S11700x6 ![] bcast_S_S11700x6),
  TRef.binary (.of (T := ⟨S11700x6, .i32⟩) main_call42_v1) (.of (T := ⟨S11700x6, .i32⟩) main_v649) (.of (T := ⟨S11700x6, .i32⟩) main_call42_v2) maxsi,
  TRef.unary (.of (T := ⟨S_, .i32⟩) main_c_203) (.of (T := ⟨S_, .i32⟩) main_call42_v3) id,
  TRef.unary (.of (T := ⟨S_, .i32⟩) main_call42_v3) (.of (T := ⟨S11700x6, .i32⟩) main_call42_v4) (broadcastInDim S11700x6 ![] bcast_S_S11700x6),
  TRef.binary (.of (T := ⟨S11700x6, .i32⟩) main_call42_v4) (.of (T := ⟨S11700x6, .i32⟩) main_call42_v2) (.of (T := ⟨S11700x6, .i32⟩) main_v650) minsi,
  TRef.unary (.of (T := ⟨S11700x6, .i32⟩) main_v650) (.of (T := ⟨S11700x6x1, .i32⟩) main_call43_v0) (broadcastInDim S11700x6x1 ![0, 1] bcast_S11700x6_S11700x6x1_0_1),
  TRef.nullary (.of (T := ⟨S1x1x4, .i32⟩) main_call43_v1) (iotaInDim S1x1x4 32 2),
  TRef.unary (.of (T := ⟨S11700x6x1, .i32⟩) main_call43_v0) (.of (T := ⟨S11700x6x4, .i32⟩) main_call43_v2) (broadcastInDim S11700x6x4 ![0, 1, 2] bcast_S11700x6x1_S11700x6x4_0_1_2),
  TRef.unary (.of (T := ⟨S1x1x4, .i32⟩) main_call43_v1) (.of (T := ⟨S11700x6x4, .i32⟩) main_call43_v3) (broadcastInDim S11700x6x4 ![0, 1, 2] bcast_S1x1x4_S11700x6x4_0_1_2),
  TRef.binary (.of (T := ⟨S11700x6x4, .i32⟩) main_call43_v2) (.of (T := ⟨S11700x6x4, .i32⟩) main_call43_v3) (.of (T := ⟨S11700x6x4, .i1⟩) main_call43_v4) (cmpi .eq),
  TRef.unary (.of (T := ⟨S11700x6x4, .i1⟩) main_call43_v4) (.of (T := ⟨S11700x6x4, .f32⟩) main_v651) (uitofp .f32),
  binary main_v596 main_v644 main_v652 (mulf : Arr F S11700x6 .f32 → Arr F S11700x6 .f32 → Arr F S11700x6 .f32),
  unary main_v652 main_v653 (broadcastInDim S11700x6x1 ![0, 1] bcast_S11700x6_S11700x6x1_0_1 : Arr F S11700x6 .f32 → Arr F S11700x6x1 .f32),
  unary main_v653 main_v654 (broadcastInDim S11700x6x4 ![0, 1, 2] bcast_S11700x6x1_S11700x6x4_0_1_2 : Arr F S11700x6x1 .f32 → Arr F S11700x6x4 .f32),
  binary main_v651 main_v654 main_v655 (mulf : Arr F S11700x6x4 .f32 → Arr F S11700x6x4 .f32 → Arr F S11700x6x4 .f32),
  binary main_v628 main_v655 main_v656 (addf : Arr F S11700x6x4 .f32 → Arr F S11700x6x4 .f32 → Arr F S11700x6x4 .f32),
  nullary main_c_204 (constantI S_ 32 1#32),
  unary main_c_204 main_v657 (broadcastInDim S11700x6 ![] bcast_S_S11700x6 : Arr F S_ .i32 → Arr F S11700x6 .i32),
  binary main_v550 main_v657 main_v658 (addi : Arr F S11700x6 .i32 → Arr F S11700x6 .i32 → Arr F S11700x6 .i32),
  nullary main_c_205 (constantI S_ 32 0#32),
  unary main_c_205 main_v659 (broadcastInDim S11700x6 ![] bcast_S_S11700x6 : Arr F S_ .i32 → Arr F S11700x6 .i32),
  binary main_v549 main_v659 main_v660 (addi : Arr F S11700x6 .i32 → Arr F S11700x6 .i32 → Arr F S11700x6 .i32),
  nullary main_c_206 (constantI S_ 32 0#32),
  unary main_c_206 main_v661 (broadcastInDim S11700x6 ![] bcast_S_S11700x6 : Arr F S_ .i32 → Arr F S11700x6 .i32),
  binary main_v660 main_v661 main_v662 (cmpi .sge : Arr F S11700x6 .i32 → Arr F S11700x6 .i32 → Arr F S11700x6 .i1),
  nullary main_c_207 (constantI S_ 32 44#32),
  unary main_c_207 main_v663 (broadcastInDim S11700x6 ![] bcast_S_S11700x6 : Arr F S_ .i32 → Arr F S11700x6 .i32),
  binary main_v660 main_v663 main_v664 (cmpi .slt : Arr F S11700x6 .i32 → Arr F S11700x6 .i32 → Arr F S11700x6 .i1),
  binary main_v662 main_v664 main_v665 (andi : Arr F S11700x6 .i1 → Arr F S11700x6 .i1 → Arr F S11700x6 .i1),
  nullary main_c_208 (constantI S_ 32 0#32),
  unary main_c_208 main_v666 (broadcastInDim S11700x6 ![] bcast_S_S11700x6 : Arr F S_ .i32 → Arr F S11700x6 .i32),
  binary main_v658 main_v666 main_v667 (cmpi .sge : Arr F S11700x6 .i32 → Arr F S11700x6 .i32 → Arr F S11700x6 .i1),
  binary main_v665 main_v667 main_v668 (andi : Arr F S11700x6 .i1 → Arr F S11700x6 .i1 → Arr F S11700x6 .i1),
  nullary main_c_209 (constantI S_ 32 16#32),
  unary main_c_209 main_v669 (broadcastInDim S11700x6 ![] bcast_S_S11700x6 : Arr F S_ .i32 → Arr F S11700x6 .i32),
  binary main_v658 main_v669 main_v670 (cmpi .slt : Arr F S11700x6 .i32 → Arr F S11700x6 .i32 → Arr F S11700x6 .i1),
  binary main_v668 main_v670 main_v671 (andi : Arr F S11700x6 .i1 → Arr F S11700x6 .i1 → Arr F S11700x6 .i1),
  unary main_v671 main_v672 (uitofp .f32 : Arr F S11700x6 .i1 → Arr F S11700x6 .f32),
  binary main_v658 main_v552 main_v673 (subi : Arr F S11700x6 .i32 → Arr F S11700x6 .i32 → Arr F S11700x6 .i32),
  nullary main_c_210 (constantI S_ 32 2#32),
  unary main_c_210 main_v674 (broadcastInDim S11700x6 ![] bcast_S_S11700x6 : Arr F S_ .i32 → Arr F S11700x6 .i32),
  binary main_v673 main_v674 main_v675 (muli : Arr F S11700x6 .i32 → Arr F S11700x6 .i32 → Arr F S11700x6 .i32),
  binary main_v660 main_v551 main_v676 (subi : Arr F S11700x6 .i32 → Arr F S11700x6 .i32 → Arr F S11700x6 .i32),
  binary main_v675 main_v676 main_v677 (addi : Arr F S11700x6 .i32 → Arr F S11700x6 .i32 → Arr F S11700x6 .i32),
  nullary main_c_211 (constantI S_ 32 0#32),
  nullary main_c_212 (constantI S_ 32 3#32),
  TRef.unary (.of (T := ⟨S_, .i32⟩) main_c_211) (.of (T := ⟨S_, .i32⟩) main_call44_v0) id,
  TRef.unary (.of (T := ⟨S_, .i32⟩) main_call44_v0) (.of (T := ⟨S11700x6, .i32⟩) main_call44_v1) (broadcastInDim S11700x6 ![] bcast_S_S11700x6),
  TRef.binary (.of (T := ⟨S11700x6, .i32⟩) main_call44_v1) (.of (T := ⟨S11700x6, .i32⟩) main_v677) (.of (T := ⟨S11700x6, .i32⟩) main_call44_v2) maxsi,
  TRef.unary (.of (T := ⟨S_, .i32⟩) main_c_212) (.of (T := ⟨S_, .i32⟩) main_call44_v3) id,
  TRef.unary (.of (T := ⟨S_, .i32⟩) main_call44_v3) (.of (T := ⟨S11700x6, .i32⟩) main_call44_v4) (broadcastInDim S11700x6 ![] bcast_S_S11700x6),
  TRef.binary (.of (T := ⟨S11700x6, .i32⟩) main_call44_v4) (.of (T := ⟨S11700x6, .i32⟩) main_call44_v2) (.of (T := ⟨S11700x6, .i32⟩) main_v678) minsi,
  TRef.unary (.of (T := ⟨S11700x6, .i32⟩) main_v678) (.of (T := ⟨S11700x6x1, .i32⟩) main_call45_v0) (broadcastInDim S11700x6x1 ![0, 1] bcast_S11700x6_S11700x6x1_0_1),
  TRef.nullary (.of (T := ⟨S1x1x4, .i32⟩) main_call45_v1) (iotaInDim S1x1x4 32 2),
  TRef.unary (.of (T := ⟨S11700x6x1, .i32⟩) main_call45_v0) (.of (T := ⟨S11700x6x4, .i32⟩) main_call45_v2) (broadcastInDim S11700x6x4 ![0, 1, 2] bcast_S11700x6x1_S11700x6x4_0_1_2),
  TRef.unary (.of (T := ⟨S1x1x4, .i32⟩) main_call45_v1) (.of (T := ⟨S11700x6x4, .i32⟩) main_call45_v3) (broadcastInDim S11700x6x4 ![0, 1, 2] bcast_S1x1x4_S11700x6x4_0_1_2),
  TRef.binary (.of (T := ⟨S11700x6x4, .i32⟩) main_call45_v2) (.of (T := ⟨S11700x6x4, .i32⟩) main_call45_v3) (.of (T := ⟨S11700x6x4, .i1⟩) main_call45_v4) (cmpi .eq),
  TRef.unary (.of (T := ⟨S11700x6x4, .i1⟩) main_call45_v4) (.of (T := ⟨S11700x6x4, .f32⟩) main_v679) (uitofp .f32),
  binary main_v599 main_v672 main_v680 (mulf : Arr F S11700x6 .f32 → Arr F S11700x6 .f32 → Arr F S11700x6 .f32),
  unary main_v680 main_v681 (broadcastInDim S11700x6x1 ![0, 1] bcast_S11700x6_S11700x6x1_0_1 : Arr F S11700x6 .f32 → Arr F S11700x6x1 .f32),
  unary main_v681 main_v682 (broadcastInDim S11700x6x4 ![0, 1, 2] bcast_S11700x6x1_S11700x6x4_0_1_2 : Arr F S11700x6x1 .f32 → Arr F S11700x6x4 .f32),
  binary main_v679 main_v682 main_v683 (mulf : Arr F S11700x6x4 .f32 → Arr F S11700x6x4 .f32 → Arr F S11700x6x4 .f32),
  binary main_v656 main_v683 main_v684 (addf : Arr F S11700x6x4 .f32 → Arr F S11700x6x4 .f32 → Arr F S11700x6x4 .f32)]

def k21 : List (HloOp τ sig (Elt F)) := [
  nullary main_c_213 (constantI S_ 32 1#32),
  unary main_c_213 main_v685 (broadcastInDim S11700x6 ![] bcast_S_S11700x6 : Arr F S_ .i32 → Arr F S11700x6 .i32),
  binary main_v550 main_v685 main_v686 (addi : Arr F S11700x6 .i32 → Arr F S11700x6 .i32 → Arr F S11700x6 .i32),
  nullary main_c_214 (constantI S_ 32 1#32),
  unary main_c_214 main_v687 (broadcastInDim S11700x6 ![] bcast_S_S11700x6 : Arr F S_ .i32 → Arr F S11700x6 .i32),
  binary main_v549 main_v687 main_v688 (addi : Arr F S11700x6 .i32 → Arr F S11700x6 .i32 → Arr F S11700x6 .i32),
  nullary main_c_215 (constantI S_ 32 0#32),
  unary main_c_215 main_v689 (broadcastInDim S11700x6 ![] bcast_S_S11700x6 : Arr F S_ .i32 → Arr F S11700x6 .i32),
  binary main_v688 main_v689 main_v690 (cmpi .sge : Arr F S11700x6 .i32 → Arr F S11700x6 .i32 → Arr F S11700x6 .i1),
  nullary main_c_216 (constantI S_ 32 44#32),
  unary main_c_216 main_v691 (broadcastInDim S11700x6 ![] bcast_S_S11700x6 : Arr F S_ .i32 → Arr F S11700x6 .i32),
  binary main_v688 main_v691 main_v692 (cmpi .slt : Arr F S11700x6 .i32 → Arr F S11700x6 .i32 → Arr F S11700x6 .i1),
  binary main_v690 main_v692 main_v693 (andi : Arr F S11700x6 .i1 → Arr F S11700x6 .i1 → Arr F S11700x6 .i1),
  nullary main_c_217 (constantI S_ 32 0#32),
  unary main_c_217 main_v694 (broadcastInDim S11700x6 ![] bcast_S_S11700x6 : Arr F S_ .i32 → Arr F S11700x6 .i32),
  binary main_v686 main_v694 main_v695 (cmpi .sge : Arr F S11700x6 .i32 → Arr F S11700x6 .i32 → Arr F S11700x6 .i1),
  binary main_v693 main_v695 main_v696 (andi : Arr F S11700x6 .i1 → Arr F S11700x6 .i1 → Arr F S11700x6 .i1),
  nullary main_c_218 (constantI S_ 32 16#32),
  unary main_c_218 main_v697 (broadcastInDim S11700x6 ![] bcast_S_S11700x6 : Arr F S_ .i32 → Arr F S11700x6 .i32),
  binary main_v686 main_v697 main_v698 (cmpi .slt : Arr F S11700x6 .i32 → Arr F S11700x6 .i32 → Arr F S11700x6 .i1),
  binary main_v696 main_v698 main_v699 (andi : Arr F S11700x6 .i1 → Arr F S11700x6 .i1 → Arr F S11700x6 .i1),
  unary main_v699 main_v700 (uitofp .f32 : Arr F S11700x6 .i1 → Arr F S11700x6 .f32),
  binary main_v686 main_v552 main_v701 (subi : Arr F S11700x6 .i32 → Arr F S11700x6 .i32 → Arr F S11700x6 .i32),
  nullary main_c_219 (constantI S_ 32 2#32),
  unary main_c_219 main_v702 (broadcastInDim S11700x6 ![] bcast_S_S11700x6 : Arr F S_ .i32 → Arr F S11700x6 .i32),
  binary main_v701 main_v702 main_v703 (muli : Arr F S11700x6 .i32 → Arr F S11700x6 .i32 → Arr F S11700x6 .i32),
  binary main_v688 main_v551 main_v704 (subi : Arr F S11700x6 .i32 → Arr F S11700x6 .i32 → Arr F S11700x6 .i32),
  binary main_v703 main_v704 main_v705 (addi : Arr F S11700x6 .i32 → Arr F S11700x6 .i32 → Arr F S11700x6 .i32),
  nullary main_c_220 (constantI S_ 32 0#32),
  nullary main_c_221 (constantI S_ 32 3#32),
  TRef.unary (.of (T := ⟨S_, .i32⟩) main_c_220) (.of (T := ⟨S_, .i32⟩) main_call46_v0) id,
  TRef.unary (.of (T := ⟨S_, .i32⟩) main_call46_v0) (.of (T := ⟨S11700x6, .i32⟩) main_call46_v1) (broadcastInDim S11700x6 ![] bcast_S_S11700x6),
  TRef.binary (.of (T := ⟨S11700x6, .i32⟩) main_call46_v1) (.of (T := ⟨S11700x6, .i32⟩) main_v705) (.of (T := ⟨S11700x6, .i32⟩) main_call46_v2) maxsi,
  TRef.unary (.of (T := ⟨S_, .i32⟩) main_c_221) (.of (T := ⟨S_, .i32⟩) main_call46_v3) id,
  TRef.unary (.of (T := ⟨S_, .i32⟩) main_call46_v3) (.of (T := ⟨S11700x6, .i32⟩) main_call46_v4) (broadcastInDim S11700x6 ![] bcast_S_S11700x6),
  TRef.binary (.of (T := ⟨S11700x6, .i32⟩) main_call46_v4) (.of (T := ⟨S11700x6, .i32⟩) main_call46_v2) (.of (T := ⟨S11700x6, .i32⟩) main_v706) minsi,
  TRef.unary (.of (T := ⟨S11700x6, .i32⟩) main_v706) (.of (T := ⟨S11700x6x1, .i32⟩) main_call47_v0) (broadcastInDim S11700x6x1 ![0, 1] bcast_S11700x6_S11700x6x1_0_1),
  TRef.nullary (.of (T := ⟨S1x1x4, .i32⟩) main_call47_v1) (iotaInDim S1x1x4 32 2),
  TRef.unary (.of (T := ⟨S11700x6x1, .i32⟩) main_call47_v0) (.of (T := ⟨S11700x6x4, .i32⟩) main_call47_v2) (broadcastInDim S11700x6x4 ![0, 1, 2] bcast_S11700x6x1_S11700x6x4_0_1_2),
  TRef.unary (.of (T := ⟨S1x1x4, .i32⟩) main_call47_v1) (.of (T := ⟨S11700x6x4, .i32⟩) main_call47_v3) (broadcastInDim S11700x6x4 ![0, 1, 2] bcast_S1x1x4_S11700x6x4_0_1_2),
  TRef.binary (.of (T := ⟨S11700x6x4, .i32⟩) main_call47_v2) (.of (T := ⟨S11700x6x4, .i32⟩) main_call47_v3) (.of (T := ⟨S11700x6x4, .i1⟩) main_call47_v4) (cmpi .eq),
  TRef.unary (.of (T := ⟨S11700x6x4, .i1⟩) main_call47_v4) (.of (T := ⟨S11700x6x4, .f32⟩) main_v707) (uitofp .f32),
  binary main_v600 main_v700 main_v708 (mulf : Arr F S11700x6 .f32 → Arr F S11700x6 .f32 → Arr F S11700x6 .f32),
  unary main_v708 main_v709 (broadcastInDim S11700x6x1 ![0, 1] bcast_S11700x6_S11700x6x1_0_1 : Arr F S11700x6 .f32 → Arr F S11700x6x1 .f32),
  unary main_v709 main_v710 (broadcastInDim S11700x6x4 ![0, 1, 2] bcast_S11700x6x1_S11700x6x4_0_1_2 : Arr F S11700x6x1 .f32 → Arr F S11700x6x4 .f32),
  binary main_v707 main_v710 main_v711 (mulf : Arr F S11700x6x4 .f32 → Arr F S11700x6x4 .f32 → Arr F S11700x6x4 .f32),
  binary main_v684 main_v711 main_v712 (addf : Arr F S11700x6x4 .f32 → Arr F S11700x6x4 .f32 → Arr F S11700x6x4 .f32),
  unary main_v712 main_v713 (broadcastInDim S11700x6x4x1 ![0, 1, 2] bcast_S11700x6x4_S11700x6x4x1_0_1_2 : Arr F S11700x6x4 .f32 → Arr F S11700x6x4x1 .f32),
  unary main_v156 main_v714 ((extractStridedSlice S11700x6x1x8 ![0, 0, 2, 0] · slices_S11700x6x4x8_S11700x6x1x8_0_0_2_0) : Arr F S11700x6x4x8 .f32 → Arr F S11700x6x1x8 .f32),
  reshape main_v714 main_v715 (rfl : (.f32 : EltTy) = .f32) shapeCasts_S11700x6x1x8_S11700x6x8,
  unary main_v715 main_v716 (broadcastInDim S11700x6x1x8 ![0, 1, 3] bcast_S11700x6x8_S11700x6x1x8_0_1_3 : Arr F S11700x6x8 .f32 → Arr F S11700x6x1x8 .f32),
  unary main_v713 main_v717 (broadcastInDim S11700x6x4x8 ![0, 1, 2, 3] bcast_S11700x6x4x1_S11700x6x4x8_0_1_2_3 : Arr F S11700x6x4x1 .f32 → Arr F S11700x6x4x8 .f32),
  unary main_v716 main_v718 (broadcastInDim S11700x6x4x8 ![0, 1, 2, 3] bcast_S11700x6x1x8_S11700x6x4x8_0_1_2_3 : Arr F S11700x6x1x8 .f32 → Arr F S11700x6x4x8 .f32),
  binary main_v717 main_v718 main_v719 (mulf : Arr F S11700x6x4x8 .f32 → Arr F S11700x6x4x8 .f32 → Arr F S11700x6x4x8 .f32)]

end Cert.Proof.Agg

end
-- ==== Proof.KOps2.lean ====
/-
  The kernel's host operations, in order, part 3 of 3, as the program prints them.
-/
module

public import proofs.«01_k».proof.Proof.KOps0

@[expose] public section

noncomputable section

namespace Cert.Proof.Agg

open Cert.KernelIdeal Cert.KernelIdeal.Gen
open Idealize.ShloMosaic
open Idealize.ShloMosaic.StableHlo

variable {F : FTy → Type} [FloatOps F]

def k22 : List (HloOp τ sig (Elt F)) := [
  unary main_v155 main_v720 ((extractStridedSlice S11700x6x1 ![0, 0, 0] · slices_S11700x6x2_S11700x6x1_0_0_0) : Arr F S11700x6x2 .f32 → Arr F S11700x6x1 .f32),
  reshape main_v720 main_v721 (rfl : (.f32 : EltTy) = .f32) shapeCasts_S11700x6x1_S11700x6,
  nullary main_cst_222 (constant S_ .f32 0x41B00000#32),
  unary main_cst_222 main_v722 (broadcastInDim S11700x6 ![] bcast_S_S11700x6 : Arr F S_ .f32 → Arr F S11700x6 .f32),
  binary main_v721 main_v722 main_v723 (mulf : Arr F S11700x6 .f32 → Arr F S11700x6 .f32 → Arr F S11700x6 .f32),
  nullary main_cst_223 (constant S_ .f32 0x3F000000#32),
  unary main_cst_223 main_v724 (broadcastInDim S11700x6 ![] bcast_S_S11700x6 : Arr F S_ .f32 → Arr F S11700x6 .f32),
  binary main_v723 main_v724 main_v725 (subf : Arr F S11700x6 .f32 → Arr F S11700x6 .f32 → Arr F S11700x6 .f32),
  unary main_v155 main_v726 ((extractStridedSlice S11700x6x1 ![0, 0, 1] · slices_S11700x6x2_S11700x6x1_0_0_1) : Arr F S11700x6x2 .f32 → Arr F S11700x6x1 .f32),
  reshape main_v726 main_v727 (rfl : (.f32 : EltTy) = .f32) shapeCasts_S11700x6x1_S11700x6,
  nullary main_cst_224 (constant S_ .f32 0x41000000#32),
  unary main_cst_224 main_v728 (broadcastInDim S11700x6 ![] bcast_S_S11700x6 : Arr F S_ .f32 → Arr F S11700x6 .f32),
  binary main_v727 main_v728 main_v729 (mulf : Arr F S11700x6 .f32 → Arr F S11700x6 .f32 → Arr F S11700x6 .f32),
  nullary main_cst_225 (constant S_ .f32 0x3F000000#32),
  unary main_cst_225 main_v730 (broadcastInDim S11700x6 ![] bcast_S_S11700x6 : Arr F S_ .f32 → Arr F S11700x6 .f32),
  binary main_v729 main_v730 main_v731 (subf : Arr F S11700x6 .f32 → Arr F S11700x6 .f32 → Arr F S11700x6 .f32)]

def k23 : List (HloOp τ sig (Elt F)) := [
  unary main_v725 main_v732 (Host.floor : Arr F S11700x6 .f32 → Arr F S11700x6 .f32),
  unary main_v731 main_v733 (Host.floor : Arr F S11700x6 .f32 → Arr F S11700x6 .f32),
  binary main_v725 main_v732 main_v734 (subf : Arr F S11700x6 .f32 → Arr F S11700x6 .f32 → Arr F S11700x6 .f32),
  binary main_v731 main_v733 main_v735 (subf : Arr F S11700x6 .f32 → Arr F S11700x6 .f32 → Arr F S11700x6 .f32),
  unary main_v732 main_v736 (fptosi 32 : Arr F S11700x6 .f32 → Arr F S11700x6 .i32),
  unary main_v733 main_v737 (fptosi 32 : Arr F S11700x6 .f32 → Arr F S11700x6 .i32),
  nullary main_c_226 (constantI S_ 32 0#32),
  nullary main_c_227 (constantI S_ 32 20#32),
  TRef.unary (.of (T := ⟨S_, .i32⟩) main_c_226) (.of (T := ⟨S_, .i32⟩) main_call48_v0) id,
  TRef.unary (.of (T := ⟨S_, .i32⟩) main_call48_v0) (.of (T := ⟨S11700x6, .i32⟩) main_call48_v1) (broadcastInDim S11700x6 ![] bcast_S_S11700x6),
  TRef.binary (.of (T := ⟨S11700x6, .i32⟩) main_call48_v1) (.of (T := ⟨S11700x6, .i32⟩) main_v736) (.of (T := ⟨S11700x6, .i32⟩) main_call48_v2) maxsi,
  TRef.unary (.of (T := ⟨S_, .i32⟩) main_c_227) (.of (T := ⟨S_, .i32⟩) main_call48_v3) id,
  TRef.unary (.of (T := ⟨S_, .i32⟩) main_call48_v3) (.of (T := ⟨S11700x6, .i32⟩) main_call48_v4) (broadcastInDim S11700x6 ![] bcast_S_S11700x6),
  TRef.binary (.of (T := ⟨S11700x6, .i32⟩) main_call48_v4) (.of (T := ⟨S11700x6, .i32⟩) main_call48_v2) (.of (T := ⟨S11700x6, .i32⟩) main_v738) minsi,
  nullary main_c_228 (constantI S_ 32 0#32),
  nullary main_c_229 (constantI S_ 32 6#32),
  TRef.unary (.of (T := ⟨S_, .i32⟩) main_c_228) (.of (T := ⟨S_, .i32⟩) main_call49_v0) id,
  TRef.unary (.of (T := ⟨S_, .i32⟩) main_call49_v0) (.of (T := ⟨S11700x6, .i32⟩) main_call49_v1) (broadcastInDim S11700x6 ![] bcast_S_S11700x6),
  TRef.binary (.of (T := ⟨S11700x6, .i32⟩) main_call49_v1) (.of (T := ⟨S11700x6, .i32⟩) main_v737) (.of (T := ⟨S11700x6, .i32⟩) main_call49_v2) maxsi,
  TRef.unary (.of (T := ⟨S_, .i32⟩) main_c_229) (.of (T := ⟨S_, .i32⟩) main_call49_v3) id,
  TRef.unary (.of (T := ⟨S_, .i32⟩) main_call49_v3) (.of (T := ⟨S11700x6, .i32⟩) main_call49_v4) (broadcastInDim S11700x6 ![] bcast_S_S11700x6),
  TRef.binary (.of (T := ⟨S11700x6, .i32⟩) main_call49_v4) (.of (T := ⟨S11700x6, .i32⟩) main_call49_v2) (.of (T := ⟨S11700x6, .i32⟩) main_v739) minsi,
  nullary main_c_230 (constantI S_ 32 1#32),
  unary main_c_230 main_v740 (broadcastInDim S11700x6 ![] bcast_S_S11700x6 : Arr F S_ .i32 → Arr F S11700x6 .i32),
  binary main_v739 main_v740 main_v741 (andi : Arr F S11700x6 .i32 → Arr F S11700x6 .i32 → Arr F S11700x6 .i32),
  nullary main_c_231 (constantI S_ 32 1#32),
  unary main_c_231 main_v742 (broadcastInDim S11700x6 ![] bcast_S_S11700x6 : Arr F S_ .i32 → Arr F S11700x6 .i32),
  binary main_v738 main_v742 main_v743 (andi : Arr F S11700x6 .i32 → Arr F S11700x6 .i32 → Arr F S11700x6 .i32),
  nullary main_c_232 (constantI S_ 32 0#32),
  unary main_c_232 main_v744 (broadcastInDim S11700x6 ![] bcast_S_S11700x6 : Arr F S_ .i32 → Arr F S11700x6 .i32),
  binary main_v741 main_v744 main_v745 (cmpi .eq : Arr F S11700x6 .i32 → Arr F S11700x6 .i32 → Arr F S11700x6 .i1),
  nullary main_c_233 (constantI S_ 32 0#32),
  unary main_c_233 main_v746 (broadcastInDim S11700x6 ![] bcast_S_S11700x6 : Arr F S_ .i32 → Arr F S11700x6 .i32),
  binary main_v743 main_v746 main_v747 (cmpi .eq : Arr F S11700x6 .i32 → Arr F S11700x6 .i32 → Arr F S11700x6 .i1),
  nullary main_c_234 (constantI S_ 32 86202#32),
  nullary main_c_235 (constantI S_ 32 86466#32),
  TRef.unary (.of (T := ⟨S_, .i32⟩) main_c_234) (.of (T := ⟨S11700x6, .i32⟩) main_call50_v0) (broadcastInDim S11700x6 ![] bcast_S_S11700x6),
  TRef.unary (.of (T := ⟨S_, .i32⟩) main_c_235) (.of (T := ⟨S11700x6, .i32⟩) main_call50_v1) (broadcastInDim S11700x6 ![] bcast_S_S11700x6),
  TRef.ternary (.of (T := ⟨S11700x6, .i1⟩) main_v747) (.of (T := ⟨S11700x6, .i32⟩) main_call50_v0) (.of (T := ⟨S11700x6, .i32⟩) main_call50_v1) (.of (T := ⟨S11700x6, .i32⟩) main_v748) select,
  nullary main_c_236 (constantI S_ 32 0#32),
  unary main_c_236 main_v749 (broadcastInDim S11700x6 ![] bcast_S_S11700x6 : Arr F S_ .i32 → Arr F S11700x6 .i32),
  binary main_v743 main_v749 main_v750 (cmpi .eq : Arr F S11700x6 .i32 → Arr F S11700x6 .i32 → Arr F S11700x6 .i1),
  nullary main_c_237 (constantI S_ 32 86706#32),
  nullary main_c_238 (constantI S_ 32 86904#32),
  TRef.unary (.of (T := ⟨S_, .i32⟩) main_c_237) (.of (T := ⟨S11700x6, .i32⟩) main_call51_v0) (broadcastInDim S11700x6 ![] bcast_S_S11700x6),
  TRef.unary (.of (T := ⟨S_, .i32⟩) main_c_238) (.of (T := ⟨S11700x6, .i32⟩) main_call51_v1) (broadcastInDim S11700x6 ![] bcast_S_S11700x6),
  TRef.ternary (.of (T := ⟨S11700x6, .i1⟩) main_v750) (.of (T := ⟨S11700x6, .i32⟩) main_call51_v0) (.of (T := ⟨S11700x6, .i32⟩) main_call51_v1) (.of (T := ⟨S11700x6, .i32⟩) main_v751) select,
  TRef.ternary (.of (T := ⟨S11700x6, .i1⟩) main_v745) (.of (T := ⟨S11700x6, .i32⟩) main_v748) (.of (T := ⟨S11700x6, .i32⟩) main_v751) (.of (T := ⟨S11700x6, .i32⟩) main_v752) select,
  nullary main_c_239 (constantI S_ 32 0#32),
  unary main_c_239 main_v753 (broadcastInDim S11700x6 ![] bcast_S_S11700x6 : Arr F S_ .i32 → Arr F S11700x6 .i32),
  binary main_v741 main_v753 main_v754 (cmpi .eq : Arr F S11700x6 .i32 → Arr F S11700x6 .i32 → Arr F S11700x6 .i1),
  nullary main_c_240 (constantI S_ 32 4#32),
  nullary main_c_241 (constantI S_ 32 3#32),
  TRef.unary (.of (T := ⟨S_, .i32⟩) main_c_240) (.of (T := ⟨S11700x6, .i32⟩) main_call53_v0) (broadcastInDim S11700x6 ![] bcast_S_S11700x6),
  TRef.unary (.of (T := ⟨S_, .i32⟩) main_c_241) (.of (T := ⟨S11700x6, .i32⟩) main_call53_v1) (broadcastInDim S11700x6 ![] bcast_S_S11700x6),
  TRef.ternary (.of (T := ⟨S11700x6, .i1⟩) main_v754) (.of (T := ⟨S11700x6, .i32⟩) main_call53_v0) (.of (T := ⟨S11700x6, .i32⟩) main_call53_v1) (.of (T := ⟨S11700x6, .i32⟩) main_v755) select,
  nullary main_c_242 (constantI S_ 32 0#32),
  unary main_c_242 main_v756 (broadcastInDim S11700x6 ![] bcast_S_S11700x6 : Arr F S_ .i32 → Arr F S11700x6 .i32),
  binary main_v743 main_v756 main_v757 (cmpi .eq : Arr F S11700x6 .i32 → Arr F S11700x6 .i32 → Arr F S11700x6 .i1),
  nullary main_c_243 (constantI S_ 32 11#32),
  nullary main_c_244 (constantI S_ 32 10#32),
  TRef.unary (.of (T := ⟨S_, .i32⟩) main_c_243) (.of (T := ⟨S11700x6, .i32⟩) main_call54_v0) (broadcastInDim S11700x6 ![] bcast_S_S11700x6),
  TRef.unary (.of (T := ⟨S_, .i32⟩) main_c_244) (.of (T := ⟨S11700x6, .i32⟩) main_call54_v1) (broadcastInDim S11700x6 ![] bcast_S_S11700x6),
  TRef.ternary (.of (T := ⟨S11700x6, .i1⟩) main_v757) (.of (T := ⟨S11700x6, .i32⟩) main_call54_v0) (.of (T := ⟨S11700x6, .i32⟩) main_call54_v1) (.of (T := ⟨S11700x6, .i32⟩) main_v758) select,
  binary main_v739 main_v741 main_v759 (subi : Arr F S11700x6 .i32 → Arr F S11700x6 .i32 → Arr F S11700x6 .i32),
  nullary main_c_245 (constantI S_ 32 1#32),
  unary main_c_245 main_v760 (broadcastInDim S11700x6 ![] bcast_S_S11700x6 : Arr F S_ .i32 → Arr F S11700x6 .i32),
  binary main_v759 main_v760 main_v761 (Host.shrsi : Arr F S11700x6 .i32 → Arr F S11700x6 .i32 → Arr F S11700x6 .i32),
  unary main_v758 main_v762 (id : Arr F S11700x6 .i32 → Arr F S11700x6 .i32),
  binary main_v761 main_v762 main_v763 (muli : Arr F S11700x6 .i32 → Arr F S11700x6 .i32 → Arr F S11700x6 .i32),
  binary main_v738 main_v743 main_v764 (subi : Arr F S11700x6 .i32 → Arr F S11700x6 .i32 → Arr F S11700x6 .i32),
  nullary main_c_246 (constantI S_ 32 1#32),
  unary main_c_246 main_v765 (broadcastInDim S11700x6 ![] bcast_S_S11700x6 : Arr F S_ .i32 → Arr F S11700x6 .i32),
  binary main_v764 main_v765 main_v766 (Host.shrsi : Arr F S11700x6 .i32 → Arr F S11700x6 .i32 → Arr F S11700x6 .i32),
  binary main_v763 main_v766 main_v767 (addi : Arr F S11700x6 .i32 → Arr F S11700x6 .i32 → Arr F S11700x6 .i32),
  binary main_v755 main_v758 main_v768 (muli : Arr F S11700x6 .i32 → Arr F S11700x6 .i32 → Arr F S11700x6 .i32),
  unary main_v768 main_v769 (id : Arr F S11700x6 .i32 → Arr F S11700x6 .i32),
  unary main_v158 main_v770 (broadcastInDim S11700x6 ![0, 1] bcast_S1x6_S11700x6_0_1 : Arr F S1x6 .i32 → Arr F S11700x6 .i32)]

def k24 : List (HloOp τ sig (Elt F)) := [
  binary main_v770 main_v769 main_v771 (muli : Arr F S11700x6 .i32 → Arr F S11700x6 .i32 → Arr F S11700x6 .i32),
  unary main_v752 main_v772 (id : Arr F S11700x6 .i32 → Arr F S11700x6 .i32),
  binary main_v772 main_v771 main_v773 (addi : Arr F S11700x6 .i32 → Arr F S11700x6 .i32 → Arr F S11700x6 .i32),
  binary main_v773 main_v767 main_v774 (addi : Arr F S11700x6 .i32 → Arr F S11700x6 .i32 → Arr F S11700x6 .i32)]

def k25 : List (HloOp τ sig (Elt F)) := [
  nullary main_cst_247 (constant S_ .f32 0x00000000#32),
  unary main_cst_247 main_v775 (broadcastInDim S11700x6x4 ![] bcast_S_S11700x6x4 : Arr F S_ .f32 → Arr F S11700x6x4 .f32),
  nullary main_cst_248 (constant S_ .f32 0x3F800000#32),
  unary main_cst_248 main_v776 (broadcastInDim S11700x6 ![] bcast_S_S11700x6 : Arr F S_ .f32 → Arr F S11700x6 .f32),
  binary main_v776 main_v735 main_v777 (subf : Arr F S11700x6 .f32 → Arr F S11700x6 .f32 → Arr F S11700x6 .f32),
  nullary main_cst_249 (constant S_ .f32 0x3F800000#32),
  unary main_cst_249 main_v778 (broadcastInDim S11700x6 ![] bcast_S_S11700x6 : Arr F S_ .f32 → Arr F S11700x6 .f32),
  binary main_v778 main_v734 main_v779 (subf : Arr F S11700x6 .f32 → Arr F S11700x6 .f32 → Arr F S11700x6 .f32),
  binary main_v777 main_v779 main_v780 (mulf : Arr F S11700x6 .f32 → Arr F S11700x6 .f32 → Arr F S11700x6 .f32),
  nullary main_cst_250 (constant S_ .f32 0x3F800000#32),
  unary main_cst_250 main_v781 (broadcastInDim S11700x6 ![] bcast_S_S11700x6 : Arr F S_ .f32 → Arr F S11700x6 .f32),
  binary main_v781 main_v735 main_v782 (subf : Arr F S11700x6 .f32 → Arr F S11700x6 .f32 → Arr F S11700x6 .f32),
  binary main_v782 main_v734 main_v783 (mulf : Arr F S11700x6 .f32 → Arr F S11700x6 .f32 → Arr F S11700x6 .f32),
  nullary main_cst_251 (constant S_ .f32 0x3F800000#32),
  unary main_cst_251 main_v784 (broadcastInDim S11700x6 ![] bcast_S_S11700x6 : Arr F S_ .f32 → Arr F S11700x6 .f32),
  binary main_v784 main_v734 main_v785 (subf : Arr F S11700x6 .f32 → Arr F S11700x6 .f32 → Arr F S11700x6 .f32),
  binary main_v735 main_v785 main_v786 (mulf : Arr F S11700x6 .f32 → Arr F S11700x6 .f32 → Arr F S11700x6 .f32),
  binary main_v735 main_v734 main_v787 (mulf : Arr F S11700x6 .f32 → Arr F S11700x6 .f32 → Arr F S11700x6 .f32),
  nullary main_c_252 (constantI S_ 32 0#32),
  unary main_c_252 main_v788 (broadcastInDim S11700x6 ![] bcast_S_S11700x6 : Arr F S_ .i32 → Arr F S11700x6 .i32),
  binary main_v737 main_v788 main_v789 (addi : Arr F S11700x6 .i32 → Arr F S11700x6 .i32 → Arr F S11700x6 .i32),
  nullary main_c_253 (constantI S_ 32 0#32),
  unary main_c_253 main_v790 (broadcastInDim S11700x6 ![] bcast_S_S11700x6 : Arr F S_ .i32 → Arr F S11700x6 .i32),
  binary main_v736 main_v790 main_v791 (addi : Arr F S11700x6 .i32 → Arr F S11700x6 .i32 → Arr F S11700x6 .i32),
  nullary main_c_254 (constantI S_ 32 0#32),
  unary main_c_254 main_v792 (broadcastInDim S11700x6 ![] bcast_S_S11700x6 : Arr F S_ .i32 → Arr F S11700x6 .i32),
  binary main_v791 main_v792 main_v793 (cmpi .sge : Arr F S11700x6 .i32 → Arr F S11700x6 .i32 → Arr F S11700x6 .i1),
  nullary main_c_255 (constantI S_ 32 22#32),
  unary main_c_255 main_v794 (broadcastInDim S11700x6 ![] bcast_S_S11700x6 : Arr F S_ .i32 → Arr F S11700x6 .i32),
  binary main_v791 main_v794 main_v795 (cmpi .slt : Arr F S11700x6 .i32 → Arr F S11700x6 .i32 → Arr F S11700x6 .i1),
  binary main_v793 main_v795 main_v796 (andi : Arr F S11700x6 .i1 → Arr F S11700x6 .i1 → Arr F S11700x6 .i1),
  nullary main_c_256 (constantI S_ 32 0#32),
  unary main_c_256 main_v797 (broadcastInDim S11700x6 ![] bcast_S_S11700x6 : Arr F S_ .i32 → Arr F S11700x6 .i32),
  binary main_v789 main_v797 main_v798 (cmpi .sge : Arr F S11700x6 .i32 → Arr F S11700x6 .i32 → Arr F S11700x6 .i1),
  binary main_v796 main_v798 main_v799 (andi : Arr F S11700x6 .i1 → Arr F S11700x6 .i1 → Arr F S11700x6 .i1),
  nullary main_c_257 (constantI S_ 32 8#32),
  unary main_c_257 main_v800 (broadcastInDim S11700x6 ![] bcast_S_S11700x6 : Arr F S_ .i32 → Arr F S11700x6 .i32),
  binary main_v789 main_v800 main_v801 (cmpi .slt : Arr F S11700x6 .i32 → Arr F S11700x6 .i32 → Arr F S11700x6 .i1),
  binary main_v799 main_v801 main_v802 (andi : Arr F S11700x6 .i1 → Arr F S11700x6 .i1 → Arr F S11700x6 .i1),
  unary main_v802 main_v803 (uitofp .f32 : Arr F S11700x6 .i1 → Arr F S11700x6 .f32),
  binary main_v789 main_v739 main_v804 (subi : Arr F S11700x6 .i32 → Arr F S11700x6 .i32 → Arr F S11700x6 .i32),
  nullary main_c_258 (constantI S_ 32 2#32),
  unary main_c_258 main_v805 (broadcastInDim S11700x6 ![] bcast_S_S11700x6 : Arr F S_ .i32 → Arr F S11700x6 .i32),
  binary main_v804 main_v805 main_v806 (muli : Arr F S11700x6 .i32 → Arr F S11700x6 .i32 → Arr F S11700x6 .i32),
  binary main_v791 main_v738 main_v807 (subi : Arr F S11700x6 .i32 → Arr F S11700x6 .i32 → Arr F S11700x6 .i32),
  binary main_v806 main_v807 main_v808 (addi : Arr F S11700x6 .i32 → Arr F S11700x6 .i32 → Arr F S11700x6 .i32),
  nullary main_c_259 (constantI S_ 32 0#32),
  nullary main_c_260 (constantI S_ 32 3#32),
  TRef.unary (.of (T := ⟨S_, .i32⟩) main_c_259) (.of (T := ⟨S_, .i32⟩) main_call55_v0) id,
  TRef.unary (.of (T := ⟨S_, .i32⟩) main_call55_v0) (.of (T := ⟨S11700x6, .i32⟩) main_call55_v1) (broadcastInDim S11700x6 ![] bcast_S_S11700x6),
  TRef.binary (.of (T := ⟨S11700x6, .i32⟩) main_call55_v1) (.of (T := ⟨S11700x6, .i32⟩) main_v808) (.of (T := ⟨S11700x6, .i32⟩) main_call55_v2) maxsi,
  TRef.unary (.of (T := ⟨S_, .i32⟩) main_c_260) (.of (T := ⟨S_, .i32⟩) main_call55_v3) id,
  TRef.unary (.of (T := ⟨S_, .i32⟩) main_call55_v3) (.of (T := ⟨S11700x6, .i32⟩) main_call55_v4) (broadcastInDim S11700x6 ![] bcast_S_S11700x6),
  TRef.binary (.of (T := ⟨S11700x6, .i32⟩) main_call55_v4) (.of (T := ⟨S11700x6, .i32⟩) main_call55_v2) (.of (T := ⟨S11700x6, .i32⟩) main_v809) minsi,
  TRef.unary (.of (T := ⟨S11700x6, .i32⟩) main_v809) (.of (T := ⟨S11700x6x1, .i32⟩) main_call56_v0) (broadcastInDim S11700x6x1 ![0, 1] bcast_S11700x6_S11700x6x1_0_1),
  TRef.nullary (.of (T := ⟨S1x1x4, .i32⟩) main_call56_v1) (iotaInDim S1x1x4 32 2),
  TRef.unary (.of (T := ⟨S11700x6x1, .i32⟩) main_call56_v0) (.of (T := ⟨S11700x6x4, .i32⟩) main_call56_v2) (broadcastInDim S11700x6x4 ![0, 1, 2] bcast_S11700x6x1_S11700x6x4_0_1_2),
  TRef.unary (.of (T := ⟨S1x1x4, .i32⟩) main_call56_v1) (.of (T := ⟨S11700x6x4, .i32⟩) main_call56_v3) (broadcastInDim S11700x6x4 ![0, 1, 2] bcast_S1x1x4_S11700x6x4_0_1_2),
  TRef.binary (.of (T := ⟨S11700x6x4, .i32⟩) main_call56_v2) (.of (T := ⟨S11700x6x4, .i32⟩) main_call56_v3) (.of (T := ⟨S11700x6x4, .i1⟩) main_call56_v4) (cmpi .eq),
  TRef.unary (.of (T := ⟨S11700x6x4, .i1⟩) main_call56_v4) (.of (T := ⟨S11700x6x4, .f32⟩) main_v810) (uitofp .f32),
  binary main_v780 main_v803 main_v811 (mulf : Arr F S11700x6 .f32 → Arr F S11700x6 .f32 → Arr F S11700x6 .f32),
  unary main_v811 main_v812 (broadcastInDim S11700x6x1 ![0, 1] bcast_S11700x6_S11700x6x1_0_1 : Arr F S11700x6 .f32 → Arr F S11700x6x1 .f32),
  unary main_v812 main_v813 (broadcastInDim S11700x6x4 ![0, 1, 2] bcast_S11700x6x1_S11700x6x4_0_1_2 : Arr F S11700x6x1 .f32 → Arr F S11700x6x4 .f32),
  binary main_v810 main_v813 main_v814 (mulf : Arr F S11700x6x4 .f32 → Arr F S11700x6x4 .f32 → Arr F S11700x6x4 .f32),
  binary main_v775 main_v814 main_v815 (addf : Arr F S11700x6x4 .f32 → Arr F S11700x6x4 .f32 → Arr F S11700x6x4 .f32),
  nullary main_c_261 (constantI S_ 32 0#32)]

def k26 : List (HloOp τ sig (Elt F)) := [
  unary main_c_261 main_v816 (broadcastInDim S11700x6 ![] bcast_S_S11700x6 : Arr F S_ .i32 → Arr F S11700x6 .i32),
  binary main_v737 main_v816 main_v817 (addi : Arr F S11700x6 .i32 → Arr F S11700x6 .i32 → Arr F S11700x6 .i32),
  nullary main_c_262 (constantI S_ 32 1#32),
  unary main_c_262 main_v818 (broadcastInDim S11700x6 ![] bcast_S_S11700x6 : Arr F S_ .i32 → Arr F S11700x6 .i32),
  binary main_v736 main_v818 main_v819 (addi : Arr F S11700x6 .i32 → Arr F S11700x6 .i32 → Arr F S11700x6 .i32),
  nullary main_c_263 (constantI S_ 32 0#32),
  unary main_c_263 main_v820 (broadcastInDim S11700x6 ![] bcast_S_S11700x6 : Arr F S_ .i32 → Arr F S11700x6 .i32),
  binary main_v819 main_v820 main_v821 (cmpi .sge : Arr F S11700x6 .i32 → Arr F S11700x6 .i32 → Arr F S11700x6 .i1),
  nullary main_c_264 (constantI S_ 32 22#32),
  unary main_c_264 main_v822 (broadcastInDim S11700x6 ![] bcast_S_S11700x6 : Arr F S_ .i32 → Arr F S11700x6 .i32),
  binary main_v819 main_v822 main_v823 (cmpi .slt : Arr F S11700x6 .i32 → Arr F S11700x6 .i32 → Arr F S11700x6 .i1),
  binary main_v821 main_v823 main_v824 (andi : Arr F S11700x6 .i1 → Arr F S11700x6 .i1 → Arr F S11700x6 .i1),
  nullary main_c_265 (constantI S_ 32 0#32),
  unary main_c_265 main_v825 (broadcastInDim S11700x6 ![] bcast_S_S11700x6 : Arr F S_ .i32 → Arr F S11700x6 .i32),
  binary main_v817 main_v825 main_v826 (cmpi .sge : Arr F S11700x6 .i32 → Arr F S11700x6 .i32 → Arr F S11700x6 .i1),
  binary main_v824 main_v826 main_v827 (andi : Arr F S11700x6 .i1 → Arr F S11700x6 .i1 → Arr F S11700x6 .i1),
  nullary main_c_266 (constantI S_ 32 8#32),
  unary main_c_266 main_v828 (broadcastInDim S11700x6 ![] bcast_S_S11700x6 : Arr F S_ .i32 → Arr F S11700x6 .i32),
  binary main_v817 main_v828 main_v829 (cmpi .slt : Arr F S11700x6 .i32 → Arr F S11700x6 .i32 → Arr F S11700x6 .i1),
  binary main_v827 main_v829 main_v830 (andi : Arr F S11700x6 .i1 → Arr F S11700x6 .i1 → Arr F S11700x6 .i1),
  unary main_v830 main_v831 (uitofp .f32 : Arr F S11700x6 .i1 → Arr F S11700x6 .f32),
  binary main_v817 main_v739 main_v832 (subi : Arr F S11700x6 .i32 → Arr F S11700x6 .i32 → Arr F S11700x6 .i32),
  nullary main_c_267 (constantI S_ 32 2#32),
  unary main_c_267 main_v833 (broadcastInDim S11700x6 ![] bcast_S_S11700x6 : Arr F S_ .i32 → Arr F S11700x6 .i32),
  binary main_v832 main_v833 main_v834 (muli : Arr F S11700x6 .i32 → Arr F S11700x6 .i32 → Arr F S11700x6 .i32),
  binary main_v819 main_v738 main_v835 (subi : Arr F S11700x6 .i32 → Arr F S11700x6 .i32 → Arr F S11700x6 .i32),
  binary main_v834 main_v835 main_v836 (addi : Arr F S11700x6 .i32 → Arr F S11700x6 .i32 → Arr F S11700x6 .i32),
  nullary main_c_268 (constantI S_ 32 0#32),
  nullary main_c_269 (constantI S_ 32 3#32),
  TRef.unary (.of (T := ⟨S_, .i32⟩) main_c_268) (.of (T := ⟨S_, .i32⟩) main_call57_v0) id,
  TRef.unary (.of (T := ⟨S_, .i32⟩) main_call57_v0) (.of (T := ⟨S11700x6, .i32⟩) main_call57_v1) (broadcastInDim S11700x6 ![] bcast_S_S11700x6),
  TRef.binary (.of (T := ⟨S11700x6, .i32⟩) main_call57_v1) (.of (T := ⟨S11700x6, .i32⟩) main_v836) (.of (T := ⟨S11700x6, .i32⟩) main_call57_v2) maxsi,
  TRef.unary (.of (T := ⟨S_, .i32⟩) main_c_269) (.of (T := ⟨S_, .i32⟩) main_call57_v3) id,
  TRef.unary (.of (T := ⟨S_, .i32⟩) main_call57_v3) (.of (T := ⟨S11700x6, .i32⟩) main_call57_v4) (broadcastInDim S11700x6 ![] bcast_S_S11700x6),
  TRef.binary (.of (T := ⟨S11700x6, .i32⟩) main_call57_v4) (.of (T := ⟨S11700x6, .i32⟩) main_call57_v2) (.of (T := ⟨S11700x6, .i32⟩) main_v837) minsi,
  TRef.unary (.of (T := ⟨S11700x6, .i32⟩) main_v837) (.of (T := ⟨S11700x6x1, .i32⟩) main_call58_v0) (broadcastInDim S11700x6x1 ![0, 1] bcast_S11700x6_S11700x6x1_0_1),
  TRef.nullary (.of (T := ⟨S1x1x4, .i32⟩) main_call58_v1) (iotaInDim S1x1x4 32 2),
  TRef.unary (.of (T := ⟨S11700x6x1, .i32⟩) main_call58_v0) (.of (T := ⟨S11700x6x4, .i32⟩) main_call58_v2) (broadcastInDim S11700x6x4 ![0, 1, 2] bcast_S11700x6x1_S11700x6x4_0_1_2),
  TRef.unary (.of (T := ⟨S1x1x4, .i32⟩) main_call58_v1) (.of (T := ⟨S11700x6x4, .i32⟩) main_call58_v3) (broadcastInDim S11700x6x4 ![0, 1, 2] bcast_S1x1x4_S11700x6x4_0_1_2),
  TRef.binary (.of (T := ⟨S11700x6x4, .i32⟩) main_call58_v2) (.of (T := ⟨S11700x6x4, .i32⟩) main_call58_v3) (.of (T := ⟨S11700x6x4, .i1⟩) main_call58_v4) (cmpi .eq),
  TRef.unary (.of (T := ⟨S11700x6x4, .i1⟩) main_call58_v4) (.of (T := ⟨S11700x6x4, .f32⟩) main_v838) (uitofp .f32),
  binary main_v783 main_v831 main_v839 (mulf : Arr F S11700x6 .f32 → Arr F S11700x6 .f32 → Arr F S11700x6 .f32),
  unary main_v839 main_v840 (broadcastInDim S11700x6x1 ![0, 1] bcast_S11700x6_S11700x6x1_0_1 : Arr F S11700x6 .f32 → Arr F S11700x6x1 .f32),
  unary main_v840 main_v841 (broadcastInDim S11700x6x4 ![0, 1, 2] bcast_S11700x6x1_S11700x6x4_0_1_2 : Arr F S11700x6x1 .f32 → Arr F S11700x6x4 .f32),
  binary main_v838 main_v841 main_v842 (mulf : Arr F S11700x6x4 .f32 → Arr F S11700x6x4 .f32 → Arr F S11700x6x4 .f32),
  binary main_v815 main_v842 main_v843 (addf : Arr F S11700x6x4 .f32 → Arr F S11700x6x4 .f32 → Arr F S11700x6x4 .f32),
  nullary main_c_270 (constantI S_ 32 1#32),
  unary main_c_270 main_v844 (broadcastInDim S11700x6 ![] bcast_S_S11700x6 : Arr F S_ .i32 → Arr F S11700x6 .i32),
  binary main_v737 main_v844 main_v845 (addi : Arr F S11700x6 .i32 → Arr F S11700x6 .i32 → Arr F S11700x6 .i32),
  nullary main_c_271 (constantI S_ 32 0#32),
  unary main_c_271 main_v846 (broadcastInDim S11700x6 ![] bcast_S_S11700x6 : Arr F S_ .i32 → Arr F S11700x6 .i32),
  binary main_v736 main_v846 main_v847 (addi : Arr F S11700x6 .i32 → Arr F S11700x6 .i32 → Arr F S11700x6 .i32),
  nullary main_c_272 (constantI S_ 32 0#32),
  unary main_c_272 main_v848 (broadcastInDim S11700x6 ![] bcast_S_S11700x6 : Arr F S_ .i32 → Arr F S11700x6 .i32),
  binary main_v847 main_v848 main_v849 (cmpi .sge : Arr F S11700x6 .i32 → Arr F S11700x6 .i32 → Arr F S11700x6 .i1),
  nullary main_c_273 (constantI S_ 32 22#32),
  unary main_c_273 main_v850 (broadcastInDim S11700x6 ![] bcast_S_S11700x6 : Arr F S_ .i32 → Arr F S11700x6 .i32),
  binary main_v847 main_v850 main_v851 (cmpi .slt : Arr F S11700x6 .i32 → Arr F S11700x6 .i32 → Arr F S11700x6 .i1),
  binary main_v849 main_v851 main_v852 (andi : Arr F S11700x6 .i1 → Arr F S11700x6 .i1 → Arr F S11700x6 .i1),
  nullary main_c_274 (constantI S_ 32 0#32),
  unary main_c_274 main_v853 (broadcastInDim S11700x6 ![] bcast_S_S11700x6 : Arr F S_ .i32 → Arr F S11700x6 .i32),
  binary main_v845 main_v853 main_v854 (cmpi .sge : Arr F S11700x6 .i32 → Arr F S11700x6 .i32 → Arr F S11700x6 .i1),
  binary main_v852 main_v854 main_v855 (andi : Arr F S11700x6 .i1 → Arr F S11700x6 .i1 → Arr F S11700x6 .i1),
  nullary main_c_275 (constantI S_ 32 8#32),
  unary main_c_275 main_v856 (broadcastInDim S11700x6 ![] bcast_S_S11700x6 : Arr F S_ .i32 → Arr F S11700x6 .i32),
  binary main_v845 main_v856 main_v857 (cmpi .slt : Arr F S11700x6 .i32 → Arr F S11700x6 .i32 → Arr F S11700x6 .i1),
  binary main_v855 main_v857 main_v858 (andi : Arr F S11700x6 .i1 → Arr F S11700x6 .i1 → Arr F S11700x6 .i1),
  unary main_v858 main_v859 (uitofp .f32 : Arr F S11700x6 .i1 → Arr F S11700x6 .f32),
  binary main_v845 main_v739 main_v860 (subi : Arr F S11700x6 .i32 → Arr F S11700x6 .i32 → Arr F S11700x6 .i32),
  nullary main_c_276 (constantI S_ 32 2#32)]

def k27 : List (HloOp τ sig (Elt F)) := [
  unary main_c_276 main_v861 (broadcastInDim S11700x6 ![] bcast_S_S11700x6 : Arr F S_ .i32 → Arr F S11700x6 .i32),
  binary main_v860 main_v861 main_v862 (muli : Arr F S11700x6 .i32 → Arr F S11700x6 .i32 → Arr F S11700x6 .i32),
  binary main_v847 main_v738 main_v863 (subi : Arr F S11700x6 .i32 → Arr F S11700x6 .i32 → Arr F S11700x6 .i32),
  binary main_v862 main_v863 main_v864 (addi : Arr F S11700x6 .i32 → Arr F S11700x6 .i32 → Arr F S11700x6 .i32),
  nullary main_c_277 (constantI S_ 32 0#32),
  nullary main_c_278 (constantI S_ 32 3#32),
  TRef.unary (.of (T := ⟨S_, .i32⟩) main_c_277) (.of (T := ⟨S_, .i32⟩) main_call59_v0) id,
  TRef.unary (.of (T := ⟨S_, .i32⟩) main_call59_v0) (.of (T := ⟨S11700x6, .i32⟩) main_call59_v1) (broadcastInDim S11700x6 ![] bcast_S_S11700x6),
  TRef.binary (.of (T := ⟨S11700x6, .i32⟩) main_call59_v1) (.of (T := ⟨S11700x6, .i32⟩) main_v864) (.of (T := ⟨S11700x6, .i32⟩) main_call59_v2) maxsi,
  TRef.unary (.of (T := ⟨S_, .i32⟩) main_c_278) (.of (T := ⟨S_, .i32⟩) main_call59_v3) id,
  TRef.unary (.of (T := ⟨S_, .i32⟩) main_call59_v3) (.of (T := ⟨S11700x6, .i32⟩) main_call59_v4) (broadcastInDim S11700x6 ![] bcast_S_S11700x6),
  TRef.binary (.of (T := ⟨S11700x6, .i32⟩) main_call59_v4) (.of (T := ⟨S11700x6, .i32⟩) main_call59_v2) (.of (T := ⟨S11700x6, .i32⟩) main_v865) minsi,
  TRef.unary (.of (T := ⟨S11700x6, .i32⟩) main_v865) (.of (T := ⟨S11700x6x1, .i32⟩) main_call60_v0) (broadcastInDim S11700x6x1 ![0, 1] bcast_S11700x6_S11700x6x1_0_1),
  TRef.nullary (.of (T := ⟨S1x1x4, .i32⟩) main_call60_v1) (iotaInDim S1x1x4 32 2),
  TRef.unary (.of (T := ⟨S11700x6x1, .i32⟩) main_call60_v0) (.of (T := ⟨S11700x6x4, .i32⟩) main_call60_v2) (broadcastInDim S11700x6x4 ![0, 1, 2] bcast_S11700x6x1_S11700x6x4_0_1_2),
  TRef.unary (.of (T := ⟨S1x1x4, .i32⟩) main_call60_v1) (.of (T := ⟨S11700x6x4, .i32⟩) main_call60_v3) (broadcastInDim S11700x6x4 ![0, 1, 2] bcast_S1x1x4_S11700x6x4_0_1_2),
  TRef.binary (.of (T := ⟨S11700x6x4, .i32⟩) main_call60_v2) (.of (T := ⟨S11700x6x4, .i32⟩) main_call60_v3) (.of (T := ⟨S11700x6x4, .i1⟩) main_call60_v4) (cmpi .eq),
  TRef.unary (.of (T := ⟨S11700x6x4, .i1⟩) main_call60_v4) (.of (T := ⟨S11700x6x4, .f32⟩) main_v866) (uitofp .f32),
  binary main_v786 main_v859 main_v867 (mulf : Arr F S11700x6 .f32 → Arr F S11700x6 .f32 → Arr F S11700x6 .f32),
  unary main_v867 main_v868 (broadcastInDim S11700x6x1 ![0, 1] bcast_S11700x6_S11700x6x1_0_1 : Arr F S11700x6 .f32 → Arr F S11700x6x1 .f32),
  unary main_v868 main_v869 (broadcastInDim S11700x6x4 ![0, 1, 2] bcast_S11700x6x1_S11700x6x4_0_1_2 : Arr F S11700x6x1 .f32 → Arr F S11700x6x4 .f32),
  binary main_v866 main_v869 main_v870 (mulf : Arr F S11700x6x4 .f32 → Arr F S11700x6x4 .f32 → Arr F S11700x6x4 .f32),
  binary main_v843 main_v870 main_v871 (addf : Arr F S11700x6x4 .f32 → Arr F S11700x6x4 .f32 → Arr F S11700x6x4 .f32),
  nullary main_c_279 (constantI S_ 32 1#32),
  unary main_c_279 main_v872 (broadcastInDim S11700x6 ![] bcast_S_S11700x6 : Arr F S_ .i32 → Arr F S11700x6 .i32),
  binary main_v737 main_v872 main_v873 (addi : Arr F S11700x6 .i32 → Arr F S11700x6 .i32 → Arr F S11700x6 .i32),
  nullary main_c_280 (constantI S_ 32 1#32),
  unary main_c_280 main_v874 (broadcastInDim S11700x6 ![] bcast_S_S11700x6 : Arr F S_ .i32 → Arr F S11700x6 .i32),
  binary main_v736 main_v874 main_v875 (addi : Arr F S11700x6 .i32 → Arr F S11700x6 .i32 → Arr F S11700x6 .i32),
  nullary main_c_281 (constantI S_ 32 0#32),
  unary main_c_281 main_v876 (broadcastInDim S11700x6 ![] bcast_S_S11700x6 : Arr F S_ .i32 → Arr F S11700x6 .i32),
  binary main_v875 main_v876 main_v877 (cmpi .sge : Arr F S11700x6 .i32 → Arr F S11700x6 .i32 → Arr F S11700x6 .i1),
  nullary main_c_282 (constantI S_ 32 22#32),
  unary main_c_282 main_v878 (broadcastInDim S11700x6 ![] bcast_S_S11700x6 : Arr F S_ .i32 → Arr F S11700x6 .i32),
  binary main_v875 main_v878 main_v879 (cmpi .slt : Arr F S11700x6 .i32 → Arr F S11700x6 .i32 → Arr F S11700x6 .i1),
  binary main_v877 main_v879 main_v880 (andi : Arr F S11700x6 .i1 → Arr F S11700x6 .i1 → Arr F S11700x6 .i1),
  nullary main_c_283 (constantI S_ 32 0#32),
  unary main_c_283 main_v881 (broadcastInDim S11700x6 ![] bcast_S_S11700x6 : Arr F S_ .i32 → Arr F S11700x6 .i32),
  binary main_v873 main_v881 main_v882 (cmpi .sge : Arr F S11700x6 .i32 → Arr F S11700x6 .i32 → Arr F S11700x6 .i1),
  binary main_v880 main_v882 main_v883 (andi : Arr F S11700x6 .i1 → Arr F S11700x6 .i1 → Arr F S11700x6 .i1),
  nullary main_c_284 (constantI S_ 32 8#32),
  unary main_c_284 main_v884 (broadcastInDim S11700x6 ![] bcast_S_S11700x6 : Arr F S_ .i32 → Arr F S11700x6 .i32),
  binary main_v873 main_v884 main_v885 (cmpi .slt : Arr F S11700x6 .i32 → Arr F S11700x6 .i32 → Arr F S11700x6 .i1),
  binary main_v883 main_v885 main_v886 (andi : Arr F S11700x6 .i1 → Arr F S11700x6 .i1 → Arr F S11700x6 .i1),
  unary main_v886 main_v887 (uitofp .f32 : Arr F S11700x6 .i1 → Arr F S11700x6 .f32),
  binary main_v873 main_v739 main_v888 (subi : Arr F S11700x6 .i32 → Arr F S11700x6 .i32 → Arr F S11700x6 .i32),
  nullary main_c_285 (constantI S_ 32 2#32),
  unary main_c_285 main_v889 (broadcastInDim S11700x6 ![] bcast_S_S11700x6 : Arr F S_ .i32 → Arr F S11700x6 .i32),
  binary main_v888 main_v889 main_v890 (muli : Arr F S11700x6 .i32 → Arr F S11700x6 .i32 → Arr F S11700x6 .i32),
  binary main_v875 main_v738 main_v891 (subi : Arr F S11700x6 .i32 → Arr F S11700x6 .i32 → Arr F S11700x6 .i32),
  binary main_v890 main_v891 main_v892 (addi : Arr F S11700x6 .i32 → Arr F S11700x6 .i32 → Arr F S11700x6 .i32),
  nullary main_c_286 (constantI S_ 32 0#32),
  nullary main_c_287 (constantI S_ 32 3#32),
  TRef.unary (.of (T := ⟨S_, .i32⟩) main_c_286) (.of (T := ⟨S_, .i32⟩) main_call61_v0) id,
  TRef.unary (.of (T := ⟨S_, .i32⟩) main_call61_v0) (.of (T := ⟨S11700x6, .i32⟩) main_call61_v1) (broadcastInDim S11700x6 ![] bcast_S_S11700x6),
  TRef.binary (.of (T := ⟨S11700x6, .i32⟩) main_call61_v1) (.of (T := ⟨S11700x6, .i32⟩) main_v892) (.of (T := ⟨S11700x6, .i32⟩) main_call61_v2) maxsi,
  TRef.unary (.of (T := ⟨S_, .i32⟩) main_c_287) (.of (T := ⟨S_, .i32⟩) main_call61_v3) id,
  TRef.unary (.of (T := ⟨S_, .i32⟩) main_call61_v3) (.of (T := ⟨S11700x6, .i32⟩) main_call61_v4) (broadcastInDim S11700x6 ![] bcast_S_S11700x6),
  TRef.binary (.of (T := ⟨S11700x6, .i32⟩) main_call61_v4) (.of (T := ⟨S11700x6, .i32⟩) main_call61_v2) (.of (T := ⟨S11700x6, .i32⟩) main_v893) minsi,
  TRef.unary (.of (T := ⟨S11700x6, .i32⟩) main_v893) (.of (T := ⟨S11700x6x1, .i32⟩) main_call62_v0) (broadcastInDim S11700x6x1 ![0, 1] bcast_S11700x6_S11700x6x1_0_1),
  TRef.nullary (.of (T := ⟨S1x1x4, .i32⟩) main_call62_v1) (iotaInDim S1x1x4 32 2),
  TRef.unary (.of (T := ⟨S11700x6x1, .i32⟩) main_call62_v0) (.of (T := ⟨S11700x6x4, .i32⟩) main_call62_v2) (broadcastInDim S11700x6x4 ![0, 1, 2] bcast_S11700x6x1_S11700x6x4_0_1_2),
  TRef.unary (.of (T := ⟨S1x1x4, .i32⟩) main_call62_v1) (.of (T := ⟨S11700x6x4, .i32⟩) main_call62_v3) (broadcastInDim S11700x6x4 ![0, 1, 2] bcast_S1x1x4_S11700x6x4_0_1_2),
  TRef.binary (.of (T := ⟨S11700x6x4, .i32⟩) main_call62_v2) (.of (T := ⟨S11700x6x4, .i32⟩) main_call62_v3) (.of (T := ⟨S11700x6x4, .i1⟩) main_call62_v4) (cmpi .eq),
  TRef.unary (.of (T := ⟨S11700x6x4, .i1⟩) main_call62_v4) (.of (T := ⟨S11700x6x4, .f32⟩) main_v894) (uitofp .f32),
  binary main_v787 main_v887 main_v895 (mulf : Arr F S11700x6 .f32 → Arr F S11700x6 .f32 → Arr F S11700x6 .f32),
  unary main_v895 main_v896 (broadcastInDim S11700x6x1 ![0, 1] bcast_S11700x6_S11700x6x1_0_1 : Arr F S11700x6 .f32 → Arr F S11700x6x1 .f32),
  unary main_v896 main_v897 (broadcastInDim S11700x6x4 ![0, 1, 2] bcast_S11700x6x1_S11700x6x4_0_1_2 : Arr F S11700x6x1 .f32 → Arr F S11700x6x4 .f32),
  binary main_v894 main_v897 main_v898 (mulf : Arr F S11700x6x4 .f32 → Arr F S11700x6x4 .f32 → Arr F S11700x6x4 .f32),
  binary main_v871 main_v898 main_v899 (addf : Arr F S11700x6x4 .f32 → Arr F S11700x6x4 .f32 → Arr F S11700x6x4 .f32),
  unary main_v899 main_v900 (broadcastInDim S11700x6x4x1 ![0, 1, 2] bcast_S11700x6x4_S11700x6x4x1_0_1_2 : Arr F S11700x6x4 .f32 → Arr F S11700x6x4x1 .f32),
  unary main_v156 main_v901 ((extractStridedSlice S11700x6x1x8 ![0, 0, 3, 0] · slices_S11700x6x4x8_S11700x6x1x8_0_0_3_0) : Arr F S11700x6x4x8 .f32 → Arr F S11700x6x1x8 .f32),
  reshape main_v901 main_v902 (rfl : (.f32 : EltTy) = .f32) shapeCasts_S11700x6x1x8_S11700x6x8,
  unary main_v902 main_v903 (broadcastInDim S11700x6x1x8 ![0, 1, 3] bcast_S11700x6x8_S11700x6x1x8_0_1_3 : Arr F S11700x6x8 .f32 → Arr F S11700x6x1x8 .f32),
  unary main_v900 main_v904 (broadcastInDim S11700x6x4x8 ![0, 1, 2, 3] bcast_S11700x6x4x1_S11700x6x4x8_0_1_2_3 : Arr F S11700x6x4x1 .f32 → Arr F S11700x6x4x8 .f32),
  unary main_v903 main_v905 (broadcastInDim S11700x6x4x8 ![0, 1, 2, 3] bcast_S11700x6x1x8_S11700x6x4x8_0_1_2_3 : Arr F S11700x6x1x8 .f32 → Arr F S11700x6x4x8 .f32),
  binary main_v904 main_v905 main_v906 (mulf : Arr F S11700x6x4x8 .f32 → Arr F S11700x6x4x8 .f32 → Arr F S11700x6x4x8 .f32)]

def k28 : List (HloOp τ sig (Elt F)) := [
  unary main_v213 main_v907 (broadcastInDim S11700x6x1 ![0, 1] bcast_S11700x6_S11700x6x1_0_1 : Arr F S11700x6 .i32 → Arr F S11700x6x1 .i32),
  unary main_v400 main_v908 (broadcastInDim S11700x6x1 ![0, 1] bcast_S11700x6_S11700x6x1_0_1 : Arr F S11700x6 .i32 → Arr F S11700x6x1 .i32),
  unary main_v587 main_v909 (broadcastInDim S11700x6x1 ![0, 1] bcast_S11700x6_S11700x6x1_0_1 : Arr F S11700x6 .i32 → Arr F S11700x6x1 .i32)]

def k29 : List (HloOp τ sig (Elt F)) := [
  unary main_v774 main_v910 (broadcastInDim S11700x6x1 ![0, 1] bcast_S11700x6_S11700x6x1_0_1 : Arr F S11700x6 .i32 → Arr F S11700x6x1 .i32),
  nary ![main_v907, main_v908, main_v909, main_v910] main_v911 (fun u => (concatenate S11700x6x4 2 [⟨S11700x6x1, (u 0 : Arr F S11700x6x1 .i32)⟩, ⟨S11700x6x1, (u 1 : Arr F S11700x6x1 .i32)⟩, ⟨S11700x6x1, (u 2 : Arr F S11700x6x1 .i32)⟩, ⟨S11700x6x1, (u 3 : Arr F S11700x6x1 .i32)⟩] concatenates_S11700x6x1_S11700x6x1_S11700x6x1_S11700x6x1_S11700x6x4_d2 : Arr F S11700x6x4 .i32))]

def kS1 : List (HloOp τ sig (Elt F)) := [
  unary main_v345 main_v912 (broadcastInDim S11700x6x1x4x8 ![0, 1, 3, 4] bcast_S11700x6x4x8_S11700x6x1x4x8_0_1_3_4 : Arr F S11700x6x4x8 .f32 → Arr F S11700x6x1x4x8 .f32),
  unary main_v532 main_v913 (broadcastInDim S11700x6x1x4x8 ![0, 1, 3, 4] bcast_S11700x6x4x8_S11700x6x1x4x8_0_1_3_4 : Arr F S11700x6x4x8 .f32 → Arr F S11700x6x1x4x8 .f32),
  unary main_v719 main_v914 (broadcastInDim S11700x6x1x4x8 ![0, 1, 3, 4] bcast_S11700x6x4x8_S11700x6x1x4x8_0_1_3_4 : Arr F S11700x6x4x8 .f32 → Arr F S11700x6x1x4x8 .f32),
  unary main_v906 main_v915 (broadcastInDim S11700x6x1x4x8 ![0, 1, 3, 4] bcast_S11700x6x4x8_S11700x6x1x4x8_0_1_3_4 : Arr F S11700x6x4x8 .f32 → Arr F S11700x6x1x4x8 .f32),
  nary ![main_v912, main_v913, main_v914, main_v915] main_v916 (fun u => (concatenate S11700x6x4x4x8 2 [⟨S11700x6x1x4x8, (u 0 : Arr F S11700x6x1x4x8 .f32)⟩, ⟨S11700x6x1x4x8, (u 1 : Arr F S11700x6x1x4x8 .f32)⟩, ⟨S11700x6x1x4x8, (u 2 : Arr F S11700x6x1x4x8 .f32)⟩, ⟨S11700x6x1x4x8, (u 3 : Arr F S11700x6x1x4x8 .f32)⟩] concatenates_S11700x6x1x4x8_S11700x6x1x4x8_S11700x6x1x4x8_S11700x6x1x4x8_S11700x6x4x4x8_d2 : Arr F S11700x6x4x4x8 .f32))]

def kS2 : List (HloOp τ sig (Elt F)) := [
  reshape main_v911 main_v917 (rfl : (.i32 : EltTy) = .i32) shapeCasts_S11700x6x4_S11700x24,
  reshape main_v916 main_v918 (rfl : (.f32 : EltTy) = .f32) shapeCasts_S11700x6x4x4x8_S11700x24x32]

def kG0 : List (HloOp τ sig (Elt F)) := [
  reshape main_arg4 main_v919 (rfl : (.f32 : EltTy) = .f32) shapeCasts_S1x6x256x64x176_S6x256x64x176,
  unary main_v919 main_v920 ((transpose S6x64x176x256 [0, 2, 3, 1] · transposes_S6x256x64x176_S6x64x176x256_0_2_3_1) : Arr F S6x256x64x176 .f32 → Arr F S6x64x176x256 .f32),
  reshape main_v920 main_v921 (rfl : (.f32 : EltTy) = .f32) shapeCasts_S6x64x176x256_S6x32x2x88x2x256,
  unary main_v921 main_v922 ((transpose S6x32x88x2x2x256 [0, 1, 3, 2, 4, 5] · transposes_S6x32x2x88x2x256_S6x32x88x2x2x256_0_1_3_2_4_5) : Arr F S6x32x2x88x2x256 .f32 → Arr F S6x32x88x2x2x256 .f32),
  reshape main_v922 main_v923 (rfl : (.f32 : EltTy) = .f32) shapeCasts_S6x32x88x2x2x256_S16896x1024,
  unary main_v920 main_v924 ((extractStridedSlice S6x64x174x256 ![0, 0, 1, 0] · slices_S6x64x176x256_S6x64x174x256_0_0_1_0) : Arr F S6x64x176x256 .f32 → Arr F S6x64x174x256 .f32),
  reshape main_v924 main_v925 (rfl : (.f32 : EltTy) = .f32) shapeCasts_S6x64x174x256_S6x32x2x87x2x256,
  unary main_v925 main_v926 ((transpose S6x32x87x2x2x256 [0, 1, 3, 2, 4, 5] · transposes_S6x32x2x87x2x256_S6x32x87x2x2x256_0_1_3_2_4_5) : Arr F S6x32x2x87x2x256 .f32 → Arr F S6x32x87x2x2x256 .f32),
  reshape main_v926 main_v927 (rfl : (.f32 : EltTy) = .f32) shapeCasts_S6x32x87x2x2x256_S16704x1024,
  unary main_v920 main_v928 ((extractStridedSlice S6x62x176x256 ![0, 1, 0, 0] · slices_S6x64x176x256_S6x62x176x256_0_1_0_0) : Arr F S6x64x176x256 .f32 → Arr F S6x62x176x256 .f32),
  reshape main_v928 main_v929 (rfl : (.f32 : EltTy) = .f32) shapeCasts_S6x62x176x256_S6x31x2x88x2x256,
  unary main_v929 main_v930 ((transpose S6x31x88x2x2x256 [0, 1, 3, 2, 4, 5] · transposes_S6x31x2x88x2x256_S6x31x88x2x2x256_0_1_3_2_4_5) : Arr F S6x31x2x88x2x256 .f32 → Arr F S6x31x88x2x2x256 .f32),
  reshape main_v930 main_v931 (rfl : (.f32 : EltTy) = .f32) shapeCasts_S6x31x88x2x2x256_S16368x1024,
  unary main_v920 main_v932 ((extractStridedSlice S6x62x174x256 ![0, 1, 1, 0] · slices_S6x64x176x256_S6x62x174x256_0_1_1_0) : Arr F S6x64x176x256 .f32 → Arr F S6x62x174x256 .f32),
  reshape main_v932 main_v933 (rfl : (.f32 : EltTy) = .f32) shapeCasts_S6x62x174x256_S6x31x2x87x2x256,
  unary main_v933 main_v934 ((transpose S6x31x87x2x2x256 [0, 1, 3, 2, 4, 5] · transposes_S6x31x2x87x2x256_S6x31x87x2x2x256_0_1_3_2_4_5) : Arr F S6x31x2x87x2x256 .f32 → Arr F S6x31x87x2x2x256 .f32),
  reshape main_v934 main_v935 (rfl : (.f32 : EltTy) = .f32) shapeCasts_S6x31x87x2x2x256_S16182x1024]

def kG1 : List (HloOp τ sig (Elt F)) := [
  reshape main_arg5 main_v936 (rfl : (.f32 : EltTy) = .f32) shapeCasts_S1x6x256x32x88_S6x256x32x88,
  unary main_v936 main_v937 ((transpose S6x32x88x256 [0, 2, 3, 1] · transposes_S6x256x32x88_S6x32x88x256_0_2_3_1) : Arr F S6x256x32x88 .f32 → Arr F S6x32x88x256 .f32),
  reshape main_v937 main_v938 (rfl : (.f32 : EltTy) = .f32) shapeCasts_S6x32x88x256_S6x16x2x44x2x256,
  unary main_v938 main_v939 ((transpose S6x16x44x2x2x256 [0, 1, 3, 2, 4, 5] · transposes_S6x16x2x44x2x256_S6x16x44x2x2x256_0_1_3_2_4_5) : Arr F S6x16x2x44x2x256 .f32 → Arr F S6x16x44x2x2x256 .f32),
  reshape main_v939 main_v940 (rfl : (.f32 : EltTy) = .f32) shapeCasts_S6x16x44x2x2x256_S4224x1024,
  unary main_v937 main_v941 ((extractStridedSlice S6x32x86x256 ![0, 0, 1, 0] · slices_S6x32x88x256_S6x32x86x256_0_0_1_0) : Arr F S6x32x88x256 .f32 → Arr F S6x32x86x256 .f32),
  reshape main_v941 main_v942 (rfl : (.f32 : EltTy) = .f32) shapeCasts_S6x32x86x256_S6x16x2x43x2x256,
  unary main_v942 main_v943 ((transpose S6x16x43x2x2x256 [0, 1, 3, 2, 4, 5] · transposes_S6x16x2x43x2x256_S6x16x43x2x2x256_0_1_3_2_4_5) : Arr F S6x16x2x43x2x256 .f32 → Arr F S6x16x43x2x2x256 .f32),
  reshape main_v943 main_v944 (rfl : (.f32 : EltTy) = .f32) shapeCasts_S6x16x43x2x2x256_S4128x1024,
  unary main_v937 main_v945 ((extractStridedSlice S6x30x88x256 ![0, 1, 0, 0] · slices_S6x32x88x256_S6x30x88x256_0_1_0_0) : Arr F S6x32x88x256 .f32 → Arr F S6x30x88x256 .f32),
  reshape main_v945 main_v946 (rfl : (.f32 : EltTy) = .f32) shapeCasts_S6x30x88x256_S6x15x2x44x2x256,
  unary main_v946 main_v947 ((transpose S6x15x44x2x2x256 [0, 1, 3, 2, 4, 5] · transposes_S6x15x2x44x2x256_S6x15x44x2x2x256_0_1_3_2_4_5) : Arr F S6x15x2x44x2x256 .f32 → Arr F S6x15x44x2x2x256 .f32),
  reshape main_v947 main_v948 (rfl : (.f32 : EltTy) = .f32) shapeCasts_S6x15x44x2x2x256_S3960x1024,
  unary main_v937 main_v949 ((extractStridedSlice S6x30x86x256 ![0, 1, 1, 0] · slices_S6x32x88x256_S6x30x86x256_0_1_1_0) : Arr F S6x32x88x256 .f32 → Arr F S6x30x86x256 .f32),
  reshape main_v949 main_v950 (rfl : (.f32 : EltTy) = .f32) shapeCasts_S6x30x86x256_S6x15x2x43x2x256,
  unary main_v950 main_v951 ((transpose S6x15x43x2x2x256 [0, 1, 3, 2, 4, 5] · transposes_S6x15x2x43x2x256_S6x15x43x2x2x256_0_1_3_2_4_5) : Arr F S6x15x2x43x2x256 .f32 → Arr F S6x15x43x2x2x256 .f32),
  reshape main_v951 main_v952 (rfl : (.f32 : EltTy) = .f32) shapeCasts_S6x15x43x2x2x256_S3870x1024]

def kG2 : List (HloOp τ sig (Elt F)) := [
  reshape main_arg6 main_v953 (rfl : (.f32 : EltTy) = .f32) shapeCasts_S1x6x256x16x44_S6x256x16x44,
  unary main_v953 main_v954 ((transpose S6x16x44x256 [0, 2, 3, 1] · transposes_S6x256x16x44_S6x16x44x256_0_2_3_1) : Arr F S6x256x16x44 .f32 → Arr F S6x16x44x256 .f32),
  reshape main_v954 main_v955 (rfl : (.f32 : EltTy) = .f32) shapeCasts_S6x16x44x256_S6x8x2x22x2x256,
  unary main_v955 main_v956 ((transpose S6x8x22x2x2x256 [0, 1, 3, 2, 4, 5] · transposes_S6x8x2x22x2x256_S6x8x22x2x2x256_0_1_3_2_4_5) : Arr F S6x8x2x22x2x256 .f32 → Arr F S6x8x22x2x2x256 .f32),
  reshape main_v956 main_v957 (rfl : (.f32 : EltTy) = .f32) shapeCasts_S6x8x22x2x2x256_S1056x1024,
  unary main_v954 main_v958 ((extractStridedSlice S6x16x42x256 ![0, 0, 1, 0] · slices_S6x16x44x256_S6x16x42x256_0_0_1_0) : Arr F S6x16x44x256 .f32 → Arr F S6x16x42x256 .f32),
  reshape main_v958 main_v959 (rfl : (.f32 : EltTy) = .f32) shapeCasts_S6x16x42x256_S6x8x2x21x2x256,
  unary main_v959 main_v960 ((transpose S6x8x21x2x2x256 [0, 1, 3, 2, 4, 5] · transposes_S6x8x2x21x2x256_S6x8x21x2x2x256_0_1_3_2_4_5) : Arr F S6x8x2x21x2x256 .f32 → Arr F S6x8x21x2x2x256 .f32),
  reshape main_v960 main_v961 (rfl : (.f32 : EltTy) = .f32) shapeCasts_S6x8x21x2x2x256_S1008x1024,
  unary main_v954 main_v962 ((extractStridedSlice S6x14x44x256 ![0, 1, 0, 0] · slices_S6x16x44x256_S6x14x44x256_0_1_0_0) : Arr F S6x16x44x256 .f32 → Arr F S6x14x44x256 .f32),
  reshape main_v962 main_v963 (rfl : (.f32 : EltTy) = .f32) shapeCasts_S6x14x44x256_S6x7x2x22x2x256,
  unary main_v963 main_v964 ((transpose S6x7x22x2x2x256 [0, 1, 3, 2, 4, 5] · transposes_S6x7x2x22x2x256_S6x7x22x2x2x256_0_1_3_2_4_5) : Arr F S6x7x2x22x2x256 .f32 → Arr F S6x7x22x2x2x256 .f32),
  reshape main_v964 main_v965 (rfl : (.f32 : EltTy) = .f32) shapeCasts_S6x7x22x2x2x256_S924x1024,
  unary main_v954 main_v966 ((extractStridedSlice S6x14x42x256 ![0, 1, 1, 0] · slices_S6x16x44x256_S6x14x42x256_0_1_1_0) : Arr F S6x16x44x256 .f32 → Arr F S6x14x42x256 .f32),
  reshape main_v966 main_v967 (rfl : (.f32 : EltTy) = .f32) shapeCasts_S6x14x42x256_S6x7x2x21x2x256,
  unary main_v967 main_v968 ((transpose S6x7x21x2x2x256 [0, 1, 3, 2, 4, 5] · transposes_S6x7x2x21x2x256_S6x7x21x2x2x256_0_1_3_2_4_5) : Arr F S6x7x2x21x2x256 .f32 → Arr F S6x7x21x2x2x256 .f32),
  reshape main_v968 main_v969 (rfl : (.f32 : EltTy) = .f32) shapeCasts_S6x7x21x2x2x256_S882x1024]

def kG3 : List (HloOp τ sig (Elt F)) := [
  reshape main_arg7 main_v970 (rfl : (.f32 : EltTy) = .f32) shapeCasts_S1x6x256x8x22_S6x256x8x22,
  unary main_v970 main_v971 ((transpose S6x8x22x256 [0, 2, 3, 1] · transposes_S6x256x8x22_S6x8x22x256_0_2_3_1) : Arr F S6x256x8x22 .f32 → Arr F S6x8x22x256 .f32),
  reshape main_v971 main_v972 (rfl : (.f32 : EltTy) = .f32) shapeCasts_S6x8x22x256_S6x4x2x11x2x256,
  unary main_v972 main_v973 ((transpose S6x4x11x2x2x256 [0, 1, 3, 2, 4, 5] · transposes_S6x4x2x11x2x256_S6x4x11x2x2x256_0_1_3_2_4_5) : Arr F S6x4x2x11x2x256 .f32 → Arr F S6x4x11x2x2x256 .f32),
  reshape main_v973 main_v974 (rfl : (.f32 : EltTy) = .f32) shapeCasts_S6x4x11x2x2x256_S264x1024,
  unary main_v971 main_v975 ((extractStridedSlice S6x8x20x256 ![0, 0, 1, 0] · slices_S6x8x22x256_S6x8x20x256_0_0_1_0) : Arr F S6x8x22x256 .f32 → Arr F S6x8x20x256 .f32),
  reshape main_v975 main_v976 (rfl : (.f32 : EltTy) = .f32) shapeCasts_S6x8x20x256_S6x4x2x10x2x256,
  unary main_v976 main_v977 ((transpose S6x4x10x2x2x256 [0, 1, 3, 2, 4, 5] · transposes_S6x4x2x10x2x256_S6x4x10x2x2x256_0_1_3_2_4_5) : Arr F S6x4x2x10x2x256 .f32 → Arr F S6x4x10x2x2x256 .f32),
  reshape main_v977 main_v978 (rfl : (.f32 : EltTy) = .f32) shapeCasts_S6x4x10x2x2x256_S240x1024,
  unary main_v971 main_v979 ((extractStridedSlice S6x6x22x256 ![0, 1, 0, 0] · slices_S6x8x22x256_S6x6x22x256_0_1_0_0) : Arr F S6x8x22x256 .f32 → Arr F S6x6x22x256 .f32),
  reshape main_v979 main_v980 (rfl : (.f32 : EltTy) = .f32) shapeCasts_S6x6x22x256_S6x3x2x11x2x256,
  unary main_v980 main_v981 ((transpose S6x3x11x2x2x256 [0, 1, 3, 2, 4, 5] · transposes_S6x3x2x11x2x256_S6x3x11x2x2x256_0_1_3_2_4_5) : Arr F S6x3x2x11x2x256 .f32 → Arr F S6x3x11x2x2x256 .f32),
  reshape main_v981 main_v982 (rfl : (.f32 : EltTy) = .f32) shapeCasts_S6x3x11x2x2x256_S198x1024,
  unary main_v971 main_v983 ((extractStridedSlice S6x6x20x256 ![0, 1, 1, 0] · slices_S6x8x22x256_S6x6x20x256_0_1_1_0) : Arr F S6x8x22x256 .f32 → Arr F S6x6x20x256 .f32),
  reshape main_v983 main_v984 (rfl : (.f32 : EltTy) = .f32) shapeCasts_S6x6x20x256_S6x3x2x10x2x256,
  unary main_v984 main_v985 ((transpose S6x3x10x2x2x256 [0, 1, 3, 2, 4, 5] · transposes_S6x3x2x10x2x256_S6x3x10x2x2x256_0_1_3_2_4_5) : Arr F S6x3x2x10x2x256 .f32 → Arr F S6x3x10x2x2x256 .f32),
  reshape main_v985 main_v986 (rfl : (.f32 : EltTy) = .f32) shapeCasts_S6x3x10x2x2x256_S180x1024]

def kCat : List (HloOp τ sig (Elt F)) := [
  nary ![main_v923, main_v927, main_v931, main_v935, main_v940, main_v944, main_v948, main_v952, main_v957, main_v961, main_v965, main_v969, main_v974, main_v978, main_v982, main_v986] main_v987 (fun u => (concatenate S87084x1024 0 [⟨S16896x1024, (u 0 : Arr F S16896x1024 .f32)⟩, ⟨S16704x1024, (u 1 : Arr F S16704x1024 .f32)⟩, ⟨S16368x1024, (u 2 : Arr F S16368x1024 .f32)⟩, ⟨S16182x1024, (u 3 : Arr F S16182x1024 .f32)⟩, ⟨S4224x1024, (u 4 : Arr F S4224x1024 .f32)⟩, ⟨S4128x1024, (u 5 : Arr F S4128x1024 .f32)⟩, ⟨S3960x1024, (u 6 : Arr F S3960x1024 .f32)⟩, ⟨S3870x1024, (u 7 : Arr F S3870x1024 .f32)⟩, ⟨S1056x1024, (u 8 : Arr F S1056x1024 .f32)⟩, ⟨S1008x1024, (u 9 : Arr F S1008x1024 .f32)⟩, ⟨S924x1024, (u 10 : Arr F S924x1024 .f32)⟩, ⟨S882x1024, (u 11 : Arr F S882x1024 .f32)⟩, ⟨S264x1024, (u 12 : Arr F S264x1024 .f32)⟩, ⟨S240x1024, (u 13 : Arr F S240x1024 .f32)⟩, ⟨S198x1024, (u 14 : Arr F S198x1024 .f32)⟩, ⟨S180x1024, (u 15 : Arr F S180x1024 .f32)⟩] concatenates_S16896x1024_S16704x1024_S16368x1024_S16182x1024_S4224x1024_S4128x1024_S3960x1024_S3870x1024_S1056x1024_S1008x1024_S924x1024_S882x1024_S264x1024_S240x1024_S198x1024_S180x1024_S87084x1024_d0 : Arr F S87084x1024 .f32))]

def preOps : List (HloOp τ sig (Elt F)) := [
  unary main_v917 main_v988 (broadcastInDim S11700x24x1 ![0, 1] bcast_S11700x24_S11700x24x1_0_1 : Arr F S11700x24 .i32 → Arr F S11700x24x1 .i32),
  nullary main_c_288 (constantI S_ 32 4#32),
  unary main_c_288 main_v989 (broadcastInDim S11700x24x1 ![] bcast_S_S11700x24x1 : Arr F S_ .i32 → Arr F S11700x24x1 .i32),
  binary main_v988 main_v989 main_v990 (muli : Arr F S11700x24x1 .i32 → Arr F S11700x24x1 .i32 → Arr F S11700x24x1 .i32),
  nullary main_v991 (iotaInDim S4 32 0),
  unary main_v991 main_v992 (broadcastInDim S1x1x4 ![2] bcast_S4_S1x1x4_2 : Arr F S4 .i32 → Arr F S1x1x4 .i32),
  unary main_v990 main_v993 (broadcastInDim S11700x24x4 ![0, 1, 2] bcast_S11700x24x1_S11700x24x4_0_1_2 : Arr F S11700x24x1 .i32 → Arr F S11700x24x4 .i32),
  unary main_v992 main_v994 (broadcastInDim S11700x24x4 ![0, 1, 2] bcast_S1x1x4_S11700x24x4_0_1_2 : Arr F S1x1x4 .i32 → Arr F S11700x24x4 .i32),
  binary main_v993 main_v994 main_v995 (addi : Arr F S11700x24x4 .i32 → Arr F S11700x24x4 .i32 → Arr F S11700x24x4 .i32),
  reshape main_v995 main_v996 (rfl : (.i32 : EltTy) = .i32) shapeCasts_S11700x24x4_S11700x96,
  reshape main_v987 main_v997 (rfl : (.f32 : EltTy) = .f32) shapeCasts_S87084x1024_S348336x2x128,
  nullary main_c_289 (constantI S_ 32 0#32),
  unary main_c_289 main_v998 (broadcastInDim S12064x96 ![] bcast_S_S12064x96 : Arr F S_ .i32 → Arr F S12064x96 .i32),
  nullary main_c_290 (constantI S_ 32 0#32),
  unary main_c_290 main_v999 (broadcastInDim S1 ![] bcast_S_S1 : Arr F S_ .i32 → Arr F S1 .i32),
  ternary main_v998 main_v999 main_v996 main_v1000 ((fun x i u => Host.scatter scatter_S12064x96_S1_S11700x96_01_n_0_0 (fun _ b => b) x i u) : Arr F S12064x96 .i32 → Arr F S1 .i32 → Arr F S11700x96 .i32 → Arr F S12064x96 .i32),
  nullary main_cst_291 (constant S_ .f32 0x00000000#32),
  unary main_cst_291 main_v1001 (broadcastInDim S12064x24x32 ![] bcast_S_S12064x24x32 : Arr F S_ .f32 → Arr F S12064x24x32 .f32),
  nullary main_c_292 (constantI S_ 32 0#32),
  unary main_c_292 main_v1002 (broadcastInDim S1 ![] bcast_S_S1 : Arr F S_ .i32 → Arr F S1 .i32),
  ternary main_v1001 main_v1002 main_v918 main_v1003 ((fun x i u => Host.scatter scatter_S12064x24x32_S1_S11700x24x32_012_n_0_0 (fun _ b => b) x i u) : Arr F S12064x24x32 .f32 → Arr F S1 .i32 → Arr F S11700x24x32 .f32 → Arr F S12064x24x32 .f32),
  reshape main_v1000 main_v1004 (rfl : (.i32 : EltTy) = .i32) shapeCasts_S12064x96_S1158144,
  reshape main_v1003 main_v1005 (rfl : (.f32 : EltTy) = .f32) shapeCasts_S12064x24x32_S9265152]

def postOps : List (HloOp τ sig (Elt F)) := [
  reshape main_v1006 main_v1007 (rfl : (.f32 : EltTy) = .f32) shapeCasts_S237568_S928x256,
  unary main_v1007 main_v1008 ((extractStridedSlice S900x256 ![0, 0] · slices_S928x256_S900x256_0_0) : Arr F S928x256 .f32 → Arr F S900x256 .f32),
  binary main_v1008 main_arg14 main_v1009 ((fun l r => Host.dotGeneral dot_S900x256_S256x256_S900x256_1_0_0_1_n_n none l r) : Arr F S900x256 .f32 → Arr F S256x256 .f32 → Arr F S900x256 .f32),
  unary main_arg15 main_v1010 (broadcastInDim S1x256 ![1] bcast_S256_S1x256_1 : Arr F S256 .f32 → Arr F S1x256 .f32),
  unary main_v1010 main_v1011 (broadcastInDim S900x256 ![0, 1] bcast_S1x256_S900x256_0_1 : Arr F S1x256 .f32 → Arr F S900x256 .f32),
  binary main_v1009 main_v1011 main_v1012 (addf : Arr F S900x256 .f32 → Arr F S900x256 .f32 → Arr F S900x256 .f32),
  reshape main_arg1 main_v1013 (rfl : (.f32 : EltTy) = .f32) shapeCasts_S1x900x256_S900x256,
  binary main_v1012 main_v1013 main_v1014 (addf : Arr F S900x256 .f32 → Arr F S900x256 .f32 → Arr F S900x256 .f32),
  unary main_v1014 main_v1015 (broadcastInDim S1x900x256 ![1, 2] bcast_S900x256_S1x900x256_1_2 : Arr F S900x256 .f32 → Arr F S1x900x256 .f32)]

end Cert.Proof.Agg

end
-- ==== Proof.KHostA.lean ====
/-
  The lists of the kernel's host operations by what they compute, and the program as their sequence.
-/
module

public import proofs.«01_k».proof.Proof.KOps1
public import proofs.«01_k».proof.Proof.KOps2

@[expose] public section

noncomputable section

namespace Cert.Proof.Agg

open Cert.KernelIdeal Cert.KernelIdeal.Gen
open Idealize.ShloMosaic
open Idealize.ShloMosaic.StableHlo

variable {F : FTy → Type} [FloatOps F]

def kPre : List (HloOp τ sig (Elt F)) := k00 ++ k01 ++ k02 ++ k03
def kI0 : List (HloOp τ sig (Elt F)) := k04 ++ k05
def kW0 : List (HloOp τ sig (Elt F)) := k06 ++ k07 ++ k08 ++ k09
def kI1 : List (HloOp τ sig (Elt F)) := k10 ++ k11
def kW1 : List (HloOp τ sig (Elt F)) := k12 ++ k13 ++ k14 ++ k15
def kI2 : List (HloOp τ sig (Elt F)) := k16 ++ k17
def kW2 : List (HloOp τ sig (Elt F)) := k18 ++ k19 ++ k20 ++ k21
def kI3 : List (HloOp τ sig (Elt F)) := k22 ++ k23 ++ k24
def kW3 : List (HloOp τ sig (Elt F)) := k25 ++ k26 ++ k27
def kS0 : List (HloOp τ sig (Elt F)) := k28 ++ k29

/-- What `kPre` writes. -/
noncomputable def kPreW : List (Ref sig .tc) := [main_cst, main_v0, main_v1, main_v2, main_v3, main_v4, main_v5, main_v6, main_v7, main_v8, main_cst_0, main_cst_1, main_call0_v0, main_call0_v1, main_call0_v2, main_call0_v3, main_call0_v4, main_v9, main_v10, main_v11, main_cst_2, main_v12, main_v13, main_cst_3, main_v14, main_v15, main_cst_4, main_v16, main_v17, main_v18, main_v19, main_v20, main_v21, main_v22, main_v23, main_call1_v0, main_call1_cst, main_call1_v1, main_call1_v2, main_v24, main_cst_5, main_v25, main_v26, main_v27, main_v28, main_v29, main_v30, main_v31, main_v32, main_v33, main_v34, main_v35, main_v36, main_v37, main_v38, main_v39, main_cst_6, main_v40, main_v41, main_cst_7, main_v42, main_v43, main_v44, main_v45, main_v46, main_cst_8, main_v47, main_v48, main_v49, main_v50, main_v51, main_cst_9, main_v52, main_v53, main_v54, main_v55, main_v56, main_cst_10, main_v57, main_v58, main_v59, main_v60, main_v61, main_cst_11, main_v62, main_v63, main_cst_12, main_v64, main_v65, main_v66, main_v67, main_v68, main_cst_13, main_v69, main_v70, main_v71, main_v72, main_v73, main_cst_14, main_v74, main_v75, main_v76, main_v77, main_v78, main_cst_15, main_v79, main_v80, main_v81, main_v82, main_v83, main_cst_16, main_v84, main_v85, main_cst_17, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_cst_18, main_v118, main_cst_19, main_v119, main_v120, main_v121, main_v122, main_v123, main_v124, main_cst_20, main_v125, main_v126, main_v127, main_v128, main_v129, main_v130, main_v131, main_v132, main_cst_21, main_v133, main_v134, main_v135, main_v136, main_v137, main_v138, main_v139, main_v140, main_v141, main_v142, main_v143, main_v144, main_cst_22, main_v145, main_v146, main_v147, main_v148, main_v149, main_v150, main_v151, main_cst_23, main_cst_24, main_call2_v0, main_call2_v1, main_call2_v2, main_call2_v3, main_call2_v4, main_v152, main_v153, main_v154, main_v155, main_v156, main_v157, main_v158]
/-- What `kI0` writes. -/
noncomputable def kI0W : List (Ref sig .tc) := [main_v159, main_v160, main_cst_25, main_v161, main_v162, main_cst_26, main_v163, main_v164, main_v165, main_v166, main_cst_27, main_v167, main_v168, main_cst_28, main_v169, main_v170, main_v171, main_v172, main_v173, main_v174, main_v175, main_v176, main_c, main_c_29, main_call3_v0, main_call3_v1, main_call3_v2, main_call3_v3, main_call3_v4, main_v177, main_c_30, main_c_31, main_call4_v0, main_call4_v1, main_call4_v2, main_call4_v3, main_call4_v4, main_v178, main_c_32, main_v179, main_v180, main_c_33, main_v181, main_v182, main_c_34, main_v183, main_v184, main_c_35, main_v185, main_v186, main_c_36, main_c_37, main_call5_v0, main_call5_v1, main_v187, main_c_38, main_v188, main_v189, main_c_39, main_c_40, main_call6_v0, main_call6_v1, main_v190, main_v191, main_c_41, main_v192, main_v193, main_c_42, main_c_43, main_call8_v0, main_call8_v1, main_v194, main_c_44, main_v195, main_v196, main_c_45, main_c_46, main_call9_v0, main_call9_v1, main_v197, main_v198, main_c_47, main_v199, main_v200, main_v201, main_v202, main_v203, main_c_48, main_v204, main_v205, main_v206, main_v207, main_v208, main_v209, main_v210, main_v211, main_v212, main_v213]
/-- What `kW0` writes. -/
noncomputable def kW0W : List (Ref sig .tc) := [main_cst_49, main_v214, main_cst_50, main_v215, main_v216, main_cst_51, main_v217, main_v218, main_v219, main_cst_52, main_v220, main_v221, main_v222, main_cst_53, main_v223, main_v224, main_v225, main_v226, main_c_54, main_v227, main_v228, main_c_55, main_v229, main_v230, main_c_56, main_v231, main_v232, main_c_57, main_v233, main_v234, main_v235, main_c_58, main_v236, main_v237, main_v238, main_c_59, main_v239, main_v240, main_v241, main_v242, main_v243, main_c_60, main_v244, main_v245, main_v246, main_v247, main_c_61, main_c_62, main_call10_v0, main_call10_v1, main_call10_v2, main_call10_v3, main_call10_v4, main_v248, main_call11_v0, main_call11_v1, main_call11_v2, main_call11_v3, main_call11_v4, main_v249, main_v250, main_v251, main_v252, main_v253, main_v254, main_c_63, main_v255, main_v256, main_c_64, main_v257, main_v258, main_c_65, main_v259, main_v260, main_c_66, main_v261, main_v262, main_v263, main_c_67, main_v264, main_v265, main_v266, main_c_68, main_v267, main_v268, main_v269, main_v270, main_v271, main_c_69, main_v272, main_v273, main_v274, main_v275, main_c_70, main_c_71, main_call12_v0, main_call12_v1, main_call12_v2, main_call12_v3, main_call12_v4, main_v276, main_call13_v0, main_call13_v1, main_call13_v2, main_call13_v3, main_call13_v4, main_v277, main_v278, main_v279, main_v280, main_v281, main_v282, main_c_72, main_v283, main_v284, main_c_73, main_v285, main_v286, main_c_74, main_v287, main_v288, main_c_75, main_v289, main_v290, main_v291, main_c_76, main_v292, main_v293, main_v294, main_c_77, main_v295, main_v296, main_v297, main_v298, main_v299, main_c_78, main_v300, main_v301, main_v302, main_v303, main_c_79, main_c_80, main_call14_v0, main_call14_v1, main_call14_v2, main_call14_v3, main_call14_v4, main_v304, main_call15_v0, main_call15_v1, main_call15_v2, main_call15_v3, main_call15_v4, main_v305, main_v306, main_v307, main_v308, main_v309, main_v310, main_c_81, main_v311, main_v312, main_c_82, main_v313, main_v314, main_c_83, main_v315, main_v316, main_c_84, main_v317, main_v318, main_v319, main_c_85, main_v320, main_v321, main_v322, main_c_86, main_v323, main_v324, main_v325, main_v326, main_v327, main_c_87, main_v328, main_v329, main_v330, main_v331, main_c_88, main_c_89, main_call16_v0, main_call16_v1, main_call16_v2, main_call16_v3, main_call16_v4, main_v332, main_call17_v0, main_call17_v1, main_call17_v2, main_call17_v3, main_call17_v4, main_v333, main_v334, main_v335, main_v336, main_v337, main_v338, main_v339, main_v340, main_v341, main_v342, main_v343, main_v344, main_v345]
/-- What `kI1` writes. -/
noncomputable def kI1W : List (Ref sig .tc) := [main_v346, main_v347, main_cst_90, main_v348, main_v349, main_cst_91, main_v350, main_v351, main_v352, main_v353, main_cst_92, main_v354, main_v355, main_cst_93, main_v356, main_v357, main_v358, main_v359, main_v360, main_v361, main_v362, main_v363, main_c_94, main_c_95, main_call18_v0, main_call18_v1, main_call18_v2, main_call18_v3, main_call18_v4, main_v364, main_c_96, main_c_97, main_call19_v0, main_call19_v1, main_call19_v2, main_call19_v3, main_call19_v4, main_v365, main_c_98, main_v366, main_v367, main_c_99, main_v368, main_v369, main_c_100, main_v370, main_v371, main_c_101, main_v372, main_v373, main_c_102, main_c_103, main_call20_v0, main_call20_v1, main_v374, main_c_104, main_v375, main_v376, main_c_105, main_c_106, main_call21_v0, main_call21_v1, main_v377, main_v378, main_c_107, main_v379, main_v380, main_c_108, main_c_109, main_call23_v0, main_call23_v1, main_v381, main_c_110, main_v382, main_v383, main_c_111, main_c_112, main_call24_v0, main_call24_v1, main_v384, main_v385, main_c_113, main_v386, main_v387, main_v388, main_v389, main_v390, main_c_114, main_v391, main_v392, main_v393, main_v394, main_v395, main_v396, main_v397, main_v398, main_v399, main_v400]
/-- What `kW1` writes. -/
noncomputable def kW1W : List (Ref sig .tc) := [main_cst_115, main_v401, main_cst_116, main_v402, main_v403, main_cst_117, main_v404, main_v405, main_v406, main_cst_118, main_v407, main_v408, main_v409, main_cst_119, main_v410, main_v411, main_v412, main_v413, main_c_120, main_v414, main_v415, main_c_121, main_v416, main_v417, main_c_122, main_v418, main_v419, main_c_123, main_v420, main_v421, main_v422, main_c_124, main_v423, main_v424, main_v425, main_c_125, main_v426, main_v427, main_v428, main_v429, main_v430, main_c_126, main_v431, main_v432, main_v433, main_v434, main_c_127, main_c_128, main_call25_v0, main_call25_v1, main_call25_v2, main_call25_v3, main_call25_v4, main_v435, main_call26_v0, main_call26_v1, main_call26_v2, main_call26_v3, main_call26_v4, main_v436, main_v437, main_v438, main_v439, main_v440, main_v441, main_c_129, main_v442, main_v443, main_c_130, main_v444, main_v445, main_c_131, main_v446, main_v447, main_c_132, main_v448, main_v449, main_v450, main_c_133, main_v451, main_v452, main_v453, main_c_134, main_v454, main_v455, main_v456, main_v457, main_v458, main_c_135, main_v459, main_v460, main_v461, main_v462, main_c_136, main_c_137, main_call27_v0, main_call27_v1, main_call27_v2, main_call27_v3, main_call27_v4, main_v463, main_call28_v0, main_call28_v1, main_call28_v2, main_call28_v3, main_call28_v4, main_v464, main_v465, main_v466, main_v467, main_v468, main_v469, main_c_138, main_v470, main_v471, main_c_139, main_v472, main_v473, main_c_140, main_v474, main_v475, main_c_141, main_v476, main_v477, main_v478, main_c_142, main_v479, main_v480, main_v481, main_c_143, main_v482, main_v483, main_v484, main_v485, main_v486, main_c_144, main_v487, main_v488, main_v489, main_v490, main_c_145, main_c_146, main_call29_v0, main_call29_v1, main_call29_v2, main_call29_v3, main_call29_v4, main_v491, main_call30_v0, main_call30_v1, main_call30_v2, main_call30_v3, main_call30_v4, main_v492, main_v493, main_v494, main_v495, main_v496, main_v497, main_c_147, main_v498, main_v499, main_c_148, main_v500, main_v501, main_c_149, main_v502, main_v503, main_c_150, main_v504, main_v505, main_v506, main_c_151, main_v507, main_v508, main_v509, main_c_152, main_v510, main_v511, main_v512, main_v513, main_v514, main_c_153, main_v515, main_v516, main_v517, main_v518, main_c_154, main_c_155, main_call31_v0, main_call31_v1, main_call31_v2, main_call31_v3, main_call31_v4, main_v519, main_call32_v0, main_call32_v1, main_call32_v2, main_call32_v3, main_call32_v4, main_v520, main_v521, main_v522, main_v523, main_v524, main_v525, main_v526, main_v527, main_v528, main_v529, main_v530, main_v531, main_v532]
/-- What `kI2` writes. -/
noncomputable def kI2W : List (Ref sig .tc) := [main_v533, main_v534, main_cst_156, main_v535, main_v536, main_cst_157, main_v537, main_v538, main_v539, main_v540, main_cst_158, main_v541, main_v542, main_cst_159, main_v543, main_v544, main_v545, main_v546, main_v547, main_v548, main_v549, main_v550, main_c_160, main_c_161, main_call33_v0, main_call33_v1, main_call33_v2, main_call33_v3, main_call33_v4, main_v551, main_c_162, main_c_163, main_call34_v0, main_call34_v1, main_call34_v2, main_call34_v3, main_call34_v4, main_v552, main_c_164, main_v553, main_v554, main_c_165, main_v555, main_v556, main_c_166, main_v557, main_v558, main_c_167, main_v559, main_v560, main_c_168, main_c_169, main_call35_v0, main_call35_v1, main_v561, main_c_170, main_v562, main_v563, main_c_171, main_c_172, main_call36_v0, main_call36_v1, main_v564, main_v565, main_c_173, main_v566, main_v567, main_c_174, main_c_175, main_call38_v0, main_call38_v1, main_v568, main_c_176, main_v569, main_v570, main_c_177, main_c_178, main_call39_v0, main_call39_v1, main_v571, main_v572, main_c_179, main_v573, main_v574, main_v575, main_v576, main_v577, main_c_180, main_v578, main_v579, main_v580, main_v581, main_v582, main_v583, main_v584, main_v585, main_v586, main_v587]
/-- What `kW2` writes. -/
noncomputable def kW2W : List (Ref sig .tc) := [main_cst_181, main_v588, main_cst_182, main_v589, main_v590, main_cst_183, main_v591, main_v592, main_v593, main_cst_184, main_v594, main_v595, main_v596, main_cst_185, main_v597, main_v598, main_v599, main_v600, main_c_186, main_v601, main_v602, main_c_187, main_v603, main_v604, main_c_188, main_v605, main_v606, main_c_189, main_v607, main_v608, main_v609, main_c_190, main_v610, main_v611, main_v612, main_c_191, main_v613, main_v614, main_v615, main_v616, main_v617, main_c_192, main_v618, main_v619, main_v620, main_v621, main_c_193, main_c_194, main_call40_v0, main_call40_v1, main_call40_v2, main_call40_v3, main_call40_v4, main_v622, main_call41_v0, main_call41_v1, main_call41_v2, main_call41_v3, main_call41_v4, main_v623, main_v624, main_v625, main_v626, main_v627, main_v628, main_c_195, main_v629, main_v630, main_c_196, main_v631, main_v632, main_c_197, main_v633, main_v634, main_c_198, main_v635, main_v636, main_v637, main_c_199, main_v638, main_v639, main_v640, main_c_200, main_v641, main_v642, main_v643, main_v644, main_v645, main_c_201, main_v646, main_v647, main_v648, main_v649, main_c_202, main_c_203, main_call42_v0, main_call42_v1, main_call42_v2, main_call42_v3, main_call42_v4, main_v650, main_call43_v0, main_call43_v1, main_call43_v2, main_call43_v3, main_call43_v4, main_v651, main_v652, main_v653, main_v654, main_v655, main_v656, main_c_204, main_v657, main_v658, main_c_205, main_v659, main_v660, main_c_206, main_v661, main_v662, main_c_207, main_v663, main_v664, main_v665, main_c_208, main_v666, main_v667, main_v668, main_c_209, main_v669, main_v670, main_v671, main_v672, main_v673, main_c_210, main_v674, main_v675, main_v676, main_v677, main_c_211, main_c_212, main_call44_v0, main_call44_v1, main_call44_v2, main_call44_v3, main_call44_v4, main_v678, main_call45_v0, main_call45_v1, main_call45_v2, main_call45_v3, main_call45_v4, main_v679, main_v680, main_v681, main_v682, main_v683, main_v684, main_c_213, main_v685, main_v686, main_c_214, main_v687, main_v688, main_c_215, main_v689, main_v690, main_c_216, main_v691, main_v692, main_v693, main_c_217, main_v694, main_v695, main_v696, main_c_218, main_v697, main_v698, main_v699, main_v700, main_v701, main_c_219, main_v702, main_v703, main_v704, main_v705, main_c_220, main_c_221, main_call46_v0, main_call46_v1, main_call46_v2, main_call46_v3, main_call46_v4, main_v706, main_call47_v0, main_call47_v1, main_call47_v2, main_call47_v3, main_call47_v4, main_v707, main_v708, main_v709, main_v710, main_v711, main_v712, main_v713, main_v714, main_v715, main_v716, main_v717, main_v718, main_v719]
/-- What `kI3` writes. -/
noncomputable def kI3W : List (Ref sig .tc) := [main_v720, main_v721, main_cst_222, main_v722, main_v723, main_cst_223, main_v724, main_v725, main_v726, main_v727, main_cst_224, main_v728, main_v729, main_cst_225, main_v730, main_v731, main_v732, main_v733, main_v734, main_v735, main_v736, main_v737, main_c_226, main_c_227, main_call48_v0, main_call48_v1, main_call48_v2, main_call48_v3, main_call48_v4, main_v738, main_c_228, main_c_229, main_call49_v0, main_call49_v1, main_call49_v2, main_call49_v3, main_call49_v4, main_v739, main_c_230, main_v740, main_v741, main_c_231, main_v742, main_v743, main_c_232, main_v744, main_v745, main_c_233, main_v746, main_v747, main_c_234, main_c_235, main_call50_v0, main_call50_v1, main_v748, main_c_236, main_v749, main_v750, main_c_237, main_c_238, main_call51_v0, main_call51_v1, main_v751, main_v752, main_c_239, main_v753, main_v754, main_c_240, main_c_241, main_call53_v0, main_call53_v1, main_v755, main_c_242, main_v756, main_v757, main_c_243, main_c_244, main_call54_v0, main_call54_v1, main_v758, main_v759, main_c_245, main_v760, main_v761, main_v762, main_v763, main_v764, main_c_246, main_v765, main_v766, main_v767, main_v768, main_v769, main_v770, main_v771, main_v772, main_v773, main_v774]
/-- What `kW3` writes. -/
noncomputable def kW3W : List (Ref sig .tc) := [main_cst_247, main_v775, main_cst_248, main_v776, main_v777, main_cst_249, main_v778, main_v779, main_v780, main_cst_250, main_v781, main_v782, main_v783, main_cst_251, main_v784, main_v785, main_v786, main_v787, main_c_252, main_v788, main_v789, main_c_253, main_v790, main_v791, main_c_254, main_v792, main_v793, main_c_255, main_v794, main_v795, main_v796, main_c_256, main_v797, main_v798, main_v799, main_c_257, main_v800, main_v801, main_v802, main_v803, main_v804, main_c_258, main_v805, main_v806, main_v807, main_v808, main_c_259, main_c_260, main_call55_v0, main_call55_v1, main_call55_v2, main_call55_v3, main_call55_v4, main_v809, main_call56_v0, main_call56_v1, main_call56_v2, main_call56_v3, main_call56_v4, main_v810, main_v811, main_v812, main_v813, main_v814, main_v815, main_c_261, main_v816, main_v817, main_c_262, main_v818, main_v819, main_c_263, main_v820, main_v821, main_c_264, main_v822, main_v823, main_v824, main_c_265, main_v825, main_v826, main_v827, main_c_266, main_v828, main_v829, main_v830, main_v831, main_v832, main_c_267, main_v833, main_v834, main_v835, main_v836, main_c_268, main_c_269, main_call57_v0, main_call57_v1, main_call57_v2, main_call57_v3, main_call57_v4, main_v837, main_call58_v0, main_call58_v1, main_call58_v2, main_call58_v3, main_call58_v4, main_v838, main_v839, main_v840, main_v841, main_v842, main_v843, main_c_270, main_v844, main_v845, main_c_271, main_v846, main_v847, main_c_272, main_v848, main_v849, main_c_273, main_v850, main_v851, main_v852, main_c_274, main_v853, main_v854, main_v855, main_c_275, main_v856, main_v857, main_v858, main_v859, main_v860, main_c_276, main_v861, main_v862, main_v863, main_v864, main_c_277, main_c_278, main_call59_v0, main_call59_v1, main_call59_v2, main_call59_v3, main_call59_v4, main_v865, main_call60_v0, main_call60_v1, main_call60_v2, main_call60_v3, main_call60_v4, main_v866, main_v867, main_v868, main_v869, main_v870, main_v871, main_c_279, main_v872, main_v873, main_c_280, main_v874, main_v875, main_c_281, main_v876, main_v877, main_c_282, main_v878, main_v879, main_v880, main_c_283, main_v881, main_v882, main_v883, main_c_284, main_v884, main_v885, main_v886, main_v887, main_v888, main_c_285, main_v889, main_v890, main_v891, main_v892, main_c_286, main_c_287, main_call61_v0, main_call61_v1, main_call61_v2, main_call61_v3, main_call61_v4, main_v893, main_call62_v0, main_call62_v1, main_call62_v2, main_call62_v3, main_call62_v4, main_v894, main_v895, main_v896, main_v897, main_v898, main_v899, main_v900, main_v901, main_v902, main_v903, main_v904, main_v905, main_v906]
/-- What `kS0` writes. -/
noncomputable def kS0W : List (Ref sig .tc) := [main_v907, main_v908, main_v909, main_v910, main_v911]
/-- What `kS1` writes. -/
noncomputable def kS1W : List (Ref sig .tc) := [main_v912, main_v913, main_v914, main_v915, main_v916]
/-- What `kS2` writes. -/
noncomputable def kS2W : List (Ref sig .tc) := [main_v917, main_v918]
/-- What `kG0` writes. -/
noncomputable def kG0W : List (Ref sig .tc) := [main_v919, main_v920, main_v921, main_v922, main_v923, main_v924, main_v925, main_v926, main_v927, main_v928, main_v929, main_v930, main_v931, main_v932, main_v933, main_v934, main_v935]
/-- What `kG1` writes. -/
noncomputable def kG1W : List (Ref sig .tc) := [main_v936, main_v937, main_v938, main_v939, main_v940, main_v941, main_v942, main_v943, main_v944, main_v945, main_v946, main_v947, main_v948, main_v949, main_v950, main_v951, main_v952]
/-- What `kG2` writes. -/
noncomputable def kG2W : List (Ref sig .tc) := [main_v953, main_v954, main_v955, main_v956, main_v957, main_v958, main_v959, main_v960, main_v961, main_v962, main_v963, main_v964, main_v965, main_v966, main_v967, main_v968, main_v969]
/-- What `kG3` writes. -/
noncomputable def kG3W : List (Ref sig .tc) := [main_v970, main_v971, main_v972, main_v973, main_v974, main_v975, main_v976, main_v977, main_v978, main_v979, main_v980, main_v981, main_v982, main_v983, main_v984, main_v985, main_v986]
/-- What `kCat` writes. -/
noncomputable def kCatW : List (Ref sig .tc) := [main_v987]
/-- What `preOps` writes. -/
noncomputable def preOpsW : List (Ref sig .tc) := [main_v988, main_c_288, main_v989, main_v990, main_v991, main_v992, main_v993, main_v994, main_v995, main_v996, main_v997, main_c_289, main_v998, main_c_290, main_v999, main_v1000, main_cst_291, main_v1001, main_c_292, main_v1002, main_v1003, main_v1004, main_v1005]
/-- What `postOps` writes. -/
noncomputable def postOpsW : List (Ref sig .tc) := [main_v1007, main_v1008, main_v1009, main_v1010, main_v1011, main_v1012, main_v1013, main_v1014, main_v1015]

theorem part0 (d : Dev nD) : main_part0 (F := F) d = seq (k00) := rfl
theorem part1 (d : Dev nD) : main_part1 (F := F) d = seq (k01) := rfl
theorem part2 (d : Dev nD) : main_part2 (F := F) d = seq (k02) := rfl
theorem part3 (d : Dev nD) : main_part3 (F := F) d = seq (k03 ++ k04) := rfl
theorem part4 (d : Dev nD) : main_part4 (F := F) d = seq (k05 ++ k06) := by
  unfold main_part4 fn_where.body
  simp only [bind_assoc]
  rfl
theorem part5 (d : Dev nD) : main_part5 (F := F) d = seq (k07) := rfl
theorem part6 (d : Dev nD) : main_part6 (F := F) d = seq (k08) := rfl
theorem part7 (d : Dev nD) : main_part7 (F := F) d = seq (k09 ++ k10) := rfl
theorem part8 (d : Dev nD) : main_part8 (F := F) d = seq (k11 ++ k12) := rfl
theorem part9 (d : Dev nD) : main_part9 (F := F) d = seq (k13) := rfl
theorem part10 (d : Dev nD) : main_part10 (F := F) d = seq (k14) := rfl
theorem part11 (d : Dev nD) : main_part11 (F := F) d = seq (k15 ++ k16) := rfl
theorem part12 (d : Dev nD) : main_part12 (F := F) d = seq (k17 ++ k18) := rfl
theorem part13 (d : Dev nD) : main_part13 (F := F) d = seq (k19) := rfl
theorem part14 (d : Dev nD) : main_part14 (F := F) d = seq (k20) := rfl
theorem part15 (d : Dev nD) : main_part15 (F := F) d = seq (k21 ++ k22) := rfl
theorem part16 (d : Dev nD) : main_part16 (F := F) d = seq (k23) := rfl
theorem part17 (d : Dev nD) : main_part17 (F := F) d = seq (k24 ++ k25) := rfl
theorem part18 (d : Dev nD) : main_part18 (F := F) d = seq (k26) := rfl
theorem part19 (d : Dev nD) : main_part19 (F := F) d = seq (k27 ++ k28) := rfl
theorem part20 (d : Dev nD) : main_part20 (F := F) d = seq (k29 ++ kS1 ++ kS2 ++ kG0 ++ kG1 ++ kG2) := rfl
theorem part21 (d : Dev nD) : main_part21 (F := F) d = (seq (kG3 ++ kCat ++ preOps) >>= fun _ => (K (F := F)).run d 0 >>= fun _ => seq postOps) := rfl

end Cert.Proof.Agg

end
-- ==== Proof.KHostB.lean ====
/-
  The program is the lists in sequence round the call; which buffers they use and keep.
-/
module

public import proofs.«01_k».proof.Proof.KHostA

@[expose] public section

noncomputable section

namespace Cert.Proof.Agg

open Cert.KernelIdeal Cert.KernelIdeal.Gen
open Idealize.ShloMosaic
open Idealize.ShloMosaic.StableHlo

variable {F : FTy → Type} [FloatOps F]

/-- The host operations before the call's own: the sample points and weights, the levels, their stacks and the table. -/
def front : List (HloOp τ sig (Elt F)) :=
  kPre ++ kI0 ++ kW0 ++ kI1 ++ kW1 ++ kI2 ++ kW2 ++ kI3 ++ kW3 ++ kS0 ++ kS1 ++ kS2 ++ kG0 ++ kG1 ++ kG2 ++ kG3 ++ kCat

theorem main_eq (d : Dev nD) :
    main (F := F) d = (seq (front ++ preOps) >>= fun _ => (K (F := F)).run d 0 >>= fun _ => seq postOps) := by
  unfold main front kPre kI0 kW0 kI1 kW1 kI2 kW2 kI3 kW3 kS0
  simp only [part0, part1, part2, part3, part4, part5, part6, part7, part8, part9, part10, part11, part12, part13, part14, part15, part16, part17, part18, part19, part20, part21, seq_append, bind_assoc]

theorem k00_sub : (k00 (F := F)).Forall fun op => op.bufs ⊆ tcRefs τ sig := by simp [k00]
theorem k00_fresh : (k00 (F := F)).Forall fun op => op.fresh = ∅ := forall_fresh_of_map rfl
theorem k01_sub : (k01 (F := F)).Forall fun op => op.bufs ⊆ tcRefs τ sig := by simp [k01]
theorem k01_fresh : (k01 (F := F)).Forall fun op => op.fresh = ∅ := forall_fresh_of_map rfl
theorem k02_sub : (k02 (F := F)).Forall fun op => op.bufs ⊆ tcRefs τ sig := by simp [k02]
theorem k02_fresh : (k02 (F := F)).Forall fun op => op.fresh = ∅ := forall_fresh_of_map rfl
theorem k03_sub : (k03 (F := F)).Forall fun op => op.bufs ⊆ tcRefs τ sig := by simp [k03]
theorem k03_fresh : (k03 (F := F)).Forall fun op => op.fresh = ∅ := forall_fresh_of_map rfl
theorem k04_sub : (k04 (F := F)).Forall fun op => op.bufs ⊆ tcRefs τ sig := by simp [k04]
theorem k04_fresh : (k04 (F := F)).Forall fun op => op.fresh = ∅ := forall_fresh_of_map rfl
theorem k05_sub : (k05 (F := F)).Forall fun op => op.bufs ⊆ tcRefs τ sig := by simp [k05]
theorem k05_fresh : (k05 (F := F)).Forall fun op => op.fresh = ∅ := forall_fresh_of_map rfl
theorem k06_sub : (k06 (F := F)).Forall fun op => op.bufs ⊆ tcRefs τ sig := by simp [k06]
theorem k06_fresh : (k06 (F := F)).Forall fun op => op.fresh = ∅ := forall_fresh_of_map rfl
theorem k07_sub : (k07 (F := F)).Forall fun op => op.bufs ⊆ tcRefs τ sig := by simp [k07]
theorem k07_fresh : (k07 (F := F)).Forall fun op => op.fresh = ∅ := forall_fresh_of_map rfl
theorem k08_sub : (k08 (F := F)).Forall fun op => op.bufs ⊆ tcRefs τ sig := by simp [k08]
theorem k08_fresh : (k08 (F := F)).Forall fun op => op.fresh = ∅ := forall_fresh_of_map rfl
theorem k09_sub : (k09 (F := F)).Forall fun op => op.bufs ⊆ tcRefs τ sig := by simp [k09]
theorem k09_fresh : (k09 (F := F)).Forall fun op => op.fresh = ∅ := forall_fresh_of_map rfl
theorem k10_sub : (k10 (F := F)).Forall fun op => op.bufs ⊆ tcRefs τ sig := by simp [k10]
theorem k10_fresh : (k10 (F := F)).Forall fun op => op.fresh = ∅ := forall_fresh_of_map rfl
theorem k11_sub : (k11 (F := F)).Forall fun op => op.bufs ⊆ tcRefs τ sig := by simp [k11]
theorem k11_fresh : (k11 (F := F)).Forall fun op => op.fresh = ∅ := forall_fresh_of_map rfl
theorem k12_sub : (k12 (F := F)).Forall fun op => op.bufs ⊆ tcRefs τ sig := by simp [k12]
theorem k12_fresh : (k12 (F := F)).Forall fun op => op.fresh = ∅ := forall_fresh_of_map rfl
theorem k13_sub : (k13 (F := F)).Forall fun op => op.bufs ⊆ tcRefs τ sig := by simp [k13]
theorem k13_fresh : (k13 (F := F)).Forall fun op => op.fresh = ∅ := forall_fresh_of_map rfl
theorem k14_sub : (k14 (F := F)).Forall fun op => op.bufs ⊆ tcRefs τ sig := by simp [k14]
theorem k14_fresh : (k14 (F := F)).Forall fun op => op.fresh = ∅ := forall_fresh_of_map rfl
theorem k15_sub : (k15 (F := F)).Forall fun op => op.bufs ⊆ tcRefs τ sig := by simp [k15]
theorem k15_fresh : (k15 (F := F)).Forall fun op => op.fresh = ∅ := forall_fresh_of_map rfl
theorem k16_sub : (k16 (F := F)).Forall fun op => op.bufs ⊆ tcRefs τ sig := by simp [k16]
theorem k16_fresh : (k16 (F := F)).Forall fun op => op.fresh = ∅ := forall_fresh_of_map rfl
theorem k17_sub : (k17 (F := F)).Forall fun op => op.bufs ⊆ tcRefs τ sig := by simp [k17]
theorem k17_fresh : (k17 (F := F)).Forall fun op => op.fresh = ∅ := forall_fresh_of_map rfl
theorem k18_sub : (k18 (F := F)).Forall fun op => op.bufs ⊆ tcRefs τ sig := by simp [k18]
theorem k18_fresh : (k18 (F := F)).Forall fun op => op.fresh = ∅ := forall_fresh_of_map rfl
theorem k19_sub : (k19 (F := F)).Forall fun op => op.bufs ⊆ tcRefs τ sig := by simp [k19]
theorem k19_fresh : (k19 (F := F)).Forall fun op => op.fresh = ∅ := forall_fresh_of_map rfl
theorem k20_sub : (k20 (F := F)).Forall fun op => op.bufs ⊆ tcRefs τ sig := by simp [k20]
theorem k20_fresh : (k20 (F := F)).Forall fun op => op.fresh = ∅ := forall_fresh_of_map rfl
theorem k21_sub : (k21 (F := F)).Forall fun op => op.bufs ⊆ tcRefs τ sig := by simp [k21]
theorem k21_fresh : (k21 (F := F)).Forall fun op => op.fresh = ∅ := forall_fresh_of_map rfl
theorem k22_sub : (k22 (F := F)).Forall fun op => op.bufs ⊆ tcRefs τ sig := by simp [k22]
theorem k22_fresh : (k22 (F := F)).Forall fun op => op.fresh = ∅ := forall_fresh_of_map rfl
theorem k23_sub : (k23 (F := F)).Forall fun op => op.bufs ⊆ tcRefs τ sig := by simp [k23]
theorem k23_fresh : (k23 (F := F)).Forall fun op => op.fresh = ∅ := forall_fresh_of_map rfl
theorem k24_sub : (k24 (F := F)).Forall fun op => op.bufs ⊆ tcRefs τ sig := by simp [k24]
theorem k24_fresh : (k24 (F := F)).Forall fun op => op.fresh = ∅ := forall_fresh_of_map rfl
theorem k25_sub : (k25 (F := F)).Forall fun op => op.bufs ⊆ tcRefs τ sig := by simp [k25]
theorem k25_fresh : (k25 (F := F)).Forall fun op => op.fresh = ∅ := forall_fresh_of_map rfl
theorem k26_sub : (k26 (F := F)).Forall fun op => op.bufs ⊆ tcRefs τ sig := by simp [k26]
theorem k26_fresh : (k26 (F := F)).Forall fun op => op.fresh = ∅ := forall_fresh_of_map rfl
theorem k27_sub : (k27 (F := F)).Forall fun op => op.bufs ⊆ tcRefs τ sig := by simp [k27]
theorem k27_fresh : (k27 (F := F)).Forall fun op => op.fresh = ∅ := forall_fresh_of_map rfl
theorem k28_sub : (k28 (F := F)).Forall fun op => op.bufs ⊆ tcRefs τ sig := by simp [k28]
theorem k28_fresh : (k28 (F := F)).Forall fun op => op.fresh = ∅ := forall_fresh_of_map rfl
theorem k29_sub : (k29 (F := F)).Forall fun op => op.bufs ⊆ tcRefs τ sig := by simp [k29]
theorem k29_fresh : (k29 (F := F)).Forall fun op => op.fresh = ∅ := forall_fresh_of_map rfl
theorem kS1_sub : (kS1 (F := F)).Forall fun op => op.bufs ⊆ tcRefs τ sig := by simp [kS1]
theorem kS1_fresh : (kS1 (F := F)).Forall fun op => op.fresh = ∅ := forall_fresh_of_map rfl
theorem kS2_sub : (kS2 (F := F)).Forall fun op => op.bufs ⊆ tcRefs τ sig := by simp [kS2]
theorem kS2_fresh : (kS2 (F := F)).Forall fun op => op.fresh = ∅ := forall_fresh_of_map rfl
theorem kG0_sub : (kG0 (F := F)).Forall fun op => op.bufs ⊆ tcRefs τ sig := by simp [kG0]
theorem kG0_fresh : (kG0 (F := F)).Forall fun op => op.fresh = ∅ := forall_fresh_of_map rfl
theorem kG1_sub : (kG1 (F := F)).Forall fun op => op.bufs ⊆ tcRefs τ sig := by simp [kG1]
theorem kG1_fresh : (kG1 (F := F)).Forall fun op => op.fresh = ∅ := forall_fresh_of_map rfl
theorem kG2_sub : (kG2 (F := F)).Forall fun op => op.bufs ⊆ tcRefs τ sig := by simp [kG2]
theorem kG2_fresh : (kG2 (F := F)).Forall fun op => op.fresh = ∅ := forall_fresh_of_map rfl
theorem kG3_sub : (kG3 (F := F)).Forall fun op => op.bufs ⊆ tcRefs τ sig := by simp [kG3]
theorem kG3_fresh : (kG3 (F := F)).Forall fun op => op.fresh = ∅ := forall_fresh_of_map rfl
theorem kCat_sub : (kCat (F := F)).Forall fun op => op.bufs ⊆ tcRefs τ sig := by simp [kCat]
theorem kCat_fresh : (kCat (F := F)).Forall fun op => op.fresh = ∅ := forall_fresh_of_map rfl
theorem preOps_sub : (preOps (F := F)).Forall fun op => op.bufs ⊆ tcRefs τ sig := by simp [preOps]
theorem preOps_fresh : (preOps (F := F)).Forall fun op => op.fresh = ∅ := forall_fresh_of_map rfl
theorem postOps_sub : (postOps (F := F)).Forall fun op => op.bufs ⊆ tcRefs τ sig := by simp [postOps]
theorem postOps_fresh : (postOps (F := F)).Forall fun op => op.fresh = ∅ := forall_fresh_of_map rfl

theorem front_sub : (front ++ preOps (F := F)).Forall fun op : HloOp τ sig (Elt F) => op.bufs ⊆ tcRefs τ sig := by
  unfold front kPre kI0 kW0 kI1 kW1 kI2 kW2 kI3 kW3 kS0
  simp only [List.forall_append, k00_sub, k01_sub, k02_sub, k03_sub, k04_sub, k05_sub, k06_sub, k07_sub, k08_sub, k09_sub, k10_sub, k11_sub, k12_sub, k13_sub, k14_sub, k15_sub, k16_sub, k17_sub, k18_sub, k19_sub, k20_sub, k21_sub, k22_sub, k23_sub, k24_sub, k25_sub, k26_sub, k27_sub, k28_sub, k29_sub, kS1_sub, kS2_sub, kG0_sub, kG1_sub, kG2_sub, kG3_sub, kCat_sub, preOps_sub, and_self]
theorem front_fresh : (front ++ preOps (F := F)).Forall fun op : HloOp τ sig (Elt F) => op.fresh = ∅ := by
  unfold front kPre kI0 kW0 kI1 kW1 kI2 kW2 kI3 kW3 kS0
  simp only [List.forall_append, k00_fresh, k01_fresh, k02_fresh, k03_fresh, k04_fresh, k05_fresh, k06_fresh, k07_fresh, k08_fresh, k09_fresh, k10_fresh, k11_fresh, k12_fresh, k13_fresh, k14_fresh, k15_fresh, k16_fresh, k17_fresh, k18_fresh, k19_fresh, k20_fresh, k21_fresh, k22_fresh, k23_fresh, k24_fresh, k25_fresh, k26_fresh, k27_fresh, k28_fresh, k29_fresh, kS1_fresh, kS2_fresh, kG0_fresh, kG1_fresh, kG2_fresh, kG3_fresh, kCat_fresh, preOps_fresh, and_self]

theorem kPre_keeps (U : Valuation τ sig (Elt F)) (r : Ref sig .tc) (hr : r ∉ kPreW) : after (kPre (F := F)) U (Proc.devRef .tc r) = U (Proc.devRef .tc r) :=
  after_of_writes_sub kPre U (forall_writes_sub_of_map rfl) hr
theorem kI0_keeps (U : Valuation τ sig (Elt F)) (r : Ref sig .tc) (hr : r ∉ kI0W) : after (kI0 (F := F)) U (Proc.devRef .tc r) = U (Proc.devRef .tc r) :=
  after_of_writes_sub kI0 U (forall_writes_sub_of_map rfl) hr
theorem kW0_keeps (U : Valuation τ sig (Elt F)) (r : Ref sig .tc) (hr : r ∉ kW0W) : after (kW0 (F := F)) U (Proc.devRef .tc r) = U (Proc.devRef .tc r) :=
  after_of_writes_sub kW0 U (forall_writes_sub_of_map rfl) hr
theorem kI1_keeps (U : Valuation τ sig (Elt F)) (r : Ref sig .tc) (hr : r ∉ kI1W) : after (kI1 (F := F)) U (Proc.devRef .tc r) = U (Proc.devRef .tc r) :=
  after_of_writes_sub kI1 U (forall_writes_sub_of_map rfl) hr
theorem kW1_keeps (U : Valuation τ sig (Elt F)) (r : Ref sig .tc) (hr : r ∉ kW1W) : after (kW1 (F := F)) U (Proc.devRef .tc r) = U (Proc.devRef .tc r) :=
  after_of_writes_sub kW1 U (forall_writes_sub_of_map rfl) hr
theorem kI2_keeps (U : Valuation τ sig (Elt F)) (r : Ref sig .tc) (hr : r ∉ kI2W) : after (kI2 (F := F)) U (Proc.devRef .tc r) = U (Proc.devRef .tc r) :=
  after_of_writes_sub kI2 U (forall_writes_sub_of_map rfl) hr
theorem kW2_keeps (U : Valuation τ sig (Elt F)) (r : Ref sig .tc) (hr : r ∉ kW2W) : after (kW2 (F := F)) U (Proc.devRef .tc r) = U (Proc.devRef .tc r) :=
  after_of_writes_sub kW2 U (forall_writes_sub_of_map rfl) hr
theorem kI3_keeps (U : Valuation τ sig (Elt F)) (r : Ref sig .tc) (hr : r ∉ kI3W) : after (kI3 (F := F)) U (Proc.devRef .tc r) = U (Proc.devRef .tc r) :=
  after_of_writes_sub kI3 U (forall_writes_sub_of_map rfl) hr
theorem kW3_keeps (U : Valuation τ sig (Elt F)) (r : Ref sig .tc) (hr : r ∉ kW3W) : after (kW3 (F := F)) U (Proc.devRef .tc r) = U (Proc.devRef .tc r) :=
  after_of_writes_sub kW3 U (forall_writes_sub_of_map rfl) hr
theorem kS0_keeps (U : Valuation τ sig (Elt F)) (r : Ref sig .tc) (hr : r ∉ kS0W) : after (kS0 (F := F)) U (Proc.devRef .tc r) = U (Proc.devRef .tc r) :=
  after_of_writes_sub kS0 U (forall_writes_sub_of_map rfl) hr
theorem kS1_keeps (U : Valuation τ sig (Elt F)) (r : Ref sig .tc) (hr : r ∉ kS1W) : after (kS1 (F := F)) U (Proc.devRef .tc r) = U (Proc.devRef .tc r) :=
  after_of_writes_sub kS1 U (forall_writes_sub_of_map rfl) hr
theorem kS2_keeps (U : Valuation τ sig (Elt F)) (r : Ref sig .tc) (hr : r ∉ kS2W) : after (kS2 (F := F)) U (Proc.devRef .tc r) = U (Proc.devRef .tc r) :=
  after_of_writes_sub kS2 U (forall_writes_sub_of_map rfl) hr
theorem kG0_keeps (U : Valuation τ sig (Elt F)) (r : Ref sig .tc) (hr : r ∉ kG0W) : after (kG0 (F := F)) U (Proc.devRef .tc r) = U (Proc.devRef .tc r) :=
  after_of_writes_sub kG0 U (forall_writes_sub_of_map rfl) hr
theorem kG1_keeps (U : Valuation τ sig (Elt F)) (r : Ref sig .tc) (hr : r ∉ kG1W) : after (kG1 (F := F)) U (Proc.devRef .tc r) = U (Proc.devRef .tc r) :=
  after_of_writes_sub kG1 U (forall_writes_sub_of_map rfl) hr
theorem kG2_keeps (U : Valuation τ sig (Elt F)) (r : Ref sig .tc) (hr : r ∉ kG2W) : after (kG2 (F := F)) U (Proc.devRef .tc r) = U (Proc.devRef .tc r) :=
  after_of_writes_sub kG2 U (forall_writes_sub_of_map rfl) hr
theorem kG3_keeps (U : Valuation τ sig (Elt F)) (r : Ref sig .tc) (hr : r ∉ kG3W) : after (kG3 (F := F)) U (Proc.devRef .tc r) = U (Proc.devRef .tc r) :=
  after_of_writes_sub kG3 U (forall_writes_sub_of_map rfl) hr
theorem kCat_keeps (U : Valuation τ sig (Elt F)) (r : Ref sig .tc) (hr : r ∉ kCatW) : after (kCat (F := F)) U (Proc.devRef .tc r) = U (Proc.devRef .tc r) :=
  after_of_writes_sub kCat U (forall_writes_sub_of_map rfl) hr
theorem preOps_keeps (U : Valuation τ sig (Elt F)) (r : Ref sig .tc) (hr : r ∉ preOpsW) : after (preOps (F := F)) U (Proc.devRef .tc r) = U (Proc.devRef .tc r) :=
  after_of_writes_sub preOps U (forall_writes_sub_of_map rfl) hr
theorem postOps_keeps (U : Valuation τ sig (Elt F)) (r : Ref sig .tc) (hr : r ∉ postOpsW) : after (postOps (F := F)) U (Proc.devRef .tc r) = U (Proc.devRef .tc r) :=
  after_of_writes_sub postOps U (forall_writes_sub_of_map rfl) hr

end Cert.Proof.Agg

end
-- ==== Proof.Words.lean ====
/-
  The integer words of one level: a corner is clamped into the map, a pair of clamped corners names a block of the
  table by its parities, and a corner inside the map is one of the four of its block.
-/
module

public import Idealize.ShloMosaic.PureOps
public import Idealize.ShloMosaic.Lib.WordCmp

@[expose] public section

namespace Cert.Proof.Lvl

open Idealize.ShloMosaic

/-- A word clamped between zero and `hi`. -/
def clampW (hi v : BitVec 32) : BitVec 32 := IntOp.minsi hi (IntOp.maxsi 0#32 v)

/-- The number a word is clamped to. -/
def clampN (n : ℕ) (v : BitVec 32) : ℕ := min n v.toInt.toNat

theorem clampN_le (n : ℕ) (v : BitVec 32) : clampN n v ≤ n := min_le_left _ _

theorem clampW_eq (n : ℕ) (hn : n < 2 ^ 31) (v : BitVec 32) : clampW (BitVec.ofNat 32 n) v = BitVec.ofNat 32 (clampN n v) := by
  have hi : (BitVec.ofNat 32 n).toInt = n := WordCmp.toInt_ofNat_of_lt (by omega)
  have e : BitVec.ofNat 32 (clampN n v) = BitVec.ofInt 32 (clampN n v) := (BitVec.ofInt_natCast _ _).symm
  rw [e]
  apply BitVec.eq_of_toInt_eq
  have hv := v.isLt
  have hv1 := BitVec.toInt_lt (x := v)
  have hv2 := BitVec.le_toInt (x := v)
  unfold clampW IntOp.minsi IntOp.maxsi clampN
  rw [BitVec.toInt_ofInt, Int.bmod_def]
  simp only [BitVec.slt, decide_eq_true_eq, hi, BitVec.toInt_zero]
  split_ifs <;> simp_all <;> omega

/-- The row number of the block whose first pixel is row `yc`, column `xc` of camera `cam`'s map. -/
def blockW (b00 b01 b10 b11 bh0 bh1 bw0 bw1 cam xc yc : BitVec 32) : BitVec 32 :=
  IntOp.addi
    (IntOp.addi
      (Scalar.select (IntOp.cmpi .eq (IntOp.andi yc 1#32) 0#32)
        (Scalar.select (IntOp.cmpi .eq (IntOp.andi xc 1#32) 0#32) b00 b01)
        (Scalar.select (IntOp.cmpi .eq (IntOp.andi xc 1#32) 0#32) b10 b11))
      (IntOp.muli cam
        (IntOp.muli (Scalar.select (IntOp.cmpi .eq (IntOp.andi yc 1#32) 0#32) bh0 bh1)
          (Scalar.select (IntOp.cmpi .eq (IntOp.andi xc 1#32) 0#32) bw0 bw1))))
    (IntOp.addi
      (IntOp.muli (IntOp.shrsi .host (IntOp.subi yc (IntOp.andi yc 1#32)) 1#32)
        (Scalar.select (IntOp.cmpi .eq (IntOp.andi xc 1#32) 0#32) bw0 bw1))
      (IntOp.shrsi .host (IntOp.subi xc (IntOp.andi xc 1#32)) 1#32))

theorem par (n : ℕ) (h : n < 2 ^ 31) : IntOp.cmpi .eq (IntOp.andi (BitVec.ofNat 32 n) 1#32) 0#32 = BitVec.ofBool (decide (n % 2 = 0)) := by
  have e : IntOp.andi (BitVec.ofNat 32 n) 1#32 = BitVec.ofNat 32 (n % 2) := by
    apply BitVec.eq_of_toNat_eq
    show (BitVec.ofNat 32 n &&& 1#32).toNat = _
    rw [BitVec.toNat_and, BitVec.toNat_ofNat, BitVec.toNat_ofNat, show 1 % 2 ^ 32 = 1 from rfl, Nat.and_one_is_mod, BitVec.toNat_ofNat]
    omega
  rw [e]
  rcases Nat.mod_two_eq_zero_or_one n with h | h <;> rw [h] <;> rfl

theorem half (n : ℕ) (h : n < 2 ^ 31) :
    IntOp.shrsi .host (IntOp.subi (BitVec.ofNat 32 n) (IntOp.andi (BitVec.ofNat 32 n) 1#32)) 1#32 = BitVec.ofNat 32 (n / 2) := by
  have e : IntOp.subi (BitVec.ofNat 32 n) (IntOp.andi (BitVec.ofNat 32 n) 1#32) = BitVec.ofNat 32 (n / 2 * 2) := by
    apply BitVec.eq_of_toNat_eq
    show (BitVec.ofNat 32 n - (BitVec.ofNat 32 n &&& 1#32)).toNat = _
    rw [BitVec.toNat_sub, BitVec.toNat_and, BitVec.toNat_ofNat, BitVec.toNat_ofNat, show 1 % 2 ^ 32 = 1 from rfl, Nat.and_one_is_mod, BitVec.toNat_ofNat]
    omega
  rw [e]
  unfold IntOp.shrsi
  rw [if_pos (by decide)]
  apply BitVec.eq_of_toNat_eq
  have hm : (BitVec.ofNat 32 (n / 2 * 2)).msb = false := by
    rw [BitVec.msb_eq_false_iff_two_mul_lt, BitVec.toNat_ofNat]; omega
  show (BitVec.sshiftRight (BitVec.ofNat 32 (n / 2 * 2)) 1).toNat = _
  rw [BitVec.sshiftRight_eq_of_msb_false hm, BitVec.toNat_ushiftRight, BitVec.toNat_ofNat, BitVec.toNat_ofNat]
  show (n / 2 * 2 % 2 ^ 32) >>> 1 = _
  rw [Nat.shiftRight_one]
  omega

/-- The same as a number. -/
def blockN (b00 b01 b10 b11 bh0 bh1 bw0 bw1 cam xc yc : ℕ) : ℕ :=
  (if yc % 2 = 0 then (if xc % 2 = 0 then b00 else b01) else if xc % 2 = 0 then b10 else b11)
    + cam * ((if yc % 2 = 0 then bh0 else bh1) * (if xc % 2 = 0 then bw0 else bw1))
    + (yc / 2 * (if xc % 2 = 0 then bw0 else bw1) + xc / 2)

theorem blockW_eq (b00 b01 b10 b11 bh0 bh1 bw0 bw1 cam xc yc : ℕ) (hx : xc < 2 ^ 31) (hy : yc < 2 ^ 31) :
    blockW (BitVec.ofNat 32 b00) (BitVec.ofNat 32 b01) (BitVec.ofNat 32 b10) (BitVec.ofNat 32 b11) (BitVec.ofNat 32 bh0) (BitVec.ofNat 32 bh1)
        (BitVec.ofNat 32 bw0) (BitVec.ofNat 32 bw1) (BitVec.ofNat 32 cam) (BitVec.ofNat 32 xc) (BitVec.ofNat 32 yc)
      = BitVec.ofNat 32 (blockN b00 b01 b10 b11 bh0 bh1 bw0 bw1 cam xc yc) := by
  unfold blockW blockN
  rw [par xc hx, par yc hy, half xc hx, half yc hy]
  have sel : ∀ (p : Prop) [Decidable p] (x y : ℕ), Scalar.select (BitVec.ofBool (decide p)) (BitVec.ofNat 32 x) (BitVec.ofNat 32 y)
      = BitVec.ofNat 32 (if p then x else y) := by
    intro p _ x y
    by_cases h : p <;> simp [h, Scalar.select]
  simp only [sel]
  unfold IntOp.addi IntOp.muli
  simp only [BitVec.ofNat_add, BitVec.ofNat_mul]

/-- Whether a corner lies in a map of `h` rows and `w` columns, as the programs test it. -/
def validW (w h cx cy : BitVec 32) : BitVec 1 :=
  IntOp.andi (IntOp.andi (IntOp.andi (IntOp.cmpi .sge cx 0#32) (IntOp.cmpi .slt cx w)) (IntOp.cmpi .sge cy 0#32)) (IntOp.cmpi .slt cy h)

theorem validW_cases (w h : ℕ) (hw : w < 2 ^ 31) (hh : h < 2 ^ 31) (cx cy : BitVec 32) :
    validW (BitVec.ofNat 32 w) (BitVec.ofNat 32 h) cx cy = 0#1
      ∨ validW (BitVec.ofNat 32 w) (BitVec.ofNat 32 h) cx cy = 1#1 ∧ (0 ≤ cx.toInt ∧ cx.toInt < w) ∧ 0 ≤ cy.toInt ∧ cy.toInt < h := by
  have ew : (BitVec.ofNat 32 w).toInt = w := WordCmp.toInt_ofNat_of_lt (by omega)
  have eh : (BitVec.ofNat 32 h).toInt = h := WordCmp.toInt_ofNat_of_lt (by omega)
  have e0 : (0#32).toInt = 0 := rfl
  unfold validW IntOp.cmpi IntOp.andi
  simp only [BitVec.sle, BitVec.slt, ew, eh, e0]
  by_cases h1 : 0 ≤ cx.toInt <;> by_cases h2 : cx.toInt < w <;> by_cases h3 : 0 ≤ cy.toInt <;> by_cases h4 : cy.toInt < h <;>
    simp [h1, h2, h3, h4]

/-- Along one axis of `n + 2` pixels: a corner in the map is the first or the second pixel of the block. -/
theorem corner_axis (n : ℕ) (hn : n < 2 ^ 30) (v : BitVec 32) (o : ℕ) (ho : o ≤ 1)
    (h0 : 0 ≤ (IntOp.addi v (BitVec.ofNat 32 o)).toInt) (h1 : (IntOp.addi v (BitVec.ofNat 32 o)).toInt < (n + 2 : ℕ)) :
    ∃ j : Fin 2, IntOp.subi (IntOp.addi v (BitVec.ofNat 32 o)) (BitVec.ofNat 32 (clampN n v)) = BitVec.ofNat 32 j.val
      ∧ clampN n v + j.val = (IntOp.addi v (BitVec.ofNat 32 o)).toInt.toNat := by
  have hv1 := BitVec.toInt_lt (x := v)
  have hv2 := BitVec.le_toInt (x := v)
  have hk : (IntOp.addi v (BitVec.ofNat 32 o)).toInt = v.toInt + o := by
    have ho' : (BitVec.ofNat 32 o).toInt = o := WordCmp.toInt_ofNat_of_lt (by omega)
    unfold IntOp.addi at h0 h1 ⊢
    rw [BitVec.toInt_add, ho', Int.bmod_def] at h0 h1 ⊢
    omega
  have hle : clampN n v ≤ n := clampN_le n v
  have hj : ∃ j : Fin 2, clampN n v + j.val = (v.toInt + o).toNat := by
    rw [hk] at h0 h1
    unfold clampN at hle ⊢
    by_cases hc : (min n v.toInt.toNat) = (v.toInt + o).toNat
    · exact ⟨0, by simpa using hc⟩
    · exact ⟨1, by show min n v.toInt.toNat + 1 = _; omega⟩
  obtain ⟨j, hj⟩ := hj
  refine ⟨j, ?_, by rw [hk]; exact hj⟩
  have e : IntOp.addi v (BitVec.ofNat 32 o) = BitVec.ofNat 32 (clampN n v + j.val) := by
    apply BitVec.eq_of_toInt_eq
    rw [hk, hj]
    rw [hk] at h0 h1
    rw [WordCmp.toInt_ofNat_of_lt (by omega)]
    omega
  rw [e]
  apply BitVec.eq_of_toNat_eq
  show (BitVec.ofNat 32 (clampN n v + j.val) - BitVec.ofNat 32 (clampN n v)).toNat = _
  have := j.isLt
  rw [BitVec.toNat_sub, BitVec.toNat_ofNat, BitVec.toNat_ofNat, BitVec.toNat_ofNat]
  omega

/-- The place of a corner among the four of its block. -/
def slotW (xc yc cx cy : BitVec 32) : BitVec 32 := clampW 3#32 (IntOp.addi (IntOp.muli (IntOp.subi cy yc) 2#32) (IntOp.subi cx xc))

theorem slotW_eq (xc yc cx cy : BitVec 32) (jx jy : Fin 2) (hx : IntOp.subi cx xc = BitVec.ofNat 32 jx.val) (hy : IntOp.subi cy yc = BitVec.ofNat 32 jy.val) :
    slotW xc yc cx cy = BitVec.ofNat 32 (jy.val * 2 + jx.val) := by
  unfold slotW
  rw [hx, hy]
  clear hx hy
  revert jx jy
  decide

/-- A corner's pixel in the maps laid one after the other. -/
def pixelW (h w h1 w1 cam cx cy : BitVec 32) : BitVec 32 :=
  IntOp.addi (IntOp.muli (IntOp.addi (IntOp.muli cam h) (clampW h1 cy)) w) (clampW w1 cx)

theorem pixelW_eq (h w cam : ℕ) (hh : 0 < h) (hw : 0 < w) (hh' : h < 2 ^ 31) (hw' : w < 2 ^ 31) (cx cy : BitVec 32)
    (hx : 0 ≤ cx.toInt ∧ cx.toInt < w) (hy : 0 ≤ cy.toInt ∧ cy.toInt < h) :
    pixelW (BitVec.ofNat 32 h) (BitVec.ofNat 32 w) (BitVec.ofNat 32 (h - 1)) (BitVec.ofNat 32 (w - 1)) (BitVec.ofNat 32 cam) cx cy
      = BitVec.ofNat 32 ((cam * h + cy.toInt.toNat) * w + cx.toInt.toNat) := by
  unfold pixelW
  rw [clampW_eq _ (by omega), clampW_eq _ (by omega)]
  have ex : clampN (w - 1) cx = cx.toInt.toNat := by unfold clampN; omega
  have ey : clampN (h - 1) cy = cy.toInt.toNat := by unfold clampN; omega
  rw [ex, ey]
  unfold IntOp.addi IntOp.muli
  simp only [BitVec.ofNat_add, BitVec.ofNat_mul]

end Cert.Proof.Lvl
-- ==== Proof.Mix.lean ====
/-
  One block's four rows against the four corners: the kernel weights each row of a block with the sum of the
  corners that fall on it, the reference weights each corner. Both sums are equal.
-/
module

public import Idealize.ShloMosaic.PureOps.Ideal
public import Idealize.ShloMosaic.PureOps.Ideal.Laws

@[expose] public section

namespace Cert.Proof.Lvl

open Idealize.ShloMosaic

/-- A truth value as a number. -/
noncomputable def bitE (b : BitVec 1) : EReal := ((b.toNat : ℝ) : EReal)

/-- Whether a corner's place `v` is `s`, as a number. -/
noncomputable def hitE (v : BitVec 32) (s : Fin 4) : EReal := bitE (IntOp.cmpi .eq v (BitVec.ofNat 32 s.val))

theorem bitE_one : bitE 1#1 = 1 := by simp [bitE]
theorem bitE_zero : bitE 0#1 = 0 := by simp [bitE]

theorem hitE_same (s : Fin 4) : hitE (BitVec.ofNat 32 s.val) s = 1 := by
  unfold hitE IntOp.cmpi
  simp [bitE]

theorem hitE_other (s s' : Fin 4) (h : s ≠ s') : hitE (BitVec.ofNat 32 s.val) s' = 0 := by
  have e : (BitVec.ofNat 32 s.val == BitVec.ofNat 32 s'.val) = false := by
    revert s s'; decide
  unfold hitE IntOp.cmpi
  simp [bitE, e]

theorem bitE_cases (b : BitVec 1) : bitE b = 0 ∨ bitE b = 1 := by
  rcases (by decide : ∀ b : BitVec 1, b = 0#1 ∨ b = 1#1) b with rfl | rfl
  · exact .inl bitE_zero
  · exact .inr bitE_one

theorem hitE_nonneg (v : BitVec 32) (s : Fin 4) : 0 ≤ hitE v s := by
  unfold hitE
  rcases bitE_cases (IntOp.cmpi .eq v (BitVec.ofNat 32 s.val)) with h | h <;> rw [h]
  exact zero_le_one

/-- The weight of a row: what falls on it, from each corner. -/
noncomputable def rowW (v : Fin 4 → BitVec 32) (t : Fin 4 → EReal) (s : Fin 4) : EReal :=
  (((0 + hitE (v 0) s * t 0) + hitE (v 1) s * t 1) + hitE (v 2) s * t 2) + hitE (v 3) s * t 3

/-- A block's rows with their weights sum to the corners with theirs. -/
theorem mix (row g t : Fin 4 → EReal) (v : Fin 4 → BitVec 32) (w : EReal) (ht : ∀ c, 0 ≤ t c)
    (h : ∀ c, t c = 0 ∨ ∃ s : Fin 4, v c = BitVec.ofNat 32 s.val ∧ row s = g c) (hw : 0 ≤ w) (hw' : w ≠ ⊤) :
    ∑ s : Fin 4, row s * (rowW v t s * w) = (0 + ∑ c : Fin 4, g c * t c) * w := by
  have n : ∀ c s, 0 ≤ hitE (v c) s * t c := fun c s => mul_nonneg (hitE_nonneg _ _) (ht c)
  have hr : ∀ s, row s * (rowW v t s * w) = (∑ c : Fin 4, row s * (hitE (v c) s * t c)) * w := by
    intro s
    rw [← mul_assoc]
    refine congrArg (· * w) ?_
    unfold rowW
    rw [zero_add, EReal.left_distrib_of_nonneg (add_nonneg (add_nonneg (n 0 s) (n 1 s)) (n 2 s)) (n 3 s),
      EReal.left_distrib_of_nonneg (add_nonneg (n 0 s) (n 1 s)) (n 2 s), EReal.left_distrib_of_nonneg (n 0 s) (n 1 s), Fin.sum_univ_four]
  have hm : ∀ f : Fin 4 → EReal, (∑ s, f s * w) = (∑ s, f s) * w := by
    intro f
    rw [Fin.sum_univ_four, Fin.sum_univ_four, EReal.right_distrib_of_nonneg_of_ne_top hw hw', EReal.right_distrib_of_nonneg_of_ne_top hw hw',
      EReal.right_distrib_of_nonneg_of_ne_top hw hw']
  rw [Finset.sum_congr rfl fun s _ => hr s, hm, zero_add]
  refine congrArg (· * w) ?_
  rw [Finset.sum_comm]
  refine Finset.sum_congr rfl fun c _ => ?_
  rcases h c with h0 | ⟨s₀, hv, hg⟩
  · simp [h0]
  · rw [Finset.sum_eq_single s₀]
    · rw [hv, hitE_same, one_mul, hg]
    · intro s _ hs
      rw [hv, hitE_other s₀ s (Ne.symm hs), zero_mul, mul_zero]
    · intro h; exact absurd (Finset.mem_univ _) h

end Cert.Proof.Lvl
-- ==== Proof.Reals.lean ====
/-
  What is known of the extended reals that a level is computed from: a sample point is a real number, its distances
  to the pixels around it are between zero and one, so the weights of the four corners are not negative.
-/
module

public import Idealize.ShloMosaic.PureOps.Ideal
public import Idealize.ShloMosaic.PureOps.Ideal.Laws
public import Idealize.ShloMosaic.Lib.IdealHost

@[expose] public section

noncomputable section

namespace Cert.Proof.Lvl

open Idealize.ShloMosaic

/-- A real number, among the extended reals. -/
def IsReal (x : EReal) : Prop := ∃ r : ℝ, x = r

theorem isReal_of (x : EReal) (h : x ≠ ⊥) (h' : x ≠ ⊤) : IsReal x := ⟨x.toReal, (EReal.coe_toReal h' h).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem word_176 : IsReal (Ideal.ofBits .f32 0x43300000#32) := ⟨176, by simp [Ideal.ofBits, Ideal.ieee]; rw [← EReal.coe_mul]; norm_num⟩
theorem word_88 : IsReal (Ideal.ofBits .f32 0x42B00000#32) := ⟨88, by simp [Ideal.ofBits, Ideal.ieee]; rw [← EReal.coe_mul]; norm_num⟩
theorem word_44 : IsReal (Ideal.ofBits .f32 0x42300000#32) := ⟨44, by simp [Ideal.ofBits, Ideal.ieee]; rw [← EReal.coe_mul]; norm_num⟩
theorem word_22 : IsReal (Ideal.ofBits .f32 0x41B00000#32) := ⟨22, by simp [Ideal.ofBits, Ideal.ieee]; rw [← EReal.coe_mul]; norm_num⟩
theorem word_64 : IsReal (Ideal.ofBits .f32 0x42800000#32) := ⟨64, by simp [Ideal.ofBits, Ideal.ieee]; rw [← EReal.coe_mul]; norm_num⟩
theorem word_32 : IsReal (Ideal.ofBits .f32 0x42000000#32) := ⟨32, by simp [Ideal.ofBits, Ideal.ieee]; rw [← EReal.coe_mul]; norm_num⟩
theorem word_16 : IsReal (Ideal.ofBits .f32 0x41800000#32) := ⟨16, by simp [Ideal.ofBits, Ideal.ieee]; rw [← EReal.coe_mul]; norm_num⟩
theorem word_8 : IsReal (Ideal.ofBits .f32 0x41000000#32) := ⟨8, by simp [Ideal.ofBits, Ideal.ieee]; rw [← EReal.coe_mul]; norm_num⟩
theorem word_half : IsReal (Ideal.ofBits .f32 0x3F000000#32) := ⟨1 / 2, by simp [Ideal.ofBits, Ideal.ieee]; rw [← EReal.coe_mul]; norm_num⟩
theorem word_top : IsReal (Ideal.ofBits .f32 0x3F7FF972#32) := by
  refine isReal_of _ ?_ ?_ <;> simp [Ideal.ofBits, Ideal.ieee] <;> rw [← EReal.coe_mul] <;>
    simp only [EReal.coe_ne_bot, EReal.coe_ne_top, not_false_eq_true]

/-- A clipped coordinate is real. -/
theorem clip_real (v : EReal) : IsReal (min (Ideal.ofBits .f32 0x3F7FF972#32) (max (Ideal.ofBits .f32 0x00000000#32) v)) := by
  obtain ⟨r, hr⟩ := word_top
  rw [hr, Ideal.ofBits_zero_f32]
  refine isReal_of _ (ne_of_gt ?_) (ne_of_lt (lt_of_le_of_lt (min_le_left _ _) (EReal.coe_lt_top r)))
  exact lt_min (EReal.bot_lt_coe r) (lt_of_lt_of_le (EReal.bot_lt_coe 0) (le_max_left _ _))

/-- How far a coordinate is past the pixel before it. -/
def fracE (x : EReal) : EReal := x - Ideal.liftRound Int.floor x

theorem fracE_eq (x : EReal) (h : IsReal x) : ∃ r : ℝ, fracE x = r ∧ 0 ≤ r ∧ r ≤ 1 := by
  obtain ⟨r, rfl⟩ := h
  refine ⟨Int.fract r, ?_, Int.fract_nonneg r, (Int.fract_lt_one r).le⟩
  show (r : EReal) - ((⌊r⌋ : ℝ) : EReal) = _
  rw [← EReal.coe_sub]
  rfl

/-- The weights of the four corners, of the distances along the columns and the rows. -/
def cornE (dx dy : EReal) : Fin 4 → EReal :=
  ![(Ideal.ofBits .f32 0x3F800000#32 - dy) * (Ideal.ofBits .f32 0x3F800000#32 - dx), (Ideal.ofBits .f32 0x3F800000#32 - dy) * dx,
    dy * (Ideal.ofBits .f32 0x3F800000#32 - dx), dy * dx]

theorem one_word : Ideal.ofBits .f32 0x3F800000#32 = ((1 : ℝ) : EReal) :=
  by rw [Ideal.ofBits_one_f32]; rfl

theorem cornE_nonneg (x y : EReal) (hx : IsReal x) (hy : IsReal y) (c : Fin 4) : 0 ≤ cornE (fracE x) (fracE y) c := by
  obtain ⟨a, ha, ha0, ha1⟩ := fracE_eq x hx
  obtain ⟨b, hb, hb0, hb1⟩ := fracE_eq y hy
  unfold cornE
  rw [ha, hb, one_word]
  have h0 : ∀ r : ℝ, 0 ≤ r → (0 : EReal) ≤ (r : EReal) := fun r h => EReal.coe_nonneg.2 h
  have h1 : ∀ r : ℝ, r ≤ 1 → (0 : EReal) ≤ ((1 : ℝ) : EReal) - (r : EReal) := fun r h => by
    rw [← EReal.coe_sub]; exact EReal.coe_nonneg.2 (by linarith)
  match c with
  | 0 => exact mul_nonneg (h1 b hb1) (h1 a ha1)
  | 1 => exact mul_nonneg (h1 b hb1) (h0 a ha0)
  | 2 => exact mul_nonneg (h0 b hb0) (h1 a ha1)
  | 3 => exact mul_nonneg (h0 b hb0) (h0 a ha0)

/-- A share of an exponential sum is a number that is not negative. -/
theorem share (x m S : EReal) (hx : IsReal x) (hm : x ≤ m) (hS : 0 < S) :
    0 ≤ Ideal.div (Ideal.exp (x - m)) S ∧ Ideal.div (Ideal.exp (x - m)) S ≠ ⊤ := by
  have he : ∃ r : ℝ, Ideal.exp (x - m) = r ∧ 0 ≤ r := by
    obtain ⟨a, rfl⟩ := hx
    rcases eq_or_ne m ⊤ with rfl | hm'
    · refine ⟨0, ?_, le_refl _⟩
      rw [EReal.sub_top]; rfl
    · have hb : m ≠ ⊥ := fun e => by rw [e] at hm; exact absurd hm (not_le.2 (EReal.bot_lt_coe a))
      obtain ⟨b, rfl⟩ := isReal_of m hb hm'
      exact ⟨Real.exp (a - b), by rw [← EReal.coe_sub]; rfl, (Real.exp_pos _).le⟩
  obtain ⟨r, hr, hr0⟩ := he
  rw [hr]
  unfold Ideal.div
  rw [if_neg (ne_of_gt hS)]
  rcases eq_or_ne S ⊤ with rfl | hS'
  · rw [EReal.inv_top, mul_zero]
    exact ⟨le_refl _, EReal.zero_ne_top⟩
  · obtain ⟨s, rfl⟩ := isReal_of S (fun e => by rw [e] at hS; exact absurd hS (by simp)) hS'
    rw [← EReal.coe_inv, ← EReal.coe_mul]
    have hs : 0 < s := EReal.coe_pos.1 hS
    exact ⟨EReal.coe_nonneg.2 (by positivity), EReal.coe_ne_top _⟩

/-- An exponential sum over real numbers, from a bound that is not above every number, is not zero. -/
theorem total_pos {ι : Type} (s : Finset ι) (f : ι → EReal) (m : EReal) (hm : m ≠ ⊤) (i : ι) (hi : i ∈ s) (hf : IsReal (f i)) (hle : f i ≤ m) :
    0 < (0 : EReal) + ∑ j ∈ s, Ideal.exp (f j - m) := by
  have hpos : ∀ y : EReal, 0 ≤ Ideal.exp y := by
    intro y
    induction y with
    | bot => exact le_refl _
    | top => exact le_top
    | coe r => exact EReal.coe_nonneg.2 (Real.exp_pos r).le
  rw [zero_add]
  refine lt_of_lt_of_le ?_ (Finset.single_le_sum (f := fun j => Ideal.exp (f j - m)) (fun j _ => hpos _) hi)
  obtain ⟨a, ha⟩ := hf
  have hb : m ≠ ⊥ := fun e => by rw [e, ha] at hle; exact absurd hle (not_le.2 (EReal.bot_lt_coe a))
  obtain ⟨b, rfl⟩ := isReal_of m hb hm
  show 0 < Ideal.exp (f i - b)
  rw [ha, ← EReal.coe_sub]
  exact EReal.coe_pos.2 (Real.exp_pos _)

end Cert.Proof.Lvl

end
-- ==== Proof.Level.lean ====
/-
  The numbers a level is computed from, at one sample point: where the point lies among the level's pixels, and the
  four corners around it.
-/
module

public import proofs.«01_k».proof.Proof.Words
public import proofs.«01_k».proof.Proof.Mix
public import proofs.«01_k».proof.Proof.Reals

@[expose] public section

noncomputable section

namespace Cert.Proof.Lvl

open Idealize.ShloMosaic

section AnyFloat
variable {F : FTy → Type} [FloatOps F]

/-- A coordinate scaled to a level of the extent whose float word is `w`, from the middle of the first pixel. -/
def posF (w : BitVec 32) (p : F .f32) : F .f32 :=
  FloatOps.subf (FloatOps.mulf p (FloatOps.ofBits .f32 w)) (FloatOps.ofBits .f32 0x3F000000#32)

/-- The pixel before it, -/
def cellF (w : BitVec 32) (p : F .f32) : BitVec 32 := FloatOps.fptosi 32 (FloatOps.hostUnary .floor (posF w p))

/-- and how far it is past that pixel. -/
def restF (w : BitVec 32) (p : F .f32) : F .f32 := FloatOps.subf (posF w p) (FloatOps.hostUnary .floor (posF w p))

end AnyFloat

/-- The four corners' steps along the columns, -/
def stepX : Fin 4 → ℕ := ![0, 1, 0, 1]
/-- and along the rows. -/
def stepY : Fin 4 → ℕ := ![0, 0, 1, 1]

/-- A corner's column (or row) from the point's. -/
def cornW (v : BitVec 32) (o : ℕ) : BitVec 32 := IntOp.addi v (BitVec.ofNat 32 o)

/-- Which of the four pixels of the block at `xc`, `yc` a corner is read from. -/
def slots (xc yc x y : BitVec 32) (c : Fin 4) : BitVec 32 := slotW xc yc (cornW x (stepX c)) (cornW y (stepY c))

/-- What a corner counts for: its weight, or nothing outside the map. -/
def share4 (w h x y : BitVec 32) (dx dy : EReal) (c : Fin 4) : EReal :=
  cornE dx dy c * bitE (validW w h (cornW x (stepX c)) (cornW y (stepY c)))

end Cert.Proof.Lvl

end
-- ==== Proof.KLevel.lean ====
/-
  The kernel's levels, read at one sample point: the block of the table it takes, and the weights of the block's four
  pixels.
-/
module

public import proofs.«01_k».proof.Proof.KHostA
public import proofs.«01_k».proof.Proof.Level
public import Idealize.ShloMosaic.Lib.StableHlo.ReadAt

@[expose] public section

set_option maxHeartbeats 4000000

noncomputable section

namespace Cert.Proof.Agg

open Cert.KernelIdeal Cert.KernelIdeal.Gen Cert.Proof.Lvl
open Idealize.ShloMosaic
open Idealize.ShloMosaic.StableHlo

variable {F : FTy → Type} [FloatOps F]

/-- A sample point's coordinate along the columns (`0`) and the rows (`1`), -/
def ptF (U : Valuation τ sig (Elt F)) (p : Fin 11700) (c : Fin 6) (a : Fin 2) : F .f32 :=
  (U (Proc.devRef .tc main_v155) : FVec F S11700x6x2 .f32) (ix3 p c a)
/-- and the number of its camera. -/
def camW (U : Valuation τ sig (Elt F)) (c : Fin 6) : BitVec 32 := (U (Proc.devRef .tc main_v158) : IVec S1x6 32) (ix2 0 c)

/-! ## Level 0: 64 rows of 176 pixels -/

theorem block0_at (U : Valuation τ sig (Elt F)) (p : Fin 11700) (c : Fin 6) :
    (after (kI0 (F := F)) U (Proc.devRef .tc main_v213) : IVec S11700x6 32) (ix2 p c)
      = blockW 0#32 16896#32 33600#32 49968#32 32#32 31#32 88#32 87#32 (camW U c)
          (clampW 174#32 (cellF 0x43300000#32 (ptF U p c 0))) (clampW 62#32 (cellF 0x42800000#32 (ptF U p c 1))) := by
  unfold kI0 k04 k05
  simp only [List.cons_append, List.nil_append]
  after_reads_at
  rfl

theorem point0_at (U : Valuation τ sig (Elt F)) (p : Fin 11700) (c : Fin 6) :
    (after (kI0 (F := F)) U (Proc.devRef .tc main_v173) : FVec F S11700x6 .f32) (ix2 p c) = restF 0x43300000#32 (ptF U p c 0)
      ∧ (after (kI0 (F := F)) U (Proc.devRef .tc main_v174) : FVec F S11700x6 .f32) (ix2 p c) = restF 0x42800000#32 (ptF U p c 1)
      ∧ (after (kI0 (F := F)) U (Proc.devRef .tc main_v175) : IVec S11700x6 32) (ix2 p c) = cellF 0x43300000#32 (ptF U p c 0)
      ∧ (after (kI0 (F := F)) U (Proc.devRef .tc main_v176) : IVec S11700x6 32) (ix2 p c) = cellF 0x42800000#32 (ptF U p c 1)
      ∧ (after (kI0 (F := F)) U (Proc.devRef .tc main_v177) : IVec S11700x6 32) (ix2 p c) = clampW 174#32 (cellF 0x43300000#32 (ptF U p c 0))
      ∧ (after (kI0 (F := F)) U (Proc.devRef .tc main_v178) : IVec S11700x6 32) (ix2 p c) = clampW 62#32 (cellF 0x42800000#32 (ptF U p c 1)) := by
  unfold kI0 k04 k05
  simp only [List.cons_append, List.nil_append]
  refine ⟨?_, ?_, ?_, ?_, ?_, ?_⟩ <;> after_reads_at <;> rfl

theorem weight0_at (U : Valuation τ sig (Elt Ideal)) (p : Fin 11700) (c : Fin 6) (s : Fin 4) (g : Fin 8) :
    (after (kW0 (F := Ideal)) U (Proc.devRef .tc main_v345) : FVec Ideal S11700x6x4x8 .f32) (ix4 p c s g)
      = rowW (slots ((U (Proc.devRef .tc main_v177) : IVec S11700x6 32) (ix2 p c)) ((U (Proc.devRef .tc main_v178) : IVec S11700x6 32) (ix2 p c))
            ((U (Proc.devRef .tc main_v175) : IVec S11700x6 32) (ix2 p c)) ((U (Proc.devRef .tc main_v176) : IVec S11700x6 32) (ix2 p c)))
          (share4 176#32 64#32 ((U (Proc.devRef .tc main_v175) : IVec S11700x6 32) (ix2 p c)) ((U (Proc.devRef .tc main_v176) : IVec S11700x6 32) (ix2 p c))
            ((U (Proc.devRef .tc main_v173) : FVec Ideal S11700x6 .f32) (ix2 p c)) ((U (Proc.devRef .tc main_v174) : FVec Ideal S11700x6 .f32) (ix2 p c))) s
        * (U (Proc.devRef .tc main_v156) : FVec Ideal S11700x6x4x8 .f32) (ix4 p c 0 g) := by
  unfold kW0 k06 k07 k08 k09
  simp only [List.cons_append, List.nil_append]
  after_reads_at
  rw [show (FloatOps.ofBits (F := Ideal) .f32 0x00000000#32 : EReal) = 0 from Ideal.ofBits_zero_f32]
  rfl

/-! ## Level 1: 32 rows of 88 pixels -/

theorem block1_at (U : Valuation τ sig (Elt F)) (p : Fin 11700) (c : Fin 6) :
    (after (kI1 (F := F)) U (Proc.devRef .tc main_v400) : IVec S11700x6 32) (ix2 p c)
      = blockW 66150#32 70374#32 74502#32 78462#32 16#32 15#32 44#32 43#32 (camW U c)
          (clampW 86#32 (cellF 0x42B00000#32 (ptF U p c 0))) (clampW 30#32 (cellF 0x42000000#32 (ptF U p c 1))) := by
  unfold kI1 k10 k11
  simp only [List.cons_append, List.nil_append]
  after_reads_at
  rfl

theorem point1_at (U : Valuation τ sig (Elt F)) (p : Fin 11700) (c : Fin 6) :
    (after (kI1 (F := F)) U (Proc.devRef .tc main_v360) : FVec F S11700x6 .f32) (ix2 p c) = restF 0x42B00000#32 (ptF U p c 0)
      ∧ (after (kI1 (F := F)) U (Proc.devRef .tc main_v361) : FVec F S11700x6 .f32) (ix2 p c) = restF 0x42000000#32 (ptF U p c 1)
      ∧ (after (kI1 (F := F)) U (Proc.devRef .tc main_v362) : IVec S11700x6 32) (ix2 p c) = cellF 0x42B00000#32 (ptF U p c 0)
      ∧ (after (kI1 (F := F)) U (Proc.devRef .tc main_v363) : IVec S11700x6 32) (ix2 p c) = cellF 0x42000000#32 (ptF U p c 1)
      ∧ (after (kI1 (F := F)) U (Proc.devRef .tc main_v364) : IVec S11700x6 32) (ix2 p c) = clampW 86#32 (cellF 0x42B00000#32 (ptF U p c 0))
      ∧ (after (kI1 (F := F)) U (Proc.devRef .tc main_v365) : IVec S11700x6 32) (ix2 p c) = clampW 30#32 (cellF 0x42000000#32 (ptF U p c 1)) := by
  unfold kI1 k10 k11
  simp only [List.cons_append, List.nil_append]
  refine ⟨?_, ?_, ?_, ?_, ?_, ?_⟩ <;> after_reads_at <;> rfl

theorem weight1_at (U : Valuation τ sig (Elt Ideal)) (p : Fin 11700) (c : Fin 6) (s : Fin 4) (g : Fin 8) :
    (after (kW1 (F := Ideal)) U (Proc.devRef .tc main_v532) : FVec Ideal S11700x6x4x8 .f32) (ix4 p c s g)
      = rowW (slots ((U (Proc.devRef .tc main_v364) : IVec S11700x6 32) (ix2 p c)) ((U (Proc.devRef .tc main_v365) : IVec S11700x6 32) (ix2 p c))
            ((U (Proc.devRef .tc main_v362) : IVec S11700x6 32) (ix2 p c)) ((U (Proc.devRef .tc main_v363) : IVec S11700x6 32) (ix2 p c)))
          (share4 88#32 32#32 ((U (Proc.devRef .tc main_v362) : IVec S11700x6 32) (ix2 p c)) ((U (Proc.devRef .tc main_v363) : IVec S11700x6 32) (ix2 p c))
            ((U (Proc.devRef .tc main_v360) : FVec Ideal S11700x6 .f32) (ix2 p c)) ((U (Proc.devRef .tc main_v361) : FVec Ideal S11700x6 .f32) (ix2 p c))) s
        * (U (Proc.devRef .tc main_v156) : FVec Ideal S11700x6x4x8 .f32) (ix4 p c 1 g) := by
  unfold kW1 k12 k13 k14 k15
  simp only [List.cons_append, List.nil_append]
  after_reads_at
  rw [show (FloatOps.ofBits (F := Ideal) .f32 0x00000000#32 : EReal) = 0 from Ideal.ofBits_zero_f32]
  rfl

/-! ## Level 2: 16 rows of 44 pixels -/

theorem block2_at (U : Valuation τ sig (Elt F)) (p : Fin 11700) (c : Fin 6) :
    (after (kI2 (F := F)) U (Proc.devRef .tc main_v587) : IVec S11700x6 32) (ix2 p c)
      = blockW 82332#32 83388#32 84396#32 85320#32 8#32 7#32 22#32 21#32 (camW U c)
          (clampW 42#32 (cellF 0x42300000#32 (ptF U p c 0))) (clampW 14#32 (cellF 0x41800000#32 (ptF U p c 1))) := by
  unfold kI2 k16 k17
  simp only [List.cons_append, List.nil_append]
  after_reads_at
  rfl

theorem point2_at (U : Valuation τ sig (Elt F)) (p : Fin 11700) (c : Fin 6) :
    (after (kI2 (F := F)) U (Proc.devRef .tc main_v547) : FVec F S11700x6 .f32) (ix2 p c) = restF 0x42300000#32 (ptF U p c 0)
      ∧ (after (kI2 (F := F)) U (Proc.devRef .tc main_v548) : FVec F S11700x6 .f32) (ix2 p c) = restF 0x41800000#32 (ptF U p c 1)
      ∧ (after (kI2 (F := F)) U (Proc.devRef .tc main_v549) : IVec S11700x6 32) (ix2 p c) = cellF 0x42300000#32 (ptF U p c 0)
      ∧ (after (kI2 (F := F)) U (Proc.devRef .tc main_v550) : IVec S11700x6 32) (ix2 p c) = cellF 0x41800000#32 (ptF U p c 1)
      ∧ (after (kI2 (F := F)) U (Proc.devRef .tc main_v551) : IVec S11700x6 32) (ix2 p c) = clampW 42#32 (cellF 0x42300000#32 (ptF U p c 0))
      ∧ (after (kI2 (F := F)) U (Proc.devRef .tc main_v552) : IVec S11700x6 32) (ix2 p c) = clampW 14#32 (cellF 0x41800000#32 (ptF U p c 1)) := by
  unfold kI2 k16 k17
  simp only [List.cons_append, List.nil_append]
  refine ⟨?_, ?_, ?_, ?_, ?_, ?_⟩ <;> after_reads_at <;> rfl

theorem weight2_at (U : Valuation τ sig (Elt Ideal)) (p : Fin 11700) (c : Fin 6) (s : Fin 4) (g : Fin 8) :
    (after (kW2 (F := Ideal)) U (Proc.devRef .tc main_v719) : FVec Ideal S11700x6x4x8 .f32) (ix4 p c s g)
      = rowW (slots ((U (Proc.devRef .tc main_v551) : IVec S11700x6 32) (ix2 p c)) ((U (Proc.devRef .tc main_v552) : IVec S11700x6 32) (ix2 p c))
            ((U (Proc.devRef .tc main_v549) : IVec S11700x6 32) (ix2 p c)) ((U (Proc.devRef .tc main_v550) : IVec S11700x6 32) (ix2 p c)))
          (share4 44#32 16#32 ((U (Proc.devRef .tc main_v549) : IVec S11700x6 32) (ix2 p c)) ((U (Proc.devRef .tc main_v550) : IVec S11700x6 32) (ix2 p c))
            ((U (Proc.devRef .tc main_v547) : FVec Ideal S11700x6 .f32) (ix2 p c)) ((U (Proc.devRef .tc main_v548) : FVec Ideal S11700x6 .f32) (ix2 p c))) s
        * (U (Proc.devRef .tc main_v156) : FVec Ideal S11700x6x4x8 .f32) (ix4 p c 2 g) := by
  unfold kW2 k18 k19 k20 k21
  simp only [List.cons_append, List.nil_append]
  after_reads_at
  rw [show (FloatOps.ofBits (F := Ideal) .f32 0x00000000#32 : EReal) = 0 from Ideal.ofBits_zero_f32]
  rfl

/-! ## Level 3: 8 rows of 22 pixels -/

theorem block3_at (U : Valuation τ sig (Elt F)) (p : Fin 11700) (c : Fin 6) :
    (after (kI3 (F := F)) U (Proc.devRef .tc main_v774) : IVec S11700x6 32) (ix2 p c)
      = blockW 86202#32 86466#32 86706#32 86904#32 4#32 3#32 11#32 10#32 (camW U c)
          (clampW 20#32 (cellF 0x41B00000#32 (ptF U p c 0))) (clampW 6#32 (cellF 0x41000000#32 (ptF U p c 1))) := by
  unfold kI3 k22 k23 k24
  simp only [List.cons_append, List.nil_append]
  after_reads_at
  rfl

theorem point3_at (U : Valuation τ sig (Elt F)) (p : Fin 11700) (c : Fin 6) :
    (after (kI3 (F := F)) U (Proc.devRef .tc main_v734) : FVec F S11700x6 .f32) (ix2 p c) = restF 0x41B00000#32 (ptF U p c 0)
      ∧ (after (kI3 (F := F)) U (Proc.devRef .tc main_v735) : FVec F S11700x6 .f32) (ix2 p c) = restF 0x41000000#32 (ptF U p c 1)
      ∧ (after (kI3 (F := F)) U (Proc.devRef .tc main_v736) : IVec S11700x6 32) (ix2 p c) = cellF 0x41B00000#32 (ptF U p c 0)
      ∧ (after (kI3 (F := F)) U (Proc.devRef .tc main_v737) : IVec S11700x6 32) (ix2 p c) = cellF 0x41000000#32 (ptF U p c 1)
      ∧ (after (kI3 (F := F)) U (Proc.devRef .tc main_v738) : IVec S11700x6 32) (ix2 p c) = clampW 20#32 (cellF 0x41B00000#32 (ptF U p c 0))
      ∧ (after (kI3 (F := F)) U (Proc.devRef .tc main_v739) : IVec S11700x6 32) (ix2 p c) = clampW 6#32 (cellF 0x41000000#32 (ptF U p c 1)) := by
  unfold kI3 k22 k23 k24
  simp only [List.cons_append, List.nil_append]
  refine ⟨?_, ?_, ?_, ?_, ?_, ?_⟩ <;> after_reads_at <;> rfl

theorem weight3_at (U : Valuation τ sig (Elt Ideal)) (p : Fin 11700) (c : Fin 6) (s : Fin 4) (g : Fin 8) :
    (after (kW3 (F := Ideal)) U (Proc.devRef .tc main_v906) : FVec Ideal S11700x6x4x8 .f32) (ix4 p c s g)
      = rowW (slots ((U (Proc.devRef .tc main_v738) : IVec S11700x6 32) (ix2 p c)) ((U (Proc.devRef .tc main_v739) : IVec S11700x6 32) (ix2 p c))
            ((U (Proc.devRef .tc main_v736) : IVec S11700x6 32) (ix2 p c)) ((U (Proc.devRef .tc main_v737) : IVec S11700x6 32) (ix2 p c)))
          (share4 22#32 8#32 ((U (Proc.devRef .tc main_v736) : IVec S11700x6 32) (ix2 p c)) ((U (Proc.devRef .tc main_v737) : IVec S11700x6 32) (ix2 p c))
            ((U (Proc.devRef .tc main_v734) : FVec Ideal S11700x6 .f32) (ix2 p c)) ((U (Proc.devRef .tc main_v735) : FVec Ideal S11700x6 .f32) (ix2 p c))) s
        * (U (Proc.devRef .tc main_v156) : FVec Ideal S11700x6x4x8 .f32) (ix4 p c 3 g) := by
  unfold kW3 k25 k26 k27
  simp only [List.cons_append, List.nil_append]
  after_reads_at
  rw [show (FloatOps.ofBits (F := Ideal) .f32 0x00000000#32 : EReal) = 0 from Ideal.ofBits_zero_f32]
  rfl

end Cert.Proof.Agg

end
-- ==== Proof.KTable.lean ====
/-
  The table: each row is a two by two block of a camera's map at one of the levels.
-/
module

public import proofs.«01_k».proof.Proof.KHostA
public import Idealize.ShloMosaic.Lib.StableHlo.ReadAt

@[expose] public section

set_option maxHeartbeats 4000000

noncomputable section

namespace Cert.Proof.Agg

open Cert.KernelIdeal Cert.KernelIdeal.Gen
open Idealize.ShloMosaic
open Idealize.ShloMosaic.StableHlo

variable {F : FTy → Type} [FloatOps F]

/-- Level 0, blocks from even rows and even columns: row `s` of a block is its pixel `(s / 2, s % 2)`. -/
theorem seg0_0_at (U : Valuation τ sig (Elt F)) (cam : Fin 6) (i : Fin 32) (j : Fin 88) (s : Fin 4) (ch : Fin 256) :
    (after (kG0 (F := F)) U (Proc.devRef .tc main_v923) : FVec F S16896x1024 .f32)
        (ix2 ⟨cam.val * 2816 + (i.val * 88 + j.val), by omega⟩ ⟨s.val * 256 + ch.val, by omega⟩)
      = (U (Proc.devRef .tc main_arg4) : FVec F S1x6x256x64x176 .f32)
          (ix5 0 cam ch ⟨2 * i.val + 0 + s.val / 2, by omega⟩ ⟨2 * j.val + 0 + s.val % 2, by omega⟩) := by
  unfold kG0
  after_reads_at
  exact congrArg (U (Proc.devRef .tc main_arg4) : FVec F S1x6x256x64x176 .f32)
    (congrArg₂ (ix5 0 cam ch) (Fin.ext (by dsimp only; omega)) (Fin.ext (by dsimp only; omega)))

/-- Level 0, blocks from even rows and odd columns: row `s` of a block is its pixel `(s / 2, s % 2)`. -/
theorem seg0_1_at (U : Valuation τ sig (Elt F)) (cam : Fin 6) (i : Fin 32) (j : Fin 87) (s : Fin 4) (ch : Fin 256) :
    (after (kG0 (F := F)) U (Proc.devRef .tc main_v927) : FVec F S16704x1024 .f32)
        (ix2 ⟨cam.val * 2784 + (i.val * 87 + j.val), by omega⟩ ⟨s.val * 256 + ch.val, by omega⟩)
      = (U (Proc.devRef .tc main_arg4) : FVec F S1x6x256x64x176 .f32)
          (ix5 0 cam ch ⟨2 * i.val + 0 + s.val / 2, by omega⟩ ⟨2 * j.val + 1 + s.val % 2, by omega⟩) := by
  unfold kG0
  after_reads_at
  exact congrArg (U (Proc.devRef .tc main_arg4) : FVec F S1x6x256x64x176 .f32)
    (congrArg₂ (ix5 0 cam ch) (Fin.ext (by dsimp only; omega)) (Fin.ext (by dsimp only; omega)))

/-- Level 0, blocks from odd rows and even columns: row `s` of a block is its pixel `(s / 2, s % 2)`. -/
theorem seg0_2_at (U : Valuation τ sig (Elt F)) (cam : Fin 6) (i : Fin 31) (j : Fin 88) (s : Fin 4) (ch : Fin 256) :
    (after (kG0 (F := F)) U (Proc.devRef .tc main_v931) : FVec F S16368x1024 .f32)
        (ix2 ⟨cam.val * 2728 + (i.val * 88 + j.val), by omega⟩ ⟨s.val * 256 + ch.val, by omega⟩)
      = (U (Proc.devRef .tc main_arg4) : FVec F S1x6x256x64x176 .f32)
          (ix5 0 cam ch ⟨2 * i.val + 1 + s.val / 2, by omega⟩ ⟨2 * j.val + 0 + s.val % 2, by omega⟩) := by
  unfold kG0
  after_reads_at
  exact congrArg (U (Proc.devRef .tc main_arg4) : FVec F S1x6x256x64x176 .f32)
    (congrArg₂ (ix5 0 cam ch) (Fin.ext (by dsimp only; omega)) (Fin.ext (by dsimp only; omega)))

/-- Level 0, blocks from odd rows and odd columns: row `s` of a block is its pixel `(s / 2, s % 2)`. -/
theorem seg0_3_at (U : Valuation τ sig (Elt F)) (cam : Fin 6) (i : Fin 31) (j : Fin 87) (s : Fin 4) (ch : Fin 256) :
    (after (kG0 (F := F)) U (Proc.devRef .tc main_v935) : FVec F S16182x1024 .f32)
        (ix2 ⟨cam.val * 2697 + (i.val * 87 + j.val), by omega⟩ ⟨s.val * 256 + ch.val, by omega⟩)
      = (U (Proc.devRef .tc main_arg4) : FVec F S1x6x256x64x176 .f32)
          (ix5 0 cam ch ⟨2 * i.val + 1 + s.val / 2, by omega⟩ ⟨2 * j.val + 1 + s.val % 2, by omega⟩) := by
  unfold kG0
  after_reads_at
  exact congrArg (U (Proc.devRef .tc main_arg4) : FVec F S1x6x256x64x176 .f32)
    (congrArg₂ (ix5 0 cam ch) (Fin.ext (by dsimp only; omega)) (Fin.ext (by dsimp only; omega)))

/-- Level 1, blocks from even rows and even columns: row `s` of a block is its pixel `(s / 2, s % 2)`. -/
theorem seg1_0_at (U : Valuation τ sig (Elt F)) (cam : Fin 6) (i : Fin 16) (j : Fin 44) (s : Fin 4) (ch : Fin 256) :
    (after (kG1 (F := F)) U (Proc.devRef .tc main_v940) : FVec F S4224x1024 .f32)
        (ix2 ⟨cam.val * 704 + (i.val * 44 + j.val), by omega⟩ ⟨s.val * 256 + ch.val, by omega⟩)
      = (U (Proc.devRef .tc main_arg5) : FVec F S1x6x256x32x88 .f32)
          (ix5 0 cam ch ⟨2 * i.val + 0 + s.val / 2, by omega⟩ ⟨2 * j.val + 0 + s.val % 2, by omega⟩) := by
  unfold kG1
  after_reads_at
  exact congrArg (U (Proc.devRef .tc main_arg5) : FVec F S1x6x256x32x88 .f32)
    (congrArg₂ (ix5 0 cam ch) (Fin.ext (by dsimp only; omega)) (Fin.ext (by dsimp only; omega)))

/-- Level 1, blocks from even rows and odd columns: row `s` of a block is its pixel `(s / 2, s % 2)`. -/
theorem seg1_1_at (U : Valuation τ sig (Elt F)) (cam : Fin 6) (i : Fin 16) (j : Fin 43) (s : Fin 4) (ch : Fin 256) :
    (after (kG1 (F := F)) U (Proc.devRef .tc main_v944) : FVec F S4128x1024 .f32)
        (ix2 ⟨cam.val * 688 + (i.val * 43 + j.val), by omega⟩ ⟨s.val * 256 + ch.val, by omega⟩)
      = (U (Proc.devRef .tc main_arg5) : FVec F S1x6x256x32x88 .f32)
          (ix5 0 cam ch ⟨2 * i.val + 0 + s.val / 2, by omega⟩ ⟨2 * j.val + 1 + s.val % 2, by omega⟩) := by
  unfold kG1
  after_reads_at
  exact congrArg (U (Proc.devRef .tc main_arg5) : FVec F S1x6x256x32x88 .f32)
    (congrArg₂ (ix5 0 cam ch) (Fin.ext (by dsimp only; omega)) (Fin.ext (by dsimp only; omega)))

/-- Level 1, blocks from odd rows and even columns: row `s` of a block is its pixel `(s / 2, s % 2)`. -/
theorem seg1_2_at (U : Valuation τ sig (Elt F)) (cam : Fin 6) (i : Fin 15) (j : Fin 44) (s : Fin 4) (ch : Fin 256) :
    (after (kG1 (F := F)) U (Proc.devRef .tc main_v948) : FVec F S3960x1024 .f32)
        (ix2 ⟨cam.val * 660 + (i.val * 44 + j.val), by omega⟩ ⟨s.val * 256 + ch.val, by omega⟩)
      = (U (Proc.devRef .tc main_arg5) : FVec F S1x6x256x32x88 .f32)
          (ix5 0 cam ch ⟨2 * i.val + 1 + s.val / 2, by omega⟩ ⟨2 * j.val + 0 + s.val % 2, by omega⟩) := by
  unfold kG1
  after_reads_at
  exact congrArg (U (Proc.devRef .tc main_arg5) : FVec F S1x6x256x32x88 .f32)
    (congrArg₂ (ix5 0 cam ch) (Fin.ext (by dsimp only; omega)) (Fin.ext (by dsimp only; omega)))

/-- Level 1, blocks from odd rows and odd columns: row `s` of a block is its pixel `(s / 2, s % 2)`. -/
theorem seg1_3_at (U : Valuation τ sig (Elt F)) (cam : Fin 6) (i : Fin 15) (j : Fin 43) (s : Fin 4) (ch : Fin 256) :
    (after (kG1 (F := F)) U (Proc.devRef .tc main_v952) : FVec F S3870x1024 .f32)
        (ix2 ⟨cam.val * 645 + (i.val * 43 + j.val), by omega⟩ ⟨s.val * 256 + ch.val, by omega⟩)
      = (U (Proc.devRef .tc main_arg5) : FVec F S1x6x256x32x88 .f32)
          (ix5 0 cam ch ⟨2 * i.val + 1 + s.val / 2, by omega⟩ ⟨2 * j.val + 1 + s.val % 2, by omega⟩) := by
  unfold kG1
  after_reads_at
  exact congrArg (U (Proc.devRef .tc main_arg5) : FVec F S1x6x256x32x88 .f32)
    (congrArg₂ (ix5 0 cam ch) (Fin.ext (by dsimp only; omega)) (Fin.ext (by dsimp only; omega)))

/-- Level 2, blocks from even rows and even columns: row `s` of a block is its pixel `(s / 2, s % 2)`. -/
theorem seg2_0_at (U : Valuation τ sig (Elt F)) (cam : Fin 6) (i : Fin 8) (j : Fin 22) (s : Fin 4) (ch : Fin 256) :
    (after (kG2 (F := F)) U (Proc.devRef .tc main_v957) : FVec F S1056x1024 .f32)
        (ix2 ⟨cam.val * 176 + (i.val * 22 + j.val), by omega⟩ ⟨s.val * 256 + ch.val, by omega⟩)
      = (U (Proc.devRef .tc main_arg6) : FVec F S1x6x256x16x44 .f32)
          (ix5 0 cam ch ⟨2 * i.val + 0 + s.val / 2, by omega⟩ ⟨2 * j.val + 0 + s.val % 2, by omega⟩) := by
  unfold kG2
  after_reads_at
  exact congrArg (U (Proc.devRef .tc main_arg6) : FVec F S1x6x256x16x44 .f32)
    (congrArg₂ (ix5 0 cam ch) (Fin.ext (by dsimp only; omega)) (Fin.ext (by dsimp only; omega)))

/-- Level 2, blocks from even rows and odd columns: row `s` of a block is its pixel `(s / 2, s % 2)`. -/
theorem seg2_1_at (U : Valuation τ sig (Elt F)) (cam : Fin 6) (i : Fin 8) (j : Fin 21) (s : Fin 4) (ch : Fin 256) :
    (after (kG2 (F := F)) U (Proc.devRef .tc main_v961) : FVec F S1008x1024 .f32)
        (ix2 ⟨cam.val * 168 + (i.val * 21 + j.val), by omega⟩ ⟨s.val * 256 + ch.val, by omega⟩)
      = (U (Proc.devRef .tc main_arg6) : FVec F S1x6x256x16x44 .f32)
          (ix5 0 cam ch ⟨2 * i.val + 0 + s.val / 2, by omega⟩ ⟨2 * j.val + 1 + s.val % 2, by omega⟩) := by
  unfold kG2
  after_reads_at
  exact congrArg (U (Proc.devRef .tc main_arg6) : FVec F S1x6x256x16x44 .f32)
    (congrArg₂ (ix5 0 cam ch) (Fin.ext (by dsimp only; omega)) (Fin.ext (by dsimp only; omega)))

/-- Level 2, blocks from odd rows and even columns: row `s` of a block is its pixel `(s / 2, s % 2)`. -/
theorem seg2_2_at (U : Valuation τ sig (Elt F)) (cam : Fin 6) (i : Fin 7) (j : Fin 22) (s : Fin 4) (ch : Fin 256) :
    (after (kG2 (F := F)) U (Proc.devRef .tc main_v965) : FVec F S924x1024 .f32)
        (ix2 ⟨cam.val * 154 + (i.val * 22 + j.val), by omega⟩ ⟨s.val * 256 + ch.val, by omega⟩)
      = (U (Proc.devRef .tc main_arg6) : FVec F S1x6x256x16x44 .f32)
          (ix5 0 cam ch ⟨2 * i.val + 1 + s.val / 2, by omega⟩ ⟨2 * j.val + 0 + s.val % 2, by omega⟩) := by
  unfold kG2
  after_reads_at
  exact congrArg (U (Proc.devRef .tc main_arg6) : FVec F S1x6x256x16x44 .f32)
    (congrArg₂ (ix5 0 cam ch) (Fin.ext (by dsimp only; omega)) (Fin.ext (by dsimp only; omega)))

/-- Level 2, blocks from odd rows and odd columns: row `s` of a block is its pixel `(s / 2, s % 2)`. -/
theorem seg2_3_at (U : Valuation τ sig (Elt F)) (cam : Fin 6) (i : Fin 7) (j : Fin 21) (s : Fin 4) (ch : Fin 256) :
    (after (kG2 (F := F)) U (Proc.devRef .tc main_v969) : FVec F S882x1024 .f32)
        (ix2 ⟨cam.val * 147 + (i.val * 21 + j.val), by omega⟩ ⟨s.val * 256 + ch.val, by omega⟩)
      = (U (Proc.devRef .tc main_arg6) : FVec F S1x6x256x16x44 .f32)
          (ix5 0 cam ch ⟨2 * i.val + 1 + s.val / 2, by omega⟩ ⟨2 * j.val + 1 + s.val % 2, by omega⟩) := by
  unfold kG2
  after_reads_at
  exact congrArg (U (Proc.devRef .tc main_arg6) : FVec F S1x6x256x16x44 .f32)
    (congrArg₂ (ix5 0 cam ch) (Fin.ext (by dsimp only; omega)) (Fin.ext (by dsimp only; omega)))

/-- Level 3, blocks from even rows and even columns: row `s` of a block is its pixel `(s / 2, s % 2)`. -/
theorem seg3_0_at (U : Valuation τ sig (Elt F)) (cam : Fin 6) (i : Fin 4) (j : Fin 11) (s : Fin 4) (ch : Fin 256) :
    (after (kG3 (F := F)) U (Proc.devRef .tc main_v974) : FVec F S264x1024 .f32)
        (ix2 ⟨cam.val * 44 + (i.val * 11 + j.val), by omega⟩ ⟨s.val * 256 + ch.val, by omega⟩)
      = (U (Proc.devRef .tc main_arg7) : FVec F S1x6x256x8x22 .f32)
          (ix5 0 cam ch ⟨2 * i.val + 0 + s.val / 2, by omega⟩ ⟨2 * j.val + 0 + s.val % 2, by omega⟩) := by
  unfold kG3
  after_reads_at
  exact congrArg (U (Proc.devRef .tc main_arg7) : FVec F S1x6x256x8x22 .f32)
    (congrArg₂ (ix5 0 cam ch) (Fin.ext (by dsimp only; omega)) (Fin.ext (by dsimp only; omega)))

/-- Level 3, blocks from even rows and odd columns: row `s` of a block is its pixel `(s / 2, s % 2)`. -/
theorem seg3_1_at (U : Valuation τ sig (Elt F)) (cam : Fin 6) (i : Fin 4) (j : Fin 10) (s : Fin 4) (ch : Fin 256) :
    (after (kG3 (F := F)) U (Proc.devRef .tc main_v978) : FVec F S240x1024 .f32)
        (ix2 ⟨cam.val * 40 + (i.val * 10 + j.val), by omega⟩ ⟨s.val * 256 + ch.val, by omega⟩)
      = (U (Proc.devRef .tc main_arg7) : FVec F S1x6x256x8x22 .f32)
          (ix5 0 cam ch ⟨2 * i.val + 0 + s.val / 2, by omega⟩ ⟨2 * j.val + 1 + s.val % 2, by omega⟩) := by
  unfold kG3
  after_reads_at
  exact congrArg (U (Proc.devRef .tc main_arg7) : FVec F S1x6x256x8x22 .f32)
    (congrArg₂ (ix5 0 cam ch) (Fin.ext (by dsimp only; omega)) (Fin.ext (by dsimp only; omega)))

/-- Level 3, blocks from odd rows and even columns: row `s` of a block is its pixel `(s / 2, s % 2)`. -/
theorem seg3_2_at (U : Valuation τ sig (Elt F)) (cam : Fin 6) (i : Fin 3) (j : Fin 11) (s : Fin 4) (ch : Fin 256) :
    (after (kG3 (F := F)) U (Proc.devRef .tc main_v982) : FVec F S198x1024 .f32)
        (ix2 ⟨cam.val * 33 + (i.val * 11 + j.val), by omega⟩ ⟨s.val * 256 + ch.val, by omega⟩)
      = (U (Proc.devRef .tc main_arg7) : FVec F S1x6x256x8x22 .f32)
          (ix5 0 cam ch ⟨2 * i.val + 1 + s.val / 2, by omega⟩ ⟨2 * j.val + 0 + s.val % 2, by omega⟩) := by
  unfold kG3
  after_reads_at
  exact congrArg (U (Proc.devRef .tc main_arg7) : FVec F S1x6x256x8x22 .f32)
    (congrArg₂ (ix5 0 cam ch) (Fin.ext (by dsimp only; omega)) (Fin.ext (by dsimp only; omega)))

/-- Level 3, blocks from odd rows and odd columns: row `s` of a block is its pixel `(s / 2, s % 2)`. -/
theorem seg3_3_at (U : Valuation τ sig (Elt F)) (cam : Fin 6) (i : Fin 3) (j : Fin 10) (s : Fin 4) (ch : Fin 256) :
    (after (kG3 (F := F)) U (Proc.devRef .tc main_v986) : FVec F S180x1024 .f32)
        (ix2 ⟨cam.val * 30 + (i.val * 10 + j.val), by omega⟩ ⟨s.val * 256 + ch.val, by omega⟩)
      = (U (Proc.devRef .tc main_arg7) : FVec F S1x6x256x8x22 .f32)
          (ix5 0 cam ch ⟨2 * i.val + 1 + s.val / 2, by omega⟩ ⟨2 * j.val + 1 + s.val % 2, by omega⟩) := by
  unfold kG3
  after_reads_at
  exact congrArg (U (Proc.devRef .tc main_arg7) : FVec F S1x6x256x8x22 .f32)
    (congrArg₂ (ix5 0 cam ch) (Fin.ext (by dsimp only; omega)) (Fin.ext (by dsimp only; omega)))

/-- The parts laid one after the other. -/
def parts (U : Valuation τ sig (Elt F)) : FVec F S87084x1024 .f32 :=
  concatenate S87084x1024 0 [⟨S16896x1024, (U (Proc.devRef .tc main_v923) : Arr F S16896x1024 .f32)⟩, ⟨S16704x1024, (U (Proc.devRef .tc main_v927) : Arr F S16704x1024 .f32)⟩, ⟨S16368x1024, (U (Proc.devRef .tc main_v931) : Arr F S16368x1024 .f32)⟩, ⟨S16182x1024, (U (Proc.devRef .tc main_v935) : Arr F S16182x1024 .f32)⟩, ⟨S4224x1024, (U (Proc.devRef .tc main_v940) : Arr F S4224x1024 .f32)⟩, ⟨S4128x1024, (U (Proc.devRef .tc main_v944) : Arr F S4128x1024 .f32)⟩, ⟨S3960x1024, (U (Proc.devRef .tc main_v948) : Arr F S3960x1024 .f32)⟩, ⟨S3870x1024, (U (Proc.devRef .tc main_v952) : Arr F S3870x1024 .f32)⟩, ⟨S1056x1024, (U (Proc.devRef .tc main_v957) : Arr F S1056x1024 .f32)⟩, ⟨S1008x1024, (U (Proc.devRef .tc main_v961) : Arr F S1008x1024 .f32)⟩, ⟨S924x1024, (U (Proc.devRef .tc main_v965) : Arr F S924x1024 .f32)⟩, ⟨S882x1024, (U (Proc.devRef .tc main_v969) : Arr F S882x1024 .f32)⟩, ⟨S264x1024, (U (Proc.devRef .tc main_v974) : Arr F S264x1024 .f32)⟩, ⟨S240x1024, (U (Proc.devRef .tc main_v978) : Arr F S240x1024 .f32)⟩, ⟨S198x1024, (U (Proc.devRef .tc main_v982) : Arr F S198x1024 .f32)⟩, ⟨S180x1024, (U (Proc.devRef .tc main_v986) : Arr F S180x1024 .f32)⟩]
    concatenates_S16896x1024_S16704x1024_S16368x1024_S16182x1024_S4224x1024_S4128x1024_S3960x1024_S3870x1024_S1056x1024_S1008x1024_S924x1024_S882x1024_S264x1024_S240x1024_S198x1024_S180x1024_S87084x1024_d0

theorem kCat_eq (U : Valuation τ sig (Elt F)) : (after (kCat (F := F)) U (Proc.devRef .tc main_v987) : FVec F S87084x1024 .f32) = parts U := rfl

/-- Their shapes. -/
def partShapes : List Shape := [S16896x1024, S16704x1024, S16368x1024, S16182x1024, S4224x1024, S4128x1024, S3960x1024, S3870x1024, S1056x1024, S1008x1024, S924x1024, S882x1024, S264x1024, S240x1024, S198x1024, S180x1024]

/-- Arrays of rows laid one after the other: a row past the rows before an array is the array's. -/
theorem cat_rows {α : Type} {t n : ℕ} (xs : List ((s : Shape) × (s.Idx → α))) (h : Shape.Concatenates (xs.map (·.1)) ⟨2, ![t, 1024]⟩ 0)
    (k : ℕ) (hk : k < xs.length) (x : (⟨2, ![n, 1024]⟩ : Shape).Idx → α) (hx : xs[k] = ⟨⟨2, ![n, 1024]⟩, x⟩) (pre : ℕ)
    (ss : List Shape) (hs : xs.map (·.1) = ss)
    (hpre : ((ss.take k).map fun s => if h : s.rank = (⟨2, ![t, 1024]⟩ : Shape).rank then s.size ((0 : Fin 2).cast h.symm) else 0).sum = pre)
    (i : Fin n) (c : Fin 1024) (hi : pre + i.val < t) :
    concatenate ⟨2, ![t, 1024]⟩ 0 xs h (ix2 ⟨pre + i.val, hi⟩ c) = x (ix2 i c) := by
  refine concatenate_apply_piece 0 xs h _ k hk _ x hx rfl pre (by rw [List.map_take, hs]; exact hpre) (ix2 i c) ?_ rfl
  intro (b : Fin 2) hb
  match b with
  | 0 => exact absurd rfl hb
  | 1 => rfl

theorem part0_0_at (U : Valuation τ sig (Elt F)) (i : Fin 16896) (c : Fin 1024) :
    parts U (ix2 ⟨0 + i.val, by omega⟩ c) = (U (Proc.devRef .tc main_v923) : FVec F S16896x1024 .f32) (ix2 i c) := by
  unfold parts
  exact cat_rows _ _ 0 (by show 0 < 16; decide) _ rfl 0 partShapes rfl (by decide +kernel) i c _
theorem part0_1_at (U : Valuation τ sig (Elt F)) (i : Fin 16704) (c : Fin 1024) :
    parts U (ix2 ⟨16896 + i.val, by omega⟩ c) = (U (Proc.devRef .tc main_v927) : FVec F S16704x1024 .f32) (ix2 i c) := by
  unfold parts
  exact cat_rows _ _ 1 (by show 1 < 16; decide) _ rfl 16896 partShapes rfl (by decide +kernel) i c _
theorem part0_2_at (U : Valuation τ sig (Elt F)) (i : Fin 16368) (c : Fin 1024) :
    parts U (ix2 ⟨33600 + i.val, by omega⟩ c) = (U (Proc.devRef .tc main_v931) : FVec F S16368x1024 .f32) (ix2 i c) := by
  unfold parts
  exact cat_rows _ _ 2 (by show 2 < 16; decide) _ rfl 33600 partShapes rfl (by decide +kernel) i c _
theorem part0_3_at (U : Valuation τ sig (Elt F)) (i : Fin 16182) (c : Fin 1024) :
    parts U (ix2 ⟨49968 + i.val, by omega⟩ c) = (U (Proc.devRef .tc main_v935) : FVec F S16182x1024 .f32) (ix2 i c) := by
  unfold parts
  exact cat_rows _ _ 3 (by show 3 < 16; decide) _ rfl 49968 partShapes rfl (by decide +kernel) i c _
theorem part1_0_at (U : Valuation τ sig (Elt F)) (i : Fin 4224) (c : Fin 1024) :
    parts U (ix2 ⟨66150 + i.val, by omega⟩ c) = (U (Proc.devRef .tc main_v940) : FVec F S4224x1024 .f32) (ix2 i c) := by
  unfold parts
  exact cat_rows _ _ 4 (by show 4 < 16; decide) _ rfl 66150 partShapes rfl (by decide +kernel) i c _
theorem part1_1_at (U : Valuation τ sig (Elt F)) (i : Fin 4128) (c : Fin 1024) :
    parts U (ix2 ⟨70374 + i.val, by omega⟩ c) = (U (Proc.devRef .tc main_v944) : FVec F S4128x1024 .f32) (ix2 i c) := by
  unfold parts
  exact cat_rows _ _ 5 (by show 5 < 16; decide) _ rfl 70374 partShapes rfl (by decide +kernel) i c _
theorem part1_2_at (U : Valuation τ sig (Elt F)) (i : Fin 3960) (c : Fin 1024) :
    parts U (ix2 ⟨74502 + i.val, by omega⟩ c) = (U (Proc.devRef .tc main_v948) : FVec F S3960x1024 .f32) (ix2 i c) := by
  unfold parts
  exact cat_rows _ _ 6 (by show 6 < 16; decide) _ rfl 74502 partShapes rfl (by decide +kernel) i c _
theorem part1_3_at (U : Valuation τ sig (Elt F)) (i : Fin 3870) (c : Fin 1024) :
    parts U (ix2 ⟨78462 + i.val, by omega⟩ c) = (U (Proc.devRef .tc main_v952) : FVec F S3870x1024 .f32) (ix2 i c) := by
  unfold parts
  exact cat_rows _ _ 7 (by show 7 < 16; decide) _ rfl 78462 partShapes rfl (by decide +kernel) i c _
theorem part2_0_at (U : Valuation τ sig (Elt F)) (i : Fin 1056) (c : Fin 1024) :
    parts U (ix2 ⟨82332 + i.val, by omega⟩ c) = (U (Proc.devRef .tc main_v957) : FVec F S1056x1024 .f32) (ix2 i c) := by
  unfold parts
  exact cat_rows _ _ 8 (by show 8 < 16; decide) _ rfl 82332 partShapes rfl (by decide +kernel) i c _
theorem part2_1_at (U : Valuation τ sig (Elt F)) (i : Fin 1008) (c : Fin 1024) :
    parts U (ix2 ⟨83388 + i.val, by omega⟩ c) = (U (Proc.devRef .tc main_v961) : FVec F S1008x1024 .f32) (ix2 i c) := by
  unfold parts
  exact cat_rows _ _ 9 (by show 9 < 16; decide) _ rfl 83388 partShapes rfl (by decide +kernel) i c _
theorem part2_2_at (U : Valuation τ sig (Elt F)) (i : Fin 924) (c : Fin 1024) :
    parts U (ix2 ⟨84396 + i.val, by omega⟩ c) = (U (Proc.devRef .tc main_v965) : FVec F S924x1024 .f32) (ix2 i c) := by
  unfold parts
  exact cat_rows _ _ 10 (by show 10 < 16; decide) _ rfl 84396 partShapes rfl (by decide +kernel) i c _
theorem part2_3_at (U : Valuation τ sig (Elt F)) (i : Fin 882) (c : Fin 1024) :
    parts U (ix2 ⟨85320 + i.val, by omega⟩ c) = (U (Proc.devRef .tc main_v969) : FVec F S882x1024 .f32) (ix2 i c) := by
  unfold parts
  exact cat_rows _ _ 11 (by show 11 < 16; decide) _ rfl 85320 partShapes rfl (by decide +kernel) i c _
theorem part3_0_at (U : Valuation τ sig (Elt F)) (i : Fin 264) (c : Fin 1024) :
    parts U (ix2 ⟨86202 + i.val, by omega⟩ c) = (U (Proc.devRef .tc main_v974) : FVec F S264x1024 .f32) (ix2 i c) := by
  unfold parts
  exact cat_rows _ _ 12 (by show 12 < 16; decide) _ rfl 86202 partShapes rfl (by decide +kernel) i c _
theorem part3_1_at (U : Valuation τ sig (Elt F)) (i : Fin 240) (c : Fin 1024) :
    parts U (ix2 ⟨86466 + i.val, by omega⟩ c) = (U (Proc.devRef .tc main_v978) : FVec F S240x1024 .f32) (ix2 i c) := by
  unfold parts
  exact cat_rows _ _ 13 (by show 13 < 16; decide) _ rfl 86466 partShapes rfl (by decide +kernel) i c _
theorem part3_2_at (U : Valuation τ sig (Elt F)) (i : Fin 198) (c : Fin 1024) :
    parts U (ix2 ⟨86706 + i.val, by omega⟩ c) = (U (Proc.devRef .tc main_v982) : FVec F S198x1024 .f32) (ix2 i c) := by
  unfold parts
  exact cat_rows _ _ 14 (by show 14 < 16; decide) _ rfl 86706 partShapes rfl (by decide +kernel) i c _
theorem part3_3_at (U : Valuation τ sig (Elt F)) (i : Fin 180) (c : Fin 1024) :
    parts U (ix2 ⟨86904 + i.val, by omega⟩ c) = (U (Proc.devRef .tc main_v986) : FVec F S180x1024 .f32) (ix2 i c) := by
  unfold parts
  exact cat_rows _ _ 15 (by show 15 < 16; decide) _ rfl 86904 partShapes rfl (by decide +kernel) i c _

end Cert.Proof.Agg

end
-- ==== Proof.Pieces.lean ====
/-
  Four arrays, of one column each, laid side by side.
-/
module

public import Idealize.ShloMosaic.Lib.StableHlo.ReadAt
public import Idealize.ShloMosaic.Lib.Pipeline.Value
public import Idealize.ShloMosaic.Lib.Pointwise.Index
public import Idealize.ShloMosaic.Lib.Pointwise.Reduce
public import Idealize.ShloMosaic.Lib.IdealHost

@[expose] public section

noncomputable section

namespace Cert.Proof.Lvl

open Idealize.ShloMosaic

/-- Column `k` of four columns side by side is the `k`th. -/
theorem four_cols {α : Type} {n m : ℕ} (a b c d : (⟨3, ![n, m, 1]⟩ : Shape).Idx → α)
    (h : Shape.Concatenates [⟨3, ![n, m, 1]⟩, ⟨3, ![n, m, 1]⟩, ⟨3, ![n, m, 1]⟩, ⟨3, ![n, m, 1]⟩] ⟨3, ![n, m, 4]⟩ 2)
    (p : Fin n) (q : Fin m) (k : Fin 4) :
    concatenate ⟨3, ![n, m, 4]⟩ 2 [⟨⟨3, ![n, m, 1]⟩, a⟩, ⟨⟨3, ![n, m, 1]⟩, b⟩, ⟨⟨3, ![n, m, 1]⟩, c⟩, ⟨⟨3, ![n, m, 1]⟩, d⟩] h (ix3 p q k)
      = (![a, b, c, d] k) (ix3 p q 0) := by
  have off : ∀ (k : Fin 4) (b : Fin 3), b ≠ 2 → ((ix3 p q (0 : Fin 1) : (⟨3, ![n, m, 1]⟩ : Shape).Idx) b).val = ((ix3 p q k : (⟨3, ![n, m, 4]⟩ : Shape).Idx) b).val := by
    intro k b hb
    match b with
    | 0 => rfl
    | 1 => rfl
    | 2 => exact absurd rfl hb
  match k with
  | 0 => exact concatenate_apply_piece (t := ⟨3, ![n, m, 4]⟩) 2 [⟨⟨3, ![n, m, 1]⟩, a⟩, ⟨⟨3, ![n, m, 1]⟩, b⟩, ⟨⟨3, ![n, m, 1]⟩, c⟩, ⟨⟨3, ![n, m, 1]⟩, d⟩] h (ix3 p q 0) 0 (by show 0 < 4; decide) ⟨3, ![n, m, 1]⟩ a rfl rfl 0 rfl (ix3 p q 0) (off 0) rfl
  | 1 => exact concatenate_apply_piece (t := ⟨3, ![n, m, 4]⟩) 2 [⟨⟨3, ![n, m, 1]⟩, a⟩, ⟨⟨3, ![n, m, 1]⟩, b⟩, ⟨⟨3, ![n, m, 1]⟩, c⟩, ⟨⟨3, ![n, m, 1]⟩, d⟩] h (ix3 p q 1) 1 (by show 1 < 4; decide) ⟨3, ![n, m, 1]⟩ b rfl rfl 1 rfl (ix3 p q 0) (off 1) rfl
  | 2 => exact concatenate_apply_piece (t := ⟨3, ![n, m, 4]⟩) 2 [⟨⟨3, ![n, m, 1]⟩, a⟩, ⟨⟨3, ![n, m, 1]⟩, b⟩, ⟨⟨3, ![n, m, 1]⟩, c⟩, ⟨⟨3, ![n, m, 1]⟩, d⟩] h (ix3 p q 2) 2 (by show 2 < 4; decide) ⟨3, ![n, m, 1]⟩ c rfl rfl 2 rfl (ix3 p q 0) (off 2) rfl
  | 3 => exact concatenate_apply_piece (t := ⟨3, ![n, m, 4]⟩) 2 [⟨⟨3, ![n, m, 1]⟩, a⟩, ⟨⟨3, ![n, m, 1]⟩, b⟩, ⟨⟨3, ![n, m, 1]⟩, c⟩, ⟨⟨3, ![n, m, 1]⟩, d⟩] h (ix3 p q 3) 3 (by show 3 < 4; decide) ⟨3, ![n, m, 1]⟩ d rfl rfl 3 rfl (ix3 p q 0) (off 3) rfl

/-- The same with two more axes. -/
theorem four_slabs {α : Type} {n m u v : ℕ} (a b c d : (⟨5, ![n, m, 1, u, v]⟩ : Shape).Idx → α)
    (h : Shape.Concatenates [⟨5, ![n, m, 1, u, v]⟩, ⟨5, ![n, m, 1, u, v]⟩, ⟨5, ![n, m, 1, u, v]⟩, ⟨5, ![n, m, 1, u, v]⟩] ⟨5, ![n, m, 4, u, v]⟩ 2)
    (p : Fin n) (q : Fin m) (k : Fin 4) (s : Fin u) (g : Fin v) :
    concatenate ⟨5, ![n, m, 4, u, v]⟩ 2 [⟨⟨5, ![n, m, 1, u, v]⟩, a⟩, ⟨⟨5, ![n, m, 1, u, v]⟩, b⟩, ⟨⟨5, ![n, m, 1, u, v]⟩, c⟩, ⟨⟨5, ![n, m, 1, u, v]⟩, d⟩] h (ix5 p q k s g)
      = (![a, b, c, d] k) (ix5 p q 0 s g) := by
  have off : ∀ (k : Fin 4) (b : Fin 5), b ≠ 2 → ((ix5 p q (0 : Fin 1) s g : (⟨5, ![n, m, 1, u, v]⟩ : Shape).Idx) b).val = ((ix5 p q k s g : (⟨5, ![n, m, 4, u, v]⟩ : Shape).Idx) b).val := by
    intro k b hb
    match b with
    | 0 => rfl
    | 1 => rfl
    | 2 => exact absurd rfl hb
    | 3 => rfl
    | 4 => rfl
  match k with
  | 0 => exact concatenate_apply_piece (t := ⟨5, ![n, m, 4, u, v]⟩) 2 [⟨⟨5, ![n, m, 1, u, v]⟩, a⟩, ⟨⟨5, ![n, m, 1, u, v]⟩, b⟩, ⟨⟨5, ![n, m, 1, u, v]⟩, c⟩, ⟨⟨5, ![n, m, 1, u, v]⟩, d⟩] h (ix5 p q 0 s g) 0 (by show 0 < 4; decide) ⟨5, ![n, m, 1, u, v]⟩ a rfl rfl 0 rfl (ix5 p q 0 s g) (off 0) rfl
  | 1 => exact concatenate_apply_piece (t := ⟨5, ![n, m, 4, u, v]⟩) 2 [⟨⟨5, ![n, m, 1, u, v]⟩, a⟩, ⟨⟨5, ![n, m, 1, u, v]⟩, b⟩, ⟨⟨5, ![n, m, 1, u, v]⟩, c⟩, ⟨⟨5, ![n, m, 1, u, v]⟩, d⟩] h (ix5 p q 1 s g) 1 (by show 1 < 4; decide) ⟨5, ![n, m, 1, u, v]⟩ b rfl rfl 1 rfl (ix5 p q 0 s g) (off 1) rfl
  | 2 => exact concatenate_apply_piece (t := ⟨5, ![n, m, 4, u, v]⟩) 2 [⟨⟨5, ![n, m, 1, u, v]⟩, a⟩, ⟨⟨5, ![n, m, 1, u, v]⟩, b⟩, ⟨⟨5, ![n, m, 1, u, v]⟩, c⟩, ⟨⟨5, ![n, m, 1, u, v]⟩, d⟩] h (ix5 p q 2 s g) 2 (by show 2 < 4; decide) ⟨5, ![n, m, 1, u, v]⟩ c rfl rfl 2 rfl (ix5 p q 0 s g) (off 2) rfl
  | 3 => exact concatenate_apply_piece (t := ⟨5, ![n, m, 4, u, v]⟩) 2 [⟨⟨5, ![n, m, 1, u, v]⟩, a⟩, ⟨⟨5, ![n, m, 1, u, v]⟩, b⟩, ⟨⟨5, ![n, m, 1, u, v]⟩, c⟩, ⟨⟨5, ![n, m, 1, u, v]⟩, d⟩] h (ix5 p q 3 s g) 3 (by show 3 < 4; decide) ⟨5, ![n, m, 1, u, v]⟩ d rfl rfl 3 rfl (ix5 p q 0 s g) (off 3) rfl

/-- A sum over the indices of an array that keep their first, second and last coordinate. -/
theorem sum_third {n m k l : ℕ} (h : Shape.ReducesTo ⟨4, ![n, m, k, l]⟩ [2] ⟨3, ![n, m, l]⟩) (hd : ∀ i, h.drop i = (ix3 (i 0) (i 1) (i 3) : (⟨3, ![n, m, l]⟩ : Shape).Idx))
    (f : (⟨4, ![n, m, k, l]⟩ : Shape).Idx → EReal) (a : Fin n) (b : Fin m) (d : Fin l) :
    ∑ i ∈ Finset.univ.filter (fun i => h.drop i = ix3 a b d), f i = ∑ c : Fin k, f (ix4 a b c d) := by
  refine Finset.sum_filter_eq_sum_of_fiber _ (fun c : Fin k => (ix4 a b c d : (⟨4, ![n, m, k, l]⟩ : Shape).Idx))
    (fun _ _ e => congrFun e 2) (fun i => ?_) f
  rw [hd]
  constructor
  · intro e
    refine ⟨i 2, funext fun (x : Fin 4) => ?_⟩
    match x with
    | 0 => exact (congrFun e 0).symm
    | 1 => exact (congrFun e 1).symm
    | 2 => rfl
    | 3 => exact (congrFun e 2).symm
  · rintro ⟨c, rfl⟩
    rfl

/-- A sum over the indices of an array that keep their first and last coordinate. -/
theorem sum_second {n k l : ℕ} (h : Shape.ReducesTo ⟨3, ![n, k, l]⟩ [1] ⟨2, ![n, l]⟩) (hd : ∀ i, h.drop i = (ix2 (i 0) (i 2) : (⟨2, ![n, l]⟩ : Shape).Idx))
    (f : (⟨3, ![n, k, l]⟩ : Shape).Idx → EReal) (a : Fin n) (d : Fin l) :
    ∑ i ∈ Finset.univ.filter (fun i => h.drop i = ix2 a d), f i = ∑ c : Fin k, f (ix3 a c d) := by
  refine Finset.sum_filter_eq_sum_of_fiber _ (fun c : Fin k => (ix3 a c d : (⟨3, ![n, k, l]⟩ : Shape).Idx))
    (fun _ _ e => congrFun e 1) (fun i => ?_) f
  rw [hd]
  constructor
  · intro e
    refine ⟨i 1, funext fun (x : Fin 3) => ?_⟩
    match x with
    | 0 => exact (congrFun e 0).symm
    | 1 => rfl
    | 2 => exact (congrFun e 1).symm
  · rintro ⟨c, rfl⟩
    rfl

end Cert.Proof.Lvl

end
-- ==== Proof.KFront.lean ====
/-
  What the call's arguments hold after everything before the call: the block numbers, the rows' weights and the table.
-/
module

public import proofs.«01_k».proof.Proof.KHostB
public import proofs.«01_k».proof.Proof.KLevel
public import proofs.«01_k».proof.Proof.KTable
public import proofs.«01_k».proof.Proof.Pieces

@[expose] public section

set_option maxHeartbeats 4000000

noncomputable section

namespace Cert.Proof.Agg

open Cert.KernelIdeal Cert.KernelIdeal.Gen Cert.Proof.Lvl
open Idealize.ShloMosaic
open Idealize.ShloMosaic.StableHlo

variable {F : FTy → Type} [FloatOps F]

/-! ## The memory from stage to stage -/

/-- After the prefix, -/
def lv0 (U : Valuation τ sig (Elt F)) : Valuation τ sig (Elt F) := after kPre U
/-- after level 0, -/
def lv1 (U : Valuation τ sig (Elt F)) : Valuation τ sig (Elt F) := after kW0 (after kI0 (lv0 U))
/-- after level 1, -/
def lv2 (U : Valuation τ sig (Elt F)) : Valuation τ sig (Elt F) := after kW1 (after kI1 (lv1 U))
/-- after level 2, -/
def lv3 (U : Valuation τ sig (Elt F)) : Valuation τ sig (Elt F) := after kW2 (after kI2 (lv2 U))
/-- after level 3, -/
def lv4 (U : Valuation τ sig (Elt F)) : Valuation τ sig (Elt F) := after kW3 (after kI3 (lv3 U))
/-- after the levels are stacked, -/
def mid (U : Valuation τ sig (Elt F)) : Valuation τ sig (Elt F) := after kS2 (after kS1 (after kS0 (lv4 U)))
/-- after the table's parts are cut. -/
def gs (U : Valuation τ sig (Elt F)) : Valuation τ sig (Elt F) := after kG3 (after kG2 (after kG1 (after kG0 (mid U))))

theorem front_eq (U : Valuation τ sig (Elt F)) : after front U = after kCat (gs U) := by
  unfold front gs mid lv4 lv3 lv2 lv1 lv0
  simp only [after_append]

/-- The arguments. -/
def argRefs : List (Ref sig .tc) := [main_arg0, main_arg1, main_arg2, main_arg3, main_arg4, main_arg5, main_arg6, main_arg7, main_arg8, main_arg9, main_arg10, main_arg11, main_arg12, main_arg13, main_arg14, main_arg15]

/-- No stage writes an argument. -/
theorem mid_arg (U : Valuation τ sig (Elt F)) (r : Ref sig .tc) (h : r ∈ argRefs) : mid U (Proc.devRef .tc r) = U (Proc.devRef .tc r) := by
  unfold mid lv4 lv3 lv2 lv1 lv0
  rw [kS2_keeps _ r ((by decide +kernel : ∀ r ∈ argRefs, r ∉ kS2W) r h), kS1_keeps _ r ((by decide +kernel : ∀ r ∈ argRefs, r ∉ kS1W) r h), kS0_keeps _ r ((by decide +kernel : ∀ r ∈ argRefs, r ∉ kS0W) r h), kW3_keeps _ r ((by decide +kernel : ∀ r ∈ argRefs, r ∉ kW3W) r h), kI3_keeps _ r ((by decide +kernel : ∀ r ∈ argRefs, r ∉ kI3W) r h), kW2_keeps _ r ((by decide +kernel : ∀ r ∈ argRefs, r ∉ kW2W) r h), kI2_keeps _ r ((by decide +kernel : ∀ r ∈ argRefs, r ∉ kI2W) r h), kW1_keeps _ r ((by decide +kernel : ∀ r ∈ argRefs, r ∉ kW1W) r h), kI1_keeps _ r ((by decide +kernel : ∀ r ∈ argRefs, r ∉ kI1W) r h), kW0_keeps _ r ((by decide +kernel : ∀ r ∈ argRefs, r ∉ kW0W) r h), kI0_keeps _ r ((by decide +kernel : ∀ r ∈ argRefs, r ∉ kI0W) r h), kPre_keeps _ r ((by decide +kernel : ∀ r ∈ argRefs, r ∉ kPreW) r h)]

theorem front_arg (U : Valuation τ sig (Elt F)) (r : Ref sig .tc) (h : r ∈ argRefs) : after front U (Proc.devRef .tc r) = U (Proc.devRef .tc r) := by
  rw [front_eq]
  unfold gs
  rw [kCat_keeps _ r ((by decide +kernel : ∀ r ∈ argRefs, r ∉ kCatW) r h), kG3_keeps _ r ((by decide +kernel : ∀ r ∈ argRefs, r ∉ kG3W) r h), kG2_keeps _ r ((by decide +kernel : ∀ r ∈ argRefs, r ∉ kG2W) r h), kG1_keeps _ r ((by decide +kernel : ∀ r ∈ argRefs, r ∉ kG1W) r h), kG0_keeps _ r ((by decide +kernel : ∀ r ∈ argRefs, r ∉ kG0W) r h), mid_arg U r h]

/-- What the levels start from: the points, the weights and the cameras. -/
def seeds : List (Ref sig .tc) := [main_v155, main_v156, main_v158]

theorem lv1_seed (U : Valuation τ sig (Elt F)) (r : Ref sig .tc) (h : r ∈ seeds) : lv1 U (Proc.devRef .tc r) = lv0 U (Proc.devRef .tc r) := by
  unfold lv1
  rw [kW0_keeps _ r ((by decide +kernel : ∀ r ∈ seeds, r ∉ kW0W) r h), kI0_keeps _ r ((by decide +kernel : ∀ r ∈ seeds, r ∉ kI0W) r h)]
theorem pt0 (U : Valuation τ sig (Elt F)) (p : Fin 11700) (c : Fin 6) (a : Fin 2) : ptF (lv0 U) p c a = ptF (lv0 U) p c a := rfl
theorem cam0 (U : Valuation τ sig (Elt F)) (c : Fin 6) : camW (lv0 U) c = camW (lv0 U) c := rfl
theorem lv2_seed (U : Valuation τ sig (Elt F)) (r : Ref sig .tc) (h : r ∈ seeds) : lv2 U (Proc.devRef .tc r) = lv0 U (Proc.devRef .tc r) := by
  unfold lv2
  rw [kW1_keeps _ r ((by decide +kernel : ∀ r ∈ seeds, r ∉ kW1W) r h), kI1_keeps _ r ((by decide +kernel : ∀ r ∈ seeds, r ∉ kI1W) r h), lv1_seed U r h]
/-- What the levels before level 1 leave is kept. -/
def outs1 : List (Ref sig .tc) := [main_v213, main_v345]
theorem lv2_out (U : Valuation τ sig (Elt F)) (r : Ref sig .tc) (h : r ∈ outs1) : lv2 U (Proc.devRef .tc r) = lv1 U (Proc.devRef .tc r) := by
  unfold lv2
  rw [kW1_keeps _ r ((by decide +kernel : ∀ r ∈ outs1, r ∉ kW1W) r h), kI1_keeps _ r ((by decide +kernel : ∀ r ∈ outs1, r ∉ kI1W) r h)]
theorem pt1 (U : Valuation τ sig (Elt F)) (p : Fin 11700) (c : Fin 6) (a : Fin 2) : ptF (lv1 U) p c a = ptF (lv0 U) p c a := congrFun (lv1_seed U main_v155 (by decide)) _
theorem cam1 (U : Valuation τ sig (Elt F)) (c : Fin 6) : camW (lv1 U) c = camW (lv0 U) c := congrFun (lv1_seed U main_v158 (by decide)) _
theorem lv3_seed (U : Valuation τ sig (Elt F)) (r : Ref sig .tc) (h : r ∈ seeds) : lv3 U (Proc.devRef .tc r) = lv0 U (Proc.devRef .tc r) := by
  unfold lv3
  rw [kW2_keeps _ r ((by decide +kernel : ∀ r ∈ seeds, r ∉ kW2W) r h), kI2_keeps _ r ((by decide +kernel : ∀ r ∈ seeds, r ∉ kI2W) r h), lv2_seed U r h]
/-- What the levels before level 2 leave is kept. -/
def outs2 : List (Ref sig .tc) := [main_v213, main_v400, main_v345, main_v532]
theorem lv3_out (U : Valuation τ sig (Elt F)) (r : Ref sig .tc) (h : r ∈ outs2) : lv3 U (Proc.devRef .tc r) = lv2 U (Proc.devRef .tc r) := by
  unfold lv3
  rw [kW2_keeps _ r ((by decide +kernel : ∀ r ∈ outs2, r ∉ kW2W) r h), kI2_keeps _ r ((by decide +kernel : ∀ r ∈ outs2, r ∉ kI2W) r h)]
theorem pt2 (U : Valuation τ sig (Elt F)) (p : Fin 11700) (c : Fin 6) (a : Fin 2) : ptF (lv2 U) p c a = ptF (lv0 U) p c a := congrFun (lv2_seed U main_v155 (by decide)) _
theorem cam2 (U : Valuation τ sig (Elt F)) (c : Fin 6) : camW (lv2 U) c = camW (lv0 U) c := congrFun (lv2_seed U main_v158 (by decide)) _
theorem lv4_seed (U : Valuation τ sig (Elt F)) (r : Ref sig .tc) (h : r ∈ seeds) : lv4 U (Proc.devRef .tc r) = lv0 U (Proc.devRef .tc r) := by
  unfold lv4
  rw [kW3_keeps _ r ((by decide +kernel : ∀ r ∈ seeds, r ∉ kW3W) r h), kI3_keeps _ r ((by decide +kernel : ∀ r ∈ seeds, r ∉ kI3W) r h), lv3_seed U r h]
/-- What the levels before level 3 leave is kept. -/
def outs3 : List (Ref sig .tc) := [main_v213, main_v400, main_v587, main_v345, main_v532, main_v719]
theorem lv4_out (U : Valuation τ sig (Elt F)) (r : Ref sig .tc) (h : r ∈ outs3) : lv4 U (Proc.devRef .tc r) = lv3 U (Proc.devRef .tc r) := by
  unfold lv4
  rw [kW3_keeps _ r ((by decide +kernel : ∀ r ∈ outs3, r ∉ kW3W) r h), kI3_keeps _ r ((by decide +kernel : ∀ r ∈ outs3, r ∉ kI3W) r h)]
theorem pt3 (U : Valuation τ sig (Elt F)) (p : Fin 11700) (c : Fin 6) (a : Fin 2) : ptF (lv3 U) p c a = ptF (lv0 U) p c a := congrFun (lv3_seed U main_v155 (by decide)) _
theorem cam3 (U : Valuation τ sig (Elt F)) (c : Fin 6) : camW (lv3 U) c = camW (lv0 U) c := congrFun (lv3_seed U main_v158 (by decide)) _

/-! ## The stacks -/

theorem of4_0 {α : Type} (a b c d : α) : (![a, b, c, d] : Fin 4 → α) 0 = a := rfl
theorem of4_1 {α : Type} (a b c d : α) : (![a, b, c, d] : Fin 4 → α) 1 = b := rfl
theorem of4_2 {α : Type} (a b c d : α) : (![a, b, c, d] : Fin 4 → α) 2 = c := rfl
theorem of4_3 {α : Type} (a b c d : α) : (![a, b, c, d] : Fin 4 → α) 3 = d := rfl

theorem stack_v917 (U : Valuation τ sig (Elt F)) (p : Fin 11700) (c : Fin 6) (l : Fin 4) :
    (after front U (Proc.devRef .tc main_v917) : IVec S11700x24 32) (ix2 p ⟨c.val * 4 + l.val, by omega⟩)
      = (after kS0 (lv4 U) (Proc.devRef .tc main_v911) : IVec S11700x6x4 32) (ix3 p c l) := by
  rw [front_eq]
  unfold gs mid
  rw [kCat_keeps _ main_v917 (by decide), kG3_keeps _ main_v917 (by decide), kG2_keeps _ main_v917 (by decide), kG1_keeps _ main_v917 (by decide), kG0_keeps _ main_v917 (by decide)]
  have e : ∀ V : Valuation τ sig (Elt F), (after kS2 V (Proc.devRef .tc main_v917) : IVec S11700x24 32) (ix2 p ⟨c.val * 4 + l.val, by omega⟩)
      = (V (Proc.devRef .tc main_v911) : IVec S11700x6x4 32) (ix3 p c l) := by
    intro V
    unfold kS2
    after_reads_at
  exact (e _).trans (congrFun (kS1_keeps _ main_v911 (by decide)) _)

theorem stack_v918 (U : Valuation τ sig (Elt F)) (p : Fin 11700) (c : Fin 6) (l : Fin 4) (s : Fin 4) (g : Fin 8) :
    (after front U (Proc.devRef .tc main_v918) : FVec F S11700x24x32 .f32) (ix3 p ⟨c.val * 4 + l.val, by omega⟩ ⟨s.val * 8 + g.val, by omega⟩)
      = (after kS1 (after kS0 (lv4 U)) (Proc.devRef .tc main_v916) : FVec F S11700x6x4x4x8 .f32) (ix5 p c l s g) := by
  rw [front_eq]
  unfold gs mid
  rw [kCat_keeps _ main_v918 (by decide), kG3_keeps _ main_v918 (by decide), kG2_keeps _ main_v918 (by decide), kG1_keeps _ main_v918 (by decide), kG0_keeps _ main_v918 (by decide)]
  have e : ∀ V : Valuation τ sig (Elt F), (after kS2 V (Proc.devRef .tc main_v918) : FVec F S11700x24x32 .f32) (ix3 p ⟨c.val * 4 + l.val, by omega⟩ ⟨s.val * 8 + g.val, by omega⟩)
      = (V (Proc.devRef .tc main_v916) : FVec F S11700x6x4x4x8 .f32) (ix5 p c l s g) := by
    intro V
    unfold kS2
    after_reads_at
  exact e _

/-- The four levels' block numbers side by side. -/
theorem side_v911 (V : Valuation τ sig (Elt F)) (p : Fin 11700) (c : Fin 6) (l : Fin 4) :
    (after kS0 V (Proc.devRef .tc main_v911) : IVec S11700x6x4 32) (ix3 p c l)
      = (![(V (Proc.devRef .tc main_v213) : IVec S11700x6 32) (ix2 p c), (V (Proc.devRef .tc main_v400) : IVec S11700x6 32) (ix2 p c), (V (Proc.devRef .tc main_v587) : IVec S11700x6 32) (ix2 p c), (V (Proc.devRef .tc main_v774) : IVec S11700x6 32) (ix2 p c)] l) := by
  rw [← List.take_append_drop 4 (kS0 (F := F)), after_append]
  refine (four_cols (after (kS0.take 4) V (Proc.devRef .tc main_v907) : IVec S11700x6x1 32) (after (kS0.take 4) V (Proc.devRef .tc main_v908) : IVec S11700x6x1 32) (after (kS0.take 4) V (Proc.devRef .tc main_v909) : IVec S11700x6x1 32) (after (kS0.take 4) V (Proc.devRef .tc main_v910) : IVec S11700x6x1 32) concatenates_S11700x6x1_S11700x6x1_S11700x6x1_S11700x6x1_S11700x6x4_d2 p c l).trans ?_
  unfold kS0 k28 k29
  simp only [List.cons_append, List.nil_append, List.take_succ_cons, List.take_zero]
  match l with
  | 0 => show (after _ V (Proc.devRef .tc main_v907) : IVec S11700x6x1 32) (ix3 p c 0) = _; after_reads_at
  | 1 => show (after _ V (Proc.devRef .tc main_v908) : IVec S11700x6x1 32) (ix3 p c 0) = _; after_reads_at
  | 2 => show (after _ V (Proc.devRef .tc main_v909) : IVec S11700x6x1 32) (ix3 p c 0) = _; after_reads_at
  | 3 => show (after _ V (Proc.devRef .tc main_v910) : IVec S11700x6x1 32) (ix3 p c 0) = _; after_reads_at

/-- The four levels' weights side by side. -/
theorem side_v916 (V : Valuation τ sig (Elt F)) (p : Fin 11700) (c : Fin 6) (l : Fin 4) (s : Fin 4) (g : Fin 8) :
    (after kS1 V (Proc.devRef .tc main_v916) : FVec F S11700x6x4x4x8 .f32) (ix5 p c l s g)
      = (![(V (Proc.devRef .tc main_v345) : FVec F S11700x6x4x8 .f32) (ix4 p c s g), (V (Proc.devRef .tc main_v532) : FVec F S11700x6x4x8 .f32) (ix4 p c s g), (V (Proc.devRef .tc main_v719) : FVec F S11700x6x4x8 .f32) (ix4 p c s g), (V (Proc.devRef .tc main_v906) : FVec F S11700x6x4x8 .f32) (ix4 p c s g)] l) := by
  rw [← List.take_append_drop 4 (kS1 (F := F)), after_append]
  refine (four_slabs (after (kS1.take 4) V (Proc.devRef .tc main_v912) : FVec F S11700x6x1x4x8 .f32) (after (kS1.take 4) V (Proc.devRef .tc main_v913) : FVec F S11700x6x1x4x8 .f32) (after (kS1.take 4) V (Proc.devRef .tc main_v914) : FVec F S11700x6x1x4x8 .f32) (after (kS1.take 4) V (Proc.devRef .tc main_v915) : FVec F S11700x6x1x4x8 .f32) concatenates_S11700x6x1x4x8_S11700x6x1x4x8_S11700x6x1x4x8_S11700x6x1x4x8_S11700x6x4x4x8_d2 p c l s g).trans ?_
  unfold kS1
  simp only [List.take_succ_cons, List.take_zero]
  match l with
  | 0 => show (after _ V (Proc.devRef .tc main_v912) : FVec F S11700x6x1x4x8 .f32) (ix5 p c 0 s g) = _; after_reads_at
  | 1 => show (after _ V (Proc.devRef .tc main_v913) : FVec F S11700x6x1x4x8 .f32) (ix5 p c 0 s g) = _; after_reads_at
  | 2 => show (after _ V (Proc.devRef .tc main_v914) : FVec F S11700x6x1x4x8 .f32) (ix5 p c 0 s g) = _; after_reads_at
  | 3 => show (after _ V (Proc.devRef .tc main_v915) : FVec F S11700x6x1x4x8 .f32) (ix5 p c 0 s g) = _; after_reads_at

/-! ## Level 0 -/

theorem blocks0_at (U : Valuation τ sig (Elt F)) (p : Fin 11700) (c : Fin 6) :
    (after front U (Proc.devRef .tc main_v917) : IVec S11700x24 32) (ix2 p ⟨c.val * 4 + 0, by omega⟩)
      = blockW 0#32 16896#32 33600#32 49968#32 32#32 31#32 88#32 87#32 (camW (lv0 U) c) (clampW 174#32 (cellF 0x43300000#32 (ptF (lv0 U) p c 0))) (clampW 62#32 (cellF 0x42800000#32 (ptF (lv0 U) p c 1))) := by
  refine (stack_v917 U p c 0).trans ((side_v911 _ p c 0).trans ((of4_0 _ _ _ _).trans ?_))
  have e : lv4 U (Proc.devRef .tc main_v213) = after kI0 (lv0 U) (Proc.devRef .tc main_v213) := by
    rw [lv4_out U main_v213 (by decide), lv3_out U main_v213 (by decide), lv2_out U main_v213 (by decide)]
    unfold lv1
    exact kW0_keeps _ main_v213 (by decide)
  rw [e, block0_at, pt0, pt0, cam0]

theorem weights0_at (U : Valuation τ sig (Elt Ideal)) (p : Fin 11700) (c : Fin 6) (s : Fin 4) (g : Fin 8) :
    (after (front (F := Ideal)) U (Proc.devRef .tc main_v918) : FVec Ideal S11700x24x32 .f32) (ix3 p ⟨c.val * 4 + 0, by omega⟩ ⟨s.val * 8 + g.val, by omega⟩)
      = rowW (slots (clampW 174#32 (cellF 0x43300000#32 (ptF (lv0 U) p c 0))) (clampW 62#32 (cellF 0x42800000#32 (ptF (lv0 U) p c 1))) (cellF 0x43300000#32 (ptF (lv0 U) p c 0)) (cellF 0x42800000#32 (ptF (lv0 U) p c 1))) (share4 176#32 64#32 (cellF 0x43300000#32 (ptF (lv0 U) p c 0)) (cellF 0x42800000#32 (ptF (lv0 U) p c 1)) (restF 0x43300000#32 (ptF (lv0 U) p c 0)) (restF 0x42800000#32 (ptF (lv0 U) p c 1))) s
        * (lv0 U (Proc.devRef .tc main_v156) : FVec Ideal S11700x6x4x8 .f32) (ix4 p c 0 g) := by
  refine (stack_v918 U p c 0 s g).trans ((side_v916 _ p c 0 s g).trans ((of4_0 _ _ _ _).trans ?_))
  have e : after kS0 (lv4 U) (Proc.devRef .tc main_v345) = after kW0 (after kI0 (lv0 U)) (Proc.devRef .tc main_v345) := by
    rw [kS0_keeps _ main_v345 (by decide)]
    rw [lv4_out U main_v345 (by decide), lv3_out U main_v345 (by decide), lv2_out U main_v345 (by decide)]
    rfl
  rw [e, weight0_at]
  obtain ⟨h1, h2, h3, h4, h5, h6⟩ := point0_at (lv0 U) p c
  rw [h1, h2, h3, h4, h5, h6, kI0_keeps _ main_v156 (by decide), pt0, pt0]

theorem table0_at (U : Valuation τ sig (Elt F)) (cam : Fin 6) (xc yc : ℕ) (s : Fin 4) (ch : Fin 256) (hx : xc ≤ 174) (hy : yc ≤ 62)
    (r : Fin 87084) (hr : r.val = blockN 0 16896 33600 49968 32 31 88 87 cam.val xc yc) :
    (after front U (Proc.devRef .tc main_v987) : FVec F S87084x1024 .f32) (ix2 r ⟨s.val * 256 + ch.val, by omega⟩)
      = (U (Proc.devRef .tc main_arg4) : FVec F S1x6x256x64x176 .f32) (ix5 0 cam ch ⟨yc + s.val / 2, by omega⟩ ⟨xc + s.val % 2, by omega⟩) := by
  rw [front_eq, kCat_eq]
  unfold blockN at hr
  have ea := mid_arg U main_arg4 (by decide)
  rcases Nat.mod_two_eq_zero_or_one yc with ey | ey <;> rcases Nat.mod_two_eq_zero_or_one xc with ex | ex <;> simp only [ey, ex, if_true, if_false, one_ne_zero, reduceIte] at hr
  · have er : r = ⟨0 + (⟨cam.val * 2816 + (yc / 2 * 88 + xc / 2), by omega⟩ : Fin 16896).val, by show 0 + (cam.val * 2816 + (yc / 2 * 88 + xc / 2)) < 87084; omega⟩ := Fin.ext (by show r.val = 0 + (cam.val * 2816 + (yc / 2 * 88 + xc / 2)); omega)
    rw [er, part0_0_at]
    unfold gs
    rw [kG3_keeps _ main_v923 (by decide), kG2_keeps _ main_v923 (by decide), kG1_keeps _ main_v923 (by decide)]
    refine (seg0_0_at _ cam ⟨yc / 2, by omega⟩ ⟨xc / 2, by omega⟩ s ch).trans ?_
    rw [ea]
    exact congrArg₂ (fun a b => (U (Proc.devRef .tc main_arg4) : FVec F S1x6x256x64x176 .f32) (ix5 0 cam ch a b))
      (Fin.ext (by show 2 * (yc / 2) + 0 + s.val / 2 = yc + s.val / 2; omega)) (Fin.ext (by show 2 * (xc / 2) + 0 + s.val % 2 = xc + s.val % 2; omega))
  · have er : r = ⟨16896 + (⟨cam.val * 2784 + (yc / 2 * 87 + xc / 2), by omega⟩ : Fin 16704).val, by show 16896 + (cam.val * 2784 + (yc / 2 * 87 + xc / 2)) < 87084; omega⟩ := Fin.ext (by show r.val = 16896 + (cam.val * 2784 + (yc / 2 * 87 + xc / 2)); omega)
    rw [er, part0_1_at]
    unfold gs
    rw [kG3_keeps _ main_v927 (by decide), kG2_keeps _ main_v927 (by decide), kG1_keeps _ main_v927 (by decide)]
    refine (seg0_1_at _ cam ⟨yc / 2, by omega⟩ ⟨xc / 2, by omega⟩ s ch).trans ?_
    rw [ea]
    exact congrArg₂ (fun a b => (U (Proc.devRef .tc main_arg4) : FVec F S1x6x256x64x176 .f32) (ix5 0 cam ch a b))
      (Fin.ext (by show 2 * (yc / 2) + 0 + s.val / 2 = yc + s.val / 2; omega)) (Fin.ext (by show 2 * (xc / 2) + 1 + s.val % 2 = xc + s.val % 2; omega))
  · have er : r = ⟨33600 + (⟨cam.val * 2728 + (yc / 2 * 88 + xc / 2), by omega⟩ : Fin 16368).val, by show 33600 + (cam.val * 2728 + (yc / 2 * 88 + xc / 2)) < 87084; omega⟩ := Fin.ext (by show r.val = 33600 + (cam.val * 2728 + (yc / 2 * 88 + xc / 2)); omega)
    rw [er, part0_2_at]
    unfold gs
    rw [kG3_keeps _ main_v931 (by decide), kG2_keeps _ main_v931 (by decide), kG1_keeps _ main_v931 (by decide)]
    refine (seg0_2_at _ cam ⟨yc / 2, by omega⟩ ⟨xc / 2, by omega⟩ s ch).trans ?_
    rw [ea]
    exact congrArg₂ (fun a b => (U (Proc.devRef .tc main_arg4) : FVec F S1x6x256x64x176 .f32) (ix5 0 cam ch a b))
      (Fin.ext (by show 2 * (yc / 2) + 1 + s.val / 2 = yc + s.val / 2; omega)) (Fin.ext (by show 2 * (xc / 2) + 0 + s.val % 2 = xc + s.val % 2; omega))
  · have er : r = ⟨49968 + (⟨cam.val * 2697 + (yc / 2 * 87 + xc / 2), by omega⟩ : Fin 16182).val, by show 49968 + (cam.val * 2697 + (yc / 2 * 87 + xc / 2)) < 87084; omega⟩ := Fin.ext (by show r.val = 49968 + (cam.val * 2697 + (yc / 2 * 87 + xc / 2)); omega)
    rw [er, part0_3_at]
    unfold gs
    rw [kG3_keeps _ main_v935 (by decide), kG2_keeps _ main_v935 (by decide), kG1_keeps _ main_v935 (by decide)]
    refine (seg0_3_at _ cam ⟨yc / 2, by omega⟩ ⟨xc / 2, by omega⟩ s ch).trans ?_
    rw [ea]
    exact congrArg₂ (fun a b => (U (Proc.devRef .tc main_arg4) : FVec F S1x6x256x64x176 .f32) (ix5 0 cam ch a b))
      (Fin.ext (by show 2 * (yc / 2) + 1 + s.val / 2 = yc + s.val / 2; omega)) (Fin.ext (by show 2 * (xc / 2) + 1 + s.val % 2 = xc + s.val % 2; omega))

/-! ## Level 1 -/

theorem blocks1_at (U : Valuation τ sig (Elt F)) (p : Fin 11700) (c : Fin 6) :
    (after front U (Proc.devRef .tc main_v917) : IVec S11700x24 32) (ix2 p ⟨c.val * 4 + 1, by omega⟩)
      = blockW 66150#32 70374#32 74502#32 78462#32 16#32 15#32 44#32 43#32 (camW (lv0 U) c) (clampW 86#32 (cellF 0x42B00000#32 (ptF (lv0 U) p c 0))) (clampW 30#32 (cellF 0x42000000#32 (ptF (lv0 U) p c 1))) := by
  refine (stack_v917 U p c 1).trans ((side_v911 _ p c 1).trans ((of4_1 _ _ _ _).trans ?_))
  have e : lv4 U (Proc.devRef .tc main_v400) = after kI1 (lv1 U) (Proc.devRef .tc main_v400) := by
    rw [lv4_out U main_v400 (by decide), lv3_out U main_v400 (by decide)]
    unfold lv2
    exact kW1_keeps _ main_v400 (by decide)
  rw [e, block1_at, pt1, pt1, cam1]

theorem weights1_at (U : Valuation τ sig (Elt Ideal)) (p : Fin 11700) (c : Fin 6) (s : Fin 4) (g : Fin 8) :
    (after (front (F := Ideal)) U (Proc.devRef .tc main_v918) : FVec Ideal S11700x24x32 .f32) (ix3 p ⟨c.val * 4 + 1, by omega⟩ ⟨s.val * 8 + g.val, by omega⟩)
      = rowW (slots (clampW 86#32 (cellF 0x42B00000#32 (ptF (lv0 U) p c 0))) (clampW 30#32 (cellF 0x42000000#32 (ptF (lv0 U) p c 1))) (cellF 0x42B00000#32 (ptF (lv0 U) p c 0)) (cellF 0x42000000#32 (ptF (lv0 U) p c 1))) (share4 88#32 32#32 (cellF 0x42B00000#32 (ptF (lv0 U) p c 0)) (cellF 0x42000000#32 (ptF (lv0 U) p c 1)) (restF 0x42B00000#32 (ptF (lv0 U) p c 0)) (restF 0x42000000#32 (ptF (lv0 U) p c 1))) s
        * (lv0 U (Proc.devRef .tc main_v156) : FVec Ideal S11700x6x4x8 .f32) (ix4 p c 1 g) := by
  refine (stack_v918 U p c 1 s g).trans ((side_v916 _ p c 1 s g).trans ((of4_1 _ _ _ _).trans ?_))
  have e : after kS0 (lv4 U) (Proc.devRef .tc main_v532) = after kW1 (after kI1 (lv1 U)) (Proc.devRef .tc main_v532) := by
    rw [kS0_keeps _ main_v532 (by decide)]
    rw [lv4_out U main_v532 (by decide), lv3_out U main_v532 (by decide)]
    rfl
  rw [e, weight1_at]
  obtain ⟨h1, h2, h3, h4, h5, h6⟩ := point1_at (lv1 U) p c
  rw [h1, h2, h3, h4, h5, h6, kI1_keeps _ main_v156 (by decide), pt1, pt1]
  rw [lv1_seed U main_v156 (by decide)]

theorem table1_at (U : Valuation τ sig (Elt F)) (cam : Fin 6) (xc yc : ℕ) (s : Fin 4) (ch : Fin 256) (hx : xc ≤ 86) (hy : yc ≤ 30)
    (r : Fin 87084) (hr : r.val = blockN 66150 70374 74502 78462 16 15 44 43 cam.val xc yc) :
    (after front U (Proc.devRef .tc main_v987) : FVec F S87084x1024 .f32) (ix2 r ⟨s.val * 256 + ch.val, by omega⟩)
      = (U (Proc.devRef .tc main_arg5) : FVec F S1x6x256x32x88 .f32) (ix5 0 cam ch ⟨yc + s.val / 2, by omega⟩ ⟨xc + s.val % 2, by omega⟩) := by
  rw [front_eq, kCat_eq]
  unfold blockN at hr
  have ea := mid_arg U main_arg5 (by decide)
  rcases Nat.mod_two_eq_zero_or_one yc with ey | ey <;> rcases Nat.mod_two_eq_zero_or_one xc with ex | ex <;> simp only [ey, ex, if_true, if_false, one_ne_zero, reduceIte] at hr
  · have er : r = ⟨66150 + (⟨cam.val * 704 + (yc / 2 * 44 + xc / 2), by omega⟩ : Fin 4224).val, by show 66150 + (cam.val * 704 + (yc / 2 * 44 + xc / 2)) < 87084; omega⟩ := Fin.ext (by show r.val = 66150 + (cam.val * 704 + (yc / 2 * 44 + xc / 2)); omega)
    rw [er, part1_0_at]
    unfold gs
    rw [kG3_keeps _ main_v940 (by decide), kG2_keeps _ main_v940 (by decide)]
    refine (seg1_0_at _ cam ⟨yc / 2, by omega⟩ ⟨xc / 2, by omega⟩ s ch).trans ?_
    rw [kG0_keeps _ main_arg5 (by decide), ea]
    exact congrArg₂ (fun a b => (U (Proc.devRef .tc main_arg5) : FVec F S1x6x256x32x88 .f32) (ix5 0 cam ch a b))
      (Fin.ext (by show 2 * (yc / 2) + 0 + s.val / 2 = yc + s.val / 2; omega)) (Fin.ext (by show 2 * (xc / 2) + 0 + s.val % 2 = xc + s.val % 2; omega))
  · have er : r = ⟨70374 + (⟨cam.val * 688 + (yc / 2 * 43 + xc / 2), by omega⟩ : Fin 4128).val, by show 70374 + (cam.val * 688 + (yc / 2 * 43 + xc / 2)) < 87084; omega⟩ := Fin.ext (by show r.val = 70374 + (cam.val * 688 + (yc / 2 * 43 + xc / 2)); omega)
    rw [er, part1_1_at]
    unfold gs
    rw [kG3_keeps _ main_v944 (by decide), kG2_keeps _ main_v944 (by decide)]
    refine (seg1_1_at _ cam ⟨yc / 2, by omega⟩ ⟨xc / 2, by omega⟩ s ch).trans ?_
    rw [kG0_keeps _ main_arg5 (by decide), ea]
    exact congrArg₂ (fun a b => (U (Proc.devRef .tc main_arg5) : FVec F S1x6x256x32x88 .f32) (ix5 0 cam ch a b))
      (Fin.ext (by show 2 * (yc / 2) + 0 + s.val / 2 = yc + s.val / 2; omega)) (Fin.ext (by show 2 * (xc / 2) + 1 + s.val % 2 = xc + s.val % 2; omega))
  · have er : r = ⟨74502 + (⟨cam.val * 660 + (yc / 2 * 44 + xc / 2), by omega⟩ : Fin 3960).val, by show 74502 + (cam.val * 660 + (yc / 2 * 44 + xc / 2)) < 87084; omega⟩ := Fin.ext (by show r.val = 74502 + (cam.val * 660 + (yc / 2 * 44 + xc / 2)); omega)
    rw [er, part1_2_at]
    unfold gs
    rw [kG3_keeps _ main_v948 (by decide), kG2_keeps _ main_v948 (by decide)]
    refine (seg1_2_at _ cam ⟨yc / 2, by omega⟩ ⟨xc / 2, by omega⟩ s ch).trans ?_
    rw [kG0_keeps _ main_arg5 (by decide), ea]
    exact congrArg₂ (fun a b => (U (Proc.devRef .tc main_arg5) : FVec F S1x6x256x32x88 .f32) (ix5 0 cam ch a b))
      (Fin.ext (by show 2 * (yc / 2) + 1 + s.val / 2 = yc + s.val / 2; omega)) (Fin.ext (by show 2 * (xc / 2) + 0 + s.val % 2 = xc + s.val % 2; omega))
  · have er : r = ⟨78462 + (⟨cam.val * 645 + (yc / 2 * 43 + xc / 2), by omega⟩ : Fin 3870).val, by show 78462 + (cam.val * 645 + (yc / 2 * 43 + xc / 2)) < 87084; omega⟩ := Fin.ext (by show r.val = 78462 + (cam.val * 645 + (yc / 2 * 43 + xc / 2)); omega)
    rw [er, part1_3_at]
    unfold gs
    rw [kG3_keeps _ main_v952 (by decide), kG2_keeps _ main_v952 (by decide)]
    refine (seg1_3_at _ cam ⟨yc / 2, by omega⟩ ⟨xc / 2, by omega⟩ s ch).trans ?_
    rw [kG0_keeps _ main_arg5 (by decide), ea]
    exact congrArg₂ (fun a b => (U (Proc.devRef .tc main_arg5) : FVec F S1x6x256x32x88 .f32) (ix5 0 cam ch a b))
      (Fin.ext (by show 2 * (yc / 2) + 1 + s.val / 2 = yc + s.val / 2; omega)) (Fin.ext (by show 2 * (xc / 2) + 1 + s.val % 2 = xc + s.val % 2; omega))

/-! ## Level 2 -/

theorem blocks2_at (U : Valuation τ sig (Elt F)) (p : Fin 11700) (c : Fin 6) :
    (after front U (Proc.devRef .tc main_v917) : IVec S11700x24 32) (ix2 p ⟨c.val * 4 + 2, by omega⟩)
      = blockW 82332#32 83388#32 84396#32 85320#32 8#32 7#32 22#32 21#32 (camW (lv0 U) c) (clampW 42#32 (cellF 0x42300000#32 (ptF (lv0 U) p c 0))) (clampW 14#32 (cellF 0x41800000#32 (ptF (lv0 U) p c 1))) := by
  refine (stack_v917 U p c 2).trans ((side_v911 _ p c 2).trans ((of4_2 _ _ _ _).trans ?_))
  have e : lv4 U (Proc.devRef .tc main_v587) = after kI2 (lv2 U) (Proc.devRef .tc main_v587) := by
    rw [lv4_out U main_v587 (by decide)]
    unfold lv3
    exact kW2_keeps _ main_v587 (by decide)
  rw [e, block2_at, pt2, pt2, cam2]

theorem weights2_at (U : Valuation τ sig (Elt Ideal)) (p : Fin 11700) (c : Fin 6) (s : Fin 4) (g : Fin 8) :
    (after (front (F := Ideal)) U (Proc.devRef .tc main_v918) : FVec Ideal S11700x24x32 .f32) (ix3 p ⟨c.val * 4 + 2, by omega⟩ ⟨s.val * 8 + g.val, by omega⟩)
      = rowW (slots (clampW 42#32 (cellF 0x42300000#32 (ptF (lv0 U) p c 0))) (clampW 14#32 (cellF 0x41800000#32 (ptF (lv0 U) p c 1))) (cellF 0x42300000#32 (ptF (lv0 U) p c 0)) (cellF 0x41800000#32 (ptF (lv0 U) p c 1))) (share4 44#32 16#32 (cellF 0x42300000#32 (ptF (lv0 U) p c 0)) (cellF 0x41800000#32 (ptF (lv0 U) p c 1)) (restF 0x42300000#32 (ptF (lv0 U) p c 0)) (restF 0x41800000#32 (ptF (lv0 U) p c 1))) s
        * (lv0 U (Proc.devRef .tc main_v156) : FVec Ideal S11700x6x4x8 .f32) (ix4 p c 2 g) := by
  refine (stack_v918 U p c 2 s g).trans ((side_v916 _ p c 2 s g).trans ((of4_2 _ _ _ _).trans ?_))
  have e : after kS0 (lv4 U) (Proc.devRef .tc main_v719) = after kW2 (after kI2 (lv2 U)) (Proc.devRef .tc main_v719) := by
    rw [kS0_keeps _ main_v719 (by decide)]
    rw [lv4_out U main_v719 (by decide)]
    rfl
  rw [e, weight2_at]
  obtain ⟨h1, h2, h3, h4, h5, h6⟩ := point2_at (lv2 U) p c
  rw [h1, h2, h3, h4, h5, h6, kI2_keeps _ main_v156 (by decide), pt2, pt2]
  rw [lv2_seed U main_v156 (by decide)]

theorem table2_at (U : Valuation τ sig (Elt F)) (cam : Fin 6) (xc yc : ℕ) (s : Fin 4) (ch : Fin 256) (hx : xc ≤ 42) (hy : yc ≤ 14)
    (r : Fin 87084) (hr : r.val = blockN 82332 83388 84396 85320 8 7 22 21 cam.val xc yc) :
    (after front U (Proc.devRef .tc main_v987) : FVec F S87084x1024 .f32) (ix2 r ⟨s.val * 256 + ch.val, by omega⟩)
      = (U (Proc.devRef .tc main_arg6) : FVec F S1x6x256x16x44 .f32) (ix5 0 cam ch ⟨yc + s.val / 2, by omega⟩ ⟨xc + s.val % 2, by omega⟩) := by
  rw [front_eq, kCat_eq]
  unfold blockN at hr
  have ea := mid_arg U main_arg6 (by decide)
  rcases Nat.mod_two_eq_zero_or_one yc with ey | ey <;> rcases Nat.mod_two_eq_zero_or_one xc with ex | ex <;> simp only [ey, ex, if_true, if_false, one_ne_zero, reduceIte] at hr
  · have er : r = ⟨82332 + (⟨cam.val * 176 + (yc / 2 * 22 + xc / 2), by omega⟩ : Fin 1056).val, by show 82332 + (cam.val * 176 + (yc / 2 * 22 + xc / 2)) < 87084; omega⟩ := Fin.ext (by show r.val = 82332 + (cam.val * 176 + (yc / 2 * 22 + xc / 2)); omega)
    rw [er, part2_0_at]
    unfold gs
    rw [kG3_keeps _ main_v957 (by decide)]
    refine (seg2_0_at _ cam ⟨yc / 2, by omega⟩ ⟨xc / 2, by omega⟩ s ch).trans ?_
    rw [kG1_keeps _ main_arg6 (by decide), kG0_keeps _ main_arg6 (by decide), ea]
    exact congrArg₂ (fun a b => (U (Proc.devRef .tc main_arg6) : FVec F S1x6x256x16x44 .f32) (ix5 0 cam ch a b))
      (Fin.ext (by show 2 * (yc / 2) + 0 + s.val / 2 = yc + s.val / 2; omega)) (Fin.ext (by show 2 * (xc / 2) + 0 + s.val % 2 = xc + s.val % 2; omega))
  · have er : r = ⟨83388 + (⟨cam.val * 168 + (yc / 2 * 21 + xc / 2), by omega⟩ : Fin 1008).val, by show 83388 + (cam.val * 168 + (yc / 2 * 21 + xc / 2)) < 87084; omega⟩ := Fin.ext (by show r.val = 83388 + (cam.val * 168 + (yc / 2 * 21 + xc / 2)); omega)
    rw [er, part2_1_at]
    unfold gs
    rw [kG3_keeps _ main_v961 (by decide)]
    refine (seg2_1_at _ cam ⟨yc / 2, by omega⟩ ⟨xc / 2, by omega⟩ s ch).trans ?_
    rw [kG1_keeps _ main_arg6 (by decide), kG0_keeps _ main_arg6 (by decide), ea]
    exact congrArg₂ (fun a b => (U (Proc.devRef .tc main_arg6) : FVec F S1x6x256x16x44 .f32) (ix5 0 cam ch a b))
      (Fin.ext (by show 2 * (yc / 2) + 0 + s.val / 2 = yc + s.val / 2; omega)) (Fin.ext (by show 2 * (xc / 2) + 1 + s.val % 2 = xc + s.val % 2; omega))
  · have er : r = ⟨84396 + (⟨cam.val * 154 + (yc / 2 * 22 + xc / 2), by omega⟩ : Fin 924).val, by show 84396 + (cam.val * 154 + (yc / 2 * 22 + xc / 2)) < 87084; omega⟩ := Fin.ext (by show r.val = 84396 + (cam.val * 154 + (yc / 2 * 22 + xc / 2)); omega)
    rw [er, part2_2_at]
    unfold gs
    rw [kG3_keeps _ main_v965 (by decide)]
    refine (seg2_2_at _ cam ⟨yc / 2, by omega⟩ ⟨xc / 2, by omega⟩ s ch).trans ?_
    rw [kG1_keeps _ main_arg6 (by decide), kG0_keeps _ main_arg6 (by decide), ea]
    exact congrArg₂ (fun a b => (U (Proc.devRef .tc main_arg6) : FVec F S1x6x256x16x44 .f32) (ix5 0 cam ch a b))
      (Fin.ext (by show 2 * (yc / 2) + 1 + s.val / 2 = yc + s.val / 2; omega)) (Fin.ext (by show 2 * (xc / 2) + 0 + s.val % 2 = xc + s.val % 2; omega))
  · have er : r = ⟨85320 + (⟨cam.val * 147 + (yc / 2 * 21 + xc / 2), by omega⟩ : Fin 882).val, by show 85320 + (cam.val * 147 + (yc / 2 * 21 + xc / 2)) < 87084; omega⟩ := Fin.ext (by show r.val = 85320 + (cam.val * 147 + (yc / 2 * 21 + xc / 2)); omega)
    rw [er, part2_3_at]
    unfold gs
    rw [kG3_keeps _ main_v969 (by decide)]
    refine (seg2_3_at _ cam ⟨yc / 2, by omega⟩ ⟨xc / 2, by omega⟩ s ch).trans ?_
    rw [kG1_keeps _ main_arg6 (by decide), kG0_keeps _ main_arg6 (by decide), ea]
    exact congrArg₂ (fun a b => (U (Proc.devRef .tc main_arg6) : FVec F S1x6x256x16x44 .f32) (ix5 0 cam ch a b))
      (Fin.ext (by show 2 * (yc / 2) + 1 + s.val / 2 = yc + s.val / 2; omega)) (Fin.ext (by show 2 * (xc / 2) + 1 + s.val % 2 = xc + s.val % 2; omega))

/-! ## Level 3 -/

theorem blocks3_at (U : Valuation τ sig (Elt F)) (p : Fin 11700) (c : Fin 6) :
    (after front U (Proc.devRef .tc main_v917) : IVec S11700x24 32) (ix2 p ⟨c.val * 4 + 3, by omega⟩)
      = blockW 86202#32 86466#32 86706#32 86904#32 4#32 3#32 11#32 10#32 (camW (lv0 U) c) (clampW 20#32 (cellF 0x41B00000#32 (ptF (lv0 U) p c 0))) (clampW 6#32 (cellF 0x41000000#32 (ptF (lv0 U) p c 1))) := by
  refine (stack_v917 U p c 3).trans ((side_v911 _ p c 3).trans ((of4_3 _ _ _ _).trans ?_))
  have e : lv4 U (Proc.devRef .tc main_v774) = after kI3 (lv3 U) (Proc.devRef .tc main_v774) := by
    unfold lv4
    exact kW3_keeps _ main_v774 (by decide)
  rw [e, block3_at, pt3, pt3, cam3]

theorem weights3_at (U : Valuation τ sig (Elt Ideal)) (p : Fin 11700) (c : Fin 6) (s : Fin 4) (g : Fin 8) :
    (after (front (F := Ideal)) U (Proc.devRef .tc main_v918) : FVec Ideal S11700x24x32 .f32) (ix3 p ⟨c.val * 4 + 3, by omega⟩ ⟨s.val * 8 + g.val, by omega⟩)
      = rowW (slots (clampW 20#32 (cellF 0x41B00000#32 (ptF (lv0 U) p c 0))) (clampW 6#32 (cellF 0x41000000#32 (ptF (lv0 U) p c 1))) (cellF 0x41B00000#32 (ptF (lv0 U) p c 0)) (cellF 0x41000000#32 (ptF (lv0 U) p c 1))) (share4 22#32 8#32 (cellF 0x41B00000#32 (ptF (lv0 U) p c 0)) (cellF 0x41000000#32 (ptF (lv0 U) p c 1)) (restF 0x41B00000#32 (ptF (lv0 U) p c 0)) (restF 0x41000000#32 (ptF (lv0 U) p c 1))) s
        * (lv0 U (Proc.devRef .tc main_v156) : FVec Ideal S11700x6x4x8 .f32) (ix4 p c 3 g) := by
  refine (stack_v918 U p c 3 s g).trans ((side_v916 _ p c 3 s g).trans ((of4_3 _ _ _ _).trans ?_))
  have e : after kS0 (lv4 U) (Proc.devRef .tc main_v906) = after kW3 (after kI3 (lv3 U)) (Proc.devRef .tc main_v906) := by
    rw [kS0_keeps _ main_v906 (by decide)]
    rfl
  rw [e, weight3_at]
  obtain ⟨h1, h2, h3, h4, h5, h6⟩ := point3_at (lv3 U) p c
  rw [h1, h2, h3, h4, h5, h6, kI3_keeps _ main_v156 (by decide), pt3, pt3]
  rw [lv3_seed U main_v156 (by decide)]

theorem table3_at (U : Valuation τ sig (Elt F)) (cam : Fin 6) (xc yc : ℕ) (s : Fin 4) (ch : Fin 256) (hx : xc ≤ 20) (hy : yc ≤ 6)
    (r : Fin 87084) (hr : r.val = blockN 86202 86466 86706 86904 4 3 11 10 cam.val xc yc) :
    (after front U (Proc.devRef .tc main_v987) : FVec F S87084x1024 .f32) (ix2 r ⟨s.val * 256 + ch.val, by omega⟩)
      = (U (Proc.devRef .tc main_arg7) : FVec F S1x6x256x8x22 .f32) (ix5 0 cam ch ⟨yc + s.val / 2, by omega⟩ ⟨xc + s.val % 2, by omega⟩) := by
  rw [front_eq, kCat_eq]
  unfold blockN at hr
  have ea := mid_arg U main_arg7 (by decide)
  rcases Nat.mod_two_eq_zero_or_one yc with ey | ey <;> rcases Nat.mod_two_eq_zero_or_one xc with ex | ex <;> simp only [ey, ex, if_true, if_false, one_ne_zero, reduceIte] at hr
  · have er : r = ⟨86202 + (⟨cam.val * 44 + (yc / 2 * 11 + xc / 2), by omega⟩ : Fin 264).val, by show 86202 + (cam.val * 44 + (yc / 2 * 11 + xc / 2)) < 87084; omega⟩ := Fin.ext (by show r.val = 86202 + (cam.val * 44 + (yc / 2 * 11 + xc / 2)); omega)
    rw [er, part3_0_at]
    unfold gs
    refine (seg3_0_at _ cam ⟨yc / 2, by omega⟩ ⟨xc / 2, by omega⟩ s ch).trans ?_
    rw [kG2_keeps _ main_arg7 (by decide), kG1_keeps _ main_arg7 (by decide), kG0_keeps _ main_arg7 (by decide), ea]
    exact congrArg₂ (fun a b => (U (Proc.devRef .tc main_arg7) : FVec F S1x6x256x8x22 .f32) (ix5 0 cam ch a b))
      (Fin.ext (by show 2 * (yc / 2) + 0 + s.val / 2 = yc + s.val / 2; omega)) (Fin.ext (by show 2 * (xc / 2) + 0 + s.val % 2 = xc + s.val % 2; omega))
  · have er : r = ⟨86466 + (⟨cam.val * 40 + (yc / 2 * 10 + xc / 2), by omega⟩ : Fin 240).val, by show 86466 + (cam.val * 40 + (yc / 2 * 10 + xc / 2)) < 87084; omega⟩ := Fin.ext (by show r.val = 86466 + (cam.val * 40 + (yc / 2 * 10 + xc / 2)); omega)
    rw [er, part3_1_at]
    unfold gs
    refine (seg3_1_at _ cam ⟨yc / 2, by omega⟩ ⟨xc / 2, by omega⟩ s ch).trans ?_
    rw [kG2_keeps _ main_arg7 (by decide), kG1_keeps _ main_arg7 (by decide), kG0_keeps _ main_arg7 (by decide), ea]
    exact congrArg₂ (fun a b => (U (Proc.devRef .tc main_arg7) : FVec F S1x6x256x8x22 .f32) (ix5 0 cam ch a b))
      (Fin.ext (by show 2 * (yc / 2) + 0 + s.val / 2 = yc + s.val / 2; omega)) (Fin.ext (by show 2 * (xc / 2) + 1 + s.val % 2 = xc + s.val % 2; omega))
  · have er : r = ⟨86706 + (⟨cam.val * 33 + (yc / 2 * 11 + xc / 2), by omega⟩ : Fin 198).val, by show 86706 + (cam.val * 33 + (yc / 2 * 11 + xc / 2)) < 87084; omega⟩ := Fin.ext (by show r.val = 86706 + (cam.val * 33 + (yc / 2 * 11 + xc / 2)); omega)
    rw [er, part3_2_at]
    unfold gs
    refine (seg3_2_at _ cam ⟨yc / 2, by omega⟩ ⟨xc / 2, by omega⟩ s ch).trans ?_
    rw [kG2_keeps _ main_arg7 (by decide), kG1_keeps _ main_arg7 (by decide), kG0_keeps _ main_arg7 (by decide), ea]
    exact congrArg₂ (fun a b => (U (Proc.devRef .tc main_arg7) : FVec F S1x6x256x8x22 .f32) (ix5 0 cam ch a b))
      (Fin.ext (by show 2 * (yc / 2) + 1 + s.val / 2 = yc + s.val / 2; omega)) (Fin.ext (by show 2 * (xc / 2) + 0 + s.val % 2 = xc + s.val % 2; omega))
  · have er : r = ⟨86904 + (⟨cam.val * 30 + (yc / 2 * 10 + xc / 2), by omega⟩ : Fin 180).val, by show 86904 + (cam.val * 30 + (yc / 2 * 10 + xc / 2)) < 87084; omega⟩ := Fin.ext (by show r.val = 86904 + (cam.val * 30 + (yc / 2 * 10 + xc / 2)); omega)
    rw [er, part3_3_at]
    unfold gs
    refine (seg3_3_at _ cam ⟨yc / 2, by omega⟩ ⟨xc / 2, by omega⟩ s ch).trans ?_
    rw [kG2_keeps _ main_arg7 (by decide), kG1_keeps _ main_arg7 (by decide), kG0_keeps _ main_arg7 (by decide), ea]
    exact congrArg₂ (fun a b => (U (Proc.devRef .tc main_arg7) : FVec F S1x6x256x8x22 .f32) (ix5 0 cam ch a b))
      (Fin.ext (by show 2 * (yc / 2) + 1 + s.val / 2 = yc + s.val / 2; omega)) (Fin.ext (by show 2 * (xc / 2) + 1 + s.val % 2 = xc + s.val % 2; omega))

end Cert.Proof.Agg

end
-- ==== Proof.Numbers.lean ====
/-
  The block number of every level, as a number, and that it names a row of the table.
-/
module

public import proofs.«01_k».proof.Proof.KFront

@[expose] public section

noncomputable section

namespace Cert.Proof.Agg

open Cert.KernelIdeal Cert.KernelIdeal.Gen Cert.Proof.Lvl
open Idealize.ShloMosaic
open Idealize.ShloMosaic.StableHlo

variable {F : FTy → Type} [FloatOps F]

/-- The word of a block that is below a bound is its number. -/
theorem word_block (b00 b01 b10 b11 bh0 bh1 bw0 bw1 cam n m : ℕ) (hn : n < 2 ^ 31) (hm : m < 2 ^ 31) (X Y : BitVec 32) (N : ℕ) (hN : N ≤ 2 ^ 32)
    (hb : blockN b00 b01 b10 b11 bh0 bh1 bw0 bw1 cam (clampN n X) (clampN m Y) < N) :
    (blockW (BitVec.ofNat 32 b00) (BitVec.ofNat 32 b01) (BitVec.ofNat 32 b10) (BitVec.ofNat 32 b11) (BitVec.ofNat 32 bh0) (BitVec.ofNat 32 bh1)
        (BitVec.ofNat 32 bw0) (BitVec.ofNat 32 bw1) (BitVec.ofNat 32 cam) (clampW (BitVec.ofNat 32 n) X) (clampW (BitVec.ofNat 32 m) Y)).toNat
      = blockN b00 b01 b10 b11 bh0 bh1 bw0 bw1 cam (clampN n X) (clampN m Y) := by
  rw [clampW_eq n hn, clampW_eq m hm, blockW_eq _ _ _ _ _ _ _ _ _ _ _ (lt_of_le_of_lt (clampN_le n X) hn) (lt_of_le_of_lt (clampN_le m Y) hm), BitVec.toNat_ofNat]
  exact Nat.mod_eq_of_lt (by omega)

theorem bound0 (cam xc yc : ℕ) (hc : cam < 6) (hx : xc ≤ 174) (hy : yc ≤ 62) : blockN 0 16896 33600 49968 32 31 88 87 cam xc yc < 87084 := by
  unfold blockN
  split <;> split <;> omega

/-- The block number of level 0. -/
theorem number0 (U : Valuation τ sig (Elt F)) (hcam : ∀ c, camW (lv0 U) c = BitVec.ofNat 32 c.val) (p : Fin 11700) (c : Fin 6) :
    ((after front U (Proc.devRef .tc main_v917) : IVec S11700x24 32) (ix2 p ⟨c.val * 4 + 0, by omega⟩)).toNat
      = blockN 0 16896 33600 49968 32 31 88 87 c.val (clampN 174 (cellF 0x43300000#32 (ptF (lv0 U) p c 0))) (clampN 62 (cellF 0x42800000#32 (ptF (lv0 U) p c 1))) := by
  rw [blocks0_at, hcam]
  exact word_block 0 16896 33600 49968 32 31 88 87 c.val 174 62 (by norm_num) (by norm_num) _ _ 87084 (by norm_num) (bound0 _ _ _ c.isLt (clampN_le _ _) (clampN_le _ _))

theorem bound1 (cam xc yc : ℕ) (hc : cam < 6) (hx : xc ≤ 86) (hy : yc ≤ 30) : blockN 66150 70374 74502 78462 16 15 44 43 cam xc yc < 87084 := by
  unfold blockN
  split <;> split <;> omega

/-- The block number of level 1. -/
theorem number1 (U : Valuation τ sig (Elt F)) (hcam : ∀ c, camW (lv0 U) c = BitVec.ofNat 32 c.val) (p : Fin 11700) (c : Fin 6) :
    ((after front U (Proc.devRef .tc main_v917) : IVec S11700x24 32) (ix2 p ⟨c.val * 4 + 1, by omega⟩)).toNat
      = blockN 66150 70374 74502 78462 16 15 44 43 c.val (clampN 86 (cellF 0x42B00000#32 (ptF (lv0 U) p c 0))) (clampN 30 (cellF 0x42000000#32 (ptF (lv0 U) p c 1))) := by
  rw [blocks1_at, hcam]
  exact word_block 66150 70374 74502 78462 16 15 44 43 c.val 86 30 (by norm_num) (by norm_num) _ _ 87084 (by norm_num) (bound1 _ _ _ c.isLt (clampN_le _ _) (clampN_le _ _))

theorem bound2 (cam xc yc : ℕ) (hc : cam < 6) (hx : xc ≤ 42) (hy : yc ≤ 14) : blockN 82332 83388 84396 85320 8 7 22 21 cam xc yc < 87084 := by
  unfold blockN
  split <;> split <;> omega

/-- The block number of level 2. -/
theorem number2 (U : Valuation τ sig (Elt F)) (hcam : ∀ c, camW (lv0 U) c = BitVec.ofNat 32 c.val) (p : Fin 11700) (c : Fin 6) :
    ((after front U (Proc.devRef .tc main_v917) : IVec S11700x24 32) (ix2 p ⟨c.val * 4 + 2, by omega⟩)).toNat
      = blockN 82332 83388 84396 85320 8 7 22 21 c.val (clampN 42 (cellF 0x42300000#32 (ptF (lv0 U) p c 0))) (clampN 14 (cellF 0x41800000#32 (ptF (lv0 U) p c 1))) := by
  rw [blocks2_at, hcam]
  exact word_block 82332 83388 84396 85320 8 7 22 21 c.val 42 14 (by norm_num) (by norm_num) _ _ 87084 (by norm_num) (bound2 _ _ _ c.isLt (clampN_le _ _) (clampN_le _ _))

theorem bound3 (cam xc yc : ℕ) (hc : cam < 6) (hx : xc ≤ 20) (hy : yc ≤ 6) : blockN 86202 86466 86706 86904 4 3 11 10 cam xc yc < 87084 := by
  unfold blockN
  split <;> split <;> omega

/-- The block number of level 3. -/
theorem number3 (U : Valuation τ sig (Elt F)) (hcam : ∀ c, camW (lv0 U) c = BitVec.ofNat 32 c.val) (p : Fin 11700) (c : Fin 6) :
    ((after front U (Proc.devRef .tc main_v917) : IVec S11700x24 32) (ix2 p ⟨c.val * 4 + 3, by omega⟩)).toNat
      = blockN 86202 86466 86706 86904 4 3 11 10 c.val (clampN 20 (cellF 0x41B00000#32 (ptF (lv0 U) p c 0))) (clampN 6 (cellF 0x41000000#32 (ptF (lv0 U) p c 1))) := by
  rw [blocks3_at, hcam]
  exact word_block 86202 86466 86706 86904 4 3 11 10 c.val 20 6 (by norm_num) (by norm_num) _ _ 87084 (by norm_num) (bound3 _ _ _ c.isLt (clampN_le _ _) (clampN_le _ _))

/-- Every block number names a row of the table. -/
theorem number_lt (U : Valuation τ sig (Elt F)) (hcam : ∀ c, camW (lv0 U) c = BitVec.ofNat 32 c.val) (i : S11700x24.Idx) :
    ((after front U (Proc.devRef .tc main_v917) : IVec S11700x24 32) i).toNat < 87084 := by
  obtain ⟨p, t, rfl⟩ : ∃ (p : Fin 11700) (t : Fin 24), i = ix2 p t := ⟨i 0, i 1, funext fun (b : Fin 2) => match b with | 0 => rfl | 1 => rfl⟩
  obtain ⟨c, l, hl, e⟩ : ∃ (c : Fin 6) (l : ℕ) (hl : l < 4), t = ⟨c.val * 4 + l, by omega⟩ :=
    ⟨⟨t.val / 4, by omega⟩, t.val % 4, Nat.mod_lt _ (by decide), Fin.ext (by show t.val = t.val / 4 * 4 + t.val % 4; omega)⟩
  subst e
  rcases (by omega : l = 0 ∨ l = 1 ∨ l = 2 ∨ l = 3) with rfl | rfl | rfl | rfl
  · exact lt_of_eq_of_lt (number0 U hcam p c) (bound0 _ _ _ c.isLt (clampN_le _ _) (clampN_le _ _))
  · exact lt_of_eq_of_lt (number1 U hcam p c) (bound1 _ _ _ c.isLt (clampN_le _ _) (clampN_le _ _))
  · exact lt_of_eq_of_lt (number2 U hcam p c) (bound2 _ _ _ c.isLt (clampN_le _ _) (clampN_le _ _))
  · exact lt_of_eq_of_lt (number3 U hcam p c) (bound3 _ _ _ c.isLt (clampN_le _ _) (clampN_le _ _))

end Cert.Proof.Agg

end
-- ==== Proof.Join.lean ====
/-
  One level at one sample point and camera: the four rows of the block that is read, each weighted by what falls on
  it, sum to the four corners' pixels, each weighted by its share.
-/
module

public import proofs.«01_k».proof.Proof.Words
public import proofs.«01_k».proof.Proof.Mix
public import proofs.«01_k».proof.Proof.Reals
public import proofs.«01_k».proof.Proof.Level

@[expose] public section

noncomputable section

namespace Cert.Proof.Lvl

open Idealize.ShloMosaic

/-- A corner's share is not negative. -/
theorem share4_nonneg (w h X Y : BitVec 32) (x y : EReal) (hx : IsReal x) (hy : IsReal y) (k : Fin 4) : 0 ≤ share4 w h X Y (fracE x) (fracE y) k := by
  unfold share4
  rcases bitE_cases (validW w h (cornW X (stepX k)) (cornW Y (stepY k))) with e | e <;> rw [e]
  · rw [mul_zero]
  · rw [mul_one]; exact cornE_nonneg x y hx hy k

theorem step_le (k : Fin 4) : stepX k ≤ 1 ∧ stepY k ≤ 1 := by revert k; decide

/-- The rows of the block, weighted, are the corners, weighted: a corner inside the map is one of the block's four pixels, and a
corner outside the map counts for nothing. -/
theorem join (h w : ℕ) (hh : h < 2 ^ 30) (hw : w < 2 ^ 30) (X Y : BitVec 32) (x y : EReal) (hx : IsReal x) (hy : IsReal y)
    (row seen : Fin 4 → EReal) (q : EReal) (h0 : 0 ≤ q) (h1 : q ≠ ⊤)
    (agree : ∀ k s : Fin 4, 0 ≤ (cornW X (stepX k)).toInt → 0 ≤ (cornW Y (stepY k)).toInt →
      (cornW X (stepX k)).toInt.toNat = clampN w X + s.val % 2 → (cornW Y (stepY k)).toInt.toNat = clampN h Y + s.val / 2 → row s = seen k) :
    ∑ s : Fin 4, row s * (rowW (slots (clampW (BitVec.ofNat 32 w) X) (clampW (BitVec.ofNat 32 h) Y) X Y)
        (share4 (BitVec.ofNat 32 (w + 2)) (BitVec.ofNat 32 (h + 2)) X Y (fracE x) (fracE y)) s * q)
      = (0 + ∑ k : Fin 4, seen k * share4 (BitVec.ofNat 32 (w + 2)) (BitVec.ofNat 32 (h + 2)) X Y (fracE x) (fracE y) k) * q := by
  refine mix row seen _ _ q (share4_nonneg _ _ X Y x y hx hy) (fun k => ?_) h0 h1
  rcases validW_cases (w + 2) (h + 2) (by omega) (by omega) (cornW X (stepX k)) (cornW Y (stepY k)) with e | ⟨_, ⟨a0, a1⟩, b0, b1⟩
  · left
    unfold share4
    rw [e, bitE_zero, mul_zero]
  · right
    obtain ⟨jx, ex, ex'⟩ := corner_axis w hw X (stepX k) (step_le k).1 a0 a1
    obtain ⟨jy, ey, ey'⟩ := corner_axis h hh Y (stepY k) (step_le k).2 b0 b1
    refine ⟨⟨jy.val * 2 + jx.val, by omega⟩, ?_, agree k _ a0 b0 ?_ ?_⟩
    · unfold slots
      rw [clampW_eq w (by omega), clampW_eq h (by omega)]
      exact slotW_eq _ _ _ _ jx jy ex ey
    · refine ex'.symm.trans (congrArg (clampN w X + ·) ?_)
      show jx.val = (jy.val * 2 + jx.val) % 2
      omega
    · refine ey'.symm.trans (congrArg (clampN h Y + ·) ?_)
      show jy.val = (jy.val * 2 + jx.val) / 2
      omega

end Cert.Proof.Lvl

end
-- ==== Proof.ROps.lean ====
/-
  The reference's operations, in order, as the program prints them.
-/
module

public import proofs.«01_k».proof.Proof.Gen.ReferenceIdeal
public import Idealize.ShloMosaic.Lib.StableHlo.Run

@[expose] public section

noncomputable section

namespace Cert.Proof.Ref

open Cert.ReferenceIdeal Cert.ReferenceIdeal.Gen
open Idealize.ShloMosaic
open Idealize.ShloMosaic.StableHlo

variable {F : FTy → Type} [FloatOps F]

/-- The contents of an array. -/
abbrev Arr (F : FTy → Type) (S : Shape) (e : EltTy) : Type := (⟨S, e⟩ : BufTy).Contents (Elt F)

def r00 : List (HloOp τ sig (Elt F)) := [
  nullary main_cst (fun i => FloatOps.ofBits .f32 (lit0 (S7x3.rowMajor i))),
  unary main_cst main_v0 (broadcastInDim S1x1x7x3 ![2, 3] bcast_S7x3_S1x1x7x3_2_3 : Arr F S7x3 .f32 → Arr F S1x1x7x3 .f32),
  reshape main_v0 main_v1 (rfl : (.f32 : EltTy) = .f32) shapeCasts_S1x1x7x3_S1x1x1x1x1x7x1x3,
  unary main_v1 main_v2 (broadcastInDim S1x1x900x1x1x7x1x3 ![0, 1, 2, 3, 4, 5, 6, 7] bcast_S1x1x1x1x1x7x1x3_S1x1x900x1x1x7x1x3_0_1_2_3_4_5_6_7 : Arr F S1x1x1x1x1x7x1x3 .f32 → Arr F S1x1x900x1x1x7x1x3 .f32),
  reshape main_v2 main_v3 (rfl : (.f32 : EltTy) = .f32) shapeCasts_S1x1x900x1x1x7x1x3_S1x900x7x3,
  binary main_arg1 main_arg10 main_v4 ((fun l r => Host.dotGeneral dot_S1x900x256_S256x18_S1x900x18_2_0_01_1_n_n none l r) : Arr F S1x900x256 .f32 → Arr F S256x18 .f32 → Arr F S1x900x18 .f32),
  unary main_arg11 main_v5 (broadcastInDim S1x1x18 ![2] bcast_S18_S1x1x18_2 : Arr F S18 .f32 → Arr F S1x1x18 .f32),
  unary main_v5 main_v6 (broadcastInDim S1x900x18 ![0, 1, 2] bcast_S1x1x18_S1x900x18_0_1_2 : Arr F S1x1x18 .f32 → Arr F S1x900x18 .f32),
  binary main_v4 main_v6 main_v7 (addf : Arr F S1x900x18 .f32 → Arr F S1x900x18 .f32 → Arr F S1x900x18 .f32),
  reshape main_v7 main_v8 (rfl : (.f32 : EltTy) = .f32) shapeCasts_S1x900x18_S1x900x6x3,
  nullary main_cst_0 (constant S_ .f32 0xC1135C29#32),
  nullary main_cst_1 (constant S_ .f32 0x41135C29#32),
  TRef.unary (.of (T := ⟨S_, .f32⟩) main_cst_0) (.of (T := ⟨S_, .f32⟩) main_call0_v0) id,
  TRef.unary (.of (T := ⟨S_, .f32⟩) main_call0_v0) (.of (T := ⟨S1x900x6x3, .f32⟩) main_call0_v1) (broadcastInDim S1x900x6x3 ![] bcast_S_S1x900x6x3),
  TRef.binary (.of (T := ⟨S1x900x6x3, .f32⟩) main_call0_v1) (.of (T := ⟨S1x900x6x3, .f32⟩) main_v8) (.of (T := ⟨S1x900x6x3, .f32⟩) main_call0_v2) maximumf,
  TRef.unary (.of (T := ⟨S_, .f32⟩) main_cst_1) (.of (T := ⟨S_, .f32⟩) main_call0_v3) id,
  TRef.unary (.of (T := ⟨S_, .f32⟩) main_call0_v3) (.of (T := ⟨S1x900x6x3, .f32⟩) main_call0_v4) (broadcastInDim S1x900x6x3 ![] bcast_S_S1x900x6x3),
  TRef.binary (.of (T := ⟨S1x900x6x3, .f32⟩) main_call0_v4) (.of (T := ⟨S1x900x6x3, .f32⟩) main_call0_v2) (.of (T := ⟨S1x900x6x3, .f32⟩) main_v9) minimumf,
  unary main_v9 main_v10 (Host.negf : Arr F S1x900x6x3 .f32 → Arr F S1x900x6x3 .f32),
  unary main_v10 main_v11 (Host.exp : Arr F S1x900x6x3 .f32 → Arr F S1x900x6x3 .f32),
  nullary main_cst_2 (constant S_ .f32 0x3F800000#32),
  unary main_cst_2 main_v12 (broadcastInDim S1x900x6x3 ![] bcast_S_S1x900x6x3 : Arr F S_ .f32 → Arr F S1x900x6x3 .f32),
  binary main_v12 main_v11 main_v13 (addf : Arr F S1x900x6x3 .f32 → Arr F S1x900x6x3 .f32 → Arr F S1x900x6x3 .f32),
  nullary main_cst_3 (constant S_ .f32 0x3F800000#32),
  unary main_cst_3 main_v14 (broadcastInDim S1x900x6x3 ![] bcast_S_S1x900x6x3 : Arr F S_ .f32 → Arr F S1x900x6x3 .f32),
  binary main_v14 main_v13 main_v15 (Host.divf : Arr F S1x900x6x3 .f32 → Arr F S1x900x6x3 .f32 → Arr F S1x900x6x3 .f32),
  nullary main_cst_4 (constant S_ .f32 0x3F000000#32),
  unary main_cst_4 main_v16 (broadcastInDim S1x900x6x3 ![] bcast_S_S1x900x6x3 : Arr F S_ .f32 → Arr F S1x900x6x3 .f32),
  binary main_v15 main_v16 main_v17 (subf : Arr F S1x900x6x3 .f32 → Arr F S1x900x6x3 .f32 → Arr F S1x900x6x3 .f32),
  binary main_v3 main_v17 main_v18 ((fun a b => concatenate S1x900x13x3 2 [⟨S1x900x7x3, a⟩, ⟨S1x900x6x3, b⟩] concatenates_S1x900x7x3_S1x900x6x3_S1x900x13x3_d2) : Arr F S1x900x7x3 .f32 → Arr F S1x900x6x3 .f32 → Arr F S1x900x13x3 .f32),
  unary main_arg2 main_v19 ((extractStridedSlice S1x900x3 ![0, 0, 3] · slices_S1x900x11_S1x900x3_0_0_3) : Arr F S1x900x11 .f32 → Arr F S1x900x3 .f32),
  unary main_v19 main_v20 (broadcastInDim S1x900x1x3 ![0, 1, 3] bcast_S1x900x3_S1x900x1x3_0_1_3 : Arr F S1x900x3 .f32 → Arr F S1x900x1x3 .f32),
  unary main_v20 main_v21 (broadcastInDim S1x900x13x3 ![0, 1, 2, 3] bcast_S1x900x1x3_S1x900x13x3_0_1_2_3 : Arr F S1x900x1x3 .f32 → Arr F S1x900x13x3 .f32),
  binary main_v18 main_v21 main_v22 (mulf : Arr F S1x900x13x3 .f32 → Arr F S1x900x13x3 .f32 → Arr F S1x900x13x3 .f32),
  unary main_arg2 main_v23 ((extractStridedSlice S1x900x4 ![0, 0, 6] · slices_S1x900x11_S1x900x4_0_0_6) : Arr F S1x900x11 .f32 → Arr F S1x900x4 .f32),
  TRef.binary (.of (T := ⟨S1x900x4, .f32⟩) main_v23) (.of (T := ⟨S1x900x4, .f32⟩) main_v23) (.of (T := ⟨S1x900x4, .f32⟩) main_call1_v0) mulf,
  TRef.nullary (.of (T := ⟨S_, .f32⟩) main_call1_cst) (constant S_ .f32 0x00000000#32),
  TRef.binary (.of (T := ⟨S1x900x4, .f32⟩) main_call1_v0) (.of (T := ⟨S_, .f32⟩) main_call1_cst) (.of (T := ⟨S1x900, .f32⟩) main_call1_v1) (fun x v => Host.reduceAdd x v reducesTo_S1x900x4_S1x900_d2 h_S_),
  TRef.unary (.of (T := ⟨S1x900, .f32⟩) main_call1_v1) (.of (T := ⟨S1x900x1, .f32⟩) main_call1_v2) (broadcastInDim S1x900x1 ![0, 1] bcast_S1x900_S1x900x1_0_1),
  TRef.unary (.of (T := ⟨S1x900x1, .f32⟩) main_call1_v2) (.of (T := ⟨S1x900x1, .f32⟩) main_v24) Host.sqrt,
  nullary main_cst_5 (constant S_ .f32 0x322BCC77#32),
  unary main_cst_5 main_v25 (broadcastInDim S1x900x1 ![] bcast_S_S1x900x1 : Arr F S_ .f32 → Arr F S1x900x1 .f32),
  binary main_v24 main_v25 main_v26 (maximumf : Arr F S1x900x1 .f32 → Arr F S1x900x1 .f32 → Arr F S1x900x1 .f32),
  unary main_v26 main_v27 (broadcastInDim S1x900x4 ![0, 1, 2] bcast_S1x900x1_S1x900x4_0_1_2 : Arr F S1x900x1 .f32 → Arr F S1x900x4 .f32),
  binary main_v23 main_v27 main_v28 (Host.divf : Arr F S1x900x4 .f32 → Arr F S1x900x4 .f32 → Arr F S1x900x4 .f32),
  unary main_v28 main_v29 ((extractStridedSlice S1x900x1 ![0, 0, 0] · slices_S1x900x4_S1x900x1_0_0_0) : Arr F S1x900x4 .f32 → Arr F S1x900x1 .f32),
  reshape main_v29 main_v30 (rfl : (.f32 : EltTy) = .f32) shapeCasts_S1x900x1_S1x900,
  unary main_v28 main_v31 ((extractStridedSlice S1x900x1 ![0, 0, 1] · slices_S1x900x4_S1x900x1_0_0_1) : Arr F S1x900x4 .f32 → Arr F S1x900x1 .f32),
  reshape main_v31 main_v32 (rfl : (.f32 : EltTy) = .f32) shapeCasts_S1x900x1_S1x900,
  unary main_v28 main_v33 ((extractStridedSlice S1x900x1 ![0, 0, 2] · slices_S1x900x4_S1x900x1_0_0_2) : Arr F S1x900x4 .f32 → Arr F S1x900x1 .f32),
  reshape main_v33 main_v34 (rfl : (.f32 : EltTy) = .f32) shapeCasts_S1x900x1_S1x900,
  unary main_v28 main_v35 ((extractStridedSlice S1x900x1 ![0, 0, 3] · slices_S1x900x4_S1x900x1_0_0_3) : Arr F S1x900x4 .f32 → Arr F S1x900x1 .f32),
  reshape main_v35 main_v36 (rfl : (.f32 : EltTy) = .f32) shapeCasts_S1x900x1_S1x900,
  binary main_v34 main_v34 main_v37 (mulf : Arr F S1x900 .f32 → Arr F S1x900 .f32 → Arr F S1x900 .f32),
  binary main_v36 main_v36 main_v38 (mulf : Arr F S1x900 .f32 → Arr F S1x900 .f32 → Arr F S1x900 .f32),
  binary main_v37 main_v38 main_v39 (addf : Arr F S1x900 .f32 → Arr F S1x900 .f32 → Arr F S1x900 .f32),
  nullary main_cst_6 (constant S_ .f32 0x40000000#32),
  unary main_cst_6 main_v40 (broadcastInDim S1x900 ![] bcast_S_S1x900 : Arr F S_ .f32 → Arr F S1x900 .f32),
  binary main_v40 main_v39 main_v41 (mulf : Arr F S1x900 .f32 → Arr F S1x900 .f32 → Arr F S1x900 .f32),
  nullary main_cst_7 (constant S_ .f32 0x3F800000#32),
  unary main_cst_7 main_v42 (broadcastInDim S1x900 ![] bcast_S_S1x900 : Arr F S_ .f32 → Arr F S1x900 .f32),
  binary main_v42 main_v41 main_v43 (subf : Arr F S1x900 .f32 → Arr F S1x900 .f32 → Arr F S1x900 .f32),
  binary main_v32 main_v34 main_v44 (mulf : Arr F S1x900 .f32 → Arr F S1x900 .f32 → Arr F S1x900 .f32),
  binary main_v30 main_v36 main_v45 (mulf : Arr F S1x900 .f32 → Arr F S1x900 .f32 → Arr F S1x900 .f32),
  binary main_v44 main_v45 main_v46 (subf : Arr F S1x900 .f32 → Arr F S1x900 .f32 → Arr F S1x900 .f32),
  nullary main_cst_8 (constant S_ .f32 0x40000000#32),
  unary main_cst_8 main_v47 (broadcastInDim S1x900 ![] bcast_S_S1x900 : Arr F S_ .f32 → Arr F S1x900 .f32),
  binary main_v47 main_v46 main_v48 (mulf : Arr F S1x900 .f32 → Arr F S1x900 .f32 → Arr F S1x900 .f32),
  binary main_v32 main_v36 main_v49 (mulf : Arr F S1x900 .f32 → Arr F S1x900 .f32 → Arr F S1x900 .f32)]

def r01 : List (HloOp τ sig (Elt F)) := [
  binary main_v30 main_v34 main_v50 (mulf : Arr F S1x900 .f32 → Arr F S1x900 .f32 → Arr F S1x900 .f32),
  binary main_v49 main_v50 main_v51 (addf : Arr F S1x900 .f32 → Arr F S1x900 .f32 → Arr F S1x900 .f32),
  nullary main_cst_9 (constant S_ .f32 0x40000000#32),
  unary main_cst_9 main_v52 (broadcastInDim S1x900 ![] bcast_S_S1x900 : Arr F S_ .f32 → Arr F S1x900 .f32),
  binary main_v52 main_v51 main_v53 (mulf : Arr F S1x900 .f32 → Arr F S1x900 .f32 → Arr F S1x900 .f32),
  binary main_v32 main_v34 main_v54 (mulf : Arr F S1x900 .f32 → Arr F S1x900 .f32 → Arr F S1x900 .f32),
  binary main_v30 main_v36 main_v55 (mulf : Arr F S1x900 .f32 → Arr F S1x900 .f32 → Arr F S1x900 .f32),
  binary main_v54 main_v55 main_v56 (addf : Arr F S1x900 .f32 → Arr F S1x900 .f32 → Arr F S1x900 .f32),
  nullary main_cst_10 (constant S_ .f32 0x40000000#32),
  unary main_cst_10 main_v57 (broadcastInDim S1x900 ![] bcast_S_S1x900 : Arr F S_ .f32 → Arr F S1x900 .f32),
  binary main_v57 main_v56 main_v58 (mulf : Arr F S1x900 .f32 → Arr F S1x900 .f32 → Arr F S1x900 .f32),
  binary main_v32 main_v32 main_v59 (mulf : Arr F S1x900 .f32 → Arr F S1x900 .f32 → Arr F S1x900 .f32),
  binary main_v36 main_v36 main_v60 (mulf : Arr F S1x900 .f32 → Arr F S1x900 .f32 → Arr F S1x900 .f32),
  binary main_v59 main_v60 main_v61 (addf : Arr F S1x900 .f32 → Arr F S1x900 .f32 → Arr F S1x900 .f32),
  nullary main_cst_11 (constant S_ .f32 0x40000000#32),
  unary main_cst_11 main_v62 (broadcastInDim S1x900 ![] bcast_S_S1x900 : Arr F S_ .f32 → Arr F S1x900 .f32),
  binary main_v62 main_v61 main_v63 (mulf : Arr F S1x900 .f32 → Arr F S1x900 .f32 → Arr F S1x900 .f32),
  nullary main_cst_12 (constant S_ .f32 0x3F800000#32),
  unary main_cst_12 main_v64 (broadcastInDim S1x900 ![] bcast_S_S1x900 : Arr F S_ .f32 → Arr F S1x900 .f32),
  binary main_v64 main_v63 main_v65 (subf : Arr F S1x900 .f32 → Arr F S1x900 .f32 → Arr F S1x900 .f32),
  binary main_v34 main_v36 main_v66 (mulf : Arr F S1x900 .f32 → Arr F S1x900 .f32 → Arr F S1x900 .f32),
  binary main_v30 main_v32 main_v67 (mulf : Arr F S1x900 .f32 → Arr F S1x900 .f32 → Arr F S1x900 .f32),
  binary main_v66 main_v67 main_v68 (subf : Arr F S1x900 .f32 → Arr F S1x900 .f32 → Arr F S1x900 .f32),
  nullary main_cst_13 (constant S_ .f32 0x40000000#32),
  unary main_cst_13 main_v69 (broadcastInDim S1x900 ![] bcast_S_S1x900 : Arr F S_ .f32 → Arr F S1x900 .f32),
  binary main_v69 main_v68 main_v70 (mulf : Arr F S1x900 .f32 → Arr F S1x900 .f32 → Arr F S1x900 .f32),
  binary main_v32 main_v36 main_v71 (mulf : Arr F S1x900 .f32 → Arr F S1x900 .f32 → Arr F S1x900 .f32),
  binary main_v30 main_v34 main_v72 (mulf : Arr F S1x900 .f32 → Arr F S1x900 .f32 → Arr F S1x900 .f32),
  binary main_v71 main_v72 main_v73 (subf : Arr F S1x900 .f32 → Arr F S1x900 .f32 → Arr F S1x900 .f32),
  nullary main_cst_14 (constant S_ .f32 0x40000000#32),
  unary main_cst_14 main_v74 (broadcastInDim S1x900 ![] bcast_S_S1x900 : Arr F S_ .f32 → Arr F S1x900 .f32),
  binary main_v74 main_v73 main_v75 (mulf : Arr F S1x900 .f32 → Arr F S1x900 .f32 → Arr F S1x900 .f32),
  binary main_v34 main_v36 main_v76 (mulf : Arr F S1x900 .f32 → Arr F S1x900 .f32 → Arr F S1x900 .f32),
  binary main_v30 main_v32 main_v77 (mulf : Arr F S1x900 .f32 → Arr F S1x900 .f32 → Arr F S1x900 .f32),
  binary main_v76 main_v77 main_v78 (addf : Arr F S1x900 .f32 → Arr F S1x900 .f32 → Arr F S1x900 .f32),
  nullary main_cst_15 (constant S_ .f32 0x40000000#32),
  unary main_cst_15 main_v79 (broadcastInDim S1x900 ![] bcast_S_S1x900 : Arr F S_ .f32 → Arr F S1x900 .f32),
  binary main_v79 main_v78 main_v80 (mulf : Arr F S1x900 .f32 → Arr F S1x900 .f32 → Arr F S1x900 .f32),
  binary main_v32 main_v32 main_v81 (mulf : Arr F S1x900 .f32 → Arr F S1x900 .f32 → Arr F S1x900 .f32),
  binary main_v34 main_v34 main_v82 (mulf : Arr F S1x900 .f32 → Arr F S1x900 .f32 → Arr F S1x900 .f32),
  binary main_v81 main_v82 main_v83 (addf : Arr F S1x900 .f32 → Arr F S1x900 .f32 → Arr F S1x900 .f32),
  nullary main_cst_16 (constant S_ .f32 0x40000000#32),
  unary main_cst_16 main_v84 (broadcastInDim S1x900 ![] bcast_S_S1x900 : Arr F S_ .f32 → Arr F S1x900 .f32),
  binary main_v84 main_v83 main_v85 (mulf : Arr F S1x900 .f32 → Arr F S1x900 .f32 → Arr F S1x900 .f32),
  nullary main_cst_17 (constant S_ .f32 0x3F800000#32),
  unary main_cst_17 main_v86 (broadcastInDim S1x900 ![] bcast_S_S1x900 : Arr F S_ .f32 → Arr F S1x900 .f32),
  binary main_v86 main_v85 main_v87 (subf : Arr F S1x900 .f32 → Arr F S1x900 .f32 → Arr F S1x900 .f32),
  unary main_v43 main_v88 (broadcastInDim S1x900x1 ![0, 1] bcast_S1x900_S1x900x1_0_1 : Arr F S1x900 .f32 → Arr F S1x900x1 .f32),
  unary main_v48 main_v89 (broadcastInDim S1x900x1 ![0, 1] bcast_S1x900_S1x900x1_0_1 : Arr F S1x900 .f32 → Arr F S1x900x1 .f32),
  unary main_v53 main_v90 (broadcastInDim S1x900x1 ![0, 1] bcast_S1x900_S1x900x1_0_1 : Arr F S1x900 .f32 → Arr F S1x900x1 .f32),
  unary main_v58 main_v91 (broadcastInDim S1x900x1 ![0, 1] bcast_S1x900_S1x900x1_0_1 : Arr F S1x900 .f32 → Arr F S1x900x1 .f32),
  unary main_v65 main_v92 (broadcastInDim S1x900x1 ![0, 1] bcast_S1x900_S1x900x1_0_1 : Arr F S1x900 .f32 → Arr F S1x900x1 .f32),
  unary main_v70 main_v93 (broadcastInDim S1x900x1 ![0, 1] bcast_S1x900_S1x900x1_0_1 : Arr F S1x900 .f32 → Arr F S1x900x1 .f32),
  unary main_v75 main_v94 (broadcastInDim S1x900x1 ![0, 1] bcast_S1x900_S1x900x1_0_1 : Arr F S1x900 .f32 → Arr F S1x900x1 .f32),
  unary main_v80 main_v95 (broadcastInDim S1x900x1 ![0, 1] bcast_S1x900_S1x900x1_0_1 : Arr F S1x900 .f32 → Arr F S1x900x1 .f32),
  unary main_v87 main_v96 (broadcastInDim S1x900x1 ![0, 1] bcast_S1x900_S1x900x1_0_1 : Arr F S1x900 .f32 → Arr F S1x900x1 .f32),
  nary ![main_v88, main_v89, main_v90, main_v91, main_v92, main_v93, main_v94, main_v95, main_v96] main_v97 (fun u => (concatenate S1x900x9 2 [⟨S1x900x1, (u 0 : Arr F S1x900x1 .f32)⟩, ⟨S1x900x1, (u 1 : Arr F S1x900x1 .f32)⟩, ⟨S1x900x1, (u 2 : Arr F S1x900x1 .f32)⟩, ⟨S1x900x1, (u 3 : Arr F S1x900x1 .f32)⟩, ⟨S1x900x1, (u 4 : Arr F S1x900x1 .f32)⟩, ⟨S1x900x1, (u 5 : Arr F S1x900x1 .f32)⟩, ⟨S1x900x1, (u 6 : Arr F S1x900x1 .f32)⟩, ⟨S1x900x1, (u 7 : Arr F S1x900x1 .f32)⟩, ⟨S1x900x1, (u 8 : Arr F S1x900x1 .f32)⟩] concatenates_S1x900x1_S1x900x1_S1x900x1_S1x900x1_S1x900x1_S1x900x1_S1x900x1_S1x900x1_S1x900x1_S1x900x9_d2 : Arr F S1x900x9 .f32)),
  reshape main_v97 main_v98 (rfl : (.f32 : EltTy) = .f32) shapeCasts_S1x900x9_S1x900x3x3,
  unary main_v98 main_v99 ((transpose S1x900x3x3 [0, 1, 3, 2] · transposes_S1x900x3x3_S1x900x3x3_0_1_3_2) : Arr F S1x900x3x3 .f32 → Arr F S1x900x3x3 .f32),
  unary main_v99 main_v100 (broadcastInDim S1x900x1x3x3 ![0, 1, 3, 4] bcast_S1x900x3x3_S1x900x1x3x3_0_1_3_4 : Arr F S1x900x3x3 .f32 → Arr F S1x900x1x3x3 .f32)]

def r02 : List (HloOp τ sig (Elt F)) := [
  unary main_v22 main_v101 (broadcastInDim S1x900x13x3x1 ![0, 1, 2, 3] bcast_S1x900x13x3_S1x900x13x3x1_0_1_2_3 : Arr F S1x900x13x3 .f32 → Arr F S1x900x13x3x1 .f32),
  reshape main_v100 main_v102 (rfl : (.f32 : EltTy) = .f32) shapeCasts_S1x900x1x3x3_S900x3x3,
  reshape main_v101 main_v103 (rfl : (.f32 : EltTy) = .f32) shapeCasts_S1x900x13x3x1_S900x13x3x1,
  binary main_v102 main_v103 main_v104 ((fun l r => Host.dotGeneral dot_S900x3x3_S900x13x3x1_S900x3x13x1_2_2_1_13_0_0 none l r) : Arr F S900x3x3 .f32 → Arr F S900x13x3x1 .f32 → Arr F S900x3x13x1 .f32),
  unary main_v104 main_v105 ((transpose S900x13x3x1 [0, 2, 1, 3] · transposes_S900x3x13x1_S900x13x3x1_0_2_1_3) : Arr F S900x3x13x1 .f32 → Arr F S900x13x3x1 .f32),
  unary main_v105 main_v106 (broadcastInDim S1x900x13x3x1 ![1, 2, 3, 4] bcast_S900x13x3x1_S1x900x13x3x1_1_2_3_4 : Arr F S900x13x3x1 .f32 → Arr F S1x900x13x3x1 .f32),
  reshape main_v106 main_v107 (rfl : (.f32 : EltTy) = .f32) shapeCasts_S1x900x13x3x1_S1x900x13x3,
  unary main_arg2 main_v108 ((extractStridedSlice S1x900x3 ![0, 0, 0] · slices_S1x900x11_S1x900x3_0_0_0) : Arr F S1x900x11 .f32 → Arr F S1x900x3 .f32),
  unary main_v108 main_v109 (broadcastInDim S1x900x1x3 ![0, 1, 3] bcast_S1x900x3_S1x900x1x3_0_1_3 : Arr F S1x900x3 .f32 → Arr F S1x900x1x3 .f32),
  unary main_v109 main_v110 (broadcastInDim S1x900x13x3 ![0, 1, 2, 3] bcast_S1x900x1x3_S1x900x13x3_0_1_2_3 : Arr F S1x900x1x3 .f32 → Arr F S1x900x13x3 .f32),
  binary main_v107 main_v110 main_v111 (addf : Arr F S1x900x13x3 .f32 → Arr F S1x900x13x3 .f32 → Arr F S1x900x13x3 .f32),
  binary main_arg1 main_arg3 main_v112 (addf : Arr F S1x900x256 .f32 → Arr F S1x900x256 .f32 → Arr F S1x900x256 .f32),
  binary main_v112 main_arg12 main_v113 ((fun l r => Host.dotGeneral dot_S1x900x256_S256x2496_S1x900x2496_2_0_01_1_n_n none l r) : Arr F S1x900x256 .f32 → Arr F S256x2496 .f32 → Arr F S1x900x2496 .f32),
  unary main_arg13 main_v114 (broadcastInDim S1x1x2496 ![2] bcast_S2496_S1x1x2496_2 : Arr F S2496 .f32 → Arr F S1x1x2496 .f32),
  unary main_v114 main_v115 (broadcastInDim S1x900x2496 ![0, 1, 2] bcast_S1x1x2496_S1x900x2496_0_1_2 : Arr F S1x1x2496 .f32 → Arr F S1x900x2496 .f32),
  binary main_v113 main_v115 main_v116 (addf : Arr F S1x900x2496 .f32 → Arr F S1x900x2496 .f32 → Arr F S1x900x2496 .f32),
  reshape main_v116 main_v117 (rfl : (.f32 : EltTy) = .f32) shapeCasts_S1x900x2496_S1x900x312x8,
  nullary main_cst_18 (constant S_ .f32 0xFF800000#32),
  binary main_v117 main_cst_18 main_v118 ((fun x v => Host.reduce FloatOps.maximumf x v reducesTo_S1x900x312x8_S1x900x8_d2 h_S_) : Arr F S1x900x312x8 .f32 → Arr F S_ .f32 → Arr F S1x900x8 .f32),
  nullary main_cst_19 (constant S_ .f32 0xFF800000#32),
  unary main_cst_19 main_v119 (broadcastInDim S1x900x8 ![] bcast_S_S1x900x8 : Arr F S_ .f32 → Arr F S1x900x8 .f32),
  binary main_v119 main_v118 main_v120 (maximumf : Arr F S1x900x8 .f32 → Arr F S1x900x8 .f32 → Arr F S1x900x8 .f32),
  unary main_v120 main_v121 (broadcastInDim S1x900x1x8 ![0, 1, 3] bcast_S1x900x8_S1x900x1x8_0_1_3 : Arr F S1x900x8 .f32 → Arr F S1x900x1x8 .f32),
  unary main_v121 main_v122 (broadcastInDim S1x900x312x8 ![0, 1, 2, 3] bcast_S1x900x1x8_S1x900x312x8_0_1_2_3 : Arr F S1x900x1x8 .f32 → Arr F S1x900x312x8 .f32),
  binary main_v117 main_v122 main_v123 (subf : Arr F S1x900x312x8 .f32 → Arr F S1x900x312x8 .f32 → Arr F S1x900x312x8 .f32),
  unary main_v123 main_v124 (Host.exp : Arr F S1x900x312x8 .f32 → Arr F S1x900x312x8 .f32),
  nullary main_cst_20 (constant S_ .f32 0x00000000#32),
  binary main_v124 main_cst_20 main_v125 ((fun x v => Host.reduceAdd x v reducesTo_S1x900x312x8_S1x900x8_d2 h_S_) : Arr F S1x900x312x8 .f32 → Arr F S_ .f32 → Arr F S1x900x8 .f32),
  unary main_v125 main_v126 (broadcastInDim S1x900x1x8 ![0, 1, 3] bcast_S1x900x8_S1x900x1x8_0_1_3 : Arr F S1x900x8 .f32 → Arr F S1x900x1x8 .f32),
  unary main_v126 main_v127 (broadcastInDim S1x900x312x8 ![0, 1, 2, 3] bcast_S1x900x1x8_S1x900x312x8_0_1_2_3 : Arr F S1x900x1x8 .f32 → Arr F S1x900x312x8 .f32),
  binary main_v124 main_v127 main_v128 (Host.divf : Arr F S1x900x312x8 .f32 → Arr F S1x900x312x8 .f32 → Arr F S1x900x312x8 .f32),
  reshape main_v128 main_v129 (rfl : (.f32 : EltTy) = .f32) shapeCasts_S1x900x312x8_S1x900x6x4x13x8,
  unary main_v129 main_v130 ((transpose S1x900x13x6x4x8 [0, 1, 4, 2, 3, 5] · transposes_S1x900x6x4x13x8_S1x900x13x6x4x8_0_1_4_2_3_5) : Arr F S1x900x6x4x13x8 .f32 → Arr F S1x900x13x6x4x8 .f32),
  reshape main_v130 main_v131 (rfl : (.f32 : EltTy) = .f32) shapeCasts_S1x900x13x6x4x8_S11700x6x4x8,
  unary main_v111 main_v132 ((extractStridedSlice S1x900x13x1 ![0, 0, 0, 0] · slices_S1x900x13x3_S1x900x13x1_0_0_0_0) : Arr F S1x900x13x3 .f32 → Arr F S1x900x13x1 .f32),
  nullary main_cst_21 (constant S_ .f32 0x3F800000#32),
  unary main_cst_21 main_v133 (broadcastInDim S1x900x13x1 ![] bcast_S_S1x900x13x1 : Arr F S_ .f32 → Arr F S1x900x13x1 .f32),
  binary main_v111 main_v133 main_v134 ((fun a b => concatenate S1x900x13x4 3 [⟨S1x900x13x3, a⟩, ⟨S1x900x13x1, b⟩] concatenates_S1x900x13x3_S1x900x13x1_S1x900x13x4_d3) : Arr F S1x900x13x3 .f32 → Arr F S1x900x13x1 .f32 → Arr F S1x900x13x4 .f32),
  unary main_arg8 main_v135 (broadcastInDim S1x6x1x1x4x4 ![0, 1, 4, 5] bcast_S1x6x4x4_S1x6x1x1x4x4_0_1_4_5 : Arr F S1x6x4x4 .f32 → Arr F S1x6x1x1x4x4 .f32),
  unary main_v134 main_v136 (broadcastInDim S1x1x900x13x4x1 ![0, 2, 3, 4] bcast_S1x900x13x4_S1x1x900x13x4x1_0_2_3_4 : Arr F S1x900x13x4 .f32 → Arr F S1x1x900x13x4x1 .f32),
  reshape main_v135 main_v137 (rfl : (.f32 : EltTy) = .f32) shapeCasts_S1x6x1x1x4x4_S6x4x4,
  reshape main_v136 main_v138 (rfl : (.f32 : EltTy) = .f32) shapeCasts_S1x1x900x13x4x1_S900x13x4x1,
  binary main_v137 main_v138 main_v139 ((fun l r => Host.dotGeneral dot_S6x4x4_S900x13x4x1_S6x4x900x13x1_2_2_01_013_n_n none l r) : Arr F S6x4x4 .f32 → Arr F S900x13x4x1 .f32 → Arr F S6x4x900x13x1 .f32),
  unary main_v139 main_v140 ((transpose S6x900x13x4x1 [0, 2, 3, 1, 4] · transposes_S6x4x900x13x1_S6x900x13x4x1_0_2_3_1_4) : Arr F S6x4x900x13x1 .f32 → Arr F S6x900x13x4x1 .f32),
  unary main_v140 main_v141 (broadcastInDim S1x6x900x13x4x1 ![1, 2, 3, 4, 5] bcast_S6x900x13x4x1_S1x6x900x13x4x1_1_2_3_4_5 : Arr F S6x900x13x4x1 .f32 → Arr F S1x6x900x13x4x1 .f32),
  reshape main_v141 main_v142 (rfl : (.f32 : EltTy) = .f32) shapeCasts_S1x6x900x13x4x1_S1x6x900x13x4,
  unary main_v142 main_v143 ((extractStridedSlice S1x6x900x13x2 ![0, 0, 0, 0, 0] · slices_S1x6x900x13x4_S1x6x900x13x2_0_0_0_0_0) : Arr F S1x6x900x13x4 .f32 → Arr F S1x6x900x13x2 .f32),
  unary main_v142 main_v144 ((extractStridedSlice S1x6x900x13x1 ![0, 0, 0, 0, 2] · slices_S1x6x900x13x4_S1x6x900x13x1_0_0_0_0_2) : Arr F S1x6x900x13x4 .f32 → Arr F S1x6x900x13x1 .f32),
  nullary main_cst_22 (constant S_ .f32 0x3727C5AC#32),
  unary main_cst_22 main_v145 (broadcastInDim S1x6x900x13x1 ![] bcast_S_S1x6x900x13x1 : Arr F S_ .f32 → Arr F S1x6x900x13x1 .f32),
  binary main_v144 main_v145 main_v146 (maximumf : Arr F S1x6x900x13x1 .f32 → Arr F S1x6x900x13x1 .f32 → Arr F S1x6x900x13x1 .f32),
  unary main_v146 main_v147 (broadcastInDim S1x6x900x13x2 ![0, 1, 2, 3, 4] bcast_S1x6x900x13x1_S1x6x900x13x2_0_1_2_3_4 : Arr F S1x6x900x13x1 .f32 → Arr F S1x6x900x13x2 .f32),
  binary main_v143 main_v147 main_v148 (Host.divf : Arr F S1x6x900x13x2 .f32 → Arr F S1x6x900x13x2 .f32 → Arr F S1x6x900x13x2 .f32),
  unary main_arg9 main_v149 (broadcastInDim S1x6x1x1x2 ![0, 1, 4] bcast_S1x6x2_S1x6x1x1x2_0_1_4 : Arr F S1x6x2 .f32 → Arr F S1x6x1x1x2 .f32),
  unary main_v149 main_v150 (broadcastInDim S1x6x900x13x2 ![0, 1, 2, 3, 4] bcast_S1x6x1x1x2_S1x6x900x13x2_0_1_2_3_4 : Arr F S1x6x1x1x2 .f32 → Arr F S1x6x900x13x2 .f32),
  binary main_v148 main_v150 main_v151 (Host.divf : Arr F S1x6x900x13x2 .f32 → Arr F S1x6x900x13x2 .f32 → Arr F S1x6x900x13x2 .f32),
  nullary main_cst_23 (constant S_ .f32 0x00000000#32),
  nullary main_cst_24 (constant S_ .f32 0x3F7FF972#32),
  TRef.unary (.of (T := ⟨S_, .f32⟩) main_cst_23) (.of (T := ⟨S_, .f32⟩) main_call2_v0) id,
  TRef.unary (.of (T := ⟨S_, .f32⟩) main_call2_v0) (.of (T := ⟨S1x6x900x13x2, .f32⟩) main_call2_v1) (broadcastInDim S1x6x900x13x2 ![] bcast_S_S1x6x900x13x2),
  TRef.binary (.of (T := ⟨S1x6x900x13x2, .f32⟩) main_call2_v1) (.of (T := ⟨S1x6x900x13x2, .f32⟩) main_v151) (.of (T := ⟨S1x6x900x13x2, .f32⟩) main_call2_v2) maximumf,
  TRef.unary (.of (T := ⟨S_, .f32⟩) main_cst_24) (.of (T := ⟨S_, .f32⟩) main_call2_v3) id,
  TRef.unary (.of (T := ⟨S_, .f32⟩) main_call2_v3) (.of (T := ⟨S1x6x900x13x2, .f32⟩) main_call2_v4) (broadcastInDim S1x6x900x13x2 ![] bcast_S_S1x6x900x13x2),
  TRef.binary (.of (T := ⟨S1x6x900x13x2, .f32⟩) main_call2_v4) (.of (T := ⟨S1x6x900x13x2, .f32⟩) main_call2_v2) (.of (T := ⟨S1x6x900x13x2, .f32⟩) main_v152) minimumf,
  unary main_v152 main_v153 ((transpose S1x900x13x6x2 [0, 2, 3, 1, 4] · transposes_S1x6x900x13x2_S1x900x13x6x2_0_2_3_1_4) : Arr F S1x6x900x13x2 .f32 → Arr F S1x900x13x6x2 .f32)]

def r03 : List (HloOp τ sig (Elt F)) := [
  reshape main_v153 main_v154 (rfl : (.f32 : EltTy) = .f32) shapeCasts_S1x900x13x6x2_S11700x6x2,
  reshape main_arg4 main_v155 (rfl : (.f32 : EltTy) = .f32) shapeCasts_S1x6x256x64x176_S6x256x64x176,
  reshape main_arg5 main_v156 (rfl : (.f32 : EltTy) = .f32) shapeCasts_S1x6x256x32x88_S6x256x32x88,
  reshape main_arg6 main_v157 (rfl : (.f32 : EltTy) = .f32) shapeCasts_S1x6x256x16x44_S6x256x16x44,
  reshape main_arg7 main_v158 (rfl : (.f32 : EltTy) = .f32) shapeCasts_S1x6x256x8x22_S6x256x8x22]

def rX0 : List (HloOp τ sig (Elt F)) := [
  unary main_v155 main_v159 ((transpose S6x64x176x256 [0, 2, 3, 1] · transposes_S6x256x64x176_S6x64x176x256_0_2_3_1) : Arr F S6x256x64x176 .f32 → Arr F S6x64x176x256 .f32),
  reshape main_v159 main_v160 (rfl : (.f32 : EltTy) = .f32) shapeCasts_S6x64x176x256_S67584x256,
  unary main_v154 main_v161 ((extractStridedSlice S11700x6x1 ![0, 0, 0] · slices_S11700x6x2_S11700x6x1_0_0_0) : Arr F S11700x6x2 .f32 → Arr F S11700x6x1 .f32),
  reshape main_v161 main_v162 (rfl : (.f32 : EltTy) = .f32) shapeCasts_S11700x6x1_S11700x6,
  nullary main_cst_25 (constant S_ .f32 0x43300000#32),
  unary main_cst_25 main_v163 (broadcastInDim S11700x6 ![] bcast_S_S11700x6 : Arr F S_ .f32 → Arr F S11700x6 .f32),
  binary main_v162 main_v163 main_v164 (mulf : Arr F S11700x6 .f32 → Arr F S11700x6 .f32 → Arr F S11700x6 .f32),
  nullary main_cst_26 (constant S_ .f32 0x3F000000#32),
  unary main_cst_26 main_v165 (broadcastInDim S11700x6 ![] bcast_S_S11700x6 : Arr F S_ .f32 → Arr F S11700x6 .f32),
  binary main_v164 main_v165 main_v166 (subf : Arr F S11700x6 .f32 → Arr F S11700x6 .f32 → Arr F S11700x6 .f32),
  unary main_v154 main_v167 ((extractStridedSlice S11700x6x1 ![0, 0, 1] · slices_S11700x6x2_S11700x6x1_0_0_1) : Arr F S11700x6x2 .f32 → Arr F S11700x6x1 .f32),
  reshape main_v167 main_v168 (rfl : (.f32 : EltTy) = .f32) shapeCasts_S11700x6x1_S11700x6,
  nullary main_cst_27 (constant S_ .f32 0x42800000#32),
  unary main_cst_27 main_v169 (broadcastInDim S11700x6 ![] bcast_S_S11700x6 : Arr F S_ .f32 → Arr F S11700x6 .f32),
  binary main_v168 main_v169 main_v170 (mulf : Arr F S11700x6 .f32 → Arr F S11700x6 .f32 → Arr F S11700x6 .f32),
  nullary main_cst_28 (constant S_ .f32 0x3F000000#32),
  unary main_cst_28 main_v171 (broadcastInDim S11700x6 ![] bcast_S_S11700x6 : Arr F S_ .f32 → Arr F S11700x6 .f32),
  binary main_v170 main_v171 main_v172 (subf : Arr F S11700x6 .f32 → Arr F S11700x6 .f32 → Arr F S11700x6 .f32),
  unary main_v166 main_v173 (Host.floor : Arr F S11700x6 .f32 → Arr F S11700x6 .f32),
  unary main_v172 main_v174 (Host.floor : Arr F S11700x6 .f32 → Arr F S11700x6 .f32),
  binary main_v166 main_v173 main_v175 (subf : Arr F S11700x6 .f32 → Arr F S11700x6 .f32 → Arr F S11700x6 .f32),
  binary main_v172 main_v174 main_v176 (subf : Arr F S11700x6 .f32 → Arr F S11700x6 .f32 → Arr F S11700x6 .f32),
  unary main_v173 main_v177 (fptosi 32 : Arr F S11700x6 .f32 → Arr F S11700x6 .i32),
  unary main_v174 main_v178 (fptosi 32 : Arr F S11700x6 .f32 → Arr F S11700x6 .i32),
  nullary main_c (constantI S_ 32 1#32),
  unary main_c main_v179 (broadcastInDim S11700x6 ![] bcast_S_S11700x6 : Arr F S_ .i32 → Arr F S11700x6 .i32),
  binary main_v177 main_v179 main_v180 (addi : Arr F S11700x6 .i32 → Arr F S11700x6 .i32 → Arr F S11700x6 .i32),
  nullary main_c_29 (constantI S_ 32 1#32),
  unary main_c_29 main_v181 (broadcastInDim S11700x6 ![] bcast_S_S11700x6 : Arr F S_ .i32 → Arr F S11700x6 .i32),
  binary main_v177 main_v181 main_v182 (addi : Arr F S11700x6 .i32 → Arr F S11700x6 .i32 → Arr F S11700x6 .i32),
  unary main_v177 main_v183 (broadcastInDim S11700x6x1 ![0, 1] bcast_S11700x6_S11700x6x1_0_1 : Arr F S11700x6 .i32 → Arr F S11700x6x1 .i32),
  unary main_v180 main_v184 (broadcastInDim S11700x6x1 ![0, 1] bcast_S11700x6_S11700x6x1_0_1 : Arr F S11700x6 .i32 → Arr F S11700x6x1 .i32),
  unary main_v177 main_v185 (broadcastInDim S11700x6x1 ![0, 1] bcast_S11700x6_S11700x6x1_0_1 : Arr F S11700x6 .i32 → Arr F S11700x6x1 .i32),
  unary main_v182 main_v186 (broadcastInDim S11700x6x1 ![0, 1] bcast_S11700x6_S11700x6x1_0_1 : Arr F S11700x6 .i32 → Arr F S11700x6x1 .i32),
  nary ![main_v183, main_v184, main_v185, main_v186] main_v187 (fun u => (concatenate S11700x6x4 2 [⟨S11700x6x1, (u 0 : Arr F S11700x6x1 .i32)⟩, ⟨S11700x6x1, (u 1 : Arr F S11700x6x1 .i32)⟩, ⟨S11700x6x1, (u 2 : Arr F S11700x6x1 .i32)⟩, ⟨S11700x6x1, (u 3 : Arr F S11700x6x1 .i32)⟩] concatenates_S11700x6x1_S11700x6x1_S11700x6x1_S11700x6x1_S11700x6x4_d2 : Arr F S11700x6x4 .i32)),
  nullary main_c_30 (constantI S_ 32 1#32)]

def rY0 : List (HloOp τ sig (Elt F)) := [
  unary main_c_30 main_v188 (broadcastInDim S11700x6 ![] bcast_S_S11700x6 : Arr F S_ .i32 → Arr F S11700x6 .i32),
  binary main_v178 main_v188 main_v189 (addi : Arr F S11700x6 .i32 → Arr F S11700x6 .i32 → Arr F S11700x6 .i32),
  nullary main_c_31 (constantI S_ 32 1#32),
  unary main_c_31 main_v190 (broadcastInDim S11700x6 ![] bcast_S_S11700x6 : Arr F S_ .i32 → Arr F S11700x6 .i32),
  binary main_v178 main_v190 main_v191 (addi : Arr F S11700x6 .i32 → Arr F S11700x6 .i32 → Arr F S11700x6 .i32),
  unary main_v178 main_v192 (broadcastInDim S11700x6x1 ![0, 1] bcast_S11700x6_S11700x6x1_0_1 : Arr F S11700x6 .i32 → Arr F S11700x6x1 .i32),
  unary main_v178 main_v193 (broadcastInDim S11700x6x1 ![0, 1] bcast_S11700x6_S11700x6x1_0_1 : Arr F S11700x6 .i32 → Arr F S11700x6x1 .i32),
  unary main_v189 main_v194 (broadcastInDim S11700x6x1 ![0, 1] bcast_S11700x6_S11700x6x1_0_1 : Arr F S11700x6 .i32 → Arr F S11700x6x1 .i32),
  unary main_v191 main_v195 (broadcastInDim S11700x6x1 ![0, 1] bcast_S11700x6_S11700x6x1_0_1 : Arr F S11700x6 .i32 → Arr F S11700x6x1 .i32),
  nary ![main_v192, main_v193, main_v194, main_v195] main_v196 (fun u => (concatenate S11700x6x4 2 [⟨S11700x6x1, (u 0 : Arr F S11700x6x1 .i32)⟩, ⟨S11700x6x1, (u 1 : Arr F S11700x6x1 .i32)⟩, ⟨S11700x6x1, (u 2 : Arr F S11700x6x1 .i32)⟩, ⟨S11700x6x1, (u 3 : Arr F S11700x6x1 .i32)⟩] concatenates_S11700x6x1_S11700x6x1_S11700x6x1_S11700x6x1_S11700x6x4_d2 : Arr F S11700x6x4 .i32)),
  nullary main_cst_32 (constant S_ .f32 0x3F800000#32)]

def r06 : List (HloOp τ sig (Elt F)) := [
  unary main_cst_32 main_v197 (broadcastInDim S11700x6 ![] bcast_S_S11700x6 : Arr F S_ .f32 → Arr F S11700x6 .f32),
  binary main_v197 main_v176 main_v198 (subf : Arr F S11700x6 .f32 → Arr F S11700x6 .f32 → Arr F S11700x6 .f32),
  nullary main_cst_33 (constant S_ .f32 0x3F800000#32),
  unary main_cst_33 main_v199 (broadcastInDim S11700x6 ![] bcast_S_S11700x6 : Arr F S_ .f32 → Arr F S11700x6 .f32),
  binary main_v199 main_v175 main_v200 (subf : Arr F S11700x6 .f32 → Arr F S11700x6 .f32 → Arr F S11700x6 .f32),
  binary main_v198 main_v200 main_v201 (mulf : Arr F S11700x6 .f32 → Arr F S11700x6 .f32 → Arr F S11700x6 .f32),
  nullary main_cst_34 (constant S_ .f32 0x3F800000#32),
  unary main_cst_34 main_v202 (broadcastInDim S11700x6 ![] bcast_S_S11700x6 : Arr F S_ .f32 → Arr F S11700x6 .f32)]

def r07 : List (HloOp τ sig (Elt F)) := [
  binary main_v202 main_v176 main_v203 (subf : Arr F S11700x6 .f32 → Arr F S11700x6 .f32 → Arr F S11700x6 .f32),
  binary main_v203 main_v175 main_v204 (mulf : Arr F S11700x6 .f32 → Arr F S11700x6 .f32 → Arr F S11700x6 .f32),
  nullary main_cst_35 (constant S_ .f32 0x3F800000#32),
  unary main_cst_35 main_v205 (broadcastInDim S11700x6 ![] bcast_S_S11700x6 : Arr F S_ .f32 → Arr F S11700x6 .f32),
  binary main_v205 main_v175 main_v206 (subf : Arr F S11700x6 .f32 → Arr F S11700x6 .f32 → Arr F S11700x6 .f32),
  binary main_v176 main_v206 main_v207 (mulf : Arr F S11700x6 .f32 → Arr F S11700x6 .f32 → Arr F S11700x6 .f32),
  binary main_v176 main_v175 main_v208 (mulf : Arr F S11700x6 .f32 → Arr F S11700x6 .f32 → Arr F S11700x6 .f32),
  unary main_v201 main_v209 (broadcastInDim S11700x6x1 ![0, 1] bcast_S11700x6_S11700x6x1_0_1 : Arr F S11700x6 .f32 → Arr F S11700x6x1 .f32),
  unary main_v204 main_v210 (broadcastInDim S11700x6x1 ![0, 1] bcast_S11700x6_S11700x6x1_0_1 : Arr F S11700x6 .f32 → Arr F S11700x6x1 .f32),
  unary main_v207 main_v211 (broadcastInDim S11700x6x1 ![0, 1] bcast_S11700x6_S11700x6x1_0_1 : Arr F S11700x6 .f32 → Arr F S11700x6x1 .f32),
  unary main_v208 main_v212 (broadcastInDim S11700x6x1 ![0, 1] bcast_S11700x6_S11700x6x1_0_1 : Arr F S11700x6 .f32 → Arr F S11700x6x1 .f32),
  nary ![main_v209, main_v210, main_v211, main_v212] main_v213 (fun u => (concatenate S11700x6x4 2 [⟨S11700x6x1, (u 0 : Arr F S11700x6x1 .f32)⟩, ⟨S11700x6x1, (u 1 : Arr F S11700x6x1 .f32)⟩, ⟨S11700x6x1, (u 2 : Arr F S11700x6x1 .f32)⟩, ⟨S11700x6x1, (u 3 : Arr F S11700x6x1 .f32)⟩] concatenates_S11700x6x1_S11700x6x1_S11700x6x1_S11700x6x1_S11700x6x4_d2 : Arr F S11700x6x4 .f32)),
  nullary main_c_36 (constantI S_ 32 0#32),
  unary main_c_36 main_v214 (broadcastInDim S11700x6x4 ![] bcast_S_S11700x6x4 : Arr F S_ .i32 → Arr F S11700x6x4 .i32)]

def rT0 : List (HloOp τ sig (Elt F)) := [
  binary main_v187 main_v214 main_v215 (cmpi .sge : Arr F S11700x6x4 .i32 → Arr F S11700x6x4 .i32 → Arr F S11700x6x4 .i1),
  nullary main_c_37 (constantI S_ 32 176#32),
  unary main_c_37 main_v216 (broadcastInDim S11700x6x4 ![] bcast_S_S11700x6x4 : Arr F S_ .i32 → Arr F S11700x6x4 .i32),
  binary main_v187 main_v216 main_v217 (cmpi .slt : Arr F S11700x6x4 .i32 → Arr F S11700x6x4 .i32 → Arr F S11700x6x4 .i1),
  binary main_v215 main_v217 main_v218 (andi : Arr F S11700x6x4 .i1 → Arr F S11700x6x4 .i1 → Arr F S11700x6x4 .i1),
  nullary main_c_38 (constantI S_ 32 0#32),
  unary main_c_38 main_v219 (broadcastInDim S11700x6x4 ![] bcast_S_S11700x6x4 : Arr F S_ .i32 → Arr F S11700x6x4 .i32),
  binary main_v196 main_v219 main_v220 (cmpi .sge : Arr F S11700x6x4 .i32 → Arr F S11700x6x4 .i32 → Arr F S11700x6x4 .i1),
  binary main_v218 main_v220 main_v221 (andi : Arr F S11700x6x4 .i1 → Arr F S11700x6x4 .i1 → Arr F S11700x6x4 .i1),
  nullary main_c_39 (constantI S_ 32 64#32),
  unary main_c_39 main_v222 (broadcastInDim S11700x6x4 ![] bcast_S_S11700x6x4 : Arr F S_ .i32 → Arr F S11700x6x4 .i32),
  binary main_v196 main_v222 main_v223 (cmpi .slt : Arr F S11700x6x4 .i32 → Arr F S11700x6x4 .i32 → Arr F S11700x6x4 .i1),
  binary main_v221 main_v223 main_v224 (andi : Arr F S11700x6x4 .i1 → Arr F S11700x6x4 .i1 → Arr F S11700x6x4 .i1),
  unary main_v224 main_v225 (uitofp .f32 : Arr F S11700x6x4 .i1 → Arr F S11700x6x4 .f32),
  nullary main_v226 (iotaInDim S6 32 0),
  unary main_v226 main_v227 (broadcastInDim S1x6x1 ![1] bcast_S6_S1x6x1_1 : Arr F S6 .i32 → Arr F S1x6x1 .i32),
  nullary main_c_40 (constantI S_ 32 64#32),
  unary main_c_40 main_v228 (broadcastInDim S1x6x1 ![] bcast_S_S1x6x1 : Arr F S_ .i32 → Arr F S1x6x1 .i32),
  binary main_v227 main_v228 main_v229 (muli : Arr F S1x6x1 .i32 → Arr F S1x6x1 .i32 → Arr F S1x6x1 .i32),
  nullary main_c_41 (constantI S_ 32 0#32),
  nullary main_c_42 (constantI S_ 32 63#32),
  TRef.unary (.of (T := ⟨S_, .i32⟩) main_c_41) (.of (T := ⟨S_, .i32⟩) main_call3_v0) id,
  TRef.unary (.of (T := ⟨S_, .i32⟩) main_call3_v0) (.of (T := ⟨S11700x6x4, .i32⟩) main_call3_v1) (broadcastInDim S11700x6x4 ![] bcast_S_S11700x6x4),
  TRef.binary (.of (T := ⟨S11700x6x4, .i32⟩) main_call3_v1) (.of (T := ⟨S11700x6x4, .i32⟩) main_v196) (.of (T := ⟨S11700x6x4, .i32⟩) main_call3_v2) maxsi,
  TRef.unary (.of (T := ⟨S_, .i32⟩) main_c_42) (.of (T := ⟨S_, .i32⟩) main_call3_v3) id,
  TRef.unary (.of (T := ⟨S_, .i32⟩) main_call3_v3) (.of (T := ⟨S11700x6x4, .i32⟩) main_call3_v4) (broadcastInDim S11700x6x4 ![] bcast_S_S11700x6x4),
  TRef.binary (.of (T := ⟨S11700x6x4, .i32⟩) main_call3_v4) (.of (T := ⟨S11700x6x4, .i32⟩) main_call3_v2) (.of (T := ⟨S11700x6x4, .i32⟩) main_v230) minsi,
  unary main_v229 main_v231 (broadcastInDim S11700x6x4 ![0, 1, 2] bcast_S1x6x1_S11700x6x4_0_1_2 : Arr F S1x6x1 .i32 → Arr F S11700x6x4 .i32),
  binary main_v231 main_v230 main_v232 (addi : Arr F S11700x6x4 .i32 → Arr F S11700x6x4 .i32 → Arr F S11700x6x4 .i32),
  nullary main_c_43 (constantI S_ 32 176#32),
  unary main_c_43 main_v233 (broadcastInDim S11700x6x4 ![] bcast_S_S11700x6x4 : Arr F S_ .i32 → Arr F S11700x6x4 .i32),
  binary main_v232 main_v233 main_v234 (muli : Arr F S11700x6x4 .i32 → Arr F S11700x6x4 .i32 → Arr F S11700x6x4 .i32),
  nullary main_c_44 (constantI S_ 32 0#32),
  nullary main_c_45 (constantI S_ 32 175#32),
  TRef.unary (.of (T := ⟨S_, .i32⟩) main_c_44) (.of (T := ⟨S_, .i32⟩) main_call4_v0) id,
  TRef.unary (.of (T := ⟨S_, .i32⟩) main_call4_v0) (.of (T := ⟨S11700x6x4, .i32⟩) main_call4_v1) (broadcastInDim S11700x6x4 ![] bcast_S_S11700x6x4),
  TRef.binary (.of (T := ⟨S11700x6x4, .i32⟩) main_call4_v1) (.of (T := ⟨S11700x6x4, .i32⟩) main_v187) (.of (T := ⟨S11700x6x4, .i32⟩) main_call4_v2) maxsi,
  TRef.unary (.of (T := ⟨S_, .i32⟩) main_c_45) (.of (T := ⟨S_, .i32⟩) main_call4_v3) id,
  TRef.unary (.of (T := ⟨S_, .i32⟩) main_call4_v3) (.of (T := ⟨S11700x6x4, .i32⟩) main_call4_v4) (broadcastInDim S11700x6x4 ![] bcast_S_S11700x6x4),
  TRef.binary (.of (T := ⟨S11700x6x4, .i32⟩) main_call4_v4) (.of (T := ⟨S11700x6x4, .i32⟩) main_call4_v2) (.of (T := ⟨S11700x6x4, .i32⟩) main_v235) minsi,
  binary main_v234 main_v235 main_v236 (addi : Arr F S11700x6x4 .i32 → Arr F S11700x6x4 .i32 → Arr F S11700x6x4 .i32),
  TRef.unary (.of (T := ⟨S11700x6x4, .i32⟩) main_v236) (.of (T := ⟨S11700x6x4x1, .i32⟩) main_call5_v0) (broadcastInDim S11700x6x4x1 ![0, 1, 2] bcast_S11700x6x4_S11700x6x4x1_0_1_2),
  TRef.binary (.of (T := ⟨S67584x256, .f32⟩) main_v160) (.of (T := ⟨S11700x6x4x1, .i32⟩) main_call5_v0) (.of (T := ⟨S11700x6x4x256, .f32⟩) main_v237) (fun x i => Host.gather gather_S67584x256_S11700x6x4x1_S11700x6x4x256_3_0_n_n_0_3_1256 x i),
  binary main_v213 main_v225 main_v238 (mulf : Arr F S11700x6x4 .f32 → Arr F S11700x6x4 .f32 → Arr F S11700x6x4 .f32),
  unary main_v238 main_v239 (broadcastInDim S11700x6x4x1 ![0, 1, 2] bcast_S11700x6x4_S11700x6x4x1_0_1_2 : Arr F S11700x6x4 .f32 → Arr F S11700x6x4x1 .f32),
  unary main_v239 main_v240 (broadcastInDim S11700x6x4x256 ![0, 1, 2, 3] bcast_S11700x6x4x1_S11700x6x4x256_0_1_2_3 : Arr F S11700x6x4x1 .f32 → Arr F S11700x6x4x256 .f32),
  binary main_v237 main_v240 main_v241 (mulf : Arr F S11700x6x4x256 .f32 → Arr F S11700x6x4x256 .f32 → Arr F S11700x6x4x256 .f32),
  nullary main_cst_46 (constant S_ .f32 0x00000000#32),
  binary main_v241 main_cst_46 main_v242 ((fun x v => Host.reduceAdd x v reducesTo_S11700x6x4x256_S11700x6x256_d2 h_S_) : Arr F S11700x6x4x256 .f32 → Arr F S_ .f32 → Arr F S11700x6x256 .f32)]

def r09 : List (HloOp τ sig (Elt F)) := [
  unary main_v131 main_v243 ((extractStridedSlice S11700x6x1x8 ![0, 0, 0, 0] · slices_S11700x6x4x8_S11700x6x1x8_0_0_0_0) : Arr F S11700x6x4x8 .f32 → Arr F S11700x6x1x8 .f32),
  reshape main_v243 main_v244 (rfl : (.f32 : EltTy) = .f32) shapeCasts_S11700x6x1x8_S11700x6x8,
  unary main_v244 main_v245 (broadcastInDim S11700x6x8x32 ![0, 1, 2] bcast_S11700x6x8_S11700x6x8x32_0_1_2 : Arr F S11700x6x8 .f32 → Arr F S11700x6x8x32 .f32),
  reshape main_v245 main_v246 (rfl : (.f32 : EltTy) = .f32) shapeCasts_S11700x6x8x32_S11700x6x256,
  binary main_v242 main_v246 main_v247 (mulf : Arr F S11700x6x256 .f32 → Arr F S11700x6x256 .f32 → Arr F S11700x6x256 .f32),
  nullary main_cst_47 (constant S_ .f32 0x00000000#32),
  binary main_v247 main_cst_47 main_v248 ((fun x v => Host.reduceAdd x v reducesTo_S11700x6x256_S11700x256_d1 h_S_) : Arr F S11700x6x256 .f32 → Arr F S_ .f32 → Arr F S11700x256 .f32),
  nullary main_cst_48 (constant S_ .f32 0x00000000#32)]

def r10 : List (HloOp τ sig (Elt F)) := [
  unary main_cst_48 main_v249 (broadcastInDim S11700x256 ![] bcast_S_S11700x256 : Arr F S_ .f32 → Arr F S11700x256 .f32),
  binary main_v249 main_v248 main_v250 (addf : Arr F S11700x256 .f32 → Arr F S11700x256 .f32 → Arr F S11700x256 .f32)]

def rX1 : List (HloOp τ sig (Elt F)) := [
  unary main_v156 main_v251 ((transpose S6x32x88x256 [0, 2, 3, 1] · transposes_S6x256x32x88_S6x32x88x256_0_2_3_1) : Arr F S6x256x32x88 .f32 → Arr F S6x32x88x256 .f32),
  reshape main_v251 main_v252 (rfl : (.f32 : EltTy) = .f32) shapeCasts_S6x32x88x256_S16896x256,
  unary main_v154 main_v253 ((extractStridedSlice S11700x6x1 ![0, 0, 0] · slices_S11700x6x2_S11700x6x1_0_0_0) : Arr F S11700x6x2 .f32 → Arr F S11700x6x1 .f32),
  reshape main_v253 main_v254 (rfl : (.f32 : EltTy) = .f32) shapeCasts_S11700x6x1_S11700x6,
  nullary main_cst_49 (constant S_ .f32 0x42B00000#32),
  unary main_cst_49 main_v255 (broadcastInDim S11700x6 ![] bcast_S_S11700x6 : Arr F S_ .f32 → Arr F S11700x6 .f32),
  binary main_v254 main_v255 main_v256 (mulf : Arr F S11700x6 .f32 → Arr F S11700x6 .f32 → Arr F S11700x6 .f32),
  nullary main_cst_50 (constant S_ .f32 0x3F000000#32),
  unary main_cst_50 main_v257 (broadcastInDim S11700x6 ![] bcast_S_S11700x6 : Arr F S_ .f32 → Arr F S11700x6 .f32),
  binary main_v256 main_v257 main_v258 (subf : Arr F S11700x6 .f32 → Arr F S11700x6 .f32 → Arr F S11700x6 .f32),
  unary main_v154 main_v259 ((extractStridedSlice S11700x6x1 ![0, 0, 1] · slices_S11700x6x2_S11700x6x1_0_0_1) : Arr F S11700x6x2 .f32 → Arr F S11700x6x1 .f32),
  reshape main_v259 main_v260 (rfl : (.f32 : EltTy) = .f32) shapeCasts_S11700x6x1_S11700x6,
  nullary main_cst_51 (constant S_ .f32 0x42000000#32),
  unary main_cst_51 main_v261 (broadcastInDim S11700x6 ![] bcast_S_S11700x6 : Arr F S_ .f32 → Arr F S11700x6 .f32),
  binary main_v260 main_v261 main_v262 (mulf : Arr F S11700x6 .f32 → Arr F S11700x6 .f32 → Arr F S11700x6 .f32),
  nullary main_cst_52 (constant S_ .f32 0x3F000000#32),
  unary main_cst_52 main_v263 (broadcastInDim S11700x6 ![] bcast_S_S11700x6 : Arr F S_ .f32 → Arr F S11700x6 .f32),
  binary main_v262 main_v263 main_v264 (subf : Arr F S11700x6 .f32 → Arr F S11700x6 .f32 → Arr F S11700x6 .f32),
  unary main_v258 main_v265 (Host.floor : Arr F S11700x6 .f32 → Arr F S11700x6 .f32),
  unary main_v264 main_v266 (Host.floor : Arr F S11700x6 .f32 → Arr F S11700x6 .f32),
  binary main_v258 main_v265 main_v267 (subf : Arr F S11700x6 .f32 → Arr F S11700x6 .f32 → Arr F S11700x6 .f32),
  binary main_v264 main_v266 main_v268 (subf : Arr F S11700x6 .f32 → Arr F S11700x6 .f32 → Arr F S11700x6 .f32),
  unary main_v265 main_v269 (fptosi 32 : Arr F S11700x6 .f32 → Arr F S11700x6 .i32),
  unary main_v266 main_v270 (fptosi 32 : Arr F S11700x6 .f32 → Arr F S11700x6 .i32),
  nullary main_c_53 (constantI S_ 32 1#32),
  unary main_c_53 main_v271 (broadcastInDim S11700x6 ![] bcast_S_S11700x6 : Arr F S_ .i32 → Arr F S11700x6 .i32),
  binary main_v269 main_v271 main_v272 (addi : Arr F S11700x6 .i32 → Arr F S11700x6 .i32 → Arr F S11700x6 .i32),
  nullary main_c_54 (constantI S_ 32 1#32),
  unary main_c_54 main_v273 (broadcastInDim S11700x6 ![] bcast_S_S11700x6 : Arr F S_ .i32 → Arr F S11700x6 .i32),
  binary main_v269 main_v273 main_v274 (addi : Arr F S11700x6 .i32 → Arr F S11700x6 .i32 → Arr F S11700x6 .i32),
  unary main_v269 main_v275 (broadcastInDim S11700x6x1 ![0, 1] bcast_S11700x6_S11700x6x1_0_1 : Arr F S11700x6 .i32 → Arr F S11700x6x1 .i32),
  unary main_v272 main_v276 (broadcastInDim S11700x6x1 ![0, 1] bcast_S11700x6_S11700x6x1_0_1 : Arr F S11700x6 .i32 → Arr F S11700x6x1 .i32),
  unary main_v269 main_v277 (broadcastInDim S11700x6x1 ![0, 1] bcast_S11700x6_S11700x6x1_0_1 : Arr F S11700x6 .i32 → Arr F S11700x6x1 .i32),
  unary main_v274 main_v278 (broadcastInDim S11700x6x1 ![0, 1] bcast_S11700x6_S11700x6x1_0_1 : Arr F S11700x6 .i32 → Arr F S11700x6x1 .i32),
  nary ![main_v275, main_v276, main_v277, main_v278] main_v279 (fun u => (concatenate S11700x6x4 2 [⟨S11700x6x1, (u 0 : Arr F S11700x6x1 .i32)⟩, ⟨S11700x6x1, (u 1 : Arr F S11700x6x1 .i32)⟩, ⟨S11700x6x1, (u 2 : Arr F S11700x6x1 .i32)⟩, ⟨S11700x6x1, (u 3 : Arr F S11700x6x1 .i32)⟩] concatenates_S11700x6x1_S11700x6x1_S11700x6x1_S11700x6x1_S11700x6x4_d2 : Arr F S11700x6x4 .i32)),
  nullary main_c_55 (constantI S_ 32 1#32)]

def rY1 : List (HloOp τ sig (Elt F)) := [
  unary main_c_55 main_v280 (broadcastInDim S11700x6 ![] bcast_S_S11700x6 : Arr F S_ .i32 → Arr F S11700x6 .i32),
  binary main_v270 main_v280 main_v281 (addi : Arr F S11700x6 .i32 → Arr F S11700x6 .i32 → Arr F S11700x6 .i32),
  nullary main_c_56 (constantI S_ 32 1#32),
  unary main_c_56 main_v282 (broadcastInDim S11700x6 ![] bcast_S_S11700x6 : Arr F S_ .i32 → Arr F S11700x6 .i32),
  binary main_v270 main_v282 main_v283 (addi : Arr F S11700x6 .i32 → Arr F S11700x6 .i32 → Arr F S11700x6 .i32),
  unary main_v270 main_v284 (broadcastInDim S11700x6x1 ![0, 1] bcast_S11700x6_S11700x6x1_0_1 : Arr F S11700x6 .i32 → Arr F S11700x6x1 .i32),
  unary main_v270 main_v285 (broadcastInDim S11700x6x1 ![0, 1] bcast_S11700x6_S11700x6x1_0_1 : Arr F S11700x6 .i32 → Arr F S11700x6x1 .i32),
  unary main_v281 main_v286 (broadcastInDim S11700x6x1 ![0, 1] bcast_S11700x6_S11700x6x1_0_1 : Arr F S11700x6 .i32 → Arr F S11700x6x1 .i32),
  unary main_v283 main_v287 (broadcastInDim S11700x6x1 ![0, 1] bcast_S11700x6_S11700x6x1_0_1 : Arr F S11700x6 .i32 → Arr F S11700x6x1 .i32),
  nary ![main_v284, main_v285, main_v286, main_v287] main_v288 (fun u => (concatenate S11700x6x4 2 [⟨S11700x6x1, (u 0 : Arr F S11700x6x1 .i32)⟩, ⟨S11700x6x1, (u 1 : Arr F S11700x6x1 .i32)⟩, ⟨S11700x6x1, (u 2 : Arr F S11700x6x1 .i32)⟩, ⟨S11700x6x1, (u 3 : Arr F S11700x6x1 .i32)⟩] concatenates_S11700x6x1_S11700x6x1_S11700x6x1_S11700x6x1_S11700x6x4_d2 : Arr F S11700x6x4 .i32)),
  nullary main_cst_57 (constant S_ .f32 0x3F800000#32)]

def r13 : List (HloOp τ sig (Elt F)) := [
  unary main_cst_57 main_v289 (broadcastInDim S11700x6 ![] bcast_S_S11700x6 : Arr F S_ .f32 → Arr F S11700x6 .f32),
  binary main_v289 main_v268 main_v290 (subf : Arr F S11700x6 .f32 → Arr F S11700x6 .f32 → Arr F S11700x6 .f32),
  nullary main_cst_58 (constant S_ .f32 0x3F800000#32),
  unary main_cst_58 main_v291 (broadcastInDim S11700x6 ![] bcast_S_S11700x6 : Arr F S_ .f32 → Arr F S11700x6 .f32),
  binary main_v291 main_v267 main_v292 (subf : Arr F S11700x6 .f32 → Arr F S11700x6 .f32 → Arr F S11700x6 .f32),
  binary main_v290 main_v292 main_v293 (mulf : Arr F S11700x6 .f32 → Arr F S11700x6 .f32 → Arr F S11700x6 .f32),
  nullary main_cst_59 (constant S_ .f32 0x3F800000#32),
  unary main_cst_59 main_v294 (broadcastInDim S11700x6 ![] bcast_S_S11700x6 : Arr F S_ .f32 → Arr F S11700x6 .f32),
  binary main_v294 main_v268 main_v295 (subf : Arr F S11700x6 .f32 → Arr F S11700x6 .f32 → Arr F S11700x6 .f32),
  binary main_v295 main_v267 main_v296 (mulf : Arr F S11700x6 .f32 → Arr F S11700x6 .f32 → Arr F S11700x6 .f32),
  nullary main_cst_60 (constant S_ .f32 0x3F800000#32)]

def r14 : List (HloOp τ sig (Elt F)) := [
  unary main_cst_60 main_v297 (broadcastInDim S11700x6 ![] bcast_S_S11700x6 : Arr F S_ .f32 → Arr F S11700x6 .f32),
  binary main_v297 main_v267 main_v298 (subf : Arr F S11700x6 .f32 → Arr F S11700x6 .f32 → Arr F S11700x6 .f32),
  binary main_v268 main_v298 main_v299 (mulf : Arr F S11700x6 .f32 → Arr F S11700x6 .f32 → Arr F S11700x6 .f32),
  binary main_v268 main_v267 main_v300 (mulf : Arr F S11700x6 .f32 → Arr F S11700x6 .f32 → Arr F S11700x6 .f32),
  unary main_v293 main_v301 (broadcastInDim S11700x6x1 ![0, 1] bcast_S11700x6_S11700x6x1_0_1 : Arr F S11700x6 .f32 → Arr F S11700x6x1 .f32),
  unary main_v296 main_v302 (broadcastInDim S11700x6x1 ![0, 1] bcast_S11700x6_S11700x6x1_0_1 : Arr F S11700x6 .f32 → Arr F S11700x6x1 .f32),
  unary main_v299 main_v303 (broadcastInDim S11700x6x1 ![0, 1] bcast_S11700x6_S11700x6x1_0_1 : Arr F S11700x6 .f32 → Arr F S11700x6x1 .f32),
  unary main_v300 main_v304 (broadcastInDim S11700x6x1 ![0, 1] bcast_S11700x6_S11700x6x1_0_1 : Arr F S11700x6 .f32 → Arr F S11700x6x1 .f32),
  nary ![main_v301, main_v302, main_v303, main_v304] main_v305 (fun u => (concatenate S11700x6x4 2 [⟨S11700x6x1, (u 0 : Arr F S11700x6x1 .f32)⟩, ⟨S11700x6x1, (u 1 : Arr F S11700x6x1 .f32)⟩, ⟨S11700x6x1, (u 2 : Arr F S11700x6x1 .f32)⟩, ⟨S11700x6x1, (u 3 : Arr F S11700x6x1 .f32)⟩] concatenates_S11700x6x1_S11700x6x1_S11700x6x1_S11700x6x1_S11700x6x4_d2 : Arr F S11700x6x4 .f32)),
  nullary main_c_61 (constantI S_ 32 0#32),
  unary main_c_61 main_v306 (broadcastInDim S11700x6x4 ![] bcast_S_S11700x6x4 : Arr F S_ .i32 → Arr F S11700x6x4 .i32)]

def rT1 : List (HloOp τ sig (Elt F)) := [
  binary main_v279 main_v306 main_v307 (cmpi .sge : Arr F S11700x6x4 .i32 → Arr F S11700x6x4 .i32 → Arr F S11700x6x4 .i1),
  nullary main_c_62 (constantI S_ 32 88#32),
  unary main_c_62 main_v308 (broadcastInDim S11700x6x4 ![] bcast_S_S11700x6x4 : Arr F S_ .i32 → Arr F S11700x6x4 .i32),
  binary main_v279 main_v308 main_v309 (cmpi .slt : Arr F S11700x6x4 .i32 → Arr F S11700x6x4 .i32 → Arr F S11700x6x4 .i1),
  binary main_v307 main_v309 main_v310 (andi : Arr F S11700x6x4 .i1 → Arr F S11700x6x4 .i1 → Arr F S11700x6x4 .i1),
  nullary main_c_63 (constantI S_ 32 0#32),
  unary main_c_63 main_v311 (broadcastInDim S11700x6x4 ![] bcast_S_S11700x6x4 : Arr F S_ .i32 → Arr F S11700x6x4 .i32),
  binary main_v288 main_v311 main_v312 (cmpi .sge : Arr F S11700x6x4 .i32 → Arr F S11700x6x4 .i32 → Arr F S11700x6x4 .i1),
  binary main_v310 main_v312 main_v313 (andi : Arr F S11700x6x4 .i1 → Arr F S11700x6x4 .i1 → Arr F S11700x6x4 .i1),
  nullary main_c_64 (constantI S_ 32 32#32),
  unary main_c_64 main_v314 (broadcastInDim S11700x6x4 ![] bcast_S_S11700x6x4 : Arr F S_ .i32 → Arr F S11700x6x4 .i32),
  binary main_v288 main_v314 main_v315 (cmpi .slt : Arr F S11700x6x4 .i32 → Arr F S11700x6x4 .i32 → Arr F S11700x6x4 .i1),
  binary main_v313 main_v315 main_v316 (andi : Arr F S11700x6x4 .i1 → Arr F S11700x6x4 .i1 → Arr F S11700x6x4 .i1),
  unary main_v316 main_v317 (uitofp .f32 : Arr F S11700x6x4 .i1 → Arr F S11700x6x4 .f32),
  nullary main_v318 (iotaInDim S6 32 0),
  unary main_v318 main_v319 (broadcastInDim S1x6x1 ![1] bcast_S6_S1x6x1_1 : Arr F S6 .i32 → Arr F S1x6x1 .i32),
  nullary main_c_65 (constantI S_ 32 32#32),
  unary main_c_65 main_v320 (broadcastInDim S1x6x1 ![] bcast_S_S1x6x1 : Arr F S_ .i32 → Arr F S1x6x1 .i32),
  binary main_v319 main_v320 main_v321 (muli : Arr F S1x6x1 .i32 → Arr F S1x6x1 .i32 → Arr F S1x6x1 .i32),
  nullary main_c_66 (constantI S_ 32 0#32),
  nullary main_c_67 (constantI S_ 32 31#32),
  TRef.unary (.of (T := ⟨S_, .i32⟩) main_c_66) (.of (T := ⟨S_, .i32⟩) main_call6_v0) id,
  TRef.unary (.of (T := ⟨S_, .i32⟩) main_call6_v0) (.of (T := ⟨S11700x6x4, .i32⟩) main_call6_v1) (broadcastInDim S11700x6x4 ![] bcast_S_S11700x6x4),
  TRef.binary (.of (T := ⟨S11700x6x4, .i32⟩) main_call6_v1) (.of (T := ⟨S11700x6x4, .i32⟩) main_v288) (.of (T := ⟨S11700x6x4, .i32⟩) main_call6_v2) maxsi,
  TRef.unary (.of (T := ⟨S_, .i32⟩) main_c_67) (.of (T := ⟨S_, .i32⟩) main_call6_v3) id,
  TRef.unary (.of (T := ⟨S_, .i32⟩) main_call6_v3) (.of (T := ⟨S11700x6x4, .i32⟩) main_call6_v4) (broadcastInDim S11700x6x4 ![] bcast_S_S11700x6x4),
  TRef.binary (.of (T := ⟨S11700x6x4, .i32⟩) main_call6_v4) (.of (T := ⟨S11700x6x4, .i32⟩) main_call6_v2) (.of (T := ⟨S11700x6x4, .i32⟩) main_v322) minsi,
  unary main_v321 main_v323 (broadcastInDim S11700x6x4 ![0, 1, 2] bcast_S1x6x1_S11700x6x4_0_1_2 : Arr F S1x6x1 .i32 → Arr F S11700x6x4 .i32),
  binary main_v323 main_v322 main_v324 (addi : Arr F S11700x6x4 .i32 → Arr F S11700x6x4 .i32 → Arr F S11700x6x4 .i32),
  nullary main_c_68 (constantI S_ 32 88#32),
  unary main_c_68 main_v325 (broadcastInDim S11700x6x4 ![] bcast_S_S11700x6x4 : Arr F S_ .i32 → Arr F S11700x6x4 .i32),
  binary main_v324 main_v325 main_v326 (muli : Arr F S11700x6x4 .i32 → Arr F S11700x6x4 .i32 → Arr F S11700x6x4 .i32),
  nullary main_c_69 (constantI S_ 32 0#32),
  nullary main_c_70 (constantI S_ 32 87#32),
  TRef.unary (.of (T := ⟨S_, .i32⟩) main_c_69) (.of (T := ⟨S_, .i32⟩) main_call7_v0) id,
  TRef.unary (.of (T := ⟨S_, .i32⟩) main_call7_v0) (.of (T := ⟨S11700x6x4, .i32⟩) main_call7_v1) (broadcastInDim S11700x6x4 ![] bcast_S_S11700x6x4),
  TRef.binary (.of (T := ⟨S11700x6x4, .i32⟩) main_call7_v1) (.of (T := ⟨S11700x6x4, .i32⟩) main_v279) (.of (T := ⟨S11700x6x4, .i32⟩) main_call7_v2) maxsi,
  TRef.unary (.of (T := ⟨S_, .i32⟩) main_c_70) (.of (T := ⟨S_, .i32⟩) main_call7_v3) id,
  TRef.unary (.of (T := ⟨S_, .i32⟩) main_call7_v3) (.of (T := ⟨S11700x6x4, .i32⟩) main_call7_v4) (broadcastInDim S11700x6x4 ![] bcast_S_S11700x6x4),
  TRef.binary (.of (T := ⟨S11700x6x4, .i32⟩) main_call7_v4) (.of (T := ⟨S11700x6x4, .i32⟩) main_call7_v2) (.of (T := ⟨S11700x6x4, .i32⟩) main_v327) minsi,
  binary main_v326 main_v327 main_v328 (addi : Arr F S11700x6x4 .i32 → Arr F S11700x6x4 .i32 → Arr F S11700x6x4 .i32),
  TRef.unary (.of (T := ⟨S11700x6x4, .i32⟩) main_v328) (.of (T := ⟨S11700x6x4x1, .i32⟩) main_call8_v0) (broadcastInDim S11700x6x4x1 ![0, 1, 2] bcast_S11700x6x4_S11700x6x4x1_0_1_2),
  TRef.binary (.of (T := ⟨S16896x256, .f32⟩) main_v252) (.of (T := ⟨S11700x6x4x1, .i32⟩) main_call8_v0) (.of (T := ⟨S11700x6x4x256, .f32⟩) main_v329) (fun x i => Host.gather gather_S16896x256_S11700x6x4x1_S11700x6x4x256_3_0_n_n_0_3_1256 x i),
  binary main_v305 main_v317 main_v330 (mulf : Arr F S11700x6x4 .f32 → Arr F S11700x6x4 .f32 → Arr F S11700x6x4 .f32),
  unary main_v330 main_v331 (broadcastInDim S11700x6x4x1 ![0, 1, 2] bcast_S11700x6x4_S11700x6x4x1_0_1_2 : Arr F S11700x6x4 .f32 → Arr F S11700x6x4x1 .f32),
  unary main_v331 main_v332 (broadcastInDim S11700x6x4x256 ![0, 1, 2, 3] bcast_S11700x6x4x1_S11700x6x4x256_0_1_2_3 : Arr F S11700x6x4x1 .f32 → Arr F S11700x6x4x256 .f32),
  binary main_v329 main_v332 main_v333 (mulf : Arr F S11700x6x4x256 .f32 → Arr F S11700x6x4x256 .f32 → Arr F S11700x6x4x256 .f32),
  nullary main_cst_71 (constant S_ .f32 0x00000000#32),
  binary main_v333 main_cst_71 main_v334 ((fun x v => Host.reduceAdd x v reducesTo_S11700x6x4x256_S11700x6x256_d2 h_S_) : Arr F S11700x6x4x256 .f32 → Arr F S_ .f32 → Arr F S11700x6x256 .f32)]

def rS1 : List (HloOp τ sig (Elt F)) := [
  unary main_v131 main_v335 ((extractStridedSlice S11700x6x1x8 ![0, 0, 1, 0] · slices_S11700x6x4x8_S11700x6x1x8_0_0_1_0) : Arr F S11700x6x4x8 .f32 → Arr F S11700x6x1x8 .f32),
  reshape main_v335 main_v336 (rfl : (.f32 : EltTy) = .f32) shapeCasts_S11700x6x1x8_S11700x6x8,
  unary main_v336 main_v337 (broadcastInDim S11700x6x8x32 ![0, 1, 2] bcast_S11700x6x8_S11700x6x8x32_0_1_2 : Arr F S11700x6x8 .f32 → Arr F S11700x6x8x32 .f32),
  reshape main_v337 main_v338 (rfl : (.f32 : EltTy) = .f32) shapeCasts_S11700x6x8x32_S11700x6x256,
  binary main_v334 main_v338 main_v339 (mulf : Arr F S11700x6x256 .f32 → Arr F S11700x6x256 .f32 → Arr F S11700x6x256 .f32),
  nullary main_cst_72 (constant S_ .f32 0x00000000#32),
  binary main_v339 main_cst_72 main_v340 ((fun x v => Host.reduceAdd x v reducesTo_S11700x6x256_S11700x256_d1 h_S_) : Arr F S11700x6x256 .f32 → Arr F S_ .f32 → Arr F S11700x256 .f32),
  binary main_v250 main_v340 main_v341 (addf : Arr F S11700x256 .f32 → Arr F S11700x256 .f32 → Arr F S11700x256 .f32)]

def r17 : List (HloOp τ sig (Elt F)) := [
  unary main_v157 main_v342 ((transpose S6x16x44x256 [0, 2, 3, 1] · transposes_S6x256x16x44_S6x16x44x256_0_2_3_1) : Arr F S6x256x16x44 .f32 → Arr F S6x16x44x256 .f32),
  reshape main_v342 main_v343 (rfl : (.f32 : EltTy) = .f32) shapeCasts_S6x16x44x256_S4224x256,
  unary main_v154 main_v344 ((extractStridedSlice S11700x6x1 ![0, 0, 0] · slices_S11700x6x2_S11700x6x1_0_0_0) : Arr F S11700x6x2 .f32 → Arr F S11700x6x1 .f32)]

def r18 : List (HloOp τ sig (Elt F)) := [
  reshape main_v344 main_v345 (rfl : (.f32 : EltTy) = .f32) shapeCasts_S11700x6x1_S11700x6,
  nullary main_cst_73 (constant S_ .f32 0x42300000#32),
  unary main_cst_73 main_v346 (broadcastInDim S11700x6 ![] bcast_S_S11700x6 : Arr F S_ .f32 → Arr F S11700x6 .f32),
  binary main_v345 main_v346 main_v347 (mulf : Arr F S11700x6 .f32 → Arr F S11700x6 .f32 → Arr F S11700x6 .f32),
  nullary main_cst_74 (constant S_ .f32 0x3F000000#32),
  unary main_cst_74 main_v348 (broadcastInDim S11700x6 ![] bcast_S_S11700x6 : Arr F S_ .f32 → Arr F S11700x6 .f32),
  binary main_v347 main_v348 main_v349 (subf : Arr F S11700x6 .f32 → Arr F S11700x6 .f32 → Arr F S11700x6 .f32),
  unary main_v154 main_v350 ((extractStridedSlice S11700x6x1 ![0, 0, 1] · slices_S11700x6x2_S11700x6x1_0_0_1) : Arr F S11700x6x2 .f32 → Arr F S11700x6x1 .f32),
  reshape main_v350 main_v351 (rfl : (.f32 : EltTy) = .f32) shapeCasts_S11700x6x1_S11700x6,
  nullary main_cst_75 (constant S_ .f32 0x41800000#32),
  unary main_cst_75 main_v352 (broadcastInDim S11700x6 ![] bcast_S_S11700x6 : Arr F S_ .f32 → Arr F S11700x6 .f32),
  binary main_v351 main_v352 main_v353 (mulf : Arr F S11700x6 .f32 → Arr F S11700x6 .f32 → Arr F S11700x6 .f32),
  nullary main_cst_76 (constant S_ .f32 0x3F000000#32),
  unary main_cst_76 main_v354 (broadcastInDim S11700x6 ![] bcast_S_S11700x6 : Arr F S_ .f32 → Arr F S11700x6 .f32),
  binary main_v353 main_v354 main_v355 (subf : Arr F S11700x6 .f32 → Arr F S11700x6 .f32 → Arr F S11700x6 .f32),
  unary main_v349 main_v356 (Host.floor : Arr F S11700x6 .f32 → Arr F S11700x6 .f32),
  unary main_v355 main_v357 (Host.floor : Arr F S11700x6 .f32 → Arr F S11700x6 .f32),
  binary main_v349 main_v356 main_v358 (subf : Arr F S11700x6 .f32 → Arr F S11700x6 .f32 → Arr F S11700x6 .f32),
  binary main_v355 main_v357 main_v359 (subf : Arr F S11700x6 .f32 → Arr F S11700x6 .f32 → Arr F S11700x6 .f32),
  unary main_v356 main_v360 (fptosi 32 : Arr F S11700x6 .f32 → Arr F S11700x6 .i32),
  unary main_v357 main_v361 (fptosi 32 : Arr F S11700x6 .f32 → Arr F S11700x6 .i32),
  nullary main_c_77 (constantI S_ 32 1#32),
  unary main_c_77 main_v362 (broadcastInDim S11700x6 ![] bcast_S_S11700x6 : Arr F S_ .i32 → Arr F S11700x6 .i32),
  binary main_v360 main_v362 main_v363 (addi : Arr F S11700x6 .i32 → Arr F S11700x6 .i32 → Arr F S11700x6 .i32),
  nullary main_c_78 (constantI S_ 32 1#32),
  unary main_c_78 main_v364 (broadcastInDim S11700x6 ![] bcast_S_S11700x6 : Arr F S_ .i32 → Arr F S11700x6 .i32),
  binary main_v360 main_v364 main_v365 (addi : Arr F S11700x6 .i32 → Arr F S11700x6 .i32 → Arr F S11700x6 .i32),
  unary main_v360 main_v366 (broadcastInDim S11700x6x1 ![0, 1] bcast_S11700x6_S11700x6x1_0_1 : Arr F S11700x6 .i32 → Arr F S11700x6x1 .i32),
  unary main_v363 main_v367 (broadcastInDim S11700x6x1 ![0, 1] bcast_S11700x6_S11700x6x1_0_1 : Arr F S11700x6 .i32 → Arr F S11700x6x1 .i32),
  unary main_v360 main_v368 (broadcastInDim S11700x6x1 ![0, 1] bcast_S11700x6_S11700x6x1_0_1 : Arr F S11700x6 .i32 → Arr F S11700x6x1 .i32),
  unary main_v365 main_v369 (broadcastInDim S11700x6x1 ![0, 1] bcast_S11700x6_S11700x6x1_0_1 : Arr F S11700x6 .i32 → Arr F S11700x6x1 .i32),
  nary ![main_v366, main_v367, main_v368, main_v369] main_v370 (fun u => (concatenate S11700x6x4 2 [⟨S11700x6x1, (u 0 : Arr F S11700x6x1 .i32)⟩, ⟨S11700x6x1, (u 1 : Arr F S11700x6x1 .i32)⟩, ⟨S11700x6x1, (u 2 : Arr F S11700x6x1 .i32)⟩, ⟨S11700x6x1, (u 3 : Arr F S11700x6x1 .i32)⟩] concatenates_S11700x6x1_S11700x6x1_S11700x6x1_S11700x6x1_S11700x6x4_d2 : Arr F S11700x6x4 .i32)),
  nullary main_c_79 (constantI S_ 32 1#32)]

def rY2 : List (HloOp τ sig (Elt F)) := [
  unary main_c_79 main_v371 (broadcastInDim S11700x6 ![] bcast_S_S11700x6 : Arr F S_ .i32 → Arr F S11700x6 .i32),
  binary main_v361 main_v371 main_v372 (addi : Arr F S11700x6 .i32 → Arr F S11700x6 .i32 → Arr F S11700x6 .i32),
  nullary main_c_80 (constantI S_ 32 1#32),
  unary main_c_80 main_v373 (broadcastInDim S11700x6 ![] bcast_S_S11700x6 : Arr F S_ .i32 → Arr F S11700x6 .i32),
  binary main_v361 main_v373 main_v374 (addi : Arr F S11700x6 .i32 → Arr F S11700x6 .i32 → Arr F S11700x6 .i32),
  unary main_v361 main_v375 (broadcastInDim S11700x6x1 ![0, 1] bcast_S11700x6_S11700x6x1_0_1 : Arr F S11700x6 .i32 → Arr F S11700x6x1 .i32),
  unary main_v361 main_v376 (broadcastInDim S11700x6x1 ![0, 1] bcast_S11700x6_S11700x6x1_0_1 : Arr F S11700x6 .i32 → Arr F S11700x6x1 .i32),
  unary main_v372 main_v377 (broadcastInDim S11700x6x1 ![0, 1] bcast_S11700x6_S11700x6x1_0_1 : Arr F S11700x6 .i32 → Arr F S11700x6x1 .i32),
  unary main_v374 main_v378 (broadcastInDim S11700x6x1 ![0, 1] bcast_S11700x6_S11700x6x1_0_1 : Arr F S11700x6 .i32 → Arr F S11700x6x1 .i32),
  nary ![main_v375, main_v376, main_v377, main_v378] main_v379 (fun u => (concatenate S11700x6x4 2 [⟨S11700x6x1, (u 0 : Arr F S11700x6x1 .i32)⟩, ⟨S11700x6x1, (u 1 : Arr F S11700x6x1 .i32)⟩, ⟨S11700x6x1, (u 2 : Arr F S11700x6x1 .i32)⟩, ⟨S11700x6x1, (u 3 : Arr F S11700x6x1 .i32)⟩] concatenates_S11700x6x1_S11700x6x1_S11700x6x1_S11700x6x1_S11700x6x4_d2 : Arr F S11700x6x4 .i32)),
  nullary main_cst_81 (constant S_ .f32 0x3F800000#32)]

def r20 : List (HloOp τ sig (Elt F)) := [
  unary main_cst_81 main_v380 (broadcastInDim S11700x6 ![] bcast_S_S11700x6 : Arr F S_ .f32 → Arr F S11700x6 .f32),
  binary main_v380 main_v359 main_v381 (subf : Arr F S11700x6 .f32 → Arr F S11700x6 .f32 → Arr F S11700x6 .f32),
  nullary main_cst_82 (constant S_ .f32 0x3F800000#32),
  unary main_cst_82 main_v382 (broadcastInDim S11700x6 ![] bcast_S_S11700x6 : Arr F S_ .f32 → Arr F S11700x6 .f32),
  binary main_v382 main_v358 main_v383 (subf : Arr F S11700x6 .f32 → Arr F S11700x6 .f32 → Arr F S11700x6 .f32),
  binary main_v381 main_v383 main_v384 (mulf : Arr F S11700x6 .f32 → Arr F S11700x6 .f32 → Arr F S11700x6 .f32),
  nullary main_cst_83 (constant S_ .f32 0x3F800000#32),
  unary main_cst_83 main_v385 (broadcastInDim S11700x6 ![] bcast_S_S11700x6 : Arr F S_ .f32 → Arr F S11700x6 .f32),
  binary main_v385 main_v359 main_v386 (subf : Arr F S11700x6 .f32 → Arr F S11700x6 .f32 → Arr F S11700x6 .f32),
  binary main_v386 main_v358 main_v387 (mulf : Arr F S11700x6 .f32 → Arr F S11700x6 .f32 → Arr F S11700x6 .f32),
  nullary main_cst_84 (constant S_ .f32 0x3F800000#32),
  unary main_cst_84 main_v388 (broadcastInDim S11700x6 ![] bcast_S_S11700x6 : Arr F S_ .f32 → Arr F S11700x6 .f32),
  binary main_v388 main_v358 main_v389 (subf : Arr F S11700x6 .f32 → Arr F S11700x6 .f32 → Arr F S11700x6 .f32),
  binary main_v359 main_v389 main_v390 (mulf : Arr F S11700x6 .f32 → Arr F S11700x6 .f32 → Arr F S11700x6 .f32),
  binary main_v359 main_v358 main_v391 (mulf : Arr F S11700x6 .f32 → Arr F S11700x6 .f32 → Arr F S11700x6 .f32),
  unary main_v384 main_v392 (broadcastInDim S11700x6x1 ![0, 1] bcast_S11700x6_S11700x6x1_0_1 : Arr F S11700x6 .f32 → Arr F S11700x6x1 .f32)]

def r21 : List (HloOp τ sig (Elt F)) := [
  unary main_v387 main_v393 (broadcastInDim S11700x6x1 ![0, 1] bcast_S11700x6_S11700x6x1_0_1 : Arr F S11700x6 .f32 → Arr F S11700x6x1 .f32),
  unary main_v390 main_v394 (broadcastInDim S11700x6x1 ![0, 1] bcast_S11700x6_S11700x6x1_0_1 : Arr F S11700x6 .f32 → Arr F S11700x6x1 .f32),
  unary main_v391 main_v395 (broadcastInDim S11700x6x1 ![0, 1] bcast_S11700x6_S11700x6x1_0_1 : Arr F S11700x6 .f32 → Arr F S11700x6x1 .f32),
  nary ![main_v392, main_v393, main_v394, main_v395] main_v396 (fun u => (concatenate S11700x6x4 2 [⟨S11700x6x1, (u 0 : Arr F S11700x6x1 .f32)⟩, ⟨S11700x6x1, (u 1 : Arr F S11700x6x1 .f32)⟩, ⟨S11700x6x1, (u 2 : Arr F S11700x6x1 .f32)⟩, ⟨S11700x6x1, (u 3 : Arr F S11700x6x1 .f32)⟩] concatenates_S11700x6x1_S11700x6x1_S11700x6x1_S11700x6x1_S11700x6x4_d2 : Arr F S11700x6x4 .f32)),
  nullary main_c_85 (constantI S_ 32 0#32),
  unary main_c_85 main_v397 (broadcastInDim S11700x6x4 ![] bcast_S_S11700x6x4 : Arr F S_ .i32 → Arr F S11700x6x4 .i32)]

def rT2 : List (HloOp τ sig (Elt F)) := [
  binary main_v370 main_v397 main_v398 (cmpi .sge : Arr F S11700x6x4 .i32 → Arr F S11700x6x4 .i32 → Arr F S11700x6x4 .i1),
  nullary main_c_86 (constantI S_ 32 44#32),
  unary main_c_86 main_v399 (broadcastInDim S11700x6x4 ![] bcast_S_S11700x6x4 : Arr F S_ .i32 → Arr F S11700x6x4 .i32),
  binary main_v370 main_v399 main_v400 (cmpi .slt : Arr F S11700x6x4 .i32 → Arr F S11700x6x4 .i32 → Arr F S11700x6x4 .i1),
  binary main_v398 main_v400 main_v401 (andi : Arr F S11700x6x4 .i1 → Arr F S11700x6x4 .i1 → Arr F S11700x6x4 .i1),
  nullary main_c_87 (constantI S_ 32 0#32),
  unary main_c_87 main_v402 (broadcastInDim S11700x6x4 ![] bcast_S_S11700x6x4 : Arr F S_ .i32 → Arr F S11700x6x4 .i32),
  binary main_v379 main_v402 main_v403 (cmpi .sge : Arr F S11700x6x4 .i32 → Arr F S11700x6x4 .i32 → Arr F S11700x6x4 .i1),
  binary main_v401 main_v403 main_v404 (andi : Arr F S11700x6x4 .i1 → Arr F S11700x6x4 .i1 → Arr F S11700x6x4 .i1),
  nullary main_c_88 (constantI S_ 32 16#32),
  unary main_c_88 main_v405 (broadcastInDim S11700x6x4 ![] bcast_S_S11700x6x4 : Arr F S_ .i32 → Arr F S11700x6x4 .i32),
  binary main_v379 main_v405 main_v406 (cmpi .slt : Arr F S11700x6x4 .i32 → Arr F S11700x6x4 .i32 → Arr F S11700x6x4 .i1),
  binary main_v404 main_v406 main_v407 (andi : Arr F S11700x6x4 .i1 → Arr F S11700x6x4 .i1 → Arr F S11700x6x4 .i1),
  unary main_v407 main_v408 (uitofp .f32 : Arr F S11700x6x4 .i1 → Arr F S11700x6x4 .f32),
  nullary main_v409 (iotaInDim S6 32 0),
  unary main_v409 main_v410 (broadcastInDim S1x6x1 ![1] bcast_S6_S1x6x1_1 : Arr F S6 .i32 → Arr F S1x6x1 .i32),
  nullary main_c_89 (constantI S_ 32 16#32),
  unary main_c_89 main_v411 (broadcastInDim S1x6x1 ![] bcast_S_S1x6x1 : Arr F S_ .i32 → Arr F S1x6x1 .i32),
  binary main_v410 main_v411 main_v412 (muli : Arr F S1x6x1 .i32 → Arr F S1x6x1 .i32 → Arr F S1x6x1 .i32),
  nullary main_c_90 (constantI S_ 32 0#32),
  nullary main_c_91 (constantI S_ 32 15#32),
  TRef.unary (.of (T := ⟨S_, .i32⟩) main_c_90) (.of (T := ⟨S_, .i32⟩) main_call9_v0) id,
  TRef.unary (.of (T := ⟨S_, .i32⟩) main_call9_v0) (.of (T := ⟨S11700x6x4, .i32⟩) main_call9_v1) (broadcastInDim S11700x6x4 ![] bcast_S_S11700x6x4),
  TRef.binary (.of (T := ⟨S11700x6x4, .i32⟩) main_call9_v1) (.of (T := ⟨S11700x6x4, .i32⟩) main_v379) (.of (T := ⟨S11700x6x4, .i32⟩) main_call9_v2) maxsi,
  TRef.unary (.of (T := ⟨S_, .i32⟩) main_c_91) (.of (T := ⟨S_, .i32⟩) main_call9_v3) id,
  TRef.unary (.of (T := ⟨S_, .i32⟩) main_call9_v3) (.of (T := ⟨S11700x6x4, .i32⟩) main_call9_v4) (broadcastInDim S11700x6x4 ![] bcast_S_S11700x6x4),
  TRef.binary (.of (T := ⟨S11700x6x4, .i32⟩) main_call9_v4) (.of (T := ⟨S11700x6x4, .i32⟩) main_call9_v2) (.of (T := ⟨S11700x6x4, .i32⟩) main_v413) minsi,
  unary main_v412 main_v414 (broadcastInDim S11700x6x4 ![0, 1, 2] bcast_S1x6x1_S11700x6x4_0_1_2 : Arr F S1x6x1 .i32 → Arr F S11700x6x4 .i32),
  binary main_v414 main_v413 main_v415 (addi : Arr F S11700x6x4 .i32 → Arr F S11700x6x4 .i32 → Arr F S11700x6x4 .i32),
  nullary main_c_92 (constantI S_ 32 44#32),
  unary main_c_92 main_v416 (broadcastInDim S11700x6x4 ![] bcast_S_S11700x6x4 : Arr F S_ .i32 → Arr F S11700x6x4 .i32),
  binary main_v415 main_v416 main_v417 (muli : Arr F S11700x6x4 .i32 → Arr F S11700x6x4 .i32 → Arr F S11700x6x4 .i32),
  nullary main_c_93 (constantI S_ 32 0#32),
  nullary main_c_94 (constantI S_ 32 43#32),
  TRef.unary (.of (T := ⟨S_, .i32⟩) main_c_93) (.of (T := ⟨S_, .i32⟩) main_call10_v0) id,
  TRef.unary (.of (T := ⟨S_, .i32⟩) main_call10_v0) (.of (T := ⟨S11700x6x4, .i32⟩) main_call10_v1) (broadcastInDim S11700x6x4 ![] bcast_S_S11700x6x4),
  TRef.binary (.of (T := ⟨S11700x6x4, .i32⟩) main_call10_v1) (.of (T := ⟨S11700x6x4, .i32⟩) main_v370) (.of (T := ⟨S11700x6x4, .i32⟩) main_call10_v2) maxsi,
  TRef.unary (.of (T := ⟨S_, .i32⟩) main_c_94) (.of (T := ⟨S_, .i32⟩) main_call10_v3) id,
  TRef.unary (.of (T := ⟨S_, .i32⟩) main_call10_v3) (.of (T := ⟨S11700x6x4, .i32⟩) main_call10_v4) (broadcastInDim S11700x6x4 ![] bcast_S_S11700x6x4),
  TRef.binary (.of (T := ⟨S11700x6x4, .i32⟩) main_call10_v4) (.of (T := ⟨S11700x6x4, .i32⟩) main_call10_v2) (.of (T := ⟨S11700x6x4, .i32⟩) main_v418) minsi,
  binary main_v417 main_v418 main_v419 (addi : Arr F S11700x6x4 .i32 → Arr F S11700x6x4 .i32 → Arr F S11700x6x4 .i32),
  TRef.unary (.of (T := ⟨S11700x6x4, .i32⟩) main_v419) (.of (T := ⟨S11700x6x4x1, .i32⟩) main_call11_v0) (broadcastInDim S11700x6x4x1 ![0, 1, 2] bcast_S11700x6x4_S11700x6x4x1_0_1_2),
  TRef.binary (.of (T := ⟨S4224x256, .f32⟩) main_v343) (.of (T := ⟨S11700x6x4x1, .i32⟩) main_call11_v0) (.of (T := ⟨S11700x6x4x256, .f32⟩) main_v420) (fun x i => Host.gather gather_S4224x256_S11700x6x4x1_S11700x6x4x256_3_0_n_n_0_3_1256 x i),
  binary main_v396 main_v408 main_v421 (mulf : Arr F S11700x6x4 .f32 → Arr F S11700x6x4 .f32 → Arr F S11700x6x4 .f32),
  unary main_v421 main_v422 (broadcastInDim S11700x6x4x1 ![0, 1, 2] bcast_S11700x6x4_S11700x6x4x1_0_1_2 : Arr F S11700x6x4 .f32 → Arr F S11700x6x4x1 .f32),
  unary main_v422 main_v423 (broadcastInDim S11700x6x4x256 ![0, 1, 2, 3] bcast_S11700x6x4x1_S11700x6x4x256_0_1_2_3 : Arr F S11700x6x4x1 .f32 → Arr F S11700x6x4x256 .f32),
  binary main_v420 main_v423 main_v424 (mulf : Arr F S11700x6x4x256 .f32 → Arr F S11700x6x4x256 .f32 → Arr F S11700x6x4x256 .f32),
  nullary main_cst_95 (constant S_ .f32 0x00000000#32),
  binary main_v424 main_cst_95 main_v425 ((fun x v => Host.reduceAdd x v reducesTo_S11700x6x4x256_S11700x6x256_d2 h_S_) : Arr F S11700x6x4x256 .f32 → Arr F S_ .f32 → Arr F S11700x6x256 .f32)]

def rS2 : List (HloOp τ sig (Elt F)) := [
  unary main_v131 main_v426 ((extractStridedSlice S11700x6x1x8 ![0, 0, 2, 0] · slices_S11700x6x4x8_S11700x6x1x8_0_0_2_0) : Arr F S11700x6x4x8 .f32 → Arr F S11700x6x1x8 .f32),
  reshape main_v426 main_v427 (rfl : (.f32 : EltTy) = .f32) shapeCasts_S11700x6x1x8_S11700x6x8,
  unary main_v427 main_v428 (broadcastInDim S11700x6x8x32 ![0, 1, 2] bcast_S11700x6x8_S11700x6x8x32_0_1_2 : Arr F S11700x6x8 .f32 → Arr F S11700x6x8x32 .f32),
  reshape main_v428 main_v429 (rfl : (.f32 : EltTy) = .f32) shapeCasts_S11700x6x8x32_S11700x6x256,
  binary main_v425 main_v429 main_v430 (mulf : Arr F S11700x6x256 .f32 → Arr F S11700x6x256 .f32 → Arr F S11700x6x256 .f32),
  nullary main_cst_96 (constant S_ .f32 0x00000000#32),
  binary main_v430 main_cst_96 main_v431 ((fun x v => Host.reduceAdd x v reducesTo_S11700x6x256_S11700x256_d1 h_S_) : Arr F S11700x6x256 .f32 → Arr F S_ .f32 → Arr F S11700x256 .f32),
  binary main_v341 main_v431 main_v432 (addf : Arr F S11700x256 .f32 → Arr F S11700x256 .f32 → Arr F S11700x256 .f32)]

def r24 : List (HloOp τ sig (Elt F)) := [
  unary main_v158 main_v433 ((transpose S6x8x22x256 [0, 2, 3, 1] · transposes_S6x256x8x22_S6x8x22x256_0_2_3_1) : Arr F S6x256x8x22 .f32 → Arr F S6x8x22x256 .f32),
  reshape main_v433 main_v434 (rfl : (.f32 : EltTy) = .f32) shapeCasts_S6x8x22x256_S1056x256,
  unary main_v154 main_v435 ((extractStridedSlice S11700x6x1 ![0, 0, 0] · slices_S11700x6x2_S11700x6x1_0_0_0) : Arr F S11700x6x2 .f32 → Arr F S11700x6x1 .f32),
  reshape main_v435 main_v436 (rfl : (.f32 : EltTy) = .f32) shapeCasts_S11700x6x1_S11700x6,
  nullary main_cst_97 (constant S_ .f32 0x41B00000#32),
  unary main_cst_97 main_v437 (broadcastInDim S11700x6 ![] bcast_S_S11700x6 : Arr F S_ .f32 → Arr F S11700x6 .f32),
  binary main_v436 main_v437 main_v438 (mulf : Arr F S11700x6 .f32 → Arr F S11700x6 .f32 → Arr F S11700x6 .f32),
  nullary main_cst_98 (constant S_ .f32 0x3F000000#32)]

def r25 : List (HloOp τ sig (Elt F)) := [
  unary main_cst_98 main_v439 (broadcastInDim S11700x6 ![] bcast_S_S11700x6 : Arr F S_ .f32 → Arr F S11700x6 .f32),
  binary main_v438 main_v439 main_v440 (subf : Arr F S11700x6 .f32 → Arr F S11700x6 .f32 → Arr F S11700x6 .f32),
  unary main_v154 main_v441 ((extractStridedSlice S11700x6x1 ![0, 0, 1] · slices_S11700x6x2_S11700x6x1_0_0_1) : Arr F S11700x6x2 .f32 → Arr F S11700x6x1 .f32),
  reshape main_v441 main_v442 (rfl : (.f32 : EltTy) = .f32) shapeCasts_S11700x6x1_S11700x6,
  nullary main_cst_99 (constant S_ .f32 0x41000000#32),
  unary main_cst_99 main_v443 (broadcastInDim S11700x6 ![] bcast_S_S11700x6 : Arr F S_ .f32 → Arr F S11700x6 .f32),
  binary main_v442 main_v443 main_v444 (mulf : Arr F S11700x6 .f32 → Arr F S11700x6 .f32 → Arr F S11700x6 .f32),
  nullary main_cst_100 (constant S_ .f32 0x3F000000#32),
  unary main_cst_100 main_v445 (broadcastInDim S11700x6 ![] bcast_S_S11700x6 : Arr F S_ .f32 → Arr F S11700x6 .f32),
  binary main_v444 main_v445 main_v446 (subf : Arr F S11700x6 .f32 → Arr F S11700x6 .f32 → Arr F S11700x6 .f32),
  unary main_v440 main_v447 (Host.floor : Arr F S11700x6 .f32 → Arr F S11700x6 .f32),
  unary main_v446 main_v448 (Host.floor : Arr F S11700x6 .f32 → Arr F S11700x6 .f32),
  binary main_v440 main_v447 main_v449 (subf : Arr F S11700x6 .f32 → Arr F S11700x6 .f32 → Arr F S11700x6 .f32),
  binary main_v446 main_v448 main_v450 (subf : Arr F S11700x6 .f32 → Arr F S11700x6 .f32 → Arr F S11700x6 .f32),
  unary main_v447 main_v451 (fptosi 32 : Arr F S11700x6 .f32 → Arr F S11700x6 .i32),
  unary main_v448 main_v452 (fptosi 32 : Arr F S11700x6 .f32 → Arr F S11700x6 .i32),
  nullary main_c_101 (constantI S_ 32 1#32),
  unary main_c_101 main_v453 (broadcastInDim S11700x6 ![] bcast_S_S11700x6 : Arr F S_ .i32 → Arr F S11700x6 .i32),
  binary main_v451 main_v453 main_v454 (addi : Arr F S11700x6 .i32 → Arr F S11700x6 .i32 → Arr F S11700x6 .i32),
  nullary main_c_102 (constantI S_ 32 1#32),
  unary main_c_102 main_v455 (broadcastInDim S11700x6 ![] bcast_S_S11700x6 : Arr F S_ .i32 → Arr F S11700x6 .i32),
  binary main_v451 main_v455 main_v456 (addi : Arr F S11700x6 .i32 → Arr F S11700x6 .i32 → Arr F S11700x6 .i32),
  unary main_v451 main_v457 (broadcastInDim S11700x6x1 ![0, 1] bcast_S11700x6_S11700x6x1_0_1 : Arr F S11700x6 .i32 → Arr F S11700x6x1 .i32),
  unary main_v454 main_v458 (broadcastInDim S11700x6x1 ![0, 1] bcast_S11700x6_S11700x6x1_0_1 : Arr F S11700x6 .i32 → Arr F S11700x6x1 .i32),
  unary main_v451 main_v459 (broadcastInDim S11700x6x1 ![0, 1] bcast_S11700x6_S11700x6x1_0_1 : Arr F S11700x6 .i32 → Arr F S11700x6x1 .i32),
  unary main_v456 main_v460 (broadcastInDim S11700x6x1 ![0, 1] bcast_S11700x6_S11700x6x1_0_1 : Arr F S11700x6 .i32 → Arr F S11700x6x1 .i32),
  nary ![main_v457, main_v458, main_v459, main_v460] main_v461 (fun u => (concatenate S11700x6x4 2 [⟨S11700x6x1, (u 0 : Arr F S11700x6x1 .i32)⟩, ⟨S11700x6x1, (u 1 : Arr F S11700x6x1 .i32)⟩, ⟨S11700x6x1, (u 2 : Arr F S11700x6x1 .i32)⟩, ⟨S11700x6x1, (u 3 : Arr F S11700x6x1 .i32)⟩] concatenates_S11700x6x1_S11700x6x1_S11700x6x1_S11700x6x1_S11700x6x4_d2 : Arr F S11700x6x4 .i32)),
  nullary main_c_103 (constantI S_ 32 1#32)]

def rY3 : List (HloOp τ sig (Elt F)) := [
  unary main_c_103 main_v462 (broadcastInDim S11700x6 ![] bcast_S_S11700x6 : Arr F S_ .i32 → Arr F S11700x6 .i32),
  binary main_v452 main_v462 main_v463 (addi : Arr F S11700x6 .i32 → Arr F S11700x6 .i32 → Arr F S11700x6 .i32),
  nullary main_c_104 (constantI S_ 32 1#32),
  unary main_c_104 main_v464 (broadcastInDim S11700x6 ![] bcast_S_S11700x6 : Arr F S_ .i32 → Arr F S11700x6 .i32),
  binary main_v452 main_v464 main_v465 (addi : Arr F S11700x6 .i32 → Arr F S11700x6 .i32 → Arr F S11700x6 .i32),
  unary main_v452 main_v466 (broadcastInDim S11700x6x1 ![0, 1] bcast_S11700x6_S11700x6x1_0_1 : Arr F S11700x6 .i32 → Arr F S11700x6x1 .i32),
  unary main_v452 main_v467 (broadcastInDim S11700x6x1 ![0, 1] bcast_S11700x6_S11700x6x1_0_1 : Arr F S11700x6 .i32 → Arr F S11700x6x1 .i32),
  unary main_v463 main_v468 (broadcastInDim S11700x6x1 ![0, 1] bcast_S11700x6_S11700x6x1_0_1 : Arr F S11700x6 .i32 → Arr F S11700x6x1 .i32),
  unary main_v465 main_v469 (broadcastInDim S11700x6x1 ![0, 1] bcast_S11700x6_S11700x6x1_0_1 : Arr F S11700x6 .i32 → Arr F S11700x6x1 .i32),
  nary ![main_v466, main_v467, main_v468, main_v469] main_v470 (fun u => (concatenate S11700x6x4 2 [⟨S11700x6x1, (u 0 : Arr F S11700x6x1 .i32)⟩, ⟨S11700x6x1, (u 1 : Arr F S11700x6x1 .i32)⟩, ⟨S11700x6x1, (u 2 : Arr F S11700x6x1 .i32)⟩, ⟨S11700x6x1, (u 3 : Arr F S11700x6x1 .i32)⟩] concatenates_S11700x6x1_S11700x6x1_S11700x6x1_S11700x6x1_S11700x6x4_d2 : Arr F S11700x6x4 .i32)),
  nullary main_cst_105 (constant S_ .f32 0x3F800000#32)]

def r27 : List (HloOp τ sig (Elt F)) := [
  unary main_cst_105 main_v471 (broadcastInDim S11700x6 ![] bcast_S_S11700x6 : Arr F S_ .f32 → Arr F S11700x6 .f32),
  binary main_v471 main_v450 main_v472 (subf : Arr F S11700x6 .f32 → Arr F S11700x6 .f32 → Arr F S11700x6 .f32),
  nullary main_cst_106 (constant S_ .f32 0x3F800000#32),
  unary main_cst_106 main_v473 (broadcastInDim S11700x6 ![] bcast_S_S11700x6 : Arr F S_ .f32 → Arr F S11700x6 .f32),
  binary main_v473 main_v449 main_v474 (subf : Arr F S11700x6 .f32 → Arr F S11700x6 .f32 → Arr F S11700x6 .f32),
  binary main_v472 main_v474 main_v475 (mulf : Arr F S11700x6 .f32 → Arr F S11700x6 .f32 → Arr F S11700x6 .f32),
  nullary main_cst_107 (constant S_ .f32 0x3F800000#32),
  unary main_cst_107 main_v476 (broadcastInDim S11700x6 ![] bcast_S_S11700x6 : Arr F S_ .f32 → Arr F S11700x6 .f32),
  binary main_v476 main_v450 main_v477 (subf : Arr F S11700x6 .f32 → Arr F S11700x6 .f32 → Arr F S11700x6 .f32),
  binary main_v477 main_v449 main_v478 (mulf : Arr F S11700x6 .f32 → Arr F S11700x6 .f32 → Arr F S11700x6 .f32),
  nullary main_cst_108 (constant S_ .f32 0x3F800000#32),
  unary main_cst_108 main_v479 (broadcastInDim S11700x6 ![] bcast_S_S11700x6 : Arr F S_ .f32 → Arr F S11700x6 .f32),
  binary main_v479 main_v449 main_v480 (subf : Arr F S11700x6 .f32 → Arr F S11700x6 .f32 → Arr F S11700x6 .f32),
  binary main_v450 main_v480 main_v481 (mulf : Arr F S11700x6 .f32 → Arr F S11700x6 .f32 → Arr F S11700x6 .f32),
  binary main_v450 main_v449 main_v482 (mulf : Arr F S11700x6 .f32 → Arr F S11700x6 .f32 → Arr F S11700x6 .f32),
  unary main_v475 main_v483 (broadcastInDim S11700x6x1 ![0, 1] bcast_S11700x6_S11700x6x1_0_1 : Arr F S11700x6 .f32 → Arr F S11700x6x1 .f32),
  unary main_v478 main_v484 (broadcastInDim S11700x6x1 ![0, 1] bcast_S11700x6_S11700x6x1_0_1 : Arr F S11700x6 .f32 → Arr F S11700x6x1 .f32),
  unary main_v481 main_v485 (broadcastInDim S11700x6x1 ![0, 1] bcast_S11700x6_S11700x6x1_0_1 : Arr F S11700x6 .f32 → Arr F S11700x6x1 .f32),
  unary main_v482 main_v486 (broadcastInDim S11700x6x1 ![0, 1] bcast_S11700x6_S11700x6x1_0_1 : Arr F S11700x6 .f32 → Arr F S11700x6x1 .f32),
  nary ![main_v483, main_v484, main_v485, main_v486] main_v487 (fun u => (concatenate S11700x6x4 2 [⟨S11700x6x1, (u 0 : Arr F S11700x6x1 .f32)⟩, ⟨S11700x6x1, (u 1 : Arr F S11700x6x1 .f32)⟩, ⟨S11700x6x1, (u 2 : Arr F S11700x6x1 .f32)⟩, ⟨S11700x6x1, (u 3 : Arr F S11700x6x1 .f32)⟩] concatenates_S11700x6x1_S11700x6x1_S11700x6x1_S11700x6x1_S11700x6x4_d2 : Arr F S11700x6x4 .f32)),
  nullary main_c_109 (constantI S_ 32 0#32)]

def r28 : List (HloOp τ sig (Elt F)) := [
  unary main_c_109 main_v488 (broadcastInDim S11700x6x4 ![] bcast_S_S11700x6x4 : Arr F S_ .i32 → Arr F S11700x6x4 .i32)]

def rT3 : List (HloOp τ sig (Elt F)) := [
  binary main_v461 main_v488 main_v489 (cmpi .sge : Arr F S11700x6x4 .i32 → Arr F S11700x6x4 .i32 → Arr F S11700x6x4 .i1),
  nullary main_c_110 (constantI S_ 32 22#32),
  unary main_c_110 main_v490 (broadcastInDim S11700x6x4 ![] bcast_S_S11700x6x4 : Arr F S_ .i32 → Arr F S11700x6x4 .i32),
  binary main_v461 main_v490 main_v491 (cmpi .slt : Arr F S11700x6x4 .i32 → Arr F S11700x6x4 .i32 → Arr F S11700x6x4 .i1),
  binary main_v489 main_v491 main_v492 (andi : Arr F S11700x6x4 .i1 → Arr F S11700x6x4 .i1 → Arr F S11700x6x4 .i1),
  nullary main_c_111 (constantI S_ 32 0#32),
  unary main_c_111 main_v493 (broadcastInDim S11700x6x4 ![] bcast_S_S11700x6x4 : Arr F S_ .i32 → Arr F S11700x6x4 .i32),
  binary main_v470 main_v493 main_v494 (cmpi .sge : Arr F S11700x6x4 .i32 → Arr F S11700x6x4 .i32 → Arr F S11700x6x4 .i1),
  binary main_v492 main_v494 main_v495 (andi : Arr F S11700x6x4 .i1 → Arr F S11700x6x4 .i1 → Arr F S11700x6x4 .i1),
  nullary main_c_112 (constantI S_ 32 8#32),
  unary main_c_112 main_v496 (broadcastInDim S11700x6x4 ![] bcast_S_S11700x6x4 : Arr F S_ .i32 → Arr F S11700x6x4 .i32),
  binary main_v470 main_v496 main_v497 (cmpi .slt : Arr F S11700x6x4 .i32 → Arr F S11700x6x4 .i32 → Arr F S11700x6x4 .i1),
  binary main_v495 main_v497 main_v498 (andi : Arr F S11700x6x4 .i1 → Arr F S11700x6x4 .i1 → Arr F S11700x6x4 .i1),
  unary main_v498 main_v499 (uitofp .f32 : Arr F S11700x6x4 .i1 → Arr F S11700x6x4 .f32),
  nullary main_v500 (iotaInDim S6 32 0),
  unary main_v500 main_v501 (broadcastInDim S1x6x1 ![1] bcast_S6_S1x6x1_1 : Arr F S6 .i32 → Arr F S1x6x1 .i32),
  nullary main_c_113 (constantI S_ 32 8#32),
  unary main_c_113 main_v502 (broadcastInDim S1x6x1 ![] bcast_S_S1x6x1 : Arr F S_ .i32 → Arr F S1x6x1 .i32),
  binary main_v501 main_v502 main_v503 (muli : Arr F S1x6x1 .i32 → Arr F S1x6x1 .i32 → Arr F S1x6x1 .i32),
  nullary main_c_114 (constantI S_ 32 0#32),
  nullary main_c_115 (constantI S_ 32 7#32),
  TRef.unary (.of (T := ⟨S_, .i32⟩) main_c_114) (.of (T := ⟨S_, .i32⟩) main_call12_v0) id,
  TRef.unary (.of (T := ⟨S_, .i32⟩) main_call12_v0) (.of (T := ⟨S11700x6x4, .i32⟩) main_call12_v1) (broadcastInDim S11700x6x4 ![] bcast_S_S11700x6x4),
  TRef.binary (.of (T := ⟨S11700x6x4, .i32⟩) main_call12_v1) (.of (T := ⟨S11700x6x4, .i32⟩) main_v470) (.of (T := ⟨S11700x6x4, .i32⟩) main_call12_v2) maxsi,
  TRef.unary (.of (T := ⟨S_, .i32⟩) main_c_115) (.of (T := ⟨S_, .i32⟩) main_call12_v3) id,
  TRef.unary (.of (T := ⟨S_, .i32⟩) main_call12_v3) (.of (T := ⟨S11700x6x4, .i32⟩) main_call12_v4) (broadcastInDim S11700x6x4 ![] bcast_S_S11700x6x4),
  TRef.binary (.of (T := ⟨S11700x6x4, .i32⟩) main_call12_v4) (.of (T := ⟨S11700x6x4, .i32⟩) main_call12_v2) (.of (T := ⟨S11700x6x4, .i32⟩) main_v504) minsi,
  unary main_v503 main_v505 (broadcastInDim S11700x6x4 ![0, 1, 2] bcast_S1x6x1_S11700x6x4_0_1_2 : Arr F S1x6x1 .i32 → Arr F S11700x6x4 .i32),
  binary main_v505 main_v504 main_v506 (addi : Arr F S11700x6x4 .i32 → Arr F S11700x6x4 .i32 → Arr F S11700x6x4 .i32),
  nullary main_c_116 (constantI S_ 32 22#32),
  unary main_c_116 main_v507 (broadcastInDim S11700x6x4 ![] bcast_S_S11700x6x4 : Arr F S_ .i32 → Arr F S11700x6x4 .i32),
  binary main_v506 main_v507 main_v508 (muli : Arr F S11700x6x4 .i32 → Arr F S11700x6x4 .i32 → Arr F S11700x6x4 .i32),
  nullary main_c_117 (constantI S_ 32 0#32),
  nullary main_c_118 (constantI S_ 32 21#32),
  TRef.unary (.of (T := ⟨S_, .i32⟩) main_c_117) (.of (T := ⟨S_, .i32⟩) main_call13_v0) id,
  TRef.unary (.of (T := ⟨S_, .i32⟩) main_call13_v0) (.of (T := ⟨S11700x6x4, .i32⟩) main_call13_v1) (broadcastInDim S11700x6x4 ![] bcast_S_S11700x6x4),
  TRef.binary (.of (T := ⟨S11700x6x4, .i32⟩) main_call13_v1) (.of (T := ⟨S11700x6x4, .i32⟩) main_v461) (.of (T := ⟨S11700x6x4, .i32⟩) main_call13_v2) maxsi,
  TRef.unary (.of (T := ⟨S_, .i32⟩) main_c_118) (.of (T := ⟨S_, .i32⟩) main_call13_v3) id,
  TRef.unary (.of (T := ⟨S_, .i32⟩) main_call13_v3) (.of (T := ⟨S11700x6x4, .i32⟩) main_call13_v4) (broadcastInDim S11700x6x4 ![] bcast_S_S11700x6x4),
  TRef.binary (.of (T := ⟨S11700x6x4, .i32⟩) main_call13_v4) (.of (T := ⟨S11700x6x4, .i32⟩) main_call13_v2) (.of (T := ⟨S11700x6x4, .i32⟩) main_v509) minsi,
  binary main_v508 main_v509 main_v510 (addi : Arr F S11700x6x4 .i32 → Arr F S11700x6x4 .i32 → Arr F S11700x6x4 .i32),
  TRef.unary (.of (T := ⟨S11700x6x4, .i32⟩) main_v510) (.of (T := ⟨S11700x6x4x1, .i32⟩) main_call14_v0) (broadcastInDim S11700x6x4x1 ![0, 1, 2] bcast_S11700x6x4_S11700x6x4x1_0_1_2),
  TRef.binary (.of (T := ⟨S1056x256, .f32⟩) main_v434) (.of (T := ⟨S11700x6x4x1, .i32⟩) main_call14_v0) (.of (T := ⟨S11700x6x4x256, .f32⟩) main_v511) (fun x i => Host.gather gather_S1056x256_S11700x6x4x1_S11700x6x4x256_3_0_n_n_0_3_1256 x i),
  binary main_v487 main_v499 main_v512 (mulf : Arr F S11700x6x4 .f32 → Arr F S11700x6x4 .f32 → Arr F S11700x6x4 .f32),
  unary main_v512 main_v513 (broadcastInDim S11700x6x4x1 ![0, 1, 2] bcast_S11700x6x4_S11700x6x4x1_0_1_2 : Arr F S11700x6x4 .f32 → Arr F S11700x6x4x1 .f32),
  unary main_v513 main_v514 (broadcastInDim S11700x6x4x256 ![0, 1, 2, 3] bcast_S11700x6x4x1_S11700x6x4x256_0_1_2_3 : Arr F S11700x6x4x1 .f32 → Arr F S11700x6x4x256 .f32),
  binary main_v511 main_v514 main_v515 (mulf : Arr F S11700x6x4x256 .f32 → Arr F S11700x6x4x256 .f32 → Arr F S11700x6x4x256 .f32),
  nullary main_cst_119 (constant S_ .f32 0x00000000#32),
  binary main_v515 main_cst_119 main_v516 ((fun x v => Host.reduceAdd x v reducesTo_S11700x6x4x256_S11700x6x256_d2 h_S_) : Arr F S11700x6x4x256 .f32 → Arr F S_ .f32 → Arr F S11700x6x256 .f32)]

def rS3 : List (HloOp τ sig (Elt F)) := [
  unary main_v131 main_v517 ((extractStridedSlice S11700x6x1x8 ![0, 0, 3, 0] · slices_S11700x6x4x8_S11700x6x1x8_0_0_3_0) : Arr F S11700x6x4x8 .f32 → Arr F S11700x6x1x8 .f32),
  reshape main_v517 main_v518 (rfl : (.f32 : EltTy) = .f32) shapeCasts_S11700x6x1x8_S11700x6x8,
  unary main_v518 main_v519 (broadcastInDim S11700x6x8x32 ![0, 1, 2] bcast_S11700x6x8_S11700x6x8x32_0_1_2 : Arr F S11700x6x8 .f32 → Arr F S11700x6x8x32 .f32),
  reshape main_v519 main_v520 (rfl : (.f32 : EltTy) = .f32) shapeCasts_S11700x6x8x32_S11700x6x256,
  binary main_v516 main_v520 main_v521 (mulf : Arr F S11700x6x256 .f32 → Arr F S11700x6x256 .f32 → Arr F S11700x6x256 .f32),
  nullary main_cst_120 (constant S_ .f32 0x00000000#32),
  binary main_v521 main_cst_120 main_v522 ((fun x v => Host.reduceAdd x v reducesTo_S11700x6x256_S11700x256_d1 h_S_) : Arr F S11700x6x256 .f32 → Arr F S_ .f32 → Arr F S11700x256 .f32),
  binary main_v432 main_v522 main_v523 (addf : Arr F S11700x256 .f32 → Arr F S11700x256 .f32 → Arr F S11700x256 .f32)]

def rPost : List (HloOp τ sig (Elt F)) := [
  reshape main_v523 main_v524 (rfl : (.f32 : EltTy) = .f32) shapeCasts_S11700x256_S900x13x256,
  nullary main_cst_121 (constant S_ .f32 0x00000000#32),
  binary main_v524 main_cst_121 main_v525 ((fun x v => Host.reduceAdd x v reducesTo_S900x13x256_S900x256_d1 h_S_) : Arr F S900x13x256 .f32 → Arr F S_ .f32 → Arr F S900x256 .f32),
  binary main_v525 main_arg14 main_v526 ((fun l r => Host.dotGeneral dot_S900x256_S256x256_S900x256_1_0_0_1_n_n none l r) : Arr F S900x256 .f32 → Arr F S256x256 .f32 → Arr F S900x256 .f32),
  unary main_arg15 main_v527 (broadcastInDim S1x256 ![1] bcast_S256_S1x256_1 : Arr F S256 .f32 → Arr F S1x256 .f32),
  unary main_v527 main_v528 (broadcastInDim S900x256 ![0, 1] bcast_S1x256_S900x256_0_1 : Arr F S1x256 .f32 → Arr F S900x256 .f32),
  binary main_v526 main_v528 main_v529 (addf : Arr F S900x256 .f32 → Arr F S900x256 .f32 → Arr F S900x256 .f32),
  unary main_v529 main_v530 (broadcastInDim S1x900x256 ![1, 2] bcast_S900x256_S1x900x256_1_2 : Arr F S900x256 .f32 → Arr F S1x900x256 .f32),
  binary main_v530 main_arg1 main_v531 (addf : Arr F S1x900x256 .f32 → Arr F S1x900x256 .f32 → Arr F S1x900x256 .f32)]

end Cert.Proof.Ref

end
-- ==== Proof.RHost.lean ====
/-
  The reference is its operations in sequence.
-/
module

public import proofs.«01_k».proof.Proof.ROps

@[expose] public section

noncomputable section

namespace Cert.Proof.Ref

open Cert.ReferenceIdeal Cert.ReferenceIdeal.Gen
open Idealize.ShloMosaic
open Idealize.ShloMosaic.StableHlo

variable {F : FTy → Type} [FloatOps F]

def rPre : List (HloOp τ sig (Elt F)) := r00 ++ r01 ++ r02 ++ r03
def rG0 : List (HloOp τ sig (Elt F)) := r06 ++ r07
def rS0 : List (HloOp τ sig (Elt F)) := r09 ++ r10
def rG1 : List (HloOp τ sig (Elt F)) := r13 ++ r14
def rX2 : List (HloOp τ sig (Elt F)) := r17 ++ r18
def rG2 : List (HloOp τ sig (Elt F)) := r20 ++ r21
def rX3 : List (HloOp τ sig (Elt F)) := r24 ++ r25
def rG3 : List (HloOp τ sig (Elt F)) := r27 ++ r28
/-- What `rPre` writes. -/
noncomputable def rPreW : List (Ref sig .tc) := [main_cst, main_v0, main_v1, main_v2, main_v3, main_v4, main_v5, main_v6, main_v7, main_v8, main_cst_0, main_cst_1, main_call0_v0, main_call0_v1, main_call0_v2, main_call0_v3, main_call0_v4, main_v9, main_v10, main_v11, main_cst_2, main_v12, main_v13, main_cst_3, main_v14, main_v15, main_cst_4, main_v16, main_v17, main_v18, main_v19, main_v20, main_v21, main_v22, main_v23, main_call1_v0, main_call1_cst, main_call1_v1, main_call1_v2, main_v24, main_cst_5, main_v25, main_v26, main_v27, main_v28, main_v29, main_v30, main_v31, main_v32, main_v33, main_v34, main_v35, main_v36, main_v37, main_v38, main_v39, main_cst_6, main_v40, main_v41, main_cst_7, main_v42, main_v43, main_v44, main_v45, main_v46, main_cst_8, main_v47, main_v48, main_v49, main_v50, main_v51, main_cst_9, main_v52, main_v53, main_v54, main_v55, main_v56, main_cst_10, main_v57, main_v58, main_v59, main_v60, main_v61, main_cst_11, main_v62, main_v63, main_cst_12, main_v64, main_v65, main_v66, main_v67, main_v68, main_cst_13, main_v69, main_v70, main_v71, main_v72, main_v73, main_cst_14, main_v74, main_v75, main_v76, main_v77, main_v78, main_cst_15, main_v79, main_v80, main_v81, main_v82, main_v83, main_cst_16, main_v84, main_v85, main_cst_17, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_cst_18, main_v118, main_cst_19, main_v119, main_v120, main_v121, main_v122, main_v123, main_v124, main_cst_20, main_v125, main_v126, main_v127, main_v128, main_v129, main_v130, main_v131, main_v132, main_cst_21, main_v133, main_v134, main_v135, main_v136, main_v137, main_v138, main_v139, main_v140, main_v141, main_v142, main_v143, main_v144, main_cst_22, main_v145, main_v146, main_v147, main_v148, main_v149, main_v150, main_v151, main_cst_23, main_cst_24, main_call2_v0, main_call2_v1, main_call2_v2, main_call2_v3, main_call2_v4, main_v152, main_v153, main_v154, main_v155, main_v156, main_v157, main_v158]
/-- What `rX0` writes. -/
noncomputable def rX0W : List (Ref sig .tc) := [main_v159, main_v160, main_v161, main_v162, main_cst_25, main_v163, main_v164, main_cst_26, main_v165, main_v166, main_v167, main_v168, main_cst_27, main_v169, main_v170, main_cst_28, main_v171, main_v172, main_v173, main_v174, main_v175, main_v176, main_v177, main_v178, main_c, main_v179, main_v180, main_c_29, main_v181, main_v182, main_v183, main_v184, main_v185, main_v186, main_v187, main_c_30]
/-- What `rY0` writes. -/
noncomputable def rY0W : List (Ref sig .tc) := [main_v188, main_v189, main_c_31, main_v190, main_v191, main_v192, main_v193, main_v194, main_v195, main_v196, main_cst_32]
/-- What `rG0` writes. -/
noncomputable def rG0W : List (Ref sig .tc) := [main_v197, main_v198, main_cst_33, main_v199, main_v200, main_v201, main_cst_34, main_v202, main_v203, main_v204, main_cst_35, main_v205, main_v206, main_v207, main_v208, main_v209, main_v210, main_v211, main_v212, main_v213, main_c_36, main_v214]
/-- What `rT0` writes. -/
noncomputable def rT0W : List (Ref sig .tc) := [main_v215, main_c_37, main_v216, main_v217, main_v218, main_c_38, main_v219, main_v220, main_v221, main_c_39, main_v222, main_v223, main_v224, main_v225, main_v226, main_v227, main_c_40, main_v228, main_v229, main_c_41, main_c_42, main_call3_v0, main_call3_v1, main_call3_v2, main_call3_v3, main_call3_v4, main_v230, main_v231, main_v232, main_c_43, main_v233, main_v234, main_c_44, main_c_45, main_call4_v0, main_call4_v1, main_call4_v2, main_call4_v3, main_call4_v4, main_v235, main_v236, main_call5_v0, main_v237, main_v238, main_v239, main_v240, main_v241, main_cst_46, main_v242]
/-- What `rS0` writes. -/
noncomputable def rS0W : List (Ref sig .tc) := [main_v243, main_v244, main_v245, main_v246, main_v247, main_cst_47, main_v248, main_cst_48, main_v249, main_v250]
/-- What `rX1` writes. -/
noncomputable def rX1W : List (Ref sig .tc) := [main_v251, main_v252, main_v253, main_v254, main_cst_49, main_v255, main_v256, main_cst_50, main_v257, main_v258, main_v259, main_v260, main_cst_51, main_v261, main_v262, main_cst_52, main_v263, main_v264, main_v265, main_v266, main_v267, main_v268, main_v269, main_v270, main_c_53, main_v271, main_v272, main_c_54, main_v273, main_v274, main_v275, main_v276, main_v277, main_v278, main_v279, main_c_55]
/-- What `rY1` writes. -/
noncomputable def rY1W : List (Ref sig .tc) := [main_v280, main_v281, main_c_56, main_v282, main_v283, main_v284, main_v285, main_v286, main_v287, main_v288, main_cst_57]
/-- What `rG1` writes. -/
noncomputable def rG1W : List (Ref sig .tc) := [main_v289, main_v290, main_cst_58, main_v291, main_v292, main_v293, main_cst_59, main_v294, main_v295, main_v296, main_cst_60, main_v297, main_v298, main_v299, main_v300, main_v301, main_v302, main_v303, main_v304, main_v305, main_c_61, main_v306]
/-- What `rT1` writes. -/
noncomputable def rT1W : List (Ref sig .tc) := [main_v307, main_c_62, main_v308, main_v309, main_v310, main_c_63, main_v311, main_v312, main_v313, main_c_64, main_v314, main_v315, main_v316, main_v317, main_v318, main_v319, main_c_65, main_v320, main_v321, main_c_66, main_c_67, main_call6_v0, main_call6_v1, main_call6_v2, main_call6_v3, main_call6_v4, main_v322, main_v323, main_v324, main_c_68, main_v325, main_v326, main_c_69, main_c_70, main_call7_v0, main_call7_v1, main_call7_v2, main_call7_v3, main_call7_v4, main_v327, main_v328, main_call8_v0, main_v329, main_v330, main_v331, main_v332, main_v333, main_cst_71, main_v334]
/-- What `rS1` writes. -/
noncomputable def rS1W : List (Ref sig .tc) := [main_v335, main_v336, main_v337, main_v338, main_v339, main_cst_72, main_v340, main_v341]
/-- What `rX2` writes. -/
noncomputable def rX2W : List (Ref sig .tc) := [main_v342, main_v343, main_v344, main_v345, main_cst_73, main_v346, main_v347, main_cst_74, main_v348, main_v349, main_v350, main_v351, main_cst_75, main_v352, main_v353, main_cst_76, main_v354, main_v355, main_v356, main_v357, main_v358, main_v359, main_v360, main_v361, main_c_77, main_v362, main_v363, main_c_78, main_v364, main_v365, main_v366, main_v367, main_v368, main_v369, main_v370, main_c_79]
/-- What `rY2` writes. -/
noncomputable def rY2W : List (Ref sig .tc) := [main_v371, main_v372, main_c_80, main_v373, main_v374, main_v375, main_v376, main_v377, main_v378, main_v379, main_cst_81]
/-- What `rG2` writes. -/
noncomputable def rG2W : List (Ref sig .tc) := [main_v380, main_v381, main_cst_82, main_v382, main_v383, main_v384, main_cst_83, main_v385, main_v386, main_v387, main_cst_84, main_v388, main_v389, main_v390, main_v391, main_v392, main_v393, main_v394, main_v395, main_v396, main_c_85, main_v397]
/-- What `rT2` writes. -/
noncomputable def rT2W : List (Ref sig .tc) := [main_v398, main_c_86, main_v399, main_v400, main_v401, main_c_87, main_v402, main_v403, main_v404, main_c_88, main_v405, main_v406, main_v407, main_v408, main_v409, main_v410, main_c_89, main_v411, main_v412, main_c_90, main_c_91, main_call9_v0, main_call9_v1, main_call9_v2, main_call9_v3, main_call9_v4, main_v413, main_v414, main_v415, main_c_92, main_v416, main_v417, main_c_93, main_c_94, main_call10_v0, main_call10_v1, main_call10_v2, main_call10_v3, main_call10_v4, main_v418, main_v419, main_call11_v0, main_v420, main_v421, main_v422, main_v423, main_v424, main_cst_95, main_v425]
/-- What `rS2` writes. -/
noncomputable def rS2W : List (Ref sig .tc) := [main_v426, main_v427, main_v428, main_v429, main_v430, main_cst_96, main_v431, main_v432]
/-- What `rX3` writes. -/
noncomputable def rX3W : List (Ref sig .tc) := [main_v433, main_v434, main_v435, main_v436, main_cst_97, main_v437, main_v438, main_cst_98, main_v439, main_v440, main_v441, main_v442, main_cst_99, main_v443, main_v444, main_cst_100, main_v445, main_v446, main_v447, main_v448, main_v449, main_v450, main_v451, main_v452, main_c_101, main_v453, main_v454, main_c_102, main_v455, main_v456, main_v457, main_v458, main_v459, main_v460, main_v461, main_c_103]
/-- What `rY3` writes. -/
noncomputable def rY3W : List (Ref sig .tc) := [main_v462, main_v463, main_c_104, main_v464, main_v465, main_v466, main_v467, main_v468, main_v469, main_v470, main_cst_105]
/-- What `rG3` writes. -/
noncomputable def rG3W : List (Ref sig .tc) := [main_v471, main_v472, main_cst_106, main_v473, main_v474, main_v475, main_cst_107, main_v476, main_v477, main_v478, main_cst_108, main_v479, main_v480, main_v481, main_v482, main_v483, main_v484, main_v485, main_v486, main_v487, main_c_109, main_v488]
/-- What `rT3` writes. -/
noncomputable def rT3W : List (Ref sig .tc) := [main_v489, main_c_110, main_v490, main_v491, main_v492, main_c_111, main_v493, main_v494, main_v495, main_c_112, main_v496, main_v497, main_v498, main_v499, main_v500, main_v501, main_c_113, main_v502, main_v503, main_c_114, main_c_115, main_call12_v0, main_call12_v1, main_call12_v2, main_call12_v3, main_call12_v4, main_v504, main_v505, main_v506, main_c_116, main_v507, main_v508, main_c_117, main_c_118, main_call13_v0, main_call13_v1, main_call13_v2, main_call13_v3, main_call13_v4, main_v509, main_v510, main_call14_v0, main_v511, main_v512, main_v513, main_v514, main_v515, main_cst_119, main_v516]
/-- What `rS3` writes. -/
noncomputable def rS3W : List (Ref sig .tc) := [main_v517, main_v518, main_v519, main_v520, main_v521, main_cst_120, main_v522, main_v523]
/-- What `rPost` writes. -/
noncomputable def rPostW : List (Ref sig .tc) := [main_v524, main_cst_121, main_v525, main_v526, main_v527, main_v528, main_v529, main_v530, main_v531]

/-- All of them. -/
def allOps : List (HloOp τ sig (Elt F)) := rPre ++ rX0 ++ rY0 ++ rG0 ++ rT0 ++ rS0 ++ rX1 ++ rY1 ++ rG1 ++ rT1 ++ rS1 ++ rX2 ++ rY2 ++ rG2 ++ rT2 ++ rS2 ++ rX3 ++ rY3 ++ rG3 ++ rT3 ++ rS3 ++ rPost

theorem part0 (d : Dev nD) : main_part0 (F := F) d = seq (r00) := rfl
theorem part1 (d : Dev nD) : main_part1 (F := F) d = seq (r01) := rfl
theorem part2 (d : Dev nD) : main_part2 (F := F) d = seq (r02) := rfl
theorem part3 (d : Dev nD) : main_part3 (F := F) d = seq (r03 ++ rX0 ++ rY0 ++ r06) := rfl
theorem part4 (d : Dev nD) : main_part4 (F := F) d = seq (r07 ++ rT0 ++ r09) := rfl
theorem part5 (d : Dev nD) : main_part5 (F := F) d = seq (r10 ++ rX1 ++ rY1 ++ r13) := rfl
theorem part6 (d : Dev nD) : main_part6 (F := F) d = seq (r14 ++ rT1 ++ rS1 ++ r17) := rfl
theorem part7 (d : Dev nD) : main_part7 (F := F) d = seq (r18 ++ rY2 ++ r20) := rfl
theorem part8 (d : Dev nD) : main_part8 (F := F) d = seq (r21 ++ rT2 ++ rS2 ++ r24) := rfl
theorem part9 (d : Dev nD) : main_part9 (F := F) d = seq (r25 ++ rY3 ++ r27) := rfl
theorem part10 (d : Dev nD) : main_part10 (F := F) d = seq (r28 ++ rT3 ++ rS3 ++ rPost) := rfl

theorem main_eq (d : Dev nD) : main (F := F) d = seq allOps := by
  unfold main allOps rPre rG0 rS0 rG1 rX2 rG2 rX3 rG3
  simp only [part0, part1, part2, part3, part4, part5, part6, part7, part8, part9, part10, seq_append, bind_assoc]

theorem r00_sub : (r00 (F := F)).Forall fun op => op.bufs ⊆ tcRefs τ sig := by simp [r00]
theorem r01_sub : (r01 (F := F)).Forall fun op => op.bufs ⊆ tcRefs τ sig := by simp [r01]
theorem r02_sub : (r02 (F := F)).Forall fun op => op.bufs ⊆ tcRefs τ sig := by simp [r02]
theorem r03_sub : (r03 (F := F)).Forall fun op => op.bufs ⊆ tcRefs τ sig := by simp [r03]
theorem rX0_sub : (rX0 (F := F)).Forall fun op => op.bufs ⊆ tcRefs τ sig := by simp [rX0]
theorem rY0_sub : (rY0 (F := F)).Forall fun op => op.bufs ⊆ tcRefs τ sig := by simp [rY0]
theorem r06_sub : (r06 (F := F)).Forall fun op => op.bufs ⊆ tcRefs τ sig := by simp [r06]
theorem r07_sub : (r07 (F := F)).Forall fun op => op.bufs ⊆ tcRefs τ sig := by simp [r07]
theorem rT0_sub : (rT0 (F := F)).Forall fun op => op.bufs ⊆ tcRefs τ sig := by simp [rT0]
theorem r09_sub : (r09 (F := F)).Forall fun op => op.bufs ⊆ tcRefs τ sig := by simp [r09]
theorem r10_sub : (r10 (F := F)).Forall fun op => op.bufs ⊆ tcRefs τ sig := by simp [r10]
theorem rX1_sub : (rX1 (F := F)).Forall fun op => op.bufs ⊆ tcRefs τ sig := by simp [rX1]
theorem rY1_sub : (rY1 (F := F)).Forall fun op => op.bufs ⊆ tcRefs τ sig := by simp [rY1]
theorem r13_sub : (r13 (F := F)).Forall fun op => op.bufs ⊆ tcRefs τ sig := by simp [r13]
theorem r14_sub : (r14 (F := F)).Forall fun op => op.bufs ⊆ tcRefs τ sig := by simp [r14]
theorem rT1_sub : (rT1 (F := F)).Forall fun op => op.bufs ⊆ tcRefs τ sig := by simp [rT1]
theorem rS1_sub : (rS1 (F := F)).Forall fun op => op.bufs ⊆ tcRefs τ sig := by simp [rS1]
theorem r17_sub : (r17 (F := F)).Forall fun op => op.bufs ⊆ tcRefs τ sig := by simp [r17]
theorem r18_sub : (r18 (F := F)).Forall fun op => op.bufs ⊆ tcRefs τ sig := by simp [r18]
theorem rY2_sub : (rY2 (F := F)).Forall fun op => op.bufs ⊆ tcRefs τ sig := by simp [rY2]
theorem r20_sub : (r20 (F := F)).Forall fun op => op.bufs ⊆ tcRefs τ sig := by simp [r20]
theorem r21_sub : (r21 (F := F)).Forall fun op => op.bufs ⊆ tcRefs τ sig := by simp [r21]
theorem rT2_sub : (rT2 (F := F)).Forall fun op => op.bufs ⊆ tcRefs τ sig := by simp [rT2]
theorem rS2_sub : (rS2 (F := F)).Forall fun op => op.bufs ⊆ tcRefs τ sig := by simp [rS2]
theorem r24_sub : (r24 (F := F)).Forall fun op => op.bufs ⊆ tcRefs τ sig := by simp [r24]
theorem r25_sub : (r25 (F := F)).Forall fun op => op.bufs ⊆ tcRefs τ sig := by simp [r25]
theorem rY3_sub : (rY3 (F := F)).Forall fun op => op.bufs ⊆ tcRefs τ sig := by simp [rY3]
theorem r27_sub : (r27 (F := F)).Forall fun op => op.bufs ⊆ tcRefs τ sig := by simp [r27]
theorem r28_sub : (r28 (F := F)).Forall fun op => op.bufs ⊆ tcRefs τ sig := by simp [r28]
theorem rT3_sub : (rT3 (F := F)).Forall fun op => op.bufs ⊆ tcRefs τ sig := by simp [rT3]
theorem rS3_sub : (rS3 (F := F)).Forall fun op => op.bufs ⊆ tcRefs τ sig := by simp [rS3]
theorem rPost_sub : (rPost (F := F)).Forall fun op => op.bufs ⊆ tcRefs τ sig := by simp [rPost]
theorem rPre_keeps (U : Valuation τ sig (Elt F)) (r : Ref sig .tc) (hr : r ∉ rPreW) : after (rPre (F := F)) U (Proc.devRef .tc r) = U (Proc.devRef .tc r) :=
  after_of_writes_sub rPre U (forall_writes_sub_of_map rfl) hr
theorem rX0_keeps (U : Valuation τ sig (Elt F)) (r : Ref sig .tc) (hr : r ∉ rX0W) : after (rX0 (F := F)) U (Proc.devRef .tc r) = U (Proc.devRef .tc r) :=
  after_of_writes_sub rX0 U (forall_writes_sub_of_map rfl) hr
theorem rY0_keeps (U : Valuation τ sig (Elt F)) (r : Ref sig .tc) (hr : r ∉ rY0W) : after (rY0 (F := F)) U (Proc.devRef .tc r) = U (Proc.devRef .tc r) :=
  after_of_writes_sub rY0 U (forall_writes_sub_of_map rfl) hr
theorem rG0_keeps (U : Valuation τ sig (Elt F)) (r : Ref sig .tc) (hr : r ∉ rG0W) : after (rG0 (F := F)) U (Proc.devRef .tc r) = U (Proc.devRef .tc r) :=
  after_of_writes_sub rG0 U (forall_writes_sub_of_map rfl) hr
theorem rT0_keeps (U : Valuation τ sig (Elt F)) (r : Ref sig .tc) (hr : r ∉ rT0W) : after (rT0 (F := F)) U (Proc.devRef .tc r) = U (Proc.devRef .tc r) :=
  after_of_writes_sub rT0 U (forall_writes_sub_of_map rfl) hr
theorem rS0_keeps (U : Valuation τ sig (Elt F)) (r : Ref sig .tc) (hr : r ∉ rS0W) : after (rS0 (F := F)) U (Proc.devRef .tc r) = U (Proc.devRef .tc r) :=
  after_of_writes_sub rS0 U (forall_writes_sub_of_map rfl) hr
theorem rX1_keeps (U : Valuation τ sig (Elt F)) (r : Ref sig .tc) (hr : r ∉ rX1W) : after (rX1 (F := F)) U (Proc.devRef .tc r) = U (Proc.devRef .tc r) :=
  after_of_writes_sub rX1 U (forall_writes_sub_of_map rfl) hr
theorem rY1_keeps (U : Valuation τ sig (Elt F)) (r : Ref sig .tc) (hr : r ∉ rY1W) : after (rY1 (F := F)) U (Proc.devRef .tc r) = U (Proc.devRef .tc r) :=
  after_of_writes_sub rY1 U (forall_writes_sub_of_map rfl) hr
theorem rG1_keeps (U : Valuation τ sig (Elt F)) (r : Ref sig .tc) (hr : r ∉ rG1W) : after (rG1 (F := F)) U (Proc.devRef .tc r) = U (Proc.devRef .tc r) :=
  after_of_writes_sub rG1 U (forall_writes_sub_of_map rfl) hr
theorem rT1_keeps (U : Valuation τ sig (Elt F)) (r : Ref sig .tc) (hr : r ∉ rT1W) : after (rT1 (F := F)) U (Proc.devRef .tc r) = U (Proc.devRef .tc r) :=
  after_of_writes_sub rT1 U (forall_writes_sub_of_map rfl) hr
theorem rS1_keeps (U : Valuation τ sig (Elt F)) (r : Ref sig .tc) (hr : r ∉ rS1W) : after (rS1 (F := F)) U (Proc.devRef .tc r) = U (Proc.devRef .tc r) :=
  after_of_writes_sub rS1 U (forall_writes_sub_of_map rfl) hr
theorem rX2_keeps (U : Valuation τ sig (Elt F)) (r : Ref sig .tc) (hr : r ∉ rX2W) : after (rX2 (F := F)) U (Proc.devRef .tc r) = U (Proc.devRef .tc r) :=
  after_of_writes_sub rX2 U (forall_writes_sub_of_map rfl) hr
theorem rY2_keeps (U : Valuation τ sig (Elt F)) (r : Ref sig .tc) (hr : r ∉ rY2W) : after (rY2 (F := F)) U (Proc.devRef .tc r) = U (Proc.devRef .tc r) :=
  after_of_writes_sub rY2 U (forall_writes_sub_of_map rfl) hr
theorem rG2_keeps (U : Valuation τ sig (Elt F)) (r : Ref sig .tc) (hr : r ∉ rG2W) : after (rG2 (F := F)) U (Proc.devRef .tc r) = U (Proc.devRef .tc r) :=
  after_of_writes_sub rG2 U (forall_writes_sub_of_map rfl) hr
theorem rT2_keeps (U : Valuation τ sig (Elt F)) (r : Ref sig .tc) (hr : r ∉ rT2W) : after (rT2 (F := F)) U (Proc.devRef .tc r) = U (Proc.devRef .tc r) :=
  after_of_writes_sub rT2 U (forall_writes_sub_of_map rfl) hr
theorem rS2_keeps (U : Valuation τ sig (Elt F)) (r : Ref sig .tc) (hr : r ∉ rS2W) : after (rS2 (F := F)) U (Proc.devRef .tc r) = U (Proc.devRef .tc r) :=
  after_of_writes_sub rS2 U (forall_writes_sub_of_map rfl) hr
theorem rX3_keeps (U : Valuation τ sig (Elt F)) (r : Ref sig .tc) (hr : r ∉ rX3W) : after (rX3 (F := F)) U (Proc.devRef .tc r) = U (Proc.devRef .tc r) :=
  after_of_writes_sub rX3 U (forall_writes_sub_of_map rfl) hr
theorem rY3_keeps (U : Valuation τ sig (Elt F)) (r : Ref sig .tc) (hr : r ∉ rY3W) : after (rY3 (F := F)) U (Proc.devRef .tc r) = U (Proc.devRef .tc r) :=
  after_of_writes_sub rY3 U (forall_writes_sub_of_map rfl) hr
theorem rG3_keeps (U : Valuation τ sig (Elt F)) (r : Ref sig .tc) (hr : r ∉ rG3W) : after (rG3 (F := F)) U (Proc.devRef .tc r) = U (Proc.devRef .tc r) :=
  after_of_writes_sub rG3 U (forall_writes_sub_of_map rfl) hr
theorem rT3_keeps (U : Valuation τ sig (Elt F)) (r : Ref sig .tc) (hr : r ∉ rT3W) : after (rT3 (F := F)) U (Proc.devRef .tc r) = U (Proc.devRef .tc r) :=
  after_of_writes_sub rT3 U (forall_writes_sub_of_map rfl) hr
theorem rS3_keeps (U : Valuation τ sig (Elt F)) (r : Ref sig .tc) (hr : r ∉ rS3W) : after (rS3 (F := F)) U (Proc.devRef .tc r) = U (Proc.devRef .tc r) :=
  after_of_writes_sub rS3 U (forall_writes_sub_of_map rfl) hr
theorem rPost_keeps (U : Valuation τ sig (Elt F)) (r : Ref sig .tc) (hr : r ∉ rPostW) : after (rPost (F := F)) U (Proc.devRef .tc r) = U (Proc.devRef .tc r) :=
  after_of_writes_sub rPost U (forall_writes_sub_of_map rfl) hr

end Cert.Proof.Ref

end
-- ==== Proof.RLevel.lean ====
/-
  The reference's levels, read at one sample point: the four corners' pixels, their weights, and what they sum to.
-/
module

public import proofs.«01_k».proof.Proof.RHost
public import proofs.«01_k».proof.Proof.Level
public import proofs.«01_k».proof.Proof.Pieces
public import Idealize.ShloMosaic.Lib.StableHlo.ReadAt

@[expose] public section

set_option maxHeartbeats 4000000

noncomputable section

namespace Cert.Proof.Ref

open Cert.ReferenceIdeal Cert.ReferenceIdeal.Gen Cert.Proof.Lvl
open Idealize.ShloMosaic
open Idealize.ShloMosaic.StableHlo

variable {F : FTy → Type} [FloatOps F]

/-- An element as an extended real. -/
abbrev re (x : EReal) : EReal := x

/-- Four lists, cut at other places. -/
theorem cut {α : Type} (a b c d : List α) (i j k m n : ℕ) :
    a ++ b ++ c ++ d = a.take i ++ (a.drop i ++ b.take j) ++ (b.drop j ++ c.take k) ++ (c.drop k ++ d.take m) ++ (d.drop m).take n ++ (d.drop m).drop n := by
  conv_lhs => rw [← List.take_append_drop i a, ← List.take_append_drop j b, ← List.take_append_drop k c, ← List.take_append_drop m d, ← List.take_append_drop n (d.drop m)]
  simp only [List.append_assoc]

/-- The sum over the cameras. -/
theorem cam_sum (f : FVec Ideal S11700x6x256 .f32) (p : Fin 11700) (ch : Fin 256) :
    (FloatOps.hostReduceAdd [1] reducesTo_S11700x6x256_S11700x256_d1 HostSchedule.single f (FloatOps.ofBits .f32 0#32) (ix2 p ch) : EReal)
      = 0 + ∑ c : Fin 6, re (f (ix3 p c ch)) := by
  show Ideal.hostReduceAdd reducesTo_S11700x6x256_S11700x256_d1 f (Ideal.ofBits .f32 0#32) (ix2 p ch) = _
  unfold Ideal.hostReduceAdd
  rw [sum_second reducesTo_S11700x6x256_S11700x256_d1 (fun i => funext fun (b : Fin 2) => match b with | 0 => rfl | 1 => rfl)]
  exact congrArg (· + _) Ideal.ofBits_zero_f32

/-- A sample point's coordinate along the columns (`0`) and the rows (`1`). -/
def ptF (V : Valuation τ sig (Elt F)) (p : Fin 11700) (c : Fin 6) (a : Fin 2) : F .f32 :=
  (V (Proc.devRef .tc main_v154) : FVec F S11700x6x2 .f32) (ix3 p c a)

/-! ## Level 0: 64 rows of 176 pixels -/

def sX0 : List (HloOp τ sig (Elt F)) := rX0.take 34
def sY0 : List (HloOp τ sig (Elt F)) := rX0.drop 34 ++ rY0.take 9
def sG0 : List (HloOp τ sig (Elt F)) := rY0.drop 9 ++ rG0.take 19
def sT0 : List (HloOp τ sig (Elt F)) := rG0.drop 19 ++ rT0.take 42
def sP0 : List (HloOp τ sig (Elt F)) := (rT0.drop 42).take 5
def sQ0 : List (HloOp τ sig (Elt F)) := (rT0.drop 42).drop 5

theorem pieces0 : rX0 (F := F) ++ rY0 ++ rG0 ++ rT0 = sX0 ++ sY0 ++ sG0 ++ sT0 ++ sP0 ++ sQ0 :=
  cut rX0 rY0 rG0 rT0 34 9 19 42 5

/-- The map, pixel by pixel. -/
theorem map0_at (V : Valuation τ sig (Elt F)) (cam : Fin 6) (y : Fin 64) (x : Fin 176) (ch : Fin 256) :
    (after (sX0 (F := F)) V (Proc.devRef .tc main_v160) : FVec F S67584x256 .f32) (ix2 ⟨(cam.val * 64 + y.val) * 176 + x.val, by omega⟩ ch)
      = (V (Proc.devRef .tc main_v155) : FVec F S6x256x64x176 .f32) (ix4 cam ch y x) := by
  unfold sX0 rX0
  dsimp only [List.cons_append, List.nil_append, List.take_succ_cons, List.drop_succ_cons, List.take_zero, List.drop_zero]
  after_reads_at

theorem point0_at (V : Valuation τ sig (Elt F)) (p : Fin 11700) (c : Fin 6) :
    (after (sX0 (F := F)) V (Proc.devRef .tc main_v175) : FVec F S11700x6 .f32) (ix2 p c) = restF 0x43300000#32 (ptF V p c 0)
      ∧ (after (sX0 (F := F)) V (Proc.devRef .tc main_v176) : FVec F S11700x6 .f32) (ix2 p c) = restF 0x42800000#32 (ptF V p c 1)
      ∧ (after (sX0 (F := F)) V (Proc.devRef .tc main_v178) : IVec S11700x6 32) (ix2 p c) = (cellF 0x42800000#32 (ptF V p c 1)) := by
  unfold sX0 rX0
  dsimp only [List.cons_append, List.nil_append, List.take_succ_cons, List.drop_succ_cons, List.take_zero, List.drop_zero]
  refine ⟨?_, ?_, ?_⟩ <;> after_reads_at <;> rfl

theorem cols0_at (V : Valuation τ sig (Elt F)) (p : Fin 11700) (c : Fin 6) :
    (after (sX0 (F := F)) V (Proc.devRef .tc main_v183) : IVec S11700x6x1 32) (ix3 p c 0) = cornW (cellF 0x43300000#32 (ptF V p c 0)) 0 ∧ (after (sX0 (F := F)) V (Proc.devRef .tc main_v184) : IVec S11700x6x1 32) (ix3 p c 0) = cornW (cellF 0x43300000#32 (ptF V p c 0)) 1
      ∧ (after (sX0 (F := F)) V (Proc.devRef .tc main_v185) : IVec S11700x6x1 32) (ix3 p c 0) = cornW (cellF 0x43300000#32 (ptF V p c 0)) 0 ∧ (after (sX0 (F := F)) V (Proc.devRef .tc main_v186) : IVec S11700x6x1 32) (ix3 p c 0) = cornW (cellF 0x43300000#32 (ptF V p c 0)) 1 := by
  unfold sX0 rX0
  dsimp only [List.cons_append, List.nil_append, List.take_succ_cons, List.drop_succ_cons, List.take_zero, List.drop_zero]
  refine ⟨?_, ?_, ?_, ?_⟩ <;> after_reads_at <;> first | rfl | exact (BitVec.add_zero _).symm

theorem rows0_at (V : Valuation τ sig (Elt F)) (p : Fin 11700) (c : Fin 6) :
    (after (sY0 (F := F)) V (Proc.devRef .tc main_v192) : IVec S11700x6x1 32) (ix3 p c 0) = cornW ((V (Proc.devRef .tc main_v178) : IVec S11700x6 32) (ix2 p c)) 0 ∧ (after (sY0 (F := F)) V (Proc.devRef .tc main_v193) : IVec S11700x6x1 32) (ix3 p c 0) = cornW ((V (Proc.devRef .tc main_v178) : IVec S11700x6 32) (ix2 p c)) 0
      ∧ (after (sY0 (F := F)) V (Proc.devRef .tc main_v194) : IVec S11700x6x1 32) (ix3 p c 0) = cornW ((V (Proc.devRef .tc main_v178) : IVec S11700x6 32) (ix2 p c)) 1 ∧ (after (sY0 (F := F)) V (Proc.devRef .tc main_v195) : IVec S11700x6x1 32) (ix3 p c 0) = cornW ((V (Proc.devRef .tc main_v178) : IVec S11700x6 32) (ix2 p c)) 1 := by
  unfold sY0 rX0 rY0
  dsimp only [List.cons_append, List.nil_append, List.take_succ_cons, List.drop_succ_cons, List.take_zero, List.drop_zero]
  refine ⟨?_, ?_, ?_, ?_⟩ <;> after_reads_at <;> first | rfl | exact (BitVec.add_zero _).symm

theorem corn0_at (V : Valuation τ sig (Elt Ideal)) (p : Fin 11700) (c : Fin 6) (k : Fin 4) :
    (![(after (sG0 (F := Ideal)) V (Proc.devRef .tc main_v209) : FVec Ideal S11700x6x1 .f32), (after (sG0 (F := Ideal)) V (Proc.devRef .tc main_v210) : FVec Ideal S11700x6x1 .f32), (after (sG0 (F := Ideal)) V (Proc.devRef .tc main_v211) : FVec Ideal S11700x6x1 .f32), (after (sG0 (F := Ideal)) V (Proc.devRef .tc main_v212) : FVec Ideal S11700x6x1 .f32)] k) (ix3 p c 0)
      = cornE ((V (Proc.devRef .tc main_v175) : FVec Ideal S11700x6 .f32) (ix2 p c)) ((V (Proc.devRef .tc main_v176) : FVec Ideal S11700x6 .f32) (ix2 p c)) k := by
  unfold sG0 rY0 rG0 r06 r07
  dsimp only [List.cons_append, List.nil_append, List.take_succ_cons, List.drop_succ_cons, List.take_zero, List.drop_zero]
  match k with
  | 0 =>
    show (after _ V (Proc.devRef .tc main_v209) : FVec Ideal S11700x6x1 .f32) (ix3 p c 0) = _
    after_reads_at
    rfl
  | 1 =>
    show (after _ V (Proc.devRef .tc main_v210) : FVec Ideal S11700x6x1 .f32) (ix3 p c 0) = _
    after_reads_at
    rfl
  | 2 =>
    show (after _ V (Proc.devRef .tc main_v211) : FVec Ideal S11700x6x1 .f32) (ix3 p c 0) = _
    after_reads_at
    rfl
  | 3 =>
    show (after _ V (Proc.devRef .tc main_v212) : FVec Ideal S11700x6x1 .f32) (ix3 p c 0) = _
    after_reads_at
    rfl

theorem xs0_at (V : Valuation τ sig (Elt F)) (p : Fin 11700) (c : Fin 6) (k : Fin 4) :
    (after (sY0 (F := F)) V (Proc.devRef .tc main_v187) : IVec S11700x6x4 32) (ix3 p c k) = (![(V (Proc.devRef .tc main_v183) : IVec S11700x6x1 32), (V (Proc.devRef .tc main_v184) : IVec S11700x6x1 32), (V (Proc.devRef .tc main_v185) : IVec S11700x6x1 32), (V (Proc.devRef .tc main_v186) : IVec S11700x6x1 32)] k) (ix3 p c 0) :=
  four_cols (V (Proc.devRef .tc main_v183) : IVec S11700x6x1 32) (V (Proc.devRef .tc main_v184) : IVec S11700x6x1 32) (V (Proc.devRef .tc main_v185) : IVec S11700x6x1 32) (V (Proc.devRef .tc main_v186) : IVec S11700x6x1 32) concatenates_S11700x6x1_S11700x6x1_S11700x6x1_S11700x6x1_S11700x6x4_d2 p c k

theorem ys0_at (V : Valuation τ sig (Elt F)) (p : Fin 11700) (c : Fin 6) (k : Fin 4) :
    (after (sG0 (F := F)) V (Proc.devRef .tc main_v196) : IVec S11700x6x4 32) (ix3 p c k) = (![(V (Proc.devRef .tc main_v192) : IVec S11700x6x1 32), (V (Proc.devRef .tc main_v193) : IVec S11700x6x1 32), (V (Proc.devRef .tc main_v194) : IVec S11700x6x1 32), (V (Proc.devRef .tc main_v195) : IVec S11700x6x1 32)] k) (ix3 p c 0) :=
  four_cols (V (Proc.devRef .tc main_v192) : IVec S11700x6x1 32) (V (Proc.devRef .tc main_v193) : IVec S11700x6x1 32) (V (Proc.devRef .tc main_v194) : IVec S11700x6x1 32) (V (Proc.devRef .tc main_v195) : IVec S11700x6x1 32) concatenates_S11700x6x1_S11700x6x1_S11700x6x1_S11700x6x1_S11700x6x4_d2 p c k

theorem gs0_at (V : Valuation τ sig (Elt F)) (p : Fin 11700) (c : Fin 6) (k : Fin 4) :
    (after (sT0 (F := F)) V (Proc.devRef .tc main_v213) : FVec F S11700x6x4 .f32) (ix3 p c k) = (![(V (Proc.devRef .tc main_v209) : FVec F S11700x6x1 .f32), (V (Proc.devRef .tc main_v210) : FVec F S11700x6x1 .f32), (V (Proc.devRef .tc main_v211) : FVec F S11700x6x1 .f32), (V (Proc.devRef .tc main_v212) : FVec F S11700x6x1 .f32)] k) (ix3 p c 0) :=
  four_cols (V (Proc.devRef .tc main_v209) : FVec F S11700x6x1 .f32) (V (Proc.devRef .tc main_v210) : FVec F S11700x6x1 .f32) (V (Proc.devRef .tc main_v211) : FVec F S11700x6x1 .f32) (V (Proc.devRef .tc main_v212) : FVec F S11700x6x1 .f32) concatenates_S11700x6x1_S11700x6x1_S11700x6x1_S11700x6x1_S11700x6x4_d2 p c k

theorem pixel0_at (V : Valuation τ sig (Elt F)) (p : Fin 11700) (c : Fin 6) (k : Fin 4) :
    (after (sT0 (F := F)) V (Proc.devRef .tc main_call5_v0) : IVec S11700x6x4x1 32) (ix4 p c k 0)
        = pixelW 64#32 176#32 63#32 175#32 (BitVec.ofNat 32 c.val) ((V (Proc.devRef .tc main_v187) : IVec S11700x6x4 32) (ix3 p c k)) ((V (Proc.devRef .tc main_v196) : IVec S11700x6x4 32) (ix3 p c k))
      ∧ (after (sT0 (F := F)) V (Proc.devRef .tc main_v225) : FVec F S11700x6x4 .f32) (ix3 p c k) = FloatOps.uitofp .f32 (validW 176#32 64#32 ((V (Proc.devRef .tc main_v187) : IVec S11700x6x4 32) (ix3 p c k)) ((V (Proc.devRef .tc main_v196) : IVec S11700x6x4 32) (ix3 p c k))) := by
  unfold sT0 rG0 r06 r07 rT0
  dsimp only [List.cons_append, List.nil_append, List.take_succ_cons, List.drop_succ_cons, List.take_zero, List.drop_zero]
  refine ⟨?_, ?_⟩ <;> after_reads_at <;> rfl

/-- The map's row numbered by a word, kept inside the map. -/
def pick0 (T : FVec F S67584x256 .f32) (v : BitVec 32) (ch : Fin 256) : F .f32 := T (ix2 ⟨min v.toInt.toNat 67583, by omega⟩ ch)

/-- The row that is gathered, at an element. -/
theorem gather0_at (T : FVec F S67584x256 .f32) (A : IVec S11700x6x4x1 32) (p : Fin 11700) (c : Fin 6) (k : Fin 4) (ch : Fin 256) :
    Host.gather gather_S67584x256_S11700x6x4x1_S11700x6x4x256_3_0_n_n_0_3_1256 T A (ix4 p c k ch)
      = pick0 T (A (ix4 p c k 0)) ch := by
  unfold pick0
  unfold Host.gather
  refine congrArg T (funext fun (b : Fin 2) => Fin.ext ?_)
  match b with
  | 0 =>
    show min (A _).toInt.toNat 67583 + 0 + 0 = min ((A (ix4 p c k 0)).toInt.toNat) 67583
    refine congrArg (fun i : S11700x6x4x1.Idx => min (A i).toInt.toNat 67583) (funext fun (b : Fin 4) => ?_)
    match b with
    | 0 => rfl
    | 1 => rfl
    | 2 => rfl
    | 3 => rfl
  | 1 => show 0 + 0 + ch.val = ch.val; omega

theorem prod0_at (V : Valuation τ sig (Elt F)) (p : Fin 11700) (c : Fin 6) (k : Fin 4) (ch : Fin 256) :
    (after (sP0 (F := F)) V (Proc.devRef .tc main_v241) : FVec F S11700x6x4x256 .f32) (ix4 p c k ch)
      = FloatOps.mulf (pick0 (V (Proc.devRef .tc main_v160) : FVec F S67584x256 .f32) ((V (Proc.devRef .tc main_call5_v0) : IVec S11700x6x4x1 32) (ix4 p c k 0)) ch)
          (FloatOps.mulf ((V (Proc.devRef .tc main_v213) : FVec F S11700x6x4 .f32) (ix3 p c k)) ((V (Proc.devRef .tc main_v225) : FVec F S11700x6x4 .f32) (ix3 p c k))) := by
  unfold sP0 rT0
  dsimp only [List.cons_append, List.nil_append, List.take_succ_cons, List.drop_succ_cons, List.take_zero, List.drop_zero]
  after_reads_at
  rw [gather0_at]

/-- What is kept from piece to piece. -/
theorem keep0 (V : Valuation τ sig (Elt F)) :
    (after (sY0 (F := F)) V (Proc.devRef .tc main_v175) : FVec F S11700x6 .f32) = V (Proc.devRef .tc main_v175) ∧ (after (sY0 (F := F)) V (Proc.devRef .tc main_v176) : FVec F S11700x6 .f32) = V (Proc.devRef .tc main_v176)
      ∧ (after (sY0 (F := F)) V (Proc.devRef .tc main_v160) : FVec F S67584x256 .f32) = V (Proc.devRef .tc main_v160)
      ∧ (after (sG0 (F := F)) V (Proc.devRef .tc main_v187) : IVec S11700x6x4 32) = V (Proc.devRef .tc main_v187) ∧ (after (sG0 (F := F)) V (Proc.devRef .tc main_v160) : FVec F S67584x256 .f32) = V (Proc.devRef .tc main_v160)
      ∧ (after (sT0 (F := F)) V (Proc.devRef .tc main_v160) : FVec F S67584x256 .f32) = V (Proc.devRef .tc main_v160) := by
  unfold sY0 sG0 sT0 rX0 rY0 rG0 r06 r07 rT0
  dsimp only [List.cons_append, List.nil_append, List.take_succ_cons, List.drop_succ_cons, List.take_zero, List.drop_zero]
  refine ⟨?_, ?_, ?_, ?_, ?_, ?_⟩ <;> after_reads_simp

theorem four0 (V : Valuation τ sig (Elt Ideal)) (p : Fin 11700) (c : Fin 6) (ch : Fin 256) :
    (after (sQ0 (F := Ideal)) V (Proc.devRef .tc main_v242) : FVec Ideal S11700x6x256 .f32) (ix3 p c ch)
      = 0 + ∑ k : Fin 4, re ((V (Proc.devRef .tc main_v241) : FVec Ideal S11700x6x4x256 .f32) (ix4 p c k ch)) := by
  show Host.reduceAdd (V (Proc.devRef .tc main_v241) : FVec Ideal S11700x6x4x256 .f32) (constant (F := Ideal) S_ .f32 0x00000000#32) reducesTo_S11700x6x4x256_S11700x6x256_d2 h_S_ (ix3 p c ch) = _
  rw [ValueIdx.hostReduceAdd_apply]
  unfold Ideal.hostReduceAdd
  rw [sum_third reducesTo_S11700x6x4x256_S11700x6x256_d2 (fun i => funext fun (b : Fin 3) => match b with | 0 => rfl | 1 => rfl | 2 => rfl)]
  exact congrArg (· + _) Ideal.ofBits_zero_f32

/-- The pixel that corner `k` is taken from. -/
def seen0 (V : Valuation τ sig (Elt Ideal)) (p : Fin 11700) (c : Fin 6) (ch : Fin 256) (k : Fin 4) : EReal :=
  pick0 (F := Ideal) (after (sX0 (F := Ideal)) V (Proc.devRef .tc main_v160)) (pixelW 64#32 176#32 63#32 175#32 (BitVec.ofNat 32 c.val) (cornW (cellF 0x43300000#32 (ptF V p c 0)) (stepX k)) (cornW (cellF 0x42800000#32 (ptF V p c 1)) (stepY k))) ch

/-- A corner inside the map is read at its own column and row. -/
theorem seen0_eq (V : Valuation τ sig (Elt Ideal)) (p : Fin 11700) (c : Fin 6) (ch : Fin 256) (k : Fin 4) (y : Fin 64) (x : Fin 176)
    (hx : 0 ≤ (cornW (cellF 0x43300000#32 (ptF V p c 0)) (stepX k)).toInt ∧ (cornW (cellF 0x43300000#32 (ptF V p c 0)) (stepX k)).toInt.toNat = x.val) (hy : 0 ≤ (cornW (cellF 0x42800000#32 (ptF V p c 1)) (stepY k)).toInt ∧ (cornW (cellF 0x42800000#32 (ptF V p c 1)) (stepY k)).toInt.toNat = y.val) :
    seen0 V p c ch k = (V (Proc.devRef .tc main_v155) : FVec Ideal S6x256x64x176 .f32) (ix4 c ch y x) := by
  have e := pixelW_eq 64 176 c.val (by omega) (by omega) (by omega) (by omega) (cornW (cellF 0x43300000#32 (ptF V p c 0)) (stepX k)) (cornW (cellF 0x42800000#32 (ptF V p c 1)) (stepY k)) ⟨hx.1, by omega⟩ ⟨hy.1, by omega⟩
  refine Eq.trans ?_ (map0_at V c y x ch)
  unfold seen0 pick0
  refine congrArg (after (sX0 (F := Ideal)) V (Proc.devRef .tc main_v160) : FVec Ideal S67584x256 .f32) (congrArg (fun i => ix2 i ch) (Fin.ext ?_))
  show min (BitVec.toInt _).toNat 67583 = (c.val * 64 + y.val) * 176 + x.val
  have hb : (c.val * 64 + y.val) * 176 + x.val < 67584 := by omega
  rw [show pixelW 64#32 176#32 63#32 175#32 (BitVec.ofNat 32 c.val) (cornW (cellF 0x43300000#32 (ptF V p c 0)) (stepX k)) (cornW (cellF 0x42800000#32 (ptF V p c 1)) (stepY k)) = BitVec.ofNat 32 ((c.val * 64 + y.val) * 176 + x.val) from
    e.trans (by rw [hx.2, hy.2]), WordCmp.toInt_ofNat_of_lt (by omega)]
  omega

/-- What level 0 is at a point: the four corners' pixels, each with its share. -/
theorem level0_at (V : Valuation τ sig (Elt Ideal)) (p : Fin 11700) (c : Fin 6) (ch : Fin 256) :
    (after (rX0 (F := Ideal) ++ rY0 ++ rG0 ++ rT0) V (Proc.devRef .tc main_v242) : FVec Ideal S11700x6x256 .f32) (ix3 p c ch)
      = 0 + ∑ k : Fin 4, seen0 V p c ch k
          * share4 176#32 64#32 (cellF 0x43300000#32 (ptF V p c 0)) (cellF 0x42800000#32 (ptF V p c 1)) (restF 0x43300000#32 (ptF V p c 0)) (restF 0x42800000#32 (ptF V p c 1)) k := by
  rw [pieces0]
  rw [after_append, after_append, after_append, after_append, after_append, four0]
  refine congrArg (0 + ·) (Finset.sum_congr rfl fun k _ => ?_)
  generalize hU : after (sX0 (F := Ideal)) V = U
  generalize hU1 : after (sY0 (F := Ideal)) U = U1
  generalize hU2 : after (sG0 (F := Ideal)) U1 = U2
  generalize hU3 : after (sT0 (F := Ideal)) U2 = U3
  have kY := keep0 (F := Ideal) U
  have kG := keep0 (F := Ideal) U1
  have kT := keep0 (F := Ideal) U2
  rw [hU1] at kY; rw [hU2] at kG; rw [hU3] at kT
  have xs := xs0_at U p c k
  have ys := ys0_at U1 p c k
  have gs := gs0_at U2 p c k
  rw [hU1] at xs; rw [hU2] at ys; rw [hU3] at gs
  have co := corn0_at U1 p c k
  rw [hU2] at co
  have px := pixel0_at U2 p c k
  rw [hU3] at px
  have pt := point0_at V p c
  have cl := cols0_at V p c
  rw [hU] at pt cl
  have ro := rows0_at U p c
  rw [hU1] at ro
  have ex : (U2 (Proc.devRef .tc main_v187) : IVec S11700x6x4 32) (ix3 p c k) = (cornW (cellF 0x43300000#32 (ptF V p c 0)) (stepX k)) := by
    rw [kG.2.2.2.1, xs]
    match k with
    | 0 => exact cl.1
    | 1 => exact cl.2.1
    | 2 => exact cl.2.2.1
    | 3 => exact cl.2.2.2
  have ey : (U2 (Proc.devRef .tc main_v196) : IVec S11700x6x4 32) (ix3 p c k) = (cornW (cellF 0x42800000#32 (ptF V p c 1)) (stepY k)) := by
    rw [ys]
    rw [pt.2.2] at ro
    match k with
    | 0 => exact ro.1
    | 1 => exact ro.2.1
    | 2 => exact ro.2.2.1
    | 3 => exact ro.2.2.2
  rw [prod0_at U3 p c k ch, kT.2.2.2.2.2, kG.2.2.2.2.1, kY.2.2.1, gs, co, px.1, px.2, ex, ey, kY.1, kY.2.1, pt.1, pt.2.1, ← hU]
  rfl

/-- Level 0's part of the result: the cameras' values, each with its head's weight. -/
theorem out0_at (V : Valuation τ sig (Elt Ideal)) (p : Fin 11700) (ch : Fin 256) :
    (after (rS0 (F := Ideal)) V (Proc.devRef .tc main_v250) : FVec Ideal S11700x256 .f32) (ix2 p ch)
      = 0 + (0 + ∑ c : Fin 6, re ((V (Proc.devRef .tc main_v242) : FVec Ideal S11700x6x256 .f32) (ix3 p c ch))
          * re ((V (Proc.devRef .tc main_v131) : FVec Ideal S11700x6x4x8 .f32) (ix4 p c 0 ⟨ch.val / 32, by omega⟩))) := by
  generalize hR : (0 + (0 + ∑ c : Fin 6, re ((V (Proc.devRef .tc main_v242) : FVec Ideal S11700x6x256 .f32) (ix3 p c ch))
          * re ((V (Proc.devRef .tc main_v131) : FVec Ideal S11700x6x4x8 .f32) (ix4 p c 0 ⟨ch.val / 32, by omega⟩))) : EReal) = R
  unfold rS0 r09 r10
  dsimp only [List.cons_append, List.nil_append, List.take_succ_cons, List.drop_succ_cons, List.take_zero, List.drop_zero]
  after_reads_at
  rw [← hR]
  exact congrArg₂ (fun (y z : EReal) => y + z) Ideal.ofBits_zero_f32 (cam_sum _ p ch)

/-! ## Level 1: 32 rows of 88 pixels -/

def sX1 : List (HloOp τ sig (Elt F)) := rX1.take 34
def sY1 : List (HloOp τ sig (Elt F)) := rX1.drop 34 ++ rY1.take 9
def sG1 : List (HloOp τ sig (Elt F)) := rY1.drop 9 ++ rG1.take 19
def sT1 : List (HloOp τ sig (Elt F)) := rG1.drop 19 ++ rT1.take 42
def sP1 : List (HloOp τ sig (Elt F)) := (rT1.drop 42).take 5
def sQ1 : List (HloOp τ sig (Elt F)) := (rT1.drop 42).drop 5

theorem pieces1 : rX1 (F := F) ++ rY1 ++ rG1 ++ rT1 = sX1 ++ sY1 ++ sG1 ++ sT1 ++ sP1 ++ sQ1 :=
  cut rX1 rY1 rG1 rT1 34 9 19 42 5

/-- The map, pixel by pixel. -/
theorem map1_at (V : Valuation τ sig (Elt F)) (cam : Fin 6) (y : Fin 32) (x : Fin 88) (ch : Fin 256) :
    (after (sX1 (F := F)) V (Proc.devRef .tc main_v252) : FVec F S16896x256 .f32) (ix2 ⟨(cam.val * 32 + y.val) * 88 + x.val, by omega⟩ ch)
      = (V (Proc.devRef .tc main_v156) : FVec F S6x256x32x88 .f32) (ix4 cam ch y x) := by
  unfold sX1 rX1
  dsimp only [List.cons_append, List.nil_append, List.take_succ_cons, List.drop_succ_cons, List.take_zero, List.drop_zero]
  after_reads_at

theorem point1_at (V : Valuation τ sig (Elt F)) (p : Fin 11700) (c : Fin 6) :
    (after (sX1 (F := F)) V (Proc.devRef .tc main_v267) : FVec F S11700x6 .f32) (ix2 p c) = restF 0x42B00000#32 (ptF V p c 0)
      ∧ (after (sX1 (F := F)) V (Proc.devRef .tc main_v268) : FVec F S11700x6 .f32) (ix2 p c) = restF 0x42000000#32 (ptF V p c 1)
      ∧ (after (sX1 (F := F)) V (Proc.devRef .tc main_v270) : IVec S11700x6 32) (ix2 p c) = (cellF 0x42000000#32 (ptF V p c 1)) := by
  unfold sX1 rX1
  dsimp only [List.cons_append, List.nil_append, List.take_succ_cons, List.drop_succ_cons, List.take_zero, List.drop_zero]
  refine ⟨?_, ?_, ?_⟩ <;> after_reads_at <;> rfl

theorem cols1_at (V : Valuation τ sig (Elt F)) (p : Fin 11700) (c : Fin 6) :
    (after (sX1 (F := F)) V (Proc.devRef .tc main_v275) : IVec S11700x6x1 32) (ix3 p c 0) = cornW (cellF 0x42B00000#32 (ptF V p c 0)) 0 ∧ (after (sX1 (F := F)) V (Proc.devRef .tc main_v276) : IVec S11700x6x1 32) (ix3 p c 0) = cornW (cellF 0x42B00000#32 (ptF V p c 0)) 1
      ∧ (after (sX1 (F := F)) V (Proc.devRef .tc main_v277) : IVec S11700x6x1 32) (ix3 p c 0) = cornW (cellF 0x42B00000#32 (ptF V p c 0)) 0 ∧ (after (sX1 (F := F)) V (Proc.devRef .tc main_v278) : IVec S11700x6x1 32) (ix3 p c 0) = cornW (cellF 0x42B00000#32 (ptF V p c 0)) 1 := by
  unfold sX1 rX1
  dsimp only [List.cons_append, List.nil_append, List.take_succ_cons, List.drop_succ_cons, List.take_zero, List.drop_zero]
  refine ⟨?_, ?_, ?_, ?_⟩ <;> after_reads_at <;> first | rfl | exact (BitVec.add_zero _).symm

theorem rows1_at (V : Valuation τ sig (Elt F)) (p : Fin 11700) (c : Fin 6) :
    (after (sY1 (F := F)) V (Proc.devRef .tc main_v284) : IVec S11700x6x1 32) (ix3 p c 0) = cornW ((V (Proc.devRef .tc main_v270) : IVec S11700x6 32) (ix2 p c)) 0 ∧ (after (sY1 (F := F)) V (Proc.devRef .tc main_v285) : IVec S11700x6x1 32) (ix3 p c 0) = cornW ((V (Proc.devRef .tc main_v270) : IVec S11700x6 32) (ix2 p c)) 0
      ∧ (after (sY1 (F := F)) V (Proc.devRef .tc main_v286) : IVec S11700x6x1 32) (ix3 p c 0) = cornW ((V (Proc.devRef .tc main_v270) : IVec S11700x6 32) (ix2 p c)) 1 ∧ (after (sY1 (F := F)) V (Proc.devRef .tc main_v287) : IVec S11700x6x1 32) (ix3 p c 0) = cornW ((V (Proc.devRef .tc main_v270) : IVec S11700x6 32) (ix2 p c)) 1 := by
  unfold sY1 rX1 rY1
  dsimp only [List.cons_append, List.nil_append, List.take_succ_cons, List.drop_succ_cons, List.take_zero, List.drop_zero]
  refine ⟨?_, ?_, ?_, ?_⟩ <;> after_reads_at <;> first | rfl | exact (BitVec.add_zero _).symm

theorem corn1_at (V : Valuation τ sig (Elt Ideal)) (p : Fin 11700) (c : Fin 6) (k : Fin 4) :
    (![(after (sG1 (F := Ideal)) V (Proc.devRef .tc main_v301) : FVec Ideal S11700x6x1 .f32), (after (sG1 (F := Ideal)) V (Proc.devRef .tc main_v302) : FVec Ideal S11700x6x1 .f32), (after (sG1 (F := Ideal)) V (Proc.devRef .tc main_v303) : FVec Ideal S11700x6x1 .f32), (after (sG1 (F := Ideal)) V (Proc.devRef .tc main_v304) : FVec Ideal S11700x6x1 .f32)] k) (ix3 p c 0)
      = cornE ((V (Proc.devRef .tc main_v267) : FVec Ideal S11700x6 .f32) (ix2 p c)) ((V (Proc.devRef .tc main_v268) : FVec Ideal S11700x6 .f32) (ix2 p c)) k := by
  unfold sG1 rY1 rG1 r13 r14
  dsimp only [List.cons_append, List.nil_append, List.take_succ_cons, List.drop_succ_cons, List.take_zero, List.drop_zero]
  match k with
  | 0 =>
    show (after _ V (Proc.devRef .tc main_v301) : FVec Ideal S11700x6x1 .f32) (ix3 p c 0) = _
    after_reads_at
    rfl
  | 1 =>
    show (after _ V (Proc.devRef .tc main_v302) : FVec Ideal S11700x6x1 .f32) (ix3 p c 0) = _
    after_reads_at
    rfl
  | 2 =>
    show (after _ V (Proc.devRef .tc main_v303) : FVec Ideal S11700x6x1 .f32) (ix3 p c 0) = _
    after_reads_at
    rfl
  | 3 =>
    show (after _ V (Proc.devRef .tc main_v304) : FVec Ideal S11700x6x1 .f32) (ix3 p c 0) = _
    after_reads_at
    rfl

theorem xs1_at (V : Valuation τ sig (Elt F)) (p : Fin 11700) (c : Fin 6) (k : Fin 4) :
    (after (sY1 (F := F)) V (Proc.devRef .tc main_v279) : IVec S11700x6x4 32) (ix3 p c k) = (![(V (Proc.devRef .tc main_v275) : IVec S11700x6x1 32), (V (Proc.devRef .tc main_v276) : IVec S11700x6x1 32), (V (Proc.devRef .tc main_v277) : IVec S11700x6x1 32), (V (Proc.devRef .tc main_v278) : IVec S11700x6x1 32)] k) (ix3 p c 0) :=
  four_cols (V (Proc.devRef .tc main_v275) : IVec S11700x6x1 32) (V (Proc.devRef .tc main_v276) : IVec S11700x6x1 32) (V (Proc.devRef .tc main_v277) : IVec S11700x6x1 32) (V (Proc.devRef .tc main_v278) : IVec S11700x6x1 32) concatenates_S11700x6x1_S11700x6x1_S11700x6x1_S11700x6x1_S11700x6x4_d2 p c k

theorem ys1_at (V : Valuation τ sig (Elt F)) (p : Fin 11700) (c : Fin 6) (k : Fin 4) :
    (after (sG1 (F := F)) V (Proc.devRef .tc main_v288) : IVec S11700x6x4 32) (ix3 p c k) = (![(V (Proc.devRef .tc main_v284) : IVec S11700x6x1 32), (V (Proc.devRef .tc main_v285) : IVec S11700x6x1 32), (V (Proc.devRef .tc main_v286) : IVec S11700x6x1 32), (V (Proc.devRef .tc main_v287) : IVec S11700x6x1 32)] k) (ix3 p c 0) :=
  four_cols (V (Proc.devRef .tc main_v284) : IVec S11700x6x1 32) (V (Proc.devRef .tc main_v285) : IVec S11700x6x1 32) (V (Proc.devRef .tc main_v286) : IVec S11700x6x1 32) (V (Proc.devRef .tc main_v287) : IVec S11700x6x1 32) concatenates_S11700x6x1_S11700x6x1_S11700x6x1_S11700x6x1_S11700x6x4_d2 p c k

theorem gs1_at (V : Valuation τ sig (Elt F)) (p : Fin 11700) (c : Fin 6) (k : Fin 4) :
    (after (sT1 (F := F)) V (Proc.devRef .tc main_v305) : FVec F S11700x6x4 .f32) (ix3 p c k) = (![(V (Proc.devRef .tc main_v301) : FVec F S11700x6x1 .f32), (V (Proc.devRef .tc main_v302) : FVec F S11700x6x1 .f32), (V (Proc.devRef .tc main_v303) : FVec F S11700x6x1 .f32), (V (Proc.devRef .tc main_v304) : FVec F S11700x6x1 .f32)] k) (ix3 p c 0) :=
  four_cols (V (Proc.devRef .tc main_v301) : FVec F S11700x6x1 .f32) (V (Proc.devRef .tc main_v302) : FVec F S11700x6x1 .f32) (V (Proc.devRef .tc main_v303) : FVec F S11700x6x1 .f32) (V (Proc.devRef .tc main_v304) : FVec F S11700x6x1 .f32) concatenates_S11700x6x1_S11700x6x1_S11700x6x1_S11700x6x1_S11700x6x4_d2 p c k

theorem pixel1_at (V : Valuation τ sig (Elt F)) (p : Fin 11700) (c : Fin 6) (k : Fin 4) :
    (after (sT1 (F := F)) V (Proc.devRef .tc main_call8_v0) : IVec S11700x6x4x1 32) (ix4 p c k 0)
        = pixelW 32#32 88#32 31#32 87#32 (BitVec.ofNat 32 c.val) ((V (Proc.devRef .tc main_v279) : IVec S11700x6x4 32) (ix3 p c k)) ((V (Proc.devRef .tc main_v288) : IVec S11700x6x4 32) (ix3 p c k))
      ∧ (after (sT1 (F := F)) V (Proc.devRef .tc main_v317) : FVec F S11700x6x4 .f32) (ix3 p c k) = FloatOps.uitofp .f32 (validW 88#32 32#32 ((V (Proc.devRef .tc main_v279) : IVec S11700x6x4 32) (ix3 p c k)) ((V (Proc.devRef .tc main_v288) : IVec S11700x6x4 32) (ix3 p c k))) := by
  unfold sT1 rG1 r13 r14 rT1
  dsimp only [List.cons_append, List.nil_append, List.take_succ_cons, List.drop_succ_cons, List.take_zero, List.drop_zero]
  refine ⟨?_, ?_⟩ <;> after_reads_at <;> rfl

/-- The map's row numbered by a word, kept inside the map. -/
def pick1 (T : FVec F S16896x256 .f32) (v : BitVec 32) (ch : Fin 256) : F .f32 := T (ix2 ⟨min v.toInt.toNat 16895, by omega⟩ ch)

/-- The row that is gathered, at an element. -/
theorem gather1_at (T : FVec F S16896x256 .f32) (A : IVec S11700x6x4x1 32) (p : Fin 11700) (c : Fin 6) (k : Fin 4) (ch : Fin 256) :
    Host.gather gather_S16896x256_S11700x6x4x1_S11700x6x4x256_3_0_n_n_0_3_1256 T A (ix4 p c k ch)
      = pick1 T (A (ix4 p c k 0)) ch := by
  unfold pick1
  unfold Host.gather
  refine congrArg T (funext fun (b : Fin 2) => Fin.ext ?_)
  match b with
  | 0 =>
    show min (A _).toInt.toNat 16895 + 0 + 0 = min ((A (ix4 p c k 0)).toInt.toNat) 16895
    refine congrArg (fun i : S11700x6x4x1.Idx => min (A i).toInt.toNat 16895) (funext fun (b : Fin 4) => ?_)
    match b with
    | 0 => rfl
    | 1 => rfl
    | 2 => rfl
    | 3 => rfl
  | 1 => show 0 + 0 + ch.val = ch.val; omega

theorem prod1_at (V : Valuation τ sig (Elt F)) (p : Fin 11700) (c : Fin 6) (k : Fin 4) (ch : Fin 256) :
    (after (sP1 (F := F)) V (Proc.devRef .tc main_v333) : FVec F S11700x6x4x256 .f32) (ix4 p c k ch)
      = FloatOps.mulf (pick1 (V (Proc.devRef .tc main_v252) : FVec F S16896x256 .f32) ((V (Proc.devRef .tc main_call8_v0) : IVec S11700x6x4x1 32) (ix4 p c k 0)) ch)
          (FloatOps.mulf ((V (Proc.devRef .tc main_v305) : FVec F S11700x6x4 .f32) (ix3 p c k)) ((V (Proc.devRef .tc main_v317) : FVec F S11700x6x4 .f32) (ix3 p c k))) := by
  unfold sP1 rT1
  dsimp only [List.cons_append, List.nil_append, List.take_succ_cons, List.drop_succ_cons, List.take_zero, List.drop_zero]
  after_reads_at
  rw [gather1_at]

/-- What is kept from piece to piece. -/
theorem keep1 (V : Valuation τ sig (Elt F)) :
    (after (sY1 (F := F)) V (Proc.devRef .tc main_v267) : FVec F S11700x6 .f32) = V (Proc.devRef .tc main_v267) ∧ (after (sY1 (F := F)) V (Proc.devRef .tc main_v268) : FVec F S11700x6 .f32) = V (Proc.devRef .tc main_v268)
      ∧ (after (sY1 (F := F)) V (Proc.devRef .tc main_v252) : FVec F S16896x256 .f32) = V (Proc.devRef .tc main_v252)
      ∧ (after (sG1 (F := F)) V (Proc.devRef .tc main_v279) : IVec S11700x6x4 32) = V (Proc.devRef .tc main_v279) ∧ (after (sG1 (F := F)) V (Proc.devRef .tc main_v252) : FVec F S16896x256 .f32) = V (Proc.devRef .tc main_v252)
      ∧ (after (sT1 (F := F)) V (Proc.devRef .tc main_v252) : FVec F S16896x256 .f32) = V (Proc.devRef .tc main_v252) := by
  unfold sY1 sG1 sT1 rX1 rY1 rG1 r13 r14 rT1
  dsimp only [List.cons_append, List.nil_append, List.take_succ_cons, List.drop_succ_cons, List.take_zero, List.drop_zero]
  refine ⟨?_, ?_, ?_, ?_, ?_, ?_⟩ <;> after_reads_simp

theorem four1 (V : Valuation τ sig (Elt Ideal)) (p : Fin 11700) (c : Fin 6) (ch : Fin 256) :
    (after (sQ1 (F := Ideal)) V (Proc.devRef .tc main_v334) : FVec Ideal S11700x6x256 .f32) (ix3 p c ch)
      = 0 + ∑ k : Fin 4, re ((V (Proc.devRef .tc main_v333) : FVec Ideal S11700x6x4x256 .f32) (ix4 p c k ch)) := by
  show Host.reduceAdd (V (Proc.devRef .tc main_v333) : FVec Ideal S11700x6x4x256 .f32) (constant (F := Ideal) S_ .f32 0x00000000#32) reducesTo_S11700x6x4x256_S11700x6x256_d2 h_S_ (ix3 p c ch) = _
  rw [ValueIdx.hostReduceAdd_apply]
  unfold Ideal.hostReduceAdd
  rw [sum_third reducesTo_S11700x6x4x256_S11700x6x256_d2 (fun i => funext fun (b : Fin 3) => match b with | 0 => rfl | 1 => rfl | 2 => rfl)]
  exact congrArg (· + _) Ideal.ofBits_zero_f32

/-- The pixel that corner `k` is taken from. -/
def seen1 (V : Valuation τ sig (Elt Ideal)) (p : Fin 11700) (c : Fin 6) (ch : Fin 256) (k : Fin 4) : EReal :=
  pick1 (F := Ideal) (after (sX1 (F := Ideal)) V (Proc.devRef .tc main_v252)) (pixelW 32#32 88#32 31#32 87#32 (BitVec.ofNat 32 c.val) (cornW (cellF 0x42B00000#32 (ptF V p c 0)) (stepX k)) (cornW (cellF 0x42000000#32 (ptF V p c 1)) (stepY k))) ch

/-- A corner inside the map is read at its own column and row. -/
theorem seen1_eq (V : Valuation τ sig (Elt Ideal)) (p : Fin 11700) (c : Fin 6) (ch : Fin 256) (k : Fin 4) (y : Fin 32) (x : Fin 88)
    (hx : 0 ≤ (cornW (cellF 0x42B00000#32 (ptF V p c 0)) (stepX k)).toInt ∧ (cornW (cellF 0x42B00000#32 (ptF V p c 0)) (stepX k)).toInt.toNat = x.val) (hy : 0 ≤ (cornW (cellF 0x42000000#32 (ptF V p c 1)) (stepY k)).toInt ∧ (cornW (cellF 0x42000000#32 (ptF V p c 1)) (stepY k)).toInt.toNat = y.val) :
    seen1 V p c ch k = (V (Proc.devRef .tc main_v156) : FVec Ideal S6x256x32x88 .f32) (ix4 c ch y x) := by
  have e := pixelW_eq 32 88 c.val (by omega) (by omega) (by omega) (by omega) (cornW (cellF 0x42B00000#32 (ptF V p c 0)) (stepX k)) (cornW (cellF 0x42000000#32 (ptF V p c 1)) (stepY k)) ⟨hx.1, by omega⟩ ⟨hy.1, by omega⟩
  refine Eq.trans ?_ (map1_at V c y x ch)
  unfold seen1 pick1
  refine congrArg (after (sX1 (F := Ideal)) V (Proc.devRef .tc main_v252) : FVec Ideal S16896x256 .f32) (congrArg (fun i => ix2 i ch) (Fin.ext ?_))
  show min (BitVec.toInt _).toNat 16895 = (c.val * 32 + y.val) * 88 + x.val
  have hb : (c.val * 32 + y.val) * 88 + x.val < 16896 := by omega
  rw [show pixelW 32#32 88#32 31#32 87#32 (BitVec.ofNat 32 c.val) (cornW (cellF 0x42B00000#32 (ptF V p c 0)) (stepX k)) (cornW (cellF 0x42000000#32 (ptF V p c 1)) (stepY k)) = BitVec.ofNat 32 ((c.val * 32 + y.val) * 88 + x.val) from
    e.trans (by rw [hx.2, hy.2]), WordCmp.toInt_ofNat_of_lt (by omega)]
  omega

/-- What level 1 is at a point: the four corners' pixels, each with its share. -/
theorem level1_at (V : Valuation τ sig (Elt Ideal)) (p : Fin 11700) (c : Fin 6) (ch : Fin 256) :
    (after (rX1 (F := Ideal) ++ rY1 ++ rG1 ++ rT1) V (Proc.devRef .tc main_v334) : FVec Ideal S11700x6x256 .f32) (ix3 p c ch)
      = 0 + ∑ k : Fin 4, seen1 V p c ch k
          * share4 88#32 32#32 (cellF 0x42B00000#32 (ptF V p c 0)) (cellF 0x42000000#32 (ptF V p c 1)) (restF 0x42B00000#32 (ptF V p c 0)) (restF 0x42000000#32 (ptF V p c 1)) k := by
  rw [pieces1]
  rw [after_append, after_append, after_append, after_append, after_append, four1]
  refine congrArg (0 + ·) (Finset.sum_congr rfl fun k _ => ?_)
  generalize hU : after (sX1 (F := Ideal)) V = U
  generalize hU1 : after (sY1 (F := Ideal)) U = U1
  generalize hU2 : after (sG1 (F := Ideal)) U1 = U2
  generalize hU3 : after (sT1 (F := Ideal)) U2 = U3
  have kY := keep1 (F := Ideal) U
  have kG := keep1 (F := Ideal) U1
  have kT := keep1 (F := Ideal) U2
  rw [hU1] at kY; rw [hU2] at kG; rw [hU3] at kT
  have xs := xs1_at U p c k
  have ys := ys1_at U1 p c k
  have gs := gs1_at U2 p c k
  rw [hU1] at xs; rw [hU2] at ys; rw [hU3] at gs
  have co := corn1_at U1 p c k
  rw [hU2] at co
  have px := pixel1_at U2 p c k
  rw [hU3] at px
  have pt := point1_at V p c
  have cl := cols1_at V p c
  rw [hU] at pt cl
  have ro := rows1_at U p c
  rw [hU1] at ro
  have ex : (U2 (Proc.devRef .tc main_v279) : IVec S11700x6x4 32) (ix3 p c k) = (cornW (cellF 0x42B00000#32 (ptF V p c 0)) (stepX k)) := by
    rw [kG.2.2.2.1, xs]
    match k with
    | 0 => exact cl.1
    | 1 => exact cl.2.1
    | 2 => exact cl.2.2.1
    | 3 => exact cl.2.2.2
  have ey : (U2 (Proc.devRef .tc main_v288) : IVec S11700x6x4 32) (ix3 p c k) = (cornW (cellF 0x42000000#32 (ptF V p c 1)) (stepY k)) := by
    rw [ys]
    rw [pt.2.2] at ro
    match k with
    | 0 => exact ro.1
    | 1 => exact ro.2.1
    | 2 => exact ro.2.2.1
    | 3 => exact ro.2.2.2
  rw [prod1_at U3 p c k ch, kT.2.2.2.2.2, kG.2.2.2.2.1, kY.2.2.1, gs, co, px.1, px.2, ex, ey, kY.1, kY.2.1, pt.1, pt.2.1, ← hU]
  rfl

/-- Level 1's part of the result: the cameras' values, each with its head's weight, after the levels before. -/
theorem out1_at (V : Valuation τ sig (Elt Ideal)) (p : Fin 11700) (ch : Fin 256) :
    (after (rS1 (F := Ideal)) V (Proc.devRef .tc main_v341) : FVec Ideal S11700x256 .f32) (ix2 p ch)
      = re ((V (Proc.devRef .tc main_v250) : FVec Ideal S11700x256 .f32) (ix2 p ch)) + (0 + ∑ c : Fin 6, re ((V (Proc.devRef .tc main_v334) : FVec Ideal S11700x6x256 .f32) (ix3 p c ch))
          * re ((V (Proc.devRef .tc main_v131) : FVec Ideal S11700x6x4x8 .f32) (ix4 p c 1 ⟨ch.val / 32, by omega⟩))) := by
  generalize hR : (re ((V (Proc.devRef .tc main_v250) : FVec Ideal S11700x256 .f32) (ix2 p ch)) + (0 + ∑ c : Fin 6, re ((V (Proc.devRef .tc main_v334) : FVec Ideal S11700x6x256 .f32) (ix3 p c ch))
          * re ((V (Proc.devRef .tc main_v131) : FVec Ideal S11700x6x4x8 .f32) (ix4 p c 1 ⟨ch.val / 32, by omega⟩))) : EReal) = R
  unfold rS1
  dsimp only [List.cons_append, List.nil_append, List.take_succ_cons, List.drop_succ_cons, List.take_zero, List.drop_zero]
  after_reads_at
  rw [← hR]
  exact congrArg₂ (fun (y z : EReal) => y + z) rfl (cam_sum _ p ch)

/-! ## Level 2: 16 rows of 44 pixels -/

def sX2 : List (HloOp τ sig (Elt F)) := rX2.take 34
def sY2 : List (HloOp τ sig (Elt F)) := rX2.drop 34 ++ rY2.take 9
def sG2 : List (HloOp τ sig (Elt F)) := rY2.drop 9 ++ rG2.take 19
def sT2 : List (HloOp τ sig (Elt F)) := rG2.drop 19 ++ rT2.take 42
def sP2 : List (HloOp τ sig (Elt F)) := (rT2.drop 42).take 5
def sQ2 : List (HloOp τ sig (Elt F)) := (rT2.drop 42).drop 5

theorem pieces2 : rX2 (F := F) ++ rY2 ++ rG2 ++ rT2 = sX2 ++ sY2 ++ sG2 ++ sT2 ++ sP2 ++ sQ2 :=
  cut rX2 rY2 rG2 rT2 34 9 19 42 5

/-- The map, pixel by pixel. -/
theorem map2_at (V : Valuation τ sig (Elt F)) (cam : Fin 6) (y : Fin 16) (x : Fin 44) (ch : Fin 256) :
    (after (sX2 (F := F)) V (Proc.devRef .tc main_v343) : FVec F S4224x256 .f32) (ix2 ⟨(cam.val * 16 + y.val) * 44 + x.val, by omega⟩ ch)
      = (V (Proc.devRef .tc main_v157) : FVec F S6x256x16x44 .f32) (ix4 cam ch y x) := by
  unfold sX2 rX2 r17 r18
  dsimp only [List.cons_append, List.nil_append, List.take_succ_cons, List.drop_succ_cons, List.take_zero, List.drop_zero]
  after_reads_at

theorem point2_at (V : Valuation τ sig (Elt F)) (p : Fin 11700) (c : Fin 6) :
    (after (sX2 (F := F)) V (Proc.devRef .tc main_v358) : FVec F S11700x6 .f32) (ix2 p c) = restF 0x42300000#32 (ptF V p c 0)
      ∧ (after (sX2 (F := F)) V (Proc.devRef .tc main_v359) : FVec F S11700x6 .f32) (ix2 p c) = restF 0x41800000#32 (ptF V p c 1)
      ∧ (after (sX2 (F := F)) V (Proc.devRef .tc main_v361) : IVec S11700x6 32) (ix2 p c) = (cellF 0x41800000#32 (ptF V p c 1)) := by
  unfold sX2 rX2 r17 r18
  dsimp only [List.cons_append, List.nil_append, List.take_succ_cons, List.drop_succ_cons, List.take_zero, List.drop_zero]
  refine ⟨?_, ?_, ?_⟩ <;> after_reads_at <;> rfl

theorem cols2_at (V : Valuation τ sig (Elt F)) (p : Fin 11700) (c : Fin 6) :
    (after (sX2 (F := F)) V (Proc.devRef .tc main_v366) : IVec S11700x6x1 32) (ix3 p c 0) = cornW (cellF 0x42300000#32 (ptF V p c 0)) 0 ∧ (after (sX2 (F := F)) V (Proc.devRef .tc main_v367) : IVec S11700x6x1 32) (ix3 p c 0) = cornW (cellF 0x42300000#32 (ptF V p c 0)) 1
      ∧ (after (sX2 (F := F)) V (Proc.devRef .tc main_v368) : IVec S11700x6x1 32) (ix3 p c 0) = cornW (cellF 0x42300000#32 (ptF V p c 0)) 0 ∧ (after (sX2 (F := F)) V (Proc.devRef .tc main_v369) : IVec S11700x6x1 32) (ix3 p c 0) = cornW (cellF 0x42300000#32 (ptF V p c 0)) 1 := by
  unfold sX2 rX2 r17 r18
  dsimp only [List.cons_append, List.nil_append, List.take_succ_cons, List.drop_succ_cons, List.take_zero, List.drop_zero]
  refine ⟨?_, ?_, ?_, ?_⟩ <;> after_reads_at <;> first | rfl | exact (BitVec.add_zero _).symm

theorem rows2_at (V : Valuation τ sig (Elt F)) (p : Fin 11700) (c : Fin 6) :
    (after (sY2 (F := F)) V (Proc.devRef .tc main_v375) : IVec S11700x6x1 32) (ix3 p c 0) = cornW ((V (Proc.devRef .tc main_v361) : IVec S11700x6 32) (ix2 p c)) 0 ∧ (after (sY2 (F := F)) V (Proc.devRef .tc main_v376) : IVec S11700x6x1 32) (ix3 p c 0) = cornW ((V (Proc.devRef .tc main_v361) : IVec S11700x6 32) (ix2 p c)) 0
      ∧ (after (sY2 (F := F)) V (Proc.devRef .tc main_v377) : IVec S11700x6x1 32) (ix3 p c 0) = cornW ((V (Proc.devRef .tc main_v361) : IVec S11700x6 32) (ix2 p c)) 1 ∧ (after (sY2 (F := F)) V (Proc.devRef .tc main_v378) : IVec S11700x6x1 32) (ix3 p c 0) = cornW ((V (Proc.devRef .tc main_v361) : IVec S11700x6 32) (ix2 p c)) 1 := by
  unfold sY2 rX2 r17 r18 rY2
  dsimp only [List.cons_append, List.nil_append, List.take_succ_cons, List.drop_succ_cons, List.take_zero, List.drop_zero]
  refine ⟨?_, ?_, ?_, ?_⟩ <;> after_reads_at <;> first | rfl | exact (BitVec.add_zero _).symm

theorem corn2_at (V : Valuation τ sig (Elt Ideal)) (p : Fin 11700) (c : Fin 6) (k : Fin 4) :
    (![(after (sG2 (F := Ideal)) V (Proc.devRef .tc main_v392) : FVec Ideal S11700x6x1 .f32), (after (sG2 (F := Ideal)) V (Proc.devRef .tc main_v393) : FVec Ideal S11700x6x1 .f32), (after (sG2 (F := Ideal)) V (Proc.devRef .tc main_v394) : FVec Ideal S11700x6x1 .f32), (after (sG2 (F := Ideal)) V (Proc.devRef .tc main_v395) : FVec Ideal S11700x6x1 .f32)] k) (ix3 p c 0)
      = cornE ((V (Proc.devRef .tc main_v358) : FVec Ideal S11700x6 .f32) (ix2 p c)) ((V (Proc.devRef .tc main_v359) : FVec Ideal S11700x6 .f32) (ix2 p c)) k := by
  unfold sG2 rY2 rG2 r20 r21
  dsimp only [List.cons_append, List.nil_append, List.take_succ_cons, List.drop_succ_cons, List.take_zero, List.drop_zero]
  match k with
  | 0 =>
    show (after _ V (Proc.devRef .tc main_v392) : FVec Ideal S11700x6x1 .f32) (ix3 p c 0) = _
    after_reads_at
    rfl
  | 1 =>
    show (after _ V (Proc.devRef .tc main_v393) : FVec Ideal S11700x6x1 .f32) (ix3 p c 0) = _
    after_reads_at
    rfl
  | 2 =>
    show (after _ V (Proc.devRef .tc main_v394) : FVec Ideal S11700x6x1 .f32) (ix3 p c 0) = _
    after_reads_at
    rfl
  | 3 =>
    show (after _ V (Proc.devRef .tc main_v395) : FVec Ideal S11700x6x1 .f32) (ix3 p c 0) = _
    after_reads_at
    rfl

theorem xs2_at (V : Valuation τ sig (Elt F)) (p : Fin 11700) (c : Fin 6) (k : Fin 4) :
    (after (sY2 (F := F)) V (Proc.devRef .tc main_v370) : IVec S11700x6x4 32) (ix3 p c k) = (![(V (Proc.devRef .tc main_v366) : IVec S11700x6x1 32), (V (Proc.devRef .tc main_v367) : IVec S11700x6x1 32), (V (Proc.devRef .tc main_v368) : IVec S11700x6x1 32), (V (Proc.devRef .tc main_v369) : IVec S11700x6x1 32)] k) (ix3 p c 0) :=
  four_cols (V (Proc.devRef .tc main_v366) : IVec S11700x6x1 32) (V (Proc.devRef .tc main_v367) : IVec S11700x6x1 32) (V (Proc.devRef .tc main_v368) : IVec S11700x6x1 32) (V (Proc.devRef .tc main_v369) : IVec S11700x6x1 32) concatenates_S11700x6x1_S11700x6x1_S11700x6x1_S11700x6x1_S11700x6x4_d2 p c k

theorem ys2_at (V : Valuation τ sig (Elt F)) (p : Fin 11700) (c : Fin 6) (k : Fin 4) :
    (after (sG2 (F := F)) V (Proc.devRef .tc main_v379) : IVec S11700x6x4 32) (ix3 p c k) = (![(V (Proc.devRef .tc main_v375) : IVec S11700x6x1 32), (V (Proc.devRef .tc main_v376) : IVec S11700x6x1 32), (V (Proc.devRef .tc main_v377) : IVec S11700x6x1 32), (V (Proc.devRef .tc main_v378) : IVec S11700x6x1 32)] k) (ix3 p c 0) :=
  four_cols (V (Proc.devRef .tc main_v375) : IVec S11700x6x1 32) (V (Proc.devRef .tc main_v376) : IVec S11700x6x1 32) (V (Proc.devRef .tc main_v377) : IVec S11700x6x1 32) (V (Proc.devRef .tc main_v378) : IVec S11700x6x1 32) concatenates_S11700x6x1_S11700x6x1_S11700x6x1_S11700x6x1_S11700x6x4_d2 p c k

theorem gs2_at (V : Valuation τ sig (Elt F)) (p : Fin 11700) (c : Fin 6) (k : Fin 4) :
    (after (sT2 (F := F)) V (Proc.devRef .tc main_v396) : FVec F S11700x6x4 .f32) (ix3 p c k) = (![(V (Proc.devRef .tc main_v392) : FVec F S11700x6x1 .f32), (V (Proc.devRef .tc main_v393) : FVec F S11700x6x1 .f32), (V (Proc.devRef .tc main_v394) : FVec F S11700x6x1 .f32), (V (Proc.devRef .tc main_v395) : FVec F S11700x6x1 .f32)] k) (ix3 p c 0) :=
  four_cols (V (Proc.devRef .tc main_v392) : FVec F S11700x6x1 .f32) (V (Proc.devRef .tc main_v393) : FVec F S11700x6x1 .f32) (V (Proc.devRef .tc main_v394) : FVec F S11700x6x1 .f32) (V (Proc.devRef .tc main_v395) : FVec F S11700x6x1 .f32) concatenates_S11700x6x1_S11700x6x1_S11700x6x1_S11700x6x1_S11700x6x4_d2 p c k

theorem pixel2_at (V : Valuation τ sig (Elt F)) (p : Fin 11700) (c : Fin 6) (k : Fin 4) :
    (after (sT2 (F := F)) V (Proc.devRef .tc main_call11_v0) : IVec S11700x6x4x1 32) (ix4 p c k 0)
        = pixelW 16#32 44#32 15#32 43#32 (BitVec.ofNat 32 c.val) ((V (Proc.devRef .tc main_v370) : IVec S11700x6x4 32) (ix3 p c k)) ((V (Proc.devRef .tc main_v379) : IVec S11700x6x4 32) (ix3 p c k))
      ∧ (after (sT2 (F := F)) V (Proc.devRef .tc main_v408) : FVec F S11700x6x4 .f32) (ix3 p c k) = FloatOps.uitofp .f32 (validW 44#32 16#32 ((V (Proc.devRef .tc main_v370) : IVec S11700x6x4 32) (ix3 p c k)) ((V (Proc.devRef .tc main_v379) : IVec S11700x6x4 32) (ix3 p c k))) := by
  unfold sT2 rG2 r20 r21 rT2
  dsimp only [List.cons_append, List.nil_append, List.take_succ_cons, List.drop_succ_cons, List.take_zero, List.drop_zero]
  refine ⟨?_, ?_⟩ <;> after_reads_at <;> rfl

/-- The map's row numbered by a word, kept inside the map. -/
def pick2 (T : FVec F S4224x256 .f32) (v : BitVec 32) (ch : Fin 256) : F .f32 := T (ix2 ⟨min v.toInt.toNat 4223, by omega⟩ ch)

/-- The row that is gathered, at an element. -/
theorem gather2_at (T : FVec F S4224x256 .f32) (A : IVec S11700x6x4x1 32) (p : Fin 11700) (c : Fin 6) (k : Fin 4) (ch : Fin 256) :
    Host.gather gather_S4224x256_S11700x6x4x1_S11700x6x4x256_3_0_n_n_0_3_1256 T A (ix4 p c k ch)
      = pick2 T (A (ix4 p c k 0)) ch := by
  unfold pick2
  unfold Host.gather
  refine congrArg T (funext fun (b : Fin 2) => Fin.ext ?_)
  match b with
  | 0 =>
    show min (A _).toInt.toNat 4223 + 0 + 0 = min ((A (ix4 p c k 0)).toInt.toNat) 4223
    refine congrArg (fun i : S11700x6x4x1.Idx => min (A i).toInt.toNat 4223) (funext fun (b : Fin 4) => ?_)
    match b with
    | 0 => rfl
    | 1 => rfl
    | 2 => rfl
    | 3 => rfl
  | 1 => show 0 + 0 + ch.val = ch.val; omega

theorem prod2_at (V : Valuation τ sig (Elt F)) (p : Fin 11700) (c : Fin 6) (k : Fin 4) (ch : Fin 256) :
    (after (sP2 (F := F)) V (Proc.devRef .tc main_v424) : FVec F S11700x6x4x256 .f32) (ix4 p c k ch)
      = FloatOps.mulf (pick2 (V (Proc.devRef .tc main_v343) : FVec F S4224x256 .f32) ((V (Proc.devRef .tc main_call11_v0) : IVec S11700x6x4x1 32) (ix4 p c k 0)) ch)
          (FloatOps.mulf ((V (Proc.devRef .tc main_v396) : FVec F S11700x6x4 .f32) (ix3 p c k)) ((V (Proc.devRef .tc main_v408) : FVec F S11700x6x4 .f32) (ix3 p c k))) := by
  unfold sP2 rT2
  dsimp only [List.cons_append, List.nil_append, List.take_succ_cons, List.drop_succ_cons, List.take_zero, List.drop_zero]
  after_reads_at
  rw [gather2_at]

/-- What is kept from piece to piece. -/
theorem keep2 (V : Valuation τ sig (Elt F)) :
    (after (sY2 (F := F)) V (Proc.devRef .tc main_v358) : FVec F S11700x6 .f32) = V (Proc.devRef .tc main_v358) ∧ (after (sY2 (F := F)) V (Proc.devRef .tc main_v359) : FVec F S11700x6 .f32) = V (Proc.devRef .tc main_v359)
      ∧ (after (sY2 (F := F)) V (Proc.devRef .tc main_v343) : FVec F S4224x256 .f32) = V (Proc.devRef .tc main_v343)
      ∧ (after (sG2 (F := F)) V (Proc.devRef .tc main_v370) : IVec S11700x6x4 32) = V (Proc.devRef .tc main_v370) ∧ (after (sG2 (F := F)) V (Proc.devRef .tc main_v343) : FVec F S4224x256 .f32) = V (Proc.devRef .tc main_v343)
      ∧ (after (sT2 (F := F)) V (Proc.devRef .tc main_v343) : FVec F S4224x256 .f32) = V (Proc.devRef .tc main_v343) := by
  unfold sY2 sG2 sT2 rX2 r17 r18 rY2 rG2 r20 r21 rT2
  dsimp only [List.cons_append, List.nil_append, List.take_succ_cons, List.drop_succ_cons, List.take_zero, List.drop_zero]
  refine ⟨?_, ?_, ?_, ?_, ?_, ?_⟩ <;> after_reads_simp

theorem four2 (V : Valuation τ sig (Elt Ideal)) (p : Fin 11700) (c : Fin 6) (ch : Fin 256) :
    (after (sQ2 (F := Ideal)) V (Proc.devRef .tc main_v425) : FVec Ideal S11700x6x256 .f32) (ix3 p c ch)
      = 0 + ∑ k : Fin 4, re ((V (Proc.devRef .tc main_v424) : FVec Ideal S11700x6x4x256 .f32) (ix4 p c k ch)) := by
  show Host.reduceAdd (V (Proc.devRef .tc main_v424) : FVec Ideal S11700x6x4x256 .f32) (constant (F := Ideal) S_ .f32 0x00000000#32) reducesTo_S11700x6x4x256_S11700x6x256_d2 h_S_ (ix3 p c ch) = _
  rw [ValueIdx.hostReduceAdd_apply]
  unfold Ideal.hostReduceAdd
  rw [sum_third reducesTo_S11700x6x4x256_S11700x6x256_d2 (fun i => funext fun (b : Fin 3) => match b with | 0 => rfl | 1 => rfl | 2 => rfl)]
  exact congrArg (· + _) Ideal.ofBits_zero_f32

/-- The pixel that corner `k` is taken from. -/
def seen2 (V : Valuation τ sig (Elt Ideal)) (p : Fin 11700) (c : Fin 6) (ch : Fin 256) (k : Fin 4) : EReal :=
  pick2 (F := Ideal) (after (sX2 (F := Ideal)) V (Proc.devRef .tc main_v343)) (pixelW 16#32 44#32 15#32 43#32 (BitVec.ofNat 32 c.val) (cornW (cellF 0x42300000#32 (ptF V p c 0)) (stepX k)) (cornW (cellF 0x41800000#32 (ptF V p c 1)) (stepY k))) ch

/-- A corner inside the map is read at its own column and row. -/
theorem seen2_eq (V : Valuation τ sig (Elt Ideal)) (p : Fin 11700) (c : Fin 6) (ch : Fin 256) (k : Fin 4) (y : Fin 16) (x : Fin 44)
    (hx : 0 ≤ (cornW (cellF 0x42300000#32 (ptF V p c 0)) (stepX k)).toInt ∧ (cornW (cellF 0x42300000#32 (ptF V p c 0)) (stepX k)).toInt.toNat = x.val) (hy : 0 ≤ (cornW (cellF 0x41800000#32 (ptF V p c 1)) (stepY k)).toInt ∧ (cornW (cellF 0x41800000#32 (ptF V p c 1)) (stepY k)).toInt.toNat = y.val) :
    seen2 V p c ch k = (V (Proc.devRef .tc main_v157) : FVec Ideal S6x256x16x44 .f32) (ix4 c ch y x) := by
  have e := pixelW_eq 16 44 c.val (by omega) (by omega) (by omega) (by omega) (cornW (cellF 0x42300000#32 (ptF V p c 0)) (stepX k)) (cornW (cellF 0x41800000#32 (ptF V p c 1)) (stepY k)) ⟨hx.1, by omega⟩ ⟨hy.1, by omega⟩
  refine Eq.trans ?_ (map2_at V c y x ch)
  unfold seen2 pick2
  refine congrArg (after (sX2 (F := Ideal)) V (Proc.devRef .tc main_v343) : FVec Ideal S4224x256 .f32) (congrArg (fun i => ix2 i ch) (Fin.ext ?_))
  show min (BitVec.toInt _).toNat 4223 = (c.val * 16 + y.val) * 44 + x.val
  have hb : (c.val * 16 + y.val) * 44 + x.val < 4224 := by omega
  rw [show pixelW 16#32 44#32 15#32 43#32 (BitVec.ofNat 32 c.val) (cornW (cellF 0x42300000#32 (ptF V p c 0)) (stepX k)) (cornW (cellF 0x41800000#32 (ptF V p c 1)) (stepY k)) = BitVec.ofNat 32 ((c.val * 16 + y.val) * 44 + x.val) from
    e.trans (by rw [hx.2, hy.2]), WordCmp.toInt_ofNat_of_lt (by omega)]
  omega

/-- What level 2 is at a point: the four corners' pixels, each with its share. -/
theorem level2_at (V : Valuation τ sig (Elt Ideal)) (p : Fin 11700) (c : Fin 6) (ch : Fin 256) :
    (after (rX2 (F := Ideal) ++ rY2 ++ rG2 ++ rT2) V (Proc.devRef .tc main_v425) : FVec Ideal S11700x6x256 .f32) (ix3 p c ch)
      = 0 + ∑ k : Fin 4, seen2 V p c ch k
          * share4 44#32 16#32 (cellF 0x42300000#32 (ptF V p c 0)) (cellF 0x41800000#32 (ptF V p c 1)) (restF 0x42300000#32 (ptF V p c 0)) (restF 0x41800000#32 (ptF V p c 1)) k := by
  rw [pieces2]
  rw [after_append, after_append, after_append, after_append, after_append, four2]
  refine congrArg (0 + ·) (Finset.sum_congr rfl fun k _ => ?_)
  generalize hU : after (sX2 (F := Ideal)) V = U
  generalize hU1 : after (sY2 (F := Ideal)) U = U1
  generalize hU2 : after (sG2 (F := Ideal)) U1 = U2
  generalize hU3 : after (sT2 (F := Ideal)) U2 = U3
  have kY := keep2 (F := Ideal) U
  have kG := keep2 (F := Ideal) U1
  have kT := keep2 (F := Ideal) U2
  rw [hU1] at kY; rw [hU2] at kG; rw [hU3] at kT
  have xs := xs2_at U p c k
  have ys := ys2_at U1 p c k
  have gs := gs2_at U2 p c k
  rw [hU1] at xs; rw [hU2] at ys; rw [hU3] at gs
  have co := corn2_at U1 p c k
  rw [hU2] at co
  have px := pixel2_at U2 p c k
  rw [hU3] at px
  have pt := point2_at V p c
  have cl := cols2_at V p c
  rw [hU] at pt cl
  have ro := rows2_at U p c
  rw [hU1] at ro
  have ex : (U2 (Proc.devRef .tc main_v370) : IVec S11700x6x4 32) (ix3 p c k) = (cornW (cellF 0x42300000#32 (ptF V p c 0)) (stepX k)) := by
    rw [kG.2.2.2.1, xs]
    match k with
    | 0 => exact cl.1
    | 1 => exact cl.2.1
    | 2 => exact cl.2.2.1
    | 3 => exact cl.2.2.2
  have ey : (U2 (Proc.devRef .tc main_v379) : IVec S11700x6x4 32) (ix3 p c k) = (cornW (cellF 0x41800000#32 (ptF V p c 1)) (stepY k)) := by
    rw [ys]
    rw [pt.2.2] at ro
    match k with
    | 0 => exact ro.1
    | 1 => exact ro.2.1
    | 2 => exact ro.2.2.1
    | 3 => exact ro.2.2.2
  rw [prod2_at U3 p c k ch, kT.2.2.2.2.2, kG.2.2.2.2.1, kY.2.2.1, gs, co, px.1, px.2, ex, ey, kY.1, kY.2.1, pt.1, pt.2.1, ← hU]
  rfl

/-- Level 2's part of the result: the cameras' values, each with its head's weight, after the levels before. -/
theorem out2_at (V : Valuation τ sig (Elt Ideal)) (p : Fin 11700) (ch : Fin 256) :
    (after (rS2 (F := Ideal)) V (Proc.devRef .tc main_v432) : FVec Ideal S11700x256 .f32) (ix2 p ch)
      = re ((V (Proc.devRef .tc main_v341) : FVec Ideal S11700x256 .f32) (ix2 p ch)) + (0 + ∑ c : Fin 6, re ((V (Proc.devRef .tc main_v425) : FVec Ideal S11700x6x256 .f32) (ix3 p c ch))
          * re ((V (Proc.devRef .tc main_v131) : FVec Ideal S11700x6x4x8 .f32) (ix4 p c 2 ⟨ch.val / 32, by omega⟩))) := by
  generalize hR : (re ((V (Proc.devRef .tc main_v341) : FVec Ideal S11700x256 .f32) (ix2 p ch)) + (0 + ∑ c : Fin 6, re ((V (Proc.devRef .tc main_v425) : FVec Ideal S11700x6x256 .f32) (ix3 p c ch))
          * re ((V (Proc.devRef .tc main_v131) : FVec Ideal S11700x6x4x8 .f32) (ix4 p c 2 ⟨ch.val / 32, by omega⟩))) : EReal) = R
  unfold rS2
  dsimp only [List.cons_append, List.nil_append, List.take_succ_cons, List.drop_succ_cons, List.take_zero, List.drop_zero]
  after_reads_at
  rw [← hR]
  exact congrArg₂ (fun (y z : EReal) => y + z) rfl (cam_sum _ p ch)

/-! ## Level 3: 8 rows of 22 pixels -/

def sX3 : List (HloOp τ sig (Elt F)) := rX3.take 34
def sY3 : List (HloOp τ sig (Elt F)) := rX3.drop 34 ++ rY3.take 9
def sG3 : List (HloOp τ sig (Elt F)) := rY3.drop 9 ++ rG3.take 19
def sT3 : List (HloOp τ sig (Elt F)) := rG3.drop 19 ++ rT3.take 42
def sP3 : List (HloOp τ sig (Elt F)) := (rT3.drop 42).take 5
def sQ3 : List (HloOp τ sig (Elt F)) := (rT3.drop 42).drop 5

theorem pieces3 : rX3 (F := F) ++ rY3 ++ rG3 ++ rT3 = sX3 ++ sY3 ++ sG3 ++ sT3 ++ sP3 ++ sQ3 :=
  cut rX3 rY3 rG3 rT3 34 9 19 42 5

/-- The map, pixel by pixel. -/
theorem map3_at (V : Valuation τ sig (Elt F)) (cam : Fin 6) (y : Fin 8) (x : Fin 22) (ch : Fin 256) :
    (after (sX3 (F := F)) V (Proc.devRef .tc main_v434) : FVec F S1056x256 .f32) (ix2 ⟨(cam.val * 8 + y.val) * 22 + x.val, by omega⟩ ch)
      = (V (Proc.devRef .tc main_v158) : FVec F S6x256x8x22 .f32) (ix4 cam ch y x) := by
  unfold sX3 rX3 r24 r25
  dsimp only [List.cons_append, List.nil_append, List.take_succ_cons, List.drop_succ_cons, List.take_zero, List.drop_zero]
  after_reads_at

theorem point3_at (V : Valuation τ sig (Elt F)) (p : Fin 11700) (c : Fin 6) :
    (after (sX3 (F := F)) V (Proc.devRef .tc main_v449) : FVec F S11700x6 .f32) (ix2 p c) = restF 0x41B00000#32 (ptF V p c 0)
      ∧ (after (sX3 (F := F)) V (Proc.devRef .tc main_v450) : FVec F S11700x6 .f32) (ix2 p c) = restF 0x41000000#32 (ptF V p c 1)
      ∧ (after (sX3 (F := F)) V (Proc.devRef .tc main_v452) : IVec S11700x6 32) (ix2 p c) = (cellF 0x41000000#32 (ptF V p c 1)) := by
  unfold sX3 rX3 r24 r25
  dsimp only [List.cons_append, List.nil_append, List.take_succ_cons, List.drop_succ_cons, List.take_zero, List.drop_zero]
  refine ⟨?_, ?_, ?_⟩ <;> after_reads_at <;> rfl

theorem cols3_at (V : Valuation τ sig (Elt F)) (p : Fin 11700) (c : Fin 6) :
    (after (sX3 (F := F)) V (Proc.devRef .tc main_v457) : IVec S11700x6x1 32) (ix3 p c 0) = cornW (cellF 0x41B00000#32 (ptF V p c 0)) 0 ∧ (after (sX3 (F := F)) V (Proc.devRef .tc main_v458) : IVec S11700x6x1 32) (ix3 p c 0) = cornW (cellF 0x41B00000#32 (ptF V p c 0)) 1
      ∧ (after (sX3 (F := F)) V (Proc.devRef .tc main_v459) : IVec S11700x6x1 32) (ix3 p c 0) = cornW (cellF 0x41B00000#32 (ptF V p c 0)) 0 ∧ (after (sX3 (F := F)) V (Proc.devRef .tc main_v460) : IVec S11700x6x1 32) (ix3 p c 0) = cornW (cellF 0x41B00000#32 (ptF V p c 0)) 1 := by
  unfold sX3 rX3 r24 r25
  dsimp only [List.cons_append, List.nil_append, List.take_succ_cons, List.drop_succ_cons, List.take_zero, List.drop_zero]
  refine ⟨?_, ?_, ?_, ?_⟩ <;> after_reads_at <;> first | rfl | exact (BitVec.add_zero _).symm

theorem rows3_at (V : Valuation τ sig (Elt F)) (p : Fin 11700) (c : Fin 6) :
    (after (sY3 (F := F)) V (Proc.devRef .tc main_v466) : IVec S11700x6x1 32) (ix3 p c 0) = cornW ((V (Proc.devRef .tc main_v452) : IVec S11700x6 32) (ix2 p c)) 0 ∧ (after (sY3 (F := F)) V (Proc.devRef .tc main_v467) : IVec S11700x6x1 32) (ix3 p c 0) = cornW ((V (Proc.devRef .tc main_v452) : IVec S11700x6 32) (ix2 p c)) 0
      ∧ (after (sY3 (F := F)) V (Proc.devRef .tc main_v468) : IVec S11700x6x1 32) (ix3 p c 0) = cornW ((V (Proc.devRef .tc main_v452) : IVec S11700x6 32) (ix2 p c)) 1 ∧ (after (sY3 (F := F)) V (Proc.devRef .tc main_v469) : IVec S11700x6x1 32) (ix3 p c 0) = cornW ((V (Proc.devRef .tc main_v452) : IVec S11700x6 32) (ix2 p c)) 1 := by
  unfold sY3 rX3 r24 r25 rY3
  dsimp only [List.cons_append, List.nil_append, List.take_succ_cons, List.drop_succ_cons, List.take_zero, List.drop_zero]
  refine ⟨?_, ?_, ?_, ?_⟩ <;> after_reads_at <;> first | rfl | exact (BitVec.add_zero _).symm

theorem corn3_at (V : Valuation τ sig (Elt Ideal)) (p : Fin 11700) (c : Fin 6) (k : Fin 4) :
    (![(after (sG3 (F := Ideal)) V (Proc.devRef .tc main_v483) : FVec Ideal S11700x6x1 .f32), (after (sG3 (F := Ideal)) V (Proc.devRef .tc main_v484) : FVec Ideal S11700x6x1 .f32), (after (sG3 (F := Ideal)) V (Proc.devRef .tc main_v485) : FVec Ideal S11700x6x1 .f32), (after (sG3 (F := Ideal)) V (Proc.devRef .tc main_v486) : FVec Ideal S11700x6x1 .f32)] k) (ix3 p c 0)
      = cornE ((V (Proc.devRef .tc main_v449) : FVec Ideal S11700x6 .f32) (ix2 p c)) ((V (Proc.devRef .tc main_v450) : FVec Ideal S11700x6 .f32) (ix2 p c)) k := by
  unfold sG3 rY3 rG3 r27 r28
  dsimp only [List.cons_append, List.nil_append, List.take_succ_cons, List.drop_succ_cons, List.take_zero, List.drop_zero]
  match k with
  | 0 =>
    show (after _ V (Proc.devRef .tc main_v483) : FVec Ideal S11700x6x1 .f32) (ix3 p c 0) = _
    after_reads_at
    rfl
  | 1 =>
    show (after _ V (Proc.devRef .tc main_v484) : FVec Ideal S11700x6x1 .f32) (ix3 p c 0) = _
    after_reads_at
    rfl
  | 2 =>
    show (after _ V (Proc.devRef .tc main_v485) : FVec Ideal S11700x6x1 .f32) (ix3 p c 0) = _
    after_reads_at
    rfl
  | 3 =>
    show (after _ V (Proc.devRef .tc main_v486) : FVec Ideal S11700x6x1 .f32) (ix3 p c 0) = _
    after_reads_at
    rfl

theorem xs3_at (V : Valuation τ sig (Elt F)) (p : Fin 11700) (c : Fin 6) (k : Fin 4) :
    (after (sY3 (F := F)) V (Proc.devRef .tc main_v461) : IVec S11700x6x4 32) (ix3 p c k) = (![(V (Proc.devRef .tc main_v457) : IVec S11700x6x1 32), (V (Proc.devRef .tc main_v458) : IVec S11700x6x1 32), (V (Proc.devRef .tc main_v459) : IVec S11700x6x1 32), (V (Proc.devRef .tc main_v460) : IVec S11700x6x1 32)] k) (ix3 p c 0) :=
  four_cols (V (Proc.devRef .tc main_v457) : IVec S11700x6x1 32) (V (Proc.devRef .tc main_v458) : IVec S11700x6x1 32) (V (Proc.devRef .tc main_v459) : IVec S11700x6x1 32) (V (Proc.devRef .tc main_v460) : IVec S11700x6x1 32) concatenates_S11700x6x1_S11700x6x1_S11700x6x1_S11700x6x1_S11700x6x4_d2 p c k

theorem ys3_at (V : Valuation τ sig (Elt F)) (p : Fin 11700) (c : Fin 6) (k : Fin 4) :
    (after (sG3 (F := F)) V (Proc.devRef .tc main_v470) : IVec S11700x6x4 32) (ix3 p c k) = (![(V (Proc.devRef .tc main_v466) : IVec S11700x6x1 32), (V (Proc.devRef .tc main_v467) : IVec S11700x6x1 32), (V (Proc.devRef .tc main_v468) : IVec S11700x6x1 32), (V (Proc.devRef .tc main_v469) : IVec S11700x6x1 32)] k) (ix3 p c 0) :=
  four_cols (V (Proc.devRef .tc main_v466) : IVec S11700x6x1 32) (V (Proc.devRef .tc main_v467) : IVec S11700x6x1 32) (V (Proc.devRef .tc main_v468) : IVec S11700x6x1 32) (V (Proc.devRef .tc main_v469) : IVec S11700x6x1 32) concatenates_S11700x6x1_S11700x6x1_S11700x6x1_S11700x6x1_S11700x6x4_d2 p c k

theorem gs3_at (V : Valuation τ sig (Elt F)) (p : Fin 11700) (c : Fin 6) (k : Fin 4) :
    (after (sT3 (F := F)) V (Proc.devRef .tc main_v487) : FVec F S11700x6x4 .f32) (ix3 p c k) = (![(V (Proc.devRef .tc main_v483) : FVec F S11700x6x1 .f32), (V (Proc.devRef .tc main_v484) : FVec F S11700x6x1 .f32), (V (Proc.devRef .tc main_v485) : FVec F S11700x6x1 .f32), (V (Proc.devRef .tc main_v486) : FVec F S11700x6x1 .f32)] k) (ix3 p c 0) :=
  four_cols (V (Proc.devRef .tc main_v483) : FVec F S11700x6x1 .f32) (V (Proc.devRef .tc main_v484) : FVec F S11700x6x1 .f32) (V (Proc.devRef .tc main_v485) : FVec F S11700x6x1 .f32) (V (Proc.devRef .tc main_v486) : FVec F S11700x6x1 .f32) concatenates_S11700x6x1_S11700x6x1_S11700x6x1_S11700x6x1_S11700x6x4_d2 p c k

theorem pixel3_at (V : Valuation τ sig (Elt F)) (p : Fin 11700) (c : Fin 6) (k : Fin 4) :
    (after (sT3 (F := F)) V (Proc.devRef .tc main_call14_v0) : IVec S11700x6x4x1 32) (ix4 p c k 0)
        = pixelW 8#32 22#32 7#32 21#32 (BitVec.ofNat 32 c.val) ((V (Proc.devRef .tc main_v461) : IVec S11700x6x4 32) (ix3 p c k)) ((V (Proc.devRef .tc main_v470) : IVec S11700x6x4 32) (ix3 p c k))
      ∧ (after (sT3 (F := F)) V (Proc.devRef .tc main_v499) : FVec F S11700x6x4 .f32) (ix3 p c k) = FloatOps.uitofp .f32 (validW 22#32 8#32 ((V (Proc.devRef .tc main_v461) : IVec S11700x6x4 32) (ix3 p c k)) ((V (Proc.devRef .tc main_v470) : IVec S11700x6x4 32) (ix3 p c k))) := by
  unfold sT3 rG3 r27 r28 rT3
  dsimp only [List.cons_append, List.nil_append, List.take_succ_cons, List.drop_succ_cons, List.take_zero, List.drop_zero]
  refine ⟨?_, ?_⟩ <;> after_reads_at <;> rfl

/-- The map's row numbered by a word, kept inside the map. -/
def pick3 (T : FVec F S1056x256 .f32) (v : BitVec 32) (ch : Fin 256) : F .f32 := T (ix2 ⟨min v.toInt.toNat 1055, by omega⟩ ch)

/-- The row that is gathered, at an element. -/
theorem gather3_at (T : FVec F S1056x256 .f32) (A : IVec S11700x6x4x1 32) (p : Fin 11700) (c : Fin 6) (k : Fin 4) (ch : Fin 256) :
    Host.gather gather_S1056x256_S11700x6x4x1_S11700x6x4x256_3_0_n_n_0_3_1256 T A (ix4 p c k ch)
      = pick3 T (A (ix4 p c k 0)) ch := by
  unfold pick3
  unfold Host.gather
  refine congrArg T (funext fun (b : Fin 2) => Fin.ext ?_)
  match b with
  | 0 =>
    show min (A _).toInt.toNat 1055 + 0 + 0 = min ((A (ix4 p c k 0)).toInt.toNat) 1055
    refine congrArg (fun i : S11700x6x4x1.Idx => min (A i).toInt.toNat 1055) (funext fun (b : Fin 4) => ?_)
    match b with
    | 0 => rfl
    | 1 => rfl
    | 2 => rfl
    | 3 => rfl
  | 1 => show 0 + 0 + ch.val = ch.val; omega

theorem prod3_at (V : Valuation τ sig (Elt F)) (p : Fin 11700) (c : Fin 6) (k : Fin 4) (ch : Fin 256) :
    (after (sP3 (F := F)) V (Proc.devRef .tc main_v515) : FVec F S11700x6x4x256 .f32) (ix4 p c k ch)
      = FloatOps.mulf (pick3 (V (Proc.devRef .tc main_v434) : FVec F S1056x256 .f32) ((V (Proc.devRef .tc main_call14_v0) : IVec S11700x6x4x1 32) (ix4 p c k 0)) ch)
          (FloatOps.mulf ((V (Proc.devRef .tc main_v487) : FVec F S11700x6x4 .f32) (ix3 p c k)) ((V (Proc.devRef .tc main_v499) : FVec F S11700x6x4 .f32) (ix3 p c k))) := by
  unfold sP3 rT3
  dsimp only [List.cons_append, List.nil_append, List.take_succ_cons, List.drop_succ_cons, List.take_zero, List.drop_zero]
  after_reads_at
  rw [gather3_at]

/-- What is kept from piece to piece. -/
theorem keep3 (V : Valuation τ sig (Elt F)) :
    (after (sY3 (F := F)) V (Proc.devRef .tc main_v449) : FVec F S11700x6 .f32) = V (Proc.devRef .tc main_v449) ∧ (after (sY3 (F := F)) V (Proc.devRef .tc main_v450) : FVec F S11700x6 .f32) = V (Proc.devRef .tc main_v450)
      ∧ (after (sY3 (F := F)) V (Proc.devRef .tc main_v434) : FVec F S1056x256 .f32) = V (Proc.devRef .tc main_v434)
      ∧ (after (sG3 (F := F)) V (Proc.devRef .tc main_v461) : IVec S11700x6x4 32) = V (Proc.devRef .tc main_v461) ∧ (after (sG3 (F := F)) V (Proc.devRef .tc main_v434) : FVec F S1056x256 .f32) = V (Proc.devRef .tc main_v434)
      ∧ (after (sT3 (F := F)) V (Proc.devRef .tc main_v434) : FVec F S1056x256 .f32) = V (Proc.devRef .tc main_v434) := by
  unfold sY3 sG3 sT3 rX3 r24 r25 rY3 rG3 r27 r28 rT3
  dsimp only [List.cons_append, List.nil_append, List.take_succ_cons, List.drop_succ_cons, List.take_zero, List.drop_zero]
  refine ⟨?_, ?_, ?_, ?_, ?_, ?_⟩ <;> after_reads_simp

theorem four3 (V : Valuation τ sig (Elt Ideal)) (p : Fin 11700) (c : Fin 6) (ch : Fin 256) :
    (after (sQ3 (F := Ideal)) V (Proc.devRef .tc main_v516) : FVec Ideal S11700x6x256 .f32) (ix3 p c ch)
      = 0 + ∑ k : Fin 4, re ((V (Proc.devRef .tc main_v515) : FVec Ideal S11700x6x4x256 .f32) (ix4 p c k ch)) := by
  show Host.reduceAdd (V (Proc.devRef .tc main_v515) : FVec Ideal S11700x6x4x256 .f32) (constant (F := Ideal) S_ .f32 0x00000000#32) reducesTo_S11700x6x4x256_S11700x6x256_d2 h_S_ (ix3 p c ch) = _
  rw [ValueIdx.hostReduceAdd_apply]
  unfold Ideal.hostReduceAdd
  rw [sum_third reducesTo_S11700x6x4x256_S11700x6x256_d2 (fun i => funext fun (b : Fin 3) => match b with | 0 => rfl | 1 => rfl | 2 => rfl)]
  exact congrArg (· + _) Ideal.ofBits_zero_f32

/-- The pixel that corner `k` is taken from. -/
def seen3 (V : Valuation τ sig (Elt Ideal)) (p : Fin 11700) (c : Fin 6) (ch : Fin 256) (k : Fin 4) : EReal :=
  pick3 (F := Ideal) (after (sX3 (F := Ideal)) V (Proc.devRef .tc main_v434)) (pixelW 8#32 22#32 7#32 21#32 (BitVec.ofNat 32 c.val) (cornW (cellF 0x41B00000#32 (ptF V p c 0)) (stepX k)) (cornW (cellF 0x41000000#32 (ptF V p c 1)) (stepY k))) ch

/-- A corner inside the map is read at its own column and row. -/
theorem seen3_eq (V : Valuation τ sig (Elt Ideal)) (p : Fin 11700) (c : Fin 6) (ch : Fin 256) (k : Fin 4) (y : Fin 8) (x : Fin 22)
    (hx : 0 ≤ (cornW (cellF 0x41B00000#32 (ptF V p c 0)) (stepX k)).toInt ∧ (cornW (cellF 0x41B00000#32 (ptF V p c 0)) (stepX k)).toInt.toNat = x.val) (hy : 0 ≤ (cornW (cellF 0x41000000#32 (ptF V p c 1)) (stepY k)).toInt ∧ (cornW (cellF 0x41000000#32 (ptF V p c 1)) (stepY k)).toInt.toNat = y.val) :
    seen3 V p c ch k = (V (Proc.devRef .tc main_v158) : FVec Ideal S6x256x8x22 .f32) (ix4 c ch y x) := by
  have e := pixelW_eq 8 22 c.val (by omega) (by omega) (by omega) (by omega) (cornW (cellF 0x41B00000#32 (ptF V p c 0)) (stepX k)) (cornW (cellF 0x41000000#32 (ptF V p c 1)) (stepY k)) ⟨hx.1, by omega⟩ ⟨hy.1, by omega⟩
  refine Eq.trans ?_ (map3_at V c y x ch)
  unfold seen3 pick3
  refine congrArg (after (sX3 (F := Ideal)) V (Proc.devRef .tc main_v434) : FVec Ideal S1056x256 .f32) (congrArg (fun i => ix2 i ch) (Fin.ext ?_))
  show min (BitVec.toInt _).toNat 1055 = (c.val * 8 + y.val) * 22 + x.val
  have hb : (c.val * 8 + y.val) * 22 + x.val < 1056 := by omega
  rw [show pixelW 8#32 22#32 7#32 21#32 (BitVec.ofNat 32 c.val) (cornW (cellF 0x41B00000#32 (ptF V p c 0)) (stepX k)) (cornW (cellF 0x41000000#32 (ptF V p c 1)) (stepY k)) = BitVec.ofNat 32 ((c.val * 8 + y.val) * 22 + x.val) from
    e.trans (by rw [hx.2, hy.2]), WordCmp.toInt_ofNat_of_lt (by omega)]
  omega

/-- What level 3 is at a point: the four corners' pixels, each with its share. -/
theorem level3_at (V : Valuation τ sig (Elt Ideal)) (p : Fin 11700) (c : Fin 6) (ch : Fin 256) :
    (after (rX3 (F := Ideal) ++ rY3 ++ rG3 ++ rT3) V (Proc.devRef .tc main_v516) : FVec Ideal S11700x6x256 .f32) (ix3 p c ch)
      = 0 + ∑ k : Fin 4, seen3 V p c ch k
          * share4 22#32 8#32 (cellF 0x41B00000#32 (ptF V p c 0)) (cellF 0x41000000#32 (ptF V p c 1)) (restF 0x41B00000#32 (ptF V p c 0)) (restF 0x41000000#32 (ptF V p c 1)) k := by
  rw [pieces3]
  rw [after_append, after_append, after_append, after_append, after_append, four3]
  refine congrArg (0 + ·) (Finset.sum_congr rfl fun k _ => ?_)
  generalize hU : after (sX3 (F := Ideal)) V = U
  generalize hU1 : after (sY3 (F := Ideal)) U = U1
  generalize hU2 : after (sG3 (F := Ideal)) U1 = U2
  generalize hU3 : after (sT3 (F := Ideal)) U2 = U3
  have kY := keep3 (F := Ideal) U
  have kG := keep3 (F := Ideal) U1
  have kT := keep3 (F := Ideal) U2
  rw [hU1] at kY; rw [hU2] at kG; rw [hU3] at kT
  have xs := xs3_at U p c k
  have ys := ys3_at U1 p c k
  have gs := gs3_at U2 p c k
  rw [hU1] at xs; rw [hU2] at ys; rw [hU3] at gs
  have co := corn3_at U1 p c k
  rw [hU2] at co
  have px := pixel3_at U2 p c k
  rw [hU3] at px
  have pt := point3_at V p c
  have cl := cols3_at V p c
  rw [hU] at pt cl
  have ro := rows3_at U p c
  rw [hU1] at ro
  have ex : (U2 (Proc.devRef .tc main_v461) : IVec S11700x6x4 32) (ix3 p c k) = (cornW (cellF 0x41B00000#32 (ptF V p c 0)) (stepX k)) := by
    rw [kG.2.2.2.1, xs]
    match k with
    | 0 => exact cl.1
    | 1 => exact cl.2.1
    | 2 => exact cl.2.2.1
    | 3 => exact cl.2.2.2
  have ey : (U2 (Proc.devRef .tc main_v470) : IVec S11700x6x4 32) (ix3 p c k) = (cornW (cellF 0x41000000#32 (ptF V p c 1)) (stepY k)) := by
    rw [ys]
    rw [pt.2.2] at ro
    match k with
    | 0 => exact ro.1
    | 1 => exact ro.2.1
    | 2 => exact ro.2.2.1
    | 3 => exact ro.2.2.2
  rw [prod3_at U3 p c k ch, kT.2.2.2.2.2, kG.2.2.2.2.1, kY.2.2.1, gs, co, px.1, px.2, ex, ey, kY.1, kY.2.1, pt.1, pt.2.1, ← hU]
  rfl

/-- Level 3's part of the result: the cameras' values, each with its head's weight, after the levels before. -/
theorem out3_at (V : Valuation τ sig (Elt Ideal)) (p : Fin 11700) (ch : Fin 256) :
    (after (rS3 (F := Ideal)) V (Proc.devRef .tc main_v523) : FVec Ideal S11700x256 .f32) (ix2 p ch)
      = re ((V (Proc.devRef .tc main_v432) : FVec Ideal S11700x256 .f32) (ix2 p ch)) + (0 + ∑ c : Fin 6, re ((V (Proc.devRef .tc main_v516) : FVec Ideal S11700x6x256 .f32) (ix3 p c ch))
          * re ((V (Proc.devRef .tc main_v131) : FVec Ideal S11700x6x4x8 .f32) (ix4 p c 3 ⟨ch.val / 32, by omega⟩))) := by
  generalize hR : (re ((V (Proc.devRef .tc main_v432) : FVec Ideal S11700x256 .f32) (ix2 p ch)) + (0 + ∑ c : Fin 6, re ((V (Proc.devRef .tc main_v516) : FVec Ideal S11700x6x256 .f32) (ix3 p c ch))
          * re ((V (Proc.devRef .tc main_v131) : FVec Ideal S11700x6x4x8 .f32) (ix4 p c 3 ⟨ch.val / 32, by omega⟩))) : EReal) = R
  unfold rS3
  dsimp only [List.cons_append, List.nil_append, List.take_succ_cons, List.drop_succ_cons, List.take_zero, List.drop_zero]
  after_reads_at
  rw [← hR]
  exact congrArg₂ (fun (y z : EReal) => y + z) rfl (cam_sum _ p ch)

end Cert.Proof.Ref

end
-- ==== Proof.Stage.lean ====
/-
  The pieces of an anchor's work, each run once: a trip, a point's loop, the start of a gather and its
  wait, a point with the next one's gather in flight. Every statement names the contents it leaves.
-/
module

public import proofs.«01_k».proof.Proof.Setup

@[expose] public section

noncomputable section

namespace Cert.Proof.Agg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The values -/

/-- What the load of register `v` of row `s` of block `t` reads, of a buffer of rows holding `R`. -/
def rowV (R : Vec F S96x2x128 .f32) (t : Fin k0_t2_loop.trips) (s : Fin 4) (v : Fin 16) : Vec F S1x1x16 .f32 :=
  fun i => R ((Rect.unit (s := S96x2x128) (rowOff t s v) S1x1x16.size (rowOff_inb t s v)).toLoadRect.idx i)

/-- The two registers of weights of block `t` of point `k`, of a buffer of weights holding `W`. -/
def wt₀ (W : Vec F S10000 .f32) (k : Fin 13) (t : Fin k0_t2_loop.trips) : V16 F :=
  shapeCast S16 (fun i => W ((Rect.unit (s := S10000) (wOff₀ (BitVec.ofNat 32 (768 * k.val)) t) S16.size (wOff₀_inb k t)).toLoadRect.idx i) :
    Vec F S16 .f32) shapeCasts_S16_S16
def wt₁ (W : Vec F S10000 .f32) (k : Fin 13) (t : Fin k0_t2_loop.trips) : V16 F :=
  shapeCast S16 (fun i => W ((Rect.unit (s := S10000) (wOff₁ (BitVec.ofNat 32 (768 * k.val)) t) S16.size (wOff₁_inb k t)).toLoadRect.idx i) :
    Vec F S16 .f32) shapeCasts_S16_S16

/-- The group a register of channels belongs to. -/
def grp (v : Fin 16) : Fin 8 := ⟨v.val / 2, by omega⟩

/-- One row added to the running sums. -/
def blkF (R : Vec F S96x2x128 .f32) (t : Fin k0_t2_loop.trips) (s : Fin 4) (w : V16 F) (f : Fin 16 → V16 F) : Fin 16 → V16 F :=
  fun v => mac (f v) (rowV R t s v) (lane w s (grp v))

/-- One block added to the running sums. -/
def tripF (W : Vec F S10000 .f32) (R : Vec F S96x2x128 .f32) (k : Fin 13) (t : Fin k0_t2_loop.trips) (f : Fin 16 → V16 F) :
    Fin 16 → V16 F :=
  blkF R t 3 (wt₁ W k t) (blkF R t 2 (wt₁ W k t) (blkF R t 1 (wt₀ W k t) (blkF R t 0 (wt₀ W k t) f)))

/-- The first `n` blocks of a point added to the running sums. -/
def loopF (W : Vec F S10000 .f32) (R : Vec F S96x2x128 .f32) (k : Fin 13) (f : Fin 16 → V16 F) : ℕ → Fin 16 → V16 F
  | 0 => f
  | n + 1 => if h : n < k0_t2_loop.trips then tripF W R k ⟨n, h⟩ (loopF W R k f n) else loopF W R k f n

/-! ## A trip and a loop -/

section Run

variable (d : Dev nD) (L : grid0.Coords) {α : Type} {Q : α → sProp (MM F)}

local notation "WP" => wp frame (wpE (defs₀ (F := F)) 𝒱₀ (thr d L) none) Set.univ

theorem wp_row (buf : Memref sig .scVector .vmem S96x2x128 .f32) (q : PosShare TreeShare) (fb : Buf (Elt F) (buf.view.loc (thr d L)))
    (t : Fin k0_t2_loop.trips) (s : Fin 4) (v : Fin 16) (kk : Vec F S1x1x16 .f32 → TileProg F L α) :
    (buf.view.loc (thr d L) ↦[buf.view.set]{q} fb : sProp (MM F))
      ⊢ iprop(((buf.view.loc (thr d L) ↦[buf.view.set]{q} fb) -∗ WP (kk (rowV (buf.view.read (Elt F) fb) t s v)) Q)
          -∗ WP (rowP L buf t s v >>= kk) Q) :=
  wp_load (defs := defs₀ (F := F)) (m := buf) (k := kk) (Q := Q) (r := (Rect.unit (s := S96x2x128) (rowOff t s v) S1x1x16.size (rowOff_inb t s v)).toLoadRect)
    (hl := View.loadsAt_vmem h_S1x1x16) (q := q) (f := fb) 𝒱₀ (thr d L) none Set.univ (View.setOn_subset_set _ _)

theorem wp_blk (buf : Memref sig .scVector .vmem S96x2x128 .f32) (q : PosShare TreeShare) (fb : Buf (Elt F) (buf.view.loc (thr d L)))
    (t : Fin k0_t2_loop.trips) (s : Fin 4) (w : V16 F) (f : Fin 16 → V16 F) (kk : Acc F → TileProg F L α) :
    (buf.view.loc (thr d L) ↦[buf.view.set]{q} fb : sProp (MM F))
      ⊢ iprop(((buf.view.loc (thr d L) ↦[buf.view.set]{q} fb) -∗ WP (kk (pack (blkF (buf.view.read (Elt F) fb) t s w f))) Q)
          -∗ WP (blkP L buf t s w (pack f) >>= kk) Q) := by
  unfold blkP
  simp only [bind_assoc, pure_bind]
  iintro H Hk
  iterate 16 (iapply (wp_row d L buf q fb) $$ H; iintro H)
  iapply Hk $$ H

theorem wp_trip (wb : Memref sig .scVector .vmem S10000 .f32) (buf : Memref sig .scVector .vmem S96x2x128 .f32)
    (q q' : PosShare TreeShare) (fw : Buf (Elt F) (wb.view.loc (thr d L))) (fb : Buf (Elt F) (buf.view.loc (thr d L)))
    (k : Fin 13) (t : Fin k0_t2_loop.trips) (f : Fin 16 → V16 F) :
    iprop((wb.view.loc (thr d L) ↦[wb.view.set]{q'} fw) ∗ (buf.view.loc (thr d L) ↦[buf.view.set]{q} fb) : sProp (MM F))
      ⊢ WP (tripK L wb buf k t (pack f)) fun a =>
          iprop(⌜a = pack (tripF (wb.view.read (Elt F) fw) (buf.view.read (Elt F) fb) k t f)⌝
            ∗ (wb.view.loc (thr d L) ↦[wb.view.set]{q'} fw) ∗ (buf.view.loc (thr d L) ↦[buf.view.set]{q} fb)) := by
  unfold tripK tripP
  iintro ⟨Hw, H⟩
  iapply (wp_load 𝒱₀ (thr d L) none Set.univ (View.setOn_subset_set _ _)) $$ Hw; iintro Hw
  iapply (wp_load 𝒱₀ (thr d L) none Set.univ (View.setOn_subset_set _ _)) $$ Hw; iintro Hw
  iapply (wp_blk d L buf q fb) $$ H; iintro H
  iapply (wp_blk d L buf q fb) $$ H; iintro H
  iapply (wp_blk d L buf q fb) $$ H; iintro H
  rw [← bind_pure (blkP L buf t 3 _ _)]
  iapply (wp_blk d L buf q fb) $$ H; iintro H
  rw [Prog.pure_eq_ret, wp_ret]
  imodintro
  isplitr
  · ipureintro; rfl
  isplitl [Hw] <;> iassumption

/-- Point `k`'s loop: from the sums `f`, the twenty-four blocks added. -/
theorem wp_loop (wb : Memref sig .scVector .vmem S10000 .f32) (buf : Memref sig .scVector .vmem S96x2x128 .f32)
    (q q' : PosShare TreeShare) (fw : Buf (Elt F) (wb.view.loc (thr d L))) (fb : Buf (Elt F) (buf.view.loc (thr d L)))
    (k : Fin 13) (f : Fin 16 → V16 F) (kk : Acc F → TileProg F L α) :
    iprop((wb.view.loc (thr d L) ↦[wb.view.set]{q'} fw) ∗ (buf.view.loc (thr d L) ↦[buf.view.set]{q} fb) : sProp (MM F))
      ⊢ iprop((((wb.view.loc (thr d L) ↦[wb.view.set]{q'} fw) ∗ (buf.view.loc (thr d L) ↦[buf.view.set]{q} fb))
            -∗ WP (kk (pack (loopF (wb.view.read (Elt F) fw) (buf.view.read (Elt F) fb) k f 24))) Q)
          -∗ WP (loopP L wb buf k (pack f) >>= kk) Q) := by
  have hstep : ∀ (t : Fin k0_t2_loop.trips) (acc : Acc F),
      iprop(⌜acc = pack (loopF (wb.view.read (Elt F) fw) (buf.view.read (Elt F) fb) k f t.val)⌝
          ∗ (wb.view.loc (thr d L) ↦[wb.view.set]{q'} fw) ∗ (buf.view.loc (thr d L) ↦[buf.view.set]{q} fb) : sProp (MM F))
        ⊢ WP (tripK L wb buf k t acc) fun acc' =>
          iprop(⌜acc' = pack (loopF (wb.view.read (Elt F) fw) (buf.view.read (Elt F) fb) k f (t.val + 1))⌝
            ∗ (wb.view.loc (thr d L) ↦[wb.view.set]{q'} fw) ∗ (buf.view.loc (thr d L) ↦[buf.view.set]{q} fb)) := by
    intro t acc
    iintro ⟨%ha, H⟩
    subst ha
    rw [show loopF (wb.view.read (Elt F) fw) (buf.view.read (Elt F) fb) k f (t.val + 1)
        = tripF (wb.view.read (Elt F) fw) (buf.view.read (Elt F) fb) k t (loopF (wb.view.read (Elt F) fw) (buf.view.read (Elt F) fb) k f t.val)
      from dif_pos t.isLt]
    iapply (wp_trip d L wb buf q q' fw fb k t) $$ H
  unfold loopP
  iintro H Hk
  iapply (Scf.wp_for_bind frame (wpE (defs₀ (F := F)) 𝒱₀ (thr d L) none) Set.univ k0_t2_loop.lb k0_t2_loop.ub k0_t2_loop.st loop_ok
    (pack f) _ (fun n acc => iprop(⌜acc = pack (loopF (wb.view.read (Elt F) fw) (buf.view.read (Elt F) fb) k f n)⌝
          ∗ (wb.view.loc (thr d L) ↦[wb.view.set]{q'} fw) ∗ (buf.view.loc (thr d L) ↦[buf.view.set]{q} fb))) hstep) $$ [H]
  · isplitr
    · ipureintro; rfl
    · iexact H
  iintro %acc ⟨%ha, H⟩
  subst ha
  iapply Hk $$ H

end Run

end Cert.Proof.Agg

end
-- ==== Proof.Gather.lean ====
/-
  The gathers of an anchor: what a point's gather delivers, its start, its wait, and a point of the anchor
  with the next point's gather in flight.
-/
module

public import proofs.«01_k».proof.Proof.Stage
public import Idealize.ShloMosaic.Lib.Pointwise.Index

@[expose] public section

noncomputable section

namespace Cert.Proof.Agg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The rows point `k`'s list names, of a table holding `T`, the lists of the thirteen points being `I`. -/
def rowsF (T : Vec F S348336x2x128 .f32) (I : Vec F S1248 .i32) (k : Fin 13) : Vec F S96x2x128 .f32 :=
  fun x => T (ix3 ⟨(I (ix1 ⟨96 * k.val + (x 0).val, by have := (x 0).isLt; have hx : (x 0).val < 96 := this; omega⟩)).toNat % 348336,
    Nat.mod_lt _ (by decide)⟩ (x 1) (x 2))

/-- Every row a list names is in the table. -/
def InTable (I : Vec F S1248 .i32) : Prop := ∀ x, (I x).toNat < 348336

theorem list_read (ib : Memref sig .scVector .vmem S1248 .i32) (fi : ib.view.ty.Contents (Elt F)) (k : Fin 13) (j : S96.Idx) :
    (listSlice ib k).view.read (Elt F) fi j
      = ib.view.read (Elt F) fi (ix1 ⟨96 * k.val + (j 0).val, by have := (j 0).isLt; have hx : (j 0).val < 96 := this; omega⟩) := by
  show ib.view.read (Elt F) fi _ = _
  congr 1
  funext a
  match a with
  | 0 => exact Fin.ext (by show 96 * k.val + 1 * (j 0).val = 96 * k.val + (j 0).val; omega)

theorem payload_eq (T : Vec F S348336x2x128 .f32) (ib : Memref sig .scVector .vmem S1248 .i32) (fi : ib.view.ty.Contents (Elt F))
    (k : Fin 13) (hI : InTable (ib.view.read (Elt F) fi))
    (hin : ∀ x, ((listSlice ib k).view.read (Elt F) fi x).toNat < S348336x2x128.size gathers_S348336x2x128_S96x2x128.axis) :
    SparseCore.gatherPayload gathers_S348336x2x128_S96x2x128 T (SparseCore.rows ((listSlice ib k).view.read (Elt F) fi) rfl hin)
      = rowsF T (ib.view.read (Elt F) fi) k := by
  funext x
  unfold SparseCore.gatherPayload rowsF
  congr 1
  funext b
  match b with
  | 0 =>
    apply Fin.ext
    refine (congrArg Fin.val (Shape.Gathers.idx_axis gathers_S348336x2x128_S96x2x128 _ x)).trans ?_
    show ((listSlice ib k).view.read (Elt F) fi _).toNat = (ib.view.read (Elt F) fi _).toNat % 348336
    rw [Nat.mod_eq_of_lt (hI _), list_read]
    congr 3
    apply Fin.ext
    show 96 * k.val + _ = 96 * k.val + _
    congr 1
    have := Shape.rowMajor_val_one (d := ![96]) (S96.rowMajor.symm (Fin.cast (rfl : S96.numel = S96x2x128.size gathers_S348336x2x128_S96x2x128.axis').symm (x 0)))
    rw [Equiv.apply_symm_apply] at this
    exact this.symm
  | 1 => exact Fin.ext (Shape.Gathers.idx_of_ne gathers_S348336x2x128_S96x2x128 _ x 1 (by decide))
  | 2 => exact Fin.ext (Shape.Gathers.idx_of_ne gathers_S348336x2x128_S96x2x128 _ x 2 (by decide))

/-- The rows of a buffer, copied one by one, pay what the wait for the buffer takes. -/
def Pays (buf : Memref sig .scVector .vmem S96x2x128 .f32) : Prop :=
  ∑ j, (buf.slice (S96x2x128.rowRect gathers_S348336x2x128_S96x2x128.axis' j)
    (S96x2x128.stride_rowRect gathers_S348336x2x128_S96x2x128.axis' j)).view.dmaCredit = buf.view.dmaCredit

section Run

variable (d : Dev nD) (L : grid0.Coords)

/-- The tile owes `O` and has waited only on its own copies, beyond `W`. -/
def Owing (O : CellTallies nD τ sig (HIx 1)) (W : Waits sig (HIx 1)) : sProp (MM F) :=
  iprop(∃ W', ⌜∀ p ∈ W', p ∈ W ∨ p.2 = none⌝ ∗ owes (thr d L) O W')

/-- A share of the table and a share of the thirteen lists. -/
def Srcs (tb : Memref sig .scVector .hbm S348336x2x128 .f32) (ib : Memref sig .scVector .vmem S1248 .i32)
    (ft : Buf (Elt F) ((tblSlice tb).view.loc (thr d L))) (fi : Buf (Elt F) (ib.view.loc (thr d L)))
    (q qo : PosShare TreeShare) : sProp (MM F) :=
  iprop(((tblSlice tb).view.loc (thr d L) ↦[(tblSlice tb).view.set]{q} ft) ∗ (ib.view.loc (thr d L) ↦[ib.view.set]{qo} fi))

/-- A buffer at rest: at some contents, its semaphore at zero. -/
def Idle (buf : Memref sig .scVector .vmem S96x2x128 .f32) (sm : DmaSems sig S_) : sProp (MM F) :=
  iprop((∃ g : Buf (Elt F) (buf.view.loc (thr d L)), buf.view.loc (thr d L) ↦[buf.view.set]{fullShare} g)
    ∗ semVal (thr d L, SemLoc.dma sm.sem) 0)

/-- The gather of point `k`'s rows into `buf` in flight, with the shares it reads under. -/
def Fly (tb : Memref sig .scVector .hbm S348336x2x128 .f32) (ib : Memref sig .scVector .vmem S1248 .i32)
    (ft : Buf (Elt F) ((tblSlice tb).view.loc (thr d L))) (fi : Buf (Elt F) (ib.view.loc (thr d L)))
    (buf : Memref sig .scVector .vmem S96x2x128 .f32) (sm : DmaSems sig S_) (k : Fin 13) (q qo : PosShare TreeShare) : sProp (MM F) :=
  iprop(∃ g : Buf (Elt F) (buf.view.loc (thr d L)),
    ⌜buf.view.read (Elt F) g = rowsF ((tblSlice tb).view.read (Elt F) ft) (ib.view.read (Elt F) fi) k⌝
    ∗ Transfers.Flight countersEmb (thr d L) (.dma sm.sem) (default : HIx 1) buf.view.dmaCredit
        iprop((buf.view.loc (thr d L) ↦[buf.view.set]{fullShare} g)
          ∗ ((tblSlice tb).view.loc (thr d L) ↦[(tblSlice tb).view.set]{q} ft)
          ∗ ((listSlice ib k).view.loc (thr d L) ↦[(listSlice ib k).view.set]{qo} fi))
    ∗ (ib.view.loc (thr d L) ↦[ib.view.set \ (listSlice ib k).view.set]{qo} fi))

variable {α : Type} {Q : α → sProp (MM F)}

local notation "WP" => wp frame (wpE (defs₀ (F := F)) 𝒱₀ (thr d L) none) Set.univ

theorem wp_fire (tb : Memref sig .scVector .hbm S348336x2x128 .f32) (ib : Memref sig .scVector .vmem S1248 .i32)
    (ft : Buf (Elt F) ((tblSlice tb).view.loc (thr d L))) (fi : Buf (Elt F) (ib.view.loc (thr d L)))
    (hI : InTable (ib.view.read (Elt F) fi))
    (buf : Memref sig .scVector .vmem S96x2x128 .f32) (hp : Pays buf) (sm : DmaSems sig S_) (k : Fin 13) (q qo : PosShare TreeShare)
    (kk : PUnit → TileProg F L α) :
    iprop(Idle d L buf sm ∗ Srcs d L tb ib ft fi q qo : sProp (MM F))
      ⊢ iprop((Fly d L tb ib ft fi buf sm k q qo -∗ WP (kk ⟨⟩) Q) -∗ WP (fireP L tb ib buf sm k >>= kk) Q) := by
  have hin : ∀ x, ((listSlice ib k).view.read (Elt F) fi x).toNat < S348336x2x128.size gathers_S348336x2x128_S96x2x128.axis := by
    intro x; rw [list_read]; exact hI _
  unfold fireP Idle Srcs
  iintro ⟨⟨⟨%g, Hb⟩, Hv⟩, ⟨Ht, Hi⟩⟩ Hk
  ihave Hi2 := (pointsTo_split_subset (q := qo) (f := fi) (S := ib.view.set) (View.set_slice_subset ib.view
    (Rect.unit (s := S1248) ![96 * k.val] S96.size (list_inb k)))).1 $$ Hi
  icases Hi2 with ⟨Hi, Hir⟩
  iapply (SparseCore.wp_indirectGatherLocal (k := kk) (Q := Q) countersEmb 𝒱₀ (thr d L) none (defs := defs₀ (F := F))
    (hg := gathers_S348336x2x128_S96x2x128) (default : HIx 1) buf.view.dmaCredit hp (by decide) hin) $$ [Ht Hb Hi Hv]
  · isplitl [Ht]; · iexact Ht
    isplitl [Hb]; · iexact Hb
    isplitl [Hi]; · iexact Hi
    iexact Hv
  iintro Hf
  iapply Hk
  unfold Fly
  iexists (buf.view.write (Elt F) g (SparseCore.gatherPayload gathers_S348336x2x128_S96x2x128 ((tblSlice tb).view.read (Elt F) ft)
    (SparseCore.rows ((listSlice ib k).view.read (Elt F) fi) rfl hin)) Finset.univ)
  isplitr
  · ipureintro
    exact (View.read_write_univ _ _).trans (payload_eq _ ib fi k hI hin)
  isplitl [Hf]
  · iexact Hf
  · iexact Hir

theorem wp_wait (tb : Memref sig .scVector .hbm S348336x2x128 .f32) (ib : Memref sig .scVector .vmem S1248 .i32)
    (ft : Buf (Elt F) ((tblSlice tb).view.loc (thr d L))) (fi : Buf (Elt F) (ib.view.loc (thr d L)))
    (buf : Memref sig .scVector .vmem S96x2x128 .f32) (hbuf : buf.IsWhole) (sm : DmaSems sig S_) (k : Fin 13) (q qo : PosShare TreeShare)
    (O : CellTallies nD τ sig (HIx 1)) (W : Waits sig (HIx 1))
    (kk : PUnit → TileProg F L α) :
    iprop(Transfers.MayWaits (thr d L) (default : HIx 1) O ∗ Fly d L tb ib ft fi buf sm k q qo ∗ Owing d L O W : sProp (MM F))
      ⊢ iprop(((∃ g : Buf (Elt F) (buf.view.loc (thr d L)),
              ⌜buf.view.read (Elt F) g = rowsF ((tblSlice tb).view.read (Elt F) ft) (ib.view.read (Elt F) fi) k⌝
              ∗ (buf.view.loc (thr d L) ↦[buf.view.set]{fullShare} g)
              ∗ semVal (thr d L, SemLoc.dma sm.sem) 0 ∗ Srcs d L tb ib ft fi q qo ∗ Owing d L O W) -∗ WP (kk ⟨⟩) Q)
          -∗ WP (waitP L tb buf hbuf sm >>= kk) Q) := by
  unfold waitP Fly Owing
  iintro ⟨#Hmw, ⟨%g, %hg, Hf, Hir⟩, ⟨%W', %hW, HO⟩⟩ Hk
  iapply (Transfers.wp_waitLocalO countersEmb 𝒱₀ (thr d L) none (defs := defs₀ (F := F)) (default : HIx 1)
    (dstw := buf) (rfl : buf.view.dmaCredit = _)) $$ [Hf HO]
  · isplitl [Hf]; · iexact Hf
    isplitl [HO]; · iexact HO
    iapply (Transfers.MayWaits.elim (SemLoc.dma sm.sem)) $$ Hmw
  iintro ⟨⟨Hb, Ht, Hi⟩, Hv, HO⟩
  iapply Hk
  iexists g
  isplitr; · ipureintro; exact hg
  isplitl [Hb]; · iexact Hb
  isplitl [Hv]; · iexact Hv
  isplitl [Ht Hi Hir]
  · unfold Srcs
    isplitl [Ht]; · iexact Ht
    iapply (pointsTo_split_subset (q := qo) (f := fi) (S := ib.view.set) (View.set_slice_subset ib.view
      (Rect.unit (s := S1248) ![96 * k.val] S96.size (list_inb k)))).2
    isplitl [Hi]
    · iexact Hi
    · iexact Hir
  · iexists (insert (SemLoc.dma sm.sem, (default : HIx 1)) W')
    isplitr
    · ipureintro
      intro p hp
      exact (Finset.mem_insert.mp hp).elim (fun e => Or.inr (congrArg Prod.snd e)) (hW p)
    · iexact HO

end Run

end Cert.Proof.Agg

end
-- ==== Proof.Points.lean ====
/-
  The thirteen points of an anchor, two buffers in turn, and the stores of the sixteen sums.
-/
module

public import proofs.«01_k».proof.Proof.Gather
public import Idealize.ShloMosaic.Lib.Pointwise.Reshape

@[expose] public section

noncomputable section

namespace Cert.Proof.Agg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The sixteen registers of sums after the first `n` points. -/
def sumsF (W : Vec F S10000 .f32) (T : Vec F S348336x2x128 .f32) (I : Vec F S1248 .i32) : ℕ → Fin 16 → V16 F
  | 0 => fun _ => zero16
  | n + 1 => if h : n < 13 then loopF W (rowsF T I ⟨n, h⟩) ⟨n, h⟩ (sumsF W T I n) 24 else sumsF W T I n

theorem sumsF_succ (W : Vec F S10000 .f32) (T : Vec F S348336x2x128 .f32) (I : Vec F S1248 .i32) (k : Fin 13) :
    sumsF W T I (k.val + 1) = loopF W (rowsF T I k) k (sumsF W T I k.val) 24 := dif_pos k.isLt

/-- The first `n` registers are stored in the buffer. -/
def Stored (f : Fin 16 → V16 F) (n : ℕ) (o : Vec F S256 .f32) : Prop :=
  ∀ (v : Fin 16) (l : Fin 16), v.val < n → o (ix1 ⟨16 * v.val + l.val, by omega⟩) = f v (ix1 l)

section Run

variable (d : Dev nD) (L : grid0.Coords) {α : Type} {Q : α → sProp (MM F)}

local notation "WP" => wp frame (wpE (defs₀ (F := F)) 𝒱₀ (thr d L) none) Set.univ

theorem wp_stage (tb : Memref sig .scVector .hbm S348336x2x128 .f32) (ib : Memref sig .scVector .vmem S1248 .i32)
    (wb : Memref sig .scVector .vmem S10000 .f32)
    (ft : Buf (Elt F) ((tblSlice tb).view.loc (thr d L))) (fi : Buf (Elt F) (ib.view.loc (thr d L)))
    (fw : Buf (Elt F) (wb.view.loc (thr d L)))
    (hI : InTable (ib.view.read (Elt F) fi))
    (buf : Memref sig .scVector .vmem S96x2x128 .f32) (hbuf : buf.IsWhole) (sm : DmaSems sig S_)
    (buf' : Memref sig .scVector .vmem S96x2x128 .f32) (hp' : Pays buf') (sm' : DmaSems sig S_) (k : Fin 12)
    (q qo q' qo' : PosShare TreeShare) (O : CellTallies nD τ sig (HIx 1)) (W : Waits sig (HIx 1))
    (kk : Acc F → TileProg F L α) :
    iprop(Transfers.MayWaits (thr d L) (default : HIx 1) O
        ∗ (Fly d L tb ib ft fi buf sm k.castSucc q qo ∗ Idle d L buf' sm' ∗ Srcs d L tb ib ft fi q' qo'
          ∗ (wb.view.loc (thr d L) ↦[wb.view.set]{fullShare} fw) ∗ Owing d L O W) : sProp (MM F))
      ⊢ iprop(((Fly d L tb ib ft fi buf' sm' k.succ q' qo' ∗ Idle d L buf sm ∗ Srcs d L tb ib ft fi q qo
            ∗ (wb.view.loc (thr d L) ↦[wb.view.set]{fullShare} fw) ∗ Owing d L O W)
            -∗ WP (kk (pack (sumsF (wb.view.read (Elt F) fw) ((tblSlice tb).view.read (Elt F) ft) (ib.view.read (Elt F) fi) k.succ.val))) Q)
          -∗ WP (stageP L tb ib wb buf hbuf sm buf' sm' k
              (pack (sumsF (wb.view.read (Elt F) fw) ((tblSlice tb).view.read (Elt F) ft) (ib.view.read (Elt F) fi) k.castSucc.val)) >>= kk) Q) := by
  unfold stageP
  simp only [bind_assoc]
  iintro ⟨#Hmw, Hf, Hd, Hs, Hw, HO⟩ Hk
  iapply (wp_fire d L tb ib ft fi hI buf' hp' sm' k.succ q' qo') $$ [Hd Hs]
  · isplitl [Hd] <;> iassumption
  iintro Hf'
  iapply (wp_wait d L tb ib ft fi buf hbuf sm k.castSucc q qo O W) $$ [Hf HO]
  · isplitr; · iexact Hmw
    isplitl [Hf] <;> iassumption
  iintro ⟨%g, %hg, Hb, Hv, Hs, HO⟩
  iapply (wp_loop d L wb buf fullShare fullShare fw g k.castSucc) $$ [Hw Hb]
  · isplitl [Hw] <;> iassumption
  iintro ⟨Hw, Hb⟩
  rw [hg, ← sumsF_succ]
  iapply Hk
  isplitl [Hf']; · iexact Hf'
  isplitl [Hb Hv]
  · unfold Idle
    isplitl [Hb]
    · iexists g; iexact Hb
    · iexact Hv
  isplitl [Hs]; · iexact Hs
  isplitl [Hw] <;> iassumption

theorem wp_points (A : TileArgs) (hp₀ : Pays A.b₀) (hp₁ : Pays A.b₁)
    (ft : Buf (Elt F) ((tblSlice A.ta).view.loc (thr d L))) (fi : Buf (Elt F) (A.ib.view.loc (thr d L)))
    (fw : Buf (Elt F) (A.wb.view.loc (thr d L)))
    (hI : InTable (A.ib.view.read (Elt F) fi))
    (q qo q' qo' : PosShare TreeShare) (O : CellTallies nD τ sig (HIx 1)) (W : Waits sig (HIx 1))
    (kk : Acc F → TileProg F L α) :
    iprop(Transfers.MayWaits (thr d L) (default : HIx 1) O
        ∗ (Idle d L A.b₀ A.s₀ ∗ Idle d L A.b₁ A.s₁ ∗ Srcs d L A.ta A.ib ft fi q qo ∗ Srcs d L A.ta A.ib ft fi q' qo'
          ∗ (A.wb.view.loc (thr d L) ↦[A.wb.view.set]{fullShare} fw) ∗ Owing d L O W) : sProp (MM F))
      ⊢ iprop(((Idle d L A.b₀ A.s₀ ∗ Idle d L A.b₁ A.s₁ ∗ Srcs d L A.ta A.ib ft fi q qo ∗ Srcs d L A.ta A.ib ft fi q' qo'
            ∗ (A.wb.view.loc (thr d L) ↦[A.wb.view.set]{fullShare} fw) ∗ Owing d L O W)
            -∗ WP (kk (pack (sumsF (A.wb.view.read (Elt F) fw) ((tblSlice A.ta).view.read (Elt F) ft) (A.ib.view.read (Elt F) fi) 13))) Q)
          -∗ WP (pointsP A L >>= kk) Q) := by
  unfold pointsP evenP oddP
  simp only [bind_assoc]
  iintro ⟨#Hmw, Hd₀, Hd₁, Hs, Hs', Hw, HO⟩ Hk
  iapply (wp_fire d L A.ta A.ib ft fi hI A.b₀ hp₀ A.s₀ 0 q qo) $$ [Hd₀ Hs]
  · isplitl [Hd₀] <;> iassumption
  iintro Hf
  iapply (wp_stage d L A.ta A.ib A.wb ft fi fw hI A.b₀ A.hb₀ A.s₀ A.b₁ hp₁ A.s₁ 0 q qo q' qo' O W) $$ [Hf Hd₁ Hs' Hw HO]
  · isplitr; · iexact Hmw
    isplitl [Hf]; · iexact Hf
    isplitl [Hd₁]; · iexact Hd₁
    isplitl [Hs']; · iexact Hs'
    isplitl [Hw] <;> iassumption
  iintro H
  iapply (wp_stage d L A.ta A.ib A.wb ft fi fw hI A.b₁ A.hb₁ A.s₁ A.b₀ hp₀ A.s₀ 1 q' qo' q qo O W) $$ [H]
  · isplitr; · iexact Hmw
    iexact H
  iintro H
  iapply (wp_stage d L A.ta A.ib A.wb ft fi fw hI A.b₀ A.hb₀ A.s₀ A.b₁ hp₁ A.s₁ 2 q qo q' qo' O W) $$ [H]
  · isplitr; · iexact Hmw
    iexact H
  iintro H
  iapply (wp_stage d L A.ta A.ib A.wb ft fi fw hI A.b₁ A.hb₁ A.s₁ A.b₀ hp₀ A.s₀ 3 q' qo' q qo O W) $$ [H]
  · isplitr; · iexact Hmw
    iexact H
  iintro H
  iapply (wp_stage d L A.ta A.ib A.wb ft fi fw hI A.b₀ A.hb₀ A.s₀ A.b₁ hp₁ A.s₁ 4 q qo q' qo' O W) $$ [H]
  · isplitr; · iexact Hmw
    iexact H
  iintro H
  iapply (wp_stage d L A.ta A.ib A.wb ft fi fw hI A.b₁ A.hb₁ A.s₁ A.b₀ hp₀ A.s₀ 5 q' qo' q qo O W) $$ [H]
  · isplitr; · iexact Hmw
    iexact H
  iintro H
  iapply (wp_stage d L A.ta A.ib A.wb ft fi fw hI A.b₀ A.hb₀ A.s₀ A.b₁ hp₁ A.s₁ 6 q qo q' qo' O W) $$ [H]
  · isplitr; · iexact Hmw
    iexact H
  iintro H
  iapply (wp_stage d L A.ta A.ib A.wb ft fi fw hI A.b₁ A.hb₁ A.s₁ A.b₀ hp₀ A.s₀ 7 q' qo' q qo O W) $$ [H]
  · isplitr; · iexact Hmw
    iexact H
  iintro H
  iapply (wp_stage d L A.ta A.ib A.wb ft fi fw hI A.b₀ A.hb₀ A.s₀ A.b₁ hp₁ A.s₁ 8 q qo q' qo' O W) $$ [H]
  · isplitr; · iexact Hmw
    iexact H
  iintro H
  iapply (wp_stage d L A.ta A.ib A.wb ft fi fw hI A.b₁ A.hb₁ A.s₁ A.b₀ hp₀ A.s₀ 9 q' qo' q qo O W) $$ [H]
  · isplitr; · iexact Hmw
    iexact H
  iintro H
  iapply (wp_stage d L A.ta A.ib A.wb ft fi fw hI A.b₀ A.hb₀ A.s₀ A.b₁ hp₁ A.s₁ 10 q qo q' qo' O W) $$ [H]
  · isplitr; · iexact Hmw
    iexact H
  iintro H
  iapply (wp_stage d L A.ta A.ib A.wb ft fi fw hI A.b₁ A.hb₁ A.s₁ A.b₀ hp₀ A.s₀ 11 q' qo' q qo O W) $$ [H]
  · isplitr; · iexact Hmw
    iexact H
  iintro ⟨Hf, Hd₁, Hs', Hw, HO⟩
  iapply (wp_wait d L A.ta A.ib ft fi A.b₀ A.hb₀ A.s₀ 12 q qo O W) $$ [Hf HO]
  · isplitr; · iexact Hmw
    isplitl [Hf]
    · iexact Hf
    · iexact HO
  iintro ⟨%g, %hg, Hb, Hv, Hs, HO⟩
  iapply (wp_loop d L A.wb A.b₀ fullShare fullShare fw g 12) $$ [Hw Hb]
  · isplitl [Hw] <;> iassumption
  iintro ⟨Hw, Hb⟩
  rw [hg]
  iapply Hk
  isplitl [Hb Hv]
  · unfold Idle
    isplitl [Hb]
    · iexists g; iexact Hb
    · iexact Hv
  isplitl [Hd₁]; · iexact Hd₁
  isplitl [Hs]; · iexact Hs
  isplitl [Hs']; · iexact Hs'
  isplitl [Hw] <;> iassumption

/-! ## The stores -/

theorem stored_succ (ob : Memref sig .scVector .vmem S256 .f32) (g : ob.view.ty.Contents (Elt F)) (f : Fin 16 → V16 F) (v : Fin 16)
    (h : Stored f v.val (ob.view.read (Elt F) g)) :
    Stored f (v.val + 1) (ob.view.read (Elt F) ((ob.access (Rect.unit (s := S256) ![16 * v.val] S16.size (out_inb v))).write (Elt F) g
      (shapeCast S16 (f v) shapeCasts_S16_S16) Finset.univ)) := by
  intro u l hu
  by_cases e : u = v
  · subst e
    have hx : (ix1 ⟨16 * u.val + l.val, by omega⟩ : S256.Idx) = (Rect.unit (s := S256) ![16 * u.val] S16.size (out_inb u)).emb (ix1 l) := by
      funext a
      match a with
      | 0 => exact Fin.ext (by show 16 * u.val + l.val = 16 * u.val + 1 * l.val; omega)
    rw [hx]
    refine (View.read_slice_write_emb _ _ _ (Finset.mem_univ _)).trans ?_
    exact congrFun (shapeCast_id (f u) _) _
  · refine (View.read_slice_write_of_not_mem _ _ _ _ ?_).trans (h u l (by have := Fin.val_ne_of_ne e; omega))
    intro hm
    obtain ⟨y, -, hy⟩ := Finset.mem_map.mp hm
    have h0 := congrArg (fun z : S256.Idx => (z 0).val) hy
    have hy16 : (y 0).val < 16 := (y 0).isLt
    have h1 : 16 * v.val + 1 * (y 0).val = 16 * u.val + l.val := h0
    have := Fin.val_ne_of_ne e
    omega

theorem wp_storeP (ob : Memref sig .scVector .vmem S256 .f32) (f : Fin 16 → V16 F) (v : Fin 16) (n m : ℕ) (hn : n = v.val) (hm : m = v.val + 1) (kk : PUnit → TileProg F L α) :
    iprop(∃ g : Buf (Elt F) (ob.view.loc (thr d L)), ⌜Stored f n (ob.view.read (Elt F) g)⌝ ∗ (ob.view.loc (thr d L) ↦[ob.view.set]{fullShare} g) : sProp (MM F))
      ⊢ iprop(((∃ g : Buf (Elt F) (ob.view.loc (thr d L)), ⌜Stored f m (ob.view.read (Elt F) g)⌝ ∗ (ob.view.loc (thr d L) ↦[ob.view.set]{fullShare} g))
            -∗ WP (kk ⟨⟩) Q)
          -∗ WP (storeP L ob v (f v) >>= kk) Q) := by
  subst hn hm
  unfold storeP
  simp only [bind_assoc]
  iintro ⟨%g, %hg, H⟩ Hk
  iapply (wp_load (defs := defs₀ (F := F)) 𝒱₀ (thr d L) none Set.univ (View.setOn_subset_set _ _)) $$ H; iintro H
  iapply (wp_store (defs := defs₀ (F := F)) (m := ob) (r := Rect.unit (s := S256) ![16 * v.val] S16.size (out_inb v)) (f := g) (S := ob.view.set) 𝒱₀ (thr d L) none Set.univ ?_) $$ H
  · exact (View.setOn_subset_set _ _).trans (View.set_slice_subset _ _)
  iintro H
  iapply Hk
  iexists _
  isplitr
  · ipureintro; exact stored_succ ob g f v hg
  · iexact H

theorem wp_stores (A : TileArgs) (f : Fin 16 → V16 F) (g₀ : Buf (Elt F) (A.ob.view.loc (thr d L))) (kk : PUnit → TileProg F L α) :
    (A.ob.view.loc (thr d L) ↦[A.ob.view.set]{fullShare} g₀ : sProp (MM F))
      ⊢ iprop(((∃ g : Buf (Elt F) (A.ob.view.loc (thr d L)), ⌜Stored f 16 (A.ob.view.read (Elt F) g)⌝ ∗ (A.ob.view.loc (thr d L) ↦[A.ob.view.set]{fullShare} g))
            -∗ WP (kk ⟨⟩) Q)
          -∗ WP (storesP A L (pack f) >>= kk) Q) := by
  unfold storesP
  simp only [bind_assoc]
  iintro H Hk
  iapply (wp_storeP d L A.ob f 0 0 1 rfl rfl) $$ [H]
  · iexists g₀
    isplitr
    · ipureintro; intro v l hv; exact absurd hv (Nat.not_lt_zero _)
    · iexact H
  iintro H
  iapply (wp_storeP d L A.ob f 1 1 2 rfl rfl) $$ H; iintro H
  iapply (wp_storeP d L A.ob f 2 2 3 rfl rfl) $$ H; iintro H
  iapply (wp_storeP d L A.ob f 3 3 4 rfl rfl) $$ H; iintro H
  iapply (wp_storeP d L A.ob f 4 4 5 rfl rfl) $$ H; iintro H
  iapply (wp_storeP d L A.ob f 5 5 6 rfl rfl) $$ H; iintro H
  iapply (wp_storeP d L A.ob f 6 6 7 rfl rfl) $$ H; iintro H
  iapply (wp_storeP d L A.ob f 7 7 8 rfl rfl) $$ H; iintro H
  iapply (wp_storeP d L A.ob f 8 8 9 rfl rfl) $$ H; iintro H
  iapply (wp_storeP d L A.ob f 9 9 10 rfl rfl) $$ H; iintro H
  iapply (wp_storeP d L A.ob f 10 10 11 rfl rfl) $$ H; iintro H
  iapply (wp_storeP d L A.ob f 11 11 12 rfl rfl) $$ H; iintro H
  iapply (wp_storeP d L A.ob f 12 12 13 rfl rfl) $$ H; iintro H
  iapply (wp_storeP d L A.ob f 13 13 14 rfl rfl) $$ H; iintro H
  iapply (wp_storeP d L A.ob f 14 14 15 rfl rfl) $$ H; iintro H
  iapply (wp_storeP d L A.ob f 15 15 16 rfl rfl) $$ H; iintro H
  iapply Hk $$ H

end Run

end Cert.Proof.Agg

end
-- ==== Proof.AnchorRun.lean ====
/-
  One anchor run: its row numbers and weights copied in, the thirteen points, the stores and the copy out.
-/
module

public import proofs.«01_k».proof.Proof.Points

@[expose] public section

noncomputable section

namespace Cert.Proof.Agg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The anchor of the tile's trip `ti`. -/
def anc (L : grid0.Coords) (ti : ℕ) : ℕ := 29 * (2 * (L 1).val + (L 0).val) + ti

/-- Anchor `a`'s row numbers and weights, of the whole arrays (the weights filled up with what comes after). -/
def iPart (I : Vec F S1158144 .i32) (a : ℕ) : Vec F S1248 .i32 :=
  fun x => I (ix1 ⟨(1248 * a + (x 0).val) % 1158144, Nat.mod_lt _ (by decide)⟩)
def wPart (W : Vec F S9265152 .f32) (a : ℕ) : Vec F S10000 .f32 :=
  fun x => W (ix1 ⟨(9984 * a + (x 0).val) % 9265152, Nat.mod_lt _ (by decide)⟩)

/-- Anchor `a`'s result. -/
def anchorF (W : Vec F S9265152 .f32) (T : Vec F S348336x2x128 .f32) (I : Vec F S1158144 .i32) (a : ℕ) : Vec F S256 .f32 :=
  fun x => sumsF (wPart W a) T (iPart I a) 13 ⟨(x 0).val / 16, by have : (x 0).val < 256 := (x 0).isLt; omega⟩
    (ix1 ⟨(x 0).val % 16, Nat.mod_lt _ (by decide)⟩)

/-! ## The sums read the weights that were copied -/

theorem wt₀_congr {W W' : Vec F S10000 .f32} (h : ∀ x : S10000.Idx, (x 0).val < 9984 → W x = W' x) (k : Fin 13) (t : Fin k0_t2_loop.trips) :
    wt₀ W k t = wt₀ W' k t := by
  unfold wt₀
  congr 1
  funext i
  apply h
  have hk := k.isLt
  have ht : t.val < 24 := t.isLt
  have hi : (i 0).val < 16 := (i 0).isLt
  show (wOff₀ (BitVec.ofNat 32 (768 * k.val)) t) 0 + 1 * (i 0).val < 9984
  rw [wOff₀_eq]
  show 768 * k.val + 32 * t.val + 1 * (i 0).val < 9984
  omega

theorem wt₁_congr {W W' : Vec F S10000 .f32} (h : ∀ x : S10000.Idx, (x 0).val < 9984 → W x = W' x) (k : Fin 13) (t : Fin k0_t2_loop.trips) :
    wt₁ W k t = wt₁ W' k t := by
  unfold wt₁
  congr 1
  funext i
  apply h
  have hk := k.isLt
  have ht : t.val < 24 := t.isLt
  have hi : (i 0).val < 16 := (i 0).isLt
  show (wOff₁ (BitVec.ofNat 32 (768 * k.val)) t) 0 + 1 * (i 0).val < 9984
  rw [wOff₁_eq]
  show 768 * k.val + 32 * t.val + 16 + 1 * (i 0).val < 9984
  omega

theorem loopF_congr {W W' : Vec F S10000 .f32} (h : ∀ x : S10000.Idx, (x 0).val < 9984 → W x = W' x) (R : Vec F S96x2x128 .f32) (k : Fin 13)
    (f : Fin 16 → V16 F) : ∀ n, loopF W R k f n = loopF W' R k f n
  | 0 => rfl
  | n + 1 => by
    unfold loopF
    rw [loopF_congr h R k f n]
    split
    · unfold tripF; rw [wt₀_congr h, wt₁_congr h]
    · rfl

theorem sumsF_congr {W W' : Vec F S10000 .f32} (h : ∀ x : S10000.Idx, (x 0).val < 9984 → W x = W' x) (T : Vec F S348336x2x128 .f32)
    (I : Vec F S1248 .i32) : ∀ n, sumsF W T I n = sumsF W' T I n
  | 0 => rfl
  | n + 1 => by
    unfold sumsF
    rw [sumsF_congr h T I n]
    split
    · rw [loopF_congr h]
    · rfl

/-! ## What the copies leave -/

theorem anc_bound (L : grid0.Coords) (ti : Fin k0_t1_loop.trips) (h : k0_cond1 L ti = 1#1) : anc L ti.val < 928 := by
  have h0 : (L 0).val < 2 := (L 0).isLt
  have h1 : (L 1).val < 16 := (L 1).isLt
  have ht : ti.val < 29 := ti.isLt
  unfold anc
  omega

theorem idx_read (A : TileArgs) (L : grid0.Coords) (ti : Fin k0_t1_loop.trips) (h : k0_cond1 L ti = 1#1) (f : A.ia.view.ty.Contents (Elt F)) :
    (idxSlice L ti h A.ia).view.read (Elt F) f = iPart (A.ia.view.read (Elt F) f) (anc L ti.val) := by
  funext x
  show A.ia.view.read (Elt F) f _ = A.ia.view.read (Elt F) f _
  congr 1
  funext a
  match a with
  | 0 =>
    apply Fin.ext
    have hx : (x 0).val < 1248 := (x 0).isLt
    have ha := anc_bound L ti h
    show (k0_off1 L ti) 0 + 1 * (x 0).val = (1248 * anc L ti.val + (x 0).val) % 1158144
    rw [k0_off1_eq, Nat.mod_eq_of_lt (by omega)]
    show 72384 * (L 1).val + 36192 * (L 0).val + 1248 * ti.val + 1 * (x 0).val = _
    unfold anc
    omega

theorem w_read (A : TileArgs) (L : grid0.Coords) (ti : Fin k0_t1_loop.trips) (h : k0_cond1 L ti = 1#1) (f : A.wa.view.ty.Contents (Elt F))
    (g : A.wb.view.ty.Contents (Elt F)) (x : S10000.Idx) (hx : (x 0).val < 9984) :
    A.wb.view.read (Elt F) ((wbSlice A.wb).view.write (Elt F) g ((wSlice L ti h A.wa).view.read (Elt F) f) Finset.univ) x
      = wPart (A.wa.view.read (Elt F) f) (anc L ti.val) x := by
  have hxe : x = (Rect.unit (s := S10000) ![0] S9984.size inb_S10000_S9984_0).emb (ix1 ⟨(x 0).val, hx⟩) := by
    funext a
    match a with
    | 0 => exact Fin.ext (by show (x 0).val = 0 + 1 * (x 0).val; omega)
  have key : A.wb.view.read (Elt F) ((wbSlice A.wb).view.write (Elt F) g ((wSlice L ti h A.wa).view.read (Elt F) f) Finset.univ)
      ((Rect.unit (s := S10000) ![0] S9984.size inb_S10000_S9984_0).emb (ix1 ⟨(x 0).val, hx⟩))
      = (wSlice L ti h A.wa).view.read (Elt F) f (ix1 ⟨(x 0).val, hx⟩) :=
    View.read_slice_write_emb _ _ _ (Finset.mem_univ _)
  rw [← hxe] at key
  rw [key]
  show A.wa.view.read (Elt F) f _ = A.wa.view.read (Elt F) f _
  congr 1
  funext a
  match a with
  | 0 =>
    apply Fin.ext
    have ha := anc_bound L ti h
    show (k0_off2 L ti) 0 + 1 * (x 0).val = (9984 * anc L ti.val + (x 0).val) % 9265152
    rw [k0_off2_eq, Nat.mod_eq_of_lt (by omega)]
    show 579072 * (L 1).val + 289536 * (L 0).val + 9984 * ti.val + 1 * (x 0).val = _
    unfold anc
    omega

theorem stored_eq {f : Fin 16 → V16 F} {o : Vec F S256 .f32} (h : Stored f 16 o) :
    o = fun x => f ⟨(x 0).val / 16, by have : (x 0).val < 256 := (x 0).isLt; omega⟩ (ix1 ⟨(x 0).val % 16, Nat.mod_lt _ (by decide)⟩) := by
  funext x
  have hx : (x 0).val < 256 := (x 0).isLt
  rw [← h ⟨(x 0).val / 16, by omega⟩ ⟨(x 0).val % 16, Nat.mod_lt _ (by decide)⟩ (by show (x 0).val / 16 < 16; omega)]
  congr 1
  funext a
  match a with
  | 0 => exact Fin.ext (by show (x 0).val = 16 * ((x 0).val / 16) + (x 0).val % 16; omega)

section Run

variable (d : Dev nD) (L : grid0.Coords) {α : Type} {Q : α → sProp (MM F)}

local notation "WP" => wp frame (wpE (defs₀ (F := F)) 𝒱₀ (thr d L) none) Set.univ

/-- A copy and its wait, one after the other. -/
theorem wp_copy {sp sp' : Space} {s : Shape} {e : EltTy} (src : Memref sig .scVector sp s e) (dst : Memref sig .scVector sp' s e)
    (sm : DmaSem sig) (hsrc : src.view.WordExact) (hdst : dst.view.WordExact)
    (hsem : DmaTarget.Typed (nD := nD) (τ := τ) (p := (thr d L).2) sp (.dma sm) (.here dst)) (hs : 0 < s.numel)
    (q : PosShare TreeShare) (fs : Buf (Elt F) (src.view.loc (thr d L))) (Ss : Finset (Idx (src.view.loc (thr d L)))) (hSs : src.view.set ⊆ Ss)
    (fd : Buf (Elt F) (dst.view.loc (thr d L))) (Sd : Finset (Idx (dst.view.loc (thr d L)))) (hSd : dst.view.set ⊆ Sd)
    (O : CellTallies nD τ sig (HIx 1)) (W : Waits sig (HIx 1)) (kk : PUnit → TileProg F L α) :
    iprop(Transfers.MayWaits (thr d L) (default : HIx 1) O ∗ (src.view.loc (thr d L) ↦[Ss]{q} fs) ∗ (dst.view.loc (thr d L) ↦[Sd]{fullShare} fd)
        ∗ semVal (thr d L, SemLoc.dma sm) 0 ∗ Owing d L O W : sProp (MM F))
      ⊢ iprop((((src.view.loc (thr d L) ↦[Ss]{q} fs)
              ∗ (dst.view.loc (thr d L) ↦[Sd]{fullShare} (dst.view.write (Elt F) fd (src.view.read (Elt F) fs) Finset.univ))
              ∗ semVal (thr d L, SemLoc.dma sm) 0 ∗ Owing d L O W) -∗ WP (kk ⟨⟩) Q)
          -∗ WP (Prog.lift (.enqueueDma src (.here dst) (.dma sm) hsrc hdst hsem) >>= fun _ =>
              Prog.lift (.waitDma2 sm src dst hsrc hdst) >>= kk) Q) := by
  unfold Owing
  iintro ⟨#Hmw, Hs, Hd, Hv, ⟨%W', %hW, HO⟩⟩ Hk
  ihave Hs2 := (pointsTo_split_subset (q := q) (f := fs) hSs).1 $$ Hs
  icases Hs2 with ⟨Hs, Hsr⟩
  iapply (Transfers.wp_dmaLocal countersEmb 𝒱₀ (thr d L) none (defs := defs₀ (F := F)) (src := src) (dst := dst) (via := .same)
    (default : HIx 1) dst.view.dmaCredit rfl (View.dmaCredit_pos _ hs) hSd) $$ [Hs Hd Hv]
  · isplitl [Hs]; · iexact Hs
    isplitl [Hd]; · iexact Hd
    iexact Hv
  iintro Hf
  iapply (Transfers.wp_waitLocalO countersEmb 𝒱₀ (thr d L) none (defs := defs₀ (F := F)) (default : HIx 1)
    (dstw := dst) (rfl : dst.view.dmaCredit = _)) $$ [Hf HO]
  · isplitl [Hf]; · iexact Hf
    isplitl [HO]; · iexact HO
    iapply (Transfers.MayWaits.elim (SemLoc.dma sm)) $$ Hmw
  iintro ⟨⟨Hd, Hs⟩, Hv, HO⟩
  iapply Hk
  isplitl [Hs Hsr]
  · iapply (pointsTo_split_subset (q := q) (f := fs) hSs).2
    isplitl [Hs] <;> iassumption
  isplitl [Hd]; · iexact Hd
  isplitl [Hv]; · iexact Hv
  iexists (insert (SemLoc.dma sm, (default : HIx 1)) W')
  isplitr
  · ipureintro
    intro p hp
    exact (Finset.mem_insert.mp hp).elim (fun e => Or.inr (congrArg Prod.snd e)) (hW p)
  · iexact HO

/-- What the tile holds between anchors, but for the result's array: shares of the three arrays it reads, its
    buffers at some contents, its semaphores at zero. -/
def Hold (A : TileArgs) (fa : Buf (Elt F) (A.ia.view.loc (thr d L))) (fwa : Buf (Elt F) (A.wa.view.loc (thr d L)))
    (ft : Buf (Elt F) ((tblSlice A.ta).view.loc (thr d L))) (q : PosShare TreeShare)
    (O : CellTallies nD τ sig (HIx 1)) (W : Waits sig (HIx 1)) : sProp (MM F) :=
  iprop((A.ia.view.loc (thr d L) ↦[A.ia.view.set]{q} fa) ∗ (A.wa.view.loc (thr d L) ↦[A.wa.view.set]{q} fwa)
    ∗ ((tblSlice A.ta).view.loc (thr d L) ↦[(tblSlice A.ta).view.set]{q} ft)
    ∗ (∃ f : Buf (Elt F) (A.ib.view.loc (thr d L)), A.ib.view.loc (thr d L) ↦[A.ib.view.set]{fullShare} f)
    ∗ (∃ f : Buf (Elt F) (A.wb.view.loc (thr d L)), A.wb.view.loc (thr d L) ↦[A.wb.view.set]{fullShare} f)
    ∗ Idle d L A.b₀ A.s₀ ∗ Idle d L A.b₁ A.s₁
    ∗ (∃ f : Buf (Elt F) (A.ob.view.loc (thr d L)), A.ob.view.loc (thr d L) ↦[A.ob.view.set]{fullShare} f)
    ∗ semVal (thr d L, SemLoc.dma A.ri.sem) 0 ∗ semVal (thr d L, SemLoc.dma A.rw.sem) 0 ∗ semVal (thr d L, SemLoc.dma A.ro.sem) 0
    ∗ Owing d L O W)

theorem wp_anchor (A : TileArgs) (hp₀ : Pays A.b₀) (hp₁ : Pays A.b₁)
    (fa : Buf (Elt F) (A.ia.view.loc (thr d L))) (fwa : Buf (Elt F) (A.wa.view.loc (thr d L)))
    (ft : Buf (Elt F) ((tblSlice A.ta).view.loc (thr d L))) (q : PosShare TreeShare)
    (hI : ∀ x, (A.ia.view.read (Elt F) fa x).toNat < 348336)
    (O : CellTallies nD τ sig (HIx 1)) (W : Waits sig (HIx 1))
    (ti : Fin k0_t1_loop.trips) (h : k0_cond1 L ti = 1#1)
    (fo : Buf (Elt F) (A.oa.view.loc (thr d L))) (So : Finset (Idx (A.oa.view.loc (thr d L)))) (hSo : (outSlice L ti h A.oa).view.set ⊆ So)
    (kk : PUnit → TileProg F L α) :
    iprop(Transfers.MayWaits (thr d L) (default : HIx 1) O ∗ Hold d L A fa fwa ft q O W ∗ (A.oa.view.loc (thr d L) ↦[So]{fullShare} fo) : sProp (MM F))
      ⊢ iprop(((Hold d L A fa fwa ft q O W
            ∗ (A.oa.view.loc (thr d L) ↦[So]{fullShare} ((outSlice L ti h A.oa).view.write (Elt F) fo
                (anchorF (A.wa.view.read (Elt F) fwa) ((tblSlice A.ta).view.read (Elt F) ft) (A.ia.view.read (Elt F) fa) (anc L ti.val)) Finset.univ)))
            -∗ WP (kk ⟨⟩) Q)
          -∗ WP (anchorP A L ti h >>= kk) Q) := by
  unfold anchorP copiesP outP Hold
  simp only [bind_assoc]
  iintro ⟨#Hmw, ⟨Ha, Hwa, Ht, ⟨%fi, Hi⟩, ⟨%fw, Hw⟩, Hd₀, Hd₁, ⟨%fb, Hob⟩, Hri, Hrw, Hro, HO⟩, Ho⟩ Hk
  iapply (wp_copy d L (idxSlice L ti h A.ia) A.ib A.ri.sem _ _ _ (by decide) q fa A.ia.view.set (View.set_slice_subset _ _)
    fi A.ib.view.set (Finset.Subset.refl _) O W) $$ [Ha Hi Hri HO]
  · isplitr; · iexact Hmw
    isplitl [Ha]; · iexact Ha
    isplitl [Hi]; · iexact Hi
    isplitl [Hri]; · iexact Hri
    iexact HO
  iintro ⟨Ha, Hi, Hri, HO⟩
  iapply (wp_copy d L (wSlice L ti h A.wa) (wbSlice A.wb) A.rw.sem _ _ _ (by decide) q fwa A.wa.view.set (View.set_slice_subset _ _)
    fw A.wb.view.set (View.set_slice_subset _ _) O W) $$ [Hwa Hw Hrw HO]
  · isplitr; · iexact Hmw
    isplitl [Hwa]; · iexact Hwa
    isplitl [Hw]; · iexact Hw
    isplitl [Hrw]; · iexact Hrw
    iexact HO
  iintro ⟨Hwa, Hw, Hrw, HO⟩
  have hi : A.ib.view.read (Elt F) (A.ib.view.write (Elt F) fi ((idxSlice L ti h A.ia).view.read (Elt F) fa) Finset.univ)
      = iPart (A.ia.view.read (Elt F) fa) (anc L ti.val) := (View.read_write_univ _ _).trans (idx_read A L ti h fa)
  ihave Hi2 := (pointsTo_share (PosShare.mem_left_op_right fullShare)).1 $$ Hi
  icases Hi2 with ⟨Hi, Hi'⟩
  ihave Ht2 := (pointsTo_share (PosShare.mem_left_op_right q)).1 $$ Ht
  icases Ht2 with ⟨Ht, Ht'⟩
  iapply (wp_points d L A hp₀ hp₁ ft _ _ (by rw [hi]; intro x; exact hI _) q.left fullShare.left q.right fullShare.right O W)
    $$ [Hd₀ Hd₁ Ht Hi Ht' Hi' Hw HO]
  · isplitr; · iexact Hmw
    isplitl [Hd₀]; · iexact Hd₀
    isplitl [Hd₁]; · iexact Hd₁
    isplitl [Ht Hi]
    · unfold Srcs
      isplitl [Ht] <;> iassumption
    isplitl [Ht' Hi']
    · unfold Srcs
      isplitl [Ht'] <;> iassumption
    isplitl [Hw]
    · iexact Hw
    · iexact HO
  unfold Srcs
  iintro ⟨Hd₀, Hd₁, ⟨Ht, Hi⟩, ⟨Ht', Hi'⟩, Hw, HO⟩
  iapply (wp_stores d L A _ fb) $$ Hob
  iintro ⟨%g, %hg, Hob⟩
  iapply (wp_copy d L A.ob (outSlice L ti h A.oa) A.ro.sem _ _ _ (by decide) fullShare g A.ob.view.set (Finset.Subset.refl _)
    fo So hSo O W) $$ [Hob Ho Hro HO]
  · isplitr; · iexact Hmw
    isplitl [Hob]; · iexact Hob
    isplitl [Ho]; · iexact Ho
    isplitl [Hro]; · iexact Hro
    iexact HO
  iintro ⟨Hob, Ho, Hro, HO⟩
  have hv : A.ob.view.read (Elt F) g
      = anchorF (A.wa.view.read (Elt F) fwa) ((tblSlice A.ta).view.read (Elt F) ft) (A.ia.view.read (Elt F) fa) (anc L ti.val) := by
    rw [stored_eq hg]
    funext x
    unfold anchorF
    rw [hi, sumsF_congr (w_read A L ti h fwa fw)]
  rw [hv]
  iapply Hk
  isplitr [Ho]
  · isplitl [Ha]; · iexact Ha
    isplitl [Hwa]; · iexact Hwa
    isplitl [Ht Ht']
    · iapply (pointsTo_share (PosShare.mem_left_op_right q)).2
      isplitl [Ht] <;> iassumption
    isplitl [Hi Hi']
    · iexists _
      iapply (pointsTo_share (PosShare.mem_left_op_right fullShare)).2
      isplitl [Hi] <;> iassumption
    isplitl [Hw]; · iexists _; iexact Hw
    isplitl [Hd₀]; · iexact Hd₀
    isplitl [Hd₁]; · iexact Hd₁
    isplitl [Hob]; · iexists _; iexact Hob
    isplitl [Hri]; · iexact Hri
    isplitl [Hrw]; · iexact Hrw
    isplitl [Hro]; · iexact Hro
    iexact HO
  · iexact Ho

end Run

end Cert.Proof.Agg

end
-- ==== Proof.Sums.lean ====
/-
  An anchor's result at the extended reals: the sum over its sample points, their blocks and the four rows of a
  block of the row's element times the weight.
-/
module

public import proofs.«01_k».proof.Proof.AnchorRun
public import Idealize.ShloMosaic.PureOps.Ideal
public import Idealize.ShloMosaic.Lib.Pointwise.Reduce
public import Idealize.ShloMosaic.Lib.StableHlo.ReadAt
public import Idealize.ShloMosaic.PureOps.Ideal.Laws

@[expose] public section

noncomputable section

namespace Cert.Proof.Agg

open Cert.KernelIdeal Cert.KernelIdeal.Gen
open Idealize.ShloMosaic

section Any
variable {F : FTy → Type} [FloatOps F]

/-- Lane `l` of one running sum's step in the first two rows of a block. -/
theorem mac₀_at (W : Vec F S10000 .f32) (R : Vec F S96x2x128 .f32) (k : Fin 13) (t : Fin 24) (s : Fin 4) (hs : s.val < 2)
    (v : Fin 16) (f : V16 F) (l : Fin 16) :
    mac f (rowV R t s v) (lane (wt₀ W k t) s (grp v)) (ix1 l)
      = FloatOps.addf (f (ix1 l)) (FloatOps.mulf (R (ix3 ⟨4 * t.val + s.val, by omega⟩ ⟨v.val / 8, by omega⟩ ⟨v.val % 8 * 16 + l.val, by omega⟩))
          (W (ix1 ⟨768 * k.val + 32 * t.val + 8 * s.val + v.val / 2, by omega⟩))) := by
  unfold mac lane wt₀ rowV grp
  pointwise
  congr 2
  · congr 2
    · exact Fin.ext (congrFun (rowOff_eq t s v) 0)
  · refine congrArg W (congrArg ix1 (Fin.ext ?_))
    refine (congrArg (· + (s.val % 2 * 8 + v.val / 2)) (congrFun (wOff₀_eq k t) 0)).trans ?_
    show 768 * k.val + 32 * t.val + (s.val % 2 * 8 + v.val / 2) = 768 * k.val + 32 * t.val + 8 * s.val + v.val / 2
    omega

/-- The same in the last two. -/
theorem mac₁_at (W : Vec F S10000 .f32) (R : Vec F S96x2x128 .f32) (k : Fin 13) (t : Fin 24) (s : Fin 4) (hs : 2 ≤ s.val)
    (v : Fin 16) (f : V16 F) (l : Fin 16) :
    mac f (rowV R t s v) (lane (wt₁ W k t) s (grp v)) (ix1 l)
      = FloatOps.addf (f (ix1 l)) (FloatOps.mulf (R (ix3 ⟨4 * t.val + s.val, by omega⟩ ⟨v.val / 8, by omega⟩ ⟨v.val % 8 * 16 + l.val, by omega⟩))
          (W (ix1 ⟨768 * k.val + 32 * t.val + 8 * s.val + v.val / 2, by omega⟩))) := by
  unfold mac lane wt₁ rowV grp
  pointwise
  congr 2
  · congr 2
    · exact Fin.ext (congrFun (rowOff_eq t s v) 0)
  · refine congrArg W (congrArg ix1 (Fin.ext ?_))
    refine (congrArg (· + (s.val % 2 * 8 + v.val / 2)) (congrFun (wOff₁_eq k t) 0)).trans ?_
    show 768 * k.val + 32 * t.val + 16 + (s.val % 2 * 8 + v.val / 2) = 768 * k.val + 32 * t.val + 8 * s.val + v.val / 2
    omega

end Any

/-! ## At the extended reals -/

/-- Row `s` of block `t`: its element times its weight. -/
def rowTerm (W : Vec Ideal S10000 .f32) (R : Vec Ideal S96x2x128 .f32) (k : Fin 13) (v l : Fin 16) (t : Fin 24) (s : Fin 4) : EReal :=
  (R (ix3 ⟨4 * t.val + s.val, by omega⟩ ⟨v.val / 8, by omega⟩ ⟨v.val % 8 * 16 + l.val, by omega⟩) : EReal)
    * (W (ix1 ⟨768 * k.val + 32 * t.val + 8 * s.val + v.val / 2, by omega⟩) : EReal)

theorem tripF_at (W : Vec Ideal S10000 .f32) (R : Vec Ideal S96x2x128 .f32) (k : Fin 13) (t : Fin 24) (f : Fin 16 → V16 Ideal) (v l : Fin 16) :
    (tripF W R k t f v (ix1 l) : EReal) = (f v (ix1 l) : EReal) + ∑ s : Fin 4, rowTerm W R k v l t s := by
  unfold tripF blkF
  rw [mac₁_at _ _ _ _ _ (by decide), mac₁_at _ _ _ _ _ (by decide), mac₀_at _ _ _ _ _ (by decide), mac₀_at _ _ _ _ _ (by decide), Fin.sum_univ_four]
  show (((f v (ix1 l) : EReal) + rowTerm W R k v l t 0) + rowTerm W R k v l t 1) + rowTerm W R k v l t 2 + rowTerm W R k v l t 3 = _
  simp only [add_assoc]

theorem loopF_at (W : Vec Ideal S10000 .f32) (R : Vec Ideal S96x2x128 .f32) (k : Fin 13) (f : Fin 16 → V16 Ideal) (v l : Fin 16) :
    (loopF W R k f 24 v (ix1 l) : EReal) = (f v (ix1 l) : EReal) + ∑ t : Fin 24, ∑ s : Fin 4, rowTerm W R k v l t s := by
  have h : ∀ n, n ≤ 24 → (loopF W R k f n v (ix1 l) : EReal)
      = (f v (ix1 l) : EReal) + ∑ t ∈ Finset.range n, if ht : t < 24 then ∑ s : Fin 4, rowTerm W R k v l ⟨t, ht⟩ s else 0 := by
    intro n
    induction n with
    | zero => intro _; rw [Finset.range_zero, Finset.sum_empty, add_zero]; rfl
    | succ n ih =>
      intro hn
      have hn' : n < 24 := hn
      rw [Finset.sum_range_succ, dif_pos hn', ← add_assoc, ← ih (by omega)]
      rw [show loopF W R k f (n + 1) = tripF W R k ⟨n, hn'⟩ (loopF W R k f n) from dif_pos (show n < k0_t2_loop.trips from hn')]
      exact tripF_at W R k ⟨n, hn'⟩ _ v l
  rw [h 24 (le_refl _), Finset.sum_range]
  simp only [Fin.is_lt, dif_pos, Fin.eta]

theorem sumsF_at (W : Vec Ideal S10000 .f32) (T : Vec Ideal S348336x2x128 .f32) (I : Vec Ideal S1248 .i32) (v l : Fin 16) :
    (sumsF W T I 13 v (ix1 l) : EReal) = ∑ k : Fin 13, ∑ t : Fin 24, ∑ s : Fin 4, rowTerm W (rowsF T I k) k v l t s := by
  have h : ∀ n, n ≤ 13 → (sumsF W T I n v (ix1 l) : EReal)
      = ∑ k ∈ Finset.range n, if hk : k < 13 then ∑ t : Fin 24, ∑ s : Fin 4, rowTerm W (rowsF T I ⟨k, hk⟩) ⟨k, hk⟩ v l t s else 0 := by
    intro n
    induction n with
    | zero =>
      intro _
      rw [Finset.range_zero, Finset.sum_empty]
      exact Ideal.ofBits_zero_f32
    | succ n ih =>
      intro hn
      have hn' : n < 13 := hn
      rw [Finset.sum_range_succ, dif_pos hn', ← ih (by omega)]
      rw [show sumsF W T I (n + 1) = loopF W (rowsF T I ⟨n, hn'⟩) ⟨n, hn'⟩ (sumsF W T I n) 24 from dif_pos hn']
      exact loopF_at W _ ⟨n, hn'⟩ _ v l
  rw [h 13 (le_refl _), Finset.sum_range]
  simp only [Fin.is_lt, dif_pos, Fin.eta]

end Cert.Proof.Agg

end
-- ==== Proof.Tile.lean ====
/-
  One tile's whole task: its twenty-nine anchors in turn, from shares of the three arrays it reads and its own
  part of the result's array. What it leaves there is named.
-/
module

public import proofs.«01_k».proof.Proof.AnchorRun

@[expose] public section

set_option maxRecDepth 100000

noncomputable section

namespace Cert.Proof.Agg

open Cert.KernelIdeal Cert.KernelIdeal.Gen
open Idealize.ShloMosaic
open Idealize.ShloMosaic.SparseCore (S V T)
open Idealize.ShloMosaic.SparseCore.Cfg (HIx Pay ownSems0 ownCells ownBufs ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The program's own arrays, buffers and semaphores. -/
def AA : TileArgs where
  ia := Memref.whole main_v1004_scv
  hia := Memref.isWhole_whole _
  wa := Memref.whole main_v1005_scv
  hwa := Memref.isWhole_whole _
  ta := Memref.whole main_v997_scv
  hta := Memref.isWhole_whole _
  oa := Memref.whole main_v1006_scv
  hoa := Memref.isWhole_whole _
  ib := Memref.whole cc0_scratch0
  hib := Memref.isWhole_whole _
  wb := Memref.whole cc0_scratch1
  hwb := Memref.isWhole_whole _
  b₀ := Memref.whole cc0_scratch2
  hb₀ := Memref.isWhole_whole _
  b₁ := Memref.whole cc0_scratch3
  hb₁ := Memref.isWhole_whole _
  ob := Memref.whole cc0_scratch4
  hob := Memref.isWhole_whole _
  s₀ := cc0_scratch5
  s₁ := cc0_scratch6
  ri := cc0_scoped0
  rw := cc0_scoped1
  ro := cc0_scoped2

theorem pays₀ : Pays AA.b₀ := by unfold Pays; decide
theorem pays₁ : Pays AA.b₁ := by unfold Pays; decide

/-- The launch coordinates from the SparseCore's number and the tile's. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_self (L : grid0.Coords) : coordsV (L 0) (L 1) = L := by
  funext a
  match a with
  | 0 => rfl
  | 1 => rfl

theorem cond_all : ∀ (c : Fin (grid0.bound 0)) (s : Fin (grid0.bound 1)) (t : Fin k0_t1_loop.trips),
    (k0_cond1 (coordsV c s) t = 1#1) = (29 * (2 * s.val + c.val) + t.val < 900) := by
  intro c s t
  have h : ∀ (c : Fin (grid0.bound 0)) (s : Fin (grid0.bound 1)) (t : Fin k0_t1_loop.trips),
    decide (k0_cond1 (coordsV c s) t = 1#1) = decide (29 * (2 * s.val + c.val) + t.val < 900) := by decide +kernel
  exact propext (by simpa using h c s t)

/-- A trip has an anchor exactly where the anchor's number is below nine hundred. -/
theorem cond_iff (L : grid0.Coords) (ti : Fin k0_t1_loop.trips) : (k0_cond1 L ti = 1#1) = (anc L ti.val < 900) := by
  have := cond_all (L 0) (L 1) ti
  rw [coordsV_self] at this
  exact this

/-- The result's array with the anchors from `lo` to `hi` done, the others as before. -/
def outF (W : Vec F S9265152 .f32) (T : Vec F S348336x2x128 .f32) (I : Vec F S1158144 .i32) (old : Vec F S237568 .f32) (lo hi : ℕ) :
    Vec F S237568 .f32 :=
  fun x => if lo ≤ (x 0).val / 256 ∧ (x 0).val / 256 < hi ∧ (x 0).val / 256 < 900 then
      anchorF W T I ((x 0).val / 256) (ix1 ⟨(x 0).val % 256, Nat.mod_lt _ (by decide)⟩)
    else old x

theorem outF_none (W : Vec F S9265152 .f32) (T : Vec F S348336x2x128 .f32) (I : Vec F S1158144 .i32) (old : Vec F S237568 .f32) (lo : ℕ) :
    outF W T I old lo lo = old := by
  funext x
  unfold outF
  rw [if_neg (by omega)]

theorem outF_skip (W : Vec F S9265152 .f32) (T : Vec F S348336x2x128 .f32) (I : Vec F S1158144 .i32) (old : Vec F S237568 .f32) (lo hi : ℕ)
    (h : ¬ hi < 900) : outF W T I old lo (hi + 1) = outF W T I old lo hi := by
  funext x
  unfold outF
  by_cases hx : lo ≤ (x 0).val / 256 ∧ (x 0).val / 256 < hi ∧ (x 0).val / 256 < 900
  · rw [if_pos hx, if_pos (by omega)]
  · rw [if_neg hx, if_neg (by omega)]

/-- An anchor's copy out does that anchor. -/
theorem outF_step (L : grid0.Coords) (ti : Fin k0_t1_loop.trips) (h : k0_cond1 L ti = 1#1)
    (W : Vec F S9265152 .f32) (T : Vec F S348336x2x128 .f32) (I : Vec F S1158144 .i32) (old : Vec F S237568 .f32) (lo : ℕ) (hlo : lo ≤ anc L ti.val) :
    (outSlice L ti h AA.oa).view.write (Elt F) (outF W T I old lo (anc L ti.val)) (anchorF W T I (anc L ti.val)) Finset.univ
      = outF W T I old lo (anc L ti.val + 1) := by
  have ha : anc L ti.val < 900 := (cond_iff L ti).mp h
  have hoff : (k0_off237 L ti) 0 = 256 * anc L ti.val := by
    rw [k0_off237_eq]
    show 14848 * (L 1).val + 7424 * (L 0).val + 256 * ti.val = _
    unfold anc
    omega
  refine funext (α := S237568.Idx) fun x => ?_
  have hx : (x 0).val < 237568 := (x 0).isLt
  by_cases hin : (x 0).val / 256 = anc L ti.val
  · have hxe : x = (Rect.unit (s := S237568) (k0_off237 L ti) S256.size (k0_off237_inb L ti h)).emb (ix1 ⟨(x 0).val % 256, Nat.mod_lt _ (by decide)⟩) := by
      funext a
      match a with
      | 0 => exact Fin.ext (by
          show (x 0).val = (k0_off237 L ti) 0 + 1 * ((x 0).val % 256)
          rw [hoff]; omega)
    have key := View.read_slice_write_emb (Val := Elt F) (v := AA.oa.view) (Rect.unit (s := S237568) (k0_off237 L ti) S256.size (k0_off237_inb L ti h))
      (outF W T I old lo (anc L ti.val)) (anchorF W T I (anc L ti.val)) (Finset.mem_univ (ix1 ⟨(x 0).val % 256, Nat.mod_lt _ (by decide)⟩))
    rw [← hxe] at key
    refine key.trans ?_
    unfold outF
    rw [if_pos (by omega), hin]
  · have key := View.read_slice_write_of_not_mem (Val := Elt F) (v := AA.oa.view) (Rect.unit (s := S237568) (k0_off237 L ti) S256.size (k0_off237_inb L ti h))
      (outF W T I old lo (anc L ti.val)) (anchorF W T I (anc L ti.val)) Finset.univ (y := x) (by
        intro hm
        obtain ⟨y, -, hy⟩ := Finset.mem_map.mp hm
        have hy0 : (k0_off237 L ti) 0 + 1 * (y 0).val = (x 0).val := congrArg (fun z : S237568.Idx => (z 0).val) hy
        have hylt : (y 0).val < 256 := (y 0).isLt
        rw [hoff] at hy0
        omega)
    refine key.trans ?_
    show outF W T I old lo (anc L ti.val) x = _
    unfold outF
    by_cases hc : lo ≤ (x 0).val / 256 ∧ (x 0).val / 256 < anc L ti.val ∧ (x 0).val / 256 < 900
    · rw [if_pos hc, if_pos (by omega)]
    · rw [if_neg hc, if_neg (by omega)]

/-! ## The arrays in the device's memory -/

abbrev iLoc (d : Dev nD) : Loc nD τ sig := (SparseCore.T d).loc main_v1004
abbrev wLoc (d : Dev nD) : Loc nD τ sig := (SparseCore.T d).loc main_v1005
abbrev tLoc (d : Dev nD) : Loc nD τ sig := (SparseCore.T d).loc main_v997
abbrev oLoc (d : Dev nD) : Loc nD τ sig := (SparseCore.T d).loc main_v1006

/-- A tile's part of the result's array: twenty-nine anchors' words. -/
def oSet (c : Fin 2) (i : Fin 16) : Finset S237568.Idx := Finset.univ.filter fun x => (x 0).val / 7424 = 2 * i.val + c.val

section Run

variable (d : Dev nD) (L : grid0.Coords)

local notation "WP" => wp frame (wpE (defs₀ (F := F)) 𝒱₀ (thr d L) none) Set.univ

theorem outSlice_sub (ti : Fin k0_t1_loop.trips) (h : k0_cond1 L ti = 1#1) : (outSlice L ti h AA.oa).view.set ⊆ oSet (L 0) (L 1) := by
  intro (x : S237568.Idx) hx
  obtain ⟨y, -, hy⟩ := Finset.mem_map.mp hx
  have hy0 : (k0_off237 L ti) 0 + 1 * (y 0).val = (x 0).val := congrArg (fun z : S237568.Idx => (z 0).val) hy
  have hylt : (y 0).val < 256 := (y 0).isLt
  have ht : ti.val < 29 := ti.isLt
  have hoff : (k0_off237 L ti) 0 = 14848 * (L 1).val + 7424 * (L 0).val + 256 * ti.val := by rw [k0_off237_eq]; rfl
  rw [hoff] at hy0
  refine Finset.mem_filter.mpr ⟨Finset.mem_univ _, ?_⟩
  show (x 0).val / 7424 = 2 * (L 1).val + (L 0).val
  omega

variable (W : Vec F S9265152 .f32) (TT : Vec F S348336x2x128 .f32) (I : Vec F S1158144 .i32) (old : Vec F S237568 .f32)

/-- What the tile holds after `n` trips. -/
def Inv (q : PosShare TreeShare) (O : CellTallies nD τ sig (HIx 1)) (Wt : Waits sig (HIx 1)) (n : ℕ) : sProp (MM F) :=
  iprop(Transfers.MayWaits (thr d L) (default : HIx 1) O ∗ Hold d L AA (I : Buf (Elt F) (iLoc d)) (W : Buf (Elt F) (wLoc d)) (TT : Buf (Elt F) (tLoc d)) q O Wt
    ∗ (AA.oa.view.loc (thr d L) ↦[oSet (L 0) (L 1)]{fullShare} (outF W TT I old (anc L 0) (anc L n) : Buf (Elt F) (oLoc d))))

theorem anc_succ (n : ℕ) : anc L (n + 1) = anc L n + 1 := by unfold anc; omega

theorem tbl_read : (tblSlice AA.ta).view.read (Elt F) TT = TT := by
  refine funext (α := S348336x2x128.Idx) fun x => ?_
  show TT _ = TT _
  refine congrArg TT (funext fun (a : Fin 3) => ?_)
  match a with
  | 0 => exact Fin.ext (by show 0 + 1 * (x 0).val = (x 0).val; omega)
  | 1 => exact Fin.ext (by show 0 + 1 * (x 1).val = (x 1).val; omega)
  | 2 => exact Fin.ext (by show 0 + 1 * (x 2).val = (x 2).val; omega)

/-- One trip of the outer loop. -/
theorem wp_outer_trip (hI : ∀ x, (I x).toNat < 348336) (q : PosShare TreeShare) (O : CellTallies nD τ sig (HIx 1)) (Wt : Waits sig (HIx 1))
    (v1 : BitVec 32) (ti : Fin k0_t1_loop.trips) (u : Unit) :
    Inv d L W TT I old q O Wt ti.val
      ⊢ WP (k0_t1_body (F := F) L AA.ia AA.hia AA.wa AA.hwa AA.ta AA.hta AA.oa AA.hoa AA.ib AA.hib AA.wb AA.hwb AA.b₀ AA.hb₀ AA.b₁ AA.hb₁ AA.ob AA.hob
          AA.s₀ AA.s₁ AA.ri AA.rw AA.ro v1 ti u) (fun _ => Inv d L W TT I old q O Wt (ti.val + 1)) := by
  rw [outer_eq]
  unfold Inv
  by_cases h : k0_cond1 L ti = 1#1
  · rw [dif_pos h]
    iintro ⟨#Hmw, Hh, Ho⟩
    iapply (wp_anchor (F := F) d L AA pays₀ pays₁ (I : Buf (Elt F) (iLoc d)) (W : Buf (Elt F) (wLoc d)) (TT : Buf (Elt F) (tLoc d)) q hI O Wt ti h
      (outF W TT I old (anc L 0) (anc L ti.val) : Buf (Elt F) (oLoc d)) (oSet (L 0) (L 1)) (outSlice_sub L ti h)) $$ [Hh Ho]
    · isplitr; · iexact Hmw
      isplitl [Hh]; · iexact Hh
      iexact Ho
    iintro ⟨Hh, Ho⟩
    rw [Prog.pure_eq_ret, wp_ret]
    imodintro
    isplitr; · iexact Hmw
    isplitl [Hh]; · iexact Hh
    have e : (outSlice L ti h AA.oa).view.write (Elt F) (outF W TT I old (anc L 0) (anc L ti.val))
        (anchorF (AA.wa.view.read (Elt F) W) ((tblSlice AA.ta).view.read (Elt F) TT) (AA.ia.view.read (Elt F) I) (anc L ti.val)) Finset.univ
        = outF W TT I old (anc L 0) (anc L (ti.val + 1)) := by
      rw [anc_succ, tbl_read]
      exact outF_step L ti h W TT I old (anc L 0) (by unfold anc; omega)
    rw [← e]
    iexact Ho
  · rw [dif_neg h, anc_succ, outF_skip _ _ _ _ _ _ (by rw [cond_iff] at h; exact h)]
    iintro H
    rw [pure_bind, Prog.pure_eq_ret, wp_ret]
    imodintro
    iexact H

/-! ## The tile's own buffers and semaphores -/

theorem ownSems0_V :
    (ownSems0 (V d (cV L) (jV L)) : sProp (MM F))
      = iprop(semVal (thr d L, SemLoc.dma cc0_scratch5.sem) 0 ∗ semVal (thr d L, SemLoc.dma cc0_scratch6.sem) 0
          ∗ semVal (thr d L, SemLoc.dma cc0_scoped0.sem) 0 ∗ semVal (thr d L, SemLoc.dma cc0_scoped1.sem) 0
          ∗ semVal (thr d L, SemLoc.dma cc0_scoped2.sem) 0
          ∗ bigSep ((((((ownCells (V d (cV L) (jV L))).erase (thr d L, SemLoc.dma cc0_scratch5.sem)).erase (thr d L, SemLoc.dma cc0_scratch6.sem)).erase
              (thr d L, SemLoc.dma cc0_scoped0.sem)).erase (thr d L, SemLoc.dma cc0_scoped1.sem)).erase (thr d L, SemLoc.dma cc0_scoped2.sem))
              fun g => semVal g 0) := by
  unfold SparseCore.Cfg.ownSems0
  have own : ∀ s : SemLoc sig, s.isScoped .scVector = true → ((thr d L, s) : GSem nD τ sig) ∈ ownCells (V d (cV L) (jV L)) :=
    fun s h => mem_ownCells.mpr ⟨rfl, h⟩
  have ne : ∀ s s' : SemLoc sig, s ≠ s' → ((thr d L, s) : GSem nD τ sig) ≠ (thr d L, s') := fun s s' h e => h (congrArg Prod.snd e)
  rw [SparseCore.bigSep_erase' (own (SemLoc.dma cc0_scratch5.sem) (by decide)),
    SparseCore.bigSep_erase' (Finset.mem_erase.mpr ⟨ne _ _ (by decide), own (SemLoc.dma cc0_scratch6.sem) (by decide)⟩),
    SparseCore.bigSep_erase' (Finset.mem_erase.mpr ⟨ne _ _ (by decide), Finset.mem_erase.mpr ⟨ne _ _ (by decide),
      own (SemLoc.dma cc0_scoped0.sem) (by decide)⟩⟩),
    SparseCore.bigSep_erase' (Finset.mem_erase.mpr ⟨ne _ _ (by decide), Finset.mem_erase.mpr ⟨ne _ _ (by decide),
      Finset.mem_erase.mpr ⟨ne _ _ (by decide), own (SemLoc.dma cc0_scoped1.sem) (by decide)⟩⟩⟩),
    SparseCore.bigSep_erase' (Finset.mem_erase.mpr ⟨ne _ _ (by decide), Finset.mem_erase.mpr ⟨ne _ _ (by decide),
      Finset.mem_erase.mpr ⟨ne _ _ (by decide), Finset.mem_erase.mpr ⟨ne _ _ (by decide), own (SemLoc.dma cc0_scoped2.sem) (by decide)⟩⟩⟩⟩)]

/-- The location of one of the tile's buffers. -/
abbrev bLoc (b : Ref sig .scVector) : Loc nD τ sig := (V d (cV L) (jV L)).loc b

theorem ownBufs_V :
    (ownBufs (V d (cV L) (jV L)) : sProp (MM F))
      = iprop((∃ f, bLoc d L cc0_scratch0 ↦{fullShare} f) ∗ (∃ f, bLoc d L cc0_scratch1 ↦{fullShare} f)
          ∗ (∃ f, bLoc d L cc0_scratch2 ↦{fullShare} f) ∗ (∃ f, bLoc d L cc0_scratch3 ↦{fullShare} f) ∗ (∃ f, bLoc d L cc0_scratch4 ↦{fullShare} f)
          ∗ bigSep ((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  have own : ∀ r : Ref sig .scVector, ((Proc.scVector (cV L) (jV L)).devRef (τ := τ) r).owner = .proc (Proc.scVector (cV L) (jV L)) →
      (Proc.scVector (cV L) (jV L)).devRef r ∈ ownRefs (τ := τ) (.scVector (cV L) (jV L)) :=
    fun r h => SparseCore.Cfg.mem_ownRefs_of_owner (p := Proc.scVector (cV L) (jV L)) h
  have ne : ∀ r r' : Ref sig .scVector, r ≠ r' → (Proc.scVector (cV L) (jV L)).devRef (τ := τ) r ≠ (Proc.scVector (cV L) (jV L)).devRef r' :=
    fun r r' h e => h (Proc.devRef_injective _ e)
  refine (SparseCore.bigSep_erase' (own cc0_scratch0 rfl)).trans ?_
  rw [SparseCore.bigSep_erase' (Finset.mem_erase.mpr ⟨ne _ _ (by decide), own cc0_scratch1 rfl⟩),
    SparseCore.bigSep_erase' (Finset.mem_erase.mpr ⟨ne _ _ (by decide), Finset.mem_erase.mpr ⟨ne _ _ (by decide), own cc0_scratch2 rfl⟩⟩),
    SparseCore.bigSep_erase' (Finset.mem_erase.mpr ⟨ne _ _ (by decide), Finset.mem_erase.mpr ⟨ne _ _ (by decide),
      Finset.mem_erase.mpr ⟨ne _ _ (by decide), own cc0_scratch3 rfl⟩⟩⟩),
    SparseCore.bigSep_erase' (Finset.mem_erase.mpr ⟨ne _ _ (by decide), Finset.mem_erase.mpr ⟨ne _ _ (by decide),
      Finset.mem_erase.mpr ⟨ne _ _ (by decide), Finset.mem_erase.mpr ⟨ne _ _ (by decide), own cc0_scratch4 rfl⟩⟩⟩⟩)]

/-! ## The task -/

/-- What the tile is handed and hands back: its shares of the arrays it reads, its part of the result's array. -/
def Pre (q : PosShare TreeShare) (o : Vec F S237568 .f32) : sProp (MM F) :=
  iprop((iLoc d ↦{q} (I : Buf (Elt F) (iLoc d))) ∗ (wLoc d ↦{q} (W : Buf (Elt F) (wLoc d))) ∗ (tLoc d ↦{q} (TT : Buf (Elt F) (tLoc d)))
    ∗ (oLoc d ↦[oSet (L 0) (L 1)]{fullShare} (o : Buf (Elt F) (oLoc d))))

/-- Every anchor below nine hundred done. -/
abbrev resF : Vec F S237568 .f32 := outF W TT I old 0 928

theorem out_done (x : S237568.Idx) (hx : x ∈ oSet (L 0) (L 1)) : outF W TT I old (anc L 0) (anc L 29) x = resF W TT I old x := by
  have hx' : (x 0).val / 7424 = 2 * (L 1).val + (L 0).val := (Finset.mem_filter.mp hx).2
  have hxl : (x 0).val < 237568 := (x 0).isLt
  unfold resF outF anc
  by_cases h : (x 0).val / 256 < 900
  · rw [if_pos (by omega), if_pos (by omega)]
  · rw [if_neg (by omega), if_neg (by omega)]

theorem loop1_ok : k0_t1_loop.OK := by decide

theorem wp_task (hF : (K (F := F)).Facts) (hI : ∀ x, (I x).toNat < 348336) (q : PosShare TreeShare)
    (O : CellTallies nD τ sig (HIx 1)) (Wt : Waits sig (HIx 1)) (hO : ∀ g, O g none = 0) :
    iprop(levAts (K (F := F)).L (K (F := F)).lev ∗ emp ∗ Pre d L W TT I q old
        ∗ scopedBufs (V d (cV L) (jV L)) ∗ scopedSems0 (V d (cV L) (jV L)) ∗ owes (V d (cV L) (jV L)) O Wt)
      ⊢ WP (cc0__agg_body (F := F) L AA.ia AA.hia AA.wa AA.hwa AA.ta AA.hta AA.oa AA.hoa AA.ib AA.hib AA.wb AA.hwb AA.b₀ AA.hb₀ AA.b₁ AA.hb₁ AA.ob AA.hob
          AA.s₀ AA.s₁ AA.ri AA.rw AA.ro)
          fun _ => iprop(Pre d L W TT I q (resF W TT I old)
            ∗ scopedBufs (V d (cV L) (jV L)) ∗ scopedSems0 (V d (cV L) (jV L))
            ∗ ∃ W', ⌜∀ p ∈ W', p ∈ Wt ∨ p.2 = none⌝ ∗ owes (V d (cV L) (jV L)) O W') := by
  rw [cc0__agg_body_eq_skeleton]
  unfold cc0__agg_body_skel
  rw [(K (F := F)).scopedBufs_V hF d (cV L) (jV L), SparseCore.Cfg.scopedSems0_V (Val := Elt F) d (cV L) (jV L), ownSems0_V, ownBufs_V]
  unfold Pre
  iintro ⟨#Hlv, -, ⟨Hi, Hw, Ht, Ho⟩, ⟨⟨%f0, H0⟩, ⟨%f1, H1⟩, ⟨%f2, H2⟩, ⟨%f3, H3⟩, ⟨%f4, H4⟩, Hbufs⟩, ⟨Hs5, Hs6, Hc0, Hc1, Hc2, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  have hts : (tblSlice AA.ta).view.set = Finset.univ := by
    refine Finset.eq_univ_of_forall fun (x : S348336x2x128.Idx) => Finset.mem_map.mpr ⟨(x : S348336x2x128.Idx), Finset.mem_univ _, ?_⟩
    refine funext fun (a : Fin 3) => ?_
    match a with
    | 0 => exact Fin.ext (by show 0 + 1 * (x 0).val = (x 0).val; omega)
    | 1 => exact Fin.ext (by show 0 + 1 * (x 1).val = (x 1).val; omega)
    | 2 => exact Fin.ext (by show 0 + 1 * (x 2).val = (x 2).val; omega)
  have hia : AA.ia.view.set = Finset.univ := View.set_whole _
  have hwa : AA.wa.view.set = Finset.univ := View.set_whole _
  have hib : AA.ib.view.set = Finset.univ := View.set_whole _
  have hwb : AA.wb.view.set = Finset.univ := View.set_whole _
  have hb0 : AA.b₀.view.set = Finset.univ := View.set_whole _
  have hb1 : AA.b₁.view.set = Finset.univ := View.set_whole _
  have hob : AA.ob.view.set = Finset.univ := View.set_whole _
  iapply (Scf.wp_for_bind _ _ _ _ _ _ loop1_ok () (fun t u => k0_t1_body (F := F) L AA.ia AA.hia AA.wa AA.hwa AA.ta AA.hta AA.oa AA.hoa AA.ib AA.hib AA.wb AA.hwb
      AA.b₀ AA.hb₀ AA.b₁ AA.hb₁ AA.ob AA.hob AA.s₀ AA.s₁ AA.ri AA.rw AA.ro _ t u)
    (fun n _ => Inv d L W TT I old q O Wt n) (fun t u => wp_outer_trip d L W TT I old hI q O Wt _ t u)) $$ [Hi Hw Ht Ho H0 H1 H2 H3 H4 Hs5 Hs6 Hc0 Hc1 Hc2 HO]
  · unfold Inv Hold Idle Owing
    rw [hts, hia, hwa, hib, hwb, hb0, hb1, hob, outF_none]
    isplitr; · iexact Hmw
    isplitr [Ho]
    · isplitl [Hi]; · iexact Hi
      isplitl [Hw]; · iexact Hw
      isplitl [Ht]; · iexact Ht
      isplitl [H0]; · iexists f0; iexact H0
      isplitl [H1]; · iexists f1; iexact H1
      isplitl [H2 Hs5]
      · isplitl [H2]; · iexists f2; iexact H2
        iexact Hs5
      isplitl [H3 Hs6]
      · isplitl [H3]; · iexists f3; iexact H3
        iexact Hs6
      isplitl [H4]; · iexists f4; iexact H4
      isplitl [Hc0]; · iexact Hc0
      isplitl [Hc1]; · iexact Hc1
      isplitl [Hc2]; · iexact Hc2
      iexists Wt
      isplitr
      · ipureintro; exact fun p hp => Or.inl hp
      · iexact HO
    · iexact Ho
  iintro %u H
  unfold Inv Hold Idle Owing
  rw [hts, hia, hwa, hib, hwb, hb0, hb1, hob]
  icases H with ⟨-, ⟨Hi, Hw, Ht, ⟨%g0, H0⟩, ⟨%g1, H1⟩, ⟨⟨%g2, H2⟩, Hs5⟩, ⟨⟨%g3, H3⟩, Hs6⟩, ⟨%g4, H4⟩, Hc0, Hc1, Hc2, HO⟩, Ho⟩
  rw [Prog.pure_eq_ret, wp_ret]
  imodintro
  isplitl [Hi Hw Ht Ho]
  · isplitl [Hi]; · iexact Hi
    isplitl [Hw]; · iexact Hw
    isplitl [Ht]; · iexact Ht
    iapply (Entails.of_eq (pointsTo_congr (ℓ := oLoc d) (q := fullShare) (I := oSet (L 0) (L 1)) (out_done L W TT I old)))
    iexact Ho
  isplitl [H0 H1 H2 H3 H4 Hbufs]
  · isplitl [H0]; · iexists g0; iexact H0
    isplitl [H1]; · iexists g1; iexact H1
    isplitl [H2]; · iexists g2; iexact H2
    isplitl [H3]; · iexists g3; iexact H3
    isplitl [H4]; · iexists g4; iexact H4
    iexact Hbufs
  isplitl [Hs5 Hs6 Hc0 Hc1 Hc2 Hsems]
  · isplitl [Hs5]; · iexact Hs5
    isplitl [Hs6]; · iexact Hs6
    isplitl [Hc0]; · iexact Hc0
    isplitl [Hc1]; · iexact Hc1
    isplitl [Hc2]; · iexact Hc2
    iexact Hsems
  iexact HO

end Run

end Cert.Proof.Agg

end
-- ==== Proof.Launch.lean ====
/-
  The SparseCore call as a whole: what each of the two SparseCores and each of their sixteen tiles is handed and
  hands back, the tiles' task as the launch states it, and the arrays' split among them.
-/
module

public import proofs.«01_k».proof.Proof.Tile

@[expose] public section

set_option maxRecDepth 100000

noncomputable section

namespace Cert.Proof.Agg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The arrays' split -/

/-- A SparseCore's share of an array every tile reads, and one tile's. -/
def shC (c : Fin 2) : PosShare TreeShare := pieceOf fullShare 2 (by decide) c
def shT (c : Fin 2) (i : Fin 16) : PosShare TreeShare := pieceOf (shC c) 16 (by decide) i

theorem shares_C {ℓ : Loc nD τ sig} (f : Buf (Elt F) ℓ) :
    (ℓ ↦{fullShare} f : sProp (MM F)) = bigSep Finset.univ fun c : Fin 2 => ℓ ↦{shC c} f :=
  pointsTo_piecesOf _ f (by decide) _
theorem shares_T {ℓ : Loc nD τ sig} (f : Buf (Elt F) ℓ) (c : Fin 2) :
    (ℓ ↦{shC c} f : sProp (MM F)) = bigSep Finset.univ fun i : Fin 16 => ℓ ↦{shT c i} f :=
  pointsTo_piecesOf _ f (by decide) _

/-- A SparseCore's part of the result's array. -/
def oSetC (c : Fin 2) : Finset S237568.Idx := Finset.univ.biUnion (oSet c)

theorem oSet_disjoint (c : Fin 2) : ∀ i ∈ (Finset.univ : Finset (Fin 16)), ∀ j ∈ (Finset.univ : Finset (Fin 16)), i ≠ j → Disjoint (oSet c i) (oSet c j) :=
  fun i _ j _ h => Finset.disjoint_left.mpr fun x hx hy => h (Fin.ext (by
    have h1 := (Finset.mem_filter.mp hx).2
    have h2 := (Finset.mem_filter.mp hy).2
    omega))

theorem oSetC_disjoint : ∀ i ∈ (Finset.univ : Finset (Fin 2)), ∀ j ∈ (Finset.univ : Finset (Fin 2)), i ≠ j → Disjoint (oSetC i) (oSetC j) :=
  fun i _ j _ h => Finset.disjoint_left.mpr fun x hx hy => h (Fin.ext (by
    obtain ⟨a, -, ha⟩ := Finset.mem_biUnion.mp hx
    obtain ⟨b, -, hb⟩ := Finset.mem_biUnion.mp hy
    have h1 := (Finset.mem_filter.mp ha).2
    have h2 := (Finset.mem_filter.mp hb).2
    have hi := i.isLt
    have hj := j.isLt
    omega))

theorem oSetC_cover : (Finset.univ : Finset (Fin 2)).biUnion oSetC = Finset.univ :=
  Finset.eq_univ_of_forall fun x => by
    have hx : (x 0).val < 237568 := (x 0).isLt
    refine Finset.mem_biUnion.mpr ⟨⟨(x 0).val / 7424 % 2, Nat.mod_lt _ (by decide)⟩, Finset.mem_univ _,
      Finset.mem_biUnion.mpr ⟨⟨(x 0).val / 7424 / 2, by omega⟩, Finset.mem_univ _, Finset.mem_filter.mpr ⟨Finset.mem_univ _, ?_⟩⟩⟩
    show (x 0).val / 7424 = 2 * ((x 0).val / 7424 / 2) + (x 0).val / 7424 % 2
    omega

theorem out_C (d : Dev nD) (f : Buf (Elt F) (oLoc d)) :
    (oLoc d ↦{fullShare} f : sProp (MM F)) = bigSep Finset.univ fun c : Fin 2 => oLoc d ↦[oSetC c]{fullShare} f := by
  rw [← pointsTo_biUnion Finset.univ (ℓ := oLoc d) oSetC oSetC_disjoint, oSetC_cover]
theorem out_T (d : Dev nD) (f : Buf (Elt F) (oLoc d)) (c : Fin 2) :
    (oLoc d ↦[oSetC c]{fullShare} f : sProp (MM F)) = bigSep Finset.univ fun i : Fin 16 => oLoc d ↦[oSet c i]{fullShare} f := by
  unfold oSetC
  rw [← pointsTo_biUnion Finset.univ (ℓ := oLoc d) (oSet c) (oSet_disjoint c)]

variable [FloatOps F]

/-! ## What the hand-overs carry -/

section Call

variable (W : Dev nD → Vec F S9265152 .f32) (TT : Dev nD → Vec F S348336x2x128 .f32) (I : Dev nD → Vec F S1158144 .i32)
  (old : Dev nD → Vec F S237568 .f32)

/-- The four arrays at one share and one part of the result. -/
abbrev Four (d : Dev nD) (q : PosShare TreeShare) (s : Finset S237568.Idx) (o : Vec F S237568 .f32) : sProp (MM F) :=
  iprop((iLoc d ↦{q} (I d : Buf (Elt F) (iLoc d))) ∗ (wLoc d ↦{q} (W d : Buf (Elt F) (wLoc d))) ∗ (tLoc d ↦{q} (TT d : Buf (Elt F) (tLoc d)))
    ∗ (oLoc d ↦[s]{fullShare} (o : Buf (Elt F) (oLoc d))))

abbrev res (d : Dev nD) : Vec F S237568 .f32 := resF (W d) (TT d) (I d) (old d)

abbrev cc (c : Fin ((K (F := F)).nCore 0)) : Fin 2 := c
abbrev ii (i : Fin ((K (F := F)).nSub 0)) : Fin 16 := i

def P : (K (F := F)).Pay (nD := nD) (Val := Elt F) (Name := ℕ) (U := UU) where
  st := fun q d c => match q with | 0 => Four W TT I d (shC (cc c)) (oSetC (cc c)) (old d)
  dn := fun q d c => match q with | 0 => Four W TT I d (shC (cc c)) (oSetC (cc c)) (res W TT I old d)
  go := fun q d c i => match q with | 0 => Four W TT I d (shT (cc c) (ii i)) (oSet (cc c) (ii i)) (old d)
  td := fun q d c i => match q with | 0 => Four W TT I d (shT (cc c) (ii i)) (oSet (cc c) (ii i)) (res W TT I old d)
  x := fun _ _ => iprop(emp)

instance P_storable : (P (F := F) W TT I old).IsStorable where
  st q d c := match q with
    | 0 => (inferInstance : BI.Storable (upEmb : UEmb _ (MM F)) (Four W TT I d (shC (cc c)) (oSetC (cc c)) (old d)))
  dn q d c := match q with
    | 0 => (inferInstance : BI.Storable (upEmb : UEmb _ (MM F)) (Four W TT I d (shC (cc c)) (oSetC (cc c)) (res W TT I old d)))
  go q d c i := match q with
    | 0 => (inferInstance : BI.Storable (upEmb : UEmb _ (MM F)) (Four W TT I d (shT (cc c) (ii i)) (oSet (cc c) (ii i)) (old d)))
  td q d c i := match q with
    | 0 => (inferInstance : BI.Storable (upEmb : UEmb _ (MM F)) (Four W TT I d (shT (cc c) (ii i)) (oSet (cc c) (ii i)) (res W TT I old d)))

/-! ## The tiles' obligation -/

theorem defs₀_vector (c : Fin τ.nSC) (s : Fin τ.nSub) :
    defs₀ (F := F) (.scVector c s) 0 ()
      = SparseCore.onTile hcore0 hsub0 (fun c s => cc0__agg_body (coordsV c s)
          AA.ia AA.hia AA.wa AA.hwa AA.ta AA.hta AA.oa AA.hoa AA.ib AA.hib AA.wb AA.hwb AA.b₀ AA.hb₀ AA.b₁ AA.hb₁ AA.ob AA.hob
          AA.s₀ AA.s₁ AA.ri AA.rw AA.ro) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hI : ∀ d x, (I d x).toNat < 348336) : (K (F := F)).TileObl (D (F := F)) 𝒱 (P W TT I old) v₀ 0 := by
  intro d c i O Wt hO _ _
  simp only [show (P W TT I old).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (wp_task d (coordsV ⟨_, hci.1⟩ ⟨_, hci.2⟩) (W d) (TT d) (I d) (old d) facts (hI d) (shT (cc c) (ii i)) O Wt hO).trans
    (wp_mono frame _ _ fun _ => obl_post)

/-! ## A SparseCore's part among its tiles -/

theorem four_T (d : Dev nD) (c : Fin 2) (o : Vec F S237568 .f32) :
    Four W TT I d (shC c) (oSetC c) o = bigSep Finset.univ fun i : Fin 16 => Four W TT I d (shT c i) (oSet c i) o := by
  unfold Four
  rw [bigSep_sep', bigSep_sep', bigSep_sep', shares_T, shares_T, shares_T, out_T]
theorem four_C (d : Dev nD) (o : Vec F S237568 .f32) :
    Four W TT I d fullShare Finset.univ o = bigSep Finset.univ fun c : Fin 2 => Four W TT I d (shC c) (oSetC c) o := by
  unfold Four
  rw [bigSep_sep', bigSep_sep', bigSep_sep', shares_C, shares_C, shares_C, out_C]

theorem vecSplit : (K (F := F)).VecSplit' (P W TT I old) 0 := by
  intro d c
  show Four W TT I d (shC (cc c)) (oSetC (cc c)) (old d) ⊢ |={Set.univ}=> iprop(
      (bigSep Finset.univ fun i : Fin 16 => Four W TT I d (shT (cc c) i) (oSet (cc c) i) (old d))
      ∗ ((bigSep Finset.univ fun i : Fin 16 => Four W TT I d (shT (cc c) i) (oSet (cc c) i) (res W TT I old d))
          -∗ Four W TT I d (shC (cc c)) (oSetC (cc c)) (res W TT I old d)))
  rw [four_T W TT I d (cc c) (old d), four_T W TT I d (cc c) (res W TT I old d)]
  iintro H; imodintro
  isplitl [H]; · iexact H
  iintro H; iexact H

theorem st0_eq (d : Dev nD) :
    (bigSep Finset.univ fun c : Fin ((K (F := F)).nCore 0) => (P W TT I old).st 0 d c) = Four W TT I d fullShare Finset.univ (old d) :=
  (four_C W TT I d (old d)).symm
theorem dn0_eq (d : Dev nD) :
    (bigSep Finset.univ fun c : Fin ((K (F := F)).nCore 0) => (P W TT I old).dn 0 d c) = Four W TT I d fullShare Finset.univ (res W TT I old d) :=
  (four_C W TT I d (res W TT I old d)).symm

/-! ## The launch's ghost state -/

def u₀ : UU := (initOf (K (F := F)).hsCells (K (F := F)).hsToks, 1)

omit [FloatOps F] in
theorem bigSep_none {A : Type} (s : Finset A) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P W TT I old).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) W TT I old).x q thr) = bigSep Finset.univ fun _ => iprop(emp) from
    bigSep_congr fun _ _ => bigSep_univ_of_subsingleton (0 : Fin 1), bigSep_none]
  iempintro

end Call

end Cert.Proof.Agg

end
-- ==== Proof.Run.lean ====
/-
  The program's run: host operations, the SparseCore call, host operations. From every launch whose row numbers,
  as the call finds them, name rows of the table, the program ends, and every array of the device is named: the
  host operations' results, with the call's own result in between.
-/
module

public import proofs.«01_k».proof.Proof.Launch
public import Idealize.ShloMosaic.Lib.Pipeline.Frame
public import Idealize.ShloMosaic.Lib.StableHlo.RunHlo

@[expose] public section

set_option maxRecDepth 100000

noncomputable section

namespace Cert.Proof.Agg

open Cert.KernelIdeal Cert.KernelIdeal.Gen
open Idealize.ShloMosaic
open Idealize.ShloMosaic.StableHlo (held seq after launchContents tcRefs)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The four arrays of the call, as the device's buffers. -/
abbrev bI : DevRef τ sig := Proc.devRef .tc main_v1004
abbrev bW : DevRef τ sig := Proc.devRef .tc main_v1005
abbrev bT : DevRef τ sig := Proc.devRef .tc main_v997
abbrev bO : DevRef τ sig := Proc.devRef .tc main_v1006
abbrev callA : Finset (DevRef τ sig) := {bI, bW, bT, bO}

/-- The device's arrays once the call is done, from what it finds. -/
def afterCall (U : Valuation τ sig (Elt F)) : Valuation τ sig (Elt F) :=
  Function.update U bO (resF (U bW : Vec F S9265152 .f32) (U bT : Vec F S348336x2x128 .f32) (U bI : Vec F S1158144 .i32) (U bO : Vec F S237568 .f32))

theorem afterCall_ne (U : Valuation τ sig (Elt F)) (b : DevRef τ sig) (h : b ≠ bO) : afterCall U b = U b :=
  Function.update_of_ne h _ _
theorem afterCall_out (U : Valuation τ sig (Elt F)) :
    afterCall U bO = resF (U bW : Vec F S9265152 .f32) (U bT : Vec F S348336x2x128 .f32) (U bI : Vec F S1158144 .i32) (U bO : Vec F S237568 .f32) :=
  Function.update_self _ _ _

theorem held_callA (d : Dev nD) (U : Valuation τ sig (Elt F)) :
    (held (SparseCore.T d) callA U : sProp (MM F))
      = iprop((iLoc d ↦{fullShare} U bI) ∗ (wLoc d ↦{fullShare} U bW) ∗ (tLoc d ↦{fullShare} U bT) ∗ oLoc d ↦{fullShare} U bO) := by
  unfold held callA
  rw [SparseCore.bigSep_insert' (by decide), SparseCore.bigSep_insert' (by decide), SparseCore.bigSep_insert' (by decide), bigSep_singleton]

theorem callA_sub : callA ⊆ Pipeline.ucRefs τ sig := by
  intro b hb
  have h : ∀ r : Ref sig .tc, r.isScoped = false → Proc.devRef (τ := τ) .tc r ∈ Pipeline.ucRefs τ sig := fun r hr =>
    Finset.mem_filter.mpr ⟨StableHlo.devRef_mem_tcRefs r, fun e => Bool.false_ne_true (hr.symm.trans e)⟩
  rcases Finset.mem_insert.mp hb with rfl | hb; · exact h main_v1004 (by decide)
  rcases Finset.mem_insert.mp hb with rfl | hb; · exact h main_v1005 (by decide)
  rcases Finset.mem_insert.mp hb with rfl | hb; · exact h main_v997 (by decide)
  rw [Finset.mem_singleton] at hb
  subst hb; exact h main_v1006 (by decide)

section Main

variable (pre post : List (HloOp τ sig (Elt F))) (m : (ℓ : Loc nD τ sig) → Buf (Elt F) ℓ) (ρ : Dev nD → PrngReg)

/-- The device's arrays as the call finds them. -/
abbrev atCall (d : Dev nD) : Valuation τ sig (Elt F) := after pre (launchContents m d)

/-- The hand-overs, at those arrays. -/
abbrev PP := P (F := F) (fun d => atCall pre m d bW) (fun d => atCall pre m d bT) (fun d => atCall pre m d bI) (fun d => atCall pre m d bO)

/-- The device's arrays at the end. -/
def atEnd (d : Dev nD) : Valuation τ sig (Elt F) := after post (afterCall (atCall pre m d))

abbrev FIN (d : Dev nD) : sProp (MM F) := held (SparseCore.T d) (Pipeline.ucRefs τ sig) (atEnd pre post m d)

/-- @main on a device's TensorCore. -/
theorem hmain
    (hpre : pre.Forall fun op => op.bufs ⊆ tcRefs τ sig) (hpost : post.Forall fun op => op.bufs ⊆ tcRefs τ sig)
    (hfpre : pre.Forall fun op => op.fresh = ∅) (hfpost : post.Forall fun op => op.fresh = ∅)
    (hm : ∀ d, main (F := F) d = (seq pre >>= fun _ => (K (F := F)).run d 0 >>= fun _ => seq post))
    (κ : GSem nD τ sig → ℕ) (d : Dev nD) :
    iprop((K (F := F)).ctx EH (PP pre m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN pre post m d ∗ (K (F := F)).tcEnd d) := by
  unfold SparseCore.Cfg.tcRes SparseCore.Cfg.tcEnd
  rw [show (unscopedBufs d (fun b => m ((SparseCore.T d).loc b)) : sProp (MM F)) = held (SparseCore.T d) (Pipeline.ucRefs τ sig) (launchContents m d) from
    Pipeline.unscopedBufs_held d (launchContents m d), hm d]
  iintro ⟨#Hctx, Hst, ⟨Hb, Hheld, Hts, -⟩, -⟩
  iapply (StableHlo.wp_seq 𝒱 none Set.univ d (Pipeline.ucRefs τ sig) _ pre
    (fun op h => Pipeline.sub_ucRefs op ((List.forall_iff_forall_mem.mp hpre) op h)) (fun op h => (List.forall_iff_forall_mem.mp hfpre) op h)
    (launchContents m d)) $$ [Hb Hheld]
  · isplitl [Hb] <;> iassumption
  iintro ⟨Hb, Hheld⟩
  ihave Hheld2 := (Entails.of_eq (StableHlo.held_sub_split (SparseCore.T d) callA_sub (atCall pre m d))) $$ Hheld
  icases Hheld2 with ⟨H4, Hrest⟩
  ihave H4' := (Entails.of_eq (held_callA d (atCall pre m d))) $$ H4
  rw [wp_bind]
  iapply ((K (F := F)).wp_run (D (F := F)) 𝒱 (EH := EH) (P := PP pre m) κ d 0) $$ [Hst H4' Hb Hrest Hts]
  isplitr; · iexact Hctx
  isplitl [Hst]; · iexact Hst
  isplitl [H4']
  · iapply (Entails.of_eq (st0_eq (F := F) _ _ _ _ d).symm)
    iexact H4'
  iintro ⟨Hst, Hdn⟩
  ihave Hdn' := (Entails.of_eq (dn0_eq (F := F) _ _ _ _ d)) $$ Hdn
  have hrest : (held (SparseCore.T d) (Pipeline.ucRefs τ sig \ callA) (atCall pre m d) : sProp (MM F))
      = held (SparseCore.T d) (Pipeline.ucRefs τ sig \ callA) (afterCall (atCall pre m d)) :=
    StableHlo.held_congr (SparseCore.T d) fun b hb => (afterCall_ne _ _ fun e => (Finset.mem_sdiff.mp hb).2 (by rw [e]; decide)).symm
  ihave Hall := (Entails.of_eq (StableHlo.held_sub_split (SparseCore.T d) callA_sub (afterCall (atCall pre m d))).symm) $$ [Hdn' Hrest]
  · isplitl [Hdn']
    · iapply (Entails.of_eq (held_callA d (afterCall (atCall pre m d))).symm)
      rw [afterCall_out, afterCall_ne _ bI (by decide), afterCall_ne _ bW (by decide), afterCall_ne _ bT (by decide)]
      iexact Hdn'
    · iapply (Entails.of_eq hrest)
      iexact Hrest
  rw [show (seq post : Prog (TpuEff nD τ sig (Elt F) _ .tc) PUnit) = (seq post >>= fun u => pure u) from (bind_pure _).symm]
  iapply (StableHlo.wp_seq 𝒱 none Set.univ d (Pipeline.ucRefs τ sig) _ post
    (fun op h => Pipeline.sub_ucRefs op ((List.forall_iff_forall_mem.mp hpost) op h)) (fun op h => (List.forall_iff_forall_mem.mp hfpost) op h)
    (afterCall (atCall pre m d))) $$ [Hb Hall]
  · isplitl [Hb] <;> iassumption
  iintro ⟨Hb, Hheld⟩
  rw [wp_pure]
  imodintro
  isplitl [Hst]; · iexact Hst
  isplitl [Hheld]; · iexact Hheld
  isplitl [Hb] <;> iassumption

def fq (d : Dev nD) (s' : Phys nD τ sig (Elt F)) : Prop := ∀ b ∈ Pipeline.ucRefs τ sig, s'.mem.mem (d, b) = atEnd pre post m d b

theorem hfin (d : Dev nD) (s' : Phys nD τ sig (Elt F)) : iprop(FIN pre post m d ∗ SI s') ⊢ (⌜fq pre post m d s'⌝ : sProp (MM F)) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- What every run ends with. -/
def QC : PUnit × MemSt nD τ sig (Elt F) → Prop := fun r =>
  (∀ d : Dev nD, ∀ b ∈ Pipeline.ucRefs τ sig, r.2.mem (d, b) = atEnd pre post m d b) ∧ r.2.sem = fun _ => 0

theorem run_main [∀ e, Nonempty (Elt F e)]
    (hpre : pre.Forall fun op => op.bufs ⊆ tcRefs τ sig) (hpost : post.Forall fun op => op.bufs ⊆ tcRefs τ sig)
    (hfpre : pre.Forall fun op => op.fresh = ∅) (hfpost : post.Forall fun op => op.fresh = ∅)
    (hm : ∀ d, main (F := F) d = (seq pre >>= fun _ => (K (F := F)).run d 0 >>= fun _ => seq post))
    (hI : ∀ d (x : S1158144.Idx), ((atCall pre m d bI : Vec F S1158144 .i32) x).toNat < 348336) :
    θ_run (Cert.KernelIdeal.defs (F := F)) (Cert.KernelIdeal.threads (F := F)) ⟨m, fun _ => 0, ρ⟩ (QC pre post m) :=
  SparseCore.Cfg.θ_run_sc_quiescent (K := K (F := F)) (D := D (F := F)) (𝒱 := 𝒱) (EH := EH) (P := PP pre m) (A := ∅) facts v₀
    (fun q hq => match q with | 0 => nomatch hq)
    (fun q _ => match q with | 0 => tileObl _ _ _ _ hI)
    (fun q _ => match q with | 0 => SparseCore.Cfg.VecSplit.of_plain (vecSplit _ _ _ _))
    m ρ main (fun _ => iprop(emp)) (FIN pre post m) (u₀ (F := F)) (sep_elim_left.trans (hu₀ _ _ _ _))
    (hmain pre post m ρ hpre hpost hfpre hfpost hm) (fq pre post m) (hfin pre post m) (QC pre post m) (fun _ h hz => ⟨h, hz⟩)

end Main

end Cert.Proof.Agg

end
-- ==== Proof.Pad.lean ====
/-
  A scatter that overwrites the front of an array: all of its index words are zero and its one window is the
  whole update. Where the update reaches, the result is the update; elsewhere it is the array.
-/
module

public import Idealize.ShloMosaic.Lib.Routing.OpsPair
public import Idealize.ShloMosaic.Lib.Routing.OpsSet

@[expose] public section

noncomputable section

namespace Cert.Proof.Agg

open Idealize.ShloMosaic Idealize.ShloMosaic.Routing

variable {α : Type} {s si u : Shape}

/-- With zero index words an update element lands where its own coordinates say. -/
theorem lands_iff (d : ScatterDims s si u) (idx : IVec si 32) (h0 : ∀ i, idx i = 0#32) (e : Fin s.rank → Fin u.rank)
    (hw : ∀ k a, d.window k a = (k (e a)).val) (k : u.Idx) (ι : s.Idx) :
    d.resultIdx? k idx = some ι ↔ ∀ a, (k (e a)).val = (ι a).val := by
  rw [resultIdx?_eq_some]
  refine forall_congr' fun a => ?_
  have hs : d.start k idx a = 0 := by
    unfold ScatterDims.start
    split
    · rw [h0]; rfl
    · rfl
  rw [hs, hw]
  omega

/-- Where the update reaches, the scatter holds the update. -/
theorem front_hit (d : ScatterDims s si u) (x : s.Idx → α) (idx : IVec si 32) (h0 : ∀ i, idx i = 0#32) (upd : u.Idx → α)
    (e : Fin s.rank → Fin u.rank) (he : Function.Surjective e) (hw : ∀ k a, d.window k a = (k (e a)).val) (ι : s.Idx) (k : u.Idx)
    (hk : ∀ a, (k (e a)).val = (ι a).val) : Host.scatter d (fun _ b => b) x idx upd ι = upd k := by
  refine scatter_set_hit d x idx upd ι (upd k) (fun k' hk' => ?_) k ((lands_iff d idx h0 e hw k ι).2 hk)
  have h := (lands_iff d idx h0 e hw k' ι).1 hk'
  refine congrArg upd (funext fun b => ?_)
  obtain ⟨a, rfl⟩ := he b
  exact Fin.ext ((h a).trans (hk a).symm)

/-- Where it does not reach, the scatter holds the array. -/
theorem front_miss (d : ScatterDims s si u) (x : s.Idx → α) (idx : IVec si 32) (h0 : ∀ i, idx i = 0#32) (upd : u.Idx → α)
    (e : Fin s.rank → Fin u.rank) (hw : ∀ k a, d.window k a = (k (e a)).val) (ι : s.Idx) (a : Fin s.rank)
    (ha : u.size (e a) ≤ (ι a).val) : Host.scatter d (fun _ b => b) x idx upd ι = x ι := by
  refine scatter_set_miss d x idx upd ι fun k hk => ?_
  have h := (lands_iff d idx h0 e hw k ι).1 hk a
  have := (k (e a)).isLt
  omega

end Cert.Proof.Agg

end
-- ==== Proof.Values.lean ====
/-
  What the call finds, element by element: the table's rows cut into quarters, the row numbers of the quarters,
  the weights, and zeros where there is no sample point; and what becomes of its result.
-/
module

public import proofs.«01_k».proof.Proof.KHostB
public import proofs.«01_k».proof.Proof.Run
public import proofs.«01_k».proof.Proof.Pad
public import Idealize.ShloMosaic.Lib.StableHlo.ReadAt

@[expose] public section

set_option maxRecDepth 100000

noncomputable section

namespace Cert.Proof.Agg

open Cert.KernelIdeal Cert.KernelIdeal.Gen
open Idealize.ShloMosaic
open Idealize.ShloMosaic.StableHlo (held seq after launchContents tcRefs)

variable {F : FTy → Type} [FloatOps F] (U : Valuation τ sig (Elt F))

/-- The stacked row numbers and weights, the table, and the anchors' features. -/
abbrev bA0 : DevRef τ sig := Proc.devRef .tc main_v917
abbrev bA1 : DevRef τ sig := Proc.devRef .tc main_v918
abbrev bA2 : DevRef τ sig := Proc.devRef .tc main_v987
abbrev bRes : DevRef τ sig := Proc.devRef .tc main_v1008

/-- Row `r` of the table as the call finds it is quarter `r % 4` of row `r / 4`. -/
theorem call_T (r : Fin 348336) (h : Fin 2) (l : Fin 128) :
    (after (preOps (F := F)) U bT : Vec F S348336x2x128 .f32) (ix3 r h l)
      = (U bA2 : Vec F S87084x1024 .f32) (ix2 ⟨r.val / 4, by omega⟩ ⟨r.val % 4 * 256 + h.val * 128 + l.val, by omega⟩) := by
  unfold preOps bT
  after_reads_at

/-- The window of the scatter of row numbers is the whole update. -/
theorem window_I (k : S11700x96.Idx) (a : Fin 2) :
    (scatter_S12064x96_S1_S11700x96_01_n_0_0).window k a = (k a).val := by
  match a with
  | 0 => rfl
  | 1 => rfl

theorem window_W (k : S11700x24x32.Idx) (a : Fin 3) :
    (scatter_S12064x24x32_S1_S11700x24x32_012_n_0_0).window k a = (k a).val := by
  match a with
  | 0 => rfl
  | 1 => rfl
  | 2 => rfl

/-- The row number of quarter `s` of block `t` of sample point `p`. -/
theorem call_I_in (p : Fin 11700) (t : Fin 24) (s : Fin 4) :
    (after (preOps (F := F)) U bI : Vec F S1158144 .i32) (ix1 ⟨96 * p.val + 4 * t.val + s.val, by omega⟩)
      = IntOp.addi (IntOp.muli ((U bA0 : Vec F S11700x24 .i32) (ix2 p t)) 4#32) (BitVec.ofNat 32 s.val) := by
  unfold preOps bI
  after_reads_at
  refine (front_hit scatter_S12064x96_S1_S11700x96_01_n_0_0 _ _ (fun _ => rfl) _ id Function.surjective_id window_I _
    (ix2 p ⟨4 * t.val + s.val, by omega⟩ : S11700x96.Idx) ?_).trans ?_
  swap
  · have e : (⟨(4 * t.val + s.val) / 4, by omega⟩ : Fin 24) = t := Fin.ext (by show (4 * t.val + s.val) / 4 = t.val; omega)
    have e' : (4 * t.val + s.val) % 4 = s.val := by omega
    show IntOp.addi (IntOp.muli ((U bA0 : Vec F S11700x24 .i32) (ix2 p ⟨(4 * t.val + s.val) / 4, _⟩)) 4#32) (BitVec.ofNat 32 ((4 * t.val + s.val) % 4)) = _
    rw [e', e]
  · intro a
    match a with
    | 0 => show p.val = (96 * p.val + 4 * t.val + s.val) / 96; omega
    | 1 => show 4 * t.val + s.val = (96 * p.val + 4 * t.val + s.val) % 96; omega

/-- Past the last sample point the row numbers are zero. -/
theorem call_I_out (x : Fin 1158144) (hx : 1123200 ≤ x.val) :
    (after (preOps (F := F)) U bI : Vec F S1158144 .i32) (ix1 x) = 0#32 := by
  unfold preOps bI
  after_reads_at
  exact front_miss scatter_S12064x96_S1_S11700x96_01_n_0_0 _ _ (fun _ => rfl) _ id window_I _ (0 : Fin 2)
    (by show 11700 ≤ x.val / 96; omega)

/-- Weight `c` of block `t` of sample point `p`. -/
theorem call_W_in (p : Fin 11700) (t : Fin 24) (c : Fin 32) :
    (after (preOps (F := F)) U bW : Vec F S9265152 .f32) (ix1 ⟨768 * p.val + 32 * t.val + c.val, by omega⟩)
      = (U bA1 : Vec F S11700x24x32 .f32) (ix3 p t c) := by
  unfold preOps bW
  after_reads_at
  refine front_hit scatter_S12064x24x32_S1_S11700x24x32_012_n_0_0 _ _ (fun _ => rfl) _ id Function.surjective_id window_W _
    (ix3 p t c : S11700x24x32.Idx) ?_
  intro a
  match a with
  | 0 => show p.val = (768 * p.val + 32 * t.val + c.val) / 768; omega
  | 1 => rfl
  | 2 => rfl

/-- The result is the front of what the call leaves. -/
theorem post_res (a : Fin 900) (x : Fin 256) :
    (after (postOps (F := F)) U bRes : Vec F S900x256 .f32) (ix2 a x)
      = (U bO : Vec F S237568 .f32) (ix1 ⟨256 * a.val + x.val, by omega⟩) := by
  unfold postOps bRes bO
  after_reads_at
  exact congrArg (U (Proc.devRef .tc main_v1006) : Vec F S237568 .f32) (congrArg ix1 (Fin.ext (by show a.val * 256 + x.val = 256 * a.val + x.val; omega)))

/-- Four times a row number that names a row, plus a quarter, as a number. -/
theorem quarter_toNat (w : BitVec 32) (hw : w.toNat < 87084) (s : Fin 4) :
    (IntOp.addi (IntOp.muli w 4#32) (BitVec.ofNat 32 s.val)).toNat = 4 * w.toNat + s.val := by
  show (w * 4#32 + BitVec.ofNat 32 s.val).toNat = _
  have := s.isLt
  rw [BitVec.toNat_add, BitVec.toNat_mul, BitVec.toNat_ofNat, BitVec.toNat_ofNat]
  omega

/-- If the row numbers given name rows, so do those the call finds. -/
theorem call_I_lt (h : ∀ x, ((U bA0 : Vec F S11700x24 .i32) x).toNat < 87084) (x : S1158144.Idx) :
    ((after (preOps (F := F)) U bI : Vec F S1158144 .i32) x).toNat < 348336 := by
  have hx : (x 0).val < 1158144 := (x 0).isLt
  obtain ⟨y, rfl⟩ : ∃ y : Fin 1158144, x = ix1 y := ⟨x 0, funext fun (a : Fin 1) => by rw [Subsingleton.elim a 0]; rfl⟩
  by_cases hy : 1123200 ≤ y.val
  · rw [call_I_out U y hy]; decide
  · have e : y = ⟨96 * (y.val / 96) + 4 * (y.val % 96 / 4) + y.val % 4, by omega⟩ := Fin.ext (by show y.val = 96 * (y.val / 96) + 4 * (y.val % 96 / 4) + y.val % 4; omega)
    rw [e]
    have h1 := call_I_in U ⟨y.val / 96, by omega⟩ ⟨y.val % 96 / 4, by omega⟩ ⟨y.val % 4, by omega⟩
    have h2 := h (ix2 ⟨y.val / 96, by omega⟩ ⟨y.val % 96 / 4, by omega⟩)
    refine lt_of_eq_of_lt (congrArg BitVec.toNat h1) ?_
    rw [quarter_toNat _ h2]
    show 4 * _ + y.val % 4 < _
    omega

end Cert.Proof.Agg

end
-- ==== Proof.Equation.lean ====
/-
  What the call's part of the kernel leaves, at the extended reals, element by element: a sum over an anchor's
  sample points, their blocks and the four slots of a block.
-/
module

public import proofs.«01_k».proof.Proof.Sums
public import proofs.«01_k».proof.Proof.Values

@[expose] public section

noncomputable section

namespace Cert.Proof.Agg

open Cert.KernelIdeal Cert.KernelIdeal.Gen
open Idealize.ShloMosaic
open Idealize.ShloMosaic.StableHlo (after)

/-- The result at an element is the anchor's result at its lane. -/
theorem resF_at {F : FTy → Type} [FloatOps F] (W : Vec F S9265152 .f32) (T : Vec F S348336x2x128 .f32) (I : Vec F S1158144 .i32)
    (old : Vec F S237568 .f32) (a : Fin 900) (x : Fin 256) :
    resF W T I old (ix1 ⟨256 * a.val + x.val, by omega⟩) = anchorF W T I a.val (ix1 x) := by
  unfold resF outF
  have e : (256 * a.val + x.val) / 256 = a.val := by omega
  have e' : (256 * a.val + x.val) % 256 = x.val := by omega
  show (if 0 ≤ (256 * a.val + x.val) / 256 ∧ (256 * a.val + x.val) / 256 < 928 ∧ (256 * a.val + x.val) / 256 < 900 then
    anchorF W T I ((256 * a.val + x.val) / 256) (ix1 ⟨(256 * a.val + x.val) % 256, _⟩) else _) = _
  rw [if_pos ⟨by omega, by omega, by omega⟩, e]
  exact congrArg (anchorF W T I a.val) (congrArg ix1 (Fin.ext e'))

/-- Slot `s` of block `t` of sample point `p`: the element of the row named there times its weight. -/
def term (A : Vec Ideal S11700x24 .i32) (W : Vec Ideal S11700x24x32 .f32) (T : Vec Ideal S87084x1024 .f32) (h : ∀ i, (A i).toNat < 87084)
    (p : Fin 11700) (t : Fin 24) (s : Fin 4) (x : Fin 256) : EReal :=
  (T (ix2 ⟨(A (ix2 p t)).toNat, h _⟩ ⟨s.val * 256 + x.val, by omega⟩) : EReal) * (W (ix3 p t ⟨s.val * 8 + x.val / 32, by omega⟩) : EReal)

variable (U : Valuation τ sig (Elt Ideal))

/-- A row of an anchor's sum, as the call finds the arrays: the table's element times the weight. -/
theorem rowTerm_at (h : ∀ i, ((U bA0 : Vec Ideal S11700x24 .i32) i).toNat < 87084) (a : Fin 900) (k : Fin 13) (t : Fin 24) (s : Fin 4) (x : Fin 256) :
    rowTerm (wPart (after preOps U bW : Vec Ideal S9265152 .f32) a.val)
        (rowsF (after preOps U bT : Vec Ideal S348336x2x128 .f32) (iPart (after (preOps (F := Ideal)) U bI : Vec Ideal S1158144 .i32) a.val) k) k
        ⟨x.val / 16, by omega⟩ ⟨x.val % 16, by omega⟩ t s
      = term (U bA0) (U bA1) (U bA2) h ⟨a.val * 13 + k.val, by omega⟩ t s x := by
  unfold rowTerm term
  refine congrArg₂ (fun (y z : EReal) => y * z) ?_ ?_
  · unfold rowsF
    have hI : (iPart (after (preOps (F := Ideal)) U bI : Vec Ideal S1158144 .i32) a.val
          (ix1 ⟨96 * k.val + (4 * t.val + s.val), by omega⟩)).toNat
        = 4 * ((U bA0 : Vec Ideal S11700x24 .i32) (ix2 ⟨a.val * 13 + k.val, by omega⟩ t)).toNat + s.val := by
      refine Eq.trans ?_ (quarter_toNat _ (h (ix2 ⟨a.val * 13 + k.val, by omega⟩ t)) s)
      refine congrArg BitVec.toNat (Eq.trans ?_ (call_I_in U ⟨a.val * 13 + k.val, by omega⟩ t s))
      unfold iPart
      refine congrArg (after (preOps (F := Ideal)) U bI : Vec Ideal S1158144 .i32) (congrArg ix1 (Fin.ext ?_))
      show (1248 * a.val + (96 * k.val + (4 * t.val + s.val))) % 1158144 = 96 * (a.val * 13 + k.val) + 4 * t.val + s.val
      omega
    have hw := h (ix2 ⟨a.val * 13 + k.val, by omega⟩ t)
    have hq : ∀ w, w < 87084 → (4 * w + s.val) % 348336 / 4 = w := fun w hw => by omega
    have hr : ∀ w, w < 87084 → (4 * w + s.val) % 348336 % 4 * 256 + x.val / 16 / 8 * 128 + (x.val / 16 % 8 * 16 + x.val % 16) = s.val * 256 + x.val :=
      fun w hw => by omega
    refine (call_T U ⟨_ % 348336, Nat.mod_lt _ (by decide)⟩ ⟨x.val / 16 / 8, by omega⟩ ⟨x.val / 16 % 8 * 16 + x.val % 16, by omega⟩).trans ?_
    refine congrArg (U bA2 : Vec Ideal S87084x1024 .f32) ?_
    refine congrArg₂ ix2 (Fin.ext ?_) (Fin.ext ?_)
    · show (iPart (after (preOps (F := Ideal)) U bI : Vec Ideal S1158144 .i32) a.val (ix1 ⟨96 * k.val + (4 * t.val + s.val), _⟩)).toNat % 348336 / 4 = _
      rw [hI]; exact hq _ hw
    · show (iPart (after (preOps (F := Ideal)) U bI : Vec Ideal S1158144 .i32) a.val (ix1 ⟨96 * k.val + (4 * t.val + s.val), _⟩)).toNat % 348336 % 4 * 256
        + x.val / 16 / 8 * 128 + (x.val / 16 % 8 * 16 + x.val % 16) = s.val * 256 + x.val
      rw [hI]; exact hr _ hw
  · refine Eq.trans ?_ (call_W_in U ⟨a.val * 13 + k.val, by omega⟩ t ⟨s.val * 8 + x.val / 32, by omega⟩)
    unfold wPart
    refine congrArg (after (preOps (F := Ideal)) U bW : Vec Ideal S9265152 .f32) (congrArg ix1 (Fin.ext ?_))
    show (9984 * a.val + (768 * k.val + 32 * t.val + 8 * s.val + x.val / 16 / 2)) % 9265152
      = 768 * (a.val * 13 + k.val) + 32 * t.val + (s.val * 8 + x.val / 32)
    omega

/-- The result at an anchor and a channel. -/
theorem result_at (h : ∀ i, ((U bA0 : Vec Ideal S11700x24 .i32) i).toNat < 87084) (a : Fin 900) (x : Fin 256) :
    (after postOps (afterCall (after preOps U)) bRes : Vec Ideal S900x256 .f32) (ix2 a x)
      = ∑ k : Fin 13, ∑ t : Fin 24, ∑ s : Fin 4, term (U bA0) (U bA1) (U bA2) h ⟨a.val * 13 + k.val, by omega⟩ t s x := by
  refine (post_res _ a x).trans ?_
  rw [afterCall_out]
  refine (resF_at _ _ _ _ a x).trans ?_
  unfold anchorF
  refine (sumsF_at _ _ _ _ _).trans ?_
  exact Finset.sum_congr rfl fun k _ => Finset.sum_congr rfl fun t _ => Finset.sum_congr rfl fun s _ => rowTerm_at U h a k t s x

end Cert.Proof.Agg

end
-- ==== Proof.Levels.lean ====
/-
  Level by level, at one sample point and camera: the slots of the block the kernel reads, weighted, are the reference's
  four corners, weighted, times the softmax weight.
-/
module

public import proofs.«01_k».proof.Proof.Numbers
public import proofs.«01_k».proof.Proof.Join
public import proofs.«01_k».proof.Proof.RLevel
public import proofs.«01_k».proof.Proof.Equation

@[expose] public section

set_option maxHeartbeats 4000000

noncomputable section

namespace Cert.Proof.Agg

open Cert.KernelIdeal Cert.KernelIdeal.Gen Cert.Proof.Lvl
open Idealize.ShloMosaic
open Idealize.ShloMosaic.StableHlo
open Cert.Proof.Ref (re)

/-- The reference's memory. -/
abbrev RMem := Valuation Cert.ReferenceIdeal.τ Cert.ReferenceIdeal.sig (Elt Ideal)

/-- The slots' sum, where the elements read and the weights are known. -/
theorem slots_sum (h w : ℕ) (hh : h < 2 ^ 30) (hw : w < 2 ^ 30) (X Y : BitVec 32) (x y : EReal) (hx : IsReal x) (hy : IsReal y)
    (elt wgt row seen : Fin 4 → EReal) (q : EReal) (h0 : 0 ≤ q) (h1 : q ≠ ⊤) (he : ∀ s, elt s = row s)
    (hg : ∀ s, wgt s = rowW (slots (clampW (BitVec.ofNat 32 w) X) (clampW (BitVec.ofNat 32 h) Y) X Y)
        (share4 (BitVec.ofNat 32 (w + 2)) (BitVec.ofNat 32 (h + 2)) X Y (fracE x) (fracE y)) s * q)
    (agree : ∀ k s : Fin 4, 0 ≤ (cornW X (stepX k)).toInt → 0 ≤ (cornW Y (stepY k)).toInt →
      (cornW X (stepX k)).toInt.toNat = clampN w X + s.val % 2 → (cornW Y (stepY k)).toInt.toNat = clampN h Y + s.val / 2 → row s = seen k) :
    ∑ s : Fin 4, elt s * wgt s
      = (0 + ∑ k : Fin 4, seen k * share4 (BitVec.ofNat 32 (w + 2)) (BitVec.ofNat 32 (h + 2)) X Y (fracE x) (fracE y) k) * q := by
  rw [← join h w hh hw X Y x y hx hy row seen q h0 h1 agree]
  exact Finset.sum_congr rfl fun s _ => by rw [he, hg]

/-- Level 0. -/
theorem level0_sum (U : Valuation τ sig (Elt Ideal)) (V : RMem) (p : Fin 11700) (c : Fin 6) (ch : Fin 256)
    (hlt : ∀ i, ((after (front (F := Ideal)) U bA0 : Vec Ideal S11700x24 .i32) i).toNat < 87084)
    (hcam : ∀ c, camW (lv0 U) c = BitVec.ofNat 32 c.val)
    (hpt : ∀ a, Ref.ptF V p c a = ptF (lv0 U) p c a)
    (hreal : ∀ a, IsReal (ptF (lv0 U) p c a))
    (hmap : ∀ (y : Fin 64) (x : Fin 176), (V (Proc.devRef .tc Cert.ReferenceIdeal.main_v155) : FVec Ideal Cert.ReferenceIdeal.S6x256x64x176 .f32) (ix4 c ch y x)
      = (U (Proc.devRef .tc main_arg4) : FVec Ideal S1x6x256x64x176 .f32) (ix5 0 c ch y x))
    (h0 : 0 ≤ re ((lv0 U (Proc.devRef .tc main_v156) : FVec Ideal S11700x6x4x8 .f32) (ix4 p c 0 ⟨ch.val / 32, by omega⟩)))
    (h1 : re ((lv0 U (Proc.devRef .tc main_v156) : FVec Ideal S11700x6x4x8 .f32) (ix4 p c 0 ⟨ch.val / 32, by omega⟩)) ≠ ⊤) :
    ∑ s : Fin 4, term (after (front (F := Ideal)) U bA0) (after (front (F := Ideal)) U bA1) (after (front (F := Ideal)) U bA2) hlt p ⟨c.val * 4 + 0, by omega⟩ s ch
      = re ((after (Ref.rX0 (F := Ideal) ++ Ref.rY0 ++ Ref.rG0 ++ Ref.rT0) V (Proc.devRef .tc Cert.ReferenceIdeal.main_v242) : FVec Ideal Cert.ReferenceIdeal.S11700x6x256 .f32) (ix3 p c ch))
        * re ((lv0 U (Proc.devRef .tc main_v156) : FVec Ideal S11700x6x4x8 .f32) (ix4 p c 0 ⟨ch.val / 32, by omega⟩)) := by
  have el := Ref.level0_at V p c ch
  rw [hpt 0, hpt 1] at el
  refine Eq.trans ?_ (congrArg (fun z : EReal => z * re ((lv0 U (Proc.devRef .tc main_v156) : FVec Ideal S11700x6x4x8 .f32) (ix4 p c 0 ⟨ch.val / 32, by omega⟩))) el.symm)
  exact slots_sum 62 174 (by norm_num) (by norm_num) (cellF (F := Ideal) 0x43300000#32 (ptF (lv0 U) p c 0)) (cellF (F := Ideal) 0x42800000#32 (ptF (lv0 U) p c 1))
    (posF (F := Ideal) 0x43300000#32 (ptF (lv0 U) p c 0)) (posF (F := Ideal) 0x42800000#32 (ptF (lv0 U) p c 1))
    (IsReal.sub (IsReal.mul (hreal 0) word_176) word_half) (IsReal.sub (IsReal.mul (hreal 1) word_64) word_half)
    (fun s => (after (front (F := Ideal)) U bA2 : Vec Ideal S87084x1024 .f32) (ix2 ⟨((after (front (F := Ideal)) U bA0 : Vec Ideal S11700x24 .i32) (ix2 p ⟨c.val * 4 + 0, by omega⟩)).toNat, hlt _⟩ ⟨s.val * 256 + ch.val, by omega⟩))
    (fun s => (after (front (F := Ideal)) U bA1 : Vec Ideal S11700x24x32 .f32) (ix3 p ⟨c.val * 4 + 0, by omega⟩ ⟨s.val * 8 + ch.val / 32, by omega⟩))
    (fun s => (U (Proc.devRef .tc main_arg4) : FVec Ideal S1x6x256x64x176 .f32) (ix5 0 c ch
      ⟨clampN 62 (cellF (F := Ideal) 0x42800000#32 (ptF (lv0 U) p c 1)) + s.val / 2, by have := clampN_le 62 (cellF (F := Ideal) 0x42800000#32 (ptF (lv0 U) p c 1)); omega⟩ ⟨clampN 174 (cellF (F := Ideal) 0x43300000#32 (ptF (lv0 U) p c 0)) + s.val % 2, by have := clampN_le 174 (cellF (F := Ideal) 0x43300000#32 (ptF (lv0 U) p c 0)); omega⟩))
    (Ref.seen0 V p c ch) _ h0 h1
    (fun s => table0_at U c _ _ s ch (clampN_le _ _) (clampN_le _ _) _ (number0 U hcam p c))
    (fun s => weights0_at U p c s ⟨ch.val / 32, by omega⟩)
    (fun k s a0 b0 ea eb => ((Ref.seen0_eq V p c ch k _ _ ⟨by rw [hpt 0]; exact a0, by rw [hpt 0]; exact ea⟩ ⟨by rw [hpt 1]; exact b0, by rw [hpt 1]; exact eb⟩).trans (hmap _ _)).symm)

/-- Level 1. -/
theorem level1_sum (U : Valuation τ sig (Elt Ideal)) (V : RMem) (p : Fin 11700) (c : Fin 6) (ch : Fin 256)
    (hlt : ∀ i, ((after (front (F := Ideal)) U bA0 : Vec Ideal S11700x24 .i32) i).toNat < 87084)
    (hcam : ∀ c, camW (lv0 U) c = BitVec.ofNat 32 c.val)
    (hpt : ∀ a, Ref.ptF V p c a = ptF (lv0 U) p c a)
    (hreal : ∀ a, IsReal (ptF (lv0 U) p c a))
    (hmap : ∀ (y : Fin 32) (x : Fin 88), (V (Proc.devRef .tc Cert.ReferenceIdeal.main_v156) : FVec Ideal Cert.ReferenceIdeal.S6x256x32x88 .f32) (ix4 c ch y x)
      = (U (Proc.devRef .tc main_arg5) : FVec Ideal S1x6x256x32x88 .f32) (ix5 0 c ch y x))
    (h0 : 0 ≤ re ((lv0 U (Proc.devRef .tc main_v156) : FVec Ideal S11700x6x4x8 .f32) (ix4 p c 1 ⟨ch.val / 32, by omega⟩)))
    (h1 : re ((lv0 U (Proc.devRef .tc main_v156) : FVec Ideal S11700x6x4x8 .f32) (ix4 p c 1 ⟨ch.val / 32, by omega⟩)) ≠ ⊤) :
    ∑ s : Fin 4, term (after (front (F := Ideal)) U bA0) (after (front (F := Ideal)) U bA1) (after (front (F := Ideal)) U bA2) hlt p ⟨c.val * 4 + 1, by omega⟩ s ch
      = re ((after (Ref.rX1 (F := Ideal) ++ Ref.rY1 ++ Ref.rG1 ++ Ref.rT1) V (Proc.devRef .tc Cert.ReferenceIdeal.main_v334) : FVec Ideal Cert.ReferenceIdeal.S11700x6x256 .f32) (ix3 p c ch))
        * re ((lv0 U (Proc.devRef .tc main_v156) : FVec Ideal S11700x6x4x8 .f32) (ix4 p c 1 ⟨ch.val / 32, by omega⟩)) := by
  have el := Ref.level1_at V p c ch
  rw [hpt 0, hpt 1] at el
  refine Eq.trans ?_ (congrArg (fun z : EReal => z * re ((lv0 U (Proc.devRef .tc main_v156) : FVec Ideal S11700x6x4x8 .f32) (ix4 p c 1 ⟨ch.val / 32, by omega⟩))) el.symm)
  exact slots_sum 30 86 (by norm_num) (by norm_num) (cellF (F := Ideal) 0x42B00000#32 (ptF (lv0 U) p c 0)) (cellF (F := Ideal) 0x42000000#32 (ptF (lv0 U) p c 1))
    (posF (F := Ideal) 0x42B00000#32 (ptF (lv0 U) p c 0)) (posF (F := Ideal) 0x42000000#32 (ptF (lv0 U) p c 1))
    (IsReal.sub (IsReal.mul (hreal 0) word_88) word_half) (IsReal.sub (IsReal.mul (hreal 1) word_32) word_half)
    (fun s => (after (front (F := Ideal)) U bA2 : Vec Ideal S87084x1024 .f32) (ix2 ⟨((after (front (F := Ideal)) U bA0 : Vec Ideal S11700x24 .i32) (ix2 p ⟨c.val * 4 + 1, by omega⟩)).toNat, hlt _⟩ ⟨s.val * 256 + ch.val, by omega⟩))
    (fun s => (after (front (F := Ideal)) U bA1 : Vec Ideal S11700x24x32 .f32) (ix3 p ⟨c.val * 4 + 1, by omega⟩ ⟨s.val * 8 + ch.val / 32, by omega⟩))
    (fun s => (U (Proc.devRef .tc main_arg5) : FVec Ideal S1x6x256x32x88 .f32) (ix5 0 c ch
      ⟨clampN 30 (cellF (F := Ideal) 0x42000000#32 (ptF (lv0 U) p c 1)) + s.val / 2, by have := clampN_le 30 (cellF (F := Ideal) 0x42000000#32 (ptF (lv0 U) p c 1)); omega⟩ ⟨clampN 86 (cellF (F := Ideal) 0x42B00000#32 (ptF (lv0 U) p c 0)) + s.val % 2, by have := clampN_le 86 (cellF (F := Ideal) 0x42B00000#32 (ptF (lv0 U) p c 0)); omega⟩))
    (Ref.seen1 V p c ch) _ h0 h1
    (fun s => table1_at U c _ _ s ch (clampN_le _ _) (clampN_le _ _) _ (number1 U hcam p c))
    (fun s => weights1_at U p c s ⟨ch.val / 32, by omega⟩)
    (fun k s a0 b0 ea eb => ((Ref.seen1_eq V p c ch k _ _ ⟨by rw [hpt 0]; exact a0, by rw [hpt 0]; exact ea⟩ ⟨by rw [hpt 1]; exact b0, by rw [hpt 1]; exact eb⟩).trans (hmap _ _)).symm)

/-- Level 2. -/
theorem level2_sum (U : Valuation τ sig (Elt Ideal)) (V : RMem) (p : Fin 11700) (c : Fin 6) (ch : Fin 256)
    (hlt : ∀ i, ((after (front (F := Ideal)) U bA0 : Vec Ideal S11700x24 .i32) i).toNat < 87084)
    (hcam : ∀ c, camW (lv0 U) c = BitVec.ofNat 32 c.val)
    (hpt : ∀ a, Ref.ptF V p c a = ptF (lv0 U) p c a)
    (hreal : ∀ a, IsReal (ptF (lv0 U) p c a))
    (hmap : ∀ (y : Fin 16) (x : Fin 44), (V (Proc.devRef .tc Cert.ReferenceIdeal.main_v157) : FVec Ideal Cert.ReferenceIdeal.S6x256x16x44 .f32) (ix4 c ch y x)
      = (U (Proc.devRef .tc main_arg6) : FVec Ideal S1x6x256x16x44 .f32) (ix5 0 c ch y x))
    (h0 : 0 ≤ re ((lv0 U (Proc.devRef .tc main_v156) : FVec Ideal S11700x6x4x8 .f32) (ix4 p c 2 ⟨ch.val / 32, by omega⟩)))
    (h1 : re ((lv0 U (Proc.devRef .tc main_v156) : FVec Ideal S11700x6x4x8 .f32) (ix4 p c 2 ⟨ch.val / 32, by omega⟩)) ≠ ⊤) :
    ∑ s : Fin 4, term (after (front (F := Ideal)) U bA0) (after (front (F := Ideal)) U bA1) (after (front (F := Ideal)) U bA2) hlt p ⟨c.val * 4 + 2, by omega⟩ s ch
      = re ((after (Ref.rX2 (F := Ideal) ++ Ref.rY2 ++ Ref.rG2 ++ Ref.rT2) V (Proc.devRef .tc Cert.ReferenceIdeal.main_v425) : FVec Ideal Cert.ReferenceIdeal.S11700x6x256 .f32) (ix3 p c ch))
        * re ((lv0 U (Proc.devRef .tc main_v156) : FVec Ideal S11700x6x4x8 .f32) (ix4 p c 2 ⟨ch.val / 32, by omega⟩)) := by
  have el := Ref.level2_at V p c ch
  rw [hpt 0, hpt 1] at el
  refine Eq.trans ?_ (congrArg (fun z : EReal => z * re ((lv0 U (Proc.devRef .tc main_v156) : FVec Ideal S11700x6x4x8 .f32) (ix4 p c 2 ⟨ch.val / 32, by omega⟩))) el.symm)
  exact slots_sum 14 42 (by norm_num) (by norm_num) (cellF (F := Ideal) 0x42300000#32 (ptF (lv0 U) p c 0)) (cellF (F := Ideal) 0x41800000#32 (ptF (lv0 U) p c 1))
    (posF (F := Ideal) 0x42300000#32 (ptF (lv0 U) p c 0)) (posF (F := Ideal) 0x41800000#32 (ptF (lv0 U) p c 1))
    (IsReal.sub (IsReal.mul (hreal 0) word_44) word_half) (IsReal.sub (IsReal.mul (hreal 1) word_16) word_half)
    (fun s => (after (front (F := Ideal)) U bA2 : Vec Ideal S87084x1024 .f32) (ix2 ⟨((after (front (F := Ideal)) U bA0 : Vec Ideal S11700x24 .i32) (ix2 p ⟨c.val * 4 + 2, by omega⟩)).toNat, hlt _⟩ ⟨s.val * 256 + ch.val, by omega⟩))
    (fun s => (after (front (F := Ideal)) U bA1 : Vec Ideal S11700x24x32 .f32) (ix3 p ⟨c.val * 4 + 2, by omega⟩ ⟨s.val * 8 + ch.val / 32, by omega⟩))
    (fun s => (U (Proc.devRef .tc main_arg6) : FVec Ideal S1x6x256x16x44 .f32) (ix5 0 c ch
      ⟨clampN 14 (cellF (F := Ideal) 0x41800000#32 (ptF (lv0 U) p c 1)) + s.val / 2, by have := clampN_le 14 (cellF (F := Ideal) 0x41800000#32 (ptF (lv0 U) p c 1)); omega⟩ ⟨clampN 42 (cellF (F := Ideal) 0x42300000#32 (ptF (lv0 U) p c 0)) + s.val % 2, by have := clampN_le 42 (cellF (F := Ideal) 0x42300000#32 (ptF (lv0 U) p c 0)); omega⟩))
    (Ref.seen2 V p c ch) _ h0 h1
    (fun s => table2_at U c _ _ s ch (clampN_le _ _) (clampN_le _ _) _ (number2 U hcam p c))
    (fun s => weights2_at U p c s ⟨ch.val / 32, by omega⟩)
    (fun k s a0 b0 ea eb => ((Ref.seen2_eq V p c ch k _ _ ⟨by rw [hpt 0]; exact a0, by rw [hpt 0]; exact ea⟩ ⟨by rw [hpt 1]; exact b0, by rw [hpt 1]; exact eb⟩).trans (hmap _ _)).symm)

/-- Level 3. -/
theorem level3_sum (U : Valuation τ sig (Elt Ideal)) (V : RMem) (p : Fin 11700) (c : Fin 6) (ch : Fin 256)
    (hlt : ∀ i, ((after (front (F := Ideal)) U bA0 : Vec Ideal S11700x24 .i32) i).toNat < 87084)
    (hcam : ∀ c, camW (lv0 U) c = BitVec.ofNat 32 c.val)
    (hpt : ∀ a, Ref.ptF V p c a = ptF (lv0 U) p c a)
    (hreal : ∀ a, IsReal (ptF (lv0 U) p c a))
    (hmap : ∀ (y : Fin 8) (x : Fin 22), (V (Proc.devRef .tc Cert.ReferenceIdeal.main_v158) : FVec Ideal Cert.ReferenceIdeal.S6x256x8x22 .f32) (ix4 c ch y x)
      = (U (Proc.devRef .tc main_arg7) : FVec Ideal S1x6x256x8x22 .f32) (ix5 0 c ch y x))
    (h0 : 0 ≤ re ((lv0 U (Proc.devRef .tc main_v156) : FVec Ideal S11700x6x4x8 .f32) (ix4 p c 3 ⟨ch.val / 32, by omega⟩)))
    (h1 : re ((lv0 U (Proc.devRef .tc main_v156) : FVec Ideal S11700x6x4x8 .f32) (ix4 p c 3 ⟨ch.val / 32, by omega⟩)) ≠ ⊤) :
    ∑ s : Fin 4, term (after (front (F := Ideal)) U bA0) (after (front (F := Ideal)) U bA1) (after (front (F := Ideal)) U bA2) hlt p ⟨c.val * 4 + 3, by omega⟩ s ch
      = re ((after (Ref.rX3 (F := Ideal) ++ Ref.rY3 ++ Ref.rG3 ++ Ref.rT3) V (Proc.devRef .tc Cert.ReferenceIdeal.main_v516) : FVec Ideal Cert.ReferenceIdeal.S11700x6x256 .f32) (ix3 p c ch))
        * re ((lv0 U (Proc.devRef .tc main_v156) : FVec Ideal S11700x6x4x8 .f32) (ix4 p c 3 ⟨ch.val / 32, by omega⟩)) := by
  have el := Ref.level3_at V p c ch
  rw [hpt 0, hpt 1] at el
  refine Eq.trans ?_ (congrArg (fun z : EReal => z * re ((lv0 U (Proc.devRef .tc main_v156) : FVec Ideal S11700x6x4x8 .f32) (ix4 p c 3 ⟨ch.val / 32, by omega⟩))) el.symm)
  exact slots_sum 6 20 (by norm_num) (by norm_num) (cellF (F := Ideal) 0x41B00000#32 (ptF (lv0 U) p c 0)) (cellF (F := Ideal) 0x41000000#32 (ptF (lv0 U) p c 1))
    (posF (F := Ideal) 0x41B00000#32 (ptF (lv0 U) p c 0)) (posF (F := Ideal) 0x41000000#32 (ptF (lv0 U) p c 1))
    (IsReal.sub (IsReal.mul (hreal 0) word_22) word_half) (IsReal.sub (IsReal.mul (hreal 1) word_8) word_half)
    (fun s => (after (front (F := Ideal)) U bA2 : Vec Ideal S87084x1024 .f32) (ix2 ⟨((after (front (F := Ideal)) U bA0 : Vec Ideal S11700x24 .i32) (ix2 p ⟨c.val * 4 + 3, by omega⟩)).toNat, hlt _⟩ ⟨s.val * 256 + ch.val, by omega⟩))
    (fun s => (after (front (F := Ideal)) U bA1 : Vec Ideal S11700x24x32 .f32) (ix3 p ⟨c.val * 4 + 3, by omega⟩ ⟨s.val * 8 + ch.val / 32, by omega⟩))
    (fun s => (U (Proc.devRef .tc main_arg7) : FVec Ideal S1x6x256x8x22 .f32) (ix5 0 c ch
      ⟨clampN 6 (cellF (F := Ideal) 0x41000000#32 (ptF (lv0 U) p c 1)) + s.val / 2, by have := clampN_le 6 (cellF (F := Ideal) 0x41000000#32 (ptF (lv0 U) p c 1)); omega⟩ ⟨clampN 20 (cellF (F := Ideal) 0x41B00000#32 (ptF (lv0 U) p c 0)) + s.val % 2, by have := clampN_le 20 (cellF (F := Ideal) 0x41B00000#32 (ptF (lv0 U) p c 0)); omega⟩))
    (Ref.seen3 V p c ch) _ h0 h1
    (fun s => table3_at U c _ _ s ch (clampN_le _ _) (clampN_le _ _) _ (number3 U hcam p c))
    (fun s => weights3_at U p c s ⟨ch.val / 32, by omega⟩)
    (fun k s a0 b0 ea eb => ((Ref.seen3_eq V p c ch k _ _ ⟨by rw [hpt 0]; exact a0, by rw [hpt 0]; exact ea⟩ ⟨by rw [hpt 1]; exact b0, by rw [hpt 1]; exact eb⟩).trans (hmap _ _)).symm)

end Cert.Proof.Agg

end
-- ==== Proof.RefOut.lean ====
/-
  The reference's result from its levels: at a sample point and channel, the sum over the cameras of the four levels.
-/
module

public import proofs.«01_k».proof.Proof.RLevel
public import Idealize.ShloMosaic.Lib.StableHlo.ReadAt

@[expose] public section

set_option maxHeartbeats 4000000

noncomputable section

namespace Cert.Proof.Ref

open Cert.ReferenceIdeal Cert.ReferenceIdeal.Gen Cert.Proof.Lvl
open Idealize.ShloMosaic
open Idealize.ShloMosaic.StableHlo

/-- What the levels start from: the weights, the points and the feature maps. -/
def starts : List (Ref sig .tc) := [main_v131, main_v154, main_v155, main_v156, main_v157, main_v158]

section AnyFloat
variable {F : FTy → Type} [FloatOps F]

/-- After the prefix. -/
def st0 (V : Valuation τ sig (Elt F)) : Valuation τ sig (Elt F) := after rPre V
/-- Before level 0's cameras are summed, -/
def half0 (V : Valuation τ sig (Elt F)) : Valuation τ sig (Elt F) := after (rX0 ++ rY0 ++ rG0 ++ rT0) (st0 V)
/-- and after. -/
def st1 (V : Valuation τ sig (Elt F)) : Valuation τ sig (Elt F) := after rS0 (half0 V)
/-- Before level 1's cameras are summed, -/
def half1 (V : Valuation τ sig (Elt F)) : Valuation τ sig (Elt F) := after (rX1 ++ rY1 ++ rG1 ++ rT1) (st1 V)
/-- and after. -/
def st2 (V : Valuation τ sig (Elt F)) : Valuation τ sig (Elt F) := after rS1 (half1 V)
/-- Before level 2's cameras are summed, -/
def half2 (V : Valuation τ sig (Elt F)) : Valuation τ sig (Elt F) := after (rX2 ++ rY2 ++ rG2 ++ rT2) (st2 V)
/-- and after. -/
def st3 (V : Valuation τ sig (Elt F)) : Valuation τ sig (Elt F) := after rS2 (half2 V)
/-- Before level 3's cameras are summed, -/
def half3 (V : Valuation τ sig (Elt F)) : Valuation τ sig (Elt F) := after (rX3 ++ rY3 ++ rG3 ++ rT3) (st3 V)
/-- and after. -/
def st4 (V : Valuation τ sig (Elt F)) : Valuation τ sig (Elt F) := after rS3 (half3 V)

theorem all_eq (V : Valuation τ sig (Elt F)) : after allOps V = after rPost (st4 V) := by
  unfold allOps st4 half3 st3 half2 st2 half1 st1 half0 st0
  simp only [after_append]

theorem half0_keeps (V : Valuation τ sig (Elt F)) (r : Ref sig .tc) (hX : r ∉ rX0W) (hY : r ∉ rY0W) (hG : r ∉ rG0W) (hT : r ∉ rT0W) :
    half0 V (Proc.devRef .tc r) = st0 V (Proc.devRef .tc r) := by
  unfold half0
  simp only [after_append]
  rw [rT0_keeps _ r hT, rG0_keeps _ r hG, rY0_keeps _ r hY, rX0_keeps _ r hX]

theorem half0_start (V : Valuation τ sig (Elt F)) (r : Ref sig .tc) (h : r ∈ starts) : half0 V (Proc.devRef .tc r) = st0 V (Proc.devRef .tc r) :=
  half0_keeps V r ((by decide +kernel : ∀ r ∈ starts, r ∉ rX0W) r h) ((by decide +kernel : ∀ r ∈ starts, r ∉ rY0W) r h)
    ((by decide +kernel : ∀ r ∈ starts, r ∉ rG0W) r h) ((by decide +kernel : ∀ r ∈ starts, r ∉ rT0W) r h)

theorem st1_start (V : Valuation τ sig (Elt F)) (r : Ref sig .tc) (h : r ∈ starts) : st1 V (Proc.devRef .tc r) = st0 V (Proc.devRef .tc r) := by
  unfold st1
  rw [rS0_keeps _ r ((by decide +kernel : ∀ r ∈ starts, r ∉ rS0W) r h), half0_start V r h]

theorem half1_keeps (V : Valuation τ sig (Elt F)) (r : Ref sig .tc) (hX : r ∉ rX1W) (hY : r ∉ rY1W) (hG : r ∉ rG1W) (hT : r ∉ rT1W) :
    half1 V (Proc.devRef .tc r) = st1 V (Proc.devRef .tc r) := by
  unfold half1
  simp only [after_append]
  rw [rT1_keeps _ r hT, rG1_keeps _ r hG, rY1_keeps _ r hY, rX1_keeps _ r hX]

theorem half1_start (V : Valuation τ sig (Elt F)) (r : Ref sig .tc) (h : r ∈ starts) : half1 V (Proc.devRef .tc r) = st1 V (Proc.devRef .tc r) :=
  half1_keeps V r ((by decide +kernel : ∀ r ∈ starts, r ∉ rX1W) r h) ((by decide +kernel : ∀ r ∈ starts, r ∉ rY1W) r h)
    ((by decide +kernel : ∀ r ∈ starts, r ∉ rG1W) r h) ((by decide +kernel : ∀ r ∈ starts, r ∉ rT1W) r h)

theorem st2_start (V : Valuation τ sig (Elt F)) (r : Ref sig .tc) (h : r ∈ starts) : st2 V (Proc.devRef .tc r) = st0 V (Proc.devRef .tc r) := by
  unfold st2
  rw [rS1_keeps _ r ((by decide +kernel : ∀ r ∈ starts, r ∉ rS1W) r h), half1_start V r h, st1_start V r h]

theorem half2_keeps (V : Valuation τ sig (Elt F)) (r : Ref sig .tc) (hX : r ∉ rX2W) (hY : r ∉ rY2W) (hG : r ∉ rG2W) (hT : r ∉ rT2W) :
    half2 V (Proc.devRef .tc r) = st2 V (Proc.devRef .tc r) := by
  unfold half2
  simp only [after_append]
  rw [rT2_keeps _ r hT, rG2_keeps _ r hG, rY2_keeps _ r hY, rX2_keeps _ r hX]

theorem half2_start (V : Valuation τ sig (Elt F)) (r : Ref sig .tc) (h : r ∈ starts) : half2 V (Proc.devRef .tc r) = st2 V (Proc.devRef .tc r) :=
  half2_keeps V r ((by decide +kernel : ∀ r ∈ starts, r ∉ rX2W) r h) ((by decide +kernel : ∀ r ∈ starts, r ∉ rY2W) r h)
    ((by decide +kernel : ∀ r ∈ starts, r ∉ rG2W) r h) ((by decide +kernel : ∀ r ∈ starts, r ∉ rT2W) r h)

theorem st3_start (V : Valuation τ sig (Elt F)) (r : Ref sig .tc) (h : r ∈ starts) : st3 V (Proc.devRef .tc r) = st0 V (Proc.devRef .tc r) := by
  unfold st3
  rw [rS2_keeps _ r ((by decide +kernel : ∀ r ∈ starts, r ∉ rS2W) r h), half2_start V r h, st2_start V r h]

theorem half3_keeps (V : Valuation τ sig (Elt F)) (r : Ref sig .tc) (hX : r ∉ rX3W) (hY : r ∉ rY3W) (hG : r ∉ rG3W) (hT : r ∉ rT3W) :
    half3 V (Proc.devRef .tc r) = st3 V (Proc.devRef .tc r) := by
  unfold half3
  simp only [after_append]
  rw [rT3_keeps _ r hT, rG3_keeps _ r hG, rY3_keeps _ r hY, rX3_keeps _ r hX]

theorem half3_start (V : Valuation τ sig (Elt F)) (r : Ref sig .tc) (h : r ∈ starts) : half3 V (Proc.devRef .tc r) = st3 V (Proc.devRef .tc r) :=
  half3_keeps V r ((by decide +kernel : ∀ r ∈ starts, r ∉ rX3W) r h) ((by decide +kernel : ∀ r ∈ starts, r ∉ rY3W) r h)
    ((by decide +kernel : ∀ r ∈ starts, r ∉ rG3W) r h) ((by decide +kernel : ∀ r ∈ starts, r ∉ rT3W) r h)

theorem st4_start (V : Valuation τ sig (Elt F)) (r : Ref sig .tc) (h : r ∈ starts) : st4 V (Proc.devRef .tc r) = st0 V (Proc.devRef .tc r) := by
  unfold st4
  rw [rS3_keeps _ r ((by decide +kernel : ∀ r ∈ starts, r ∉ rS3W) r h), half3_start V r h, st3_start V r h]

end AnyFloat

variable (V : Valuation τ sig (Elt Ideal))

/-- Level 0's part at a sample point, camera and channel. -/
def part0F (p : Fin 11700) (ch : Fin 256) (c : Fin 6) : EReal :=
  re ((half0 V (Proc.devRef .tc main_v242) : FVec Ideal S11700x6x256 .f32) (ix3 p c ch))
    * re ((st0 V (Proc.devRef .tc main_v131) : FVec Ideal S11700x6x4x8 .f32) (ix4 p c 0 ⟨ch.val / 32, by omega⟩))

theorem out0_eq (p : Fin 11700) (ch : Fin 256) :
    re ((st1 V (Proc.devRef .tc main_v250) : FVec Ideal S11700x256 .f32) (ix2 p ch))
      = 0 + ∑ c : Fin 6, part0F V p ch c := by
  have e := out0_at (half0 V) p ch
  rw [half0_start V main_v131 (by decide)] at e
  exact e.trans (congrArg (0 + ·) (zero_add _))

/-- Level 1's part at a sample point, camera and channel. -/
def part1F (p : Fin 11700) (ch : Fin 256) (c : Fin 6) : EReal :=
  re ((half1 V (Proc.devRef .tc main_v334) : FVec Ideal S11700x6x256 .f32) (ix3 p c ch))
    * re ((st0 V (Proc.devRef .tc main_v131) : FVec Ideal S11700x6x4x8 .f32) (ix4 p c 1 ⟨ch.val / 32, by omega⟩))

theorem out1_eq (p : Fin 11700) (ch : Fin 256) :
    re ((st2 V (Proc.devRef .tc main_v341) : FVec Ideal S11700x256 .f32) (ix2 p ch))
      = re ((st1 V (Proc.devRef .tc main_v250) : FVec Ideal S11700x256 .f32) (ix2 p ch)) + ∑ c : Fin 6, part1F V p ch c := by
  have e := out1_at (half1 V) p ch
  rw [half1_start V main_v131 (by decide), st1_start V main_v131 (by decide), half1_keeps V main_v250 (by decide +kernel) (by decide +kernel) (by decide +kernel) (by decide +kernel)] at e
  exact e.trans (congrArg (re ((st1 V (Proc.devRef .tc main_v250) : FVec Ideal S11700x256 .f32) (ix2 p ch)) + ·) (zero_add _))

/-- Level 2's part at a sample point, camera and channel. -/
def part2F (p : Fin 11700) (ch : Fin 256) (c : Fin 6) : EReal :=
  re ((half2 V (Proc.devRef .tc main_v425) : FVec Ideal S11700x6x256 .f32) (ix3 p c ch))
    * re ((st0 V (Proc.devRef .tc main_v131) : FVec Ideal S11700x6x4x8 .f32) (ix4 p c 2 ⟨ch.val / 32, by omega⟩))

theorem out2_eq (p : Fin 11700) (ch : Fin 256) :
    re ((st3 V (Proc.devRef .tc main_v432) : FVec Ideal S11700x256 .f32) (ix2 p ch))
      = re ((st2 V (Proc.devRef .tc main_v341) : FVec Ideal S11700x256 .f32) (ix2 p ch)) + ∑ c : Fin 6, part2F V p ch c := by
  have e := out2_at (half2 V) p ch
  rw [half2_start V main_v131 (by decide), st2_start V main_v131 (by decide), half2_keeps V main_v341 (by decide +kernel) (by decide +kernel) (by decide +kernel) (by decide +kernel)] at e
  exact e.trans (congrArg (re ((st2 V (Proc.devRef .tc main_v341) : FVec Ideal S11700x256 .f32) (ix2 p ch)) + ·) (zero_add _))

/-- Level 3's part at a sample point, camera and channel. -/
def part3F (p : Fin 11700) (ch : Fin 256) (c : Fin 6) : EReal :=
  re ((half3 V (Proc.devRef .tc main_v516) : FVec Ideal S11700x6x256 .f32) (ix3 p c ch))
    * re ((st0 V (Proc.devRef .tc main_v131) : FVec Ideal S11700x6x4x8 .f32) (ix4 p c 3 ⟨ch.val / 32, by omega⟩))

theorem out3_eq (p : Fin 11700) (ch : Fin 256) :
    re ((st4 V (Proc.devRef .tc main_v523) : FVec Ideal S11700x256 .f32) (ix2 p ch))
      = re ((st3 V (Proc.devRef .tc main_v432) : FVec Ideal S11700x256 .f32) (ix2 p ch)) + ∑ c : Fin 6, part3F V p ch c := by
  have e := out3_at (half3 V) p ch
  rw [half3_start V main_v131 (by decide), st3_start V main_v131 (by decide), half3_keeps V main_v432 (by decide +kernel) (by decide +kernel) (by decide +kernel) (by decide +kernel)] at e
  exact e.trans (congrArg (re ((st3 V (Proc.devRef .tc main_v432) : FVec Ideal S11700x256 .f32) (ix2 p ch)) + ·) (zero_add _))

/-- All four levels. -/
theorem levels_eq (p : Fin 11700) (ch : Fin 256) :
    re ((st4 V (Proc.devRef .tc main_v523) : FVec Ideal S11700x256 .f32) (ix2 p ch))
      = ∑ c : Fin 6, (((part0F V p ch c + part1F V p ch c) + part2F V p ch c) + part3F V p ch c) := by
  rw [out3_eq, out2_eq, out1_eq, out0_eq, zero_add]
  simp only [Finset.sum_add_distrib]

/-- The sample points of an anchor are summed. -/
theorem anchor_eq (W : Valuation τ sig (Elt Ideal)) (a : Fin 900) (ch : Fin 256) :
    (after ((rPost (F := Ideal)).take 3) W (Proc.devRef .tc main_v525) : FVec Ideal S900x256 .f32) (ix2 a ch)
      = ∑ k : Fin 13, re ((W (Proc.devRef .tc main_v523) : FVec Ideal S11700x256 .f32) (ix2 ⟨a.val * 13 + k.val, by omega⟩ ch)) := by
  have e : (after ((rPost (F := Ideal)).take 3) W (Proc.devRef .tc main_v525) : FVec Ideal S900x256 .f32)
      = Host.reduceAdd (F := Ideal) (after ((rPost (F := Ideal)).take 1) W (Proc.devRef .tc main_v524) : FVec Ideal S900x13x256 .f32) (constant (F := Ideal) S_ .f32 0x00000000#32) reducesTo_S900x13x256_S900x256_d1 h_S_ := by
    unfold rPost
    dsimp only [List.take_succ_cons, List.take_zero]
    after_reads_simp
  rw [e, ValueIdx.hostReduceAdd_apply]
  show Ideal.hostReduceAdd reducesTo_S900x13x256_S900x256_d1 _ (Ideal.ofBits .f32 0#32) (ix2 a ch) = _
  unfold Ideal.hostReduceAdd
  rw [sum_second reducesTo_S900x13x256_S900x256_d1 (fun i => funext fun (b : Fin 2) => match b with | 0 => rfl | 1 => rfl)]
  rw [Ideal.ofBits_zero_f32, zero_add]
  refine Finset.sum_congr rfl fun k _ => ?_
  unfold rPost
  dsimp only [List.take_succ_cons, List.take_zero]
  generalize hR : re ((W (Proc.devRef .tc main_v523) : FVec Ideal S11700x256 .f32) (ix2 ⟨a.val * 13 + k.val, by omega⟩ ch)) = R
  after_reads_at
  exact hR

end Cert.Proof.Ref

end
-- ==== Proof.Pair.lean ====
/-
  Memories of the two programs, side by side.
-/
module

public import proofs.«01_k».proof.Proof.KHostA
public import proofs.«01_k».proof.Proof.RHost
public import Idealize.ShloMosaic.Lib.StableHlo.ReadAt

@[expose] public section

set_option maxHeartbeats 4000000

noncomputable section

namespace Cert.Proof.Pre

open Idealize.ShloMosaic
open Idealize.ShloMosaic.StableHlo
open Cert.Proof.Agg (Arr k00 k01 k02 k03)
open Cert.Proof.Ref (r00 r01 r02 r03)

variable {F : FTy → Type} [FloatOps F]

/-- A memory of the kernel, -/
abbrev KVal (F : FTy → Type) := Valuation Cert.KernelIdeal.τ Cert.KernelIdeal.sig (Elt F)
/-- and of the reference. -/
abbrev RVal (F : FTy → Type) := Valuation Cert.ReferenceIdeal.τ Cert.ReferenceIdeal.sig (Elt F)
/-- What a buffer of the kernel holds, -/
abbrev kat (U : KVal F) (r : Ref Cert.KernelIdeal.sig .tc) := U (Proc.devRef .tc r)
/-- and one of the reference. -/
abbrev rat (V : RVal F) (r : Ref Cert.ReferenceIdeal.sig .tc) := V (Proc.devRef .tc r)

end Cert.Proof.Pre

end
-- ==== Proof.Tails.lean ====
/-
  The ends of both programs: the projection, the bias and the features that are added.
-/
module

public import proofs.«01_k».proof.Proof.Pair
public import proofs.«01_k».proof.Proof.KHostB
public import proofs.«01_k».proof.Proof.RHost
public import Idealize.ShloMosaic.Lib.StableHlo.ReadAt

@[expose] public section

set_option maxHeartbeats 4000000

noncomputable section

namespace Cert.Proof.Pre

open Idealize.ShloMosaic
open Idealize.ShloMosaic.StableHlo
open Cert.Proof.Agg (Arr postOps)
open Cert.Proof.Ref (rPost)

variable {F : FTy → Type} [FloatOps F]

/-- The kernel's end. -/
theorem k_tail (U : KVal F) (a : Fin 900) (j : Fin 256) :
    (kat (after (postOps.drop 2) U) Cert.KernelIdeal.main_v1015 : Arr F Cert.KernelIdeal.S1x900x256 .f32) (ix3 0 a j)
      = FloatOps.addf (FloatOps.addf (Host.dotGeneral Cert.KernelIdeal.dot_S900x256_S256x256_S900x256_1_0_0_1_n_n none
            (kat U Cert.KernelIdeal.main_v1008 : Arr F Cert.KernelIdeal.S900x256 .f32) (kat U Cert.KernelIdeal.main_arg14 : Arr F Cert.KernelIdeal.S256x256 .f32) (ix2 a j))
          ((kat U Cert.KernelIdeal.main_arg15 : Arr F Cert.KernelIdeal.S256 .f32) (ix1 j)))
        ((kat U Cert.KernelIdeal.main_arg1 : Arr F Cert.KernelIdeal.S1x900x256 .f32) (ix3 0 a j)) := by
  unfold postOps kat
  dsimp only [List.drop_succ_cons, List.drop_zero]
  after_reads_at

/-- The reference's end. -/
theorem r_tail (U : RVal F) (a : Fin 900) (j : Fin 256) :
    (rat (after (rPost.drop 3) U) Cert.ReferenceIdeal.main_v531 : Arr F Cert.ReferenceIdeal.S1x900x256 .f32) (ix3 0 a j)
      = FloatOps.addf (FloatOps.addf (Host.dotGeneral Cert.ReferenceIdeal.dot_S900x256_S256x256_S900x256_1_0_0_1_n_n none
            (rat U Cert.ReferenceIdeal.main_v525 : Arr F Cert.ReferenceIdeal.S900x256 .f32) (rat U Cert.ReferenceIdeal.main_arg14 : Arr F Cert.ReferenceIdeal.S256x256 .f32) (ix2 a j))
          ((rat U Cert.ReferenceIdeal.main_arg15 : Arr F Cert.ReferenceIdeal.S256 .f32) (ix1 j)))
        ((rat U Cert.ReferenceIdeal.main_arg1 : Arr F Cert.ReferenceIdeal.S1x900x256 .f32) (ix3 0 a j)) := by
  unfold rPost rat
  dsimp only [List.drop_succ_cons, List.drop_zero]
  after_reads_at

/-- The kernel's end does not change what it projects. -/
theorem k_tail_keeps (U : KVal F) (a : Fin 900) (j : Fin 256) :
    (kat (after (postOps.drop 2) U) Cert.KernelIdeal.main_v1008 : Arr F Cert.KernelIdeal.S900x256 .f32) (ix2 a j)
      = (kat U Cert.KernelIdeal.main_v1008 : Arr F Cert.KernelIdeal.S900x256 .f32) (ix2 a j) := by
  unfold postOps kat
  dsimp only [List.drop_succ_cons, List.drop_zero]
  after_reads_at

theorem k_head_keeps (U : KVal F) (r : Ref Cert.KernelIdeal.sig .tc) (h : r ∉ Agg.postOpsW) : kat (after (postOps.take 2) U) r = kat U r :=
  after_of_writes_sub _ U (List.forall_iff_forall_mem.2 fun op h =>
    List.forall_iff_forall_mem.1 (forall_writes_sub_of_map (W := Agg.postOpsW) (ops := postOps) rfl) op (List.mem_of_mem_take h)) h

theorem r_head_keeps (U : RVal F) (r : Ref Cert.ReferenceIdeal.sig .tc) (h : r ∉ Ref.rPostW) : rat (after (rPost.take 3) U) r = rat U r :=
  after_of_writes_sub _ U (List.forall_iff_forall_mem.2 fun op h =>
    List.forall_iff_forall_mem.1 (forall_writes_sub_of_map (W := Ref.rPostW) (ops := rPost) rfl) op (List.mem_of_mem_take h)) h

/-- If the two are started alike and project the same, they end alike. -/
theorem tails (U : KVal F) (V : RVal F)
    (h : (kat (after (postOps.take 2) U) Cert.KernelIdeal.main_v1008 : Arr F Cert.KernelIdeal.S900x256 .f32) = rat (after (rPost.take 3) V) Cert.ReferenceIdeal.main_v525)
    (h1 : (kat U Cert.KernelIdeal.main_arg1 : Arr F Cert.KernelIdeal.S1x900x256 .f32) = rat V Cert.ReferenceIdeal.main_arg1)
    (h14 : (kat U Cert.KernelIdeal.main_arg14 : Arr F Cert.KernelIdeal.S256x256 .f32) = rat V Cert.ReferenceIdeal.main_arg14)
    (h15 : (kat U Cert.KernelIdeal.main_arg15 : Arr F Cert.KernelIdeal.S256 .f32) = rat V Cert.ReferenceIdeal.main_arg15) :
    (kat (after postOps U) Cert.KernelIdeal.main_v1015 : Arr F Cert.KernelIdeal.S1x900x256 .f32) = rat (after rPost V) Cert.ReferenceIdeal.main_v531 := by
  refine funext (α := Cert.KernelIdeal.S1x900x256.Idx) fun i => ?_
  obtain ⟨a, j, rfl⟩ : ∃ (a : Fin 900) (j : Fin 256), i = ix3 0 a j :=
    ⟨i 1, i 2, funext fun (b : Fin 3) => match b with | 0 => Subsingleton.elim (α := Fin 1) _ _ | 1 => rfl | 2 => rfl⟩
  have ek := k_tail (after (postOps.take 2) U) a j
  have er := r_tail (after (rPost.take 3) V) a j
  rw [← after_append, List.take_append_drop] at ek er
  refine ek.trans (Eq.trans ?_ er.symm)
  rw [h, k_head_keeps U Cert.KernelIdeal.main_arg1 (by decide), k_head_keeps U Cert.KernelIdeal.main_arg14 (by decide), k_head_keeps U Cert.KernelIdeal.main_arg15 (by decide),
    r_head_keeps V Cert.ReferenceIdeal.main_arg1 (by decide), r_head_keeps V Cert.ReferenceIdeal.main_arg14 (by decide), r_head_keeps V Cert.ReferenceIdeal.main_arg15 (by decide),
    h1, h14, h15]
  rfl

end Cert.Proof.Pre

end
-- ==== Proof.Final.lean ====
/-
  What is projected at the end is the same in both programs: the call's sum over an anchor's sample points, blocks and
  slots is the reference's sum over its sample points, cameras and levels.
-/
module

public import proofs.«01_k».proof.Proof.Levels
public import proofs.«01_k».proof.Proof.RefOut
public import proofs.«01_k».proof.Proof.Tails

@[expose] public section

set_option maxHeartbeats 4000000

noncomputable section

namespace Cert.Proof.Agg

open Cert.KernelIdeal Cert.KernelIdeal.Gen Cert.Proof.Lvl
open Idealize.ShloMosaic
open Idealize.ShloMosaic.StableHlo
open Cert.Proof.Ref (re)

/-- A sum over the blocks of a sample point is a sum over its cameras and levels. -/
theorem sum_cams (f : Fin 24 → EReal) :
    ∑ t : Fin 24, f t = ∑ c : Fin 6, (((f ⟨c.val * 4 + 0, by omega⟩ + f ⟨c.val * 4 + 1, by omega⟩) + f ⟨c.val * 4 + 2, by omega⟩) + f ⟨c.val * 4 + 3, by omega⟩) := by
  have e : ∑ t : Fin 24, f t = ∑ c : Fin 6, ∑ l : Fin 4, f ⟨c.val * 4 + l.val, by omega⟩ := by
    rw [← Fintype.sum_prod_type']
    refine (Fintype.sum_equiv (finProdFinEquiv (m := 6) (n := 4)) _ _ fun q => ?_).symm
    exact congrArg f (Fin.ext (by show q.1.val * 4 + q.2.val = q.2.val + 4 * q.1.val; omega))
  rw [e]
  refine Finset.sum_congr rfl fun c _ => ?_
  rw [Fin.sum_univ_four]
  rfl

/-- What both programs' levels start from is the same, and behaves. -/
structure Ready (U : Valuation τ sig (Elt Ideal)) (V : RMem) : Prop where
  cam : ∀ c, camW (lv0 U) c = BitVec.ofNat 32 c.val
  pt : ∀ p c a, Ref.ptF (Ref.st0 V) p c a = ptF (lv0 U) p c a
  real : ∀ p c a, IsReal (ptF (lv0 U) p c a)
  weight : ∀ (p : Fin 11700) (c : Fin 6) (l : Fin 4) (g : Fin 8), re ((Ref.st0 V (Proc.devRef .tc Cert.ReferenceIdeal.main_v131) : FVec Ideal Cert.ReferenceIdeal.S11700x6x4x8 .f32) (ix4 p c l g))
    = re ((lv0 U (Proc.devRef .tc main_v156) : FVec Ideal S11700x6x4x8 .f32) (ix4 p c l g))
  low : ∀ (p : Fin 11700) (c : Fin 6) (l : Fin 4) (g : Fin 8), 0 ≤ re ((lv0 U (Proc.devRef .tc main_v156) : FVec Ideal S11700x6x4x8 .f32) (ix4 p c l g))
  high : ∀ (p : Fin 11700) (c : Fin 6) (l : Fin 4) (g : Fin 8), re ((lv0 U (Proc.devRef .tc main_v156) : FVec Ideal S11700x6x4x8 .f32) (ix4 p c l g)) ≠ ⊤
  map0 : ∀ (c : Fin 6) (ch : Fin 256) (y : Fin 64) (x : Fin 176), (Ref.st0 V (Proc.devRef .tc Cert.ReferenceIdeal.main_v155) : FVec Ideal Cert.ReferenceIdeal.S6x256x64x176 .f32) (ix4 c ch y x)
    = (U (Proc.devRef .tc main_arg4) : FVec Ideal S1x6x256x64x176 .f32) (ix5 0 c ch y x)
  map1 : ∀ (c : Fin 6) (ch : Fin 256) (y : Fin 32) (x : Fin 88), (Ref.st0 V (Proc.devRef .tc Cert.ReferenceIdeal.main_v156) : FVec Ideal Cert.ReferenceIdeal.S6x256x32x88 .f32) (ix4 c ch y x)
    = (U (Proc.devRef .tc main_arg5) : FVec Ideal S1x6x256x32x88 .f32) (ix5 0 c ch y x)
  map2 : ∀ (c : Fin 6) (ch : Fin 256) (y : Fin 16) (x : Fin 44), (Ref.st0 V (Proc.devRef .tc Cert.ReferenceIdeal.main_v157) : FVec Ideal Cert.ReferenceIdeal.S6x256x16x44 .f32) (ix4 c ch y x)
    = (U (Proc.devRef .tc main_arg6) : FVec Ideal S1x6x256x16x44 .f32) (ix5 0 c ch y x)
  map3 : ∀ (c : Fin 6) (ch : Fin 256) (y : Fin 8) (x : Fin 22), (Ref.st0 V (Proc.devRef .tc Cert.ReferenceIdeal.main_v158) : FVec Ideal Cert.ReferenceIdeal.S6x256x8x22 .f32) (ix4 c ch y x)
    = (U (Proc.devRef .tc main_arg7) : FVec Ideal S1x6x256x8x22 .f32) (ix5 0 c ch y x)

variable {U : Valuation τ sig (Elt Ideal)} {V : RMem} (R : Ready U V)
include R

theorem Ready.lt (i : S11700x24.Idx) : ((after (front (F := Ideal)) U bA0 : Vec Ideal S11700x24 .i32) i).toNat < 87084 := number_lt U R.cam i

theorem Ready.level0 (p : Fin 11700) (c : Fin 6) (ch : Fin 256) :
    ∑ s : Fin 4, term (after (front (F := Ideal)) U bA0) (after (front (F := Ideal)) U bA1) (after (front (F := Ideal)) U bA2) R.lt p ⟨c.val * 4 + 0, by omega⟩ s ch
      = Ref.part0F V p ch c := by
  refine (level0_sum U (Ref.st0 V) p c ch R.lt R.cam (fun a => R.pt p c a) (R.real p c) (fun y x => R.map0 c ch y x) (R.low p c 0 _) (R.high p c 0 _)).trans ?_
  unfold Ref.part0F
  rw [R.weight]
  rfl

theorem Ready.level1 (p : Fin 11700) (c : Fin 6) (ch : Fin 256) :
    ∑ s : Fin 4, term (after (front (F := Ideal)) U bA0) (after (front (F := Ideal)) U bA1) (after (front (F := Ideal)) U bA2) R.lt p ⟨c.val * 4 + 1, by omega⟩ s ch
      = Ref.part1F V p ch c := by
  refine (level1_sum U (Ref.st1 V) p c ch R.lt R.cam (fun a => (congrFun (Ref.st1_start V Cert.ReferenceIdeal.main_v154 (by decide)) (ix3 p c a)).trans (R.pt p c a)) (R.real p c) (fun y x => (congrFun (Ref.st1_start V Cert.ReferenceIdeal.main_v156 (by decide)) (ix4 c ch y x)).trans (R.map1 c ch y x)) (R.low p c 1 _) (R.high p c 1 _)).trans ?_
  unfold Ref.part1F
  rw [R.weight]
  rfl

theorem Ready.level2 (p : Fin 11700) (c : Fin 6) (ch : Fin 256) :
    ∑ s : Fin 4, term (after (front (F := Ideal)) U bA0) (after (front (F := Ideal)) U bA1) (after (front (F := Ideal)) U bA2) R.lt p ⟨c.val * 4 + 2, by omega⟩ s ch
      = Ref.part2F V p ch c := by
  refine (level2_sum U (Ref.st2 V) p c ch R.lt R.cam (fun a => (congrFun (Ref.st2_start V Cert.ReferenceIdeal.main_v154 (by decide)) (ix3 p c a)).trans (R.pt p c a)) (R.real p c) (fun y x => (congrFun (Ref.st2_start V Cert.ReferenceIdeal.main_v157 (by decide)) (ix4 c ch y x)).trans (R.map2 c ch y x)) (R.low p c 2 _) (R.high p c 2 _)).trans ?_
  unfold Ref.part2F
  rw [R.weight]
  rfl

theorem Ready.level3 (p : Fin 11700) (c : Fin 6) (ch : Fin 256) :
    ∑ s : Fin 4, term (after (front (F := Ideal)) U bA0) (after (front (F := Ideal)) U bA1) (after (front (F := Ideal)) U bA2) R.lt p ⟨c.val * 4 + 3, by omega⟩ s ch
      = Ref.part3F V p ch c := by
  refine (level3_sum U (Ref.st3 V) p c ch R.lt R.cam (fun a => (congrFun (Ref.st3_start V Cert.ReferenceIdeal.main_v154 (by decide)) (ix3 p c a)).trans (R.pt p c a)) (R.real p c) (fun y x => (congrFun (Ref.st3_start V Cert.ReferenceIdeal.main_v158 (by decide)) (ix4 c ch y x)).trans (R.map3 c ch y x)) (R.low p c 3 _) (R.high p c 3 _)).trans ?_
  unfold Ref.part3F
  rw [R.weight]
  rfl

/-- What is projected. -/
theorem Ready.projected :
    (after (postOps (F := Ideal)) (afterCall (after preOps (after front U))) bRes : FVec Ideal S900x256 .f32)
      = (after ((Ref.rPost (F := Ideal)).take 3) (Ref.st4 V) (Proc.devRef .tc Cert.ReferenceIdeal.main_v525) : FVec Ideal Cert.ReferenceIdeal.S900x256 .f32) := by
  refine funext (α := S900x256.Idx) fun i => ?_
  obtain ⟨a, x, rfl⟩ : ∃ (a : Fin 900) (x : Fin 256), i = ix2 a x :=
    ⟨i 0, i 1, funext fun (b : Fin 2) => match b with | 0 => rfl | 1 => rfl⟩
  have ek : re ((after (postOps (F := Ideal)) (afterCall (after preOps (after front U))) bRes : FVec Ideal S900x256 .f32) (ix2 a x))
      = ∑ k : Fin 13, ∑ t : Fin 24, ∑ s : Fin 4, term (after (front (F := Ideal)) U bA0) (after (front (F := Ideal)) U bA1) (after (front (F := Ideal)) U bA2) R.lt ⟨a.val * 13 + k.val, by omega⟩ t s x :=
    result_at (after front U) R.lt a x
  have er : re ((after ((Ref.rPost (F := Ideal)).take 3) (Ref.st4 V) (Proc.devRef .tc Cert.ReferenceIdeal.main_v525) : FVec Ideal Cert.ReferenceIdeal.S900x256 .f32) (ix2 a x))
      = ∑ k : Fin 13, re ((Ref.st4 V (Proc.devRef .tc Cert.ReferenceIdeal.main_v523) : FVec Ideal Cert.ReferenceIdeal.S11700x256 .f32) (ix2 ⟨a.val * 13 + k.val, by omega⟩ x)) :=
    Ref.anchor_eq (Ref.st4 V) a x
  refine ek.trans (Eq.trans (Finset.sum_congr rfl fun k _ => ?_) er.symm)
  rw [Ref.levels_eq, sum_cams]
  refine Finset.sum_congr rfl fun c _ => ?_
  rw [R.level0, R.level1, R.level2, R.level3]

end Cert.Proof.Agg

end
-- ==== Proof.PreludeA.lean ====
/-
  Both programs compute the sample points and the softmax weights in the same way: the key points.
-/
module

public import proofs.«01_k».proof.Proof.KHostA
public import proofs.«01_k».proof.Proof.RHost
public import Idealize.ShloMosaic.Lib.StableHlo.ReadAt
public import proofs.«01_k».proof.Proof.Pair

@[expose] public section

set_option maxHeartbeats 4000000

noncomputable section

namespace Cert.Proof.Pre

open Idealize.ShloMosaic
open Idealize.ShloMosaic.StableHlo
open Cert.Proof.Agg (Arr k00 k01 k02 k03)
open Cert.Proof.Ref (r00 r01 r02 r03)

variable {F : FTy → Type} [FloatOps F]

/-- The key points, and the parts of the rotation. -/
theorem part0 (U : KVal F) (V : RVal F)
    (h0 : (kat U Cert.KernelIdeal.main_arg1 : Arr F Cert.KernelIdeal.S1x900x256 .f32) = rat V Cert.ReferenceIdeal.main_arg1)
    (h1 : (kat U Cert.KernelIdeal.main_arg2 : Arr F Cert.KernelIdeal.S1x900x11 .f32) = rat V Cert.ReferenceIdeal.main_arg2)
    (h2 : (kat U Cert.KernelIdeal.main_arg10 : Arr F Cert.KernelIdeal.S256x18 .f32) = rat V Cert.ReferenceIdeal.main_arg10)
    (h3 : (kat U Cert.KernelIdeal.main_arg11 : Arr F Cert.KernelIdeal.S18 .f32) = rat V Cert.ReferenceIdeal.main_arg11) :
    (kat (after (k00.take 53) U) Cert.KernelIdeal.main_v22 : Arr F Cert.KernelIdeal.S1x900x13x3 .f32) = rat (after (r00.take 53) V) Cert.ReferenceIdeal.main_v22
      ∧ (kat (after (k00.take 53) U) Cert.KernelIdeal.main_v30 : Arr F Cert.KernelIdeal.S1x900 .f32) = rat (after (r00.take 53) V) Cert.ReferenceIdeal.main_v30
      ∧ (kat (after (k00.take 53) U) Cert.KernelIdeal.main_v32 : Arr F Cert.KernelIdeal.S1x900 .f32) = rat (after (r00.take 53) V) Cert.ReferenceIdeal.main_v32
      ∧ (kat (after (k00.take 53) U) Cert.KernelIdeal.main_v34 : Arr F Cert.KernelIdeal.S1x900 .f32) = rat (after (r00.take 53) V) Cert.ReferenceIdeal.main_v34
      ∧ (kat (after (k00.take 53) U) Cert.KernelIdeal.main_v36 : Arr F Cert.KernelIdeal.S1x900 .f32) = rat (after (r00.take 53) V) Cert.ReferenceIdeal.main_v36 := by
  dsimp only [kat, rat] at h0 h1 h2 h3 ⊢
  unfold k00 r00
  dsimp only [List.take_succ_cons, List.drop_succ_cons, List.take_zero, List.drop_zero]
  generalize (fun (a : Arr F Cert.KernelIdeal.S1x900x7x3 .f32) (b : Arr F Cert.KernelIdeal.S1x900x6x3 .f32) => concatenate Cert.KernelIdeal.S1x900x13x3 2 [⟨Cert.KernelIdeal.S1x900x7x3, a⟩, ⟨Cert.KernelIdeal.S1x900x6x3, b⟩] Cert.KernelIdeal.Gen.concatenates_S1x900x7x3_S1x900x6x3_S1x900x13x3_d2) = f
  generalize (fun (a : Arr F Cert.ReferenceIdeal.S1x900x7x3 .f32) (b : Arr F Cert.ReferenceIdeal.S1x900x6x3 .f32) => concatenate Cert.ReferenceIdeal.S1x900x13x3 2 [⟨Cert.ReferenceIdeal.S1x900x7x3, a⟩, ⟨Cert.ReferenceIdeal.S1x900x6x3, b⟩] Cert.ReferenceIdeal.Gen.concatenates_S1x900x7x3_S1x900x6x3_S1x900x13x3_d2) = f'
  refine ⟨?_, ?_, ?_, ?_, ?_⟩
  all_goals after_reads_simp
  all_goals try simp only [h0, h1, h2, h3]
  all_goals rfl

/-- The first entries of the rotation. -/
theorem part1 (U : KVal F) (V : RVal F)
    (h0 : (kat U Cert.KernelIdeal.main_v22 : Arr F Cert.KernelIdeal.S1x900x13x3 .f32) = rat V Cert.ReferenceIdeal.main_v22)
    (h1 : (kat U Cert.KernelIdeal.main_v30 : Arr F Cert.KernelIdeal.S1x900 .f32) = rat V Cert.ReferenceIdeal.main_v30)
    (h2 : (kat U Cert.KernelIdeal.main_v32 : Arr F Cert.KernelIdeal.S1x900 .f32) = rat V Cert.ReferenceIdeal.main_v32)
    (h3 : (kat U Cert.KernelIdeal.main_v34 : Arr F Cert.KernelIdeal.S1x900 .f32) = rat V Cert.ReferenceIdeal.main_v34)
    (h4 : (kat U Cert.KernelIdeal.main_v36 : Arr F Cert.KernelIdeal.S1x900 .f32) = rat V Cert.ReferenceIdeal.main_v36) :
    (kat (after (k00.drop 53) U) Cert.KernelIdeal.main_v22 : Arr F Cert.KernelIdeal.S1x900x13x3 .f32) = rat (after (r00.drop 53) V) Cert.ReferenceIdeal.main_v22
      ∧ (kat (after (k00.drop 53) U) Cert.KernelIdeal.main_v30 : Arr F Cert.KernelIdeal.S1x900 .f32) = rat (after (r00.drop 53) V) Cert.ReferenceIdeal.main_v30
      ∧ (kat (after (k00.drop 53) U) Cert.KernelIdeal.main_v32 : Arr F Cert.KernelIdeal.S1x900 .f32) = rat (after (r00.drop 53) V) Cert.ReferenceIdeal.main_v32
      ∧ (kat (after (k00.drop 53) U) Cert.KernelIdeal.main_v34 : Arr F Cert.KernelIdeal.S1x900 .f32) = rat (after (r00.drop 53) V) Cert.ReferenceIdeal.main_v34
      ∧ (kat (after (k00.drop 53) U) Cert.KernelIdeal.main_v36 : Arr F Cert.KernelIdeal.S1x900 .f32) = rat (after (r00.drop 53) V) Cert.ReferenceIdeal.main_v36
      ∧ (kat (after (k00.drop 53) U) Cert.KernelIdeal.main_v43 : Arr F Cert.KernelIdeal.S1x900 .f32) = rat (after (r00.drop 53) V) Cert.ReferenceIdeal.main_v43
      ∧ (kat (after (k00.drop 53) U) Cert.KernelIdeal.main_v48 : Arr F Cert.KernelIdeal.S1x900 .f32) = rat (after (r00.drop 53) V) Cert.ReferenceIdeal.main_v48
      ∧ (kat (after (k00.drop 53) U) Cert.KernelIdeal.main_v49 : Arr F Cert.KernelIdeal.S1x900 .f32) = rat (after (r00.drop 53) V) Cert.ReferenceIdeal.main_v49 := by
  dsimp only [kat, rat] at h0 h1 h2 h3 h4 ⊢
  unfold k00 r00
  dsimp only [List.take_succ_cons, List.drop_succ_cons, List.take_zero, List.drop_zero]
  refine ⟨?_, ?_, ?_, ?_, ?_, ?_, ?_, ?_⟩
  all_goals after_reads_simp
  all_goals try simp only [h0, h1, h2, h3, h4]
  all_goals rfl

end Cert.Proof.Pre

end
-- ==== Proof.PreludeB.lean ====
/-
  Both programs compute the sample points and the softmax weights in the same way: the rotation.
-/
module

public import proofs.«01_k».proof.Proof.KHostA
public import proofs.«01_k».proof.Proof.RHost
public import Idealize.ShloMosaic.Lib.StableHlo.ReadAt
public import proofs.«01_k».proof.Proof.Pair

@[expose] public section

set_option maxHeartbeats 4000000

noncomputable section

namespace Cert.Proof.Pre

open Idealize.ShloMosaic
open Idealize.ShloMosaic.StableHlo
open Cert.Proof.Agg (Arr k00 k01 k02 k03)
open Cert.Proof.Ref (r00 r01 r02 r03)

variable {F : FTy → Type} [FloatOps F]

/-- The entries of the rotation. -/
theorem part2 (U : KVal F) (V : RVal F)
    (h0 : (kat U Cert.KernelIdeal.main_v22 : Arr F Cert.KernelIdeal.S1x900x13x3 .f32) = rat V Cert.ReferenceIdeal.main_v22)
    (h1 : (kat U Cert.KernelIdeal.main_v30 : Arr F Cert.KernelIdeal.S1x900 .f32) = rat V Cert.ReferenceIdeal.main_v30)
    (h2 : (kat U Cert.KernelIdeal.main_v32 : Arr F Cert.KernelIdeal.S1x900 .f32) = rat V Cert.ReferenceIdeal.main_v32)
    (h3 : (kat U Cert.KernelIdeal.main_v34 : Arr F Cert.KernelIdeal.S1x900 .f32) = rat V Cert.ReferenceIdeal.main_v34)
    (h4 : (kat U Cert.KernelIdeal.main_v36 : Arr F Cert.KernelIdeal.S1x900 .f32) = rat V Cert.ReferenceIdeal.main_v36)
    (h5 : (kat U Cert.KernelIdeal.main_v43 : Arr F Cert.KernelIdeal.S1x900 .f32) = rat V Cert.ReferenceIdeal.main_v43)
    (h6 : (kat U Cert.KernelIdeal.main_v48 : Arr F Cert.KernelIdeal.S1x900 .f32) = rat V Cert.ReferenceIdeal.main_v48)
    (h7 : (kat U Cert.KernelIdeal.main_v49 : Arr F Cert.KernelIdeal.S1x900 .f32) = rat V Cert.ReferenceIdeal.main_v49) :
    (kat (after (k01.take 56) U) Cert.KernelIdeal.main_v22 : Arr F Cert.KernelIdeal.S1x900x13x3 .f32) = rat (after (r01.take 56) V) Cert.ReferenceIdeal.main_v22
      ∧ (kat (after (k01.take 56) U) Cert.KernelIdeal.main_v88 : Arr F Cert.KernelIdeal.S1x900x1 .f32) = rat (after (r01.take 56) V) Cert.ReferenceIdeal.main_v88
      ∧ (kat (after (k01.take 56) U) Cert.KernelIdeal.main_v89 : Arr F Cert.KernelIdeal.S1x900x1 .f32) = rat (after (r01.take 56) V) Cert.ReferenceIdeal.main_v89
      ∧ (kat (after (k01.take 56) U) Cert.KernelIdeal.main_v90 : Arr F Cert.KernelIdeal.S1x900x1 .f32) = rat (after (r01.take 56) V) Cert.ReferenceIdeal.main_v90
      ∧ (kat (after (k01.take 56) U) Cert.KernelIdeal.main_v91 : Arr F Cert.KernelIdeal.S1x900x1 .f32) = rat (after (r01.take 56) V) Cert.ReferenceIdeal.main_v91
      ∧ (kat (after (k01.take 56) U) Cert.KernelIdeal.main_v92 : Arr F Cert.KernelIdeal.S1x900x1 .f32) = rat (after (r01.take 56) V) Cert.ReferenceIdeal.main_v92
      ∧ (kat (after (k01.take 56) U) Cert.KernelIdeal.main_v93 : Arr F Cert.KernelIdeal.S1x900x1 .f32) = rat (after (r01.take 56) V) Cert.ReferenceIdeal.main_v93
      ∧ (kat (after (k01.take 56) U) Cert.KernelIdeal.main_v94 : Arr F Cert.KernelIdeal.S1x900x1 .f32) = rat (after (r01.take 56) V) Cert.ReferenceIdeal.main_v94
      ∧ (kat (after (k01.take 56) U) Cert.KernelIdeal.main_v95 : Arr F Cert.KernelIdeal.S1x900x1 .f32) = rat (after (r01.take 56) V) Cert.ReferenceIdeal.main_v95
      ∧ (kat (after (k01.take 56) U) Cert.KernelIdeal.main_v96 : Arr F Cert.KernelIdeal.S1x900x1 .f32) = rat (after (r01.take 56) V) Cert.ReferenceIdeal.main_v96 := by
  dsimp only [kat, rat] at h0 h1 h2 h3 h4 h5 h6 h7 ⊢
  unfold k01 r01
  dsimp only [List.take_succ_cons, List.drop_succ_cons, List.take_zero, List.drop_zero]
  refine ⟨?_, ?_, ?_, ?_, ?_, ?_, ?_, ?_, ?_, ?_⟩
  all_goals after_reads_simp
  all_goals try simp only [h0, h1, h2, h3, h4, h5, h6, h7]
  all_goals rfl

end Cert.Proof.Pre

end
-- ==== Proof.PreludeC.lean ====
/-
  Both programs compute the sample points and the softmax weights in the same way: the points and the softmax.
-/
module

public import proofs.«01_k».proof.Proof.KHostA
public import proofs.«01_k».proof.Proof.RHost
public import Idealize.ShloMosaic.Lib.StableHlo.ReadAt
public import proofs.«01_k».proof.Proof.Pair

@[expose] public section

set_option maxHeartbeats 4000000

noncomputable section

namespace Cert.Proof.Pre

open Idealize.ShloMosaic
open Idealize.ShloMosaic.StableHlo
open Cert.Proof.Agg (Arr k00 k01 k02 k03)
open Cert.Proof.Ref (r00 r01 r02 r03)

variable {F : FTy → Type} [FloatOps F]

/-- The rotation's entries, side by side. -/
theorem part3 (U : KVal F) (V : RVal F)
    (h0 : (kat U Cert.KernelIdeal.main_v88 : Arr F Cert.KernelIdeal.S1x900x1 .f32) = rat V Cert.ReferenceIdeal.main_v88)
    (h1 : (kat U Cert.KernelIdeal.main_v89 : Arr F Cert.KernelIdeal.S1x900x1 .f32) = rat V Cert.ReferenceIdeal.main_v89)
    (h2 : (kat U Cert.KernelIdeal.main_v90 : Arr F Cert.KernelIdeal.S1x900x1 .f32) = rat V Cert.ReferenceIdeal.main_v90)
    (h3 : (kat U Cert.KernelIdeal.main_v91 : Arr F Cert.KernelIdeal.S1x900x1 .f32) = rat V Cert.ReferenceIdeal.main_v91)
    (h4 : (kat U Cert.KernelIdeal.main_v92 : Arr F Cert.KernelIdeal.S1x900x1 .f32) = rat V Cert.ReferenceIdeal.main_v92)
    (h5 : (kat U Cert.KernelIdeal.main_v93 : Arr F Cert.KernelIdeal.S1x900x1 .f32) = rat V Cert.ReferenceIdeal.main_v93)
    (h6 : (kat U Cert.KernelIdeal.main_v94 : Arr F Cert.KernelIdeal.S1x900x1 .f32) = rat V Cert.ReferenceIdeal.main_v94)
    (h7 : (kat U Cert.KernelIdeal.main_v95 : Arr F Cert.KernelIdeal.S1x900x1 .f32) = rat V Cert.ReferenceIdeal.main_v95)
    (h8 : (kat U Cert.KernelIdeal.main_v96 : Arr F Cert.KernelIdeal.S1x900x1 .f32) = rat V Cert.ReferenceIdeal.main_v96) :
    (kat (after ((k01.drop 56).take 1) U) Cert.KernelIdeal.main_v97 : Arr F Cert.KernelIdeal.S1x900x9 .f32) = rat (after ((r01.drop 56).take 1) V) Cert.ReferenceIdeal.main_v97 := by
  show concatenate Cert.KernelIdeal.S1x900x9 2 [⟨Cert.KernelIdeal.S1x900x1, kat U Cert.KernelIdeal.main_v88⟩, ⟨Cert.KernelIdeal.S1x900x1, kat U Cert.KernelIdeal.main_v89⟩, ⟨Cert.KernelIdeal.S1x900x1, kat U Cert.KernelIdeal.main_v90⟩, ⟨Cert.KernelIdeal.S1x900x1, kat U Cert.KernelIdeal.main_v91⟩, ⟨Cert.KernelIdeal.S1x900x1, kat U Cert.KernelIdeal.main_v92⟩, ⟨Cert.KernelIdeal.S1x900x1, kat U Cert.KernelIdeal.main_v93⟩, ⟨Cert.KernelIdeal.S1x900x1, kat U Cert.KernelIdeal.main_v94⟩, ⟨Cert.KernelIdeal.S1x900x1, kat U Cert.KernelIdeal.main_v95⟩, ⟨Cert.KernelIdeal.S1x900x1, kat U Cert.KernelIdeal.main_v96⟩] Cert.KernelIdeal.Gen.concatenates_S1x900x1_S1x900x1_S1x900x1_S1x900x1_S1x900x1_S1x900x1_S1x900x1_S1x900x1_S1x900x1_S1x900x9_d2
    = concatenate Cert.ReferenceIdeal.S1x900x9 2 [⟨Cert.ReferenceIdeal.S1x900x1, rat V Cert.ReferenceIdeal.main_v88⟩, ⟨Cert.ReferenceIdeal.S1x900x1, rat V Cert.ReferenceIdeal.main_v89⟩, ⟨Cert.ReferenceIdeal.S1x900x1, rat V Cert.ReferenceIdeal.main_v90⟩, ⟨Cert.ReferenceIdeal.S1x900x1, rat V Cert.ReferenceIdeal.main_v91⟩, ⟨Cert.ReferenceIdeal.S1x900x1, rat V Cert.ReferenceIdeal.main_v92⟩, ⟨Cert.ReferenceIdeal.S1x900x1, rat V Cert.ReferenceIdeal.main_v93⟩, ⟨Cert.ReferenceIdeal.S1x900x1, rat V Cert.ReferenceIdeal.main_v94⟩, ⟨Cert.ReferenceIdeal.S1x900x1, rat V Cert.ReferenceIdeal.main_v95⟩, ⟨Cert.ReferenceIdeal.S1x900x1, rat V Cert.ReferenceIdeal.main_v96⟩] Cert.ReferenceIdeal.Gen.concatenates_S1x900x1_S1x900x1_S1x900x1_S1x900x1_S1x900x1_S1x900x1_S1x900x1_S1x900x1_S1x900x1_S1x900x9_d2
  rw [h0, h1, h2, h3, h4, h5, h6, h7, h8]

/-- The rotation. -/
theorem part3b (U : KVal F) (V : RVal F)
    (h0 : (kat U Cert.KernelIdeal.main_v97 : Arr F Cert.KernelIdeal.S1x900x9 .f32) = rat V Cert.ReferenceIdeal.main_v97) :
    (kat (after (k01.drop 57) U) Cert.KernelIdeal.main_v100 : Arr F Cert.KernelIdeal.S1x900x1x3x3 .f32) = rat (after (r01.drop 57) V) Cert.ReferenceIdeal.main_v100 := by
  dsimp only [kat, rat] at h0 ⊢
  unfold k01 r01
  dsimp only [List.take_succ_cons, List.drop_succ_cons, List.take_zero, List.drop_zero]
  all_goals after_reads_simp
  all_goals try simp only [h0]
  all_goals rfl

/-- The key points are kept. -/
theorem part3c (U : KVal F) (V : RVal F)
    (h0 : (kat U Cert.KernelIdeal.main_v22 : Arr F Cert.KernelIdeal.S1x900x13x3 .f32) = rat V Cert.ReferenceIdeal.main_v22) :
    (kat (after (k01.drop 56) U) Cert.KernelIdeal.main_v22 : Arr F Cert.KernelIdeal.S1x900x13x3 .f32) = rat (after (r01.drop 56) V) Cert.ReferenceIdeal.main_v22 := by
  dsimp only [kat, rat] at h0 ⊢
  unfold k01 r01
  dsimp only [List.take_succ_cons, List.drop_succ_cons, List.take_zero, List.drop_zero]
  all_goals after_reads_simp
  all_goals try simp only [h0]
  all_goals rfl

/-- The sample points, and the softmax. -/
theorem part4 (U : KVal F) (V : RVal F)
    (h0 : (kat U Cert.KernelIdeal.main_v22 : Arr F Cert.KernelIdeal.S1x900x13x3 .f32) = rat V Cert.ReferenceIdeal.main_v22)
    (h1 : (kat U Cert.KernelIdeal.main_v100 : Arr F Cert.KernelIdeal.S1x900x1x3x3 .f32) = rat V Cert.ReferenceIdeal.main_v100)
    (h2 : (kat U Cert.KernelIdeal.main_arg1 : Arr F Cert.KernelIdeal.S1x900x256 .f32) = rat V Cert.ReferenceIdeal.main_arg1)
    (h3 : (kat U Cert.KernelIdeal.main_arg2 : Arr F Cert.KernelIdeal.S1x900x11 .f32) = rat V Cert.ReferenceIdeal.main_arg2)
    (h4 : (kat U Cert.KernelIdeal.main_arg3 : Arr F Cert.KernelIdeal.S1x900x256 .f32) = rat V Cert.ReferenceIdeal.main_arg3)
    (h5 : (kat U Cert.KernelIdeal.main_arg12 : Arr F Cert.KernelIdeal.S256x2496 .f32) = rat V Cert.ReferenceIdeal.main_arg12)
    (h6 : (kat U Cert.KernelIdeal.main_arg13 : Arr F Cert.KernelIdeal.S2496 .f32) = rat V Cert.ReferenceIdeal.main_arg13) :
    (kat (after (k02.take 31) U) Cert.KernelIdeal.main_v111 : Arr F Cert.KernelIdeal.S1x900x13x3 .f32) = rat (after (r02.take 31) V) Cert.ReferenceIdeal.main_v111
      ∧ (kat (after (k02.take 31) U) Cert.KernelIdeal.main_v128 : Arr F Cert.KernelIdeal.S1x900x312x8 .f32) = rat (after (r02.take 31) V) Cert.ReferenceIdeal.main_v128 := by
  dsimp only [kat, rat] at h0 h1 h2 h3 h4 h5 h6 ⊢
  unfold k02 r02
  dsimp only [List.take_succ_cons, List.drop_succ_cons, List.take_zero, List.drop_zero]
  refine ⟨?_, ?_⟩
  all_goals after_reads_simp
  all_goals try simp only [h0, h1, h2, h3, h4, h5, h6]
  all_goals rfl

/-- The points on the cameras. -/
theorem part5 (U : KVal F) (V : RVal F)
    (h0 : (kat U Cert.KernelIdeal.main_v111 : Arr F Cert.KernelIdeal.S1x900x13x3 .f32) = rat V Cert.ReferenceIdeal.main_v111)
    (h1 : (kat U Cert.KernelIdeal.main_arg8 : Arr F Cert.KernelIdeal.S1x6x4x4 .f32) = rat V Cert.ReferenceIdeal.main_arg8)
    (h2 : (kat U Cert.KernelIdeal.main_arg9 : Arr F Cert.KernelIdeal.S1x6x2 .f32) = rat V Cert.ReferenceIdeal.main_arg9) :
    (kat (after (k02.drop 31) U) Cert.KernelIdeal.main_v153 : Arr F Cert.KernelIdeal.S1x900x13x6x2 .f32) = rat (after (r02.drop 31) V) Cert.ReferenceIdeal.main_v153 := by
  dsimp only [kat, rat] at h0 h1 h2 ⊢
  unfold k02 r02
  dsimp only [List.take_succ_cons, List.drop_succ_cons, List.take_zero, List.drop_zero]
  generalize (fun (a : Arr F Cert.KernelIdeal.S1x900x13x3 .f32) (b : Arr F Cert.KernelIdeal.S1x900x13x1 .f32) => concatenate Cert.KernelIdeal.S1x900x13x4 3 [⟨Cert.KernelIdeal.S1x900x13x3, a⟩, ⟨Cert.KernelIdeal.S1x900x13x1, b⟩] Cert.KernelIdeal.Gen.concatenates_S1x900x13x3_S1x900x13x1_S1x900x13x4_d3) = f
  generalize (fun (a : Arr F Cert.ReferenceIdeal.S1x900x13x3 .f32) (b : Arr F Cert.ReferenceIdeal.S1x900x13x1 .f32) => concatenate Cert.ReferenceIdeal.S1x900x13x4 3 [⟨Cert.ReferenceIdeal.S1x900x13x3, a⟩, ⟨Cert.ReferenceIdeal.S1x900x13x1, b⟩] Cert.ReferenceIdeal.Gen.concatenates_S1x900x13x3_S1x900x13x1_S1x900x13x4_d3) = f'
  all_goals after_reads_simp
  all_goals try simp only [h0, h1, h2]
  all_goals rfl

/-- The softmax, by points. -/
theorem part6 (U : KVal F) (V : RVal F)
    (h0 : (kat U Cert.KernelIdeal.main_v128 : Arr F Cert.KernelIdeal.S1x900x312x8 .f32) = rat V Cert.ReferenceIdeal.main_v128) :
    (kat (after (k02.drop 31) U) Cert.KernelIdeal.main_v130 : Arr F Cert.KernelIdeal.S1x900x13x6x4x8 .f32) = rat (after (r02.drop 31) V) Cert.ReferenceIdeal.main_v130 := by
  dsimp only [kat, rat] at h0 ⊢
  unfold k02 r02
  dsimp only [List.take_succ_cons, List.drop_succ_cons, List.take_zero, List.drop_zero]
  all_goals after_reads_simp
  all_goals try simp only [h0]
  all_goals rfl

end Cert.Proof.Pre

end
-- ==== Proof.PreludeD.lean ====
/-
  The two prefixes whole: the sample points and the softmax weights agree.
-/
module

public import proofs.«01_k».proof.Proof.PreludeA
public import proofs.«01_k».proof.Proof.PreludeB
public import proofs.«01_k».proof.Proof.PreludeC
public import proofs.«01_k».proof.Proof.KHostB
public import proofs.«01_k».proof.Proof.RHost

@[expose] public section

set_option maxHeartbeats 4000000

noncomputable section

namespace Cert.Proof.Pre

open Idealize.ShloMosaic
open Idealize.ShloMosaic.StableHlo
open Cert.Proof.Agg (Arr k00 k01 k02 k03 kPre kPreW)
open Cert.Proof.Ref (r00 r01 r02 r03 rPre rPreW)

variable {F : FTy → Type} [FloatOps F]

/-- A part of the kernel's prefix leaves alone what the prefix does not write. -/
theorem k_part (L : List (HloOp Cert.KernelIdeal.τ Cert.KernelIdeal.sig (Elt F))) (hL : ∀ op ∈ L, op ∈ kPre) (U : KVal F) (r : Ref Cert.KernelIdeal.sig .tc) (hr : r ∉ kPreW) :
    kat (after L U) r = kat U r :=
  after_of_writes_sub L U (List.forall_iff_forall_mem.2 fun op h =>
    List.forall_iff_forall_mem.1 (forall_writes_sub_of_map (W := kPreW) (ops := kPre) rfl) op (hL op h)) hr

theorem k_in0 : ∀ op ∈ k00 (F := F), op ∈ kPre := fun op h => by unfold kPre; simp only [List.mem_append]; exact .inl (.inl (.inl h))
theorem k_in1 : ∀ op ∈ k01 (F := F), op ∈ kPre := fun op h => by unfold kPre; simp only [List.mem_append]; exact .inl (.inl (.inr h))
theorem k_in2 : ∀ op ∈ (k02 (F := F)).take 31, op ∈ kPre := fun op h => by unfold kPre; simp only [List.mem_append]; exact .inl (.inr (List.mem_of_mem_take h))

theorem k_pieces : kPre (F := F) = k00.take 53 ++ k00.drop 53 ++ k01.take 56 ++ k01.drop 56 ++ k02.take 31 ++ k02.drop 31 ++ k03 := by
  unfold kPre
  simp only [List.take_append_drop, List.append_assoc]

theorem k_pieces1 : (k01 (F := F)).drop 56 = ((k01.drop 56).take 1) ++ k01.drop 57 := by
  rw [← List.drop_drop (i := 1) (j := 56), List.take_append_drop]

/-- A part of the reference's prefix leaves alone what the prefix does not write. -/
theorem r_part (L : List (HloOp Cert.ReferenceIdeal.τ Cert.ReferenceIdeal.sig (Elt F))) (hL : ∀ op ∈ L, op ∈ rPre) (U : RVal F) (r : Ref Cert.ReferenceIdeal.sig .tc) (hr : r ∉ rPreW) :
    rat (after L U) r = rat U r :=
  after_of_writes_sub L U (List.forall_iff_forall_mem.2 fun op h =>
    List.forall_iff_forall_mem.1 (forall_writes_sub_of_map (W := rPreW) (ops := rPre) rfl) op (hL op h)) hr

theorem r_in0 : ∀ op ∈ r00 (F := F), op ∈ rPre := fun op h => by unfold rPre; simp only [List.mem_append]; exact .inl (.inl (.inl h))
theorem r_in1 : ∀ op ∈ r01 (F := F), op ∈ rPre := fun op h => by unfold rPre; simp only [List.mem_append]; exact .inl (.inl (.inr h))
theorem r_in2 : ∀ op ∈ (r02 (F := F)).take 31, op ∈ rPre := fun op h => by unfold rPre; simp only [List.mem_append]; exact .inl (.inr (List.mem_of_mem_take h))

theorem r_pieces : rPre (F := F) = r00.take 53 ++ r00.drop 53 ++ r01.take 56 ++ r01.drop 56 ++ r02.take 31 ++ r02.drop 31 ++ r03 := by
  unfold rPre
  simp only [List.take_append_drop, List.append_assoc]

theorem r_pieces1 : (r01 (F := F)).drop 56 = ((r01.drop 56).take 1) ++ r01.drop 57 := by
  rw [← List.drop_drop (i := 1) (j := 56), List.take_append_drop]

/-- After the first three lists: the key points and the rotations. -/
theorem upto1 (U : KVal F) (V : RVal F)
    (a1 : (kat U Cert.KernelIdeal.main_arg1 : Arr F Cert.KernelIdeal.S1x900x256 .f32) = rat V Cert.ReferenceIdeal.main_arg1)
    (a2 : (kat U Cert.KernelIdeal.main_arg2 : Arr F Cert.KernelIdeal.S1x900x11 .f32) = rat V Cert.ReferenceIdeal.main_arg2)
    (a3 : (kat U Cert.KernelIdeal.main_arg3 : Arr F Cert.KernelIdeal.S1x900x256 .f32) = rat V Cert.ReferenceIdeal.main_arg3)
    (a8 : (kat U Cert.KernelIdeal.main_arg8 : Arr F Cert.KernelIdeal.S1x6x4x4 .f32) = rat V Cert.ReferenceIdeal.main_arg8)
    (a9 : (kat U Cert.KernelIdeal.main_arg9 : Arr F Cert.KernelIdeal.S1x6x2 .f32) = rat V Cert.ReferenceIdeal.main_arg9)
    (a10 : (kat U Cert.KernelIdeal.main_arg10 : Arr F Cert.KernelIdeal.S256x18 .f32) = rat V Cert.ReferenceIdeal.main_arg10)
    (a11 : (kat U Cert.KernelIdeal.main_arg11 : Arr F Cert.KernelIdeal.S18 .f32) = rat V Cert.ReferenceIdeal.main_arg11)
    (a12 : (kat U Cert.KernelIdeal.main_arg12 : Arr F Cert.KernelIdeal.S256x2496 .f32) = rat V Cert.ReferenceIdeal.main_arg12)
    (a13 : (kat U Cert.KernelIdeal.main_arg13 : Arr F Cert.KernelIdeal.S2496 .f32) = rat V Cert.ReferenceIdeal.main_arg13) :
    (kat (after k01 (after k00 U)) Cert.KernelIdeal.main_v22 : Arr F Cert.KernelIdeal.S1x900x13x3 .f32) = rat (after r01 (after r00 V)) Cert.ReferenceIdeal.main_v22
      ∧ (kat (after k01 (after k00 U)) Cert.KernelIdeal.main_v100 : Arr F Cert.KernelIdeal.S1x900x1x3x3 .f32) = rat (after r01 (after r00 V)) Cert.ReferenceIdeal.main_v100 := by
  have ek0 : after k00 U = after (k00.drop 53) (after (k00.take 53) U) := by rw [← after_append, List.take_append_drop]
  have er0 : after r00 V = after (r00.drop 53) (after (r00.take 53) V) := by rw [← after_append, List.take_append_drop]
  have ek1 : ∀ U : KVal F, after k01 U = after (k01.drop 56) (after (k01.take 56) U) := fun U => by rw [← after_append, List.take_append_drop]
  have er1 : ∀ V : RVal F, after r01 V = after (r01.drop 56) (after (r01.take 56) V) := fun V => by rw [← after_append, List.take_append_drop]
  obtain ⟨b22, b30, b32, b34, b36⟩ := part0 U V a1 a2 a10 a11
  obtain ⟨c22, c30, c32, c34, c36, c43, c48, c49⟩ := part1 _ _ b22 b30 b32 b34 b36
  obtain ⟨d22, d88, d89, d90, d91, d92, d93, d94, d95, d96⟩ := part2 _ _ c22 c30 c32 c34 c36 c43 c48 c49
  have e97 := part3 _ _ d88 d89 d90 d91 d92 d93 d94 d95 d96
  have e100 := part3b _ _ e97
  have ek1' : ∀ U : KVal F, after k01 U = after (k01.drop 57) (after ((k01.drop 56).take 1) (after (k01.take 56) U)) := fun U => by
    rw [← after_append, ← k_pieces1, ← ek1]
  have er1' : ∀ V : RVal F, after r01 V = after (r01.drop 57) (after ((r01.drop 56).take 1) (after (r01.take 56) V)) := fun V => by
    rw [← after_append, ← r_pieces1, ← er1]
  have e22 := part3c _ _ d22
  rw [← ek1, ← er1, ← ek0, ← er0] at e22
  rw [← ek1', ← er1', ← ek0, ← er0] at e100
  exact ⟨e22, e100⟩

/-- After the fourth list too: the sample points and the weights. -/
theorem upto2 (U : KVal F) (V : RVal F)
    (a1 : (kat U Cert.KernelIdeal.main_arg1 : Arr F Cert.KernelIdeal.S1x900x256 .f32) = rat V Cert.ReferenceIdeal.main_arg1)
    (a2 : (kat U Cert.KernelIdeal.main_arg2 : Arr F Cert.KernelIdeal.S1x900x11 .f32) = rat V Cert.ReferenceIdeal.main_arg2)
    (a3 : (kat U Cert.KernelIdeal.main_arg3 : Arr F Cert.KernelIdeal.S1x900x256 .f32) = rat V Cert.ReferenceIdeal.main_arg3)
    (a8 : (kat U Cert.KernelIdeal.main_arg8 : Arr F Cert.KernelIdeal.S1x6x4x4 .f32) = rat V Cert.ReferenceIdeal.main_arg8)
    (a9 : (kat U Cert.KernelIdeal.main_arg9 : Arr F Cert.KernelIdeal.S1x6x2 .f32) = rat V Cert.ReferenceIdeal.main_arg9)
    (a10 : (kat U Cert.KernelIdeal.main_arg10 : Arr F Cert.KernelIdeal.S256x18 .f32) = rat V Cert.ReferenceIdeal.main_arg10)
    (a11 : (kat U Cert.KernelIdeal.main_arg11 : Arr F Cert.KernelIdeal.S18 .f32) = rat V Cert.ReferenceIdeal.main_arg11)
    (a12 : (kat U Cert.KernelIdeal.main_arg12 : Arr F Cert.KernelIdeal.S256x2496 .f32) = rat V Cert.ReferenceIdeal.main_arg12)
    (a13 : (kat U Cert.KernelIdeal.main_arg13 : Arr F Cert.KernelIdeal.S2496 .f32) = rat V Cert.ReferenceIdeal.main_arg13) :
    (kat (after k02 (after k01 (after k00 U))) Cert.KernelIdeal.main_v153 : Arr F Cert.KernelIdeal.S1x900x13x6x2 .f32) = rat (after r02 (after r01 (after r00 V))) Cert.ReferenceIdeal.main_v153
      ∧ (kat (after k02 (after k01 (after k00 U))) Cert.KernelIdeal.main_v130 : Arr F Cert.KernelIdeal.S1x900x13x6x4x8 .f32) = rat (after r02 (after r01 (after r00 V))) Cert.ReferenceIdeal.main_v130 := by
  obtain ⟨e22, e100⟩ := upto1 U V a1 a2 a3 a8 a9 a10 a11 a12 a13
  have ek2 : ∀ U : KVal F, after k02 U = after (k02.drop 31) (after (k02.take 31) U) := fun U => by rw [← after_append, List.take_append_drop]
  have er2 : ∀ V : RVal F, after r02 V = after (r02.drop 31) (after (r02.take 31) V) := fun V => by rw [← after_append, List.take_append_drop]
  have kk : ∀ r, r ∉ kPreW → kat (after k01 (after k00 U)) r = kat U r := fun r hr => (k_part k01 k_in1 _ r hr).trans (k_part k00 k_in0 _ r hr)
  have rr : ∀ r, r ∉ rPreW → rat (after r01 (after r00 V)) r = rat V r := fun r hr => (r_part r01 r_in1 _ r hr).trans (r_part r00 r_in0 _ r hr)
  obtain ⟨f111, f128⟩ := part4 _ _ e22 e100
    ((kk Cert.KernelIdeal.main_arg1 (by decide)).trans (a1.trans (rr Cert.ReferenceIdeal.main_arg1 (by decide)).symm))
    ((kk Cert.KernelIdeal.main_arg2 (by decide)).trans (a2.trans (rr Cert.ReferenceIdeal.main_arg2 (by decide)).symm))
    ((kk Cert.KernelIdeal.main_arg3 (by decide)).trans (a3.trans (rr Cert.ReferenceIdeal.main_arg3 (by decide)).symm))
    ((kk Cert.KernelIdeal.main_arg12 (by decide)).trans (a12.trans (rr Cert.ReferenceIdeal.main_arg12 (by decide)).symm))
    ((kk Cert.KernelIdeal.main_arg13 (by decide)).trans (a13.trans (rr Cert.ReferenceIdeal.main_arg13 (by decide)).symm))
  have g153 := part5 _ _ f111
    (((k_part (k02.take 31) k_in2 _ Cert.KernelIdeal.main_arg8 (by decide)).trans (kk Cert.KernelIdeal.main_arg8 (by decide))).trans
      (a8.trans ((r_part (r02.take 31) r_in2 _ Cert.ReferenceIdeal.main_arg8 (by decide)).trans (rr Cert.ReferenceIdeal.main_arg8 (by decide))).symm))
    (((k_part (k02.take 31) k_in2 _ Cert.KernelIdeal.main_arg9 (by decide)).trans (kk Cert.KernelIdeal.main_arg9 (by decide))).trans
      (a9.trans ((r_part (r02.take 31) r_in2 _ Cert.ReferenceIdeal.main_arg9 (by decide)).trans (rr Cert.ReferenceIdeal.main_arg9 (by decide))).symm))
  have g130 := part6 _ _ f128
  rw [← ek2, ← er2] at g153 g130
  exact ⟨g153, g130⟩

end Cert.Proof.Pre

end
-- ==== Proof.Args.lean ====
/-
  The arguments of both programs, which their first operations do not write.
-/
module

public import proofs.«01_k».proof.Proof.Pair

@[expose] public section

set_option maxHeartbeats 4000000

noncomputable section

namespace Cert.Proof.Pre

open Idealize.ShloMosaic
open Cert.Proof.Agg (kPreW)
open Cert.Proof.Ref (rPreW)

/-- The arguments, of the kernel -/
def kArgs : List (Ref Cert.KernelIdeal.sig .tc) := [Cert.KernelIdeal.main_arg0, Cert.KernelIdeal.main_arg1, Cert.KernelIdeal.main_arg2, Cert.KernelIdeal.main_arg3, Cert.KernelIdeal.main_arg4, Cert.KernelIdeal.main_arg5, Cert.KernelIdeal.main_arg6, Cert.KernelIdeal.main_arg7, Cert.KernelIdeal.main_arg8, Cert.KernelIdeal.main_arg9, Cert.KernelIdeal.main_arg10, Cert.KernelIdeal.main_arg11, Cert.KernelIdeal.main_arg12, Cert.KernelIdeal.main_arg13, Cert.KernelIdeal.main_arg14, Cert.KernelIdeal.main_arg15]
/-- and of the reference. -/
def rArgs : List (Ref Cert.ReferenceIdeal.sig .tc) := [Cert.ReferenceIdeal.main_arg0, Cert.ReferenceIdeal.main_arg1, Cert.ReferenceIdeal.main_arg2, Cert.ReferenceIdeal.main_arg3, Cert.ReferenceIdeal.main_arg4, Cert.ReferenceIdeal.main_arg5, Cert.ReferenceIdeal.main_arg6, Cert.ReferenceIdeal.main_arg7, Cert.ReferenceIdeal.main_arg8, Cert.ReferenceIdeal.main_arg9, Cert.ReferenceIdeal.main_arg10, Cert.ReferenceIdeal.main_arg11, Cert.ReferenceIdeal.main_arg12, Cert.ReferenceIdeal.main_arg13, Cert.ReferenceIdeal.main_arg14, Cert.ReferenceIdeal.main_arg15]

theorem kArgs_kept : ∀ r ∈ kArgs, r ∉ kPreW := by decide +kernel
theorem rArgs_kept : ∀ r ∈ rArgs, r ∉ rPreW := by decide +kernel

end Cert.Proof.Pre

end
-- ==== Proof.Starts.lean ====
/-
  What both programs' levels start from: the points, the weights, the cameras and the feature maps, element by element.
-/
module

public import proofs.«01_k».proof.Proof.Pair
public import proofs.«01_k».proof.Proof.KHostB
public import proofs.«01_k».proof.Proof.RHost
public import proofs.«01_k».proof.Proof.Reals
public import Idealize.ShloMosaic.Lib.StableHlo.ReadAt

@[expose] public section

set_option maxHeartbeats 4000000

noncomputable section

namespace Cert.Proof.Pre

open Idealize.ShloMosaic
open Idealize.ShloMosaic.StableHlo
open Cert.Proof.Agg (Arr k00 k01 k02 k03 kPre kPreW)
open Cert.Proof.Ref (r00 r01 r02 r03 rPre rPreW)

variable {F : FTy → Type} [FloatOps F]

/-- The kernel's clipped coordinates. -/
theorem k_clip (U : KVal F) : ∀ (a : Fin 900) (q : Fin 13) (c : Fin 6) (x : Fin 2), ∃ v : F .f32,
    (kat (after (k02.drop 56) U) Cert.KernelIdeal.main_v153 : Arr F Cert.KernelIdeal.S1x900x13x6x2 .f32) (ix5 0 a q c x)
      = FloatOps.minimumf (FloatOps.ofBits .f32 0x3F7FF972#32) (FloatOps.maximumf (FloatOps.ofBits .f32 0x0#32) v) := by
  intro a q c x
  unfold k02 kat
  dsimp only [List.take_succ_cons, List.drop_succ_cons, List.take_zero, List.drop_zero]
  refine ⟨(U (Proc.devRef .tc Cert.KernelIdeal.main_v151) : FVec F Cert.KernelIdeal.S1x6x900x13x2 .f32) (ix5 0 c a q x), ?_⟩
  after_reads_at
  rfl

/-- The kernel's weights, by point, camera and level. -/
theorem k_weight (U : KVal F) (p : Fin 11700) (c : Fin 6) (l : Fin 4) (g : Fin 8) :
    (kat (after (k02.drop 31 ++ k03) U) Cert.KernelIdeal.main_v156 : Arr F Cert.KernelIdeal.S11700x6x4x8 .f32) (ix4 p c l g)
      = (kat U Cert.KernelIdeal.main_v128 : Arr F Cert.KernelIdeal.S1x900x312x8 .f32) (ix4 0 ⟨p.val / 13, by omega⟩ ⟨c.val * 52 + l.val * 13 + p.val % 13, by omega⟩ g) := by
  unfold k02 k03 kat
  dsimp only [List.take_succ_cons, List.drop_succ_cons, List.take_zero, List.drop_zero, List.cons_append, List.nil_append]
  after_reads_at

/-- The reference's. -/
theorem r_weight (U : RVal F) (p : Fin 11700) (c : Fin 6) (l : Fin 4) (g : Fin 8) :
    (rat (after (r02.drop 31) U) Cert.ReferenceIdeal.main_v131 : Arr F Cert.ReferenceIdeal.S11700x6x4x8 .f32) (ix4 p c l g)
      = (rat U Cert.ReferenceIdeal.main_v128 : Arr F Cert.ReferenceIdeal.S1x900x312x8 .f32) (ix4 0 ⟨p.val / 13, by omega⟩ ⟨c.val * 52 + l.val * 13 + p.val % 13, by omega⟩ g) := by
  unfold r02 rat
  dsimp only [List.take_succ_cons, List.drop_succ_cons, List.take_zero, List.drop_zero, List.cons_append, List.nil_append]
  after_reads_at

/-- The cameras are numbered. -/
theorem k_cam (U : KVal F) (c : Fin 6) :
    (kat (after k03 U) Cert.KernelIdeal.main_v158 : Arr F Cert.KernelIdeal.S1x6 .i32) (ix2 0 c) = BitVec.ofNat 32 c.val := by
  unfold k03 kat
  after_reads_at

/-- The kernel's points, by sample point. -/
theorem k_point (U : KVal F) (p : Fin 11700) (c : Fin 6) (x : Fin 2) :
    (kat (after k03 U) Cert.KernelIdeal.main_v155 : Arr F Cert.KernelIdeal.S11700x6x2 .f32) (ix3 p c x)
      = (kat U Cert.KernelIdeal.main_v153 : Arr F Cert.KernelIdeal.S1x900x13x6x2 .f32) (ix5 0 ⟨p.val / 13, by omega⟩ ⟨p.val % 13, by omega⟩ c x) := by
  unfold k03 kat
  after_reads_at

/-- The reference's. -/
theorem r_point (U : RVal F) (p : Fin 11700) (c : Fin 6) (x : Fin 2) :
    (rat (after r03 U) Cert.ReferenceIdeal.main_v154 : Arr F Cert.ReferenceIdeal.S11700x6x2 .f32) (ix3 p c x)
      = (rat U Cert.ReferenceIdeal.main_v153 : Arr F Cert.ReferenceIdeal.S1x900x13x6x2 .f32) (ix5 0 ⟨p.val / 13, by omega⟩ ⟨p.val % 13, by omega⟩ c x) := by
  unfold r03 rat
  after_reads_at

/-- The reference's feature map of level 0. -/
theorem r_map0 (U : RVal F) (c : Fin 6) (ch : Fin 256) (y : Fin 64) (x : Fin 176) :
    (rat (after r03 U) Cert.ReferenceIdeal.main_v155 : Arr F Cert.ReferenceIdeal.S6x256x64x176 .f32) (ix4 c ch y x)
      = (rat U Cert.ReferenceIdeal.main_arg4 : Arr F Cert.ReferenceIdeal.S1x6x256x64x176 .f32) (ix5 0 c ch y x) := by
  unfold r03 rat
  after_reads_at

/-- The reference's feature map of level 1. -/
theorem r_map1 (U : RVal F) (c : Fin 6) (ch : Fin 256) (y : Fin 32) (x : Fin 88) :
    (rat (after r03 U) Cert.ReferenceIdeal.main_v156 : Arr F Cert.ReferenceIdeal.S6x256x32x88 .f32) (ix4 c ch y x)
      = (rat U Cert.ReferenceIdeal.main_arg5 : Arr F Cert.ReferenceIdeal.S1x6x256x32x88 .f32) (ix5 0 c ch y x) := by
  unfold r03 rat
  after_reads_at

/-- The reference's feature map of level 2. -/
theorem r_map2 (U : RVal F) (c : Fin 6) (ch : Fin 256) (y : Fin 16) (x : Fin 44) :
    (rat (after r03 U) Cert.ReferenceIdeal.main_v157 : Arr F Cert.ReferenceIdeal.S6x256x16x44 .f32) (ix4 c ch y x)
      = (rat U Cert.ReferenceIdeal.main_arg6 : Arr F Cert.ReferenceIdeal.S1x6x256x16x44 .f32) (ix5 0 c ch y x) := by
  unfold r03 rat
  after_reads_at

/-- The reference's feature map of level 3. -/
theorem r_map3 (U : RVal F) (c : Fin 6) (ch : Fin 256) (y : Fin 8) (x : Fin 22) :
    (rat (after r03 U) Cert.ReferenceIdeal.main_v158 : Arr F Cert.ReferenceIdeal.S6x256x8x22 .f32) (ix4 c ch y x)
      = (rat U Cert.ReferenceIdeal.main_arg7 : Arr F Cert.ReferenceIdeal.S1x6x256x8x22 .f32) (ix5 0 c ch y x) := by
  unfold r03 rat
  after_reads_at

end Cert.Proof.Pre

end
-- ==== Proof.Soft.lean ====
/-
  The softmax weights are not negative and not infinite where the logits are finite.
-/
module

public import proofs.«01_k».proof.Proof.KHostA
public import proofs.«01_k».proof.Proof.Pair
public import proofs.«01_k».proof.Proof.Reals
public import proofs.«01_k».proof.Proof.Pieces
public import Idealize.ShloMosaic.Lib.StableHlo.ReadAt

@[expose] public section

set_option maxHeartbeats 4000000

noncomputable section

namespace Cert.Proof.Pre

open Idealize.ShloMosaic
open Idealize.ShloMosaic.StableHlo
open Cert.KernelIdeal Cert.KernelIdeal.Gen Cert.Proof.Lvl
open Cert.Proof.Agg (Arr k02)

/-- An element as an extended real. -/
abbrev re (x : EReal) : EReal := x

/-! ## The greatest of a list -/

theorem foldl_ge {ι : Type} (g : ι → EReal) (L : List ι) (b : EReal) : b ≤ L.foldl (fun r n => max r (g n)) b := by
  induction L generalizing b with
  | nil => exact le_refl _
  | cons n L ih => exact le_trans (le_max_left _ _) (ih _)

theorem foldl_ge_of_mem {ι : Type} (g : ι → EReal) (L : List ι) (b : EReal) (n : ι) (h : n ∈ L) : g n ≤ L.foldl (fun r n => max r (g n)) b := by
  induction L generalizing b with
  | nil => cases h
  | cons m L ih =>
    rcases List.mem_cons.1 h with rfl | h
    · exact le_trans (le_max_right _ _) (foldl_ge g L _)
    · exact ih _ h

theorem foldl_ne_top {ι : Type} (g : ι → EReal) (L : List ι) (b : EReal) (hb : b ≠ ⊤) (h : ∀ n, g n ≠ ⊤) : L.foldl (fun r n => max r (g n)) b ≠ ⊤ := by
  induction L generalizing b with
  | nil => exact hb
  | cons m L ih =>
    refine ih _ ?_
    show max b (g m) ≠ ⊤
    rcases max_choice b (g m) with e | e <;> rw [e]
    · exact hb
    · exact h m

/-! ## The softmax -/

section AnyFloat
variable {F : FTy → Type} [FloatOps F]

/-- The greatest logit of an anchor and a head, -/
def softRed (x : FVec F S1x900x312x8 .f32) : FVec F S1x900x8 .f32 :=
  Host.reduce FloatOps.maximumf x (constant S_ .f32 0xFF800000#32) reducesTo_S1x900x312x8_S1x900x8_d2 h_S_
/-- the exponentials, -/
def softExp (x : FVec F S1x900x312x8 .f32) : FVec F S1x900x312x8 .f32 :=
  Host.exp (subf x (broadcastInDim S1x900x312x8 ![0, 1, 2, 3] bcast_S1x900x1x8_S1x900x312x8_0_1_2_3
    (broadcastInDim S1x900x1x8 ![0, 1, 3] bcast_S1x900x8_S1x900x1x8_0_1_3
      (maximumf (broadcastInDim S1x900x8 ![] bcast_S_S1x900x8 (constant S_ .f32 0xFF800000#32)) (softRed x)))))
/-- and their sum. -/
def softTot (x : FVec F S1x900x312x8 .f32) : FVec F S1x900x8 .f32 :=
  Host.reduceAdd (softExp x) (constant S_ .f32 0#32) reducesTo_S1x900x312x8_S1x900x8_d2 h_S_

theorem soft_at (U : KVal F) (a : Fin 900) (j : Fin 312) (g : Fin 8) :
    (after ((k02.take 31).drop 17) U (Proc.devRef .tc main_v128) : FVec F S1x900x312x8 .f32) (ix4 0 a j g)
      = FloatOps.hostDivf (FloatOps.hostUnary .exp (FloatOps.subf ((U (Proc.devRef .tc main_v117) : FVec F S1x900x312x8 .f32) (ix4 0 a j g))
            (FloatOps.maximumf (FloatOps.ofBits .f32 0xFF800000#32) (softRed (U (Proc.devRef .tc main_v117) : FVec F S1x900x312x8 .f32) (ix3 0 a g)))))
          (softTot (U (Proc.devRef .tc main_v117) : FVec F S1x900x312x8 .f32) (ix3 0 a g)) := by
  unfold k02
  dsimp only [List.take_succ_cons, List.drop_succ_cons, List.take_zero, List.drop_zero]
  after_reads_at
  unfold softTot softExp softRed
  rfl

theorem softExp_any (x : FVec F S1x900x312x8 .f32) (a : Fin 900) (j : Fin 312) (g : Fin 8) :
    softExp x (ix4 0 a j g) = FloatOps.hostUnary .exp (FloatOps.subf (x (ix4 0 a j g))
      (FloatOps.maximumf (FloatOps.ofBits .f32 0xFF800000#32) (softRed x (ix3 0 a g)))) := by
  unfold softExp
  generalize softRed x = r
  pointwise

theorem logit_at (U : KVal F) (a : Fin 900) (j : Fin 312) (g : Fin 8) :
    (after ((k02.take 31).take 17) U (Proc.devRef .tc main_v117) : FVec F S1x900x312x8 .f32) (ix4 0 a j g)
      = FloatOps.addf (Host.dotGeneral dot_S1x900x256_S256x2496_S1x900x2496_2_0_01_1_n_n none
            (addf (U (Proc.devRef .tc main_arg1) : FVec F S1x900x256 .f32) (U (Proc.devRef .tc main_arg3) : FVec F S1x900x256 .f32))
            (U (Proc.devRef .tc main_arg12) : FVec F S256x2496 .f32) (ix3 0 a ⟨j.val * 8 + g.val, by omega⟩))
          ((U (Proc.devRef .tc main_arg13) : FVec F S2496 .f32) (ix1 ⟨j.val * 8 + g.val, by omega⟩)) := by
  unfold k02
  dsimp only [List.take_succ_cons, List.drop_succ_cons, List.take_zero, List.drop_zero]
  after_reads_at

end AnyFloat

theorem drop_logit (i : S1x900x312x8.Idx) : reducesTo_S1x900x312x8_S1x900x8_d2.drop i = (ix3 (i 0) (i 1) (i 3) : S1x900x8.Idx) :=
  funext fun (b : Fin 3) => match b with | 0 => rfl | 1 => rfl | 2 => rfl

theorem softRed_ge (x : FVec Ideal S1x900x312x8 .f32) (a : Fin 900) (j : Fin 312) (g : Fin 8) :
    (x (ix4 0 a j g) : EReal) ≤ (softRed x (ix3 0 a g) : EReal) := by
  unfold softRed Host.reduce
  have e : x (ix4 0 a j g) = x (S1x900x312x8.rowMajor.symm (S1x900x312x8.rowMajor (ix4 0 a j g))) := by rw [Equiv.symm_apply_apply]
  rw [e]
  refine foldl_ge_of_mem (fun n => x (S1x900x312x8.rowMajor.symm n)) _ _ _ ?_
  refine List.mem_filter.2 ⟨List.mem_finRange _, ?_⟩
  rw [Equiv.symm_apply_apply, drop_logit]
  exact decide_eq_true rfl

theorem softRed_ne_top (x : FVec Ideal S1x900x312x8 .f32) (h : ∀ i, (x i : EReal) ≠ ⊤) (i : S1x900x8.Idx) : (softRed x i : EReal) ≠ ⊤ := by
  unfold softRed Host.reduce
  refine foldl_ne_top (fun n => x (S1x900x312x8.rowMajor.symm n)) _ _ ?_ (fun n => h _)
  show Ideal.ofBits .f32 0xFF800000#32 ≠ ⊤
  simp [Ideal.ofBits, Ideal.ieee]

theorem low : Ideal.ofBits .f32 0xFF800000#32 = ⊥ := by simp [Ideal.ofBits, Ideal.ieee]

theorem low_max (y : EReal) : max (Ideal.ofBits .f32 0xFF800000#32) y = y := by rw [low]; exact max_eq_right bot_le

theorem exp_low (u r : EReal) :
    (FloatOps.hostUnary (F := Ideal) (φ := .f32) .exp (FloatOps.subf (F := Ideal) (φ := .f32) u
      (FloatOps.maximumf (F := Ideal) (φ := .f32) (FloatOps.ofBits (F := Ideal) .f32 0xFF800000#32) r)) : EReal) = Ideal.exp (u - r) := by
  show Ideal.exp (u - max (Ideal.ofBits .f32 0xFF800000#32) r) = _
  rw [low_max]

theorem softTot_at (x : FVec Ideal S1x900x312x8 .f32) (a : Fin 900) (g : Fin 8) :
    (softTot x (ix3 0 a g) : EReal) = 0 + ∑ j : Fin 312, Ideal.exp ((x (ix4 0 a j g) : EReal) - (softRed x (ix3 0 a g) : EReal)) := by
  unfold softTot
  rw [ValueIdx.hostReduceAdd_apply]
  unfold Ideal.hostReduceAdd
  rw [sum_third reducesTo_S1x900x312x8_S1x900x8_d2 drop_logit]
  refine congrArg₂ (fun (y z : EReal) => y + z) Ideal.ofBits_zero_f32 (Finset.sum_congr rfl fun j _ => ?_)
  exact (softExp_any x a j g).trans (exp_low _ _)

/-- A softmax weight of finite logits. -/
theorem soft_ok (x : FVec Ideal S1x900x312x8 .f32) (h : ∀ a j g, IsReal (x (ix4 0 a j g) : EReal)) (ht : ∀ i, (x i : EReal) ≠ ⊤) (a : Fin 900) (j : Fin 312) (g : Fin 8) :
    0 ≤ Ideal.div (Ideal.exp ((x (ix4 0 a j g) : EReal) - (softRed x (ix3 0 a g) : EReal))) (softTot x (ix3 0 a g))
      ∧ Ideal.div (Ideal.exp ((x (ix4 0 a j g) : EReal) - (softRed x (ix3 0 a g) : EReal))) (softTot x (ix3 0 a g)) ≠ ⊤ := by
  rw [softTot_at]
  refine share _ _ _ (h _ _ _) (softRed_ge x a j g) ?_
  exact total_pos Finset.univ (fun j => (x (ix4 0 a j g) : EReal)) _ (softRed_ne_top x ht _) j (Finset.mem_univ _) (h _ _ _) (softRed_ge x a j g)

/-- A product of matrices of reals is real. -/
theorem dot_real (x : FVec Ideal S1x900x256 .f32) (y : FVec Ideal S256x2496 .f32) (hx : ∀ i, IsReal (x i)) (hy : ∀ i, IsReal (y i)) (i : S1x900x2496.Idx) :
    IsReal (Host.dotGeneral (F := Ideal) dot_S1x900x256_S256x2496_S1x900x2496_2_0_01_1_n_n none x y i) := by
  unfold Host.dotGeneral
  rw [Ideal.dotGeneral_apply]
  exact IsReal.sum _ _ fun k _ => IsReal.mul (hx _) (hy _)

/-- Finite arguments have finite logits, so the weights are not negative and not infinite. -/
theorem weights_ok (U : KVal Ideal)
    (h1 : ∀ i, IsReal ((U (Proc.devRef .tc main_arg1) : FVec Ideal S1x900x256 .f32) i))
    (h3 : ∀ i, IsReal ((U (Proc.devRef .tc main_arg3) : FVec Ideal S1x900x256 .f32) i))
    (h12 : ∀ i, IsReal ((U (Proc.devRef .tc main_arg12) : FVec Ideal S256x2496 .f32) i))
    (h13 : ∀ i, IsReal ((U (Proc.devRef .tc main_arg13) : FVec Ideal S2496 .f32) i)) (a : Fin 900) (j : Fin 312) (g : Fin 8) :
    0 ≤ re ((after (k02.take 31) U (Proc.devRef .tc main_v128) : FVec Ideal S1x900x312x8 .f32) (ix4 0 a j g))
      ∧ re ((after (k02.take 31) U (Proc.devRef .tc main_v128) : FVec Ideal S1x900x312x8 .f32) (ix4 0 a j g)) ≠ ⊤ := by
  have hr : ∀ (a : Fin 900) (j : Fin 312) (g : Fin 8), IsReal ((after ((k02.take 31).take 17) U (Proc.devRef .tc main_v117) : FVec Ideal S1x900x312x8 .f32) (ix4 0 a j g)) := by
    intro a j g
    rw [logit_at]
    refine IsReal.add ?_ (h13 _)
    exact dot_real _ _ (fun i => IsReal.add (h1 i) (h3 i)) h12 _
  have e := soft_at (after ((k02.take 31).take 17) U) a j g
  rw [← after_append, List.take_append_drop] at e
  rw [e]
  generalize (after ((k02.take 31).take 17) U (Proc.devRef .tc main_v117) : FVec Ideal S1x900x312x8 .f32) = x at hr
  have ht : ∀ i, re (x i) ≠ ⊤ := by
    intro i
    obtain ⟨a, j, g, rfl⟩ : ∃ (a : Fin 900) (j : Fin 312) (g : Fin 8), i = ix4 0 a j g :=
      ⟨i 1, i 2, i 3, funext fun (b : Fin 4) => match b with | 0 => Subsingleton.elim (α := Fin 1) _ _ | 1 => rfl | 2 => rfl | 3 => rfl⟩
    obtain ⟨r, hr⟩ := hr a j g
    rw [show re (x (ix4 0 a j g)) = _ from hr]; exact EReal.coe_ne_top r
  have k := soft_ok x hr ht a j g
  rw [← exp_low] at k
  exact k

end Cert.Proof.Pre

end
-- ==== Proof.Common.lean ====
/-
  Started with the same arguments, both programs' levels start from the same points and weights; the points are real,
  and the weights of finite logits are not negative and not infinite.
-/
module

public import proofs.«01_k».proof.Proof.PreludeD
public import proofs.«01_k».proof.Proof.Args
public import proofs.«01_k».proof.Proof.Starts
public import proofs.«01_k».proof.Proof.Soft
public import proofs.«01_k».proof.Proof.KLevel
public import proofs.«01_k».proof.Proof.RLevel

@[expose] public section

set_option maxHeartbeats 4000000

noncomputable section

namespace Cert.Proof.Pre

open Idealize.ShloMosaic
open Idealize.ShloMosaic.StableHlo
open Cert.Proof.Lvl
open Cert.Proof.Agg (Arr k00 k01 k02 k03 kPre kPreW)
open Cert.Proof.Ref (r00 r01 r02 r03 rPre rPreW)

variable {F : FTy → Type} [FloatOps F]

/-- Both programs are started with the same arguments. -/
structure Same (U : KVal F) (V : RVal F) : Prop where
  a1 : (kat U Cert.KernelIdeal.main_arg1 : Arr F Cert.KernelIdeal.S1x900x256 .f32) = rat V Cert.ReferenceIdeal.main_arg1
  a2 : (kat U Cert.KernelIdeal.main_arg2 : Arr F Cert.KernelIdeal.S1x900x11 .f32) = rat V Cert.ReferenceIdeal.main_arg2
  a3 : (kat U Cert.KernelIdeal.main_arg3 : Arr F Cert.KernelIdeal.S1x900x256 .f32) = rat V Cert.ReferenceIdeal.main_arg3
  a4 : (kat U Cert.KernelIdeal.main_arg4 : Arr F Cert.KernelIdeal.S1x6x256x64x176 .f32) = rat V Cert.ReferenceIdeal.main_arg4
  a5 : (kat U Cert.KernelIdeal.main_arg5 : Arr F Cert.KernelIdeal.S1x6x256x32x88 .f32) = rat V Cert.ReferenceIdeal.main_arg5
  a6 : (kat U Cert.KernelIdeal.main_arg6 : Arr F Cert.KernelIdeal.S1x6x256x16x44 .f32) = rat V Cert.ReferenceIdeal.main_arg6
  a7 : (kat U Cert.KernelIdeal.main_arg7 : Arr F Cert.KernelIdeal.S1x6x256x8x22 .f32) = rat V Cert.ReferenceIdeal.main_arg7
  a8 : (kat U Cert.KernelIdeal.main_arg8 : Arr F Cert.KernelIdeal.S1x6x4x4 .f32) = rat V Cert.ReferenceIdeal.main_arg8
  a9 : (kat U Cert.KernelIdeal.main_arg9 : Arr F Cert.KernelIdeal.S1x6x2 .f32) = rat V Cert.ReferenceIdeal.main_arg9
  a10 : (kat U Cert.KernelIdeal.main_arg10 : Arr F Cert.KernelIdeal.S256x18 .f32) = rat V Cert.ReferenceIdeal.main_arg10
  a11 : (kat U Cert.KernelIdeal.main_arg11 : Arr F Cert.KernelIdeal.S18 .f32) = rat V Cert.ReferenceIdeal.main_arg11
  a12 : (kat U Cert.KernelIdeal.main_arg12 : Arr F Cert.KernelIdeal.S256x2496 .f32) = rat V Cert.ReferenceIdeal.main_arg12
  a13 : (kat U Cert.KernelIdeal.main_arg13 : Arr F Cert.KernelIdeal.S2496 .f32) = rat V Cert.ReferenceIdeal.main_arg13
  a14 : (kat U Cert.KernelIdeal.main_arg14 : Arr F Cert.KernelIdeal.S256x256 .f32) = rat V Cert.ReferenceIdeal.main_arg14
  a15 : (kat U Cert.KernelIdeal.main_arg15 : Arr F Cert.KernelIdeal.S256 .f32) = rat V Cert.ReferenceIdeal.main_arg15

theorem k_in2' : ∀ op ∈ k02 (F := F), op ∈ kPre := fun op h => by unfold kPre; simp only [List.mem_append]; exact .inl (.inr h)
theorem r_in2' : ∀ op ∈ r02 (F := F), op ∈ rPre := fun op h => by unfold rPre; simp only [List.mem_append]; exact .inl (.inr h)

/-- The first two lists keep the arguments. -/
theorem kk (U : KVal F) (r : Ref Cert.KernelIdeal.sig .tc) (h : r ∈ kArgs) : kat (after k01 (after k00 U)) r = kat U r :=
  (k_part k01 k_in1 _ r (kArgs_kept r h)).trans (k_part k00 k_in0 _ r (kArgs_kept r h))
theorem rr (V : RVal F) (r : Ref Cert.ReferenceIdeal.sig .tc) (h : r ∈ rArgs) : rat (after r01 (after r00 V)) r = rat V r :=
  (r_part r01 r_in1 _ r (rArgs_kept r h)).trans (r_part r00 r_in0 _ r (rArgs_kept r h))

/-- The softmax weights agree. -/
theorem upto_soft (U : KVal F) (V : RVal F) (s : Same U V) :
    (kat (after (k02.take 31) (after k01 (after k00 U))) Cert.KernelIdeal.main_v128 : Arr F Cert.KernelIdeal.S1x900x312x8 .f32)
      = rat (after (r02.take 31) (after r01 (after r00 V))) Cert.ReferenceIdeal.main_v128 := by
  obtain ⟨e22, e100⟩ := upto1 U V s.a1 s.a2 s.a3 s.a8 s.a9 s.a10 s.a11 s.a12 s.a13
  exact (part4 _ _ e22 e100
    ((kk U Cert.KernelIdeal.main_arg1 (by decide)).trans (s.a1.trans (rr V Cert.ReferenceIdeal.main_arg1 (by decide)).symm))
    ((kk U Cert.KernelIdeal.main_arg2 (by decide)).trans (s.a2.trans (rr V Cert.ReferenceIdeal.main_arg2 (by decide)).symm))
    ((kk U Cert.KernelIdeal.main_arg3 (by decide)).trans (s.a3.trans (rr V Cert.ReferenceIdeal.main_arg3 (by decide)).symm))
    ((kk U Cert.KernelIdeal.main_arg12 (by decide)).trans (s.a12.trans (rr V Cert.ReferenceIdeal.main_arg12 (by decide)).symm))
    ((kk U Cert.KernelIdeal.main_arg13 (by decide)).trans (s.a13.trans (rr V Cert.ReferenceIdeal.main_arg13 (by decide)).symm))).2

theorem k_split (U : KVal F) : after kPre U = after k03 (after k02 (after k01 (after k00 U))) := by
  unfold kPre
  simp only [after_append]

theorem r_split (V : RVal F) : after rPre V = after r03 (after r02 (after r01 (after r00 V))) := by
  unfold rPre
  simp only [after_append]

theorem k_split' (U : KVal F) : after kPre U = after (k02.drop 31 ++ k03) (after (k02.take 31) (after k01 (after k00 U))) := by
  rw [k_split, after_append, ← after_append (k02.take 31), List.take_append_drop]

theorem r_split' (V : RVal F) : after r02 V = after (r02.drop 31) (after (r02.take 31) V) := by
  rw [← after_append, List.take_append_drop]

/-- The points agree. -/
theorem same_point (U : KVal F) (V : RVal F) (s : Same U V) (p : Fin 11700) (c : Fin 6) (x : Fin 2) :
    (kat (after kPre U) Cert.KernelIdeal.main_v155 : Arr F Cert.KernelIdeal.S11700x6x2 .f32) (ix3 p c x)
      = (rat (after rPre V) Cert.ReferenceIdeal.main_v154 : Arr F Cert.ReferenceIdeal.S11700x6x2 .f32) (ix3 p c x) := by
  rw [k_split, r_split, k_point, r_point]
  exact congrFun (upto2 U V s.a1 s.a2 s.a3 s.a8 s.a9 s.a10 s.a11 s.a12 s.a13).1 _

/-- A point of the kernel's is real. -/
theorem point_real (U : KVal Ideal) (p : Fin 11700) (c : Fin 6) (x : Fin 2) :
    IsReal ((kat (after kPre U) Cert.KernelIdeal.main_v155 : Arr Ideal Cert.KernelIdeal.S11700x6x2 .f32) (ix3 p c x)) := by
  rw [k_split, k_point, ← List.take_append_drop 56 (k02 (F := Ideal)), after_append]
  obtain ⟨v, hv⟩ := k_clip (after (k02.take 56) (after k01 (after k00 U))) ⟨p.val / 13, by omega⟩ ⟨p.val % 13, by omega⟩ c x
  rw [hv]
  exact clip_real v

/-- The kernel's cameras are numbered. -/
theorem cam_number (U : KVal F) (c : Fin 6) : Agg.camW (after kPre U) c = BitVec.ofNat 32 c.val := by
  rw [k_split]
  exact k_cam _ c

theorem weight_from (U : KVal F) (p : Fin 11700) (c : Fin 6) (l : Fin 4) (g : Fin 8) :
    (kat (after kPre U) Cert.KernelIdeal.main_v156 : Arr F Cert.KernelIdeal.S11700x6x4x8 .f32) (ix4 p c l g)
      = (kat (after (k02.take 31) (after k01 (after k00 U))) Cert.KernelIdeal.main_v128 : Arr F Cert.KernelIdeal.S1x900x312x8 .f32)
          (ix4 0 ⟨p.val / 13, by omega⟩ ⟨c.val * 52 + l.val * 13 + p.val % 13, by omega⟩ g) := by
  rw [k_split', k_weight]

theorem r_keeps_weight (U : RVal F) (p : Fin 11700) (c : Fin 6) (l : Fin 4) (g : Fin 8) :
    (rat (after r03 U) Cert.ReferenceIdeal.main_v131 : Arr F Cert.ReferenceIdeal.S11700x6x4x8 .f32) (ix4 p c l g)
      = (rat U Cert.ReferenceIdeal.main_v131 : Arr F Cert.ReferenceIdeal.S11700x6x4x8 .f32) (ix4 p c l g) := by
  unfold r03 rat
  after_reads_at

/-- The weights agree. -/
theorem same_weight (U : KVal F) (V : RVal F) (s : Same U V) (p : Fin 11700) (c : Fin 6) (l : Fin 4) (g : Fin 8) :
    (kat (after kPre U) Cert.KernelIdeal.main_v156 : Arr F Cert.KernelIdeal.S11700x6x4x8 .f32) (ix4 p c l g)
      = (rat (after rPre V) Cert.ReferenceIdeal.main_v131 : Arr F Cert.ReferenceIdeal.S11700x6x4x8 .f32) (ix4 p c l g) := by
  rw [weight_from, r_split, r_keeps_weight, r_split', r_weight]
  exact congrFun (upto_soft U V s) _

/-- The weights of finite arguments. -/
theorem weight_ok (U : KVal Ideal)
    (h1 : ∀ i, IsReal ((kat U Cert.KernelIdeal.main_arg1 : Arr Ideal Cert.KernelIdeal.S1x900x256 .f32) i))
    (h3 : ∀ i, IsReal ((kat U Cert.KernelIdeal.main_arg3 : Arr Ideal Cert.KernelIdeal.S1x900x256 .f32) i))
    (h12 : ∀ i, IsReal ((kat U Cert.KernelIdeal.main_arg12 : Arr Ideal Cert.KernelIdeal.S256x2496 .f32) i))
    (h13 : ∀ i, IsReal ((kat U Cert.KernelIdeal.main_arg13 : Arr Ideal Cert.KernelIdeal.S2496 .f32) i))
    (p : Fin 11700) (c : Fin 6) (l : Fin 4) (g : Fin 8) :
    0 ≤ re ((kat (after kPre U) Cert.KernelIdeal.main_v156 : Arr Ideal Cert.KernelIdeal.S11700x6x4x8 .f32) (ix4 p c l g))
      ∧ re ((kat (after kPre U) Cert.KernelIdeal.main_v156 : Arr Ideal Cert.KernelIdeal.S11700x6x4x8 .f32) (ix4 p c l g)) ≠ ⊤ := by
  rw [weight_from]
  refine weights_ok (after k01 (after k00 U)) (fun i => ?_) (fun i => ?_) (fun i => ?_) (fun i => ?_) _ _ g
  · exact (congrArg IsReal (congrFun (kk U Cert.KernelIdeal.main_arg1 (by decide)) i)).mpr (h1 i)
  · exact (congrArg IsReal (congrFun (kk U Cert.KernelIdeal.main_arg3 (by decide)) i)).mpr (h3 i)
  · exact (congrArg IsReal (congrFun (kk U Cert.KernelIdeal.main_arg12 (by decide)) i)).mpr (h12 i)
  · exact (congrArg IsReal (congrFun (kk U Cert.KernelIdeal.main_arg13 (by decide)) i)).mpr (h13 i)

/-- The feature map of level 0. -/
theorem same_map0 (U : KVal F) (V : RVal F) (s : Same U V) (c : Fin 6) (ch : Fin 256) (y : Fin 64) (x : Fin 176) :
    (rat (after rPre V) Cert.ReferenceIdeal.main_v155 : Arr F Cert.ReferenceIdeal.S6x256x64x176 .f32) (ix4 c ch y x)
      = (kat U Cert.KernelIdeal.main_arg4 : Arr F Cert.KernelIdeal.S1x6x256x64x176 .f32) (ix5 0 c ch y x) := by
  rw [r_split, r_map0, r_part r02 r_in2' _ Cert.ReferenceIdeal.main_arg4 (rArgs_kept _ (by decide)), rr V Cert.ReferenceIdeal.main_arg4 (by decide)]
  exact (congrFun s.a4 _).symm

/-- The feature map of level 1. -/
theorem same_map1 (U : KVal F) (V : RVal F) (s : Same U V) (c : Fin 6) (ch : Fin 256) (y : Fin 32) (x : Fin 88) :
    (rat (after rPre V) Cert.ReferenceIdeal.main_v156 : Arr F Cert.ReferenceIdeal.S6x256x32x88 .f32) (ix4 c ch y x)
      = (kat U Cert.KernelIdeal.main_arg5 : Arr F Cert.KernelIdeal.S1x6x256x32x88 .f32) (ix5 0 c ch y x) := by
  rw [r_split, r_map1, r_part r02 r_in2' _ Cert.ReferenceIdeal.main_arg5 (rArgs_kept _ (by decide)), rr V Cert.ReferenceIdeal.main_arg5 (by decide)]
  exact (congrFun s.a5 _).symm

/-- The feature map of level 2. -/
theorem same_map2 (U : KVal F) (V : RVal F) (s : Same U V) (c : Fin 6) (ch : Fin 256) (y : Fin 16) (x : Fin 44) :
    (rat (after rPre V) Cert.ReferenceIdeal.main_v157 : Arr F Cert.ReferenceIdeal.S6x256x16x44 .f32) (ix4 c ch y x)
      = (kat U Cert.KernelIdeal.main_arg6 : Arr F Cert.KernelIdeal.S1x6x256x16x44 .f32) (ix5 0 c ch y x) := by
  rw [r_split, r_map2, r_part r02 r_in2' _ Cert.ReferenceIdeal.main_arg6 (rArgs_kept _ (by decide)), rr V Cert.ReferenceIdeal.main_arg6 (by decide)]
  exact (congrFun s.a6 _).symm

/-- The feature map of level 3. -/
theorem same_map3 (U : KVal F) (V : RVal F) (s : Same U V) (c : Fin 6) (ch : Fin 256) (y : Fin 8) (x : Fin 22) :
    (rat (after rPre V) Cert.ReferenceIdeal.main_v158 : Arr F Cert.ReferenceIdeal.S6x256x8x22 .f32) (ix4 c ch y x)
      = (kat U Cert.KernelIdeal.main_arg7 : Arr F Cert.KernelIdeal.S1x6x256x8x22 .f32) (ix5 0 c ch y x) := by
  rw [r_split, r_map3, r_part r02 r_in2' _ Cert.ReferenceIdeal.main_arg7 (rArgs_kept _ (by decide)), rr V Cert.ReferenceIdeal.main_arg7 (by decide)]
  exact (congrFun s.a7 _).symm

end Cert.Proof.Pre

end
-- ==== Proof.RRun.lean ====
/-
  The reference's run: its result is what its operations leave, and its arguments are kept.
-/
module

public import proofs.«01_k».proof.Proof.RefOut
public import proofs.«01_k».proof.Proof.Common
public import Idealize.ShloMosaic.Lib.StableHlo.Run

@[expose] public section

set_option maxHeartbeats 4000000

noncomputable section

namespace Cert.Proof.Ref

open Cert.ReferenceIdeal Cert.ReferenceIdeal.Gen
open Idealize.ShloMosaic Idealize.SL.Sem
open Idealize.ShloMosaic.StableHlo

/-- What the reference writes after the levels' start; it comes after the sixteen arguments. -/
def lists : List (List (Ref sig .tc)) := [rX0W, rY0W, rG0W, rT0W, rS0W, rX1W, rY1W, rG1W, rT1W, rS1W, rX2W, rY2W, rG2W, rT2W, rS2W, rX3W, rY3W, rG3W, rT3W, rS3W, rPostW]

theorem rX0_late : ∀ w ∈ rX0W, 16 ≤ w.idx.val := by unfold rX0W; simp only [List.forall_mem_cons]; decide +kernel
theorem rY0_late : ∀ w ∈ rY0W, 16 ≤ w.idx.val := by unfold rY0W; simp only [List.forall_mem_cons]; decide +kernel
theorem rG0_late : ∀ w ∈ rG0W, 16 ≤ w.idx.val := by unfold rG0W; simp only [List.forall_mem_cons]; decide +kernel
theorem rT0_late : ∀ w ∈ rT0W, 16 ≤ w.idx.val := by unfold rT0W; simp only [List.forall_mem_cons]; decide +kernel
theorem rS0_late : ∀ w ∈ rS0W, 16 ≤ w.idx.val := by unfold rS0W; simp only [List.forall_mem_cons]; decide +kernel
theorem rX1_late : ∀ w ∈ rX1W, 16 ≤ w.idx.val := by unfold rX1W; simp only [List.forall_mem_cons]; decide +kernel
theorem rY1_late : ∀ w ∈ rY1W, 16 ≤ w.idx.val := by unfold rY1W; simp only [List.forall_mem_cons]; decide +kernel
theorem rG1_late : ∀ w ∈ rG1W, 16 ≤ w.idx.val := by unfold rG1W; simp only [List.forall_mem_cons]; decide +kernel
theorem rT1_late : ∀ w ∈ rT1W, 16 ≤ w.idx.val := by unfold rT1W; simp only [List.forall_mem_cons]; decide +kernel
theorem rS1_late : ∀ w ∈ rS1W, 16 ≤ w.idx.val := by unfold rS1W; simp only [List.forall_mem_cons]; decide +kernel
theorem rX2_late : ∀ w ∈ rX2W, 16 ≤ w.idx.val := by unfold rX2W; simp only [List.forall_mem_cons]; decide +kernel
theorem rY2_late : ∀ w ∈ rY2W, 16 ≤ w.idx.val := by unfold rY2W; simp only [List.forall_mem_cons]; decide +kernel
theorem rG2_late : ∀ w ∈ rG2W, 16 ≤ w.idx.val := by unfold rG2W; simp only [List.forall_mem_cons]; decide +kernel
theorem rT2_late : ∀ w ∈ rT2W, 16 ≤ w.idx.val := by unfold rT2W; simp only [List.forall_mem_cons]; decide +kernel
theorem rS2_late : ∀ w ∈ rS2W, 16 ≤ w.idx.val := by unfold rS2W; simp only [List.forall_mem_cons]; decide +kernel
theorem rX3_late : ∀ w ∈ rX3W, 16 ≤ w.idx.val := by unfold rX3W; simp only [List.forall_mem_cons]; decide +kernel
theorem rY3_late : ∀ w ∈ rY3W, 16 ≤ w.idx.val := by unfold rY3W; simp only [List.forall_mem_cons]; decide +kernel
theorem rG3_late : ∀ w ∈ rG3W, 16 ≤ w.idx.val := by unfold rG3W; simp only [List.forall_mem_cons]; decide +kernel
theorem rT3_late : ∀ w ∈ rT3W, 16 ≤ w.idx.val := by unfold rT3W; simp only [List.forall_mem_cons]; decide +kernel
theorem rS3_late : ∀ w ∈ rS3W, 16 ≤ w.idx.val := by unfold rS3W; simp only [List.forall_mem_cons]; decide +kernel
theorem rPost_late : ∀ w ∈ rPostW, 16 ≤ w.idx.val := by unfold rPostW; simp only [List.forall_mem_cons]; decide +kernel

theorem late : ∀ W ∈ lists, ∀ w ∈ W, 16 ≤ w.idx.val := by
  unfold lists
  simp only [List.forall_mem_cons]
  exact ⟨rX0_late, rY0_late, rG0_late, rT0_late, rS0_late, rX1_late, rY1_late, rG1_late, rT1_late, rS1_late, rX2_late, rY2_late, rG2_late, rT2_late, rS2_late, rX3_late, rY3_late, rG3_late, rT3_late, rS3_late, rPost_late, fun _ h => nomatch h⟩

theorem not_written (r : Ref sig .tc) (h : r.idx.val < 16) (W : List (Ref sig .tc)) (hW : W ∈ lists) : r ∉ W := fun hr =>
  absurd (late W hW r hr) (by omega)

theorem no_scoped_buffer : (Finset.univ.filter fun b : Ref sig .tc => b.isScoped) = ∅ := by decide
theorem no_scoped_semaphore : (Finset.univ.filter fun sm : SemLoc sig => sm.isScoped .tc) = ∅ := by decide

theorem args_first : ∀ r ∈ Pre.rArgs, r.idx.val < 16 := by unfold Pre.rArgs; simp only [List.forall_mem_cons]; exact ⟨by decide, by decide, by decide, by decide, by decide, by decide, by decide, by decide, by decide, by decide, by decide, by decide, by decide, by decide, by decide, by decide, fun _ h => nomatch h⟩

section AnyFloat
variable {F : FTy → Type} [FloatOps F]

/-- The reference keeps what it does not write, up to the projection -/
theorem st4_arg (V : Valuation τ sig (Elt F)) (r : Ref sig .tc) (h : r ∈ Pre.rArgs) : st4 V (Proc.devRef .tc r) = V (Proc.devRef .tc r) := by
  have n := not_written r (args_first r h)
  unfold lists at n
  simp only [List.forall_mem_cons] at n
  obtain ⟨nrX0, nrY0, nrG0, nrT0, nrS0, nrX1, nrY1, nrG1, nrT1, nrS1, nrX2, nrY2, nrG2, nrT2, nrS2, nrX3, nrY3, nrG3, nrT3, nrS3, nP, _⟩ := n
  unfold st4; rw [rS3_keeps _ r nrS3, half3_keeps V r nrX3 nrY3 nrG3 nrT3]
  unfold st3; rw [rS2_keeps _ r nrS2, half2_keeps V r nrX2 nrY2 nrG2 nrT2]
  unfold st2; rw [rS1_keeps _ r nrS1, half1_keeps V r nrX1 nrY1 nrG1 nrT1]
  unfold st1; rw [rS0_keeps _ r nrS0, half0_keeps V r nrX0 nrY0 nrG0 nrT0]
  unfold st0; rw [rPre_keeps _ r (Pre.rArgs_kept r h)]

/-- and to the end. -/
theorem all_arg (V : Valuation τ sig (Elt F)) (r : Ref sig .tc) (h : r ∈ Pre.rArgs) :
    after allOps V (Proc.devRef .tc r) = V (Proc.devRef .tc r) := by
  rw [all_eq, rPost_keeps _ r (not_written r (args_first r h) _ (by unfold lists; simp only [List.mem_cons, true_or, or_true])), st4_arg V r h]

theorem allOps_sub : ∀ op ∈ (allOps : List (HloOp τ sig (Elt F))), op.bufs ⊆ tcRefs τ sig := by
  refine List.forall_iff_forall_mem.1 ?_
  unfold allOps rPre rG0 rS0 rG1 rX2 rG2 rX3 rG3
  simp only [List.forall_append, r00_sub, r01_sub, r02_sub, r03_sub, rX0_sub, rY0_sub, r06_sub, r07_sub, rT0_sub, r09_sub, r10_sub, rX1_sub, rY1_sub, r13_sub, r14_sub, rT1_sub, rS1_sub, r17_sub, r18_sub, rY2_sub, r20_sub, r21_sub, rT2_sub, rS2_sub, r24_sub, r25_sub, rY3_sub, r27_sub, r28_sub, rT3_sub, rS3_sub, rPost_sub, and_self]

theorem r00_fresh : (r00 : List (HloOp τ sig (Elt F))).Forall fun op => op.fresh = ∅ := forall_fresh_of_map rfl
theorem r01_fresh : (r01 : List (HloOp τ sig (Elt F))).Forall fun op => op.fresh = ∅ := forall_fresh_of_map rfl
theorem r02_fresh : (r02 : List (HloOp τ sig (Elt F))).Forall fun op => op.fresh = ∅ := forall_fresh_of_map rfl
theorem r03_fresh : (r03 : List (HloOp τ sig (Elt F))).Forall fun op => op.fresh = ∅ := forall_fresh_of_map rfl
theorem rX0_fresh : (rX0 : List (HloOp τ sig (Elt F))).Forall fun op => op.fresh = ∅ := forall_fresh_of_map rfl
theorem rY0_fresh : (rY0 : List (HloOp τ sig (Elt F))).Forall fun op => op.fresh = ∅ := forall_fresh_of_map rfl
theorem r06_fresh : (r06 : List (HloOp τ sig (Elt F))).Forall fun op => op.fresh = ∅ := forall_fresh_of_map rfl
theorem r07_fresh : (r07 : List (HloOp τ sig (Elt F))).Forall fun op => op.fresh = ∅ := forall_fresh_of_map rfl
theorem rT0_fresh : (rT0 : List (HloOp τ sig (Elt F))).Forall fun op => op.fresh = ∅ := forall_fresh_of_map rfl
theorem r09_fresh : (r09 : List (HloOp τ sig (Elt F))).Forall fun op => op.fresh = ∅ := forall_fresh_of_map rfl
theorem r10_fresh : (r10 : List (HloOp τ sig (Elt F))).Forall fun op => op.fresh = ∅ := forall_fresh_of_map rfl
theorem rX1_fresh : (rX1 : List (HloOp τ sig (Elt F))).Forall fun op => op.fresh = ∅ := forall_fresh_of_map rfl
theorem rY1_fresh : (rY1 : List (HloOp τ sig (Elt F))).Forall fun op => op.fresh = ∅ := forall_fresh_of_map rfl
theorem r13_fresh : (r13 : List (HloOp τ sig (Elt F))).Forall fun op => op.fresh = ∅ := forall_fresh_of_map rfl
theorem r14_fresh : (r14 : List (HloOp τ sig (Elt F))).Forall fun op => op.fresh = ∅ := forall_fresh_of_map rfl
theorem rT1_fresh : (rT1 : List (HloOp τ sig (Elt F))).Forall fun op => op.fresh = ∅ := forall_fresh_of_map rfl
theorem rS1_fresh : (rS1 : List (HloOp τ sig (Elt F))).Forall fun op => op.fresh = ∅ := forall_fresh_of_map rfl
theorem r17_fresh : (r17 : List (HloOp τ sig (Elt F))).Forall fun op => op.fresh = ∅ := forall_fresh_of_map rfl
theorem r18_fresh : (r18 : List (HloOp τ sig (Elt F))).Forall fun op => op.fresh = ∅ := forall_fresh_of_map rfl
theorem rY2_fresh : (rY2 : List (HloOp τ sig (Elt F))).Forall fun op => op.fresh = ∅ := forall_fresh_of_map rfl
theorem r20_fresh : (r20 : List (HloOp τ sig (Elt F))).Forall fun op => op.fresh = ∅ := forall_fresh_of_map rfl
theorem r21_fresh : (r21 : List (HloOp τ sig (Elt F))).Forall fun op => op.fresh = ∅ := forall_fresh_of_map rfl
theorem rT2_fresh : (rT2 : List (HloOp τ sig (Elt F))).Forall fun op => op.fresh = ∅ := forall_fresh_of_map rfl
theorem rS2_fresh : (rS2 : List (HloOp τ sig (Elt F))).Forall fun op => op.fresh = ∅ := forall_fresh_of_map rfl
theorem r24_fresh : (r24 : List (HloOp τ sig (Elt F))).Forall fun op => op.fresh = ∅ := forall_fresh_of_map rfl
theorem r25_fresh : (r25 : List (HloOp τ sig (Elt F))).Forall fun op => op.fresh = ∅ := forall_fresh_of_map rfl
theorem rY3_fresh : (rY3 : List (HloOp τ sig (Elt F))).Forall fun op => op.fresh = ∅ := forall_fresh_of_map rfl
theorem r27_fresh : (r27 : List (HloOp τ sig (Elt F))).Forall fun op => op.fresh = ∅ := forall_fresh_of_map rfl
theorem r28_fresh : (r28 : List (HloOp τ sig (Elt F))).Forall fun op => op.fresh = ∅ := forall_fresh_of_map rfl
theorem rT3_fresh : (rT3 : List (HloOp τ sig (Elt F))).Forall fun op => op.fresh = ∅ := forall_fresh_of_map rfl
theorem rS3_fresh : (rS3 : List (HloOp τ sig (Elt F))).Forall fun op => op.fresh = ∅ := forall_fresh_of_map rfl
theorem rPost_fresh : (rPost : List (HloOp τ sig (Elt F))).Forall fun op => op.fresh = ∅ := forall_fresh_of_map rfl
theorem allOps_fresh : ∀ op ∈ (allOps : List (HloOp τ sig (Elt F))), op.fresh = ∅ := by
  refine List.forall_iff_forall_mem.1 ?_
  unfold allOps rPre rG0 rS0 rG1 rX2 rG2 rX3 rG3
  simp only [List.forall_append, r00_fresh, r01_fresh, r02_fresh, r03_fresh, rX0_fresh, rY0_fresh, r06_fresh, r07_fresh, rT0_fresh, r09_fresh, r10_fresh, rX1_fresh, rY1_fresh, r13_fresh, r14_fresh, rT1_fresh, rS1_fresh, r17_fresh, r18_fresh, rY2_fresh, r20_fresh, r21_fresh, rT2_fresh, rS2_fresh, r24_fresh, r25_fresh, rY3_fresh, r27_fresh, r28_fresh, rT3_fresh, rS3_fresh, rPost_fresh, and_self]

variable (m : (ℓ : Loc nD τ sig) → Buf (Elt F) ℓ) (ρ : Dev nD → PrngReg)

/-- A straight line of operations, run. -/
theorem run_list (ops : Dev nD → List (HloOp τ sig (Elt F))) (hm : ∀ d, main (F := F) d = seq (ops d))
    (hs : ∀ d, ∀ op ∈ ops d, op.bufs ⊆ tcRefs τ sig) (hf : ∀ d, ∀ op ∈ ops d, op.fresh = ∅) :
    θ_run (defs (F := F)) (onTc (τ := τ) (main (F := F))) ⟨m, fun _ => 0, ρ⟩ fun r => ∀ (d : Dev nD) (b : Ref sig .tc),
      r.2.mem ((d.tc : Thread nD τ).loc b) = after (ops d) (launchContents m d) (Proc.devRef .tc b) :=
  run_seq no_scoped_buffer no_scoped_semaphore (defs (F := F)) (main (F := F)) ops hm (fun d => List.forall_iff_forall_mem.2 (hs d)) m ρ hf

theorem run :
    θ_run (defs (F := F)) (onTc (τ := τ) (main (F := F))) ⟨m, fun _ => 0, ρ⟩ fun r =>
      ∀ c : Dev nD, r.2.mem ((c.tc : Thread nD τ).loc main_v531) = after allOps (launchContents m c) (Proc.devRef .tc main_v531)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15) := by
  refine (θ_run (defs (F := F)) _ _).mono (fun r hr c => ?_)
    (run_list m ρ (fun _ => allOps) main_eq (fun _ => allOps_sub) (fun _ => allOps_fresh))
  have k : ∀ x : Ref sig .tc, x ∈ Pre.rArgs → r.2.mem ((c.tc : Thread nD τ).loc x) = m ((c.tc : Thread nD τ).loc x) :=
    fun x hx => (hr c x).trans (all_arg _ x hx)
  exact ⟨hr c main_v531, k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide), k main_arg14 (by decide), k main_arg15 (by decide)⟩

end AnyFloat

end Cert.Proof.Ref

end
-- ==== Proof.Outcome.lean ====
/-
  Started with the same arguments, the weights' inputs real, both programs end with the same result.
-/
module

public import proofs.«01_k».proof.Proof.Final
public import proofs.«01_k».proof.Proof.Common
public import proofs.«01_k».proof.Proof.RRun
public import proofs.«01_k».proof.Proof.KHostB

@[expose] public section

set_option maxHeartbeats 4000000

noncomputable section

namespace Cert.Proof.Agg

open Cert.KernelIdeal Cert.KernelIdeal.Gen Cert.Proof.Lvl Cert.Proof.Pre
open Idealize.ShloMosaic
open Idealize.ShloMosaic.StableHlo
open Cert.Proof.Ref (re)

section AnyFloat
variable {F : FTy → Type} [FloatOps F]

theorem args_not_preOps : ∀ r ∈ argRefs, r ∉ preOpsW := by decide +kernel
theorem args_not_postOps : ∀ r ∈ argRefs, r ∉ postOpsW := by decide +kernel
theorem args_not_out : ∀ r ∈ argRefs, r ≠ main_v1006 := by decide +kernel

/-- What the operations after the call find, of what the launch finds. -/
def called (U : Valuation τ sig (Elt F)) : Valuation τ sig (Elt F) := afterCall (after preOps (after front U))

/-- The arguments are kept up to there -/
theorem called_arg (U : Valuation τ sig (Elt F)) (r : Ref sig .tc) (h : r ∈ argRefs) : called U (Proc.devRef .tc r) = U (Proc.devRef .tc r) := by
  unfold called
  rw [afterCall_ne _ _ (fun e => args_not_out r h (Proc.devRef_injective _ e)), preOps_keeps _ r (args_not_preOps r h), front_arg U r h]

/-- and to the end. -/
theorem end_arg (U : Valuation τ sig (Elt F)) (r : Ref sig .tc) (h : r ∈ argRefs) :
    after postOps (called U) (Proc.devRef .tc r) = U (Proc.devRef .tc r) :=
  (postOps_keeps _ r (args_not_postOps r h)).trans (called_arg U r h)

/-- The row numbers the call is handed name rows. -/
theorem called_lt (U : Valuation τ sig (Elt F)) (x : S1158144.Idx) :
    ((after (front ++ preOps) U bI : Vec F S1158144 .i32) x).toNat < 348336 := by
  rw [after_append]
  exact call_I_lt (after front U) (number_lt U (Pre.cam_number U)) x

end AnyFloat

theorem ready (U : KVal Ideal) (V : RVal Ideal) (s : Same U V)
    (h1 : ∀ i, IsReal ((kat U main_arg1 : Arr Ideal S1x900x256 .f32) i))
    (h3 : ∀ i, IsReal ((kat U main_arg3 : Arr Ideal S1x900x256 .f32) i))
    (h12 : ∀ i, IsReal ((kat U main_arg12 : Arr Ideal S256x2496 .f32) i))
    (h13 : ∀ i, IsReal ((kat U main_arg13 : Arr Ideal S2496 .f32) i)) : Ready U V where
  cam := Pre.cam_number U
  pt p c a := (same_point U V s p c a).symm
  real p c a := point_real U p c a
  weight p c l g := (same_weight U V s p c l g).symm
  low p c l g := (weight_ok U h1 h3 h12 h13 p c l g).1
  high p c l g := (weight_ok U h1 h3 h12 h13 p c l g).2
  map0 := same_map0 U V s
  map1 := same_map1 U V s
  map2 := same_map2 U V s
  map3 := same_map3 U V s

/-- The results agree. -/
theorem same_result (U : KVal Ideal) (V : RVal Ideal) (s : Same U V)
    (h1 : ∀ i, IsReal ((kat U main_arg1 : Arr Ideal S1x900x256 .f32) i))
    (h3 : ∀ i, IsReal ((kat U main_arg3 : Arr Ideal S1x900x256 .f32) i))
    (h12 : ∀ i, IsReal ((kat U main_arg12 : Arr Ideal S256x2496 .f32) i))
    (h13 : ∀ i, IsReal ((kat U main_arg13 : Arr Ideal S2496 .f32) i)) :
    (kat (after postOps (called U)) main_v1015 : Arr Ideal S1x900x256 .f32)
      = rat (after Ref.allOps V) Cert.ReferenceIdeal.main_v531 := by
  rw [Ref.all_eq]
  have hp := (ready U V s h1 h3 h12 h13).projected
  refine tails (called U) (Ref.st4 V) (Eq.trans ?_ hp) ?_ ?_ ?_
  · refine funext (α := S900x256.Idx) fun i => ?_
    obtain ⟨a, x, rfl⟩ : ∃ (a : Fin 900) (x : Fin 256), i = ix2 a x :=
      ⟨i 0, i 1, funext fun (b : Fin 2) => match b with | 0 => rfl | 1 => rfl⟩
    have e := k_tail_keeps (after ((postOps (F := Ideal)).take 2) (called U)) a x
    rw [← after_append, List.take_append_drop] at e
    exact e.symm
  · exact (called_arg U main_arg1 (by decide)).trans (s.a1.trans (Ref.st4_arg V Cert.ReferenceIdeal.main_arg1 (by decide)).symm)
  · exact (called_arg U main_arg14 (by decide)).trans (s.a14.trans (Ref.st4_arg V Cert.ReferenceIdeal.main_arg14 (by decide)).symm)
  · exact (called_arg U main_arg15 (by decide)).trans (s.a15.trans (Ref.st4_arg V Cert.ReferenceIdeal.main_arg15 (by decide)).symm)

end Cert.Proof.Agg

end
-- ==== Proof.KRun.lean ====
/-
  The kernel's run, read at its arguments and its result.
-/
module

public import proofs.«01_k».proof.Proof.Outcome
public import Idealize.ShloMosaic.Lib.Pipeline.FrameTail

@[expose] public section

set_option maxHeartbeats 4000000

noncomputable section

namespace Cert.Proof

open Cert.KernelIdeal Cert.KernelIdeal.Gen Cert.Proof.Agg Cert.Proof.Lvl
open Idealize.ShloMosaic Idealize.SL.Sem
open Idealize.ShloMosaic.StableHlo

section Run
variable {F : FTy → Type} [FloatOps F] [∀ e, Nonempty (Elt F e)]
variable (m : (ℓ : Loc nD τ sig) → Buf (Elt F) ℓ) (ρ : Dev nD → PrngReg)

/-- The result, of what the launch finds on a device. -/
def result (c : Dev nD) : Vec F S1x900x256 .f32 := after postOps (called (launchContents m c)) (Proc.devRef .tc main_v1015)

/-- No argument is a launch's own buffer. -/
theorem args_unscoped : ∀ r ∈ argRefs, r.isScoped = false := by decide +kernel

theorem front_bufs : ∀ op ∈ front ++ preOps (F := F), op.bufs ⊆ StableHlo.tcRefs τ sig := by
  refine List.forall_iff_forall_mem.1 ?_
  unfold front kPre kI0 kW0 kI1 kW1 kI2 kW2 kI3 kW3 kS0
  simp only [List.forall_append, k00_sub, k01_sub, k02_sub, k03_sub, k04_sub, k05_sub, k06_sub, k07_sub, k08_sub, k09_sub, k10_sub, k11_sub, k12_sub, k13_sub, k14_sub, k15_sub, k16_sub, k17_sub, k18_sub, k19_sub, k20_sub, k21_sub, k22_sub, k23_sub, k24_sub, k25_sub, k26_sub, k27_sub, k28_sub, k29_sub, kS1_sub, kS2_sub, kG0_sub, kG1_sub, kG2_sub, kG3_sub, kCat_sub, preOps_sub, and_self]
theorem front_news : ∀ op ∈ front ++ preOps (F := F), op.fresh = ∅ := by
  refine List.forall_iff_forall_mem.1 ?_
  unfold front kPre kI0 kW0 kI1 kW1 kI2 kW2 kI3 kW3 kS0
  simp only [List.forall_append, k00_fresh, k01_fresh, k02_fresh, k03_fresh, k04_fresh, k05_fresh, k06_fresh, k07_fresh, k08_fresh, k09_fresh, k10_fresh, k11_fresh, k12_fresh, k13_fresh, k14_fresh, k15_fresh, k16_fresh, k17_fresh, k18_fresh, k19_fresh, k20_fresh, k21_fresh, k22_fresh, k23_fresh, k24_fresh, k25_fresh, k26_fresh, k27_fresh, k28_fresh, k29_fresh, kS1_fresh, kS2_fresh, kG0_fresh, kG1_fresh, kG2_fresh, kG3_fresh, kCat_fresh, preOps_fresh, and_self]
theorem post_bufs : ∀ op ∈ postOps (F := F), op.bufs ⊆ StableHlo.tcRefs τ sig := List.forall_iff_forall_mem.1 (postOps_sub (F := F))
theorem post_news : ∀ op ∈ postOps (F := F), op.fresh = ∅ := List.forall_iff_forall_mem.1 (postOps_fresh (F := F))

/-- The program's run, of the operations before the call and after it. -/
theorem run_around (pre post : List (HloOp τ sig (Elt F)))
    (hpre : ∀ op ∈ pre, op.bufs ⊆ StableHlo.tcRefs τ sig) (hpost : ∀ op ∈ post, op.bufs ⊆ StableHlo.tcRefs τ sig)
    (hfpre : ∀ op ∈ pre, op.fresh = ∅) (hfpost : ∀ op ∈ post, op.fresh = ∅)
    (hm : ∀ d, main (F := F) d = (StableHlo.seq pre >>= fun _ => (K (F := F)).run d 0 >>= fun _ => StableHlo.seq post))
    (hI : ∀ (d : Dev nD) (x : S1158144.Idx), ((after pre (launchContents m d) bI : Vec F S1158144 .i32) x).toNat < 348336) :
    θ_run (defs (F := F)) (threads (F := F)) ⟨m, fun _ => 0, ρ⟩ fun r =>
      (∀ (c : Dev nD) (x : Ref sig .tc), x.isScoped = false →
        r.2.mem ((c.tc : Thread nD τ).loc x) = after post (afterCall (after pre (launchContents m c))) (Proc.devRef .tc x))
      ∧ r.2.sem = fun _ => 0 :=
  (θ_run (defs (F := F)) (threads (F := F)) _).mono (fun _ hr => ⟨fun c _ hs => hr.1 c _ (Pipeline.devRef_mem_ucRefs hs), hr.2⟩)
    (run_main pre post m ρ (List.forall_iff_forall_mem.2 hpre) (List.forall_iff_forall_mem.2 hpost) (List.forall_iff_forall_mem.2 hfpre)
      (List.forall_iff_forall_mem.2 hfpost) hm hI)

theorem run :
    θ_run (defs (F := F)) (threads (F := F)) ⟨m, fun _ => 0, ρ⟩ fun r =>
      (∀ c : Dev nD, r.2.mem ((c.tc : Thread nD τ).loc main_v1015) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15))
      ∧ r.2.sem = fun _ => 0 := by
  refine (θ_run (defs (F := F)) threads _).mono (fun r hr => ⟨fun c => ?_, hr.2⟩)
    (run_around m ρ (front ++ preOps) postOps front_bufs post_bufs front_news post_news main_eq (fun d => called_lt (launchContents m d)))
  have e : ∀ x : Ref sig .tc, x.isScoped = false →
      r.2.mem ((c.tc : Thread nD τ).loc x) = after postOps (called (launchContents m c)) (Proc.devRef .tc x) := fun x hs =>
    (hr.1 c x hs).trans (congrArg (fun W => after postOps (afterCall W) (Proc.devRef .tc x)) (StableHlo.after_append _ _ _))
  have k : ∀ x : Ref sig .tc, x ∈ argRefs → r.2.mem ((c.tc : Thread nD τ).loc x) = m ((c.tc : Thread nD τ).loc x) := fun x hx =>
    (e x (args_unscoped x hx)).trans (end_arg _ x hx)
  exact ⟨e main_v1015 rfl, k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide), k main_arg14 (by decide), k main_arg15 (by decide)⟩

end Run

end Cert.Proof

end
-- ==== Proof.Claims.lean ====
/-
  The precondition as real numbers; and the claims.
-/
module

public import proofs.«01_k».proof.Defs
public import proofs.«01_k».proof.Proof.KFrame
public import proofs.«01_k».proof.Proof.KRun
public import Idealize.ShloMosaic.Lib.ReduceAll
public import Idealize.ShloMosaic.Lib.WordArith
public import Idealize.ShloMosaic.Lib.WordCmp

@[expose] public section

set_option maxHeartbeats 4000000

noncomputable section

namespace Cert.Proof

open Cert.KernelIdeal Cert.KernelIdeal.Gen Cert.Proof.Agg Cert.Proof.Lvl
open Idealize.ShloMosaic Idealize.SL.Sem
open Idealize.ShloMosaic.StableHlo (after launchContents)

/-- What the precondition's operations ask of their shapes. -/
instance factsPre : Cert.Pre_weight_inputs_finite.Facts where
  bcast_S_S1x900x256 := by decide
  reducesTo_S1x900x256_S_d0_1_2 := by decide
  h_S_ := by decide
  bcast_S_S256x2496 := by decide
  reducesTo_S256x2496_S_d0_1 := by decide
  bcast_S_S2496 := by decide
  reducesTo_S2496_S_d0 := by decide

/-- A value whose absolute value is less than something is real. -/
theorem real_of_below (x b : EReal) (h : max x (-x) < b) : IsReal x := by
  have h1 := lt_of_le_of_lt (le_max_left x (-x)) h
  have h2 := lt_of_le_of_lt (le_max_right x (-x)) h
  refine isReal_of x (fun e => ?_) (fun e => ?_)
  · rw [e, EReal.neg_bot] at h2; exact not_top_lt h2
  · rw [e] at h1; exact not_top_lt h1

/-- The comparison's bit, as that. -/
theorem real_of_bit (x b : EReal) (h : BitVec.ofBool (decide (max x (-x) < b)) = 1#1) : IsReal x :=
  real_of_below x b (of_decide_eq_true ((WordCmp.ofBool_eq_one_iff _).1 h))

/-- The precondition: what the weights are computed from is real. -/
theorem reals_of_pre (A0 : FVec Ideal S100000x3 .f32) (A1 : FVec Ideal S1x900x256 .f32) (A2 : FVec Ideal S1x900x11 .f32) (A3 : FVec Ideal S1x900x256 .f32)
    (A4 : FVec Ideal S1x6x256x64x176 .f32) (A5 : FVec Ideal S1x6x256x32x88 .f32) (A6 : FVec Ideal S1x6x256x16x44 .f32) (A7 : FVec Ideal S1x6x256x8x22 .f32)
    (A8 : FVec Ideal S1x6x4x4 .f32) (A9 : FVec Ideal S1x6x2 .f32) (A10 : FVec Ideal S256x18 .f32) (A11 : FVec Ideal S18 .f32)
    (A12 : FVec Ideal S256x2496 .f32) (A13 : FVec Ideal S2496 .f32) (A14 : FVec Ideal S256x256 .f32) (A15 : FVec Ideal S256 .f32)
    (h : Cert.Pre_weight_inputs_finite.fn (F := Ideal) A0 A1 A2 A3 A4 A5 A6 A7 A8 A9 A10 A11 A12 A13 A14 A15 = fun _ => 1#1) :
    (∀ i, IsReal (A1 i)) ∧ (∀ i, IsReal (A3 i)) ∧ (∀ i, IsReal (A12 i)) ∧ ∀ i, IsReal (A13 i) := by
  have h0 := congrFun h (fun a => a.elim0)
  obtain ⟨h4, hd⟩ := (IntOp.andi_eq_one).1 h0
  obtain ⟨h3, hc⟩ := (IntOp.andi_eq_one).1 h4
  obtain ⟨ha, hb⟩ := (IntOp.andi_eq_one).1 h3
  refine ⟨fun i => ?_, fun i => ?_, fun i => ?_, fun i => ?_⟩
  · exact real_of_bit _ _ (Host.reduce_andi_eq_one _ _ _ _ _ ha i (funext fun a => a.elim0))
  · exact real_of_bit _ _ (Host.reduce_andi_eq_one _ _ _ _ _ hb i (funext fun a => a.elim0))
  · exact real_of_bit _ _ (Host.reduce_andi_eq_one _ _ _ _ _ hc i (funext fun a => a.elim0))
  · exact real_of_bit _ _ (Host.reduce_andi_eq_one _ _ _ _ _ hd i (funext fun a => a.elim0))

theorem frame_kernel : Cert.quiescent_Kernel := frame_of_run fun m ρ =>
  (θ_run (defs (F := Bits)) _ _).mono (fun _ h => ⟨fun c => (h.1 c).2, h.2⟩) (run m ρ)

theorem frame_kernelIdeal : Cert.quiescent_KernelIdeal := fun m ρ _ =>
  (θ_run (defs (F := Ideal)) _ _).mono (fun _ h => ⟨fun c => (h.1 c).2, h.2⟩) (run m ρ)

theorem frame_kernelIdeal_pre : Cert.quiescent_KernelIdeal_pre_weight_inputs_finite := fun m ρ _ =>
  (θ_run (defs (F := Ideal)) _ _).mono (fun _ h => ⟨fun c => (h.1 c).2, h.2⟩) (run m ρ)

theorem frame_reference : Cert.quiescent_ReferenceIdeal := fun m ρ _ =>
  (θ_run Cert.ReferenceIdeal.defs _ _).mono (fun r h => ⟨fun c => (h c).2, sem_eq_zero_of_no_sems (by decide) r.2⟩)
    (Ref.run (F := Ideal) m ρ)

theorem frame_reference_pre : Cert.quiescent_ReferenceIdeal_pre_weight_inputs_finite := fun m ρ _ =>
  (θ_run Cert.ReferenceIdeal.defs _ _).mono (fun r h => ⟨fun c => (h c).2, sem_eq_zero_of_no_sems (by decide) r.2⟩)
    (Ref.run (F := Ideal) m ρ)

/-- The two results are equal at the extended reals. -/
theorem algebraic : Cert.algebraic_KernelIdeal_ReferenceIdeal_pre_weight_inputs_finite := by
  intro m ρ m' ρ' hpre hag
  refine ⟨result m, (θ_run (defs (F := Ideal)) _ _).mono (fun _ h => h.1) (run m ρ), ?_⟩
  refine (θ_run Cert.ReferenceIdeal.defs _ _).mono (fun r h c => ⟨(h c).1.trans ?_, (h c).2⟩) (Ref.run (F := Ideal) m' ρ')
  obtain ⟨h1, h3, h12, h13⟩ := reals_of_pre _ _ _ _ _ _ _ _ _ _ _ _ _ _ _ _ (hpre c)
  obtain ⟨-, a1, a2, a3, a4, a5, a6, a7, a8, a9, a10, a11, a12, a13, a14, a15⟩ := hag c
  have s : Pre.Same (launchContents m c) (launchContents m' c) := ⟨a1.symm, a2.symm, a3.symm, a4.symm, a5.symm, a6.symm, a7.symm, a8.symm, a9.symm, a10.symm, a11.symm, a12.symm, a13.symm, a14.symm, a15.symm⟩
  exact (same_result (launchContents m c) (launchContents m' c) s h1 h3 h12 h13).symm

end Cert.Proof

end
-- ==== Proof.lean ====
/-
  The claims together.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, factsPre,
    frame_kernel, frame_kernelIdeal, frame_kernelIdeal_pre, frame_reference, frame_reference_pre, trivial, algebraic⟩

end Cert.Proof

end
